-- ==== Defs.lean ====
def Pre_Kernel [hPre_picks_in_range : Cert.Pre_picks_in_range.Facts] (m : (ℓ : Loc Cert.Kernel.nD Cert.Kernel.τ Cert.Kernel.sig) → Buf (Elt Bits) ℓ) : Prop :=
  ∀ c : Dev Cert.Kernel.nD,
    (Cert.Pre_picks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).1 = (fun _ => 1#1)
    ∧ (Cert.Pre_picks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))).2 = (fun _ => 1#1)

def Pre_KernelIdeal [hPre_picks_in_range : Cert.Pre_picks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_picks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_picks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_picks_in_range [hPre_picks_in_range : Cert.Pre_picks_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_picks_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_picks_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsIdeal_finite_prediction [hPre_finite_prediction : Cert.Pre_finite_prediction.Facts] (m : (ℓ : Loc Cert.StatsIdeal.nD Cert.StatsIdeal.τ Cert.StatsIdeal.sig) → Buf (Elt Ideal) ℓ) : Prop :=
  ∀ c : Dev Cert.StatsIdeal.nD,
    (Cert.Pre_finite_prediction.fn (F := Ideal) (m ((c.tc : Thread Cert.StatsIdeal.nD Cert.StatsIdeal.τ).loc Cert.StatsIdeal.main_arg0)) (m ((c.tc : Thread Cert.StatsIdeal.nD Cert.StatsIdeal.τ).loc Cert.StatsIdeal.main_arg1)) (m ((c.tc : Thread Cert.StatsIdeal.nD Cert.StatsIdeal.τ).loc Cert.StatsIdeal.main_arg2)) (m ((c.tc : Thread Cert.StatsIdeal.nD Cert.StatsIdeal.τ).loc Cert.StatsIdeal.main_arg3))) = (fun _ => 1#1)

def Pre_StatsReferenceIdeal (m : (ℓ : Loc Cert.StatsReferenceIdeal.nD Cert.StatsReferenceIdeal.τ Cert.StatsReferenceIdeal.sig) → Buf (Elt Ideal) ℓ) : Prop :=
  True

def Pre_StatsReferenceIdeal_finite_prediction [hPre_finite_prediction : Cert.Pre_finite_prediction.Facts] (m : (ℓ : Loc Cert.StatsReferenceIdeal.nD Cert.StatsReferenceIdeal.τ Cert.StatsReferenceIdeal.sig) → Buf (Elt Ideal) ℓ) : Prop :=
  ∀ c : Dev Cert.StatsReferenceIdeal.nD,
    (Cert.Pre_finite_prediction.fn (F := Ideal) (m ((c.tc : Thread Cert.StatsReferenceIdeal.nD Cert.StatsReferenceIdeal.τ).loc Cert.StatsReferenceIdeal.main_arg0)) (m ((c.tc : Thread Cert.StatsReferenceIdeal.nD Cert.StatsReferenceIdeal.τ).loc Cert.StatsReferenceIdeal.main_arg1)) (m ((c.tc : Thread Cert.StatsReferenceIdeal.nD Cert.StatsReferenceIdeal.τ).loc Cert.StatsReferenceIdeal.main_arg2)) (m ((c.tc : Thread Cert.StatsReferenceIdeal.nD Cert.StatsReferenceIdeal.τ).loc Cert.StatsReferenceIdeal.main_arg3))) = (fun _ => 1#1)

def Pre_WholeIdeal (m : (ℓ : Loc Cert.WholeIdeal.nD Cert.WholeIdeal.τ Cert.WholeIdeal.sig) → Buf (Elt Ideal) ℓ) : Prop :=
  True

def Pre_WholeIdeal_finite_logits [hPre_finite_logits : Cert.Pre_finite_logits.Facts] (m : (ℓ : Loc Cert.WholeIdeal.nD Cert.WholeIdeal.τ Cert.WholeIdeal.sig) → Buf (Elt Ideal) ℓ) : Prop :=
  ∀ c : Dev Cert.WholeIdeal.nD,
    (Cert.Pre_finite_logits.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6))) = (fun _ => 1#1)

def Pre_WholeReferenceIdeal (m : (ℓ : Loc Cert.WholeReferenceIdeal.nD Cert.WholeReferenceIdeal.τ Cert.WholeReferenceIdeal.sig) → Buf (Elt Ideal) ℓ) : Prop :=
  True

def Pre_WholeReferenceIdeal_finite_logits [hPre_finite_logits : Cert.Pre_finite_logits.Facts] (m : (ℓ : Loc Cert.WholeReferenceIdeal.nD Cert.WholeReferenceIdeal.τ Cert.WholeReferenceIdeal.sig) → Buf (Elt Ideal) ℓ) : Prop :=
  ∀ c : Dev Cert.WholeReferenceIdeal.nD,
    (Cert.Pre_finite_logits.fn (F := Ideal) (m ((c.tc : Thread Cert.WholeReferenceIdeal.nD Cert.WholeReferenceIdeal.τ).loc Cert.WholeReferenceIdeal.main_arg0)) (m ((c.tc : Thread Cert.WholeReferenceIdeal.nD Cert.WholeReferenceIdeal.τ).loc Cert.WholeReferenceIdeal.main_arg1)) (m ((c.tc : Thread Cert.WholeReferenceIdeal.nD Cert.WholeReferenceIdeal.τ).loc Cert.WholeReferenceIdeal.main_arg2)) (m ((c.tc : Thread Cert.WholeReferenceIdeal.nD Cert.WholeReferenceIdeal.τ).loc Cert.WholeReferenceIdeal.main_arg3)) (m ((c.tc : Thread Cert.WholeReferenceIdeal.nD Cert.WholeReferenceIdeal.τ).loc Cert.WholeReferenceIdeal.main_arg4)) (m ((c.tc : Thread Cert.WholeReferenceIdeal.nD Cert.WholeReferenceIdeal.τ).loc Cert.WholeReferenceIdeal.main_arg5)) (m ((c.tc : Thread Cert.WholeReferenceIdeal.nD Cert.WholeReferenceIdeal.τ).loc Cert.WholeReferenceIdeal.main_arg6))) = (fun _ => 1#1)

def quiescent_Kernel [hKernel : Cert.Kernel.Facts] [hPre_picks_in_range : Cert.Pre_picks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_picks_in_range : Cert.Pre_picks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_picks_in_range [hReferenceIdeal : Cert.ReferenceIdeal.Facts] [hPre_picks_in_range : Cert.Pre_picks_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_picks_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0)
      ∧ r.2.mem ((c.tc : Thread Cert.Stats.nD Cert.Stats.τ).loc Cert.Stats.main_arg1) = m ((c.tc : Thread Cert.Stats.nD Cert.Stats.τ).loc Cert.Stats.main_arg1)
      ∧ r.2.mem ((c.tc : Thread Cert.Stats.nD Cert.Stats.τ).loc Cert.Stats.main_arg2) = m ((c.tc : Thread Cert.Stats.nD Cert.Stats.τ).loc Cert.Stats.main_arg2)
      ∧ r.2.mem ((c.tc : Thread Cert.Stats.nD Cert.Stats.τ).loc Cert.Stats.main_arg3) = m ((c.tc : Thread Cert.Stats.nD Cert.Stats.τ).loc Cert.Stats.main_arg3))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ r.2.sem = fun _ => 0)

def quiescent_StatsIdeal_pre_finite_prediction [hStatsIdeal : Cert.StatsIdeal.Facts] [hPre_finite_prediction : Cert.Pre_finite_prediction.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal_finite_prediction m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
      ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
      ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
      ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3))
      ∧ r.2.sem = fun _ => 0)

def quiescent_StatsReferenceIdeal_pre_finite_prediction [hStatsReferenceIdeal : Cert.StatsReferenceIdeal.Facts] [hPre_finite_prediction : Cert.Pre_finite_prediction.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal_finite_prediction m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0)
      ∧ r.2.mem ((c.tc : Thread Cert.StatsReferenceIdeal.nD Cert.StatsReferenceIdeal.τ).loc Cert.StatsReferenceIdeal.main_arg1) = m ((c.tc : Thread Cert.StatsReferenceIdeal.nD Cert.StatsReferenceIdeal.τ).loc Cert.StatsReferenceIdeal.main_arg1)
      ∧ r.2.mem ((c.tc : Thread Cert.StatsReferenceIdeal.nD Cert.StatsReferenceIdeal.τ).loc Cert.StatsReferenceIdeal.main_arg2) = m ((c.tc : Thread Cert.StatsReferenceIdeal.nD Cert.StatsReferenceIdeal.τ).loc Cert.StatsReferenceIdeal.main_arg2)
      ∧ r.2.mem ((c.tc : Thread Cert.StatsReferenceIdeal.nD Cert.StatsReferenceIdeal.τ).loc Cert.StatsReferenceIdeal.main_arg3) = m ((c.tc : Thread Cert.StatsReferenceIdeal.nD Cert.StatsReferenceIdeal.τ).loc Cert.StatsReferenceIdeal.main_arg3))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_WholeIdeal_pre_finite_logits [hWholeIdeal : Cert.WholeIdeal.Facts] [hPre_finite_logits : Cert.Pre_finite_logits.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite_logits m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ r.2.sem = fun _ => 0)

def quiescent_WholeReferenceIdeal [hWholeReferenceIdeal : Cert.WholeReferenceIdeal.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6))
      ∧ r.2.sem = fun _ => 0)

def quiescent_WholeReferenceIdeal_pre_finite_logits [hWholeReferenceIdeal : Cert.WholeReferenceIdeal.Facts] [hPre_finite_logits : Cert.Pre_finite_logits.Facts] : Prop :=
  ∀ (m : (ℓ : Loc Cert.WholeReferenceIdeal.nD Cert.WholeReferenceIdeal.τ Cert.WholeReferenceIdeal.sig) → Buf (Elt Ideal) ℓ) (g : Dev Cert.WholeReferenceIdeal.nD → PrngReg), Pre_WholeReferenceIdeal_finite_logits m →
    θ_run (Cert.WholeReferenceIdeal.defs (F := Ideal)) (onTc (τ := Cert.WholeReferenceIdeal.τ) (Cert.WholeReferenceIdeal.main (F := Ideal))) ⟨m, fun _ => 0, g⟩ (fun r => (∀ c : Dev Cert.WholeReferenceIdeal.nD,
      r.2.mem ((c.tc : Thread Cert.WholeReferenceIdeal.nD Cert.WholeReferenceIdeal.τ).loc Cert.WholeReferenceIdeal.main_arg0) = m ((c.tc : Thread Cert.WholeReferenceIdeal.nD Cert.WholeReferenceIdeal.τ).loc Cert.WholeReferenceIdeal.main_arg0)
      ∧ r.2.mem ((c.tc : Thread Cert.WholeReferenceIdeal.nD Cert.WholeReferenceIdeal.τ).loc Cert.WholeReferenceIdeal.main_arg1) = m ((c.tc : Thread Cert.WholeReferenceIdeal.nD Cert.WholeReferenceIdeal.τ).loc Cert.WholeReferenceIdeal.main_arg1)
      ∧ r.2.mem ((c.tc : Thread Cert.WholeReferenceIdeal.nD Cert.WholeReferenceIdeal.τ).loc Cert.WholeReferenceIdeal.main_arg2) = m ((c.tc : Thread Cert.WholeReferenceIdeal.nD Cert.WholeReferenceIdeal.τ).loc Cert.WholeReferenceIdeal.main_arg2)
      ∧ r.2.mem ((c.tc : Thread Cert.WholeReferenceIdeal.nD Cert.WholeReferenceIdeal.τ).loc Cert.WholeReferenceIdeal.main_arg3) = m ((c.tc : Thread Cert.WholeReferenceIdeal.nD Cert.WholeReferenceIdeal.τ).loc Cert.WholeReferenceIdeal.main_arg3)
      ∧ r.2.mem ((c.tc : Thread Cert.WholeReferenceIdeal.nD Cert.WholeReferenceIdeal.τ).loc Cert.WholeReferenceIdeal.main_arg4) = m ((c.tc : Thread Cert.WholeReferenceIdeal.nD Cert.WholeReferenceIdeal.τ).loc Cert.WholeReferenceIdeal.main_arg4)
      ∧ r.2.mem ((c.tc : Thread Cert.WholeReferenceIdeal.nD Cert.WholeReferenceIdeal.τ).loc Cert.WholeReferenceIdeal.main_arg5) = m ((c.tc : Thread Cert.WholeReferenceIdeal.nD Cert.WholeReferenceIdeal.τ).loc Cert.WholeReferenceIdeal.main_arg5)
      ∧ r.2.mem ((c.tc : Thread Cert.WholeReferenceIdeal.nD Cert.WholeReferenceIdeal.τ).loc Cert.WholeReferenceIdeal.main_arg6) = m ((c.tc : Thread Cert.WholeReferenceIdeal.nD Cert.WholeReferenceIdeal.τ).loc Cert.WholeReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_picks_in_range : Cert.Pre_picks_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Stats_StatsIdeal : Prop :=
  True

def algebraic_StatsIdeal_StatsReferenceIdeal_pre_finite_prediction [hStatsIdeal : Cert.StatsIdeal.Facts] [hStatsReferenceIdeal : Cert.StatsReferenceIdeal.Facts] [hPre_finite_prediction : Cert.Pre_finite_prediction.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal_finite_prediction m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)
      ∧ m' ((c.tc : Thread Cert.StatsReferenceIdeal.nD Cert.StatsReferenceIdeal.τ).loc Cert.StatsReferenceIdeal.main_arg1) = m ((c.tc : Thread Cert.StatsIdeal.nD Cert.StatsIdeal.τ).loc Cert.StatsIdeal.main_arg1)
      ∧ m' ((c.tc : Thread Cert.StatsReferenceIdeal.nD Cert.StatsReferenceIdeal.τ).loc Cert.StatsReferenceIdeal.main_arg2) = m ((c.tc : Thread Cert.StatsIdeal.nD Cert.StatsIdeal.τ).loc Cert.StatsIdeal.main_arg2)
      ∧ m' ((c.tc : Thread Cert.StatsReferenceIdeal.nD Cert.StatsReferenceIdeal.τ).loc Cert.StatsReferenceIdeal.main_arg3) = m ((c.tc : Thread Cert.StatsIdeal.nD Cert.StatsIdeal.τ).loc Cert.StatsIdeal.main_arg3)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)) (v2 : (c : Dev Cert.StatsIdeal.nD) → Buf (Elt Ideal) ((c.tc : Thread Cert.StatsIdeal.nD Cert.StatsIdeal.τ).loc Cert.StatsIdeal.main_v0_2)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_v0_2) = v2 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0)
          ∧ r.2.mem ((c.tc : Thread Cert.StatsIdeal.nD Cert.StatsIdeal.τ).loc Cert.StatsIdeal.main_arg1) = m ((c.tc : Thread Cert.StatsIdeal.nD Cert.StatsIdeal.τ).loc Cert.StatsIdeal.main_arg1)
          ∧ r.2.mem ((c.tc : Thread Cert.StatsIdeal.nD Cert.StatsIdeal.τ).loc Cert.StatsIdeal.main_arg2) = m ((c.tc : Thread Cert.StatsIdeal.nD Cert.StatsIdeal.τ).loc Cert.StatsIdeal.main_arg2)
          ∧ r.2.mem ((c.tc : Thread Cert.StatsIdeal.nD Cert.StatsIdeal.τ).loc Cert.StatsIdeal.main_arg3) = m ((c.tc : Thread Cert.StatsIdeal.nD Cert.StatsIdeal.τ).loc Cert.StatsIdeal.main_arg3))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v64) = v0 c
          ∧ r.2.mem ((c.tc : Thread Cert.StatsReferenceIdeal.nD Cert.StatsReferenceIdeal.τ).loc Cert.StatsReferenceIdeal.main_v66) = v1 c
          ∧ r.2.mem ((c.tc : Thread Cert.StatsReferenceIdeal.nD Cert.StatsReferenceIdeal.τ).loc Cert.StatsReferenceIdeal.main_v68) = v2 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0)
          ∧ r.2.mem ((c.tc : Thread Cert.StatsReferenceIdeal.nD Cert.StatsReferenceIdeal.τ).loc Cert.StatsReferenceIdeal.main_arg1) = m' ((c.tc : Thread Cert.StatsReferenceIdeal.nD Cert.StatsReferenceIdeal.τ).loc Cert.StatsReferenceIdeal.main_arg1)
          ∧ r.2.mem ((c.tc : Thread Cert.StatsReferenceIdeal.nD Cert.StatsReferenceIdeal.τ).loc Cert.StatsReferenceIdeal.main_arg2) = m' ((c.tc : Thread Cert.StatsReferenceIdeal.nD Cert.StatsReferenceIdeal.τ).loc Cert.StatsReferenceIdeal.main_arg2)
          ∧ r.2.mem ((c.tc : Thread Cert.StatsReferenceIdeal.nD Cert.StatsReferenceIdeal.τ).loc Cert.StatsReferenceIdeal.main_arg3) = m' ((c.tc : Thread Cert.StatsReferenceIdeal.nD Cert.StatsReferenceIdeal.τ).loc Cert.StatsReferenceIdeal.main_arg3))

def algebraic_WholeIdeal_WholeReferenceIdeal_pre_finite_logits [hWholeIdeal : Cert.WholeIdeal.Facts] [hWholeReferenceIdeal : Cert.WholeReferenceIdeal.Facts] [hPre_finite_logits : Cert.Pre_finite_logits.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeReferenceIdeal.nD Cert.WholeReferenceIdeal.τ Cert.WholeReferenceIdeal.sig) → Buf (Elt Ideal) ℓ) (g' : Dev Cert.WholeReferenceIdeal.nD → PrngReg), Pre_WholeIdeal_finite_logits m →
    (∀ c : Dev Cert.WholeIdeal.nD,
      m' ((c.tc : Thread Cert.WholeReferenceIdeal.nD Cert.WholeReferenceIdeal.τ).loc Cert.WholeReferenceIdeal.main_arg0) = m ((c.tc : Thread Cert.WholeIdeal.nD Cert.WholeIdeal.τ).loc Cert.WholeIdeal.main_arg0)
      ∧ m' ((c.tc : Thread Cert.WholeReferenceIdeal.nD Cert.WholeReferenceIdeal.τ).loc Cert.WholeReferenceIdeal.main_arg1) = m ((c.tc : Thread Cert.WholeIdeal.nD Cert.WholeIdeal.τ).loc Cert.WholeIdeal.main_arg1)
      ∧ m' ((c.tc : Thread Cert.WholeReferenceIdeal.nD Cert.WholeReferenceIdeal.τ).loc Cert.WholeReferenceIdeal.main_arg2) = m ((c.tc : Thread Cert.WholeIdeal.nD Cert.WholeIdeal.τ).loc Cert.WholeIdeal.main_arg2)
      ∧ m' ((c.tc : Thread Cert.WholeReferenceIdeal.nD Cert.WholeReferenceIdeal.τ).loc Cert.WholeReferenceIdeal.main_arg3) = m ((c.tc : Thread Cert.WholeIdeal.nD Cert.WholeIdeal.τ).loc Cert.WholeIdeal.main_arg3)
      ∧ m' ((c.tc : Thread Cert.WholeReferenceIdeal.nD Cert.WholeReferenceIdeal.τ).loc Cert.WholeReferenceIdeal.main_arg4) = m ((c.tc : Thread Cert.WholeIdeal.nD Cert.WholeIdeal.τ).loc Cert.WholeIdeal.main_arg4)
      ∧ m' ((c.tc : Thread Cert.WholeReferenceIdeal.nD Cert.WholeReferenceIdeal.τ).loc Cert.WholeReferenceIdeal.main_arg5) = m ((c.tc : Thread Cert.WholeIdeal.nD Cert.WholeIdeal.τ).loc Cert.WholeIdeal.main_arg5)
      ∧ m' ((c.tc : Thread Cert.WholeReferenceIdeal.nD Cert.WholeReferenceIdeal.τ).loc Cert.WholeReferenceIdeal.main_arg6) = m ((c.tc : Thread Cert.WholeIdeal.nD Cert.WholeIdeal.τ).loc Cert.WholeIdeal.main_arg6)) →
    ∃ (v0 : (c : Dev Cert.WholeIdeal.nD) → Buf (Elt Ideal) ((c.tc : Thread Cert.WholeIdeal.nD Cert.WholeIdeal.τ).loc Cert.WholeIdeal.main_v13)) (v1 : (c : Dev Cert.WholeIdeal.nD) → Buf (Elt Ideal) ((c.tc : Thread Cert.WholeIdeal.nD Cert.WholeIdeal.τ).loc Cert.WholeIdeal.main_v15)) (v2 : (c : Dev Cert.WholeIdeal.nD) → Buf (Elt Ideal) ((c.tc : Thread Cert.WholeIdeal.nD Cert.WholeIdeal.τ).loc Cert.WholeIdeal.main_v16)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v13) = v0 c
          ∧ r.2.mem ((c.tc : Thread Cert.WholeIdeal.nD Cert.WholeIdeal.τ).loc Cert.WholeIdeal.main_v15) = v1 c
          ∧ r.2.mem ((c.tc : Thread Cert.WholeIdeal.nD Cert.WholeIdeal.τ).loc Cert.WholeIdeal.main_v16) = v2 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6))
      ∧ θ_run (Cert.WholeReferenceIdeal.defs (F := Ideal)) (onTc (τ := Cert.WholeReferenceIdeal.τ) (Cert.WholeReferenceIdeal.main (F := Ideal))) ⟨m', fun _ => 0, g'⟩ (fun r => ∀ c : Dev Cert.WholeReferenceIdeal.nD,
          r.2.mem ((c.tc : Thread Cert.WholeReferenceIdeal.nD Cert.WholeReferenceIdeal.τ).loc Cert.WholeReferenceIdeal.main_v125) = v0 c
          ∧ r.2.mem ((c.tc : Thread Cert.WholeReferenceIdeal.nD Cert.WholeReferenceIdeal.τ).loc Cert.WholeReferenceIdeal.main_v160) = v1 c
          ∧ r.2.mem ((c.tc : Thread Cert.WholeReferenceIdeal.nD Cert.WholeReferenceIdeal.τ).loc Cert.WholeReferenceIdeal.main_v159) = v2 c
          ∧ r.2.mem ((c.tc : Thread Cert.WholeReferenceIdeal.nD Cert.WholeReferenceIdeal.τ).loc Cert.WholeReferenceIdeal.main_arg0) = m' ((c.tc : Thread Cert.WholeReferenceIdeal.nD Cert.WholeReferenceIdeal.τ).loc Cert.WholeReferenceIdeal.main_arg0)
          ∧ r.2.mem ((c.tc : Thread Cert.WholeReferenceIdeal.nD Cert.WholeReferenceIdeal.τ).loc Cert.WholeReferenceIdeal.main_arg1) = m' ((c.tc : Thread Cert.WholeReferenceIdeal.nD Cert.WholeReferenceIdeal.τ).loc Cert.WholeReferenceIdeal.main_arg1)
          ∧ r.2.mem ((c.tc : Thread Cert.WholeReferenceIdeal.nD Cert.WholeReferenceIdeal.τ).loc Cert.WholeReferenceIdeal.main_arg2) = m' ((c.tc : Thread Cert.WholeReferenceIdeal.nD Cert.WholeReferenceIdeal.τ).loc Cert.WholeReferenceIdeal.main_arg2)
          ∧ r.2.mem ((c.tc : Thread Cert.WholeReferenceIdeal.nD Cert.WholeReferenceIdeal.τ).loc Cert.WholeReferenceIdeal.main_arg3) = m' ((c.tc : Thread Cert.WholeReferenceIdeal.nD Cert.WholeReferenceIdeal.τ).loc Cert.WholeReferenceIdeal.main_arg3)
          ∧ r.2.mem ((c.tc : Thread Cert.WholeReferenceIdeal.nD Cert.WholeReferenceIdeal.τ).loc Cert.WholeReferenceIdeal.main_arg4) = m' ((c.tc : Thread Cert.WholeReferenceIdeal.nD Cert.WholeReferenceIdeal.τ).loc Cert.WholeReferenceIdeal.main_arg4)
          ∧ r.2.mem ((c.tc : Thread Cert.WholeReferenceIdeal.nD Cert.WholeReferenceIdeal.τ).loc Cert.WholeReferenceIdeal.main_arg5) = m' ((c.tc : Thread Cert.WholeReferenceIdeal.nD Cert.WholeReferenceIdeal.τ).loc Cert.WholeReferenceIdeal.main_arg5)
          ∧ r.2.mem ((c.tc : Thread Cert.WholeReferenceIdeal.nD Cert.WholeReferenceIdeal.τ).loc Cert.WholeReferenceIdeal.main_arg6) = m' ((c.tc : Thread Cert.WholeReferenceIdeal.nD Cert.WholeReferenceIdeal.τ).loc Cert.WholeReferenceIdeal.main_arg6))

def Claim : Prop :=
  ∃ (hKernel : Cert.Kernel.Facts) (hKernelIdeal : Cert.KernelIdeal.Facts) (hReferenceIdeal : Cert.ReferenceIdeal.Facts) (hStats : Cert.Stats.Facts) (hStatsIdeal : Cert.StatsIdeal.Facts) (hStatsReferenceIdeal : Cert.StatsReferenceIdeal.Facts) (hWholeIdeal : Cert.WholeIdeal.Facts) (hWholeReferenceIdeal : Cert.WholeReferenceIdeal.Facts) (hPre_picks_in_range : Cert.Pre_picks_in_range.Facts) (hPre_finite_prediction : Cert.Pre_finite_prediction.Facts) (hPre_finite_logits : Cert.Pre_finite_logits.Facts),
    quiescent_Kernel (hKernel := hKernel) (hPre_picks_in_range := hPre_picks_in_range)
    ∧ quiescent_KernelIdeal (hKernelIdeal := hKernelIdeal) (hPre_picks_in_range := hPre_picks_in_range)
    ∧ quiescent_ReferenceIdeal (hReferenceIdeal := hReferenceIdeal)
    ∧ quiescent_ReferenceIdeal_pre_picks_in_range (hReferenceIdeal := hReferenceIdeal) (hPre_picks_in_range := hPre_picks_in_range)
    ∧ quiescent_Stats (hStats := hStats)
    ∧ quiescent_StatsIdeal (hStatsIdeal := hStatsIdeal)
    ∧ quiescent_StatsIdeal_pre_finite_prediction (hStatsIdeal := hStatsIdeal) (hPre_finite_prediction := hPre_finite_prediction)
    ∧ quiescent_StatsReferenceIdeal (hStatsReferenceIdeal := hStatsReferenceIdeal)
    ∧ quiescent_StatsReferenceIdeal_pre_finite_prediction (hStatsReferenceIdeal := hStatsReferenceIdeal) (hPre_finite_prediction := hPre_finite_prediction)
    ∧ quiescent_WholeIdeal (hWholeIdeal := hWholeIdeal)
    ∧ quiescent_WholeIdeal_pre_finite_logits (hWholeIdeal := hWholeIdeal) (hPre_finite_logits := hPre_finite_logits)
    ∧ quiescent_WholeReferenceIdeal (hWholeReferenceIdeal := hWholeReferenceIdeal)
    ∧ quiescent_WholeReferenceIdeal_pre_finite_logits (hWholeReferenceIdeal := hWholeReferenceIdeal) (hPre_finite_logits := hPre_finite_logits)
    ∧ preserves_Kernel_KernelIdeal
    ∧ algebraic_KernelIdeal_ReferenceIdeal (hKernelIdeal := hKernelIdeal) (hReferenceIdeal := hReferenceIdeal) (hPre_picks_in_range := hPre_picks_in_range)
    ∧ preserves_Stats_StatsIdeal
    ∧ algebraic_StatsIdeal_StatsReferenceIdeal_pre_finite_prediction (hStatsIdeal := hStatsIdeal) (hStatsReferenceIdeal := hStatsReferenceIdeal) (hPre_finite_prediction := hPre_finite_prediction)
    ∧ algebraic_WholeIdeal_WholeReferenceIdeal_pre_finite_logits (hWholeIdeal := hWholeIdeal) (hWholeReferenceIdeal := hWholeReferenceIdeal) (hPre_finite_logits := hPre_finite_logits)
-- ==== Pre_finite_logits.lean ====
abbrev S8x3x512x512 : Shape := ⟨4, ![8, 3, 512, 512]⟩
abbrev S8x512x512 : Shape := ⟨3, ![8, 512, 512]⟩
abbrev S8x4x512x512 : Shape := ⟨4, ![8, 4, 512, 512]⟩
abbrev S_ : Shape := ⟨0, ![]⟩

class Facts : Prop where
  bcast_S_S8x4x512x512 : S_.BroadcastsInDim S8x4x512x512 (![] : Fin 0 → Fin S8x4x512x512.rank)

variable [Facts]

def fn {F : FTy → Type} [FloatOps F] (main_arg0 : FVec F S8x3x512x512 .f32) (main_arg1 : FVec F S8x3x512x512 .f32) (main_arg2 : IVec S8x512x512 32) (main_arg3 : IVec S8x512x512 32) (main_arg4 : FVec F S8x512x512 .f32) (main_arg5 : FVec F S8x512x512 .f32) (main_arg6 : FVec F S8x4x512x512 .f32) : IVec S8x4x512x512 1 :=
  let main_v0 : FVec F S8x4x512x512 .f32 := Host.absf main_arg6
  let main_cst : FVec F S_ .f32 := constant S_ .f32 0x7F800000#32
  let main_v1 : FVec F S8x4x512x512 .f32 := broadcastInDim S8x4x512x512 ![] bcast_S_S8x4x512x512 main_cst
  let main_v2 : IVec S8x4x512x512 1 := cmpf .olt main_v0 main_v1
  main_v2
-- ==== Pre_finite_prediction.lean ====
abbrev S8x512x512 : Shape := ⟨3, ![8, 512, 512]⟩
abbrev S8x4x512x512 : Shape := ⟨4, ![8, 4, 512, 512]⟩
abbrev S_ : Shape := ⟨0, ![]⟩

class Facts : Prop where
  bcast_S_S8x4x512x512 : S_.BroadcastsInDim S8x4x512x512 (![] : Fin 0 → Fin S8x4x512x512.rank)

variable [Facts]

def fn {F : FTy → Type} [FloatOps F] (main_arg0 : IVec S8x512x512 32) (main_arg1 : FVec F S8x512x512 .f32) (main_arg2 : FVec F S8x512x512 .f32) (main_arg3 : FVec F S8x4x512x512 .f32) : IVec S8x4x512x512 1 :=
  let main_v0 : FVec F S8x4x512x512 .f32 := Host.absf main_arg3
  let main_cst : FVec F S_ .f32 := constant S_ .f32 0x7F800000#32
  let main_v1 : FVec F S8x4x512x512 .f32 := broadcastInDim S8x4x512x512 ![] bcast_S_S8x4x512x512 main_cst
  let main_v2 : IVec S8x4x512x512 1 := cmpf .olt main_v0 main_v1
  main_v2
-- ==== Pre_picks_in_range.lean ====
abbrev S8x3x512x512 : Shape := ⟨4, ![8, 3, 512, 512]⟩
abbrev S8x512x512 : Shape := ⟨3, ![8, 512, 512]⟩
abbrev S8x1x16 : Shape := ⟨3, ![8, 1, 16]⟩
abbrev S16 : Shape := ⟨1, ![16]⟩
abbrev S_ : Shape := ⟨0, ![]⟩
abbrev S8x16x1 : Shape := ⟨3, ![8, 16, 1]⟩
abbrev S8x16x16 : Shape := ⟨3, ![8, 16, 16]⟩
abbrev S16x1 : Shape := ⟨2, ![16, 1]⟩
abbrev S1x16 : Shape := ⟨2, ![1, 16]⟩
abbrev S16x16 : Shape := ⟨2, ![16, 16]⟩
abbrev S1x16x16 : Shape := ⟨3, ![1, 16, 16]⟩

class Facts : Prop where
  bcast_S_S8x1x16 : S_.BroadcastsInDim S8x1x16 (![] : Fin 0 → Fin S8x1x16.rank)
  shapeCasts_S8x1x16_S8x16x1 : S8x1x16.ShapeCasts S8x16x1
  bcast_S8x16x1_S8x16x16_0_1_2 : S8x16x1.BroadcastsInDim S8x16x16 (![0, 1, 2] : Fin 3 → Fin S8x16x16.rank)
  bcast_S8x1x16_S8x16x16_0_1_2 : S8x1x16.BroadcastsInDim S8x16x16 (![0, 1, 2] : Fin 3 → Fin S8x16x16.rank)
  bcast_S16_S16x1_0 : S16.BroadcastsInDim S16x1 (![0] : Fin 1 → Fin S16x1.rank)
  bcast_S16_S1x16_1 : S16.BroadcastsInDim S1x16 (![1] : Fin 1 → Fin S1x16.rank)
  bcast_S16x1_S16x16_0_1 : S16x1.BroadcastsInDim S16x16 (![0, 1] : Fin 2 → Fin S16x16.rank)
  bcast_S1x16_S16x16_0_1 : S1x16.BroadcastsInDim S16x16 (![0, 1] : Fin 2 → Fin S16x16.rank)
  bcast_S16x16_S1x16x16_1_2 : S16x16.BroadcastsInDim S1x16x16 (![1, 2] : Fin 2 → Fin S1x16x16.rank)
  bcast_S1x16x16_S8x16x16_0_1_2 : S1x16x16.BroadcastsInDim S8x16x16 (![0, 1, 2] : Fin 3 → Fin S8x16x16.rank)

variable [Facts]

def fn_part1 {F : FTy → Type} [FloatOps F] (main_v11 : IVec S8x1x16 1) (main_v15 : IVec S8x16x16 1) (main_v18 : IVec S16x16 32) (main_v19 : IVec S16x16 32) : IVec S8x1x16 1 × IVec S8x16x16 1 :=
  let main_v20 : IVec S16x16 1 := cmpi .eq main_v18 main_v19
  let main_v21 : IVec S1x16x16 1 := broadcastInDim S1x16x16 ![1, 2] bcast_S16x16_S1x16x16_1_2 main_v20
  let main_v22 : IVec S8x16x16 1 := broadcastInDim S8x16x16 ![0, 1, 2] bcast_S1x16x16_S8x16x16_0_1_2 main_v21
  let main_v23 : IVec S8x16x16 1 := ori main_v15 main_v22
  (main_v11, main_v23)

def fn {F : FTy → Type} [FloatOps F] (main_arg0 : FVec F S8x3x512x512 .f32) (main_arg1 : FVec F S8x3x512x512 .f32) (main_arg2 : IVec S8x512x512 32) (main_arg3 : IVec S8x512x512 32) (main_arg4 : FVec F S8x512x512 .f32) (main_arg5 : FVec F S8x512x512 .f32) (main_arg6 : IVec S8x1x16 32) (main_arg7 : IVec S8x1x16 32) (main_arg8 : IVec S8x1x16 32) : IVec S8x1x16 1 × IVec S8x16x16 1 :=
  let main_v0 : IVec S16 32 := iotaInDim S16 32 0
  let main_c : IVec S_ 32 := constantI S_ 32 0#32
  let main_v1 : IVec S8x1x16 32 := broadcastInDim S8x1x16 ![] bcast_S_S8x1x16 main_c
  let main_v2 : IVec S8x1x16 1 := cmpi .sge main_arg7 main_v1
  let main_c_0 : IVec S_ 32 := constantI S_ 32 256#32
  let main_v3 : IVec S8x1x16 32 := broadcastInDim S8x1x16 ![] bcast_S_S8x1x16 main_c_0
  let main_v4 : IVec S8x1x16 1 := cmpi .slt main_arg7 main_v3
  let main_v5 : IVec S8x1x16 1 := andi main_v2 main_v4
  let main_c_1 : IVec S_ 32 := constantI S_ 32 0#32
  let main_v6 : IVec S8x1x16 32 := broadcastInDim S8x1x16 ![] bcast_S_S8x1x16 main_c_1
  let main_v7 : IVec S8x1x16 1 := cmpi .sge main_arg8 main_v6
  let main_v8 : IVec S8x1x16 1 := andi main_v5 main_v7
  let main_c_2 : IVec S_ 32 := constantI S_ 32 256#32
  let main_v9 : IVec S8x1x16 32 := broadcastInDim S8x1x16 ![] bcast_S_S8x1x16 main_c_2
  let main_v10 : IVec S8x1x16 1 := cmpi .slt main_arg8 main_v9
  let main_v11 : IVec S8x1x16 1 := andi main_v8 main_v10
  let main_v12 : IVec S8x16x1 32 := shapeCast S8x16x1 main_arg7 shapeCasts_S8x1x16_S8x16x1
  let main_v13 : IVec S8x16x16 32 := broadcastInDim S8x16x16 ![0, 1, 2] bcast_S8x16x1_S8x16x16_0_1_2 main_v12
  let main_v14 : IVec S8x16x16 32 := broadcastInDim S8x16x16 ![0, 1, 2] bcast_S8x1x16_S8x16x16_0_1_2 main_arg7
  let main_v15 : IVec S8x16x16 1 := cmpi .ne main_v13 main_v14
  let main_v16 : IVec S16x1 32 := broadcastInDim S16x1 ![0] bcast_S16_S16x1_0 main_v0
  let main_v17 : IVec S1x16 32 := broadcastInDim S1x16 ![1] bcast_S16_S1x16_1 main_v0
  let main_v18 : IVec S16x16 32 := broadcastInDim S16x16 ![0, 1] bcast_S16x1_S16x16_0_1 main_v16
  let main_v19 : IVec S16x16 32 := broadcastInDim S16x16 ![0, 1] bcast_S1x16_S16x16_0_1 main_v17
  fn_part1 (F := F) main_v11 main_v15 main_v18 main_v19
-- ==== Kernel.lean ====
abbrev S8x3x512x512 : Shape := ⟨4, ![8, 3, 512, 512]⟩
abbrev S8x512x512 : Shape := ⟨3, ![8, 512, 512]⟩
abbrev S8x1x16 : Shape := ⟨3, ![8, 1, 16]⟩
abbrev S128 : Shape := ⟨1, ![128]⟩
abbrev S12288x512 : Shape := ⟨2, ![12288, 512]⟩
abbrev S4096x512 : Shape := ⟨2, ![4096, 512]⟩
abbrev S128x512 : Shape := ⟨2, ![128, 512]⟩
abbrev S32x512 : Shape := ⟨2, ![32, 512]⟩
abbrev S16 : Shape := ⟨1, ![16]⟩
abbrev S_ : Shape := ⟨0, ![]⟩
abbrev S1 : Shape := ⟨1, ![1]⟩
abbrev S1x16 : Shape := ⟨2, ![1, 16]⟩

abbrev nBuf : Table → Nat
  | .hbm => 27
  | .local .scVector .vmem => 5
  | _ => 0

abbrev bufTy : (tb : Table) → Fin (nBuf tb) → BufTy
  | .hbm, ⟨0, _⟩ => ⟨S8x3x512x512, .f32⟩
  | .hbm, ⟨1, _⟩ => ⟨S8x3x512x512, .f32⟩
  | .hbm, ⟨2, _⟩ => ⟨S8x512x512, .i32⟩
  | .hbm, ⟨3, _⟩ => ⟨S8x512x512, .i32⟩
  | .hbm, ⟨4, _⟩ => ⟨S8x512x512, .f32⟩
  | .hbm, ⟨5, _⟩ => ⟨S8x512x512, .f32⟩
  | .hbm, ⟨6, _⟩ => ⟨S8x1x16, .i32⟩
  | .hbm, ⟨7, _⟩ => ⟨S8x1x16, .i32⟩
  | .hbm, ⟨8, _⟩ => ⟨S8x1x16, .i32⟩
  | .hbm, ⟨9, _⟩ => ⟨S128, .i32⟩
  | .hbm, ⟨10, _⟩ => ⟨S128, .i32⟩
  | .hbm, ⟨11, _⟩ => ⟨S128, .i32⟩
  | .hbm, ⟨12, _⟩ => ⟨S12288x512, .f32⟩
  | .hbm, ⟨13, _⟩ => ⟨S12288x512, .f32⟩
  | .hbm, ⟨14, _⟩ => ⟨S8x512x512, .f32⟩
  | .hbm, ⟨15, _⟩ => ⟨S4096x512, .f32⟩
  | .hbm, ⟨16, _⟩ => ⟨S8x512x512, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S12288x512, .f32⟩
  | .hbm, ⟨21, _⟩ => ⟨S4096x512, .f32⟩
  | .hbm, ⟨22, _⟩ => ⟨S4096x512, .f32⟩
  | .hbm, ⟨23, _⟩ => ⟨S8x3x512x512, .f32⟩
  | .hbm, ⟨24, _⟩ => ⟨S8x512x512, .f32⟩
  | .hbm, ⟨25, _⟩ => ⟨S8x512x512, .i32⟩
  | .hbm, ⟨26, _⟩ => ⟨S8x512x512, .f32⟩
  | .local .scVector .vmem, ⟨0, _⟩ => ⟨S128x512, .f32⟩
  | .local .scVector .vmem, ⟨1, _⟩ => ⟨S32x512, .f32⟩
  | .local .scVector .vmem, ⟨2, _⟩ => ⟨S16, .i32⟩
  | .local .scVector .vmem, ⟨3, _⟩ => ⟨S16, .i32⟩
  | .local .scVector .vmem, ⟨4, _⟩ => ⟨S16, .i32⟩
  | _, _ => ⟨S8x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 93 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => false
  | ⟨90, _⟩ => false
  | ⟨91, _⟩ => false
  | ⟨92, _⟩ => false
  | _ => false

abbrev sig : RefSig :=
  ofTables nBuf rfl bufTy 4 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v3_scv : Ref sig .scVector := ⟨.hbm, 12, rfl⟩
abbrev main_v4_scv : Ref sig .scVector := ⟨.hbm, 13, rfl⟩
abbrev main_v6_scv : Ref sig .scVector := ⟨.hbm, 15, rfl⟩
abbrev main_v8_scv : Ref sig .scVector := ⟨.hbm, 17, rfl⟩
abbrev main_v9_scv : Ref sig .scVector := ⟨.hbm, 18, rfl⟩
abbrev main_v10_scv : Ref sig .scVector := ⟨.hbm, 19, rfl⟩
abbrev main_v0_scv : Ref sig .scVector := ⟨.hbm, 9, rfl⟩
abbrev main_v1_scv : Ref sig .scVector := ⟨.hbm, 10, rfl⟩
abbrev main_v2_scv : Ref sig .scVector := ⟨.hbm, 11, rfl⟩
abbrev main_v11_0_scv : Ref sig .scVector := ⟨.hbm, 20, rfl⟩
abbrev main_v11_1_scv : Ref sig .scVector := ⟨.hbm, 21, rfl⟩
abbrev main_v11_2_scv : Ref sig .scVector := ⟨.hbm, 22, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32_4 : BitVec 32 := 16#32
  let v19 : BitVec 32 := Scalar.muli v18 c16_i32_4
  ![v19.toNat]
def k0_off2 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c0_i32_1427_r3 : BitVec 32 := 0#32
  ![v73.toNat, 0]
def k0_off3 (i : grid0.Coords) (v107 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v107 c0_i32_1428
  let v3763 : BitVec 32 := Scalar.extui v3762
  let c0_i32_1429 : BitVec 32 := 0#32
  let v3764 : BitVec 1 := Scalar.cmpi .slt v107 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v107 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v107 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r4 : BitVec 32 := 0#32
  ![v3779.toNat, 0]
def k0_cond1 (i : grid0.Coords) (v25 : BitVec 32) (v105 : BitVec 32) : BitVec 1 :=
  let c0_i32_51 : BitVec 32 := 0#32
  let v125 : BitVec 1 := Scalar.cmpi .sgt v25 c0_i32_51
  let c0_i32_45 : BitVec 32 := 0#32
  let v109 : BitVec 1 := Scalar.cmpi .sgt v105 c0_i32_45
  let v110 : BitVec 32 := Scalar.extui v109
  let c0_i32_46 : BitVec 32 := 0#32
  let v111 : BitVec 1 := Scalar.cmpi .slt v105 c0_i32_46
  let v112 : BitVec 32 := Scalar.extui v111
  let v113 : BitVec 32 := Scalar.subi v110 v112
  let c16_i32_44 : BitVec 32 := 16#32
  let c0_i32_47 : BitVec 32 := 0#32
  let v114 : BitVec 1 := Scalar.cmpi .sgt c16_i32_44 c0_i32_47
  let v115 : BitVec 32 := Scalar.extui v114
  let c0_i32_48 : BitVec 32 := 0#32
  let v116 : BitVec 1 := Scalar.cmpi .slt c16_i32_44 c0_i32_48
  let v117 : BitVec 32 := Scalar.extui v116
  let v118 : BitVec 32 := Scalar.subi v115 v117
  let v119 : BitVec 1 := Scalar.cmpi .ne v113 v118
  let v120 : BitVec 32 := Scalar.remsi v105 c16_i32_44
  let c0_i32_49 : BitVec 32 := 0#32
  let v121 : BitVec 1 := Scalar.cmpi .ne v120 c0_i32_49
  let v122 : BitVec 1 := Scalar.andi v119 v121
  let v108 : BitVec 32 := Scalar.divsi v105 c16_i32_44
  let c1_i32_50 : BitVec 32 := 1#32
  let v123 : BitVec 32 := Scalar.subi v108 c1_i32_50
  let v124 : BitVec 32 := Scalar.select v122 v123 v108
  let c0_i32_53 : BitVec 32 := 0#32
  let v127 : BitVec 1 := Scalar.cmpi .sgt v124 c0_i32_53
  let v128 : BitVec 32 := Scalar.extui v127
  let c0_i32_54 : BitVec 32 := 0#32
  let v129 : BitVec 1 := Scalar.cmpi .slt v124 c0_i32_54
  let v130 : BitVec 32 := Scalar.extui v129
  let v131 : BitVec 32 := Scalar.subi v128 v130
  let c4_i32_52 : BitVec 32 := 4#32
  let c0_i32_55 : BitVec 32 := 0#32
  let v132 : BitVec 1 := Scalar.cmpi .sgt c4_i32_52 c0_i32_55
  let v133 : BitVec 32 := Scalar.extui v132
  let c0_i32_56 : BitVec 32 := 0#32
  let v134 : BitVec 1 := Scalar.cmpi .slt c4_i32_52 c0_i32_56
  let v135 : BitVec 32 := Scalar.extui v134
  let v136 : BitVec 32 := Scalar.subi v133 v135
  let v137 : BitVec 1 := Scalar.cmpi .ne v131 v136
  let v138 : BitVec 32 := Scalar.remsi v124 c4_i32_52
  let c0_i32_57 : BitVec 32 := 0#32
  let v139 : BitVec 1 := Scalar.cmpi .ne v138 c0_i32_57
  let v140 : BitVec 1 := Scalar.andi v137 v139
  let v126 : BitVec 32 := Scalar.divsi v124 c4_i32_52
  let c1_i32_58 : BitVec 32 := 1#32
  let v141 : BitVec 32 := Scalar.subi v126 c1_i32_58
  let v142 : BitVec 32 := Scalar.select v140 v141 v126
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v143 : BitVec 1 := Scalar.cmpi .eq v142 v103
  let v144 : BitVec 1 := Scalar.andi v125 v143
  let v145 : BitVec 32 := Scalar.extui v144
  let c0_i32_59 : BitVec 32 := 0#32
  let v146 : BitVec 1 := Scalar.cmpi .ne v145 c0_i32_59
  v146

@[reducible] def k0_t1_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off4 (v107 : BitVec 32) (k0_t1 : Fin k0_t1_loop.trips) : Fin 2 → Nat :=
  let c0_i32_1453 : BitVec 32 := 0#32
  let c1_i32_1455 : BitVec 32 := 1#32
  let arg19 : BitVec 32 := Scf.iv c0_i32_1453 c1_i32_1455 k0_t1
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v107 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off5 (v105 : BitVec 32) (k0_t1 : Fin k0_t1_loop.trips) : Fin 2 → Nat :=
  let c0_i32_45 : BitVec 32 := 0#32
  let v109 : BitVec 1 := Scalar.cmpi .sgt v105 c0_i32_45
  let v110 : BitVec 32 := Scalar.extui v109
  let c0_i32_46 : BitVec 32 := 0#32
  let v111 : BitVec 1 := Scalar.cmpi .slt v105 c0_i32_46
  let v112 : BitVec 32 := Scalar.extui v111
  let v113 : BitVec 32 := Scalar.subi v110 v112
  let c16_i32_44 : BitVec 32 := 16#32
  let c0_i32_47 : BitVec 32 := 0#32
  let v114 : BitVec 1 := Scalar.cmpi .sgt c16_i32_44 c0_i32_47
  let v115 : BitVec 32 := Scalar.extui v114
  let c0_i32_48 : BitVec 32 := 0#32
  let v116 : BitVec 1 := Scalar.cmpi .slt c16_i32_44 c0_i32_48
  let v117 : BitVec 32 := Scalar.extui v116
  let v118 : BitVec 32 := Scalar.subi v115 v117
  let v119 : BitVec 1 := Scalar.cmpi .ne v113 v118
  let v120 : BitVec 32 := Scalar.remsi v105 c16_i32_44
  let c0_i32_49 : BitVec 32 := 0#32
  let v121 : BitVec 1 := Scalar.cmpi .ne v120 c0_i32_49
  let v122 : BitVec 1 := Scalar.andi v119 v121
  let v108 : BitVec 32 := Scalar.divsi v105 c16_i32_44
  let c1_i32_50 : BitVec 32 := 1#32
  let v123 : BitVec 32 := Scalar.subi v108 c1_i32_50
  let v124 : BitVec 32 := Scalar.select v122 v123 v108
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v124 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t1
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v105 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off6 (v107 : BitVec 32) (k0_t1 : Fin k0_t1_loop.trips) : Fin 2 → Nat :=
  let c0_i32_1453 : BitVec 32 := 0#32
  let c1_i32_1455 : BitVec 32 := 1#32
  let arg19 : BitVec 32 := Scf.iv c0_i32_1453 c1_i32_1455 k0_t1
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v107 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk1 (i : grid0.Coords) (v25 : BitVec 32) (v105 : BitVec 32) (v107 : BitVec 32) : Prop :=
  (∀ (k0_h1 : k0_cond1 i v25 v105 = 1#1), ∀ a, (k0_off3 i v107) a + S32x512.size a ≤ S12288x512.size a) ∧
  (∀ k0_t1 : Fin k0_t1_loop.trips, ∀ (k0_h1 : k0_cond1 i v25 v105 = 1#1), ∀ a, (k0_off4 v107 k0_t1) a + S1x16.size a ≤ S32x512.size a) ∧
  (∀ k0_t1 : Fin k0_t1_loop.trips, ∀ (k0_h1 : k0_cond1 i v25 v105 = 1#1), ∀ a, (k0_off6 v107 k0_t1) a + S1x16.size a ≤ S32x512.size a)
theorem k0_off3_inb : ∀ (i : grid0.Coords) (v25 : BitVec 32) (v105 : BitVec 32) (v107 : BitVec 32) (k0_hw1 : k0_chk1 i v25 v105 v107), ∀ (k0_h1 : k0_cond1 i v25 v105 = 1#1), ∀ a, (k0_off3 i v107) a + S32x512.size a ≤ S12288x512.size a := fun i v25 v105 v107 k0_hw1 k0_h1 => k0_hw1.1 k0_h1
theorem k0_off4_inb : ∀ (i : grid0.Coords) (v25 : BitVec 32) (v105 : BitVec 32) (v107 : BitVec 32) (k0_hw1 : k0_chk1 i v25 v105 v107) (k0_t1 : Fin k0_t1_loop.trips), ∀ (k0_h1 : k0_cond1 i v25 v105 = 1#1), ∀ a, (k0_off4 v107 k0_t1) a + S1x16.size a ≤ S32x512.size a := fun i v25 v105 v107 k0_hw1 k0_t1 k0_h1 => k0_hw1.2.1 k0_t1 k0_h1
theorem k0_off6_inb : ∀ (i : grid0.Coords) (v25 : BitVec 32) (v105 : BitVec 32) (v107 : BitVec 32) (k0_hw1 : k0_chk1 i v25 v105 v107) (k0_t1 : Fin k0_t1_loop.trips), ∀ (k0_h1 : k0_cond1 i v25 v105 = 1#1), ∀ a, (k0_off6 v107 k0_t1) a + S1x16.size a ≤ S32x512.size a := fun i v25 v105 v107 k0_hw1 k0_t1 k0_h1 => k0_hw1.2.2 k0_t1 k0_h1

def k0_off7 (v105 : BitVec 32) (k0_t1 : Fin k0_t1_loop.trips) : Fin 2 → Nat :=
  let c0_i32_45 : BitVec 32 := 0#32
  let v109 : BitVec 1 := Scalar.cmpi .sgt v105 c0_i32_45
  let v110 : BitVec 32 := Scalar.extui v109
  let c0_i32_46 : BitVec 32 := 0#32
  let v111 : BitVec 1 := Scalar.cmpi .slt v105 c0_i32_46
  let v112 : BitVec 32 := Scalar.extui v111
  let v113 : BitVec 32 := Scalar.subi v110 v112
  let c16_i32_44 : BitVec 32 := 16#32
  let c0_i32_47 : BitVec 32 := 0#32
  let v114 : BitVec 1 := Scalar.cmpi .sgt c16_i32_44 c0_i32_47
  let v115 : BitVec 32 := Scalar.extui v114
  let c0_i32_48 : BitVec 32 := 0#32
  let v116 : BitVec 1 := Scalar.cmpi .slt c16_i32_44 c0_i32_48
  let v117 : BitVec 32 := Scalar.extui v116
  let v118 : BitVec 32 := Scalar.subi v115 v117
  let v119 : BitVec 1 := Scalar.cmpi .ne v113 v118
  let v120 : BitVec 32 := Scalar.remsi v105 c16_i32_44
  let c0_i32_49 : BitVec 32 := 0#32
  let v121 : BitVec 1 := Scalar.cmpi .ne v120 c0_i32_49
  let v122 : BitVec 1 := Scalar.andi v119 v121
  let v108 : BitVec 32 := Scalar.divsi v105 c16_i32_44
  let c1_i32_50 : BitVec 32 := 1#32
  let v123 : BitVec 32 := Scalar.subi v108 c1_i32_50
  let v124 : BitVec 32 := Scalar.select v122 v123 v108
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v124 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t1
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v105 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk2 (i : grid0.Coords) (v25 : BitVec 32) (v105 : BitVec 32) : Prop :=
  (∀ k0_t1 : Fin k0_t1_loop.trips, ∀ (k0_h1 : k0_cond1 i v25 v105 = 1#1), ∀ a, (k0_off5 v105 k0_t1) a + S1x16.size a ≤ S128x512.size a) ∧
  (∀ k0_t1 : Fin k0_t1_loop.trips, ∀ (k0_h1 : k0_cond1 i v25 v105 = 1#1), ∀ a, (k0_off7 v105 k0_t1) a + S1x16.size a ≤ S128x512.size a)
theorem k0_off5_inb : ∀ (i : grid0.Coords) (v25 : BitVec 32) (v105 : BitVec 32) (k0_hw2 : k0_chk2 i v25 v105) (k0_t1 : Fin k0_t1_loop.trips), ∀ (k0_h1 : k0_cond1 i v25 v105 = 1#1), ∀ a, (k0_off5 v105 k0_t1) a + S1x16.size a ≤ S128x512.size a := fun i v25 v105 k0_hw2 k0_t1 k0_h1 => k0_hw2.1 k0_t1 k0_h1
theorem k0_off7_inb : ∀ (i : grid0.Coords) (v25 : BitVec 32) (v105 : BitVec 32) (k0_hw2 : k0_chk2 i v25 v105) (k0_t1 : Fin k0_t1_loop.trips), ∀ (k0_h1 : k0_cond1 i v25 v105 = 1#1), ∀ a, (k0_off7 v105 k0_t1) a + S1x16.size a ≤ S128x512.size a := fun i v25 v105 k0_hw2 k0_t1 k0_h1 => k0_hw2.2 k0_t1 k0_h1

def k0_off8 (i : grid0.Coords) (v150 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v150 c0_i32_1428
  let v3763 : BitVec 32 := Scalar.extui v3762
  let c0_i32_1429 : BitVec 32 := 0#32
  let v3764 : BitVec 1 := Scalar.cmpi .slt v150 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v150 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v150 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r5 : BitVec 32 := 0#32
  ![v3779.toNat, 0]
def k0_cond2 (i : grid0.Coords) (v25 : BitVec 32) (v148 : BitVec 32) : BitVec 1 :=
  let c1_i32_67 : BitVec 32 := 1#32
  let v168 : BitVec 1 := Scalar.cmpi .sgt v25 c1_i32_67
  let c0_i32_61 : BitVec 32 := 0#32
  let v152 : BitVec 1 := Scalar.cmpi .sgt v148 c0_i32_61
  let v153 : BitVec 32 := Scalar.extui v152
  let c0_i32_62 : BitVec 32 := 0#32
  let v154 : BitVec 1 := Scalar.cmpi .slt v148 c0_i32_62
  let v155 : BitVec 32 := Scalar.extui v154
  let v156 : BitVec 32 := Scalar.subi v153 v155
  let c16_i32_60 : BitVec 32 := 16#32
  let c0_i32_63 : BitVec 32 := 0#32
  let v157 : BitVec 1 := Scalar.cmpi .sgt c16_i32_60 c0_i32_63
  let v158 : BitVec 32 := Scalar.extui v157
  let c0_i32_64 : BitVec 32 := 0#32
  let v159 : BitVec 1 := Scalar.cmpi .slt c16_i32_60 c0_i32_64
  let v160 : BitVec 32 := Scalar.extui v159
  let v161 : BitVec 32 := Scalar.subi v158 v160
  let v162 : BitVec 1 := Scalar.cmpi .ne v156 v161
  let v163 : BitVec 32 := Scalar.remsi v148 c16_i32_60
  let c0_i32_65 : BitVec 32 := 0#32
  let v164 : BitVec 1 := Scalar.cmpi .ne v163 c0_i32_65
  let v165 : BitVec 1 := Scalar.andi v162 v164
  let v151 : BitVec 32 := Scalar.divsi v148 c16_i32_60
  let c1_i32_66 : BitVec 32 := 1#32
  let v166 : BitVec 32 := Scalar.subi v151 c1_i32_66
  let v167 : BitVec 32 := Scalar.select v165 v166 v151
  let c0_i32_69 : BitVec 32 := 0#32
  let v170 : BitVec 1 := Scalar.cmpi .sgt v167 c0_i32_69
  let v171 : BitVec 32 := Scalar.extui v170
  let c0_i32_70 : BitVec 32 := 0#32
  let v172 : BitVec 1 := Scalar.cmpi .slt v167 c0_i32_70
  let v173 : BitVec 32 := Scalar.extui v172
  let v174 : BitVec 32 := Scalar.subi v171 v173
  let c4_i32_68 : BitVec 32 := 4#32
  let c0_i32_71 : BitVec 32 := 0#32
  let v175 : BitVec 1 := Scalar.cmpi .sgt c4_i32_68 c0_i32_71
  let v176 : BitVec 32 := Scalar.extui v175
  let c0_i32_72 : BitVec 32 := 0#32
  let v177 : BitVec 1 := Scalar.cmpi .slt c4_i32_68 c0_i32_72
  let v178 : BitVec 32 := Scalar.extui v177
  let v179 : BitVec 32 := Scalar.subi v176 v178
  let v180 : BitVec 1 := Scalar.cmpi .ne v174 v179
  let v181 : BitVec 32 := Scalar.remsi v167 c4_i32_68
  let c0_i32_73 : BitVec 32 := 0#32
  let v182 : BitVec 1 := Scalar.cmpi .ne v181 c0_i32_73
  let v183 : BitVec 1 := Scalar.andi v180 v182
  let v169 : BitVec 32 := Scalar.divsi v167 c4_i32_68
  let c1_i32_74 : BitVec 32 := 1#32
  let v184 : BitVec 32 := Scalar.subi v169 c1_i32_74
  let v185 : BitVec 32 := Scalar.select v183 v184 v169
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v186 : BitVec 1 := Scalar.cmpi .eq v185 v103
  let v187 : BitVec 1 := Scalar.andi v168 v186
  let v188 : BitVec 32 := Scalar.extui v187
  let c0_i32_75 : BitVec 32 := 0#32
  let v189 : BitVec 1 := Scalar.cmpi .ne v188 c0_i32_75
  v189

@[reducible] def k0_t2_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off9 (v150 : BitVec 32) (k0_t2 : Fin k0_t2_loop.trips) : Fin 2 → Nat :=
  let c0_i32_1453 : BitVec 32 := 0#32
  let c1_i32_1455 : BitVec 32 := 1#32
  let arg19 : BitVec 32 := Scf.iv c0_i32_1453 c1_i32_1455 k0_t2
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v150 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off10 (v148 : BitVec 32) (k0_t2 : Fin k0_t2_loop.trips) : Fin 2 → Nat :=
  let c0_i32_61 : BitVec 32 := 0#32
  let v152 : BitVec 1 := Scalar.cmpi .sgt v148 c0_i32_61
  let v153 : BitVec 32 := Scalar.extui v152
  let c0_i32_62 : BitVec 32 := 0#32
  let v154 : BitVec 1 := Scalar.cmpi .slt v148 c0_i32_62
  let v155 : BitVec 32 := Scalar.extui v154
  let v156 : BitVec 32 := Scalar.subi v153 v155
  let c16_i32_60 : BitVec 32 := 16#32
  let c0_i32_63 : BitVec 32 := 0#32
  let v157 : BitVec 1 := Scalar.cmpi .sgt c16_i32_60 c0_i32_63
  let v158 : BitVec 32 := Scalar.extui v157
  let c0_i32_64 : BitVec 32 := 0#32
  let v159 : BitVec 1 := Scalar.cmpi .slt c16_i32_60 c0_i32_64
  let v160 : BitVec 32 := Scalar.extui v159
  let v161 : BitVec 32 := Scalar.subi v158 v160
  let v162 : BitVec 1 := Scalar.cmpi .ne v156 v161
  let v163 : BitVec 32 := Scalar.remsi v148 c16_i32_60
  let c0_i32_65 : BitVec 32 := 0#32
  let v164 : BitVec 1 := Scalar.cmpi .ne v163 c0_i32_65
  let v165 : BitVec 1 := Scalar.andi v162 v164
  let v151 : BitVec 32 := Scalar.divsi v148 c16_i32_60
  let c1_i32_66 : BitVec 32 := 1#32
  let v166 : BitVec 32 := Scalar.subi v151 c1_i32_66
  let v167 : BitVec 32 := Scalar.select v165 v166 v151
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v167 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t2
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v148 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off11 (v150 : BitVec 32) (k0_t2 : Fin k0_t2_loop.trips) : Fin 2 → Nat :=
  let c0_i32_1453 : BitVec 32 := 0#32
  let c1_i32_1455 : BitVec 32 := 1#32
  let arg19 : BitVec 32 := Scf.iv c0_i32_1453 c1_i32_1455 k0_t2
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v150 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk3 (i : grid0.Coords) (v25 : BitVec 32) (v148 : BitVec 32) (v150 : BitVec 32) : Prop :=
  (∀ (k0_h2 : k0_cond2 i v25 v148 = 1#1), ∀ a, (k0_off8 i v150) a + S32x512.size a ≤ S12288x512.size a) ∧
  (∀ k0_t2 : Fin k0_t2_loop.trips, ∀ (k0_h2 : k0_cond2 i v25 v148 = 1#1), ∀ a, (k0_off9 v150 k0_t2) a + S1x16.size a ≤ S32x512.size a) ∧
  (∀ k0_t2 : Fin k0_t2_loop.trips, ∀ (k0_h2 : k0_cond2 i v25 v148 = 1#1), ∀ a, (k0_off11 v150 k0_t2) a + S1x16.size a ≤ S32x512.size a)
theorem k0_off8_inb : ∀ (i : grid0.Coords) (v25 : BitVec 32) (v148 : BitVec 32) (v150 : BitVec 32) (k0_hw3 : k0_chk3 i v25 v148 v150), ∀ (k0_h2 : k0_cond2 i v25 v148 = 1#1), ∀ a, (k0_off8 i v150) a + S32x512.size a ≤ S12288x512.size a := fun i v25 v148 v150 k0_hw3 k0_h2 => k0_hw3.1 k0_h2
theorem k0_off9_inb : ∀ (i : grid0.Coords) (v25 : BitVec 32) (v148 : BitVec 32) (v150 : BitVec 32) (k0_hw3 : k0_chk3 i v25 v148 v150) (k0_t2 : Fin k0_t2_loop.trips), ∀ (k0_h2 : k0_cond2 i v25 v148 = 1#1), ∀ a, (k0_off9 v150 k0_t2) a + S1x16.size a ≤ S32x512.size a := fun i v25 v148 v150 k0_hw3 k0_t2 k0_h2 => k0_hw3.2.1 k0_t2 k0_h2
theorem k0_off11_inb : ∀ (i : grid0.Coords) (v25 : BitVec 32) (v148 : BitVec 32) (v150 : BitVec 32) (k0_hw3 : k0_chk3 i v25 v148 v150) (k0_t2 : Fin k0_t2_loop.trips), ∀ (k0_h2 : k0_cond2 i v25 v148 = 1#1), ∀ a, (k0_off11 v150 k0_t2) a + S1x16.size a ≤ S32x512.size a := fun i v25 v148 v150 k0_hw3 k0_t2 k0_h2 => k0_hw3.2.2 k0_t2 k0_h2

def k0_off12 (v148 : BitVec 32) (k0_t2 : Fin k0_t2_loop.trips) : Fin 2 → Nat :=
  let c0_i32_61 : BitVec 32 := 0#32
  let v152 : BitVec 1 := Scalar.cmpi .sgt v148 c0_i32_61
  let v153 : BitVec 32 := Scalar.extui v152
  let c0_i32_62 : BitVec 32 := 0#32
  let v154 : BitVec 1 := Scalar.cmpi .slt v148 c0_i32_62
  let v155 : BitVec 32 := Scalar.extui v154
  let v156 : BitVec 32 := Scalar.subi v153 v155
  let c16_i32_60 : BitVec 32 := 16#32
  let c0_i32_63 : BitVec 32 := 0#32
  let v157 : BitVec 1 := Scalar.cmpi .sgt c16_i32_60 c0_i32_63
  let v158 : BitVec 32 := Scalar.extui v157
  let c0_i32_64 : BitVec 32 := 0#32
  let v159 : BitVec 1 := Scalar.cmpi .slt c16_i32_60 c0_i32_64
  let v160 : BitVec 32 := Scalar.extui v159
  let v161 : BitVec 32 := Scalar.subi v158 v160
  let v162 : BitVec 1 := Scalar.cmpi .ne v156 v161
  let v163 : BitVec 32 := Scalar.remsi v148 c16_i32_60
  let c0_i32_65 : BitVec 32 := 0#32
  let v164 : BitVec 1 := Scalar.cmpi .ne v163 c0_i32_65
  let v165 : BitVec 1 := Scalar.andi v162 v164
  let v151 : BitVec 32 := Scalar.divsi v148 c16_i32_60
  let c1_i32_66 : BitVec 32 := 1#32
  let v166 : BitVec 32 := Scalar.subi v151 c1_i32_66
  let v167 : BitVec 32 := Scalar.select v165 v166 v151
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v167 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t2
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v148 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk4 (i : grid0.Coords) (v25 : BitVec 32) (v148 : BitVec 32) : Prop :=
  (∀ k0_t2 : Fin k0_t2_loop.trips, ∀ (k0_h2 : k0_cond2 i v25 v148 = 1#1), ∀ a, (k0_off10 v148 k0_t2) a + S1x16.size a ≤ S128x512.size a) ∧
  (∀ k0_t2 : Fin k0_t2_loop.trips, ∀ (k0_h2 : k0_cond2 i v25 v148 = 1#1), ∀ a, (k0_off12 v148 k0_t2) a + S1x16.size a ≤ S128x512.size a)
theorem k0_off10_inb : ∀ (i : grid0.Coords) (v25 : BitVec 32) (v148 : BitVec 32) (k0_hw4 : k0_chk4 i v25 v148) (k0_t2 : Fin k0_t2_loop.trips), ∀ (k0_h2 : k0_cond2 i v25 v148 = 1#1), ∀ a, (k0_off10 v148 k0_t2) a + S1x16.size a ≤ S128x512.size a := fun i v25 v148 k0_hw4 k0_t2 k0_h2 => k0_hw4.1 k0_t2 k0_h2
theorem k0_off12_inb : ∀ (i : grid0.Coords) (v25 : BitVec 32) (v148 : BitVec 32) (k0_hw4 : k0_chk4 i v25 v148) (k0_t2 : Fin k0_t2_loop.trips), ∀ (k0_h2 : k0_cond2 i v25 v148 = 1#1), ∀ a, (k0_off12 v148 k0_t2) a + S1x16.size a ≤ S128x512.size a := fun i v25 v148 k0_hw4 k0_t2 k0_h2 => k0_hw4.2 k0_t2 k0_h2

def k0_off13 (i : grid0.Coords) (v193 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v193 c0_i32_1428
  let v3763 : BitVec 32 := Scalar.extui v3762
  let c0_i32_1429 : BitVec 32 := 0#32
  let v3764 : BitVec 1 := Scalar.cmpi .slt v193 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v193 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v193 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r6 : BitVec 32 := 0#32
  ![v3779.toNat, 0]
def k0_cond3 (i : grid0.Coords) (v25 : BitVec 32) (v191 : BitVec 32) : BitVec 1 :=
  let c2_i32 : BitVec 32 := 2#32
  let v211 : BitVec 1 := Scalar.cmpi .sgt v25 c2_i32
  let c0_i32_77 : BitVec 32 := 0#32
  let v195 : BitVec 1 := Scalar.cmpi .sgt v191 c0_i32_77
  let v196 : BitVec 32 := Scalar.extui v195
  let c0_i32_78 : BitVec 32 := 0#32
  let v197 : BitVec 1 := Scalar.cmpi .slt v191 c0_i32_78
  let v198 : BitVec 32 := Scalar.extui v197
  let v199 : BitVec 32 := Scalar.subi v196 v198
  let c16_i32_76 : BitVec 32 := 16#32
  let c0_i32_79 : BitVec 32 := 0#32
  let v200 : BitVec 1 := Scalar.cmpi .sgt c16_i32_76 c0_i32_79
  let v201 : BitVec 32 := Scalar.extui v200
  let c0_i32_80 : BitVec 32 := 0#32
  let v202 : BitVec 1 := Scalar.cmpi .slt c16_i32_76 c0_i32_80
  let v203 : BitVec 32 := Scalar.extui v202
  let v204 : BitVec 32 := Scalar.subi v201 v203
  let v205 : BitVec 1 := Scalar.cmpi .ne v199 v204
  let v206 : BitVec 32 := Scalar.remsi v191 c16_i32_76
  let c0_i32_81 : BitVec 32 := 0#32
  let v207 : BitVec 1 := Scalar.cmpi .ne v206 c0_i32_81
  let v208 : BitVec 1 := Scalar.andi v205 v207
  let v194 : BitVec 32 := Scalar.divsi v191 c16_i32_76
  let c1_i32_82 : BitVec 32 := 1#32
  let v209 : BitVec 32 := Scalar.subi v194 c1_i32_82
  let v210 : BitVec 32 := Scalar.select v208 v209 v194
  let c0_i32_84 : BitVec 32 := 0#32
  let v213 : BitVec 1 := Scalar.cmpi .sgt v210 c0_i32_84
  let v214 : BitVec 32 := Scalar.extui v213
  let c0_i32_85 : BitVec 32 := 0#32
  let v215 : BitVec 1 := Scalar.cmpi .slt v210 c0_i32_85
  let v216 : BitVec 32 := Scalar.extui v215
  let v217 : BitVec 32 := Scalar.subi v214 v216
  let c4_i32_83 : BitVec 32 := 4#32
  let c0_i32_86 : BitVec 32 := 0#32
  let v218 : BitVec 1 := Scalar.cmpi .sgt c4_i32_83 c0_i32_86
  let v219 : BitVec 32 := Scalar.extui v218
  let c0_i32_87 : BitVec 32 := 0#32
  let v220 : BitVec 1 := Scalar.cmpi .slt c4_i32_83 c0_i32_87
  let v221 : BitVec 32 := Scalar.extui v220
  let v222 : BitVec 32 := Scalar.subi v219 v221
  let v223 : BitVec 1 := Scalar.cmpi .ne v217 v222
  let v224 : BitVec 32 := Scalar.remsi v210 c4_i32_83
  let c0_i32_88 : BitVec 32 := 0#32
  let v225 : BitVec 1 := Scalar.cmpi .ne v224 c0_i32_88
  let v226 : BitVec 1 := Scalar.andi v223 v225
  let v212 : BitVec 32 := Scalar.divsi v210 c4_i32_83
  let c1_i32_89 : BitVec 32 := 1#32
  let v227 : BitVec 32 := Scalar.subi v212 c1_i32_89
  let v228 : BitVec 32 := Scalar.select v226 v227 v212
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v229 : BitVec 1 := Scalar.cmpi .eq v228 v103
  let v230 : BitVec 1 := Scalar.andi v211 v229
  let v231 : BitVec 32 := Scalar.extui v230
  let c0_i32_90 : BitVec 32 := 0#32
  let v232 : BitVec 1 := Scalar.cmpi .ne v231 c0_i32_90
  v232

@[reducible] def k0_t3_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off14 (v193 : BitVec 32) (k0_t3 : Fin k0_t3_loop.trips) : Fin 2 → Nat :=
  let c0_i32_1453 : BitVec 32 := 0#32
  let c1_i32_1455 : BitVec 32 := 1#32
  let arg19 : BitVec 32 := Scf.iv c0_i32_1453 c1_i32_1455 k0_t3
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v193 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off15 (v191 : BitVec 32) (k0_t3 : Fin k0_t3_loop.trips) : Fin 2 → Nat :=
  let c0_i32_77 : BitVec 32 := 0#32
  let v195 : BitVec 1 := Scalar.cmpi .sgt v191 c0_i32_77
  let v196 : BitVec 32 := Scalar.extui v195
  let c0_i32_78 : BitVec 32 := 0#32
  let v197 : BitVec 1 := Scalar.cmpi .slt v191 c0_i32_78
  let v198 : BitVec 32 := Scalar.extui v197
  let v199 : BitVec 32 := Scalar.subi v196 v198
  let c16_i32_76 : BitVec 32 := 16#32
  let c0_i32_79 : BitVec 32 := 0#32
  let v200 : BitVec 1 := Scalar.cmpi .sgt c16_i32_76 c0_i32_79
  let v201 : BitVec 32 := Scalar.extui v200
  let c0_i32_80 : BitVec 32 := 0#32
  let v202 : BitVec 1 := Scalar.cmpi .slt c16_i32_76 c0_i32_80
  let v203 : BitVec 32 := Scalar.extui v202
  let v204 : BitVec 32 := Scalar.subi v201 v203
  let v205 : BitVec 1 := Scalar.cmpi .ne v199 v204
  let v206 : BitVec 32 := Scalar.remsi v191 c16_i32_76
  let c0_i32_81 : BitVec 32 := 0#32
  let v207 : BitVec 1 := Scalar.cmpi .ne v206 c0_i32_81
  let v208 : BitVec 1 := Scalar.andi v205 v207
  let v194 : BitVec 32 := Scalar.divsi v191 c16_i32_76
  let c1_i32_82 : BitVec 32 := 1#32
  let v209 : BitVec 32 := Scalar.subi v194 c1_i32_82
  let v210 : BitVec 32 := Scalar.select v208 v209 v194
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v210 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t3
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v191 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off16 (v193 : BitVec 32) (k0_t3 : Fin k0_t3_loop.trips) : Fin 2 → Nat :=
  let c0_i32_1453 : BitVec 32 := 0#32
  let c1_i32_1455 : BitVec 32 := 1#32
  let arg19 : BitVec 32 := Scf.iv c0_i32_1453 c1_i32_1455 k0_t3
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v193 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk5 (i : grid0.Coords) (v25 : BitVec 32) (v191 : BitVec 32) (v193 : BitVec 32) : Prop :=
  (∀ (k0_h3 : k0_cond3 i v25 v191 = 1#1), ∀ a, (k0_off13 i v193) a + S32x512.size a ≤ S12288x512.size a) ∧
  (∀ k0_t3 : Fin k0_t3_loop.trips, ∀ (k0_h3 : k0_cond3 i v25 v191 = 1#1), ∀ a, (k0_off14 v193 k0_t3) a + S1x16.size a ≤ S32x512.size a) ∧
  (∀ k0_t3 : Fin k0_t3_loop.trips, ∀ (k0_h3 : k0_cond3 i v25 v191 = 1#1), ∀ a, (k0_off16 v193 k0_t3) a + S1x16.size a ≤ S32x512.size a)
theorem k0_off13_inb : ∀ (i : grid0.Coords) (v25 : BitVec 32) (v191 : BitVec 32) (v193 : BitVec 32) (k0_hw5 : k0_chk5 i v25 v191 v193), ∀ (k0_h3 : k0_cond3 i v25 v191 = 1#1), ∀ a, (k0_off13 i v193) a + S32x512.size a ≤ S12288x512.size a := fun i v25 v191 v193 k0_hw5 k0_h3 => k0_hw5.1 k0_h3
theorem k0_off14_inb : ∀ (i : grid0.Coords) (v25 : BitVec 32) (v191 : BitVec 32) (v193 : BitVec 32) (k0_hw5 : k0_chk5 i v25 v191 v193) (k0_t3 : Fin k0_t3_loop.trips), ∀ (k0_h3 : k0_cond3 i v25 v191 = 1#1), ∀ a, (k0_off14 v193 k0_t3) a + S1x16.size a ≤ S32x512.size a := fun i v25 v191 v193 k0_hw5 k0_t3 k0_h3 => k0_hw5.2.1 k0_t3 k0_h3
theorem k0_off16_inb : ∀ (i : grid0.Coords) (v25 : BitVec 32) (v191 : BitVec 32) (v193 : BitVec 32) (k0_hw5 : k0_chk5 i v25 v191 v193) (k0_t3 : Fin k0_t3_loop.trips), ∀ (k0_h3 : k0_cond3 i v25 v191 = 1#1), ∀ a, (k0_off16 v193 k0_t3) a + S1x16.size a ≤ S32x512.size a := fun i v25 v191 v193 k0_hw5 k0_t3 k0_h3 => k0_hw5.2.2 k0_t3 k0_h3

def k0_off17 (v191 : BitVec 32) (k0_t3 : Fin k0_t3_loop.trips) : Fin 2 → Nat :=
  let c0_i32_77 : BitVec 32 := 0#32
  let v195 : BitVec 1 := Scalar.cmpi .sgt v191 c0_i32_77
  let v196 : BitVec 32 := Scalar.extui v195
  let c0_i32_78 : BitVec 32 := 0#32
  let v197 : BitVec 1 := Scalar.cmpi .slt v191 c0_i32_78
  let v198 : BitVec 32 := Scalar.extui v197
  let v199 : BitVec 32 := Scalar.subi v196 v198
  let c16_i32_76 : BitVec 32 := 16#32
  let c0_i32_79 : BitVec 32 := 0#32
  let v200 : BitVec 1 := Scalar.cmpi .sgt c16_i32_76 c0_i32_79
  let v201 : BitVec 32 := Scalar.extui v200
  let c0_i32_80 : BitVec 32 := 0#32
  let v202 : BitVec 1 := Scalar.cmpi .slt c16_i32_76 c0_i32_80
  let v203 : BitVec 32 := Scalar.extui v202
  let v204 : BitVec 32 := Scalar.subi v201 v203
  let v205 : BitVec 1 := Scalar.cmpi .ne v199 v204
  let v206 : BitVec 32 := Scalar.remsi v191 c16_i32_76
  let c0_i32_81 : BitVec 32 := 0#32
  let v207 : BitVec 1 := Scalar.cmpi .ne v206 c0_i32_81
  let v208 : BitVec 1 := Scalar.andi v205 v207
  let v194 : BitVec 32 := Scalar.divsi v191 c16_i32_76
  let c1_i32_82 : BitVec 32 := 1#32
  let v209 : BitVec 32 := Scalar.subi v194 c1_i32_82
  let v210 : BitVec 32 := Scalar.select v208 v209 v194
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v210 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t3
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v191 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk6 (i : grid0.Coords) (v25 : BitVec 32) (v191 : BitVec 32) : Prop :=
  (∀ k0_t3 : Fin k0_t3_loop.trips, ∀ (k0_h3 : k0_cond3 i v25 v191 = 1#1), ∀ a, (k0_off15 v191 k0_t3) a + S1x16.size a ≤ S128x512.size a) ∧
  (∀ k0_t3 : Fin k0_t3_loop.trips, ∀ (k0_h3 : k0_cond3 i v25 v191 = 1#1), ∀ a, (k0_off17 v191 k0_t3) a + S1x16.size a ≤ S128x512.size a)
theorem k0_off15_inb : ∀ (i : grid0.Coords) (v25 : BitVec 32) (v191 : BitVec 32) (k0_hw6 : k0_chk6 i v25 v191) (k0_t3 : Fin k0_t3_loop.trips), ∀ (k0_h3 : k0_cond3 i v25 v191 = 1#1), ∀ a, (k0_off15 v191 k0_t3) a + S1x16.size a ≤ S128x512.size a := fun i v25 v191 k0_hw6 k0_t3 k0_h3 => k0_hw6.1 k0_t3 k0_h3
theorem k0_off17_inb : ∀ (i : grid0.Coords) (v25 : BitVec 32) (v191 : BitVec 32) (k0_hw6 : k0_chk6 i v25 v191) (k0_t3 : Fin k0_t3_loop.trips), ∀ (k0_h3 : k0_cond3 i v25 v191 = 1#1), ∀ a, (k0_off17 v191 k0_t3) a + S1x16.size a ≤ S128x512.size a := fun i v25 v191 k0_hw6 k0_t3 k0_h3 => k0_hw6.2 k0_t3 k0_h3

def k0_off18 (i : grid0.Coords) (v236 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v236 c0_i32_1428
  let v3763 : BitVec 32 := Scalar.extui v3762
  let c0_i32_1429 : BitVec 32 := 0#32
  let v3764 : BitVec 1 := Scalar.cmpi .slt v236 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v236 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v236 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r7 : BitVec 32 := 0#32
  ![v3779.toNat, 0]
def k0_cond4 (i : grid0.Coords) (v25 : BitVec 32) (v234 : BitVec 32) : BitVec 1 :=
  let c3_i32_98 : BitVec 32 := 3#32
  let v254 : BitVec 1 := Scalar.cmpi .sgt v25 c3_i32_98
  let c0_i32_92 : BitVec 32 := 0#32
  let v238 : BitVec 1 := Scalar.cmpi .sgt v234 c0_i32_92
  let v239 : BitVec 32 := Scalar.extui v238
  let c0_i32_93 : BitVec 32 := 0#32
  let v240 : BitVec 1 := Scalar.cmpi .slt v234 c0_i32_93
  let v241 : BitVec 32 := Scalar.extui v240
  let v242 : BitVec 32 := Scalar.subi v239 v241
  let c16_i32_91 : BitVec 32 := 16#32
  let c0_i32_94 : BitVec 32 := 0#32
  let v243 : BitVec 1 := Scalar.cmpi .sgt c16_i32_91 c0_i32_94
  let v244 : BitVec 32 := Scalar.extui v243
  let c0_i32_95 : BitVec 32 := 0#32
  let v245 : BitVec 1 := Scalar.cmpi .slt c16_i32_91 c0_i32_95
  let v246 : BitVec 32 := Scalar.extui v245
  let v247 : BitVec 32 := Scalar.subi v244 v246
  let v248 : BitVec 1 := Scalar.cmpi .ne v242 v247
  let v249 : BitVec 32 := Scalar.remsi v234 c16_i32_91
  let c0_i32_96 : BitVec 32 := 0#32
  let v250 : BitVec 1 := Scalar.cmpi .ne v249 c0_i32_96
  let v251 : BitVec 1 := Scalar.andi v248 v250
  let v237 : BitVec 32 := Scalar.divsi v234 c16_i32_91
  let c1_i32_97 : BitVec 32 := 1#32
  let v252 : BitVec 32 := Scalar.subi v237 c1_i32_97
  let v253 : BitVec 32 := Scalar.select v251 v252 v237
  let c0_i32_100 : BitVec 32 := 0#32
  let v256 : BitVec 1 := Scalar.cmpi .sgt v253 c0_i32_100
  let v257 : BitVec 32 := Scalar.extui v256
  let c0_i32_101 : BitVec 32 := 0#32
  let v258 : BitVec 1 := Scalar.cmpi .slt v253 c0_i32_101
  let v259 : BitVec 32 := Scalar.extui v258
  let v260 : BitVec 32 := Scalar.subi v257 v259
  let c4_i32_99 : BitVec 32 := 4#32
  let c0_i32_102 : BitVec 32 := 0#32
  let v261 : BitVec 1 := Scalar.cmpi .sgt c4_i32_99 c0_i32_102
  let v262 : BitVec 32 := Scalar.extui v261
  let c0_i32_103 : BitVec 32 := 0#32
  let v263 : BitVec 1 := Scalar.cmpi .slt c4_i32_99 c0_i32_103
  let v264 : BitVec 32 := Scalar.extui v263
  let v265 : BitVec 32 := Scalar.subi v262 v264
  let v266 : BitVec 1 := Scalar.cmpi .ne v260 v265
  let v267 : BitVec 32 := Scalar.remsi v253 c4_i32_99
  let c0_i32_104 : BitVec 32 := 0#32
  let v268 : BitVec 1 := Scalar.cmpi .ne v267 c0_i32_104
  let v269 : BitVec 1 := Scalar.andi v266 v268
  let v255 : BitVec 32 := Scalar.divsi v253 c4_i32_99
  let c1_i32_105 : BitVec 32 := 1#32
  let v270 : BitVec 32 := Scalar.subi v255 c1_i32_105
  let v271 : BitVec 32 := Scalar.select v269 v270 v255
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v272 : BitVec 1 := Scalar.cmpi .eq v271 v103
  let v273 : BitVec 1 := Scalar.andi v254 v272
  let v274 : BitVec 32 := Scalar.extui v273
  let c0_i32_106 : BitVec 32 := 0#32
  let v275 : BitVec 1 := Scalar.cmpi .ne v274 c0_i32_106
  v275

@[reducible] def k0_t4_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off19 (v236 : BitVec 32) (k0_t4 : Fin k0_t4_loop.trips) : Fin 2 → Nat :=
  let c0_i32_1453 : BitVec 32 := 0#32
  let c1_i32_1455 : BitVec 32 := 1#32
  let arg19 : BitVec 32 := Scf.iv c0_i32_1453 c1_i32_1455 k0_t4
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v236 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off20 (v234 : BitVec 32) (k0_t4 : Fin k0_t4_loop.trips) : Fin 2 → Nat :=
  let c0_i32_92 : BitVec 32 := 0#32
  let v238 : BitVec 1 := Scalar.cmpi .sgt v234 c0_i32_92
  let v239 : BitVec 32 := Scalar.extui v238
  let c0_i32_93 : BitVec 32 := 0#32
  let v240 : BitVec 1 := Scalar.cmpi .slt v234 c0_i32_93
  let v241 : BitVec 32 := Scalar.extui v240
  let v242 : BitVec 32 := Scalar.subi v239 v241
  let c16_i32_91 : BitVec 32 := 16#32
  let c0_i32_94 : BitVec 32 := 0#32
  let v243 : BitVec 1 := Scalar.cmpi .sgt c16_i32_91 c0_i32_94
  let v244 : BitVec 32 := Scalar.extui v243
  let c0_i32_95 : BitVec 32 := 0#32
  let v245 : BitVec 1 := Scalar.cmpi .slt c16_i32_91 c0_i32_95
  let v246 : BitVec 32 := Scalar.extui v245
  let v247 : BitVec 32 := Scalar.subi v244 v246
  let v248 : BitVec 1 := Scalar.cmpi .ne v242 v247
  let v249 : BitVec 32 := Scalar.remsi v234 c16_i32_91
  let c0_i32_96 : BitVec 32 := 0#32
  let v250 : BitVec 1 := Scalar.cmpi .ne v249 c0_i32_96
  let v251 : BitVec 1 := Scalar.andi v248 v250
  let v237 : BitVec 32 := Scalar.divsi v234 c16_i32_91
  let c1_i32_97 : BitVec 32 := 1#32
  let v252 : BitVec 32 := Scalar.subi v237 c1_i32_97
  let v253 : BitVec 32 := Scalar.select v251 v252 v237
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v253 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t4
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v234 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off21 (v236 : BitVec 32) (k0_t4 : Fin k0_t4_loop.trips) : Fin 2 → Nat :=
  let c0_i32_1453 : BitVec 32 := 0#32
  let c1_i32_1455 : BitVec 32 := 1#32
  let arg19 : BitVec 32 := Scf.iv c0_i32_1453 c1_i32_1455 k0_t4
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v236 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk7 (i : grid0.Coords) (v25 : BitVec 32) (v234 : BitVec 32) (v236 : BitVec 32) : Prop :=
  (∀ (k0_h4 : k0_cond4 i v25 v234 = 1#1), ∀ a, (k0_off18 i v236) a + S32x512.size a ≤ S12288x512.size a) ∧
  (∀ k0_t4 : Fin k0_t4_loop.trips, ∀ (k0_h4 : k0_cond4 i v25 v234 = 1#1), ∀ a, (k0_off19 v236 k0_t4) a + S1x16.size a ≤ S32x512.size a) ∧
  (∀ k0_t4 : Fin k0_t4_loop.trips, ∀ (k0_h4 : k0_cond4 i v25 v234 = 1#1), ∀ a, (k0_off21 v236 k0_t4) a + S1x16.size a ≤ S32x512.size a)
theorem k0_off18_inb : ∀ (i : grid0.Coords) (v25 : BitVec 32) (v234 : BitVec 32) (v236 : BitVec 32) (k0_hw7 : k0_chk7 i v25 v234 v236), ∀ (k0_h4 : k0_cond4 i v25 v234 = 1#1), ∀ a, (k0_off18 i v236) a + S32x512.size a ≤ S12288x512.size a := fun i v25 v234 v236 k0_hw7 k0_h4 => k0_hw7.1 k0_h4
theorem k0_off19_inb : ∀ (i : grid0.Coords) (v25 : BitVec 32) (v234 : BitVec 32) (v236 : BitVec 32) (k0_hw7 : k0_chk7 i v25 v234 v236) (k0_t4 : Fin k0_t4_loop.trips), ∀ (k0_h4 : k0_cond4 i v25 v234 = 1#1), ∀ a, (k0_off19 v236 k0_t4) a + S1x16.size a ≤ S32x512.size a := fun i v25 v234 v236 k0_hw7 k0_t4 k0_h4 => k0_hw7.2.1 k0_t4 k0_h4
theorem k0_off21_inb : ∀ (i : grid0.Coords) (v25 : BitVec 32) (v234 : BitVec 32) (v236 : BitVec 32) (k0_hw7 : k0_chk7 i v25 v234 v236) (k0_t4 : Fin k0_t4_loop.trips), ∀ (k0_h4 : k0_cond4 i v25 v234 = 1#1), ∀ a, (k0_off21 v236 k0_t4) a + S1x16.size a ≤ S32x512.size a := fun i v25 v234 v236 k0_hw7 k0_t4 k0_h4 => k0_hw7.2.2 k0_t4 k0_h4

def k0_off22 (v234 : BitVec 32) (k0_t4 : Fin k0_t4_loop.trips) : Fin 2 → Nat :=
  let c0_i32_92 : BitVec 32 := 0#32
  let v238 : BitVec 1 := Scalar.cmpi .sgt v234 c0_i32_92
  let v239 : BitVec 32 := Scalar.extui v238
  let c0_i32_93 : BitVec 32 := 0#32
  let v240 : BitVec 1 := Scalar.cmpi .slt v234 c0_i32_93
  let v241 : BitVec 32 := Scalar.extui v240
  let v242 : BitVec 32 := Scalar.subi v239 v241
  let c16_i32_91 : BitVec 32 := 16#32
  let c0_i32_94 : BitVec 32 := 0#32
  let v243 : BitVec 1 := Scalar.cmpi .sgt c16_i32_91 c0_i32_94
  let v244 : BitVec 32 := Scalar.extui v243
  let c0_i32_95 : BitVec 32 := 0#32
  let v245 : BitVec 1 := Scalar.cmpi .slt c16_i32_91 c0_i32_95
  let v246 : BitVec 32 := Scalar.extui v245
  let v247 : BitVec 32 := Scalar.subi v244 v246
  let v248 : BitVec 1 := Scalar.cmpi .ne v242 v247
  let v249 : BitVec 32 := Scalar.remsi v234 c16_i32_91
  let c0_i32_96 : BitVec 32 := 0#32
  let v250 : BitVec 1 := Scalar.cmpi .ne v249 c0_i32_96
  let v251 : BitVec 1 := Scalar.andi v248 v250
  let v237 : BitVec 32 := Scalar.divsi v234 c16_i32_91
  let c1_i32_97 : BitVec 32 := 1#32
  let v252 : BitVec 32 := Scalar.subi v237 c1_i32_97
  let v253 : BitVec 32 := Scalar.select v251 v252 v237
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v253 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t4
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v234 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk8 (i : grid0.Coords) (v25 : BitVec 32) (v234 : BitVec 32) : Prop :=
  (∀ k0_t4 : Fin k0_t4_loop.trips, ∀ (k0_h4 : k0_cond4 i v25 v234 = 1#1), ∀ a, (k0_off20 v234 k0_t4) a + S1x16.size a ≤ S128x512.size a) ∧
  (∀ k0_t4 : Fin k0_t4_loop.trips, ∀ (k0_h4 : k0_cond4 i v25 v234 = 1#1), ∀ a, (k0_off22 v234 k0_t4) a + S1x16.size a ≤ S128x512.size a)
theorem k0_off20_inb : ∀ (i : grid0.Coords) (v25 : BitVec 32) (v234 : BitVec 32) (k0_hw8 : k0_chk8 i v25 v234) (k0_t4 : Fin k0_t4_loop.trips), ∀ (k0_h4 : k0_cond4 i v25 v234 = 1#1), ∀ a, (k0_off20 v234 k0_t4) a + S1x16.size a ≤ S128x512.size a := fun i v25 v234 k0_hw8 k0_t4 k0_h4 => k0_hw8.1 k0_t4 k0_h4
theorem k0_off22_inb : ∀ (i : grid0.Coords) (v25 : BitVec 32) (v234 : BitVec 32) (k0_hw8 : k0_chk8 i v25 v234) (k0_t4 : Fin k0_t4_loop.trips), ∀ (k0_h4 : k0_cond4 i v25 v234 = 1#1), ∀ a, (k0_off22 v234 k0_t4) a + S1x16.size a ≤ S128x512.size a := fun i v25 v234 k0_hw8 k0_t4 k0_h4 => k0_hw8.2 k0_t4 k0_h4

def k0_off23 (i : grid0.Coords) (v279 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v279 c0_i32_1428
  let v3763 : BitVec 32 := Scalar.extui v3762
  let c0_i32_1429 : BitVec 32 := 0#32
  let v3764 : BitVec 1 := Scalar.cmpi .slt v279 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v279 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v279 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r8 : BitVec 32 := 0#32
  ![v3779.toNat, 0]
def k0_cond5 (i : grid0.Coords) (v25 : BitVec 32) (v277 : BitVec 32) : BitVec 1 :=
  let c4_i32_114 : BitVec 32 := 4#32
  let v297 : BitVec 1 := Scalar.cmpi .sgt v25 c4_i32_114
  let c0_i32_108 : BitVec 32 := 0#32
  let v281 : BitVec 1 := Scalar.cmpi .sgt v277 c0_i32_108
  let v282 : BitVec 32 := Scalar.extui v281
  let c0_i32_109 : BitVec 32 := 0#32
  let v283 : BitVec 1 := Scalar.cmpi .slt v277 c0_i32_109
  let v284 : BitVec 32 := Scalar.extui v283
  let v285 : BitVec 32 := Scalar.subi v282 v284
  let c16_i32_107 : BitVec 32 := 16#32
  let c0_i32_110 : BitVec 32 := 0#32
  let v286 : BitVec 1 := Scalar.cmpi .sgt c16_i32_107 c0_i32_110
  let v287 : BitVec 32 := Scalar.extui v286
  let c0_i32_111 : BitVec 32 := 0#32
  let v288 : BitVec 1 := Scalar.cmpi .slt c16_i32_107 c0_i32_111
  let v289 : BitVec 32 := Scalar.extui v288
  let v290 : BitVec 32 := Scalar.subi v287 v289
  let v291 : BitVec 1 := Scalar.cmpi .ne v285 v290
  let v292 : BitVec 32 := Scalar.remsi v277 c16_i32_107
  let c0_i32_112 : BitVec 32 := 0#32
  let v293 : BitVec 1 := Scalar.cmpi .ne v292 c0_i32_112
  let v294 : BitVec 1 := Scalar.andi v291 v293
  let v280 : BitVec 32 := Scalar.divsi v277 c16_i32_107
  let c1_i32_113 : BitVec 32 := 1#32
  let v295 : BitVec 32 := Scalar.subi v280 c1_i32_113
  let v296 : BitVec 32 := Scalar.select v294 v295 v280
  let c0_i32_116 : BitVec 32 := 0#32
  let v299 : BitVec 1 := Scalar.cmpi .sgt v296 c0_i32_116
  let v300 : BitVec 32 := Scalar.extui v299
  let c0_i32_117 : BitVec 32 := 0#32
  let v301 : BitVec 1 := Scalar.cmpi .slt v296 c0_i32_117
  let v302 : BitVec 32 := Scalar.extui v301
  let v303 : BitVec 32 := Scalar.subi v300 v302
  let c4_i32_115 : BitVec 32 := 4#32
  let c0_i32_118 : BitVec 32 := 0#32
  let v304 : BitVec 1 := Scalar.cmpi .sgt c4_i32_115 c0_i32_118
  let v305 : BitVec 32 := Scalar.extui v304
  let c0_i32_119 : BitVec 32 := 0#32
  let v306 : BitVec 1 := Scalar.cmpi .slt c4_i32_115 c0_i32_119
  let v307 : BitVec 32 := Scalar.extui v306
  let v308 : BitVec 32 := Scalar.subi v305 v307
  let v309 : BitVec 1 := Scalar.cmpi .ne v303 v308
  let v310 : BitVec 32 := Scalar.remsi v296 c4_i32_115
  let c0_i32_120 : BitVec 32 := 0#32
  let v311 : BitVec 1 := Scalar.cmpi .ne v310 c0_i32_120
  let v312 : BitVec 1 := Scalar.andi v309 v311
  let v298 : BitVec 32 := Scalar.divsi v296 c4_i32_115
  let c1_i32_121 : BitVec 32 := 1#32
  let v313 : BitVec 32 := Scalar.subi v298 c1_i32_121
  let v314 : BitVec 32 := Scalar.select v312 v313 v298
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v315 : BitVec 1 := Scalar.cmpi .eq v314 v103
  let v316 : BitVec 1 := Scalar.andi v297 v315
  let v317 : BitVec 32 := Scalar.extui v316
  let c0_i32_122 : BitVec 32 := 0#32
  let v318 : BitVec 1 := Scalar.cmpi .ne v317 c0_i32_122
  v318

@[reducible] def k0_t5_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off24 (v279 : BitVec 32) (k0_t5 : Fin k0_t5_loop.trips) : Fin 2 → Nat :=
  let c0_i32_1453 : BitVec 32 := 0#32
  let c1_i32_1455 : BitVec 32 := 1#32
  let arg19 : BitVec 32 := Scf.iv c0_i32_1453 c1_i32_1455 k0_t5
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v279 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off25 (v277 : BitVec 32) (k0_t5 : Fin k0_t5_loop.trips) : Fin 2 → Nat :=
  let c0_i32_108 : BitVec 32 := 0#32
  let v281 : BitVec 1 := Scalar.cmpi .sgt v277 c0_i32_108
  let v282 : BitVec 32 := Scalar.extui v281
  let c0_i32_109 : BitVec 32 := 0#32
  let v283 : BitVec 1 := Scalar.cmpi .slt v277 c0_i32_109
  let v284 : BitVec 32 := Scalar.extui v283
  let v285 : BitVec 32 := Scalar.subi v282 v284
  let c16_i32_107 : BitVec 32 := 16#32
  let c0_i32_110 : BitVec 32 := 0#32
  let v286 : BitVec 1 := Scalar.cmpi .sgt c16_i32_107 c0_i32_110
  let v287 : BitVec 32 := Scalar.extui v286
  let c0_i32_111 : BitVec 32 := 0#32
  let v288 : BitVec 1 := Scalar.cmpi .slt c16_i32_107 c0_i32_111
  let v289 : BitVec 32 := Scalar.extui v288
  let v290 : BitVec 32 := Scalar.subi v287 v289
  let v291 : BitVec 1 := Scalar.cmpi .ne v285 v290
  let v292 : BitVec 32 := Scalar.remsi v277 c16_i32_107
  let c0_i32_112 : BitVec 32 := 0#32
  let v293 : BitVec 1 := Scalar.cmpi .ne v292 c0_i32_112
  let v294 : BitVec 1 := Scalar.andi v291 v293
  let v280 : BitVec 32 := Scalar.divsi v277 c16_i32_107
  let c1_i32_113 : BitVec 32 := 1#32
  let v295 : BitVec 32 := Scalar.subi v280 c1_i32_113
  let v296 : BitVec 32 := Scalar.select v294 v295 v280
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v296 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t5
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v277 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off26 (v279 : BitVec 32) (k0_t5 : Fin k0_t5_loop.trips) : Fin 2 → Nat :=
  let c0_i32_1453 : BitVec 32 := 0#32
  let c1_i32_1455 : BitVec 32 := 1#32
  let arg19 : BitVec 32 := Scf.iv c0_i32_1453 c1_i32_1455 k0_t5
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v279 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk9 (i : grid0.Coords) (v25 : BitVec 32) (v277 : BitVec 32) (v279 : BitVec 32) : Prop :=
  (∀ (k0_h5 : k0_cond5 i v25 v277 = 1#1), ∀ a, (k0_off23 i v279) a + S32x512.size a ≤ S12288x512.size a) ∧
  (∀ k0_t5 : Fin k0_t5_loop.trips, ∀ (k0_h5 : k0_cond5 i v25 v277 = 1#1), ∀ a, (k0_off24 v279 k0_t5) a + S1x16.size a ≤ S32x512.size a) ∧
  (∀ k0_t5 : Fin k0_t5_loop.trips, ∀ (k0_h5 : k0_cond5 i v25 v277 = 1#1), ∀ a, (k0_off26 v279 k0_t5) a + S1x16.size a ≤ S32x512.size a)
theorem k0_off23_inb : ∀ (i : grid0.Coords) (v25 : BitVec 32) (v277 : BitVec 32) (v279 : BitVec 32) (k0_hw9 : k0_chk9 i v25 v277 v279), ∀ (k0_h5 : k0_cond5 i v25 v277 = 1#1), ∀ a, (k0_off23 i v279) a + S32x512.size a ≤ S12288x512.size a := fun i v25 v277 v279 k0_hw9 k0_h5 => k0_hw9.1 k0_h5
theorem k0_off24_inb : ∀ (i : grid0.Coords) (v25 : BitVec 32) (v277 : BitVec 32) (v279 : BitVec 32) (k0_hw9 : k0_chk9 i v25 v277 v279) (k0_t5 : Fin k0_t5_loop.trips), ∀ (k0_h5 : k0_cond5 i v25 v277 = 1#1), ∀ a, (k0_off24 v279 k0_t5) a + S1x16.size a ≤ S32x512.size a := fun i v25 v277 v279 k0_hw9 k0_t5 k0_h5 => k0_hw9.2.1 k0_t5 k0_h5
theorem k0_off26_inb : ∀ (i : grid0.Coords) (v25 : BitVec 32) (v277 : BitVec 32) (v279 : BitVec 32) (k0_hw9 : k0_chk9 i v25 v277 v279) (k0_t5 : Fin k0_t5_loop.trips), ∀ (k0_h5 : k0_cond5 i v25 v277 = 1#1), ∀ a, (k0_off26 v279 k0_t5) a + S1x16.size a ≤ S32x512.size a := fun i v25 v277 v279 k0_hw9 k0_t5 k0_h5 => k0_hw9.2.2 k0_t5 k0_h5

def k0_off27 (v277 : BitVec 32) (k0_t5 : Fin k0_t5_loop.trips) : Fin 2 → Nat :=
  let c0_i32_108 : BitVec 32 := 0#32
  let v281 : BitVec 1 := Scalar.cmpi .sgt v277 c0_i32_108
  let v282 : BitVec 32 := Scalar.extui v281
  let c0_i32_109 : BitVec 32 := 0#32
  let v283 : BitVec 1 := Scalar.cmpi .slt v277 c0_i32_109
  let v284 : BitVec 32 := Scalar.extui v283
  let v285 : BitVec 32 := Scalar.subi v282 v284
  let c16_i32_107 : BitVec 32 := 16#32
  let c0_i32_110 : BitVec 32 := 0#32
  let v286 : BitVec 1 := Scalar.cmpi .sgt c16_i32_107 c0_i32_110
  let v287 : BitVec 32 := Scalar.extui v286
  let c0_i32_111 : BitVec 32 := 0#32
  let v288 : BitVec 1 := Scalar.cmpi .slt c16_i32_107 c0_i32_111
  let v289 : BitVec 32 := Scalar.extui v288
  let v290 : BitVec 32 := Scalar.subi v287 v289
  let v291 : BitVec 1 := Scalar.cmpi .ne v285 v290
  let v292 : BitVec 32 := Scalar.remsi v277 c16_i32_107
  let c0_i32_112 : BitVec 32 := 0#32
  let v293 : BitVec 1 := Scalar.cmpi .ne v292 c0_i32_112
  let v294 : BitVec 1 := Scalar.andi v291 v293
  let v280 : BitVec 32 := Scalar.divsi v277 c16_i32_107
  let c1_i32_113 : BitVec 32 := 1#32
  let v295 : BitVec 32 := Scalar.subi v280 c1_i32_113
  let v296 : BitVec 32 := Scalar.select v294 v295 v280
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v296 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t5
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v277 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk10 (i : grid0.Coords) (v25 : BitVec 32) (v277 : BitVec 32) : Prop :=
  (∀ k0_t5 : Fin k0_t5_loop.trips, ∀ (k0_h5 : k0_cond5 i v25 v277 = 1#1), ∀ a, (k0_off25 v277 k0_t5) a + S1x16.size a ≤ S128x512.size a) ∧
  (∀ k0_t5 : Fin k0_t5_loop.trips, ∀ (k0_h5 : k0_cond5 i v25 v277 = 1#1), ∀ a, (k0_off27 v277 k0_t5) a + S1x16.size a ≤ S128x512.size a)
theorem k0_off25_inb : ∀ (i : grid0.Coords) (v25 : BitVec 32) (v277 : BitVec 32) (k0_hw10 : k0_chk10 i v25 v277) (k0_t5 : Fin k0_t5_loop.trips), ∀ (k0_h5 : k0_cond5 i v25 v277 = 1#1), ∀ a, (k0_off25 v277 k0_t5) a + S1x16.size a ≤ S128x512.size a := fun i v25 v277 k0_hw10 k0_t5 k0_h5 => k0_hw10.1 k0_t5 k0_h5
theorem k0_off27_inb : ∀ (i : grid0.Coords) (v25 : BitVec 32) (v277 : BitVec 32) (k0_hw10 : k0_chk10 i v25 v277) (k0_t5 : Fin k0_t5_loop.trips), ∀ (k0_h5 : k0_cond5 i v25 v277 = 1#1), ∀ a, (k0_off27 v277 k0_t5) a + S1x16.size a ≤ S128x512.size a := fun i v25 v277 k0_hw10 k0_t5 k0_h5 => k0_hw10.2 k0_t5 k0_h5

def k0_off28 (i : grid0.Coords) (v322 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v322 c0_i32_1428
  let v3763 : BitVec 32 := Scalar.extui v3762
  let c0_i32_1429 : BitVec 32 := 0#32
  let v3764 : BitVec 1 := Scalar.cmpi .slt v322 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v322 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v322 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r9 : BitVec 32 := 0#32
  ![v3779.toNat, 0]
def k0_cond6 (i : grid0.Coords) (v25 : BitVec 32) (v320 : BitVec 32) : BitVec 1 :=
  let c5_i32 : BitVec 32 := 5#32
  let v340 : BitVec 1 := Scalar.cmpi .sgt v25 c5_i32
  let c0_i32_124 : BitVec 32 := 0#32
  let v324 : BitVec 1 := Scalar.cmpi .sgt v320 c0_i32_124
  let v325 : BitVec 32 := Scalar.extui v324
  let c0_i32_125 : BitVec 32 := 0#32
  let v326 : BitVec 1 := Scalar.cmpi .slt v320 c0_i32_125
  let v327 : BitVec 32 := Scalar.extui v326
  let v328 : BitVec 32 := Scalar.subi v325 v327
  let c16_i32_123 : BitVec 32 := 16#32
  let c0_i32_126 : BitVec 32 := 0#32
  let v329 : BitVec 1 := Scalar.cmpi .sgt c16_i32_123 c0_i32_126
  let v330 : BitVec 32 := Scalar.extui v329
  let c0_i32_127 : BitVec 32 := 0#32
  let v331 : BitVec 1 := Scalar.cmpi .slt c16_i32_123 c0_i32_127
  let v332 : BitVec 32 := Scalar.extui v331
  let v333 : BitVec 32 := Scalar.subi v330 v332
  let v334 : BitVec 1 := Scalar.cmpi .ne v328 v333
  let v335 : BitVec 32 := Scalar.remsi v320 c16_i32_123
  let c0_i32_128 : BitVec 32 := 0#32
  let v336 : BitVec 1 := Scalar.cmpi .ne v335 c0_i32_128
  let v337 : BitVec 1 := Scalar.andi v334 v336
  let v323 : BitVec 32 := Scalar.divsi v320 c16_i32_123
  let c1_i32_129 : BitVec 32 := 1#32
  let v338 : BitVec 32 := Scalar.subi v323 c1_i32_129
  let v339 : BitVec 32 := Scalar.select v337 v338 v323
  let c0_i32_131 : BitVec 32 := 0#32
  let v342 : BitVec 1 := Scalar.cmpi .sgt v339 c0_i32_131
  let v343 : BitVec 32 := Scalar.extui v342
  let c0_i32_132 : BitVec 32 := 0#32
  let v344 : BitVec 1 := Scalar.cmpi .slt v339 c0_i32_132
  let v345 : BitVec 32 := Scalar.extui v344
  let v346 : BitVec 32 := Scalar.subi v343 v345
  let c4_i32_130 : BitVec 32 := 4#32
  let c0_i32_133 : BitVec 32 := 0#32
  let v347 : BitVec 1 := Scalar.cmpi .sgt c4_i32_130 c0_i32_133
  let v348 : BitVec 32 := Scalar.extui v347
  let c0_i32_134 : BitVec 32 := 0#32
  let v349 : BitVec 1 := Scalar.cmpi .slt c4_i32_130 c0_i32_134
  let v350 : BitVec 32 := Scalar.extui v349
  let v351 : BitVec 32 := Scalar.subi v348 v350
  let v352 : BitVec 1 := Scalar.cmpi .ne v346 v351
  let v353 : BitVec 32 := Scalar.remsi v339 c4_i32_130
  let c0_i32_135 : BitVec 32 := 0#32
  let v354 : BitVec 1 := Scalar.cmpi .ne v353 c0_i32_135
  let v355 : BitVec 1 := Scalar.andi v352 v354
  let v341 : BitVec 32 := Scalar.divsi v339 c4_i32_130
  let c1_i32_136 : BitVec 32 := 1#32
  let v356 : BitVec 32 := Scalar.subi v341 c1_i32_136
  let v357 : BitVec 32 := Scalar.select v355 v356 v341
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v358 : BitVec 1 := Scalar.cmpi .eq v357 v103
  let v359 : BitVec 1 := Scalar.andi v340 v358
  let v360 : BitVec 32 := Scalar.extui v359
  let c0_i32_137 : BitVec 32 := 0#32
  let v361 : BitVec 1 := Scalar.cmpi .ne v360 c0_i32_137
  v361

@[reducible] def k0_t6_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off29 (v322 : BitVec 32) (k0_t6 : Fin k0_t6_loop.trips) : Fin 2 → Nat :=
  let c0_i32_1453 : BitVec 32 := 0#32
  let c1_i32_1455 : BitVec 32 := 1#32
  let arg19 : BitVec 32 := Scf.iv c0_i32_1453 c1_i32_1455 k0_t6
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v322 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off30 (v320 : BitVec 32) (k0_t6 : Fin k0_t6_loop.trips) : Fin 2 → Nat :=
  let c0_i32_124 : BitVec 32 := 0#32
  let v324 : BitVec 1 := Scalar.cmpi .sgt v320 c0_i32_124
  let v325 : BitVec 32 := Scalar.extui v324
  let c0_i32_125 : BitVec 32 := 0#32
  let v326 : BitVec 1 := Scalar.cmpi .slt v320 c0_i32_125
  let v327 : BitVec 32 := Scalar.extui v326
  let v328 : BitVec 32 := Scalar.subi v325 v327
  let c16_i32_123 : BitVec 32 := 16#32
  let c0_i32_126 : BitVec 32 := 0#32
  let v329 : BitVec 1 := Scalar.cmpi .sgt c16_i32_123 c0_i32_126
  let v330 : BitVec 32 := Scalar.extui v329
  let c0_i32_127 : BitVec 32 := 0#32
  let v331 : BitVec 1 := Scalar.cmpi .slt c16_i32_123 c0_i32_127
  let v332 : BitVec 32 := Scalar.extui v331
  let v333 : BitVec 32 := Scalar.subi v330 v332
  let v334 : BitVec 1 := Scalar.cmpi .ne v328 v333
  let v335 : BitVec 32 := Scalar.remsi v320 c16_i32_123
  let c0_i32_128 : BitVec 32 := 0#32
  let v336 : BitVec 1 := Scalar.cmpi .ne v335 c0_i32_128
  let v337 : BitVec 1 := Scalar.andi v334 v336
  let v323 : BitVec 32 := Scalar.divsi v320 c16_i32_123
  let c1_i32_129 : BitVec 32 := 1#32
  let v338 : BitVec 32 := Scalar.subi v323 c1_i32_129
  let v339 : BitVec 32 := Scalar.select v337 v338 v323
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v339 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t6
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v320 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off31 (v322 : BitVec 32) (k0_t6 : Fin k0_t6_loop.trips) : Fin 2 → Nat :=
  let c0_i32_1453 : BitVec 32 := 0#32
  let c1_i32_1455 : BitVec 32 := 1#32
  let arg19 : BitVec 32 := Scf.iv c0_i32_1453 c1_i32_1455 k0_t6
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v322 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk11 (i : grid0.Coords) (v25 : BitVec 32) (v320 : BitVec 32) (v322 : BitVec 32) : Prop :=
  (∀ (k0_h6 : k0_cond6 i v25 v320 = 1#1), ∀ a, (k0_off28 i v322) a + S32x512.size a ≤ S12288x512.size a) ∧
  (∀ k0_t6 : Fin k0_t6_loop.trips, ∀ (k0_h6 : k0_cond6 i v25 v320 = 1#1), ∀ a, (k0_off29 v322 k0_t6) a + S1x16.size a ≤ S32x512.size a) ∧
  (∀ k0_t6 : Fin k0_t6_loop.trips, ∀ (k0_h6 : k0_cond6 i v25 v320 = 1#1), ∀ a, (k0_off31 v322 k0_t6) a + S1x16.size a ≤ S32x512.size a)
theorem k0_off28_inb : ∀ (i : grid0.Coords) (v25 : BitVec 32) (v320 : BitVec 32) (v322 : BitVec 32) (k0_hw11 : k0_chk11 i v25 v320 v322), ∀ (k0_h6 : k0_cond6 i v25 v320 = 1#1), ∀ a, (k0_off28 i v322) a + S32x512.size a ≤ S12288x512.size a := fun i v25 v320 v322 k0_hw11 k0_h6 => k0_hw11.1 k0_h6
theorem k0_off29_inb : ∀ (i : grid0.Coords) (v25 : BitVec 32) (v320 : BitVec 32) (v322 : BitVec 32) (k0_hw11 : k0_chk11 i v25 v320 v322) (k0_t6 : Fin k0_t6_loop.trips), ∀ (k0_h6 : k0_cond6 i v25 v320 = 1#1), ∀ a, (k0_off29 v322 k0_t6) a + S1x16.size a ≤ S32x512.size a := fun i v25 v320 v322 k0_hw11 k0_t6 k0_h6 => k0_hw11.2.1 k0_t6 k0_h6
theorem k0_off31_inb : ∀ (i : grid0.Coords) (v25 : BitVec 32) (v320 : BitVec 32) (v322 : BitVec 32) (k0_hw11 : k0_chk11 i v25 v320 v322) (k0_t6 : Fin k0_t6_loop.trips), ∀ (k0_h6 : k0_cond6 i v25 v320 = 1#1), ∀ a, (k0_off31 v322 k0_t6) a + S1x16.size a ≤ S32x512.size a := fun i v25 v320 v322 k0_hw11 k0_t6 k0_h6 => k0_hw11.2.2 k0_t6 k0_h6

def k0_off32 (v320 : BitVec 32) (k0_t6 : Fin k0_t6_loop.trips) : Fin 2 → Nat :=
  let c0_i32_124 : BitVec 32 := 0#32
  let v324 : BitVec 1 := Scalar.cmpi .sgt v320 c0_i32_124
  let v325 : BitVec 32 := Scalar.extui v324
  let c0_i32_125 : BitVec 32 := 0#32
  let v326 : BitVec 1 := Scalar.cmpi .slt v320 c0_i32_125
  let v327 : BitVec 32 := Scalar.extui v326
  let v328 : BitVec 32 := Scalar.subi v325 v327
  let c16_i32_123 : BitVec 32 := 16#32
  let c0_i32_126 : BitVec 32 := 0#32
  let v329 : BitVec 1 := Scalar.cmpi .sgt c16_i32_123 c0_i32_126
  let v330 : BitVec 32 := Scalar.extui v329
  let c0_i32_127 : BitVec 32 := 0#32
  let v331 : BitVec 1 := Scalar.cmpi .slt c16_i32_123 c0_i32_127
  let v332 : BitVec 32 := Scalar.extui v331
  let v333 : BitVec 32 := Scalar.subi v330 v332
  let v334 : BitVec 1 := Scalar.cmpi .ne v328 v333
  let v335 : BitVec 32 := Scalar.remsi v320 c16_i32_123
  let c0_i32_128 : BitVec 32 := 0#32
  let v336 : BitVec 1 := Scalar.cmpi .ne v335 c0_i32_128
  let v337 : BitVec 1 := Scalar.andi v334 v336
  let v323 : BitVec 32 := Scalar.divsi v320 c16_i32_123
  let c1_i32_129 : BitVec 32 := 1#32
  let v338 : BitVec 32 := Scalar.subi v323 c1_i32_129
  let v339 : BitVec 32 := Scalar.select v337 v338 v323
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v339 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t6
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v320 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk12 (i : grid0.Coords) (v25 : BitVec 32) (v320 : BitVec 32) : Prop :=
  (∀ k0_t6 : Fin k0_t6_loop.trips, ∀ (k0_h6 : k0_cond6 i v25 v320 = 1#1), ∀ a, (k0_off30 v320 k0_t6) a + S1x16.size a ≤ S128x512.size a) ∧
  (∀ k0_t6 : Fin k0_t6_loop.trips, ∀ (k0_h6 : k0_cond6 i v25 v320 = 1#1), ∀ a, (k0_off32 v320 k0_t6) a + S1x16.size a ≤ S128x512.size a)
theorem k0_off30_inb : ∀ (i : grid0.Coords) (v25 : BitVec 32) (v320 : BitVec 32) (k0_hw12 : k0_chk12 i v25 v320) (k0_t6 : Fin k0_t6_loop.trips), ∀ (k0_h6 : k0_cond6 i v25 v320 = 1#1), ∀ a, (k0_off30 v320 k0_t6) a + S1x16.size a ≤ S128x512.size a := fun i v25 v320 k0_hw12 k0_t6 k0_h6 => k0_hw12.1 k0_t6 k0_h6
theorem k0_off32_inb : ∀ (i : grid0.Coords) (v25 : BitVec 32) (v320 : BitVec 32) (k0_hw12 : k0_chk12 i v25 v320) (k0_t6 : Fin k0_t6_loop.trips), ∀ (k0_h6 : k0_cond6 i v25 v320 = 1#1), ∀ a, (k0_off32 v320 k0_t6) a + S1x16.size a ≤ S128x512.size a := fun i v25 v320 k0_hw12 k0_t6 k0_h6 => k0_hw12.2 k0_t6 k0_h6

def k0_off33 (i : grid0.Coords) (v365 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v365 c0_i32_1428
  let v3763 : BitVec 32 := Scalar.extui v3762
  let c0_i32_1429 : BitVec 32 := 0#32
  let v3764 : BitVec 1 := Scalar.cmpi .slt v365 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v365 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v365 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r10 : BitVec 32 := 0#32
  ![v3779.toNat, 0]
def k0_cond7 (i : grid0.Coords) (v25 : BitVec 32) (v363 : BitVec 32) : BitVec 1 :=
  let c6_i32 : BitVec 32 := 6#32
  let v383 : BitVec 1 := Scalar.cmpi .sgt v25 c6_i32
  let c0_i32_139 : BitVec 32 := 0#32
  let v367 : BitVec 1 := Scalar.cmpi .sgt v363 c0_i32_139
  let v368 : BitVec 32 := Scalar.extui v367
  let c0_i32_140 : BitVec 32 := 0#32
  let v369 : BitVec 1 := Scalar.cmpi .slt v363 c0_i32_140
  let v370 : BitVec 32 := Scalar.extui v369
  let v371 : BitVec 32 := Scalar.subi v368 v370
  let c16_i32_138 : BitVec 32 := 16#32
  let c0_i32_141 : BitVec 32 := 0#32
  let v372 : BitVec 1 := Scalar.cmpi .sgt c16_i32_138 c0_i32_141
  let v373 : BitVec 32 := Scalar.extui v372
  let c0_i32_142 : BitVec 32 := 0#32
  let v374 : BitVec 1 := Scalar.cmpi .slt c16_i32_138 c0_i32_142
  let v375 : BitVec 32 := Scalar.extui v374
  let v376 : BitVec 32 := Scalar.subi v373 v375
  let v377 : BitVec 1 := Scalar.cmpi .ne v371 v376
  let v378 : BitVec 32 := Scalar.remsi v363 c16_i32_138
  let c0_i32_143 : BitVec 32 := 0#32
  let v379 : BitVec 1 := Scalar.cmpi .ne v378 c0_i32_143
  let v380 : BitVec 1 := Scalar.andi v377 v379
  let v366 : BitVec 32 := Scalar.divsi v363 c16_i32_138
  let c1_i32_144 : BitVec 32 := 1#32
  let v381 : BitVec 32 := Scalar.subi v366 c1_i32_144
  let v382 : BitVec 32 := Scalar.select v380 v381 v366
  let c0_i32_146 : BitVec 32 := 0#32
  let v385 : BitVec 1 := Scalar.cmpi .sgt v382 c0_i32_146
  let v386 : BitVec 32 := Scalar.extui v385
  let c0_i32_147 : BitVec 32 := 0#32
  let v387 : BitVec 1 := Scalar.cmpi .slt v382 c0_i32_147
  let v388 : BitVec 32 := Scalar.extui v387
  let v389 : BitVec 32 := Scalar.subi v386 v388
  let c4_i32_145 : BitVec 32 := 4#32
  let c0_i32_148 : BitVec 32 := 0#32
  let v390 : BitVec 1 := Scalar.cmpi .sgt c4_i32_145 c0_i32_148
  let v391 : BitVec 32 := Scalar.extui v390
  let c0_i32_149 : BitVec 32 := 0#32
  let v392 : BitVec 1 := Scalar.cmpi .slt c4_i32_145 c0_i32_149
  let v393 : BitVec 32 := Scalar.extui v392
  let v394 : BitVec 32 := Scalar.subi v391 v393
  let v395 : BitVec 1 := Scalar.cmpi .ne v389 v394
  let v396 : BitVec 32 := Scalar.remsi v382 c4_i32_145
  let c0_i32_150 : BitVec 32 := 0#32
  let v397 : BitVec 1 := Scalar.cmpi .ne v396 c0_i32_150
  let v398 : BitVec 1 := Scalar.andi v395 v397
  let v384 : BitVec 32 := Scalar.divsi v382 c4_i32_145
  let c1_i32_151 : BitVec 32 := 1#32
  let v399 : BitVec 32 := Scalar.subi v384 c1_i32_151
  let v400 : BitVec 32 := Scalar.select v398 v399 v384
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v401 : BitVec 1 := Scalar.cmpi .eq v400 v103
  let v402 : BitVec 1 := Scalar.andi v383 v401
  let v403 : BitVec 32 := Scalar.extui v402
  let c0_i32_152 : BitVec 32 := 0#32
  let v404 : BitVec 1 := Scalar.cmpi .ne v403 c0_i32_152
  v404

@[reducible] def k0_t7_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off34 (v365 : BitVec 32) (k0_t7 : Fin k0_t7_loop.trips) : Fin 2 → Nat :=
  let c0_i32_1453 : BitVec 32 := 0#32
  let c1_i32_1455 : BitVec 32 := 1#32
  let arg19 : BitVec 32 := Scf.iv c0_i32_1453 c1_i32_1455 k0_t7
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v365 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off35 (v363 : BitVec 32) (k0_t7 : Fin k0_t7_loop.trips) : Fin 2 → Nat :=
  let c0_i32_139 : BitVec 32 := 0#32
  let v367 : BitVec 1 := Scalar.cmpi .sgt v363 c0_i32_139
  let v368 : BitVec 32 := Scalar.extui v367
  let c0_i32_140 : BitVec 32 := 0#32
  let v369 : BitVec 1 := Scalar.cmpi .slt v363 c0_i32_140
  let v370 : BitVec 32 := Scalar.extui v369
  let v371 : BitVec 32 := Scalar.subi v368 v370
  let c16_i32_138 : BitVec 32 := 16#32
  let c0_i32_141 : BitVec 32 := 0#32
  let v372 : BitVec 1 := Scalar.cmpi .sgt c16_i32_138 c0_i32_141
  let v373 : BitVec 32 := Scalar.extui v372
  let c0_i32_142 : BitVec 32 := 0#32
  let v374 : BitVec 1 := Scalar.cmpi .slt c16_i32_138 c0_i32_142
  let v375 : BitVec 32 := Scalar.extui v374
  let v376 : BitVec 32 := Scalar.subi v373 v375
  let v377 : BitVec 1 := Scalar.cmpi .ne v371 v376
  let v378 : BitVec 32 := Scalar.remsi v363 c16_i32_138
  let c0_i32_143 : BitVec 32 := 0#32
  let v379 : BitVec 1 := Scalar.cmpi .ne v378 c0_i32_143
  let v380 : BitVec 1 := Scalar.andi v377 v379
  let v366 : BitVec 32 := Scalar.divsi v363 c16_i32_138
  let c1_i32_144 : BitVec 32 := 1#32
  let v381 : BitVec 32 := Scalar.subi v366 c1_i32_144
  let v382 : BitVec 32 := Scalar.select v380 v381 v366
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v382 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t7
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v363 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off36 (v365 : BitVec 32) (k0_t7 : Fin k0_t7_loop.trips) : Fin 2 → Nat :=
  let c0_i32_1453 : BitVec 32 := 0#32
  let c1_i32_1455 : BitVec 32 := 1#32
  let arg19 : BitVec 32 := Scf.iv c0_i32_1453 c1_i32_1455 k0_t7
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v365 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk13 (i : grid0.Coords) (v25 : BitVec 32) (v363 : BitVec 32) (v365 : BitVec 32) : Prop :=
  (∀ (k0_h7 : k0_cond7 i v25 v363 = 1#1), ∀ a, (k0_off33 i v365) a + S32x512.size a ≤ S12288x512.size a) ∧
  (∀ k0_t7 : Fin k0_t7_loop.trips, ∀ (k0_h7 : k0_cond7 i v25 v363 = 1#1), ∀ a, (k0_off34 v365 k0_t7) a + S1x16.size a ≤ S32x512.size a) ∧
  (∀ k0_t7 : Fin k0_t7_loop.trips, ∀ (k0_h7 : k0_cond7 i v25 v363 = 1#1), ∀ a, (k0_off36 v365 k0_t7) a + S1x16.size a ≤ S32x512.size a)
theorem k0_off33_inb : ∀ (i : grid0.Coords) (v25 : BitVec 32) (v363 : BitVec 32) (v365 : BitVec 32) (k0_hw13 : k0_chk13 i v25 v363 v365), ∀ (k0_h7 : k0_cond7 i v25 v363 = 1#1), ∀ a, (k0_off33 i v365) a + S32x512.size a ≤ S12288x512.size a := fun i v25 v363 v365 k0_hw13 k0_h7 => k0_hw13.1 k0_h7
theorem k0_off34_inb : ∀ (i : grid0.Coords) (v25 : BitVec 32) (v363 : BitVec 32) (v365 : BitVec 32) (k0_hw13 : k0_chk13 i v25 v363 v365) (k0_t7 : Fin k0_t7_loop.trips), ∀ (k0_h7 : k0_cond7 i v25 v363 = 1#1), ∀ a, (k0_off34 v365 k0_t7) a + S1x16.size a ≤ S32x512.size a := fun i v25 v363 v365 k0_hw13 k0_t7 k0_h7 => k0_hw13.2.1 k0_t7 k0_h7
theorem k0_off36_inb : ∀ (i : grid0.Coords) (v25 : BitVec 32) (v363 : BitVec 32) (v365 : BitVec 32) (k0_hw13 : k0_chk13 i v25 v363 v365) (k0_t7 : Fin k0_t7_loop.trips), ∀ (k0_h7 : k0_cond7 i v25 v363 = 1#1), ∀ a, (k0_off36 v365 k0_t7) a + S1x16.size a ≤ S32x512.size a := fun i v25 v363 v365 k0_hw13 k0_t7 k0_h7 => k0_hw13.2.2 k0_t7 k0_h7

def k0_off37 (v363 : BitVec 32) (k0_t7 : Fin k0_t7_loop.trips) : Fin 2 → Nat :=
  let c0_i32_139 : BitVec 32 := 0#32
  let v367 : BitVec 1 := Scalar.cmpi .sgt v363 c0_i32_139
  let v368 : BitVec 32 := Scalar.extui v367
  let c0_i32_140 : BitVec 32 := 0#32
  let v369 : BitVec 1 := Scalar.cmpi .slt v363 c0_i32_140
  let v370 : BitVec 32 := Scalar.extui v369
  let v371 : BitVec 32 := Scalar.subi v368 v370
  let c16_i32_138 : BitVec 32 := 16#32
  let c0_i32_141 : BitVec 32 := 0#32
  let v372 : BitVec 1 := Scalar.cmpi .sgt c16_i32_138 c0_i32_141
  let v373 : BitVec 32 := Scalar.extui v372
  let c0_i32_142 : BitVec 32 := 0#32
  let v374 : BitVec 1 := Scalar.cmpi .slt c16_i32_138 c0_i32_142
  let v375 : BitVec 32 := Scalar.extui v374
  let v376 : BitVec 32 := Scalar.subi v373 v375
  let v377 : BitVec 1 := Scalar.cmpi .ne v371 v376
  let v378 : BitVec 32 := Scalar.remsi v363 c16_i32_138
  let c0_i32_143 : BitVec 32 := 0#32
  let v379 : BitVec 1 := Scalar.cmpi .ne v378 c0_i32_143
  let v380 : BitVec 1 := Scalar.andi v377 v379
  let v366 : BitVec 32 := Scalar.divsi v363 c16_i32_138
  let c1_i32_144 : BitVec 32 := 1#32
  let v381 : BitVec 32 := Scalar.subi v366 c1_i32_144
  let v382 : BitVec 32 := Scalar.select v380 v381 v366
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v382 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t7
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v363 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk14 (i : grid0.Coords) (v25 : BitVec 32) (v363 : BitVec 32) : Prop :=
  (∀ k0_t7 : Fin k0_t7_loop.trips, ∀ (k0_h7 : k0_cond7 i v25 v363 = 1#1), ∀ a, (k0_off35 v363 k0_t7) a + S1x16.size a ≤ S128x512.size a) ∧
  (∀ k0_t7 : Fin k0_t7_loop.trips, ∀ (k0_h7 : k0_cond7 i v25 v363 = 1#1), ∀ a, (k0_off37 v363 k0_t7) a + S1x16.size a ≤ S128x512.size a)
theorem k0_off35_inb : ∀ (i : grid0.Coords) (v25 : BitVec 32) (v363 : BitVec 32) (k0_hw14 : k0_chk14 i v25 v363) (k0_t7 : Fin k0_t7_loop.trips), ∀ (k0_h7 : k0_cond7 i v25 v363 = 1#1), ∀ a, (k0_off35 v363 k0_t7) a + S1x16.size a ≤ S128x512.size a := fun i v25 v363 k0_hw14 k0_t7 k0_h7 => k0_hw14.1 k0_t7 k0_h7
theorem k0_off37_inb : ∀ (i : grid0.Coords) (v25 : BitVec 32) (v363 : BitVec 32) (k0_hw14 : k0_chk14 i v25 v363) (k0_t7 : Fin k0_t7_loop.trips), ∀ (k0_h7 : k0_cond7 i v25 v363 = 1#1), ∀ a, (k0_off37 v363 k0_t7) a + S1x16.size a ≤ S128x512.size a := fun i v25 v363 k0_hw14 k0_t7 k0_h7 => k0_hw14.2 k0_t7 k0_h7

def k0_off38 (i : grid0.Coords) (v408 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v408 c0_i32_1428
  let v3763 : BitVec 32 := Scalar.extui v3762
  let c0_i32_1429 : BitVec 32 := 0#32
  let v3764 : BitVec 1 := Scalar.cmpi .slt v408 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v408 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v408 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r11 : BitVec 32 := 0#32
  ![v3779.toNat, 0]
def k0_cond8 (i : grid0.Coords) (v25 : BitVec 32) (v406 : BitVec 32) : BitVec 1 :=
  let c7_i32 : BitVec 32 := 7#32
  let v426 : BitVec 1 := Scalar.cmpi .sgt v25 c7_i32
  let c0_i32_154 : BitVec 32 := 0#32
  let v410 : BitVec 1 := Scalar.cmpi .sgt v406 c0_i32_154
  let v411 : BitVec 32 := Scalar.extui v410
  let c0_i32_155 : BitVec 32 := 0#32
  let v412 : BitVec 1 := Scalar.cmpi .slt v406 c0_i32_155
  let v413 : BitVec 32 := Scalar.extui v412
  let v414 : BitVec 32 := Scalar.subi v411 v413
  let c16_i32_153 : BitVec 32 := 16#32
  let c0_i32_156 : BitVec 32 := 0#32
  let v415 : BitVec 1 := Scalar.cmpi .sgt c16_i32_153 c0_i32_156
  let v416 : BitVec 32 := Scalar.extui v415
  let c0_i32_157 : BitVec 32 := 0#32
  let v417 : BitVec 1 := Scalar.cmpi .slt c16_i32_153 c0_i32_157
  let v418 : BitVec 32 := Scalar.extui v417
  let v419 : BitVec 32 := Scalar.subi v416 v418
  let v420 : BitVec 1 := Scalar.cmpi .ne v414 v419
  let v421 : BitVec 32 := Scalar.remsi v406 c16_i32_153
  let c0_i32_158 : BitVec 32 := 0#32
  let v422 : BitVec 1 := Scalar.cmpi .ne v421 c0_i32_158
  let v423 : BitVec 1 := Scalar.andi v420 v422
  let v409 : BitVec 32 := Scalar.divsi v406 c16_i32_153
  let c1_i32_159 : BitVec 32 := 1#32
  let v424 : BitVec 32 := Scalar.subi v409 c1_i32_159
  let v425 : BitVec 32 := Scalar.select v423 v424 v409
  let c0_i32_161 : BitVec 32 := 0#32
  let v428 : BitVec 1 := Scalar.cmpi .sgt v425 c0_i32_161
  let v429 : BitVec 32 := Scalar.extui v428
  let c0_i32_162 : BitVec 32 := 0#32
  let v430 : BitVec 1 := Scalar.cmpi .slt v425 c0_i32_162
  let v431 : BitVec 32 := Scalar.extui v430
  let v432 : BitVec 32 := Scalar.subi v429 v431
  let c4_i32_160 : BitVec 32 := 4#32
  let c0_i32_163 : BitVec 32 := 0#32
  let v433 : BitVec 1 := Scalar.cmpi .sgt c4_i32_160 c0_i32_163
  let v434 : BitVec 32 := Scalar.extui v433
  let c0_i32_164 : BitVec 32 := 0#32
  let v435 : BitVec 1 := Scalar.cmpi .slt c4_i32_160 c0_i32_164
  let v436 : BitVec 32 := Scalar.extui v435
  let v437 : BitVec 32 := Scalar.subi v434 v436
  let v438 : BitVec 1 := Scalar.cmpi .ne v432 v437
  let v439 : BitVec 32 := Scalar.remsi v425 c4_i32_160
  let c0_i32_165 : BitVec 32 := 0#32
  let v440 : BitVec 1 := Scalar.cmpi .ne v439 c0_i32_165
  let v441 : BitVec 1 := Scalar.andi v438 v440
  let v427 : BitVec 32 := Scalar.divsi v425 c4_i32_160
  let c1_i32_166 : BitVec 32 := 1#32
  let v442 : BitVec 32 := Scalar.subi v427 c1_i32_166
  let v443 : BitVec 32 := Scalar.select v441 v442 v427
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v444 : BitVec 1 := Scalar.cmpi .eq v443 v103
  let v445 : BitVec 1 := Scalar.andi v426 v444
  let v446 : BitVec 32 := Scalar.extui v445
  let c0_i32_167 : BitVec 32 := 0#32
  let v447 : BitVec 1 := Scalar.cmpi .ne v446 c0_i32_167
  v447

@[reducible] def k0_t8_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off39 (v408 : BitVec 32) (k0_t8 : Fin k0_t8_loop.trips) : Fin 2 → Nat :=
  let c0_i32_1453 : BitVec 32 := 0#32
  let c1_i32_1455 : BitVec 32 := 1#32
  let arg19 : BitVec 32 := Scf.iv c0_i32_1453 c1_i32_1455 k0_t8
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v408 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off40 (v406 : BitVec 32) (k0_t8 : Fin k0_t8_loop.trips) : Fin 2 → Nat :=
  let c0_i32_154 : BitVec 32 := 0#32
  let v410 : BitVec 1 := Scalar.cmpi .sgt v406 c0_i32_154
  let v411 : BitVec 32 := Scalar.extui v410
  let c0_i32_155 : BitVec 32 := 0#32
  let v412 : BitVec 1 := Scalar.cmpi .slt v406 c0_i32_155
  let v413 : BitVec 32 := Scalar.extui v412
  let v414 : BitVec 32 := Scalar.subi v411 v413
  let c16_i32_153 : BitVec 32 := 16#32
  let c0_i32_156 : BitVec 32 := 0#32
  let v415 : BitVec 1 := Scalar.cmpi .sgt c16_i32_153 c0_i32_156
  let v416 : BitVec 32 := Scalar.extui v415
  let c0_i32_157 : BitVec 32 := 0#32
  let v417 : BitVec 1 := Scalar.cmpi .slt c16_i32_153 c0_i32_157
  let v418 : BitVec 32 := Scalar.extui v417
  let v419 : BitVec 32 := Scalar.subi v416 v418
  let v420 : BitVec 1 := Scalar.cmpi .ne v414 v419
  let v421 : BitVec 32 := Scalar.remsi v406 c16_i32_153
  let c0_i32_158 : BitVec 32 := 0#32
  let v422 : BitVec 1 := Scalar.cmpi .ne v421 c0_i32_158
  let v423 : BitVec 1 := Scalar.andi v420 v422
  let v409 : BitVec 32 := Scalar.divsi v406 c16_i32_153
  let c1_i32_159 : BitVec 32 := 1#32
  let v424 : BitVec 32 := Scalar.subi v409 c1_i32_159
  let v425 : BitVec 32 := Scalar.select v423 v424 v409
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v425 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t8
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v406 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off41 (v408 : BitVec 32) (k0_t8 : Fin k0_t8_loop.trips) : Fin 2 → Nat :=
  let c0_i32_1453 : BitVec 32 := 0#32
  let c1_i32_1455 : BitVec 32 := 1#32
  let arg19 : BitVec 32 := Scf.iv c0_i32_1453 c1_i32_1455 k0_t8
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v408 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk15 (i : grid0.Coords) (v25 : BitVec 32) (v406 : BitVec 32) (v408 : BitVec 32) : Prop :=
  (∀ (k0_h8 : k0_cond8 i v25 v406 = 1#1), ∀ a, (k0_off38 i v408) a + S32x512.size a ≤ S12288x512.size a) ∧
  (∀ k0_t8 : Fin k0_t8_loop.trips, ∀ (k0_h8 : k0_cond8 i v25 v406 = 1#1), ∀ a, (k0_off39 v408 k0_t8) a + S1x16.size a ≤ S32x512.size a) ∧
  (∀ k0_t8 : Fin k0_t8_loop.trips, ∀ (k0_h8 : k0_cond8 i v25 v406 = 1#1), ∀ a, (k0_off41 v408 k0_t8) a + S1x16.size a ≤ S32x512.size a)
theorem k0_off38_inb : ∀ (i : grid0.Coords) (v25 : BitVec 32) (v406 : BitVec 32) (v408 : BitVec 32) (k0_hw15 : k0_chk15 i v25 v406 v408), ∀ (k0_h8 : k0_cond8 i v25 v406 = 1#1), ∀ a, (k0_off38 i v408) a + S32x512.size a ≤ S12288x512.size a := fun i v25 v406 v408 k0_hw15 k0_h8 => k0_hw15.1 k0_h8
theorem k0_off39_inb : ∀ (i : grid0.Coords) (v25 : BitVec 32) (v406 : BitVec 32) (v408 : BitVec 32) (k0_hw15 : k0_chk15 i v25 v406 v408) (k0_t8 : Fin k0_t8_loop.trips), ∀ (k0_h8 : k0_cond8 i v25 v406 = 1#1), ∀ a, (k0_off39 v408 k0_t8) a + S1x16.size a ≤ S32x512.size a := fun i v25 v406 v408 k0_hw15 k0_t8 k0_h8 => k0_hw15.2.1 k0_t8 k0_h8
theorem k0_off41_inb : ∀ (i : grid0.Coords) (v25 : BitVec 32) (v406 : BitVec 32) (v408 : BitVec 32) (k0_hw15 : k0_chk15 i v25 v406 v408) (k0_t8 : Fin k0_t8_loop.trips), ∀ (k0_h8 : k0_cond8 i v25 v406 = 1#1), ∀ a, (k0_off41 v408 k0_t8) a + S1x16.size a ≤ S32x512.size a := fun i v25 v406 v408 k0_hw15 k0_t8 k0_h8 => k0_hw15.2.2 k0_t8 k0_h8

def k0_off42 (v406 : BitVec 32) (k0_t8 : Fin k0_t8_loop.trips) : Fin 2 → Nat :=
  let c0_i32_154 : BitVec 32 := 0#32
  let v410 : BitVec 1 := Scalar.cmpi .sgt v406 c0_i32_154
  let v411 : BitVec 32 := Scalar.extui v410
  let c0_i32_155 : BitVec 32 := 0#32
  let v412 : BitVec 1 := Scalar.cmpi .slt v406 c0_i32_155
  let v413 : BitVec 32 := Scalar.extui v412
  let v414 : BitVec 32 := Scalar.subi v411 v413
  let c16_i32_153 : BitVec 32 := 16#32
  let c0_i32_156 : BitVec 32 := 0#32
  let v415 : BitVec 1 := Scalar.cmpi .sgt c16_i32_153 c0_i32_156
  let v416 : BitVec 32 := Scalar.extui v415
  let c0_i32_157 : BitVec 32 := 0#32
  let v417 : BitVec 1 := Scalar.cmpi .slt c16_i32_153 c0_i32_157
  let v418 : BitVec 32 := Scalar.extui v417
  let v419 : BitVec 32 := Scalar.subi v416 v418
  let v420 : BitVec 1 := Scalar.cmpi .ne v414 v419
  let v421 : BitVec 32 := Scalar.remsi v406 c16_i32_153
  let c0_i32_158 : BitVec 32 := 0#32
  let v422 : BitVec 1 := Scalar.cmpi .ne v421 c0_i32_158
  let v423 : BitVec 1 := Scalar.andi v420 v422
  let v409 : BitVec 32 := Scalar.divsi v406 c16_i32_153
  let c1_i32_159 : BitVec 32 := 1#32
  let v424 : BitVec 32 := Scalar.subi v409 c1_i32_159
  let v425 : BitVec 32 := Scalar.select v423 v424 v409
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v425 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t8
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v406 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk16 (i : grid0.Coords) (v25 : BitVec 32) (v406 : BitVec 32) : Prop :=
  (∀ k0_t8 : Fin k0_t8_loop.trips, ∀ (k0_h8 : k0_cond8 i v25 v406 = 1#1), ∀ a, (k0_off40 v406 k0_t8) a + S1x16.size a ≤ S128x512.size a) ∧
  (∀ k0_t8 : Fin k0_t8_loop.trips, ∀ (k0_h8 : k0_cond8 i v25 v406 = 1#1), ∀ a, (k0_off42 v406 k0_t8) a + S1x16.size a ≤ S128x512.size a)
theorem k0_off40_inb : ∀ (i : grid0.Coords) (v25 : BitVec 32) (v406 : BitVec 32) (k0_hw16 : k0_chk16 i v25 v406) (k0_t8 : Fin k0_t8_loop.trips), ∀ (k0_h8 : k0_cond8 i v25 v406 = 1#1), ∀ a, (k0_off40 v406 k0_t8) a + S1x16.size a ≤ S128x512.size a := fun i v25 v406 k0_hw16 k0_t8 k0_h8 => k0_hw16.1 k0_t8 k0_h8
theorem k0_off42_inb : ∀ (i : grid0.Coords) (v25 : BitVec 32) (v406 : BitVec 32) (k0_hw16 : k0_chk16 i v25 v406) (k0_t8 : Fin k0_t8_loop.trips), ∀ (k0_h8 : k0_cond8 i v25 v406 = 1#1), ∀ a, (k0_off42 v406 k0_t8) a + S1x16.size a ≤ S128x512.size a := fun i v25 v406 k0_hw16 k0_t8 k0_h8 => k0_hw16.2 k0_t8 k0_h8

def k0_off43 (i : grid0.Coords) (v451 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v451 c0_i32_1428
  let v3763 : BitVec 32 := Scalar.extui v3762
  let c0_i32_1429 : BitVec 32 := 0#32
  let v3764 : BitVec 1 := Scalar.cmpi .slt v451 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v451 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v451 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r12 : BitVec 32 := 0#32
  ![v3779.toNat, 0]
def k0_cond9 (i : grid0.Coords) (v25 : BitVec 32) (v449 : BitVec 32) : BitVec 1 :=
  let c8_i32 : BitVec 32 := 8#32
  let v469 : BitVec 1 := Scalar.cmpi .sgt v25 c8_i32
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c16_i32_168 : BitVec 32 := 16#32
  let c0_i32_171 : BitVec 32 := 0#32
  let v458 : BitVec 1 := Scalar.cmpi .sgt c16_i32_168 c0_i32_171
  let v459 : BitVec 32 := Scalar.extui v458
  let c0_i32_172 : BitVec 32 := 0#32
  let v460 : BitVec 1 := Scalar.cmpi .slt c16_i32_168 c0_i32_172
  let v461 : BitVec 32 := Scalar.extui v460
  let v462 : BitVec 32 := Scalar.subi v459 v461
  let v463 : BitVec 1 := Scalar.cmpi .ne v457 v462
  let v464 : BitVec 32 := Scalar.remsi v449 c16_i32_168
  let c0_i32_173 : BitVec 32 := 0#32
  let v465 : BitVec 1 := Scalar.cmpi .ne v464 c0_i32_173
  let v466 : BitVec 1 := Scalar.andi v463 v465
  let v452 : BitVec 32 := Scalar.divsi v449 c16_i32_168
  let c1_i32_174 : BitVec 32 := 1#32
  let v467 : BitVec 32 := Scalar.subi v452 c1_i32_174
  let v468 : BitVec 32 := Scalar.select v466 v467 v452
  let c0_i32_176 : BitVec 32 := 0#32
  let v471 : BitVec 1 := Scalar.cmpi .sgt v468 c0_i32_176
  let v472 : BitVec 32 := Scalar.extui v471
  let c0_i32_177 : BitVec 32 := 0#32
  let v473 : BitVec 1 := Scalar.cmpi .slt v468 c0_i32_177
  let v474 : BitVec 32 := Scalar.extui v473
  let v475 : BitVec 32 := Scalar.subi v472 v474
  let c4_i32_175 : BitVec 32 := 4#32
  let c0_i32_178 : BitVec 32 := 0#32
  let v476 : BitVec 1 := Scalar.cmpi .sgt c4_i32_175 c0_i32_178
  let v477 : BitVec 32 := Scalar.extui v476
  let c0_i32_179 : BitVec 32 := 0#32
  let v478 : BitVec 1 := Scalar.cmpi .slt c4_i32_175 c0_i32_179
  let v479 : BitVec 32 := Scalar.extui v478
  let v480 : BitVec 32 := Scalar.subi v477 v479
  let v481 : BitVec 1 := Scalar.cmpi .ne v475 v480
  let v482 : BitVec 32 := Scalar.remsi v468 c4_i32_175
  let c0_i32_180 : BitVec 32 := 0#32
  let v483 : BitVec 1 := Scalar.cmpi .ne v482 c0_i32_180
  let v484 : BitVec 1 := Scalar.andi v481 v483
  let v470 : BitVec 32 := Scalar.divsi v468 c4_i32_175
  let c1_i32_181 : BitVec 32 := 1#32
  let v485 : BitVec 32 := Scalar.subi v470 c1_i32_181
  let v486 : BitVec 32 := Scalar.select v484 v485 v470
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v487 : BitVec 1 := Scalar.cmpi .eq v486 v103
  let v488 : BitVec 1 := Scalar.andi v469 v487
  let v489 : BitVec 32 := Scalar.extui v488
  let c0_i32_182 : BitVec 32 := 0#32
  let v490 : BitVec 1 := Scalar.cmpi .ne v489 c0_i32_182
  v490

@[reducible] def k0_t9_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off44 (v451 : BitVec 32) (k0_t9 : Fin k0_t9_loop.trips) : Fin 2 → Nat :=
  let c0_i32_1453 : BitVec 32 := 0#32
  let c1_i32_1455 : BitVec 32 := 1#32
  let arg19 : BitVec 32 := Scf.iv c0_i32_1453 c1_i32_1455 k0_t9
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v451 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off45 (v449 : BitVec 32) (k0_t9 : Fin k0_t9_loop.trips) : Fin 2 → Nat :=
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c16_i32_168 : BitVec 32 := 16#32
  let c0_i32_171 : BitVec 32 := 0#32
  let v458 : BitVec 1 := Scalar.cmpi .sgt c16_i32_168 c0_i32_171
  let v459 : BitVec 32 := Scalar.extui v458
  let c0_i32_172 : BitVec 32 := 0#32
  let v460 : BitVec 1 := Scalar.cmpi .slt c16_i32_168 c0_i32_172
  let v461 : BitVec 32 := Scalar.extui v460
  let v462 : BitVec 32 := Scalar.subi v459 v461
  let v463 : BitVec 1 := Scalar.cmpi .ne v457 v462
  let v464 : BitVec 32 := Scalar.remsi v449 c16_i32_168
  let c0_i32_173 : BitVec 32 := 0#32
  let v465 : BitVec 1 := Scalar.cmpi .ne v464 c0_i32_173
  let v466 : BitVec 1 := Scalar.andi v463 v465
  let v452 : BitVec 32 := Scalar.divsi v449 c16_i32_168
  let c1_i32_174 : BitVec 32 := 1#32
  let v467 : BitVec 32 := Scalar.subi v452 c1_i32_174
  let v468 : BitVec 32 := Scalar.select v466 v467 v452
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v468 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t9
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v449 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off46 (v451 : BitVec 32) (k0_t9 : Fin k0_t9_loop.trips) : Fin 2 → Nat :=
  let c0_i32_1453 : BitVec 32 := 0#32
  let c1_i32_1455 : BitVec 32 := 1#32
  let arg19 : BitVec 32 := Scf.iv c0_i32_1453 c1_i32_1455 k0_t9
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v451 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk17 (i : grid0.Coords) (v25 : BitVec 32) (v449 : BitVec 32) (v451 : BitVec 32) : Prop :=
  (∀ (k0_h9 : k0_cond9 i v25 v449 = 1#1), ∀ a, (k0_off43 i v451) a + S32x512.size a ≤ S12288x512.size a) ∧
  (∀ k0_t9 : Fin k0_t9_loop.trips, ∀ (k0_h9 : k0_cond9 i v25 v449 = 1#1), ∀ a, (k0_off44 v451 k0_t9) a + S1x16.size a ≤ S32x512.size a) ∧
  (∀ k0_t9 : Fin k0_t9_loop.trips, ∀ (k0_h9 : k0_cond9 i v25 v449 = 1#1), ∀ a, (k0_off46 v451 k0_t9) a + S1x16.size a ≤ S32x512.size a)
theorem k0_off43_inb : ∀ (i : grid0.Coords) (v25 : BitVec 32) (v449 : BitVec 32) (v451 : BitVec 32) (k0_hw17 : k0_chk17 i v25 v449 v451), ∀ (k0_h9 : k0_cond9 i v25 v449 = 1#1), ∀ a, (k0_off43 i v451) a + S32x512.size a ≤ S12288x512.size a := fun i v25 v449 v451 k0_hw17 k0_h9 => k0_hw17.1 k0_h9
theorem k0_off44_inb : ∀ (i : grid0.Coords) (v25 : BitVec 32) (v449 : BitVec 32) (v451 : BitVec 32) (k0_hw17 : k0_chk17 i v25 v449 v451) (k0_t9 : Fin k0_t9_loop.trips), ∀ (k0_h9 : k0_cond9 i v25 v449 = 1#1), ∀ a, (k0_off44 v451 k0_t9) a + S1x16.size a ≤ S32x512.size a := fun i v25 v449 v451 k0_hw17 k0_t9 k0_h9 => k0_hw17.2.1 k0_t9 k0_h9
theorem k0_off46_inb : ∀ (i : grid0.Coords) (v25 : BitVec 32) (v449 : BitVec 32) (v451 : BitVec 32) (k0_hw17 : k0_chk17 i v25 v449 v451) (k0_t9 : Fin k0_t9_loop.trips), ∀ (k0_h9 : k0_cond9 i v25 v449 = 1#1), ∀ a, (k0_off46 v451 k0_t9) a + S1x16.size a ≤ S32x512.size a := fun i v25 v449 v451 k0_hw17 k0_t9 k0_h9 => k0_hw17.2.2 k0_t9 k0_h9

def k0_off47 (v449 : BitVec 32) (k0_t9 : Fin k0_t9_loop.trips) : Fin 2 → Nat :=
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c16_i32_168 : BitVec 32 := 16#32
  let c0_i32_171 : BitVec 32 := 0#32
  let v458 : BitVec 1 := Scalar.cmpi .sgt c16_i32_168 c0_i32_171
  let v459 : BitVec 32 := Scalar.extui v458
  let c0_i32_172 : BitVec 32 := 0#32
  let v460 : BitVec 1 := Scalar.cmpi .slt c16_i32_168 c0_i32_172
  let v461 : BitVec 32 := Scalar.extui v460
  let v462 : BitVec 32 := Scalar.subi v459 v461
  let v463 : BitVec 1 := Scalar.cmpi .ne v457 v462
  let v464 : BitVec 32 := Scalar.remsi v449 c16_i32_168
  let c0_i32_173 : BitVec 32 := 0#32
  let v465 : BitVec 1 := Scalar.cmpi .ne v464 c0_i32_173
  let v466 : BitVec 1 := Scalar.andi v463 v465
  let v452 : BitVec 32 := Scalar.divsi v449 c16_i32_168
  let c1_i32_174 : BitVec 32 := 1#32
  let v467 : BitVec 32 := Scalar.subi v452 c1_i32_174
  let v468 : BitVec 32 := Scalar.select v466 v467 v452
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v468 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t9
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v449 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk18 (i : grid0.Coords) (v25 : BitVec 32) (v449 : BitVec 32) : Prop :=
  (∀ k0_t9 : Fin k0_t9_loop.trips, ∀ (k0_h9 : k0_cond9 i v25 v449 = 1#1), ∀ a, (k0_off45 v449 k0_t9) a + S1x16.size a ≤ S128x512.size a) ∧
  (∀ k0_t9 : Fin k0_t9_loop.trips, ∀ (k0_h9 : k0_cond9 i v25 v449 = 1#1), ∀ a, (k0_off47 v449 k0_t9) a + S1x16.size a ≤ S128x512.size a)
theorem k0_off45_inb : ∀ (i : grid0.Coords) (v25 : BitVec 32) (v449 : BitVec 32) (k0_hw18 : k0_chk18 i v25 v449) (k0_t9 : Fin k0_t9_loop.trips), ∀ (k0_h9 : k0_cond9 i v25 v449 = 1#1), ∀ a, (k0_off45 v449 k0_t9) a + S1x16.size a ≤ S128x512.size a := fun i v25 v449 k0_hw18 k0_t9 k0_h9 => k0_hw18.1 k0_t9 k0_h9
theorem k0_off47_inb : ∀ (i : grid0.Coords) (v25 : BitVec 32) (v449 : BitVec 32) (k0_hw18 : k0_chk18 i v25 v449) (k0_t9 : Fin k0_t9_loop.trips), ∀ (k0_h9 : k0_cond9 i v25 v449 = 1#1), ∀ a, (k0_off47 v449 k0_t9) a + S1x16.size a ≤ S128x512.size a := fun i v25 v449 k0_hw18 k0_t9 k0_h9 => k0_hw18.2 k0_t9 k0_h9

def k0_off48 (i : grid0.Coords) (v494 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v494 c0_i32_1428
  let v3763 : BitVec 32 := Scalar.extui v3762
  let c0_i32_1429 : BitVec 32 := 0#32
  let v3764 : BitVec 1 := Scalar.cmpi .slt v494 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v494 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v494 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r13 : BitVec 32 := 0#32
  ![v3779.toNat, 0]
def k0_cond10 (i : grid0.Coords) (v25 : BitVec 32) (v492 : BitVec 32) : BitVec 1 :=
  let c9_i32 : BitVec 32 := 9#32
  let v512 : BitVec 1 := Scalar.cmpi .sgt v25 c9_i32
  let c0_i32_184 : BitVec 32 := 0#32
  let v496 : BitVec 1 := Scalar.cmpi .sgt v492 c0_i32_184
  let v497 : BitVec 32 := Scalar.extui v496
  let c0_i32_185 : BitVec 32 := 0#32
  let v498 : BitVec 1 := Scalar.cmpi .slt v492 c0_i32_185
  let v499 : BitVec 32 := Scalar.extui v498
  let v500 : BitVec 32 := Scalar.subi v497 v499
  let c16_i32_183 : BitVec 32 := 16#32
  let c0_i32_186 : BitVec 32 := 0#32
  let v501 : BitVec 1 := Scalar.cmpi .sgt c16_i32_183 c0_i32_186
  let v502 : BitVec 32 := Scalar.extui v501
  let c0_i32_187 : BitVec 32 := 0#32
  let v503 : BitVec 1 := Scalar.cmpi .slt c16_i32_183 c0_i32_187
  let v504 : BitVec 32 := Scalar.extui v503
  let v505 : BitVec 32 := Scalar.subi v502 v504
  let v506 : BitVec 1 := Scalar.cmpi .ne v500 v505
  let v507 : BitVec 32 := Scalar.remsi v492 c16_i32_183
  let c0_i32_188 : BitVec 32 := 0#32
  let v508 : BitVec 1 := Scalar.cmpi .ne v507 c0_i32_188
  let v509 : BitVec 1 := Scalar.andi v506 v508
  let v495 : BitVec 32 := Scalar.divsi v492 c16_i32_183
  let c1_i32_189 : BitVec 32 := 1#32
  let v510 : BitVec 32 := Scalar.subi v495 c1_i32_189
  let v511 : BitVec 32 := Scalar.select v509 v510 v495
  let c0_i32_191 : BitVec 32 := 0#32
  let v514 : BitVec 1 := Scalar.cmpi .sgt v511 c0_i32_191
  let v515 : BitVec 32 := Scalar.extui v514
  let c0_i32_192 : BitVec 32 := 0#32
  let v516 : BitVec 1 := Scalar.cmpi .slt v511 c0_i32_192
  let v517 : BitVec 32 := Scalar.extui v516
  let v518 : BitVec 32 := Scalar.subi v515 v517
  let c4_i32_190 : BitVec 32 := 4#32
  let c0_i32_193 : BitVec 32 := 0#32
  let v519 : BitVec 1 := Scalar.cmpi .sgt c4_i32_190 c0_i32_193
  let v520 : BitVec 32 := Scalar.extui v519
  let c0_i32_194 : BitVec 32 := 0#32
  let v521 : BitVec 1 := Scalar.cmpi .slt c4_i32_190 c0_i32_194
  let v522 : BitVec 32 := Scalar.extui v521
  let v523 : BitVec 32 := Scalar.subi v520 v522
  let v524 : BitVec 1 := Scalar.cmpi .ne v518 v523
  let v525 : BitVec 32 := Scalar.remsi v511 c4_i32_190
  let c0_i32_195 : BitVec 32 := 0#32
  let v526 : BitVec 1 := Scalar.cmpi .ne v525 c0_i32_195
  let v527 : BitVec 1 := Scalar.andi v524 v526
  let v513 : BitVec 32 := Scalar.divsi v511 c4_i32_190
  let c1_i32_196 : BitVec 32 := 1#32
  let v528 : BitVec 32 := Scalar.subi v513 c1_i32_196
  let v529 : BitVec 32 := Scalar.select v527 v528 v513
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v530 : BitVec 1 := Scalar.cmpi .eq v529 v103
  let v531 : BitVec 1 := Scalar.andi v512 v530
  let v532 : BitVec 32 := Scalar.extui v531
  let c0_i32_197 : BitVec 32 := 0#32
  let v533 : BitVec 1 := Scalar.cmpi .ne v532 c0_i32_197
  v533

@[reducible] def k0_t10_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off49 (v494 : BitVec 32) (k0_t10 : Fin k0_t10_loop.trips) : Fin 2 → Nat :=
  let c0_i32_1453 : BitVec 32 := 0#32
  let c1_i32_1455 : BitVec 32 := 1#32
  let arg19 : BitVec 32 := Scf.iv c0_i32_1453 c1_i32_1455 k0_t10
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v494 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off50 (v492 : BitVec 32) (k0_t10 : Fin k0_t10_loop.trips) : Fin 2 → Nat :=
  let c0_i32_184 : BitVec 32 := 0#32
  let v496 : BitVec 1 := Scalar.cmpi .sgt v492 c0_i32_184
  let v497 : BitVec 32 := Scalar.extui v496
  let c0_i32_185 : BitVec 32 := 0#32
  let v498 : BitVec 1 := Scalar.cmpi .slt v492 c0_i32_185
  let v499 : BitVec 32 := Scalar.extui v498
  let v500 : BitVec 32 := Scalar.subi v497 v499
  let c16_i32_183 : BitVec 32 := 16#32
  let c0_i32_186 : BitVec 32 := 0#32
  let v501 : BitVec 1 := Scalar.cmpi .sgt c16_i32_183 c0_i32_186
  let v502 : BitVec 32 := Scalar.extui v501
  let c0_i32_187 : BitVec 32 := 0#32
  let v503 : BitVec 1 := Scalar.cmpi .slt c16_i32_183 c0_i32_187
  let v504 : BitVec 32 := Scalar.extui v503
  let v505 : BitVec 32 := Scalar.subi v502 v504
  let v506 : BitVec 1 := Scalar.cmpi .ne v500 v505
  let v507 : BitVec 32 := Scalar.remsi v492 c16_i32_183
  let c0_i32_188 : BitVec 32 := 0#32
  let v508 : BitVec 1 := Scalar.cmpi .ne v507 c0_i32_188
  let v509 : BitVec 1 := Scalar.andi v506 v508
  let v495 : BitVec 32 := Scalar.divsi v492 c16_i32_183
  let c1_i32_189 : BitVec 32 := 1#32
  let v510 : BitVec 32 := Scalar.subi v495 c1_i32_189
  let v511 : BitVec 32 := Scalar.select v509 v510 v495
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v511 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t10
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v492 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off51 (v494 : BitVec 32) (k0_t10 : Fin k0_t10_loop.trips) : Fin 2 → Nat :=
  let c0_i32_1453 : BitVec 32 := 0#32
  let c1_i32_1455 : BitVec 32 := 1#32
  let arg19 : BitVec 32 := Scf.iv c0_i32_1453 c1_i32_1455 k0_t10
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v494 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk19 (i : grid0.Coords) (v25 : BitVec 32) (v492 : BitVec 32) (v494 : BitVec 32) : Prop :=
  (∀ (k0_h10 : k0_cond10 i v25 v492 = 1#1), ∀ a, (k0_off48 i v494) a + S32x512.size a ≤ S12288x512.size a) ∧
  (∀ k0_t10 : Fin k0_t10_loop.trips, ∀ (k0_h10 : k0_cond10 i v25 v492 = 1#1), ∀ a, (k0_off49 v494 k0_t10) a + S1x16.size a ≤ S32x512.size a) ∧
  (∀ k0_t10 : Fin k0_t10_loop.trips, ∀ (k0_h10 : k0_cond10 i v25 v492 = 1#1), ∀ a, (k0_off51 v494 k0_t10) a + S1x16.size a ≤ S32x512.size a)
theorem k0_off48_inb : ∀ (i : grid0.Coords) (v25 : BitVec 32) (v492 : BitVec 32) (v494 : BitVec 32) (k0_hw19 : k0_chk19 i v25 v492 v494), ∀ (k0_h10 : k0_cond10 i v25 v492 = 1#1), ∀ a, (k0_off48 i v494) a + S32x512.size a ≤ S12288x512.size a := fun i v25 v492 v494 k0_hw19 k0_h10 => k0_hw19.1 k0_h10
theorem k0_off49_inb : ∀ (i : grid0.Coords) (v25 : BitVec 32) (v492 : BitVec 32) (v494 : BitVec 32) (k0_hw19 : k0_chk19 i v25 v492 v494) (k0_t10 : Fin k0_t10_loop.trips), ∀ (k0_h10 : k0_cond10 i v25 v492 = 1#1), ∀ a, (k0_off49 v494 k0_t10) a + S1x16.size a ≤ S32x512.size a := fun i v25 v492 v494 k0_hw19 k0_t10 k0_h10 => k0_hw19.2.1 k0_t10 k0_h10
theorem k0_off51_inb : ∀ (i : grid0.Coords) (v25 : BitVec 32) (v492 : BitVec 32) (v494 : BitVec 32) (k0_hw19 : k0_chk19 i v25 v492 v494) (k0_t10 : Fin k0_t10_loop.trips), ∀ (k0_h10 : k0_cond10 i v25 v492 = 1#1), ∀ a, (k0_off51 v494 k0_t10) a + S1x16.size a ≤ S32x512.size a := fun i v25 v492 v494 k0_hw19 k0_t10 k0_h10 => k0_hw19.2.2 k0_t10 k0_h10

def k0_off52 (v492 : BitVec 32) (k0_t10 : Fin k0_t10_loop.trips) : Fin 2 → Nat :=
  let c0_i32_184 : BitVec 32 := 0#32
  let v496 : BitVec 1 := Scalar.cmpi .sgt v492 c0_i32_184
  let v497 : BitVec 32 := Scalar.extui v496
  let c0_i32_185 : BitVec 32 := 0#32
  let v498 : BitVec 1 := Scalar.cmpi .slt v492 c0_i32_185
  let v499 : BitVec 32 := Scalar.extui v498
  let v500 : BitVec 32 := Scalar.subi v497 v499
  let c16_i32_183 : BitVec 32 := 16#32
  let c0_i32_186 : BitVec 32 := 0#32
  let v501 : BitVec 1 := Scalar.cmpi .sgt c16_i32_183 c0_i32_186
  let v502 : BitVec 32 := Scalar.extui v501
  let c0_i32_187 : BitVec 32 := 0#32
  let v503 : BitVec 1 := Scalar.cmpi .slt c16_i32_183 c0_i32_187
  let v504 : BitVec 32 := Scalar.extui v503
  let v505 : BitVec 32 := Scalar.subi v502 v504
  let v506 : BitVec 1 := Scalar.cmpi .ne v500 v505
  let v507 : BitVec 32 := Scalar.remsi v492 c16_i32_183
  let c0_i32_188 : BitVec 32 := 0#32
  let v508 : BitVec 1 := Scalar.cmpi .ne v507 c0_i32_188
  let v509 : BitVec 1 := Scalar.andi v506 v508
  let v495 : BitVec 32 := Scalar.divsi v492 c16_i32_183
  let c1_i32_189 : BitVec 32 := 1#32
  let v510 : BitVec 32 := Scalar.subi v495 c1_i32_189
  let v511 : BitVec 32 := Scalar.select v509 v510 v495
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v511 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t10
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v492 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk20 (i : grid0.Coords) (v25 : BitVec 32) (v492 : BitVec 32) : Prop :=
  (∀ k0_t10 : Fin k0_t10_loop.trips, ∀ (k0_h10 : k0_cond10 i v25 v492 = 1#1), ∀ a, (k0_off50 v492 k0_t10) a + S1x16.size a ≤ S128x512.size a) ∧
  (∀ k0_t10 : Fin k0_t10_loop.trips, ∀ (k0_h10 : k0_cond10 i v25 v492 = 1#1), ∀ a, (k0_off52 v492 k0_t10) a + S1x16.size a ≤ S128x512.size a)
theorem k0_off50_inb : ∀ (i : grid0.Coords) (v25 : BitVec 32) (v492 : BitVec 32) (k0_hw20 : k0_chk20 i v25 v492) (k0_t10 : Fin k0_t10_loop.trips), ∀ (k0_h10 : k0_cond10 i v25 v492 = 1#1), ∀ a, (k0_off50 v492 k0_t10) a + S1x16.size a ≤ S128x512.size a := fun i v25 v492 k0_hw20 k0_t10 k0_h10 => k0_hw20.1 k0_t10 k0_h10
theorem k0_off52_inb : ∀ (i : grid0.Coords) (v25 : BitVec 32) (v492 : BitVec 32) (k0_hw20 : k0_chk20 i v25 v492) (k0_t10 : Fin k0_t10_loop.trips), ∀ (k0_h10 : k0_cond10 i v25 v492 = 1#1), ∀ a, (k0_off52 v492 k0_t10) a + S1x16.size a ≤ S128x512.size a := fun i v25 v492 k0_hw20 k0_t10 k0_h10 => k0_hw20.2 k0_t10 k0_h10

def k0_off53 (i : grid0.Coords) (v537 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v537 c0_i32_1428
  let v3763 : BitVec 32 := Scalar.extui v3762
  let c0_i32_1429 : BitVec 32 := 0#32
  let v3764 : BitVec 1 := Scalar.cmpi .slt v537 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v537 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v537 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r14 : BitVec 32 := 0#32
  ![v3779.toNat, 0]
def k0_cond11 (i : grid0.Coords) (v25 : BitVec 32) (v535 : BitVec 32) : BitVec 1 :=
  let c10_i32 : BitVec 32 := 10#32
  let v555 : BitVec 1 := Scalar.cmpi .sgt v25 c10_i32
  let c0_i32_199 : BitVec 32 := 0#32
  let v539 : BitVec 1 := Scalar.cmpi .sgt v535 c0_i32_199
  let v540 : BitVec 32 := Scalar.extui v539
  let c0_i32_200 : BitVec 32 := 0#32
  let v541 : BitVec 1 := Scalar.cmpi .slt v535 c0_i32_200
  let v542 : BitVec 32 := Scalar.extui v541
  let v543 : BitVec 32 := Scalar.subi v540 v542
  let c16_i32_198 : BitVec 32 := 16#32
  let c0_i32_201 : BitVec 32 := 0#32
  let v544 : BitVec 1 := Scalar.cmpi .sgt c16_i32_198 c0_i32_201
  let v545 : BitVec 32 := Scalar.extui v544
  let c0_i32_202 : BitVec 32 := 0#32
  let v546 : BitVec 1 := Scalar.cmpi .slt c16_i32_198 c0_i32_202
  let v547 : BitVec 32 := Scalar.extui v546
  let v548 : BitVec 32 := Scalar.subi v545 v547
  let v549 : BitVec 1 := Scalar.cmpi .ne v543 v548
  let v550 : BitVec 32 := Scalar.remsi v535 c16_i32_198
  let c0_i32_203 : BitVec 32 := 0#32
  let v551 : BitVec 1 := Scalar.cmpi .ne v550 c0_i32_203
  let v552 : BitVec 1 := Scalar.andi v549 v551
  let v538 : BitVec 32 := Scalar.divsi v535 c16_i32_198
  let c1_i32_204 : BitVec 32 := 1#32
  let v553 : BitVec 32 := Scalar.subi v538 c1_i32_204
  let v554 : BitVec 32 := Scalar.select v552 v553 v538
  let c0_i32_206 : BitVec 32 := 0#32
  let v557 : BitVec 1 := Scalar.cmpi .sgt v554 c0_i32_206
  let v558 : BitVec 32 := Scalar.extui v557
  let c0_i32_207 : BitVec 32 := 0#32
  let v559 : BitVec 1 := Scalar.cmpi .slt v554 c0_i32_207
  let v560 : BitVec 32 := Scalar.extui v559
  let v561 : BitVec 32 := Scalar.subi v558 v560
  let c4_i32_205 : BitVec 32 := 4#32
  let c0_i32_208 : BitVec 32 := 0#32
  let v562 : BitVec 1 := Scalar.cmpi .sgt c4_i32_205 c0_i32_208
  let v563 : BitVec 32 := Scalar.extui v562
  let c0_i32_209 : BitVec 32 := 0#32
  let v564 : BitVec 1 := Scalar.cmpi .slt c4_i32_205 c0_i32_209
  let v565 : BitVec 32 := Scalar.extui v564
  let v566 : BitVec 32 := Scalar.subi v563 v565
  let v567 : BitVec 1 := Scalar.cmpi .ne v561 v566
  let v568 : BitVec 32 := Scalar.remsi v554 c4_i32_205
  let c0_i32_210 : BitVec 32 := 0#32
  let v569 : BitVec 1 := Scalar.cmpi .ne v568 c0_i32_210
  let v570 : BitVec 1 := Scalar.andi v567 v569
  let v556 : BitVec 32 := Scalar.divsi v554 c4_i32_205
  let c1_i32_211 : BitVec 32 := 1#32
  let v571 : BitVec 32 := Scalar.subi v556 c1_i32_211
  let v572 : BitVec 32 := Scalar.select v570 v571 v556
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v573 : BitVec 1 := Scalar.cmpi .eq v572 v103
  let v574 : BitVec 1 := Scalar.andi v555 v573
  let v575 : BitVec 32 := Scalar.extui v574
  let c0_i32_212 : BitVec 32 := 0#32
  let v576 : BitVec 1 := Scalar.cmpi .ne v575 c0_i32_212
  v576

@[reducible] def k0_t11_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off54 (v537 : BitVec 32) (k0_t11 : Fin k0_t11_loop.trips) : Fin 2 → Nat :=
  let c0_i32_1453 : BitVec 32 := 0#32
  let c1_i32_1455 : BitVec 32 := 1#32
  let arg19 : BitVec 32 := Scf.iv c0_i32_1453 c1_i32_1455 k0_t11
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v537 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off55 (v535 : BitVec 32) (k0_t11 : Fin k0_t11_loop.trips) : Fin 2 → Nat :=
  let c0_i32_199 : BitVec 32 := 0#32
  let v539 : BitVec 1 := Scalar.cmpi .sgt v535 c0_i32_199
  let v540 : BitVec 32 := Scalar.extui v539
  let c0_i32_200 : BitVec 32 := 0#32
  let v541 : BitVec 1 := Scalar.cmpi .slt v535 c0_i32_200
  let v542 : BitVec 32 := Scalar.extui v541
  let v543 : BitVec 32 := Scalar.subi v540 v542
  let c16_i32_198 : BitVec 32 := 16#32
  let c0_i32_201 : BitVec 32 := 0#32
  let v544 : BitVec 1 := Scalar.cmpi .sgt c16_i32_198 c0_i32_201
  let v545 : BitVec 32 := Scalar.extui v544
  let c0_i32_202 : BitVec 32 := 0#32
  let v546 : BitVec 1 := Scalar.cmpi .slt c16_i32_198 c0_i32_202
  let v547 : BitVec 32 := Scalar.extui v546
  let v548 : BitVec 32 := Scalar.subi v545 v547
  let v549 : BitVec 1 := Scalar.cmpi .ne v543 v548
  let v550 : BitVec 32 := Scalar.remsi v535 c16_i32_198
  let c0_i32_203 : BitVec 32 := 0#32
  let v551 : BitVec 1 := Scalar.cmpi .ne v550 c0_i32_203
  let v552 : BitVec 1 := Scalar.andi v549 v551
  let v538 : BitVec 32 := Scalar.divsi v535 c16_i32_198
  let c1_i32_204 : BitVec 32 := 1#32
  let v553 : BitVec 32 := Scalar.subi v538 c1_i32_204
  let v554 : BitVec 32 := Scalar.select v552 v553 v538
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v554 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t11
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v535 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off56 (v537 : BitVec 32) (k0_t11 : Fin k0_t11_loop.trips) : Fin 2 → Nat :=
  let c0_i32_1453 : BitVec 32 := 0#32
  let c1_i32_1455 : BitVec 32 := 1#32
  let arg19 : BitVec 32 := Scf.iv c0_i32_1453 c1_i32_1455 k0_t11
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v537 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk21 (i : grid0.Coords) (v25 : BitVec 32) (v535 : BitVec 32) (v537 : BitVec 32) : Prop :=
  (∀ (k0_h11 : k0_cond11 i v25 v535 = 1#1), ∀ a, (k0_off53 i v537) a + S32x512.size a ≤ S12288x512.size a) ∧
  (∀ k0_t11 : Fin k0_t11_loop.trips, ∀ (k0_h11 : k0_cond11 i v25 v535 = 1#1), ∀ a, (k0_off54 v537 k0_t11) a + S1x16.size a ≤ S32x512.size a) ∧
  (∀ k0_t11 : Fin k0_t11_loop.trips, ∀ (k0_h11 : k0_cond11 i v25 v535 = 1#1), ∀ a, (k0_off56 v537 k0_t11) a + S1x16.size a ≤ S32x512.size a)
theorem k0_off53_inb : ∀ (i : grid0.Coords) (v25 : BitVec 32) (v535 : BitVec 32) (v537 : BitVec 32) (k0_hw21 : k0_chk21 i v25 v535 v537), ∀ (k0_h11 : k0_cond11 i v25 v535 = 1#1), ∀ a, (k0_off53 i v537) a + S32x512.size a ≤ S12288x512.size a := fun i v25 v535 v537 k0_hw21 k0_h11 => k0_hw21.1 k0_h11
theorem k0_off54_inb : ∀ (i : grid0.Coords) (v25 : BitVec 32) (v535 : BitVec 32) (v537 : BitVec 32) (k0_hw21 : k0_chk21 i v25 v535 v537) (k0_t11 : Fin k0_t11_loop.trips), ∀ (k0_h11 : k0_cond11 i v25 v535 = 1#1), ∀ a, (k0_off54 v537 k0_t11) a + S1x16.size a ≤ S32x512.size a := fun i v25 v535 v537 k0_hw21 k0_t11 k0_h11 => k0_hw21.2.1 k0_t11 k0_h11
theorem k0_off56_inb : ∀ (i : grid0.Coords) (v25 : BitVec 32) (v535 : BitVec 32) (v537 : BitVec 32) (k0_hw21 : k0_chk21 i v25 v535 v537) (k0_t11 : Fin k0_t11_loop.trips), ∀ (k0_h11 : k0_cond11 i v25 v535 = 1#1), ∀ a, (k0_off56 v537 k0_t11) a + S1x16.size a ≤ S32x512.size a := fun i v25 v535 v537 k0_hw21 k0_t11 k0_h11 => k0_hw21.2.2 k0_t11 k0_h11

def k0_off57 (v535 : BitVec 32) (k0_t11 : Fin k0_t11_loop.trips) : Fin 2 → Nat :=
  let c0_i32_199 : BitVec 32 := 0#32
  let v539 : BitVec 1 := Scalar.cmpi .sgt v535 c0_i32_199
  let v540 : BitVec 32 := Scalar.extui v539
  let c0_i32_200 : BitVec 32 := 0#32
  let v541 : BitVec 1 := Scalar.cmpi .slt v535 c0_i32_200
  let v542 : BitVec 32 := Scalar.extui v541
  let v543 : BitVec 32 := Scalar.subi v540 v542
  let c16_i32_198 : BitVec 32 := 16#32
  let c0_i32_201 : BitVec 32 := 0#32
  let v544 : BitVec 1 := Scalar.cmpi .sgt c16_i32_198 c0_i32_201
  let v545 : BitVec 32 := Scalar.extui v544
  let c0_i32_202 : BitVec 32 := 0#32
  let v546 : BitVec 1 := Scalar.cmpi .slt c16_i32_198 c0_i32_202
  let v547 : BitVec 32 := Scalar.extui v546
  let v548 : BitVec 32 := Scalar.subi v545 v547
  let v549 : BitVec 1 := Scalar.cmpi .ne v543 v548
  let v550 : BitVec 32 := Scalar.remsi v535 c16_i32_198
  let c0_i32_203 : BitVec 32 := 0#32
  let v551 : BitVec 1 := Scalar.cmpi .ne v550 c0_i32_203
  let v552 : BitVec 1 := Scalar.andi v549 v551
  let v538 : BitVec 32 := Scalar.divsi v535 c16_i32_198
  let c1_i32_204 : BitVec 32 := 1#32
  let v553 : BitVec 32 := Scalar.subi v538 c1_i32_204
  let v554 : BitVec 32 := Scalar.select v552 v553 v538
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v554 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t11
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v535 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk22 (i : grid0.Coords) (v25 : BitVec 32) (v535 : BitVec 32) : Prop :=
  (∀ k0_t11 : Fin k0_t11_loop.trips, ∀ (k0_h11 : k0_cond11 i v25 v535 = 1#1), ∀ a, (k0_off55 v535 k0_t11) a + S1x16.size a ≤ S128x512.size a) ∧
  (∀ k0_t11 : Fin k0_t11_loop.trips, ∀ (k0_h11 : k0_cond11 i v25 v535 = 1#1), ∀ a, (k0_off57 v535 k0_t11) a + S1x16.size a ≤ S128x512.size a)
theorem k0_off55_inb : ∀ (i : grid0.Coords) (v25 : BitVec 32) (v535 : BitVec 32) (k0_hw22 : k0_chk22 i v25 v535) (k0_t11 : Fin k0_t11_loop.trips), ∀ (k0_h11 : k0_cond11 i v25 v535 = 1#1), ∀ a, (k0_off55 v535 k0_t11) a + S1x16.size a ≤ S128x512.size a := fun i v25 v535 k0_hw22 k0_t11 k0_h11 => k0_hw22.1 k0_t11 k0_h11
theorem k0_off57_inb : ∀ (i : grid0.Coords) (v25 : BitVec 32) (v535 : BitVec 32) (k0_hw22 : k0_chk22 i v25 v535) (k0_t11 : Fin k0_t11_loop.trips), ∀ (k0_h11 : k0_cond11 i v25 v535 = 1#1), ∀ a, (k0_off57 v535 k0_t11) a + S1x16.size a ≤ S128x512.size a := fun i v25 v535 k0_hw22 k0_t11 k0_h11 => k0_hw22.2 k0_t11 k0_h11

def k0_off58 (i : grid0.Coords) (v580 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v580 c0_i32_1428
  let v3763 : BitVec 32 := Scalar.extui v3762
  let c0_i32_1429 : BitVec 32 := 0#32
  let v3764 : BitVec 1 := Scalar.cmpi .slt v580 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v580 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v580 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r15 : BitVec 32 := 0#32
  ![v3779.toNat, 0]
def k0_cond12 (i : grid0.Coords) (v25 : BitVec 32) (v578 : BitVec 32) : BitVec 1 :=
  let c11_i32 : BitVec 32 := 11#32
  let v598 : BitVec 1 := Scalar.cmpi .sgt v25 c11_i32
  let c0_i32_214 : BitVec 32 := 0#32
  let v582 : BitVec 1 := Scalar.cmpi .sgt v578 c0_i32_214
  let v583 : BitVec 32 := Scalar.extui v582
  let c0_i32_215 : BitVec 32 := 0#32
  let v584 : BitVec 1 := Scalar.cmpi .slt v578 c0_i32_215
  let v585 : BitVec 32 := Scalar.extui v584
  let v586 : BitVec 32 := Scalar.subi v583 v585
  let c16_i32_213 : BitVec 32 := 16#32
  let c0_i32_216 : BitVec 32 := 0#32
  let v587 : BitVec 1 := Scalar.cmpi .sgt c16_i32_213 c0_i32_216
  let v588 : BitVec 32 := Scalar.extui v587
  let c0_i32_217 : BitVec 32 := 0#32
  let v589 : BitVec 1 := Scalar.cmpi .slt c16_i32_213 c0_i32_217
  let v590 : BitVec 32 := Scalar.extui v589
  let v591 : BitVec 32 := Scalar.subi v588 v590
  let v592 : BitVec 1 := Scalar.cmpi .ne v586 v591
  let v593 : BitVec 32 := Scalar.remsi v578 c16_i32_213
  let c0_i32_218 : BitVec 32 := 0#32
  let v594 : BitVec 1 := Scalar.cmpi .ne v593 c0_i32_218
  let v595 : BitVec 1 := Scalar.andi v592 v594
  let v581 : BitVec 32 := Scalar.divsi v578 c16_i32_213
  let c1_i32_219 : BitVec 32 := 1#32
  let v596 : BitVec 32 := Scalar.subi v581 c1_i32_219
  let v597 : BitVec 32 := Scalar.select v595 v596 v581
  let c0_i32_221 : BitVec 32 := 0#32
  let v600 : BitVec 1 := Scalar.cmpi .sgt v597 c0_i32_221
  let v601 : BitVec 32 := Scalar.extui v600
  let c0_i32_222 : BitVec 32 := 0#32
  let v602 : BitVec 1 := Scalar.cmpi .slt v597 c0_i32_222
  let v603 : BitVec 32 := Scalar.extui v602
  let v604 : BitVec 32 := Scalar.subi v601 v603
  let c4_i32_220 : BitVec 32 := 4#32
  let c0_i32_223 : BitVec 32 := 0#32
  let v605 : BitVec 1 := Scalar.cmpi .sgt c4_i32_220 c0_i32_223
  let v606 : BitVec 32 := Scalar.extui v605
  let c0_i32_224 : BitVec 32 := 0#32
  let v607 : BitVec 1 := Scalar.cmpi .slt c4_i32_220 c0_i32_224
  let v608 : BitVec 32 := Scalar.extui v607
  let v609 : BitVec 32 := Scalar.subi v606 v608
  let v610 : BitVec 1 := Scalar.cmpi .ne v604 v609
  let v611 : BitVec 32 := Scalar.remsi v597 c4_i32_220
  let c0_i32_225 : BitVec 32 := 0#32
  let v612 : BitVec 1 := Scalar.cmpi .ne v611 c0_i32_225
  let v613 : BitVec 1 := Scalar.andi v610 v612
  let v599 : BitVec 32 := Scalar.divsi v597 c4_i32_220
  let c1_i32_226 : BitVec 32 := 1#32
  let v614 : BitVec 32 := Scalar.subi v599 c1_i32_226
  let v615 : BitVec 32 := Scalar.select v613 v614 v599
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v616 : BitVec 1 := Scalar.cmpi .eq v615 v103
  let v617 : BitVec 1 := Scalar.andi v598 v616
  let v618 : BitVec 32 := Scalar.extui v617
  let c0_i32_227 : BitVec 32 := 0#32
  let v619 : BitVec 1 := Scalar.cmpi .ne v618 c0_i32_227
  v619

@[reducible] def k0_t12_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off59 (v580 : BitVec 32) (k0_t12 : Fin k0_t12_loop.trips) : Fin 2 → Nat :=
  let c0_i32_1453 : BitVec 32 := 0#32
  let c1_i32_1455 : BitVec 32 := 1#32
  let arg19 : BitVec 32 := Scf.iv c0_i32_1453 c1_i32_1455 k0_t12
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v580 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off60 (v578 : BitVec 32) (k0_t12 : Fin k0_t12_loop.trips) : Fin 2 → Nat :=
  let c0_i32_214 : BitVec 32 := 0#32
  let v582 : BitVec 1 := Scalar.cmpi .sgt v578 c0_i32_214
  let v583 : BitVec 32 := Scalar.extui v582
  let c0_i32_215 : BitVec 32 := 0#32
  let v584 : BitVec 1 := Scalar.cmpi .slt v578 c0_i32_215
  let v585 : BitVec 32 := Scalar.extui v584
  let v586 : BitVec 32 := Scalar.subi v583 v585
  let c16_i32_213 : BitVec 32 := 16#32
  let c0_i32_216 : BitVec 32 := 0#32
  let v587 : BitVec 1 := Scalar.cmpi .sgt c16_i32_213 c0_i32_216
  let v588 : BitVec 32 := Scalar.extui v587
  let c0_i32_217 : BitVec 32 := 0#32
  let v589 : BitVec 1 := Scalar.cmpi .slt c16_i32_213 c0_i32_217
  let v590 : BitVec 32 := Scalar.extui v589
  let v591 : BitVec 32 := Scalar.subi v588 v590
  let v592 : BitVec 1 := Scalar.cmpi .ne v586 v591
  let v593 : BitVec 32 := Scalar.remsi v578 c16_i32_213
  let c0_i32_218 : BitVec 32 := 0#32
  let v594 : BitVec 1 := Scalar.cmpi .ne v593 c0_i32_218
  let v595 : BitVec 1 := Scalar.andi v592 v594
  let v581 : BitVec 32 := Scalar.divsi v578 c16_i32_213
  let c1_i32_219 : BitVec 32 := 1#32
  let v596 : BitVec 32 := Scalar.subi v581 c1_i32_219
  let v597 : BitVec 32 := Scalar.select v595 v596 v581
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v597 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t12
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v578 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off61 (v580 : BitVec 32) (k0_t12 : Fin k0_t12_loop.trips) : Fin 2 → Nat :=
  let c0_i32_1453 : BitVec 32 := 0#32
  let c1_i32_1455 : BitVec 32 := 1#32
  let arg19 : BitVec 32 := Scf.iv c0_i32_1453 c1_i32_1455 k0_t12
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v580 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk23 (i : grid0.Coords) (v25 : BitVec 32) (v578 : BitVec 32) (v580 : BitVec 32) : Prop :=
  (∀ (k0_h12 : k0_cond12 i v25 v578 = 1#1), ∀ a, (k0_off58 i v580) a + S32x512.size a ≤ S12288x512.size a) ∧
  (∀ k0_t12 : Fin k0_t12_loop.trips, ∀ (k0_h12 : k0_cond12 i v25 v578 = 1#1), ∀ a, (k0_off59 v580 k0_t12) a + S1x16.size a ≤ S32x512.size a) ∧
  (∀ k0_t12 : Fin k0_t12_loop.trips, ∀ (k0_h12 : k0_cond12 i v25 v578 = 1#1), ∀ a, (k0_off61 v580 k0_t12) a + S1x16.size a ≤ S32x512.size a)
theorem k0_off58_inb : ∀ (i : grid0.Coords) (v25 : BitVec 32) (v578 : BitVec 32) (v580 : BitVec 32) (k0_hw23 : k0_chk23 i v25 v578 v580), ∀ (k0_h12 : k0_cond12 i v25 v578 = 1#1), ∀ a, (k0_off58 i v580) a + S32x512.size a ≤ S12288x512.size a := fun i v25 v578 v580 k0_hw23 k0_h12 => k0_hw23.1 k0_h12
theorem k0_off59_inb : ∀ (i : grid0.Coords) (v25 : BitVec 32) (v578 : BitVec 32) (v580 : BitVec 32) (k0_hw23 : k0_chk23 i v25 v578 v580) (k0_t12 : Fin k0_t12_loop.trips), ∀ (k0_h12 : k0_cond12 i v25 v578 = 1#1), ∀ a, (k0_off59 v580 k0_t12) a + S1x16.size a ≤ S32x512.size a := fun i v25 v578 v580 k0_hw23 k0_t12 k0_h12 => k0_hw23.2.1 k0_t12 k0_h12
theorem k0_off61_inb : ∀ (i : grid0.Coords) (v25 : BitVec 32) (v578 : BitVec 32) (v580 : BitVec 32) (k0_hw23 : k0_chk23 i v25 v578 v580) (k0_t12 : Fin k0_t12_loop.trips), ∀ (k0_h12 : k0_cond12 i v25 v578 = 1#1), ∀ a, (k0_off61 v580 k0_t12) a + S1x16.size a ≤ S32x512.size a := fun i v25 v578 v580 k0_hw23 k0_t12 k0_h12 => k0_hw23.2.2 k0_t12 k0_h12

def k0_off62 (v578 : BitVec 32) (k0_t12 : Fin k0_t12_loop.trips) : Fin 2 → Nat :=
  let c0_i32_214 : BitVec 32 := 0#32
  let v582 : BitVec 1 := Scalar.cmpi .sgt v578 c0_i32_214
  let v583 : BitVec 32 := Scalar.extui v582
  let c0_i32_215 : BitVec 32 := 0#32
  let v584 : BitVec 1 := Scalar.cmpi .slt v578 c0_i32_215
  let v585 : BitVec 32 := Scalar.extui v584
  let v586 : BitVec 32 := Scalar.subi v583 v585
  let c16_i32_213 : BitVec 32 := 16#32
  let c0_i32_216 : BitVec 32 := 0#32
  let v587 : BitVec 1 := Scalar.cmpi .sgt c16_i32_213 c0_i32_216
  let v588 : BitVec 32 := Scalar.extui v587
  let c0_i32_217 : BitVec 32 := 0#32
  let v589 : BitVec 1 := Scalar.cmpi .slt c16_i32_213 c0_i32_217
  let v590 : BitVec 32 := Scalar.extui v589
  let v591 : BitVec 32 := Scalar.subi v588 v590
  let v592 : BitVec 1 := Scalar.cmpi .ne v586 v591
  let v593 : BitVec 32 := Scalar.remsi v578 c16_i32_213
  let c0_i32_218 : BitVec 32 := 0#32
  let v594 : BitVec 1 := Scalar.cmpi .ne v593 c0_i32_218
  let v595 : BitVec 1 := Scalar.andi v592 v594
  let v581 : BitVec 32 := Scalar.divsi v578 c16_i32_213
  let c1_i32_219 : BitVec 32 := 1#32
  let v596 : BitVec 32 := Scalar.subi v581 c1_i32_219
  let v597 : BitVec 32 := Scalar.select v595 v596 v581
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v597 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t12
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v578 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk24 (i : grid0.Coords) (v25 : BitVec 32) (v578 : BitVec 32) : Prop :=
  (∀ k0_t12 : Fin k0_t12_loop.trips, ∀ (k0_h12 : k0_cond12 i v25 v578 = 1#1), ∀ a, (k0_off60 v578 k0_t12) a + S1x16.size a ≤ S128x512.size a) ∧
  (∀ k0_t12 : Fin k0_t12_loop.trips, ∀ (k0_h12 : k0_cond12 i v25 v578 = 1#1), ∀ a, (k0_off62 v578 k0_t12) a + S1x16.size a ≤ S128x512.size a)
theorem k0_off60_inb : ∀ (i : grid0.Coords) (v25 : BitVec 32) (v578 : BitVec 32) (k0_hw24 : k0_chk24 i v25 v578) (k0_t12 : Fin k0_t12_loop.trips), ∀ (k0_h12 : k0_cond12 i v25 v578 = 1#1), ∀ a, (k0_off60 v578 k0_t12) a + S1x16.size a ≤ S128x512.size a := fun i v25 v578 k0_hw24 k0_t12 k0_h12 => k0_hw24.1 k0_t12 k0_h12
theorem k0_off62_inb : ∀ (i : grid0.Coords) (v25 : BitVec 32) (v578 : BitVec 32) (k0_hw24 : k0_chk24 i v25 v578) (k0_t12 : Fin k0_t12_loop.trips), ∀ (k0_h12 : k0_cond12 i v25 v578 = 1#1), ∀ a, (k0_off62 v578 k0_t12) a + S1x16.size a ≤ S128x512.size a := fun i v25 v578 k0_hw24 k0_t12 k0_h12 => k0_hw24.2 k0_t12 k0_h12

def k0_off63 (i : grid0.Coords) (v623 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v623 c0_i32_1428
  let v3763 : BitVec 32 := Scalar.extui v3762
  let c0_i32_1429 : BitVec 32 := 0#32
  let v3764 : BitVec 1 := Scalar.cmpi .slt v623 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v623 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v623 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r16 : BitVec 32 := 0#32
  ![v3779.toNat, 0]
def k0_cond13 (i : grid0.Coords) (v25 : BitVec 32) (v621 : BitVec 32) : BitVec 1 :=
  let c12_i32_235 : BitVec 32 := 12#32
  let v641 : BitVec 1 := Scalar.cmpi .sgt v25 c12_i32_235
  let c0_i32_229 : BitVec 32 := 0#32
  let v625 : BitVec 1 := Scalar.cmpi .sgt v621 c0_i32_229
  let v626 : BitVec 32 := Scalar.extui v625
  let c0_i32_230 : BitVec 32 := 0#32
  let v627 : BitVec 1 := Scalar.cmpi .slt v621 c0_i32_230
  let v628 : BitVec 32 := Scalar.extui v627
  let v629 : BitVec 32 := Scalar.subi v626 v628
  let c16_i32_228 : BitVec 32 := 16#32
  let c0_i32_231 : BitVec 32 := 0#32
  let v630 : BitVec 1 := Scalar.cmpi .sgt c16_i32_228 c0_i32_231
  let v631 : BitVec 32 := Scalar.extui v630
  let c0_i32_232 : BitVec 32 := 0#32
  let v632 : BitVec 1 := Scalar.cmpi .slt c16_i32_228 c0_i32_232
  let v633 : BitVec 32 := Scalar.extui v632
  let v634 : BitVec 32 := Scalar.subi v631 v633
  let v635 : BitVec 1 := Scalar.cmpi .ne v629 v634
  let v636 : BitVec 32 := Scalar.remsi v621 c16_i32_228
  let c0_i32_233 : BitVec 32 := 0#32
  let v637 : BitVec 1 := Scalar.cmpi .ne v636 c0_i32_233
  let v638 : BitVec 1 := Scalar.andi v635 v637
  let v624 : BitVec 32 := Scalar.divsi v621 c16_i32_228
  let c1_i32_234 : BitVec 32 := 1#32
  let v639 : BitVec 32 := Scalar.subi v624 c1_i32_234
  let v640 : BitVec 32 := Scalar.select v638 v639 v624
  let c0_i32_237 : BitVec 32 := 0#32
  let v643 : BitVec 1 := Scalar.cmpi .sgt v640 c0_i32_237
  let v644 : BitVec 32 := Scalar.extui v643
  let c0_i32_238 : BitVec 32 := 0#32
  let v645 : BitVec 1 := Scalar.cmpi .slt v640 c0_i32_238
  let v646 : BitVec 32 := Scalar.extui v645
  let v647 : BitVec 32 := Scalar.subi v644 v646
  let c4_i32_236 : BitVec 32 := 4#32
  let c0_i32_239 : BitVec 32 := 0#32
  let v648 : BitVec 1 := Scalar.cmpi .sgt c4_i32_236 c0_i32_239
  let v649 : BitVec 32 := Scalar.extui v648
  let c0_i32_240 : BitVec 32 := 0#32
  let v650 : BitVec 1 := Scalar.cmpi .slt c4_i32_236 c0_i32_240
  let v651 : BitVec 32 := Scalar.extui v650
  let v652 : BitVec 32 := Scalar.subi v649 v651
  let v653 : BitVec 1 := Scalar.cmpi .ne v647 v652
  let v654 : BitVec 32 := Scalar.remsi v640 c4_i32_236
  let c0_i32_241 : BitVec 32 := 0#32
  let v655 : BitVec 1 := Scalar.cmpi .ne v654 c0_i32_241
  let v656 : BitVec 1 := Scalar.andi v653 v655
  let v642 : BitVec 32 := Scalar.divsi v640 c4_i32_236
  let c1_i32_242 : BitVec 32 := 1#32
  let v657 : BitVec 32 := Scalar.subi v642 c1_i32_242
  let v658 : BitVec 32 := Scalar.select v656 v657 v642
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v659 : BitVec 1 := Scalar.cmpi .eq v658 v103
  let v660 : BitVec 1 := Scalar.andi v641 v659
  let v661 : BitVec 32 := Scalar.extui v660
  let c0_i32_243 : BitVec 32 := 0#32
  let v662 : BitVec 1 := Scalar.cmpi .ne v661 c0_i32_243
  v662

@[reducible] def k0_t13_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off64 (v623 : BitVec 32) (k0_t13 : Fin k0_t13_loop.trips) : Fin 2 → Nat :=
  let c0_i32_1453 : BitVec 32 := 0#32
  let c1_i32_1455 : BitVec 32 := 1#32
  let arg19 : BitVec 32 := Scf.iv c0_i32_1453 c1_i32_1455 k0_t13
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v623 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off65 (v621 : BitVec 32) (k0_t13 : Fin k0_t13_loop.trips) : Fin 2 → Nat :=
  let c0_i32_229 : BitVec 32 := 0#32
  let v625 : BitVec 1 := Scalar.cmpi .sgt v621 c0_i32_229
  let v626 : BitVec 32 := Scalar.extui v625
  let c0_i32_230 : BitVec 32 := 0#32
  let v627 : BitVec 1 := Scalar.cmpi .slt v621 c0_i32_230
  let v628 : BitVec 32 := Scalar.extui v627
  let v629 : BitVec 32 := Scalar.subi v626 v628
  let c16_i32_228 : BitVec 32 := 16#32
  let c0_i32_231 : BitVec 32 := 0#32
  let v630 : BitVec 1 := Scalar.cmpi .sgt c16_i32_228 c0_i32_231
  let v631 : BitVec 32 := Scalar.extui v630
  let c0_i32_232 : BitVec 32 := 0#32
  let v632 : BitVec 1 := Scalar.cmpi .slt c16_i32_228 c0_i32_232
  let v633 : BitVec 32 := Scalar.extui v632
  let v634 : BitVec 32 := Scalar.subi v631 v633
  let v635 : BitVec 1 := Scalar.cmpi .ne v629 v634
  let v636 : BitVec 32 := Scalar.remsi v621 c16_i32_228
  let c0_i32_233 : BitVec 32 := 0#32
  let v637 : BitVec 1 := Scalar.cmpi .ne v636 c0_i32_233
  let v638 : BitVec 1 := Scalar.andi v635 v637
  let v624 : BitVec 32 := Scalar.divsi v621 c16_i32_228
  let c1_i32_234 : BitVec 32 := 1#32
  let v639 : BitVec 32 := Scalar.subi v624 c1_i32_234
  let v640 : BitVec 32 := Scalar.select v638 v639 v624
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v640 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t13
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v621 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off66 (v623 : BitVec 32) (k0_t13 : Fin k0_t13_loop.trips) : Fin 2 → Nat :=
  let c0_i32_1453 : BitVec 32 := 0#32
  let c1_i32_1455 : BitVec 32 := 1#32
  let arg19 : BitVec 32 := Scf.iv c0_i32_1453 c1_i32_1455 k0_t13
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v623 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk25 (i : grid0.Coords) (v25 : BitVec 32) (v621 : BitVec 32) (v623 : BitVec 32) : Prop :=
  (∀ (k0_h13 : k0_cond13 i v25 v621 = 1#1), ∀ a, (k0_off63 i v623) a + S32x512.size a ≤ S12288x512.size a) ∧
  (∀ k0_t13 : Fin k0_t13_loop.trips, ∀ (k0_h13 : k0_cond13 i v25 v621 = 1#1), ∀ a, (k0_off64 v623 k0_t13) a + S1x16.size a ≤ S32x512.size a) ∧
  (∀ k0_t13 : Fin k0_t13_loop.trips, ∀ (k0_h13 : k0_cond13 i v25 v621 = 1#1), ∀ a, (k0_off66 v623 k0_t13) a + S1x16.size a ≤ S32x512.size a)
theorem k0_off63_inb : ∀ (i : grid0.Coords) (v25 : BitVec 32) (v621 : BitVec 32) (v623 : BitVec 32) (k0_hw25 : k0_chk25 i v25 v621 v623), ∀ (k0_h13 : k0_cond13 i v25 v621 = 1#1), ∀ a, (k0_off63 i v623) a + S32x512.size a ≤ S12288x512.size a := fun i v25 v621 v623 k0_hw25 k0_h13 => k0_hw25.1 k0_h13
theorem k0_off64_inb : ∀ (i : grid0.Coords) (v25 : BitVec 32) (v621 : BitVec 32) (v623 : BitVec 32) (k0_hw25 : k0_chk25 i v25 v621 v623) (k0_t13 : Fin k0_t13_loop.trips), ∀ (k0_h13 : k0_cond13 i v25 v621 = 1#1), ∀ a, (k0_off64 v623 k0_t13) a + S1x16.size a ≤ S32x512.size a := fun i v25 v621 v623 k0_hw25 k0_t13 k0_h13 => k0_hw25.2.1 k0_t13 k0_h13
theorem k0_off66_inb : ∀ (i : grid0.Coords) (v25 : BitVec 32) (v621 : BitVec 32) (v623 : BitVec 32) (k0_hw25 : k0_chk25 i v25 v621 v623) (k0_t13 : Fin k0_t13_loop.trips), ∀ (k0_h13 : k0_cond13 i v25 v621 = 1#1), ∀ a, (k0_off66 v623 k0_t13) a + S1x16.size a ≤ S32x512.size a := fun i v25 v621 v623 k0_hw25 k0_t13 k0_h13 => k0_hw25.2.2 k0_t13 k0_h13

def k0_off67 (v621 : BitVec 32) (k0_t13 : Fin k0_t13_loop.trips) : Fin 2 → Nat :=
  let c0_i32_229 : BitVec 32 := 0#32
  let v625 : BitVec 1 := Scalar.cmpi .sgt v621 c0_i32_229
  let v626 : BitVec 32 := Scalar.extui v625
  let c0_i32_230 : BitVec 32 := 0#32
  let v627 : BitVec 1 := Scalar.cmpi .slt v621 c0_i32_230
  let v628 : BitVec 32 := Scalar.extui v627
  let v629 : BitVec 32 := Scalar.subi v626 v628
  let c16_i32_228 : BitVec 32 := 16#32
  let c0_i32_231 : BitVec 32 := 0#32
  let v630 : BitVec 1 := Scalar.cmpi .sgt c16_i32_228 c0_i32_231
  let v631 : BitVec 32 := Scalar.extui v630
  let c0_i32_232 : BitVec 32 := 0#32
  let v632 : BitVec 1 := Scalar.cmpi .slt c16_i32_228 c0_i32_232
  let v633 : BitVec 32 := Scalar.extui v632
  let v634 : BitVec 32 := Scalar.subi v631 v633
  let v635 : BitVec 1 := Scalar.cmpi .ne v629 v634
  let v636 : BitVec 32 := Scalar.remsi v621 c16_i32_228
  let c0_i32_233 : BitVec 32 := 0#32
  let v637 : BitVec 1 := Scalar.cmpi .ne v636 c0_i32_233
  let v638 : BitVec 1 := Scalar.andi v635 v637
  let v624 : BitVec 32 := Scalar.divsi v621 c16_i32_228
  let c1_i32_234 : BitVec 32 := 1#32
  let v639 : BitVec 32 := Scalar.subi v624 c1_i32_234
  let v640 : BitVec 32 := Scalar.select v638 v639 v624
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v640 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t13
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v621 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk26 (i : grid0.Coords) (v25 : BitVec 32) (v621 : BitVec 32) : Prop :=
  (∀ k0_t13 : Fin k0_t13_loop.trips, ∀ (k0_h13 : k0_cond13 i v25 v621 = 1#1), ∀ a, (k0_off65 v621 k0_t13) a + S1x16.size a ≤ S128x512.size a) ∧
  (∀ k0_t13 : Fin k0_t13_loop.trips, ∀ (k0_h13 : k0_cond13 i v25 v621 = 1#1), ∀ a, (k0_off67 v621 k0_t13) a + S1x16.size a ≤ S128x512.size a)
theorem k0_off65_inb : ∀ (i : grid0.Coords) (v25 : BitVec 32) (v621 : BitVec 32) (k0_hw26 : k0_chk26 i v25 v621) (k0_t13 : Fin k0_t13_loop.trips), ∀ (k0_h13 : k0_cond13 i v25 v621 = 1#1), ∀ a, (k0_off65 v621 k0_t13) a + S1x16.size a ≤ S128x512.size a := fun i v25 v621 k0_hw26 k0_t13 k0_h13 => k0_hw26.1 k0_t13 k0_h13
theorem k0_off67_inb : ∀ (i : grid0.Coords) (v25 : BitVec 32) (v621 : BitVec 32) (k0_hw26 : k0_chk26 i v25 v621) (k0_t13 : Fin k0_t13_loop.trips), ∀ (k0_h13 : k0_cond13 i v25 v621 = 1#1), ∀ a, (k0_off67 v621 k0_t13) a + S1x16.size a ≤ S128x512.size a := fun i v25 v621 k0_hw26 k0_t13 k0_h13 => k0_hw26.2 k0_t13 k0_h13

def k0_off68 (i : grid0.Coords) (v666 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v666 c0_i32_1428
  let v3763 : BitVec 32 := Scalar.extui v3762
  let c0_i32_1429 : BitVec 32 := 0#32
  let v3764 : BitVec 1 := Scalar.cmpi .slt v666 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v666 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v666 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r17 : BitVec 32 := 0#32
  ![v3779.toNat, 0]
def k0_cond14 (i : grid0.Coords) (v25 : BitVec 32) (v664 : BitVec 32) : BitVec 1 :=
  let c13_i32 : BitVec 32 := 13#32
  let v684 : BitVec 1 := Scalar.cmpi .sgt v25 c13_i32
  let c0_i32_245 : BitVec 32 := 0#32
  let v668 : BitVec 1 := Scalar.cmpi .sgt v664 c0_i32_245
  let v669 : BitVec 32 := Scalar.extui v668
  let c0_i32_246 : BitVec 32 := 0#32
  let v670 : BitVec 1 := Scalar.cmpi .slt v664 c0_i32_246
  let v671 : BitVec 32 := Scalar.extui v670
  let v672 : BitVec 32 := Scalar.subi v669 v671
  let c16_i32_244 : BitVec 32 := 16#32
  let c0_i32_247 : BitVec 32 := 0#32
  let v673 : BitVec 1 := Scalar.cmpi .sgt c16_i32_244 c0_i32_247
  let v674 : BitVec 32 := Scalar.extui v673
  let c0_i32_248 : BitVec 32 := 0#32
  let v675 : BitVec 1 := Scalar.cmpi .slt c16_i32_244 c0_i32_248
  let v676 : BitVec 32 := Scalar.extui v675
  let v677 : BitVec 32 := Scalar.subi v674 v676
  let v678 : BitVec 1 := Scalar.cmpi .ne v672 v677
  let v679 : BitVec 32 := Scalar.remsi v664 c16_i32_244
  let c0_i32_249 : BitVec 32 := 0#32
  let v680 : BitVec 1 := Scalar.cmpi .ne v679 c0_i32_249
  let v681 : BitVec 1 := Scalar.andi v678 v680
  let v667 : BitVec 32 := Scalar.divsi v664 c16_i32_244
  let c1_i32_250 : BitVec 32 := 1#32
  let v682 : BitVec 32 := Scalar.subi v667 c1_i32_250
  let v683 : BitVec 32 := Scalar.select v681 v682 v667
  let c0_i32_252 : BitVec 32 := 0#32
  let v686 : BitVec 1 := Scalar.cmpi .sgt v683 c0_i32_252
  let v687 : BitVec 32 := Scalar.extui v686
  let c0_i32_253 : BitVec 32 := 0#32
  let v688 : BitVec 1 := Scalar.cmpi .slt v683 c0_i32_253
  let v689 : BitVec 32 := Scalar.extui v688
  let v690 : BitVec 32 := Scalar.subi v687 v689
  let c4_i32_251 : BitVec 32 := 4#32
  let c0_i32_254 : BitVec 32 := 0#32
  let v691 : BitVec 1 := Scalar.cmpi .sgt c4_i32_251 c0_i32_254
  let v692 : BitVec 32 := Scalar.extui v691
  let c0_i32_255 : BitVec 32 := 0#32
  let v693 : BitVec 1 := Scalar.cmpi .slt c4_i32_251 c0_i32_255
  let v694 : BitVec 32 := Scalar.extui v693
  let v695 : BitVec 32 := Scalar.subi v692 v694
  let v696 : BitVec 1 := Scalar.cmpi .ne v690 v695
  let v697 : BitVec 32 := Scalar.remsi v683 c4_i32_251
  let c0_i32_256 : BitVec 32 := 0#32
  let v698 : BitVec 1 := Scalar.cmpi .ne v697 c0_i32_256
  let v699 : BitVec 1 := Scalar.andi v696 v698
  let v685 : BitVec 32 := Scalar.divsi v683 c4_i32_251
  let c1_i32_257 : BitVec 32 := 1#32
  let v700 : BitVec 32 := Scalar.subi v685 c1_i32_257
  let v701 : BitVec 32 := Scalar.select v699 v700 v685
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v702 : BitVec 1 := Scalar.cmpi .eq v701 v103
  let v703 : BitVec 1 := Scalar.andi v684 v702
  let v704 : BitVec 32 := Scalar.extui v703
  let c0_i32_258 : BitVec 32 := 0#32
  let v705 : BitVec 1 := Scalar.cmpi .ne v704 c0_i32_258
  v705

@[reducible] def k0_t14_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off69 (v666 : BitVec 32) (k0_t14 : Fin k0_t14_loop.trips) : Fin 2 → Nat :=
  let c0_i32_1453 : BitVec 32 := 0#32
  let c1_i32_1455 : BitVec 32 := 1#32
  let arg19 : BitVec 32 := Scf.iv c0_i32_1453 c1_i32_1455 k0_t14
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v666 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off70 (v664 : BitVec 32) (k0_t14 : Fin k0_t14_loop.trips) : Fin 2 → Nat :=
  let c0_i32_245 : BitVec 32 := 0#32
  let v668 : BitVec 1 := Scalar.cmpi .sgt v664 c0_i32_245
  let v669 : BitVec 32 := Scalar.extui v668
  let c0_i32_246 : BitVec 32 := 0#32
  let v670 : BitVec 1 := Scalar.cmpi .slt v664 c0_i32_246
  let v671 : BitVec 32 := Scalar.extui v670
  let v672 : BitVec 32 := Scalar.subi v669 v671
  let c16_i32_244 : BitVec 32 := 16#32
  let c0_i32_247 : BitVec 32 := 0#32
  let v673 : BitVec 1 := Scalar.cmpi .sgt c16_i32_244 c0_i32_247
  let v674 : BitVec 32 := Scalar.extui v673
  let c0_i32_248 : BitVec 32 := 0#32
  let v675 : BitVec 1 := Scalar.cmpi .slt c16_i32_244 c0_i32_248
  let v676 : BitVec 32 := Scalar.extui v675
  let v677 : BitVec 32 := Scalar.subi v674 v676
  let v678 : BitVec 1 := Scalar.cmpi .ne v672 v677
  let v679 : BitVec 32 := Scalar.remsi v664 c16_i32_244
  let c0_i32_249 : BitVec 32 := 0#32
  let v680 : BitVec 1 := Scalar.cmpi .ne v679 c0_i32_249
  let v681 : BitVec 1 := Scalar.andi v678 v680
  let v667 : BitVec 32 := Scalar.divsi v664 c16_i32_244
  let c1_i32_250 : BitVec 32 := 1#32
  let v682 : BitVec 32 := Scalar.subi v667 c1_i32_250
  let v683 : BitVec 32 := Scalar.select v681 v682 v667
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v683 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t14
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v664 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off71 (v666 : BitVec 32) (k0_t14 : Fin k0_t14_loop.trips) : Fin 2 → Nat :=
  let c0_i32_1453 : BitVec 32 := 0#32
  let c1_i32_1455 : BitVec 32 := 1#32
  let arg19 : BitVec 32 := Scf.iv c0_i32_1453 c1_i32_1455 k0_t14
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v666 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk27 (i : grid0.Coords) (v25 : BitVec 32) (v664 : BitVec 32) (v666 : BitVec 32) : Prop :=
  (∀ (k0_h14 : k0_cond14 i v25 v664 = 1#1), ∀ a, (k0_off68 i v666) a + S32x512.size a ≤ S12288x512.size a) ∧
  (∀ k0_t14 : Fin k0_t14_loop.trips, ∀ (k0_h14 : k0_cond14 i v25 v664 = 1#1), ∀ a, (k0_off69 v666 k0_t14) a + S1x16.size a ≤ S32x512.size a) ∧
  (∀ k0_t14 : Fin k0_t14_loop.trips, ∀ (k0_h14 : k0_cond14 i v25 v664 = 1#1), ∀ a, (k0_off71 v666 k0_t14) a + S1x16.size a ≤ S32x512.size a)
theorem k0_off68_inb : ∀ (i : grid0.Coords) (v25 : BitVec 32) (v664 : BitVec 32) (v666 : BitVec 32) (k0_hw27 : k0_chk27 i v25 v664 v666), ∀ (k0_h14 : k0_cond14 i v25 v664 = 1#1), ∀ a, (k0_off68 i v666) a + S32x512.size a ≤ S12288x512.size a := fun i v25 v664 v666 k0_hw27 k0_h14 => k0_hw27.1 k0_h14
theorem k0_off69_inb : ∀ (i : grid0.Coords) (v25 : BitVec 32) (v664 : BitVec 32) (v666 : BitVec 32) (k0_hw27 : k0_chk27 i v25 v664 v666) (k0_t14 : Fin k0_t14_loop.trips), ∀ (k0_h14 : k0_cond14 i v25 v664 = 1#1), ∀ a, (k0_off69 v666 k0_t14) a + S1x16.size a ≤ S32x512.size a := fun i v25 v664 v666 k0_hw27 k0_t14 k0_h14 => k0_hw27.2.1 k0_t14 k0_h14
theorem k0_off71_inb : ∀ (i : grid0.Coords) (v25 : BitVec 32) (v664 : BitVec 32) (v666 : BitVec 32) (k0_hw27 : k0_chk27 i v25 v664 v666) (k0_t14 : Fin k0_t14_loop.trips), ∀ (k0_h14 : k0_cond14 i v25 v664 = 1#1), ∀ a, (k0_off71 v666 k0_t14) a + S1x16.size a ≤ S32x512.size a := fun i v25 v664 v666 k0_hw27 k0_t14 k0_h14 => k0_hw27.2.2 k0_t14 k0_h14

def k0_off72 (v664 : BitVec 32) (k0_t14 : Fin k0_t14_loop.trips) : Fin 2 → Nat :=
  let c0_i32_245 : BitVec 32 := 0#32
  let v668 : BitVec 1 := Scalar.cmpi .sgt v664 c0_i32_245
  let v669 : BitVec 32 := Scalar.extui v668
  let c0_i32_246 : BitVec 32 := 0#32
  let v670 : BitVec 1 := Scalar.cmpi .slt v664 c0_i32_246
  let v671 : BitVec 32 := Scalar.extui v670
  let v672 : BitVec 32 := Scalar.subi v669 v671
  let c16_i32_244 : BitVec 32 := 16#32
  let c0_i32_247 : BitVec 32 := 0#32
  let v673 : BitVec 1 := Scalar.cmpi .sgt c16_i32_244 c0_i32_247
  let v674 : BitVec 32 := Scalar.extui v673
  let c0_i32_248 : BitVec 32 := 0#32
  let v675 : BitVec 1 := Scalar.cmpi .slt c16_i32_244 c0_i32_248
  let v676 : BitVec 32 := Scalar.extui v675
  let v677 : BitVec 32 := Scalar.subi v674 v676
  let v678 : BitVec 1 := Scalar.cmpi .ne v672 v677
  let v679 : BitVec 32 := Scalar.remsi v664 c16_i32_244
  let c0_i32_249 : BitVec 32 := 0#32
  let v680 : BitVec 1 := Scalar.cmpi .ne v679 c0_i32_249
  let v681 : BitVec 1 := Scalar.andi v678 v680
  let v667 : BitVec 32 := Scalar.divsi v664 c16_i32_244
  let c1_i32_250 : BitVec 32 := 1#32
  let v682 : BitVec 32 := Scalar.subi v667 c1_i32_250
  let v683 : BitVec 32 := Scalar.select v681 v682 v667
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v683 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t14
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v664 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk28 (i : grid0.Coords) (v25 : BitVec 32) (v664 : BitVec 32) : Prop :=
  (∀ k0_t14 : Fin k0_t14_loop.trips, ∀ (k0_h14 : k0_cond14 i v25 v664 = 1#1), ∀ a, (k0_off70 v664 k0_t14) a + S1x16.size a ≤ S128x512.size a) ∧
  (∀ k0_t14 : Fin k0_t14_loop.trips, ∀ (k0_h14 : k0_cond14 i v25 v664 = 1#1), ∀ a, (k0_off72 v664 k0_t14) a + S1x16.size a ≤ S128x512.size a)
theorem k0_off70_inb : ∀ (i : grid0.Coords) (v25 : BitVec 32) (v664 : BitVec 32) (k0_hw28 : k0_chk28 i v25 v664) (k0_t14 : Fin k0_t14_loop.trips), ∀ (k0_h14 : k0_cond14 i v25 v664 = 1#1), ∀ a, (k0_off70 v664 k0_t14) a + S1x16.size a ≤ S128x512.size a := fun i v25 v664 k0_hw28 k0_t14 k0_h14 => k0_hw28.1 k0_t14 k0_h14
theorem k0_off72_inb : ∀ (i : grid0.Coords) (v25 : BitVec 32) (v664 : BitVec 32) (k0_hw28 : k0_chk28 i v25 v664) (k0_t14 : Fin k0_t14_loop.trips), ∀ (k0_h14 : k0_cond14 i v25 v664 = 1#1), ∀ a, (k0_off72 v664 k0_t14) a + S1x16.size a ≤ S128x512.size a := fun i v25 v664 k0_hw28 k0_t14 k0_h14 => k0_hw28.2 k0_t14 k0_h14

def k0_off73 (i : grid0.Coords) (v709 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v709 c0_i32_1428
  let v3763 : BitVec 32 := Scalar.extui v3762
  let c0_i32_1429 : BitVec 32 := 0#32
  let v3764 : BitVec 1 := Scalar.cmpi .slt v709 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v709 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v709 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r18 : BitVec 32 := 0#32
  ![v3779.toNat, 0]
def k0_cond15 (i : grid0.Coords) (v25 : BitVec 32) (v707 : BitVec 32) : BitVec 1 :=
  let c14_i32 : BitVec 32 := 14#32
  let v727 : BitVec 1 := Scalar.cmpi .sgt v25 c14_i32
  let c0_i32_260 : BitVec 32 := 0#32
  let v711 : BitVec 1 := Scalar.cmpi .sgt v707 c0_i32_260
  let v712 : BitVec 32 := Scalar.extui v711
  let c0_i32_261 : BitVec 32 := 0#32
  let v713 : BitVec 1 := Scalar.cmpi .slt v707 c0_i32_261
  let v714 : BitVec 32 := Scalar.extui v713
  let v715 : BitVec 32 := Scalar.subi v712 v714
  let c16_i32_259 : BitVec 32 := 16#32
  let c0_i32_262 : BitVec 32 := 0#32
  let v716 : BitVec 1 := Scalar.cmpi .sgt c16_i32_259 c0_i32_262
  let v717 : BitVec 32 := Scalar.extui v716
  let c0_i32_263 : BitVec 32 := 0#32
  let v718 : BitVec 1 := Scalar.cmpi .slt c16_i32_259 c0_i32_263
  let v719 : BitVec 32 := Scalar.extui v718
  let v720 : BitVec 32 := Scalar.subi v717 v719
  let v721 : BitVec 1 := Scalar.cmpi .ne v715 v720
  let v722 : BitVec 32 := Scalar.remsi v707 c16_i32_259
  let c0_i32_264 : BitVec 32 := 0#32
  let v723 : BitVec 1 := Scalar.cmpi .ne v722 c0_i32_264
  let v724 : BitVec 1 := Scalar.andi v721 v723
  let v710 : BitVec 32 := Scalar.divsi v707 c16_i32_259
  let c1_i32_265 : BitVec 32 := 1#32
  let v725 : BitVec 32 := Scalar.subi v710 c1_i32_265
  let v726 : BitVec 32 := Scalar.select v724 v725 v710
  let c0_i32_267 : BitVec 32 := 0#32
  let v729 : BitVec 1 := Scalar.cmpi .sgt v726 c0_i32_267
  let v730 : BitVec 32 := Scalar.extui v729
  let c0_i32_268 : BitVec 32 := 0#32
  let v731 : BitVec 1 := Scalar.cmpi .slt v726 c0_i32_268
  let v732 : BitVec 32 := Scalar.extui v731
  let v733 : BitVec 32 := Scalar.subi v730 v732
  let c4_i32_266 : BitVec 32 := 4#32
  let c0_i32_269 : BitVec 32 := 0#32
  let v734 : BitVec 1 := Scalar.cmpi .sgt c4_i32_266 c0_i32_269
  let v735 : BitVec 32 := Scalar.extui v734
  let c0_i32_270 : BitVec 32 := 0#32
  let v736 : BitVec 1 := Scalar.cmpi .slt c4_i32_266 c0_i32_270
  let v737 : BitVec 32 := Scalar.extui v736
  let v738 : BitVec 32 := Scalar.subi v735 v737
  let v739 : BitVec 1 := Scalar.cmpi .ne v733 v738
  let v740 : BitVec 32 := Scalar.remsi v726 c4_i32_266
  let c0_i32_271 : BitVec 32 := 0#32
  let v741 : BitVec 1 := Scalar.cmpi .ne v740 c0_i32_271
  let v742 : BitVec 1 := Scalar.andi v739 v741
  let v728 : BitVec 32 := Scalar.divsi v726 c4_i32_266
  let c1_i32_272 : BitVec 32 := 1#32
  let v743 : BitVec 32 := Scalar.subi v728 c1_i32_272
  let v744 : BitVec 32 := Scalar.select v742 v743 v728
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v745 : BitVec 1 := Scalar.cmpi .eq v744 v103
  let v746 : BitVec 1 := Scalar.andi v727 v745
  let v747 : BitVec 32 := Scalar.extui v746
  let c0_i32_273 : BitVec 32 := 0#32
  let v748 : BitVec 1 := Scalar.cmpi .ne v747 c0_i32_273
  v748

@[reducible] def k0_t15_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off74 (v709 : BitVec 32) (k0_t15 : Fin k0_t15_loop.trips) : Fin 2 → Nat :=
  let c0_i32_1453 : BitVec 32 := 0#32
  let c1_i32_1455 : BitVec 32 := 1#32
  let arg19 : BitVec 32 := Scf.iv c0_i32_1453 c1_i32_1455 k0_t15
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v709 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off75 (v707 : BitVec 32) (k0_t15 : Fin k0_t15_loop.trips) : Fin 2 → Nat :=
  let c0_i32_260 : BitVec 32 := 0#32
  let v711 : BitVec 1 := Scalar.cmpi .sgt v707 c0_i32_260
  let v712 : BitVec 32 := Scalar.extui v711
  let c0_i32_261 : BitVec 32 := 0#32
  let v713 : BitVec 1 := Scalar.cmpi .slt v707 c0_i32_261
  let v714 : BitVec 32 := Scalar.extui v713
  let v715 : BitVec 32 := Scalar.subi v712 v714
  let c16_i32_259 : BitVec 32 := 16#32
  let c0_i32_262 : BitVec 32 := 0#32
  let v716 : BitVec 1 := Scalar.cmpi .sgt c16_i32_259 c0_i32_262
  let v717 : BitVec 32 := Scalar.extui v716
  let c0_i32_263 : BitVec 32 := 0#32
  let v718 : BitVec 1 := Scalar.cmpi .slt c16_i32_259 c0_i32_263
  let v719 : BitVec 32 := Scalar.extui v718
  let v720 : BitVec 32 := Scalar.subi v717 v719
  let v721 : BitVec 1 := Scalar.cmpi .ne v715 v720
  let v722 : BitVec 32 := Scalar.remsi v707 c16_i32_259
  let c0_i32_264 : BitVec 32 := 0#32
  let v723 : BitVec 1 := Scalar.cmpi .ne v722 c0_i32_264
  let v724 : BitVec 1 := Scalar.andi v721 v723
  let v710 : BitVec 32 := Scalar.divsi v707 c16_i32_259
  let c1_i32_265 : BitVec 32 := 1#32
  let v725 : BitVec 32 := Scalar.subi v710 c1_i32_265
  let v726 : BitVec 32 := Scalar.select v724 v725 v710
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v726 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t15
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v707 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off76 (v709 : BitVec 32) (k0_t15 : Fin k0_t15_loop.trips) : Fin 2 → Nat :=
  let c0_i32_1453 : BitVec 32 := 0#32
  let c1_i32_1455 : BitVec 32 := 1#32
  let arg19 : BitVec 32 := Scf.iv c0_i32_1453 c1_i32_1455 k0_t15
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v709 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk29 (i : grid0.Coords) (v25 : BitVec 32) (v707 : BitVec 32) (v709 : BitVec 32) : Prop :=
  (∀ (k0_h15 : k0_cond15 i v25 v707 = 1#1), ∀ a, (k0_off73 i v709) a + S32x512.size a ≤ S12288x512.size a) ∧
  (∀ k0_t15 : Fin k0_t15_loop.trips, ∀ (k0_h15 : k0_cond15 i v25 v707 = 1#1), ∀ a, (k0_off74 v709 k0_t15) a + S1x16.size a ≤ S32x512.size a) ∧
  (∀ k0_t15 : Fin k0_t15_loop.trips, ∀ (k0_h15 : k0_cond15 i v25 v707 = 1#1), ∀ a, (k0_off76 v709 k0_t15) a + S1x16.size a ≤ S32x512.size a)
theorem k0_off73_inb : ∀ (i : grid0.Coords) (v25 : BitVec 32) (v707 : BitVec 32) (v709 : BitVec 32) (k0_hw29 : k0_chk29 i v25 v707 v709), ∀ (k0_h15 : k0_cond15 i v25 v707 = 1#1), ∀ a, (k0_off73 i v709) a + S32x512.size a ≤ S12288x512.size a := fun i v25 v707 v709 k0_hw29 k0_h15 => k0_hw29.1 k0_h15
theorem k0_off74_inb : ∀ (i : grid0.Coords) (v25 : BitVec 32) (v707 : BitVec 32) (v709 : BitVec 32) (k0_hw29 : k0_chk29 i v25 v707 v709) (k0_t15 : Fin k0_t15_loop.trips), ∀ (k0_h15 : k0_cond15 i v25 v707 = 1#1), ∀ a, (k0_off74 v709 k0_t15) a + S1x16.size a ≤ S32x512.size a := fun i v25 v707 v709 k0_hw29 k0_t15 k0_h15 => k0_hw29.2.1 k0_t15 k0_h15
theorem k0_off76_inb : ∀ (i : grid0.Coords) (v25 : BitVec 32) (v707 : BitVec 32) (v709 : BitVec 32) (k0_hw29 : k0_chk29 i v25 v707 v709) (k0_t15 : Fin k0_t15_loop.trips), ∀ (k0_h15 : k0_cond15 i v25 v707 = 1#1), ∀ a, (k0_off76 v709 k0_t15) a + S1x16.size a ≤ S32x512.size a := fun i v25 v707 v709 k0_hw29 k0_t15 k0_h15 => k0_hw29.2.2 k0_t15 k0_h15

def k0_off77 (v707 : BitVec 32) (k0_t15 : Fin k0_t15_loop.trips) : Fin 2 → Nat :=
  let c0_i32_260 : BitVec 32 := 0#32
  let v711 : BitVec 1 := Scalar.cmpi .sgt v707 c0_i32_260
  let v712 : BitVec 32 := Scalar.extui v711
  let c0_i32_261 : BitVec 32 := 0#32
  let v713 : BitVec 1 := Scalar.cmpi .slt v707 c0_i32_261
  let v714 : BitVec 32 := Scalar.extui v713
  let v715 : BitVec 32 := Scalar.subi v712 v714
  let c16_i32_259 : BitVec 32 := 16#32
  let c0_i32_262 : BitVec 32 := 0#32
  let v716 : BitVec 1 := Scalar.cmpi .sgt c16_i32_259 c0_i32_262
  let v717 : BitVec 32 := Scalar.extui v716
  let c0_i32_263 : BitVec 32 := 0#32
  let v718 : BitVec 1 := Scalar.cmpi .slt c16_i32_259 c0_i32_263
  let v719 : BitVec 32 := Scalar.extui v718
  let v720 : BitVec 32 := Scalar.subi v717 v719
  let v721 : BitVec 1 := Scalar.cmpi .ne v715 v720
  let v722 : BitVec 32 := Scalar.remsi v707 c16_i32_259
  let c0_i32_264 : BitVec 32 := 0#32
  let v723 : BitVec 1 := Scalar.cmpi .ne v722 c0_i32_264
  let v724 : BitVec 1 := Scalar.andi v721 v723
  let v710 : BitVec 32 := Scalar.divsi v707 c16_i32_259
  let c1_i32_265 : BitVec 32 := 1#32
  let v725 : BitVec 32 := Scalar.subi v710 c1_i32_265
  let v726 : BitVec 32 := Scalar.select v724 v725 v710
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v726 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t15
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v707 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk30 (i : grid0.Coords) (v25 : BitVec 32) (v707 : BitVec 32) : Prop :=
  (∀ k0_t15 : Fin k0_t15_loop.trips, ∀ (k0_h15 : k0_cond15 i v25 v707 = 1#1), ∀ a, (k0_off75 v707 k0_t15) a + S1x16.size a ≤ S128x512.size a) ∧
  (∀ k0_t15 : Fin k0_t15_loop.trips, ∀ (k0_h15 : k0_cond15 i v25 v707 = 1#1), ∀ a, (k0_off77 v707 k0_t15) a + S1x16.size a ≤ S128x512.size a)
theorem k0_off75_inb : ∀ (i : grid0.Coords) (v25 : BitVec 32) (v707 : BitVec 32) (k0_hw30 : k0_chk30 i v25 v707) (k0_t15 : Fin k0_t15_loop.trips), ∀ (k0_h15 : k0_cond15 i v25 v707 = 1#1), ∀ a, (k0_off75 v707 k0_t15) a + S1x16.size a ≤ S128x512.size a := fun i v25 v707 k0_hw30 k0_t15 k0_h15 => k0_hw30.1 k0_t15 k0_h15
theorem k0_off77_inb : ∀ (i : grid0.Coords) (v25 : BitVec 32) (v707 : BitVec 32) (k0_hw30 : k0_chk30 i v25 v707) (k0_t15 : Fin k0_t15_loop.trips), ∀ (k0_h15 : k0_cond15 i v25 v707 = 1#1), ∀ a, (k0_off77 v707 k0_t15) a + S1x16.size a ≤ S128x512.size a := fun i v25 v707 k0_hw30 k0_t15 k0_h15 => k0_hw30.2 k0_t15 k0_h15

def k0_off78 (i : grid0.Coords) (v752 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v752 c0_i32_1428
  let v3763 : BitVec 32 := Scalar.extui v3762
  let c0_i32_1429 : BitVec 32 := 0#32
  let v3764 : BitVec 1 := Scalar.cmpi .slt v752 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v752 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v752 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r19 : BitVec 32 := 0#32
  ![v3779.toNat, 0]
def k0_cond16 (i : grid0.Coords) (v25 : BitVec 32) (v750 : BitVec 32) : BitVec 1 :=
  let c15_i32 : BitVec 32 := 15#32
  let v770 : BitVec 1 := Scalar.cmpi .sgt v25 c15_i32
  let c0_i32_275 : BitVec 32 := 0#32
  let v754 : BitVec 1 := Scalar.cmpi .sgt v750 c0_i32_275
  let v755 : BitVec 32 := Scalar.extui v754
  let c0_i32_276 : BitVec 32 := 0#32
  let v756 : BitVec 1 := Scalar.cmpi .slt v750 c0_i32_276
  let v757 : BitVec 32 := Scalar.extui v756
  let v758 : BitVec 32 := Scalar.subi v755 v757
  let c16_i32_274 : BitVec 32 := 16#32
  let c0_i32_277 : BitVec 32 := 0#32
  let v759 : BitVec 1 := Scalar.cmpi .sgt c16_i32_274 c0_i32_277
  let v760 : BitVec 32 := Scalar.extui v759
  let c0_i32_278 : BitVec 32 := 0#32
  let v761 : BitVec 1 := Scalar.cmpi .slt c16_i32_274 c0_i32_278
  let v762 : BitVec 32 := Scalar.extui v761
  let v763 : BitVec 32 := Scalar.subi v760 v762
  let v764 : BitVec 1 := Scalar.cmpi .ne v758 v763
  let v765 : BitVec 32 := Scalar.remsi v750 c16_i32_274
  let c0_i32_279 : BitVec 32 := 0#32
  let v766 : BitVec 1 := Scalar.cmpi .ne v765 c0_i32_279
  let v767 : BitVec 1 := Scalar.andi v764 v766
  let v753 : BitVec 32 := Scalar.divsi v750 c16_i32_274
  let c1_i32_280 : BitVec 32 := 1#32
  let v768 : BitVec 32 := Scalar.subi v753 c1_i32_280
  let v769 : BitVec 32 := Scalar.select v767 v768 v753
  let c0_i32_282 : BitVec 32 := 0#32
  let v772 : BitVec 1 := Scalar.cmpi .sgt v769 c0_i32_282
  let v773 : BitVec 32 := Scalar.extui v772
  let c0_i32_283 : BitVec 32 := 0#32
  let v774 : BitVec 1 := Scalar.cmpi .slt v769 c0_i32_283
  let v775 : BitVec 32 := Scalar.extui v774
  let v776 : BitVec 32 := Scalar.subi v773 v775
  let c4_i32_281 : BitVec 32 := 4#32
  let c0_i32_284 : BitVec 32 := 0#32
  let v777 : BitVec 1 := Scalar.cmpi .sgt c4_i32_281 c0_i32_284
  let v778 : BitVec 32 := Scalar.extui v777
  let c0_i32_285 : BitVec 32 := 0#32
  let v779 : BitVec 1 := Scalar.cmpi .slt c4_i32_281 c0_i32_285
  let v780 : BitVec 32 := Scalar.extui v779
  let v781 : BitVec 32 := Scalar.subi v778 v780
  let v782 : BitVec 1 := Scalar.cmpi .ne v776 v781
  let v783 : BitVec 32 := Scalar.remsi v769 c4_i32_281
  let c0_i32_286 : BitVec 32 := 0#32
  let v784 : BitVec 1 := Scalar.cmpi .ne v783 c0_i32_286
  let v785 : BitVec 1 := Scalar.andi v782 v784
  let v771 : BitVec 32 := Scalar.divsi v769 c4_i32_281
  let c1_i32_287 : BitVec 32 := 1#32
  let v786 : BitVec 32 := Scalar.subi v771 c1_i32_287
  let v787 : BitVec 32 := Scalar.select v785 v786 v771
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v788 : BitVec 1 := Scalar.cmpi .eq v787 v103
  let v789 : BitVec 1 := Scalar.andi v770 v788
  let v790 : BitVec 32 := Scalar.extui v789
  let c0_i32_288 : BitVec 32 := 0#32
  let v791 : BitVec 1 := Scalar.cmpi .ne v790 c0_i32_288
  v791

@[reducible] def k0_t16_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off79 (v752 : BitVec 32) (k0_t16 : Fin k0_t16_loop.trips) : Fin 2 → Nat :=
  let c0_i32_1453 : BitVec 32 := 0#32
  let c1_i32_1455 : BitVec 32 := 1#32
  let arg19 : BitVec 32 := Scf.iv c0_i32_1453 c1_i32_1455 k0_t16
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v752 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off80 (v750 : BitVec 32) (k0_t16 : Fin k0_t16_loop.trips) : Fin 2 → Nat :=
  let c0_i32_275 : BitVec 32 := 0#32
  let v754 : BitVec 1 := Scalar.cmpi .sgt v750 c0_i32_275
  let v755 : BitVec 32 := Scalar.extui v754
  let c0_i32_276 : BitVec 32 := 0#32
  let v756 : BitVec 1 := Scalar.cmpi .slt v750 c0_i32_276
  let v757 : BitVec 32 := Scalar.extui v756
  let v758 : BitVec 32 := Scalar.subi v755 v757
  let c16_i32_274 : BitVec 32 := 16#32
  let c0_i32_277 : BitVec 32 := 0#32
  let v759 : BitVec 1 := Scalar.cmpi .sgt c16_i32_274 c0_i32_277
  let v760 : BitVec 32 := Scalar.extui v759
  let c0_i32_278 : BitVec 32 := 0#32
  let v761 : BitVec 1 := Scalar.cmpi .slt c16_i32_274 c0_i32_278
  let v762 : BitVec 32 := Scalar.extui v761
  let v763 : BitVec 32 := Scalar.subi v760 v762
  let v764 : BitVec 1 := Scalar.cmpi .ne v758 v763
  let v765 : BitVec 32 := Scalar.remsi v750 c16_i32_274
  let c0_i32_279 : BitVec 32 := 0#32
  let v766 : BitVec 1 := Scalar.cmpi .ne v765 c0_i32_279
  let v767 : BitVec 1 := Scalar.andi v764 v766
  let v753 : BitVec 32 := Scalar.divsi v750 c16_i32_274
  let c1_i32_280 : BitVec 32 := 1#32
  let v768 : BitVec 32 := Scalar.subi v753 c1_i32_280
  let v769 : BitVec 32 := Scalar.select v767 v768 v753
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v769 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t16
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v750 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off81 (v752 : BitVec 32) (k0_t16 : Fin k0_t16_loop.trips) : Fin 2 → Nat :=
  let c0_i32_1453 : BitVec 32 := 0#32
  let c1_i32_1455 : BitVec 32 := 1#32
  let arg19 : BitVec 32 := Scf.iv c0_i32_1453 c1_i32_1455 k0_t16
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v752 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk31 (i : grid0.Coords) (v25 : BitVec 32) (v750 : BitVec 32) (v752 : BitVec 32) : Prop :=
  (∀ (k0_h16 : k0_cond16 i v25 v750 = 1#1), ∀ a, (k0_off78 i v752) a + S32x512.size a ≤ S12288x512.size a) ∧
  (∀ k0_t16 : Fin k0_t16_loop.trips, ∀ (k0_h16 : k0_cond16 i v25 v750 = 1#1), ∀ a, (k0_off79 v752 k0_t16) a + S1x16.size a ≤ S32x512.size a) ∧
  (∀ k0_t16 : Fin k0_t16_loop.trips, ∀ (k0_h16 : k0_cond16 i v25 v750 = 1#1), ∀ a, (k0_off81 v752 k0_t16) a + S1x16.size a ≤ S32x512.size a)
theorem k0_off78_inb : ∀ (i : grid0.Coords) (v25 : BitVec 32) (v750 : BitVec 32) (v752 : BitVec 32) (k0_hw31 : k0_chk31 i v25 v750 v752), ∀ (k0_h16 : k0_cond16 i v25 v750 = 1#1), ∀ a, (k0_off78 i v752) a + S32x512.size a ≤ S12288x512.size a := fun i v25 v750 v752 k0_hw31 k0_h16 => k0_hw31.1 k0_h16
theorem k0_off79_inb : ∀ (i : grid0.Coords) (v25 : BitVec 32) (v750 : BitVec 32) (v752 : BitVec 32) (k0_hw31 : k0_chk31 i v25 v750 v752) (k0_t16 : Fin k0_t16_loop.trips), ∀ (k0_h16 : k0_cond16 i v25 v750 = 1#1), ∀ a, (k0_off79 v752 k0_t16) a + S1x16.size a ≤ S32x512.size a := fun i v25 v750 v752 k0_hw31 k0_t16 k0_h16 => k0_hw31.2.1 k0_t16 k0_h16
theorem k0_off81_inb : ∀ (i : grid0.Coords) (v25 : BitVec 32) (v750 : BitVec 32) (v752 : BitVec 32) (k0_hw31 : k0_chk31 i v25 v750 v752) (k0_t16 : Fin k0_t16_loop.trips), ∀ (k0_h16 : k0_cond16 i v25 v750 = 1#1), ∀ a, (k0_off81 v752 k0_t16) a + S1x16.size a ≤ S32x512.size a := fun i v25 v750 v752 k0_hw31 k0_t16 k0_h16 => k0_hw31.2.2 k0_t16 k0_h16

def k0_off82 (v750 : BitVec 32) (k0_t16 : Fin k0_t16_loop.trips) : Fin 2 → Nat :=
  let c0_i32_275 : BitVec 32 := 0#32
  let v754 : BitVec 1 := Scalar.cmpi .sgt v750 c0_i32_275
  let v755 : BitVec 32 := Scalar.extui v754
  let c0_i32_276 : BitVec 32 := 0#32
  let v756 : BitVec 1 := Scalar.cmpi .slt v750 c0_i32_276
  let v757 : BitVec 32 := Scalar.extui v756
  let v758 : BitVec 32 := Scalar.subi v755 v757
  let c16_i32_274 : BitVec 32 := 16#32
  let c0_i32_277 : BitVec 32 := 0#32
  let v759 : BitVec 1 := Scalar.cmpi .sgt c16_i32_274 c0_i32_277
  let v760 : BitVec 32 := Scalar.extui v759
  let c0_i32_278 : BitVec 32 := 0#32
  let v761 : BitVec 1 := Scalar.cmpi .slt c16_i32_274 c0_i32_278
  let v762 : BitVec 32 := Scalar.extui v761
  let v763 : BitVec 32 := Scalar.subi v760 v762
  let v764 : BitVec 1 := Scalar.cmpi .ne v758 v763
  let v765 : BitVec 32 := Scalar.remsi v750 c16_i32_274
  let c0_i32_279 : BitVec 32 := 0#32
  let v766 : BitVec 1 := Scalar.cmpi .ne v765 c0_i32_279
  let v767 : BitVec 1 := Scalar.andi v764 v766
  let v753 : BitVec 32 := Scalar.divsi v750 c16_i32_274
  let c1_i32_280 : BitVec 32 := 1#32
  let v768 : BitVec 32 := Scalar.subi v753 c1_i32_280
  let v769 : BitVec 32 := Scalar.select v767 v768 v753
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v769 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t16
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v750 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk32 (i : grid0.Coords) (v25 : BitVec 32) (v750 : BitVec 32) : Prop :=
  (∀ k0_t16 : Fin k0_t16_loop.trips, ∀ (k0_h16 : k0_cond16 i v25 v750 = 1#1), ∀ a, (k0_off80 v750 k0_t16) a + S1x16.size a ≤ S128x512.size a) ∧
  (∀ k0_t16 : Fin k0_t16_loop.trips, ∀ (k0_h16 : k0_cond16 i v25 v750 = 1#1), ∀ a, (k0_off82 v750 k0_t16) a + S1x16.size a ≤ S128x512.size a)
theorem k0_off80_inb : ∀ (i : grid0.Coords) (v25 : BitVec 32) (v750 : BitVec 32) (k0_hw32 : k0_chk32 i v25 v750) (k0_t16 : Fin k0_t16_loop.trips), ∀ (k0_h16 : k0_cond16 i v25 v750 = 1#1), ∀ a, (k0_off80 v750 k0_t16) a + S1x16.size a ≤ S128x512.size a := fun i v25 v750 k0_hw32 k0_t16 k0_h16 => k0_hw32.1 k0_t16 k0_h16
theorem k0_off82_inb : ∀ (i : grid0.Coords) (v25 : BitVec 32) (v750 : BitVec 32) (k0_hw32 : k0_chk32 i v25 v750) (k0_t16 : Fin k0_t16_loop.trips), ∀ (k0_h16 : k0_cond16 i v25 v750 = 1#1), ∀ a, (k0_off82 v750 k0_t16) a + S1x16.size a ≤ S128x512.size a := fun i v25 v750 k0_hw32 k0_t16 k0_h16 => k0_hw32.2 k0_t16 k0_h16

def k0_off83 (i : grid0.Coords) (c0_i32_9 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c0_i32_1427_r20 : BitVec 32 := 0#32
  ![v73.toNat, 0]
def k0_off84 (i : grid0.Coords) (v869 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v869 c0_i32_1428
  let v3763 : BitVec 32 := Scalar.extui v3762
  let c0_i32_1429 : BitVec 32 := 0#32
  let v3764 : BitVec 1 := Scalar.cmpi .slt v869 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v869 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v869 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r22 : BitVec 32 := 0#32
  ![v3779.toNat, 0]
def k0_cond17 (i : grid0.Coords) (v25 : BitVec 32) (v867 : BitVec 32) : BitVec 1 :=
  let c0_i32_335 : BitVec 32 := 0#32
  let v887 : BitVec 1 := Scalar.cmpi .sgt v25 c0_i32_335
  let c0_i32_329 : BitVec 32 := 0#32
  let v871 : BitVec 1 := Scalar.cmpi .sgt v867 c0_i32_329
  let v872 : BitVec 32 := Scalar.extui v871
  let c0_i32_330 : BitVec 32 := 0#32
  let v873 : BitVec 1 := Scalar.cmpi .slt v867 c0_i32_330
  let v874 : BitVec 32 := Scalar.extui v873
  let v875 : BitVec 32 := Scalar.subi v872 v874
  let c16_i32_328 : BitVec 32 := 16#32
  let c0_i32_331 : BitVec 32 := 0#32
  let v876 : BitVec 1 := Scalar.cmpi .sgt c16_i32_328 c0_i32_331
  let v877 : BitVec 32 := Scalar.extui v876
  let c0_i32_332 : BitVec 32 := 0#32
  let v878 : BitVec 1 := Scalar.cmpi .slt c16_i32_328 c0_i32_332
  let v879 : BitVec 32 := Scalar.extui v878
  let v880 : BitVec 32 := Scalar.subi v877 v879
  let v881 : BitVec 1 := Scalar.cmpi .ne v875 v880
  let v882 : BitVec 32 := Scalar.remsi v867 c16_i32_328
  let c0_i32_333 : BitVec 32 := 0#32
  let v883 : BitVec 1 := Scalar.cmpi .ne v882 c0_i32_333
  let v884 : BitVec 1 := Scalar.andi v881 v883
  let v870 : BitVec 32 := Scalar.divsi v867 c16_i32_328
  let c1_i32_334 : BitVec 32 := 1#32
  let v885 : BitVec 32 := Scalar.subi v870 c1_i32_334
  let v886 : BitVec 32 := Scalar.select v884 v885 v870
  let c0_i32_337 : BitVec 32 := 0#32
  let v889 : BitVec 1 := Scalar.cmpi .sgt v886 c0_i32_337
  let v890 : BitVec 32 := Scalar.extui v889
  let c0_i32_338 : BitVec 32 := 0#32
  let v891 : BitVec 1 := Scalar.cmpi .slt v886 c0_i32_338
  let v892 : BitVec 32 := Scalar.extui v891
  let v893 : BitVec 32 := Scalar.subi v890 v892
  let c4_i32_336 : BitVec 32 := 4#32
  let c0_i32_339 : BitVec 32 := 0#32
  let v894 : BitVec 1 := Scalar.cmpi .sgt c4_i32_336 c0_i32_339
  let v895 : BitVec 32 := Scalar.extui v894
  let c0_i32_340 : BitVec 32 := 0#32
  let v896 : BitVec 1 := Scalar.cmpi .slt c4_i32_336 c0_i32_340
  let v897 : BitVec 32 := Scalar.extui v896
  let v898 : BitVec 32 := Scalar.subi v895 v897
  let v899 : BitVec 1 := Scalar.cmpi .ne v893 v898
  let v900 : BitVec 32 := Scalar.remsi v886 c4_i32_336
  let c0_i32_341 : BitVec 32 := 0#32
  let v901 : BitVec 1 := Scalar.cmpi .ne v900 c0_i32_341
  let v902 : BitVec 1 := Scalar.andi v899 v901
  let v888 : BitVec 32 := Scalar.divsi v886 c4_i32_336
  let c1_i32_342 : BitVec 32 := 1#32
  let v903 : BitVec 32 := Scalar.subi v888 c1_i32_342
  let v904 : BitVec 32 := Scalar.select v902 v903 v888
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v905 : BitVec 1 := Scalar.cmpi .eq v904 v865
  let v906 : BitVec 1 := Scalar.andi v887 v905
  let v907 : BitVec 32 := Scalar.extui v906
  let c0_i32_343 : BitVec 32 := 0#32
  let v908 : BitVec 1 := Scalar.cmpi .ne v907 c0_i32_343
  v908

@[reducible] def k0_t17_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off85 (v869 : BitVec 32) (k0_t17 : Fin k0_t17_loop.trips) : Fin 2 → Nat :=
  let c0_i32_1453 : BitVec 32 := 0#32
  let c1_i32_1455 : BitVec 32 := 1#32
  let arg19 : BitVec 32 := Scf.iv c0_i32_1453 c1_i32_1455 k0_t17
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v869 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off86 (v867 : BitVec 32) (k0_t17 : Fin k0_t17_loop.trips) : Fin 2 → Nat :=
  let c0_i32_329 : BitVec 32 := 0#32
  let v871 : BitVec 1 := Scalar.cmpi .sgt v867 c0_i32_329
  let v872 : BitVec 32 := Scalar.extui v871
  let c0_i32_330 : BitVec 32 := 0#32
  let v873 : BitVec 1 := Scalar.cmpi .slt v867 c0_i32_330
  let v874 : BitVec 32 := Scalar.extui v873
  let v875 : BitVec 32 := Scalar.subi v872 v874
  let c16_i32_328 : BitVec 32 := 16#32
  let c0_i32_331 : BitVec 32 := 0#32
  let v876 : BitVec 1 := Scalar.cmpi .sgt c16_i32_328 c0_i32_331
  let v877 : BitVec 32 := Scalar.extui v876
  let c0_i32_332 : BitVec 32 := 0#32
  let v878 : BitVec 1 := Scalar.cmpi .slt c16_i32_328 c0_i32_332
  let v879 : BitVec 32 := Scalar.extui v878
  let v880 : BitVec 32 := Scalar.subi v877 v879
  let v881 : BitVec 1 := Scalar.cmpi .ne v875 v880
  let v882 : BitVec 32 := Scalar.remsi v867 c16_i32_328
  let c0_i32_333 : BitVec 32 := 0#32
  let v883 : BitVec 1 := Scalar.cmpi .ne v882 c0_i32_333
  let v884 : BitVec 1 := Scalar.andi v881 v883
  let v870 : BitVec 32 := Scalar.divsi v867 c16_i32_328
  let c1_i32_334 : BitVec 32 := 1#32
  let v885 : BitVec 32 := Scalar.subi v870 c1_i32_334
  let v886 : BitVec 32 := Scalar.select v884 v885 v870
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v886 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t17
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v867 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off87 (v869 : BitVec 32) (k0_t17 : Fin k0_t17_loop.trips) : Fin 2 → Nat :=
  let c0_i32_1453 : BitVec 32 := 0#32
  let c1_i32_1455 : BitVec 32 := 1#32
  let arg19 : BitVec 32 := Scf.iv c0_i32_1453 c1_i32_1455 k0_t17
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v869 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk33 (i : grid0.Coords) (v25 : BitVec 32) (v867 : BitVec 32) (v869 : BitVec 32) : Prop :=
  (∀ (k0_h17 : k0_cond17 i v25 v867 = 1#1), ∀ a, (k0_off84 i v869) a + S32x512.size a ≤ S12288x512.size a) ∧
  (∀ k0_t17 : Fin k0_t17_loop.trips, ∀ (k0_h17 : k0_cond17 i v25 v867 = 1#1), ∀ a, (k0_off85 v869 k0_t17) a + S1x16.size a ≤ S32x512.size a) ∧
  (∀ k0_t17 : Fin k0_t17_loop.trips, ∀ (k0_h17 : k0_cond17 i v25 v867 = 1#1), ∀ a, (k0_off87 v869 k0_t17) a + S1x16.size a ≤ S32x512.size a)
theorem k0_off84_inb : ∀ (i : grid0.Coords) (v25 : BitVec 32) (v867 : BitVec 32) (v869 : BitVec 32) (k0_hw33 : k0_chk33 i v25 v867 v869), ∀ (k0_h17 : k0_cond17 i v25 v867 = 1#1), ∀ a, (k0_off84 i v869) a + S32x512.size a ≤ S12288x512.size a := fun i v25 v867 v869 k0_hw33 k0_h17 => k0_hw33.1 k0_h17
theorem k0_off85_inb : ∀ (i : grid0.Coords) (v25 : BitVec 32) (v867 : BitVec 32) (v869 : BitVec 32) (k0_hw33 : k0_chk33 i v25 v867 v869) (k0_t17 : Fin k0_t17_loop.trips), ∀ (k0_h17 : k0_cond17 i v25 v867 = 1#1), ∀ a, (k0_off85 v869 k0_t17) a + S1x16.size a ≤ S32x512.size a := fun i v25 v867 v869 k0_hw33 k0_t17 k0_h17 => k0_hw33.2.1 k0_t17 k0_h17
theorem k0_off87_inb : ∀ (i : grid0.Coords) (v25 : BitVec 32) (v867 : BitVec 32) (v869 : BitVec 32) (k0_hw33 : k0_chk33 i v25 v867 v869) (k0_t17 : Fin k0_t17_loop.trips), ∀ (k0_h17 : k0_cond17 i v25 v867 = 1#1), ∀ a, (k0_off87 v869 k0_t17) a + S1x16.size a ≤ S32x512.size a := fun i v25 v867 v869 k0_hw33 k0_t17 k0_h17 => k0_hw33.2.2 k0_t17 k0_h17

def k0_off88 (v867 : BitVec 32) (k0_t17 : Fin k0_t17_loop.trips) : Fin 2 → Nat :=
  let c0_i32_329 : BitVec 32 := 0#32
  let v871 : BitVec 1 := Scalar.cmpi .sgt v867 c0_i32_329
  let v872 : BitVec 32 := Scalar.extui v871
  let c0_i32_330 : BitVec 32 := 0#32
  let v873 : BitVec 1 := Scalar.cmpi .slt v867 c0_i32_330
  let v874 : BitVec 32 := Scalar.extui v873
  let v875 : BitVec 32 := Scalar.subi v872 v874
  let c16_i32_328 : BitVec 32 := 16#32
  let c0_i32_331 : BitVec 32 := 0#32
  let v876 : BitVec 1 := Scalar.cmpi .sgt c16_i32_328 c0_i32_331
  let v877 : BitVec 32 := Scalar.extui v876
  let c0_i32_332 : BitVec 32 := 0#32
  let v878 : BitVec 1 := Scalar.cmpi .slt c16_i32_328 c0_i32_332
  let v879 : BitVec 32 := Scalar.extui v878
  let v880 : BitVec 32 := Scalar.subi v877 v879
  let v881 : BitVec 1 := Scalar.cmpi .ne v875 v880
  let v882 : BitVec 32 := Scalar.remsi v867 c16_i32_328
  let c0_i32_333 : BitVec 32 := 0#32
  let v883 : BitVec 1 := Scalar.cmpi .ne v882 c0_i32_333
  let v884 : BitVec 1 := Scalar.andi v881 v883
  let v870 : BitVec 32 := Scalar.divsi v867 c16_i32_328
  let c1_i32_334 : BitVec 32 := 1#32
  let v885 : BitVec 32 := Scalar.subi v870 c1_i32_334
  let v886 : BitVec 32 := Scalar.select v884 v885 v870
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v886 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t17
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v867 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk34 (i : grid0.Coords) (v25 : BitVec 32) (v867 : BitVec 32) : Prop :=
  (∀ k0_t17 : Fin k0_t17_loop.trips, ∀ (k0_h17 : k0_cond17 i v25 v867 = 1#1), ∀ a, (k0_off86 v867 k0_t17) a + S1x16.size a ≤ S128x512.size a) ∧
  (∀ k0_t17 : Fin k0_t17_loop.trips, ∀ (k0_h17 : k0_cond17 i v25 v867 = 1#1), ∀ a, (k0_off88 v867 k0_t17) a + S1x16.size a ≤ S128x512.size a)
theorem k0_off86_inb : ∀ (i : grid0.Coords) (v25 : BitVec 32) (v867 : BitVec 32) (k0_hw34 : k0_chk34 i v25 v867) (k0_t17 : Fin k0_t17_loop.trips), ∀ (k0_h17 : k0_cond17 i v25 v867 = 1#1), ∀ a, (k0_off86 v867 k0_t17) a + S1x16.size a ≤ S128x512.size a := fun i v25 v867 k0_hw34 k0_t17 k0_h17 => k0_hw34.1 k0_t17 k0_h17
theorem k0_off88_inb : ∀ (i : grid0.Coords) (v25 : BitVec 32) (v867 : BitVec 32) (k0_hw34 : k0_chk34 i v25 v867) (k0_t17 : Fin k0_t17_loop.trips), ∀ (k0_h17 : k0_cond17 i v25 v867 = 1#1), ∀ a, (k0_off88 v867 k0_t17) a + S1x16.size a ≤ S128x512.size a := fun i v25 v867 k0_hw34 k0_t17 k0_h17 => k0_hw34.2 k0_t17 k0_h17

def k0_off89 (i : grid0.Coords) (v912 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v912 c0_i32_1428
  let v3763 : BitVec 32 := Scalar.extui v3762
  let c0_i32_1429 : BitVec 32 := 0#32
  let v3764 : BitVec 1 := Scalar.cmpi .slt v912 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v912 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v912 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r23 : BitVec 32 := 0#32
  ![v3779.toNat, 0]
def k0_cond18 (i : grid0.Coords) (v25 : BitVec 32) (v910 : BitVec 32) : BitVec 1 :=
  let c1_i32_351 : BitVec 32 := 1#32
  let v930 : BitVec 1 := Scalar.cmpi .sgt v25 c1_i32_351
  let c0_i32_345 : BitVec 32 := 0#32
  let v914 : BitVec 1 := Scalar.cmpi .sgt v910 c0_i32_345
  let v915 : BitVec 32 := Scalar.extui v914
  let c0_i32_346 : BitVec 32 := 0#32
  let v916 : BitVec 1 := Scalar.cmpi .slt v910 c0_i32_346
  let v917 : BitVec 32 := Scalar.extui v916
  let v918 : BitVec 32 := Scalar.subi v915 v917
  let c16_i32_344 : BitVec 32 := 16#32
  let c0_i32_347 : BitVec 32 := 0#32
  let v919 : BitVec 1 := Scalar.cmpi .sgt c16_i32_344 c0_i32_347
  let v920 : BitVec 32 := Scalar.extui v919
  let c0_i32_348 : BitVec 32 := 0#32
  let v921 : BitVec 1 := Scalar.cmpi .slt c16_i32_344 c0_i32_348
  let v922 : BitVec 32 := Scalar.extui v921
  let v923 : BitVec 32 := Scalar.subi v920 v922
  let v924 : BitVec 1 := Scalar.cmpi .ne v918 v923
  let v925 : BitVec 32 := Scalar.remsi v910 c16_i32_344
  let c0_i32_349 : BitVec 32 := 0#32
  let v926 : BitVec 1 := Scalar.cmpi .ne v925 c0_i32_349
  let v927 : BitVec 1 := Scalar.andi v924 v926
  let v913 : BitVec 32 := Scalar.divsi v910 c16_i32_344
  let c1_i32_350 : BitVec 32 := 1#32
  let v928 : BitVec 32 := Scalar.subi v913 c1_i32_350
  let v929 : BitVec 32 := Scalar.select v927 v928 v913
  let c0_i32_353 : BitVec 32 := 0#32
  let v932 : BitVec 1 := Scalar.cmpi .sgt v929 c0_i32_353
  let v933 : BitVec 32 := Scalar.extui v932
  let c0_i32_354 : BitVec 32 := 0#32
  let v934 : BitVec 1 := Scalar.cmpi .slt v929 c0_i32_354
  let v935 : BitVec 32 := Scalar.extui v934
  let v936 : BitVec 32 := Scalar.subi v933 v935
  let c4_i32_352 : BitVec 32 := 4#32
  let c0_i32_355 : BitVec 32 := 0#32
  let v937 : BitVec 1 := Scalar.cmpi .sgt c4_i32_352 c0_i32_355
  let v938 : BitVec 32 := Scalar.extui v937
  let c0_i32_356 : BitVec 32 := 0#32
  let v939 : BitVec 1 := Scalar.cmpi .slt c4_i32_352 c0_i32_356
  let v940 : BitVec 32 := Scalar.extui v939
  let v941 : BitVec 32 := Scalar.subi v938 v940
  let v942 : BitVec 1 := Scalar.cmpi .ne v936 v941
  let v943 : BitVec 32 := Scalar.remsi v929 c4_i32_352
  let c0_i32_357 : BitVec 32 := 0#32
  let v944 : BitVec 1 := Scalar.cmpi .ne v943 c0_i32_357
  let v945 : BitVec 1 := Scalar.andi v942 v944
  let v931 : BitVec 32 := Scalar.divsi v929 c4_i32_352
  let c1_i32_358 : BitVec 32 := 1#32
  let v946 : BitVec 32 := Scalar.subi v931 c1_i32_358
  let v947 : BitVec 32 := Scalar.select v945 v946 v931
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v948 : BitVec 1 := Scalar.cmpi .eq v947 v865
  let v949 : BitVec 1 := Scalar.andi v930 v948
  let v950 : BitVec 32 := Scalar.extui v949
  let c0_i32_359 : BitVec 32 := 0#32
  let v951 : BitVec 1 := Scalar.cmpi .ne v950 c0_i32_359
  v951

@[reducible] def k0_t18_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off90 (v912 : BitVec 32) (k0_t18 : Fin k0_t18_loop.trips) : Fin 2 → Nat :=
  let c0_i32_1453 : BitVec 32 := 0#32
  let c1_i32_1455 : BitVec 32 := 1#32
  let arg19 : BitVec 32 := Scf.iv c0_i32_1453 c1_i32_1455 k0_t18
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v912 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off91 (v910 : BitVec 32) (k0_t18 : Fin k0_t18_loop.trips) : Fin 2 → Nat :=
  let c0_i32_345 : BitVec 32 := 0#32
  let v914 : BitVec 1 := Scalar.cmpi .sgt v910 c0_i32_345
  let v915 : BitVec 32 := Scalar.extui v914
  let c0_i32_346 : BitVec 32 := 0#32
  let v916 : BitVec 1 := Scalar.cmpi .slt v910 c0_i32_346
  let v917 : BitVec 32 := Scalar.extui v916
  let v918 : BitVec 32 := Scalar.subi v915 v917
  let c16_i32_344 : BitVec 32 := 16#32
  let c0_i32_347 : BitVec 32 := 0#32
  let v919 : BitVec 1 := Scalar.cmpi .sgt c16_i32_344 c0_i32_347
  let v920 : BitVec 32 := Scalar.extui v919
  let c0_i32_348 : BitVec 32 := 0#32
  let v921 : BitVec 1 := Scalar.cmpi .slt c16_i32_344 c0_i32_348
  let v922 : BitVec 32 := Scalar.extui v921
  let v923 : BitVec 32 := Scalar.subi v920 v922
  let v924 : BitVec 1 := Scalar.cmpi .ne v918 v923
  let v925 : BitVec 32 := Scalar.remsi v910 c16_i32_344
  let c0_i32_349 : BitVec 32 := 0#32
  let v926 : BitVec 1 := Scalar.cmpi .ne v925 c0_i32_349
  let v927 : BitVec 1 := Scalar.andi v924 v926
  let v913 : BitVec 32 := Scalar.divsi v910 c16_i32_344
  let c1_i32_350 : BitVec 32 := 1#32
  let v928 : BitVec 32 := Scalar.subi v913 c1_i32_350
  let v929 : BitVec 32 := Scalar.select v927 v928 v913
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v929 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t18
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v910 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off92 (v912 : BitVec 32) (k0_t18 : Fin k0_t18_loop.trips) : Fin 2 → Nat :=
  let c0_i32_1453 : BitVec 32 := 0#32
  let c1_i32_1455 : BitVec 32 := 1#32
  let arg19 : BitVec 32 := Scf.iv c0_i32_1453 c1_i32_1455 k0_t18
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v912 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk35 (i : grid0.Coords) (v25 : BitVec 32) (v910 : BitVec 32) (v912 : BitVec 32) : Prop :=
  (∀ (k0_h18 : k0_cond18 i v25 v910 = 1#1), ∀ a, (k0_off89 i v912) a + S32x512.size a ≤ S12288x512.size a) ∧
  (∀ k0_t18 : Fin k0_t18_loop.trips, ∀ (k0_h18 : k0_cond18 i v25 v910 = 1#1), ∀ a, (k0_off90 v912 k0_t18) a + S1x16.size a ≤ S32x512.size a) ∧
  (∀ k0_t18 : Fin k0_t18_loop.trips, ∀ (k0_h18 : k0_cond18 i v25 v910 = 1#1), ∀ a, (k0_off92 v912 k0_t18) a + S1x16.size a ≤ S32x512.size a)
theorem k0_off89_inb : ∀ (i : grid0.Coords) (v25 : BitVec 32) (v910 : BitVec 32) (v912 : BitVec 32) (k0_hw35 : k0_chk35 i v25 v910 v912), ∀ (k0_h18 : k0_cond18 i v25 v910 = 1#1), ∀ a, (k0_off89 i v912) a + S32x512.size a ≤ S12288x512.size a := fun i v25 v910 v912 k0_hw35 k0_h18 => k0_hw35.1 k0_h18
theorem k0_off90_inb : ∀ (i : grid0.Coords) (v25 : BitVec 32) (v910 : BitVec 32) (v912 : BitVec 32) (k0_hw35 : k0_chk35 i v25 v910 v912) (k0_t18 : Fin k0_t18_loop.trips), ∀ (k0_h18 : k0_cond18 i v25 v910 = 1#1), ∀ a, (k0_off90 v912 k0_t18) a + S1x16.size a ≤ S32x512.size a := fun i v25 v910 v912 k0_hw35 k0_t18 k0_h18 => k0_hw35.2.1 k0_t18 k0_h18
theorem k0_off92_inb : ∀ (i : grid0.Coords) (v25 : BitVec 32) (v910 : BitVec 32) (v912 : BitVec 32) (k0_hw35 : k0_chk35 i v25 v910 v912) (k0_t18 : Fin k0_t18_loop.trips), ∀ (k0_h18 : k0_cond18 i v25 v910 = 1#1), ∀ a, (k0_off92 v912 k0_t18) a + S1x16.size a ≤ S32x512.size a := fun i v25 v910 v912 k0_hw35 k0_t18 k0_h18 => k0_hw35.2.2 k0_t18 k0_h18

def k0_off93 (v910 : BitVec 32) (k0_t18 : Fin k0_t18_loop.trips) : Fin 2 → Nat :=
  let c0_i32_345 : BitVec 32 := 0#32
  let v914 : BitVec 1 := Scalar.cmpi .sgt v910 c0_i32_345
  let v915 : BitVec 32 := Scalar.extui v914
  let c0_i32_346 : BitVec 32 := 0#32
  let v916 : BitVec 1 := Scalar.cmpi .slt v910 c0_i32_346
  let v917 : BitVec 32 := Scalar.extui v916
  let v918 : BitVec 32 := Scalar.subi v915 v917
  let c16_i32_344 : BitVec 32 := 16#32
  let c0_i32_347 : BitVec 32 := 0#32
  let v919 : BitVec 1 := Scalar.cmpi .sgt c16_i32_344 c0_i32_347
  let v920 : BitVec 32 := Scalar.extui v919
  let c0_i32_348 : BitVec 32 := 0#32
  let v921 : BitVec 1 := Scalar.cmpi .slt c16_i32_344 c0_i32_348
  let v922 : BitVec 32 := Scalar.extui v921
  let v923 : BitVec 32 := Scalar.subi v920 v922
  let v924 : BitVec 1 := Scalar.cmpi .ne v918 v923
  let v925 : BitVec 32 := Scalar.remsi v910 c16_i32_344
  let c0_i32_349 : BitVec 32 := 0#32
  let v926 : BitVec 1 := Scalar.cmpi .ne v925 c0_i32_349
  let v927 : BitVec 1 := Scalar.andi v924 v926
  let v913 : BitVec 32 := Scalar.divsi v910 c16_i32_344
  let c1_i32_350 : BitVec 32 := 1#32
  let v928 : BitVec 32 := Scalar.subi v913 c1_i32_350
  let v929 : BitVec 32 := Scalar.select v927 v928 v913
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v929 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t18
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v910 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk36 (i : grid0.Coords) (v25 : BitVec 32) (v910 : BitVec 32) : Prop :=
  (∀ k0_t18 : Fin k0_t18_loop.trips, ∀ (k0_h18 : k0_cond18 i v25 v910 = 1#1), ∀ a, (k0_off91 v910 k0_t18) a + S1x16.size a ≤ S128x512.size a) ∧
  (∀ k0_t18 : Fin k0_t18_loop.trips, ∀ (k0_h18 : k0_cond18 i v25 v910 = 1#1), ∀ a, (k0_off93 v910 k0_t18) a + S1x16.size a ≤ S128x512.size a)
theorem k0_off91_inb : ∀ (i : grid0.Coords) (v25 : BitVec 32) (v910 : BitVec 32) (k0_hw36 : k0_chk36 i v25 v910) (k0_t18 : Fin k0_t18_loop.trips), ∀ (k0_h18 : k0_cond18 i v25 v910 = 1#1), ∀ a, (k0_off91 v910 k0_t18) a + S1x16.size a ≤ S128x512.size a := fun i v25 v910 k0_hw36 k0_t18 k0_h18 => k0_hw36.1 k0_t18 k0_h18
theorem k0_off93_inb : ∀ (i : grid0.Coords) (v25 : BitVec 32) (v910 : BitVec 32) (k0_hw36 : k0_chk36 i v25 v910) (k0_t18 : Fin k0_t18_loop.trips), ∀ (k0_h18 : k0_cond18 i v25 v910 = 1#1), ∀ a, (k0_off93 v910 k0_t18) a + S1x16.size a ≤ S128x512.size a := fun i v25 v910 k0_hw36 k0_t18 k0_h18 => k0_hw36.2 k0_t18 k0_h18

def k0_off94 (i : grid0.Coords) (v955 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v955 c0_i32_1428
  let v3763 : BitVec 32 := Scalar.extui v3762
  let c0_i32_1429 : BitVec 32 := 0#32
  let v3764 : BitVec 1 := Scalar.cmpi .slt v955 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v955 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v955 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r24 : BitVec 32 := 0#32
  ![v3779.toNat, 0]
def k0_cond19 (i : grid0.Coords) (v25 : BitVec 32) (v953 : BitVec 32) : BitVec 1 :=
  let c2_i32_367 : BitVec 32 := 2#32
  let v973 : BitVec 1 := Scalar.cmpi .sgt v25 c2_i32_367
  let c0_i32_361 : BitVec 32 := 0#32
  let v957 : BitVec 1 := Scalar.cmpi .sgt v953 c0_i32_361
  let v958 : BitVec 32 := Scalar.extui v957
  let c0_i32_362 : BitVec 32 := 0#32
  let v959 : BitVec 1 := Scalar.cmpi .slt v953 c0_i32_362
  let v960 : BitVec 32 := Scalar.extui v959
  let v961 : BitVec 32 := Scalar.subi v958 v960
  let c16_i32_360 : BitVec 32 := 16#32
  let c0_i32_363 : BitVec 32 := 0#32
  let v962 : BitVec 1 := Scalar.cmpi .sgt c16_i32_360 c0_i32_363
  let v963 : BitVec 32 := Scalar.extui v962
  let c0_i32_364 : BitVec 32 := 0#32
  let v964 : BitVec 1 := Scalar.cmpi .slt c16_i32_360 c0_i32_364
  let v965 : BitVec 32 := Scalar.extui v964
  let v966 : BitVec 32 := Scalar.subi v963 v965
  let v967 : BitVec 1 := Scalar.cmpi .ne v961 v966
  let v968 : BitVec 32 := Scalar.remsi v953 c16_i32_360
  let c0_i32_365 : BitVec 32 := 0#32
  let v969 : BitVec 1 := Scalar.cmpi .ne v968 c0_i32_365
  let v970 : BitVec 1 := Scalar.andi v967 v969
  let v956 : BitVec 32 := Scalar.divsi v953 c16_i32_360
  let c1_i32_366 : BitVec 32 := 1#32
  let v971 : BitVec 32 := Scalar.subi v956 c1_i32_366
  let v972 : BitVec 32 := Scalar.select v970 v971 v956
  let c0_i32_369 : BitVec 32 := 0#32
  let v975 : BitVec 1 := Scalar.cmpi .sgt v972 c0_i32_369
  let v976 : BitVec 32 := Scalar.extui v975
  let c0_i32_370 : BitVec 32 := 0#32
  let v977 : BitVec 1 := Scalar.cmpi .slt v972 c0_i32_370
  let v978 : BitVec 32 := Scalar.extui v977
  let v979 : BitVec 32 := Scalar.subi v976 v978
  let c4_i32_368 : BitVec 32 := 4#32
  let c0_i32_371 : BitVec 32 := 0#32
  let v980 : BitVec 1 := Scalar.cmpi .sgt c4_i32_368 c0_i32_371
  let v981 : BitVec 32 := Scalar.extui v980
  let c0_i32_372 : BitVec 32 := 0#32
  let v982 : BitVec 1 := Scalar.cmpi .slt c4_i32_368 c0_i32_372
  let v983 : BitVec 32 := Scalar.extui v982
  let v984 : BitVec 32 := Scalar.subi v981 v983
  let v985 : BitVec 1 := Scalar.cmpi .ne v979 v984
  let v986 : BitVec 32 := Scalar.remsi v972 c4_i32_368
  let c0_i32_373 : BitVec 32 := 0#32
  let v987 : BitVec 1 := Scalar.cmpi .ne v986 c0_i32_373
  let v988 : BitVec 1 := Scalar.andi v985 v987
  let v974 : BitVec 32 := Scalar.divsi v972 c4_i32_368
  let c1_i32_374 : BitVec 32 := 1#32
  let v989 : BitVec 32 := Scalar.subi v974 c1_i32_374
  let v990 : BitVec 32 := Scalar.select v988 v989 v974
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v991 : BitVec 1 := Scalar.cmpi .eq v990 v865
  let v992 : BitVec 1 := Scalar.andi v973 v991
  let v993 : BitVec 32 := Scalar.extui v992
  let c0_i32_375 : BitVec 32 := 0#32
  let v994 : BitVec 1 := Scalar.cmpi .ne v993 c0_i32_375
  v994

@[reducible] def k0_t19_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off95 (v955 : BitVec 32) (k0_t19 : Fin k0_t19_loop.trips) : Fin 2 → Nat :=
  let c0_i32_1453 : BitVec 32 := 0#32
  let c1_i32_1455 : BitVec 32 := 1#32
  let arg19 : BitVec 32 := Scf.iv c0_i32_1453 c1_i32_1455 k0_t19
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v955 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off96 (v953 : BitVec 32) (k0_t19 : Fin k0_t19_loop.trips) : Fin 2 → Nat :=
  let c0_i32_361 : BitVec 32 := 0#32
  let v957 : BitVec 1 := Scalar.cmpi .sgt v953 c0_i32_361
  let v958 : BitVec 32 := Scalar.extui v957
  let c0_i32_362 : BitVec 32 := 0#32
  let v959 : BitVec 1 := Scalar.cmpi .slt v953 c0_i32_362
  let v960 : BitVec 32 := Scalar.extui v959
  let v961 : BitVec 32 := Scalar.subi v958 v960
  let c16_i32_360 : BitVec 32 := 16#32
  let c0_i32_363 : BitVec 32 := 0#32
  let v962 : BitVec 1 := Scalar.cmpi .sgt c16_i32_360 c0_i32_363
  let v963 : BitVec 32 := Scalar.extui v962
  let c0_i32_364 : BitVec 32 := 0#32
  let v964 : BitVec 1 := Scalar.cmpi .slt c16_i32_360 c0_i32_364
  let v965 : BitVec 32 := Scalar.extui v964
  let v966 : BitVec 32 := Scalar.subi v963 v965
  let v967 : BitVec 1 := Scalar.cmpi .ne v961 v966
  let v968 : BitVec 32 := Scalar.remsi v953 c16_i32_360
  let c0_i32_365 : BitVec 32 := 0#32
  let v969 : BitVec 1 := Scalar.cmpi .ne v968 c0_i32_365
  let v970 : BitVec 1 := Scalar.andi v967 v969
  let v956 : BitVec 32 := Scalar.divsi v953 c16_i32_360
  let c1_i32_366 : BitVec 32 := 1#32
  let v971 : BitVec 32 := Scalar.subi v956 c1_i32_366
  let v972 : BitVec 32 := Scalar.select v970 v971 v956
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v972 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t19
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v953 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off97 (v955 : BitVec 32) (k0_t19 : Fin k0_t19_loop.trips) : Fin 2 → Nat :=
  let c0_i32_1453 : BitVec 32 := 0#32
  let c1_i32_1455 : BitVec 32 := 1#32
  let arg19 : BitVec 32 := Scf.iv c0_i32_1453 c1_i32_1455 k0_t19
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v955 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk37 (i : grid0.Coords) (v25 : BitVec 32) (v953 : BitVec 32) (v955 : BitVec 32) : Prop :=
  (∀ (k0_h19 : k0_cond19 i v25 v953 = 1#1), ∀ a, (k0_off94 i v955) a + S32x512.size a ≤ S12288x512.size a) ∧
  (∀ k0_t19 : Fin k0_t19_loop.trips, ∀ (k0_h19 : k0_cond19 i v25 v953 = 1#1), ∀ a, (k0_off95 v955 k0_t19) a + S1x16.size a ≤ S32x512.size a) ∧
  (∀ k0_t19 : Fin k0_t19_loop.trips, ∀ (k0_h19 : k0_cond19 i v25 v953 = 1#1), ∀ a, (k0_off97 v955 k0_t19) a + S1x16.size a ≤ S32x512.size a)
theorem k0_off94_inb : ∀ (i : grid0.Coords) (v25 : BitVec 32) (v953 : BitVec 32) (v955 : BitVec 32) (k0_hw37 : k0_chk37 i v25 v953 v955), ∀ (k0_h19 : k0_cond19 i v25 v953 = 1#1), ∀ a, (k0_off94 i v955) a + S32x512.size a ≤ S12288x512.size a := fun i v25 v953 v955 k0_hw37 k0_h19 => k0_hw37.1 k0_h19
theorem k0_off95_inb : ∀ (i : grid0.Coords) (v25 : BitVec 32) (v953 : BitVec 32) (v955 : BitVec 32) (k0_hw37 : k0_chk37 i v25 v953 v955) (k0_t19 : Fin k0_t19_loop.trips), ∀ (k0_h19 : k0_cond19 i v25 v953 = 1#1), ∀ a, (k0_off95 v955 k0_t19) a + S1x16.size a ≤ S32x512.size a := fun i v25 v953 v955 k0_hw37 k0_t19 k0_h19 => k0_hw37.2.1 k0_t19 k0_h19
theorem k0_off97_inb : ∀ (i : grid0.Coords) (v25 : BitVec 32) (v953 : BitVec 32) (v955 : BitVec 32) (k0_hw37 : k0_chk37 i v25 v953 v955) (k0_t19 : Fin k0_t19_loop.trips), ∀ (k0_h19 : k0_cond19 i v25 v953 = 1#1), ∀ a, (k0_off97 v955 k0_t19) a + S1x16.size a ≤ S32x512.size a := fun i v25 v953 v955 k0_hw37 k0_t19 k0_h19 => k0_hw37.2.2 k0_t19 k0_h19

def k0_off98 (v953 : BitVec 32) (k0_t19 : Fin k0_t19_loop.trips) : Fin 2 → Nat :=
  let c0_i32_361 : BitVec 32 := 0#32
  let v957 : BitVec 1 := Scalar.cmpi .sgt v953 c0_i32_361
  let v958 : BitVec 32 := Scalar.extui v957
  let c0_i32_362 : BitVec 32 := 0#32
  let v959 : BitVec 1 := Scalar.cmpi .slt v953 c0_i32_362
  let v960 : BitVec 32 := Scalar.extui v959
  let v961 : BitVec 32 := Scalar.subi v958 v960
  let c16_i32_360 : BitVec 32 := 16#32
  let c0_i32_363 : BitVec 32 := 0#32
  let v962 : BitVec 1 := Scalar.cmpi .sgt c16_i32_360 c0_i32_363
  let v963 : BitVec 32 := Scalar.extui v962
  let c0_i32_364 : BitVec 32 := 0#32
  let v964 : BitVec 1 := Scalar.cmpi .slt c16_i32_360 c0_i32_364
  let v965 : BitVec 32 := Scalar.extui v964
  let v966 : BitVec 32 := Scalar.subi v963 v965
  let v967 : BitVec 1 := Scalar.cmpi .ne v961 v966
  let v968 : BitVec 32 := Scalar.remsi v953 c16_i32_360
  let c0_i32_365 : BitVec 32 := 0#32
  let v969 : BitVec 1 := Scalar.cmpi .ne v968 c0_i32_365
  let v970 : BitVec 1 := Scalar.andi v967 v969
  let v956 : BitVec 32 := Scalar.divsi v953 c16_i32_360
  let c1_i32_366 : BitVec 32 := 1#32
  let v971 : BitVec 32 := Scalar.subi v956 c1_i32_366
  let v972 : BitVec 32 := Scalar.select v970 v971 v956
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v972 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t19
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v953 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk38 (i : grid0.Coords) (v25 : BitVec 32) (v953 : BitVec 32) : Prop :=
  (∀ k0_t19 : Fin k0_t19_loop.trips, ∀ (k0_h19 : k0_cond19 i v25 v953 = 1#1), ∀ a, (k0_off96 v953 k0_t19) a + S1x16.size a ≤ S128x512.size a) ∧
  (∀ k0_t19 : Fin k0_t19_loop.trips, ∀ (k0_h19 : k0_cond19 i v25 v953 = 1#1), ∀ a, (k0_off98 v953 k0_t19) a + S1x16.size a ≤ S128x512.size a)
theorem k0_off96_inb : ∀ (i : grid0.Coords) (v25 : BitVec 32) (v953 : BitVec 32) (k0_hw38 : k0_chk38 i v25 v953) (k0_t19 : Fin k0_t19_loop.trips), ∀ (k0_h19 : k0_cond19 i v25 v953 = 1#1), ∀ a, (k0_off96 v953 k0_t19) a + S1x16.size a ≤ S128x512.size a := fun i v25 v953 k0_hw38 k0_t19 k0_h19 => k0_hw38.1 k0_t19 k0_h19
theorem k0_off98_inb : ∀ (i : grid0.Coords) (v25 : BitVec 32) (v953 : BitVec 32) (k0_hw38 : k0_chk38 i v25 v953) (k0_t19 : Fin k0_t19_loop.trips), ∀ (k0_h19 : k0_cond19 i v25 v953 = 1#1), ∀ a, (k0_off98 v953 k0_t19) a + S1x16.size a ≤ S128x512.size a := fun i v25 v953 k0_hw38 k0_t19 k0_h19 => k0_hw38.2 k0_t19 k0_h19

def k0_off99 (i : grid0.Coords) (v998 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v998 c0_i32_1428
  let v3763 : BitVec 32 := Scalar.extui v3762
  let c0_i32_1429 : BitVec 32 := 0#32
  let v3764 : BitVec 1 := Scalar.cmpi .slt v998 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v998 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v998 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r25 : BitVec 32 := 0#32
  ![v3779.toNat, 0]
def k0_cond20 (i : grid0.Coords) (v25 : BitVec 32) (v996 : BitVec 32) : BitVec 1 :=
  let c3_i32_383 : BitVec 32 := 3#32
  let v1016 : BitVec 1 := Scalar.cmpi .sgt v25 c3_i32_383
  let c0_i32_377 : BitVec 32 := 0#32
  let v1000 : BitVec 1 := Scalar.cmpi .sgt v996 c0_i32_377
  let v1001 : BitVec 32 := Scalar.extui v1000
  let c0_i32_378 : BitVec 32 := 0#32
  let v1002 : BitVec 1 := Scalar.cmpi .slt v996 c0_i32_378
  let v1003 : BitVec 32 := Scalar.extui v1002
  let v1004 : BitVec 32 := Scalar.subi v1001 v1003
  let c16_i32_376 : BitVec 32 := 16#32
  let c0_i32_379 : BitVec 32 := 0#32
  let v1005 : BitVec 1 := Scalar.cmpi .sgt c16_i32_376 c0_i32_379
  let v1006 : BitVec 32 := Scalar.extui v1005
  let c0_i32_380 : BitVec 32 := 0#32
  let v1007 : BitVec 1 := Scalar.cmpi .slt c16_i32_376 c0_i32_380
  let v1008 : BitVec 32 := Scalar.extui v1007
  let v1009 : BitVec 32 := Scalar.subi v1006 v1008
  let v1010 : BitVec 1 := Scalar.cmpi .ne v1004 v1009
  let v1011 : BitVec 32 := Scalar.remsi v996 c16_i32_376
  let c0_i32_381 : BitVec 32 := 0#32
  let v1012 : BitVec 1 := Scalar.cmpi .ne v1011 c0_i32_381
  let v1013 : BitVec 1 := Scalar.andi v1010 v1012
  let v999 : BitVec 32 := Scalar.divsi v996 c16_i32_376
  let c1_i32_382 : BitVec 32 := 1#32
  let v1014 : BitVec 32 := Scalar.subi v999 c1_i32_382
  let v1015 : BitVec 32 := Scalar.select v1013 v1014 v999
  let c0_i32_385 : BitVec 32 := 0#32
  let v1018 : BitVec 1 := Scalar.cmpi .sgt v1015 c0_i32_385
  let v1019 : BitVec 32 := Scalar.extui v1018
  let c0_i32_386 : BitVec 32 := 0#32
  let v1020 : BitVec 1 := Scalar.cmpi .slt v1015 c0_i32_386
  let v1021 : BitVec 32 := Scalar.extui v1020
  let v1022 : BitVec 32 := Scalar.subi v1019 v1021
  let c4_i32_384 : BitVec 32 := 4#32
  let c0_i32_387 : BitVec 32 := 0#32
  let v1023 : BitVec 1 := Scalar.cmpi .sgt c4_i32_384 c0_i32_387
  let v1024 : BitVec 32 := Scalar.extui v1023
  let c0_i32_388 : BitVec 32 := 0#32
  let v1025 : BitVec 1 := Scalar.cmpi .slt c4_i32_384 c0_i32_388
  let v1026 : BitVec 32 := Scalar.extui v1025
  let v1027 : BitVec 32 := Scalar.subi v1024 v1026
  let v1028 : BitVec 1 := Scalar.cmpi .ne v1022 v1027
  let v1029 : BitVec 32 := Scalar.remsi v1015 c4_i32_384
  let c0_i32_389 : BitVec 32 := 0#32
  let v1030 : BitVec 1 := Scalar.cmpi .ne v1029 c0_i32_389
  let v1031 : BitVec 1 := Scalar.andi v1028 v1030
  let v1017 : BitVec 32 := Scalar.divsi v1015 c4_i32_384
  let c1_i32_390 : BitVec 32 := 1#32
  let v1032 : BitVec 32 := Scalar.subi v1017 c1_i32_390
  let v1033 : BitVec 32 := Scalar.select v1031 v1032 v1017
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1034 : BitVec 1 := Scalar.cmpi .eq v1033 v865
  let v1035 : BitVec 1 := Scalar.andi v1016 v1034
  let v1036 : BitVec 32 := Scalar.extui v1035
  let c0_i32_391 : BitVec 32 := 0#32
  let v1037 : BitVec 1 := Scalar.cmpi .ne v1036 c0_i32_391
  v1037

@[reducible] def k0_t20_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off100 (v998 : BitVec 32) (k0_t20 : Fin k0_t20_loop.trips) : Fin 2 → Nat :=
  let c0_i32_1453 : BitVec 32 := 0#32
  let c1_i32_1455 : BitVec 32 := 1#32
  let arg19 : BitVec 32 := Scf.iv c0_i32_1453 c1_i32_1455 k0_t20
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v998 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off101 (v996 : BitVec 32) (k0_t20 : Fin k0_t20_loop.trips) : Fin 2 → Nat :=
  let c0_i32_377 : BitVec 32 := 0#32
  let v1000 : BitVec 1 := Scalar.cmpi .sgt v996 c0_i32_377
  let v1001 : BitVec 32 := Scalar.extui v1000
  let c0_i32_378 : BitVec 32 := 0#32
  let v1002 : BitVec 1 := Scalar.cmpi .slt v996 c0_i32_378
  let v1003 : BitVec 32 := Scalar.extui v1002
  let v1004 : BitVec 32 := Scalar.subi v1001 v1003
  let c16_i32_376 : BitVec 32 := 16#32
  let c0_i32_379 : BitVec 32 := 0#32
  let v1005 : BitVec 1 := Scalar.cmpi .sgt c16_i32_376 c0_i32_379
  let v1006 : BitVec 32 := Scalar.extui v1005
  let c0_i32_380 : BitVec 32 := 0#32
  let v1007 : BitVec 1 := Scalar.cmpi .slt c16_i32_376 c0_i32_380
  let v1008 : BitVec 32 := Scalar.extui v1007
  let v1009 : BitVec 32 := Scalar.subi v1006 v1008
  let v1010 : BitVec 1 := Scalar.cmpi .ne v1004 v1009
  let v1011 : BitVec 32 := Scalar.remsi v996 c16_i32_376
  let c0_i32_381 : BitVec 32 := 0#32
  let v1012 : BitVec 1 := Scalar.cmpi .ne v1011 c0_i32_381
  let v1013 : BitVec 1 := Scalar.andi v1010 v1012
  let v999 : BitVec 32 := Scalar.divsi v996 c16_i32_376
  let c1_i32_382 : BitVec 32 := 1#32
  let v1014 : BitVec 32 := Scalar.subi v999 c1_i32_382
  let v1015 : BitVec 32 := Scalar.select v1013 v1014 v999
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1015 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t20
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v996 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off102 (v998 : BitVec 32) (k0_t20 : Fin k0_t20_loop.trips) : Fin 2 → Nat :=
  let c0_i32_1453 : BitVec 32 := 0#32
  let c1_i32_1455 : BitVec 32 := 1#32
  let arg19 : BitVec 32 := Scf.iv c0_i32_1453 c1_i32_1455 k0_t20
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v998 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk39 (i : grid0.Coords) (v25 : BitVec 32) (v996 : BitVec 32) (v998 : BitVec 32) : Prop :=
  (∀ (k0_h20 : k0_cond20 i v25 v996 = 1#1), ∀ a, (k0_off99 i v998) a + S32x512.size a ≤ S12288x512.size a) ∧
  (∀ k0_t20 : Fin k0_t20_loop.trips, ∀ (k0_h20 : k0_cond20 i v25 v996 = 1#1), ∀ a, (k0_off100 v998 k0_t20) a + S1x16.size a ≤ S32x512.size a) ∧
  (∀ k0_t20 : Fin k0_t20_loop.trips, ∀ (k0_h20 : k0_cond20 i v25 v996 = 1#1), ∀ a, (k0_off102 v998 k0_t20) a + S1x16.size a ≤ S32x512.size a)
theorem k0_off99_inb : ∀ (i : grid0.Coords) (v25 : BitVec 32) (v996 : BitVec 32) (v998 : BitVec 32) (k0_hw39 : k0_chk39 i v25 v996 v998), ∀ (k0_h20 : k0_cond20 i v25 v996 = 1#1), ∀ a, (k0_off99 i v998) a + S32x512.size a ≤ S12288x512.size a := fun i v25 v996 v998 k0_hw39 k0_h20 => k0_hw39.1 k0_h20
theorem k0_off100_inb : ∀ (i : grid0.Coords) (v25 : BitVec 32) (v996 : BitVec 32) (v998 : BitVec 32) (k0_hw39 : k0_chk39 i v25 v996 v998) (k0_t20 : Fin k0_t20_loop.trips), ∀ (k0_h20 : k0_cond20 i v25 v996 = 1#1), ∀ a, (k0_off100 v998 k0_t20) a + S1x16.size a ≤ S32x512.size a := fun i v25 v996 v998 k0_hw39 k0_t20 k0_h20 => k0_hw39.2.1 k0_t20 k0_h20
theorem k0_off102_inb : ∀ (i : grid0.Coords) (v25 : BitVec 32) (v996 : BitVec 32) (v998 : BitVec 32) (k0_hw39 : k0_chk39 i v25 v996 v998) (k0_t20 : Fin k0_t20_loop.trips), ∀ (k0_h20 : k0_cond20 i v25 v996 = 1#1), ∀ a, (k0_off102 v998 k0_t20) a + S1x16.size a ≤ S32x512.size a := fun i v25 v996 v998 k0_hw39 k0_t20 k0_h20 => k0_hw39.2.2 k0_t20 k0_h20

def k0_off103 (v996 : BitVec 32) (k0_t20 : Fin k0_t20_loop.trips) : Fin 2 → Nat :=
  let c0_i32_377 : BitVec 32 := 0#32
  let v1000 : BitVec 1 := Scalar.cmpi .sgt v996 c0_i32_377
  let v1001 : BitVec 32 := Scalar.extui v1000
  let c0_i32_378 : BitVec 32 := 0#32
  let v1002 : BitVec 1 := Scalar.cmpi .slt v996 c0_i32_378
  let v1003 : BitVec 32 := Scalar.extui v1002
  let v1004 : BitVec 32 := Scalar.subi v1001 v1003
  let c16_i32_376 : BitVec 32 := 16#32
  let c0_i32_379 : BitVec 32 := 0#32
  let v1005 : BitVec 1 := Scalar.cmpi .sgt c16_i32_376 c0_i32_379
  let v1006 : BitVec 32 := Scalar.extui v1005
  let c0_i32_380 : BitVec 32 := 0#32
  let v1007 : BitVec 1 := Scalar.cmpi .slt c16_i32_376 c0_i32_380
  let v1008 : BitVec 32 := Scalar.extui v1007
  let v1009 : BitVec 32 := Scalar.subi v1006 v1008
  let v1010 : BitVec 1 := Scalar.cmpi .ne v1004 v1009
  let v1011 : BitVec 32 := Scalar.remsi v996 c16_i32_376
  let c0_i32_381 : BitVec 32 := 0#32
  let v1012 : BitVec 1 := Scalar.cmpi .ne v1011 c0_i32_381
  let v1013 : BitVec 1 := Scalar.andi v1010 v1012
  let v999 : BitVec 32 := Scalar.divsi v996 c16_i32_376
  let c1_i32_382 : BitVec 32 := 1#32
  let v1014 : BitVec 32 := Scalar.subi v999 c1_i32_382
  let v1015 : BitVec 32 := Scalar.select v1013 v1014 v999
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1015 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t20
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v996 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk40 (i : grid0.Coords) (v25 : BitVec 32) (v996 : BitVec 32) : Prop :=
  (∀ k0_t20 : Fin k0_t20_loop.trips, ∀ (k0_h20 : k0_cond20 i v25 v996 = 1#1), ∀ a, (k0_off101 v996 k0_t20) a + S1x16.size a ≤ S128x512.size a) ∧
  (∀ k0_t20 : Fin k0_t20_loop.trips, ∀ (k0_h20 : k0_cond20 i v25 v996 = 1#1), ∀ a, (k0_off103 v996 k0_t20) a + S1x16.size a ≤ S128x512.size a)
theorem k0_off101_inb : ∀ (i : grid0.Coords) (v25 : BitVec 32) (v996 : BitVec 32) (k0_hw40 : k0_chk40 i v25 v996) (k0_t20 : Fin k0_t20_loop.trips), ∀ (k0_h20 : k0_cond20 i v25 v996 = 1#1), ∀ a, (k0_off101 v996 k0_t20) a + S1x16.size a ≤ S128x512.size a := fun i v25 v996 k0_hw40 k0_t20 k0_h20 => k0_hw40.1 k0_t20 k0_h20
theorem k0_off103_inb : ∀ (i : grid0.Coords) (v25 : BitVec 32) (v996 : BitVec 32) (k0_hw40 : k0_chk40 i v25 v996) (k0_t20 : Fin k0_t20_loop.trips), ∀ (k0_h20 : k0_cond20 i v25 v996 = 1#1), ∀ a, (k0_off103 v996 k0_t20) a + S1x16.size a ≤ S128x512.size a := fun i v25 v996 k0_hw40 k0_t20 k0_h20 => k0_hw40.2 k0_t20 k0_h20

def k0_off104 (i : grid0.Coords) (v1041 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1041 c0_i32_1428
  let v3763 : BitVec 32 := Scalar.extui v3762
  let c0_i32_1429 : BitVec 32 := 0#32
  let v3764 : BitVec 1 := Scalar.cmpi .slt v1041 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1041 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1041 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r26 : BitVec 32 := 0#32
  ![v3779.toNat, 0]
def k0_cond21 (i : grid0.Coords) (v25 : BitVec 32) (v1039 : BitVec 32) : BitVec 1 :=
  let c4_i32_399 : BitVec 32 := 4#32
  let v1059 : BitVec 1 := Scalar.cmpi .sgt v25 c4_i32_399
  let c0_i32_393 : BitVec 32 := 0#32
  let v1043 : BitVec 1 := Scalar.cmpi .sgt v1039 c0_i32_393
  let v1044 : BitVec 32 := Scalar.extui v1043
  let c0_i32_394 : BitVec 32 := 0#32
  let v1045 : BitVec 1 := Scalar.cmpi .slt v1039 c0_i32_394
  let v1046 : BitVec 32 := Scalar.extui v1045
  let v1047 : BitVec 32 := Scalar.subi v1044 v1046
  let c16_i32_392 : BitVec 32 := 16#32
  let c0_i32_395 : BitVec 32 := 0#32
  let v1048 : BitVec 1 := Scalar.cmpi .sgt c16_i32_392 c0_i32_395
  let v1049 : BitVec 32 := Scalar.extui v1048
  let c0_i32_396 : BitVec 32 := 0#32
  let v1050 : BitVec 1 := Scalar.cmpi .slt c16_i32_392 c0_i32_396
  let v1051 : BitVec 32 := Scalar.extui v1050
  let v1052 : BitVec 32 := Scalar.subi v1049 v1051
  let v1053 : BitVec 1 := Scalar.cmpi .ne v1047 v1052
  let v1054 : BitVec 32 := Scalar.remsi v1039 c16_i32_392
  let c0_i32_397 : BitVec 32 := 0#32
  let v1055 : BitVec 1 := Scalar.cmpi .ne v1054 c0_i32_397
  let v1056 : BitVec 1 := Scalar.andi v1053 v1055
  let v1042 : BitVec 32 := Scalar.divsi v1039 c16_i32_392
  let c1_i32_398 : BitVec 32 := 1#32
  let v1057 : BitVec 32 := Scalar.subi v1042 c1_i32_398
  let v1058 : BitVec 32 := Scalar.select v1056 v1057 v1042
  let c0_i32_401 : BitVec 32 := 0#32
  let v1061 : BitVec 1 := Scalar.cmpi .sgt v1058 c0_i32_401
  let v1062 : BitVec 32 := Scalar.extui v1061
  let c0_i32_402 : BitVec 32 := 0#32
  let v1063 : BitVec 1 := Scalar.cmpi .slt v1058 c0_i32_402
  let v1064 : BitVec 32 := Scalar.extui v1063
  let v1065 : BitVec 32 := Scalar.subi v1062 v1064
  let c4_i32_400 : BitVec 32 := 4#32
  let c0_i32_403 : BitVec 32 := 0#32
  let v1066 : BitVec 1 := Scalar.cmpi .sgt c4_i32_400 c0_i32_403
  let v1067 : BitVec 32 := Scalar.extui v1066
  let c0_i32_404 : BitVec 32 := 0#32
  let v1068 : BitVec 1 := Scalar.cmpi .slt c4_i32_400 c0_i32_404
  let v1069 : BitVec 32 := Scalar.extui v1068
  let v1070 : BitVec 32 := Scalar.subi v1067 v1069
  let v1071 : BitVec 1 := Scalar.cmpi .ne v1065 v1070
  let v1072 : BitVec 32 := Scalar.remsi v1058 c4_i32_400
  let c0_i32_405 : BitVec 32 := 0#32
  let v1073 : BitVec 1 := Scalar.cmpi .ne v1072 c0_i32_405
  let v1074 : BitVec 1 := Scalar.andi v1071 v1073
  let v1060 : BitVec 32 := Scalar.divsi v1058 c4_i32_400
  let c1_i32_406 : BitVec 32 := 1#32
  let v1075 : BitVec 32 := Scalar.subi v1060 c1_i32_406
  let v1076 : BitVec 32 := Scalar.select v1074 v1075 v1060
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1077 : BitVec 1 := Scalar.cmpi .eq v1076 v865
  let v1078 : BitVec 1 := Scalar.andi v1059 v1077
  let v1079 : BitVec 32 := Scalar.extui v1078
  let c0_i32_407 : BitVec 32 := 0#32
  let v1080 : BitVec 1 := Scalar.cmpi .ne v1079 c0_i32_407
  v1080

@[reducible] def k0_t21_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off105 (v1041 : BitVec 32) (k0_t21 : Fin k0_t21_loop.trips) : Fin 2 → Nat :=
  let c0_i32_1453 : BitVec 32 := 0#32
  let c1_i32_1455 : BitVec 32 := 1#32
  let arg19 : BitVec 32 := Scf.iv c0_i32_1453 c1_i32_1455 k0_t21
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1041 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off106 (v1039 : BitVec 32) (k0_t21 : Fin k0_t21_loop.trips) : Fin 2 → Nat :=
  let c0_i32_393 : BitVec 32 := 0#32
  let v1043 : BitVec 1 := Scalar.cmpi .sgt v1039 c0_i32_393
  let v1044 : BitVec 32 := Scalar.extui v1043
  let c0_i32_394 : BitVec 32 := 0#32
  let v1045 : BitVec 1 := Scalar.cmpi .slt v1039 c0_i32_394
  let v1046 : BitVec 32 := Scalar.extui v1045
  let v1047 : BitVec 32 := Scalar.subi v1044 v1046
  let c16_i32_392 : BitVec 32 := 16#32
  let c0_i32_395 : BitVec 32 := 0#32
  let v1048 : BitVec 1 := Scalar.cmpi .sgt c16_i32_392 c0_i32_395
  let v1049 : BitVec 32 := Scalar.extui v1048
  let c0_i32_396 : BitVec 32 := 0#32
  let v1050 : BitVec 1 := Scalar.cmpi .slt c16_i32_392 c0_i32_396
  let v1051 : BitVec 32 := Scalar.extui v1050
  let v1052 : BitVec 32 := Scalar.subi v1049 v1051
  let v1053 : BitVec 1 := Scalar.cmpi .ne v1047 v1052
  let v1054 : BitVec 32 := Scalar.remsi v1039 c16_i32_392
  let c0_i32_397 : BitVec 32 := 0#32
  let v1055 : BitVec 1 := Scalar.cmpi .ne v1054 c0_i32_397
  let v1056 : BitVec 1 := Scalar.andi v1053 v1055
  let v1042 : BitVec 32 := Scalar.divsi v1039 c16_i32_392
  let c1_i32_398 : BitVec 32 := 1#32
  let v1057 : BitVec 32 := Scalar.subi v1042 c1_i32_398
  let v1058 : BitVec 32 := Scalar.select v1056 v1057 v1042
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1058 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t21
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1039 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off107 (v1041 : BitVec 32) (k0_t21 : Fin k0_t21_loop.trips) : Fin 2 → Nat :=
  let c0_i32_1453 : BitVec 32 := 0#32
  let c1_i32_1455 : BitVec 32 := 1#32
  let arg19 : BitVec 32 := Scf.iv c0_i32_1453 c1_i32_1455 k0_t21
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1041 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk41 (i : grid0.Coords) (v25 : BitVec 32) (v1039 : BitVec 32) (v1041 : BitVec 32) : Prop :=
  (∀ (k0_h21 : k0_cond21 i v25 v1039 = 1#1), ∀ a, (k0_off104 i v1041) a + S32x512.size a ≤ S12288x512.size a) ∧
  (∀ k0_t21 : Fin k0_t21_loop.trips, ∀ (k0_h21 : k0_cond21 i v25 v1039 = 1#1), ∀ a, (k0_off105 v1041 k0_t21) a + S1x16.size a ≤ S32x512.size a) ∧
  (∀ k0_t21 : Fin k0_t21_loop.trips, ∀ (k0_h21 : k0_cond21 i v25 v1039 = 1#1), ∀ a, (k0_off107 v1041 k0_t21) a + S1x16.size a ≤ S32x512.size a)
theorem k0_off104_inb : ∀ (i : grid0.Coords) (v25 : BitVec 32) (v1039 : BitVec 32) (v1041 : BitVec 32) (k0_hw41 : k0_chk41 i v25 v1039 v1041), ∀ (k0_h21 : k0_cond21 i v25 v1039 = 1#1), ∀ a, (k0_off104 i v1041) a + S32x512.size a ≤ S12288x512.size a := fun i v25 v1039 v1041 k0_hw41 k0_h21 => k0_hw41.1 k0_h21
theorem k0_off105_inb : ∀ (i : grid0.Coords) (v25 : BitVec 32) (v1039 : BitVec 32) (v1041 : BitVec 32) (k0_hw41 : k0_chk41 i v25 v1039 v1041) (k0_t21 : Fin k0_t21_loop.trips), ∀ (k0_h21 : k0_cond21 i v25 v1039 = 1#1), ∀ a, (k0_off105 v1041 k0_t21) a + S1x16.size a ≤ S32x512.size a := fun i v25 v1039 v1041 k0_hw41 k0_t21 k0_h21 => k0_hw41.2.1 k0_t21 k0_h21
theorem k0_off107_inb : ∀ (i : grid0.Coords) (v25 : BitVec 32) (v1039 : BitVec 32) (v1041 : BitVec 32) (k0_hw41 : k0_chk41 i v25 v1039 v1041) (k0_t21 : Fin k0_t21_loop.trips), ∀ (k0_h21 : k0_cond21 i v25 v1039 = 1#1), ∀ a, (k0_off107 v1041 k0_t21) a + S1x16.size a ≤ S32x512.size a := fun i v25 v1039 v1041 k0_hw41 k0_t21 k0_h21 => k0_hw41.2.2 k0_t21 k0_h21

def k0_off108 (v1039 : BitVec 32) (k0_t21 : Fin k0_t21_loop.trips) : Fin 2 → Nat :=
  let c0_i32_393 : BitVec 32 := 0#32
  let v1043 : BitVec 1 := Scalar.cmpi .sgt v1039 c0_i32_393
  let v1044 : BitVec 32 := Scalar.extui v1043
  let c0_i32_394 : BitVec 32 := 0#32
  let v1045 : BitVec 1 := Scalar.cmpi .slt v1039 c0_i32_394
  let v1046 : BitVec 32 := Scalar.extui v1045
  let v1047 : BitVec 32 := Scalar.subi v1044 v1046
  let c16_i32_392 : BitVec 32 := 16#32
  let c0_i32_395 : BitVec 32 := 0#32
  let v1048 : BitVec 1 := Scalar.cmpi .sgt c16_i32_392 c0_i32_395
  let v1049 : BitVec 32 := Scalar.extui v1048
  let c0_i32_396 : BitVec 32 := 0#32
  let v1050 : BitVec 1 := Scalar.cmpi .slt c16_i32_392 c0_i32_396
  let v1051 : BitVec 32 := Scalar.extui v1050
  let v1052 : BitVec 32 := Scalar.subi v1049 v1051
  let v1053 : BitVec 1 := Scalar.cmpi .ne v1047 v1052
  let v1054 : BitVec 32 := Scalar.remsi v1039 c16_i32_392
  let c0_i32_397 : BitVec 32 := 0#32
  let v1055 : BitVec 1 := Scalar.cmpi .ne v1054 c0_i32_397
  let v1056 : BitVec 1 := Scalar.andi v1053 v1055
  let v1042 : BitVec 32 := Scalar.divsi v1039 c16_i32_392
  let c1_i32_398 : BitVec 32 := 1#32
  let v1057 : BitVec 32 := Scalar.subi v1042 c1_i32_398
  let v1058 : BitVec 32 := Scalar.select v1056 v1057 v1042
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1058 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t21
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1039 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk42 (i : grid0.Coords) (v25 : BitVec 32) (v1039 : BitVec 32) : Prop :=
  (∀ k0_t21 : Fin k0_t21_loop.trips, ∀ (k0_h21 : k0_cond21 i v25 v1039 = 1#1), ∀ a, (k0_off106 v1039 k0_t21) a + S1x16.size a ≤ S128x512.size a) ∧
  (∀ k0_t21 : Fin k0_t21_loop.trips, ∀ (k0_h21 : k0_cond21 i v25 v1039 = 1#1), ∀ a, (k0_off108 v1039 k0_t21) a + S1x16.size a ≤ S128x512.size a)
theorem k0_off106_inb : ∀ (i : grid0.Coords) (v25 : BitVec 32) (v1039 : BitVec 32) (k0_hw42 : k0_chk42 i v25 v1039) (k0_t21 : Fin k0_t21_loop.trips), ∀ (k0_h21 : k0_cond21 i v25 v1039 = 1#1), ∀ a, (k0_off106 v1039 k0_t21) a + S1x16.size a ≤ S128x512.size a := fun i v25 v1039 k0_hw42 k0_t21 k0_h21 => k0_hw42.1 k0_t21 k0_h21
theorem k0_off108_inb : ∀ (i : grid0.Coords) (v25 : BitVec 32) (v1039 : BitVec 32) (k0_hw42 : k0_chk42 i v25 v1039) (k0_t21 : Fin k0_t21_loop.trips), ∀ (k0_h21 : k0_cond21 i v25 v1039 = 1#1), ∀ a, (k0_off108 v1039 k0_t21) a + S1x16.size a ≤ S128x512.size a := fun i v25 v1039 k0_hw42 k0_t21 k0_h21 => k0_hw42.2 k0_t21 k0_h21

def k0_off109 (i : grid0.Coords) (v1084 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1084 c0_i32_1428
  let v3763 : BitVec 32 := Scalar.extui v3762
  let c0_i32_1429 : BitVec 32 := 0#32
  let v3764 : BitVec 1 := Scalar.cmpi .slt v1084 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1084 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1084 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r27 : BitVec 32 := 0#32
  ![v3779.toNat, 0]
def k0_cond22 (i : grid0.Coords) (v25 : BitVec 32) (v1082 : BitVec 32) : BitVec 1 :=
  let c5_i32_415 : BitVec 32 := 5#32
  let v1102 : BitVec 1 := Scalar.cmpi .sgt v25 c5_i32_415
  let c0_i32_409 : BitVec 32 := 0#32
  let v1086 : BitVec 1 := Scalar.cmpi .sgt v1082 c0_i32_409
  let v1087 : BitVec 32 := Scalar.extui v1086
  let c0_i32_410 : BitVec 32 := 0#32
  let v1088 : BitVec 1 := Scalar.cmpi .slt v1082 c0_i32_410
  let v1089 : BitVec 32 := Scalar.extui v1088
  let v1090 : BitVec 32 := Scalar.subi v1087 v1089
  let c16_i32_408 : BitVec 32 := 16#32
  let c0_i32_411 : BitVec 32 := 0#32
  let v1091 : BitVec 1 := Scalar.cmpi .sgt c16_i32_408 c0_i32_411
  let v1092 : BitVec 32 := Scalar.extui v1091
  let c0_i32_412 : BitVec 32 := 0#32
  let v1093 : BitVec 1 := Scalar.cmpi .slt c16_i32_408 c0_i32_412
  let v1094 : BitVec 32 := Scalar.extui v1093
  let v1095 : BitVec 32 := Scalar.subi v1092 v1094
  let v1096 : BitVec 1 := Scalar.cmpi .ne v1090 v1095
  let v1097 : BitVec 32 := Scalar.remsi v1082 c16_i32_408
  let c0_i32_413 : BitVec 32 := 0#32
  let v1098 : BitVec 1 := Scalar.cmpi .ne v1097 c0_i32_413
  let v1099 : BitVec 1 := Scalar.andi v1096 v1098
  let v1085 : BitVec 32 := Scalar.divsi v1082 c16_i32_408
  let c1_i32_414 : BitVec 32 := 1#32
  let v1100 : BitVec 32 := Scalar.subi v1085 c1_i32_414
  let v1101 : BitVec 32 := Scalar.select v1099 v1100 v1085
  let c0_i32_417 : BitVec 32 := 0#32
  let v1104 : BitVec 1 := Scalar.cmpi .sgt v1101 c0_i32_417
  let v1105 : BitVec 32 := Scalar.extui v1104
  let c0_i32_418 : BitVec 32 := 0#32
  let v1106 : BitVec 1 := Scalar.cmpi .slt v1101 c0_i32_418
  let v1107 : BitVec 32 := Scalar.extui v1106
  let v1108 : BitVec 32 := Scalar.subi v1105 v1107
  let c4_i32_416 : BitVec 32 := 4#32
  let c0_i32_419 : BitVec 32 := 0#32
  let v1109 : BitVec 1 := Scalar.cmpi .sgt c4_i32_416 c0_i32_419
  let v1110 : BitVec 32 := Scalar.extui v1109
  let c0_i32_420 : BitVec 32 := 0#32
  let v1111 : BitVec 1 := Scalar.cmpi .slt c4_i32_416 c0_i32_420
  let v1112 : BitVec 32 := Scalar.extui v1111
  let v1113 : BitVec 32 := Scalar.subi v1110 v1112
  let v1114 : BitVec 1 := Scalar.cmpi .ne v1108 v1113
  let v1115 : BitVec 32 := Scalar.remsi v1101 c4_i32_416
  let c0_i32_421 : BitVec 32 := 0#32
  let v1116 : BitVec 1 := Scalar.cmpi .ne v1115 c0_i32_421
  let v1117 : BitVec 1 := Scalar.andi v1114 v1116
  let v1103 : BitVec 32 := Scalar.divsi v1101 c4_i32_416
  let c1_i32_422 : BitVec 32 := 1#32
  let v1118 : BitVec 32 := Scalar.subi v1103 c1_i32_422
  let v1119 : BitVec 32 := Scalar.select v1117 v1118 v1103
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1120 : BitVec 1 := Scalar.cmpi .eq v1119 v865
  let v1121 : BitVec 1 := Scalar.andi v1102 v1120
  let v1122 : BitVec 32 := Scalar.extui v1121
  let c0_i32_423 : BitVec 32 := 0#32
  let v1123 : BitVec 1 := Scalar.cmpi .ne v1122 c0_i32_423
  v1123

@[reducible] def k0_t22_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off110 (v1084 : BitVec 32) (k0_t22 : Fin k0_t22_loop.trips) : Fin 2 → Nat :=
  let c0_i32_1453 : BitVec 32 := 0#32
  let c1_i32_1455 : BitVec 32 := 1#32
  let arg19 : BitVec 32 := Scf.iv c0_i32_1453 c1_i32_1455 k0_t22
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1084 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off111 (v1082 : BitVec 32) (k0_t22 : Fin k0_t22_loop.trips) : Fin 2 → Nat :=
  let c0_i32_409 : BitVec 32 := 0#32
  let v1086 : BitVec 1 := Scalar.cmpi .sgt v1082 c0_i32_409
  let v1087 : BitVec 32 := Scalar.extui v1086
  let c0_i32_410 : BitVec 32 := 0#32
  let v1088 : BitVec 1 := Scalar.cmpi .slt v1082 c0_i32_410
  let v1089 : BitVec 32 := Scalar.extui v1088
  let v1090 : BitVec 32 := Scalar.subi v1087 v1089
  let c16_i32_408 : BitVec 32 := 16#32
  let c0_i32_411 : BitVec 32 := 0#32
  let v1091 : BitVec 1 := Scalar.cmpi .sgt c16_i32_408 c0_i32_411
  let v1092 : BitVec 32 := Scalar.extui v1091
  let c0_i32_412 : BitVec 32 := 0#32
  let v1093 : BitVec 1 := Scalar.cmpi .slt c16_i32_408 c0_i32_412
  let v1094 : BitVec 32 := Scalar.extui v1093
  let v1095 : BitVec 32 := Scalar.subi v1092 v1094
  let v1096 : BitVec 1 := Scalar.cmpi .ne v1090 v1095
  let v1097 : BitVec 32 := Scalar.remsi v1082 c16_i32_408
  let c0_i32_413 : BitVec 32 := 0#32
  let v1098 : BitVec 1 := Scalar.cmpi .ne v1097 c0_i32_413
  let v1099 : BitVec 1 := Scalar.andi v1096 v1098
  let v1085 : BitVec 32 := Scalar.divsi v1082 c16_i32_408
  let c1_i32_414 : BitVec 32 := 1#32
  let v1100 : BitVec 32 := Scalar.subi v1085 c1_i32_414
  let v1101 : BitVec 32 := Scalar.select v1099 v1100 v1085
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1101 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t22
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1082 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off112 (v1084 : BitVec 32) (k0_t22 : Fin k0_t22_loop.trips) : Fin 2 → Nat :=
  let c0_i32_1453 : BitVec 32 := 0#32
  let c1_i32_1455 : BitVec 32 := 1#32
  let arg19 : BitVec 32 := Scf.iv c0_i32_1453 c1_i32_1455 k0_t22
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1084 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk43 (i : grid0.Coords) (v25 : BitVec 32) (v1082 : BitVec 32) (v1084 : BitVec 32) : Prop :=
  (∀ (k0_h22 : k0_cond22 i v25 v1082 = 1#1), ∀ a, (k0_off109 i v1084) a + S32x512.size a ≤ S12288x512.size a) ∧
  (∀ k0_t22 : Fin k0_t22_loop.trips, ∀ (k0_h22 : k0_cond22 i v25 v1082 = 1#1), ∀ a, (k0_off110 v1084 k0_t22) a + S1x16.size a ≤ S32x512.size a) ∧
  (∀ k0_t22 : Fin k0_t22_loop.trips, ∀ (k0_h22 : k0_cond22 i v25 v1082 = 1#1), ∀ a, (k0_off112 v1084 k0_t22) a + S1x16.size a ≤ S32x512.size a)
theorem k0_off109_inb : ∀ (i : grid0.Coords) (v25 : BitVec 32) (v1082 : BitVec 32) (v1084 : BitVec 32) (k0_hw43 : k0_chk43 i v25 v1082 v1084), ∀ (k0_h22 : k0_cond22 i v25 v1082 = 1#1), ∀ a, (k0_off109 i v1084) a + S32x512.size a ≤ S12288x512.size a := fun i v25 v1082 v1084 k0_hw43 k0_h22 => k0_hw43.1 k0_h22
theorem k0_off110_inb : ∀ (i : grid0.Coords) (v25 : BitVec 32) (v1082 : BitVec 32) (v1084 : BitVec 32) (k0_hw43 : k0_chk43 i v25 v1082 v1084) (k0_t22 : Fin k0_t22_loop.trips), ∀ (k0_h22 : k0_cond22 i v25 v1082 = 1#1), ∀ a, (k0_off110 v1084 k0_t22) a + S1x16.size a ≤ S32x512.size a := fun i v25 v1082 v1084 k0_hw43 k0_t22 k0_h22 => k0_hw43.2.1 k0_t22 k0_h22
theorem k0_off112_inb : ∀ (i : grid0.Coords) (v25 : BitVec 32) (v1082 : BitVec 32) (v1084 : BitVec 32) (k0_hw43 : k0_chk43 i v25 v1082 v1084) (k0_t22 : Fin k0_t22_loop.trips), ∀ (k0_h22 : k0_cond22 i v25 v1082 = 1#1), ∀ a, (k0_off112 v1084 k0_t22) a + S1x16.size a ≤ S32x512.size a := fun i v25 v1082 v1084 k0_hw43 k0_t22 k0_h22 => k0_hw43.2.2 k0_t22 k0_h22

def k0_off113 (v1082 : BitVec 32) (k0_t22 : Fin k0_t22_loop.trips) : Fin 2 → Nat :=
  let c0_i32_409 : BitVec 32 := 0#32
  let v1086 : BitVec 1 := Scalar.cmpi .sgt v1082 c0_i32_409
  let v1087 : BitVec 32 := Scalar.extui v1086
  let c0_i32_410 : BitVec 32 := 0#32
  let v1088 : BitVec 1 := Scalar.cmpi .slt v1082 c0_i32_410
  let v1089 : BitVec 32 := Scalar.extui v1088
  let v1090 : BitVec 32 := Scalar.subi v1087 v1089
  let c16_i32_408 : BitVec 32 := 16#32
  let c0_i32_411 : BitVec 32 := 0#32
  let v1091 : BitVec 1 := Scalar.cmpi .sgt c16_i32_408 c0_i32_411
  let v1092 : BitVec 32 := Scalar.extui v1091
  let c0_i32_412 : BitVec 32 := 0#32
  let v1093 : BitVec 1 := Scalar.cmpi .slt c16_i32_408 c0_i32_412
  let v1094 : BitVec 32 := Scalar.extui v1093
  let v1095 : BitVec 32 := Scalar.subi v1092 v1094
  let v1096 : BitVec 1 := Scalar.cmpi .ne v1090 v1095
  let v1097 : BitVec 32 := Scalar.remsi v1082 c16_i32_408
  let c0_i32_413 : BitVec 32 := 0#32
  let v1098 : BitVec 1 := Scalar.cmpi .ne v1097 c0_i32_413
  let v1099 : BitVec 1 := Scalar.andi v1096 v1098
  let v1085 : BitVec 32 := Scalar.divsi v1082 c16_i32_408
  let c1_i32_414 : BitVec 32 := 1#32
  let v1100 : BitVec 32 := Scalar.subi v1085 c1_i32_414
  let v1101 : BitVec 32 := Scalar.select v1099 v1100 v1085
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1101 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t22
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1082 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk44 (i : grid0.Coords) (v25 : BitVec 32) (v1082 : BitVec 32) : Prop :=
  (∀ k0_t22 : Fin k0_t22_loop.trips, ∀ (k0_h22 : k0_cond22 i v25 v1082 = 1#1), ∀ a, (k0_off111 v1082 k0_t22) a + S1x16.size a ≤ S128x512.size a) ∧
  (∀ k0_t22 : Fin k0_t22_loop.trips, ∀ (k0_h22 : k0_cond22 i v25 v1082 = 1#1), ∀ a, (k0_off113 v1082 k0_t22) a + S1x16.size a ≤ S128x512.size a)
theorem k0_off111_inb : ∀ (i : grid0.Coords) (v25 : BitVec 32) (v1082 : BitVec 32) (k0_hw44 : k0_chk44 i v25 v1082) (k0_t22 : Fin k0_t22_loop.trips), ∀ (k0_h22 : k0_cond22 i v25 v1082 = 1#1), ∀ a, (k0_off111 v1082 k0_t22) a + S1x16.size a ≤ S128x512.size a := fun i v25 v1082 k0_hw44 k0_t22 k0_h22 => k0_hw44.1 k0_t22 k0_h22
theorem k0_off113_inb : ∀ (i : grid0.Coords) (v25 : BitVec 32) (v1082 : BitVec 32) (k0_hw44 : k0_chk44 i v25 v1082) (k0_t22 : Fin k0_t22_loop.trips), ∀ (k0_h22 : k0_cond22 i v25 v1082 = 1#1), ∀ a, (k0_off113 v1082 k0_t22) a + S1x16.size a ≤ S128x512.size a := fun i v25 v1082 k0_hw44 k0_t22 k0_h22 => k0_hw44.2 k0_t22 k0_h22

def k0_off114 (i : grid0.Coords) (v1127 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1127 c0_i32_1428
  let v3763 : BitVec 32 := Scalar.extui v3762
  let c0_i32_1429 : BitVec 32 := 0#32
  let v3764 : BitVec 1 := Scalar.cmpi .slt v1127 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1127 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1127 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r28 : BitVec 32 := 0#32
  ![v3779.toNat, 0]
def k0_cond23 (i : grid0.Coords) (v25 : BitVec 32) (v1125 : BitVec 32) : BitVec 1 :=
  let c6_i32_431 : BitVec 32 := 6#32
  let v1145 : BitVec 1 := Scalar.cmpi .sgt v25 c6_i32_431
  let c0_i32_425 : BitVec 32 := 0#32
  let v1129 : BitVec 1 := Scalar.cmpi .sgt v1125 c0_i32_425
  let v1130 : BitVec 32 := Scalar.extui v1129
  let c0_i32_426 : BitVec 32 := 0#32
  let v1131 : BitVec 1 := Scalar.cmpi .slt v1125 c0_i32_426
  let v1132 : BitVec 32 := Scalar.extui v1131
  let v1133 : BitVec 32 := Scalar.subi v1130 v1132
  let c16_i32_424 : BitVec 32 := 16#32
  let c0_i32_427 : BitVec 32 := 0#32
  let v1134 : BitVec 1 := Scalar.cmpi .sgt c16_i32_424 c0_i32_427
  let v1135 : BitVec 32 := Scalar.extui v1134
  let c0_i32_428 : BitVec 32 := 0#32
  let v1136 : BitVec 1 := Scalar.cmpi .slt c16_i32_424 c0_i32_428
  let v1137 : BitVec 32 := Scalar.extui v1136
  let v1138 : BitVec 32 := Scalar.subi v1135 v1137
  let v1139 : BitVec 1 := Scalar.cmpi .ne v1133 v1138
  let v1140 : BitVec 32 := Scalar.remsi v1125 c16_i32_424
  let c0_i32_429 : BitVec 32 := 0#32
  let v1141 : BitVec 1 := Scalar.cmpi .ne v1140 c0_i32_429
  let v1142 : BitVec 1 := Scalar.andi v1139 v1141
  let v1128 : BitVec 32 := Scalar.divsi v1125 c16_i32_424
  let c1_i32_430 : BitVec 32 := 1#32
  let v1143 : BitVec 32 := Scalar.subi v1128 c1_i32_430
  let v1144 : BitVec 32 := Scalar.select v1142 v1143 v1128
  let c0_i32_433 : BitVec 32 := 0#32
  let v1147 : BitVec 1 := Scalar.cmpi .sgt v1144 c0_i32_433
  let v1148 : BitVec 32 := Scalar.extui v1147
  let c0_i32_434 : BitVec 32 := 0#32
  let v1149 : BitVec 1 := Scalar.cmpi .slt v1144 c0_i32_434
  let v1150 : BitVec 32 := Scalar.extui v1149
  let v1151 : BitVec 32 := Scalar.subi v1148 v1150
  let c4_i32_432 : BitVec 32 := 4#32
  let c0_i32_435 : BitVec 32 := 0#32
  let v1152 : BitVec 1 := Scalar.cmpi .sgt c4_i32_432 c0_i32_435
  let v1153 : BitVec 32 := Scalar.extui v1152
  let c0_i32_436 : BitVec 32 := 0#32
  let v1154 : BitVec 1 := Scalar.cmpi .slt c4_i32_432 c0_i32_436
  let v1155 : BitVec 32 := Scalar.extui v1154
  let v1156 : BitVec 32 := Scalar.subi v1153 v1155
  let v1157 : BitVec 1 := Scalar.cmpi .ne v1151 v1156
  let v1158 : BitVec 32 := Scalar.remsi v1144 c4_i32_432
  let c0_i32_437 : BitVec 32 := 0#32
  let v1159 : BitVec 1 := Scalar.cmpi .ne v1158 c0_i32_437
  let v1160 : BitVec 1 := Scalar.andi v1157 v1159
  let v1146 : BitVec 32 := Scalar.divsi v1144 c4_i32_432
  let c1_i32_438 : BitVec 32 := 1#32
  let v1161 : BitVec 32 := Scalar.subi v1146 c1_i32_438
  let v1162 : BitVec 32 := Scalar.select v1160 v1161 v1146
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1163 : BitVec 1 := Scalar.cmpi .eq v1162 v865
  let v1164 : BitVec 1 := Scalar.andi v1145 v1163
  let v1165 : BitVec 32 := Scalar.extui v1164
  let c0_i32_439 : BitVec 32 := 0#32
  let v1166 : BitVec 1 := Scalar.cmpi .ne v1165 c0_i32_439
  v1166

@[reducible] def k0_t23_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off115 (v1127 : BitVec 32) (k0_t23 : Fin k0_t23_loop.trips) : Fin 2 → Nat :=
  let c0_i32_1453 : BitVec 32 := 0#32
  let c1_i32_1455 : BitVec 32 := 1#32
  let arg19 : BitVec 32 := Scf.iv c0_i32_1453 c1_i32_1455 k0_t23
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1127 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off116 (v1125 : BitVec 32) (k0_t23 : Fin k0_t23_loop.trips) : Fin 2 → Nat :=
  let c0_i32_425 : BitVec 32 := 0#32
  let v1129 : BitVec 1 := Scalar.cmpi .sgt v1125 c0_i32_425
  let v1130 : BitVec 32 := Scalar.extui v1129
  let c0_i32_426 : BitVec 32 := 0#32
  let v1131 : BitVec 1 := Scalar.cmpi .slt v1125 c0_i32_426
  let v1132 : BitVec 32 := Scalar.extui v1131
  let v1133 : BitVec 32 := Scalar.subi v1130 v1132
  let c16_i32_424 : BitVec 32 := 16#32
  let c0_i32_427 : BitVec 32 := 0#32
  let v1134 : BitVec 1 := Scalar.cmpi .sgt c16_i32_424 c0_i32_427
  let v1135 : BitVec 32 := Scalar.extui v1134
  let c0_i32_428 : BitVec 32 := 0#32
  let v1136 : BitVec 1 := Scalar.cmpi .slt c16_i32_424 c0_i32_428
  let v1137 : BitVec 32 := Scalar.extui v1136
  let v1138 : BitVec 32 := Scalar.subi v1135 v1137
  let v1139 : BitVec 1 := Scalar.cmpi .ne v1133 v1138
  let v1140 : BitVec 32 := Scalar.remsi v1125 c16_i32_424
  let c0_i32_429 : BitVec 32 := 0#32
  let v1141 : BitVec 1 := Scalar.cmpi .ne v1140 c0_i32_429
  let v1142 : BitVec 1 := Scalar.andi v1139 v1141
  let v1128 : BitVec 32 := Scalar.divsi v1125 c16_i32_424
  let c1_i32_430 : BitVec 32 := 1#32
  let v1143 : BitVec 32 := Scalar.subi v1128 c1_i32_430
  let v1144 : BitVec 32 := Scalar.select v1142 v1143 v1128
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1144 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t23
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1125 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off117 (v1127 : BitVec 32) (k0_t23 : Fin k0_t23_loop.trips) : Fin 2 → Nat :=
  let c0_i32_1453 : BitVec 32 := 0#32
  let c1_i32_1455 : BitVec 32 := 1#32
  let arg19 : BitVec 32 := Scf.iv c0_i32_1453 c1_i32_1455 k0_t23
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1127 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk45 (i : grid0.Coords) (v25 : BitVec 32) (v1125 : BitVec 32) (v1127 : BitVec 32) : Prop :=
  (∀ (k0_h23 : k0_cond23 i v25 v1125 = 1#1), ∀ a, (k0_off114 i v1127) a + S32x512.size a ≤ S12288x512.size a) ∧
  (∀ k0_t23 : Fin k0_t23_loop.trips, ∀ (k0_h23 : k0_cond23 i v25 v1125 = 1#1), ∀ a, (k0_off115 v1127 k0_t23) a + S1x16.size a ≤ S32x512.size a) ∧
  (∀ k0_t23 : Fin k0_t23_loop.trips, ∀ (k0_h23 : k0_cond23 i v25 v1125 = 1#1), ∀ a, (k0_off117 v1127 k0_t23) a + S1x16.size a ≤ S32x512.size a)
theorem k0_off114_inb : ∀ (i : grid0.Coords) (v25 : BitVec 32) (v1125 : BitVec 32) (v1127 : BitVec 32) (k0_hw45 : k0_chk45 i v25 v1125 v1127), ∀ (k0_h23 : k0_cond23 i v25 v1125 = 1#1), ∀ a, (k0_off114 i v1127) a + S32x512.size a ≤ S12288x512.size a := fun i v25 v1125 v1127 k0_hw45 k0_h23 => k0_hw45.1 k0_h23
theorem k0_off115_inb : ∀ (i : grid0.Coords) (v25 : BitVec 32) (v1125 : BitVec 32) (v1127 : BitVec 32) (k0_hw45 : k0_chk45 i v25 v1125 v1127) (k0_t23 : Fin k0_t23_loop.trips), ∀ (k0_h23 : k0_cond23 i v25 v1125 = 1#1), ∀ a, (k0_off115 v1127 k0_t23) a + S1x16.size a ≤ S32x512.size a := fun i v25 v1125 v1127 k0_hw45 k0_t23 k0_h23 => k0_hw45.2.1 k0_t23 k0_h23
theorem k0_off117_inb : ∀ (i : grid0.Coords) (v25 : BitVec 32) (v1125 : BitVec 32) (v1127 : BitVec 32) (k0_hw45 : k0_chk45 i v25 v1125 v1127) (k0_t23 : Fin k0_t23_loop.trips), ∀ (k0_h23 : k0_cond23 i v25 v1125 = 1#1), ∀ a, (k0_off117 v1127 k0_t23) a + S1x16.size a ≤ S32x512.size a := fun i v25 v1125 v1127 k0_hw45 k0_t23 k0_h23 => k0_hw45.2.2 k0_t23 k0_h23

def k0_off118 (v1125 : BitVec 32) (k0_t23 : Fin k0_t23_loop.trips) : Fin 2 → Nat :=
  let c0_i32_425 : BitVec 32 := 0#32
  let v1129 : BitVec 1 := Scalar.cmpi .sgt v1125 c0_i32_425
  let v1130 : BitVec 32 := Scalar.extui v1129
  let c0_i32_426 : BitVec 32 := 0#32
  let v1131 : BitVec 1 := Scalar.cmpi .slt v1125 c0_i32_426
  let v1132 : BitVec 32 := Scalar.extui v1131
  let v1133 : BitVec 32 := Scalar.subi v1130 v1132
  let c16_i32_424 : BitVec 32 := 16#32
  let c0_i32_427 : BitVec 32 := 0#32
  let v1134 : BitVec 1 := Scalar.cmpi .sgt c16_i32_424 c0_i32_427
  let v1135 : BitVec 32 := Scalar.extui v1134
  let c0_i32_428 : BitVec 32 := 0#32
  let v1136 : BitVec 1 := Scalar.cmpi .slt c16_i32_424 c0_i32_428
  let v1137 : BitVec 32 := Scalar.extui v1136
  let v1138 : BitVec 32 := Scalar.subi v1135 v1137
  let v1139 : BitVec 1 := Scalar.cmpi .ne v1133 v1138
  let v1140 : BitVec 32 := Scalar.remsi v1125 c16_i32_424
  let c0_i32_429 : BitVec 32 := 0#32
  let v1141 : BitVec 1 := Scalar.cmpi .ne v1140 c0_i32_429
  let v1142 : BitVec 1 := Scalar.andi v1139 v1141
  let v1128 : BitVec 32 := Scalar.divsi v1125 c16_i32_424
  let c1_i32_430 : BitVec 32 := 1#32
  let v1143 : BitVec 32 := Scalar.subi v1128 c1_i32_430
  let v1144 : BitVec 32 := Scalar.select v1142 v1143 v1128
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1144 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t23
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1125 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk46 (i : grid0.Coords) (v25 : BitVec 32) (v1125 : BitVec 32) : Prop :=
  (∀ k0_t23 : Fin k0_t23_loop.trips, ∀ (k0_h23 : k0_cond23 i v25 v1125 = 1#1), ∀ a, (k0_off116 v1125 k0_t23) a + S1x16.size a ≤ S128x512.size a) ∧
  (∀ k0_t23 : Fin k0_t23_loop.trips, ∀ (k0_h23 : k0_cond23 i v25 v1125 = 1#1), ∀ a, (k0_off118 v1125 k0_t23) a + S1x16.size a ≤ S128x512.size a)
theorem k0_off116_inb : ∀ (i : grid0.Coords) (v25 : BitVec 32) (v1125 : BitVec 32) (k0_hw46 : k0_chk46 i v25 v1125) (k0_t23 : Fin k0_t23_loop.trips), ∀ (k0_h23 : k0_cond23 i v25 v1125 = 1#1), ∀ a, (k0_off116 v1125 k0_t23) a + S1x16.size a ≤ S128x512.size a := fun i v25 v1125 k0_hw46 k0_t23 k0_h23 => k0_hw46.1 k0_t23 k0_h23
theorem k0_off118_inb : ∀ (i : grid0.Coords) (v25 : BitVec 32) (v1125 : BitVec 32) (k0_hw46 : k0_chk46 i v25 v1125) (k0_t23 : Fin k0_t23_loop.trips), ∀ (k0_h23 : k0_cond23 i v25 v1125 = 1#1), ∀ a, (k0_off118 v1125 k0_t23) a + S1x16.size a ≤ S128x512.size a := fun i v25 v1125 k0_hw46 k0_t23 k0_h23 => k0_hw46.2 k0_t23 k0_h23

def k0_off119 (i : grid0.Coords) (v1170 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1170 c0_i32_1428
  let v3763 : BitVec 32 := Scalar.extui v3762
  let c0_i32_1429 : BitVec 32 := 0#32
  let v3764 : BitVec 1 := Scalar.cmpi .slt v1170 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1170 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1170 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r29 : BitVec 32 := 0#32
  ![v3779.toNat, 0]
def k0_cond24 (i : grid0.Coords) (v25 : BitVec 32) (v1168 : BitVec 32) : BitVec 1 :=
  let c7_i32_447 : BitVec 32 := 7#32
  let v1188 : BitVec 1 := Scalar.cmpi .sgt v25 c7_i32_447
  let c0_i32_441 : BitVec 32 := 0#32
  let v1172 : BitVec 1 := Scalar.cmpi .sgt v1168 c0_i32_441
  let v1173 : BitVec 32 := Scalar.extui v1172
  let c0_i32_442 : BitVec 32 := 0#32
  let v1174 : BitVec 1 := Scalar.cmpi .slt v1168 c0_i32_442
  let v1175 : BitVec 32 := Scalar.extui v1174
  let v1176 : BitVec 32 := Scalar.subi v1173 v1175
  let c16_i32_440 : BitVec 32 := 16#32
  let c0_i32_443 : BitVec 32 := 0#32
  let v1177 : BitVec 1 := Scalar.cmpi .sgt c16_i32_440 c0_i32_443
  let v1178 : BitVec 32 := Scalar.extui v1177
  let c0_i32_444 : BitVec 32 := 0#32
  let v1179 : BitVec 1 := Scalar.cmpi .slt c16_i32_440 c0_i32_444
  let v1180 : BitVec 32 := Scalar.extui v1179
  let v1181 : BitVec 32 := Scalar.subi v1178 v1180
  let v1182 : BitVec 1 := Scalar.cmpi .ne v1176 v1181
  let v1183 : BitVec 32 := Scalar.remsi v1168 c16_i32_440
  let c0_i32_445 : BitVec 32 := 0#32
  let v1184 : BitVec 1 := Scalar.cmpi .ne v1183 c0_i32_445
  let v1185 : BitVec 1 := Scalar.andi v1182 v1184
  let v1171 : BitVec 32 := Scalar.divsi v1168 c16_i32_440
  let c1_i32_446 : BitVec 32 := 1#32
  let v1186 : BitVec 32 := Scalar.subi v1171 c1_i32_446
  let v1187 : BitVec 32 := Scalar.select v1185 v1186 v1171
  let c0_i32_449 : BitVec 32 := 0#32
  let v1190 : BitVec 1 := Scalar.cmpi .sgt v1187 c0_i32_449
  let v1191 : BitVec 32 := Scalar.extui v1190
  let c0_i32_450 : BitVec 32 := 0#32
  let v1192 : BitVec 1 := Scalar.cmpi .slt v1187 c0_i32_450
  let v1193 : BitVec 32 := Scalar.extui v1192
  let v1194 : BitVec 32 := Scalar.subi v1191 v1193
  let c4_i32_448 : BitVec 32 := 4#32
  let c0_i32_451 : BitVec 32 := 0#32
  let v1195 : BitVec 1 := Scalar.cmpi .sgt c4_i32_448 c0_i32_451
  let v1196 : BitVec 32 := Scalar.extui v1195
  let c0_i32_452 : BitVec 32 := 0#32
  let v1197 : BitVec 1 := Scalar.cmpi .slt c4_i32_448 c0_i32_452
  let v1198 : BitVec 32 := Scalar.extui v1197
  let v1199 : BitVec 32 := Scalar.subi v1196 v1198
  let v1200 : BitVec 1 := Scalar.cmpi .ne v1194 v1199
  let v1201 : BitVec 32 := Scalar.remsi v1187 c4_i32_448
  let c0_i32_453 : BitVec 32 := 0#32
  let v1202 : BitVec 1 := Scalar.cmpi .ne v1201 c0_i32_453
  let v1203 : BitVec 1 := Scalar.andi v1200 v1202
  let v1189 : BitVec 32 := Scalar.divsi v1187 c4_i32_448
  let c1_i32_454 : BitVec 32 := 1#32
  let v1204 : BitVec 32 := Scalar.subi v1189 c1_i32_454
  let v1205 : BitVec 32 := Scalar.select v1203 v1204 v1189
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1206 : BitVec 1 := Scalar.cmpi .eq v1205 v865
  let v1207 : BitVec 1 := Scalar.andi v1188 v1206
  let v1208 : BitVec 32 := Scalar.extui v1207
  let c0_i32_455 : BitVec 32 := 0#32
  let v1209 : BitVec 1 := Scalar.cmpi .ne v1208 c0_i32_455
  v1209

@[reducible] def k0_t24_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off120 (v1170 : BitVec 32) (k0_t24 : Fin k0_t24_loop.trips) : Fin 2 → Nat :=
  let c0_i32_1453 : BitVec 32 := 0#32
  let c1_i32_1455 : BitVec 32 := 1#32
  let arg19 : BitVec 32 := Scf.iv c0_i32_1453 c1_i32_1455 k0_t24
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1170 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off121 (v1168 : BitVec 32) (k0_t24 : Fin k0_t24_loop.trips) : Fin 2 → Nat :=
  let c0_i32_441 : BitVec 32 := 0#32
  let v1172 : BitVec 1 := Scalar.cmpi .sgt v1168 c0_i32_441
  let v1173 : BitVec 32 := Scalar.extui v1172
  let c0_i32_442 : BitVec 32 := 0#32
  let v1174 : BitVec 1 := Scalar.cmpi .slt v1168 c0_i32_442
  let v1175 : BitVec 32 := Scalar.extui v1174
  let v1176 : BitVec 32 := Scalar.subi v1173 v1175
  let c16_i32_440 : BitVec 32 := 16#32
  let c0_i32_443 : BitVec 32 := 0#32
  let v1177 : BitVec 1 := Scalar.cmpi .sgt c16_i32_440 c0_i32_443
  let v1178 : BitVec 32 := Scalar.extui v1177
  let c0_i32_444 : BitVec 32 := 0#32
  let v1179 : BitVec 1 := Scalar.cmpi .slt c16_i32_440 c0_i32_444
  let v1180 : BitVec 32 := Scalar.extui v1179
  let v1181 : BitVec 32 := Scalar.subi v1178 v1180
  let v1182 : BitVec 1 := Scalar.cmpi .ne v1176 v1181
  let v1183 : BitVec 32 := Scalar.remsi v1168 c16_i32_440
  let c0_i32_445 : BitVec 32 := 0#32
  let v1184 : BitVec 1 := Scalar.cmpi .ne v1183 c0_i32_445
  let v1185 : BitVec 1 := Scalar.andi v1182 v1184
  let v1171 : BitVec 32 := Scalar.divsi v1168 c16_i32_440
  let c1_i32_446 : BitVec 32 := 1#32
  let v1186 : BitVec 32 := Scalar.subi v1171 c1_i32_446
  let v1187 : BitVec 32 := Scalar.select v1185 v1186 v1171
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1187 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t24
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1168 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off122 (v1170 : BitVec 32) (k0_t24 : Fin k0_t24_loop.trips) : Fin 2 → Nat :=
  let c0_i32_1453 : BitVec 32 := 0#32
  let c1_i32_1455 : BitVec 32 := 1#32
  let arg19 : BitVec 32 := Scf.iv c0_i32_1453 c1_i32_1455 k0_t24
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1170 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk47 (i : grid0.Coords) (v25 : BitVec 32) (v1168 : BitVec 32) (v1170 : BitVec 32) : Prop :=
  (∀ (k0_h24 : k0_cond24 i v25 v1168 = 1#1), ∀ a, (k0_off119 i v1170) a + S32x512.size a ≤ S12288x512.size a) ∧
  (∀ k0_t24 : Fin k0_t24_loop.trips, ∀ (k0_h24 : k0_cond24 i v25 v1168 = 1#1), ∀ a, (k0_off120 v1170 k0_t24) a + S1x16.size a ≤ S32x512.size a) ∧
  (∀ k0_t24 : Fin k0_t24_loop.trips, ∀ (k0_h24 : k0_cond24 i v25 v1168 = 1#1), ∀ a, (k0_off122 v1170 k0_t24) a + S1x16.size a ≤ S32x512.size a)
theorem k0_off119_inb : ∀ (i : grid0.Coords) (v25 : BitVec 32) (v1168 : BitVec 32) (v1170 : BitVec 32) (k0_hw47 : k0_chk47 i v25 v1168 v1170), ∀ (k0_h24 : k0_cond24 i v25 v1168 = 1#1), ∀ a, (k0_off119 i v1170) a + S32x512.size a ≤ S12288x512.size a := fun i v25 v1168 v1170 k0_hw47 k0_h24 => k0_hw47.1 k0_h24
theorem k0_off120_inb : ∀ (i : grid0.Coords) (v25 : BitVec 32) (v1168 : BitVec 32) (v1170 : BitVec 32) (k0_hw47 : k0_chk47 i v25 v1168 v1170) (k0_t24 : Fin k0_t24_loop.trips), ∀ (k0_h24 : k0_cond24 i v25 v1168 = 1#1), ∀ a, (k0_off120 v1170 k0_t24) a + S1x16.size a ≤ S32x512.size a := fun i v25 v1168 v1170 k0_hw47 k0_t24 k0_h24 => k0_hw47.2.1 k0_t24 k0_h24
theorem k0_off122_inb : ∀ (i : grid0.Coords) (v25 : BitVec 32) (v1168 : BitVec 32) (v1170 : BitVec 32) (k0_hw47 : k0_chk47 i v25 v1168 v1170) (k0_t24 : Fin k0_t24_loop.trips), ∀ (k0_h24 : k0_cond24 i v25 v1168 = 1#1), ∀ a, (k0_off122 v1170 k0_t24) a + S1x16.size a ≤ S32x512.size a := fun i v25 v1168 v1170 k0_hw47 k0_t24 k0_h24 => k0_hw47.2.2 k0_t24 k0_h24

def k0_off123 (v1168 : BitVec 32) (k0_t24 : Fin k0_t24_loop.trips) : Fin 2 → Nat :=
  let c0_i32_441 : BitVec 32 := 0#32
  let v1172 : BitVec 1 := Scalar.cmpi .sgt v1168 c0_i32_441
  let v1173 : BitVec 32 := Scalar.extui v1172
  let c0_i32_442 : BitVec 32 := 0#32
  let v1174 : BitVec 1 := Scalar.cmpi .slt v1168 c0_i32_442
  let v1175 : BitVec 32 := Scalar.extui v1174
  let v1176 : BitVec 32 := Scalar.subi v1173 v1175
  let c16_i32_440 : BitVec 32 := 16#32
  let c0_i32_443 : BitVec 32 := 0#32
  let v1177 : BitVec 1 := Scalar.cmpi .sgt c16_i32_440 c0_i32_443
  let v1178 : BitVec 32 := Scalar.extui v1177
  let c0_i32_444 : BitVec 32 := 0#32
  let v1179 : BitVec 1 := Scalar.cmpi .slt c16_i32_440 c0_i32_444
  let v1180 : BitVec 32 := Scalar.extui v1179
  let v1181 : BitVec 32 := Scalar.subi v1178 v1180
  let v1182 : BitVec 1 := Scalar.cmpi .ne v1176 v1181
  let v1183 : BitVec 32 := Scalar.remsi v1168 c16_i32_440
  let c0_i32_445 : BitVec 32 := 0#32
  let v1184 : BitVec 1 := Scalar.cmpi .ne v1183 c0_i32_445
  let v1185 : BitVec 1 := Scalar.andi v1182 v1184
  let v1171 : BitVec 32 := Scalar.divsi v1168 c16_i32_440
  let c1_i32_446 : BitVec 32 := 1#32
  let v1186 : BitVec 32 := Scalar.subi v1171 c1_i32_446
  let v1187 : BitVec 32 := Scalar.select v1185 v1186 v1171
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1187 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t24
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1168 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk48 (i : grid0.Coords) (v25 : BitVec 32) (v1168 : BitVec 32) : Prop :=
  (∀ k0_t24 : Fin k0_t24_loop.trips, ∀ (k0_h24 : k0_cond24 i v25 v1168 = 1#1), ∀ a, (k0_off121 v1168 k0_t24) a + S1x16.size a ≤ S128x512.size a) ∧
  (∀ k0_t24 : Fin k0_t24_loop.trips, ∀ (k0_h24 : k0_cond24 i v25 v1168 = 1#1), ∀ a, (k0_off123 v1168 k0_t24) a + S1x16.size a ≤ S128x512.size a)
theorem k0_off121_inb : ∀ (i : grid0.Coords) (v25 : BitVec 32) (v1168 : BitVec 32) (k0_hw48 : k0_chk48 i v25 v1168) (k0_t24 : Fin k0_t24_loop.trips), ∀ (k0_h24 : k0_cond24 i v25 v1168 = 1#1), ∀ a, (k0_off121 v1168 k0_t24) a + S1x16.size a ≤ S128x512.size a := fun i v25 v1168 k0_hw48 k0_t24 k0_h24 => k0_hw48.1 k0_t24 k0_h24
theorem k0_off123_inb : ∀ (i : grid0.Coords) (v25 : BitVec 32) (v1168 : BitVec 32) (k0_hw48 : k0_chk48 i v25 v1168) (k0_t24 : Fin k0_t24_loop.trips), ∀ (k0_h24 : k0_cond24 i v25 v1168 = 1#1), ∀ a, (k0_off123 v1168 k0_t24) a + S1x16.size a ≤ S128x512.size a := fun i v25 v1168 k0_hw48 k0_t24 k0_h24 => k0_hw48.2 k0_t24 k0_h24

def k0_off124 (i : grid0.Coords) (v1213 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1213 c0_i32_1428
  let v3763 : BitVec 32 := Scalar.extui v3762
  let c0_i32_1429 : BitVec 32 := 0#32
  let v3764 : BitVec 1 := Scalar.cmpi .slt v1213 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1213 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1213 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r30 : BitVec 32 := 0#32
  ![v3779.toNat, 0]
def k0_cond25 (i : grid0.Coords) (v25 : BitVec 32) (v1211 : BitVec 32) : BitVec 1 :=
  let c8_i32_463 : BitVec 32 := 8#32
  let v1231 : BitVec 1 := Scalar.cmpi .sgt v25 c8_i32_463
  let c0_i32_457 : BitVec 32 := 0#32
  let v1215 : BitVec 1 := Scalar.cmpi .sgt v1211 c0_i32_457
  let v1216 : BitVec 32 := Scalar.extui v1215
  let c0_i32_458 : BitVec 32 := 0#32
  let v1217 : BitVec 1 := Scalar.cmpi .slt v1211 c0_i32_458
  let v1218 : BitVec 32 := Scalar.extui v1217
  let v1219 : BitVec 32 := Scalar.subi v1216 v1218
  let c16_i32_456 : BitVec 32 := 16#32
  let c0_i32_459 : BitVec 32 := 0#32
  let v1220 : BitVec 1 := Scalar.cmpi .sgt c16_i32_456 c0_i32_459
  let v1221 : BitVec 32 := Scalar.extui v1220
  let c0_i32_460 : BitVec 32 := 0#32
  let v1222 : BitVec 1 := Scalar.cmpi .slt c16_i32_456 c0_i32_460
  let v1223 : BitVec 32 := Scalar.extui v1222
  let v1224 : BitVec 32 := Scalar.subi v1221 v1223
  let v1225 : BitVec 1 := Scalar.cmpi .ne v1219 v1224
  let v1226 : BitVec 32 := Scalar.remsi v1211 c16_i32_456
  let c0_i32_461 : BitVec 32 := 0#32
  let v1227 : BitVec 1 := Scalar.cmpi .ne v1226 c0_i32_461
  let v1228 : BitVec 1 := Scalar.andi v1225 v1227
  let v1214 : BitVec 32 := Scalar.divsi v1211 c16_i32_456
  let c1_i32_462 : BitVec 32 := 1#32
  let v1229 : BitVec 32 := Scalar.subi v1214 c1_i32_462
  let v1230 : BitVec 32 := Scalar.select v1228 v1229 v1214
  let c0_i32_465 : BitVec 32 := 0#32
  let v1233 : BitVec 1 := Scalar.cmpi .sgt v1230 c0_i32_465
  let v1234 : BitVec 32 := Scalar.extui v1233
  let c0_i32_466 : BitVec 32 := 0#32
  let v1235 : BitVec 1 := Scalar.cmpi .slt v1230 c0_i32_466
  let v1236 : BitVec 32 := Scalar.extui v1235
  let v1237 : BitVec 32 := Scalar.subi v1234 v1236
  let c4_i32_464 : BitVec 32 := 4#32
  let c0_i32_467 : BitVec 32 := 0#32
  let v1238 : BitVec 1 := Scalar.cmpi .sgt c4_i32_464 c0_i32_467
  let v1239 : BitVec 32 := Scalar.extui v1238
  let c0_i32_468 : BitVec 32 := 0#32
  let v1240 : BitVec 1 := Scalar.cmpi .slt c4_i32_464 c0_i32_468
  let v1241 : BitVec 32 := Scalar.extui v1240
  let v1242 : BitVec 32 := Scalar.subi v1239 v1241
  let v1243 : BitVec 1 := Scalar.cmpi .ne v1237 v1242
  let v1244 : BitVec 32 := Scalar.remsi v1230 c4_i32_464
  let c0_i32_469 : BitVec 32 := 0#32
  let v1245 : BitVec 1 := Scalar.cmpi .ne v1244 c0_i32_469
  let v1246 : BitVec 1 := Scalar.andi v1243 v1245
  let v1232 : BitVec 32 := Scalar.divsi v1230 c4_i32_464
  let c1_i32_470 : BitVec 32 := 1#32
  let v1247 : BitVec 32 := Scalar.subi v1232 c1_i32_470
  let v1248 : BitVec 32 := Scalar.select v1246 v1247 v1232
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1249 : BitVec 1 := Scalar.cmpi .eq v1248 v865
  let v1250 : BitVec 1 := Scalar.andi v1231 v1249
  let v1251 : BitVec 32 := Scalar.extui v1250
  let c0_i32_471 : BitVec 32 := 0#32
  let v1252 : BitVec 1 := Scalar.cmpi .ne v1251 c0_i32_471
  v1252

@[reducible] def k0_t25_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off125 (v1213 : BitVec 32) (k0_t25 : Fin k0_t25_loop.trips) : Fin 2 → Nat :=
  let c0_i32_1453 : BitVec 32 := 0#32
  let c1_i32_1455 : BitVec 32 := 1#32
  let arg19 : BitVec 32 := Scf.iv c0_i32_1453 c1_i32_1455 k0_t25
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1213 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off126 (v1211 : BitVec 32) (k0_t25 : Fin k0_t25_loop.trips) : Fin 2 → Nat :=
  let c0_i32_457 : BitVec 32 := 0#32
  let v1215 : BitVec 1 := Scalar.cmpi .sgt v1211 c0_i32_457
  let v1216 : BitVec 32 := Scalar.extui v1215
  let c0_i32_458 : BitVec 32 := 0#32
  let v1217 : BitVec 1 := Scalar.cmpi .slt v1211 c0_i32_458
  let v1218 : BitVec 32 := Scalar.extui v1217
  let v1219 : BitVec 32 := Scalar.subi v1216 v1218
  let c16_i32_456 : BitVec 32 := 16#32
  let c0_i32_459 : BitVec 32 := 0#32
  let v1220 : BitVec 1 := Scalar.cmpi .sgt c16_i32_456 c0_i32_459
  let v1221 : BitVec 32 := Scalar.extui v1220
  let c0_i32_460 : BitVec 32 := 0#32
  let v1222 : BitVec 1 := Scalar.cmpi .slt c16_i32_456 c0_i32_460
  let v1223 : BitVec 32 := Scalar.extui v1222
  let v1224 : BitVec 32 := Scalar.subi v1221 v1223
  let v1225 : BitVec 1 := Scalar.cmpi .ne v1219 v1224
  let v1226 : BitVec 32 := Scalar.remsi v1211 c16_i32_456
  let c0_i32_461 : BitVec 32 := 0#32
  let v1227 : BitVec 1 := Scalar.cmpi .ne v1226 c0_i32_461
  let v1228 : BitVec 1 := Scalar.andi v1225 v1227
  let v1214 : BitVec 32 := Scalar.divsi v1211 c16_i32_456
  let c1_i32_462 : BitVec 32 := 1#32
  let v1229 : BitVec 32 := Scalar.subi v1214 c1_i32_462
  let v1230 : BitVec 32 := Scalar.select v1228 v1229 v1214
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1230 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t25
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1211 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off127 (v1213 : BitVec 32) (k0_t25 : Fin k0_t25_loop.trips) : Fin 2 → Nat :=
  let c0_i32_1453 : BitVec 32 := 0#32
  let c1_i32_1455 : BitVec 32 := 1#32
  let arg19 : BitVec 32 := Scf.iv c0_i32_1453 c1_i32_1455 k0_t25
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1213 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk49 (i : grid0.Coords) (v25 : BitVec 32) (v1211 : BitVec 32) (v1213 : BitVec 32) : Prop :=
  (∀ (k0_h25 : k0_cond25 i v25 v1211 = 1#1), ∀ a, (k0_off124 i v1213) a + S32x512.size a ≤ S12288x512.size a) ∧
  (∀ k0_t25 : Fin k0_t25_loop.trips, ∀ (k0_h25 : k0_cond25 i v25 v1211 = 1#1), ∀ a, (k0_off125 v1213 k0_t25) a + S1x16.size a ≤ S32x512.size a) ∧
  (∀ k0_t25 : Fin k0_t25_loop.trips, ∀ (k0_h25 : k0_cond25 i v25 v1211 = 1#1), ∀ a, (k0_off127 v1213 k0_t25) a + S1x16.size a ≤ S32x512.size a)
theorem k0_off124_inb : ∀ (i : grid0.Coords) (v25 : BitVec 32) (v1211 : BitVec 32) (v1213 : BitVec 32) (k0_hw49 : k0_chk49 i v25 v1211 v1213), ∀ (k0_h25 : k0_cond25 i v25 v1211 = 1#1), ∀ a, (k0_off124 i v1213) a + S32x512.size a ≤ S12288x512.size a := fun i v25 v1211 v1213 k0_hw49 k0_h25 => k0_hw49.1 k0_h25
theorem k0_off125_inb : ∀ (i : grid0.Coords) (v25 : BitVec 32) (v1211 : BitVec 32) (v1213 : BitVec 32) (k0_hw49 : k0_chk49 i v25 v1211 v1213) (k0_t25 : Fin k0_t25_loop.trips), ∀ (k0_h25 : k0_cond25 i v25 v1211 = 1#1), ∀ a, (k0_off125 v1213 k0_t25) a + S1x16.size a ≤ S32x512.size a := fun i v25 v1211 v1213 k0_hw49 k0_t25 k0_h25 => k0_hw49.2.1 k0_t25 k0_h25
theorem k0_off127_inb : ∀ (i : grid0.Coords) (v25 : BitVec 32) (v1211 : BitVec 32) (v1213 : BitVec 32) (k0_hw49 : k0_chk49 i v25 v1211 v1213) (k0_t25 : Fin k0_t25_loop.trips), ∀ (k0_h25 : k0_cond25 i v25 v1211 = 1#1), ∀ a, (k0_off127 v1213 k0_t25) a + S1x16.size a ≤ S32x512.size a := fun i v25 v1211 v1213 k0_hw49 k0_t25 k0_h25 => k0_hw49.2.2 k0_t25 k0_h25

def k0_off128 (v1211 : BitVec 32) (k0_t25 : Fin k0_t25_loop.trips) : Fin 2 → Nat :=
  let c0_i32_457 : BitVec 32 := 0#32
  let v1215 : BitVec 1 := Scalar.cmpi .sgt v1211 c0_i32_457
  let v1216 : BitVec 32 := Scalar.extui v1215
  let c0_i32_458 : BitVec 32 := 0#32
  let v1217 : BitVec 1 := Scalar.cmpi .slt v1211 c0_i32_458
  let v1218 : BitVec 32 := Scalar.extui v1217
  let v1219 : BitVec 32 := Scalar.subi v1216 v1218
  let c16_i32_456 : BitVec 32 := 16#32
  let c0_i32_459 : BitVec 32 := 0#32
  let v1220 : BitVec 1 := Scalar.cmpi .sgt c16_i32_456 c0_i32_459
  let v1221 : BitVec 32 := Scalar.extui v1220
  let c0_i32_460 : BitVec 32 := 0#32
  let v1222 : BitVec 1 := Scalar.cmpi .slt c16_i32_456 c0_i32_460
  let v1223 : BitVec 32 := Scalar.extui v1222
  let v1224 : BitVec 32 := Scalar.subi v1221 v1223
  let v1225 : BitVec 1 := Scalar.cmpi .ne v1219 v1224
  let v1226 : BitVec 32 := Scalar.remsi v1211 c16_i32_456
  let c0_i32_461 : BitVec 32 := 0#32
  let v1227 : BitVec 1 := Scalar.cmpi .ne v1226 c0_i32_461
  let v1228 : BitVec 1 := Scalar.andi v1225 v1227
  let v1214 : BitVec 32 := Scalar.divsi v1211 c16_i32_456
  let c1_i32_462 : BitVec 32 := 1#32
  let v1229 : BitVec 32 := Scalar.subi v1214 c1_i32_462
  let v1230 : BitVec 32 := Scalar.select v1228 v1229 v1214
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1230 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t25
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1211 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk50 (i : grid0.Coords) (v25 : BitVec 32) (v1211 : BitVec 32) : Prop :=
  (∀ k0_t25 : Fin k0_t25_loop.trips, ∀ (k0_h25 : k0_cond25 i v25 v1211 = 1#1), ∀ a, (k0_off126 v1211 k0_t25) a + S1x16.size a ≤ S128x512.size a) ∧
  (∀ k0_t25 : Fin k0_t25_loop.trips, ∀ (k0_h25 : k0_cond25 i v25 v1211 = 1#1), ∀ a, (k0_off128 v1211 k0_t25) a + S1x16.size a ≤ S128x512.size a)
theorem k0_off126_inb : ∀ (i : grid0.Coords) (v25 : BitVec 32) (v1211 : BitVec 32) (k0_hw50 : k0_chk50 i v25 v1211) (k0_t25 : Fin k0_t25_loop.trips), ∀ (k0_h25 : k0_cond25 i v25 v1211 = 1#1), ∀ a, (k0_off126 v1211 k0_t25) a + S1x16.size a ≤ S128x512.size a := fun i v25 v1211 k0_hw50 k0_t25 k0_h25 => k0_hw50.1 k0_t25 k0_h25
theorem k0_off128_inb : ∀ (i : grid0.Coords) (v25 : BitVec 32) (v1211 : BitVec 32) (k0_hw50 : k0_chk50 i v25 v1211) (k0_t25 : Fin k0_t25_loop.trips), ∀ (k0_h25 : k0_cond25 i v25 v1211 = 1#1), ∀ a, (k0_off128 v1211 k0_t25) a + S1x16.size a ≤ S128x512.size a := fun i v25 v1211 k0_hw50 k0_t25 k0_h25 => k0_hw50.2 k0_t25 k0_h25

def k0_off129 (i : grid0.Coords) (v1256 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1256 c0_i32_1428
  let v3763 : BitVec 32 := Scalar.extui v3762
  let c0_i32_1429 : BitVec 32 := 0#32
  let v3764 : BitVec 1 := Scalar.cmpi .slt v1256 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1256 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1256 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r31 : BitVec 32 := 0#32
  ![v3779.toNat, 0]
def k0_cond26 (i : grid0.Coords) (v25 : BitVec 32) (v1254 : BitVec 32) : BitVec 1 :=
  let c9_i32_479 : BitVec 32 := 9#32
  let v1274 : BitVec 1 := Scalar.cmpi .sgt v25 c9_i32_479
  let c0_i32_473 : BitVec 32 := 0#32
  let v1258 : BitVec 1 := Scalar.cmpi .sgt v1254 c0_i32_473
  let v1259 : BitVec 32 := Scalar.extui v1258
  let c0_i32_474 : BitVec 32 := 0#32
  let v1260 : BitVec 1 := Scalar.cmpi .slt v1254 c0_i32_474
  let v1261 : BitVec 32 := Scalar.extui v1260
  let v1262 : BitVec 32 := Scalar.subi v1259 v1261
  let c16_i32_472 : BitVec 32 := 16#32
  let c0_i32_475 : BitVec 32 := 0#32
  let v1263 : BitVec 1 := Scalar.cmpi .sgt c16_i32_472 c0_i32_475
  let v1264 : BitVec 32 := Scalar.extui v1263
  let c0_i32_476 : BitVec 32 := 0#32
  let v1265 : BitVec 1 := Scalar.cmpi .slt c16_i32_472 c0_i32_476
  let v1266 : BitVec 32 := Scalar.extui v1265
  let v1267 : BitVec 32 := Scalar.subi v1264 v1266
  let v1268 : BitVec 1 := Scalar.cmpi .ne v1262 v1267
  let v1269 : BitVec 32 := Scalar.remsi v1254 c16_i32_472
  let c0_i32_477 : BitVec 32 := 0#32
  let v1270 : BitVec 1 := Scalar.cmpi .ne v1269 c0_i32_477
  let v1271 : BitVec 1 := Scalar.andi v1268 v1270
  let v1257 : BitVec 32 := Scalar.divsi v1254 c16_i32_472
  let c1_i32_478 : BitVec 32 := 1#32
  let v1272 : BitVec 32 := Scalar.subi v1257 c1_i32_478
  let v1273 : BitVec 32 := Scalar.select v1271 v1272 v1257
  let c0_i32_481 : BitVec 32 := 0#32
  let v1276 : BitVec 1 := Scalar.cmpi .sgt v1273 c0_i32_481
  let v1277 : BitVec 32 := Scalar.extui v1276
  let c0_i32_482 : BitVec 32 := 0#32
  let v1278 : BitVec 1 := Scalar.cmpi .slt v1273 c0_i32_482
  let v1279 : BitVec 32 := Scalar.extui v1278
  let v1280 : BitVec 32 := Scalar.subi v1277 v1279
  let c4_i32_480 : BitVec 32 := 4#32
  let c0_i32_483 : BitVec 32 := 0#32
  let v1281 : BitVec 1 := Scalar.cmpi .sgt c4_i32_480 c0_i32_483
  let v1282 : BitVec 32 := Scalar.extui v1281
  let c0_i32_484 : BitVec 32 := 0#32
  let v1283 : BitVec 1 := Scalar.cmpi .slt c4_i32_480 c0_i32_484
  let v1284 : BitVec 32 := Scalar.extui v1283
  let v1285 : BitVec 32 := Scalar.subi v1282 v1284
  let v1286 : BitVec 1 := Scalar.cmpi .ne v1280 v1285
  let v1287 : BitVec 32 := Scalar.remsi v1273 c4_i32_480
  let c0_i32_485 : BitVec 32 := 0#32
  let v1288 : BitVec 1 := Scalar.cmpi .ne v1287 c0_i32_485
  let v1289 : BitVec 1 := Scalar.andi v1286 v1288
  let v1275 : BitVec 32 := Scalar.divsi v1273 c4_i32_480
  let c1_i32_486 : BitVec 32 := 1#32
  let v1290 : BitVec 32 := Scalar.subi v1275 c1_i32_486
  let v1291 : BitVec 32 := Scalar.select v1289 v1290 v1275
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1292 : BitVec 1 := Scalar.cmpi .eq v1291 v865
  let v1293 : BitVec 1 := Scalar.andi v1274 v1292
  let v1294 : BitVec 32 := Scalar.extui v1293
  let c0_i32_487 : BitVec 32 := 0#32
  let v1295 : BitVec 1 := Scalar.cmpi .ne v1294 c0_i32_487
  v1295

@[reducible] def k0_t26_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off130 (v1256 : BitVec 32) (k0_t26 : Fin k0_t26_loop.trips) : Fin 2 → Nat :=
  let c0_i32_1453 : BitVec 32 := 0#32
  let c1_i32_1455 : BitVec 32 := 1#32
  let arg19 : BitVec 32 := Scf.iv c0_i32_1453 c1_i32_1455 k0_t26
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1256 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off131 (v1254 : BitVec 32) (k0_t26 : Fin k0_t26_loop.trips) : Fin 2 → Nat :=
  let c0_i32_473 : BitVec 32 := 0#32
  let v1258 : BitVec 1 := Scalar.cmpi .sgt v1254 c0_i32_473
  let v1259 : BitVec 32 := Scalar.extui v1258
  let c0_i32_474 : BitVec 32 := 0#32
  let v1260 : BitVec 1 := Scalar.cmpi .slt v1254 c0_i32_474
  let v1261 : BitVec 32 := Scalar.extui v1260
  let v1262 : BitVec 32 := Scalar.subi v1259 v1261
  let c16_i32_472 : BitVec 32 := 16#32
  let c0_i32_475 : BitVec 32 := 0#32
  let v1263 : BitVec 1 := Scalar.cmpi .sgt c16_i32_472 c0_i32_475
  let v1264 : BitVec 32 := Scalar.extui v1263
  let c0_i32_476 : BitVec 32 := 0#32
  let v1265 : BitVec 1 := Scalar.cmpi .slt c16_i32_472 c0_i32_476
  let v1266 : BitVec 32 := Scalar.extui v1265
  let v1267 : BitVec 32 := Scalar.subi v1264 v1266
  let v1268 : BitVec 1 := Scalar.cmpi .ne v1262 v1267
  let v1269 : BitVec 32 := Scalar.remsi v1254 c16_i32_472
  let c0_i32_477 : BitVec 32 := 0#32
  let v1270 : BitVec 1 := Scalar.cmpi .ne v1269 c0_i32_477
  let v1271 : BitVec 1 := Scalar.andi v1268 v1270
  let v1257 : BitVec 32 := Scalar.divsi v1254 c16_i32_472
  let c1_i32_478 : BitVec 32 := 1#32
  let v1272 : BitVec 32 := Scalar.subi v1257 c1_i32_478
  let v1273 : BitVec 32 := Scalar.select v1271 v1272 v1257
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1273 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t26
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1254 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off132 (v1256 : BitVec 32) (k0_t26 : Fin k0_t26_loop.trips) : Fin 2 → Nat :=
  let c0_i32_1453 : BitVec 32 := 0#32
  let c1_i32_1455 : BitVec 32 := 1#32
  let arg19 : BitVec 32 := Scf.iv c0_i32_1453 c1_i32_1455 k0_t26
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1256 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk51 (i : grid0.Coords) (v25 : BitVec 32) (v1254 : BitVec 32) (v1256 : BitVec 32) : Prop :=
  (∀ (k0_h26 : k0_cond26 i v25 v1254 = 1#1), ∀ a, (k0_off129 i v1256) a + S32x512.size a ≤ S12288x512.size a) ∧
  (∀ k0_t26 : Fin k0_t26_loop.trips, ∀ (k0_h26 : k0_cond26 i v25 v1254 = 1#1), ∀ a, (k0_off130 v1256 k0_t26) a + S1x16.size a ≤ S32x512.size a) ∧
  (∀ k0_t26 : Fin k0_t26_loop.trips, ∀ (k0_h26 : k0_cond26 i v25 v1254 = 1#1), ∀ a, (k0_off132 v1256 k0_t26) a + S1x16.size a ≤ S32x512.size a)
theorem k0_off129_inb : ∀ (i : grid0.Coords) (v25 : BitVec 32) (v1254 : BitVec 32) (v1256 : BitVec 32) (k0_hw51 : k0_chk51 i v25 v1254 v1256), ∀ (k0_h26 : k0_cond26 i v25 v1254 = 1#1), ∀ a, (k0_off129 i v1256) a + S32x512.size a ≤ S12288x512.size a := fun i v25 v1254 v1256 k0_hw51 k0_h26 => k0_hw51.1 k0_h26
theorem k0_off130_inb : ∀ (i : grid0.Coords) (v25 : BitVec 32) (v1254 : BitVec 32) (v1256 : BitVec 32) (k0_hw51 : k0_chk51 i v25 v1254 v1256) (k0_t26 : Fin k0_t26_loop.trips), ∀ (k0_h26 : k0_cond26 i v25 v1254 = 1#1), ∀ a, (k0_off130 v1256 k0_t26) a + S1x16.size a ≤ S32x512.size a := fun i v25 v1254 v1256 k0_hw51 k0_t26 k0_h26 => k0_hw51.2.1 k0_t26 k0_h26
theorem k0_off132_inb : ∀ (i : grid0.Coords) (v25 : BitVec 32) (v1254 : BitVec 32) (v1256 : BitVec 32) (k0_hw51 : k0_chk51 i v25 v1254 v1256) (k0_t26 : Fin k0_t26_loop.trips), ∀ (k0_h26 : k0_cond26 i v25 v1254 = 1#1), ∀ a, (k0_off132 v1256 k0_t26) a + S1x16.size a ≤ S32x512.size a := fun i v25 v1254 v1256 k0_hw51 k0_t26 k0_h26 => k0_hw51.2.2 k0_t26 k0_h26

def k0_off133 (v1254 : BitVec 32) (k0_t26 : Fin k0_t26_loop.trips) : Fin 2 → Nat :=
  let c0_i32_473 : BitVec 32 := 0#32
  let v1258 : BitVec 1 := Scalar.cmpi .sgt v1254 c0_i32_473
  let v1259 : BitVec 32 := Scalar.extui v1258
  let c0_i32_474 : BitVec 32 := 0#32
  let v1260 : BitVec 1 := Scalar.cmpi .slt v1254 c0_i32_474
  let v1261 : BitVec 32 := Scalar.extui v1260
  let v1262 : BitVec 32 := Scalar.subi v1259 v1261
  let c16_i32_472 : BitVec 32 := 16#32
  let c0_i32_475 : BitVec 32 := 0#32
  let v1263 : BitVec 1 := Scalar.cmpi .sgt c16_i32_472 c0_i32_475
  let v1264 : BitVec 32 := Scalar.extui v1263
  let c0_i32_476 : BitVec 32 := 0#32
  let v1265 : BitVec 1 := Scalar.cmpi .slt c16_i32_472 c0_i32_476
  let v1266 : BitVec 32 := Scalar.extui v1265
  let v1267 : BitVec 32 := Scalar.subi v1264 v1266
  let v1268 : BitVec 1 := Scalar.cmpi .ne v1262 v1267
  let v1269 : BitVec 32 := Scalar.remsi v1254 c16_i32_472
  let c0_i32_477 : BitVec 32 := 0#32
  let v1270 : BitVec 1 := Scalar.cmpi .ne v1269 c0_i32_477
  let v1271 : BitVec 1 := Scalar.andi v1268 v1270
  let v1257 : BitVec 32 := Scalar.divsi v1254 c16_i32_472
  let c1_i32_478 : BitVec 32 := 1#32
  let v1272 : BitVec 32 := Scalar.subi v1257 c1_i32_478
  let v1273 : BitVec 32 := Scalar.select v1271 v1272 v1257
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1273 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t26
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1254 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk52 (i : grid0.Coords) (v25 : BitVec 32) (v1254 : BitVec 32) : Prop :=
  (∀ k0_t26 : Fin k0_t26_loop.trips, ∀ (k0_h26 : k0_cond26 i v25 v1254 = 1#1), ∀ a, (k0_off131 v1254 k0_t26) a + S1x16.size a ≤ S128x512.size a) ∧
  (∀ k0_t26 : Fin k0_t26_loop.trips, ∀ (k0_h26 : k0_cond26 i v25 v1254 = 1#1), ∀ a, (k0_off133 v1254 k0_t26) a + S1x16.size a ≤ S128x512.size a)
theorem k0_off131_inb : ∀ (i : grid0.Coords) (v25 : BitVec 32) (v1254 : BitVec 32) (k0_hw52 : k0_chk52 i v25 v1254) (k0_t26 : Fin k0_t26_loop.trips), ∀ (k0_h26 : k0_cond26 i v25 v1254 = 1#1), ∀ a, (k0_off131 v1254 k0_t26) a + S1x16.size a ≤ S128x512.size a := fun i v25 v1254 k0_hw52 k0_t26 k0_h26 => k0_hw52.1 k0_t26 k0_h26
theorem k0_off133_inb : ∀ (i : grid0.Coords) (v25 : BitVec 32) (v1254 : BitVec 32) (k0_hw52 : k0_chk52 i v25 v1254) (k0_t26 : Fin k0_t26_loop.trips), ∀ (k0_h26 : k0_cond26 i v25 v1254 = 1#1), ∀ a, (k0_off133 v1254 k0_t26) a + S1x16.size a ≤ S128x512.size a := fun i v25 v1254 k0_hw52 k0_t26 k0_h26 => k0_hw52.2 k0_t26 k0_h26

def k0_off134 (i : grid0.Coords) (v1299 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1299 c0_i32_1428
  let v3763 : BitVec 32 := Scalar.extui v3762
  let c0_i32_1429 : BitVec 32 := 0#32
  let v3764 : BitVec 1 := Scalar.cmpi .slt v1299 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1299 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1299 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r32 : BitVec 32 := 0#32
  ![v3779.toNat, 0]
def k0_cond27 (i : grid0.Coords) (v25 : BitVec 32) (v1297 : BitVec 32) : BitVec 1 :=
  let c10_i32_495 : BitVec 32 := 10#32
  let v1317 : BitVec 1 := Scalar.cmpi .sgt v25 c10_i32_495
  let c0_i32_489 : BitVec 32 := 0#32
  let v1301 : BitVec 1 := Scalar.cmpi .sgt v1297 c0_i32_489
  let v1302 : BitVec 32 := Scalar.extui v1301
  let c0_i32_490 : BitVec 32 := 0#32
  let v1303 : BitVec 1 := Scalar.cmpi .slt v1297 c0_i32_490
  let v1304 : BitVec 32 := Scalar.extui v1303
  let v1305 : BitVec 32 := Scalar.subi v1302 v1304
  let c16_i32_488 : BitVec 32 := 16#32
  let c0_i32_491 : BitVec 32 := 0#32
  let v1306 : BitVec 1 := Scalar.cmpi .sgt c16_i32_488 c0_i32_491
  let v1307 : BitVec 32 := Scalar.extui v1306
  let c0_i32_492 : BitVec 32 := 0#32
  let v1308 : BitVec 1 := Scalar.cmpi .slt c16_i32_488 c0_i32_492
  let v1309 : BitVec 32 := Scalar.extui v1308
  let v1310 : BitVec 32 := Scalar.subi v1307 v1309
  let v1311 : BitVec 1 := Scalar.cmpi .ne v1305 v1310
  let v1312 : BitVec 32 := Scalar.remsi v1297 c16_i32_488
  let c0_i32_493 : BitVec 32 := 0#32
  let v1313 : BitVec 1 := Scalar.cmpi .ne v1312 c0_i32_493
  let v1314 : BitVec 1 := Scalar.andi v1311 v1313
  let v1300 : BitVec 32 := Scalar.divsi v1297 c16_i32_488
  let c1_i32_494 : BitVec 32 := 1#32
  let v1315 : BitVec 32 := Scalar.subi v1300 c1_i32_494
  let v1316 : BitVec 32 := Scalar.select v1314 v1315 v1300
  let c0_i32_497 : BitVec 32 := 0#32
  let v1319 : BitVec 1 := Scalar.cmpi .sgt v1316 c0_i32_497
  let v1320 : BitVec 32 := Scalar.extui v1319
  let c0_i32_498 : BitVec 32 := 0#32
  let v1321 : BitVec 1 := Scalar.cmpi .slt v1316 c0_i32_498
  let v1322 : BitVec 32 := Scalar.extui v1321
  let v1323 : BitVec 32 := Scalar.subi v1320 v1322
  let c4_i32_496 : BitVec 32 := 4#32
  let c0_i32_499 : BitVec 32 := 0#32
  let v1324 : BitVec 1 := Scalar.cmpi .sgt c4_i32_496 c0_i32_499
  let v1325 : BitVec 32 := Scalar.extui v1324
  let c0_i32_500 : BitVec 32 := 0#32
  let v1326 : BitVec 1 := Scalar.cmpi .slt c4_i32_496 c0_i32_500
  let v1327 : BitVec 32 := Scalar.extui v1326
  let v1328 : BitVec 32 := Scalar.subi v1325 v1327
  let v1329 : BitVec 1 := Scalar.cmpi .ne v1323 v1328
  let v1330 : BitVec 32 := Scalar.remsi v1316 c4_i32_496
  let c0_i32_501 : BitVec 32 := 0#32
  let v1331 : BitVec 1 := Scalar.cmpi .ne v1330 c0_i32_501
  let v1332 : BitVec 1 := Scalar.andi v1329 v1331
  let v1318 : BitVec 32 := Scalar.divsi v1316 c4_i32_496
  let c1_i32_502 : BitVec 32 := 1#32
  let v1333 : BitVec 32 := Scalar.subi v1318 c1_i32_502
  let v1334 : BitVec 32 := Scalar.select v1332 v1333 v1318
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1335 : BitVec 1 := Scalar.cmpi .eq v1334 v865
  let v1336 : BitVec 1 := Scalar.andi v1317 v1335
  let v1337 : BitVec 32 := Scalar.extui v1336
  let c0_i32_503 : BitVec 32 := 0#32
  let v1338 : BitVec 1 := Scalar.cmpi .ne v1337 c0_i32_503
  v1338

@[reducible] def k0_t27_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off135 (v1299 : BitVec 32) (k0_t27 : Fin k0_t27_loop.trips) : Fin 2 → Nat :=
  let c0_i32_1453 : BitVec 32 := 0#32
  let c1_i32_1455 : BitVec 32 := 1#32
  let arg19 : BitVec 32 := Scf.iv c0_i32_1453 c1_i32_1455 k0_t27
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1299 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off136 (v1297 : BitVec 32) (k0_t27 : Fin k0_t27_loop.trips) : Fin 2 → Nat :=
  let c0_i32_489 : BitVec 32 := 0#32
  let v1301 : BitVec 1 := Scalar.cmpi .sgt v1297 c0_i32_489
  let v1302 : BitVec 32 := Scalar.extui v1301
  let c0_i32_490 : BitVec 32 := 0#32
  let v1303 : BitVec 1 := Scalar.cmpi .slt v1297 c0_i32_490
  let v1304 : BitVec 32 := Scalar.extui v1303
  let v1305 : BitVec 32 := Scalar.subi v1302 v1304
  let c16_i32_488 : BitVec 32 := 16#32
  let c0_i32_491 : BitVec 32 := 0#32
  let v1306 : BitVec 1 := Scalar.cmpi .sgt c16_i32_488 c0_i32_491
  let v1307 : BitVec 32 := Scalar.extui v1306
  let c0_i32_492 : BitVec 32 := 0#32
  let v1308 : BitVec 1 := Scalar.cmpi .slt c16_i32_488 c0_i32_492
  let v1309 : BitVec 32 := Scalar.extui v1308
  let v1310 : BitVec 32 := Scalar.subi v1307 v1309
  let v1311 : BitVec 1 := Scalar.cmpi .ne v1305 v1310
  let v1312 : BitVec 32 := Scalar.remsi v1297 c16_i32_488
  let c0_i32_493 : BitVec 32 := 0#32
  let v1313 : BitVec 1 := Scalar.cmpi .ne v1312 c0_i32_493
  let v1314 : BitVec 1 := Scalar.andi v1311 v1313
  let v1300 : BitVec 32 := Scalar.divsi v1297 c16_i32_488
  let c1_i32_494 : BitVec 32 := 1#32
  let v1315 : BitVec 32 := Scalar.subi v1300 c1_i32_494
  let v1316 : BitVec 32 := Scalar.select v1314 v1315 v1300
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1316 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t27
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1297 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off137 (v1299 : BitVec 32) (k0_t27 : Fin k0_t27_loop.trips) : Fin 2 → Nat :=
  let c0_i32_1453 : BitVec 32 := 0#32
  let c1_i32_1455 : BitVec 32 := 1#32
  let arg19 : BitVec 32 := Scf.iv c0_i32_1453 c1_i32_1455 k0_t27
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1299 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk53 (i : grid0.Coords) (v25 : BitVec 32) (v1297 : BitVec 32) (v1299 : BitVec 32) : Prop :=
  (∀ (k0_h27 : k0_cond27 i v25 v1297 = 1#1), ∀ a, (k0_off134 i v1299) a + S32x512.size a ≤ S12288x512.size a) ∧
  (∀ k0_t27 : Fin k0_t27_loop.trips, ∀ (k0_h27 : k0_cond27 i v25 v1297 = 1#1), ∀ a, (k0_off135 v1299 k0_t27) a + S1x16.size a ≤ S32x512.size a) ∧
  (∀ k0_t27 : Fin k0_t27_loop.trips, ∀ (k0_h27 : k0_cond27 i v25 v1297 = 1#1), ∀ a, (k0_off137 v1299 k0_t27) a + S1x16.size a ≤ S32x512.size a)
theorem k0_off134_inb : ∀ (i : grid0.Coords) (v25 : BitVec 32) (v1297 : BitVec 32) (v1299 : BitVec 32) (k0_hw53 : k0_chk53 i v25 v1297 v1299), ∀ (k0_h27 : k0_cond27 i v25 v1297 = 1#1), ∀ a, (k0_off134 i v1299) a + S32x512.size a ≤ S12288x512.size a := fun i v25 v1297 v1299 k0_hw53 k0_h27 => k0_hw53.1 k0_h27
theorem k0_off135_inb : ∀ (i : grid0.Coords) (v25 : BitVec 32) (v1297 : BitVec 32) (v1299 : BitVec 32) (k0_hw53 : k0_chk53 i v25 v1297 v1299) (k0_t27 : Fin k0_t27_loop.trips), ∀ (k0_h27 : k0_cond27 i v25 v1297 = 1#1), ∀ a, (k0_off135 v1299 k0_t27) a + S1x16.size a ≤ S32x512.size a := fun i v25 v1297 v1299 k0_hw53 k0_t27 k0_h27 => k0_hw53.2.1 k0_t27 k0_h27
theorem k0_off137_inb : ∀ (i : grid0.Coords) (v25 : BitVec 32) (v1297 : BitVec 32) (v1299 : BitVec 32) (k0_hw53 : k0_chk53 i v25 v1297 v1299) (k0_t27 : Fin k0_t27_loop.trips), ∀ (k0_h27 : k0_cond27 i v25 v1297 = 1#1), ∀ a, (k0_off137 v1299 k0_t27) a + S1x16.size a ≤ S32x512.size a := fun i v25 v1297 v1299 k0_hw53 k0_t27 k0_h27 => k0_hw53.2.2 k0_t27 k0_h27

def k0_off138 (v1297 : BitVec 32) (k0_t27 : Fin k0_t27_loop.trips) : Fin 2 → Nat :=
  let c0_i32_489 : BitVec 32 := 0#32
  let v1301 : BitVec 1 := Scalar.cmpi .sgt v1297 c0_i32_489
  let v1302 : BitVec 32 := Scalar.extui v1301
  let c0_i32_490 : BitVec 32 := 0#32
  let v1303 : BitVec 1 := Scalar.cmpi .slt v1297 c0_i32_490
  let v1304 : BitVec 32 := Scalar.extui v1303
  let v1305 : BitVec 32 := Scalar.subi v1302 v1304
  let c16_i32_488 : BitVec 32 := 16#32
  let c0_i32_491 : BitVec 32 := 0#32
  let v1306 : BitVec 1 := Scalar.cmpi .sgt c16_i32_488 c0_i32_491
  let v1307 : BitVec 32 := Scalar.extui v1306
  let c0_i32_492 : BitVec 32 := 0#32
  let v1308 : BitVec 1 := Scalar.cmpi .slt c16_i32_488 c0_i32_492
  let v1309 : BitVec 32 := Scalar.extui v1308
  let v1310 : BitVec 32 := Scalar.subi v1307 v1309
  let v1311 : BitVec 1 := Scalar.cmpi .ne v1305 v1310
  let v1312 : BitVec 32 := Scalar.remsi v1297 c16_i32_488
  let c0_i32_493 : BitVec 32 := 0#32
  let v1313 : BitVec 1 := Scalar.cmpi .ne v1312 c0_i32_493
  let v1314 : BitVec 1 := Scalar.andi v1311 v1313
  let v1300 : BitVec 32 := Scalar.divsi v1297 c16_i32_488
  let c1_i32_494 : BitVec 32 := 1#32
  let v1315 : BitVec 32 := Scalar.subi v1300 c1_i32_494
  let v1316 : BitVec 32 := Scalar.select v1314 v1315 v1300
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1316 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t27
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1297 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk54 (i : grid0.Coords) (v25 : BitVec 32) (v1297 : BitVec 32) : Prop :=
  (∀ k0_t27 : Fin k0_t27_loop.trips, ∀ (k0_h27 : k0_cond27 i v25 v1297 = 1#1), ∀ a, (k0_off136 v1297 k0_t27) a + S1x16.size a ≤ S128x512.size a) ∧
  (∀ k0_t27 : Fin k0_t27_loop.trips, ∀ (k0_h27 : k0_cond27 i v25 v1297 = 1#1), ∀ a, (k0_off138 v1297 k0_t27) a + S1x16.size a ≤ S128x512.size a)
theorem k0_off136_inb : ∀ (i : grid0.Coords) (v25 : BitVec 32) (v1297 : BitVec 32) (k0_hw54 : k0_chk54 i v25 v1297) (k0_t27 : Fin k0_t27_loop.trips), ∀ (k0_h27 : k0_cond27 i v25 v1297 = 1#1), ∀ a, (k0_off136 v1297 k0_t27) a + S1x16.size a ≤ S128x512.size a := fun i v25 v1297 k0_hw54 k0_t27 k0_h27 => k0_hw54.1 k0_t27 k0_h27
theorem k0_off138_inb : ∀ (i : grid0.Coords) (v25 : BitVec 32) (v1297 : BitVec 32) (k0_hw54 : k0_chk54 i v25 v1297) (k0_t27 : Fin k0_t27_loop.trips), ∀ (k0_h27 : k0_cond27 i v25 v1297 = 1#1), ∀ a, (k0_off138 v1297 k0_t27) a + S1x16.size a ≤ S128x512.size a := fun i v25 v1297 k0_hw54 k0_t27 k0_h27 => k0_hw54.2 k0_t27 k0_h27

def k0_off139 (i : grid0.Coords) (v1342 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1342 c0_i32_1428
  let v3763 : BitVec 32 := Scalar.extui v3762
  let c0_i32_1429 : BitVec 32 := 0#32
  let v3764 : BitVec 1 := Scalar.cmpi .slt v1342 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1342 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1342 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r33 : BitVec 32 := 0#32
  ![v3779.toNat, 0]
def k0_cond28 (i : grid0.Coords) (v25 : BitVec 32) (v1340 : BitVec 32) : BitVec 1 :=
  let c11_i32_511 : BitVec 32 := 11#32
  let v1360 : BitVec 1 := Scalar.cmpi .sgt v25 c11_i32_511
  let c0_i32_505 : BitVec 32 := 0#32
  let v1344 : BitVec 1 := Scalar.cmpi .sgt v1340 c0_i32_505
  let v1345 : BitVec 32 := Scalar.extui v1344
  let c0_i32_506 : BitVec 32 := 0#32
  let v1346 : BitVec 1 := Scalar.cmpi .slt v1340 c0_i32_506
  let v1347 : BitVec 32 := Scalar.extui v1346
  let v1348 : BitVec 32 := Scalar.subi v1345 v1347
  let c16_i32_504 : BitVec 32 := 16#32
  let c0_i32_507 : BitVec 32 := 0#32
  let v1349 : BitVec 1 := Scalar.cmpi .sgt c16_i32_504 c0_i32_507
  let v1350 : BitVec 32 := Scalar.extui v1349
  let c0_i32_508 : BitVec 32 := 0#32
  let v1351 : BitVec 1 := Scalar.cmpi .slt c16_i32_504 c0_i32_508
  let v1352 : BitVec 32 := Scalar.extui v1351
  let v1353 : BitVec 32 := Scalar.subi v1350 v1352
  let v1354 : BitVec 1 := Scalar.cmpi .ne v1348 v1353
  let v1355 : BitVec 32 := Scalar.remsi v1340 c16_i32_504
  let c0_i32_509 : BitVec 32 := 0#32
  let v1356 : BitVec 1 := Scalar.cmpi .ne v1355 c0_i32_509
  let v1357 : BitVec 1 := Scalar.andi v1354 v1356
  let v1343 : BitVec 32 := Scalar.divsi v1340 c16_i32_504
  let c1_i32_510 : BitVec 32 := 1#32
  let v1358 : BitVec 32 := Scalar.subi v1343 c1_i32_510
  let v1359 : BitVec 32 := Scalar.select v1357 v1358 v1343
  let c0_i32_513 : BitVec 32 := 0#32
  let v1362 : BitVec 1 := Scalar.cmpi .sgt v1359 c0_i32_513
  let v1363 : BitVec 32 := Scalar.extui v1362
  let c0_i32_514 : BitVec 32 := 0#32
  let v1364 : BitVec 1 := Scalar.cmpi .slt v1359 c0_i32_514
  let v1365 : BitVec 32 := Scalar.extui v1364
  let v1366 : BitVec 32 := Scalar.subi v1363 v1365
  let c4_i32_512 : BitVec 32 := 4#32
  let c0_i32_515 : BitVec 32 := 0#32
  let v1367 : BitVec 1 := Scalar.cmpi .sgt c4_i32_512 c0_i32_515
  let v1368 : BitVec 32 := Scalar.extui v1367
  let c0_i32_516 : BitVec 32 := 0#32
  let v1369 : BitVec 1 := Scalar.cmpi .slt c4_i32_512 c0_i32_516
  let v1370 : BitVec 32 := Scalar.extui v1369
  let v1371 : BitVec 32 := Scalar.subi v1368 v1370
  let v1372 : BitVec 1 := Scalar.cmpi .ne v1366 v1371
  let v1373 : BitVec 32 := Scalar.remsi v1359 c4_i32_512
  let c0_i32_517 : BitVec 32 := 0#32
  let v1374 : BitVec 1 := Scalar.cmpi .ne v1373 c0_i32_517
  let v1375 : BitVec 1 := Scalar.andi v1372 v1374
  let v1361 : BitVec 32 := Scalar.divsi v1359 c4_i32_512
  let c1_i32_518 : BitVec 32 := 1#32
  let v1376 : BitVec 32 := Scalar.subi v1361 c1_i32_518
  let v1377 : BitVec 32 := Scalar.select v1375 v1376 v1361
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1378 : BitVec 1 := Scalar.cmpi .eq v1377 v865
  let v1379 : BitVec 1 := Scalar.andi v1360 v1378
  let v1380 : BitVec 32 := Scalar.extui v1379
  let c0_i32_519 : BitVec 32 := 0#32
  let v1381 : BitVec 1 := Scalar.cmpi .ne v1380 c0_i32_519
  v1381

@[reducible] def k0_t28_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off140 (v1342 : BitVec 32) (k0_t28 : Fin k0_t28_loop.trips) : Fin 2 → Nat :=
  let c0_i32_1453 : BitVec 32 := 0#32
  let c1_i32_1455 : BitVec 32 := 1#32
  let arg19 : BitVec 32 := Scf.iv c0_i32_1453 c1_i32_1455 k0_t28
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1342 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off141 (v1340 : BitVec 32) (k0_t28 : Fin k0_t28_loop.trips) : Fin 2 → Nat :=
  let c0_i32_505 : BitVec 32 := 0#32
  let v1344 : BitVec 1 := Scalar.cmpi .sgt v1340 c0_i32_505
  let v1345 : BitVec 32 := Scalar.extui v1344
  let c0_i32_506 : BitVec 32 := 0#32
  let v1346 : BitVec 1 := Scalar.cmpi .slt v1340 c0_i32_506
  let v1347 : BitVec 32 := Scalar.extui v1346
  let v1348 : BitVec 32 := Scalar.subi v1345 v1347
  let c16_i32_504 : BitVec 32 := 16#32
  let c0_i32_507 : BitVec 32 := 0#32
  let v1349 : BitVec 1 := Scalar.cmpi .sgt c16_i32_504 c0_i32_507
  let v1350 : BitVec 32 := Scalar.extui v1349
  let c0_i32_508 : BitVec 32 := 0#32
  let v1351 : BitVec 1 := Scalar.cmpi .slt c16_i32_504 c0_i32_508
  let v1352 : BitVec 32 := Scalar.extui v1351
  let v1353 : BitVec 32 := Scalar.subi v1350 v1352
  let v1354 : BitVec 1 := Scalar.cmpi .ne v1348 v1353
  let v1355 : BitVec 32 := Scalar.remsi v1340 c16_i32_504
  let c0_i32_509 : BitVec 32 := 0#32
  let v1356 : BitVec 1 := Scalar.cmpi .ne v1355 c0_i32_509
  let v1357 : BitVec 1 := Scalar.andi v1354 v1356
  let v1343 : BitVec 32 := Scalar.divsi v1340 c16_i32_504
  let c1_i32_510 : BitVec 32 := 1#32
  let v1358 : BitVec 32 := Scalar.subi v1343 c1_i32_510
  let v1359 : BitVec 32 := Scalar.select v1357 v1358 v1343
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1359 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t28
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1340 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off142 (v1342 : BitVec 32) (k0_t28 : Fin k0_t28_loop.trips) : Fin 2 → Nat :=
  let c0_i32_1453 : BitVec 32 := 0#32
  let c1_i32_1455 : BitVec 32 := 1#32
  let arg19 : BitVec 32 := Scf.iv c0_i32_1453 c1_i32_1455 k0_t28
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1342 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk55 (i : grid0.Coords) (v25 : BitVec 32) (v1340 : BitVec 32) (v1342 : BitVec 32) : Prop :=
  (∀ (k0_h28 : k0_cond28 i v25 v1340 = 1#1), ∀ a, (k0_off139 i v1342) a + S32x512.size a ≤ S12288x512.size a) ∧
  (∀ k0_t28 : Fin k0_t28_loop.trips, ∀ (k0_h28 : k0_cond28 i v25 v1340 = 1#1), ∀ a, (k0_off140 v1342 k0_t28) a + S1x16.size a ≤ S32x512.size a) ∧
  (∀ k0_t28 : Fin k0_t28_loop.trips, ∀ (k0_h28 : k0_cond28 i v25 v1340 = 1#1), ∀ a, (k0_off142 v1342 k0_t28) a + S1x16.size a ≤ S32x512.size a)
theorem k0_off139_inb : ∀ (i : grid0.Coords) (v25 : BitVec 32) (v1340 : BitVec 32) (v1342 : BitVec 32) (k0_hw55 : k0_chk55 i v25 v1340 v1342), ∀ (k0_h28 : k0_cond28 i v25 v1340 = 1#1), ∀ a, (k0_off139 i v1342) a + S32x512.size a ≤ S12288x512.size a := fun i v25 v1340 v1342 k0_hw55 k0_h28 => k0_hw55.1 k0_h28
theorem k0_off140_inb : ∀ (i : grid0.Coords) (v25 : BitVec 32) (v1340 : BitVec 32) (v1342 : BitVec 32) (k0_hw55 : k0_chk55 i v25 v1340 v1342) (k0_t28 : Fin k0_t28_loop.trips), ∀ (k0_h28 : k0_cond28 i v25 v1340 = 1#1), ∀ a, (k0_off140 v1342 k0_t28) a + S1x16.size a ≤ S32x512.size a := fun i v25 v1340 v1342 k0_hw55 k0_t28 k0_h28 => k0_hw55.2.1 k0_t28 k0_h28
theorem k0_off142_inb : ∀ (i : grid0.Coords) (v25 : BitVec 32) (v1340 : BitVec 32) (v1342 : BitVec 32) (k0_hw55 : k0_chk55 i v25 v1340 v1342) (k0_t28 : Fin k0_t28_loop.trips), ∀ (k0_h28 : k0_cond28 i v25 v1340 = 1#1), ∀ a, (k0_off142 v1342 k0_t28) a + S1x16.size a ≤ S32x512.size a := fun i v25 v1340 v1342 k0_hw55 k0_t28 k0_h28 => k0_hw55.2.2 k0_t28 k0_h28

def k0_off143 (v1340 : BitVec 32) (k0_t28 : Fin k0_t28_loop.trips) : Fin 2 → Nat :=
  let c0_i32_505 : BitVec 32 := 0#32
  let v1344 : BitVec 1 := Scalar.cmpi .sgt v1340 c0_i32_505
  let v1345 : BitVec 32 := Scalar.extui v1344
  let c0_i32_506 : BitVec 32 := 0#32
  let v1346 : BitVec 1 := Scalar.cmpi .slt v1340 c0_i32_506
  let v1347 : BitVec 32 := Scalar.extui v1346
  let v1348 : BitVec 32 := Scalar.subi v1345 v1347
  let c16_i32_504 : BitVec 32 := 16#32
  let c0_i32_507 : BitVec 32 := 0#32
  let v1349 : BitVec 1 := Scalar.cmpi .sgt c16_i32_504 c0_i32_507
  let v1350 : BitVec 32 := Scalar.extui v1349
  let c0_i32_508 : BitVec 32 := 0#32
  let v1351 : BitVec 1 := Scalar.cmpi .slt c16_i32_504 c0_i32_508
  let v1352 : BitVec 32 := Scalar.extui v1351
  let v1353 : BitVec 32 := Scalar.subi v1350 v1352
  let v1354 : BitVec 1 := Scalar.cmpi .ne v1348 v1353
  let v1355 : BitVec 32 := Scalar.remsi v1340 c16_i32_504
  let c0_i32_509 : BitVec 32 := 0#32
  let v1356 : BitVec 1 := Scalar.cmpi .ne v1355 c0_i32_509
  let v1357 : BitVec 1 := Scalar.andi v1354 v1356
  let v1343 : BitVec 32 := Scalar.divsi v1340 c16_i32_504
  let c1_i32_510 : BitVec 32 := 1#32
  let v1358 : BitVec 32 := Scalar.subi v1343 c1_i32_510
  let v1359 : BitVec 32 := Scalar.select v1357 v1358 v1343
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1359 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t28
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1340 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk56 (i : grid0.Coords) (v25 : BitVec 32) (v1340 : BitVec 32) : Prop :=
  (∀ k0_t28 : Fin k0_t28_loop.trips, ∀ (k0_h28 : k0_cond28 i v25 v1340 = 1#1), ∀ a, (k0_off141 v1340 k0_t28) a + S1x16.size a ≤ S128x512.size a) ∧
  (∀ k0_t28 : Fin k0_t28_loop.trips, ∀ (k0_h28 : k0_cond28 i v25 v1340 = 1#1), ∀ a, (k0_off143 v1340 k0_t28) a + S1x16.size a ≤ S128x512.size a)
theorem k0_off141_inb : ∀ (i : grid0.Coords) (v25 : BitVec 32) (v1340 : BitVec 32) (k0_hw56 : k0_chk56 i v25 v1340) (k0_t28 : Fin k0_t28_loop.trips), ∀ (k0_h28 : k0_cond28 i v25 v1340 = 1#1), ∀ a, (k0_off141 v1340 k0_t28) a + S1x16.size a ≤ S128x512.size a := fun i v25 v1340 k0_hw56 k0_t28 k0_h28 => k0_hw56.1 k0_t28 k0_h28
theorem k0_off143_inb : ∀ (i : grid0.Coords) (v25 : BitVec 32) (v1340 : BitVec 32) (k0_hw56 : k0_chk56 i v25 v1340) (k0_t28 : Fin k0_t28_loop.trips), ∀ (k0_h28 : k0_cond28 i v25 v1340 = 1#1), ∀ a, (k0_off143 v1340 k0_t28) a + S1x16.size a ≤ S128x512.size a := fun i v25 v1340 k0_hw56 k0_t28 k0_h28 => k0_hw56.2 k0_t28 k0_h28

def k0_off144 (i : grid0.Coords) (v1385 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1385 c0_i32_1428
  let v3763 : BitVec 32 := Scalar.extui v3762
  let c0_i32_1429 : BitVec 32 := 0#32
  let v3764 : BitVec 1 := Scalar.cmpi .slt v1385 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1385 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1385 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r34 : BitVec 32 := 0#32
  ![v3779.toNat, 0]
def k0_cond29 (i : grid0.Coords) (v25 : BitVec 32) (v1383 : BitVec 32) : BitVec 1 :=
  let c12_i32_527 : BitVec 32 := 12#32
  let v1403 : BitVec 1 := Scalar.cmpi .sgt v25 c12_i32_527
  let c0_i32_521 : BitVec 32 := 0#32
  let v1387 : BitVec 1 := Scalar.cmpi .sgt v1383 c0_i32_521
  let v1388 : BitVec 32 := Scalar.extui v1387
  let c0_i32_522 : BitVec 32 := 0#32
  let v1389 : BitVec 1 := Scalar.cmpi .slt v1383 c0_i32_522
  let v1390 : BitVec 32 := Scalar.extui v1389
  let v1391 : BitVec 32 := Scalar.subi v1388 v1390
  let c16_i32_520 : BitVec 32 := 16#32
  let c0_i32_523 : BitVec 32 := 0#32
  let v1392 : BitVec 1 := Scalar.cmpi .sgt c16_i32_520 c0_i32_523
  let v1393 : BitVec 32 := Scalar.extui v1392
  let c0_i32_524 : BitVec 32 := 0#32
  let v1394 : BitVec 1 := Scalar.cmpi .slt c16_i32_520 c0_i32_524
  let v1395 : BitVec 32 := Scalar.extui v1394
  let v1396 : BitVec 32 := Scalar.subi v1393 v1395
  let v1397 : BitVec 1 := Scalar.cmpi .ne v1391 v1396
  let v1398 : BitVec 32 := Scalar.remsi v1383 c16_i32_520
  let c0_i32_525 : BitVec 32 := 0#32
  let v1399 : BitVec 1 := Scalar.cmpi .ne v1398 c0_i32_525
  let v1400 : BitVec 1 := Scalar.andi v1397 v1399
  let v1386 : BitVec 32 := Scalar.divsi v1383 c16_i32_520
  let c1_i32_526 : BitVec 32 := 1#32
  let v1401 : BitVec 32 := Scalar.subi v1386 c1_i32_526
  let v1402 : BitVec 32 := Scalar.select v1400 v1401 v1386
  let c0_i32_529 : BitVec 32 := 0#32
  let v1405 : BitVec 1 := Scalar.cmpi .sgt v1402 c0_i32_529
  let v1406 : BitVec 32 := Scalar.extui v1405
  let c0_i32_530 : BitVec 32 := 0#32
  let v1407 : BitVec 1 := Scalar.cmpi .slt v1402 c0_i32_530
  let v1408 : BitVec 32 := Scalar.extui v1407
  let v1409 : BitVec 32 := Scalar.subi v1406 v1408
  let c4_i32_528 : BitVec 32 := 4#32
  let c0_i32_531 : BitVec 32 := 0#32
  let v1410 : BitVec 1 := Scalar.cmpi .sgt c4_i32_528 c0_i32_531
  let v1411 : BitVec 32 := Scalar.extui v1410
  let c0_i32_532 : BitVec 32 := 0#32
  let v1412 : BitVec 1 := Scalar.cmpi .slt c4_i32_528 c0_i32_532
  let v1413 : BitVec 32 := Scalar.extui v1412
  let v1414 : BitVec 32 := Scalar.subi v1411 v1413
  let v1415 : BitVec 1 := Scalar.cmpi .ne v1409 v1414
  let v1416 : BitVec 32 := Scalar.remsi v1402 c4_i32_528
  let c0_i32_533 : BitVec 32 := 0#32
  let v1417 : BitVec 1 := Scalar.cmpi .ne v1416 c0_i32_533
  let v1418 : BitVec 1 := Scalar.andi v1415 v1417
  let v1404 : BitVec 32 := Scalar.divsi v1402 c4_i32_528
  let c1_i32_534 : BitVec 32 := 1#32
  let v1419 : BitVec 32 := Scalar.subi v1404 c1_i32_534
  let v1420 : BitVec 32 := Scalar.select v1418 v1419 v1404
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1421 : BitVec 1 := Scalar.cmpi .eq v1420 v865
  let v1422 : BitVec 1 := Scalar.andi v1403 v1421
  let v1423 : BitVec 32 := Scalar.extui v1422
  let c0_i32_535 : BitVec 32 := 0#32
  let v1424 : BitVec 1 := Scalar.cmpi .ne v1423 c0_i32_535
  v1424

@[reducible] def k0_t29_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off145 (v1385 : BitVec 32) (k0_t29 : Fin k0_t29_loop.trips) : Fin 2 → Nat :=
  let c0_i32_1453 : BitVec 32 := 0#32
  let c1_i32_1455 : BitVec 32 := 1#32
  let arg19 : BitVec 32 := Scf.iv c0_i32_1453 c1_i32_1455 k0_t29
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1385 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off146 (v1383 : BitVec 32) (k0_t29 : Fin k0_t29_loop.trips) : Fin 2 → Nat :=
  let c0_i32_521 : BitVec 32 := 0#32
  let v1387 : BitVec 1 := Scalar.cmpi .sgt v1383 c0_i32_521
  let v1388 : BitVec 32 := Scalar.extui v1387
  let c0_i32_522 : BitVec 32 := 0#32
  let v1389 : BitVec 1 := Scalar.cmpi .slt v1383 c0_i32_522
  let v1390 : BitVec 32 := Scalar.extui v1389
  let v1391 : BitVec 32 := Scalar.subi v1388 v1390
  let c16_i32_520 : BitVec 32 := 16#32
  let c0_i32_523 : BitVec 32 := 0#32
  let v1392 : BitVec 1 := Scalar.cmpi .sgt c16_i32_520 c0_i32_523
  let v1393 : BitVec 32 := Scalar.extui v1392
  let c0_i32_524 : BitVec 32 := 0#32
  let v1394 : BitVec 1 := Scalar.cmpi .slt c16_i32_520 c0_i32_524
  let v1395 : BitVec 32 := Scalar.extui v1394
  let v1396 : BitVec 32 := Scalar.subi v1393 v1395
  let v1397 : BitVec 1 := Scalar.cmpi .ne v1391 v1396
  let v1398 : BitVec 32 := Scalar.remsi v1383 c16_i32_520
  let c0_i32_525 : BitVec 32 := 0#32
  let v1399 : BitVec 1 := Scalar.cmpi .ne v1398 c0_i32_525
  let v1400 : BitVec 1 := Scalar.andi v1397 v1399
  let v1386 : BitVec 32 := Scalar.divsi v1383 c16_i32_520
  let c1_i32_526 : BitVec 32 := 1#32
  let v1401 : BitVec 32 := Scalar.subi v1386 c1_i32_526
  let v1402 : BitVec 32 := Scalar.select v1400 v1401 v1386
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1402 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t29
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1383 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off147 (v1385 : BitVec 32) (k0_t29 : Fin k0_t29_loop.trips) : Fin 2 → Nat :=
  let c0_i32_1453 : BitVec 32 := 0#32
  let c1_i32_1455 : BitVec 32 := 1#32
  let arg19 : BitVec 32 := Scf.iv c0_i32_1453 c1_i32_1455 k0_t29
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1385 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk57 (i : grid0.Coords) (v25 : BitVec 32) (v1383 : BitVec 32) (v1385 : BitVec 32) : Prop :=
  (∀ (k0_h29 : k0_cond29 i v25 v1383 = 1#1), ∀ a, (k0_off144 i v1385) a + S32x512.size a ≤ S12288x512.size a) ∧
  (∀ k0_t29 : Fin k0_t29_loop.trips, ∀ (k0_h29 : k0_cond29 i v25 v1383 = 1#1), ∀ a, (k0_off145 v1385 k0_t29) a + S1x16.size a ≤ S32x512.size a) ∧
  (∀ k0_t29 : Fin k0_t29_loop.trips, ∀ (k0_h29 : k0_cond29 i v25 v1383 = 1#1), ∀ a, (k0_off147 v1385 k0_t29) a + S1x16.size a ≤ S32x512.size a)
theorem k0_off144_inb : ∀ (i : grid0.Coords) (v25 : BitVec 32) (v1383 : BitVec 32) (v1385 : BitVec 32) (k0_hw57 : k0_chk57 i v25 v1383 v1385), ∀ (k0_h29 : k0_cond29 i v25 v1383 = 1#1), ∀ a, (k0_off144 i v1385) a + S32x512.size a ≤ S12288x512.size a := fun i v25 v1383 v1385 k0_hw57 k0_h29 => k0_hw57.1 k0_h29
theorem k0_off145_inb : ∀ (i : grid0.Coords) (v25 : BitVec 32) (v1383 : BitVec 32) (v1385 : BitVec 32) (k0_hw57 : k0_chk57 i v25 v1383 v1385) (k0_t29 : Fin k0_t29_loop.trips), ∀ (k0_h29 : k0_cond29 i v25 v1383 = 1#1), ∀ a, (k0_off145 v1385 k0_t29) a + S1x16.size a ≤ S32x512.size a := fun i v25 v1383 v1385 k0_hw57 k0_t29 k0_h29 => k0_hw57.2.1 k0_t29 k0_h29
theorem k0_off147_inb : ∀ (i : grid0.Coords) (v25 : BitVec 32) (v1383 : BitVec 32) (v1385 : BitVec 32) (k0_hw57 : k0_chk57 i v25 v1383 v1385) (k0_t29 : Fin k0_t29_loop.trips), ∀ (k0_h29 : k0_cond29 i v25 v1383 = 1#1), ∀ a, (k0_off147 v1385 k0_t29) a + S1x16.size a ≤ S32x512.size a := fun i v25 v1383 v1385 k0_hw57 k0_t29 k0_h29 => k0_hw57.2.2 k0_t29 k0_h29

def k0_off148 (v1383 : BitVec 32) (k0_t29 : Fin k0_t29_loop.trips) : Fin 2 → Nat :=
  let c0_i32_521 : BitVec 32 := 0#32
  let v1387 : BitVec 1 := Scalar.cmpi .sgt v1383 c0_i32_521
  let v1388 : BitVec 32 := Scalar.extui v1387
  let c0_i32_522 : BitVec 32 := 0#32
  let v1389 : BitVec 1 := Scalar.cmpi .slt v1383 c0_i32_522
  let v1390 : BitVec 32 := Scalar.extui v1389
  let v1391 : BitVec 32 := Scalar.subi v1388 v1390
  let c16_i32_520 : BitVec 32 := 16#32
  let c0_i32_523 : BitVec 32 := 0#32
  let v1392 : BitVec 1 := Scalar.cmpi .sgt c16_i32_520 c0_i32_523
  let v1393 : BitVec 32 := Scalar.extui v1392
  let c0_i32_524 : BitVec 32 := 0#32
  let v1394 : BitVec 1 := Scalar.cmpi .slt c16_i32_520 c0_i32_524
  let v1395 : BitVec 32 := Scalar.extui v1394
  let v1396 : BitVec 32 := Scalar.subi v1393 v1395
  let v1397 : BitVec 1 := Scalar.cmpi .ne v1391 v1396
  let v1398 : BitVec 32 := Scalar.remsi v1383 c16_i32_520
  let c0_i32_525 : BitVec 32 := 0#32
  let v1399 : BitVec 1 := Scalar.cmpi .ne v1398 c0_i32_525
  let v1400 : BitVec 1 := Scalar.andi v1397 v1399
  let v1386 : BitVec 32 := Scalar.divsi v1383 c16_i32_520
  let c1_i32_526 : BitVec 32 := 1#32
  let v1401 : BitVec 32 := Scalar.subi v1386 c1_i32_526
  let v1402 : BitVec 32 := Scalar.select v1400 v1401 v1386
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1402 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t29
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1383 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk58 (i : grid0.Coords) (v25 : BitVec 32) (v1383 : BitVec 32) : Prop :=
  (∀ k0_t29 : Fin k0_t29_loop.trips, ∀ (k0_h29 : k0_cond29 i v25 v1383 = 1#1), ∀ a, (k0_off146 v1383 k0_t29) a + S1x16.size a ≤ S128x512.size a) ∧
  (∀ k0_t29 : Fin k0_t29_loop.trips, ∀ (k0_h29 : k0_cond29 i v25 v1383 = 1#1), ∀ a, (k0_off148 v1383 k0_t29) a + S1x16.size a ≤ S128x512.size a)
theorem k0_off146_inb : ∀ (i : grid0.Coords) (v25 : BitVec 32) (v1383 : BitVec 32) (k0_hw58 : k0_chk58 i v25 v1383) (k0_t29 : Fin k0_t29_loop.trips), ∀ (k0_h29 : k0_cond29 i v25 v1383 = 1#1), ∀ a, (k0_off146 v1383 k0_t29) a + S1x16.size a ≤ S128x512.size a := fun i v25 v1383 k0_hw58 k0_t29 k0_h29 => k0_hw58.1 k0_t29 k0_h29
theorem k0_off148_inb : ∀ (i : grid0.Coords) (v25 : BitVec 32) (v1383 : BitVec 32) (k0_hw58 : k0_chk58 i v25 v1383) (k0_t29 : Fin k0_t29_loop.trips), ∀ (k0_h29 : k0_cond29 i v25 v1383 = 1#1), ∀ a, (k0_off148 v1383 k0_t29) a + S1x16.size a ≤ S128x512.size a := fun i v25 v1383 k0_hw58 k0_t29 k0_h29 => k0_hw58.2 k0_t29 k0_h29

def k0_off149 (i : grid0.Coords) (v1428 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1428 c0_i32_1428
  let v3763 : BitVec 32 := Scalar.extui v3762
  let c0_i32_1429 : BitVec 32 := 0#32
  let v3764 : BitVec 1 := Scalar.cmpi .slt v1428 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1428 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1428 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r35 : BitVec 32 := 0#32
  ![v3779.toNat, 0]
def k0_cond30 (i : grid0.Coords) (v25 : BitVec 32) (v1426 : BitVec 32) : BitVec 1 :=
  let c13_i32_543 : BitVec 32 := 13#32
  let v1446 : BitVec 1 := Scalar.cmpi .sgt v25 c13_i32_543
  let c0_i32_537 : BitVec 32 := 0#32
  let v1430 : BitVec 1 := Scalar.cmpi .sgt v1426 c0_i32_537
  let v1431 : BitVec 32 := Scalar.extui v1430
  let c0_i32_538 : BitVec 32 := 0#32
  let v1432 : BitVec 1 := Scalar.cmpi .slt v1426 c0_i32_538
  let v1433 : BitVec 32 := Scalar.extui v1432
  let v1434 : BitVec 32 := Scalar.subi v1431 v1433
  let c16_i32_536 : BitVec 32 := 16#32
  let c0_i32_539 : BitVec 32 := 0#32
  let v1435 : BitVec 1 := Scalar.cmpi .sgt c16_i32_536 c0_i32_539
  let v1436 : BitVec 32 := Scalar.extui v1435
  let c0_i32_540 : BitVec 32 := 0#32
  let v1437 : BitVec 1 := Scalar.cmpi .slt c16_i32_536 c0_i32_540
  let v1438 : BitVec 32 := Scalar.extui v1437
  let v1439 : BitVec 32 := Scalar.subi v1436 v1438
  let v1440 : BitVec 1 := Scalar.cmpi .ne v1434 v1439
  let v1441 : BitVec 32 := Scalar.remsi v1426 c16_i32_536
  let c0_i32_541 : BitVec 32 := 0#32
  let v1442 : BitVec 1 := Scalar.cmpi .ne v1441 c0_i32_541
  let v1443 : BitVec 1 := Scalar.andi v1440 v1442
  let v1429 : BitVec 32 := Scalar.divsi v1426 c16_i32_536
  let c1_i32_542 : BitVec 32 := 1#32
  let v1444 : BitVec 32 := Scalar.subi v1429 c1_i32_542
  let v1445 : BitVec 32 := Scalar.select v1443 v1444 v1429
  let c0_i32_545 : BitVec 32 := 0#32
  let v1448 : BitVec 1 := Scalar.cmpi .sgt v1445 c0_i32_545
  let v1449 : BitVec 32 := Scalar.extui v1448
  let c0_i32_546 : BitVec 32 := 0#32
  let v1450 : BitVec 1 := Scalar.cmpi .slt v1445 c0_i32_546
  let v1451 : BitVec 32 := Scalar.extui v1450
  let v1452 : BitVec 32 := Scalar.subi v1449 v1451
  let c4_i32_544 : BitVec 32 := 4#32
  let c0_i32_547 : BitVec 32 := 0#32
  let v1453 : BitVec 1 := Scalar.cmpi .sgt c4_i32_544 c0_i32_547
  let v1454 : BitVec 32 := Scalar.extui v1453
  let c0_i32_548 : BitVec 32 := 0#32
  let v1455 : BitVec 1 := Scalar.cmpi .slt c4_i32_544 c0_i32_548
  let v1456 : BitVec 32 := Scalar.extui v1455
  let v1457 : BitVec 32 := Scalar.subi v1454 v1456
  let v1458 : BitVec 1 := Scalar.cmpi .ne v1452 v1457
  let v1459 : BitVec 32 := Scalar.remsi v1445 c4_i32_544
  let c0_i32_549 : BitVec 32 := 0#32
  let v1460 : BitVec 1 := Scalar.cmpi .ne v1459 c0_i32_549
  let v1461 : BitVec 1 := Scalar.andi v1458 v1460
  let v1447 : BitVec 32 := Scalar.divsi v1445 c4_i32_544
  let c1_i32_550 : BitVec 32 := 1#32
  let v1462 : BitVec 32 := Scalar.subi v1447 c1_i32_550
  let v1463 : BitVec 32 := Scalar.select v1461 v1462 v1447
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1464 : BitVec 1 := Scalar.cmpi .eq v1463 v865
  let v1465 : BitVec 1 := Scalar.andi v1446 v1464
  let v1466 : BitVec 32 := Scalar.extui v1465
  let c0_i32_551 : BitVec 32 := 0#32
  let v1467 : BitVec 1 := Scalar.cmpi .ne v1466 c0_i32_551
  v1467

@[reducible] def k0_t30_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off150 (v1428 : BitVec 32) (k0_t30 : Fin k0_t30_loop.trips) : Fin 2 → Nat :=
  let c0_i32_1453 : BitVec 32 := 0#32
  let c1_i32_1455 : BitVec 32 := 1#32
  let arg19 : BitVec 32 := Scf.iv c0_i32_1453 c1_i32_1455 k0_t30
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1428 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off151 (v1426 : BitVec 32) (k0_t30 : Fin k0_t30_loop.trips) : Fin 2 → Nat :=
  let c0_i32_537 : BitVec 32 := 0#32
  let v1430 : BitVec 1 := Scalar.cmpi .sgt v1426 c0_i32_537
  let v1431 : BitVec 32 := Scalar.extui v1430
  let c0_i32_538 : BitVec 32 := 0#32
  let v1432 : BitVec 1 := Scalar.cmpi .slt v1426 c0_i32_538
  let v1433 : BitVec 32 := Scalar.extui v1432
  let v1434 : BitVec 32 := Scalar.subi v1431 v1433
  let c16_i32_536 : BitVec 32 := 16#32
  let c0_i32_539 : BitVec 32 := 0#32
  let v1435 : BitVec 1 := Scalar.cmpi .sgt c16_i32_536 c0_i32_539
  let v1436 : BitVec 32 := Scalar.extui v1435
  let c0_i32_540 : BitVec 32 := 0#32
  let v1437 : BitVec 1 := Scalar.cmpi .slt c16_i32_536 c0_i32_540
  let v1438 : BitVec 32 := Scalar.extui v1437
  let v1439 : BitVec 32 := Scalar.subi v1436 v1438
  let v1440 : BitVec 1 := Scalar.cmpi .ne v1434 v1439
  let v1441 : BitVec 32 := Scalar.remsi v1426 c16_i32_536
  let c0_i32_541 : BitVec 32 := 0#32
  let v1442 : BitVec 1 := Scalar.cmpi .ne v1441 c0_i32_541
  let v1443 : BitVec 1 := Scalar.andi v1440 v1442
  let v1429 : BitVec 32 := Scalar.divsi v1426 c16_i32_536
  let c1_i32_542 : BitVec 32 := 1#32
  let v1444 : BitVec 32 := Scalar.subi v1429 c1_i32_542
  let v1445 : BitVec 32 := Scalar.select v1443 v1444 v1429
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1445 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t30
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1426 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off152 (v1428 : BitVec 32) (k0_t30 : Fin k0_t30_loop.trips) : Fin 2 → Nat :=
  let c0_i32_1453 : BitVec 32 := 0#32
  let c1_i32_1455 : BitVec 32 := 1#32
  let arg19 : BitVec 32 := Scf.iv c0_i32_1453 c1_i32_1455 k0_t30
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1428 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk59 (i : grid0.Coords) (v25 : BitVec 32) (v1426 : BitVec 32) (v1428 : BitVec 32) : Prop :=
  (∀ (k0_h30 : k0_cond30 i v25 v1426 = 1#1), ∀ a, (k0_off149 i v1428) a + S32x512.size a ≤ S12288x512.size a) ∧
  (∀ k0_t30 : Fin k0_t30_loop.trips, ∀ (k0_h30 : k0_cond30 i v25 v1426 = 1#1), ∀ a, (k0_off150 v1428 k0_t30) a + S1x16.size a ≤ S32x512.size a) ∧
  (∀ k0_t30 : Fin k0_t30_loop.trips, ∀ (k0_h30 : k0_cond30 i v25 v1426 = 1#1), ∀ a, (k0_off152 v1428 k0_t30) a + S1x16.size a ≤ S32x512.size a)
theorem k0_off149_inb : ∀ (i : grid0.Coords) (v25 : BitVec 32) (v1426 : BitVec 32) (v1428 : BitVec 32) (k0_hw59 : k0_chk59 i v25 v1426 v1428), ∀ (k0_h30 : k0_cond30 i v25 v1426 = 1#1), ∀ a, (k0_off149 i v1428) a + S32x512.size a ≤ S12288x512.size a := fun i v25 v1426 v1428 k0_hw59 k0_h30 => k0_hw59.1 k0_h30
theorem k0_off150_inb : ∀ (i : grid0.Coords) (v25 : BitVec 32) (v1426 : BitVec 32) (v1428 : BitVec 32) (k0_hw59 : k0_chk59 i v25 v1426 v1428) (k0_t30 : Fin k0_t30_loop.trips), ∀ (k0_h30 : k0_cond30 i v25 v1426 = 1#1), ∀ a, (k0_off150 v1428 k0_t30) a + S1x16.size a ≤ S32x512.size a := fun i v25 v1426 v1428 k0_hw59 k0_t30 k0_h30 => k0_hw59.2.1 k0_t30 k0_h30
theorem k0_off152_inb : ∀ (i : grid0.Coords) (v25 : BitVec 32) (v1426 : BitVec 32) (v1428 : BitVec 32) (k0_hw59 : k0_chk59 i v25 v1426 v1428) (k0_t30 : Fin k0_t30_loop.trips), ∀ (k0_h30 : k0_cond30 i v25 v1426 = 1#1), ∀ a, (k0_off152 v1428 k0_t30) a + S1x16.size a ≤ S32x512.size a := fun i v25 v1426 v1428 k0_hw59 k0_t30 k0_h30 => k0_hw59.2.2 k0_t30 k0_h30

def k0_off153 (v1426 : BitVec 32) (k0_t30 : Fin k0_t30_loop.trips) : Fin 2 → Nat :=
  let c0_i32_537 : BitVec 32 := 0#32
  let v1430 : BitVec 1 := Scalar.cmpi .sgt v1426 c0_i32_537
  let v1431 : BitVec 32 := Scalar.extui v1430
  let c0_i32_538 : BitVec 32 := 0#32
  let v1432 : BitVec 1 := Scalar.cmpi .slt v1426 c0_i32_538
  let v1433 : BitVec 32 := Scalar.extui v1432
  let v1434 : BitVec 32 := Scalar.subi v1431 v1433
  let c16_i32_536 : BitVec 32 := 16#32
  let c0_i32_539 : BitVec 32 := 0#32
  let v1435 : BitVec 1 := Scalar.cmpi .sgt c16_i32_536 c0_i32_539
  let v1436 : BitVec 32 := Scalar.extui v1435
  let c0_i32_540 : BitVec 32 := 0#32
  let v1437 : BitVec 1 := Scalar.cmpi .slt c16_i32_536 c0_i32_540
  let v1438 : BitVec 32 := Scalar.extui v1437
  let v1439 : BitVec 32 := Scalar.subi v1436 v1438
  let v1440 : BitVec 1 := Scalar.cmpi .ne v1434 v1439
  let v1441 : BitVec 32 := Scalar.remsi v1426 c16_i32_536
  let c0_i32_541 : BitVec 32 := 0#32
  let v1442 : BitVec 1 := Scalar.cmpi .ne v1441 c0_i32_541
  let v1443 : BitVec 1 := Scalar.andi v1440 v1442
  let v1429 : BitVec 32 := Scalar.divsi v1426 c16_i32_536
  let c1_i32_542 : BitVec 32 := 1#32
  let v1444 : BitVec 32 := Scalar.subi v1429 c1_i32_542
  let v1445 : BitVec 32 := Scalar.select v1443 v1444 v1429
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1445 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t30
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1426 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk60 (i : grid0.Coords) (v25 : BitVec 32) (v1426 : BitVec 32) : Prop :=
  (∀ k0_t30 : Fin k0_t30_loop.trips, ∀ (k0_h30 : k0_cond30 i v25 v1426 = 1#1), ∀ a, (k0_off151 v1426 k0_t30) a + S1x16.size a ≤ S128x512.size a) ∧
  (∀ k0_t30 : Fin k0_t30_loop.trips, ∀ (k0_h30 : k0_cond30 i v25 v1426 = 1#1), ∀ a, (k0_off153 v1426 k0_t30) a + S1x16.size a ≤ S128x512.size a)
theorem k0_off151_inb : ∀ (i : grid0.Coords) (v25 : BitVec 32) (v1426 : BitVec 32) (k0_hw60 : k0_chk60 i v25 v1426) (k0_t30 : Fin k0_t30_loop.trips), ∀ (k0_h30 : k0_cond30 i v25 v1426 = 1#1), ∀ a, (k0_off151 v1426 k0_t30) a + S1x16.size a ≤ S128x512.size a := fun i v25 v1426 k0_hw60 k0_t30 k0_h30 => k0_hw60.1 k0_t30 k0_h30
theorem k0_off153_inb : ∀ (i : grid0.Coords) (v25 : BitVec 32) (v1426 : BitVec 32) (k0_hw60 : k0_chk60 i v25 v1426) (k0_t30 : Fin k0_t30_loop.trips), ∀ (k0_h30 : k0_cond30 i v25 v1426 = 1#1), ∀ a, (k0_off153 v1426 k0_t30) a + S1x16.size a ≤ S128x512.size a := fun i v25 v1426 k0_hw60 k0_t30 k0_h30 => k0_hw60.2 k0_t30 k0_h30

def k0_off154 (i : grid0.Coords) (v1471 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1471 c0_i32_1428
  let v3763 : BitVec 32 := Scalar.extui v3762
  let c0_i32_1429 : BitVec 32 := 0#32
  let v3764 : BitVec 1 := Scalar.cmpi .slt v1471 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1471 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1471 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r36 : BitVec 32 := 0#32
  ![v3779.toNat, 0]
def k0_cond31 (i : grid0.Coords) (v25 : BitVec 32) (v1469 : BitVec 32) : BitVec 1 :=
  let c14_i32_559 : BitVec 32 := 14#32
  let v1489 : BitVec 1 := Scalar.cmpi .sgt v25 c14_i32_559
  let c0_i32_553 : BitVec 32 := 0#32
  let v1473 : BitVec 1 := Scalar.cmpi .sgt v1469 c0_i32_553
  let v1474 : BitVec 32 := Scalar.extui v1473
  let c0_i32_554 : BitVec 32 := 0#32
  let v1475 : BitVec 1 := Scalar.cmpi .slt v1469 c0_i32_554
  let v1476 : BitVec 32 := Scalar.extui v1475
  let v1477 : BitVec 32 := Scalar.subi v1474 v1476
  let c16_i32_552 : BitVec 32 := 16#32
  let c0_i32_555 : BitVec 32 := 0#32
  let v1478 : BitVec 1 := Scalar.cmpi .sgt c16_i32_552 c0_i32_555
  let v1479 : BitVec 32 := Scalar.extui v1478
  let c0_i32_556 : BitVec 32 := 0#32
  let v1480 : BitVec 1 := Scalar.cmpi .slt c16_i32_552 c0_i32_556
  let v1481 : BitVec 32 := Scalar.extui v1480
  let v1482 : BitVec 32 := Scalar.subi v1479 v1481
  let v1483 : BitVec 1 := Scalar.cmpi .ne v1477 v1482
  let v1484 : BitVec 32 := Scalar.remsi v1469 c16_i32_552
  let c0_i32_557 : BitVec 32 := 0#32
  let v1485 : BitVec 1 := Scalar.cmpi .ne v1484 c0_i32_557
  let v1486 : BitVec 1 := Scalar.andi v1483 v1485
  let v1472 : BitVec 32 := Scalar.divsi v1469 c16_i32_552
  let c1_i32_558 : BitVec 32 := 1#32
  let v1487 : BitVec 32 := Scalar.subi v1472 c1_i32_558
  let v1488 : BitVec 32 := Scalar.select v1486 v1487 v1472
  let c0_i32_561 : BitVec 32 := 0#32
  let v1491 : BitVec 1 := Scalar.cmpi .sgt v1488 c0_i32_561
  let v1492 : BitVec 32 := Scalar.extui v1491
  let c0_i32_562 : BitVec 32 := 0#32
  let v1493 : BitVec 1 := Scalar.cmpi .slt v1488 c0_i32_562
  let v1494 : BitVec 32 := Scalar.extui v1493
  let v1495 : BitVec 32 := Scalar.subi v1492 v1494
  let c4_i32_560 : BitVec 32 := 4#32
  let c0_i32_563 : BitVec 32 := 0#32
  let v1496 : BitVec 1 := Scalar.cmpi .sgt c4_i32_560 c0_i32_563
  let v1497 : BitVec 32 := Scalar.extui v1496
  let c0_i32_564 : BitVec 32 := 0#32
  let v1498 : BitVec 1 := Scalar.cmpi .slt c4_i32_560 c0_i32_564
  let v1499 : BitVec 32 := Scalar.extui v1498
  let v1500 : BitVec 32 := Scalar.subi v1497 v1499
  let v1501 : BitVec 1 := Scalar.cmpi .ne v1495 v1500
  let v1502 : BitVec 32 := Scalar.remsi v1488 c4_i32_560
  let c0_i32_565 : BitVec 32 := 0#32
  let v1503 : BitVec 1 := Scalar.cmpi .ne v1502 c0_i32_565
  let v1504 : BitVec 1 := Scalar.andi v1501 v1503
  let v1490 : BitVec 32 := Scalar.divsi v1488 c4_i32_560
  let c1_i32_566 : BitVec 32 := 1#32
  let v1505 : BitVec 32 := Scalar.subi v1490 c1_i32_566
  let v1506 : BitVec 32 := Scalar.select v1504 v1505 v1490
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1507 : BitVec 1 := Scalar.cmpi .eq v1506 v865
  let v1508 : BitVec 1 := Scalar.andi v1489 v1507
  let v1509 : BitVec 32 := Scalar.extui v1508
  let c0_i32_567 : BitVec 32 := 0#32
  let v1510 : BitVec 1 := Scalar.cmpi .ne v1509 c0_i32_567
  v1510

@[reducible] def k0_t31_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off155 (v1471 : BitVec 32) (k0_t31 : Fin k0_t31_loop.trips) : Fin 2 → Nat :=
  let c0_i32_1453 : BitVec 32 := 0#32
  let c1_i32_1455 : BitVec 32 := 1#32
  let arg19 : BitVec 32 := Scf.iv c0_i32_1453 c1_i32_1455 k0_t31
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1471 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off156 (v1469 : BitVec 32) (k0_t31 : Fin k0_t31_loop.trips) : Fin 2 → Nat :=
  let c0_i32_553 : BitVec 32 := 0#32
  let v1473 : BitVec 1 := Scalar.cmpi .sgt v1469 c0_i32_553
  let v1474 : BitVec 32 := Scalar.extui v1473
  let c0_i32_554 : BitVec 32 := 0#32
  let v1475 : BitVec 1 := Scalar.cmpi .slt v1469 c0_i32_554
  let v1476 : BitVec 32 := Scalar.extui v1475
  let v1477 : BitVec 32 := Scalar.subi v1474 v1476
  let c16_i32_552 : BitVec 32 := 16#32
  let c0_i32_555 : BitVec 32 := 0#32
  let v1478 : BitVec 1 := Scalar.cmpi .sgt c16_i32_552 c0_i32_555
  let v1479 : BitVec 32 := Scalar.extui v1478
  let c0_i32_556 : BitVec 32 := 0#32
  let v1480 : BitVec 1 := Scalar.cmpi .slt c16_i32_552 c0_i32_556
  let v1481 : BitVec 32 := Scalar.extui v1480
  let v1482 : BitVec 32 := Scalar.subi v1479 v1481
  let v1483 : BitVec 1 := Scalar.cmpi .ne v1477 v1482
  let v1484 : BitVec 32 := Scalar.remsi v1469 c16_i32_552
  let c0_i32_557 : BitVec 32 := 0#32
  let v1485 : BitVec 1 := Scalar.cmpi .ne v1484 c0_i32_557
  let v1486 : BitVec 1 := Scalar.andi v1483 v1485
  let v1472 : BitVec 32 := Scalar.divsi v1469 c16_i32_552
  let c1_i32_558 : BitVec 32 := 1#32
  let v1487 : BitVec 32 := Scalar.subi v1472 c1_i32_558
  let v1488 : BitVec 32 := Scalar.select v1486 v1487 v1472
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1488 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t31
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1469 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off157 (v1471 : BitVec 32) (k0_t31 : Fin k0_t31_loop.trips) : Fin 2 → Nat :=
  let c0_i32_1453 : BitVec 32 := 0#32
  let c1_i32_1455 : BitVec 32 := 1#32
  let arg19 : BitVec 32 := Scf.iv c0_i32_1453 c1_i32_1455 k0_t31
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1471 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk61 (i : grid0.Coords) (v25 : BitVec 32) (v1469 : BitVec 32) (v1471 : BitVec 32) : Prop :=
  (∀ (k0_h31 : k0_cond31 i v25 v1469 = 1#1), ∀ a, (k0_off154 i v1471) a + S32x512.size a ≤ S12288x512.size a) ∧
  (∀ k0_t31 : Fin k0_t31_loop.trips, ∀ (k0_h31 : k0_cond31 i v25 v1469 = 1#1), ∀ a, (k0_off155 v1471 k0_t31) a + S1x16.size a ≤ S32x512.size a) ∧
  (∀ k0_t31 : Fin k0_t31_loop.trips, ∀ (k0_h31 : k0_cond31 i v25 v1469 = 1#1), ∀ a, (k0_off157 v1471 k0_t31) a + S1x16.size a ≤ S32x512.size a)
theorem k0_off154_inb : ∀ (i : grid0.Coords) (v25 : BitVec 32) (v1469 : BitVec 32) (v1471 : BitVec 32) (k0_hw61 : k0_chk61 i v25 v1469 v1471), ∀ (k0_h31 : k0_cond31 i v25 v1469 = 1#1), ∀ a, (k0_off154 i v1471) a + S32x512.size a ≤ S12288x512.size a := fun i v25 v1469 v1471 k0_hw61 k0_h31 => k0_hw61.1 k0_h31
theorem k0_off155_inb : ∀ (i : grid0.Coords) (v25 : BitVec 32) (v1469 : BitVec 32) (v1471 : BitVec 32) (k0_hw61 : k0_chk61 i v25 v1469 v1471) (k0_t31 : Fin k0_t31_loop.trips), ∀ (k0_h31 : k0_cond31 i v25 v1469 = 1#1), ∀ a, (k0_off155 v1471 k0_t31) a + S1x16.size a ≤ S32x512.size a := fun i v25 v1469 v1471 k0_hw61 k0_t31 k0_h31 => k0_hw61.2.1 k0_t31 k0_h31
theorem k0_off157_inb : ∀ (i : grid0.Coords) (v25 : BitVec 32) (v1469 : BitVec 32) (v1471 : BitVec 32) (k0_hw61 : k0_chk61 i v25 v1469 v1471) (k0_t31 : Fin k0_t31_loop.trips), ∀ (k0_h31 : k0_cond31 i v25 v1469 = 1#1), ∀ a, (k0_off157 v1471 k0_t31) a + S1x16.size a ≤ S32x512.size a := fun i v25 v1469 v1471 k0_hw61 k0_t31 k0_h31 => k0_hw61.2.2 k0_t31 k0_h31

def k0_off158 (v1469 : BitVec 32) (k0_t31 : Fin k0_t31_loop.trips) : Fin 2 → Nat :=
  let c0_i32_553 : BitVec 32 := 0#32
  let v1473 : BitVec 1 := Scalar.cmpi .sgt v1469 c0_i32_553
  let v1474 : BitVec 32 := Scalar.extui v1473
  let c0_i32_554 : BitVec 32 := 0#32
  let v1475 : BitVec 1 := Scalar.cmpi .slt v1469 c0_i32_554
  let v1476 : BitVec 32 := Scalar.extui v1475
  let v1477 : BitVec 32 := Scalar.subi v1474 v1476
  let c16_i32_552 : BitVec 32 := 16#32
  let c0_i32_555 : BitVec 32 := 0#32
  let v1478 : BitVec 1 := Scalar.cmpi .sgt c16_i32_552 c0_i32_555
  let v1479 : BitVec 32 := Scalar.extui v1478
  let c0_i32_556 : BitVec 32 := 0#32
  let v1480 : BitVec 1 := Scalar.cmpi .slt c16_i32_552 c0_i32_556
  let v1481 : BitVec 32 := Scalar.extui v1480
  let v1482 : BitVec 32 := Scalar.subi v1479 v1481
  let v1483 : BitVec 1 := Scalar.cmpi .ne v1477 v1482
  let v1484 : BitVec 32 := Scalar.remsi v1469 c16_i32_552
  let c0_i32_557 : BitVec 32 := 0#32
  let v1485 : BitVec 1 := Scalar.cmpi .ne v1484 c0_i32_557
  let v1486 : BitVec 1 := Scalar.andi v1483 v1485
  let v1472 : BitVec 32 := Scalar.divsi v1469 c16_i32_552
  let c1_i32_558 : BitVec 32 := 1#32
  let v1487 : BitVec 32 := Scalar.subi v1472 c1_i32_558
  let v1488 : BitVec 32 := Scalar.select v1486 v1487 v1472
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1488 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t31
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1469 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk62 (i : grid0.Coords) (v25 : BitVec 32) (v1469 : BitVec 32) : Prop :=
  (∀ k0_t31 : Fin k0_t31_loop.trips, ∀ (k0_h31 : k0_cond31 i v25 v1469 = 1#1), ∀ a, (k0_off156 v1469 k0_t31) a + S1x16.size a ≤ S128x512.size a) ∧
  (∀ k0_t31 : Fin k0_t31_loop.trips, ∀ (k0_h31 : k0_cond31 i v25 v1469 = 1#1), ∀ a, (k0_off158 v1469 k0_t31) a + S1x16.size a ≤ S128x512.size a)
theorem k0_off156_inb : ∀ (i : grid0.Coords) (v25 : BitVec 32) (v1469 : BitVec 32) (k0_hw62 : k0_chk62 i v25 v1469) (k0_t31 : Fin k0_t31_loop.trips), ∀ (k0_h31 : k0_cond31 i v25 v1469 = 1#1), ∀ a, (k0_off156 v1469 k0_t31) a + S1x16.size a ≤ S128x512.size a := fun i v25 v1469 k0_hw62 k0_t31 k0_h31 => k0_hw62.1 k0_t31 k0_h31
theorem k0_off158_inb : ∀ (i : grid0.Coords) (v25 : BitVec 32) (v1469 : BitVec 32) (k0_hw62 : k0_chk62 i v25 v1469) (k0_t31 : Fin k0_t31_loop.trips), ∀ (k0_h31 : k0_cond31 i v25 v1469 = 1#1), ∀ a, (k0_off158 v1469 k0_t31) a + S1x16.size a ≤ S128x512.size a := fun i v25 v1469 k0_hw62 k0_t31 k0_h31 => k0_hw62.2 k0_t31 k0_h31

def k0_off159 (i : grid0.Coords) (v1514 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1514 c0_i32_1428
  let v3763 : BitVec 32 := Scalar.extui v3762
  let c0_i32_1429 : BitVec 32 := 0#32
  let v3764 : BitVec 1 := Scalar.cmpi .slt v1514 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1514 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1514 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r37 : BitVec 32 := 0#32
  ![v3779.toNat, 0]
def k0_cond32 (i : grid0.Coords) (v25 : BitVec 32) (v1512 : BitVec 32) : BitVec 1 :=
  let c15_i32_575 : BitVec 32 := 15#32
  let v1532 : BitVec 1 := Scalar.cmpi .sgt v25 c15_i32_575
  let c0_i32_569 : BitVec 32 := 0#32
  let v1516 : BitVec 1 := Scalar.cmpi .sgt v1512 c0_i32_569
  let v1517 : BitVec 32 := Scalar.extui v1516
  let c0_i32_570 : BitVec 32 := 0#32
  let v1518 : BitVec 1 := Scalar.cmpi .slt v1512 c0_i32_570
  let v1519 : BitVec 32 := Scalar.extui v1518
  let v1520 : BitVec 32 := Scalar.subi v1517 v1519
  let c16_i32_568 : BitVec 32 := 16#32
  let c0_i32_571 : BitVec 32 := 0#32
  let v1521 : BitVec 1 := Scalar.cmpi .sgt c16_i32_568 c0_i32_571
  let v1522 : BitVec 32 := Scalar.extui v1521
  let c0_i32_572 : BitVec 32 := 0#32
  let v1523 : BitVec 1 := Scalar.cmpi .slt c16_i32_568 c0_i32_572
  let v1524 : BitVec 32 := Scalar.extui v1523
  let v1525 : BitVec 32 := Scalar.subi v1522 v1524
  let v1526 : BitVec 1 := Scalar.cmpi .ne v1520 v1525
  let v1527 : BitVec 32 := Scalar.remsi v1512 c16_i32_568
  let c0_i32_573 : BitVec 32 := 0#32
  let v1528 : BitVec 1 := Scalar.cmpi .ne v1527 c0_i32_573
  let v1529 : BitVec 1 := Scalar.andi v1526 v1528
  let v1515 : BitVec 32 := Scalar.divsi v1512 c16_i32_568
  let c1_i32_574 : BitVec 32 := 1#32
  let v1530 : BitVec 32 := Scalar.subi v1515 c1_i32_574
  let v1531 : BitVec 32 := Scalar.select v1529 v1530 v1515
  let c0_i32_577 : BitVec 32 := 0#32
  let v1534 : BitVec 1 := Scalar.cmpi .sgt v1531 c0_i32_577
  let v1535 : BitVec 32 := Scalar.extui v1534
  let c0_i32_578 : BitVec 32 := 0#32
  let v1536 : BitVec 1 := Scalar.cmpi .slt v1531 c0_i32_578
  let v1537 : BitVec 32 := Scalar.extui v1536
  let v1538 : BitVec 32 := Scalar.subi v1535 v1537
  let c4_i32_576 : BitVec 32 := 4#32
  let c0_i32_579 : BitVec 32 := 0#32
  let v1539 : BitVec 1 := Scalar.cmpi .sgt c4_i32_576 c0_i32_579
  let v1540 : BitVec 32 := Scalar.extui v1539
  let c0_i32_580 : BitVec 32 := 0#32
  let v1541 : BitVec 1 := Scalar.cmpi .slt c4_i32_576 c0_i32_580
  let v1542 : BitVec 32 := Scalar.extui v1541
  let v1543 : BitVec 32 := Scalar.subi v1540 v1542
  let v1544 : BitVec 1 := Scalar.cmpi .ne v1538 v1543
  let v1545 : BitVec 32 := Scalar.remsi v1531 c4_i32_576
  let c0_i32_581 : BitVec 32 := 0#32
  let v1546 : BitVec 1 := Scalar.cmpi .ne v1545 c0_i32_581
  let v1547 : BitVec 1 := Scalar.andi v1544 v1546
  let v1533 : BitVec 32 := Scalar.divsi v1531 c4_i32_576
  let c1_i32_582 : BitVec 32 := 1#32
  let v1548 : BitVec 32 := Scalar.subi v1533 c1_i32_582
  let v1549 : BitVec 32 := Scalar.select v1547 v1548 v1533
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1550 : BitVec 1 := Scalar.cmpi .eq v1549 v865
  let v1551 : BitVec 1 := Scalar.andi v1532 v1550
  let v1552 : BitVec 32 := Scalar.extui v1551
  let c0_i32_583 : BitVec 32 := 0#32
  let v1553 : BitVec 1 := Scalar.cmpi .ne v1552 c0_i32_583
  v1553

@[reducible] def k0_t32_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off160 (v1514 : BitVec 32) (k0_t32 : Fin k0_t32_loop.trips) : Fin 2 → Nat :=
  let c0_i32_1453 : BitVec 32 := 0#32
  let c1_i32_1455 : BitVec 32 := 1#32
  let arg19 : BitVec 32 := Scf.iv c0_i32_1453 c1_i32_1455 k0_t32
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1514 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off161 (v1512 : BitVec 32) (k0_t32 : Fin k0_t32_loop.trips) : Fin 2 → Nat :=
  let c0_i32_569 : BitVec 32 := 0#32
  let v1516 : BitVec 1 := Scalar.cmpi .sgt v1512 c0_i32_569
  let v1517 : BitVec 32 := Scalar.extui v1516
  let c0_i32_570 : BitVec 32 := 0#32
  let v1518 : BitVec 1 := Scalar.cmpi .slt v1512 c0_i32_570
  let v1519 : BitVec 32 := Scalar.extui v1518
  let v1520 : BitVec 32 := Scalar.subi v1517 v1519
  let c16_i32_568 : BitVec 32 := 16#32
  let c0_i32_571 : BitVec 32 := 0#32
  let v1521 : BitVec 1 := Scalar.cmpi .sgt c16_i32_568 c0_i32_571
  let v1522 : BitVec 32 := Scalar.extui v1521
  let c0_i32_572 : BitVec 32 := 0#32
  let v1523 : BitVec 1 := Scalar.cmpi .slt c16_i32_568 c0_i32_572
  let v1524 : BitVec 32 := Scalar.extui v1523
  let v1525 : BitVec 32 := Scalar.subi v1522 v1524
  let v1526 : BitVec 1 := Scalar.cmpi .ne v1520 v1525
  let v1527 : BitVec 32 := Scalar.remsi v1512 c16_i32_568
  let c0_i32_573 : BitVec 32 := 0#32
  let v1528 : BitVec 1 := Scalar.cmpi .ne v1527 c0_i32_573
  let v1529 : BitVec 1 := Scalar.andi v1526 v1528
  let v1515 : BitVec 32 := Scalar.divsi v1512 c16_i32_568
  let c1_i32_574 : BitVec 32 := 1#32
  let v1530 : BitVec 32 := Scalar.subi v1515 c1_i32_574
  let v1531 : BitVec 32 := Scalar.select v1529 v1530 v1515
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1531 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t32
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1512 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off162 (v1514 : BitVec 32) (k0_t32 : Fin k0_t32_loop.trips) : Fin 2 → Nat :=
  let c0_i32_1453 : BitVec 32 := 0#32
  let c1_i32_1455 : BitVec 32 := 1#32
  let arg19 : BitVec 32 := Scf.iv c0_i32_1453 c1_i32_1455 k0_t32
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1514 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk63 (i : grid0.Coords) (v25 : BitVec 32) (v1512 : BitVec 32) (v1514 : BitVec 32) : Prop :=
  (∀ (k0_h32 : k0_cond32 i v25 v1512 = 1#1), ∀ a, (k0_off159 i v1514) a + S32x512.size a ≤ S12288x512.size a) ∧
  (∀ k0_t32 : Fin k0_t32_loop.trips, ∀ (k0_h32 : k0_cond32 i v25 v1512 = 1#1), ∀ a, (k0_off160 v1514 k0_t32) a + S1x16.size a ≤ S32x512.size a) ∧
  (∀ k0_t32 : Fin k0_t32_loop.trips, ∀ (k0_h32 : k0_cond32 i v25 v1512 = 1#1), ∀ a, (k0_off162 v1514 k0_t32) a + S1x16.size a ≤ S32x512.size a)
theorem k0_off159_inb : ∀ (i : grid0.Coords) (v25 : BitVec 32) (v1512 : BitVec 32) (v1514 : BitVec 32) (k0_hw63 : k0_chk63 i v25 v1512 v1514), ∀ (k0_h32 : k0_cond32 i v25 v1512 = 1#1), ∀ a, (k0_off159 i v1514) a + S32x512.size a ≤ S12288x512.size a := fun i v25 v1512 v1514 k0_hw63 k0_h32 => k0_hw63.1 k0_h32
theorem k0_off160_inb : ∀ (i : grid0.Coords) (v25 : BitVec 32) (v1512 : BitVec 32) (v1514 : BitVec 32) (k0_hw63 : k0_chk63 i v25 v1512 v1514) (k0_t32 : Fin k0_t32_loop.trips), ∀ (k0_h32 : k0_cond32 i v25 v1512 = 1#1), ∀ a, (k0_off160 v1514 k0_t32) a + S1x16.size a ≤ S32x512.size a := fun i v25 v1512 v1514 k0_hw63 k0_t32 k0_h32 => k0_hw63.2.1 k0_t32 k0_h32
theorem k0_off162_inb : ∀ (i : grid0.Coords) (v25 : BitVec 32) (v1512 : BitVec 32) (v1514 : BitVec 32) (k0_hw63 : k0_chk63 i v25 v1512 v1514) (k0_t32 : Fin k0_t32_loop.trips), ∀ (k0_h32 : k0_cond32 i v25 v1512 = 1#1), ∀ a, (k0_off162 v1514 k0_t32) a + S1x16.size a ≤ S32x512.size a := fun i v25 v1512 v1514 k0_hw63 k0_t32 k0_h32 => k0_hw63.2.2 k0_t32 k0_h32

def k0_off163 (v1512 : BitVec 32) (k0_t32 : Fin k0_t32_loop.trips) : Fin 2 → Nat :=
  let c0_i32_569 : BitVec 32 := 0#32
  let v1516 : BitVec 1 := Scalar.cmpi .sgt v1512 c0_i32_569
  let v1517 : BitVec 32 := Scalar.extui v1516
  let c0_i32_570 : BitVec 32 := 0#32
  let v1518 : BitVec 1 := Scalar.cmpi .slt v1512 c0_i32_570
  let v1519 : BitVec 32 := Scalar.extui v1518
  let v1520 : BitVec 32 := Scalar.subi v1517 v1519
  let c16_i32_568 : BitVec 32 := 16#32
  let c0_i32_571 : BitVec 32 := 0#32
  let v1521 : BitVec 1 := Scalar.cmpi .sgt c16_i32_568 c0_i32_571
  let v1522 : BitVec 32 := Scalar.extui v1521
  let c0_i32_572 : BitVec 32 := 0#32
  let v1523 : BitVec 1 := Scalar.cmpi .slt c16_i32_568 c0_i32_572
  let v1524 : BitVec 32 := Scalar.extui v1523
  let v1525 : BitVec 32 := Scalar.subi v1522 v1524
  let v1526 : BitVec 1 := Scalar.cmpi .ne v1520 v1525
  let v1527 : BitVec 32 := Scalar.remsi v1512 c16_i32_568
  let c0_i32_573 : BitVec 32 := 0#32
  let v1528 : BitVec 1 := Scalar.cmpi .ne v1527 c0_i32_573
  let v1529 : BitVec 1 := Scalar.andi v1526 v1528
  let v1515 : BitVec 32 := Scalar.divsi v1512 c16_i32_568
  let c1_i32_574 : BitVec 32 := 1#32
  let v1530 : BitVec 32 := Scalar.subi v1515 c1_i32_574
  let v1531 : BitVec 32 := Scalar.select v1529 v1530 v1515
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1531 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t32
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1512 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk64 (i : grid0.Coords) (v25 : BitVec 32) (v1512 : BitVec 32) : Prop :=
  (∀ k0_t32 : Fin k0_t32_loop.trips, ∀ (k0_h32 : k0_cond32 i v25 v1512 = 1#1), ∀ a, (k0_off161 v1512 k0_t32) a + S1x16.size a ≤ S128x512.size a) ∧
  (∀ k0_t32 : Fin k0_t32_loop.trips, ∀ (k0_h32 : k0_cond32 i v25 v1512 = 1#1), ∀ a, (k0_off163 v1512 k0_t32) a + S1x16.size a ≤ S128x512.size a)
theorem k0_off161_inb : ∀ (i : grid0.Coords) (v25 : BitVec 32) (v1512 : BitVec 32) (k0_hw64 : k0_chk64 i v25 v1512) (k0_t32 : Fin k0_t32_loop.trips), ∀ (k0_h32 : k0_cond32 i v25 v1512 = 1#1), ∀ a, (k0_off161 v1512 k0_t32) a + S1x16.size a ≤ S128x512.size a := fun i v25 v1512 k0_hw64 k0_t32 k0_h32 => k0_hw64.1 k0_t32 k0_h32
theorem k0_off163_inb : ∀ (i : grid0.Coords) (v25 : BitVec 32) (v1512 : BitVec 32) (k0_hw64 : k0_chk64 i v25 v1512) (k0_t32 : Fin k0_t32_loop.trips), ∀ (k0_h32 : k0_cond32 i v25 v1512 = 1#1), ∀ a, (k0_off163 v1512 k0_t32) a + S1x16.size a ≤ S128x512.size a := fun i v25 v1512 k0_hw64 k0_t32 k0_h32 => k0_hw64.2 k0_t32 k0_h32

def k0_off164 (i : grid0.Coords) (c1_i32_290 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c0_i32_1427_r38 : BitVec 32 := 0#32
  ![v835.toNat, 0]
def k0_off165 (i : grid0.Coords) (v1631 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1631 c0_i32_1428
  let v3763 : BitVec 32 := Scalar.extui v3762
  let c0_i32_1429 : BitVec 32 := 0#32
  let v3764 : BitVec 1 := Scalar.cmpi .slt v1631 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1631 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1631 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r40 : BitVec 32 := 0#32
  ![v3779.toNat, 0]
def k0_cond33 (i : grid0.Coords) (v25 : BitVec 32) (v1629 : BitVec 32) : BitVec 1 :=
  let c0_i32_630 : BitVec 32 := 0#32
  let v1649 : BitVec 1 := Scalar.cmpi .sgt v25 c0_i32_630
  let c0_i32_624 : BitVec 32 := 0#32
  let v1633 : BitVec 1 := Scalar.cmpi .sgt v1629 c0_i32_624
  let v1634 : BitVec 32 := Scalar.extui v1633
  let c0_i32_625 : BitVec 32 := 0#32
  let v1635 : BitVec 1 := Scalar.cmpi .slt v1629 c0_i32_625
  let v1636 : BitVec 32 := Scalar.extui v1635
  let v1637 : BitVec 32 := Scalar.subi v1634 v1636
  let c16_i32_623 : BitVec 32 := 16#32
  let c0_i32_626 : BitVec 32 := 0#32
  let v1638 : BitVec 1 := Scalar.cmpi .sgt c16_i32_623 c0_i32_626
  let v1639 : BitVec 32 := Scalar.extui v1638
  let c0_i32_627 : BitVec 32 := 0#32
  let v1640 : BitVec 1 := Scalar.cmpi .slt c16_i32_623 c0_i32_627
  let v1641 : BitVec 32 := Scalar.extui v1640
  let v1642 : BitVec 32 := Scalar.subi v1639 v1641
  let v1643 : BitVec 1 := Scalar.cmpi .ne v1637 v1642
  let v1644 : BitVec 32 := Scalar.remsi v1629 c16_i32_623
  let c0_i32_628 : BitVec 32 := 0#32
  let v1645 : BitVec 1 := Scalar.cmpi .ne v1644 c0_i32_628
  let v1646 : BitVec 1 := Scalar.andi v1643 v1645
  let v1632 : BitVec 32 := Scalar.divsi v1629 c16_i32_623
  let c1_i32_629 : BitVec 32 := 1#32
  let v1647 : BitVec 32 := Scalar.subi v1632 c1_i32_629
  let v1648 : BitVec 32 := Scalar.select v1646 v1647 v1632
  let c0_i32_632 : BitVec 32 := 0#32
  let v1651 : BitVec 1 := Scalar.cmpi .sgt v1648 c0_i32_632
  let v1652 : BitVec 32 := Scalar.extui v1651
  let c0_i32_633 : BitVec 32 := 0#32
  let v1653 : BitVec 1 := Scalar.cmpi .slt v1648 c0_i32_633
  let v1654 : BitVec 32 := Scalar.extui v1653
  let v1655 : BitVec 32 := Scalar.subi v1652 v1654
  let c4_i32_631 : BitVec 32 := 4#32
  let c0_i32_634 : BitVec 32 := 0#32
  let v1656 : BitVec 1 := Scalar.cmpi .sgt c4_i32_631 c0_i32_634
  let v1657 : BitVec 32 := Scalar.extui v1656
  let c0_i32_635 : BitVec 32 := 0#32
  let v1658 : BitVec 1 := Scalar.cmpi .slt c4_i32_631 c0_i32_635
  let v1659 : BitVec 32 := Scalar.extui v1658
  let v1660 : BitVec 32 := Scalar.subi v1657 v1659
  let v1661 : BitVec 1 := Scalar.cmpi .ne v1655 v1660
  let v1662 : BitVec 32 := Scalar.remsi v1648 c4_i32_631
  let c0_i32_636 : BitVec 32 := 0#32
  let v1663 : BitVec 1 := Scalar.cmpi .ne v1662 c0_i32_636
  let v1664 : BitVec 1 := Scalar.andi v1661 v1663
  let v1650 : BitVec 32 := Scalar.divsi v1648 c4_i32_631
  let c1_i32_637 : BitVec 32 := 1#32
  let v1665 : BitVec 32 := Scalar.subi v1650 c1_i32_637
  let v1666 : BitVec 32 := Scalar.select v1664 v1665 v1650
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1667 : BitVec 1 := Scalar.cmpi .eq v1666 v1627
  let v1668 : BitVec 1 := Scalar.andi v1649 v1667
  let v1669 : BitVec 32 := Scalar.extui v1668
  let c0_i32_638 : BitVec 32 := 0#32
  let v1670 : BitVec 1 := Scalar.cmpi .ne v1669 c0_i32_638
  v1670

@[reducible] def k0_t33_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off166 (v1631 : BitVec 32) (k0_t33 : Fin k0_t33_loop.trips) : Fin 2 → Nat :=
  let c0_i32_1453 : BitVec 32 := 0#32
  let c1_i32_1455 : BitVec 32 := 1#32
  let arg19 : BitVec 32 := Scf.iv c0_i32_1453 c1_i32_1455 k0_t33
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1631 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off167 (v1629 : BitVec 32) (k0_t33 : Fin k0_t33_loop.trips) : Fin 2 → Nat :=
  let c0_i32_624 : BitVec 32 := 0#32
  let v1633 : BitVec 1 := Scalar.cmpi .sgt v1629 c0_i32_624
  let v1634 : BitVec 32 := Scalar.extui v1633
  let c0_i32_625 : BitVec 32 := 0#32
  let v1635 : BitVec 1 := Scalar.cmpi .slt v1629 c0_i32_625
  let v1636 : BitVec 32 := Scalar.extui v1635
  let v1637 : BitVec 32 := Scalar.subi v1634 v1636
  let c16_i32_623 : BitVec 32 := 16#32
  let c0_i32_626 : BitVec 32 := 0#32
  let v1638 : BitVec 1 := Scalar.cmpi .sgt c16_i32_623 c0_i32_626
  let v1639 : BitVec 32 := Scalar.extui v1638
  let c0_i32_627 : BitVec 32 := 0#32
  let v1640 : BitVec 1 := Scalar.cmpi .slt c16_i32_623 c0_i32_627
  let v1641 : BitVec 32 := Scalar.extui v1640
  let v1642 : BitVec 32 := Scalar.subi v1639 v1641
  let v1643 : BitVec 1 := Scalar.cmpi .ne v1637 v1642
  let v1644 : BitVec 32 := Scalar.remsi v1629 c16_i32_623
  let c0_i32_628 : BitVec 32 := 0#32
  let v1645 : BitVec 1 := Scalar.cmpi .ne v1644 c0_i32_628
  let v1646 : BitVec 1 := Scalar.andi v1643 v1645
  let v1632 : BitVec 32 := Scalar.divsi v1629 c16_i32_623
  let c1_i32_629 : BitVec 32 := 1#32
  let v1647 : BitVec 32 := Scalar.subi v1632 c1_i32_629
  let v1648 : BitVec 32 := Scalar.select v1646 v1647 v1632
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1648 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t33
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1629 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off168 (v1631 : BitVec 32) (k0_t33 : Fin k0_t33_loop.trips) : Fin 2 → Nat :=
  let c0_i32_1453 : BitVec 32 := 0#32
  let c1_i32_1455 : BitVec 32 := 1#32
  let arg19 : BitVec 32 := Scf.iv c0_i32_1453 c1_i32_1455 k0_t33
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1631 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk65 (i : grid0.Coords) (v25 : BitVec 32) (v1629 : BitVec 32) (v1631 : BitVec 32) : Prop :=
  (∀ (k0_h33 : k0_cond33 i v25 v1629 = 1#1), ∀ a, (k0_off165 i v1631) a + S32x512.size a ≤ S12288x512.size a) ∧
  (∀ k0_t33 : Fin k0_t33_loop.trips, ∀ (k0_h33 : k0_cond33 i v25 v1629 = 1#1), ∀ a, (k0_off166 v1631 k0_t33) a + S1x16.size a ≤ S32x512.size a) ∧
  (∀ k0_t33 : Fin k0_t33_loop.trips, ∀ (k0_h33 : k0_cond33 i v25 v1629 = 1#1), ∀ a, (k0_off168 v1631 k0_t33) a + S1x16.size a ≤ S32x512.size a)
theorem k0_off165_inb : ∀ (i : grid0.Coords) (v25 : BitVec 32) (v1629 : BitVec 32) (v1631 : BitVec 32) (k0_hw65 : k0_chk65 i v25 v1629 v1631), ∀ (k0_h33 : k0_cond33 i v25 v1629 = 1#1), ∀ a, (k0_off165 i v1631) a + S32x512.size a ≤ S12288x512.size a := fun i v25 v1629 v1631 k0_hw65 k0_h33 => k0_hw65.1 k0_h33
theorem k0_off166_inb : ∀ (i : grid0.Coords) (v25 : BitVec 32) (v1629 : BitVec 32) (v1631 : BitVec 32) (k0_hw65 : k0_chk65 i v25 v1629 v1631) (k0_t33 : Fin k0_t33_loop.trips), ∀ (k0_h33 : k0_cond33 i v25 v1629 = 1#1), ∀ a, (k0_off166 v1631 k0_t33) a + S1x16.size a ≤ S32x512.size a := fun i v25 v1629 v1631 k0_hw65 k0_t33 k0_h33 => k0_hw65.2.1 k0_t33 k0_h33
theorem k0_off168_inb : ∀ (i : grid0.Coords) (v25 : BitVec 32) (v1629 : BitVec 32) (v1631 : BitVec 32) (k0_hw65 : k0_chk65 i v25 v1629 v1631) (k0_t33 : Fin k0_t33_loop.trips), ∀ (k0_h33 : k0_cond33 i v25 v1629 = 1#1), ∀ a, (k0_off168 v1631 k0_t33) a + S1x16.size a ≤ S32x512.size a := fun i v25 v1629 v1631 k0_hw65 k0_t33 k0_h33 => k0_hw65.2.2 k0_t33 k0_h33

def k0_off169 (v1629 : BitVec 32) (k0_t33 : Fin k0_t33_loop.trips) : Fin 2 → Nat :=
  let c0_i32_624 : BitVec 32 := 0#32
  let v1633 : BitVec 1 := Scalar.cmpi .sgt v1629 c0_i32_624
  let v1634 : BitVec 32 := Scalar.extui v1633
  let c0_i32_625 : BitVec 32 := 0#32
  let v1635 : BitVec 1 := Scalar.cmpi .slt v1629 c0_i32_625
  let v1636 : BitVec 32 := Scalar.extui v1635
  let v1637 : BitVec 32 := Scalar.subi v1634 v1636
  let c16_i32_623 : BitVec 32 := 16#32
  let c0_i32_626 : BitVec 32 := 0#32
  let v1638 : BitVec 1 := Scalar.cmpi .sgt c16_i32_623 c0_i32_626
  let v1639 : BitVec 32 := Scalar.extui v1638
  let c0_i32_627 : BitVec 32 := 0#32
  let v1640 : BitVec 1 := Scalar.cmpi .slt c16_i32_623 c0_i32_627
  let v1641 : BitVec 32 := Scalar.extui v1640
  let v1642 : BitVec 32 := Scalar.subi v1639 v1641
  let v1643 : BitVec 1 := Scalar.cmpi .ne v1637 v1642
  let v1644 : BitVec 32 := Scalar.remsi v1629 c16_i32_623
  let c0_i32_628 : BitVec 32 := 0#32
  let v1645 : BitVec 1 := Scalar.cmpi .ne v1644 c0_i32_628
  let v1646 : BitVec 1 := Scalar.andi v1643 v1645
  let v1632 : BitVec 32 := Scalar.divsi v1629 c16_i32_623
  let c1_i32_629 : BitVec 32 := 1#32
  let v1647 : BitVec 32 := Scalar.subi v1632 c1_i32_629
  let v1648 : BitVec 32 := Scalar.select v1646 v1647 v1632
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1648 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t33
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1629 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk66 (i : grid0.Coords) (v25 : BitVec 32) (v1629 : BitVec 32) : Prop :=
  (∀ k0_t33 : Fin k0_t33_loop.trips, ∀ (k0_h33 : k0_cond33 i v25 v1629 = 1#1), ∀ a, (k0_off167 v1629 k0_t33) a + S1x16.size a ≤ S128x512.size a) ∧
  (∀ k0_t33 : Fin k0_t33_loop.trips, ∀ (k0_h33 : k0_cond33 i v25 v1629 = 1#1), ∀ a, (k0_off169 v1629 k0_t33) a + S1x16.size a ≤ S128x512.size a)
theorem k0_off167_inb : ∀ (i : grid0.Coords) (v25 : BitVec 32) (v1629 : BitVec 32) (k0_hw66 : k0_chk66 i v25 v1629) (k0_t33 : Fin k0_t33_loop.trips), ∀ (k0_h33 : k0_cond33 i v25 v1629 = 1#1), ∀ a, (k0_off167 v1629 k0_t33) a + S1x16.size a ≤ S128x512.size a := fun i v25 v1629 k0_hw66 k0_t33 k0_h33 => k0_hw66.1 k0_t33 k0_h33
theorem k0_off169_inb : ∀ (i : grid0.Coords) (v25 : BitVec 32) (v1629 : BitVec 32) (k0_hw66 : k0_chk66 i v25 v1629) (k0_t33 : Fin k0_t33_loop.trips), ∀ (k0_h33 : k0_cond33 i v25 v1629 = 1#1), ∀ a, (k0_off169 v1629 k0_t33) a + S1x16.size a ≤ S128x512.size a := fun i v25 v1629 k0_hw66 k0_t33 k0_h33 => k0_hw66.2 k0_t33 k0_h33

def k0_off170 (i : grid0.Coords) (v1674 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1674 c0_i32_1428
  let v3763 : BitVec 32 := Scalar.extui v3762
  let c0_i32_1429 : BitVec 32 := 0#32
  let v3764 : BitVec 1 := Scalar.cmpi .slt v1674 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1674 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1674 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r41 : BitVec 32 := 0#32
  ![v3779.toNat, 0]
def k0_cond34 (i : grid0.Coords) (v25 : BitVec 32) (v1672 : BitVec 32) : BitVec 1 :=
  let c1_i32_646 : BitVec 32 := 1#32
  let v1692 : BitVec 1 := Scalar.cmpi .sgt v25 c1_i32_646
  let c0_i32_640 : BitVec 32 := 0#32
  let v1676 : BitVec 1 := Scalar.cmpi .sgt v1672 c0_i32_640
  let v1677 : BitVec 32 := Scalar.extui v1676
  let c0_i32_641 : BitVec 32 := 0#32
  let v1678 : BitVec 1 := Scalar.cmpi .slt v1672 c0_i32_641
  let v1679 : BitVec 32 := Scalar.extui v1678
  let v1680 : BitVec 32 := Scalar.subi v1677 v1679
  let c16_i32_639 : BitVec 32 := 16#32
  let c0_i32_642 : BitVec 32 := 0#32
  let v1681 : BitVec 1 := Scalar.cmpi .sgt c16_i32_639 c0_i32_642
  let v1682 : BitVec 32 := Scalar.extui v1681
  let c0_i32_643 : BitVec 32 := 0#32
  let v1683 : BitVec 1 := Scalar.cmpi .slt c16_i32_639 c0_i32_643
  let v1684 : BitVec 32 := Scalar.extui v1683
  let v1685 : BitVec 32 := Scalar.subi v1682 v1684
  let v1686 : BitVec 1 := Scalar.cmpi .ne v1680 v1685
  let v1687 : BitVec 32 := Scalar.remsi v1672 c16_i32_639
  let c0_i32_644 : BitVec 32 := 0#32
  let v1688 : BitVec 1 := Scalar.cmpi .ne v1687 c0_i32_644
  let v1689 : BitVec 1 := Scalar.andi v1686 v1688
  let v1675 : BitVec 32 := Scalar.divsi v1672 c16_i32_639
  let c1_i32_645 : BitVec 32 := 1#32
  let v1690 : BitVec 32 := Scalar.subi v1675 c1_i32_645
  let v1691 : BitVec 32 := Scalar.select v1689 v1690 v1675
  let c0_i32_648 : BitVec 32 := 0#32
  let v1694 : BitVec 1 := Scalar.cmpi .sgt v1691 c0_i32_648
  let v1695 : BitVec 32 := Scalar.extui v1694
  let c0_i32_649 : BitVec 32 := 0#32
  let v1696 : BitVec 1 := Scalar.cmpi .slt v1691 c0_i32_649
  let v1697 : BitVec 32 := Scalar.extui v1696
  let v1698 : BitVec 32 := Scalar.subi v1695 v1697
  let c4_i32_647 : BitVec 32 := 4#32
  let c0_i32_650 : BitVec 32 := 0#32
  let v1699 : BitVec 1 := Scalar.cmpi .sgt c4_i32_647 c0_i32_650
  let v1700 : BitVec 32 := Scalar.extui v1699
  let c0_i32_651 : BitVec 32 := 0#32
  let v1701 : BitVec 1 := Scalar.cmpi .slt c4_i32_647 c0_i32_651
  let v1702 : BitVec 32 := Scalar.extui v1701
  let v1703 : BitVec 32 := Scalar.subi v1700 v1702
  let v1704 : BitVec 1 := Scalar.cmpi .ne v1698 v1703
  let v1705 : BitVec 32 := Scalar.remsi v1691 c4_i32_647
  let c0_i32_652 : BitVec 32 := 0#32
  let v1706 : BitVec 1 := Scalar.cmpi .ne v1705 c0_i32_652
  let v1707 : BitVec 1 := Scalar.andi v1704 v1706
  let v1693 : BitVec 32 := Scalar.divsi v1691 c4_i32_647
  let c1_i32_653 : BitVec 32 := 1#32
  let v1708 : BitVec 32 := Scalar.subi v1693 c1_i32_653
  let v1709 : BitVec 32 := Scalar.select v1707 v1708 v1693
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1710 : BitVec 1 := Scalar.cmpi .eq v1709 v1627
  let v1711 : BitVec 1 := Scalar.andi v1692 v1710
  let v1712 : BitVec 32 := Scalar.extui v1711
  let c0_i32_654 : BitVec 32 := 0#32
  let v1713 : BitVec 1 := Scalar.cmpi .ne v1712 c0_i32_654
  v1713

@[reducible] def k0_t34_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off171 (v1674 : BitVec 32) (k0_t34 : Fin k0_t34_loop.trips) : Fin 2 → Nat :=
  let c0_i32_1453 : BitVec 32 := 0#32
  let c1_i32_1455 : BitVec 32 := 1#32
  let arg19 : BitVec 32 := Scf.iv c0_i32_1453 c1_i32_1455 k0_t34
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1674 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off172 (v1672 : BitVec 32) (k0_t34 : Fin k0_t34_loop.trips) : Fin 2 → Nat :=
  let c0_i32_640 : BitVec 32 := 0#32
  let v1676 : BitVec 1 := Scalar.cmpi .sgt v1672 c0_i32_640
  let v1677 : BitVec 32 := Scalar.extui v1676
  let c0_i32_641 : BitVec 32 := 0#32
  let v1678 : BitVec 1 := Scalar.cmpi .slt v1672 c0_i32_641
  let v1679 : BitVec 32 := Scalar.extui v1678
  let v1680 : BitVec 32 := Scalar.subi v1677 v1679
  let c16_i32_639 : BitVec 32 := 16#32
  let c0_i32_642 : BitVec 32 := 0#32
  let v1681 : BitVec 1 := Scalar.cmpi .sgt c16_i32_639 c0_i32_642
  let v1682 : BitVec 32 := Scalar.extui v1681
  let c0_i32_643 : BitVec 32 := 0#32
  let v1683 : BitVec 1 := Scalar.cmpi .slt c16_i32_639 c0_i32_643
  let v1684 : BitVec 32 := Scalar.extui v1683
  let v1685 : BitVec 32 := Scalar.subi v1682 v1684
  let v1686 : BitVec 1 := Scalar.cmpi .ne v1680 v1685
  let v1687 : BitVec 32 := Scalar.remsi v1672 c16_i32_639
  let c0_i32_644 : BitVec 32 := 0#32
  let v1688 : BitVec 1 := Scalar.cmpi .ne v1687 c0_i32_644
  let v1689 : BitVec 1 := Scalar.andi v1686 v1688
  let v1675 : BitVec 32 := Scalar.divsi v1672 c16_i32_639
  let c1_i32_645 : BitVec 32 := 1#32
  let v1690 : BitVec 32 := Scalar.subi v1675 c1_i32_645
  let v1691 : BitVec 32 := Scalar.select v1689 v1690 v1675
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1691 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t34
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1672 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off173 (v1674 : BitVec 32) (k0_t34 : Fin k0_t34_loop.trips) : Fin 2 → Nat :=
  let c0_i32_1453 : BitVec 32 := 0#32
  let c1_i32_1455 : BitVec 32 := 1#32
  let arg19 : BitVec 32 := Scf.iv c0_i32_1453 c1_i32_1455 k0_t34
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1674 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk67 (i : grid0.Coords) (v25 : BitVec 32) (v1672 : BitVec 32) (v1674 : BitVec 32) : Prop :=
  (∀ (k0_h34 : k0_cond34 i v25 v1672 = 1#1), ∀ a, (k0_off170 i v1674) a + S32x512.size a ≤ S12288x512.size a) ∧
  (∀ k0_t34 : Fin k0_t34_loop.trips, ∀ (k0_h34 : k0_cond34 i v25 v1672 = 1#1), ∀ a, (k0_off171 v1674 k0_t34) a + S1x16.size a ≤ S32x512.size a) ∧
  (∀ k0_t34 : Fin k0_t34_loop.trips, ∀ (k0_h34 : k0_cond34 i v25 v1672 = 1#1), ∀ a, (k0_off173 v1674 k0_t34) a + S1x16.size a ≤ S32x512.size a)
theorem k0_off170_inb : ∀ (i : grid0.Coords) (v25 : BitVec 32) (v1672 : BitVec 32) (v1674 : BitVec 32) (k0_hw67 : k0_chk67 i v25 v1672 v1674), ∀ (k0_h34 : k0_cond34 i v25 v1672 = 1#1), ∀ a, (k0_off170 i v1674) a + S32x512.size a ≤ S12288x512.size a := fun i v25 v1672 v1674 k0_hw67 k0_h34 => k0_hw67.1 k0_h34
theorem k0_off171_inb : ∀ (i : grid0.Coords) (v25 : BitVec 32) (v1672 : BitVec 32) (v1674 : BitVec 32) (k0_hw67 : k0_chk67 i v25 v1672 v1674) (k0_t34 : Fin k0_t34_loop.trips), ∀ (k0_h34 : k0_cond34 i v25 v1672 = 1#1), ∀ a, (k0_off171 v1674 k0_t34) a + S1x16.size a ≤ S32x512.size a := fun i v25 v1672 v1674 k0_hw67 k0_t34 k0_h34 => k0_hw67.2.1 k0_t34 k0_h34
theorem k0_off173_inb : ∀ (i : grid0.Coords) (v25 : BitVec 32) (v1672 : BitVec 32) (v1674 : BitVec 32) (k0_hw67 : k0_chk67 i v25 v1672 v1674) (k0_t34 : Fin k0_t34_loop.trips), ∀ (k0_h34 : k0_cond34 i v25 v1672 = 1#1), ∀ a, (k0_off173 v1674 k0_t34) a + S1x16.size a ≤ S32x512.size a := fun i v25 v1672 v1674 k0_hw67 k0_t34 k0_h34 => k0_hw67.2.2 k0_t34 k0_h34

def k0_off174 (v1672 : BitVec 32) (k0_t34 : Fin k0_t34_loop.trips) : Fin 2 → Nat :=
  let c0_i32_640 : BitVec 32 := 0#32
  let v1676 : BitVec 1 := Scalar.cmpi .sgt v1672 c0_i32_640
  let v1677 : BitVec 32 := Scalar.extui v1676
  let c0_i32_641 : BitVec 32 := 0#32
  let v1678 : BitVec 1 := Scalar.cmpi .slt v1672 c0_i32_641
  let v1679 : BitVec 32 := Scalar.extui v1678
  let v1680 : BitVec 32 := Scalar.subi v1677 v1679
  let c16_i32_639 : BitVec 32 := 16#32
  let c0_i32_642 : BitVec 32 := 0#32
  let v1681 : BitVec 1 := Scalar.cmpi .sgt c16_i32_639 c0_i32_642
  let v1682 : BitVec 32 := Scalar.extui v1681
  let c0_i32_643 : BitVec 32 := 0#32
  let v1683 : BitVec 1 := Scalar.cmpi .slt c16_i32_639 c0_i32_643
  let v1684 : BitVec 32 := Scalar.extui v1683
  let v1685 : BitVec 32 := Scalar.subi v1682 v1684
  let v1686 : BitVec 1 := Scalar.cmpi .ne v1680 v1685
  let v1687 : BitVec 32 := Scalar.remsi v1672 c16_i32_639
  let c0_i32_644 : BitVec 32 := 0#32
  let v1688 : BitVec 1 := Scalar.cmpi .ne v1687 c0_i32_644
  let v1689 : BitVec 1 := Scalar.andi v1686 v1688
  let v1675 : BitVec 32 := Scalar.divsi v1672 c16_i32_639
  let c1_i32_645 : BitVec 32 := 1#32
  let v1690 : BitVec 32 := Scalar.subi v1675 c1_i32_645
  let v1691 : BitVec 32 := Scalar.select v1689 v1690 v1675
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1691 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t34
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1672 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk68 (i : grid0.Coords) (v25 : BitVec 32) (v1672 : BitVec 32) : Prop :=
  (∀ k0_t34 : Fin k0_t34_loop.trips, ∀ (k0_h34 : k0_cond34 i v25 v1672 = 1#1), ∀ a, (k0_off172 v1672 k0_t34) a + S1x16.size a ≤ S128x512.size a) ∧
  (∀ k0_t34 : Fin k0_t34_loop.trips, ∀ (k0_h34 : k0_cond34 i v25 v1672 = 1#1), ∀ a, (k0_off174 v1672 k0_t34) a + S1x16.size a ≤ S128x512.size a)
theorem k0_off172_inb : ∀ (i : grid0.Coords) (v25 : BitVec 32) (v1672 : BitVec 32) (k0_hw68 : k0_chk68 i v25 v1672) (k0_t34 : Fin k0_t34_loop.trips), ∀ (k0_h34 : k0_cond34 i v25 v1672 = 1#1), ∀ a, (k0_off172 v1672 k0_t34) a + S1x16.size a ≤ S128x512.size a := fun i v25 v1672 k0_hw68 k0_t34 k0_h34 => k0_hw68.1 k0_t34 k0_h34
theorem k0_off174_inb : ∀ (i : grid0.Coords) (v25 : BitVec 32) (v1672 : BitVec 32) (k0_hw68 : k0_chk68 i v25 v1672) (k0_t34 : Fin k0_t34_loop.trips), ∀ (k0_h34 : k0_cond34 i v25 v1672 = 1#1), ∀ a, (k0_off174 v1672 k0_t34) a + S1x16.size a ≤ S128x512.size a := fun i v25 v1672 k0_hw68 k0_t34 k0_h34 => k0_hw68.2 k0_t34 k0_h34

def k0_off175 (i : grid0.Coords) (v1717 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1717 c0_i32_1428
  let v3763 : BitVec 32 := Scalar.extui v3762
  let c0_i32_1429 : BitVec 32 := 0#32
  let v3764 : BitVec 1 := Scalar.cmpi .slt v1717 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1717 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1717 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r42 : BitVec 32 := 0#32
  ![v3779.toNat, 0]
def k0_cond35 (i : grid0.Coords) (v25 : BitVec 32) (v1715 : BitVec 32) : BitVec 1 :=
  let c2_i32_662 : BitVec 32 := 2#32
  let v1735 : BitVec 1 := Scalar.cmpi .sgt v25 c2_i32_662
  let c0_i32_656 : BitVec 32 := 0#32
  let v1719 : BitVec 1 := Scalar.cmpi .sgt v1715 c0_i32_656
  let v1720 : BitVec 32 := Scalar.extui v1719
  let c0_i32_657 : BitVec 32 := 0#32
  let v1721 : BitVec 1 := Scalar.cmpi .slt v1715 c0_i32_657
  let v1722 : BitVec 32 := Scalar.extui v1721
  let v1723 : BitVec 32 := Scalar.subi v1720 v1722
  let c16_i32_655 : BitVec 32 := 16#32
  let c0_i32_658 : BitVec 32 := 0#32
  let v1724 : BitVec 1 := Scalar.cmpi .sgt c16_i32_655 c0_i32_658
  let v1725 : BitVec 32 := Scalar.extui v1724
  let c0_i32_659 : BitVec 32 := 0#32
  let v1726 : BitVec 1 := Scalar.cmpi .slt c16_i32_655 c0_i32_659
  let v1727 : BitVec 32 := Scalar.extui v1726
  let v1728 : BitVec 32 := Scalar.subi v1725 v1727
  let v1729 : BitVec 1 := Scalar.cmpi .ne v1723 v1728
  let v1730 : BitVec 32 := Scalar.remsi v1715 c16_i32_655
  let c0_i32_660 : BitVec 32 := 0#32
  let v1731 : BitVec 1 := Scalar.cmpi .ne v1730 c0_i32_660
  let v1732 : BitVec 1 := Scalar.andi v1729 v1731
  let v1718 : BitVec 32 := Scalar.divsi v1715 c16_i32_655
  let c1_i32_661 : BitVec 32 := 1#32
  let v1733 : BitVec 32 := Scalar.subi v1718 c1_i32_661
  let v1734 : BitVec 32 := Scalar.select v1732 v1733 v1718
  let c0_i32_664 : BitVec 32 := 0#32
  let v1737 : BitVec 1 := Scalar.cmpi .sgt v1734 c0_i32_664
  let v1738 : BitVec 32 := Scalar.extui v1737
  let c0_i32_665 : BitVec 32 := 0#32
  let v1739 : BitVec 1 := Scalar.cmpi .slt v1734 c0_i32_665
  let v1740 : BitVec 32 := Scalar.extui v1739
  let v1741 : BitVec 32 := Scalar.subi v1738 v1740
  let c4_i32_663 : BitVec 32 := 4#32
  let c0_i32_666 : BitVec 32 := 0#32
  let v1742 : BitVec 1 := Scalar.cmpi .sgt c4_i32_663 c0_i32_666
  let v1743 : BitVec 32 := Scalar.extui v1742
  let c0_i32_667 : BitVec 32 := 0#32
  let v1744 : BitVec 1 := Scalar.cmpi .slt c4_i32_663 c0_i32_667
  let v1745 : BitVec 32 := Scalar.extui v1744
  let v1746 : BitVec 32 := Scalar.subi v1743 v1745
  let v1747 : BitVec 1 := Scalar.cmpi .ne v1741 v1746
  let v1748 : BitVec 32 := Scalar.remsi v1734 c4_i32_663
  let c0_i32_668 : BitVec 32 := 0#32
  let v1749 : BitVec 1 := Scalar.cmpi .ne v1748 c0_i32_668
  let v1750 : BitVec 1 := Scalar.andi v1747 v1749
  let v1736 : BitVec 32 := Scalar.divsi v1734 c4_i32_663
  let c1_i32_669 : BitVec 32 := 1#32
  let v1751 : BitVec 32 := Scalar.subi v1736 c1_i32_669
  let v1752 : BitVec 32 := Scalar.select v1750 v1751 v1736
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1753 : BitVec 1 := Scalar.cmpi .eq v1752 v1627
  let v1754 : BitVec 1 := Scalar.andi v1735 v1753
  let v1755 : BitVec 32 := Scalar.extui v1754
  let c0_i32_670 : BitVec 32 := 0#32
  let v1756 : BitVec 1 := Scalar.cmpi .ne v1755 c0_i32_670
  v1756

@[reducible] def k0_t35_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off176 (v1717 : BitVec 32) (k0_t35 : Fin k0_t35_loop.trips) : Fin 2 → Nat :=
  let c0_i32_1453 : BitVec 32 := 0#32
  let c1_i32_1455 : BitVec 32 := 1#32
  let arg19 : BitVec 32 := Scf.iv c0_i32_1453 c1_i32_1455 k0_t35
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1717 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off177 (v1715 : BitVec 32) (k0_t35 : Fin k0_t35_loop.trips) : Fin 2 → Nat :=
  let c0_i32_656 : BitVec 32 := 0#32
  let v1719 : BitVec 1 := Scalar.cmpi .sgt v1715 c0_i32_656
  let v1720 : BitVec 32 := Scalar.extui v1719
  let c0_i32_657 : BitVec 32 := 0#32
  let v1721 : BitVec 1 := Scalar.cmpi .slt v1715 c0_i32_657
  let v1722 : BitVec 32 := Scalar.extui v1721
  let v1723 : BitVec 32 := Scalar.subi v1720 v1722
  let c16_i32_655 : BitVec 32 := 16#32
  let c0_i32_658 : BitVec 32 := 0#32
  let v1724 : BitVec 1 := Scalar.cmpi .sgt c16_i32_655 c0_i32_658
  let v1725 : BitVec 32 := Scalar.extui v1724
  let c0_i32_659 : BitVec 32 := 0#32
  let v1726 : BitVec 1 := Scalar.cmpi .slt c16_i32_655 c0_i32_659
  let v1727 : BitVec 32 := Scalar.extui v1726
  let v1728 : BitVec 32 := Scalar.subi v1725 v1727
  let v1729 : BitVec 1 := Scalar.cmpi .ne v1723 v1728
  let v1730 : BitVec 32 := Scalar.remsi v1715 c16_i32_655
  let c0_i32_660 : BitVec 32 := 0#32
  let v1731 : BitVec 1 := Scalar.cmpi .ne v1730 c0_i32_660
  let v1732 : BitVec 1 := Scalar.andi v1729 v1731
  let v1718 : BitVec 32 := Scalar.divsi v1715 c16_i32_655
  let c1_i32_661 : BitVec 32 := 1#32
  let v1733 : BitVec 32 := Scalar.subi v1718 c1_i32_661
  let v1734 : BitVec 32 := Scalar.select v1732 v1733 v1718
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1734 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t35
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1715 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off178 (v1717 : BitVec 32) (k0_t35 : Fin k0_t35_loop.trips) : Fin 2 → Nat :=
  let c0_i32_1453 : BitVec 32 := 0#32
  let c1_i32_1455 : BitVec 32 := 1#32
  let arg19 : BitVec 32 := Scf.iv c0_i32_1453 c1_i32_1455 k0_t35
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1717 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk69 (i : grid0.Coords) (v25 : BitVec 32) (v1715 : BitVec 32) (v1717 : BitVec 32) : Prop :=
  (∀ (k0_h35 : k0_cond35 i v25 v1715 = 1#1), ∀ a, (k0_off175 i v1717) a + S32x512.size a ≤ S12288x512.size a) ∧
  (∀ k0_t35 : Fin k0_t35_loop.trips, ∀ (k0_h35 : k0_cond35 i v25 v1715 = 1#1), ∀ a, (k0_off176 v1717 k0_t35) a + S1x16.size a ≤ S32x512.size a) ∧
  (∀ k0_t35 : Fin k0_t35_loop.trips, ∀ (k0_h35 : k0_cond35 i v25 v1715 = 1#1), ∀ a, (k0_off178 v1717 k0_t35) a + S1x16.size a ≤ S32x512.size a)
theorem k0_off175_inb : ∀ (i : grid0.Coords) (v25 : BitVec 32) (v1715 : BitVec 32) (v1717 : BitVec 32) (k0_hw69 : k0_chk69 i v25 v1715 v1717), ∀ (k0_h35 : k0_cond35 i v25 v1715 = 1#1), ∀ a, (k0_off175 i v1717) a + S32x512.size a ≤ S12288x512.size a := fun i v25 v1715 v1717 k0_hw69 k0_h35 => k0_hw69.1 k0_h35
theorem k0_off176_inb : ∀ (i : grid0.Coords) (v25 : BitVec 32) (v1715 : BitVec 32) (v1717 : BitVec 32) (k0_hw69 : k0_chk69 i v25 v1715 v1717) (k0_t35 : Fin k0_t35_loop.trips), ∀ (k0_h35 : k0_cond35 i v25 v1715 = 1#1), ∀ a, (k0_off176 v1717 k0_t35) a + S1x16.size a ≤ S32x512.size a := fun i v25 v1715 v1717 k0_hw69 k0_t35 k0_h35 => k0_hw69.2.1 k0_t35 k0_h35
theorem k0_off178_inb : ∀ (i : grid0.Coords) (v25 : BitVec 32) (v1715 : BitVec 32) (v1717 : BitVec 32) (k0_hw69 : k0_chk69 i v25 v1715 v1717) (k0_t35 : Fin k0_t35_loop.trips), ∀ (k0_h35 : k0_cond35 i v25 v1715 = 1#1), ∀ a, (k0_off178 v1717 k0_t35) a + S1x16.size a ≤ S32x512.size a := fun i v25 v1715 v1717 k0_hw69 k0_t35 k0_h35 => k0_hw69.2.2 k0_t35 k0_h35

def k0_off179 (v1715 : BitVec 32) (k0_t35 : Fin k0_t35_loop.trips) : Fin 2 → Nat :=
  let c0_i32_656 : BitVec 32 := 0#32
  let v1719 : BitVec 1 := Scalar.cmpi .sgt v1715 c0_i32_656
  let v1720 : BitVec 32 := Scalar.extui v1719
  let c0_i32_657 : BitVec 32 := 0#32
  let v1721 : BitVec 1 := Scalar.cmpi .slt v1715 c0_i32_657
  let v1722 : BitVec 32 := Scalar.extui v1721
  let v1723 : BitVec 32 := Scalar.subi v1720 v1722
  let c16_i32_655 : BitVec 32 := 16#32
  let c0_i32_658 : BitVec 32 := 0#32
  let v1724 : BitVec 1 := Scalar.cmpi .sgt c16_i32_655 c0_i32_658
  let v1725 : BitVec 32 := Scalar.extui v1724
  let c0_i32_659 : BitVec 32 := 0#32
  let v1726 : BitVec 1 := Scalar.cmpi .slt c16_i32_655 c0_i32_659
  let v1727 : BitVec 32 := Scalar.extui v1726
  let v1728 : BitVec 32 := Scalar.subi v1725 v1727
  let v1729 : BitVec 1 := Scalar.cmpi .ne v1723 v1728
  let v1730 : BitVec 32 := Scalar.remsi v1715 c16_i32_655
  let c0_i32_660 : BitVec 32 := 0#32
  let v1731 : BitVec 1 := Scalar.cmpi .ne v1730 c0_i32_660
  let v1732 : BitVec 1 := Scalar.andi v1729 v1731
  let v1718 : BitVec 32 := Scalar.divsi v1715 c16_i32_655
  let c1_i32_661 : BitVec 32 := 1#32
  let v1733 : BitVec 32 := Scalar.subi v1718 c1_i32_661
  let v1734 : BitVec 32 := Scalar.select v1732 v1733 v1718
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1734 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t35
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1715 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk70 (i : grid0.Coords) (v25 : BitVec 32) (v1715 : BitVec 32) : Prop :=
  (∀ k0_t35 : Fin k0_t35_loop.trips, ∀ (k0_h35 : k0_cond35 i v25 v1715 = 1#1), ∀ a, (k0_off177 v1715 k0_t35) a + S1x16.size a ≤ S128x512.size a) ∧
  (∀ k0_t35 : Fin k0_t35_loop.trips, ∀ (k0_h35 : k0_cond35 i v25 v1715 = 1#1), ∀ a, (k0_off179 v1715 k0_t35) a + S1x16.size a ≤ S128x512.size a)
theorem k0_off177_inb : ∀ (i : grid0.Coords) (v25 : BitVec 32) (v1715 : BitVec 32) (k0_hw70 : k0_chk70 i v25 v1715) (k0_t35 : Fin k0_t35_loop.trips), ∀ (k0_h35 : k0_cond35 i v25 v1715 = 1#1), ∀ a, (k0_off177 v1715 k0_t35) a + S1x16.size a ≤ S128x512.size a := fun i v25 v1715 k0_hw70 k0_t35 k0_h35 => k0_hw70.1 k0_t35 k0_h35
theorem k0_off179_inb : ∀ (i : grid0.Coords) (v25 : BitVec 32) (v1715 : BitVec 32) (k0_hw70 : k0_chk70 i v25 v1715) (k0_t35 : Fin k0_t35_loop.trips), ∀ (k0_h35 : k0_cond35 i v25 v1715 = 1#1), ∀ a, (k0_off179 v1715 k0_t35) a + S1x16.size a ≤ S128x512.size a := fun i v25 v1715 k0_hw70 k0_t35 k0_h35 => k0_hw70.2 k0_t35 k0_h35

def k0_off180 (i : grid0.Coords) (v1760 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1760 c0_i32_1428
  let v3763 : BitVec 32 := Scalar.extui v3762
  let c0_i32_1429 : BitVec 32 := 0#32
  let v3764 : BitVec 1 := Scalar.cmpi .slt v1760 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1760 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1760 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r43 : BitVec 32 := 0#32
  ![v3779.toNat, 0]
def k0_cond36 (i : grid0.Coords) (v25 : BitVec 32) (v1758 : BitVec 32) : BitVec 1 :=
  let c3_i32_678 : BitVec 32 := 3#32
  let v1778 : BitVec 1 := Scalar.cmpi .sgt v25 c3_i32_678
  let c0_i32_672 : BitVec 32 := 0#32
  let v1762 : BitVec 1 := Scalar.cmpi .sgt v1758 c0_i32_672
  let v1763 : BitVec 32 := Scalar.extui v1762
  let c0_i32_673 : BitVec 32 := 0#32
  let v1764 : BitVec 1 := Scalar.cmpi .slt v1758 c0_i32_673
  let v1765 : BitVec 32 := Scalar.extui v1764
  let v1766 : BitVec 32 := Scalar.subi v1763 v1765
  let c16_i32_671 : BitVec 32 := 16#32
  let c0_i32_674 : BitVec 32 := 0#32
  let v1767 : BitVec 1 := Scalar.cmpi .sgt c16_i32_671 c0_i32_674
  let v1768 : BitVec 32 := Scalar.extui v1767
  let c0_i32_675 : BitVec 32 := 0#32
  let v1769 : BitVec 1 := Scalar.cmpi .slt c16_i32_671 c0_i32_675
  let v1770 : BitVec 32 := Scalar.extui v1769
  let v1771 : BitVec 32 := Scalar.subi v1768 v1770
  let v1772 : BitVec 1 := Scalar.cmpi .ne v1766 v1771
  let v1773 : BitVec 32 := Scalar.remsi v1758 c16_i32_671
  let c0_i32_676 : BitVec 32 := 0#32
  let v1774 : BitVec 1 := Scalar.cmpi .ne v1773 c0_i32_676
  let v1775 : BitVec 1 := Scalar.andi v1772 v1774
  let v1761 : BitVec 32 := Scalar.divsi v1758 c16_i32_671
  let c1_i32_677 : BitVec 32 := 1#32
  let v1776 : BitVec 32 := Scalar.subi v1761 c1_i32_677
  let v1777 : BitVec 32 := Scalar.select v1775 v1776 v1761
  let c0_i32_680 : BitVec 32 := 0#32
  let v1780 : BitVec 1 := Scalar.cmpi .sgt v1777 c0_i32_680
  let v1781 : BitVec 32 := Scalar.extui v1780
  let c0_i32_681 : BitVec 32 := 0#32
  let v1782 : BitVec 1 := Scalar.cmpi .slt v1777 c0_i32_681
  let v1783 : BitVec 32 := Scalar.extui v1782
  let v1784 : BitVec 32 := Scalar.subi v1781 v1783
  let c4_i32_679 : BitVec 32 := 4#32
  let c0_i32_682 : BitVec 32 := 0#32
  let v1785 : BitVec 1 := Scalar.cmpi .sgt c4_i32_679 c0_i32_682
  let v1786 : BitVec 32 := Scalar.extui v1785
  let c0_i32_683 : BitVec 32 := 0#32
  let v1787 : BitVec 1 := Scalar.cmpi .slt c4_i32_679 c0_i32_683
  let v1788 : BitVec 32 := Scalar.extui v1787
  let v1789 : BitVec 32 := Scalar.subi v1786 v1788
  let v1790 : BitVec 1 := Scalar.cmpi .ne v1784 v1789
  let v1791 : BitVec 32 := Scalar.remsi v1777 c4_i32_679
  let c0_i32_684 : BitVec 32 := 0#32
  let v1792 : BitVec 1 := Scalar.cmpi .ne v1791 c0_i32_684
  let v1793 : BitVec 1 := Scalar.andi v1790 v1792
  let v1779 : BitVec 32 := Scalar.divsi v1777 c4_i32_679
  let c1_i32_685 : BitVec 32 := 1#32
  let v1794 : BitVec 32 := Scalar.subi v1779 c1_i32_685
  let v1795 : BitVec 32 := Scalar.select v1793 v1794 v1779
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1796 : BitVec 1 := Scalar.cmpi .eq v1795 v1627
  let v1797 : BitVec 1 := Scalar.andi v1778 v1796
  let v1798 : BitVec 32 := Scalar.extui v1797
  let c0_i32_686 : BitVec 32 := 0#32
  let v1799 : BitVec 1 := Scalar.cmpi .ne v1798 c0_i32_686
  v1799

@[reducible] def k0_t36_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off181 (v1760 : BitVec 32) (k0_t36 : Fin k0_t36_loop.trips) : Fin 2 → Nat :=
  let c0_i32_1453 : BitVec 32 := 0#32
  let c1_i32_1455 : BitVec 32 := 1#32
  let arg19 : BitVec 32 := Scf.iv c0_i32_1453 c1_i32_1455 k0_t36
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1760 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off182 (v1758 : BitVec 32) (k0_t36 : Fin k0_t36_loop.trips) : Fin 2 → Nat :=
  let c0_i32_672 : BitVec 32 := 0#32
  let v1762 : BitVec 1 := Scalar.cmpi .sgt v1758 c0_i32_672
  let v1763 : BitVec 32 := Scalar.extui v1762
  let c0_i32_673 : BitVec 32 := 0#32
  let v1764 : BitVec 1 := Scalar.cmpi .slt v1758 c0_i32_673
  let v1765 : BitVec 32 := Scalar.extui v1764
  let v1766 : BitVec 32 := Scalar.subi v1763 v1765
  let c16_i32_671 : BitVec 32 := 16#32
  let c0_i32_674 : BitVec 32 := 0#32
  let v1767 : BitVec 1 := Scalar.cmpi .sgt c16_i32_671 c0_i32_674
  let v1768 : BitVec 32 := Scalar.extui v1767
  let c0_i32_675 : BitVec 32 := 0#32
  let v1769 : BitVec 1 := Scalar.cmpi .slt c16_i32_671 c0_i32_675
  let v1770 : BitVec 32 := Scalar.extui v1769
  let v1771 : BitVec 32 := Scalar.subi v1768 v1770
  let v1772 : BitVec 1 := Scalar.cmpi .ne v1766 v1771
  let v1773 : BitVec 32 := Scalar.remsi v1758 c16_i32_671
  let c0_i32_676 : BitVec 32 := 0#32
  let v1774 : BitVec 1 := Scalar.cmpi .ne v1773 c0_i32_676
  let v1775 : BitVec 1 := Scalar.andi v1772 v1774
  let v1761 : BitVec 32 := Scalar.divsi v1758 c16_i32_671
  let c1_i32_677 : BitVec 32 := 1#32
  let v1776 : BitVec 32 := Scalar.subi v1761 c1_i32_677
  let v1777 : BitVec 32 := Scalar.select v1775 v1776 v1761
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1777 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t36
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1758 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off183 (v1760 : BitVec 32) (k0_t36 : Fin k0_t36_loop.trips) : Fin 2 → Nat :=
  let c0_i32_1453 : BitVec 32 := 0#32
  let c1_i32_1455 : BitVec 32 := 1#32
  let arg19 : BitVec 32 := Scf.iv c0_i32_1453 c1_i32_1455 k0_t36
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1760 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk71 (i : grid0.Coords) (v25 : BitVec 32) (v1758 : BitVec 32) (v1760 : BitVec 32) : Prop :=
  (∀ (k0_h36 : k0_cond36 i v25 v1758 = 1#1), ∀ a, (k0_off180 i v1760) a + S32x512.size a ≤ S12288x512.size a) ∧
  (∀ k0_t36 : Fin k0_t36_loop.trips, ∀ (k0_h36 : k0_cond36 i v25 v1758 = 1#1), ∀ a, (k0_off181 v1760 k0_t36) a + S1x16.size a ≤ S32x512.size a) ∧
  (∀ k0_t36 : Fin k0_t36_loop.trips, ∀ (k0_h36 : k0_cond36 i v25 v1758 = 1#1), ∀ a, (k0_off183 v1760 k0_t36) a + S1x16.size a ≤ S32x512.size a)
theorem k0_off180_inb : ∀ (i : grid0.Coords) (v25 : BitVec 32) (v1758 : BitVec 32) (v1760 : BitVec 32) (k0_hw71 : k0_chk71 i v25 v1758 v1760), ∀ (k0_h36 : k0_cond36 i v25 v1758 = 1#1), ∀ a, (k0_off180 i v1760) a + S32x512.size a ≤ S12288x512.size a := fun i v25 v1758 v1760 k0_hw71 k0_h36 => k0_hw71.1 k0_h36
theorem k0_off181_inb : ∀ (i : grid0.Coords) (v25 : BitVec 32) (v1758 : BitVec 32) (v1760 : BitVec 32) (k0_hw71 : k0_chk71 i v25 v1758 v1760) (k0_t36 : Fin k0_t36_loop.trips), ∀ (k0_h36 : k0_cond36 i v25 v1758 = 1#1), ∀ a, (k0_off181 v1760 k0_t36) a + S1x16.size a ≤ S32x512.size a := fun i v25 v1758 v1760 k0_hw71 k0_t36 k0_h36 => k0_hw71.2.1 k0_t36 k0_h36
theorem k0_off183_inb : ∀ (i : grid0.Coords) (v25 : BitVec 32) (v1758 : BitVec 32) (v1760 : BitVec 32) (k0_hw71 : k0_chk71 i v25 v1758 v1760) (k0_t36 : Fin k0_t36_loop.trips), ∀ (k0_h36 : k0_cond36 i v25 v1758 = 1#1), ∀ a, (k0_off183 v1760 k0_t36) a + S1x16.size a ≤ S32x512.size a := fun i v25 v1758 v1760 k0_hw71 k0_t36 k0_h36 => k0_hw71.2.2 k0_t36 k0_h36

def k0_off184 (v1758 : BitVec 32) (k0_t36 : Fin k0_t36_loop.trips) : Fin 2 → Nat :=
  let c0_i32_672 : BitVec 32 := 0#32
  let v1762 : BitVec 1 := Scalar.cmpi .sgt v1758 c0_i32_672
  let v1763 : BitVec 32 := Scalar.extui v1762
  let c0_i32_673 : BitVec 32 := 0#32
  let v1764 : BitVec 1 := Scalar.cmpi .slt v1758 c0_i32_673
  let v1765 : BitVec 32 := Scalar.extui v1764
  let v1766 : BitVec 32 := Scalar.subi v1763 v1765
  let c16_i32_671 : BitVec 32 := 16#32
  let c0_i32_674 : BitVec 32 := 0#32
  let v1767 : BitVec 1 := Scalar.cmpi .sgt c16_i32_671 c0_i32_674
  let v1768 : BitVec 32 := Scalar.extui v1767
  let c0_i32_675 : BitVec 32 := 0#32
  let v1769 : BitVec 1 := Scalar.cmpi .slt c16_i32_671 c0_i32_675
  let v1770 : BitVec 32 := Scalar.extui v1769
  let v1771 : BitVec 32 := Scalar.subi v1768 v1770
  let v1772 : BitVec 1 := Scalar.cmpi .ne v1766 v1771
  let v1773 : BitVec 32 := Scalar.remsi v1758 c16_i32_671
  let c0_i32_676 : BitVec 32 := 0#32
  let v1774 : BitVec 1 := Scalar.cmpi .ne v1773 c0_i32_676
  let v1775 : BitVec 1 := Scalar.andi v1772 v1774
  let v1761 : BitVec 32 := Scalar.divsi v1758 c16_i32_671
  let c1_i32_677 : BitVec 32 := 1#32
  let v1776 : BitVec 32 := Scalar.subi v1761 c1_i32_677
  let v1777 : BitVec 32 := Scalar.select v1775 v1776 v1761
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1777 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t36
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1758 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk72 (i : grid0.Coords) (v25 : BitVec 32) (v1758 : BitVec 32) : Prop :=
  (∀ k0_t36 : Fin k0_t36_loop.trips, ∀ (k0_h36 : k0_cond36 i v25 v1758 = 1#1), ∀ a, (k0_off182 v1758 k0_t36) a + S1x16.size a ≤ S128x512.size a) ∧
  (∀ k0_t36 : Fin k0_t36_loop.trips, ∀ (k0_h36 : k0_cond36 i v25 v1758 = 1#1), ∀ a, (k0_off184 v1758 k0_t36) a + S1x16.size a ≤ S128x512.size a)
theorem k0_off182_inb : ∀ (i : grid0.Coords) (v25 : BitVec 32) (v1758 : BitVec 32) (k0_hw72 : k0_chk72 i v25 v1758) (k0_t36 : Fin k0_t36_loop.trips), ∀ (k0_h36 : k0_cond36 i v25 v1758 = 1#1), ∀ a, (k0_off182 v1758 k0_t36) a + S1x16.size a ≤ S128x512.size a := fun i v25 v1758 k0_hw72 k0_t36 k0_h36 => k0_hw72.1 k0_t36 k0_h36
theorem k0_off184_inb : ∀ (i : grid0.Coords) (v25 : BitVec 32) (v1758 : BitVec 32) (k0_hw72 : k0_chk72 i v25 v1758) (k0_t36 : Fin k0_t36_loop.trips), ∀ (k0_h36 : k0_cond36 i v25 v1758 = 1#1), ∀ a, (k0_off184 v1758 k0_t36) a + S1x16.size a ≤ S128x512.size a := fun i v25 v1758 k0_hw72 k0_t36 k0_h36 => k0_hw72.2 k0_t36 k0_h36

def k0_off185 (i : grid0.Coords) (v1803 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1803 c0_i32_1428
  let v3763 : BitVec 32 := Scalar.extui v3762
  let c0_i32_1429 : BitVec 32 := 0#32
  let v3764 : BitVec 1 := Scalar.cmpi .slt v1803 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1803 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1803 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r44 : BitVec 32 := 0#32
  ![v3779.toNat, 0]
def k0_cond37 (i : grid0.Coords) (v25 : BitVec 32) (v1801 : BitVec 32) : BitVec 1 :=
  let c4_i32_694 : BitVec 32 := 4#32
  let v1821 : BitVec 1 := Scalar.cmpi .sgt v25 c4_i32_694
  let c0_i32_688 : BitVec 32 := 0#32
  let v1805 : BitVec 1 := Scalar.cmpi .sgt v1801 c0_i32_688
  let v1806 : BitVec 32 := Scalar.extui v1805
  let c0_i32_689 : BitVec 32 := 0#32
  let v1807 : BitVec 1 := Scalar.cmpi .slt v1801 c0_i32_689
  let v1808 : BitVec 32 := Scalar.extui v1807
  let v1809 : BitVec 32 := Scalar.subi v1806 v1808
  let c16_i32_687 : BitVec 32 := 16#32
  let c0_i32_690 : BitVec 32 := 0#32
  let v1810 : BitVec 1 := Scalar.cmpi .sgt c16_i32_687 c0_i32_690
  let v1811 : BitVec 32 := Scalar.extui v1810
  let c0_i32_691 : BitVec 32 := 0#32
  let v1812 : BitVec 1 := Scalar.cmpi .slt c16_i32_687 c0_i32_691
  let v1813 : BitVec 32 := Scalar.extui v1812
  let v1814 : BitVec 32 := Scalar.subi v1811 v1813
  let v1815 : BitVec 1 := Scalar.cmpi .ne v1809 v1814
  let v1816 : BitVec 32 := Scalar.remsi v1801 c16_i32_687
  let c0_i32_692 : BitVec 32 := 0#32
  let v1817 : BitVec 1 := Scalar.cmpi .ne v1816 c0_i32_692
  let v1818 : BitVec 1 := Scalar.andi v1815 v1817
  let v1804 : BitVec 32 := Scalar.divsi v1801 c16_i32_687
  let c1_i32_693 : BitVec 32 := 1#32
  let v1819 : BitVec 32 := Scalar.subi v1804 c1_i32_693
  let v1820 : BitVec 32 := Scalar.select v1818 v1819 v1804
  let c0_i32_696 : BitVec 32 := 0#32
  let v1823 : BitVec 1 := Scalar.cmpi .sgt v1820 c0_i32_696
  let v1824 : BitVec 32 := Scalar.extui v1823
  let c0_i32_697 : BitVec 32 := 0#32
  let v1825 : BitVec 1 := Scalar.cmpi .slt v1820 c0_i32_697
  let v1826 : BitVec 32 := Scalar.extui v1825
  let v1827 : BitVec 32 := Scalar.subi v1824 v1826
  let c4_i32_695 : BitVec 32 := 4#32
  let c0_i32_698 : BitVec 32 := 0#32
  let v1828 : BitVec 1 := Scalar.cmpi .sgt c4_i32_695 c0_i32_698
  let v1829 : BitVec 32 := Scalar.extui v1828
  let c0_i32_699 : BitVec 32 := 0#32
  let v1830 : BitVec 1 := Scalar.cmpi .slt c4_i32_695 c0_i32_699
  let v1831 : BitVec 32 := Scalar.extui v1830
  let v1832 : BitVec 32 := Scalar.subi v1829 v1831
  let v1833 : BitVec 1 := Scalar.cmpi .ne v1827 v1832
  let v1834 : BitVec 32 := Scalar.remsi v1820 c4_i32_695
  let c0_i32_700 : BitVec 32 := 0#32
  let v1835 : BitVec 1 := Scalar.cmpi .ne v1834 c0_i32_700
  let v1836 : BitVec 1 := Scalar.andi v1833 v1835
  let v1822 : BitVec 32 := Scalar.divsi v1820 c4_i32_695
  let c1_i32_701 : BitVec 32 := 1#32
  let v1837 : BitVec 32 := Scalar.subi v1822 c1_i32_701
  let v1838 : BitVec 32 := Scalar.select v1836 v1837 v1822
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1839 : BitVec 1 := Scalar.cmpi .eq v1838 v1627
  let v1840 : BitVec 1 := Scalar.andi v1821 v1839
  let v1841 : BitVec 32 := Scalar.extui v1840
  let c0_i32_702 : BitVec 32 := 0#32
  let v1842 : BitVec 1 := Scalar.cmpi .ne v1841 c0_i32_702
  v1842

@[reducible] def k0_t37_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off186 (v1803 : BitVec 32) (k0_t37 : Fin k0_t37_loop.trips) : Fin 2 → Nat :=
  let c0_i32_1453 : BitVec 32 := 0#32
  let c1_i32_1455 : BitVec 32 := 1#32
  let arg19 : BitVec 32 := Scf.iv c0_i32_1453 c1_i32_1455 k0_t37
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1803 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off187 (v1801 : BitVec 32) (k0_t37 : Fin k0_t37_loop.trips) : Fin 2 → Nat :=
  let c0_i32_688 : BitVec 32 := 0#32
  let v1805 : BitVec 1 := Scalar.cmpi .sgt v1801 c0_i32_688
  let v1806 : BitVec 32 := Scalar.extui v1805
  let c0_i32_689 : BitVec 32 := 0#32
  let v1807 : BitVec 1 := Scalar.cmpi .slt v1801 c0_i32_689
  let v1808 : BitVec 32 := Scalar.extui v1807
  let v1809 : BitVec 32 := Scalar.subi v1806 v1808
  let c16_i32_687 : BitVec 32 := 16#32
  let c0_i32_690 : BitVec 32 := 0#32
  let v1810 : BitVec 1 := Scalar.cmpi .sgt c16_i32_687 c0_i32_690
  let v1811 : BitVec 32 := Scalar.extui v1810
  let c0_i32_691 : BitVec 32 := 0#32
  let v1812 : BitVec 1 := Scalar.cmpi .slt c16_i32_687 c0_i32_691
  let v1813 : BitVec 32 := Scalar.extui v1812
  let v1814 : BitVec 32 := Scalar.subi v1811 v1813
  let v1815 : BitVec 1 := Scalar.cmpi .ne v1809 v1814
  let v1816 : BitVec 32 := Scalar.remsi v1801 c16_i32_687
  let c0_i32_692 : BitVec 32 := 0#32
  let v1817 : BitVec 1 := Scalar.cmpi .ne v1816 c0_i32_692
  let v1818 : BitVec 1 := Scalar.andi v1815 v1817
  let v1804 : BitVec 32 := Scalar.divsi v1801 c16_i32_687
  let c1_i32_693 : BitVec 32 := 1#32
  let v1819 : BitVec 32 := Scalar.subi v1804 c1_i32_693
  let v1820 : BitVec 32 := Scalar.select v1818 v1819 v1804
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1820 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t37
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1801 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off188 (v1803 : BitVec 32) (k0_t37 : Fin k0_t37_loop.trips) : Fin 2 → Nat :=
  let c0_i32_1453 : BitVec 32 := 0#32
  let c1_i32_1455 : BitVec 32 := 1#32
  let arg19 : BitVec 32 := Scf.iv c0_i32_1453 c1_i32_1455 k0_t37
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1803 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk73 (i : grid0.Coords) (v25 : BitVec 32) (v1801 : BitVec 32) (v1803 : BitVec 32) : Prop :=
  (∀ (k0_h37 : k0_cond37 i v25 v1801 = 1#1), ∀ a, (k0_off185 i v1803) a + S32x512.size a ≤ S12288x512.size a) ∧
  (∀ k0_t37 : Fin k0_t37_loop.trips, ∀ (k0_h37 : k0_cond37 i v25 v1801 = 1#1), ∀ a, (k0_off186 v1803 k0_t37) a + S1x16.size a ≤ S32x512.size a) ∧
  (∀ k0_t37 : Fin k0_t37_loop.trips, ∀ (k0_h37 : k0_cond37 i v25 v1801 = 1#1), ∀ a, (k0_off188 v1803 k0_t37) a + S1x16.size a ≤ S32x512.size a)
theorem k0_off185_inb : ∀ (i : grid0.Coords) (v25 : BitVec 32) (v1801 : BitVec 32) (v1803 : BitVec 32) (k0_hw73 : k0_chk73 i v25 v1801 v1803), ∀ (k0_h37 : k0_cond37 i v25 v1801 = 1#1), ∀ a, (k0_off185 i v1803) a + S32x512.size a ≤ S12288x512.size a := fun i v25 v1801 v1803 k0_hw73 k0_h37 => k0_hw73.1 k0_h37
theorem k0_off186_inb : ∀ (i : grid0.Coords) (v25 : BitVec 32) (v1801 : BitVec 32) (v1803 : BitVec 32) (k0_hw73 : k0_chk73 i v25 v1801 v1803) (k0_t37 : Fin k0_t37_loop.trips), ∀ (k0_h37 : k0_cond37 i v25 v1801 = 1#1), ∀ a, (k0_off186 v1803 k0_t37) a + S1x16.size a ≤ S32x512.size a := fun i v25 v1801 v1803 k0_hw73 k0_t37 k0_h37 => k0_hw73.2.1 k0_t37 k0_h37
theorem k0_off188_inb : ∀ (i : grid0.Coords) (v25 : BitVec 32) (v1801 : BitVec 32) (v1803 : BitVec 32) (k0_hw73 : k0_chk73 i v25 v1801 v1803) (k0_t37 : Fin k0_t37_loop.trips), ∀ (k0_h37 : k0_cond37 i v25 v1801 = 1#1), ∀ a, (k0_off188 v1803 k0_t37) a + S1x16.size a ≤ S32x512.size a := fun i v25 v1801 v1803 k0_hw73 k0_t37 k0_h37 => k0_hw73.2.2 k0_t37 k0_h37

def k0_off189 (v1801 : BitVec 32) (k0_t37 : Fin k0_t37_loop.trips) : Fin 2 → Nat :=
  let c0_i32_688 : BitVec 32 := 0#32
  let v1805 : BitVec 1 := Scalar.cmpi .sgt v1801 c0_i32_688
  let v1806 : BitVec 32 := Scalar.extui v1805
  let c0_i32_689 : BitVec 32 := 0#32
  let v1807 : BitVec 1 := Scalar.cmpi .slt v1801 c0_i32_689
  let v1808 : BitVec 32 := Scalar.extui v1807
  let v1809 : BitVec 32 := Scalar.subi v1806 v1808
  let c16_i32_687 : BitVec 32 := 16#32
  let c0_i32_690 : BitVec 32 := 0#32
  let v1810 : BitVec 1 := Scalar.cmpi .sgt c16_i32_687 c0_i32_690
  let v1811 : BitVec 32 := Scalar.extui v1810
  let c0_i32_691 : BitVec 32 := 0#32
  let v1812 : BitVec 1 := Scalar.cmpi .slt c16_i32_687 c0_i32_691
  let v1813 : BitVec 32 := Scalar.extui v1812
  let v1814 : BitVec 32 := Scalar.subi v1811 v1813
  let v1815 : BitVec 1 := Scalar.cmpi .ne v1809 v1814
  let v1816 : BitVec 32 := Scalar.remsi v1801 c16_i32_687
  let c0_i32_692 : BitVec 32 := 0#32
  let v1817 : BitVec 1 := Scalar.cmpi .ne v1816 c0_i32_692
  let v1818 : BitVec 1 := Scalar.andi v1815 v1817
  let v1804 : BitVec 32 := Scalar.divsi v1801 c16_i32_687
  let c1_i32_693 : BitVec 32 := 1#32
  let v1819 : BitVec 32 := Scalar.subi v1804 c1_i32_693
  let v1820 : BitVec 32 := Scalar.select v1818 v1819 v1804
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1820 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t37
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1801 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk74 (i : grid0.Coords) (v25 : BitVec 32) (v1801 : BitVec 32) : Prop :=
  (∀ k0_t37 : Fin k0_t37_loop.trips, ∀ (k0_h37 : k0_cond37 i v25 v1801 = 1#1), ∀ a, (k0_off187 v1801 k0_t37) a + S1x16.size a ≤ S128x512.size a) ∧
  (∀ k0_t37 : Fin k0_t37_loop.trips, ∀ (k0_h37 : k0_cond37 i v25 v1801 = 1#1), ∀ a, (k0_off189 v1801 k0_t37) a + S1x16.size a ≤ S128x512.size a)
theorem k0_off187_inb : ∀ (i : grid0.Coords) (v25 : BitVec 32) (v1801 : BitVec 32) (k0_hw74 : k0_chk74 i v25 v1801) (k0_t37 : Fin k0_t37_loop.trips), ∀ (k0_h37 : k0_cond37 i v25 v1801 = 1#1), ∀ a, (k0_off187 v1801 k0_t37) a + S1x16.size a ≤ S128x512.size a := fun i v25 v1801 k0_hw74 k0_t37 k0_h37 => k0_hw74.1 k0_t37 k0_h37
theorem k0_off189_inb : ∀ (i : grid0.Coords) (v25 : BitVec 32) (v1801 : BitVec 32) (k0_hw74 : k0_chk74 i v25 v1801) (k0_t37 : Fin k0_t37_loop.trips), ∀ (k0_h37 : k0_cond37 i v25 v1801 = 1#1), ∀ a, (k0_off189 v1801 k0_t37) a + S1x16.size a ≤ S128x512.size a := fun i v25 v1801 k0_hw74 k0_t37 k0_h37 => k0_hw74.2 k0_t37 k0_h37

def k0_off190 (i : grid0.Coords) (v1846 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1846 c0_i32_1428
  let v3763 : BitVec 32 := Scalar.extui v3762
  let c0_i32_1429 : BitVec 32 := 0#32
  let v3764 : BitVec 1 := Scalar.cmpi .slt v1846 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1846 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1846 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r45 : BitVec 32 := 0#32
  ![v3779.toNat, 0]
def k0_cond38 (i : grid0.Coords) (v25 : BitVec 32) (v1844 : BitVec 32) : BitVec 1 :=
  let c5_i32_710 : BitVec 32 := 5#32
  let v1864 : BitVec 1 := Scalar.cmpi .sgt v25 c5_i32_710
  let c0_i32_704 : BitVec 32 := 0#32
  let v1848 : BitVec 1 := Scalar.cmpi .sgt v1844 c0_i32_704
  let v1849 : BitVec 32 := Scalar.extui v1848
  let c0_i32_705 : BitVec 32 := 0#32
  let v1850 : BitVec 1 := Scalar.cmpi .slt v1844 c0_i32_705
  let v1851 : BitVec 32 := Scalar.extui v1850
  let v1852 : BitVec 32 := Scalar.subi v1849 v1851
  let c16_i32_703 : BitVec 32 := 16#32
  let c0_i32_706 : BitVec 32 := 0#32
  let v1853 : BitVec 1 := Scalar.cmpi .sgt c16_i32_703 c0_i32_706
  let v1854 : BitVec 32 := Scalar.extui v1853
  let c0_i32_707 : BitVec 32 := 0#32
  let v1855 : BitVec 1 := Scalar.cmpi .slt c16_i32_703 c0_i32_707
  let v1856 : BitVec 32 := Scalar.extui v1855
  let v1857 : BitVec 32 := Scalar.subi v1854 v1856
  let v1858 : BitVec 1 := Scalar.cmpi .ne v1852 v1857
  let v1859 : BitVec 32 := Scalar.remsi v1844 c16_i32_703
  let c0_i32_708 : BitVec 32 := 0#32
  let v1860 : BitVec 1 := Scalar.cmpi .ne v1859 c0_i32_708
  let v1861 : BitVec 1 := Scalar.andi v1858 v1860
  let v1847 : BitVec 32 := Scalar.divsi v1844 c16_i32_703
  let c1_i32_709 : BitVec 32 := 1#32
  let v1862 : BitVec 32 := Scalar.subi v1847 c1_i32_709
  let v1863 : BitVec 32 := Scalar.select v1861 v1862 v1847
  let c0_i32_712 : BitVec 32 := 0#32
  let v1866 : BitVec 1 := Scalar.cmpi .sgt v1863 c0_i32_712
  let v1867 : BitVec 32 := Scalar.extui v1866
  let c0_i32_713 : BitVec 32 := 0#32
  let v1868 : BitVec 1 := Scalar.cmpi .slt v1863 c0_i32_713
  let v1869 : BitVec 32 := Scalar.extui v1868
  let v1870 : BitVec 32 := Scalar.subi v1867 v1869
  let c4_i32_711 : BitVec 32 := 4#32
  let c0_i32_714 : BitVec 32 := 0#32
  let v1871 : BitVec 1 := Scalar.cmpi .sgt c4_i32_711 c0_i32_714
  let v1872 : BitVec 32 := Scalar.extui v1871
  let c0_i32_715 : BitVec 32 := 0#32
  let v1873 : BitVec 1 := Scalar.cmpi .slt c4_i32_711 c0_i32_715
  let v1874 : BitVec 32 := Scalar.extui v1873
  let v1875 : BitVec 32 := Scalar.subi v1872 v1874
  let v1876 : BitVec 1 := Scalar.cmpi .ne v1870 v1875
  let v1877 : BitVec 32 := Scalar.remsi v1863 c4_i32_711
  let c0_i32_716 : BitVec 32 := 0#32
  let v1878 : BitVec 1 := Scalar.cmpi .ne v1877 c0_i32_716
  let v1879 : BitVec 1 := Scalar.andi v1876 v1878
  let v1865 : BitVec 32 := Scalar.divsi v1863 c4_i32_711
  let c1_i32_717 : BitVec 32 := 1#32
  let v1880 : BitVec 32 := Scalar.subi v1865 c1_i32_717
  let v1881 : BitVec 32 := Scalar.select v1879 v1880 v1865
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1882 : BitVec 1 := Scalar.cmpi .eq v1881 v1627
  let v1883 : BitVec 1 := Scalar.andi v1864 v1882
  let v1884 : BitVec 32 := Scalar.extui v1883
  let c0_i32_718 : BitVec 32 := 0#32
  let v1885 : BitVec 1 := Scalar.cmpi .ne v1884 c0_i32_718
  v1885

@[reducible] def k0_t38_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off191 (v1846 : BitVec 32) (k0_t38 : Fin k0_t38_loop.trips) : Fin 2 → Nat :=
  let c0_i32_1453 : BitVec 32 := 0#32
  let c1_i32_1455 : BitVec 32 := 1#32
  let arg19 : BitVec 32 := Scf.iv c0_i32_1453 c1_i32_1455 k0_t38
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1846 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off192 (v1844 : BitVec 32) (k0_t38 : Fin k0_t38_loop.trips) : Fin 2 → Nat :=
  let c0_i32_704 : BitVec 32 := 0#32
  let v1848 : BitVec 1 := Scalar.cmpi .sgt v1844 c0_i32_704
  let v1849 : BitVec 32 := Scalar.extui v1848
  let c0_i32_705 : BitVec 32 := 0#32
  let v1850 : BitVec 1 := Scalar.cmpi .slt v1844 c0_i32_705
  let v1851 : BitVec 32 := Scalar.extui v1850
  let v1852 : BitVec 32 := Scalar.subi v1849 v1851
  let c16_i32_703 : BitVec 32 := 16#32
  let c0_i32_706 : BitVec 32 := 0#32
  let v1853 : BitVec 1 := Scalar.cmpi .sgt c16_i32_703 c0_i32_706
  let v1854 : BitVec 32 := Scalar.extui v1853
  let c0_i32_707 : BitVec 32 := 0#32
  let v1855 : BitVec 1 := Scalar.cmpi .slt c16_i32_703 c0_i32_707
  let v1856 : BitVec 32 := Scalar.extui v1855
  let v1857 : BitVec 32 := Scalar.subi v1854 v1856
  let v1858 : BitVec 1 := Scalar.cmpi .ne v1852 v1857
  let v1859 : BitVec 32 := Scalar.remsi v1844 c16_i32_703
  let c0_i32_708 : BitVec 32 := 0#32
  let v1860 : BitVec 1 := Scalar.cmpi .ne v1859 c0_i32_708
  let v1861 : BitVec 1 := Scalar.andi v1858 v1860
  let v1847 : BitVec 32 := Scalar.divsi v1844 c16_i32_703
  let c1_i32_709 : BitVec 32 := 1#32
  let v1862 : BitVec 32 := Scalar.subi v1847 c1_i32_709
  let v1863 : BitVec 32 := Scalar.select v1861 v1862 v1847
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1863 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t38
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1844 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off193 (v1846 : BitVec 32) (k0_t38 : Fin k0_t38_loop.trips) : Fin 2 → Nat :=
  let c0_i32_1453 : BitVec 32 := 0#32
  let c1_i32_1455 : BitVec 32 := 1#32
  let arg19 : BitVec 32 := Scf.iv c0_i32_1453 c1_i32_1455 k0_t38
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1846 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk75 (i : grid0.Coords) (v25 : BitVec 32) (v1844 : BitVec 32) (v1846 : BitVec 32) : Prop :=
  (∀ (k0_h38 : k0_cond38 i v25 v1844 = 1#1), ∀ a, (k0_off190 i v1846) a + S32x512.size a ≤ S12288x512.size a) ∧
  (∀ k0_t38 : Fin k0_t38_loop.trips, ∀ (k0_h38 : k0_cond38 i v25 v1844 = 1#1), ∀ a, (k0_off191 v1846 k0_t38) a + S1x16.size a ≤ S32x512.size a) ∧
  (∀ k0_t38 : Fin k0_t38_loop.trips, ∀ (k0_h38 : k0_cond38 i v25 v1844 = 1#1), ∀ a, (k0_off193 v1846 k0_t38) a + S1x16.size a ≤ S32x512.size a)
theorem k0_off190_inb : ∀ (i : grid0.Coords) (v25 : BitVec 32) (v1844 : BitVec 32) (v1846 : BitVec 32) (k0_hw75 : k0_chk75 i v25 v1844 v1846), ∀ (k0_h38 : k0_cond38 i v25 v1844 = 1#1), ∀ a, (k0_off190 i v1846) a + S32x512.size a ≤ S12288x512.size a := fun i v25 v1844 v1846 k0_hw75 k0_h38 => k0_hw75.1 k0_h38
theorem k0_off191_inb : ∀ (i : grid0.Coords) (v25 : BitVec 32) (v1844 : BitVec 32) (v1846 : BitVec 32) (k0_hw75 : k0_chk75 i v25 v1844 v1846) (k0_t38 : Fin k0_t38_loop.trips), ∀ (k0_h38 : k0_cond38 i v25 v1844 = 1#1), ∀ a, (k0_off191 v1846 k0_t38) a + S1x16.size a ≤ S32x512.size a := fun i v25 v1844 v1846 k0_hw75 k0_t38 k0_h38 => k0_hw75.2.1 k0_t38 k0_h38
theorem k0_off193_inb : ∀ (i : grid0.Coords) (v25 : BitVec 32) (v1844 : BitVec 32) (v1846 : BitVec 32) (k0_hw75 : k0_chk75 i v25 v1844 v1846) (k0_t38 : Fin k0_t38_loop.trips), ∀ (k0_h38 : k0_cond38 i v25 v1844 = 1#1), ∀ a, (k0_off193 v1846 k0_t38) a + S1x16.size a ≤ S32x512.size a := fun i v25 v1844 v1846 k0_hw75 k0_t38 k0_h38 => k0_hw75.2.2 k0_t38 k0_h38

def k0_off194 (v1844 : BitVec 32) (k0_t38 : Fin k0_t38_loop.trips) : Fin 2 → Nat :=
  let c0_i32_704 : BitVec 32 := 0#32
  let v1848 : BitVec 1 := Scalar.cmpi .sgt v1844 c0_i32_704
  let v1849 : BitVec 32 := Scalar.extui v1848
  let c0_i32_705 : BitVec 32 := 0#32
  let v1850 : BitVec 1 := Scalar.cmpi .slt v1844 c0_i32_705
  let v1851 : BitVec 32 := Scalar.extui v1850
  let v1852 : BitVec 32 := Scalar.subi v1849 v1851
  let c16_i32_703 : BitVec 32 := 16#32
  let c0_i32_706 : BitVec 32 := 0#32
  let v1853 : BitVec 1 := Scalar.cmpi .sgt c16_i32_703 c0_i32_706
  let v1854 : BitVec 32 := Scalar.extui v1853
  let c0_i32_707 : BitVec 32 := 0#32
  let v1855 : BitVec 1 := Scalar.cmpi .slt c16_i32_703 c0_i32_707
  let v1856 : BitVec 32 := Scalar.extui v1855
  let v1857 : BitVec 32 := Scalar.subi v1854 v1856
  let v1858 : BitVec 1 := Scalar.cmpi .ne v1852 v1857
  let v1859 : BitVec 32 := Scalar.remsi v1844 c16_i32_703
  let c0_i32_708 : BitVec 32 := 0#32
  let v1860 : BitVec 1 := Scalar.cmpi .ne v1859 c0_i32_708
  let v1861 : BitVec 1 := Scalar.andi v1858 v1860
  let v1847 : BitVec 32 := Scalar.divsi v1844 c16_i32_703
  let c1_i32_709 : BitVec 32 := 1#32
  let v1862 : BitVec 32 := Scalar.subi v1847 c1_i32_709
  let v1863 : BitVec 32 := Scalar.select v1861 v1862 v1847
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1863 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t38
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1844 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk76 (i : grid0.Coords) (v25 : BitVec 32) (v1844 : BitVec 32) : Prop :=
  (∀ k0_t38 : Fin k0_t38_loop.trips, ∀ (k0_h38 : k0_cond38 i v25 v1844 = 1#1), ∀ a, (k0_off192 v1844 k0_t38) a + S1x16.size a ≤ S128x512.size a) ∧
  (∀ k0_t38 : Fin k0_t38_loop.trips, ∀ (k0_h38 : k0_cond38 i v25 v1844 = 1#1), ∀ a, (k0_off194 v1844 k0_t38) a + S1x16.size a ≤ S128x512.size a)
theorem k0_off192_inb : ∀ (i : grid0.Coords) (v25 : BitVec 32) (v1844 : BitVec 32) (k0_hw76 : k0_chk76 i v25 v1844) (k0_t38 : Fin k0_t38_loop.trips), ∀ (k0_h38 : k0_cond38 i v25 v1844 = 1#1), ∀ a, (k0_off192 v1844 k0_t38) a + S1x16.size a ≤ S128x512.size a := fun i v25 v1844 k0_hw76 k0_t38 k0_h38 => k0_hw76.1 k0_t38 k0_h38
theorem k0_off194_inb : ∀ (i : grid0.Coords) (v25 : BitVec 32) (v1844 : BitVec 32) (k0_hw76 : k0_chk76 i v25 v1844) (k0_t38 : Fin k0_t38_loop.trips), ∀ (k0_h38 : k0_cond38 i v25 v1844 = 1#1), ∀ a, (k0_off194 v1844 k0_t38) a + S1x16.size a ≤ S128x512.size a := fun i v25 v1844 k0_hw76 k0_t38 k0_h38 => k0_hw76.2 k0_t38 k0_h38

def k0_off195 (i : grid0.Coords) (v1889 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1889 c0_i32_1428
  let v3763 : BitVec 32 := Scalar.extui v3762
  let c0_i32_1429 : BitVec 32 := 0#32
  let v3764 : BitVec 1 := Scalar.cmpi .slt v1889 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1889 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1889 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r46 : BitVec 32 := 0#32
  ![v3779.toNat, 0]
def k0_cond39 (i : grid0.Coords) (v25 : BitVec 32) (v1887 : BitVec 32) : BitVec 1 :=
  let c6_i32_726 : BitVec 32 := 6#32
  let v1907 : BitVec 1 := Scalar.cmpi .sgt v25 c6_i32_726
  let c0_i32_720 : BitVec 32 := 0#32
  let v1891 : BitVec 1 := Scalar.cmpi .sgt v1887 c0_i32_720
  let v1892 : BitVec 32 := Scalar.extui v1891
  let c0_i32_721 : BitVec 32 := 0#32
  let v1893 : BitVec 1 := Scalar.cmpi .slt v1887 c0_i32_721
  let v1894 : BitVec 32 := Scalar.extui v1893
  let v1895 : BitVec 32 := Scalar.subi v1892 v1894
  let c16_i32_719 : BitVec 32 := 16#32
  let c0_i32_722 : BitVec 32 := 0#32
  let v1896 : BitVec 1 := Scalar.cmpi .sgt c16_i32_719 c0_i32_722
  let v1897 : BitVec 32 := Scalar.extui v1896
  let c0_i32_723 : BitVec 32 := 0#32
  let v1898 : BitVec 1 := Scalar.cmpi .slt c16_i32_719 c0_i32_723
  let v1899 : BitVec 32 := Scalar.extui v1898
  let v1900 : BitVec 32 := Scalar.subi v1897 v1899
  let v1901 : BitVec 1 := Scalar.cmpi .ne v1895 v1900
  let v1902 : BitVec 32 := Scalar.remsi v1887 c16_i32_719
  let c0_i32_724 : BitVec 32 := 0#32
  let v1903 : BitVec 1 := Scalar.cmpi .ne v1902 c0_i32_724
  let v1904 : BitVec 1 := Scalar.andi v1901 v1903
  let v1890 : BitVec 32 := Scalar.divsi v1887 c16_i32_719
  let c1_i32_725 : BitVec 32 := 1#32
  let v1905 : BitVec 32 := Scalar.subi v1890 c1_i32_725
  let v1906 : BitVec 32 := Scalar.select v1904 v1905 v1890
  let c0_i32_728 : BitVec 32 := 0#32
  let v1909 : BitVec 1 := Scalar.cmpi .sgt v1906 c0_i32_728
  let v1910 : BitVec 32 := Scalar.extui v1909
  let c0_i32_729 : BitVec 32 := 0#32
  let v1911 : BitVec 1 := Scalar.cmpi .slt v1906 c0_i32_729
  let v1912 : BitVec 32 := Scalar.extui v1911
  let v1913 : BitVec 32 := Scalar.subi v1910 v1912
  let c4_i32_727 : BitVec 32 := 4#32
  let c0_i32_730 : BitVec 32 := 0#32
  let v1914 : BitVec 1 := Scalar.cmpi .sgt c4_i32_727 c0_i32_730
  let v1915 : BitVec 32 := Scalar.extui v1914
  let c0_i32_731 : BitVec 32 := 0#32
  let v1916 : BitVec 1 := Scalar.cmpi .slt c4_i32_727 c0_i32_731
  let v1917 : BitVec 32 := Scalar.extui v1916
  let v1918 : BitVec 32 := Scalar.subi v1915 v1917
  let v1919 : BitVec 1 := Scalar.cmpi .ne v1913 v1918
  let v1920 : BitVec 32 := Scalar.remsi v1906 c4_i32_727
  let c0_i32_732 : BitVec 32 := 0#32
  let v1921 : BitVec 1 := Scalar.cmpi .ne v1920 c0_i32_732
  let v1922 : BitVec 1 := Scalar.andi v1919 v1921
  let v1908 : BitVec 32 := Scalar.divsi v1906 c4_i32_727
  let c1_i32_733 : BitVec 32 := 1#32
  let v1923 : BitVec 32 := Scalar.subi v1908 c1_i32_733
  let v1924 : BitVec 32 := Scalar.select v1922 v1923 v1908
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1925 : BitVec 1 := Scalar.cmpi .eq v1924 v1627
  let v1926 : BitVec 1 := Scalar.andi v1907 v1925
  let v1927 : BitVec 32 := Scalar.extui v1926
  let c0_i32_734 : BitVec 32 := 0#32
  let v1928 : BitVec 1 := Scalar.cmpi .ne v1927 c0_i32_734
  v1928

@[reducible] def k0_t39_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off196 (v1889 : BitVec 32) (k0_t39 : Fin k0_t39_loop.trips) : Fin 2 → Nat :=
  let c0_i32_1453 : BitVec 32 := 0#32
  let c1_i32_1455 : BitVec 32 := 1#32
  let arg19 : BitVec 32 := Scf.iv c0_i32_1453 c1_i32_1455 k0_t39
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1889 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off197 (v1887 : BitVec 32) (k0_t39 : Fin k0_t39_loop.trips) : Fin 2 → Nat :=
  let c0_i32_720 : BitVec 32 := 0#32
  let v1891 : BitVec 1 := Scalar.cmpi .sgt v1887 c0_i32_720
  let v1892 : BitVec 32 := Scalar.extui v1891
  let c0_i32_721 : BitVec 32 := 0#32
  let v1893 : BitVec 1 := Scalar.cmpi .slt v1887 c0_i32_721
  let v1894 : BitVec 32 := Scalar.extui v1893
  let v1895 : BitVec 32 := Scalar.subi v1892 v1894
  let c16_i32_719 : BitVec 32 := 16#32
  let c0_i32_722 : BitVec 32 := 0#32
  let v1896 : BitVec 1 := Scalar.cmpi .sgt c16_i32_719 c0_i32_722
  let v1897 : BitVec 32 := Scalar.extui v1896
  let c0_i32_723 : BitVec 32 := 0#32
  let v1898 : BitVec 1 := Scalar.cmpi .slt c16_i32_719 c0_i32_723
  let v1899 : BitVec 32 := Scalar.extui v1898
  let v1900 : BitVec 32 := Scalar.subi v1897 v1899
  let v1901 : BitVec 1 := Scalar.cmpi .ne v1895 v1900
  let v1902 : BitVec 32 := Scalar.remsi v1887 c16_i32_719
  let c0_i32_724 : BitVec 32 := 0#32
  let v1903 : BitVec 1 := Scalar.cmpi .ne v1902 c0_i32_724
  let v1904 : BitVec 1 := Scalar.andi v1901 v1903
  let v1890 : BitVec 32 := Scalar.divsi v1887 c16_i32_719
  let c1_i32_725 : BitVec 32 := 1#32
  let v1905 : BitVec 32 := Scalar.subi v1890 c1_i32_725
  let v1906 : BitVec 32 := Scalar.select v1904 v1905 v1890
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1906 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t39
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1887 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off198 (v1889 : BitVec 32) (k0_t39 : Fin k0_t39_loop.trips) : Fin 2 → Nat :=
  let c0_i32_1453 : BitVec 32 := 0#32
  let c1_i32_1455 : BitVec 32 := 1#32
  let arg19 : BitVec 32 := Scf.iv c0_i32_1453 c1_i32_1455 k0_t39
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1889 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk77 (i : grid0.Coords) (v25 : BitVec 32) (v1887 : BitVec 32) (v1889 : BitVec 32) : Prop :=
  (∀ (k0_h39 : k0_cond39 i v25 v1887 = 1#1), ∀ a, (k0_off195 i v1889) a + S32x512.size a ≤ S12288x512.size a) ∧
  (∀ k0_t39 : Fin k0_t39_loop.trips, ∀ (k0_h39 : k0_cond39 i v25 v1887 = 1#1), ∀ a, (k0_off196 v1889 k0_t39) a + S1x16.size a ≤ S32x512.size a) ∧
  (∀ k0_t39 : Fin k0_t39_loop.trips, ∀ (k0_h39 : k0_cond39 i v25 v1887 = 1#1), ∀ a, (k0_off198 v1889 k0_t39) a + S1x16.size a ≤ S32x512.size a)
theorem k0_off195_inb : ∀ (i : grid0.Coords) (v25 : BitVec 32) (v1887 : BitVec 32) (v1889 : BitVec 32) (k0_hw77 : k0_chk77 i v25 v1887 v1889), ∀ (k0_h39 : k0_cond39 i v25 v1887 = 1#1), ∀ a, (k0_off195 i v1889) a + S32x512.size a ≤ S12288x512.size a := fun i v25 v1887 v1889 k0_hw77 k0_h39 => k0_hw77.1 k0_h39
theorem k0_off196_inb : ∀ (i : grid0.Coords) (v25 : BitVec 32) (v1887 : BitVec 32) (v1889 : BitVec 32) (k0_hw77 : k0_chk77 i v25 v1887 v1889) (k0_t39 : Fin k0_t39_loop.trips), ∀ (k0_h39 : k0_cond39 i v25 v1887 = 1#1), ∀ a, (k0_off196 v1889 k0_t39) a + S1x16.size a ≤ S32x512.size a := fun i v25 v1887 v1889 k0_hw77 k0_t39 k0_h39 => k0_hw77.2.1 k0_t39 k0_h39
theorem k0_off198_inb : ∀ (i : grid0.Coords) (v25 : BitVec 32) (v1887 : BitVec 32) (v1889 : BitVec 32) (k0_hw77 : k0_chk77 i v25 v1887 v1889) (k0_t39 : Fin k0_t39_loop.trips), ∀ (k0_h39 : k0_cond39 i v25 v1887 = 1#1), ∀ a, (k0_off198 v1889 k0_t39) a + S1x16.size a ≤ S32x512.size a := fun i v25 v1887 v1889 k0_hw77 k0_t39 k0_h39 => k0_hw77.2.2 k0_t39 k0_h39

def k0_off199 (v1887 : BitVec 32) (k0_t39 : Fin k0_t39_loop.trips) : Fin 2 → Nat :=
  let c0_i32_720 : BitVec 32 := 0#32
  let v1891 : BitVec 1 := Scalar.cmpi .sgt v1887 c0_i32_720
  let v1892 : BitVec 32 := Scalar.extui v1891
  let c0_i32_721 : BitVec 32 := 0#32
  let v1893 : BitVec 1 := Scalar.cmpi .slt v1887 c0_i32_721
  let v1894 : BitVec 32 := Scalar.extui v1893
  let v1895 : BitVec 32 := Scalar.subi v1892 v1894
  let c16_i32_719 : BitVec 32 := 16#32
  let c0_i32_722 : BitVec 32 := 0#32
  let v1896 : BitVec 1 := Scalar.cmpi .sgt c16_i32_719 c0_i32_722
  let v1897 : BitVec 32 := Scalar.extui v1896
  let c0_i32_723 : BitVec 32 := 0#32
  let v1898 : BitVec 1 := Scalar.cmpi .slt c16_i32_719 c0_i32_723
  let v1899 : BitVec 32 := Scalar.extui v1898
  let v1900 : BitVec 32 := Scalar.subi v1897 v1899
  let v1901 : BitVec 1 := Scalar.cmpi .ne v1895 v1900
  let v1902 : BitVec 32 := Scalar.remsi v1887 c16_i32_719
  let c0_i32_724 : BitVec 32 := 0#32
  let v1903 : BitVec 1 := Scalar.cmpi .ne v1902 c0_i32_724
  let v1904 : BitVec 1 := Scalar.andi v1901 v1903
  let v1890 : BitVec 32 := Scalar.divsi v1887 c16_i32_719
  let c1_i32_725 : BitVec 32 := 1#32
  let v1905 : BitVec 32 := Scalar.subi v1890 c1_i32_725
  let v1906 : BitVec 32 := Scalar.select v1904 v1905 v1890
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1906 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t39
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1887 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk78 (i : grid0.Coords) (v25 : BitVec 32) (v1887 : BitVec 32) : Prop :=
  (∀ k0_t39 : Fin k0_t39_loop.trips, ∀ (k0_h39 : k0_cond39 i v25 v1887 = 1#1), ∀ a, (k0_off197 v1887 k0_t39) a + S1x16.size a ≤ S128x512.size a) ∧
  (∀ k0_t39 : Fin k0_t39_loop.trips, ∀ (k0_h39 : k0_cond39 i v25 v1887 = 1#1), ∀ a, (k0_off199 v1887 k0_t39) a + S1x16.size a ≤ S128x512.size a)
theorem k0_off197_inb : ∀ (i : grid0.Coords) (v25 : BitVec 32) (v1887 : BitVec 32) (k0_hw78 : k0_chk78 i v25 v1887) (k0_t39 : Fin k0_t39_loop.trips), ∀ (k0_h39 : k0_cond39 i v25 v1887 = 1#1), ∀ a, (k0_off197 v1887 k0_t39) a + S1x16.size a ≤ S128x512.size a := fun i v25 v1887 k0_hw78 k0_t39 k0_h39 => k0_hw78.1 k0_t39 k0_h39
theorem k0_off199_inb : ∀ (i : grid0.Coords) (v25 : BitVec 32) (v1887 : BitVec 32) (k0_hw78 : k0_chk78 i v25 v1887) (k0_t39 : Fin k0_t39_loop.trips), ∀ (k0_h39 : k0_cond39 i v25 v1887 = 1#1), ∀ a, (k0_off199 v1887 k0_t39) a + S1x16.size a ≤ S128x512.size a := fun i v25 v1887 k0_hw78 k0_t39 k0_h39 => k0_hw78.2 k0_t39 k0_h39

def k0_off200 (i : grid0.Coords) (v1932 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1932 c0_i32_1428
  let v3763 : BitVec 32 := Scalar.extui v3762
  let c0_i32_1429 : BitVec 32 := 0#32
  let v3764 : BitVec 1 := Scalar.cmpi .slt v1932 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1932 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1932 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r47 : BitVec 32 := 0#32
  ![v3779.toNat, 0]
def k0_cond40 (i : grid0.Coords) (v25 : BitVec 32) (v1930 : BitVec 32) : BitVec 1 :=
  let c7_i32_742 : BitVec 32 := 7#32
  let v1950 : BitVec 1 := Scalar.cmpi .sgt v25 c7_i32_742
  let c0_i32_736 : BitVec 32 := 0#32
  let v1934 : BitVec 1 := Scalar.cmpi .sgt v1930 c0_i32_736
  let v1935 : BitVec 32 := Scalar.extui v1934
  let c0_i32_737 : BitVec 32 := 0#32
  let v1936 : BitVec 1 := Scalar.cmpi .slt v1930 c0_i32_737
  let v1937 : BitVec 32 := Scalar.extui v1936
  let v1938 : BitVec 32 := Scalar.subi v1935 v1937
  let c16_i32_735 : BitVec 32 := 16#32
  let c0_i32_738 : BitVec 32 := 0#32
  let v1939 : BitVec 1 := Scalar.cmpi .sgt c16_i32_735 c0_i32_738
  let v1940 : BitVec 32 := Scalar.extui v1939
  let c0_i32_739 : BitVec 32 := 0#32
  let v1941 : BitVec 1 := Scalar.cmpi .slt c16_i32_735 c0_i32_739
  let v1942 : BitVec 32 := Scalar.extui v1941
  let v1943 : BitVec 32 := Scalar.subi v1940 v1942
  let v1944 : BitVec 1 := Scalar.cmpi .ne v1938 v1943
  let v1945 : BitVec 32 := Scalar.remsi v1930 c16_i32_735
  let c0_i32_740 : BitVec 32 := 0#32
  let v1946 : BitVec 1 := Scalar.cmpi .ne v1945 c0_i32_740
  let v1947 : BitVec 1 := Scalar.andi v1944 v1946
  let v1933 : BitVec 32 := Scalar.divsi v1930 c16_i32_735
  let c1_i32_741 : BitVec 32 := 1#32
  let v1948 : BitVec 32 := Scalar.subi v1933 c1_i32_741
  let v1949 : BitVec 32 := Scalar.select v1947 v1948 v1933
  let c0_i32_744 : BitVec 32 := 0#32
  let v1952 : BitVec 1 := Scalar.cmpi .sgt v1949 c0_i32_744
  let v1953 : BitVec 32 := Scalar.extui v1952
  let c0_i32_745 : BitVec 32 := 0#32
  let v1954 : BitVec 1 := Scalar.cmpi .slt v1949 c0_i32_745
  let v1955 : BitVec 32 := Scalar.extui v1954
  let v1956 : BitVec 32 := Scalar.subi v1953 v1955
  let c4_i32_743 : BitVec 32 := 4#32
  let c0_i32_746 : BitVec 32 := 0#32
  let v1957 : BitVec 1 := Scalar.cmpi .sgt c4_i32_743 c0_i32_746
  let v1958 : BitVec 32 := Scalar.extui v1957
  let c0_i32_747 : BitVec 32 := 0#32
  let v1959 : BitVec 1 := Scalar.cmpi .slt c4_i32_743 c0_i32_747
  let v1960 : BitVec 32 := Scalar.extui v1959
  let v1961 : BitVec 32 := Scalar.subi v1958 v1960
  let v1962 : BitVec 1 := Scalar.cmpi .ne v1956 v1961
  let v1963 : BitVec 32 := Scalar.remsi v1949 c4_i32_743
  let c0_i32_748 : BitVec 32 := 0#32
  let v1964 : BitVec 1 := Scalar.cmpi .ne v1963 c0_i32_748
  let v1965 : BitVec 1 := Scalar.andi v1962 v1964
  let v1951 : BitVec 32 := Scalar.divsi v1949 c4_i32_743
  let c1_i32_749 : BitVec 32 := 1#32
  let v1966 : BitVec 32 := Scalar.subi v1951 c1_i32_749
  let v1967 : BitVec 32 := Scalar.select v1965 v1966 v1951
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1968 : BitVec 1 := Scalar.cmpi .eq v1967 v1627
  let v1969 : BitVec 1 := Scalar.andi v1950 v1968
  let v1970 : BitVec 32 := Scalar.extui v1969
  let c0_i32_750 : BitVec 32 := 0#32
  let v1971 : BitVec 1 := Scalar.cmpi .ne v1970 c0_i32_750
  v1971

@[reducible] def k0_t40_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off201 (v1932 : BitVec 32) (k0_t40 : Fin k0_t40_loop.trips) : Fin 2 → Nat :=
  let c0_i32_1453 : BitVec 32 := 0#32
  let c1_i32_1455 : BitVec 32 := 1#32
  let arg19 : BitVec 32 := Scf.iv c0_i32_1453 c1_i32_1455 k0_t40
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1932 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off202 (v1930 : BitVec 32) (k0_t40 : Fin k0_t40_loop.trips) : Fin 2 → Nat :=
  let c0_i32_736 : BitVec 32 := 0#32
  let v1934 : BitVec 1 := Scalar.cmpi .sgt v1930 c0_i32_736
  let v1935 : BitVec 32 := Scalar.extui v1934
  let c0_i32_737 : BitVec 32 := 0#32
  let v1936 : BitVec 1 := Scalar.cmpi .slt v1930 c0_i32_737
  let v1937 : BitVec 32 := Scalar.extui v1936
  let v1938 : BitVec 32 := Scalar.subi v1935 v1937
  let c16_i32_735 : BitVec 32 := 16#32
  let c0_i32_738 : BitVec 32 := 0#32
  let v1939 : BitVec 1 := Scalar.cmpi .sgt c16_i32_735 c0_i32_738
  let v1940 : BitVec 32 := Scalar.extui v1939
  let c0_i32_739 : BitVec 32 := 0#32
  let v1941 : BitVec 1 := Scalar.cmpi .slt c16_i32_735 c0_i32_739
  let v1942 : BitVec 32 := Scalar.extui v1941
  let v1943 : BitVec 32 := Scalar.subi v1940 v1942
  let v1944 : BitVec 1 := Scalar.cmpi .ne v1938 v1943
  let v1945 : BitVec 32 := Scalar.remsi v1930 c16_i32_735
  let c0_i32_740 : BitVec 32 := 0#32
  let v1946 : BitVec 1 := Scalar.cmpi .ne v1945 c0_i32_740
  let v1947 : BitVec 1 := Scalar.andi v1944 v1946
  let v1933 : BitVec 32 := Scalar.divsi v1930 c16_i32_735
  let c1_i32_741 : BitVec 32 := 1#32
  let v1948 : BitVec 32 := Scalar.subi v1933 c1_i32_741
  let v1949 : BitVec 32 := Scalar.select v1947 v1948 v1933
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1949 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t40
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1930 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off203 (v1932 : BitVec 32) (k0_t40 : Fin k0_t40_loop.trips) : Fin 2 → Nat :=
  let c0_i32_1453 : BitVec 32 := 0#32
  let c1_i32_1455 : BitVec 32 := 1#32
  let arg19 : BitVec 32 := Scf.iv c0_i32_1453 c1_i32_1455 k0_t40
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1932 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk79 (i : grid0.Coords) (v25 : BitVec 32) (v1930 : BitVec 32) (v1932 : BitVec 32) : Prop :=
  (∀ (k0_h40 : k0_cond40 i v25 v1930 = 1#1), ∀ a, (k0_off200 i v1932) a + S32x512.size a ≤ S12288x512.size a) ∧
  (∀ k0_t40 : Fin k0_t40_loop.trips, ∀ (k0_h40 : k0_cond40 i v25 v1930 = 1#1), ∀ a, (k0_off201 v1932 k0_t40) a + S1x16.size a ≤ S32x512.size a) ∧
  (∀ k0_t40 : Fin k0_t40_loop.trips, ∀ (k0_h40 : k0_cond40 i v25 v1930 = 1#1), ∀ a, (k0_off203 v1932 k0_t40) a + S1x16.size a ≤ S32x512.size a)
theorem k0_off200_inb : ∀ (i : grid0.Coords) (v25 : BitVec 32) (v1930 : BitVec 32) (v1932 : BitVec 32) (k0_hw79 : k0_chk79 i v25 v1930 v1932), ∀ (k0_h40 : k0_cond40 i v25 v1930 = 1#1), ∀ a, (k0_off200 i v1932) a + S32x512.size a ≤ S12288x512.size a := fun i v25 v1930 v1932 k0_hw79 k0_h40 => k0_hw79.1 k0_h40
theorem k0_off201_inb : ∀ (i : grid0.Coords) (v25 : BitVec 32) (v1930 : BitVec 32) (v1932 : BitVec 32) (k0_hw79 : k0_chk79 i v25 v1930 v1932) (k0_t40 : Fin k0_t40_loop.trips), ∀ (k0_h40 : k0_cond40 i v25 v1930 = 1#1), ∀ a, (k0_off201 v1932 k0_t40) a + S1x16.size a ≤ S32x512.size a := fun i v25 v1930 v1932 k0_hw79 k0_t40 k0_h40 => k0_hw79.2.1 k0_t40 k0_h40
theorem k0_off203_inb : ∀ (i : grid0.Coords) (v25 : BitVec 32) (v1930 : BitVec 32) (v1932 : BitVec 32) (k0_hw79 : k0_chk79 i v25 v1930 v1932) (k0_t40 : Fin k0_t40_loop.trips), ∀ (k0_h40 : k0_cond40 i v25 v1930 = 1#1), ∀ a, (k0_off203 v1932 k0_t40) a + S1x16.size a ≤ S32x512.size a := fun i v25 v1930 v1932 k0_hw79 k0_t40 k0_h40 => k0_hw79.2.2 k0_t40 k0_h40

def k0_off204 (v1930 : BitVec 32) (k0_t40 : Fin k0_t40_loop.trips) : Fin 2 → Nat :=
  let c0_i32_736 : BitVec 32 := 0#32
  let v1934 : BitVec 1 := Scalar.cmpi .sgt v1930 c0_i32_736
  let v1935 : BitVec 32 := Scalar.extui v1934
  let c0_i32_737 : BitVec 32 := 0#32
  let v1936 : BitVec 1 := Scalar.cmpi .slt v1930 c0_i32_737
  let v1937 : BitVec 32 := Scalar.extui v1936
  let v1938 : BitVec 32 := Scalar.subi v1935 v1937
  let c16_i32_735 : BitVec 32 := 16#32
  let c0_i32_738 : BitVec 32 := 0#32
  let v1939 : BitVec 1 := Scalar.cmpi .sgt c16_i32_735 c0_i32_738
  let v1940 : BitVec 32 := Scalar.extui v1939
  let c0_i32_739 : BitVec 32 := 0#32
  let v1941 : BitVec 1 := Scalar.cmpi .slt c16_i32_735 c0_i32_739
  let v1942 : BitVec 32 := Scalar.extui v1941
  let v1943 : BitVec 32 := Scalar.subi v1940 v1942
  let v1944 : BitVec 1 := Scalar.cmpi .ne v1938 v1943
  let v1945 : BitVec 32 := Scalar.remsi v1930 c16_i32_735
  let c0_i32_740 : BitVec 32 := 0#32
  let v1946 : BitVec 1 := Scalar.cmpi .ne v1945 c0_i32_740
  let v1947 : BitVec 1 := Scalar.andi v1944 v1946
  let v1933 : BitVec 32 := Scalar.divsi v1930 c16_i32_735
  let c1_i32_741 : BitVec 32 := 1#32
  let v1948 : BitVec 32 := Scalar.subi v1933 c1_i32_741
  let v1949 : BitVec 32 := Scalar.select v1947 v1948 v1933
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1949 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t40
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1930 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk80 (i : grid0.Coords) (v25 : BitVec 32) (v1930 : BitVec 32) : Prop :=
  (∀ k0_t40 : Fin k0_t40_loop.trips, ∀ (k0_h40 : k0_cond40 i v25 v1930 = 1#1), ∀ a, (k0_off202 v1930 k0_t40) a + S1x16.size a ≤ S128x512.size a) ∧
  (∀ k0_t40 : Fin k0_t40_loop.trips, ∀ (k0_h40 : k0_cond40 i v25 v1930 = 1#1), ∀ a, (k0_off204 v1930 k0_t40) a + S1x16.size a ≤ S128x512.size a)
theorem k0_off202_inb : ∀ (i : grid0.Coords) (v25 : BitVec 32) (v1930 : BitVec 32) (k0_hw80 : k0_chk80 i v25 v1930) (k0_t40 : Fin k0_t40_loop.trips), ∀ (k0_h40 : k0_cond40 i v25 v1930 = 1#1), ∀ a, (k0_off202 v1930 k0_t40) a + S1x16.size a ≤ S128x512.size a := fun i v25 v1930 k0_hw80 k0_t40 k0_h40 => k0_hw80.1 k0_t40 k0_h40
theorem k0_off204_inb : ∀ (i : grid0.Coords) (v25 : BitVec 32) (v1930 : BitVec 32) (k0_hw80 : k0_chk80 i v25 v1930) (k0_t40 : Fin k0_t40_loop.trips), ∀ (k0_h40 : k0_cond40 i v25 v1930 = 1#1), ∀ a, (k0_off204 v1930 k0_t40) a + S1x16.size a ≤ S128x512.size a := fun i v25 v1930 k0_hw80 k0_t40 k0_h40 => k0_hw80.2 k0_t40 k0_h40

def k0_off205 (i : grid0.Coords) (v1975 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1975 c0_i32_1428
  let v3763 : BitVec 32 := Scalar.extui v3762
  let c0_i32_1429 : BitVec 32 := 0#32
  let v3764 : BitVec 1 := Scalar.cmpi .slt v1975 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1975 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1975 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r48 : BitVec 32 := 0#32
  ![v3779.toNat, 0]
def k0_cond41 (i : grid0.Coords) (v25 : BitVec 32) (v1973 : BitVec 32) : BitVec 1 :=
  let c8_i32_758 : BitVec 32 := 8#32
  let v1993 : BitVec 1 := Scalar.cmpi .sgt v25 c8_i32_758
  let c0_i32_752 : BitVec 32 := 0#32
  let v1977 : BitVec 1 := Scalar.cmpi .sgt v1973 c0_i32_752
  let v1978 : BitVec 32 := Scalar.extui v1977
  let c0_i32_753 : BitVec 32 := 0#32
  let v1979 : BitVec 1 := Scalar.cmpi .slt v1973 c0_i32_753
  let v1980 : BitVec 32 := Scalar.extui v1979
  let v1981 : BitVec 32 := Scalar.subi v1978 v1980
  let c16_i32_751 : BitVec 32 := 16#32
  let c0_i32_754 : BitVec 32 := 0#32
  let v1982 : BitVec 1 := Scalar.cmpi .sgt c16_i32_751 c0_i32_754
  let v1983 : BitVec 32 := Scalar.extui v1982
  let c0_i32_755 : BitVec 32 := 0#32
  let v1984 : BitVec 1 := Scalar.cmpi .slt c16_i32_751 c0_i32_755
  let v1985 : BitVec 32 := Scalar.extui v1984
  let v1986 : BitVec 32 := Scalar.subi v1983 v1985
  let v1987 : BitVec 1 := Scalar.cmpi .ne v1981 v1986
  let v1988 : BitVec 32 := Scalar.remsi v1973 c16_i32_751
  let c0_i32_756 : BitVec 32 := 0#32
  let v1989 : BitVec 1 := Scalar.cmpi .ne v1988 c0_i32_756
  let v1990 : BitVec 1 := Scalar.andi v1987 v1989
  let v1976 : BitVec 32 := Scalar.divsi v1973 c16_i32_751
  let c1_i32_757 : BitVec 32 := 1#32
  let v1991 : BitVec 32 := Scalar.subi v1976 c1_i32_757
  let v1992 : BitVec 32 := Scalar.select v1990 v1991 v1976
  let c0_i32_760 : BitVec 32 := 0#32
  let v1995 : BitVec 1 := Scalar.cmpi .sgt v1992 c0_i32_760
  let v1996 : BitVec 32 := Scalar.extui v1995
  let c0_i32_761 : BitVec 32 := 0#32
  let v1997 : BitVec 1 := Scalar.cmpi .slt v1992 c0_i32_761
  let v1998 : BitVec 32 := Scalar.extui v1997
  let v1999 : BitVec 32 := Scalar.subi v1996 v1998
  let c4_i32_759 : BitVec 32 := 4#32
  let c0_i32_762 : BitVec 32 := 0#32
  let v2000 : BitVec 1 := Scalar.cmpi .sgt c4_i32_759 c0_i32_762
  let v2001 : BitVec 32 := Scalar.extui v2000
  let c0_i32_763 : BitVec 32 := 0#32
  let v2002 : BitVec 1 := Scalar.cmpi .slt c4_i32_759 c0_i32_763
  let v2003 : BitVec 32 := Scalar.extui v2002
  let v2004 : BitVec 32 := Scalar.subi v2001 v2003
  let v2005 : BitVec 1 := Scalar.cmpi .ne v1999 v2004
  let v2006 : BitVec 32 := Scalar.remsi v1992 c4_i32_759
  let c0_i32_764 : BitVec 32 := 0#32
  let v2007 : BitVec 1 := Scalar.cmpi .ne v2006 c0_i32_764
  let v2008 : BitVec 1 := Scalar.andi v2005 v2007
  let v1994 : BitVec 32 := Scalar.divsi v1992 c4_i32_759
  let c1_i32_765 : BitVec 32 := 1#32
  let v2009 : BitVec 32 := Scalar.subi v1994 c1_i32_765
  let v2010 : BitVec 32 := Scalar.select v2008 v2009 v1994
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2011 : BitVec 1 := Scalar.cmpi .eq v2010 v1627
  let v2012 : BitVec 1 := Scalar.andi v1993 v2011
  let v2013 : BitVec 32 := Scalar.extui v2012
  let c0_i32_766 : BitVec 32 := 0#32
  let v2014 : BitVec 1 := Scalar.cmpi .ne v2013 c0_i32_766
  v2014

@[reducible] def k0_t41_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off206 (v1975 : BitVec 32) (k0_t41 : Fin k0_t41_loop.trips) : Fin 2 → Nat :=
  let c0_i32_1453 : BitVec 32 := 0#32
  let c1_i32_1455 : BitVec 32 := 1#32
  let arg19 : BitVec 32 := Scf.iv c0_i32_1453 c1_i32_1455 k0_t41
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1975 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off207 (v1973 : BitVec 32) (k0_t41 : Fin k0_t41_loop.trips) : Fin 2 → Nat :=
  let c0_i32_752 : BitVec 32 := 0#32
  let v1977 : BitVec 1 := Scalar.cmpi .sgt v1973 c0_i32_752
  let v1978 : BitVec 32 := Scalar.extui v1977
  let c0_i32_753 : BitVec 32 := 0#32
  let v1979 : BitVec 1 := Scalar.cmpi .slt v1973 c0_i32_753
  let v1980 : BitVec 32 := Scalar.extui v1979
  let v1981 : BitVec 32 := Scalar.subi v1978 v1980
  let c16_i32_751 : BitVec 32 := 16#32
  let c0_i32_754 : BitVec 32 := 0#32
  let v1982 : BitVec 1 := Scalar.cmpi .sgt c16_i32_751 c0_i32_754
  let v1983 : BitVec 32 := Scalar.extui v1982
  let c0_i32_755 : BitVec 32 := 0#32
  let v1984 : BitVec 1 := Scalar.cmpi .slt c16_i32_751 c0_i32_755
  let v1985 : BitVec 32 := Scalar.extui v1984
  let v1986 : BitVec 32 := Scalar.subi v1983 v1985
  let v1987 : BitVec 1 := Scalar.cmpi .ne v1981 v1986
  let v1988 : BitVec 32 := Scalar.remsi v1973 c16_i32_751
  let c0_i32_756 : BitVec 32 := 0#32
  let v1989 : BitVec 1 := Scalar.cmpi .ne v1988 c0_i32_756
  let v1990 : BitVec 1 := Scalar.andi v1987 v1989
  let v1976 : BitVec 32 := Scalar.divsi v1973 c16_i32_751
  let c1_i32_757 : BitVec 32 := 1#32
  let v1991 : BitVec 32 := Scalar.subi v1976 c1_i32_757
  let v1992 : BitVec 32 := Scalar.select v1990 v1991 v1976
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1992 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t41
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1973 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off208 (v1975 : BitVec 32) (k0_t41 : Fin k0_t41_loop.trips) : Fin 2 → Nat :=
  let c0_i32_1453 : BitVec 32 := 0#32
  let c1_i32_1455 : BitVec 32 := 1#32
  let arg19 : BitVec 32 := Scf.iv c0_i32_1453 c1_i32_1455 k0_t41
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1975 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk81 (i : grid0.Coords) (v25 : BitVec 32) (v1973 : BitVec 32) (v1975 : BitVec 32) : Prop :=
  (∀ (k0_h41 : k0_cond41 i v25 v1973 = 1#1), ∀ a, (k0_off205 i v1975) a + S32x512.size a ≤ S12288x512.size a) ∧
  (∀ k0_t41 : Fin k0_t41_loop.trips, ∀ (k0_h41 : k0_cond41 i v25 v1973 = 1#1), ∀ a, (k0_off206 v1975 k0_t41) a + S1x16.size a ≤ S32x512.size a) ∧
  (∀ k0_t41 : Fin k0_t41_loop.trips, ∀ (k0_h41 : k0_cond41 i v25 v1973 = 1#1), ∀ a, (k0_off208 v1975 k0_t41) a + S1x16.size a ≤ S32x512.size a)
theorem k0_off205_inb : ∀ (i : grid0.Coords) (v25 : BitVec 32) (v1973 : BitVec 32) (v1975 : BitVec 32) (k0_hw81 : k0_chk81 i v25 v1973 v1975), ∀ (k0_h41 : k0_cond41 i v25 v1973 = 1#1), ∀ a, (k0_off205 i v1975) a + S32x512.size a ≤ S12288x512.size a := fun i v25 v1973 v1975 k0_hw81 k0_h41 => k0_hw81.1 k0_h41
theorem k0_off206_inb : ∀ (i : grid0.Coords) (v25 : BitVec 32) (v1973 : BitVec 32) (v1975 : BitVec 32) (k0_hw81 : k0_chk81 i v25 v1973 v1975) (k0_t41 : Fin k0_t41_loop.trips), ∀ (k0_h41 : k0_cond41 i v25 v1973 = 1#1), ∀ a, (k0_off206 v1975 k0_t41) a + S1x16.size a ≤ S32x512.size a := fun i v25 v1973 v1975 k0_hw81 k0_t41 k0_h41 => k0_hw81.2.1 k0_t41 k0_h41
theorem k0_off208_inb : ∀ (i : grid0.Coords) (v25 : BitVec 32) (v1973 : BitVec 32) (v1975 : BitVec 32) (k0_hw81 : k0_chk81 i v25 v1973 v1975) (k0_t41 : Fin k0_t41_loop.trips), ∀ (k0_h41 : k0_cond41 i v25 v1973 = 1#1), ∀ a, (k0_off208 v1975 k0_t41) a + S1x16.size a ≤ S32x512.size a := fun i v25 v1973 v1975 k0_hw81 k0_t41 k0_h41 => k0_hw81.2.2 k0_t41 k0_h41

def k0_off209 (v1973 : BitVec 32) (k0_t41 : Fin k0_t41_loop.trips) : Fin 2 → Nat :=
  let c0_i32_752 : BitVec 32 := 0#32
  let v1977 : BitVec 1 := Scalar.cmpi .sgt v1973 c0_i32_752
  let v1978 : BitVec 32 := Scalar.extui v1977
  let c0_i32_753 : BitVec 32 := 0#32
  let v1979 : BitVec 1 := Scalar.cmpi .slt v1973 c0_i32_753
  let v1980 : BitVec 32 := Scalar.extui v1979
  let v1981 : BitVec 32 := Scalar.subi v1978 v1980
  let c16_i32_751 : BitVec 32 := 16#32
  let c0_i32_754 : BitVec 32 := 0#32
  let v1982 : BitVec 1 := Scalar.cmpi .sgt c16_i32_751 c0_i32_754
  let v1983 : BitVec 32 := Scalar.extui v1982
  let c0_i32_755 : BitVec 32 := 0#32
  let v1984 : BitVec 1 := Scalar.cmpi .slt c16_i32_751 c0_i32_755
  let v1985 : BitVec 32 := Scalar.extui v1984
  let v1986 : BitVec 32 := Scalar.subi v1983 v1985
  let v1987 : BitVec 1 := Scalar.cmpi .ne v1981 v1986
  let v1988 : BitVec 32 := Scalar.remsi v1973 c16_i32_751
  let c0_i32_756 : BitVec 32 := 0#32
  let v1989 : BitVec 1 := Scalar.cmpi .ne v1988 c0_i32_756
  let v1990 : BitVec 1 := Scalar.andi v1987 v1989
  let v1976 : BitVec 32 := Scalar.divsi v1973 c16_i32_751
  let c1_i32_757 : BitVec 32 := 1#32
  let v1991 : BitVec 32 := Scalar.subi v1976 c1_i32_757
  let v1992 : BitVec 32 := Scalar.select v1990 v1991 v1976
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1992 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t41
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1973 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk82 (i : grid0.Coords) (v25 : BitVec 32) (v1973 : BitVec 32) : Prop :=
  (∀ k0_t41 : Fin k0_t41_loop.trips, ∀ (k0_h41 : k0_cond41 i v25 v1973 = 1#1), ∀ a, (k0_off207 v1973 k0_t41) a + S1x16.size a ≤ S128x512.size a) ∧
  (∀ k0_t41 : Fin k0_t41_loop.trips, ∀ (k0_h41 : k0_cond41 i v25 v1973 = 1#1), ∀ a, (k0_off209 v1973 k0_t41) a + S1x16.size a ≤ S128x512.size a)
theorem k0_off207_inb : ∀ (i : grid0.Coords) (v25 : BitVec 32) (v1973 : BitVec 32) (k0_hw82 : k0_chk82 i v25 v1973) (k0_t41 : Fin k0_t41_loop.trips), ∀ (k0_h41 : k0_cond41 i v25 v1973 = 1#1), ∀ a, (k0_off207 v1973 k0_t41) a + S1x16.size a ≤ S128x512.size a := fun i v25 v1973 k0_hw82 k0_t41 k0_h41 => k0_hw82.1 k0_t41 k0_h41
theorem k0_off209_inb : ∀ (i : grid0.Coords) (v25 : BitVec 32) (v1973 : BitVec 32) (k0_hw82 : k0_chk82 i v25 v1973) (k0_t41 : Fin k0_t41_loop.trips), ∀ (k0_h41 : k0_cond41 i v25 v1973 = 1#1), ∀ a, (k0_off209 v1973 k0_t41) a + S1x16.size a ≤ S128x512.size a := fun i v25 v1973 k0_hw82 k0_t41 k0_h41 => k0_hw82.2 k0_t41 k0_h41

def k0_off210 (i : grid0.Coords) (v2018 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2018 c0_i32_1428
  let v3763 : BitVec 32 := Scalar.extui v3762
  let c0_i32_1429 : BitVec 32 := 0#32
  let v3764 : BitVec 1 := Scalar.cmpi .slt v2018 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2018 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2018 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r49 : BitVec 32 := 0#32
  ![v3779.toNat, 0]
def k0_cond42 (i : grid0.Coords) (v25 : BitVec 32) (v2016 : BitVec 32) : BitVec 1 :=
  let c9_i32_774 : BitVec 32 := 9#32
  let v2036 : BitVec 1 := Scalar.cmpi .sgt v25 c9_i32_774
  let c0_i32_768 : BitVec 32 := 0#32
  let v2020 : BitVec 1 := Scalar.cmpi .sgt v2016 c0_i32_768
  let v2021 : BitVec 32 := Scalar.extui v2020
  let c0_i32_769 : BitVec 32 := 0#32
  let v2022 : BitVec 1 := Scalar.cmpi .slt v2016 c0_i32_769
  let v2023 : BitVec 32 := Scalar.extui v2022
  let v2024 : BitVec 32 := Scalar.subi v2021 v2023
  let c16_i32_767 : BitVec 32 := 16#32
  let c0_i32_770 : BitVec 32 := 0#32
  let v2025 : BitVec 1 := Scalar.cmpi .sgt c16_i32_767 c0_i32_770
  let v2026 : BitVec 32 := Scalar.extui v2025
  let c0_i32_771 : BitVec 32 := 0#32
  let v2027 : BitVec 1 := Scalar.cmpi .slt c16_i32_767 c0_i32_771
  let v2028 : BitVec 32 := Scalar.extui v2027
  let v2029 : BitVec 32 := Scalar.subi v2026 v2028
  let v2030 : BitVec 1 := Scalar.cmpi .ne v2024 v2029
  let v2031 : BitVec 32 := Scalar.remsi v2016 c16_i32_767
  let c0_i32_772 : BitVec 32 := 0#32
  let v2032 : BitVec 1 := Scalar.cmpi .ne v2031 c0_i32_772
  let v2033 : BitVec 1 := Scalar.andi v2030 v2032
  let v2019 : BitVec 32 := Scalar.divsi v2016 c16_i32_767
  let c1_i32_773 : BitVec 32 := 1#32
  let v2034 : BitVec 32 := Scalar.subi v2019 c1_i32_773
  let v2035 : BitVec 32 := Scalar.select v2033 v2034 v2019
  let c0_i32_776 : BitVec 32 := 0#32
  let v2038 : BitVec 1 := Scalar.cmpi .sgt v2035 c0_i32_776
  let v2039 : BitVec 32 := Scalar.extui v2038
  let c0_i32_777 : BitVec 32 := 0#32
  let v2040 : BitVec 1 := Scalar.cmpi .slt v2035 c0_i32_777
  let v2041 : BitVec 32 := Scalar.extui v2040
  let v2042 : BitVec 32 := Scalar.subi v2039 v2041
  let c4_i32_775 : BitVec 32 := 4#32
  let c0_i32_778 : BitVec 32 := 0#32
  let v2043 : BitVec 1 := Scalar.cmpi .sgt c4_i32_775 c0_i32_778
  let v2044 : BitVec 32 := Scalar.extui v2043
  let c0_i32_779 : BitVec 32 := 0#32
  let v2045 : BitVec 1 := Scalar.cmpi .slt c4_i32_775 c0_i32_779
  let v2046 : BitVec 32 := Scalar.extui v2045
  let v2047 : BitVec 32 := Scalar.subi v2044 v2046
  let v2048 : BitVec 1 := Scalar.cmpi .ne v2042 v2047
  let v2049 : BitVec 32 := Scalar.remsi v2035 c4_i32_775
  let c0_i32_780 : BitVec 32 := 0#32
  let v2050 : BitVec 1 := Scalar.cmpi .ne v2049 c0_i32_780
  let v2051 : BitVec 1 := Scalar.andi v2048 v2050
  let v2037 : BitVec 32 := Scalar.divsi v2035 c4_i32_775
  let c1_i32_781 : BitVec 32 := 1#32
  let v2052 : BitVec 32 := Scalar.subi v2037 c1_i32_781
  let v2053 : BitVec 32 := Scalar.select v2051 v2052 v2037
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2054 : BitVec 1 := Scalar.cmpi .eq v2053 v1627
  let v2055 : BitVec 1 := Scalar.andi v2036 v2054
  let v2056 : BitVec 32 := Scalar.extui v2055
  let c0_i32_782 : BitVec 32 := 0#32
  let v2057 : BitVec 1 := Scalar.cmpi .ne v2056 c0_i32_782
  v2057

@[reducible] def k0_t42_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off211 (v2018 : BitVec 32) (k0_t42 : Fin k0_t42_loop.trips) : Fin 2 → Nat :=
  let c0_i32_1453 : BitVec 32 := 0#32
  let c1_i32_1455 : BitVec 32 := 1#32
  let arg19 : BitVec 32 := Scf.iv c0_i32_1453 c1_i32_1455 k0_t42
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2018 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off212 (v2016 : BitVec 32) (k0_t42 : Fin k0_t42_loop.trips) : Fin 2 → Nat :=
  let c0_i32_768 : BitVec 32 := 0#32
  let v2020 : BitVec 1 := Scalar.cmpi .sgt v2016 c0_i32_768
  let v2021 : BitVec 32 := Scalar.extui v2020
  let c0_i32_769 : BitVec 32 := 0#32
  let v2022 : BitVec 1 := Scalar.cmpi .slt v2016 c0_i32_769
  let v2023 : BitVec 32 := Scalar.extui v2022
  let v2024 : BitVec 32 := Scalar.subi v2021 v2023
  let c16_i32_767 : BitVec 32 := 16#32
  let c0_i32_770 : BitVec 32 := 0#32
  let v2025 : BitVec 1 := Scalar.cmpi .sgt c16_i32_767 c0_i32_770
  let v2026 : BitVec 32 := Scalar.extui v2025
  let c0_i32_771 : BitVec 32 := 0#32
  let v2027 : BitVec 1 := Scalar.cmpi .slt c16_i32_767 c0_i32_771
  let v2028 : BitVec 32 := Scalar.extui v2027
  let v2029 : BitVec 32 := Scalar.subi v2026 v2028
  let v2030 : BitVec 1 := Scalar.cmpi .ne v2024 v2029
  let v2031 : BitVec 32 := Scalar.remsi v2016 c16_i32_767
  let c0_i32_772 : BitVec 32 := 0#32
  let v2032 : BitVec 1 := Scalar.cmpi .ne v2031 c0_i32_772
  let v2033 : BitVec 1 := Scalar.andi v2030 v2032
  let v2019 : BitVec 32 := Scalar.divsi v2016 c16_i32_767
  let c1_i32_773 : BitVec 32 := 1#32
  let v2034 : BitVec 32 := Scalar.subi v2019 c1_i32_773
  let v2035 : BitVec 32 := Scalar.select v2033 v2034 v2019
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2035 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t42
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2016 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off213 (v2018 : BitVec 32) (k0_t42 : Fin k0_t42_loop.trips) : Fin 2 → Nat :=
  let c0_i32_1453 : BitVec 32 := 0#32
  let c1_i32_1455 : BitVec 32 := 1#32
  let arg19 : BitVec 32 := Scf.iv c0_i32_1453 c1_i32_1455 k0_t42
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2018 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk83 (i : grid0.Coords) (v25 : BitVec 32) (v2016 : BitVec 32) (v2018 : BitVec 32) : Prop :=
  (∀ (k0_h42 : k0_cond42 i v25 v2016 = 1#1), ∀ a, (k0_off210 i v2018) a + S32x512.size a ≤ S12288x512.size a) ∧
  (∀ k0_t42 : Fin k0_t42_loop.trips, ∀ (k0_h42 : k0_cond42 i v25 v2016 = 1#1), ∀ a, (k0_off211 v2018 k0_t42) a + S1x16.size a ≤ S32x512.size a) ∧
  (∀ k0_t42 : Fin k0_t42_loop.trips, ∀ (k0_h42 : k0_cond42 i v25 v2016 = 1#1), ∀ a, (k0_off213 v2018 k0_t42) a + S1x16.size a ≤ S32x512.size a)
theorem k0_off210_inb : ∀ (i : grid0.Coords) (v25 : BitVec 32) (v2016 : BitVec 32) (v2018 : BitVec 32) (k0_hw83 : k0_chk83 i v25 v2016 v2018), ∀ (k0_h42 : k0_cond42 i v25 v2016 = 1#1), ∀ a, (k0_off210 i v2018) a + S32x512.size a ≤ S12288x512.size a := fun i v25 v2016 v2018 k0_hw83 k0_h42 => k0_hw83.1 k0_h42
theorem k0_off211_inb : ∀ (i : grid0.Coords) (v25 : BitVec 32) (v2016 : BitVec 32) (v2018 : BitVec 32) (k0_hw83 : k0_chk83 i v25 v2016 v2018) (k0_t42 : Fin k0_t42_loop.trips), ∀ (k0_h42 : k0_cond42 i v25 v2016 = 1#1), ∀ a, (k0_off211 v2018 k0_t42) a + S1x16.size a ≤ S32x512.size a := fun i v25 v2016 v2018 k0_hw83 k0_t42 k0_h42 => k0_hw83.2.1 k0_t42 k0_h42
theorem k0_off213_inb : ∀ (i : grid0.Coords) (v25 : BitVec 32) (v2016 : BitVec 32) (v2018 : BitVec 32) (k0_hw83 : k0_chk83 i v25 v2016 v2018) (k0_t42 : Fin k0_t42_loop.trips), ∀ (k0_h42 : k0_cond42 i v25 v2016 = 1#1), ∀ a, (k0_off213 v2018 k0_t42) a + S1x16.size a ≤ S32x512.size a := fun i v25 v2016 v2018 k0_hw83 k0_t42 k0_h42 => k0_hw83.2.2 k0_t42 k0_h42

def k0_off214 (v2016 : BitVec 32) (k0_t42 : Fin k0_t42_loop.trips) : Fin 2 → Nat :=
  let c0_i32_768 : BitVec 32 := 0#32
  let v2020 : BitVec 1 := Scalar.cmpi .sgt v2016 c0_i32_768
  let v2021 : BitVec 32 := Scalar.extui v2020
  let c0_i32_769 : BitVec 32 := 0#32
  let v2022 : BitVec 1 := Scalar.cmpi .slt v2016 c0_i32_769
  let v2023 : BitVec 32 := Scalar.extui v2022
  let v2024 : BitVec 32 := Scalar.subi v2021 v2023
  let c16_i32_767 : BitVec 32 := 16#32
  let c0_i32_770 : BitVec 32 := 0#32
  let v2025 : BitVec 1 := Scalar.cmpi .sgt c16_i32_767 c0_i32_770
  let v2026 : BitVec 32 := Scalar.extui v2025
  let c0_i32_771 : BitVec 32 := 0#32
  let v2027 : BitVec 1 := Scalar.cmpi .slt c16_i32_767 c0_i32_771
  let v2028 : BitVec 32 := Scalar.extui v2027
  let v2029 : BitVec 32 := Scalar.subi v2026 v2028
  let v2030 : BitVec 1 := Scalar.cmpi .ne v2024 v2029
  let v2031 : BitVec 32 := Scalar.remsi v2016 c16_i32_767
  let c0_i32_772 : BitVec 32 := 0#32
  let v2032 : BitVec 1 := Scalar.cmpi .ne v2031 c0_i32_772
  let v2033 : BitVec 1 := Scalar.andi v2030 v2032
  let v2019 : BitVec 32 := Scalar.divsi v2016 c16_i32_767
  let c1_i32_773 : BitVec 32 := 1#32
  let v2034 : BitVec 32 := Scalar.subi v2019 c1_i32_773
  let v2035 : BitVec 32 := Scalar.select v2033 v2034 v2019
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2035 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t42
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2016 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk84 (i : grid0.Coords) (v25 : BitVec 32) (v2016 : BitVec 32) : Prop :=
  (∀ k0_t42 : Fin k0_t42_loop.trips, ∀ (k0_h42 : k0_cond42 i v25 v2016 = 1#1), ∀ a, (k0_off212 v2016 k0_t42) a + S1x16.size a ≤ S128x512.size a) ∧
  (∀ k0_t42 : Fin k0_t42_loop.trips, ∀ (k0_h42 : k0_cond42 i v25 v2016 = 1#1), ∀ a, (k0_off214 v2016 k0_t42) a + S1x16.size a ≤ S128x512.size a)
theorem k0_off212_inb : ∀ (i : grid0.Coords) (v25 : BitVec 32) (v2016 : BitVec 32) (k0_hw84 : k0_chk84 i v25 v2016) (k0_t42 : Fin k0_t42_loop.trips), ∀ (k0_h42 : k0_cond42 i v25 v2016 = 1#1), ∀ a, (k0_off212 v2016 k0_t42) a + S1x16.size a ≤ S128x512.size a := fun i v25 v2016 k0_hw84 k0_t42 k0_h42 => k0_hw84.1 k0_t42 k0_h42
theorem k0_off214_inb : ∀ (i : grid0.Coords) (v25 : BitVec 32) (v2016 : BitVec 32) (k0_hw84 : k0_chk84 i v25 v2016) (k0_t42 : Fin k0_t42_loop.trips), ∀ (k0_h42 : k0_cond42 i v25 v2016 = 1#1), ∀ a, (k0_off214 v2016 k0_t42) a + S1x16.size a ≤ S128x512.size a := fun i v25 v2016 k0_hw84 k0_t42 k0_h42 => k0_hw84.2 k0_t42 k0_h42

def k0_off215 (i : grid0.Coords) (v2061 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2061 c0_i32_1428
  let v3763 : BitVec 32 := Scalar.extui v3762
  let c0_i32_1429 : BitVec 32 := 0#32
  let v3764 : BitVec 1 := Scalar.cmpi .slt v2061 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2061 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2061 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r50 : BitVec 32 := 0#32
  ![v3779.toNat, 0]
def k0_cond43 (i : grid0.Coords) (v25 : BitVec 32) (v2059 : BitVec 32) : BitVec 1 :=
  let c10_i32_790 : BitVec 32 := 10#32
  let v2079 : BitVec 1 := Scalar.cmpi .sgt v25 c10_i32_790
  let c0_i32_784 : BitVec 32 := 0#32
  let v2063 : BitVec 1 := Scalar.cmpi .sgt v2059 c0_i32_784
  let v2064 : BitVec 32 := Scalar.extui v2063
  let c0_i32_785 : BitVec 32 := 0#32
  let v2065 : BitVec 1 := Scalar.cmpi .slt v2059 c0_i32_785
  let v2066 : BitVec 32 := Scalar.extui v2065
  let v2067 : BitVec 32 := Scalar.subi v2064 v2066
  let c16_i32_783 : BitVec 32 := 16#32
  let c0_i32_786 : BitVec 32 := 0#32
  let v2068 : BitVec 1 := Scalar.cmpi .sgt c16_i32_783 c0_i32_786
  let v2069 : BitVec 32 := Scalar.extui v2068
  let c0_i32_787 : BitVec 32 := 0#32
  let v2070 : BitVec 1 := Scalar.cmpi .slt c16_i32_783 c0_i32_787
  let v2071 : BitVec 32 := Scalar.extui v2070
  let v2072 : BitVec 32 := Scalar.subi v2069 v2071
  let v2073 : BitVec 1 := Scalar.cmpi .ne v2067 v2072
  let v2074 : BitVec 32 := Scalar.remsi v2059 c16_i32_783
  let c0_i32_788 : BitVec 32 := 0#32
  let v2075 : BitVec 1 := Scalar.cmpi .ne v2074 c0_i32_788
  let v2076 : BitVec 1 := Scalar.andi v2073 v2075
  let v2062 : BitVec 32 := Scalar.divsi v2059 c16_i32_783
  let c1_i32_789 : BitVec 32 := 1#32
  let v2077 : BitVec 32 := Scalar.subi v2062 c1_i32_789
  let v2078 : BitVec 32 := Scalar.select v2076 v2077 v2062
  let c0_i32_792 : BitVec 32 := 0#32
  let v2081 : BitVec 1 := Scalar.cmpi .sgt v2078 c0_i32_792
  let v2082 : BitVec 32 := Scalar.extui v2081
  let c0_i32_793 : BitVec 32 := 0#32
  let v2083 : BitVec 1 := Scalar.cmpi .slt v2078 c0_i32_793
  let v2084 : BitVec 32 := Scalar.extui v2083
  let v2085 : BitVec 32 := Scalar.subi v2082 v2084
  let c4_i32_791 : BitVec 32 := 4#32
  let c0_i32_794 : BitVec 32 := 0#32
  let v2086 : BitVec 1 := Scalar.cmpi .sgt c4_i32_791 c0_i32_794
  let v2087 : BitVec 32 := Scalar.extui v2086
  let c0_i32_795 : BitVec 32 := 0#32
  let v2088 : BitVec 1 := Scalar.cmpi .slt c4_i32_791 c0_i32_795
  let v2089 : BitVec 32 := Scalar.extui v2088
  let v2090 : BitVec 32 := Scalar.subi v2087 v2089
  let v2091 : BitVec 1 := Scalar.cmpi .ne v2085 v2090
  let v2092 : BitVec 32 := Scalar.remsi v2078 c4_i32_791
  let c0_i32_796 : BitVec 32 := 0#32
  let v2093 : BitVec 1 := Scalar.cmpi .ne v2092 c0_i32_796
  let v2094 : BitVec 1 := Scalar.andi v2091 v2093
  let v2080 : BitVec 32 := Scalar.divsi v2078 c4_i32_791
  let c1_i32_797 : BitVec 32 := 1#32
  let v2095 : BitVec 32 := Scalar.subi v2080 c1_i32_797
  let v2096 : BitVec 32 := Scalar.select v2094 v2095 v2080
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2097 : BitVec 1 := Scalar.cmpi .eq v2096 v1627
  let v2098 : BitVec 1 := Scalar.andi v2079 v2097
  let v2099 : BitVec 32 := Scalar.extui v2098
  let c0_i32_798 : BitVec 32 := 0#32
  let v2100 : BitVec 1 := Scalar.cmpi .ne v2099 c0_i32_798
  v2100

@[reducible] def k0_t43_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off216 (v2061 : BitVec 32) (k0_t43 : Fin k0_t43_loop.trips) : Fin 2 → Nat :=
  let c0_i32_1453 : BitVec 32 := 0#32
  let c1_i32_1455 : BitVec 32 := 1#32
  let arg19 : BitVec 32 := Scf.iv c0_i32_1453 c1_i32_1455 k0_t43
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2061 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off217 (v2059 : BitVec 32) (k0_t43 : Fin k0_t43_loop.trips) : Fin 2 → Nat :=
  let c0_i32_784 : BitVec 32 := 0#32
  let v2063 : BitVec 1 := Scalar.cmpi .sgt v2059 c0_i32_784
  let v2064 : BitVec 32 := Scalar.extui v2063
  let c0_i32_785 : BitVec 32 := 0#32
  let v2065 : BitVec 1 := Scalar.cmpi .slt v2059 c0_i32_785
  let v2066 : BitVec 32 := Scalar.extui v2065
  let v2067 : BitVec 32 := Scalar.subi v2064 v2066
  let c16_i32_783 : BitVec 32 := 16#32
  let c0_i32_786 : BitVec 32 := 0#32
  let v2068 : BitVec 1 := Scalar.cmpi .sgt c16_i32_783 c0_i32_786
  let v2069 : BitVec 32 := Scalar.extui v2068
  let c0_i32_787 : BitVec 32 := 0#32
  let v2070 : BitVec 1 := Scalar.cmpi .slt c16_i32_783 c0_i32_787
  let v2071 : BitVec 32 := Scalar.extui v2070
  let v2072 : BitVec 32 := Scalar.subi v2069 v2071
  let v2073 : BitVec 1 := Scalar.cmpi .ne v2067 v2072
  let v2074 : BitVec 32 := Scalar.remsi v2059 c16_i32_783
  let c0_i32_788 : BitVec 32 := 0#32
  let v2075 : BitVec 1 := Scalar.cmpi .ne v2074 c0_i32_788
  let v2076 : BitVec 1 := Scalar.andi v2073 v2075
  let v2062 : BitVec 32 := Scalar.divsi v2059 c16_i32_783
  let c1_i32_789 : BitVec 32 := 1#32
  let v2077 : BitVec 32 := Scalar.subi v2062 c1_i32_789
  let v2078 : BitVec 32 := Scalar.select v2076 v2077 v2062
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2078 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t43
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2059 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off218 (v2061 : BitVec 32) (k0_t43 : Fin k0_t43_loop.trips) : Fin 2 → Nat :=
  let c0_i32_1453 : BitVec 32 := 0#32
  let c1_i32_1455 : BitVec 32 := 1#32
  let arg19 : BitVec 32 := Scf.iv c0_i32_1453 c1_i32_1455 k0_t43
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2061 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk85 (i : grid0.Coords) (v25 : BitVec 32) (v2059 : BitVec 32) (v2061 : BitVec 32) : Prop :=
  (∀ (k0_h43 : k0_cond43 i v25 v2059 = 1#1), ∀ a, (k0_off215 i v2061) a + S32x512.size a ≤ S12288x512.size a) ∧
  (∀ k0_t43 : Fin k0_t43_loop.trips, ∀ (k0_h43 : k0_cond43 i v25 v2059 = 1#1), ∀ a, (k0_off216 v2061 k0_t43) a + S1x16.size a ≤ S32x512.size a) ∧
  (∀ k0_t43 : Fin k0_t43_loop.trips, ∀ (k0_h43 : k0_cond43 i v25 v2059 = 1#1), ∀ a, (k0_off218 v2061 k0_t43) a + S1x16.size a ≤ S32x512.size a)
theorem k0_off215_inb : ∀ (i : grid0.Coords) (v25 : BitVec 32) (v2059 : BitVec 32) (v2061 : BitVec 32) (k0_hw85 : k0_chk85 i v25 v2059 v2061), ∀ (k0_h43 : k0_cond43 i v25 v2059 = 1#1), ∀ a, (k0_off215 i v2061) a + S32x512.size a ≤ S12288x512.size a := fun i v25 v2059 v2061 k0_hw85 k0_h43 => k0_hw85.1 k0_h43
theorem k0_off216_inb : ∀ (i : grid0.Coords) (v25 : BitVec 32) (v2059 : BitVec 32) (v2061 : BitVec 32) (k0_hw85 : k0_chk85 i v25 v2059 v2061) (k0_t43 : Fin k0_t43_loop.trips), ∀ (k0_h43 : k0_cond43 i v25 v2059 = 1#1), ∀ a, (k0_off216 v2061 k0_t43) a + S1x16.size a ≤ S32x512.size a := fun i v25 v2059 v2061 k0_hw85 k0_t43 k0_h43 => k0_hw85.2.1 k0_t43 k0_h43
theorem k0_off218_inb : ∀ (i : grid0.Coords) (v25 : BitVec 32) (v2059 : BitVec 32) (v2061 : BitVec 32) (k0_hw85 : k0_chk85 i v25 v2059 v2061) (k0_t43 : Fin k0_t43_loop.trips), ∀ (k0_h43 : k0_cond43 i v25 v2059 = 1#1), ∀ a, (k0_off218 v2061 k0_t43) a + S1x16.size a ≤ S32x512.size a := fun i v25 v2059 v2061 k0_hw85 k0_t43 k0_h43 => k0_hw85.2.2 k0_t43 k0_h43

def k0_off219 (v2059 : BitVec 32) (k0_t43 : Fin k0_t43_loop.trips) : Fin 2 → Nat :=
  let c0_i32_784 : BitVec 32 := 0#32
  let v2063 : BitVec 1 := Scalar.cmpi .sgt v2059 c0_i32_784
  let v2064 : BitVec 32 := Scalar.extui v2063
  let c0_i32_785 : BitVec 32 := 0#32
  let v2065 : BitVec 1 := Scalar.cmpi .slt v2059 c0_i32_785
  let v2066 : BitVec 32 := Scalar.extui v2065
  let v2067 : BitVec 32 := Scalar.subi v2064 v2066
  let c16_i32_783 : BitVec 32 := 16#32
  let c0_i32_786 : BitVec 32 := 0#32
  let v2068 : BitVec 1 := Scalar.cmpi .sgt c16_i32_783 c0_i32_786
  let v2069 : BitVec 32 := Scalar.extui v2068
  let c0_i32_787 : BitVec 32 := 0#32
  let v2070 : BitVec 1 := Scalar.cmpi .slt c16_i32_783 c0_i32_787
  let v2071 : BitVec 32 := Scalar.extui v2070
  let v2072 : BitVec 32 := Scalar.subi v2069 v2071
  let v2073 : BitVec 1 := Scalar.cmpi .ne v2067 v2072
  let v2074 : BitVec 32 := Scalar.remsi v2059 c16_i32_783
  let c0_i32_788 : BitVec 32 := 0#32
  let v2075 : BitVec 1 := Scalar.cmpi .ne v2074 c0_i32_788
  let v2076 : BitVec 1 := Scalar.andi v2073 v2075
  let v2062 : BitVec 32 := Scalar.divsi v2059 c16_i32_783
  let c1_i32_789 : BitVec 32 := 1#32
  let v2077 : BitVec 32 := Scalar.subi v2062 c1_i32_789
  let v2078 : BitVec 32 := Scalar.select v2076 v2077 v2062
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2078 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t43
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2059 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk86 (i : grid0.Coords) (v25 : BitVec 32) (v2059 : BitVec 32) : Prop :=
  (∀ k0_t43 : Fin k0_t43_loop.trips, ∀ (k0_h43 : k0_cond43 i v25 v2059 = 1#1), ∀ a, (k0_off217 v2059 k0_t43) a + S1x16.size a ≤ S128x512.size a) ∧
  (∀ k0_t43 : Fin k0_t43_loop.trips, ∀ (k0_h43 : k0_cond43 i v25 v2059 = 1#1), ∀ a, (k0_off219 v2059 k0_t43) a + S1x16.size a ≤ S128x512.size a)
theorem k0_off217_inb : ∀ (i : grid0.Coords) (v25 : BitVec 32) (v2059 : BitVec 32) (k0_hw86 : k0_chk86 i v25 v2059) (k0_t43 : Fin k0_t43_loop.trips), ∀ (k0_h43 : k0_cond43 i v25 v2059 = 1#1), ∀ a, (k0_off217 v2059 k0_t43) a + S1x16.size a ≤ S128x512.size a := fun i v25 v2059 k0_hw86 k0_t43 k0_h43 => k0_hw86.1 k0_t43 k0_h43
theorem k0_off219_inb : ∀ (i : grid0.Coords) (v25 : BitVec 32) (v2059 : BitVec 32) (k0_hw86 : k0_chk86 i v25 v2059) (k0_t43 : Fin k0_t43_loop.trips), ∀ (k0_h43 : k0_cond43 i v25 v2059 = 1#1), ∀ a, (k0_off219 v2059 k0_t43) a + S1x16.size a ≤ S128x512.size a := fun i v25 v2059 k0_hw86 k0_t43 k0_h43 => k0_hw86.2 k0_t43 k0_h43

def k0_off220 (i : grid0.Coords) (v2104 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2104 c0_i32_1428
  let v3763 : BitVec 32 := Scalar.extui v3762
  let c0_i32_1429 : BitVec 32 := 0#32
  let v3764 : BitVec 1 := Scalar.cmpi .slt v2104 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2104 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2104 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r51 : BitVec 32 := 0#32
  ![v3779.toNat, 0]
def k0_cond44 (i : grid0.Coords) (v25 : BitVec 32) (v2102 : BitVec 32) : BitVec 1 :=
  let c11_i32_806 : BitVec 32 := 11#32
  let v2122 : BitVec 1 := Scalar.cmpi .sgt v25 c11_i32_806
  let c0_i32_800 : BitVec 32 := 0#32
  let v2106 : BitVec 1 := Scalar.cmpi .sgt v2102 c0_i32_800
  let v2107 : BitVec 32 := Scalar.extui v2106
  let c0_i32_801 : BitVec 32 := 0#32
  let v2108 : BitVec 1 := Scalar.cmpi .slt v2102 c0_i32_801
  let v2109 : BitVec 32 := Scalar.extui v2108
  let v2110 : BitVec 32 := Scalar.subi v2107 v2109
  let c16_i32_799 : BitVec 32 := 16#32
  let c0_i32_802 : BitVec 32 := 0#32
  let v2111 : BitVec 1 := Scalar.cmpi .sgt c16_i32_799 c0_i32_802
  let v2112 : BitVec 32 := Scalar.extui v2111
  let c0_i32_803 : BitVec 32 := 0#32
  let v2113 : BitVec 1 := Scalar.cmpi .slt c16_i32_799 c0_i32_803
  let v2114 : BitVec 32 := Scalar.extui v2113
  let v2115 : BitVec 32 := Scalar.subi v2112 v2114
  let v2116 : BitVec 1 := Scalar.cmpi .ne v2110 v2115
  let v2117 : BitVec 32 := Scalar.remsi v2102 c16_i32_799
  let c0_i32_804 : BitVec 32 := 0#32
  let v2118 : BitVec 1 := Scalar.cmpi .ne v2117 c0_i32_804
  let v2119 : BitVec 1 := Scalar.andi v2116 v2118
  let v2105 : BitVec 32 := Scalar.divsi v2102 c16_i32_799
  let c1_i32_805 : BitVec 32 := 1#32
  let v2120 : BitVec 32 := Scalar.subi v2105 c1_i32_805
  let v2121 : BitVec 32 := Scalar.select v2119 v2120 v2105
  let c0_i32_808 : BitVec 32 := 0#32
  let v2124 : BitVec 1 := Scalar.cmpi .sgt v2121 c0_i32_808
  let v2125 : BitVec 32 := Scalar.extui v2124
  let c0_i32_809 : BitVec 32 := 0#32
  let v2126 : BitVec 1 := Scalar.cmpi .slt v2121 c0_i32_809
  let v2127 : BitVec 32 := Scalar.extui v2126
  let v2128 : BitVec 32 := Scalar.subi v2125 v2127
  let c4_i32_807 : BitVec 32 := 4#32
  let c0_i32_810 : BitVec 32 := 0#32
  let v2129 : BitVec 1 := Scalar.cmpi .sgt c4_i32_807 c0_i32_810
  let v2130 : BitVec 32 := Scalar.extui v2129
  let c0_i32_811 : BitVec 32 := 0#32
  let v2131 : BitVec 1 := Scalar.cmpi .slt c4_i32_807 c0_i32_811
  let v2132 : BitVec 32 := Scalar.extui v2131
  let v2133 : BitVec 32 := Scalar.subi v2130 v2132
  let v2134 : BitVec 1 := Scalar.cmpi .ne v2128 v2133
  let v2135 : BitVec 32 := Scalar.remsi v2121 c4_i32_807
  let c0_i32_812 : BitVec 32 := 0#32
  let v2136 : BitVec 1 := Scalar.cmpi .ne v2135 c0_i32_812
  let v2137 : BitVec 1 := Scalar.andi v2134 v2136
  let v2123 : BitVec 32 := Scalar.divsi v2121 c4_i32_807
  let c1_i32_813 : BitVec 32 := 1#32
  let v2138 : BitVec 32 := Scalar.subi v2123 c1_i32_813
  let v2139 : BitVec 32 := Scalar.select v2137 v2138 v2123
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2140 : BitVec 1 := Scalar.cmpi .eq v2139 v1627
  let v2141 : BitVec 1 := Scalar.andi v2122 v2140
  let v2142 : BitVec 32 := Scalar.extui v2141
  let c0_i32_814 : BitVec 32 := 0#32
  let v2143 : BitVec 1 := Scalar.cmpi .ne v2142 c0_i32_814
  v2143

@[reducible] def k0_t44_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off221 (v2104 : BitVec 32) (k0_t44 : Fin k0_t44_loop.trips) : Fin 2 → Nat :=
  let c0_i32_1453 : BitVec 32 := 0#32
  let c1_i32_1455 : BitVec 32 := 1#32
  let arg19 : BitVec 32 := Scf.iv c0_i32_1453 c1_i32_1455 k0_t44
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2104 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off222 (v2102 : BitVec 32) (k0_t44 : Fin k0_t44_loop.trips) : Fin 2 → Nat :=
  let c0_i32_800 : BitVec 32 := 0#32
  let v2106 : BitVec 1 := Scalar.cmpi .sgt v2102 c0_i32_800
  let v2107 : BitVec 32 := Scalar.extui v2106
  let c0_i32_801 : BitVec 32 := 0#32
  let v2108 : BitVec 1 := Scalar.cmpi .slt v2102 c0_i32_801
  let v2109 : BitVec 32 := Scalar.extui v2108
  let v2110 : BitVec 32 := Scalar.subi v2107 v2109
  let c16_i32_799 : BitVec 32 := 16#32
  let c0_i32_802 : BitVec 32 := 0#32
  let v2111 : BitVec 1 := Scalar.cmpi .sgt c16_i32_799 c0_i32_802
  let v2112 : BitVec 32 := Scalar.extui v2111
  let c0_i32_803 : BitVec 32 := 0#32
  let v2113 : BitVec 1 := Scalar.cmpi .slt c16_i32_799 c0_i32_803
  let v2114 : BitVec 32 := Scalar.extui v2113
  let v2115 : BitVec 32 := Scalar.subi v2112 v2114
  let v2116 : BitVec 1 := Scalar.cmpi .ne v2110 v2115
  let v2117 : BitVec 32 := Scalar.remsi v2102 c16_i32_799
  let c0_i32_804 : BitVec 32 := 0#32
  let v2118 : BitVec 1 := Scalar.cmpi .ne v2117 c0_i32_804
  let v2119 : BitVec 1 := Scalar.andi v2116 v2118
  let v2105 : BitVec 32 := Scalar.divsi v2102 c16_i32_799
  let c1_i32_805 : BitVec 32 := 1#32
  let v2120 : BitVec 32 := Scalar.subi v2105 c1_i32_805
  let v2121 : BitVec 32 := Scalar.select v2119 v2120 v2105
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2121 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t44
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2102 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off223 (v2104 : BitVec 32) (k0_t44 : Fin k0_t44_loop.trips) : Fin 2 → Nat :=
  let c0_i32_1453 : BitVec 32 := 0#32
  let c1_i32_1455 : BitVec 32 := 1#32
  let arg19 : BitVec 32 := Scf.iv c0_i32_1453 c1_i32_1455 k0_t44
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2104 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk87 (i : grid0.Coords) (v25 : BitVec 32) (v2102 : BitVec 32) (v2104 : BitVec 32) : Prop :=
  (∀ (k0_h44 : k0_cond44 i v25 v2102 = 1#1), ∀ a, (k0_off220 i v2104) a + S32x512.size a ≤ S12288x512.size a) ∧
  (∀ k0_t44 : Fin k0_t44_loop.trips, ∀ (k0_h44 : k0_cond44 i v25 v2102 = 1#1), ∀ a, (k0_off221 v2104 k0_t44) a + S1x16.size a ≤ S32x512.size a) ∧
  (∀ k0_t44 : Fin k0_t44_loop.trips, ∀ (k0_h44 : k0_cond44 i v25 v2102 = 1#1), ∀ a, (k0_off223 v2104 k0_t44) a + S1x16.size a ≤ S32x512.size a)
theorem k0_off220_inb : ∀ (i : grid0.Coords) (v25 : BitVec 32) (v2102 : BitVec 32) (v2104 : BitVec 32) (k0_hw87 : k0_chk87 i v25 v2102 v2104), ∀ (k0_h44 : k0_cond44 i v25 v2102 = 1#1), ∀ a, (k0_off220 i v2104) a + S32x512.size a ≤ S12288x512.size a := fun i v25 v2102 v2104 k0_hw87 k0_h44 => k0_hw87.1 k0_h44
theorem k0_off221_inb : ∀ (i : grid0.Coords) (v25 : BitVec 32) (v2102 : BitVec 32) (v2104 : BitVec 32) (k0_hw87 : k0_chk87 i v25 v2102 v2104) (k0_t44 : Fin k0_t44_loop.trips), ∀ (k0_h44 : k0_cond44 i v25 v2102 = 1#1), ∀ a, (k0_off221 v2104 k0_t44) a + S1x16.size a ≤ S32x512.size a := fun i v25 v2102 v2104 k0_hw87 k0_t44 k0_h44 => k0_hw87.2.1 k0_t44 k0_h44
theorem k0_off223_inb : ∀ (i : grid0.Coords) (v25 : BitVec 32) (v2102 : BitVec 32) (v2104 : BitVec 32) (k0_hw87 : k0_chk87 i v25 v2102 v2104) (k0_t44 : Fin k0_t44_loop.trips), ∀ (k0_h44 : k0_cond44 i v25 v2102 = 1#1), ∀ a, (k0_off223 v2104 k0_t44) a + S1x16.size a ≤ S32x512.size a := fun i v25 v2102 v2104 k0_hw87 k0_t44 k0_h44 => k0_hw87.2.2 k0_t44 k0_h44

def k0_off224 (v2102 : BitVec 32) (k0_t44 : Fin k0_t44_loop.trips) : Fin 2 → Nat :=
  let c0_i32_800 : BitVec 32 := 0#32
  let v2106 : BitVec 1 := Scalar.cmpi .sgt v2102 c0_i32_800
  let v2107 : BitVec 32 := Scalar.extui v2106
  let c0_i32_801 : BitVec 32 := 0#32
  let v2108 : BitVec 1 := Scalar.cmpi .slt v2102 c0_i32_801
  let v2109 : BitVec 32 := Scalar.extui v2108
  let v2110 : BitVec 32 := Scalar.subi v2107 v2109
  let c16_i32_799 : BitVec 32 := 16#32
  let c0_i32_802 : BitVec 32 := 0#32
  let v2111 : BitVec 1 := Scalar.cmpi .sgt c16_i32_799 c0_i32_802
  let v2112 : BitVec 32 := Scalar.extui v2111
  let c0_i32_803 : BitVec 32 := 0#32
  let v2113 : BitVec 1 := Scalar.cmpi .slt c16_i32_799 c0_i32_803
  let v2114 : BitVec 32 := Scalar.extui v2113
  let v2115 : BitVec 32 := Scalar.subi v2112 v2114
  let v2116 : BitVec 1 := Scalar.cmpi .ne v2110 v2115
  let v2117 : BitVec 32 := Scalar.remsi v2102 c16_i32_799
  let c0_i32_804 : BitVec 32 := 0#32
  let v2118 : BitVec 1 := Scalar.cmpi .ne v2117 c0_i32_804
  let v2119 : BitVec 1 := Scalar.andi v2116 v2118
  let v2105 : BitVec 32 := Scalar.divsi v2102 c16_i32_799
  let c1_i32_805 : BitVec 32 := 1#32
  let v2120 : BitVec 32 := Scalar.subi v2105 c1_i32_805
  let v2121 : BitVec 32 := Scalar.select v2119 v2120 v2105
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2121 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t44
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2102 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk88 (i : grid0.Coords) (v25 : BitVec 32) (v2102 : BitVec 32) : Prop :=
  (∀ k0_t44 : Fin k0_t44_loop.trips, ∀ (k0_h44 : k0_cond44 i v25 v2102 = 1#1), ∀ a, (k0_off222 v2102 k0_t44) a + S1x16.size a ≤ S128x512.size a) ∧
  (∀ k0_t44 : Fin k0_t44_loop.trips, ∀ (k0_h44 : k0_cond44 i v25 v2102 = 1#1), ∀ a, (k0_off224 v2102 k0_t44) a + S1x16.size a ≤ S128x512.size a)
theorem k0_off222_inb : ∀ (i : grid0.Coords) (v25 : BitVec 32) (v2102 : BitVec 32) (k0_hw88 : k0_chk88 i v25 v2102) (k0_t44 : Fin k0_t44_loop.trips), ∀ (k0_h44 : k0_cond44 i v25 v2102 = 1#1), ∀ a, (k0_off222 v2102 k0_t44) a + S1x16.size a ≤ S128x512.size a := fun i v25 v2102 k0_hw88 k0_t44 k0_h44 => k0_hw88.1 k0_t44 k0_h44
theorem k0_off224_inb : ∀ (i : grid0.Coords) (v25 : BitVec 32) (v2102 : BitVec 32) (k0_hw88 : k0_chk88 i v25 v2102) (k0_t44 : Fin k0_t44_loop.trips), ∀ (k0_h44 : k0_cond44 i v25 v2102 = 1#1), ∀ a, (k0_off224 v2102 k0_t44) a + S1x16.size a ≤ S128x512.size a := fun i v25 v2102 k0_hw88 k0_t44 k0_h44 => k0_hw88.2 k0_t44 k0_h44

def k0_off225 (i : grid0.Coords) (v2147 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2147 c0_i32_1428
  let v3763 : BitVec 32 := Scalar.extui v3762
  let c0_i32_1429 : BitVec 32 := 0#32
  let v3764 : BitVec 1 := Scalar.cmpi .slt v2147 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2147 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2147 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r52 : BitVec 32 := 0#32
  ![v3779.toNat, 0]
def k0_cond45 (i : grid0.Coords) (v25 : BitVec 32) (v2145 : BitVec 32) : BitVec 1 :=
  let c12_i32_822 : BitVec 32 := 12#32
  let v2165 : BitVec 1 := Scalar.cmpi .sgt v25 c12_i32_822
  let c0_i32_816 : BitVec 32 := 0#32
  let v2149 : BitVec 1 := Scalar.cmpi .sgt v2145 c0_i32_816
  let v2150 : BitVec 32 := Scalar.extui v2149
  let c0_i32_817 : BitVec 32 := 0#32
  let v2151 : BitVec 1 := Scalar.cmpi .slt v2145 c0_i32_817
  let v2152 : BitVec 32 := Scalar.extui v2151
  let v2153 : BitVec 32 := Scalar.subi v2150 v2152
  let c16_i32_815 : BitVec 32 := 16#32
  let c0_i32_818 : BitVec 32 := 0#32
  let v2154 : BitVec 1 := Scalar.cmpi .sgt c16_i32_815 c0_i32_818
  let v2155 : BitVec 32 := Scalar.extui v2154
  let c0_i32_819 : BitVec 32 := 0#32
  let v2156 : BitVec 1 := Scalar.cmpi .slt c16_i32_815 c0_i32_819
  let v2157 : BitVec 32 := Scalar.extui v2156
  let v2158 : BitVec 32 := Scalar.subi v2155 v2157
  let v2159 : BitVec 1 := Scalar.cmpi .ne v2153 v2158
  let v2160 : BitVec 32 := Scalar.remsi v2145 c16_i32_815
  let c0_i32_820 : BitVec 32 := 0#32
  let v2161 : BitVec 1 := Scalar.cmpi .ne v2160 c0_i32_820
  let v2162 : BitVec 1 := Scalar.andi v2159 v2161
  let v2148 : BitVec 32 := Scalar.divsi v2145 c16_i32_815
  let c1_i32_821 : BitVec 32 := 1#32
  let v2163 : BitVec 32 := Scalar.subi v2148 c1_i32_821
  let v2164 : BitVec 32 := Scalar.select v2162 v2163 v2148
  let c0_i32_824 : BitVec 32 := 0#32
  let v2167 : BitVec 1 := Scalar.cmpi .sgt v2164 c0_i32_824
  let v2168 : BitVec 32 := Scalar.extui v2167
  let c0_i32_825 : BitVec 32 := 0#32
  let v2169 : BitVec 1 := Scalar.cmpi .slt v2164 c0_i32_825
  let v2170 : BitVec 32 := Scalar.extui v2169
  let v2171 : BitVec 32 := Scalar.subi v2168 v2170
  let c4_i32_823 : BitVec 32 := 4#32
  let c0_i32_826 : BitVec 32 := 0#32
  let v2172 : BitVec 1 := Scalar.cmpi .sgt c4_i32_823 c0_i32_826
  let v2173 : BitVec 32 := Scalar.extui v2172
  let c0_i32_827 : BitVec 32 := 0#32
  let v2174 : BitVec 1 := Scalar.cmpi .slt c4_i32_823 c0_i32_827
  let v2175 : BitVec 32 := Scalar.extui v2174
  let v2176 : BitVec 32 := Scalar.subi v2173 v2175
  let v2177 : BitVec 1 := Scalar.cmpi .ne v2171 v2176
  let v2178 : BitVec 32 := Scalar.remsi v2164 c4_i32_823
  let c0_i32_828 : BitVec 32 := 0#32
  let v2179 : BitVec 1 := Scalar.cmpi .ne v2178 c0_i32_828
  let v2180 : BitVec 1 := Scalar.andi v2177 v2179
  let v2166 : BitVec 32 := Scalar.divsi v2164 c4_i32_823
  let c1_i32_829 : BitVec 32 := 1#32
  let v2181 : BitVec 32 := Scalar.subi v2166 c1_i32_829
  let v2182 : BitVec 32 := Scalar.select v2180 v2181 v2166
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2183 : BitVec 1 := Scalar.cmpi .eq v2182 v1627
  let v2184 : BitVec 1 := Scalar.andi v2165 v2183
  let v2185 : BitVec 32 := Scalar.extui v2184
  let c0_i32_830 : BitVec 32 := 0#32
  let v2186 : BitVec 1 := Scalar.cmpi .ne v2185 c0_i32_830
  v2186

@[reducible] def k0_t45_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off226 (v2147 : BitVec 32) (k0_t45 : Fin k0_t45_loop.trips) : Fin 2 → Nat :=
  let c0_i32_1453 : BitVec 32 := 0#32
  let c1_i32_1455 : BitVec 32 := 1#32
  let arg19 : BitVec 32 := Scf.iv c0_i32_1453 c1_i32_1455 k0_t45
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2147 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off227 (v2145 : BitVec 32) (k0_t45 : Fin k0_t45_loop.trips) : Fin 2 → Nat :=
  let c0_i32_816 : BitVec 32 := 0#32
  let v2149 : BitVec 1 := Scalar.cmpi .sgt v2145 c0_i32_816
  let v2150 : BitVec 32 := Scalar.extui v2149
  let c0_i32_817 : BitVec 32 := 0#32
  let v2151 : BitVec 1 := Scalar.cmpi .slt v2145 c0_i32_817
  let v2152 : BitVec 32 := Scalar.extui v2151
  let v2153 : BitVec 32 := Scalar.subi v2150 v2152
  let c16_i32_815 : BitVec 32 := 16#32
  let c0_i32_818 : BitVec 32 := 0#32
  let v2154 : BitVec 1 := Scalar.cmpi .sgt c16_i32_815 c0_i32_818
  let v2155 : BitVec 32 := Scalar.extui v2154
  let c0_i32_819 : BitVec 32 := 0#32
  let v2156 : BitVec 1 := Scalar.cmpi .slt c16_i32_815 c0_i32_819
  let v2157 : BitVec 32 := Scalar.extui v2156
  let v2158 : BitVec 32 := Scalar.subi v2155 v2157
  let v2159 : BitVec 1 := Scalar.cmpi .ne v2153 v2158
  let v2160 : BitVec 32 := Scalar.remsi v2145 c16_i32_815
  let c0_i32_820 : BitVec 32 := 0#32
  let v2161 : BitVec 1 := Scalar.cmpi .ne v2160 c0_i32_820
  let v2162 : BitVec 1 := Scalar.andi v2159 v2161
  let v2148 : BitVec 32 := Scalar.divsi v2145 c16_i32_815
  let c1_i32_821 : BitVec 32 := 1#32
  let v2163 : BitVec 32 := Scalar.subi v2148 c1_i32_821
  let v2164 : BitVec 32 := Scalar.select v2162 v2163 v2148
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2164 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t45
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2145 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off228 (v2147 : BitVec 32) (k0_t45 : Fin k0_t45_loop.trips) : Fin 2 → Nat :=
  let c0_i32_1453 : BitVec 32 := 0#32
  let c1_i32_1455 : BitVec 32 := 1#32
  let arg19 : BitVec 32 := Scf.iv c0_i32_1453 c1_i32_1455 k0_t45
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2147 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk89 (i : grid0.Coords) (v25 : BitVec 32) (v2145 : BitVec 32) (v2147 : BitVec 32) : Prop :=
  (∀ (k0_h45 : k0_cond45 i v25 v2145 = 1#1), ∀ a, (k0_off225 i v2147) a + S32x512.size a ≤ S12288x512.size a) ∧
  (∀ k0_t45 : Fin k0_t45_loop.trips, ∀ (k0_h45 : k0_cond45 i v25 v2145 = 1#1), ∀ a, (k0_off226 v2147 k0_t45) a + S1x16.size a ≤ S32x512.size a) ∧
  (∀ k0_t45 : Fin k0_t45_loop.trips, ∀ (k0_h45 : k0_cond45 i v25 v2145 = 1#1), ∀ a, (k0_off228 v2147 k0_t45) a + S1x16.size a ≤ S32x512.size a)
theorem k0_off225_inb : ∀ (i : grid0.Coords) (v25 : BitVec 32) (v2145 : BitVec 32) (v2147 : BitVec 32) (k0_hw89 : k0_chk89 i v25 v2145 v2147), ∀ (k0_h45 : k0_cond45 i v25 v2145 = 1#1), ∀ a, (k0_off225 i v2147) a + S32x512.size a ≤ S12288x512.size a := fun i v25 v2145 v2147 k0_hw89 k0_h45 => k0_hw89.1 k0_h45
theorem k0_off226_inb : ∀ (i : grid0.Coords) (v25 : BitVec 32) (v2145 : BitVec 32) (v2147 : BitVec 32) (k0_hw89 : k0_chk89 i v25 v2145 v2147) (k0_t45 : Fin k0_t45_loop.trips), ∀ (k0_h45 : k0_cond45 i v25 v2145 = 1#1), ∀ a, (k0_off226 v2147 k0_t45) a + S1x16.size a ≤ S32x512.size a := fun i v25 v2145 v2147 k0_hw89 k0_t45 k0_h45 => k0_hw89.2.1 k0_t45 k0_h45
theorem k0_off228_inb : ∀ (i : grid0.Coords) (v25 : BitVec 32) (v2145 : BitVec 32) (v2147 : BitVec 32) (k0_hw89 : k0_chk89 i v25 v2145 v2147) (k0_t45 : Fin k0_t45_loop.trips), ∀ (k0_h45 : k0_cond45 i v25 v2145 = 1#1), ∀ a, (k0_off228 v2147 k0_t45) a + S1x16.size a ≤ S32x512.size a := fun i v25 v2145 v2147 k0_hw89 k0_t45 k0_h45 => k0_hw89.2.2 k0_t45 k0_h45

def k0_off229 (v2145 : BitVec 32) (k0_t45 : Fin k0_t45_loop.trips) : Fin 2 → Nat :=
  let c0_i32_816 : BitVec 32 := 0#32
  let v2149 : BitVec 1 := Scalar.cmpi .sgt v2145 c0_i32_816
  let v2150 : BitVec 32 := Scalar.extui v2149
  let c0_i32_817 : BitVec 32 := 0#32
  let v2151 : BitVec 1 := Scalar.cmpi .slt v2145 c0_i32_817
  let v2152 : BitVec 32 := Scalar.extui v2151
  let v2153 : BitVec 32 := Scalar.subi v2150 v2152
  let c16_i32_815 : BitVec 32 := 16#32
  let c0_i32_818 : BitVec 32 := 0#32
  let v2154 : BitVec 1 := Scalar.cmpi .sgt c16_i32_815 c0_i32_818
  let v2155 : BitVec 32 := Scalar.extui v2154
  let c0_i32_819 : BitVec 32 := 0#32
  let v2156 : BitVec 1 := Scalar.cmpi .slt c16_i32_815 c0_i32_819
  let v2157 : BitVec 32 := Scalar.extui v2156
  let v2158 : BitVec 32 := Scalar.subi v2155 v2157
  let v2159 : BitVec 1 := Scalar.cmpi .ne v2153 v2158
  let v2160 : BitVec 32 := Scalar.remsi v2145 c16_i32_815
  let c0_i32_820 : BitVec 32 := 0#32
  let v2161 : BitVec 1 := Scalar.cmpi .ne v2160 c0_i32_820
  let v2162 : BitVec 1 := Scalar.andi v2159 v2161
  let v2148 : BitVec 32 := Scalar.divsi v2145 c16_i32_815
  let c1_i32_821 : BitVec 32 := 1#32
  let v2163 : BitVec 32 := Scalar.subi v2148 c1_i32_821
  let v2164 : BitVec 32 := Scalar.select v2162 v2163 v2148
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2164 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t45
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2145 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk90 (i : grid0.Coords) (v25 : BitVec 32) (v2145 : BitVec 32) : Prop :=
  (∀ k0_t45 : Fin k0_t45_loop.trips, ∀ (k0_h45 : k0_cond45 i v25 v2145 = 1#1), ∀ a, (k0_off227 v2145 k0_t45) a + S1x16.size a ≤ S128x512.size a) ∧
  (∀ k0_t45 : Fin k0_t45_loop.trips, ∀ (k0_h45 : k0_cond45 i v25 v2145 = 1#1), ∀ a, (k0_off229 v2145 k0_t45) a + S1x16.size a ≤ S128x512.size a)
theorem k0_off227_inb : ∀ (i : grid0.Coords) (v25 : BitVec 32) (v2145 : BitVec 32) (k0_hw90 : k0_chk90 i v25 v2145) (k0_t45 : Fin k0_t45_loop.trips), ∀ (k0_h45 : k0_cond45 i v25 v2145 = 1#1), ∀ a, (k0_off227 v2145 k0_t45) a + S1x16.size a ≤ S128x512.size a := fun i v25 v2145 k0_hw90 k0_t45 k0_h45 => k0_hw90.1 k0_t45 k0_h45
theorem k0_off229_inb : ∀ (i : grid0.Coords) (v25 : BitVec 32) (v2145 : BitVec 32) (k0_hw90 : k0_chk90 i v25 v2145) (k0_t45 : Fin k0_t45_loop.trips), ∀ (k0_h45 : k0_cond45 i v25 v2145 = 1#1), ∀ a, (k0_off229 v2145 k0_t45) a + S1x16.size a ≤ S128x512.size a := fun i v25 v2145 k0_hw90 k0_t45 k0_h45 => k0_hw90.2 k0_t45 k0_h45

def k0_off230 (i : grid0.Coords) (v2190 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2190 c0_i32_1428
  let v3763 : BitVec 32 := Scalar.extui v3762
  let c0_i32_1429 : BitVec 32 := 0#32
  let v3764 : BitVec 1 := Scalar.cmpi .slt v2190 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2190 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2190 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r53 : BitVec 32 := 0#32
  ![v3779.toNat, 0]
def k0_cond46 (i : grid0.Coords) (v25 : BitVec 32) (v2188 : BitVec 32) : BitVec 1 :=
  let c13_i32_838 : BitVec 32 := 13#32
  let v2208 : BitVec 1 := Scalar.cmpi .sgt v25 c13_i32_838
  let c0_i32_832 : BitVec 32 := 0#32
  let v2192 : BitVec 1 := Scalar.cmpi .sgt v2188 c0_i32_832
  let v2193 : BitVec 32 := Scalar.extui v2192
  let c0_i32_833 : BitVec 32 := 0#32
  let v2194 : BitVec 1 := Scalar.cmpi .slt v2188 c0_i32_833
  let v2195 : BitVec 32 := Scalar.extui v2194
  let v2196 : BitVec 32 := Scalar.subi v2193 v2195
  let c16_i32_831 : BitVec 32 := 16#32
  let c0_i32_834 : BitVec 32 := 0#32
  let v2197 : BitVec 1 := Scalar.cmpi .sgt c16_i32_831 c0_i32_834
  let v2198 : BitVec 32 := Scalar.extui v2197
  let c0_i32_835 : BitVec 32 := 0#32
  let v2199 : BitVec 1 := Scalar.cmpi .slt c16_i32_831 c0_i32_835
  let v2200 : BitVec 32 := Scalar.extui v2199
  let v2201 : BitVec 32 := Scalar.subi v2198 v2200
  let v2202 : BitVec 1 := Scalar.cmpi .ne v2196 v2201
  let v2203 : BitVec 32 := Scalar.remsi v2188 c16_i32_831
  let c0_i32_836 : BitVec 32 := 0#32
  let v2204 : BitVec 1 := Scalar.cmpi .ne v2203 c0_i32_836
  let v2205 : BitVec 1 := Scalar.andi v2202 v2204
  let v2191 : BitVec 32 := Scalar.divsi v2188 c16_i32_831
  let c1_i32_837 : BitVec 32 := 1#32
  let v2206 : BitVec 32 := Scalar.subi v2191 c1_i32_837
  let v2207 : BitVec 32 := Scalar.select v2205 v2206 v2191
  let c0_i32_840 : BitVec 32 := 0#32
  let v2210 : BitVec 1 := Scalar.cmpi .sgt v2207 c0_i32_840
  let v2211 : BitVec 32 := Scalar.extui v2210
  let c0_i32_841 : BitVec 32 := 0#32
  let v2212 : BitVec 1 := Scalar.cmpi .slt v2207 c0_i32_841
  let v2213 : BitVec 32 := Scalar.extui v2212
  let v2214 : BitVec 32 := Scalar.subi v2211 v2213
  let c4_i32_839 : BitVec 32 := 4#32
  let c0_i32_842 : BitVec 32 := 0#32
  let v2215 : BitVec 1 := Scalar.cmpi .sgt c4_i32_839 c0_i32_842
  let v2216 : BitVec 32 := Scalar.extui v2215
  let c0_i32_843 : BitVec 32 := 0#32
  let v2217 : BitVec 1 := Scalar.cmpi .slt c4_i32_839 c0_i32_843
  let v2218 : BitVec 32 := Scalar.extui v2217
  let v2219 : BitVec 32 := Scalar.subi v2216 v2218
  let v2220 : BitVec 1 := Scalar.cmpi .ne v2214 v2219
  let v2221 : BitVec 32 := Scalar.remsi v2207 c4_i32_839
  let c0_i32_844 : BitVec 32 := 0#32
  let v2222 : BitVec 1 := Scalar.cmpi .ne v2221 c0_i32_844
  let v2223 : BitVec 1 := Scalar.andi v2220 v2222
  let v2209 : BitVec 32 := Scalar.divsi v2207 c4_i32_839
  let c1_i32_845 : BitVec 32 := 1#32
  let v2224 : BitVec 32 := Scalar.subi v2209 c1_i32_845
  let v2225 : BitVec 32 := Scalar.select v2223 v2224 v2209
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2226 : BitVec 1 := Scalar.cmpi .eq v2225 v1627
  let v2227 : BitVec 1 := Scalar.andi v2208 v2226
  let v2228 : BitVec 32 := Scalar.extui v2227
  let c0_i32_846 : BitVec 32 := 0#32
  let v2229 : BitVec 1 := Scalar.cmpi .ne v2228 c0_i32_846
  v2229

@[reducible] def k0_t46_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off231 (v2190 : BitVec 32) (k0_t46 : Fin k0_t46_loop.trips) : Fin 2 → Nat :=
  let c0_i32_1453 : BitVec 32 := 0#32
  let c1_i32_1455 : BitVec 32 := 1#32
  let arg19 : BitVec 32 := Scf.iv c0_i32_1453 c1_i32_1455 k0_t46
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2190 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off232 (v2188 : BitVec 32) (k0_t46 : Fin k0_t46_loop.trips) : Fin 2 → Nat :=
  let c0_i32_832 : BitVec 32 := 0#32
  let v2192 : BitVec 1 := Scalar.cmpi .sgt v2188 c0_i32_832
  let v2193 : BitVec 32 := Scalar.extui v2192
  let c0_i32_833 : BitVec 32 := 0#32
  let v2194 : BitVec 1 := Scalar.cmpi .slt v2188 c0_i32_833
  let v2195 : BitVec 32 := Scalar.extui v2194
  let v2196 : BitVec 32 := Scalar.subi v2193 v2195
  let c16_i32_831 : BitVec 32 := 16#32
  let c0_i32_834 : BitVec 32 := 0#32
  let v2197 : BitVec 1 := Scalar.cmpi .sgt c16_i32_831 c0_i32_834
  let v2198 : BitVec 32 := Scalar.extui v2197
  let c0_i32_835 : BitVec 32 := 0#32
  let v2199 : BitVec 1 := Scalar.cmpi .slt c16_i32_831 c0_i32_835
  let v2200 : BitVec 32 := Scalar.extui v2199
  let v2201 : BitVec 32 := Scalar.subi v2198 v2200
  let v2202 : BitVec 1 := Scalar.cmpi .ne v2196 v2201
  let v2203 : BitVec 32 := Scalar.remsi v2188 c16_i32_831
  let c0_i32_836 : BitVec 32 := 0#32
  let v2204 : BitVec 1 := Scalar.cmpi .ne v2203 c0_i32_836
  let v2205 : BitVec 1 := Scalar.andi v2202 v2204
  let v2191 : BitVec 32 := Scalar.divsi v2188 c16_i32_831
  let c1_i32_837 : BitVec 32 := 1#32
  let v2206 : BitVec 32 := Scalar.subi v2191 c1_i32_837
  let v2207 : BitVec 32 := Scalar.select v2205 v2206 v2191
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2207 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t46
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2188 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off233 (v2190 : BitVec 32) (k0_t46 : Fin k0_t46_loop.trips) : Fin 2 → Nat :=
  let c0_i32_1453 : BitVec 32 := 0#32
  let c1_i32_1455 : BitVec 32 := 1#32
  let arg19 : BitVec 32 := Scf.iv c0_i32_1453 c1_i32_1455 k0_t46
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2190 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk91 (i : grid0.Coords) (v25 : BitVec 32) (v2188 : BitVec 32) (v2190 : BitVec 32) : Prop :=
  (∀ (k0_h46 : k0_cond46 i v25 v2188 = 1#1), ∀ a, (k0_off230 i v2190) a + S32x512.size a ≤ S12288x512.size a) ∧
  (∀ k0_t46 : Fin k0_t46_loop.trips, ∀ (k0_h46 : k0_cond46 i v25 v2188 = 1#1), ∀ a, (k0_off231 v2190 k0_t46) a + S1x16.size a ≤ S32x512.size a) ∧
  (∀ k0_t46 : Fin k0_t46_loop.trips, ∀ (k0_h46 : k0_cond46 i v25 v2188 = 1#1), ∀ a, (k0_off233 v2190 k0_t46) a + S1x16.size a ≤ S32x512.size a)
theorem k0_off230_inb : ∀ (i : grid0.Coords) (v25 : BitVec 32) (v2188 : BitVec 32) (v2190 : BitVec 32) (k0_hw91 : k0_chk91 i v25 v2188 v2190), ∀ (k0_h46 : k0_cond46 i v25 v2188 = 1#1), ∀ a, (k0_off230 i v2190) a + S32x512.size a ≤ S12288x512.size a := fun i v25 v2188 v2190 k0_hw91 k0_h46 => k0_hw91.1 k0_h46
theorem k0_off231_inb : ∀ (i : grid0.Coords) (v25 : BitVec 32) (v2188 : BitVec 32) (v2190 : BitVec 32) (k0_hw91 : k0_chk91 i v25 v2188 v2190) (k0_t46 : Fin k0_t46_loop.trips), ∀ (k0_h46 : k0_cond46 i v25 v2188 = 1#1), ∀ a, (k0_off231 v2190 k0_t46) a + S1x16.size a ≤ S32x512.size a := fun i v25 v2188 v2190 k0_hw91 k0_t46 k0_h46 => k0_hw91.2.1 k0_t46 k0_h46
theorem k0_off233_inb : ∀ (i : grid0.Coords) (v25 : BitVec 32) (v2188 : BitVec 32) (v2190 : BitVec 32) (k0_hw91 : k0_chk91 i v25 v2188 v2190) (k0_t46 : Fin k0_t46_loop.trips), ∀ (k0_h46 : k0_cond46 i v25 v2188 = 1#1), ∀ a, (k0_off233 v2190 k0_t46) a + S1x16.size a ≤ S32x512.size a := fun i v25 v2188 v2190 k0_hw91 k0_t46 k0_h46 => k0_hw91.2.2 k0_t46 k0_h46

def k0_off234 (v2188 : BitVec 32) (k0_t46 : Fin k0_t46_loop.trips) : Fin 2 → Nat :=
  let c0_i32_832 : BitVec 32 := 0#32
  let v2192 : BitVec 1 := Scalar.cmpi .sgt v2188 c0_i32_832
  let v2193 : BitVec 32 := Scalar.extui v2192
  let c0_i32_833 : BitVec 32 := 0#32
  let v2194 : BitVec 1 := Scalar.cmpi .slt v2188 c0_i32_833
  let v2195 : BitVec 32 := Scalar.extui v2194
  let v2196 : BitVec 32 := Scalar.subi v2193 v2195
  let c16_i32_831 : BitVec 32 := 16#32
  let c0_i32_834 : BitVec 32 := 0#32
  let v2197 : BitVec 1 := Scalar.cmpi .sgt c16_i32_831 c0_i32_834
  let v2198 : BitVec 32 := Scalar.extui v2197
  let c0_i32_835 : BitVec 32 := 0#32
  let v2199 : BitVec 1 := Scalar.cmpi .slt c16_i32_831 c0_i32_835
  let v2200 : BitVec 32 := Scalar.extui v2199
  let v2201 : BitVec 32 := Scalar.subi v2198 v2200
  let v2202 : BitVec 1 := Scalar.cmpi .ne v2196 v2201
  let v2203 : BitVec 32 := Scalar.remsi v2188 c16_i32_831
  let c0_i32_836 : BitVec 32 := 0#32
  let v2204 : BitVec 1 := Scalar.cmpi .ne v2203 c0_i32_836
  let v2205 : BitVec 1 := Scalar.andi v2202 v2204
  let v2191 : BitVec 32 := Scalar.divsi v2188 c16_i32_831
  let c1_i32_837 : BitVec 32 := 1#32
  let v2206 : BitVec 32 := Scalar.subi v2191 c1_i32_837
  let v2207 : BitVec 32 := Scalar.select v2205 v2206 v2191
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2207 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t46
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2188 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk92 (i : grid0.Coords) (v25 : BitVec 32) (v2188 : BitVec 32) : Prop :=
  (∀ k0_t46 : Fin k0_t46_loop.trips, ∀ (k0_h46 : k0_cond46 i v25 v2188 = 1#1), ∀ a, (k0_off232 v2188 k0_t46) a + S1x16.size a ≤ S128x512.size a) ∧
  (∀ k0_t46 : Fin k0_t46_loop.trips, ∀ (k0_h46 : k0_cond46 i v25 v2188 = 1#1), ∀ a, (k0_off234 v2188 k0_t46) a + S1x16.size a ≤ S128x512.size a)
theorem k0_off232_inb : ∀ (i : grid0.Coords) (v25 : BitVec 32) (v2188 : BitVec 32) (k0_hw92 : k0_chk92 i v25 v2188) (k0_t46 : Fin k0_t46_loop.trips), ∀ (k0_h46 : k0_cond46 i v25 v2188 = 1#1), ∀ a, (k0_off232 v2188 k0_t46) a + S1x16.size a ≤ S128x512.size a := fun i v25 v2188 k0_hw92 k0_t46 k0_h46 => k0_hw92.1 k0_t46 k0_h46
theorem k0_off234_inb : ∀ (i : grid0.Coords) (v25 : BitVec 32) (v2188 : BitVec 32) (k0_hw92 : k0_chk92 i v25 v2188) (k0_t46 : Fin k0_t46_loop.trips), ∀ (k0_h46 : k0_cond46 i v25 v2188 = 1#1), ∀ a, (k0_off234 v2188 k0_t46) a + S1x16.size a ≤ S128x512.size a := fun i v25 v2188 k0_hw92 k0_t46 k0_h46 => k0_hw92.2 k0_t46 k0_h46

def k0_off235 (i : grid0.Coords) (v2233 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2233 c0_i32_1428
  let v3763 : BitVec 32 := Scalar.extui v3762
  let c0_i32_1429 : BitVec 32 := 0#32
  let v3764 : BitVec 1 := Scalar.cmpi .slt v2233 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2233 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2233 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r54 : BitVec 32 := 0#32
  ![v3779.toNat, 0]
def k0_cond47 (i : grid0.Coords) (v25 : BitVec 32) (v2231 : BitVec 32) : BitVec 1 :=
  let c14_i32_854 : BitVec 32 := 14#32
  let v2251 : BitVec 1 := Scalar.cmpi .sgt v25 c14_i32_854
  let c0_i32_848 : BitVec 32 := 0#32
  let v2235 : BitVec 1 := Scalar.cmpi .sgt v2231 c0_i32_848
  let v2236 : BitVec 32 := Scalar.extui v2235
  let c0_i32_849 : BitVec 32 := 0#32
  let v2237 : BitVec 1 := Scalar.cmpi .slt v2231 c0_i32_849
  let v2238 : BitVec 32 := Scalar.extui v2237
  let v2239 : BitVec 32 := Scalar.subi v2236 v2238
  let c16_i32_847 : BitVec 32 := 16#32
  let c0_i32_850 : BitVec 32 := 0#32
  let v2240 : BitVec 1 := Scalar.cmpi .sgt c16_i32_847 c0_i32_850
  let v2241 : BitVec 32 := Scalar.extui v2240
  let c0_i32_851 : BitVec 32 := 0#32
  let v2242 : BitVec 1 := Scalar.cmpi .slt c16_i32_847 c0_i32_851
  let v2243 : BitVec 32 := Scalar.extui v2242
  let v2244 : BitVec 32 := Scalar.subi v2241 v2243
  let v2245 : BitVec 1 := Scalar.cmpi .ne v2239 v2244
  let v2246 : BitVec 32 := Scalar.remsi v2231 c16_i32_847
  let c0_i32_852 : BitVec 32 := 0#32
  let v2247 : BitVec 1 := Scalar.cmpi .ne v2246 c0_i32_852
  let v2248 : BitVec 1 := Scalar.andi v2245 v2247
  let v2234 : BitVec 32 := Scalar.divsi v2231 c16_i32_847
  let c1_i32_853 : BitVec 32 := 1#32
  let v2249 : BitVec 32 := Scalar.subi v2234 c1_i32_853
  let v2250 : BitVec 32 := Scalar.select v2248 v2249 v2234
  let c0_i32_856 : BitVec 32 := 0#32
  let v2253 : BitVec 1 := Scalar.cmpi .sgt v2250 c0_i32_856
  let v2254 : BitVec 32 := Scalar.extui v2253
  let c0_i32_857 : BitVec 32 := 0#32
  let v2255 : BitVec 1 := Scalar.cmpi .slt v2250 c0_i32_857
  let v2256 : BitVec 32 := Scalar.extui v2255
  let v2257 : BitVec 32 := Scalar.subi v2254 v2256
  let c4_i32_855 : BitVec 32 := 4#32
  let c0_i32_858 : BitVec 32 := 0#32
  let v2258 : BitVec 1 := Scalar.cmpi .sgt c4_i32_855 c0_i32_858
  let v2259 : BitVec 32 := Scalar.extui v2258
  let c0_i32_859 : BitVec 32 := 0#32
  let v2260 : BitVec 1 := Scalar.cmpi .slt c4_i32_855 c0_i32_859
  let v2261 : BitVec 32 := Scalar.extui v2260
  let v2262 : BitVec 32 := Scalar.subi v2259 v2261
  let v2263 : BitVec 1 := Scalar.cmpi .ne v2257 v2262
  let v2264 : BitVec 32 := Scalar.remsi v2250 c4_i32_855
  let c0_i32_860 : BitVec 32 := 0#32
  let v2265 : BitVec 1 := Scalar.cmpi .ne v2264 c0_i32_860
  let v2266 : BitVec 1 := Scalar.andi v2263 v2265
  let v2252 : BitVec 32 := Scalar.divsi v2250 c4_i32_855
  let c1_i32_861 : BitVec 32 := 1#32
  let v2267 : BitVec 32 := Scalar.subi v2252 c1_i32_861
  let v2268 : BitVec 32 := Scalar.select v2266 v2267 v2252
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2269 : BitVec 1 := Scalar.cmpi .eq v2268 v1627
  let v2270 : BitVec 1 := Scalar.andi v2251 v2269
  let v2271 : BitVec 32 := Scalar.extui v2270
  let c0_i32_862 : BitVec 32 := 0#32
  let v2272 : BitVec 1 := Scalar.cmpi .ne v2271 c0_i32_862
  v2272

@[reducible] def k0_t47_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off236 (v2233 : BitVec 32) (k0_t47 : Fin k0_t47_loop.trips) : Fin 2 → Nat :=
  let c0_i32_1453 : BitVec 32 := 0#32
  let c1_i32_1455 : BitVec 32 := 1#32
  let arg19 : BitVec 32 := Scf.iv c0_i32_1453 c1_i32_1455 k0_t47
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2233 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off237 (v2231 : BitVec 32) (k0_t47 : Fin k0_t47_loop.trips) : Fin 2 → Nat :=
  let c0_i32_848 : BitVec 32 := 0#32
  let v2235 : BitVec 1 := Scalar.cmpi .sgt v2231 c0_i32_848
  let v2236 : BitVec 32 := Scalar.extui v2235
  let c0_i32_849 : BitVec 32 := 0#32
  let v2237 : BitVec 1 := Scalar.cmpi .slt v2231 c0_i32_849
  let v2238 : BitVec 32 := Scalar.extui v2237
  let v2239 : BitVec 32 := Scalar.subi v2236 v2238
  let c16_i32_847 : BitVec 32 := 16#32
  let c0_i32_850 : BitVec 32 := 0#32
  let v2240 : BitVec 1 := Scalar.cmpi .sgt c16_i32_847 c0_i32_850
  let v2241 : BitVec 32 := Scalar.extui v2240
  let c0_i32_851 : BitVec 32 := 0#32
  let v2242 : BitVec 1 := Scalar.cmpi .slt c16_i32_847 c0_i32_851
  let v2243 : BitVec 32 := Scalar.extui v2242
  let v2244 : BitVec 32 := Scalar.subi v2241 v2243
  let v2245 : BitVec 1 := Scalar.cmpi .ne v2239 v2244
  let v2246 : BitVec 32 := Scalar.remsi v2231 c16_i32_847
  let c0_i32_852 : BitVec 32 := 0#32
  let v2247 : BitVec 1 := Scalar.cmpi .ne v2246 c0_i32_852
  let v2248 : BitVec 1 := Scalar.andi v2245 v2247
  let v2234 : BitVec 32 := Scalar.divsi v2231 c16_i32_847
  let c1_i32_853 : BitVec 32 := 1#32
  let v2249 : BitVec 32 := Scalar.subi v2234 c1_i32_853
  let v2250 : BitVec 32 := Scalar.select v2248 v2249 v2234
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2250 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t47
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2231 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off238 (v2233 : BitVec 32) (k0_t47 : Fin k0_t47_loop.trips) : Fin 2 → Nat :=
  let c0_i32_1453 : BitVec 32 := 0#32
  let c1_i32_1455 : BitVec 32 := 1#32
  let arg19 : BitVec 32 := Scf.iv c0_i32_1453 c1_i32_1455 k0_t47
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2233 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk93 (i : grid0.Coords) (v25 : BitVec 32) (v2231 : BitVec 32) (v2233 : BitVec 32) : Prop :=
  (∀ (k0_h47 : k0_cond47 i v25 v2231 = 1#1), ∀ a, (k0_off235 i v2233) a + S32x512.size a ≤ S12288x512.size a) ∧
  (∀ k0_t47 : Fin k0_t47_loop.trips, ∀ (k0_h47 : k0_cond47 i v25 v2231 = 1#1), ∀ a, (k0_off236 v2233 k0_t47) a + S1x16.size a ≤ S32x512.size a) ∧
  (∀ k0_t47 : Fin k0_t47_loop.trips, ∀ (k0_h47 : k0_cond47 i v25 v2231 = 1#1), ∀ a, (k0_off238 v2233 k0_t47) a + S1x16.size a ≤ S32x512.size a)
theorem k0_off235_inb : ∀ (i : grid0.Coords) (v25 : BitVec 32) (v2231 : BitVec 32) (v2233 : BitVec 32) (k0_hw93 : k0_chk93 i v25 v2231 v2233), ∀ (k0_h47 : k0_cond47 i v25 v2231 = 1#1), ∀ a, (k0_off235 i v2233) a + S32x512.size a ≤ S12288x512.size a := fun i v25 v2231 v2233 k0_hw93 k0_h47 => k0_hw93.1 k0_h47
theorem k0_off236_inb : ∀ (i : grid0.Coords) (v25 : BitVec 32) (v2231 : BitVec 32) (v2233 : BitVec 32) (k0_hw93 : k0_chk93 i v25 v2231 v2233) (k0_t47 : Fin k0_t47_loop.trips), ∀ (k0_h47 : k0_cond47 i v25 v2231 = 1#1), ∀ a, (k0_off236 v2233 k0_t47) a + S1x16.size a ≤ S32x512.size a := fun i v25 v2231 v2233 k0_hw93 k0_t47 k0_h47 => k0_hw93.2.1 k0_t47 k0_h47
theorem k0_off238_inb : ∀ (i : grid0.Coords) (v25 : BitVec 32) (v2231 : BitVec 32) (v2233 : BitVec 32) (k0_hw93 : k0_chk93 i v25 v2231 v2233) (k0_t47 : Fin k0_t47_loop.trips), ∀ (k0_h47 : k0_cond47 i v25 v2231 = 1#1), ∀ a, (k0_off238 v2233 k0_t47) a + S1x16.size a ≤ S32x512.size a := fun i v25 v2231 v2233 k0_hw93 k0_t47 k0_h47 => k0_hw93.2.2 k0_t47 k0_h47

def k0_off239 (v2231 : BitVec 32) (k0_t47 : Fin k0_t47_loop.trips) : Fin 2 → Nat :=
  let c0_i32_848 : BitVec 32 := 0#32
  let v2235 : BitVec 1 := Scalar.cmpi .sgt v2231 c0_i32_848
  let v2236 : BitVec 32 := Scalar.extui v2235
  let c0_i32_849 : BitVec 32 := 0#32
  let v2237 : BitVec 1 := Scalar.cmpi .slt v2231 c0_i32_849
  let v2238 : BitVec 32 := Scalar.extui v2237
  let v2239 : BitVec 32 := Scalar.subi v2236 v2238
  let c16_i32_847 : BitVec 32 := 16#32
  let c0_i32_850 : BitVec 32 := 0#32
  let v2240 : BitVec 1 := Scalar.cmpi .sgt c16_i32_847 c0_i32_850
  let v2241 : BitVec 32 := Scalar.extui v2240
  let c0_i32_851 : BitVec 32 := 0#32
  let v2242 : BitVec 1 := Scalar.cmpi .slt c16_i32_847 c0_i32_851
  let v2243 : BitVec 32 := Scalar.extui v2242
  let v2244 : BitVec 32 := Scalar.subi v2241 v2243
  let v2245 : BitVec 1 := Scalar.cmpi .ne v2239 v2244
  let v2246 : BitVec 32 := Scalar.remsi v2231 c16_i32_847
  let c0_i32_852 : BitVec 32 := 0#32
  let v2247 : BitVec 1 := Scalar.cmpi .ne v2246 c0_i32_852
  let v2248 : BitVec 1 := Scalar.andi v2245 v2247
  let v2234 : BitVec 32 := Scalar.divsi v2231 c16_i32_847
  let c1_i32_853 : BitVec 32 := 1#32
  let v2249 : BitVec 32 := Scalar.subi v2234 c1_i32_853
  let v2250 : BitVec 32 := Scalar.select v2248 v2249 v2234
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2250 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t47
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2231 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk94 (i : grid0.Coords) (v25 : BitVec 32) (v2231 : BitVec 32) : Prop :=
  (∀ k0_t47 : Fin k0_t47_loop.trips, ∀ (k0_h47 : k0_cond47 i v25 v2231 = 1#1), ∀ a, (k0_off237 v2231 k0_t47) a + S1x16.size a ≤ S128x512.size a) ∧
  (∀ k0_t47 : Fin k0_t47_loop.trips, ∀ (k0_h47 : k0_cond47 i v25 v2231 = 1#1), ∀ a, (k0_off239 v2231 k0_t47) a + S1x16.size a ≤ S128x512.size a)
theorem k0_off237_inb : ∀ (i : grid0.Coords) (v25 : BitVec 32) (v2231 : BitVec 32) (k0_hw94 : k0_chk94 i v25 v2231) (k0_t47 : Fin k0_t47_loop.trips), ∀ (k0_h47 : k0_cond47 i v25 v2231 = 1#1), ∀ a, (k0_off237 v2231 k0_t47) a + S1x16.size a ≤ S128x512.size a := fun i v25 v2231 k0_hw94 k0_t47 k0_h47 => k0_hw94.1 k0_t47 k0_h47
theorem k0_off239_inb : ∀ (i : grid0.Coords) (v25 : BitVec 32) (v2231 : BitVec 32) (k0_hw94 : k0_chk94 i v25 v2231) (k0_t47 : Fin k0_t47_loop.trips), ∀ (k0_h47 : k0_cond47 i v25 v2231 = 1#1), ∀ a, (k0_off239 v2231 k0_t47) a + S1x16.size a ≤ S128x512.size a := fun i v25 v2231 k0_hw94 k0_t47 k0_h47 => k0_hw94.2 k0_t47 k0_h47

def k0_off240 (i : grid0.Coords) (v2276 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2276 c0_i32_1428
  let v3763 : BitVec 32 := Scalar.extui v3762
  let c0_i32_1429 : BitVec 32 := 0#32
  let v3764 : BitVec 1 := Scalar.cmpi .slt v2276 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2276 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2276 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r55 : BitVec 32 := 0#32
  ![v3779.toNat, 0]
def k0_cond48 (i : grid0.Coords) (v25 : BitVec 32) (v2274 : BitVec 32) : BitVec 1 :=
  let c15_i32_870 : BitVec 32 := 15#32
  let v2294 : BitVec 1 := Scalar.cmpi .sgt v25 c15_i32_870
  let c0_i32_864 : BitVec 32 := 0#32
  let v2278 : BitVec 1 := Scalar.cmpi .sgt v2274 c0_i32_864
  let v2279 : BitVec 32 := Scalar.extui v2278
  let c0_i32_865 : BitVec 32 := 0#32
  let v2280 : BitVec 1 := Scalar.cmpi .slt v2274 c0_i32_865
  let v2281 : BitVec 32 := Scalar.extui v2280
  let v2282 : BitVec 32 := Scalar.subi v2279 v2281
  let c16_i32_863 : BitVec 32 := 16#32
  let c0_i32_866 : BitVec 32 := 0#32
  let v2283 : BitVec 1 := Scalar.cmpi .sgt c16_i32_863 c0_i32_866
  let v2284 : BitVec 32 := Scalar.extui v2283
  let c0_i32_867 : BitVec 32 := 0#32
  let v2285 : BitVec 1 := Scalar.cmpi .slt c16_i32_863 c0_i32_867
  let v2286 : BitVec 32 := Scalar.extui v2285
  let v2287 : BitVec 32 := Scalar.subi v2284 v2286
  let v2288 : BitVec 1 := Scalar.cmpi .ne v2282 v2287
  let v2289 : BitVec 32 := Scalar.remsi v2274 c16_i32_863
  let c0_i32_868 : BitVec 32 := 0#32
  let v2290 : BitVec 1 := Scalar.cmpi .ne v2289 c0_i32_868
  let v2291 : BitVec 1 := Scalar.andi v2288 v2290
  let v2277 : BitVec 32 := Scalar.divsi v2274 c16_i32_863
  let c1_i32_869 : BitVec 32 := 1#32
  let v2292 : BitVec 32 := Scalar.subi v2277 c1_i32_869
  let v2293 : BitVec 32 := Scalar.select v2291 v2292 v2277
  let c0_i32_872 : BitVec 32 := 0#32
  let v2296 : BitVec 1 := Scalar.cmpi .sgt v2293 c0_i32_872
  let v2297 : BitVec 32 := Scalar.extui v2296
  let c0_i32_873 : BitVec 32 := 0#32
  let v2298 : BitVec 1 := Scalar.cmpi .slt v2293 c0_i32_873
  let v2299 : BitVec 32 := Scalar.extui v2298
  let v2300 : BitVec 32 := Scalar.subi v2297 v2299
  let c4_i32_871 : BitVec 32 := 4#32
  let c0_i32_874 : BitVec 32 := 0#32
  let v2301 : BitVec 1 := Scalar.cmpi .sgt c4_i32_871 c0_i32_874
  let v2302 : BitVec 32 := Scalar.extui v2301
  let c0_i32_875 : BitVec 32 := 0#32
  let v2303 : BitVec 1 := Scalar.cmpi .slt c4_i32_871 c0_i32_875
  let v2304 : BitVec 32 := Scalar.extui v2303
  let v2305 : BitVec 32 := Scalar.subi v2302 v2304
  let v2306 : BitVec 1 := Scalar.cmpi .ne v2300 v2305
  let v2307 : BitVec 32 := Scalar.remsi v2293 c4_i32_871
  let c0_i32_876 : BitVec 32 := 0#32
  let v2308 : BitVec 1 := Scalar.cmpi .ne v2307 c0_i32_876
  let v2309 : BitVec 1 := Scalar.andi v2306 v2308
  let v2295 : BitVec 32 := Scalar.divsi v2293 c4_i32_871
  let c1_i32_877 : BitVec 32 := 1#32
  let v2310 : BitVec 32 := Scalar.subi v2295 c1_i32_877
  let v2311 : BitVec 32 := Scalar.select v2309 v2310 v2295
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2312 : BitVec 1 := Scalar.cmpi .eq v2311 v1627
  let v2313 : BitVec 1 := Scalar.andi v2294 v2312
  let v2314 : BitVec 32 := Scalar.extui v2313
  let c0_i32_878 : BitVec 32 := 0#32
  let v2315 : BitVec 1 := Scalar.cmpi .ne v2314 c0_i32_878
  v2315

@[reducible] def k0_t48_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off241 (v2276 : BitVec 32) (k0_t48 : Fin k0_t48_loop.trips) : Fin 2 → Nat :=
  let c0_i32_1453 : BitVec 32 := 0#32
  let c1_i32_1455 : BitVec 32 := 1#32
  let arg19 : BitVec 32 := Scf.iv c0_i32_1453 c1_i32_1455 k0_t48
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2276 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off242 (v2274 : BitVec 32) (k0_t48 : Fin k0_t48_loop.trips) : Fin 2 → Nat :=
  let c0_i32_864 : BitVec 32 := 0#32
  let v2278 : BitVec 1 := Scalar.cmpi .sgt v2274 c0_i32_864
  let v2279 : BitVec 32 := Scalar.extui v2278
  let c0_i32_865 : BitVec 32 := 0#32
  let v2280 : BitVec 1 := Scalar.cmpi .slt v2274 c0_i32_865
  let v2281 : BitVec 32 := Scalar.extui v2280
  let v2282 : BitVec 32 := Scalar.subi v2279 v2281
  let c16_i32_863 : BitVec 32 := 16#32
  let c0_i32_866 : BitVec 32 := 0#32
  let v2283 : BitVec 1 := Scalar.cmpi .sgt c16_i32_863 c0_i32_866
  let v2284 : BitVec 32 := Scalar.extui v2283
  let c0_i32_867 : BitVec 32 := 0#32
  let v2285 : BitVec 1 := Scalar.cmpi .slt c16_i32_863 c0_i32_867
  let v2286 : BitVec 32 := Scalar.extui v2285
  let v2287 : BitVec 32 := Scalar.subi v2284 v2286
  let v2288 : BitVec 1 := Scalar.cmpi .ne v2282 v2287
  let v2289 : BitVec 32 := Scalar.remsi v2274 c16_i32_863
  let c0_i32_868 : BitVec 32 := 0#32
  let v2290 : BitVec 1 := Scalar.cmpi .ne v2289 c0_i32_868
  let v2291 : BitVec 1 := Scalar.andi v2288 v2290
  let v2277 : BitVec 32 := Scalar.divsi v2274 c16_i32_863
  let c1_i32_869 : BitVec 32 := 1#32
  let v2292 : BitVec 32 := Scalar.subi v2277 c1_i32_869
  let v2293 : BitVec 32 := Scalar.select v2291 v2292 v2277
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2293 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t48
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2274 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off243 (v2276 : BitVec 32) (k0_t48 : Fin k0_t48_loop.trips) : Fin 2 → Nat :=
  let c0_i32_1453 : BitVec 32 := 0#32
  let c1_i32_1455 : BitVec 32 := 1#32
  let arg19 : BitVec 32 := Scf.iv c0_i32_1453 c1_i32_1455 k0_t48
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2276 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk95 (i : grid0.Coords) (v25 : BitVec 32) (v2274 : BitVec 32) (v2276 : BitVec 32) : Prop :=
  (∀ (k0_h48 : k0_cond48 i v25 v2274 = 1#1), ∀ a, (k0_off240 i v2276) a + S32x512.size a ≤ S12288x512.size a) ∧
  (∀ k0_t48 : Fin k0_t48_loop.trips, ∀ (k0_h48 : k0_cond48 i v25 v2274 = 1#1), ∀ a, (k0_off241 v2276 k0_t48) a + S1x16.size a ≤ S32x512.size a) ∧
  (∀ k0_t48 : Fin k0_t48_loop.trips, ∀ (k0_h48 : k0_cond48 i v25 v2274 = 1#1), ∀ a, (k0_off243 v2276 k0_t48) a + S1x16.size a ≤ S32x512.size a)
theorem k0_off240_inb : ∀ (i : grid0.Coords) (v25 : BitVec 32) (v2274 : BitVec 32) (v2276 : BitVec 32) (k0_hw95 : k0_chk95 i v25 v2274 v2276), ∀ (k0_h48 : k0_cond48 i v25 v2274 = 1#1), ∀ a, (k0_off240 i v2276) a + S32x512.size a ≤ S12288x512.size a := fun i v25 v2274 v2276 k0_hw95 k0_h48 => k0_hw95.1 k0_h48
theorem k0_off241_inb : ∀ (i : grid0.Coords) (v25 : BitVec 32) (v2274 : BitVec 32) (v2276 : BitVec 32) (k0_hw95 : k0_chk95 i v25 v2274 v2276) (k0_t48 : Fin k0_t48_loop.trips), ∀ (k0_h48 : k0_cond48 i v25 v2274 = 1#1), ∀ a, (k0_off241 v2276 k0_t48) a + S1x16.size a ≤ S32x512.size a := fun i v25 v2274 v2276 k0_hw95 k0_t48 k0_h48 => k0_hw95.2.1 k0_t48 k0_h48
theorem k0_off243_inb : ∀ (i : grid0.Coords) (v25 : BitVec 32) (v2274 : BitVec 32) (v2276 : BitVec 32) (k0_hw95 : k0_chk95 i v25 v2274 v2276) (k0_t48 : Fin k0_t48_loop.trips), ∀ (k0_h48 : k0_cond48 i v25 v2274 = 1#1), ∀ a, (k0_off243 v2276 k0_t48) a + S1x16.size a ≤ S32x512.size a := fun i v25 v2274 v2276 k0_hw95 k0_t48 k0_h48 => k0_hw95.2.2 k0_t48 k0_h48

def k0_off244 (v2274 : BitVec 32) (k0_t48 : Fin k0_t48_loop.trips) : Fin 2 → Nat :=
  let c0_i32_864 : BitVec 32 := 0#32
  let v2278 : BitVec 1 := Scalar.cmpi .sgt v2274 c0_i32_864
  let v2279 : BitVec 32 := Scalar.extui v2278
  let c0_i32_865 : BitVec 32 := 0#32
  let v2280 : BitVec 1 := Scalar.cmpi .slt v2274 c0_i32_865
  let v2281 : BitVec 32 := Scalar.extui v2280
  let v2282 : BitVec 32 := Scalar.subi v2279 v2281
  let c16_i32_863 : BitVec 32 := 16#32
  let c0_i32_866 : BitVec 32 := 0#32
  let v2283 : BitVec 1 := Scalar.cmpi .sgt c16_i32_863 c0_i32_866
  let v2284 : BitVec 32 := Scalar.extui v2283
  let c0_i32_867 : BitVec 32 := 0#32
  let v2285 : BitVec 1 := Scalar.cmpi .slt c16_i32_863 c0_i32_867
  let v2286 : BitVec 32 := Scalar.extui v2285
  let v2287 : BitVec 32 := Scalar.subi v2284 v2286
  let v2288 : BitVec 1 := Scalar.cmpi .ne v2282 v2287
  let v2289 : BitVec 32 := Scalar.remsi v2274 c16_i32_863
  let c0_i32_868 : BitVec 32 := 0#32
  let v2290 : BitVec 1 := Scalar.cmpi .ne v2289 c0_i32_868
  let v2291 : BitVec 1 := Scalar.andi v2288 v2290
  let v2277 : BitVec 32 := Scalar.divsi v2274 c16_i32_863
  let c1_i32_869 : BitVec 32 := 1#32
  let v2292 : BitVec 32 := Scalar.subi v2277 c1_i32_869
  let v2293 : BitVec 32 := Scalar.select v2291 v2292 v2277
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2293 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t48
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2274 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk96 (i : grid0.Coords) (v25 : BitVec 32) (v2274 : BitVec 32) : Prop :=
  (∀ k0_t48 : Fin k0_t48_loop.trips, ∀ (k0_h48 : k0_cond48 i v25 v2274 = 1#1), ∀ a, (k0_off242 v2274 k0_t48) a + S1x16.size a ≤ S128x512.size a) ∧
  (∀ k0_t48 : Fin k0_t48_loop.trips, ∀ (k0_h48 : k0_cond48 i v25 v2274 = 1#1), ∀ a, (k0_off244 v2274 k0_t48) a + S1x16.size a ≤ S128x512.size a)
theorem k0_off242_inb : ∀ (i : grid0.Coords) (v25 : BitVec 32) (v2274 : BitVec 32) (k0_hw96 : k0_chk96 i v25 v2274) (k0_t48 : Fin k0_t48_loop.trips), ∀ (k0_h48 : k0_cond48 i v25 v2274 = 1#1), ∀ a, (k0_off242 v2274 k0_t48) a + S1x16.size a ≤ S128x512.size a := fun i v25 v2274 k0_hw96 k0_t48 k0_h48 => k0_hw96.1 k0_t48 k0_h48
theorem k0_off244_inb : ∀ (i : grid0.Coords) (v25 : BitVec 32) (v2274 : BitVec 32) (k0_hw96 : k0_chk96 i v25 v2274) (k0_t48 : Fin k0_t48_loop.trips), ∀ (k0_h48 : k0_cond48 i v25 v2274 = 1#1), ∀ a, (k0_off244 v2274 k0_t48) a + S1x16.size a ≤ S128x512.size a := fun i v25 v2274 k0_hw96 k0_t48 k0_h48 => k0_hw96.2 k0_t48 k0_h48

def k0_off245 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c0_i32_1427_r56 : BitVec 32 := 0#32
  ![v1597.toNat, 0]
def k0_off246 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c0_i32_1427_r57 : BitVec 32 := 0#32
  ![v2328.toNat, 0]
def k0_off247 (i : grid0.Coords) (v2360 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2360 c0_i32_1428
  let v3763 : BitVec 32 := Scalar.extui v3762
  let c0_i32_1429 : BitVec 32 := 0#32
  let v3764 : BitVec 1 := Scalar.cmpi .slt v2360 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2360 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2360 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r58 : BitVec 32 := 0#32
  ![v3779.toNat, 0]
def k0_cond49 (i : grid0.Coords) (v25 : BitVec 32) (v2358 : BitVec 32) : BitVec 1 :=
  let c0_i32_908 : BitVec 32 := 0#32
  let v2378 : BitVec 1 := Scalar.cmpi .sgt v25 c0_i32_908
  let c0_i32_902 : BitVec 32 := 0#32
  let v2362 : BitVec 1 := Scalar.cmpi .sgt v2358 c0_i32_902
  let v2363 : BitVec 32 := Scalar.extui v2362
  let c0_i32_903 : BitVec 32 := 0#32
  let v2364 : BitVec 1 := Scalar.cmpi .slt v2358 c0_i32_903
  let v2365 : BitVec 32 := Scalar.extui v2364
  let v2366 : BitVec 32 := Scalar.subi v2363 v2365
  let c16_i32_901 : BitVec 32 := 16#32
  let c0_i32_904 : BitVec 32 := 0#32
  let v2367 : BitVec 1 := Scalar.cmpi .sgt c16_i32_901 c0_i32_904
  let v2368 : BitVec 32 := Scalar.extui v2367
  let c0_i32_905 : BitVec 32 := 0#32
  let v2369 : BitVec 1 := Scalar.cmpi .slt c16_i32_901 c0_i32_905
  let v2370 : BitVec 32 := Scalar.extui v2369
  let v2371 : BitVec 32 := Scalar.subi v2368 v2370
  let v2372 : BitVec 1 := Scalar.cmpi .ne v2366 v2371
  let v2373 : BitVec 32 := Scalar.remsi v2358 c16_i32_901
  let c0_i32_906 : BitVec 32 := 0#32
  let v2374 : BitVec 1 := Scalar.cmpi .ne v2373 c0_i32_906
  let v2375 : BitVec 1 := Scalar.andi v2372 v2374
  let v2361 : BitVec 32 := Scalar.divsi v2358 c16_i32_901
  let c1_i32_907 : BitVec 32 := 1#32
  let v2376 : BitVec 32 := Scalar.subi v2361 c1_i32_907
  let v2377 : BitVec 32 := Scalar.select v2375 v2376 v2361
  let c0_i32_910 : BitVec 32 := 0#32
  let v2380 : BitVec 1 := Scalar.cmpi .sgt v2377 c0_i32_910
  let v2381 : BitVec 32 := Scalar.extui v2380
  let c0_i32_911 : BitVec 32 := 0#32
  let v2382 : BitVec 1 := Scalar.cmpi .slt v2377 c0_i32_911
  let v2383 : BitVec 32 := Scalar.extui v2382
  let v2384 : BitVec 32 := Scalar.subi v2381 v2383
  let c4_i32_909 : BitVec 32 := 4#32
  let c0_i32_912 : BitVec 32 := 0#32
  let v2385 : BitVec 1 := Scalar.cmpi .sgt c4_i32_909 c0_i32_912
  let v2386 : BitVec 32 := Scalar.extui v2385
  let c0_i32_913 : BitVec 32 := 0#32
  let v2387 : BitVec 1 := Scalar.cmpi .slt c4_i32_909 c0_i32_913
  let v2388 : BitVec 32 := Scalar.extui v2387
  let v2389 : BitVec 32 := Scalar.subi v2386 v2388
  let v2390 : BitVec 1 := Scalar.cmpi .ne v2384 v2389
  let v2391 : BitVec 32 := Scalar.remsi v2377 c4_i32_909
  let c0_i32_914 : BitVec 32 := 0#32
  let v2392 : BitVec 1 := Scalar.cmpi .ne v2391 c0_i32_914
  let v2393 : BitVec 1 := Scalar.andi v2390 v2392
  let v2379 : BitVec 32 := Scalar.divsi v2377 c4_i32_909
  let c1_i32_915 : BitVec 32 := 1#32
  let v2394 : BitVec 32 := Scalar.subi v2379 c1_i32_915
  let v2395 : BitVec 32 := Scalar.select v2393 v2394 v2379
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2396 : BitVec 1 := Scalar.cmpi .eq v2395 v2356
  let v2397 : BitVec 1 := Scalar.andi v2378 v2396
  let v2398 : BitVec 32 := Scalar.extui v2397
  let c0_i32_916 : BitVec 32 := 0#32
  let v2399 : BitVec 1 := Scalar.cmpi .ne v2398 c0_i32_916
  v2399

@[reducible] def k0_t49_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off248 (v2360 : BitVec 32) (k0_t49 : Fin k0_t49_loop.trips) : Fin 2 → Nat :=
  let c0_i32_1453 : BitVec 32 := 0#32
  let c1_i32_1455 : BitVec 32 := 1#32
  let arg19 : BitVec 32 := Scf.iv c0_i32_1453 c1_i32_1455 k0_t49
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2360 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off249 (v2358 : BitVec 32) (k0_t49 : Fin k0_t49_loop.trips) : Fin 2 → Nat :=
  let c0_i32_902 : BitVec 32 := 0#32
  let v2362 : BitVec 1 := Scalar.cmpi .sgt v2358 c0_i32_902
  let v2363 : BitVec 32 := Scalar.extui v2362
  let c0_i32_903 : BitVec 32 := 0#32
  let v2364 : BitVec 1 := Scalar.cmpi .slt v2358 c0_i32_903
  let v2365 : BitVec 32 := Scalar.extui v2364
  let v2366 : BitVec 32 := Scalar.subi v2363 v2365
  let c16_i32_901 : BitVec 32 := 16#32
  let c0_i32_904 : BitVec 32 := 0#32
  let v2367 : BitVec 1 := Scalar.cmpi .sgt c16_i32_901 c0_i32_904
  let v2368 : BitVec 32 := Scalar.extui v2367
  let c0_i32_905 : BitVec 32 := 0#32
  let v2369 : BitVec 1 := Scalar.cmpi .slt c16_i32_901 c0_i32_905
  let v2370 : BitVec 32 := Scalar.extui v2369
  let v2371 : BitVec 32 := Scalar.subi v2368 v2370
  let v2372 : BitVec 1 := Scalar.cmpi .ne v2366 v2371
  let v2373 : BitVec 32 := Scalar.remsi v2358 c16_i32_901
  let c0_i32_906 : BitVec 32 := 0#32
  let v2374 : BitVec 1 := Scalar.cmpi .ne v2373 c0_i32_906
  let v2375 : BitVec 1 := Scalar.andi v2372 v2374
  let v2361 : BitVec 32 := Scalar.divsi v2358 c16_i32_901
  let c1_i32_907 : BitVec 32 := 1#32
  let v2376 : BitVec 32 := Scalar.subi v2361 c1_i32_907
  let v2377 : BitVec 32 := Scalar.select v2375 v2376 v2361
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2377 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t49
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2358 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off250 (v2360 : BitVec 32) (k0_t49 : Fin k0_t49_loop.trips) : Fin 2 → Nat :=
  let c0_i32_1453 : BitVec 32 := 0#32
  let c1_i32_1455 : BitVec 32 := 1#32
  let arg19 : BitVec 32 := Scf.iv c0_i32_1453 c1_i32_1455 k0_t49
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2360 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk97 (i : grid0.Coords) (v25 : BitVec 32) (v2358 : BitVec 32) (v2360 : BitVec 32) : Prop :=
  (∀ (k0_h49 : k0_cond49 i v25 v2358 = 1#1), ∀ a, (k0_off247 i v2360) a + S32x512.size a ≤ S4096x512.size a) ∧
  (∀ k0_t49 : Fin k0_t49_loop.trips, ∀ (k0_h49 : k0_cond49 i v25 v2358 = 1#1), ∀ a, (k0_off248 v2360 k0_t49) a + S1x16.size a ≤ S32x512.size a) ∧
  (∀ k0_t49 : Fin k0_t49_loop.trips, ∀ (k0_h49 : k0_cond49 i v25 v2358 = 1#1), ∀ a, (k0_off250 v2360 k0_t49) a + S1x16.size a ≤ S32x512.size a)
theorem k0_off247_inb : ∀ (i : grid0.Coords) (v25 : BitVec 32) (v2358 : BitVec 32) (v2360 : BitVec 32) (k0_hw97 : k0_chk97 i v25 v2358 v2360), ∀ (k0_h49 : k0_cond49 i v25 v2358 = 1#1), ∀ a, (k0_off247 i v2360) a + S32x512.size a ≤ S4096x512.size a := fun i v25 v2358 v2360 k0_hw97 k0_h49 => k0_hw97.1 k0_h49
theorem k0_off248_inb : ∀ (i : grid0.Coords) (v25 : BitVec 32) (v2358 : BitVec 32) (v2360 : BitVec 32) (k0_hw97 : k0_chk97 i v25 v2358 v2360) (k0_t49 : Fin k0_t49_loop.trips), ∀ (k0_h49 : k0_cond49 i v25 v2358 = 1#1), ∀ a, (k0_off248 v2360 k0_t49) a + S1x16.size a ≤ S32x512.size a := fun i v25 v2358 v2360 k0_hw97 k0_t49 k0_h49 => k0_hw97.2.1 k0_t49 k0_h49
theorem k0_off250_inb : ∀ (i : grid0.Coords) (v25 : BitVec 32) (v2358 : BitVec 32) (v2360 : BitVec 32) (k0_hw97 : k0_chk97 i v25 v2358 v2360) (k0_t49 : Fin k0_t49_loop.trips), ∀ (k0_h49 : k0_cond49 i v25 v2358 = 1#1), ∀ a, (k0_off250 v2360 k0_t49) a + S1x16.size a ≤ S32x512.size a := fun i v25 v2358 v2360 k0_hw97 k0_t49 k0_h49 => k0_hw97.2.2 k0_t49 k0_h49

def k0_off251 (v2358 : BitVec 32) (k0_t49 : Fin k0_t49_loop.trips) : Fin 2 → Nat :=
  let c0_i32_902 : BitVec 32 := 0#32
  let v2362 : BitVec 1 := Scalar.cmpi .sgt v2358 c0_i32_902
  let v2363 : BitVec 32 := Scalar.extui v2362
  let c0_i32_903 : BitVec 32 := 0#32
  let v2364 : BitVec 1 := Scalar.cmpi .slt v2358 c0_i32_903
  let v2365 : BitVec 32 := Scalar.extui v2364
  let v2366 : BitVec 32 := Scalar.subi v2363 v2365
  let c16_i32_901 : BitVec 32 := 16#32
  let c0_i32_904 : BitVec 32 := 0#32
  let v2367 : BitVec 1 := Scalar.cmpi .sgt c16_i32_901 c0_i32_904
  let v2368 : BitVec 32 := Scalar.extui v2367
  let c0_i32_905 : BitVec 32 := 0#32
  let v2369 : BitVec 1 := Scalar.cmpi .slt c16_i32_901 c0_i32_905
  let v2370 : BitVec 32 := Scalar.extui v2369
  let v2371 : BitVec 32 := Scalar.subi v2368 v2370
  let v2372 : BitVec 1 := Scalar.cmpi .ne v2366 v2371
  let v2373 : BitVec 32 := Scalar.remsi v2358 c16_i32_901
  let c0_i32_906 : BitVec 32 := 0#32
  let v2374 : BitVec 1 := Scalar.cmpi .ne v2373 c0_i32_906
  let v2375 : BitVec 1 := Scalar.andi v2372 v2374
  let v2361 : BitVec 32 := Scalar.divsi v2358 c16_i32_901
  let c1_i32_907 : BitVec 32 := 1#32
  let v2376 : BitVec 32 := Scalar.subi v2361 c1_i32_907
  let v2377 : BitVec 32 := Scalar.select v2375 v2376 v2361
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2377 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t49
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2358 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk98 (i : grid0.Coords) (v25 : BitVec 32) (v2358 : BitVec 32) : Prop :=
  (∀ k0_t49 : Fin k0_t49_loop.trips, ∀ (k0_h49 : k0_cond49 i v25 v2358 = 1#1), ∀ a, (k0_off249 v2358 k0_t49) a + S1x16.size a ≤ S128x512.size a) ∧
  (∀ k0_t49 : Fin k0_t49_loop.trips, ∀ (k0_h49 : k0_cond49 i v25 v2358 = 1#1), ∀ a, (k0_off251 v2358 k0_t49) a + S1x16.size a ≤ S128x512.size a)
theorem k0_off249_inb : ∀ (i : grid0.Coords) (v25 : BitVec 32) (v2358 : BitVec 32) (k0_hw98 : k0_chk98 i v25 v2358) (k0_t49 : Fin k0_t49_loop.trips), ∀ (k0_h49 : k0_cond49 i v25 v2358 = 1#1), ∀ a, (k0_off249 v2358 k0_t49) a + S1x16.size a ≤ S128x512.size a := fun i v25 v2358 k0_hw98 k0_t49 k0_h49 => k0_hw98.1 k0_t49 k0_h49
theorem k0_off251_inb : ∀ (i : grid0.Coords) (v25 : BitVec 32) (v2358 : BitVec 32) (k0_hw98 : k0_chk98 i v25 v2358) (k0_t49 : Fin k0_t49_loop.trips), ∀ (k0_h49 : k0_cond49 i v25 v2358 = 1#1), ∀ a, (k0_off251 v2358 k0_t49) a + S1x16.size a ≤ S128x512.size a := fun i v25 v2358 k0_hw98 k0_t49 k0_h49 => k0_hw98.2 k0_t49 k0_h49

def k0_off252 (i : grid0.Coords) (v2403 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2403 c0_i32_1428
  let v3763 : BitVec 32 := Scalar.extui v3762
  let c0_i32_1429 : BitVec 32 := 0#32
  let v3764 : BitVec 1 := Scalar.cmpi .slt v2403 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2403 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2403 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r59 : BitVec 32 := 0#32
  ![v3779.toNat, 0]
def k0_cond50 (i : grid0.Coords) (v25 : BitVec 32) (v2401 : BitVec 32) : BitVec 1 :=
  let c1_i32_924 : BitVec 32 := 1#32
  let v2421 : BitVec 1 := Scalar.cmpi .sgt v25 c1_i32_924
  let c0_i32_918 : BitVec 32 := 0#32
  let v2405 : BitVec 1 := Scalar.cmpi .sgt v2401 c0_i32_918
  let v2406 : BitVec 32 := Scalar.extui v2405
  let c0_i32_919 : BitVec 32 := 0#32
  let v2407 : BitVec 1 := Scalar.cmpi .slt v2401 c0_i32_919
  let v2408 : BitVec 32 := Scalar.extui v2407
  let v2409 : BitVec 32 := Scalar.subi v2406 v2408
  let c16_i32_917 : BitVec 32 := 16#32
  let c0_i32_920 : BitVec 32 := 0#32
  let v2410 : BitVec 1 := Scalar.cmpi .sgt c16_i32_917 c0_i32_920
  let v2411 : BitVec 32 := Scalar.extui v2410
  let c0_i32_921 : BitVec 32 := 0#32
  let v2412 : BitVec 1 := Scalar.cmpi .slt c16_i32_917 c0_i32_921
  let v2413 : BitVec 32 := Scalar.extui v2412
  let v2414 : BitVec 32 := Scalar.subi v2411 v2413
  let v2415 : BitVec 1 := Scalar.cmpi .ne v2409 v2414
  let v2416 : BitVec 32 := Scalar.remsi v2401 c16_i32_917
  let c0_i32_922 : BitVec 32 := 0#32
  let v2417 : BitVec 1 := Scalar.cmpi .ne v2416 c0_i32_922
  let v2418 : BitVec 1 := Scalar.andi v2415 v2417
  let v2404 : BitVec 32 := Scalar.divsi v2401 c16_i32_917
  let c1_i32_923 : BitVec 32 := 1#32
  let v2419 : BitVec 32 := Scalar.subi v2404 c1_i32_923
  let v2420 : BitVec 32 := Scalar.select v2418 v2419 v2404
  let c0_i32_926 : BitVec 32 := 0#32
  let v2423 : BitVec 1 := Scalar.cmpi .sgt v2420 c0_i32_926
  let v2424 : BitVec 32 := Scalar.extui v2423
  let c0_i32_927 : BitVec 32 := 0#32
  let v2425 : BitVec 1 := Scalar.cmpi .slt v2420 c0_i32_927
  let v2426 : BitVec 32 := Scalar.extui v2425
  let v2427 : BitVec 32 := Scalar.subi v2424 v2426
  let c4_i32_925 : BitVec 32 := 4#32
  let c0_i32_928 : BitVec 32 := 0#32
  let v2428 : BitVec 1 := Scalar.cmpi .sgt c4_i32_925 c0_i32_928
  let v2429 : BitVec 32 := Scalar.extui v2428
  let c0_i32_929 : BitVec 32 := 0#32
  let v2430 : BitVec 1 := Scalar.cmpi .slt c4_i32_925 c0_i32_929
  let v2431 : BitVec 32 := Scalar.extui v2430
  let v2432 : BitVec 32 := Scalar.subi v2429 v2431
  let v2433 : BitVec 1 := Scalar.cmpi .ne v2427 v2432
  let v2434 : BitVec 32 := Scalar.remsi v2420 c4_i32_925
  let c0_i32_930 : BitVec 32 := 0#32
  let v2435 : BitVec 1 := Scalar.cmpi .ne v2434 c0_i32_930
  let v2436 : BitVec 1 := Scalar.andi v2433 v2435
  let v2422 : BitVec 32 := Scalar.divsi v2420 c4_i32_925
  let c1_i32_931 : BitVec 32 := 1#32
  let v2437 : BitVec 32 := Scalar.subi v2422 c1_i32_931
  let v2438 : BitVec 32 := Scalar.select v2436 v2437 v2422
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2439 : BitVec 1 := Scalar.cmpi .eq v2438 v2356
  let v2440 : BitVec 1 := Scalar.andi v2421 v2439
  let v2441 : BitVec 32 := Scalar.extui v2440
  let c0_i32_932 : BitVec 32 := 0#32
  let v2442 : BitVec 1 := Scalar.cmpi .ne v2441 c0_i32_932
  v2442

@[reducible] def k0_t50_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off253 (v2403 : BitVec 32) (k0_t50 : Fin k0_t50_loop.trips) : Fin 2 → Nat :=
  let c0_i32_1453 : BitVec 32 := 0#32
  let c1_i32_1455 : BitVec 32 := 1#32
  let arg19 : BitVec 32 := Scf.iv c0_i32_1453 c1_i32_1455 k0_t50
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2403 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off254 (v2401 : BitVec 32) (k0_t50 : Fin k0_t50_loop.trips) : Fin 2 → Nat :=
  let c0_i32_918 : BitVec 32 := 0#32
  let v2405 : BitVec 1 := Scalar.cmpi .sgt v2401 c0_i32_918
  let v2406 : BitVec 32 := Scalar.extui v2405
  let c0_i32_919 : BitVec 32 := 0#32
  let v2407 : BitVec 1 := Scalar.cmpi .slt v2401 c0_i32_919
  let v2408 : BitVec 32 := Scalar.extui v2407
  let v2409 : BitVec 32 := Scalar.subi v2406 v2408
  let c16_i32_917 : BitVec 32 := 16#32
  let c0_i32_920 : BitVec 32 := 0#32
  let v2410 : BitVec 1 := Scalar.cmpi .sgt c16_i32_917 c0_i32_920
  let v2411 : BitVec 32 := Scalar.extui v2410
  let c0_i32_921 : BitVec 32 := 0#32
  let v2412 : BitVec 1 := Scalar.cmpi .slt c16_i32_917 c0_i32_921
  let v2413 : BitVec 32 := Scalar.extui v2412
  let v2414 : BitVec 32 := Scalar.subi v2411 v2413
  let v2415 : BitVec 1 := Scalar.cmpi .ne v2409 v2414
  let v2416 : BitVec 32 := Scalar.remsi v2401 c16_i32_917
  let c0_i32_922 : BitVec 32 := 0#32
  let v2417 : BitVec 1 := Scalar.cmpi .ne v2416 c0_i32_922
  let v2418 : BitVec 1 := Scalar.andi v2415 v2417
  let v2404 : BitVec 32 := Scalar.divsi v2401 c16_i32_917
  let c1_i32_923 : BitVec 32 := 1#32
  let v2419 : BitVec 32 := Scalar.subi v2404 c1_i32_923
  let v2420 : BitVec 32 := Scalar.select v2418 v2419 v2404
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2420 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t50
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2401 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off255 (v2403 : BitVec 32) (k0_t50 : Fin k0_t50_loop.trips) : Fin 2 → Nat :=
  let c0_i32_1453 : BitVec 32 := 0#32
  let c1_i32_1455 : BitVec 32 := 1#32
  let arg19 : BitVec 32 := Scf.iv c0_i32_1453 c1_i32_1455 k0_t50
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2403 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk99 (i : grid0.Coords) (v25 : BitVec 32) (v2401 : BitVec 32) (v2403 : BitVec 32) : Prop :=
  (∀ (k0_h50 : k0_cond50 i v25 v2401 = 1#1), ∀ a, (k0_off252 i v2403) a + S32x512.size a ≤ S4096x512.size a) ∧
  (∀ k0_t50 : Fin k0_t50_loop.trips, ∀ (k0_h50 : k0_cond50 i v25 v2401 = 1#1), ∀ a, (k0_off253 v2403 k0_t50) a + S1x16.size a ≤ S32x512.size a) ∧
  (∀ k0_t50 : Fin k0_t50_loop.trips, ∀ (k0_h50 : k0_cond50 i v25 v2401 = 1#1), ∀ a, (k0_off255 v2403 k0_t50) a + S1x16.size a ≤ S32x512.size a)
theorem k0_off252_inb : ∀ (i : grid0.Coords) (v25 : BitVec 32) (v2401 : BitVec 32) (v2403 : BitVec 32) (k0_hw99 : k0_chk99 i v25 v2401 v2403), ∀ (k0_h50 : k0_cond50 i v25 v2401 = 1#1), ∀ a, (k0_off252 i v2403) a + S32x512.size a ≤ S4096x512.size a := fun i v25 v2401 v2403 k0_hw99 k0_h50 => k0_hw99.1 k0_h50
theorem k0_off253_inb : ∀ (i : grid0.Coords) (v25 : BitVec 32) (v2401 : BitVec 32) (v2403 : BitVec 32) (k0_hw99 : k0_chk99 i v25 v2401 v2403) (k0_t50 : Fin k0_t50_loop.trips), ∀ (k0_h50 : k0_cond50 i v25 v2401 = 1#1), ∀ a, (k0_off253 v2403 k0_t50) a + S1x16.size a ≤ S32x512.size a := fun i v25 v2401 v2403 k0_hw99 k0_t50 k0_h50 => k0_hw99.2.1 k0_t50 k0_h50
theorem k0_off255_inb : ∀ (i : grid0.Coords) (v25 : BitVec 32) (v2401 : BitVec 32) (v2403 : BitVec 32) (k0_hw99 : k0_chk99 i v25 v2401 v2403) (k0_t50 : Fin k0_t50_loop.trips), ∀ (k0_h50 : k0_cond50 i v25 v2401 = 1#1), ∀ a, (k0_off255 v2403 k0_t50) a + S1x16.size a ≤ S32x512.size a := fun i v25 v2401 v2403 k0_hw99 k0_t50 k0_h50 => k0_hw99.2.2 k0_t50 k0_h50

def k0_off256 (v2401 : BitVec 32) (k0_t50 : Fin k0_t50_loop.trips) : Fin 2 → Nat :=
  let c0_i32_918 : BitVec 32 := 0#32
  let v2405 : BitVec 1 := Scalar.cmpi .sgt v2401 c0_i32_918
  let v2406 : BitVec 32 := Scalar.extui v2405
  let c0_i32_919 : BitVec 32 := 0#32
  let v2407 : BitVec 1 := Scalar.cmpi .slt v2401 c0_i32_919
  let v2408 : BitVec 32 := Scalar.extui v2407
  let v2409 : BitVec 32 := Scalar.subi v2406 v2408
  let c16_i32_917 : BitVec 32 := 16#32
  let c0_i32_920 : BitVec 32 := 0#32
  let v2410 : BitVec 1 := Scalar.cmpi .sgt c16_i32_917 c0_i32_920
  let v2411 : BitVec 32 := Scalar.extui v2410
  let c0_i32_921 : BitVec 32 := 0#32
  let v2412 : BitVec 1 := Scalar.cmpi .slt c16_i32_917 c0_i32_921
  let v2413 : BitVec 32 := Scalar.extui v2412
  let v2414 : BitVec 32 := Scalar.subi v2411 v2413
  let v2415 : BitVec 1 := Scalar.cmpi .ne v2409 v2414
  let v2416 : BitVec 32 := Scalar.remsi v2401 c16_i32_917
  let c0_i32_922 : BitVec 32 := 0#32
  let v2417 : BitVec 1 := Scalar.cmpi .ne v2416 c0_i32_922
  let v2418 : BitVec 1 := Scalar.andi v2415 v2417
  let v2404 : BitVec 32 := Scalar.divsi v2401 c16_i32_917
  let c1_i32_923 : BitVec 32 := 1#32
  let v2419 : BitVec 32 := Scalar.subi v2404 c1_i32_923
  let v2420 : BitVec 32 := Scalar.select v2418 v2419 v2404
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2420 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t50
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2401 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk100 (i : grid0.Coords) (v25 : BitVec 32) (v2401 : BitVec 32) : Prop :=
  (∀ k0_t50 : Fin k0_t50_loop.trips, ∀ (k0_h50 : k0_cond50 i v25 v2401 = 1#1), ∀ a, (k0_off254 v2401 k0_t50) a + S1x16.size a ≤ S128x512.size a) ∧
  (∀ k0_t50 : Fin k0_t50_loop.trips, ∀ (k0_h50 : k0_cond50 i v25 v2401 = 1#1), ∀ a, (k0_off256 v2401 k0_t50) a + S1x16.size a ≤ S128x512.size a)
theorem k0_off254_inb : ∀ (i : grid0.Coords) (v25 : BitVec 32) (v2401 : BitVec 32) (k0_hw100 : k0_chk100 i v25 v2401) (k0_t50 : Fin k0_t50_loop.trips), ∀ (k0_h50 : k0_cond50 i v25 v2401 = 1#1), ∀ a, (k0_off254 v2401 k0_t50) a + S1x16.size a ≤ S128x512.size a := fun i v25 v2401 k0_hw100 k0_t50 k0_h50 => k0_hw100.1 k0_t50 k0_h50
theorem k0_off256_inb : ∀ (i : grid0.Coords) (v25 : BitVec 32) (v2401 : BitVec 32) (k0_hw100 : k0_chk100 i v25 v2401) (k0_t50 : Fin k0_t50_loop.trips), ∀ (k0_h50 : k0_cond50 i v25 v2401 = 1#1), ∀ a, (k0_off256 v2401 k0_t50) a + S1x16.size a ≤ S128x512.size a := fun i v25 v2401 k0_hw100 k0_t50 k0_h50 => k0_hw100.2 k0_t50 k0_h50

def k0_off257 (i : grid0.Coords) (v2446 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2446 c0_i32_1428
  let v3763 : BitVec 32 := Scalar.extui v3762
  let c0_i32_1429 : BitVec 32 := 0#32
  let v3764 : BitVec 1 := Scalar.cmpi .slt v2446 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2446 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2446 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r60 : BitVec 32 := 0#32
  ![v3779.toNat, 0]
def k0_cond51 (i : grid0.Coords) (v25 : BitVec 32) (v2444 : BitVec 32) : BitVec 1 :=
  let c2_i32_940 : BitVec 32 := 2#32
  let v2464 : BitVec 1 := Scalar.cmpi .sgt v25 c2_i32_940
  let c0_i32_934 : BitVec 32 := 0#32
  let v2448 : BitVec 1 := Scalar.cmpi .sgt v2444 c0_i32_934
  let v2449 : BitVec 32 := Scalar.extui v2448
  let c0_i32_935 : BitVec 32 := 0#32
  let v2450 : BitVec 1 := Scalar.cmpi .slt v2444 c0_i32_935
  let v2451 : BitVec 32 := Scalar.extui v2450
  let v2452 : BitVec 32 := Scalar.subi v2449 v2451
  let c16_i32_933 : BitVec 32 := 16#32
  let c0_i32_936 : BitVec 32 := 0#32
  let v2453 : BitVec 1 := Scalar.cmpi .sgt c16_i32_933 c0_i32_936
  let v2454 : BitVec 32 := Scalar.extui v2453
  let c0_i32_937 : BitVec 32 := 0#32
  let v2455 : BitVec 1 := Scalar.cmpi .slt c16_i32_933 c0_i32_937
  let v2456 : BitVec 32 := Scalar.extui v2455
  let v2457 : BitVec 32 := Scalar.subi v2454 v2456
  let v2458 : BitVec 1 := Scalar.cmpi .ne v2452 v2457
  let v2459 : BitVec 32 := Scalar.remsi v2444 c16_i32_933
  let c0_i32_938 : BitVec 32 := 0#32
  let v2460 : BitVec 1 := Scalar.cmpi .ne v2459 c0_i32_938
  let v2461 : BitVec 1 := Scalar.andi v2458 v2460
  let v2447 : BitVec 32 := Scalar.divsi v2444 c16_i32_933
  let c1_i32_939 : BitVec 32 := 1#32
  let v2462 : BitVec 32 := Scalar.subi v2447 c1_i32_939
  let v2463 : BitVec 32 := Scalar.select v2461 v2462 v2447
  let c0_i32_942 : BitVec 32 := 0#32
  let v2466 : BitVec 1 := Scalar.cmpi .sgt v2463 c0_i32_942
  let v2467 : BitVec 32 := Scalar.extui v2466
  let c0_i32_943 : BitVec 32 := 0#32
  let v2468 : BitVec 1 := Scalar.cmpi .slt v2463 c0_i32_943
  let v2469 : BitVec 32 := Scalar.extui v2468
  let v2470 : BitVec 32 := Scalar.subi v2467 v2469
  let c4_i32_941 : BitVec 32 := 4#32
  let c0_i32_944 : BitVec 32 := 0#32
  let v2471 : BitVec 1 := Scalar.cmpi .sgt c4_i32_941 c0_i32_944
  let v2472 : BitVec 32 := Scalar.extui v2471
  let c0_i32_945 : BitVec 32 := 0#32
  let v2473 : BitVec 1 := Scalar.cmpi .slt c4_i32_941 c0_i32_945
  let v2474 : BitVec 32 := Scalar.extui v2473
  let v2475 : BitVec 32 := Scalar.subi v2472 v2474
  let v2476 : BitVec 1 := Scalar.cmpi .ne v2470 v2475
  let v2477 : BitVec 32 := Scalar.remsi v2463 c4_i32_941
  let c0_i32_946 : BitVec 32 := 0#32
  let v2478 : BitVec 1 := Scalar.cmpi .ne v2477 c0_i32_946
  let v2479 : BitVec 1 := Scalar.andi v2476 v2478
  let v2465 : BitVec 32 := Scalar.divsi v2463 c4_i32_941
  let c1_i32_947 : BitVec 32 := 1#32
  let v2480 : BitVec 32 := Scalar.subi v2465 c1_i32_947
  let v2481 : BitVec 32 := Scalar.select v2479 v2480 v2465
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2482 : BitVec 1 := Scalar.cmpi .eq v2481 v2356
  let v2483 : BitVec 1 := Scalar.andi v2464 v2482
  let v2484 : BitVec 32 := Scalar.extui v2483
  let c0_i32_948 : BitVec 32 := 0#32
  let v2485 : BitVec 1 := Scalar.cmpi .ne v2484 c0_i32_948
  v2485

@[reducible] def k0_t51_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off258 (v2446 : BitVec 32) (k0_t51 : Fin k0_t51_loop.trips) : Fin 2 → Nat :=
  let c0_i32_1453 : BitVec 32 := 0#32
  let c1_i32_1455 : BitVec 32 := 1#32
  let arg19 : BitVec 32 := Scf.iv c0_i32_1453 c1_i32_1455 k0_t51
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2446 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off259 (v2444 : BitVec 32) (k0_t51 : Fin k0_t51_loop.trips) : Fin 2 → Nat :=
  let c0_i32_934 : BitVec 32 := 0#32
  let v2448 : BitVec 1 := Scalar.cmpi .sgt v2444 c0_i32_934
  let v2449 : BitVec 32 := Scalar.extui v2448
  let c0_i32_935 : BitVec 32 := 0#32
  let v2450 : BitVec 1 := Scalar.cmpi .slt v2444 c0_i32_935
  let v2451 : BitVec 32 := Scalar.extui v2450
  let v2452 : BitVec 32 := Scalar.subi v2449 v2451
  let c16_i32_933 : BitVec 32 := 16#32
  let c0_i32_936 : BitVec 32 := 0#32
  let v2453 : BitVec 1 := Scalar.cmpi .sgt c16_i32_933 c0_i32_936
  let v2454 : BitVec 32 := Scalar.extui v2453
  let c0_i32_937 : BitVec 32 := 0#32
  let v2455 : BitVec 1 := Scalar.cmpi .slt c16_i32_933 c0_i32_937
  let v2456 : BitVec 32 := Scalar.extui v2455
  let v2457 : BitVec 32 := Scalar.subi v2454 v2456
  let v2458 : BitVec 1 := Scalar.cmpi .ne v2452 v2457
  let v2459 : BitVec 32 := Scalar.remsi v2444 c16_i32_933
  let c0_i32_938 : BitVec 32 := 0#32
  let v2460 : BitVec 1 := Scalar.cmpi .ne v2459 c0_i32_938
  let v2461 : BitVec 1 := Scalar.andi v2458 v2460
  let v2447 : BitVec 32 := Scalar.divsi v2444 c16_i32_933
  let c1_i32_939 : BitVec 32 := 1#32
  let v2462 : BitVec 32 := Scalar.subi v2447 c1_i32_939
  let v2463 : BitVec 32 := Scalar.select v2461 v2462 v2447
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2463 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t51
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2444 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off260 (v2446 : BitVec 32) (k0_t51 : Fin k0_t51_loop.trips) : Fin 2 → Nat :=
  let c0_i32_1453 : BitVec 32 := 0#32
  let c1_i32_1455 : BitVec 32 := 1#32
  let arg19 : BitVec 32 := Scf.iv c0_i32_1453 c1_i32_1455 k0_t51
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2446 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk101 (i : grid0.Coords) (v25 : BitVec 32) (v2444 : BitVec 32) (v2446 : BitVec 32) : Prop :=
  (∀ (k0_h51 : k0_cond51 i v25 v2444 = 1#1), ∀ a, (k0_off257 i v2446) a + S32x512.size a ≤ S4096x512.size a) ∧
  (∀ k0_t51 : Fin k0_t51_loop.trips, ∀ (k0_h51 : k0_cond51 i v25 v2444 = 1#1), ∀ a, (k0_off258 v2446 k0_t51) a + S1x16.size a ≤ S32x512.size a) ∧
  (∀ k0_t51 : Fin k0_t51_loop.trips, ∀ (k0_h51 : k0_cond51 i v25 v2444 = 1#1), ∀ a, (k0_off260 v2446 k0_t51) a + S1x16.size a ≤ S32x512.size a)
theorem k0_off257_inb : ∀ (i : grid0.Coords) (v25 : BitVec 32) (v2444 : BitVec 32) (v2446 : BitVec 32) (k0_hw101 : k0_chk101 i v25 v2444 v2446), ∀ (k0_h51 : k0_cond51 i v25 v2444 = 1#1), ∀ a, (k0_off257 i v2446) a + S32x512.size a ≤ S4096x512.size a := fun i v25 v2444 v2446 k0_hw101 k0_h51 => k0_hw101.1 k0_h51
theorem k0_off258_inb : ∀ (i : grid0.Coords) (v25 : BitVec 32) (v2444 : BitVec 32) (v2446 : BitVec 32) (k0_hw101 : k0_chk101 i v25 v2444 v2446) (k0_t51 : Fin k0_t51_loop.trips), ∀ (k0_h51 : k0_cond51 i v25 v2444 = 1#1), ∀ a, (k0_off258 v2446 k0_t51) a + S1x16.size a ≤ S32x512.size a := fun i v25 v2444 v2446 k0_hw101 k0_t51 k0_h51 => k0_hw101.2.1 k0_t51 k0_h51
theorem k0_off260_inb : ∀ (i : grid0.Coords) (v25 : BitVec 32) (v2444 : BitVec 32) (v2446 : BitVec 32) (k0_hw101 : k0_chk101 i v25 v2444 v2446) (k0_t51 : Fin k0_t51_loop.trips), ∀ (k0_h51 : k0_cond51 i v25 v2444 = 1#1), ∀ a, (k0_off260 v2446 k0_t51) a + S1x16.size a ≤ S32x512.size a := fun i v25 v2444 v2446 k0_hw101 k0_t51 k0_h51 => k0_hw101.2.2 k0_t51 k0_h51

def k0_off261 (v2444 : BitVec 32) (k0_t51 : Fin k0_t51_loop.trips) : Fin 2 → Nat :=
  let c0_i32_934 : BitVec 32 := 0#32
  let v2448 : BitVec 1 := Scalar.cmpi .sgt v2444 c0_i32_934
  let v2449 : BitVec 32 := Scalar.extui v2448
  let c0_i32_935 : BitVec 32 := 0#32
  let v2450 : BitVec 1 := Scalar.cmpi .slt v2444 c0_i32_935
  let v2451 : BitVec 32 := Scalar.extui v2450
  let v2452 : BitVec 32 := Scalar.subi v2449 v2451
  let c16_i32_933 : BitVec 32 := 16#32
  let c0_i32_936 : BitVec 32 := 0#32
  let v2453 : BitVec 1 := Scalar.cmpi .sgt c16_i32_933 c0_i32_936
  let v2454 : BitVec 32 := Scalar.extui v2453
  let c0_i32_937 : BitVec 32 := 0#32
  let v2455 : BitVec 1 := Scalar.cmpi .slt c16_i32_933 c0_i32_937
  let v2456 : BitVec 32 := Scalar.extui v2455
  let v2457 : BitVec 32 := Scalar.subi v2454 v2456
  let v2458 : BitVec 1 := Scalar.cmpi .ne v2452 v2457
  let v2459 : BitVec 32 := Scalar.remsi v2444 c16_i32_933
  let c0_i32_938 : BitVec 32 := 0#32
  let v2460 : BitVec 1 := Scalar.cmpi .ne v2459 c0_i32_938
  let v2461 : BitVec 1 := Scalar.andi v2458 v2460
  let v2447 : BitVec 32 := Scalar.divsi v2444 c16_i32_933
  let c1_i32_939 : BitVec 32 := 1#32
  let v2462 : BitVec 32 := Scalar.subi v2447 c1_i32_939
  let v2463 : BitVec 32 := Scalar.select v2461 v2462 v2447
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2463 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t51
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2444 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk102 (i : grid0.Coords) (v25 : BitVec 32) (v2444 : BitVec 32) : Prop :=
  (∀ k0_t51 : Fin k0_t51_loop.trips, ∀ (k0_h51 : k0_cond51 i v25 v2444 = 1#1), ∀ a, (k0_off259 v2444 k0_t51) a + S1x16.size a ≤ S128x512.size a) ∧
  (∀ k0_t51 : Fin k0_t51_loop.trips, ∀ (k0_h51 : k0_cond51 i v25 v2444 = 1#1), ∀ a, (k0_off261 v2444 k0_t51) a + S1x16.size a ≤ S128x512.size a)
theorem k0_off259_inb : ∀ (i : grid0.Coords) (v25 : BitVec 32) (v2444 : BitVec 32) (k0_hw102 : k0_chk102 i v25 v2444) (k0_t51 : Fin k0_t51_loop.trips), ∀ (k0_h51 : k0_cond51 i v25 v2444 = 1#1), ∀ a, (k0_off259 v2444 k0_t51) a + S1x16.size a ≤ S128x512.size a := fun i v25 v2444 k0_hw102 k0_t51 k0_h51 => k0_hw102.1 k0_t51 k0_h51
theorem k0_off261_inb : ∀ (i : grid0.Coords) (v25 : BitVec 32) (v2444 : BitVec 32) (k0_hw102 : k0_chk102 i v25 v2444) (k0_t51 : Fin k0_t51_loop.trips), ∀ (k0_h51 : k0_cond51 i v25 v2444 = 1#1), ∀ a, (k0_off261 v2444 k0_t51) a + S1x16.size a ≤ S128x512.size a := fun i v25 v2444 k0_hw102 k0_t51 k0_h51 => k0_hw102.2 k0_t51 k0_h51

def k0_off262 (i : grid0.Coords) (v2489 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2489 c0_i32_1428
  let v3763 : BitVec 32 := Scalar.extui v3762
  let c0_i32_1429 : BitVec 32 := 0#32
  let v3764 : BitVec 1 := Scalar.cmpi .slt v2489 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2489 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2489 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r61 : BitVec 32 := 0#32
  ![v3779.toNat, 0]
def k0_cond52 (i : grid0.Coords) (v25 : BitVec 32) (v2487 : BitVec 32) : BitVec 1 :=
  let c3_i32_956 : BitVec 32 := 3#32
  let v2507 : BitVec 1 := Scalar.cmpi .sgt v25 c3_i32_956
  let c0_i32_950 : BitVec 32 := 0#32
  let v2491 : BitVec 1 := Scalar.cmpi .sgt v2487 c0_i32_950
  let v2492 : BitVec 32 := Scalar.extui v2491
  let c0_i32_951 : BitVec 32 := 0#32
  let v2493 : BitVec 1 := Scalar.cmpi .slt v2487 c0_i32_951
  let v2494 : BitVec 32 := Scalar.extui v2493
  let v2495 : BitVec 32 := Scalar.subi v2492 v2494
  let c16_i32_949 : BitVec 32 := 16#32
  let c0_i32_952 : BitVec 32 := 0#32
  let v2496 : BitVec 1 := Scalar.cmpi .sgt c16_i32_949 c0_i32_952
  let v2497 : BitVec 32 := Scalar.extui v2496
  let c0_i32_953 : BitVec 32 := 0#32
  let v2498 : BitVec 1 := Scalar.cmpi .slt c16_i32_949 c0_i32_953
  let v2499 : BitVec 32 := Scalar.extui v2498
  let v2500 : BitVec 32 := Scalar.subi v2497 v2499
  let v2501 : BitVec 1 := Scalar.cmpi .ne v2495 v2500
  let v2502 : BitVec 32 := Scalar.remsi v2487 c16_i32_949
  let c0_i32_954 : BitVec 32 := 0#32
  let v2503 : BitVec 1 := Scalar.cmpi .ne v2502 c0_i32_954
  let v2504 : BitVec 1 := Scalar.andi v2501 v2503
  let v2490 : BitVec 32 := Scalar.divsi v2487 c16_i32_949
  let c1_i32_955 : BitVec 32 := 1#32
  let v2505 : BitVec 32 := Scalar.subi v2490 c1_i32_955
  let v2506 : BitVec 32 := Scalar.select v2504 v2505 v2490
  let c0_i32_958 : BitVec 32 := 0#32
  let v2509 : BitVec 1 := Scalar.cmpi .sgt v2506 c0_i32_958
  let v2510 : BitVec 32 := Scalar.extui v2509
  let c0_i32_959 : BitVec 32 := 0#32
  let v2511 : BitVec 1 := Scalar.cmpi .slt v2506 c0_i32_959
  let v2512 : BitVec 32 := Scalar.extui v2511
  let v2513 : BitVec 32 := Scalar.subi v2510 v2512
  let c4_i32_957 : BitVec 32 := 4#32
  let c0_i32_960 : BitVec 32 := 0#32
  let v2514 : BitVec 1 := Scalar.cmpi .sgt c4_i32_957 c0_i32_960
  let v2515 : BitVec 32 := Scalar.extui v2514
  let c0_i32_961 : BitVec 32 := 0#32
  let v2516 : BitVec 1 := Scalar.cmpi .slt c4_i32_957 c0_i32_961
  let v2517 : BitVec 32 := Scalar.extui v2516
  let v2518 : BitVec 32 := Scalar.subi v2515 v2517
  let v2519 : BitVec 1 := Scalar.cmpi .ne v2513 v2518
  let v2520 : BitVec 32 := Scalar.remsi v2506 c4_i32_957
  let c0_i32_962 : BitVec 32 := 0#32
  let v2521 : BitVec 1 := Scalar.cmpi .ne v2520 c0_i32_962
  let v2522 : BitVec 1 := Scalar.andi v2519 v2521
  let v2508 : BitVec 32 := Scalar.divsi v2506 c4_i32_957
  let c1_i32_963 : BitVec 32 := 1#32
  let v2523 : BitVec 32 := Scalar.subi v2508 c1_i32_963
  let v2524 : BitVec 32 := Scalar.select v2522 v2523 v2508
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2525 : BitVec 1 := Scalar.cmpi .eq v2524 v2356
  let v2526 : BitVec 1 := Scalar.andi v2507 v2525
  let v2527 : BitVec 32 := Scalar.extui v2526
  let c0_i32_964 : BitVec 32 := 0#32
  let v2528 : BitVec 1 := Scalar.cmpi .ne v2527 c0_i32_964
  v2528

@[reducible] def k0_t52_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off263 (v2489 : BitVec 32) (k0_t52 : Fin k0_t52_loop.trips) : Fin 2 → Nat :=
  let c0_i32_1453 : BitVec 32 := 0#32
  let c1_i32_1455 : BitVec 32 := 1#32
  let arg19 : BitVec 32 := Scf.iv c0_i32_1453 c1_i32_1455 k0_t52
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2489 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off264 (v2487 : BitVec 32) (k0_t52 : Fin k0_t52_loop.trips) : Fin 2 → Nat :=
  let c0_i32_950 : BitVec 32 := 0#32
  let v2491 : BitVec 1 := Scalar.cmpi .sgt v2487 c0_i32_950
  let v2492 : BitVec 32 := Scalar.extui v2491
  let c0_i32_951 : BitVec 32 := 0#32
  let v2493 : BitVec 1 := Scalar.cmpi .slt v2487 c0_i32_951
  let v2494 : BitVec 32 := Scalar.extui v2493
  let v2495 : BitVec 32 := Scalar.subi v2492 v2494
  let c16_i32_949 : BitVec 32 := 16#32
  let c0_i32_952 : BitVec 32 := 0#32
  let v2496 : BitVec 1 := Scalar.cmpi .sgt c16_i32_949 c0_i32_952
  let v2497 : BitVec 32 := Scalar.extui v2496
  let c0_i32_953 : BitVec 32 := 0#32
  let v2498 : BitVec 1 := Scalar.cmpi .slt c16_i32_949 c0_i32_953
  let v2499 : BitVec 32 := Scalar.extui v2498
  let v2500 : BitVec 32 := Scalar.subi v2497 v2499
  let v2501 : BitVec 1 := Scalar.cmpi .ne v2495 v2500
  let v2502 : BitVec 32 := Scalar.remsi v2487 c16_i32_949
  let c0_i32_954 : BitVec 32 := 0#32
  let v2503 : BitVec 1 := Scalar.cmpi .ne v2502 c0_i32_954
  let v2504 : BitVec 1 := Scalar.andi v2501 v2503
  let v2490 : BitVec 32 := Scalar.divsi v2487 c16_i32_949
  let c1_i32_955 : BitVec 32 := 1#32
  let v2505 : BitVec 32 := Scalar.subi v2490 c1_i32_955
  let v2506 : BitVec 32 := Scalar.select v2504 v2505 v2490
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2506 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t52
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2487 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off265 (v2489 : BitVec 32) (k0_t52 : Fin k0_t52_loop.trips) : Fin 2 → Nat :=
  let c0_i32_1453 : BitVec 32 := 0#32
  let c1_i32_1455 : BitVec 32 := 1#32
  let arg19 : BitVec 32 := Scf.iv c0_i32_1453 c1_i32_1455 k0_t52
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2489 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk103 (i : grid0.Coords) (v25 : BitVec 32) (v2487 : BitVec 32) (v2489 : BitVec 32) : Prop :=
  (∀ (k0_h52 : k0_cond52 i v25 v2487 = 1#1), ∀ a, (k0_off262 i v2489) a + S32x512.size a ≤ S4096x512.size a) ∧
  (∀ k0_t52 : Fin k0_t52_loop.trips, ∀ (k0_h52 : k0_cond52 i v25 v2487 = 1#1), ∀ a, (k0_off263 v2489 k0_t52) a + S1x16.size a ≤ S32x512.size a) ∧
  (∀ k0_t52 : Fin k0_t52_loop.trips, ∀ (k0_h52 : k0_cond52 i v25 v2487 = 1#1), ∀ a, (k0_off265 v2489 k0_t52) a + S1x16.size a ≤ S32x512.size a)
theorem k0_off262_inb : ∀ (i : grid0.Coords) (v25 : BitVec 32) (v2487 : BitVec 32) (v2489 : BitVec 32) (k0_hw103 : k0_chk103 i v25 v2487 v2489), ∀ (k0_h52 : k0_cond52 i v25 v2487 = 1#1), ∀ a, (k0_off262 i v2489) a + S32x512.size a ≤ S4096x512.size a := fun i v25 v2487 v2489 k0_hw103 k0_h52 => k0_hw103.1 k0_h52
theorem k0_off263_inb : ∀ (i : grid0.Coords) (v25 : BitVec 32) (v2487 : BitVec 32) (v2489 : BitVec 32) (k0_hw103 : k0_chk103 i v25 v2487 v2489) (k0_t52 : Fin k0_t52_loop.trips), ∀ (k0_h52 : k0_cond52 i v25 v2487 = 1#1), ∀ a, (k0_off263 v2489 k0_t52) a + S1x16.size a ≤ S32x512.size a := fun i v25 v2487 v2489 k0_hw103 k0_t52 k0_h52 => k0_hw103.2.1 k0_t52 k0_h52
theorem k0_off265_inb : ∀ (i : grid0.Coords) (v25 : BitVec 32) (v2487 : BitVec 32) (v2489 : BitVec 32) (k0_hw103 : k0_chk103 i v25 v2487 v2489) (k0_t52 : Fin k0_t52_loop.trips), ∀ (k0_h52 : k0_cond52 i v25 v2487 = 1#1), ∀ a, (k0_off265 v2489 k0_t52) a + S1x16.size a ≤ S32x512.size a := fun i v25 v2487 v2489 k0_hw103 k0_t52 k0_h52 => k0_hw103.2.2 k0_t52 k0_h52

def k0_off266 (v2487 : BitVec 32) (k0_t52 : Fin k0_t52_loop.trips) : Fin 2 → Nat :=
  let c0_i32_950 : BitVec 32 := 0#32
  let v2491 : BitVec 1 := Scalar.cmpi .sgt v2487 c0_i32_950
  let v2492 : BitVec 32 := Scalar.extui v2491
  let c0_i32_951 : BitVec 32 := 0#32
  let v2493 : BitVec 1 := Scalar.cmpi .slt v2487 c0_i32_951
  let v2494 : BitVec 32 := Scalar.extui v2493
  let v2495 : BitVec 32 := Scalar.subi v2492 v2494
  let c16_i32_949 : BitVec 32 := 16#32
  let c0_i32_952 : BitVec 32 := 0#32
  let v2496 : BitVec 1 := Scalar.cmpi .sgt c16_i32_949 c0_i32_952
  let v2497 : BitVec 32 := Scalar.extui v2496
  let c0_i32_953 : BitVec 32 := 0#32
  let v2498 : BitVec 1 := Scalar.cmpi .slt c16_i32_949 c0_i32_953
  let v2499 : BitVec 32 := Scalar.extui v2498
  let v2500 : BitVec 32 := Scalar.subi v2497 v2499
  let v2501 : BitVec 1 := Scalar.cmpi .ne v2495 v2500
  let v2502 : BitVec 32 := Scalar.remsi v2487 c16_i32_949
  let c0_i32_954 : BitVec 32 := 0#32
  let v2503 : BitVec 1 := Scalar.cmpi .ne v2502 c0_i32_954
  let v2504 : BitVec 1 := Scalar.andi v2501 v2503
  let v2490 : BitVec 32 := Scalar.divsi v2487 c16_i32_949
  let c1_i32_955 : BitVec 32 := 1#32
  let v2505 : BitVec 32 := Scalar.subi v2490 c1_i32_955
  let v2506 : BitVec 32 := Scalar.select v2504 v2505 v2490
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2506 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t52
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2487 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk104 (i : grid0.Coords) (v25 : BitVec 32) (v2487 : BitVec 32) : Prop :=
  (∀ k0_t52 : Fin k0_t52_loop.trips, ∀ (k0_h52 : k0_cond52 i v25 v2487 = 1#1), ∀ a, (k0_off264 v2487 k0_t52) a + S1x16.size a ≤ S128x512.size a) ∧
  (∀ k0_t52 : Fin k0_t52_loop.trips, ∀ (k0_h52 : k0_cond52 i v25 v2487 = 1#1), ∀ a, (k0_off266 v2487 k0_t52) a + S1x16.size a ≤ S128x512.size a)
theorem k0_off264_inb : ∀ (i : grid0.Coords) (v25 : BitVec 32) (v2487 : BitVec 32) (k0_hw104 : k0_chk104 i v25 v2487) (k0_t52 : Fin k0_t52_loop.trips), ∀ (k0_h52 : k0_cond52 i v25 v2487 = 1#1), ∀ a, (k0_off264 v2487 k0_t52) a + S1x16.size a ≤ S128x512.size a := fun i v25 v2487 k0_hw104 k0_t52 k0_h52 => k0_hw104.1 k0_t52 k0_h52
theorem k0_off266_inb : ∀ (i : grid0.Coords) (v25 : BitVec 32) (v2487 : BitVec 32) (k0_hw104 : k0_chk104 i v25 v2487) (k0_t52 : Fin k0_t52_loop.trips), ∀ (k0_h52 : k0_cond52 i v25 v2487 = 1#1), ∀ a, (k0_off266 v2487 k0_t52) a + S1x16.size a ≤ S128x512.size a := fun i v25 v2487 k0_hw104 k0_t52 k0_h52 => k0_hw104.2 k0_t52 k0_h52

def k0_off267 (i : grid0.Coords) (v2532 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2532 c0_i32_1428
  let v3763 : BitVec 32 := Scalar.extui v3762
  let c0_i32_1429 : BitVec 32 := 0#32
  let v3764 : BitVec 1 := Scalar.cmpi .slt v2532 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2532 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2532 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r62 : BitVec 32 := 0#32
  ![v3779.toNat, 0]
def k0_cond53 (i : grid0.Coords) (v25 : BitVec 32) (v2530 : BitVec 32) : BitVec 1 :=
  let c4_i32_972 : BitVec 32 := 4#32
  let v2550 : BitVec 1 := Scalar.cmpi .sgt v25 c4_i32_972
  let c0_i32_966 : BitVec 32 := 0#32
  let v2534 : BitVec 1 := Scalar.cmpi .sgt v2530 c0_i32_966
  let v2535 : BitVec 32 := Scalar.extui v2534
  let c0_i32_967 : BitVec 32 := 0#32
  let v2536 : BitVec 1 := Scalar.cmpi .slt v2530 c0_i32_967
  let v2537 : BitVec 32 := Scalar.extui v2536
  let v2538 : BitVec 32 := Scalar.subi v2535 v2537
  let c16_i32_965 : BitVec 32 := 16#32
  let c0_i32_968 : BitVec 32 := 0#32
  let v2539 : BitVec 1 := Scalar.cmpi .sgt c16_i32_965 c0_i32_968
  let v2540 : BitVec 32 := Scalar.extui v2539
  let c0_i32_969 : BitVec 32 := 0#32
  let v2541 : BitVec 1 := Scalar.cmpi .slt c16_i32_965 c0_i32_969
  let v2542 : BitVec 32 := Scalar.extui v2541
  let v2543 : BitVec 32 := Scalar.subi v2540 v2542
  let v2544 : BitVec 1 := Scalar.cmpi .ne v2538 v2543
  let v2545 : BitVec 32 := Scalar.remsi v2530 c16_i32_965
  let c0_i32_970 : BitVec 32 := 0#32
  let v2546 : BitVec 1 := Scalar.cmpi .ne v2545 c0_i32_970
  let v2547 : BitVec 1 := Scalar.andi v2544 v2546
  let v2533 : BitVec 32 := Scalar.divsi v2530 c16_i32_965
  let c1_i32_971 : BitVec 32 := 1#32
  let v2548 : BitVec 32 := Scalar.subi v2533 c1_i32_971
  let v2549 : BitVec 32 := Scalar.select v2547 v2548 v2533
  let c0_i32_974 : BitVec 32 := 0#32
  let v2552 : BitVec 1 := Scalar.cmpi .sgt v2549 c0_i32_974
  let v2553 : BitVec 32 := Scalar.extui v2552
  let c0_i32_975 : BitVec 32 := 0#32
  let v2554 : BitVec 1 := Scalar.cmpi .slt v2549 c0_i32_975
  let v2555 : BitVec 32 := Scalar.extui v2554
  let v2556 : BitVec 32 := Scalar.subi v2553 v2555
  let c4_i32_973 : BitVec 32 := 4#32
  let c0_i32_976 : BitVec 32 := 0#32
  let v2557 : BitVec 1 := Scalar.cmpi .sgt c4_i32_973 c0_i32_976
  let v2558 : BitVec 32 := Scalar.extui v2557
  let c0_i32_977 : BitVec 32 := 0#32
  let v2559 : BitVec 1 := Scalar.cmpi .slt c4_i32_973 c0_i32_977
  let v2560 : BitVec 32 := Scalar.extui v2559
  let v2561 : BitVec 32 := Scalar.subi v2558 v2560
  let v2562 : BitVec 1 := Scalar.cmpi .ne v2556 v2561
  let v2563 : BitVec 32 := Scalar.remsi v2549 c4_i32_973
  let c0_i32_978 : BitVec 32 := 0#32
  let v2564 : BitVec 1 := Scalar.cmpi .ne v2563 c0_i32_978
  let v2565 : BitVec 1 := Scalar.andi v2562 v2564
  let v2551 : BitVec 32 := Scalar.divsi v2549 c4_i32_973
  let c1_i32_979 : BitVec 32 := 1#32
  let v2566 : BitVec 32 := Scalar.subi v2551 c1_i32_979
  let v2567 : BitVec 32 := Scalar.select v2565 v2566 v2551
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2568 : BitVec 1 := Scalar.cmpi .eq v2567 v2356
  let v2569 : BitVec 1 := Scalar.andi v2550 v2568
  let v2570 : BitVec 32 := Scalar.extui v2569
  let c0_i32_980 : BitVec 32 := 0#32
  let v2571 : BitVec 1 := Scalar.cmpi .ne v2570 c0_i32_980
  v2571

@[reducible] def k0_t53_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off268 (v2532 : BitVec 32) (k0_t53 : Fin k0_t53_loop.trips) : Fin 2 → Nat :=
  let c0_i32_1453 : BitVec 32 := 0#32
  let c1_i32_1455 : BitVec 32 := 1#32
  let arg19 : BitVec 32 := Scf.iv c0_i32_1453 c1_i32_1455 k0_t53
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2532 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off269 (v2530 : BitVec 32) (k0_t53 : Fin k0_t53_loop.trips) : Fin 2 → Nat :=
  let c0_i32_966 : BitVec 32 := 0#32
  let v2534 : BitVec 1 := Scalar.cmpi .sgt v2530 c0_i32_966
  let v2535 : BitVec 32 := Scalar.extui v2534
  let c0_i32_967 : BitVec 32 := 0#32
  let v2536 : BitVec 1 := Scalar.cmpi .slt v2530 c0_i32_967
  let v2537 : BitVec 32 := Scalar.extui v2536
  let v2538 : BitVec 32 := Scalar.subi v2535 v2537
  let c16_i32_965 : BitVec 32 := 16#32
  let c0_i32_968 : BitVec 32 := 0#32
  let v2539 : BitVec 1 := Scalar.cmpi .sgt c16_i32_965 c0_i32_968
  let v2540 : BitVec 32 := Scalar.extui v2539
  let c0_i32_969 : BitVec 32 := 0#32
  let v2541 : BitVec 1 := Scalar.cmpi .slt c16_i32_965 c0_i32_969
  let v2542 : BitVec 32 := Scalar.extui v2541
  let v2543 : BitVec 32 := Scalar.subi v2540 v2542
  let v2544 : BitVec 1 := Scalar.cmpi .ne v2538 v2543
  let v2545 : BitVec 32 := Scalar.remsi v2530 c16_i32_965
  let c0_i32_970 : BitVec 32 := 0#32
  let v2546 : BitVec 1 := Scalar.cmpi .ne v2545 c0_i32_970
  let v2547 : BitVec 1 := Scalar.andi v2544 v2546
  let v2533 : BitVec 32 := Scalar.divsi v2530 c16_i32_965
  let c1_i32_971 : BitVec 32 := 1#32
  let v2548 : BitVec 32 := Scalar.subi v2533 c1_i32_971
  let v2549 : BitVec 32 := Scalar.select v2547 v2548 v2533
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2549 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t53
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2530 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off270 (v2532 : BitVec 32) (k0_t53 : Fin k0_t53_loop.trips) : Fin 2 → Nat :=
  let c0_i32_1453 : BitVec 32 := 0#32
  let c1_i32_1455 : BitVec 32 := 1#32
  let arg19 : BitVec 32 := Scf.iv c0_i32_1453 c1_i32_1455 k0_t53
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2532 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk105 (i : grid0.Coords) (v25 : BitVec 32) (v2530 : BitVec 32) (v2532 : BitVec 32) : Prop :=
  (∀ (k0_h53 : k0_cond53 i v25 v2530 = 1#1), ∀ a, (k0_off267 i v2532) a + S32x512.size a ≤ S4096x512.size a) ∧
  (∀ k0_t53 : Fin k0_t53_loop.trips, ∀ (k0_h53 : k0_cond53 i v25 v2530 = 1#1), ∀ a, (k0_off268 v2532 k0_t53) a + S1x16.size a ≤ S32x512.size a) ∧
  (∀ k0_t53 : Fin k0_t53_loop.trips, ∀ (k0_h53 : k0_cond53 i v25 v2530 = 1#1), ∀ a, (k0_off270 v2532 k0_t53) a + S1x16.size a ≤ S32x512.size a)
theorem k0_off267_inb : ∀ (i : grid0.Coords) (v25 : BitVec 32) (v2530 : BitVec 32) (v2532 : BitVec 32) (k0_hw105 : k0_chk105 i v25 v2530 v2532), ∀ (k0_h53 : k0_cond53 i v25 v2530 = 1#1), ∀ a, (k0_off267 i v2532) a + S32x512.size a ≤ S4096x512.size a := fun i v25 v2530 v2532 k0_hw105 k0_h53 => k0_hw105.1 k0_h53
theorem k0_off268_inb : ∀ (i : grid0.Coords) (v25 : BitVec 32) (v2530 : BitVec 32) (v2532 : BitVec 32) (k0_hw105 : k0_chk105 i v25 v2530 v2532) (k0_t53 : Fin k0_t53_loop.trips), ∀ (k0_h53 : k0_cond53 i v25 v2530 = 1#1), ∀ a, (k0_off268 v2532 k0_t53) a + S1x16.size a ≤ S32x512.size a := fun i v25 v2530 v2532 k0_hw105 k0_t53 k0_h53 => k0_hw105.2.1 k0_t53 k0_h53
theorem k0_off270_inb : ∀ (i : grid0.Coords) (v25 : BitVec 32) (v2530 : BitVec 32) (v2532 : BitVec 32) (k0_hw105 : k0_chk105 i v25 v2530 v2532) (k0_t53 : Fin k0_t53_loop.trips), ∀ (k0_h53 : k0_cond53 i v25 v2530 = 1#1), ∀ a, (k0_off270 v2532 k0_t53) a + S1x16.size a ≤ S32x512.size a := fun i v25 v2530 v2532 k0_hw105 k0_t53 k0_h53 => k0_hw105.2.2 k0_t53 k0_h53

def k0_off271 (v2530 : BitVec 32) (k0_t53 : Fin k0_t53_loop.trips) : Fin 2 → Nat :=
  let c0_i32_966 : BitVec 32 := 0#32
  let v2534 : BitVec 1 := Scalar.cmpi .sgt v2530 c0_i32_966
  let v2535 : BitVec 32 := Scalar.extui v2534
  let c0_i32_967 : BitVec 32 := 0#32
  let v2536 : BitVec 1 := Scalar.cmpi .slt v2530 c0_i32_967
  let v2537 : BitVec 32 := Scalar.extui v2536
  let v2538 : BitVec 32 := Scalar.subi v2535 v2537
  let c16_i32_965 : BitVec 32 := 16#32
  let c0_i32_968 : BitVec 32 := 0#32
  let v2539 : BitVec 1 := Scalar.cmpi .sgt c16_i32_965 c0_i32_968
  let v2540 : BitVec 32 := Scalar.extui v2539
  let c0_i32_969 : BitVec 32 := 0#32
  let v2541 : BitVec 1 := Scalar.cmpi .slt c16_i32_965 c0_i32_969
  let v2542 : BitVec 32 := Scalar.extui v2541
  let v2543 : BitVec 32 := Scalar.subi v2540 v2542
  let v2544 : BitVec 1 := Scalar.cmpi .ne v2538 v2543
  let v2545 : BitVec 32 := Scalar.remsi v2530 c16_i32_965
  let c0_i32_970 : BitVec 32 := 0#32
  let v2546 : BitVec 1 := Scalar.cmpi .ne v2545 c0_i32_970
  let v2547 : BitVec 1 := Scalar.andi v2544 v2546
  let v2533 : BitVec 32 := Scalar.divsi v2530 c16_i32_965
  let c1_i32_971 : BitVec 32 := 1#32
  let v2548 : BitVec 32 := Scalar.subi v2533 c1_i32_971
  let v2549 : BitVec 32 := Scalar.select v2547 v2548 v2533
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2549 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t53
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2530 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk106 (i : grid0.Coords) (v25 : BitVec 32) (v2530 : BitVec 32) : Prop :=
  (∀ k0_t53 : Fin k0_t53_loop.trips, ∀ (k0_h53 : k0_cond53 i v25 v2530 = 1#1), ∀ a, (k0_off269 v2530 k0_t53) a + S1x16.size a ≤ S128x512.size a) ∧
  (∀ k0_t53 : Fin k0_t53_loop.trips, ∀ (k0_h53 : k0_cond53 i v25 v2530 = 1#1), ∀ a, (k0_off271 v2530 k0_t53) a + S1x16.size a ≤ S128x512.size a)
theorem k0_off269_inb : ∀ (i : grid0.Coords) (v25 : BitVec 32) (v2530 : BitVec 32) (k0_hw106 : k0_chk106 i v25 v2530) (k0_t53 : Fin k0_t53_loop.trips), ∀ (k0_h53 : k0_cond53 i v25 v2530 = 1#1), ∀ a, (k0_off269 v2530 k0_t53) a + S1x16.size a ≤ S128x512.size a := fun i v25 v2530 k0_hw106 k0_t53 k0_h53 => k0_hw106.1 k0_t53 k0_h53
theorem k0_off271_inb : ∀ (i : grid0.Coords) (v25 : BitVec 32) (v2530 : BitVec 32) (k0_hw106 : k0_chk106 i v25 v2530) (k0_t53 : Fin k0_t53_loop.trips), ∀ (k0_h53 : k0_cond53 i v25 v2530 = 1#1), ∀ a, (k0_off271 v2530 k0_t53) a + S1x16.size a ≤ S128x512.size a := fun i v25 v2530 k0_hw106 k0_t53 k0_h53 => k0_hw106.2 k0_t53 k0_h53

def k0_off272 (i : grid0.Coords) (v2575 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2575 c0_i32_1428
  let v3763 : BitVec 32 := Scalar.extui v3762
  let c0_i32_1429 : BitVec 32 := 0#32
  let v3764 : BitVec 1 := Scalar.cmpi .slt v2575 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2575 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2575 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r63 : BitVec 32 := 0#32
  ![v3779.toNat, 0]
def k0_cond54 (i : grid0.Coords) (v25 : BitVec 32) (v2573 : BitVec 32) : BitVec 1 :=
  let c5_i32_988 : BitVec 32 := 5#32
  let v2593 : BitVec 1 := Scalar.cmpi .sgt v25 c5_i32_988
  let c0_i32_982 : BitVec 32 := 0#32
  let v2577 : BitVec 1 := Scalar.cmpi .sgt v2573 c0_i32_982
  let v2578 : BitVec 32 := Scalar.extui v2577
  let c0_i32_983 : BitVec 32 := 0#32
  let v2579 : BitVec 1 := Scalar.cmpi .slt v2573 c0_i32_983
  let v2580 : BitVec 32 := Scalar.extui v2579
  let v2581 : BitVec 32 := Scalar.subi v2578 v2580
  let c16_i32_981 : BitVec 32 := 16#32
  let c0_i32_984 : BitVec 32 := 0#32
  let v2582 : BitVec 1 := Scalar.cmpi .sgt c16_i32_981 c0_i32_984
  let v2583 : BitVec 32 := Scalar.extui v2582
  let c0_i32_985 : BitVec 32 := 0#32
  let v2584 : BitVec 1 := Scalar.cmpi .slt c16_i32_981 c0_i32_985
  let v2585 : BitVec 32 := Scalar.extui v2584
  let v2586 : BitVec 32 := Scalar.subi v2583 v2585
  let v2587 : BitVec 1 := Scalar.cmpi .ne v2581 v2586
  let v2588 : BitVec 32 := Scalar.remsi v2573 c16_i32_981
  let c0_i32_986 : BitVec 32 := 0#32
  let v2589 : BitVec 1 := Scalar.cmpi .ne v2588 c0_i32_986
  let v2590 : BitVec 1 := Scalar.andi v2587 v2589
  let v2576 : BitVec 32 := Scalar.divsi v2573 c16_i32_981
  let c1_i32_987 : BitVec 32 := 1#32
  let v2591 : BitVec 32 := Scalar.subi v2576 c1_i32_987
  let v2592 : BitVec 32 := Scalar.select v2590 v2591 v2576
  let c0_i32_990 : BitVec 32 := 0#32
  let v2595 : BitVec 1 := Scalar.cmpi .sgt v2592 c0_i32_990
  let v2596 : BitVec 32 := Scalar.extui v2595
  let c0_i32_991 : BitVec 32 := 0#32
  let v2597 : BitVec 1 := Scalar.cmpi .slt v2592 c0_i32_991
  let v2598 : BitVec 32 := Scalar.extui v2597
  let v2599 : BitVec 32 := Scalar.subi v2596 v2598
  let c4_i32_989 : BitVec 32 := 4#32
  let c0_i32_992 : BitVec 32 := 0#32
  let v2600 : BitVec 1 := Scalar.cmpi .sgt c4_i32_989 c0_i32_992
  let v2601 : BitVec 32 := Scalar.extui v2600
  let c0_i32_993 : BitVec 32 := 0#32
  let v2602 : BitVec 1 := Scalar.cmpi .slt c4_i32_989 c0_i32_993
  let v2603 : BitVec 32 := Scalar.extui v2602
  let v2604 : BitVec 32 := Scalar.subi v2601 v2603
  let v2605 : BitVec 1 := Scalar.cmpi .ne v2599 v2604
  let v2606 : BitVec 32 := Scalar.remsi v2592 c4_i32_989
  let c0_i32_994 : BitVec 32 := 0#32
  let v2607 : BitVec 1 := Scalar.cmpi .ne v2606 c0_i32_994
  let v2608 : BitVec 1 := Scalar.andi v2605 v2607
  let v2594 : BitVec 32 := Scalar.divsi v2592 c4_i32_989
  let c1_i32_995 : BitVec 32 := 1#32
  let v2609 : BitVec 32 := Scalar.subi v2594 c1_i32_995
  let v2610 : BitVec 32 := Scalar.select v2608 v2609 v2594
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2611 : BitVec 1 := Scalar.cmpi .eq v2610 v2356
  let v2612 : BitVec 1 := Scalar.andi v2593 v2611
  let v2613 : BitVec 32 := Scalar.extui v2612
  let c0_i32_996 : BitVec 32 := 0#32
  let v2614 : BitVec 1 := Scalar.cmpi .ne v2613 c0_i32_996
  v2614

@[reducible] def k0_t54_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off273 (v2575 : BitVec 32) (k0_t54 : Fin k0_t54_loop.trips) : Fin 2 → Nat :=
  let c0_i32_1453 : BitVec 32 := 0#32
  let c1_i32_1455 : BitVec 32 := 1#32
  let arg19 : BitVec 32 := Scf.iv c0_i32_1453 c1_i32_1455 k0_t54
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2575 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off274 (v2573 : BitVec 32) (k0_t54 : Fin k0_t54_loop.trips) : Fin 2 → Nat :=
  let c0_i32_982 : BitVec 32 := 0#32
  let v2577 : BitVec 1 := Scalar.cmpi .sgt v2573 c0_i32_982
  let v2578 : BitVec 32 := Scalar.extui v2577
  let c0_i32_983 : BitVec 32 := 0#32
  let v2579 : BitVec 1 := Scalar.cmpi .slt v2573 c0_i32_983
  let v2580 : BitVec 32 := Scalar.extui v2579
  let v2581 : BitVec 32 := Scalar.subi v2578 v2580
  let c16_i32_981 : BitVec 32 := 16#32
  let c0_i32_984 : BitVec 32 := 0#32
  let v2582 : BitVec 1 := Scalar.cmpi .sgt c16_i32_981 c0_i32_984
  let v2583 : BitVec 32 := Scalar.extui v2582
  let c0_i32_985 : BitVec 32 := 0#32
  let v2584 : BitVec 1 := Scalar.cmpi .slt c16_i32_981 c0_i32_985
  let v2585 : BitVec 32 := Scalar.extui v2584
  let v2586 : BitVec 32 := Scalar.subi v2583 v2585
  let v2587 : BitVec 1 := Scalar.cmpi .ne v2581 v2586
  let v2588 : BitVec 32 := Scalar.remsi v2573 c16_i32_981
  let c0_i32_986 : BitVec 32 := 0#32
  let v2589 : BitVec 1 := Scalar.cmpi .ne v2588 c0_i32_986
  let v2590 : BitVec 1 := Scalar.andi v2587 v2589
  let v2576 : BitVec 32 := Scalar.divsi v2573 c16_i32_981
  let c1_i32_987 : BitVec 32 := 1#32
  let v2591 : BitVec 32 := Scalar.subi v2576 c1_i32_987
  let v2592 : BitVec 32 := Scalar.select v2590 v2591 v2576
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2592 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t54
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2573 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off275 (v2575 : BitVec 32) (k0_t54 : Fin k0_t54_loop.trips) : Fin 2 → Nat :=
  let c0_i32_1453 : BitVec 32 := 0#32
  let c1_i32_1455 : BitVec 32 := 1#32
  let arg19 : BitVec 32 := Scf.iv c0_i32_1453 c1_i32_1455 k0_t54
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2575 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk107 (i : grid0.Coords) (v25 : BitVec 32) (v2573 : BitVec 32) (v2575 : BitVec 32) : Prop :=
  (∀ (k0_h54 : k0_cond54 i v25 v2573 = 1#1), ∀ a, (k0_off272 i v2575) a + S32x512.size a ≤ S4096x512.size a) ∧
  (∀ k0_t54 : Fin k0_t54_loop.trips, ∀ (k0_h54 : k0_cond54 i v25 v2573 = 1#1), ∀ a, (k0_off273 v2575 k0_t54) a + S1x16.size a ≤ S32x512.size a) ∧
  (∀ k0_t54 : Fin k0_t54_loop.trips, ∀ (k0_h54 : k0_cond54 i v25 v2573 = 1#1), ∀ a, (k0_off275 v2575 k0_t54) a + S1x16.size a ≤ S32x512.size a)
theorem k0_off272_inb : ∀ (i : grid0.Coords) (v25 : BitVec 32) (v2573 : BitVec 32) (v2575 : BitVec 32) (k0_hw107 : k0_chk107 i v25 v2573 v2575), ∀ (k0_h54 : k0_cond54 i v25 v2573 = 1#1), ∀ a, (k0_off272 i v2575) a + S32x512.size a ≤ S4096x512.size a := fun i v25 v2573 v2575 k0_hw107 k0_h54 => k0_hw107.1 k0_h54
theorem k0_off273_inb : ∀ (i : grid0.Coords) (v25 : BitVec 32) (v2573 : BitVec 32) (v2575 : BitVec 32) (k0_hw107 : k0_chk107 i v25 v2573 v2575) (k0_t54 : Fin k0_t54_loop.trips), ∀ (k0_h54 : k0_cond54 i v25 v2573 = 1#1), ∀ a, (k0_off273 v2575 k0_t54) a + S1x16.size a ≤ S32x512.size a := fun i v25 v2573 v2575 k0_hw107 k0_t54 k0_h54 => k0_hw107.2.1 k0_t54 k0_h54
theorem k0_off275_inb : ∀ (i : grid0.Coords) (v25 : BitVec 32) (v2573 : BitVec 32) (v2575 : BitVec 32) (k0_hw107 : k0_chk107 i v25 v2573 v2575) (k0_t54 : Fin k0_t54_loop.trips), ∀ (k0_h54 : k0_cond54 i v25 v2573 = 1#1), ∀ a, (k0_off275 v2575 k0_t54) a + S1x16.size a ≤ S32x512.size a := fun i v25 v2573 v2575 k0_hw107 k0_t54 k0_h54 => k0_hw107.2.2 k0_t54 k0_h54

def k0_off276 (v2573 : BitVec 32) (k0_t54 : Fin k0_t54_loop.trips) : Fin 2 → Nat :=
  let c0_i32_982 : BitVec 32 := 0#32
  let v2577 : BitVec 1 := Scalar.cmpi .sgt v2573 c0_i32_982
  let v2578 : BitVec 32 := Scalar.extui v2577
  let c0_i32_983 : BitVec 32 := 0#32
  let v2579 : BitVec 1 := Scalar.cmpi .slt v2573 c0_i32_983
  let v2580 : BitVec 32 := Scalar.extui v2579
  let v2581 : BitVec 32 := Scalar.subi v2578 v2580
  let c16_i32_981 : BitVec 32 := 16#32
  let c0_i32_984 : BitVec 32 := 0#32
  let v2582 : BitVec 1 := Scalar.cmpi .sgt c16_i32_981 c0_i32_984
  let v2583 : BitVec 32 := Scalar.extui v2582
  let c0_i32_985 : BitVec 32 := 0#32
  let v2584 : BitVec 1 := Scalar.cmpi .slt c16_i32_981 c0_i32_985
  let v2585 : BitVec 32 := Scalar.extui v2584
  let v2586 : BitVec 32 := Scalar.subi v2583 v2585
  let v2587 : BitVec 1 := Scalar.cmpi .ne v2581 v2586
  let v2588 : BitVec 32 := Scalar.remsi v2573 c16_i32_981
  let c0_i32_986 : BitVec 32 := 0#32
  let v2589 : BitVec 1 := Scalar.cmpi .ne v2588 c0_i32_986
  let v2590 : BitVec 1 := Scalar.andi v2587 v2589
  let v2576 : BitVec 32 := Scalar.divsi v2573 c16_i32_981
  let c1_i32_987 : BitVec 32 := 1#32
  let v2591 : BitVec 32 := Scalar.subi v2576 c1_i32_987
  let v2592 : BitVec 32 := Scalar.select v2590 v2591 v2576
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2592 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t54
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2573 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk108 (i : grid0.Coords) (v25 : BitVec 32) (v2573 : BitVec 32) : Prop :=
  (∀ k0_t54 : Fin k0_t54_loop.trips, ∀ (k0_h54 : k0_cond54 i v25 v2573 = 1#1), ∀ a, (k0_off274 v2573 k0_t54) a + S1x16.size a ≤ S128x512.size a) ∧
  (∀ k0_t54 : Fin k0_t54_loop.trips, ∀ (k0_h54 : k0_cond54 i v25 v2573 = 1#1), ∀ a, (k0_off276 v2573 k0_t54) a + S1x16.size a ≤ S128x512.size a)
theorem k0_off274_inb : ∀ (i : grid0.Coords) (v25 : BitVec 32) (v2573 : BitVec 32) (k0_hw108 : k0_chk108 i v25 v2573) (k0_t54 : Fin k0_t54_loop.trips), ∀ (k0_h54 : k0_cond54 i v25 v2573 = 1#1), ∀ a, (k0_off274 v2573 k0_t54) a + S1x16.size a ≤ S128x512.size a := fun i v25 v2573 k0_hw108 k0_t54 k0_h54 => k0_hw108.1 k0_t54 k0_h54
theorem k0_off276_inb : ∀ (i : grid0.Coords) (v25 : BitVec 32) (v2573 : BitVec 32) (k0_hw108 : k0_chk108 i v25 v2573) (k0_t54 : Fin k0_t54_loop.trips), ∀ (k0_h54 : k0_cond54 i v25 v2573 = 1#1), ∀ a, (k0_off276 v2573 k0_t54) a + S1x16.size a ≤ S128x512.size a := fun i v25 v2573 k0_hw108 k0_t54 k0_h54 => k0_hw108.2 k0_t54 k0_h54

def k0_off277 (i : grid0.Coords) (v2618 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2618 c0_i32_1428
  let v3763 : BitVec 32 := Scalar.extui v3762
  let c0_i32_1429 : BitVec 32 := 0#32
  let v3764 : BitVec 1 := Scalar.cmpi .slt v2618 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2618 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2618 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r64 : BitVec 32 := 0#32
  ![v3779.toNat, 0]
def k0_cond55 (i : grid0.Coords) (v25 : BitVec 32) (v2616 : BitVec 32) : BitVec 1 :=
  let c6_i32_1004 : BitVec 32 := 6#32
  let v2636 : BitVec 1 := Scalar.cmpi .sgt v25 c6_i32_1004
  let c0_i32_998 : BitVec 32 := 0#32
  let v2620 : BitVec 1 := Scalar.cmpi .sgt v2616 c0_i32_998
  let v2621 : BitVec 32 := Scalar.extui v2620
  let c0_i32_999 : BitVec 32 := 0#32
  let v2622 : BitVec 1 := Scalar.cmpi .slt v2616 c0_i32_999
  let v2623 : BitVec 32 := Scalar.extui v2622
  let v2624 : BitVec 32 := Scalar.subi v2621 v2623
  let c16_i32_997 : BitVec 32 := 16#32
  let c0_i32_1000 : BitVec 32 := 0#32
  let v2625 : BitVec 1 := Scalar.cmpi .sgt c16_i32_997 c0_i32_1000
  let v2626 : BitVec 32 := Scalar.extui v2625
  let c0_i32_1001 : BitVec 32 := 0#32
  let v2627 : BitVec 1 := Scalar.cmpi .slt c16_i32_997 c0_i32_1001
  let v2628 : BitVec 32 := Scalar.extui v2627
  let v2629 : BitVec 32 := Scalar.subi v2626 v2628
  let v2630 : BitVec 1 := Scalar.cmpi .ne v2624 v2629
  let v2631 : BitVec 32 := Scalar.remsi v2616 c16_i32_997
  let c0_i32_1002 : BitVec 32 := 0#32
  let v2632 : BitVec 1 := Scalar.cmpi .ne v2631 c0_i32_1002
  let v2633 : BitVec 1 := Scalar.andi v2630 v2632
  let v2619 : BitVec 32 := Scalar.divsi v2616 c16_i32_997
  let c1_i32_1003 : BitVec 32 := 1#32
  let v2634 : BitVec 32 := Scalar.subi v2619 c1_i32_1003
  let v2635 : BitVec 32 := Scalar.select v2633 v2634 v2619
  let c0_i32_1006 : BitVec 32 := 0#32
  let v2638 : BitVec 1 := Scalar.cmpi .sgt v2635 c0_i32_1006
  let v2639 : BitVec 32 := Scalar.extui v2638
  let c0_i32_1007 : BitVec 32 := 0#32
  let v2640 : BitVec 1 := Scalar.cmpi .slt v2635 c0_i32_1007
  let v2641 : BitVec 32 := Scalar.extui v2640
  let v2642 : BitVec 32 := Scalar.subi v2639 v2641
  let c4_i32_1005 : BitVec 32 := 4#32
  let c0_i32_1008 : BitVec 32 := 0#32
  let v2643 : BitVec 1 := Scalar.cmpi .sgt c4_i32_1005 c0_i32_1008
  let v2644 : BitVec 32 := Scalar.extui v2643
  let c0_i32_1009 : BitVec 32 := 0#32
  let v2645 : BitVec 1 := Scalar.cmpi .slt c4_i32_1005 c0_i32_1009
  let v2646 : BitVec 32 := Scalar.extui v2645
  let v2647 : BitVec 32 := Scalar.subi v2644 v2646
  let v2648 : BitVec 1 := Scalar.cmpi .ne v2642 v2647
  let v2649 : BitVec 32 := Scalar.remsi v2635 c4_i32_1005
  let c0_i32_1010 : BitVec 32 := 0#32
  let v2650 : BitVec 1 := Scalar.cmpi .ne v2649 c0_i32_1010
  let v2651 : BitVec 1 := Scalar.andi v2648 v2650
  let v2637 : BitVec 32 := Scalar.divsi v2635 c4_i32_1005
  let c1_i32_1011 : BitVec 32 := 1#32
  let v2652 : BitVec 32 := Scalar.subi v2637 c1_i32_1011
  let v2653 : BitVec 32 := Scalar.select v2651 v2652 v2637
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2654 : BitVec 1 := Scalar.cmpi .eq v2653 v2356
  let v2655 : BitVec 1 := Scalar.andi v2636 v2654
  let v2656 : BitVec 32 := Scalar.extui v2655
  let c0_i32_1012 : BitVec 32 := 0#32
  let v2657 : BitVec 1 := Scalar.cmpi .ne v2656 c0_i32_1012
  v2657

@[reducible] def k0_t55_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off278 (v2618 : BitVec 32) (k0_t55 : Fin k0_t55_loop.trips) : Fin 2 → Nat :=
  let c0_i32_1453 : BitVec 32 := 0#32
  let c1_i32_1455 : BitVec 32 := 1#32
  let arg19 : BitVec 32 := Scf.iv c0_i32_1453 c1_i32_1455 k0_t55
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2618 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off279 (v2616 : BitVec 32) (k0_t55 : Fin k0_t55_loop.trips) : Fin 2 → Nat :=
  let c0_i32_998 : BitVec 32 := 0#32
  let v2620 : BitVec 1 := Scalar.cmpi .sgt v2616 c0_i32_998
  let v2621 : BitVec 32 := Scalar.extui v2620
  let c0_i32_999 : BitVec 32 := 0#32
  let v2622 : BitVec 1 := Scalar.cmpi .slt v2616 c0_i32_999
  let v2623 : BitVec 32 := Scalar.extui v2622
  let v2624 : BitVec 32 := Scalar.subi v2621 v2623
  let c16_i32_997 : BitVec 32 := 16#32
  let c0_i32_1000 : BitVec 32 := 0#32
  let v2625 : BitVec 1 := Scalar.cmpi .sgt c16_i32_997 c0_i32_1000
  let v2626 : BitVec 32 := Scalar.extui v2625
  let c0_i32_1001 : BitVec 32 := 0#32
  let v2627 : BitVec 1 := Scalar.cmpi .slt c16_i32_997 c0_i32_1001
  let v2628 : BitVec 32 := Scalar.extui v2627
  let v2629 : BitVec 32 := Scalar.subi v2626 v2628
  let v2630 : BitVec 1 := Scalar.cmpi .ne v2624 v2629
  let v2631 : BitVec 32 := Scalar.remsi v2616 c16_i32_997
  let c0_i32_1002 : BitVec 32 := 0#32
  let v2632 : BitVec 1 := Scalar.cmpi .ne v2631 c0_i32_1002
  let v2633 : BitVec 1 := Scalar.andi v2630 v2632
  let v2619 : BitVec 32 := Scalar.divsi v2616 c16_i32_997
  let c1_i32_1003 : BitVec 32 := 1#32
  let v2634 : BitVec 32 := Scalar.subi v2619 c1_i32_1003
  let v2635 : BitVec 32 := Scalar.select v2633 v2634 v2619
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2635 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t55
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2616 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off280 (v2618 : BitVec 32) (k0_t55 : Fin k0_t55_loop.trips) : Fin 2 → Nat :=
  let c0_i32_1453 : BitVec 32 := 0#32
  let c1_i32_1455 : BitVec 32 := 1#32
  let arg19 : BitVec 32 := Scf.iv c0_i32_1453 c1_i32_1455 k0_t55
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2618 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk109 (i : grid0.Coords) (v25 : BitVec 32) (v2616 : BitVec 32) (v2618 : BitVec 32) : Prop :=
  (∀ (k0_h55 : k0_cond55 i v25 v2616 = 1#1), ∀ a, (k0_off277 i v2618) a + S32x512.size a ≤ S4096x512.size a) ∧
  (∀ k0_t55 : Fin k0_t55_loop.trips, ∀ (k0_h55 : k0_cond55 i v25 v2616 = 1#1), ∀ a, (k0_off278 v2618 k0_t55) a + S1x16.size a ≤ S32x512.size a) ∧
  (∀ k0_t55 : Fin k0_t55_loop.trips, ∀ (k0_h55 : k0_cond55 i v25 v2616 = 1#1), ∀ a, (k0_off280 v2618 k0_t55) a + S1x16.size a ≤ S32x512.size a)
theorem k0_off277_inb : ∀ (i : grid0.Coords) (v25 : BitVec 32) (v2616 : BitVec 32) (v2618 : BitVec 32) (k0_hw109 : k0_chk109 i v25 v2616 v2618), ∀ (k0_h55 : k0_cond55 i v25 v2616 = 1#1), ∀ a, (k0_off277 i v2618) a + S32x512.size a ≤ S4096x512.size a := fun i v25 v2616 v2618 k0_hw109 k0_h55 => k0_hw109.1 k0_h55
theorem k0_off278_inb : ∀ (i : grid0.Coords) (v25 : BitVec 32) (v2616 : BitVec 32) (v2618 : BitVec 32) (k0_hw109 : k0_chk109 i v25 v2616 v2618) (k0_t55 : Fin k0_t55_loop.trips), ∀ (k0_h55 : k0_cond55 i v25 v2616 = 1#1), ∀ a, (k0_off278 v2618 k0_t55) a + S1x16.size a ≤ S32x512.size a := fun i v25 v2616 v2618 k0_hw109 k0_t55 k0_h55 => k0_hw109.2.1 k0_t55 k0_h55
theorem k0_off280_inb : ∀ (i : grid0.Coords) (v25 : BitVec 32) (v2616 : BitVec 32) (v2618 : BitVec 32) (k0_hw109 : k0_chk109 i v25 v2616 v2618) (k0_t55 : Fin k0_t55_loop.trips), ∀ (k0_h55 : k0_cond55 i v25 v2616 = 1#1), ∀ a, (k0_off280 v2618 k0_t55) a + S1x16.size a ≤ S32x512.size a := fun i v25 v2616 v2618 k0_hw109 k0_t55 k0_h55 => k0_hw109.2.2 k0_t55 k0_h55

def k0_off281 (v2616 : BitVec 32) (k0_t55 : Fin k0_t55_loop.trips) : Fin 2 → Nat :=
  let c0_i32_998 : BitVec 32 := 0#32
  let v2620 : BitVec 1 := Scalar.cmpi .sgt v2616 c0_i32_998
  let v2621 : BitVec 32 := Scalar.extui v2620
  let c0_i32_999 : BitVec 32 := 0#32
  let v2622 : BitVec 1 := Scalar.cmpi .slt v2616 c0_i32_999
  let v2623 : BitVec 32 := Scalar.extui v2622
  let v2624 : BitVec 32 := Scalar.subi v2621 v2623
  let c16_i32_997 : BitVec 32 := 16#32
  let c0_i32_1000 : BitVec 32 := 0#32
  let v2625 : BitVec 1 := Scalar.cmpi .sgt c16_i32_997 c0_i32_1000
  let v2626 : BitVec 32 := Scalar.extui v2625
  let c0_i32_1001 : BitVec 32 := 0#32
  let v2627 : BitVec 1 := Scalar.cmpi .slt c16_i32_997 c0_i32_1001
  let v2628 : BitVec 32 := Scalar.extui v2627
  let v2629 : BitVec 32 := Scalar.subi v2626 v2628
  let v2630 : BitVec 1 := Scalar.cmpi .ne v2624 v2629
  let v2631 : BitVec 32 := Scalar.remsi v2616 c16_i32_997
  let c0_i32_1002 : BitVec 32 := 0#32
  let v2632 : BitVec 1 := Scalar.cmpi .ne v2631 c0_i32_1002
  let v2633 : BitVec 1 := Scalar.andi v2630 v2632
  let v2619 : BitVec 32 := Scalar.divsi v2616 c16_i32_997
  let c1_i32_1003 : BitVec 32 := 1#32
  let v2634 : BitVec 32 := Scalar.subi v2619 c1_i32_1003
  let v2635 : BitVec 32 := Scalar.select v2633 v2634 v2619
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2635 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t55
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2616 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk110 (i : grid0.Coords) (v25 : BitVec 32) (v2616 : BitVec 32) : Prop :=
  (∀ k0_t55 : Fin k0_t55_loop.trips, ∀ (k0_h55 : k0_cond55 i v25 v2616 = 1#1), ∀ a, (k0_off279 v2616 k0_t55) a + S1x16.size a ≤ S128x512.size a) ∧
  (∀ k0_t55 : Fin k0_t55_loop.trips, ∀ (k0_h55 : k0_cond55 i v25 v2616 = 1#1), ∀ a, (k0_off281 v2616 k0_t55) a + S1x16.size a ≤ S128x512.size a)
theorem k0_off279_inb : ∀ (i : grid0.Coords) (v25 : BitVec 32) (v2616 : BitVec 32) (k0_hw110 : k0_chk110 i v25 v2616) (k0_t55 : Fin k0_t55_loop.trips), ∀ (k0_h55 : k0_cond55 i v25 v2616 = 1#1), ∀ a, (k0_off279 v2616 k0_t55) a + S1x16.size a ≤ S128x512.size a := fun i v25 v2616 k0_hw110 k0_t55 k0_h55 => k0_hw110.1 k0_t55 k0_h55
theorem k0_off281_inb : ∀ (i : grid0.Coords) (v25 : BitVec 32) (v2616 : BitVec 32) (k0_hw110 : k0_chk110 i v25 v2616) (k0_t55 : Fin k0_t55_loop.trips), ∀ (k0_h55 : k0_cond55 i v25 v2616 = 1#1), ∀ a, (k0_off281 v2616 k0_t55) a + S1x16.size a ≤ S128x512.size a := fun i v25 v2616 k0_hw110 k0_t55 k0_h55 => k0_hw110.2 k0_t55 k0_h55

def k0_off282 (i : grid0.Coords) (v2661 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2661 c0_i32_1428
  let v3763 : BitVec 32 := Scalar.extui v3762
  let c0_i32_1429 : BitVec 32 := 0#32
  let v3764 : BitVec 1 := Scalar.cmpi .slt v2661 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2661 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2661 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r65 : BitVec 32 := 0#32
  ![v3779.toNat, 0]
def k0_cond56 (i : grid0.Coords) (v25 : BitVec 32) (v2659 : BitVec 32) : BitVec 1 :=
  let c7_i32_1020 : BitVec 32 := 7#32
  let v2679 : BitVec 1 := Scalar.cmpi .sgt v25 c7_i32_1020
  let c0_i32_1014 : BitVec 32 := 0#32
  let v2663 : BitVec 1 := Scalar.cmpi .sgt v2659 c0_i32_1014
  let v2664 : BitVec 32 := Scalar.extui v2663
  let c0_i32_1015 : BitVec 32 := 0#32
  let v2665 : BitVec 1 := Scalar.cmpi .slt v2659 c0_i32_1015
  let v2666 : BitVec 32 := Scalar.extui v2665
  let v2667 : BitVec 32 := Scalar.subi v2664 v2666
  let c16_i32_1013 : BitVec 32 := 16#32
  let c0_i32_1016 : BitVec 32 := 0#32
  let v2668 : BitVec 1 := Scalar.cmpi .sgt c16_i32_1013 c0_i32_1016
  let v2669 : BitVec 32 := Scalar.extui v2668
  let c0_i32_1017 : BitVec 32 := 0#32
  let v2670 : BitVec 1 := Scalar.cmpi .slt c16_i32_1013 c0_i32_1017
  let v2671 : BitVec 32 := Scalar.extui v2670
  let v2672 : BitVec 32 := Scalar.subi v2669 v2671
  let v2673 : BitVec 1 := Scalar.cmpi .ne v2667 v2672
  let v2674 : BitVec 32 := Scalar.remsi v2659 c16_i32_1013
  let c0_i32_1018 : BitVec 32 := 0#32
  let v2675 : BitVec 1 := Scalar.cmpi .ne v2674 c0_i32_1018
  let v2676 : BitVec 1 := Scalar.andi v2673 v2675
  let v2662 : BitVec 32 := Scalar.divsi v2659 c16_i32_1013
  let c1_i32_1019 : BitVec 32 := 1#32
  let v2677 : BitVec 32 := Scalar.subi v2662 c1_i32_1019
  let v2678 : BitVec 32 := Scalar.select v2676 v2677 v2662
  let c0_i32_1022 : BitVec 32 := 0#32
  let v2681 : BitVec 1 := Scalar.cmpi .sgt v2678 c0_i32_1022
  let v2682 : BitVec 32 := Scalar.extui v2681
  let c0_i32_1023 : BitVec 32 := 0#32
  let v2683 : BitVec 1 := Scalar.cmpi .slt v2678 c0_i32_1023
  let v2684 : BitVec 32 := Scalar.extui v2683
  let v2685 : BitVec 32 := Scalar.subi v2682 v2684
  let c4_i32_1021 : BitVec 32 := 4#32
  let c0_i32_1024 : BitVec 32 := 0#32
  let v2686 : BitVec 1 := Scalar.cmpi .sgt c4_i32_1021 c0_i32_1024
  let v2687 : BitVec 32 := Scalar.extui v2686
  let c0_i32_1025 : BitVec 32 := 0#32
  let v2688 : BitVec 1 := Scalar.cmpi .slt c4_i32_1021 c0_i32_1025
  let v2689 : BitVec 32 := Scalar.extui v2688
  let v2690 : BitVec 32 := Scalar.subi v2687 v2689
  let v2691 : BitVec 1 := Scalar.cmpi .ne v2685 v2690
  let v2692 : BitVec 32 := Scalar.remsi v2678 c4_i32_1021
  let c0_i32_1026 : BitVec 32 := 0#32
  let v2693 : BitVec 1 := Scalar.cmpi .ne v2692 c0_i32_1026
  let v2694 : BitVec 1 := Scalar.andi v2691 v2693
  let v2680 : BitVec 32 := Scalar.divsi v2678 c4_i32_1021
  let c1_i32_1027 : BitVec 32 := 1#32
  let v2695 : BitVec 32 := Scalar.subi v2680 c1_i32_1027
  let v2696 : BitVec 32 := Scalar.select v2694 v2695 v2680
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2697 : BitVec 1 := Scalar.cmpi .eq v2696 v2356
  let v2698 : BitVec 1 := Scalar.andi v2679 v2697
  let v2699 : BitVec 32 := Scalar.extui v2698
  let c0_i32_1028 : BitVec 32 := 0#32
  let v2700 : BitVec 1 := Scalar.cmpi .ne v2699 c0_i32_1028
  v2700

@[reducible] def k0_t56_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off283 (v2661 : BitVec 32) (k0_t56 : Fin k0_t56_loop.trips) : Fin 2 → Nat :=
  let c0_i32_1453 : BitVec 32 := 0#32
  let c1_i32_1455 : BitVec 32 := 1#32
  let arg19 : BitVec 32 := Scf.iv c0_i32_1453 c1_i32_1455 k0_t56
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2661 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off284 (v2659 : BitVec 32) (k0_t56 : Fin k0_t56_loop.trips) : Fin 2 → Nat :=
  let c0_i32_1014 : BitVec 32 := 0#32
  let v2663 : BitVec 1 := Scalar.cmpi .sgt v2659 c0_i32_1014
  let v2664 : BitVec 32 := Scalar.extui v2663
  let c0_i32_1015 : BitVec 32 := 0#32
  let v2665 : BitVec 1 := Scalar.cmpi .slt v2659 c0_i32_1015
  let v2666 : BitVec 32 := Scalar.extui v2665
  let v2667 : BitVec 32 := Scalar.subi v2664 v2666
  let c16_i32_1013 : BitVec 32 := 16#32
  let c0_i32_1016 : BitVec 32 := 0#32
  let v2668 : BitVec 1 := Scalar.cmpi .sgt c16_i32_1013 c0_i32_1016
  let v2669 : BitVec 32 := Scalar.extui v2668
  let c0_i32_1017 : BitVec 32 := 0#32
  let v2670 : BitVec 1 := Scalar.cmpi .slt c16_i32_1013 c0_i32_1017
  let v2671 : BitVec 32 := Scalar.extui v2670
  let v2672 : BitVec 32 := Scalar.subi v2669 v2671
  let v2673 : BitVec 1 := Scalar.cmpi .ne v2667 v2672
  let v2674 : BitVec 32 := Scalar.remsi v2659 c16_i32_1013
  let c0_i32_1018 : BitVec 32 := 0#32
  let v2675 : BitVec 1 := Scalar.cmpi .ne v2674 c0_i32_1018
  let v2676 : BitVec 1 := Scalar.andi v2673 v2675
  let v2662 : BitVec 32 := Scalar.divsi v2659 c16_i32_1013
  let c1_i32_1019 : BitVec 32 := 1#32
  let v2677 : BitVec 32 := Scalar.subi v2662 c1_i32_1019
  let v2678 : BitVec 32 := Scalar.select v2676 v2677 v2662
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2678 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t56
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2659 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off285 (v2661 : BitVec 32) (k0_t56 : Fin k0_t56_loop.trips) : Fin 2 → Nat :=
  let c0_i32_1453 : BitVec 32 := 0#32
  let c1_i32_1455 : BitVec 32 := 1#32
  let arg19 : BitVec 32 := Scf.iv c0_i32_1453 c1_i32_1455 k0_t56
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2661 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk111 (i : grid0.Coords) (v25 : BitVec 32) (v2659 : BitVec 32) (v2661 : BitVec 32) : Prop :=
  (∀ (k0_h56 : k0_cond56 i v25 v2659 = 1#1), ∀ a, (k0_off282 i v2661) a + S32x512.size a ≤ S4096x512.size a) ∧
  (∀ k0_t56 : Fin k0_t56_loop.trips, ∀ (k0_h56 : k0_cond56 i v25 v2659 = 1#1), ∀ a, (k0_off283 v2661 k0_t56) a + S1x16.size a ≤ S32x512.size a) ∧
  (∀ k0_t56 : Fin k0_t56_loop.trips, ∀ (k0_h56 : k0_cond56 i v25 v2659 = 1#1), ∀ a, (k0_off285 v2661 k0_t56) a + S1x16.size a ≤ S32x512.size a)
theorem k0_off282_inb : ∀ (i : grid0.Coords) (v25 : BitVec 32) (v2659 : BitVec 32) (v2661 : BitVec 32) (k0_hw111 : k0_chk111 i v25 v2659 v2661), ∀ (k0_h56 : k0_cond56 i v25 v2659 = 1#1), ∀ a, (k0_off282 i v2661) a + S32x512.size a ≤ S4096x512.size a := fun i v25 v2659 v2661 k0_hw111 k0_h56 => k0_hw111.1 k0_h56
theorem k0_off283_inb : ∀ (i : grid0.Coords) (v25 : BitVec 32) (v2659 : BitVec 32) (v2661 : BitVec 32) (k0_hw111 : k0_chk111 i v25 v2659 v2661) (k0_t56 : Fin k0_t56_loop.trips), ∀ (k0_h56 : k0_cond56 i v25 v2659 = 1#1), ∀ a, (k0_off283 v2661 k0_t56) a + S1x16.size a ≤ S32x512.size a := fun i v25 v2659 v2661 k0_hw111 k0_t56 k0_h56 => k0_hw111.2.1 k0_t56 k0_h56
theorem k0_off285_inb : ∀ (i : grid0.Coords) (v25 : BitVec 32) (v2659 : BitVec 32) (v2661 : BitVec 32) (k0_hw111 : k0_chk111 i v25 v2659 v2661) (k0_t56 : Fin k0_t56_loop.trips), ∀ (k0_h56 : k0_cond56 i v25 v2659 = 1#1), ∀ a, (k0_off285 v2661 k0_t56) a + S1x16.size a ≤ S32x512.size a := fun i v25 v2659 v2661 k0_hw111 k0_t56 k0_h56 => k0_hw111.2.2 k0_t56 k0_h56

def k0_off286 (v2659 : BitVec 32) (k0_t56 : Fin k0_t56_loop.trips) : Fin 2 → Nat :=
  let c0_i32_1014 : BitVec 32 := 0#32
  let v2663 : BitVec 1 := Scalar.cmpi .sgt v2659 c0_i32_1014
  let v2664 : BitVec 32 := Scalar.extui v2663
  let c0_i32_1015 : BitVec 32 := 0#32
  let v2665 : BitVec 1 := Scalar.cmpi .slt v2659 c0_i32_1015
  let v2666 : BitVec 32 := Scalar.extui v2665
  let v2667 : BitVec 32 := Scalar.subi v2664 v2666
  let c16_i32_1013 : BitVec 32 := 16#32
  let c0_i32_1016 : BitVec 32 := 0#32
  let v2668 : BitVec 1 := Scalar.cmpi .sgt c16_i32_1013 c0_i32_1016
  let v2669 : BitVec 32 := Scalar.extui v2668
  let c0_i32_1017 : BitVec 32 := 0#32
  let v2670 : BitVec 1 := Scalar.cmpi .slt c16_i32_1013 c0_i32_1017
  let v2671 : BitVec 32 := Scalar.extui v2670
  let v2672 : BitVec 32 := Scalar.subi v2669 v2671
  let v2673 : BitVec 1 := Scalar.cmpi .ne v2667 v2672
  let v2674 : BitVec 32 := Scalar.remsi v2659 c16_i32_1013
  let c0_i32_1018 : BitVec 32 := 0#32
  let v2675 : BitVec 1 := Scalar.cmpi .ne v2674 c0_i32_1018
  let v2676 : BitVec 1 := Scalar.andi v2673 v2675
  let v2662 : BitVec 32 := Scalar.divsi v2659 c16_i32_1013
  let c1_i32_1019 : BitVec 32 := 1#32
  let v2677 : BitVec 32 := Scalar.subi v2662 c1_i32_1019
  let v2678 : BitVec 32 := Scalar.select v2676 v2677 v2662
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2678 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t56
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2659 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk112 (i : grid0.Coords) (v25 : BitVec 32) (v2659 : BitVec 32) : Prop :=
  (∀ k0_t56 : Fin k0_t56_loop.trips, ∀ (k0_h56 : k0_cond56 i v25 v2659 = 1#1), ∀ a, (k0_off284 v2659 k0_t56) a + S1x16.size a ≤ S128x512.size a) ∧
  (∀ k0_t56 : Fin k0_t56_loop.trips, ∀ (k0_h56 : k0_cond56 i v25 v2659 = 1#1), ∀ a, (k0_off286 v2659 k0_t56) a + S1x16.size a ≤ S128x512.size a)
theorem k0_off284_inb : ∀ (i : grid0.Coords) (v25 : BitVec 32) (v2659 : BitVec 32) (k0_hw112 : k0_chk112 i v25 v2659) (k0_t56 : Fin k0_t56_loop.trips), ∀ (k0_h56 : k0_cond56 i v25 v2659 = 1#1), ∀ a, (k0_off284 v2659 k0_t56) a + S1x16.size a ≤ S128x512.size a := fun i v25 v2659 k0_hw112 k0_t56 k0_h56 => k0_hw112.1 k0_t56 k0_h56
theorem k0_off286_inb : ∀ (i : grid0.Coords) (v25 : BitVec 32) (v2659 : BitVec 32) (k0_hw112 : k0_chk112 i v25 v2659) (k0_t56 : Fin k0_t56_loop.trips), ∀ (k0_h56 : k0_cond56 i v25 v2659 = 1#1), ∀ a, (k0_off286 v2659 k0_t56) a + S1x16.size a ≤ S128x512.size a := fun i v25 v2659 k0_hw112 k0_t56 k0_h56 => k0_hw112.2 k0_t56 k0_h56

def k0_off287 (i : grid0.Coords) (v2704 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2704 c0_i32_1428
  let v3763 : BitVec 32 := Scalar.extui v3762
  let c0_i32_1429 : BitVec 32 := 0#32
  let v3764 : BitVec 1 := Scalar.cmpi .slt v2704 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2704 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2704 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r66 : BitVec 32 := 0#32
  ![v3779.toNat, 0]
def k0_cond57 (i : grid0.Coords) (v25 : BitVec 32) (v2702 : BitVec 32) : BitVec 1 :=
  let c8_i32_1036 : BitVec 32 := 8#32
  let v2722 : BitVec 1 := Scalar.cmpi .sgt v25 c8_i32_1036
  let c0_i32_1030 : BitVec 32 := 0#32
  let v2706 : BitVec 1 := Scalar.cmpi .sgt v2702 c0_i32_1030
  let v2707 : BitVec 32 := Scalar.extui v2706
  let c0_i32_1031 : BitVec 32 := 0#32
  let v2708 : BitVec 1 := Scalar.cmpi .slt v2702 c0_i32_1031
  let v2709 : BitVec 32 := Scalar.extui v2708
  let v2710 : BitVec 32 := Scalar.subi v2707 v2709
  let c16_i32_1029 : BitVec 32 := 16#32
  let c0_i32_1032 : BitVec 32 := 0#32
  let v2711 : BitVec 1 := Scalar.cmpi .sgt c16_i32_1029 c0_i32_1032
  let v2712 : BitVec 32 := Scalar.extui v2711
  let c0_i32_1033 : BitVec 32 := 0#32
  let v2713 : BitVec 1 := Scalar.cmpi .slt c16_i32_1029 c0_i32_1033
  let v2714 : BitVec 32 := Scalar.extui v2713
  let v2715 : BitVec 32 := Scalar.subi v2712 v2714
  let v2716 : BitVec 1 := Scalar.cmpi .ne v2710 v2715
  let v2717 : BitVec 32 := Scalar.remsi v2702 c16_i32_1029
  let c0_i32_1034 : BitVec 32 := 0#32
  let v2718 : BitVec 1 := Scalar.cmpi .ne v2717 c0_i32_1034
  let v2719 : BitVec 1 := Scalar.andi v2716 v2718
  let v2705 : BitVec 32 := Scalar.divsi v2702 c16_i32_1029
  let c1_i32_1035 : BitVec 32 := 1#32
  let v2720 : BitVec 32 := Scalar.subi v2705 c1_i32_1035
  let v2721 : BitVec 32 := Scalar.select v2719 v2720 v2705
  let c0_i32_1038 : BitVec 32 := 0#32
  let v2724 : BitVec 1 := Scalar.cmpi .sgt v2721 c0_i32_1038
  let v2725 : BitVec 32 := Scalar.extui v2724
  let c0_i32_1039 : BitVec 32 := 0#32
  let v2726 : BitVec 1 := Scalar.cmpi .slt v2721 c0_i32_1039
  let v2727 : BitVec 32 := Scalar.extui v2726
  let v2728 : BitVec 32 := Scalar.subi v2725 v2727
  let c4_i32_1037 : BitVec 32 := 4#32
  let c0_i32_1040 : BitVec 32 := 0#32
  let v2729 : BitVec 1 := Scalar.cmpi .sgt c4_i32_1037 c0_i32_1040
  let v2730 : BitVec 32 := Scalar.extui v2729
  let c0_i32_1041 : BitVec 32 := 0#32
  let v2731 : BitVec 1 := Scalar.cmpi .slt c4_i32_1037 c0_i32_1041
  let v2732 : BitVec 32 := Scalar.extui v2731
  let v2733 : BitVec 32 := Scalar.subi v2730 v2732
  let v2734 : BitVec 1 := Scalar.cmpi .ne v2728 v2733
  let v2735 : BitVec 32 := Scalar.remsi v2721 c4_i32_1037
  let c0_i32_1042 : BitVec 32 := 0#32
  let v2736 : BitVec 1 := Scalar.cmpi .ne v2735 c0_i32_1042
  let v2737 : BitVec 1 := Scalar.andi v2734 v2736
  let v2723 : BitVec 32 := Scalar.divsi v2721 c4_i32_1037
  let c1_i32_1043 : BitVec 32 := 1#32
  let v2738 : BitVec 32 := Scalar.subi v2723 c1_i32_1043
  let v2739 : BitVec 32 := Scalar.select v2737 v2738 v2723
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2740 : BitVec 1 := Scalar.cmpi .eq v2739 v2356
  let v2741 : BitVec 1 := Scalar.andi v2722 v2740
  let v2742 : BitVec 32 := Scalar.extui v2741
  let c0_i32_1044 : BitVec 32 := 0#32
  let v2743 : BitVec 1 := Scalar.cmpi .ne v2742 c0_i32_1044
  v2743

@[reducible] def k0_t57_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off288 (v2704 : BitVec 32) (k0_t57 : Fin k0_t57_loop.trips) : Fin 2 → Nat :=
  let c0_i32_1453 : BitVec 32 := 0#32
  let c1_i32_1455 : BitVec 32 := 1#32
  let arg19 : BitVec 32 := Scf.iv c0_i32_1453 c1_i32_1455 k0_t57
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2704 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off289 (v2702 : BitVec 32) (k0_t57 : Fin k0_t57_loop.trips) : Fin 2 → Nat :=
  let c0_i32_1030 : BitVec 32 := 0#32
  let v2706 : BitVec 1 := Scalar.cmpi .sgt v2702 c0_i32_1030
  let v2707 : BitVec 32 := Scalar.extui v2706
  let c0_i32_1031 : BitVec 32 := 0#32
  let v2708 : BitVec 1 := Scalar.cmpi .slt v2702 c0_i32_1031
  let v2709 : BitVec 32 := Scalar.extui v2708
  let v2710 : BitVec 32 := Scalar.subi v2707 v2709
  let c16_i32_1029 : BitVec 32 := 16#32
  let c0_i32_1032 : BitVec 32 := 0#32
  let v2711 : BitVec 1 := Scalar.cmpi .sgt c16_i32_1029 c0_i32_1032
  let v2712 : BitVec 32 := Scalar.extui v2711
  let c0_i32_1033 : BitVec 32 := 0#32
  let v2713 : BitVec 1 := Scalar.cmpi .slt c16_i32_1029 c0_i32_1033
  let v2714 : BitVec 32 := Scalar.extui v2713
  let v2715 : BitVec 32 := Scalar.subi v2712 v2714
  let v2716 : BitVec 1 := Scalar.cmpi .ne v2710 v2715
  let v2717 : BitVec 32 := Scalar.remsi v2702 c16_i32_1029
  let c0_i32_1034 : BitVec 32 := 0#32
  let v2718 : BitVec 1 := Scalar.cmpi .ne v2717 c0_i32_1034
  let v2719 : BitVec 1 := Scalar.andi v2716 v2718
  let v2705 : BitVec 32 := Scalar.divsi v2702 c16_i32_1029
  let c1_i32_1035 : BitVec 32 := 1#32
  let v2720 : BitVec 32 := Scalar.subi v2705 c1_i32_1035
  let v2721 : BitVec 32 := Scalar.select v2719 v2720 v2705
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2721 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t57
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2702 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off290 (v2704 : BitVec 32) (k0_t57 : Fin k0_t57_loop.trips) : Fin 2 → Nat :=
  let c0_i32_1453 : BitVec 32 := 0#32
  let c1_i32_1455 : BitVec 32 := 1#32
  let arg19 : BitVec 32 := Scf.iv c0_i32_1453 c1_i32_1455 k0_t57
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2704 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk113 (i : grid0.Coords) (v25 : BitVec 32) (v2702 : BitVec 32) (v2704 : BitVec 32) : Prop :=
  (∀ (k0_h57 : k0_cond57 i v25 v2702 = 1#1), ∀ a, (k0_off287 i v2704) a + S32x512.size a ≤ S4096x512.size a) ∧
  (∀ k0_t57 : Fin k0_t57_loop.trips, ∀ (k0_h57 : k0_cond57 i v25 v2702 = 1#1), ∀ a, (k0_off288 v2704 k0_t57) a + S1x16.size a ≤ S32x512.size a) ∧
  (∀ k0_t57 : Fin k0_t57_loop.trips, ∀ (k0_h57 : k0_cond57 i v25 v2702 = 1#1), ∀ a, (k0_off290 v2704 k0_t57) a + S1x16.size a ≤ S32x512.size a)
theorem k0_off287_inb : ∀ (i : grid0.Coords) (v25 : BitVec 32) (v2702 : BitVec 32) (v2704 : BitVec 32) (k0_hw113 : k0_chk113 i v25 v2702 v2704), ∀ (k0_h57 : k0_cond57 i v25 v2702 = 1#1), ∀ a, (k0_off287 i v2704) a + S32x512.size a ≤ S4096x512.size a := fun i v25 v2702 v2704 k0_hw113 k0_h57 => k0_hw113.1 k0_h57
theorem k0_off288_inb : ∀ (i : grid0.Coords) (v25 : BitVec 32) (v2702 : BitVec 32) (v2704 : BitVec 32) (k0_hw113 : k0_chk113 i v25 v2702 v2704) (k0_t57 : Fin k0_t57_loop.trips), ∀ (k0_h57 : k0_cond57 i v25 v2702 = 1#1), ∀ a, (k0_off288 v2704 k0_t57) a + S1x16.size a ≤ S32x512.size a := fun i v25 v2702 v2704 k0_hw113 k0_t57 k0_h57 => k0_hw113.2.1 k0_t57 k0_h57
theorem k0_off290_inb : ∀ (i : grid0.Coords) (v25 : BitVec 32) (v2702 : BitVec 32) (v2704 : BitVec 32) (k0_hw113 : k0_chk113 i v25 v2702 v2704) (k0_t57 : Fin k0_t57_loop.trips), ∀ (k0_h57 : k0_cond57 i v25 v2702 = 1#1), ∀ a, (k0_off290 v2704 k0_t57) a + S1x16.size a ≤ S32x512.size a := fun i v25 v2702 v2704 k0_hw113 k0_t57 k0_h57 => k0_hw113.2.2 k0_t57 k0_h57

def k0_off291 (v2702 : BitVec 32) (k0_t57 : Fin k0_t57_loop.trips) : Fin 2 → Nat :=
  let c0_i32_1030 : BitVec 32 := 0#32
  let v2706 : BitVec 1 := Scalar.cmpi .sgt v2702 c0_i32_1030
  let v2707 : BitVec 32 := Scalar.extui v2706
  let c0_i32_1031 : BitVec 32 := 0#32
  let v2708 : BitVec 1 := Scalar.cmpi .slt v2702 c0_i32_1031
  let v2709 : BitVec 32 := Scalar.extui v2708
  let v2710 : BitVec 32 := Scalar.subi v2707 v2709
  let c16_i32_1029 : BitVec 32 := 16#32
  let c0_i32_1032 : BitVec 32 := 0#32
  let v2711 : BitVec 1 := Scalar.cmpi .sgt c16_i32_1029 c0_i32_1032
  let v2712 : BitVec 32 := Scalar.extui v2711
  let c0_i32_1033 : BitVec 32 := 0#32
  let v2713 : BitVec 1 := Scalar.cmpi .slt c16_i32_1029 c0_i32_1033
  let v2714 : BitVec 32 := Scalar.extui v2713
  let v2715 : BitVec 32 := Scalar.subi v2712 v2714
  let v2716 : BitVec 1 := Scalar.cmpi .ne v2710 v2715
  let v2717 : BitVec 32 := Scalar.remsi v2702 c16_i32_1029
  let c0_i32_1034 : BitVec 32 := 0#32
  let v2718 : BitVec 1 := Scalar.cmpi .ne v2717 c0_i32_1034
  let v2719 : BitVec 1 := Scalar.andi v2716 v2718
  let v2705 : BitVec 32 := Scalar.divsi v2702 c16_i32_1029
  let c1_i32_1035 : BitVec 32 := 1#32
  let v2720 : BitVec 32 := Scalar.subi v2705 c1_i32_1035
  let v2721 : BitVec 32 := Scalar.select v2719 v2720 v2705
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2721 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t57
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2702 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk114 (i : grid0.Coords) (v25 : BitVec 32) (v2702 : BitVec 32) : Prop :=
  (∀ k0_t57 : Fin k0_t57_loop.trips, ∀ (k0_h57 : k0_cond57 i v25 v2702 = 1#1), ∀ a, (k0_off289 v2702 k0_t57) a + S1x16.size a ≤ S128x512.size a) ∧
  (∀ k0_t57 : Fin k0_t57_loop.trips, ∀ (k0_h57 : k0_cond57 i v25 v2702 = 1#1), ∀ a, (k0_off291 v2702 k0_t57) a + S1x16.size a ≤ S128x512.size a)
theorem k0_off289_inb : ∀ (i : grid0.Coords) (v25 : BitVec 32) (v2702 : BitVec 32) (k0_hw114 : k0_chk114 i v25 v2702) (k0_t57 : Fin k0_t57_loop.trips), ∀ (k0_h57 : k0_cond57 i v25 v2702 = 1#1), ∀ a, (k0_off289 v2702 k0_t57) a + S1x16.size a ≤ S128x512.size a := fun i v25 v2702 k0_hw114 k0_t57 k0_h57 => k0_hw114.1 k0_t57 k0_h57
theorem k0_off291_inb : ∀ (i : grid0.Coords) (v25 : BitVec 32) (v2702 : BitVec 32) (k0_hw114 : k0_chk114 i v25 v2702) (k0_t57 : Fin k0_t57_loop.trips), ∀ (k0_h57 : k0_cond57 i v25 v2702 = 1#1), ∀ a, (k0_off291 v2702 k0_t57) a + S1x16.size a ≤ S128x512.size a := fun i v25 v2702 k0_hw114 k0_t57 k0_h57 => k0_hw114.2 k0_t57 k0_h57

def k0_off292 (i : grid0.Coords) (v2747 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2747 c0_i32_1428
  let v3763 : BitVec 32 := Scalar.extui v3762
  let c0_i32_1429 : BitVec 32 := 0#32
  let v3764 : BitVec 1 := Scalar.cmpi .slt v2747 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2747 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2747 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r67 : BitVec 32 := 0#32
  ![v3779.toNat, 0]
def k0_cond58 (i : grid0.Coords) (v25 : BitVec 32) (v2745 : BitVec 32) : BitVec 1 :=
  let c9_i32_1052 : BitVec 32 := 9#32
  let v2765 : BitVec 1 := Scalar.cmpi .sgt v25 c9_i32_1052
  let c0_i32_1046 : BitVec 32 := 0#32
  let v2749 : BitVec 1 := Scalar.cmpi .sgt v2745 c0_i32_1046
  let v2750 : BitVec 32 := Scalar.extui v2749
  let c0_i32_1047 : BitVec 32 := 0#32
  let v2751 : BitVec 1 := Scalar.cmpi .slt v2745 c0_i32_1047
  let v2752 : BitVec 32 := Scalar.extui v2751
  let v2753 : BitVec 32 := Scalar.subi v2750 v2752
  let c16_i32_1045 : BitVec 32 := 16#32
  let c0_i32_1048 : BitVec 32 := 0#32
  let v2754 : BitVec 1 := Scalar.cmpi .sgt c16_i32_1045 c0_i32_1048
  let v2755 : BitVec 32 := Scalar.extui v2754
  let c0_i32_1049 : BitVec 32 := 0#32
  let v2756 : BitVec 1 := Scalar.cmpi .slt c16_i32_1045 c0_i32_1049
  let v2757 : BitVec 32 := Scalar.extui v2756
  let v2758 : BitVec 32 := Scalar.subi v2755 v2757
  let v2759 : BitVec 1 := Scalar.cmpi .ne v2753 v2758
  let v2760 : BitVec 32 := Scalar.remsi v2745 c16_i32_1045
  let c0_i32_1050 : BitVec 32 := 0#32
  let v2761 : BitVec 1 := Scalar.cmpi .ne v2760 c0_i32_1050
  let v2762 : BitVec 1 := Scalar.andi v2759 v2761
  let v2748 : BitVec 32 := Scalar.divsi v2745 c16_i32_1045
  let c1_i32_1051 : BitVec 32 := 1#32
  let v2763 : BitVec 32 := Scalar.subi v2748 c1_i32_1051
  let v2764 : BitVec 32 := Scalar.select v2762 v2763 v2748
  let c0_i32_1054 : BitVec 32 := 0#32
  let v2767 : BitVec 1 := Scalar.cmpi .sgt v2764 c0_i32_1054
  let v2768 : BitVec 32 := Scalar.extui v2767
  let c0_i32_1055 : BitVec 32 := 0#32
  let v2769 : BitVec 1 := Scalar.cmpi .slt v2764 c0_i32_1055
  let v2770 : BitVec 32 := Scalar.extui v2769
  let v2771 : BitVec 32 := Scalar.subi v2768 v2770
  let c4_i32_1053 : BitVec 32 := 4#32
  let c0_i32_1056 : BitVec 32 := 0#32
  let v2772 : BitVec 1 := Scalar.cmpi .sgt c4_i32_1053 c0_i32_1056
  let v2773 : BitVec 32 := Scalar.extui v2772
  let c0_i32_1057 : BitVec 32 := 0#32
  let v2774 : BitVec 1 := Scalar.cmpi .slt c4_i32_1053 c0_i32_1057
  let v2775 : BitVec 32 := Scalar.extui v2774
  let v2776 : BitVec 32 := Scalar.subi v2773 v2775
  let v2777 : BitVec 1 := Scalar.cmpi .ne v2771 v2776
  let v2778 : BitVec 32 := Scalar.remsi v2764 c4_i32_1053
  let c0_i32_1058 : BitVec 32 := 0#32
  let v2779 : BitVec 1 := Scalar.cmpi .ne v2778 c0_i32_1058
  let v2780 : BitVec 1 := Scalar.andi v2777 v2779
  let v2766 : BitVec 32 := Scalar.divsi v2764 c4_i32_1053
  let c1_i32_1059 : BitVec 32 := 1#32
  let v2781 : BitVec 32 := Scalar.subi v2766 c1_i32_1059
  let v2782 : BitVec 32 := Scalar.select v2780 v2781 v2766
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2783 : BitVec 1 := Scalar.cmpi .eq v2782 v2356
  let v2784 : BitVec 1 := Scalar.andi v2765 v2783
  let v2785 : BitVec 32 := Scalar.extui v2784
  let c0_i32_1060 : BitVec 32 := 0#32
  let v2786 : BitVec 1 := Scalar.cmpi .ne v2785 c0_i32_1060
  v2786

@[reducible] def k0_t58_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off293 (v2747 : BitVec 32) (k0_t58 : Fin k0_t58_loop.trips) : Fin 2 → Nat :=
  let c0_i32_1453 : BitVec 32 := 0#32
  let c1_i32_1455 : BitVec 32 := 1#32
  let arg19 : BitVec 32 := Scf.iv c0_i32_1453 c1_i32_1455 k0_t58
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2747 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off294 (v2745 : BitVec 32) (k0_t58 : Fin k0_t58_loop.trips) : Fin 2 → Nat :=
  let c0_i32_1046 : BitVec 32 := 0#32
  let v2749 : BitVec 1 := Scalar.cmpi .sgt v2745 c0_i32_1046
  let v2750 : BitVec 32 := Scalar.extui v2749
  let c0_i32_1047 : BitVec 32 := 0#32
  let v2751 : BitVec 1 := Scalar.cmpi .slt v2745 c0_i32_1047
  let v2752 : BitVec 32 := Scalar.extui v2751
  let v2753 : BitVec 32 := Scalar.subi v2750 v2752
  let c16_i32_1045 : BitVec 32 := 16#32
  let c0_i32_1048 : BitVec 32 := 0#32
  let v2754 : BitVec 1 := Scalar.cmpi .sgt c16_i32_1045 c0_i32_1048
  let v2755 : BitVec 32 := Scalar.extui v2754
  let c0_i32_1049 : BitVec 32 := 0#32
  let v2756 : BitVec 1 := Scalar.cmpi .slt c16_i32_1045 c0_i32_1049
  let v2757 : BitVec 32 := Scalar.extui v2756
  let v2758 : BitVec 32 := Scalar.subi v2755 v2757
  let v2759 : BitVec 1 := Scalar.cmpi .ne v2753 v2758
  let v2760 : BitVec 32 := Scalar.remsi v2745 c16_i32_1045
  let c0_i32_1050 : BitVec 32 := 0#32
  let v2761 : BitVec 1 := Scalar.cmpi .ne v2760 c0_i32_1050
  let v2762 : BitVec 1 := Scalar.andi v2759 v2761
  let v2748 : BitVec 32 := Scalar.divsi v2745 c16_i32_1045
  let c1_i32_1051 : BitVec 32 := 1#32
  let v2763 : BitVec 32 := Scalar.subi v2748 c1_i32_1051
  let v2764 : BitVec 32 := Scalar.select v2762 v2763 v2748
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2764 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t58
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2745 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off295 (v2747 : BitVec 32) (k0_t58 : Fin k0_t58_loop.trips) : Fin 2 → Nat :=
  let c0_i32_1453 : BitVec 32 := 0#32
  let c1_i32_1455 : BitVec 32 := 1#32
  let arg19 : BitVec 32 := Scf.iv c0_i32_1453 c1_i32_1455 k0_t58
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2747 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk115 (i : grid0.Coords) (v25 : BitVec 32) (v2745 : BitVec 32) (v2747 : BitVec 32) : Prop :=
  (∀ (k0_h58 : k0_cond58 i v25 v2745 = 1#1), ∀ a, (k0_off292 i v2747) a + S32x512.size a ≤ S4096x512.size a) ∧
  (∀ k0_t58 : Fin k0_t58_loop.trips, ∀ (k0_h58 : k0_cond58 i v25 v2745 = 1#1), ∀ a, (k0_off293 v2747 k0_t58) a + S1x16.size a ≤ S32x512.size a) ∧
  (∀ k0_t58 : Fin k0_t58_loop.trips, ∀ (k0_h58 : k0_cond58 i v25 v2745 = 1#1), ∀ a, (k0_off295 v2747 k0_t58) a + S1x16.size a ≤ S32x512.size a)
theorem k0_off292_inb : ∀ (i : grid0.Coords) (v25 : BitVec 32) (v2745 : BitVec 32) (v2747 : BitVec 32) (k0_hw115 : k0_chk115 i v25 v2745 v2747), ∀ (k0_h58 : k0_cond58 i v25 v2745 = 1#1), ∀ a, (k0_off292 i v2747) a + S32x512.size a ≤ S4096x512.size a := fun i v25 v2745 v2747 k0_hw115 k0_h58 => k0_hw115.1 k0_h58
theorem k0_off293_inb : ∀ (i : grid0.Coords) (v25 : BitVec 32) (v2745 : BitVec 32) (v2747 : BitVec 32) (k0_hw115 : k0_chk115 i v25 v2745 v2747) (k0_t58 : Fin k0_t58_loop.trips), ∀ (k0_h58 : k0_cond58 i v25 v2745 = 1#1), ∀ a, (k0_off293 v2747 k0_t58) a + S1x16.size a ≤ S32x512.size a := fun i v25 v2745 v2747 k0_hw115 k0_t58 k0_h58 => k0_hw115.2.1 k0_t58 k0_h58
theorem k0_off295_inb : ∀ (i : grid0.Coords) (v25 : BitVec 32) (v2745 : BitVec 32) (v2747 : BitVec 32) (k0_hw115 : k0_chk115 i v25 v2745 v2747) (k0_t58 : Fin k0_t58_loop.trips), ∀ (k0_h58 : k0_cond58 i v25 v2745 = 1#1), ∀ a, (k0_off295 v2747 k0_t58) a + S1x16.size a ≤ S32x512.size a := fun i v25 v2745 v2747 k0_hw115 k0_t58 k0_h58 => k0_hw115.2.2 k0_t58 k0_h58

def k0_off296 (v2745 : BitVec 32) (k0_t58 : Fin k0_t58_loop.trips) : Fin 2 → Nat :=
  let c0_i32_1046 : BitVec 32 := 0#32
  let v2749 : BitVec 1 := Scalar.cmpi .sgt v2745 c0_i32_1046
  let v2750 : BitVec 32 := Scalar.extui v2749
  let c0_i32_1047 : BitVec 32 := 0#32
  let v2751 : BitVec 1 := Scalar.cmpi .slt v2745 c0_i32_1047
  let v2752 : BitVec 32 := Scalar.extui v2751
  let v2753 : BitVec 32 := Scalar.subi v2750 v2752
  let c16_i32_1045 : BitVec 32 := 16#32
  let c0_i32_1048 : BitVec 32 := 0#32
  let v2754 : BitVec 1 := Scalar.cmpi .sgt c16_i32_1045 c0_i32_1048
  let v2755 : BitVec 32 := Scalar.extui v2754
  let c0_i32_1049 : BitVec 32 := 0#32
  let v2756 : BitVec 1 := Scalar.cmpi .slt c16_i32_1045 c0_i32_1049
  let v2757 : BitVec 32 := Scalar.extui v2756
  let v2758 : BitVec 32 := Scalar.subi v2755 v2757
  let v2759 : BitVec 1 := Scalar.cmpi .ne v2753 v2758
  let v2760 : BitVec 32 := Scalar.remsi v2745 c16_i32_1045
  let c0_i32_1050 : BitVec 32 := 0#32
  let v2761 : BitVec 1 := Scalar.cmpi .ne v2760 c0_i32_1050
  let v2762 : BitVec 1 := Scalar.andi v2759 v2761
  let v2748 : BitVec 32 := Scalar.divsi v2745 c16_i32_1045
  let c1_i32_1051 : BitVec 32 := 1#32
  let v2763 : BitVec 32 := Scalar.subi v2748 c1_i32_1051
  let v2764 : BitVec 32 := Scalar.select v2762 v2763 v2748
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2764 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t58
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2745 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk116 (i : grid0.Coords) (v25 : BitVec 32) (v2745 : BitVec 32) : Prop :=
  (∀ k0_t58 : Fin k0_t58_loop.trips, ∀ (k0_h58 : k0_cond58 i v25 v2745 = 1#1), ∀ a, (k0_off294 v2745 k0_t58) a + S1x16.size a ≤ S128x512.size a) ∧
  (∀ k0_t58 : Fin k0_t58_loop.trips, ∀ (k0_h58 : k0_cond58 i v25 v2745 = 1#1), ∀ a, (k0_off296 v2745 k0_t58) a + S1x16.size a ≤ S128x512.size a)
theorem k0_off294_inb : ∀ (i : grid0.Coords) (v25 : BitVec 32) (v2745 : BitVec 32) (k0_hw116 : k0_chk116 i v25 v2745) (k0_t58 : Fin k0_t58_loop.trips), ∀ (k0_h58 : k0_cond58 i v25 v2745 = 1#1), ∀ a, (k0_off294 v2745 k0_t58) a + S1x16.size a ≤ S128x512.size a := fun i v25 v2745 k0_hw116 k0_t58 k0_h58 => k0_hw116.1 k0_t58 k0_h58
theorem k0_off296_inb : ∀ (i : grid0.Coords) (v25 : BitVec 32) (v2745 : BitVec 32) (k0_hw116 : k0_chk116 i v25 v2745) (k0_t58 : Fin k0_t58_loop.trips), ∀ (k0_h58 : k0_cond58 i v25 v2745 = 1#1), ∀ a, (k0_off296 v2745 k0_t58) a + S1x16.size a ≤ S128x512.size a := fun i v25 v2745 k0_hw116 k0_t58 k0_h58 => k0_hw116.2 k0_t58 k0_h58

def k0_off297 (i : grid0.Coords) (v2790 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2790 c0_i32_1428
  let v3763 : BitVec 32 := Scalar.extui v3762
  let c0_i32_1429 : BitVec 32 := 0#32
  let v3764 : BitVec 1 := Scalar.cmpi .slt v2790 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2790 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2790 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r68 : BitVec 32 := 0#32
  ![v3779.toNat, 0]
def k0_cond59 (i : grid0.Coords) (v25 : BitVec 32) (v2788 : BitVec 32) : BitVec 1 :=
  let c10_i32_1068 : BitVec 32 := 10#32
  let v2808 : BitVec 1 := Scalar.cmpi .sgt v25 c10_i32_1068
  let c0_i32_1062 : BitVec 32 := 0#32
  let v2792 : BitVec 1 := Scalar.cmpi .sgt v2788 c0_i32_1062
  let v2793 : BitVec 32 := Scalar.extui v2792
  let c0_i32_1063 : BitVec 32 := 0#32
  let v2794 : BitVec 1 := Scalar.cmpi .slt v2788 c0_i32_1063
  let v2795 : BitVec 32 := Scalar.extui v2794
  let v2796 : BitVec 32 := Scalar.subi v2793 v2795
  let c16_i32_1061 : BitVec 32 := 16#32
  let c0_i32_1064 : BitVec 32 := 0#32
  let v2797 : BitVec 1 := Scalar.cmpi .sgt c16_i32_1061 c0_i32_1064
  let v2798 : BitVec 32 := Scalar.extui v2797
  let c0_i32_1065 : BitVec 32 := 0#32
  let v2799 : BitVec 1 := Scalar.cmpi .slt c16_i32_1061 c0_i32_1065
  let v2800 : BitVec 32 := Scalar.extui v2799
  let v2801 : BitVec 32 := Scalar.subi v2798 v2800
  let v2802 : BitVec 1 := Scalar.cmpi .ne v2796 v2801
  let v2803 : BitVec 32 := Scalar.remsi v2788 c16_i32_1061
  let c0_i32_1066 : BitVec 32 := 0#32
  let v2804 : BitVec 1 := Scalar.cmpi .ne v2803 c0_i32_1066
  let v2805 : BitVec 1 := Scalar.andi v2802 v2804
  let v2791 : BitVec 32 := Scalar.divsi v2788 c16_i32_1061
  let c1_i32_1067 : BitVec 32 := 1#32
  let v2806 : BitVec 32 := Scalar.subi v2791 c1_i32_1067
  let v2807 : BitVec 32 := Scalar.select v2805 v2806 v2791
  let c0_i32_1070 : BitVec 32 := 0#32
  let v2810 : BitVec 1 := Scalar.cmpi .sgt v2807 c0_i32_1070
  let v2811 : BitVec 32 := Scalar.extui v2810
  let c0_i32_1071 : BitVec 32 := 0#32
  let v2812 : BitVec 1 := Scalar.cmpi .slt v2807 c0_i32_1071
  let v2813 : BitVec 32 := Scalar.extui v2812
  let v2814 : BitVec 32 := Scalar.subi v2811 v2813
  let c4_i32_1069 : BitVec 32 := 4#32
  let c0_i32_1072 : BitVec 32 := 0#32
  let v2815 : BitVec 1 := Scalar.cmpi .sgt c4_i32_1069 c0_i32_1072
  let v2816 : BitVec 32 := Scalar.extui v2815
  let c0_i32_1073 : BitVec 32 := 0#32
  let v2817 : BitVec 1 := Scalar.cmpi .slt c4_i32_1069 c0_i32_1073
  let v2818 : BitVec 32 := Scalar.extui v2817
  let v2819 : BitVec 32 := Scalar.subi v2816 v2818
  let v2820 : BitVec 1 := Scalar.cmpi .ne v2814 v2819
  let v2821 : BitVec 32 := Scalar.remsi v2807 c4_i32_1069
  let c0_i32_1074 : BitVec 32 := 0#32
  let v2822 : BitVec 1 := Scalar.cmpi .ne v2821 c0_i32_1074
  let v2823 : BitVec 1 := Scalar.andi v2820 v2822
  let v2809 : BitVec 32 := Scalar.divsi v2807 c4_i32_1069
  let c1_i32_1075 : BitVec 32 := 1#32
  let v2824 : BitVec 32 := Scalar.subi v2809 c1_i32_1075
  let v2825 : BitVec 32 := Scalar.select v2823 v2824 v2809
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2826 : BitVec 1 := Scalar.cmpi .eq v2825 v2356
  let v2827 : BitVec 1 := Scalar.andi v2808 v2826
  let v2828 : BitVec 32 := Scalar.extui v2827
  let c0_i32_1076 : BitVec 32 := 0#32
  let v2829 : BitVec 1 := Scalar.cmpi .ne v2828 c0_i32_1076
  v2829

@[reducible] def k0_t59_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off298 (v2790 : BitVec 32) (k0_t59 : Fin k0_t59_loop.trips) : Fin 2 → Nat :=
  let c0_i32_1453 : BitVec 32 := 0#32
  let c1_i32_1455 : BitVec 32 := 1#32
  let arg19 : BitVec 32 := Scf.iv c0_i32_1453 c1_i32_1455 k0_t59
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2790 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off299 (v2788 : BitVec 32) (k0_t59 : Fin k0_t59_loop.trips) : Fin 2 → Nat :=
  let c0_i32_1062 : BitVec 32 := 0#32
  let v2792 : BitVec 1 := Scalar.cmpi .sgt v2788 c0_i32_1062
  let v2793 : BitVec 32 := Scalar.extui v2792
  let c0_i32_1063 : BitVec 32 := 0#32
  let v2794 : BitVec 1 := Scalar.cmpi .slt v2788 c0_i32_1063
  let v2795 : BitVec 32 := Scalar.extui v2794
  let v2796 : BitVec 32 := Scalar.subi v2793 v2795
  let c16_i32_1061 : BitVec 32 := 16#32
  let c0_i32_1064 : BitVec 32 := 0#32
  let v2797 : BitVec 1 := Scalar.cmpi .sgt c16_i32_1061 c0_i32_1064
  let v2798 : BitVec 32 := Scalar.extui v2797
  let c0_i32_1065 : BitVec 32 := 0#32
  let v2799 : BitVec 1 := Scalar.cmpi .slt c16_i32_1061 c0_i32_1065
  let v2800 : BitVec 32 := Scalar.extui v2799
  let v2801 : BitVec 32 := Scalar.subi v2798 v2800
  let v2802 : BitVec 1 := Scalar.cmpi .ne v2796 v2801
  let v2803 : BitVec 32 := Scalar.remsi v2788 c16_i32_1061
  let c0_i32_1066 : BitVec 32 := 0#32
  let v2804 : BitVec 1 := Scalar.cmpi .ne v2803 c0_i32_1066
  let v2805 : BitVec 1 := Scalar.andi v2802 v2804
  let v2791 : BitVec 32 := Scalar.divsi v2788 c16_i32_1061
  let c1_i32_1067 : BitVec 32 := 1#32
  let v2806 : BitVec 32 := Scalar.subi v2791 c1_i32_1067
  let v2807 : BitVec 32 := Scalar.select v2805 v2806 v2791
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2807 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t59
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2788 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off300 (v2790 : BitVec 32) (k0_t59 : Fin k0_t59_loop.trips) : Fin 2 → Nat :=
  let c0_i32_1453 : BitVec 32 := 0#32
  let c1_i32_1455 : BitVec 32 := 1#32
  let arg19 : BitVec 32 := Scf.iv c0_i32_1453 c1_i32_1455 k0_t59
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2790 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk117 (i : grid0.Coords) (v25 : BitVec 32) (v2788 : BitVec 32) (v2790 : BitVec 32) : Prop :=
  (∀ (k0_h59 : k0_cond59 i v25 v2788 = 1#1), ∀ a, (k0_off297 i v2790) a + S32x512.size a ≤ S4096x512.size a) ∧
  (∀ k0_t59 : Fin k0_t59_loop.trips, ∀ (k0_h59 : k0_cond59 i v25 v2788 = 1#1), ∀ a, (k0_off298 v2790 k0_t59) a + S1x16.size a ≤ S32x512.size a) ∧
  (∀ k0_t59 : Fin k0_t59_loop.trips, ∀ (k0_h59 : k0_cond59 i v25 v2788 = 1#1), ∀ a, (k0_off300 v2790 k0_t59) a + S1x16.size a ≤ S32x512.size a)
theorem k0_off297_inb : ∀ (i : grid0.Coords) (v25 : BitVec 32) (v2788 : BitVec 32) (v2790 : BitVec 32) (k0_hw117 : k0_chk117 i v25 v2788 v2790), ∀ (k0_h59 : k0_cond59 i v25 v2788 = 1#1), ∀ a, (k0_off297 i v2790) a + S32x512.size a ≤ S4096x512.size a := fun i v25 v2788 v2790 k0_hw117 k0_h59 => k0_hw117.1 k0_h59
theorem k0_off298_inb : ∀ (i : grid0.Coords) (v25 : BitVec 32) (v2788 : BitVec 32) (v2790 : BitVec 32) (k0_hw117 : k0_chk117 i v25 v2788 v2790) (k0_t59 : Fin k0_t59_loop.trips), ∀ (k0_h59 : k0_cond59 i v25 v2788 = 1#1), ∀ a, (k0_off298 v2790 k0_t59) a + S1x16.size a ≤ S32x512.size a := fun i v25 v2788 v2790 k0_hw117 k0_t59 k0_h59 => k0_hw117.2.1 k0_t59 k0_h59
theorem k0_off300_inb : ∀ (i : grid0.Coords) (v25 : BitVec 32) (v2788 : BitVec 32) (v2790 : BitVec 32) (k0_hw117 : k0_chk117 i v25 v2788 v2790) (k0_t59 : Fin k0_t59_loop.trips), ∀ (k0_h59 : k0_cond59 i v25 v2788 = 1#1), ∀ a, (k0_off300 v2790 k0_t59) a + S1x16.size a ≤ S32x512.size a := fun i v25 v2788 v2790 k0_hw117 k0_t59 k0_h59 => k0_hw117.2.2 k0_t59 k0_h59

def k0_off301 (v2788 : BitVec 32) (k0_t59 : Fin k0_t59_loop.trips) : Fin 2 → Nat :=
  let c0_i32_1062 : BitVec 32 := 0#32
  let v2792 : BitVec 1 := Scalar.cmpi .sgt v2788 c0_i32_1062
  let v2793 : BitVec 32 := Scalar.extui v2792
  let c0_i32_1063 : BitVec 32 := 0#32
  let v2794 : BitVec 1 := Scalar.cmpi .slt v2788 c0_i32_1063
  let v2795 : BitVec 32 := Scalar.extui v2794
  let v2796 : BitVec 32 := Scalar.subi v2793 v2795
  let c16_i32_1061 : BitVec 32 := 16#32
  let c0_i32_1064 : BitVec 32 := 0#32
  let v2797 : BitVec 1 := Scalar.cmpi .sgt c16_i32_1061 c0_i32_1064
  let v2798 : BitVec 32 := Scalar.extui v2797
  let c0_i32_1065 : BitVec 32 := 0#32
  let v2799 : BitVec 1 := Scalar.cmpi .slt c16_i32_1061 c0_i32_1065
  let v2800 : BitVec 32 := Scalar.extui v2799
  let v2801 : BitVec 32 := Scalar.subi v2798 v2800
  let v2802 : BitVec 1 := Scalar.cmpi .ne v2796 v2801
  let v2803 : BitVec 32 := Scalar.remsi v2788 c16_i32_1061
  let c0_i32_1066 : BitVec 32 := 0#32
  let v2804 : BitVec 1 := Scalar.cmpi .ne v2803 c0_i32_1066
  let v2805 : BitVec 1 := Scalar.andi v2802 v2804
  let v2791 : BitVec 32 := Scalar.divsi v2788 c16_i32_1061
  let c1_i32_1067 : BitVec 32 := 1#32
  let v2806 : BitVec 32 := Scalar.subi v2791 c1_i32_1067
  let v2807 : BitVec 32 := Scalar.select v2805 v2806 v2791
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2807 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t59
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2788 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk118 (i : grid0.Coords) (v25 : BitVec 32) (v2788 : BitVec 32) : Prop :=
  (∀ k0_t59 : Fin k0_t59_loop.trips, ∀ (k0_h59 : k0_cond59 i v25 v2788 = 1#1), ∀ a, (k0_off299 v2788 k0_t59) a + S1x16.size a ≤ S128x512.size a) ∧
  (∀ k0_t59 : Fin k0_t59_loop.trips, ∀ (k0_h59 : k0_cond59 i v25 v2788 = 1#1), ∀ a, (k0_off301 v2788 k0_t59) a + S1x16.size a ≤ S128x512.size a)
theorem k0_off299_inb : ∀ (i : grid0.Coords) (v25 : BitVec 32) (v2788 : BitVec 32) (k0_hw118 : k0_chk118 i v25 v2788) (k0_t59 : Fin k0_t59_loop.trips), ∀ (k0_h59 : k0_cond59 i v25 v2788 = 1#1), ∀ a, (k0_off299 v2788 k0_t59) a + S1x16.size a ≤ S128x512.size a := fun i v25 v2788 k0_hw118 k0_t59 k0_h59 => k0_hw118.1 k0_t59 k0_h59
theorem k0_off301_inb : ∀ (i : grid0.Coords) (v25 : BitVec 32) (v2788 : BitVec 32) (k0_hw118 : k0_chk118 i v25 v2788) (k0_t59 : Fin k0_t59_loop.trips), ∀ (k0_h59 : k0_cond59 i v25 v2788 = 1#1), ∀ a, (k0_off301 v2788 k0_t59) a + S1x16.size a ≤ S128x512.size a := fun i v25 v2788 k0_hw118 k0_t59 k0_h59 => k0_hw118.2 k0_t59 k0_h59

def k0_off302 (i : grid0.Coords) (v2833 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2833 c0_i32_1428
  let v3763 : BitVec 32 := Scalar.extui v3762
  let c0_i32_1429 : BitVec 32 := 0#32
  let v3764 : BitVec 1 := Scalar.cmpi .slt v2833 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2833 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2833 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r69 : BitVec 32 := 0#32
  ![v3779.toNat, 0]
def k0_cond60 (i : grid0.Coords) (v25 : BitVec 32) (v2831 : BitVec 32) : BitVec 1 :=
  let c11_i32_1084 : BitVec 32 := 11#32
  let v2851 : BitVec 1 := Scalar.cmpi .sgt v25 c11_i32_1084
  let c0_i32_1078 : BitVec 32 := 0#32
  let v2835 : BitVec 1 := Scalar.cmpi .sgt v2831 c0_i32_1078
  let v2836 : BitVec 32 := Scalar.extui v2835
  let c0_i32_1079 : BitVec 32 := 0#32
  let v2837 : BitVec 1 := Scalar.cmpi .slt v2831 c0_i32_1079
  let v2838 : BitVec 32 := Scalar.extui v2837
  let v2839 : BitVec 32 := Scalar.subi v2836 v2838
  let c16_i32_1077 : BitVec 32 := 16#32
  let c0_i32_1080 : BitVec 32 := 0#32
  let v2840 : BitVec 1 := Scalar.cmpi .sgt c16_i32_1077 c0_i32_1080
  let v2841 : BitVec 32 := Scalar.extui v2840
  let c0_i32_1081 : BitVec 32 := 0#32
  let v2842 : BitVec 1 := Scalar.cmpi .slt c16_i32_1077 c0_i32_1081
  let v2843 : BitVec 32 := Scalar.extui v2842
  let v2844 : BitVec 32 := Scalar.subi v2841 v2843
  let v2845 : BitVec 1 := Scalar.cmpi .ne v2839 v2844
  let v2846 : BitVec 32 := Scalar.remsi v2831 c16_i32_1077
  let c0_i32_1082 : BitVec 32 := 0#32
  let v2847 : BitVec 1 := Scalar.cmpi .ne v2846 c0_i32_1082
  let v2848 : BitVec 1 := Scalar.andi v2845 v2847
  let v2834 : BitVec 32 := Scalar.divsi v2831 c16_i32_1077
  let c1_i32_1083 : BitVec 32 := 1#32
  let v2849 : BitVec 32 := Scalar.subi v2834 c1_i32_1083
  let v2850 : BitVec 32 := Scalar.select v2848 v2849 v2834
  let c0_i32_1086 : BitVec 32 := 0#32
  let v2853 : BitVec 1 := Scalar.cmpi .sgt v2850 c0_i32_1086
  let v2854 : BitVec 32 := Scalar.extui v2853
  let c0_i32_1087 : BitVec 32 := 0#32
  let v2855 : BitVec 1 := Scalar.cmpi .slt v2850 c0_i32_1087
  let v2856 : BitVec 32 := Scalar.extui v2855
  let v2857 : BitVec 32 := Scalar.subi v2854 v2856
  let c4_i32_1085 : BitVec 32 := 4#32
  let c0_i32_1088 : BitVec 32 := 0#32
  let v2858 : BitVec 1 := Scalar.cmpi .sgt c4_i32_1085 c0_i32_1088
  let v2859 : BitVec 32 := Scalar.extui v2858
  let c0_i32_1089 : BitVec 32 := 0#32
  let v2860 : BitVec 1 := Scalar.cmpi .slt c4_i32_1085 c0_i32_1089
  let v2861 : BitVec 32 := Scalar.extui v2860
  let v2862 : BitVec 32 := Scalar.subi v2859 v2861
  let v2863 : BitVec 1 := Scalar.cmpi .ne v2857 v2862
  let v2864 : BitVec 32 := Scalar.remsi v2850 c4_i32_1085
  let c0_i32_1090 : BitVec 32 := 0#32
  let v2865 : BitVec 1 := Scalar.cmpi .ne v2864 c0_i32_1090
  let v2866 : BitVec 1 := Scalar.andi v2863 v2865
  let v2852 : BitVec 32 := Scalar.divsi v2850 c4_i32_1085
  let c1_i32_1091 : BitVec 32 := 1#32
  let v2867 : BitVec 32 := Scalar.subi v2852 c1_i32_1091
  let v2868 : BitVec 32 := Scalar.select v2866 v2867 v2852
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2869 : BitVec 1 := Scalar.cmpi .eq v2868 v2356
  let v2870 : BitVec 1 := Scalar.andi v2851 v2869
  let v2871 : BitVec 32 := Scalar.extui v2870
  let c0_i32_1092 : BitVec 32 := 0#32
  let v2872 : BitVec 1 := Scalar.cmpi .ne v2871 c0_i32_1092
  v2872

@[reducible] def k0_t60_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off303 (v2833 : BitVec 32) (k0_t60 : Fin k0_t60_loop.trips) : Fin 2 → Nat :=
  let c0_i32_1453 : BitVec 32 := 0#32
  let c1_i32_1455 : BitVec 32 := 1#32
  let arg19 : BitVec 32 := Scf.iv c0_i32_1453 c1_i32_1455 k0_t60
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2833 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off304 (v2831 : BitVec 32) (k0_t60 : Fin k0_t60_loop.trips) : Fin 2 → Nat :=
  let c0_i32_1078 : BitVec 32 := 0#32
  let v2835 : BitVec 1 := Scalar.cmpi .sgt v2831 c0_i32_1078
  let v2836 : BitVec 32 := Scalar.extui v2835
  let c0_i32_1079 : BitVec 32 := 0#32
  let v2837 : BitVec 1 := Scalar.cmpi .slt v2831 c0_i32_1079
  let v2838 : BitVec 32 := Scalar.extui v2837
  let v2839 : BitVec 32 := Scalar.subi v2836 v2838
  let c16_i32_1077 : BitVec 32 := 16#32
  let c0_i32_1080 : BitVec 32 := 0#32
  let v2840 : BitVec 1 := Scalar.cmpi .sgt c16_i32_1077 c0_i32_1080
  let v2841 : BitVec 32 := Scalar.extui v2840
  let c0_i32_1081 : BitVec 32 := 0#32
  let v2842 : BitVec 1 := Scalar.cmpi .slt c16_i32_1077 c0_i32_1081
  let v2843 : BitVec 32 := Scalar.extui v2842
  let v2844 : BitVec 32 := Scalar.subi v2841 v2843
  let v2845 : BitVec 1 := Scalar.cmpi .ne v2839 v2844
  let v2846 : BitVec 32 := Scalar.remsi v2831 c16_i32_1077
  let c0_i32_1082 : BitVec 32 := 0#32
  let v2847 : BitVec 1 := Scalar.cmpi .ne v2846 c0_i32_1082
  let v2848 : BitVec 1 := Scalar.andi v2845 v2847
  let v2834 : BitVec 32 := Scalar.divsi v2831 c16_i32_1077
  let c1_i32_1083 : BitVec 32 := 1#32
  let v2849 : BitVec 32 := Scalar.subi v2834 c1_i32_1083
  let v2850 : BitVec 32 := Scalar.select v2848 v2849 v2834
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2850 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t60
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2831 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off305 (v2833 : BitVec 32) (k0_t60 : Fin k0_t60_loop.trips) : Fin 2 → Nat :=
  let c0_i32_1453 : BitVec 32 := 0#32
  let c1_i32_1455 : BitVec 32 := 1#32
  let arg19 : BitVec 32 := Scf.iv c0_i32_1453 c1_i32_1455 k0_t60
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2833 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk119 (i : grid0.Coords) (v25 : BitVec 32) (v2831 : BitVec 32) (v2833 : BitVec 32) : Prop :=
  (∀ (k0_h60 : k0_cond60 i v25 v2831 = 1#1), ∀ a, (k0_off302 i v2833) a + S32x512.size a ≤ S4096x512.size a) ∧
  (∀ k0_t60 : Fin k0_t60_loop.trips, ∀ (k0_h60 : k0_cond60 i v25 v2831 = 1#1), ∀ a, (k0_off303 v2833 k0_t60) a + S1x16.size a ≤ S32x512.size a) ∧
  (∀ k0_t60 : Fin k0_t60_loop.trips, ∀ (k0_h60 : k0_cond60 i v25 v2831 = 1#1), ∀ a, (k0_off305 v2833 k0_t60) a + S1x16.size a ≤ S32x512.size a)
theorem k0_off302_inb : ∀ (i : grid0.Coords) (v25 : BitVec 32) (v2831 : BitVec 32) (v2833 : BitVec 32) (k0_hw119 : k0_chk119 i v25 v2831 v2833), ∀ (k0_h60 : k0_cond60 i v25 v2831 = 1#1), ∀ a, (k0_off302 i v2833) a + S32x512.size a ≤ S4096x512.size a := fun i v25 v2831 v2833 k0_hw119 k0_h60 => k0_hw119.1 k0_h60
theorem k0_off303_inb : ∀ (i : grid0.Coords) (v25 : BitVec 32) (v2831 : BitVec 32) (v2833 : BitVec 32) (k0_hw119 : k0_chk119 i v25 v2831 v2833) (k0_t60 : Fin k0_t60_loop.trips), ∀ (k0_h60 : k0_cond60 i v25 v2831 = 1#1), ∀ a, (k0_off303 v2833 k0_t60) a + S1x16.size a ≤ S32x512.size a := fun i v25 v2831 v2833 k0_hw119 k0_t60 k0_h60 => k0_hw119.2.1 k0_t60 k0_h60
theorem k0_off305_inb : ∀ (i : grid0.Coords) (v25 : BitVec 32) (v2831 : BitVec 32) (v2833 : BitVec 32) (k0_hw119 : k0_chk119 i v25 v2831 v2833) (k0_t60 : Fin k0_t60_loop.trips), ∀ (k0_h60 : k0_cond60 i v25 v2831 = 1#1), ∀ a, (k0_off305 v2833 k0_t60) a + S1x16.size a ≤ S32x512.size a := fun i v25 v2831 v2833 k0_hw119 k0_t60 k0_h60 => k0_hw119.2.2 k0_t60 k0_h60

def k0_off306 (v2831 : BitVec 32) (k0_t60 : Fin k0_t60_loop.trips) : Fin 2 → Nat :=
  let c0_i32_1078 : BitVec 32 := 0#32
  let v2835 : BitVec 1 := Scalar.cmpi .sgt v2831 c0_i32_1078
  let v2836 : BitVec 32 := Scalar.extui v2835
  let c0_i32_1079 : BitVec 32 := 0#32
  let v2837 : BitVec 1 := Scalar.cmpi .slt v2831 c0_i32_1079
  let v2838 : BitVec 32 := Scalar.extui v2837
  let v2839 : BitVec 32 := Scalar.subi v2836 v2838
  let c16_i32_1077 : BitVec 32 := 16#32
  let c0_i32_1080 : BitVec 32 := 0#32
  let v2840 : BitVec 1 := Scalar.cmpi .sgt c16_i32_1077 c0_i32_1080
  let v2841 : BitVec 32 := Scalar.extui v2840
  let c0_i32_1081 : BitVec 32 := 0#32
  let v2842 : BitVec 1 := Scalar.cmpi .slt c16_i32_1077 c0_i32_1081
  let v2843 : BitVec 32 := Scalar.extui v2842
  let v2844 : BitVec 32 := Scalar.subi v2841 v2843
  let v2845 : BitVec 1 := Scalar.cmpi .ne v2839 v2844
  let v2846 : BitVec 32 := Scalar.remsi v2831 c16_i32_1077
  let c0_i32_1082 : BitVec 32 := 0#32
  let v2847 : BitVec 1 := Scalar.cmpi .ne v2846 c0_i32_1082
  let v2848 : BitVec 1 := Scalar.andi v2845 v2847
  let v2834 : BitVec 32 := Scalar.divsi v2831 c16_i32_1077
  let c1_i32_1083 : BitVec 32 := 1#32
  let v2849 : BitVec 32 := Scalar.subi v2834 c1_i32_1083
  let v2850 : BitVec 32 := Scalar.select v2848 v2849 v2834
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2850 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t60
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2831 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk120 (i : grid0.Coords) (v25 : BitVec 32) (v2831 : BitVec 32) : Prop :=
  (∀ k0_t60 : Fin k0_t60_loop.trips, ∀ (k0_h60 : k0_cond60 i v25 v2831 = 1#1), ∀ a, (k0_off304 v2831 k0_t60) a + S1x16.size a ≤ S128x512.size a) ∧
  (∀ k0_t60 : Fin k0_t60_loop.trips, ∀ (k0_h60 : k0_cond60 i v25 v2831 = 1#1), ∀ a, (k0_off306 v2831 k0_t60) a + S1x16.size a ≤ S128x512.size a)
theorem k0_off304_inb : ∀ (i : grid0.Coords) (v25 : BitVec 32) (v2831 : BitVec 32) (k0_hw120 : k0_chk120 i v25 v2831) (k0_t60 : Fin k0_t60_loop.trips), ∀ (k0_h60 : k0_cond60 i v25 v2831 = 1#1), ∀ a, (k0_off304 v2831 k0_t60) a + S1x16.size a ≤ S128x512.size a := fun i v25 v2831 k0_hw120 k0_t60 k0_h60 => k0_hw120.1 k0_t60 k0_h60
theorem k0_off306_inb : ∀ (i : grid0.Coords) (v25 : BitVec 32) (v2831 : BitVec 32) (k0_hw120 : k0_chk120 i v25 v2831) (k0_t60 : Fin k0_t60_loop.trips), ∀ (k0_h60 : k0_cond60 i v25 v2831 = 1#1), ∀ a, (k0_off306 v2831 k0_t60) a + S1x16.size a ≤ S128x512.size a := fun i v25 v2831 k0_hw120 k0_t60 k0_h60 => k0_hw120.2 k0_t60 k0_h60

def k0_off307 (i : grid0.Coords) (v2876 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2876 c0_i32_1428
  let v3763 : BitVec 32 := Scalar.extui v3762
  let c0_i32_1429 : BitVec 32 := 0#32
  let v3764 : BitVec 1 := Scalar.cmpi .slt v2876 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2876 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2876 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r70 : BitVec 32 := 0#32
  ![v3779.toNat, 0]
def k0_cond61 (i : grid0.Coords) (v25 : BitVec 32) (v2874 : BitVec 32) : BitVec 1 :=
  let c12_i32_1100 : BitVec 32 := 12#32
  let v2894 : BitVec 1 := Scalar.cmpi .sgt v25 c12_i32_1100
  let c0_i32_1094 : BitVec 32 := 0#32
  let v2878 : BitVec 1 := Scalar.cmpi .sgt v2874 c0_i32_1094
  let v2879 : BitVec 32 := Scalar.extui v2878
  let c0_i32_1095 : BitVec 32 := 0#32
  let v2880 : BitVec 1 := Scalar.cmpi .slt v2874 c0_i32_1095
  let v2881 : BitVec 32 := Scalar.extui v2880
  let v2882 : BitVec 32 := Scalar.subi v2879 v2881
  let c16_i32_1093 : BitVec 32 := 16#32
  let c0_i32_1096 : BitVec 32 := 0#32
  let v2883 : BitVec 1 := Scalar.cmpi .sgt c16_i32_1093 c0_i32_1096
  let v2884 : BitVec 32 := Scalar.extui v2883
  let c0_i32_1097 : BitVec 32 := 0#32
  let v2885 : BitVec 1 := Scalar.cmpi .slt c16_i32_1093 c0_i32_1097
  let v2886 : BitVec 32 := Scalar.extui v2885
  let v2887 : BitVec 32 := Scalar.subi v2884 v2886
  let v2888 : BitVec 1 := Scalar.cmpi .ne v2882 v2887
  let v2889 : BitVec 32 := Scalar.remsi v2874 c16_i32_1093
  let c0_i32_1098 : BitVec 32 := 0#32
  let v2890 : BitVec 1 := Scalar.cmpi .ne v2889 c0_i32_1098
  let v2891 : BitVec 1 := Scalar.andi v2888 v2890
  let v2877 : BitVec 32 := Scalar.divsi v2874 c16_i32_1093
  let c1_i32_1099 : BitVec 32 := 1#32
  let v2892 : BitVec 32 := Scalar.subi v2877 c1_i32_1099
  let v2893 : BitVec 32 := Scalar.select v2891 v2892 v2877
  let c0_i32_1102 : BitVec 32 := 0#32
  let v2896 : BitVec 1 := Scalar.cmpi .sgt v2893 c0_i32_1102
  let v2897 : BitVec 32 := Scalar.extui v2896
  let c0_i32_1103 : BitVec 32 := 0#32
  let v2898 : BitVec 1 := Scalar.cmpi .slt v2893 c0_i32_1103
  let v2899 : BitVec 32 := Scalar.extui v2898
  let v2900 : BitVec 32 := Scalar.subi v2897 v2899
  let c4_i32_1101 : BitVec 32 := 4#32
  let c0_i32_1104 : BitVec 32 := 0#32
  let v2901 : BitVec 1 := Scalar.cmpi .sgt c4_i32_1101 c0_i32_1104
  let v2902 : BitVec 32 := Scalar.extui v2901
  let c0_i32_1105 : BitVec 32 := 0#32
  let v2903 : BitVec 1 := Scalar.cmpi .slt c4_i32_1101 c0_i32_1105
  let v2904 : BitVec 32 := Scalar.extui v2903
  let v2905 : BitVec 32 := Scalar.subi v2902 v2904
  let v2906 : BitVec 1 := Scalar.cmpi .ne v2900 v2905
  let v2907 : BitVec 32 := Scalar.remsi v2893 c4_i32_1101
  let c0_i32_1106 : BitVec 32 := 0#32
  let v2908 : BitVec 1 := Scalar.cmpi .ne v2907 c0_i32_1106
  let v2909 : BitVec 1 := Scalar.andi v2906 v2908
  let v2895 : BitVec 32 := Scalar.divsi v2893 c4_i32_1101
  let c1_i32_1107 : BitVec 32 := 1#32
  let v2910 : BitVec 32 := Scalar.subi v2895 c1_i32_1107
  let v2911 : BitVec 32 := Scalar.select v2909 v2910 v2895
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2912 : BitVec 1 := Scalar.cmpi .eq v2911 v2356
  let v2913 : BitVec 1 := Scalar.andi v2894 v2912
  let v2914 : BitVec 32 := Scalar.extui v2913
  let c0_i32_1108 : BitVec 32 := 0#32
  let v2915 : BitVec 1 := Scalar.cmpi .ne v2914 c0_i32_1108
  v2915

@[reducible] def k0_t61_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off308 (v2876 : BitVec 32) (k0_t61 : Fin k0_t61_loop.trips) : Fin 2 → Nat :=
  let c0_i32_1453 : BitVec 32 := 0#32
  let c1_i32_1455 : BitVec 32 := 1#32
  let arg19 : BitVec 32 := Scf.iv c0_i32_1453 c1_i32_1455 k0_t61
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2876 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off309 (v2874 : BitVec 32) (k0_t61 : Fin k0_t61_loop.trips) : Fin 2 → Nat :=
  let c0_i32_1094 : BitVec 32 := 0#32
  let v2878 : BitVec 1 := Scalar.cmpi .sgt v2874 c0_i32_1094
  let v2879 : BitVec 32 := Scalar.extui v2878
  let c0_i32_1095 : BitVec 32 := 0#32
  let v2880 : BitVec 1 := Scalar.cmpi .slt v2874 c0_i32_1095
  let v2881 : BitVec 32 := Scalar.extui v2880
  let v2882 : BitVec 32 := Scalar.subi v2879 v2881
  let c16_i32_1093 : BitVec 32 := 16#32
  let c0_i32_1096 : BitVec 32 := 0#32
  let v2883 : BitVec 1 := Scalar.cmpi .sgt c16_i32_1093 c0_i32_1096
  let v2884 : BitVec 32 := Scalar.extui v2883
  let c0_i32_1097 : BitVec 32 := 0#32
  let v2885 : BitVec 1 := Scalar.cmpi .slt c16_i32_1093 c0_i32_1097
  let v2886 : BitVec 32 := Scalar.extui v2885
  let v2887 : BitVec 32 := Scalar.subi v2884 v2886
  let v2888 : BitVec 1 := Scalar.cmpi .ne v2882 v2887
  let v2889 : BitVec 32 := Scalar.remsi v2874 c16_i32_1093
  let c0_i32_1098 : BitVec 32 := 0#32
  let v2890 : BitVec 1 := Scalar.cmpi .ne v2889 c0_i32_1098
  let v2891 : BitVec 1 := Scalar.andi v2888 v2890
  let v2877 : BitVec 32 := Scalar.divsi v2874 c16_i32_1093
  let c1_i32_1099 : BitVec 32 := 1#32
  let v2892 : BitVec 32 := Scalar.subi v2877 c1_i32_1099
  let v2893 : BitVec 32 := Scalar.select v2891 v2892 v2877
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2893 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t61
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2874 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off310 (v2876 : BitVec 32) (k0_t61 : Fin k0_t61_loop.trips) : Fin 2 → Nat :=
  let c0_i32_1453 : BitVec 32 := 0#32
  let c1_i32_1455 : BitVec 32 := 1#32
  let arg19 : BitVec 32 := Scf.iv c0_i32_1453 c1_i32_1455 k0_t61
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2876 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk121 (i : grid0.Coords) (v25 : BitVec 32) (v2874 : BitVec 32) (v2876 : BitVec 32) : Prop :=
  (∀ (k0_h61 : k0_cond61 i v25 v2874 = 1#1), ∀ a, (k0_off307 i v2876) a + S32x512.size a ≤ S4096x512.size a) ∧
  (∀ k0_t61 : Fin k0_t61_loop.trips, ∀ (k0_h61 : k0_cond61 i v25 v2874 = 1#1), ∀ a, (k0_off308 v2876 k0_t61) a + S1x16.size a ≤ S32x512.size a) ∧
  (∀ k0_t61 : Fin k0_t61_loop.trips, ∀ (k0_h61 : k0_cond61 i v25 v2874 = 1#1), ∀ a, (k0_off310 v2876 k0_t61) a + S1x16.size a ≤ S32x512.size a)
theorem k0_off307_inb : ∀ (i : grid0.Coords) (v25 : BitVec 32) (v2874 : BitVec 32) (v2876 : BitVec 32) (k0_hw121 : k0_chk121 i v25 v2874 v2876), ∀ (k0_h61 : k0_cond61 i v25 v2874 = 1#1), ∀ a, (k0_off307 i v2876) a + S32x512.size a ≤ S4096x512.size a := fun i v25 v2874 v2876 k0_hw121 k0_h61 => k0_hw121.1 k0_h61
theorem k0_off308_inb : ∀ (i : grid0.Coords) (v25 : BitVec 32) (v2874 : BitVec 32) (v2876 : BitVec 32) (k0_hw121 : k0_chk121 i v25 v2874 v2876) (k0_t61 : Fin k0_t61_loop.trips), ∀ (k0_h61 : k0_cond61 i v25 v2874 = 1#1), ∀ a, (k0_off308 v2876 k0_t61) a + S1x16.size a ≤ S32x512.size a := fun i v25 v2874 v2876 k0_hw121 k0_t61 k0_h61 => k0_hw121.2.1 k0_t61 k0_h61
theorem k0_off310_inb : ∀ (i : grid0.Coords) (v25 : BitVec 32) (v2874 : BitVec 32) (v2876 : BitVec 32) (k0_hw121 : k0_chk121 i v25 v2874 v2876) (k0_t61 : Fin k0_t61_loop.trips), ∀ (k0_h61 : k0_cond61 i v25 v2874 = 1#1), ∀ a, (k0_off310 v2876 k0_t61) a + S1x16.size a ≤ S32x512.size a := fun i v25 v2874 v2876 k0_hw121 k0_t61 k0_h61 => k0_hw121.2.2 k0_t61 k0_h61

def k0_off311 (v2874 : BitVec 32) (k0_t61 : Fin k0_t61_loop.trips) : Fin 2 → Nat :=
  let c0_i32_1094 : BitVec 32 := 0#32
  let v2878 : BitVec 1 := Scalar.cmpi .sgt v2874 c0_i32_1094
  let v2879 : BitVec 32 := Scalar.extui v2878
  let c0_i32_1095 : BitVec 32 := 0#32
  let v2880 : BitVec 1 := Scalar.cmpi .slt v2874 c0_i32_1095
  let v2881 : BitVec 32 := Scalar.extui v2880
  let v2882 : BitVec 32 := Scalar.subi v2879 v2881
  let c16_i32_1093 : BitVec 32 := 16#32
  let c0_i32_1096 : BitVec 32 := 0#32
  let v2883 : BitVec 1 := Scalar.cmpi .sgt c16_i32_1093 c0_i32_1096
  let v2884 : BitVec 32 := Scalar.extui v2883
  let c0_i32_1097 : BitVec 32 := 0#32
  let v2885 : BitVec 1 := Scalar.cmpi .slt c16_i32_1093 c0_i32_1097
  let v2886 : BitVec 32 := Scalar.extui v2885
  let v2887 : BitVec 32 := Scalar.subi v2884 v2886
  let v2888 : BitVec 1 := Scalar.cmpi .ne v2882 v2887
  let v2889 : BitVec 32 := Scalar.remsi v2874 c16_i32_1093
  let c0_i32_1098 : BitVec 32 := 0#32
  let v2890 : BitVec 1 := Scalar.cmpi .ne v2889 c0_i32_1098
  let v2891 : BitVec 1 := Scalar.andi v2888 v2890
  let v2877 : BitVec 32 := Scalar.divsi v2874 c16_i32_1093
  let c1_i32_1099 : BitVec 32 := 1#32
  let v2892 : BitVec 32 := Scalar.subi v2877 c1_i32_1099
  let v2893 : BitVec 32 := Scalar.select v2891 v2892 v2877
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2893 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t61
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2874 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk122 (i : grid0.Coords) (v25 : BitVec 32) (v2874 : BitVec 32) : Prop :=
  (∀ k0_t61 : Fin k0_t61_loop.trips, ∀ (k0_h61 : k0_cond61 i v25 v2874 = 1#1), ∀ a, (k0_off309 v2874 k0_t61) a + S1x16.size a ≤ S128x512.size a) ∧
  (∀ k0_t61 : Fin k0_t61_loop.trips, ∀ (k0_h61 : k0_cond61 i v25 v2874 = 1#1), ∀ a, (k0_off311 v2874 k0_t61) a + S1x16.size a ≤ S128x512.size a)
theorem k0_off309_inb : ∀ (i : grid0.Coords) (v25 : BitVec 32) (v2874 : BitVec 32) (k0_hw122 : k0_chk122 i v25 v2874) (k0_t61 : Fin k0_t61_loop.trips), ∀ (k0_h61 : k0_cond61 i v25 v2874 = 1#1), ∀ a, (k0_off309 v2874 k0_t61) a + S1x16.size a ≤ S128x512.size a := fun i v25 v2874 k0_hw122 k0_t61 k0_h61 => k0_hw122.1 k0_t61 k0_h61
theorem k0_off311_inb : ∀ (i : grid0.Coords) (v25 : BitVec 32) (v2874 : BitVec 32) (k0_hw122 : k0_chk122 i v25 v2874) (k0_t61 : Fin k0_t61_loop.trips), ∀ (k0_h61 : k0_cond61 i v25 v2874 = 1#1), ∀ a, (k0_off311 v2874 k0_t61) a + S1x16.size a ≤ S128x512.size a := fun i v25 v2874 k0_hw122 k0_t61 k0_h61 => k0_hw122.2 k0_t61 k0_h61

def k0_off312 (i : grid0.Coords) (v2919 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2919 c0_i32_1428
  let v3763 : BitVec 32 := Scalar.extui v3762
  let c0_i32_1429 : BitVec 32 := 0#32
  let v3764 : BitVec 1 := Scalar.cmpi .slt v2919 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2919 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2919 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r71 : BitVec 32 := 0#32
  ![v3779.toNat, 0]
def k0_cond62 (i : grid0.Coords) (v25 : BitVec 32) (v2917 : BitVec 32) : BitVec 1 :=
  let c13_i32_1116 : BitVec 32 := 13#32
  let v2937 : BitVec 1 := Scalar.cmpi .sgt v25 c13_i32_1116
  let c0_i32_1110 : BitVec 32 := 0#32
  let v2921 : BitVec 1 := Scalar.cmpi .sgt v2917 c0_i32_1110
  let v2922 : BitVec 32 := Scalar.extui v2921
  let c0_i32_1111 : BitVec 32 := 0#32
  let v2923 : BitVec 1 := Scalar.cmpi .slt v2917 c0_i32_1111
  let v2924 : BitVec 32 := Scalar.extui v2923
  let v2925 : BitVec 32 := Scalar.subi v2922 v2924
  let c16_i32_1109 : BitVec 32 := 16#32
  let c0_i32_1112 : BitVec 32 := 0#32
  let v2926 : BitVec 1 := Scalar.cmpi .sgt c16_i32_1109 c0_i32_1112
  let v2927 : BitVec 32 := Scalar.extui v2926
  let c0_i32_1113 : BitVec 32 := 0#32
  let v2928 : BitVec 1 := Scalar.cmpi .slt c16_i32_1109 c0_i32_1113
  let v2929 : BitVec 32 := Scalar.extui v2928
  let v2930 : BitVec 32 := Scalar.subi v2927 v2929
  let v2931 : BitVec 1 := Scalar.cmpi .ne v2925 v2930
  let v2932 : BitVec 32 := Scalar.remsi v2917 c16_i32_1109
  let c0_i32_1114 : BitVec 32 := 0#32
  let v2933 : BitVec 1 := Scalar.cmpi .ne v2932 c0_i32_1114
  let v2934 : BitVec 1 := Scalar.andi v2931 v2933
  let v2920 : BitVec 32 := Scalar.divsi v2917 c16_i32_1109
  let c1_i32_1115 : BitVec 32 := 1#32
  let v2935 : BitVec 32 := Scalar.subi v2920 c1_i32_1115
  let v2936 : BitVec 32 := Scalar.select v2934 v2935 v2920
  let c0_i32_1118 : BitVec 32 := 0#32
  let v2939 : BitVec 1 := Scalar.cmpi .sgt v2936 c0_i32_1118
  let v2940 : BitVec 32 := Scalar.extui v2939
  let c0_i32_1119 : BitVec 32 := 0#32
  let v2941 : BitVec 1 := Scalar.cmpi .slt v2936 c0_i32_1119
  let v2942 : BitVec 32 := Scalar.extui v2941
  let v2943 : BitVec 32 := Scalar.subi v2940 v2942
  let c4_i32_1117 : BitVec 32 := 4#32
  let c0_i32_1120 : BitVec 32 := 0#32
  let v2944 : BitVec 1 := Scalar.cmpi .sgt c4_i32_1117 c0_i32_1120
  let v2945 : BitVec 32 := Scalar.extui v2944
  let c0_i32_1121 : BitVec 32 := 0#32
  let v2946 : BitVec 1 := Scalar.cmpi .slt c4_i32_1117 c0_i32_1121
  let v2947 : BitVec 32 := Scalar.extui v2946
  let v2948 : BitVec 32 := Scalar.subi v2945 v2947
  let v2949 : BitVec 1 := Scalar.cmpi .ne v2943 v2948
  let v2950 : BitVec 32 := Scalar.remsi v2936 c4_i32_1117
  let c0_i32_1122 : BitVec 32 := 0#32
  let v2951 : BitVec 1 := Scalar.cmpi .ne v2950 c0_i32_1122
  let v2952 : BitVec 1 := Scalar.andi v2949 v2951
  let v2938 : BitVec 32 := Scalar.divsi v2936 c4_i32_1117
  let c1_i32_1123 : BitVec 32 := 1#32
  let v2953 : BitVec 32 := Scalar.subi v2938 c1_i32_1123
  let v2954 : BitVec 32 := Scalar.select v2952 v2953 v2938
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2955 : BitVec 1 := Scalar.cmpi .eq v2954 v2356
  let v2956 : BitVec 1 := Scalar.andi v2937 v2955
  let v2957 : BitVec 32 := Scalar.extui v2956
  let c0_i32_1124 : BitVec 32 := 0#32
  let v2958 : BitVec 1 := Scalar.cmpi .ne v2957 c0_i32_1124
  v2958

@[reducible] def k0_t62_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off313 (v2919 : BitVec 32) (k0_t62 : Fin k0_t62_loop.trips) : Fin 2 → Nat :=
  let c0_i32_1453 : BitVec 32 := 0#32
  let c1_i32_1455 : BitVec 32 := 1#32
  let arg19 : BitVec 32 := Scf.iv c0_i32_1453 c1_i32_1455 k0_t62
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2919 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off314 (v2917 : BitVec 32) (k0_t62 : Fin k0_t62_loop.trips) : Fin 2 → Nat :=
  let c0_i32_1110 : BitVec 32 := 0#32
  let v2921 : BitVec 1 := Scalar.cmpi .sgt v2917 c0_i32_1110
  let v2922 : BitVec 32 := Scalar.extui v2921
  let c0_i32_1111 : BitVec 32 := 0#32
  let v2923 : BitVec 1 := Scalar.cmpi .slt v2917 c0_i32_1111
  let v2924 : BitVec 32 := Scalar.extui v2923
  let v2925 : BitVec 32 := Scalar.subi v2922 v2924
  let c16_i32_1109 : BitVec 32 := 16#32
  let c0_i32_1112 : BitVec 32 := 0#32
  let v2926 : BitVec 1 := Scalar.cmpi .sgt c16_i32_1109 c0_i32_1112
  let v2927 : BitVec 32 := Scalar.extui v2926
  let c0_i32_1113 : BitVec 32 := 0#32
  let v2928 : BitVec 1 := Scalar.cmpi .slt c16_i32_1109 c0_i32_1113
  let v2929 : BitVec 32 := Scalar.extui v2928
  let v2930 : BitVec 32 := Scalar.subi v2927 v2929
  let v2931 : BitVec 1 := Scalar.cmpi .ne v2925 v2930
  let v2932 : BitVec 32 := Scalar.remsi v2917 c16_i32_1109
  let c0_i32_1114 : BitVec 32 := 0#32
  let v2933 : BitVec 1 := Scalar.cmpi .ne v2932 c0_i32_1114
  let v2934 : BitVec 1 := Scalar.andi v2931 v2933
  let v2920 : BitVec 32 := Scalar.divsi v2917 c16_i32_1109
  let c1_i32_1115 : BitVec 32 := 1#32
  let v2935 : BitVec 32 := Scalar.subi v2920 c1_i32_1115
  let v2936 : BitVec 32 := Scalar.select v2934 v2935 v2920
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2936 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t62
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2917 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off315 (v2919 : BitVec 32) (k0_t62 : Fin k0_t62_loop.trips) : Fin 2 → Nat :=
  let c0_i32_1453 : BitVec 32 := 0#32
  let c1_i32_1455 : BitVec 32 := 1#32
  let arg19 : BitVec 32 := Scf.iv c0_i32_1453 c1_i32_1455 k0_t62
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2919 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk123 (i : grid0.Coords) (v25 : BitVec 32) (v2917 : BitVec 32) (v2919 : BitVec 32) : Prop :=
  (∀ (k0_h62 : k0_cond62 i v25 v2917 = 1#1), ∀ a, (k0_off312 i v2919) a + S32x512.size a ≤ S4096x512.size a) ∧
  (∀ k0_t62 : Fin k0_t62_loop.trips, ∀ (k0_h62 : k0_cond62 i v25 v2917 = 1#1), ∀ a, (k0_off313 v2919 k0_t62) a + S1x16.size a ≤ S32x512.size a) ∧
  (∀ k0_t62 : Fin k0_t62_loop.trips, ∀ (k0_h62 : k0_cond62 i v25 v2917 = 1#1), ∀ a, (k0_off315 v2919 k0_t62) a + S1x16.size a ≤ S32x512.size a)
theorem k0_off312_inb : ∀ (i : grid0.Coords) (v25 : BitVec 32) (v2917 : BitVec 32) (v2919 : BitVec 32) (k0_hw123 : k0_chk123 i v25 v2917 v2919), ∀ (k0_h62 : k0_cond62 i v25 v2917 = 1#1), ∀ a, (k0_off312 i v2919) a + S32x512.size a ≤ S4096x512.size a := fun i v25 v2917 v2919 k0_hw123 k0_h62 => k0_hw123.1 k0_h62
theorem k0_off313_inb : ∀ (i : grid0.Coords) (v25 : BitVec 32) (v2917 : BitVec 32) (v2919 : BitVec 32) (k0_hw123 : k0_chk123 i v25 v2917 v2919) (k0_t62 : Fin k0_t62_loop.trips), ∀ (k0_h62 : k0_cond62 i v25 v2917 = 1#1), ∀ a, (k0_off313 v2919 k0_t62) a + S1x16.size a ≤ S32x512.size a := fun i v25 v2917 v2919 k0_hw123 k0_t62 k0_h62 => k0_hw123.2.1 k0_t62 k0_h62
theorem k0_off315_inb : ∀ (i : grid0.Coords) (v25 : BitVec 32) (v2917 : BitVec 32) (v2919 : BitVec 32) (k0_hw123 : k0_chk123 i v25 v2917 v2919) (k0_t62 : Fin k0_t62_loop.trips), ∀ (k0_h62 : k0_cond62 i v25 v2917 = 1#1), ∀ a, (k0_off315 v2919 k0_t62) a + S1x16.size a ≤ S32x512.size a := fun i v25 v2917 v2919 k0_hw123 k0_t62 k0_h62 => k0_hw123.2.2 k0_t62 k0_h62

def k0_off316 (v2917 : BitVec 32) (k0_t62 : Fin k0_t62_loop.trips) : Fin 2 → Nat :=
  let c0_i32_1110 : BitVec 32 := 0#32
  let v2921 : BitVec 1 := Scalar.cmpi .sgt v2917 c0_i32_1110
  let v2922 : BitVec 32 := Scalar.extui v2921
  let c0_i32_1111 : BitVec 32 := 0#32
  let v2923 : BitVec 1 := Scalar.cmpi .slt v2917 c0_i32_1111
  let v2924 : BitVec 32 := Scalar.extui v2923
  let v2925 : BitVec 32 := Scalar.subi v2922 v2924
  let c16_i32_1109 : BitVec 32 := 16#32
  let c0_i32_1112 : BitVec 32 := 0#32
  let v2926 : BitVec 1 := Scalar.cmpi .sgt c16_i32_1109 c0_i32_1112
  let v2927 : BitVec 32 := Scalar.extui v2926
  let c0_i32_1113 : BitVec 32 := 0#32
  let v2928 : BitVec 1 := Scalar.cmpi .slt c16_i32_1109 c0_i32_1113
  let v2929 : BitVec 32 := Scalar.extui v2928
  let v2930 : BitVec 32 := Scalar.subi v2927 v2929
  let v2931 : BitVec 1 := Scalar.cmpi .ne v2925 v2930
  let v2932 : BitVec 32 := Scalar.remsi v2917 c16_i32_1109
  let c0_i32_1114 : BitVec 32 := 0#32
  let v2933 : BitVec 1 := Scalar.cmpi .ne v2932 c0_i32_1114
  let v2934 : BitVec 1 := Scalar.andi v2931 v2933
  let v2920 : BitVec 32 := Scalar.divsi v2917 c16_i32_1109
  let c1_i32_1115 : BitVec 32 := 1#32
  let v2935 : BitVec 32 := Scalar.subi v2920 c1_i32_1115
  let v2936 : BitVec 32 := Scalar.select v2934 v2935 v2920
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2936 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t62
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2917 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk124 (i : grid0.Coords) (v25 : BitVec 32) (v2917 : BitVec 32) : Prop :=
  (∀ k0_t62 : Fin k0_t62_loop.trips, ∀ (k0_h62 : k0_cond62 i v25 v2917 = 1#1), ∀ a, (k0_off314 v2917 k0_t62) a + S1x16.size a ≤ S128x512.size a) ∧
  (∀ k0_t62 : Fin k0_t62_loop.trips, ∀ (k0_h62 : k0_cond62 i v25 v2917 = 1#1), ∀ a, (k0_off316 v2917 k0_t62) a + S1x16.size a ≤ S128x512.size a)
theorem k0_off314_inb : ∀ (i : grid0.Coords) (v25 : BitVec 32) (v2917 : BitVec 32) (k0_hw124 : k0_chk124 i v25 v2917) (k0_t62 : Fin k0_t62_loop.trips), ∀ (k0_h62 : k0_cond62 i v25 v2917 = 1#1), ∀ a, (k0_off314 v2917 k0_t62) a + S1x16.size a ≤ S128x512.size a := fun i v25 v2917 k0_hw124 k0_t62 k0_h62 => k0_hw124.1 k0_t62 k0_h62
theorem k0_off316_inb : ∀ (i : grid0.Coords) (v25 : BitVec 32) (v2917 : BitVec 32) (k0_hw124 : k0_chk124 i v25 v2917) (k0_t62 : Fin k0_t62_loop.trips), ∀ (k0_h62 : k0_cond62 i v25 v2917 = 1#1), ∀ a, (k0_off316 v2917 k0_t62) a + S1x16.size a ≤ S128x512.size a := fun i v25 v2917 k0_hw124 k0_t62 k0_h62 => k0_hw124.2 k0_t62 k0_h62

def k0_off317 (i : grid0.Coords) (v2962 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2962 c0_i32_1428
  let v3763 : BitVec 32 := Scalar.extui v3762
  let c0_i32_1429 : BitVec 32 := 0#32
  let v3764 : BitVec 1 := Scalar.cmpi .slt v2962 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2962 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2962 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r72 : BitVec 32 := 0#32
  ![v3779.toNat, 0]
def k0_cond63 (i : grid0.Coords) (v25 : BitVec 32) (v2960 : BitVec 32) : BitVec 1 :=
  let c14_i32_1132 : BitVec 32 := 14#32
  let v2980 : BitVec 1 := Scalar.cmpi .sgt v25 c14_i32_1132
  let c0_i32_1126 : BitVec 32 := 0#32
  let v2964 : BitVec 1 := Scalar.cmpi .sgt v2960 c0_i32_1126
  let v2965 : BitVec 32 := Scalar.extui v2964
  let c0_i32_1127 : BitVec 32 := 0#32
  let v2966 : BitVec 1 := Scalar.cmpi .slt v2960 c0_i32_1127
  let v2967 : BitVec 32 := Scalar.extui v2966
  let v2968 : BitVec 32 := Scalar.subi v2965 v2967
  let c16_i32_1125 : BitVec 32 := 16#32
  let c0_i32_1128 : BitVec 32 := 0#32
  let v2969 : BitVec 1 := Scalar.cmpi .sgt c16_i32_1125 c0_i32_1128
  let v2970 : BitVec 32 := Scalar.extui v2969
  let c0_i32_1129 : BitVec 32 := 0#32
  let v2971 : BitVec 1 := Scalar.cmpi .slt c16_i32_1125 c0_i32_1129
  let v2972 : BitVec 32 := Scalar.extui v2971
  let v2973 : BitVec 32 := Scalar.subi v2970 v2972
  let v2974 : BitVec 1 := Scalar.cmpi .ne v2968 v2973
  let v2975 : BitVec 32 := Scalar.remsi v2960 c16_i32_1125
  let c0_i32_1130 : BitVec 32 := 0#32
  let v2976 : BitVec 1 := Scalar.cmpi .ne v2975 c0_i32_1130
  let v2977 : BitVec 1 := Scalar.andi v2974 v2976
  let v2963 : BitVec 32 := Scalar.divsi v2960 c16_i32_1125
  let c1_i32_1131 : BitVec 32 := 1#32
  let v2978 : BitVec 32 := Scalar.subi v2963 c1_i32_1131
  let v2979 : BitVec 32 := Scalar.select v2977 v2978 v2963
  let c0_i32_1134 : BitVec 32 := 0#32
  let v2982 : BitVec 1 := Scalar.cmpi .sgt v2979 c0_i32_1134
  let v2983 : BitVec 32 := Scalar.extui v2982
  let c0_i32_1135 : BitVec 32 := 0#32
  let v2984 : BitVec 1 := Scalar.cmpi .slt v2979 c0_i32_1135
  let v2985 : BitVec 32 := Scalar.extui v2984
  let v2986 : BitVec 32 := Scalar.subi v2983 v2985
  let c4_i32_1133 : BitVec 32 := 4#32
  let c0_i32_1136 : BitVec 32 := 0#32
  let v2987 : BitVec 1 := Scalar.cmpi .sgt c4_i32_1133 c0_i32_1136
  let v2988 : BitVec 32 := Scalar.extui v2987
  let c0_i32_1137 : BitVec 32 := 0#32
  let v2989 : BitVec 1 := Scalar.cmpi .slt c4_i32_1133 c0_i32_1137
  let v2990 : BitVec 32 := Scalar.extui v2989
  let v2991 : BitVec 32 := Scalar.subi v2988 v2990
  let v2992 : BitVec 1 := Scalar.cmpi .ne v2986 v2991
  let v2993 : BitVec 32 := Scalar.remsi v2979 c4_i32_1133
  let c0_i32_1138 : BitVec 32 := 0#32
  let v2994 : BitVec 1 := Scalar.cmpi .ne v2993 c0_i32_1138
  let v2995 : BitVec 1 := Scalar.andi v2992 v2994
  let v2981 : BitVec 32 := Scalar.divsi v2979 c4_i32_1133
  let c1_i32_1139 : BitVec 32 := 1#32
  let v2996 : BitVec 32 := Scalar.subi v2981 c1_i32_1139
  let v2997 : BitVec 32 := Scalar.select v2995 v2996 v2981
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2998 : BitVec 1 := Scalar.cmpi .eq v2997 v2356
  let v2999 : BitVec 1 := Scalar.andi v2980 v2998
  let v3000 : BitVec 32 := Scalar.extui v2999
  let c0_i32_1140 : BitVec 32 := 0#32
  let v3001 : BitVec 1 := Scalar.cmpi .ne v3000 c0_i32_1140
  v3001

@[reducible] def k0_t63_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off318 (v2962 : BitVec 32) (k0_t63 : Fin k0_t63_loop.trips) : Fin 2 → Nat :=
  let c0_i32_1453 : BitVec 32 := 0#32
  let c1_i32_1455 : BitVec 32 := 1#32
  let arg19 : BitVec 32 := Scf.iv c0_i32_1453 c1_i32_1455 k0_t63
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2962 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off319 (v2960 : BitVec 32) (k0_t63 : Fin k0_t63_loop.trips) : Fin 2 → Nat :=
  let c0_i32_1126 : BitVec 32 := 0#32
  let v2964 : BitVec 1 := Scalar.cmpi .sgt v2960 c0_i32_1126
  let v2965 : BitVec 32 := Scalar.extui v2964
  let c0_i32_1127 : BitVec 32 := 0#32
  let v2966 : BitVec 1 := Scalar.cmpi .slt v2960 c0_i32_1127
  let v2967 : BitVec 32 := Scalar.extui v2966
  let v2968 : BitVec 32 := Scalar.subi v2965 v2967
  let c16_i32_1125 : BitVec 32 := 16#32
  let c0_i32_1128 : BitVec 32 := 0#32
  let v2969 : BitVec 1 := Scalar.cmpi .sgt c16_i32_1125 c0_i32_1128
  let v2970 : BitVec 32 := Scalar.extui v2969
  let c0_i32_1129 : BitVec 32 := 0#32
  let v2971 : BitVec 1 := Scalar.cmpi .slt c16_i32_1125 c0_i32_1129
  let v2972 : BitVec 32 := Scalar.extui v2971
  let v2973 : BitVec 32 := Scalar.subi v2970 v2972
  let v2974 : BitVec 1 := Scalar.cmpi .ne v2968 v2973
  let v2975 : BitVec 32 := Scalar.remsi v2960 c16_i32_1125
  let c0_i32_1130 : BitVec 32 := 0#32
  let v2976 : BitVec 1 := Scalar.cmpi .ne v2975 c0_i32_1130
  let v2977 : BitVec 1 := Scalar.andi v2974 v2976
  let v2963 : BitVec 32 := Scalar.divsi v2960 c16_i32_1125
  let c1_i32_1131 : BitVec 32 := 1#32
  let v2978 : BitVec 32 := Scalar.subi v2963 c1_i32_1131
  let v2979 : BitVec 32 := Scalar.select v2977 v2978 v2963
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2979 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t63
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2960 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off320 (v2962 : BitVec 32) (k0_t63 : Fin k0_t63_loop.trips) : Fin 2 → Nat :=
  let c0_i32_1453 : BitVec 32 := 0#32
  let c1_i32_1455 : BitVec 32 := 1#32
  let arg19 : BitVec 32 := Scf.iv c0_i32_1453 c1_i32_1455 k0_t63
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2962 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk125 (i : grid0.Coords) (v25 : BitVec 32) (v2960 : BitVec 32) (v2962 : BitVec 32) : Prop :=
  (∀ (k0_h63 : k0_cond63 i v25 v2960 = 1#1), ∀ a, (k0_off317 i v2962) a + S32x512.size a ≤ S4096x512.size a) ∧
  (∀ k0_t63 : Fin k0_t63_loop.trips, ∀ (k0_h63 : k0_cond63 i v25 v2960 = 1#1), ∀ a, (k0_off318 v2962 k0_t63) a + S1x16.size a ≤ S32x512.size a) ∧
  (∀ k0_t63 : Fin k0_t63_loop.trips, ∀ (k0_h63 : k0_cond63 i v25 v2960 = 1#1), ∀ a, (k0_off320 v2962 k0_t63) a + S1x16.size a ≤ S32x512.size a)
theorem k0_off317_inb : ∀ (i : grid0.Coords) (v25 : BitVec 32) (v2960 : BitVec 32) (v2962 : BitVec 32) (k0_hw125 : k0_chk125 i v25 v2960 v2962), ∀ (k0_h63 : k0_cond63 i v25 v2960 = 1#1), ∀ a, (k0_off317 i v2962) a + S32x512.size a ≤ S4096x512.size a := fun i v25 v2960 v2962 k0_hw125 k0_h63 => k0_hw125.1 k0_h63
theorem k0_off318_inb : ∀ (i : grid0.Coords) (v25 : BitVec 32) (v2960 : BitVec 32) (v2962 : BitVec 32) (k0_hw125 : k0_chk125 i v25 v2960 v2962) (k0_t63 : Fin k0_t63_loop.trips), ∀ (k0_h63 : k0_cond63 i v25 v2960 = 1#1), ∀ a, (k0_off318 v2962 k0_t63) a + S1x16.size a ≤ S32x512.size a := fun i v25 v2960 v2962 k0_hw125 k0_t63 k0_h63 => k0_hw125.2.1 k0_t63 k0_h63
theorem k0_off320_inb : ∀ (i : grid0.Coords) (v25 : BitVec 32) (v2960 : BitVec 32) (v2962 : BitVec 32) (k0_hw125 : k0_chk125 i v25 v2960 v2962) (k0_t63 : Fin k0_t63_loop.trips), ∀ (k0_h63 : k0_cond63 i v25 v2960 = 1#1), ∀ a, (k0_off320 v2962 k0_t63) a + S1x16.size a ≤ S32x512.size a := fun i v25 v2960 v2962 k0_hw125 k0_t63 k0_h63 => k0_hw125.2.2 k0_t63 k0_h63

def k0_off321 (v2960 : BitVec 32) (k0_t63 : Fin k0_t63_loop.trips) : Fin 2 → Nat :=
  let c0_i32_1126 : BitVec 32 := 0#32
  let v2964 : BitVec 1 := Scalar.cmpi .sgt v2960 c0_i32_1126
  let v2965 : BitVec 32 := Scalar.extui v2964
  let c0_i32_1127 : BitVec 32 := 0#32
  let v2966 : BitVec 1 := Scalar.cmpi .slt v2960 c0_i32_1127
  let v2967 : BitVec 32 := Scalar.extui v2966
  let v2968 : BitVec 32 := Scalar.subi v2965 v2967
  let c16_i32_1125 : BitVec 32 := 16#32
  let c0_i32_1128 : BitVec 32 := 0#32
  let v2969 : BitVec 1 := Scalar.cmpi .sgt c16_i32_1125 c0_i32_1128
  let v2970 : BitVec 32 := Scalar.extui v2969
  let c0_i32_1129 : BitVec 32 := 0#32
  let v2971 : BitVec 1 := Scalar.cmpi .slt c16_i32_1125 c0_i32_1129
  let v2972 : BitVec 32 := Scalar.extui v2971
  let v2973 : BitVec 32 := Scalar.subi v2970 v2972
  let v2974 : BitVec 1 := Scalar.cmpi .ne v2968 v2973
  let v2975 : BitVec 32 := Scalar.remsi v2960 c16_i32_1125
  let c0_i32_1130 : BitVec 32 := 0#32
  let v2976 : BitVec 1 := Scalar.cmpi .ne v2975 c0_i32_1130
  let v2977 : BitVec 1 := Scalar.andi v2974 v2976
  let v2963 : BitVec 32 := Scalar.divsi v2960 c16_i32_1125
  let c1_i32_1131 : BitVec 32 := 1#32
  let v2978 : BitVec 32 := Scalar.subi v2963 c1_i32_1131
  let v2979 : BitVec 32 := Scalar.select v2977 v2978 v2963
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2979 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t63
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2960 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk126 (i : grid0.Coords) (v25 : BitVec 32) (v2960 : BitVec 32) : Prop :=
  (∀ k0_t63 : Fin k0_t63_loop.trips, ∀ (k0_h63 : k0_cond63 i v25 v2960 = 1#1), ∀ a, (k0_off319 v2960 k0_t63) a + S1x16.size a ≤ S128x512.size a) ∧
  (∀ k0_t63 : Fin k0_t63_loop.trips, ∀ (k0_h63 : k0_cond63 i v25 v2960 = 1#1), ∀ a, (k0_off321 v2960 k0_t63) a + S1x16.size a ≤ S128x512.size a)
theorem k0_off319_inb : ∀ (i : grid0.Coords) (v25 : BitVec 32) (v2960 : BitVec 32) (k0_hw126 : k0_chk126 i v25 v2960) (k0_t63 : Fin k0_t63_loop.trips), ∀ (k0_h63 : k0_cond63 i v25 v2960 = 1#1), ∀ a, (k0_off319 v2960 k0_t63) a + S1x16.size a ≤ S128x512.size a := fun i v25 v2960 k0_hw126 k0_t63 k0_h63 => k0_hw126.1 k0_t63 k0_h63
theorem k0_off321_inb : ∀ (i : grid0.Coords) (v25 : BitVec 32) (v2960 : BitVec 32) (k0_hw126 : k0_chk126 i v25 v2960) (k0_t63 : Fin k0_t63_loop.trips), ∀ (k0_h63 : k0_cond63 i v25 v2960 = 1#1), ∀ a, (k0_off321 v2960 k0_t63) a + S1x16.size a ≤ S128x512.size a := fun i v25 v2960 k0_hw126 k0_t63 k0_h63 => k0_hw126.2 k0_t63 k0_h63

def k0_off322 (i : grid0.Coords) (v3005 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v3005 c0_i32_1428
  let v3763 : BitVec 32 := Scalar.extui v3762
  let c0_i32_1429 : BitVec 32 := 0#32
  let v3764 : BitVec 1 := Scalar.cmpi .slt v3005 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3005 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3005 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r73 : BitVec 32 := 0#32
  ![v3779.toNat, 0]
def k0_cond64 (i : grid0.Coords) (v25 : BitVec 32) (v3003 : BitVec 32) : BitVec 1 :=
  let c15_i32_1148 : BitVec 32 := 15#32
  let v3023 : BitVec 1 := Scalar.cmpi .sgt v25 c15_i32_1148
  let c0_i32_1142 : BitVec 32 := 0#32
  let v3007 : BitVec 1 := Scalar.cmpi .sgt v3003 c0_i32_1142
  let v3008 : BitVec 32 := Scalar.extui v3007
  let c0_i32_1143 : BitVec 32 := 0#32
  let v3009 : BitVec 1 := Scalar.cmpi .slt v3003 c0_i32_1143
  let v3010 : BitVec 32 := Scalar.extui v3009
  let v3011 : BitVec 32 := Scalar.subi v3008 v3010
  let c16_i32_1141 : BitVec 32 := 16#32
  let c0_i32_1144 : BitVec 32 := 0#32
  let v3012 : BitVec 1 := Scalar.cmpi .sgt c16_i32_1141 c0_i32_1144
  let v3013 : BitVec 32 := Scalar.extui v3012
  let c0_i32_1145 : BitVec 32 := 0#32
  let v3014 : BitVec 1 := Scalar.cmpi .slt c16_i32_1141 c0_i32_1145
  let v3015 : BitVec 32 := Scalar.extui v3014
  let v3016 : BitVec 32 := Scalar.subi v3013 v3015
  let v3017 : BitVec 1 := Scalar.cmpi .ne v3011 v3016
  let v3018 : BitVec 32 := Scalar.remsi v3003 c16_i32_1141
  let c0_i32_1146 : BitVec 32 := 0#32
  let v3019 : BitVec 1 := Scalar.cmpi .ne v3018 c0_i32_1146
  let v3020 : BitVec 1 := Scalar.andi v3017 v3019
  let v3006 : BitVec 32 := Scalar.divsi v3003 c16_i32_1141
  let c1_i32_1147 : BitVec 32 := 1#32
  let v3021 : BitVec 32 := Scalar.subi v3006 c1_i32_1147
  let v3022 : BitVec 32 := Scalar.select v3020 v3021 v3006
  let c0_i32_1150 : BitVec 32 := 0#32
  let v3025 : BitVec 1 := Scalar.cmpi .sgt v3022 c0_i32_1150
  let v3026 : BitVec 32 := Scalar.extui v3025
  let c0_i32_1151 : BitVec 32 := 0#32
  let v3027 : BitVec 1 := Scalar.cmpi .slt v3022 c0_i32_1151
  let v3028 : BitVec 32 := Scalar.extui v3027
  let v3029 : BitVec 32 := Scalar.subi v3026 v3028
  let c4_i32_1149 : BitVec 32 := 4#32
  let c0_i32_1152 : BitVec 32 := 0#32
  let v3030 : BitVec 1 := Scalar.cmpi .sgt c4_i32_1149 c0_i32_1152
  let v3031 : BitVec 32 := Scalar.extui v3030
  let c0_i32_1153 : BitVec 32 := 0#32
  let v3032 : BitVec 1 := Scalar.cmpi .slt c4_i32_1149 c0_i32_1153
  let v3033 : BitVec 32 := Scalar.extui v3032
  let v3034 : BitVec 32 := Scalar.subi v3031 v3033
  let v3035 : BitVec 1 := Scalar.cmpi .ne v3029 v3034
  let v3036 : BitVec 32 := Scalar.remsi v3022 c4_i32_1149
  let c0_i32_1154 : BitVec 32 := 0#32
  let v3037 : BitVec 1 := Scalar.cmpi .ne v3036 c0_i32_1154
  let v3038 : BitVec 1 := Scalar.andi v3035 v3037
  let v3024 : BitVec 32 := Scalar.divsi v3022 c4_i32_1149
  let c1_i32_1155 : BitVec 32 := 1#32
  let v3039 : BitVec 32 := Scalar.subi v3024 c1_i32_1155
  let v3040 : BitVec 32 := Scalar.select v3038 v3039 v3024
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v3041 : BitVec 1 := Scalar.cmpi .eq v3040 v2356
  let v3042 : BitVec 1 := Scalar.andi v3023 v3041
  let v3043 : BitVec 32 := Scalar.extui v3042
  let c0_i32_1156 : BitVec 32 := 0#32
  let v3044 : BitVec 1 := Scalar.cmpi .ne v3043 c0_i32_1156
  v3044

@[reducible] def k0_t64_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off323 (v3005 : BitVec 32) (k0_t64 : Fin k0_t64_loop.trips) : Fin 2 → Nat :=
  let c0_i32_1453 : BitVec 32 := 0#32
  let c1_i32_1455 : BitVec 32 := 1#32
  let arg19 : BitVec 32 := Scf.iv c0_i32_1453 c1_i32_1455 k0_t64
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3005 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off324 (v3003 : BitVec 32) (k0_t64 : Fin k0_t64_loop.trips) : Fin 2 → Nat :=
  let c0_i32_1142 : BitVec 32 := 0#32
  let v3007 : BitVec 1 := Scalar.cmpi .sgt v3003 c0_i32_1142
  let v3008 : BitVec 32 := Scalar.extui v3007
  let c0_i32_1143 : BitVec 32 := 0#32
  let v3009 : BitVec 1 := Scalar.cmpi .slt v3003 c0_i32_1143
  let v3010 : BitVec 32 := Scalar.extui v3009
  let v3011 : BitVec 32 := Scalar.subi v3008 v3010
  let c16_i32_1141 : BitVec 32 := 16#32
  let c0_i32_1144 : BitVec 32 := 0#32
  let v3012 : BitVec 1 := Scalar.cmpi .sgt c16_i32_1141 c0_i32_1144
  let v3013 : BitVec 32 := Scalar.extui v3012
  let c0_i32_1145 : BitVec 32 := 0#32
  let v3014 : BitVec 1 := Scalar.cmpi .slt c16_i32_1141 c0_i32_1145
  let v3015 : BitVec 32 := Scalar.extui v3014
  let v3016 : BitVec 32 := Scalar.subi v3013 v3015
  let v3017 : BitVec 1 := Scalar.cmpi .ne v3011 v3016
  let v3018 : BitVec 32 := Scalar.remsi v3003 c16_i32_1141
  let c0_i32_1146 : BitVec 32 := 0#32
  let v3019 : BitVec 1 := Scalar.cmpi .ne v3018 c0_i32_1146
  let v3020 : BitVec 1 := Scalar.andi v3017 v3019
  let v3006 : BitVec 32 := Scalar.divsi v3003 c16_i32_1141
  let c1_i32_1147 : BitVec 32 := 1#32
  let v3021 : BitVec 32 := Scalar.subi v3006 c1_i32_1147
  let v3022 : BitVec 32 := Scalar.select v3020 v3021 v3006
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3022 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t64
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3003 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off325 (v3005 : BitVec 32) (k0_t64 : Fin k0_t64_loop.trips) : Fin 2 → Nat :=
  let c0_i32_1453 : BitVec 32 := 0#32
  let c1_i32_1455 : BitVec 32 := 1#32
  let arg19 : BitVec 32 := Scf.iv c0_i32_1453 c1_i32_1455 k0_t64
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3005 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk127 (i : grid0.Coords) (v25 : BitVec 32) (v3003 : BitVec 32) (v3005 : BitVec 32) : Prop :=
  (∀ (k0_h64 : k0_cond64 i v25 v3003 = 1#1), ∀ a, (k0_off322 i v3005) a + S32x512.size a ≤ S4096x512.size a) ∧
  (∀ k0_t64 : Fin k0_t64_loop.trips, ∀ (k0_h64 : k0_cond64 i v25 v3003 = 1#1), ∀ a, (k0_off323 v3005 k0_t64) a + S1x16.size a ≤ S32x512.size a) ∧
  (∀ k0_t64 : Fin k0_t64_loop.trips, ∀ (k0_h64 : k0_cond64 i v25 v3003 = 1#1), ∀ a, (k0_off325 v3005 k0_t64) a + S1x16.size a ≤ S32x512.size a)
theorem k0_off322_inb : ∀ (i : grid0.Coords) (v25 : BitVec 32) (v3003 : BitVec 32) (v3005 : BitVec 32) (k0_hw127 : k0_chk127 i v25 v3003 v3005), ∀ (k0_h64 : k0_cond64 i v25 v3003 = 1#1), ∀ a, (k0_off322 i v3005) a + S32x512.size a ≤ S4096x512.size a := fun i v25 v3003 v3005 k0_hw127 k0_h64 => k0_hw127.1 k0_h64
theorem k0_off323_inb : ∀ (i : grid0.Coords) (v25 : BitVec 32) (v3003 : BitVec 32) (v3005 : BitVec 32) (k0_hw127 : k0_chk127 i v25 v3003 v3005) (k0_t64 : Fin k0_t64_loop.trips), ∀ (k0_h64 : k0_cond64 i v25 v3003 = 1#1), ∀ a, (k0_off323 v3005 k0_t64) a + S1x16.size a ≤ S32x512.size a := fun i v25 v3003 v3005 k0_hw127 k0_t64 k0_h64 => k0_hw127.2.1 k0_t64 k0_h64
theorem k0_off325_inb : ∀ (i : grid0.Coords) (v25 : BitVec 32) (v3003 : BitVec 32) (v3005 : BitVec 32) (k0_hw127 : k0_chk127 i v25 v3003 v3005) (k0_t64 : Fin k0_t64_loop.trips), ∀ (k0_h64 : k0_cond64 i v25 v3003 = 1#1), ∀ a, (k0_off325 v3005 k0_t64) a + S1x16.size a ≤ S32x512.size a := fun i v25 v3003 v3005 k0_hw127 k0_t64 k0_h64 => k0_hw127.2.2 k0_t64 k0_h64

def k0_off326 (v3003 : BitVec 32) (k0_t64 : Fin k0_t64_loop.trips) : Fin 2 → Nat :=
  let c0_i32_1142 : BitVec 32 := 0#32
  let v3007 : BitVec 1 := Scalar.cmpi .sgt v3003 c0_i32_1142
  let v3008 : BitVec 32 := Scalar.extui v3007
  let c0_i32_1143 : BitVec 32 := 0#32
  let v3009 : BitVec 1 := Scalar.cmpi .slt v3003 c0_i32_1143
  let v3010 : BitVec 32 := Scalar.extui v3009
  let v3011 : BitVec 32 := Scalar.subi v3008 v3010
  let c16_i32_1141 : BitVec 32 := 16#32
  let c0_i32_1144 : BitVec 32 := 0#32
  let v3012 : BitVec 1 := Scalar.cmpi .sgt c16_i32_1141 c0_i32_1144
  let v3013 : BitVec 32 := Scalar.extui v3012
  let c0_i32_1145 : BitVec 32 := 0#32
  let v3014 : BitVec 1 := Scalar.cmpi .slt c16_i32_1141 c0_i32_1145
  let v3015 : BitVec 32 := Scalar.extui v3014
  let v3016 : BitVec 32 := Scalar.subi v3013 v3015
  let v3017 : BitVec 1 := Scalar.cmpi .ne v3011 v3016
  let v3018 : BitVec 32 := Scalar.remsi v3003 c16_i32_1141
  let c0_i32_1146 : BitVec 32 := 0#32
  let v3019 : BitVec 1 := Scalar.cmpi .ne v3018 c0_i32_1146
  let v3020 : BitVec 1 := Scalar.andi v3017 v3019
  let v3006 : BitVec 32 := Scalar.divsi v3003 c16_i32_1141
  let c1_i32_1147 : BitVec 32 := 1#32
  let v3021 : BitVec 32 := Scalar.subi v3006 c1_i32_1147
  let v3022 : BitVec 32 := Scalar.select v3020 v3021 v3006
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3022 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t64
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3003 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk128 (i : grid0.Coords) (v25 : BitVec 32) (v3003 : BitVec 32) : Prop :=
  (∀ k0_t64 : Fin k0_t64_loop.trips, ∀ (k0_h64 : k0_cond64 i v25 v3003 = 1#1), ∀ a, (k0_off324 v3003 k0_t64) a + S1x16.size a ≤ S128x512.size a) ∧
  (∀ k0_t64 : Fin k0_t64_loop.trips, ∀ (k0_h64 : k0_cond64 i v25 v3003 = 1#1), ∀ a, (k0_off326 v3003 k0_t64) a + S1x16.size a ≤ S128x512.size a)
theorem k0_off324_inb : ∀ (i : grid0.Coords) (v25 : BitVec 32) (v3003 : BitVec 32) (k0_hw128 : k0_chk128 i v25 v3003) (k0_t64 : Fin k0_t64_loop.trips), ∀ (k0_h64 : k0_cond64 i v25 v3003 = 1#1), ∀ a, (k0_off324 v3003 k0_t64) a + S1x16.size a ≤ S128x512.size a := fun i v25 v3003 k0_hw128 k0_t64 k0_h64 => k0_hw128.1 k0_t64 k0_h64
theorem k0_off326_inb : ∀ (i : grid0.Coords) (v25 : BitVec 32) (v3003 : BitVec 32) (k0_hw128 : k0_chk128 i v25 v3003) (k0_t64 : Fin k0_t64_loop.trips), ∀ (k0_h64 : k0_cond64 i v25 v3003 = 1#1), ∀ a, (k0_off326 v3003 k0_t64) a + S1x16.size a ≤ S128x512.size a := fun i v25 v3003 k0_hw128 k0_t64 k0_h64 => k0_hw128.2 k0_t64 k0_h64

def k0_off327 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c0_i32_1427_r74 : BitVec 32 := 0#32
  ![v2328.toNat, 0]
def k0_off328 (i : grid0.Coords) (v3076 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3076 c0_i32_1428
  let v3763 : BitVec 32 := Scalar.extui v3762
  let c0_i32_1429 : BitVec 32 := 0#32
  let v3764 : BitVec 1 := Scalar.cmpi .slt v3076 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3076 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3076 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r76 : BitVec 32 := 0#32
  ![v3779.toNat, 0]
def k0_cond65 (i : grid0.Coords) (v25 : BitVec 32) (v3074 : BitVec 32) : BitVec 1 :=
  let c0_i32_1178 : BitVec 32 := 0#32
  let v3094 : BitVec 1 := Scalar.cmpi .sgt v25 c0_i32_1178
  let c0_i32_1172 : BitVec 32 := 0#32
  let v3078 : BitVec 1 := Scalar.cmpi .sgt v3074 c0_i32_1172
  let v3079 : BitVec 32 := Scalar.extui v3078
  let c0_i32_1173 : BitVec 32 := 0#32
  let v3080 : BitVec 1 := Scalar.cmpi .slt v3074 c0_i32_1173
  let v3081 : BitVec 32 := Scalar.extui v3080
  let v3082 : BitVec 32 := Scalar.subi v3079 v3081
  let c16_i32_1171 : BitVec 32 := 16#32
  let c0_i32_1174 : BitVec 32 := 0#32
  let v3083 : BitVec 1 := Scalar.cmpi .sgt c16_i32_1171 c0_i32_1174
  let v3084 : BitVec 32 := Scalar.extui v3083
  let c0_i32_1175 : BitVec 32 := 0#32
  let v3085 : BitVec 1 := Scalar.cmpi .slt c16_i32_1171 c0_i32_1175
  let v3086 : BitVec 32 := Scalar.extui v3085
  let v3087 : BitVec 32 := Scalar.subi v3084 v3086
  let v3088 : BitVec 1 := Scalar.cmpi .ne v3082 v3087
  let v3089 : BitVec 32 := Scalar.remsi v3074 c16_i32_1171
  let c0_i32_1176 : BitVec 32 := 0#32
  let v3090 : BitVec 1 := Scalar.cmpi .ne v3089 c0_i32_1176
  let v3091 : BitVec 1 := Scalar.andi v3088 v3090
  let v3077 : BitVec 32 := Scalar.divsi v3074 c16_i32_1171
  let c1_i32_1177 : BitVec 32 := 1#32
  let v3092 : BitVec 32 := Scalar.subi v3077 c1_i32_1177
  let v3093 : BitVec 32 := Scalar.select v3091 v3092 v3077
  let c0_i32_1180 : BitVec 32 := 0#32
  let v3096 : BitVec 1 := Scalar.cmpi .sgt v3093 c0_i32_1180
  let v3097 : BitVec 32 := Scalar.extui v3096
  let c0_i32_1181 : BitVec 32 := 0#32
  let v3098 : BitVec 1 := Scalar.cmpi .slt v3093 c0_i32_1181
  let v3099 : BitVec 32 := Scalar.extui v3098
  let v3100 : BitVec 32 := Scalar.subi v3097 v3099
  let c4_i32_1179 : BitVec 32 := 4#32
  let c0_i32_1182 : BitVec 32 := 0#32
  let v3101 : BitVec 1 := Scalar.cmpi .sgt c4_i32_1179 c0_i32_1182
  let v3102 : BitVec 32 := Scalar.extui v3101
  let c0_i32_1183 : BitVec 32 := 0#32
  let v3103 : BitVec 1 := Scalar.cmpi .slt c4_i32_1179 c0_i32_1183
  let v3104 : BitVec 32 := Scalar.extui v3103
  let v3105 : BitVec 32 := Scalar.subi v3102 v3104
  let v3106 : BitVec 1 := Scalar.cmpi .ne v3100 v3105
  let v3107 : BitVec 32 := Scalar.remsi v3093 c4_i32_1179
  let c0_i32_1184 : BitVec 32 := 0#32
  let v3108 : BitVec 1 := Scalar.cmpi .ne v3107 c0_i32_1184
  let v3109 : BitVec 1 := Scalar.andi v3106 v3108
  let v3095 : BitVec 32 := Scalar.divsi v3093 c4_i32_1179
  let c1_i32_1185 : BitVec 32 := 1#32
  let v3110 : BitVec 32 := Scalar.subi v3095 c1_i32_1185
  let v3111 : BitVec 32 := Scalar.select v3109 v3110 v3095
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3112 : BitVec 1 := Scalar.cmpi .eq v3111 v3072
  let v3113 : BitVec 1 := Scalar.andi v3094 v3112
  let v3114 : BitVec 32 := Scalar.extui v3113
  let c0_i32_1186 : BitVec 32 := 0#32
  let v3115 : BitVec 1 := Scalar.cmpi .ne v3114 c0_i32_1186
  v3115

@[reducible] def k0_t65_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off329 (v3076 : BitVec 32) (k0_t65 : Fin k0_t65_loop.trips) : Fin 2 → Nat :=
  let c0_i32_1453 : BitVec 32 := 0#32
  let c1_i32_1455 : BitVec 32 := 1#32
  let arg19 : BitVec 32 := Scf.iv c0_i32_1453 c1_i32_1455 k0_t65
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3076 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off330 (v3074 : BitVec 32) (k0_t65 : Fin k0_t65_loop.trips) : Fin 2 → Nat :=
  let c0_i32_1172 : BitVec 32 := 0#32
  let v3078 : BitVec 1 := Scalar.cmpi .sgt v3074 c0_i32_1172
  let v3079 : BitVec 32 := Scalar.extui v3078
  let c0_i32_1173 : BitVec 32 := 0#32
  let v3080 : BitVec 1 := Scalar.cmpi .slt v3074 c0_i32_1173
  let v3081 : BitVec 32 := Scalar.extui v3080
  let v3082 : BitVec 32 := Scalar.subi v3079 v3081
  let c16_i32_1171 : BitVec 32 := 16#32
  let c0_i32_1174 : BitVec 32 := 0#32
  let v3083 : BitVec 1 := Scalar.cmpi .sgt c16_i32_1171 c0_i32_1174
  let v3084 : BitVec 32 := Scalar.extui v3083
  let c0_i32_1175 : BitVec 32 := 0#32
  let v3085 : BitVec 1 := Scalar.cmpi .slt c16_i32_1171 c0_i32_1175
  let v3086 : BitVec 32 := Scalar.extui v3085
  let v3087 : BitVec 32 := Scalar.subi v3084 v3086
  let v3088 : BitVec 1 := Scalar.cmpi .ne v3082 v3087
  let v3089 : BitVec 32 := Scalar.remsi v3074 c16_i32_1171
  let c0_i32_1176 : BitVec 32 := 0#32
  let v3090 : BitVec 1 := Scalar.cmpi .ne v3089 c0_i32_1176
  let v3091 : BitVec 1 := Scalar.andi v3088 v3090
  let v3077 : BitVec 32 := Scalar.divsi v3074 c16_i32_1171
  let c1_i32_1177 : BitVec 32 := 1#32
  let v3092 : BitVec 32 := Scalar.subi v3077 c1_i32_1177
  let v3093 : BitVec 32 := Scalar.select v3091 v3092 v3077
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3093 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t65
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3074 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off331 (v3076 : BitVec 32) (k0_t65 : Fin k0_t65_loop.trips) : Fin 2 → Nat :=
  let c0_i32_1453 : BitVec 32 := 0#32
  let c1_i32_1455 : BitVec 32 := 1#32
  let arg19 : BitVec 32 := Scf.iv c0_i32_1453 c1_i32_1455 k0_t65
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3076 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk129 (i : grid0.Coords) (v25 : BitVec 32) (v3074 : BitVec 32) (v3076 : BitVec 32) : Prop :=
  (∀ (k0_h65 : k0_cond65 i v25 v3074 = 1#1), ∀ a, (k0_off328 i v3076) a + S32x512.size a ≤ S4096x512.size a) ∧
  (∀ k0_t65 : Fin k0_t65_loop.trips, ∀ (k0_h65 : k0_cond65 i v25 v3074 = 1#1), ∀ a, (k0_off329 v3076 k0_t65) a + S1x16.size a ≤ S32x512.size a) ∧
  (∀ k0_t65 : Fin k0_t65_loop.trips, ∀ (k0_h65 : k0_cond65 i v25 v3074 = 1#1), ∀ a, (k0_off331 v3076 k0_t65) a + S1x16.size a ≤ S32x512.size a)
theorem k0_off328_inb : ∀ (i : grid0.Coords) (v25 : BitVec 32) (v3074 : BitVec 32) (v3076 : BitVec 32) (k0_hw129 : k0_chk129 i v25 v3074 v3076), ∀ (k0_h65 : k0_cond65 i v25 v3074 = 1#1), ∀ a, (k0_off328 i v3076) a + S32x512.size a ≤ S4096x512.size a := fun i v25 v3074 v3076 k0_hw129 k0_h65 => k0_hw129.1 k0_h65
theorem k0_off329_inb : ∀ (i : grid0.Coords) (v25 : BitVec 32) (v3074 : BitVec 32) (v3076 : BitVec 32) (k0_hw129 : k0_chk129 i v25 v3074 v3076) (k0_t65 : Fin k0_t65_loop.trips), ∀ (k0_h65 : k0_cond65 i v25 v3074 = 1#1), ∀ a, (k0_off329 v3076 k0_t65) a + S1x16.size a ≤ S32x512.size a := fun i v25 v3074 v3076 k0_hw129 k0_t65 k0_h65 => k0_hw129.2.1 k0_t65 k0_h65
theorem k0_off331_inb : ∀ (i : grid0.Coords) (v25 : BitVec 32) (v3074 : BitVec 32) (v3076 : BitVec 32) (k0_hw129 : k0_chk129 i v25 v3074 v3076) (k0_t65 : Fin k0_t65_loop.trips), ∀ (k0_h65 : k0_cond65 i v25 v3074 = 1#1), ∀ a, (k0_off331 v3076 k0_t65) a + S1x16.size a ≤ S32x512.size a := fun i v25 v3074 v3076 k0_hw129 k0_t65 k0_h65 => k0_hw129.2.2 k0_t65 k0_h65

def k0_off332 (v3074 : BitVec 32) (k0_t65 : Fin k0_t65_loop.trips) : Fin 2 → Nat :=
  let c0_i32_1172 : BitVec 32 := 0#32
  let v3078 : BitVec 1 := Scalar.cmpi .sgt v3074 c0_i32_1172
  let v3079 : BitVec 32 := Scalar.extui v3078
  let c0_i32_1173 : BitVec 32 := 0#32
  let v3080 : BitVec 1 := Scalar.cmpi .slt v3074 c0_i32_1173
  let v3081 : BitVec 32 := Scalar.extui v3080
  let v3082 : BitVec 32 := Scalar.subi v3079 v3081
  let c16_i32_1171 : BitVec 32 := 16#32
  let c0_i32_1174 : BitVec 32 := 0#32
  let v3083 : BitVec 1 := Scalar.cmpi .sgt c16_i32_1171 c0_i32_1174
  let v3084 : BitVec 32 := Scalar.extui v3083
  let c0_i32_1175 : BitVec 32 := 0#32
  let v3085 : BitVec 1 := Scalar.cmpi .slt c16_i32_1171 c0_i32_1175
  let v3086 : BitVec 32 := Scalar.extui v3085
  let v3087 : BitVec 32 := Scalar.subi v3084 v3086
  let v3088 : BitVec 1 := Scalar.cmpi .ne v3082 v3087
  let v3089 : BitVec 32 := Scalar.remsi v3074 c16_i32_1171
  let c0_i32_1176 : BitVec 32 := 0#32
  let v3090 : BitVec 1 := Scalar.cmpi .ne v3089 c0_i32_1176
  let v3091 : BitVec 1 := Scalar.andi v3088 v3090
  let v3077 : BitVec 32 := Scalar.divsi v3074 c16_i32_1171
  let c1_i32_1177 : BitVec 32 := 1#32
  let v3092 : BitVec 32 := Scalar.subi v3077 c1_i32_1177
  let v3093 : BitVec 32 := Scalar.select v3091 v3092 v3077
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3093 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t65
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3074 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk130 (i : grid0.Coords) (v25 : BitVec 32) (v3074 : BitVec 32) : Prop :=
  (∀ k0_t65 : Fin k0_t65_loop.trips, ∀ (k0_h65 : k0_cond65 i v25 v3074 = 1#1), ∀ a, (k0_off330 v3074 k0_t65) a + S1x16.size a ≤ S128x512.size a) ∧
  (∀ k0_t65 : Fin k0_t65_loop.trips, ∀ (k0_h65 : k0_cond65 i v25 v3074 = 1#1), ∀ a, (k0_off332 v3074 k0_t65) a + S1x16.size a ≤ S128x512.size a)
theorem k0_off330_inb : ∀ (i : grid0.Coords) (v25 : BitVec 32) (v3074 : BitVec 32) (k0_hw130 : k0_chk130 i v25 v3074) (k0_t65 : Fin k0_t65_loop.trips), ∀ (k0_h65 : k0_cond65 i v25 v3074 = 1#1), ∀ a, (k0_off330 v3074 k0_t65) a + S1x16.size a ≤ S128x512.size a := fun i v25 v3074 k0_hw130 k0_t65 k0_h65 => k0_hw130.1 k0_t65 k0_h65
theorem k0_off332_inb : ∀ (i : grid0.Coords) (v25 : BitVec 32) (v3074 : BitVec 32) (k0_hw130 : k0_chk130 i v25 v3074) (k0_t65 : Fin k0_t65_loop.trips), ∀ (k0_h65 : k0_cond65 i v25 v3074 = 1#1), ∀ a, (k0_off332 v3074 k0_t65) a + S1x16.size a ≤ S128x512.size a := fun i v25 v3074 k0_hw130 k0_t65 k0_h65 => k0_hw130.2 k0_t65 k0_h65

def k0_off333 (i : grid0.Coords) (v3119 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3119 c0_i32_1428
  let v3763 : BitVec 32 := Scalar.extui v3762
  let c0_i32_1429 : BitVec 32 := 0#32
  let v3764 : BitVec 1 := Scalar.cmpi .slt v3119 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3119 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3119 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r77 : BitVec 32 := 0#32
  ![v3779.toNat, 0]
def k0_cond66 (i : grid0.Coords) (v25 : BitVec 32) (v3117 : BitVec 32) : BitVec 1 :=
  let c1_i32_1194 : BitVec 32 := 1#32
  let v3137 : BitVec 1 := Scalar.cmpi .sgt v25 c1_i32_1194
  let c0_i32_1188 : BitVec 32 := 0#32
  let v3121 : BitVec 1 := Scalar.cmpi .sgt v3117 c0_i32_1188
  let v3122 : BitVec 32 := Scalar.extui v3121
  let c0_i32_1189 : BitVec 32 := 0#32
  let v3123 : BitVec 1 := Scalar.cmpi .slt v3117 c0_i32_1189
  let v3124 : BitVec 32 := Scalar.extui v3123
  let v3125 : BitVec 32 := Scalar.subi v3122 v3124
  let c16_i32_1187 : BitVec 32 := 16#32
  let c0_i32_1190 : BitVec 32 := 0#32
  let v3126 : BitVec 1 := Scalar.cmpi .sgt c16_i32_1187 c0_i32_1190
  let v3127 : BitVec 32 := Scalar.extui v3126
  let c0_i32_1191 : BitVec 32 := 0#32
  let v3128 : BitVec 1 := Scalar.cmpi .slt c16_i32_1187 c0_i32_1191
  let v3129 : BitVec 32 := Scalar.extui v3128
  let v3130 : BitVec 32 := Scalar.subi v3127 v3129
  let v3131 : BitVec 1 := Scalar.cmpi .ne v3125 v3130
  let v3132 : BitVec 32 := Scalar.remsi v3117 c16_i32_1187
  let c0_i32_1192 : BitVec 32 := 0#32
  let v3133 : BitVec 1 := Scalar.cmpi .ne v3132 c0_i32_1192
  let v3134 : BitVec 1 := Scalar.andi v3131 v3133
  let v3120 : BitVec 32 := Scalar.divsi v3117 c16_i32_1187
  let c1_i32_1193 : BitVec 32 := 1#32
  let v3135 : BitVec 32 := Scalar.subi v3120 c1_i32_1193
  let v3136 : BitVec 32 := Scalar.select v3134 v3135 v3120
  let c0_i32_1196 : BitVec 32 := 0#32
  let v3139 : BitVec 1 := Scalar.cmpi .sgt v3136 c0_i32_1196
  let v3140 : BitVec 32 := Scalar.extui v3139
  let c0_i32_1197 : BitVec 32 := 0#32
  let v3141 : BitVec 1 := Scalar.cmpi .slt v3136 c0_i32_1197
  let v3142 : BitVec 32 := Scalar.extui v3141
  let v3143 : BitVec 32 := Scalar.subi v3140 v3142
  let c4_i32_1195 : BitVec 32 := 4#32
  let c0_i32_1198 : BitVec 32 := 0#32
  let v3144 : BitVec 1 := Scalar.cmpi .sgt c4_i32_1195 c0_i32_1198
  let v3145 : BitVec 32 := Scalar.extui v3144
  let c0_i32_1199 : BitVec 32 := 0#32
  let v3146 : BitVec 1 := Scalar.cmpi .slt c4_i32_1195 c0_i32_1199
  let v3147 : BitVec 32 := Scalar.extui v3146
  let v3148 : BitVec 32 := Scalar.subi v3145 v3147
  let v3149 : BitVec 1 := Scalar.cmpi .ne v3143 v3148
  let v3150 : BitVec 32 := Scalar.remsi v3136 c4_i32_1195
  let c0_i32_1200 : BitVec 32 := 0#32
  let v3151 : BitVec 1 := Scalar.cmpi .ne v3150 c0_i32_1200
  let v3152 : BitVec 1 := Scalar.andi v3149 v3151
  let v3138 : BitVec 32 := Scalar.divsi v3136 c4_i32_1195
  let c1_i32_1201 : BitVec 32 := 1#32
  let v3153 : BitVec 32 := Scalar.subi v3138 c1_i32_1201
  let v3154 : BitVec 32 := Scalar.select v3152 v3153 v3138
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3155 : BitVec 1 := Scalar.cmpi .eq v3154 v3072
  let v3156 : BitVec 1 := Scalar.andi v3137 v3155
  let v3157 : BitVec 32 := Scalar.extui v3156
  let c0_i32_1202 : BitVec 32 := 0#32
  let v3158 : BitVec 1 := Scalar.cmpi .ne v3157 c0_i32_1202
  v3158

@[reducible] def k0_t66_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off334 (v3119 : BitVec 32) (k0_t66 : Fin k0_t66_loop.trips) : Fin 2 → Nat :=
  let c0_i32_1453 : BitVec 32 := 0#32
  let c1_i32_1455 : BitVec 32 := 1#32
  let arg19 : BitVec 32 := Scf.iv c0_i32_1453 c1_i32_1455 k0_t66
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3119 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off335 (v3117 : BitVec 32) (k0_t66 : Fin k0_t66_loop.trips) : Fin 2 → Nat :=
  let c0_i32_1188 : BitVec 32 := 0#32
  let v3121 : BitVec 1 := Scalar.cmpi .sgt v3117 c0_i32_1188
  let v3122 : BitVec 32 := Scalar.extui v3121
  let c0_i32_1189 : BitVec 32 := 0#32
  let v3123 : BitVec 1 := Scalar.cmpi .slt v3117 c0_i32_1189
  let v3124 : BitVec 32 := Scalar.extui v3123
  let v3125 : BitVec 32 := Scalar.subi v3122 v3124
  let c16_i32_1187 : BitVec 32 := 16#32
  let c0_i32_1190 : BitVec 32 := 0#32
  let v3126 : BitVec 1 := Scalar.cmpi .sgt c16_i32_1187 c0_i32_1190
  let v3127 : BitVec 32 := Scalar.extui v3126
  let c0_i32_1191 : BitVec 32 := 0#32
  let v3128 : BitVec 1 := Scalar.cmpi .slt c16_i32_1187 c0_i32_1191
  let v3129 : BitVec 32 := Scalar.extui v3128
  let v3130 : BitVec 32 := Scalar.subi v3127 v3129
  let v3131 : BitVec 1 := Scalar.cmpi .ne v3125 v3130
  let v3132 : BitVec 32 := Scalar.remsi v3117 c16_i32_1187
  let c0_i32_1192 : BitVec 32 := 0#32
  let v3133 : BitVec 1 := Scalar.cmpi .ne v3132 c0_i32_1192
  let v3134 : BitVec 1 := Scalar.andi v3131 v3133
  let v3120 : BitVec 32 := Scalar.divsi v3117 c16_i32_1187
  let c1_i32_1193 : BitVec 32 := 1#32
  let v3135 : BitVec 32 := Scalar.subi v3120 c1_i32_1193
  let v3136 : BitVec 32 := Scalar.select v3134 v3135 v3120
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3136 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t66
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3117 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off336 (v3119 : BitVec 32) (k0_t66 : Fin k0_t66_loop.trips) : Fin 2 → Nat :=
  let c0_i32_1453 : BitVec 32 := 0#32
  let c1_i32_1455 : BitVec 32 := 1#32
  let arg19 : BitVec 32 := Scf.iv c0_i32_1453 c1_i32_1455 k0_t66
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3119 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk131 (i : grid0.Coords) (v25 : BitVec 32) (v3117 : BitVec 32) (v3119 : BitVec 32) : Prop :=
  (∀ (k0_h66 : k0_cond66 i v25 v3117 = 1#1), ∀ a, (k0_off333 i v3119) a + S32x512.size a ≤ S4096x512.size a) ∧
  (∀ k0_t66 : Fin k0_t66_loop.trips, ∀ (k0_h66 : k0_cond66 i v25 v3117 = 1#1), ∀ a, (k0_off334 v3119 k0_t66) a + S1x16.size a ≤ S32x512.size a) ∧
  (∀ k0_t66 : Fin k0_t66_loop.trips, ∀ (k0_h66 : k0_cond66 i v25 v3117 = 1#1), ∀ a, (k0_off336 v3119 k0_t66) a + S1x16.size a ≤ S32x512.size a)
theorem k0_off333_inb : ∀ (i : grid0.Coords) (v25 : BitVec 32) (v3117 : BitVec 32) (v3119 : BitVec 32) (k0_hw131 : k0_chk131 i v25 v3117 v3119), ∀ (k0_h66 : k0_cond66 i v25 v3117 = 1#1), ∀ a, (k0_off333 i v3119) a + S32x512.size a ≤ S4096x512.size a := fun i v25 v3117 v3119 k0_hw131 k0_h66 => k0_hw131.1 k0_h66
theorem k0_off334_inb : ∀ (i : grid0.Coords) (v25 : BitVec 32) (v3117 : BitVec 32) (v3119 : BitVec 32) (k0_hw131 : k0_chk131 i v25 v3117 v3119) (k0_t66 : Fin k0_t66_loop.trips), ∀ (k0_h66 : k0_cond66 i v25 v3117 = 1#1), ∀ a, (k0_off334 v3119 k0_t66) a + S1x16.size a ≤ S32x512.size a := fun i v25 v3117 v3119 k0_hw131 k0_t66 k0_h66 => k0_hw131.2.1 k0_t66 k0_h66
theorem k0_off336_inb : ∀ (i : grid0.Coords) (v25 : BitVec 32) (v3117 : BitVec 32) (v3119 : BitVec 32) (k0_hw131 : k0_chk131 i v25 v3117 v3119) (k0_t66 : Fin k0_t66_loop.trips), ∀ (k0_h66 : k0_cond66 i v25 v3117 = 1#1), ∀ a, (k0_off336 v3119 k0_t66) a + S1x16.size a ≤ S32x512.size a := fun i v25 v3117 v3119 k0_hw131 k0_t66 k0_h66 => k0_hw131.2.2 k0_t66 k0_h66

def k0_off337 (v3117 : BitVec 32) (k0_t66 : Fin k0_t66_loop.trips) : Fin 2 → Nat :=
  let c0_i32_1188 : BitVec 32 := 0#32
  let v3121 : BitVec 1 := Scalar.cmpi .sgt v3117 c0_i32_1188
  let v3122 : BitVec 32 := Scalar.extui v3121
  let c0_i32_1189 : BitVec 32 := 0#32
  let v3123 : BitVec 1 := Scalar.cmpi .slt v3117 c0_i32_1189
  let v3124 : BitVec 32 := Scalar.extui v3123
  let v3125 : BitVec 32 := Scalar.subi v3122 v3124
  let c16_i32_1187 : BitVec 32 := 16#32
  let c0_i32_1190 : BitVec 32 := 0#32
  let v3126 : BitVec 1 := Scalar.cmpi .sgt c16_i32_1187 c0_i32_1190
  let v3127 : BitVec 32 := Scalar.extui v3126
  let c0_i32_1191 : BitVec 32 := 0#32
  let v3128 : BitVec 1 := Scalar.cmpi .slt c16_i32_1187 c0_i32_1191
  let v3129 : BitVec 32 := Scalar.extui v3128
  let v3130 : BitVec 32 := Scalar.subi v3127 v3129
  let v3131 : BitVec 1 := Scalar.cmpi .ne v3125 v3130
  let v3132 : BitVec 32 := Scalar.remsi v3117 c16_i32_1187
  let c0_i32_1192 : BitVec 32 := 0#32
  let v3133 : BitVec 1 := Scalar.cmpi .ne v3132 c0_i32_1192
  let v3134 : BitVec 1 := Scalar.andi v3131 v3133
  let v3120 : BitVec 32 := Scalar.divsi v3117 c16_i32_1187
  let c1_i32_1193 : BitVec 32 := 1#32
  let v3135 : BitVec 32 := Scalar.subi v3120 c1_i32_1193
  let v3136 : BitVec 32 := Scalar.select v3134 v3135 v3120
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3136 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t66
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3117 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk132 (i : grid0.Coords) (v25 : BitVec 32) (v3117 : BitVec 32) : Prop :=
  (∀ k0_t66 : Fin k0_t66_loop.trips, ∀ (k0_h66 : k0_cond66 i v25 v3117 = 1#1), ∀ a, (k0_off335 v3117 k0_t66) a + S1x16.size a ≤ S128x512.size a) ∧
  (∀ k0_t66 : Fin k0_t66_loop.trips, ∀ (k0_h66 : k0_cond66 i v25 v3117 = 1#1), ∀ a, (k0_off337 v3117 k0_t66) a + S1x16.size a ≤ S128x512.size a)
theorem k0_off335_inb : ∀ (i : grid0.Coords) (v25 : BitVec 32) (v3117 : BitVec 32) (k0_hw132 : k0_chk132 i v25 v3117) (k0_t66 : Fin k0_t66_loop.trips), ∀ (k0_h66 : k0_cond66 i v25 v3117 = 1#1), ∀ a, (k0_off335 v3117 k0_t66) a + S1x16.size a ≤ S128x512.size a := fun i v25 v3117 k0_hw132 k0_t66 k0_h66 => k0_hw132.1 k0_t66 k0_h66
theorem k0_off337_inb : ∀ (i : grid0.Coords) (v25 : BitVec 32) (v3117 : BitVec 32) (k0_hw132 : k0_chk132 i v25 v3117) (k0_t66 : Fin k0_t66_loop.trips), ∀ (k0_h66 : k0_cond66 i v25 v3117 = 1#1), ∀ a, (k0_off337 v3117 k0_t66) a + S1x16.size a ≤ S128x512.size a := fun i v25 v3117 k0_hw132 k0_t66 k0_h66 => k0_hw132.2 k0_t66 k0_h66

def k0_off338 (i : grid0.Coords) (v3162 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3162 c0_i32_1428
  let v3763 : BitVec 32 := Scalar.extui v3762
  let c0_i32_1429 : BitVec 32 := 0#32
  let v3764 : BitVec 1 := Scalar.cmpi .slt v3162 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3162 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3162 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r78 : BitVec 32 := 0#32
  ![v3779.toNat, 0]
def k0_cond67 (i : grid0.Coords) (v25 : BitVec 32) (v3160 : BitVec 32) : BitVec 1 :=
  let c2_i32_1210 : BitVec 32 := 2#32
  let v3180 : BitVec 1 := Scalar.cmpi .sgt v25 c2_i32_1210
  let c0_i32_1204 : BitVec 32 := 0#32
  let v3164 : BitVec 1 := Scalar.cmpi .sgt v3160 c0_i32_1204
  let v3165 : BitVec 32 := Scalar.extui v3164
  let c0_i32_1205 : BitVec 32 := 0#32
  let v3166 : BitVec 1 := Scalar.cmpi .slt v3160 c0_i32_1205
  let v3167 : BitVec 32 := Scalar.extui v3166
  let v3168 : BitVec 32 := Scalar.subi v3165 v3167
  let c16_i32_1203 : BitVec 32 := 16#32
  let c0_i32_1206 : BitVec 32 := 0#32
  let v3169 : BitVec 1 := Scalar.cmpi .sgt c16_i32_1203 c0_i32_1206
  let v3170 : BitVec 32 := Scalar.extui v3169
  let c0_i32_1207 : BitVec 32 := 0#32
  let v3171 : BitVec 1 := Scalar.cmpi .slt c16_i32_1203 c0_i32_1207
  let v3172 : BitVec 32 := Scalar.extui v3171
  let v3173 : BitVec 32 := Scalar.subi v3170 v3172
  let v3174 : BitVec 1 := Scalar.cmpi .ne v3168 v3173
  let v3175 : BitVec 32 := Scalar.remsi v3160 c16_i32_1203
  let c0_i32_1208 : BitVec 32 := 0#32
  let v3176 : BitVec 1 := Scalar.cmpi .ne v3175 c0_i32_1208
  let v3177 : BitVec 1 := Scalar.andi v3174 v3176
  let v3163 : BitVec 32 := Scalar.divsi v3160 c16_i32_1203
  let c1_i32_1209 : BitVec 32 := 1#32
  let v3178 : BitVec 32 := Scalar.subi v3163 c1_i32_1209
  let v3179 : BitVec 32 := Scalar.select v3177 v3178 v3163
  let c0_i32_1212 : BitVec 32 := 0#32
  let v3182 : BitVec 1 := Scalar.cmpi .sgt v3179 c0_i32_1212
  let v3183 : BitVec 32 := Scalar.extui v3182
  let c0_i32_1213 : BitVec 32 := 0#32
  let v3184 : BitVec 1 := Scalar.cmpi .slt v3179 c0_i32_1213
  let v3185 : BitVec 32 := Scalar.extui v3184
  let v3186 : BitVec 32 := Scalar.subi v3183 v3185
  let c4_i32_1211 : BitVec 32 := 4#32
  let c0_i32_1214 : BitVec 32 := 0#32
  let v3187 : BitVec 1 := Scalar.cmpi .sgt c4_i32_1211 c0_i32_1214
  let v3188 : BitVec 32 := Scalar.extui v3187
  let c0_i32_1215 : BitVec 32 := 0#32
  let v3189 : BitVec 1 := Scalar.cmpi .slt c4_i32_1211 c0_i32_1215
  let v3190 : BitVec 32 := Scalar.extui v3189
  let v3191 : BitVec 32 := Scalar.subi v3188 v3190
  let v3192 : BitVec 1 := Scalar.cmpi .ne v3186 v3191
  let v3193 : BitVec 32 := Scalar.remsi v3179 c4_i32_1211
  let c0_i32_1216 : BitVec 32 := 0#32
  let v3194 : BitVec 1 := Scalar.cmpi .ne v3193 c0_i32_1216
  let v3195 : BitVec 1 := Scalar.andi v3192 v3194
  let v3181 : BitVec 32 := Scalar.divsi v3179 c4_i32_1211
  let c1_i32_1217 : BitVec 32 := 1#32
  let v3196 : BitVec 32 := Scalar.subi v3181 c1_i32_1217
  let v3197 : BitVec 32 := Scalar.select v3195 v3196 v3181
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3198 : BitVec 1 := Scalar.cmpi .eq v3197 v3072
  let v3199 : BitVec 1 := Scalar.andi v3180 v3198
  let v3200 : BitVec 32 := Scalar.extui v3199
  let c0_i32_1218 : BitVec 32 := 0#32
  let v3201 : BitVec 1 := Scalar.cmpi .ne v3200 c0_i32_1218
  v3201

@[reducible] def k0_t67_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off339 (v3162 : BitVec 32) (k0_t67 : Fin k0_t67_loop.trips) : Fin 2 → Nat :=
  let c0_i32_1453 : BitVec 32 := 0#32
  let c1_i32_1455 : BitVec 32 := 1#32
  let arg19 : BitVec 32 := Scf.iv c0_i32_1453 c1_i32_1455 k0_t67
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3162 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off340 (v3160 : BitVec 32) (k0_t67 : Fin k0_t67_loop.trips) : Fin 2 → Nat :=
  let c0_i32_1204 : BitVec 32 := 0#32
  let v3164 : BitVec 1 := Scalar.cmpi .sgt v3160 c0_i32_1204
  let v3165 : BitVec 32 := Scalar.extui v3164
  let c0_i32_1205 : BitVec 32 := 0#32
  let v3166 : BitVec 1 := Scalar.cmpi .slt v3160 c0_i32_1205
  let v3167 : BitVec 32 := Scalar.extui v3166
  let v3168 : BitVec 32 := Scalar.subi v3165 v3167
  let c16_i32_1203 : BitVec 32 := 16#32
  let c0_i32_1206 : BitVec 32 := 0#32
  let v3169 : BitVec 1 := Scalar.cmpi .sgt c16_i32_1203 c0_i32_1206
  let v3170 : BitVec 32 := Scalar.extui v3169
  let c0_i32_1207 : BitVec 32 := 0#32
  let v3171 : BitVec 1 := Scalar.cmpi .slt c16_i32_1203 c0_i32_1207
  let v3172 : BitVec 32 := Scalar.extui v3171
  let v3173 : BitVec 32 := Scalar.subi v3170 v3172
  let v3174 : BitVec 1 := Scalar.cmpi .ne v3168 v3173
  let v3175 : BitVec 32 := Scalar.remsi v3160 c16_i32_1203
  let c0_i32_1208 : BitVec 32 := 0#32
  let v3176 : BitVec 1 := Scalar.cmpi .ne v3175 c0_i32_1208
  let v3177 : BitVec 1 := Scalar.andi v3174 v3176
  let v3163 : BitVec 32 := Scalar.divsi v3160 c16_i32_1203
  let c1_i32_1209 : BitVec 32 := 1#32
  let v3178 : BitVec 32 := Scalar.subi v3163 c1_i32_1209
  let v3179 : BitVec 32 := Scalar.select v3177 v3178 v3163
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3179 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t67
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3160 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off341 (v3162 : BitVec 32) (k0_t67 : Fin k0_t67_loop.trips) : Fin 2 → Nat :=
  let c0_i32_1453 : BitVec 32 := 0#32
  let c1_i32_1455 : BitVec 32 := 1#32
  let arg19 : BitVec 32 := Scf.iv c0_i32_1453 c1_i32_1455 k0_t67
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3162 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk133 (i : grid0.Coords) (v25 : BitVec 32) (v3160 : BitVec 32) (v3162 : BitVec 32) : Prop :=
  (∀ (k0_h67 : k0_cond67 i v25 v3160 = 1#1), ∀ a, (k0_off338 i v3162) a + S32x512.size a ≤ S4096x512.size a) ∧
  (∀ k0_t67 : Fin k0_t67_loop.trips, ∀ (k0_h67 : k0_cond67 i v25 v3160 = 1#1), ∀ a, (k0_off339 v3162 k0_t67) a + S1x16.size a ≤ S32x512.size a) ∧
  (∀ k0_t67 : Fin k0_t67_loop.trips, ∀ (k0_h67 : k0_cond67 i v25 v3160 = 1#1), ∀ a, (k0_off341 v3162 k0_t67) a + S1x16.size a ≤ S32x512.size a)
theorem k0_off338_inb : ∀ (i : grid0.Coords) (v25 : BitVec 32) (v3160 : BitVec 32) (v3162 : BitVec 32) (k0_hw133 : k0_chk133 i v25 v3160 v3162), ∀ (k0_h67 : k0_cond67 i v25 v3160 = 1#1), ∀ a, (k0_off338 i v3162) a + S32x512.size a ≤ S4096x512.size a := fun i v25 v3160 v3162 k0_hw133 k0_h67 => k0_hw133.1 k0_h67
theorem k0_off339_inb : ∀ (i : grid0.Coords) (v25 : BitVec 32) (v3160 : BitVec 32) (v3162 : BitVec 32) (k0_hw133 : k0_chk133 i v25 v3160 v3162) (k0_t67 : Fin k0_t67_loop.trips), ∀ (k0_h67 : k0_cond67 i v25 v3160 = 1#1), ∀ a, (k0_off339 v3162 k0_t67) a + S1x16.size a ≤ S32x512.size a := fun i v25 v3160 v3162 k0_hw133 k0_t67 k0_h67 => k0_hw133.2.1 k0_t67 k0_h67
theorem k0_off341_inb : ∀ (i : grid0.Coords) (v25 : BitVec 32) (v3160 : BitVec 32) (v3162 : BitVec 32) (k0_hw133 : k0_chk133 i v25 v3160 v3162) (k0_t67 : Fin k0_t67_loop.trips), ∀ (k0_h67 : k0_cond67 i v25 v3160 = 1#1), ∀ a, (k0_off341 v3162 k0_t67) a + S1x16.size a ≤ S32x512.size a := fun i v25 v3160 v3162 k0_hw133 k0_t67 k0_h67 => k0_hw133.2.2 k0_t67 k0_h67

def k0_off342 (v3160 : BitVec 32) (k0_t67 : Fin k0_t67_loop.trips) : Fin 2 → Nat :=
  let c0_i32_1204 : BitVec 32 := 0#32
  let v3164 : BitVec 1 := Scalar.cmpi .sgt v3160 c0_i32_1204
  let v3165 : BitVec 32 := Scalar.extui v3164
  let c0_i32_1205 : BitVec 32 := 0#32
  let v3166 : BitVec 1 := Scalar.cmpi .slt v3160 c0_i32_1205
  let v3167 : BitVec 32 := Scalar.extui v3166
  let v3168 : BitVec 32 := Scalar.subi v3165 v3167
  let c16_i32_1203 : BitVec 32 := 16#32
  let c0_i32_1206 : BitVec 32 := 0#32
  let v3169 : BitVec 1 := Scalar.cmpi .sgt c16_i32_1203 c0_i32_1206
  let v3170 : BitVec 32 := Scalar.extui v3169
  let c0_i32_1207 : BitVec 32 := 0#32
  let v3171 : BitVec 1 := Scalar.cmpi .slt c16_i32_1203 c0_i32_1207
  let v3172 : BitVec 32 := Scalar.extui v3171
  let v3173 : BitVec 32 := Scalar.subi v3170 v3172
  let v3174 : BitVec 1 := Scalar.cmpi .ne v3168 v3173
  let v3175 : BitVec 32 := Scalar.remsi v3160 c16_i32_1203
  let c0_i32_1208 : BitVec 32 := 0#32
  let v3176 : BitVec 1 := Scalar.cmpi .ne v3175 c0_i32_1208
  let v3177 : BitVec 1 := Scalar.andi v3174 v3176
  let v3163 : BitVec 32 := Scalar.divsi v3160 c16_i32_1203
  let c1_i32_1209 : BitVec 32 := 1#32
  let v3178 : BitVec 32 := Scalar.subi v3163 c1_i32_1209
  let v3179 : BitVec 32 := Scalar.select v3177 v3178 v3163
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3179 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t67
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3160 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk134 (i : grid0.Coords) (v25 : BitVec 32) (v3160 : BitVec 32) : Prop :=
  (∀ k0_t67 : Fin k0_t67_loop.trips, ∀ (k0_h67 : k0_cond67 i v25 v3160 = 1#1), ∀ a, (k0_off340 v3160 k0_t67) a + S1x16.size a ≤ S128x512.size a) ∧
  (∀ k0_t67 : Fin k0_t67_loop.trips, ∀ (k0_h67 : k0_cond67 i v25 v3160 = 1#1), ∀ a, (k0_off342 v3160 k0_t67) a + S1x16.size a ≤ S128x512.size a)
theorem k0_off340_inb : ∀ (i : grid0.Coords) (v25 : BitVec 32) (v3160 : BitVec 32) (k0_hw134 : k0_chk134 i v25 v3160) (k0_t67 : Fin k0_t67_loop.trips), ∀ (k0_h67 : k0_cond67 i v25 v3160 = 1#1), ∀ a, (k0_off340 v3160 k0_t67) a + S1x16.size a ≤ S128x512.size a := fun i v25 v3160 k0_hw134 k0_t67 k0_h67 => k0_hw134.1 k0_t67 k0_h67
theorem k0_off342_inb : ∀ (i : grid0.Coords) (v25 : BitVec 32) (v3160 : BitVec 32) (k0_hw134 : k0_chk134 i v25 v3160) (k0_t67 : Fin k0_t67_loop.trips), ∀ (k0_h67 : k0_cond67 i v25 v3160 = 1#1), ∀ a, (k0_off342 v3160 k0_t67) a + S1x16.size a ≤ S128x512.size a := fun i v25 v3160 k0_hw134 k0_t67 k0_h67 => k0_hw134.2 k0_t67 k0_h67

def k0_off343 (i : grid0.Coords) (v3205 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3205 c0_i32_1428
  let v3763 : BitVec 32 := Scalar.extui v3762
  let c0_i32_1429 : BitVec 32 := 0#32
  let v3764 : BitVec 1 := Scalar.cmpi .slt v3205 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3205 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3205 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r79 : BitVec 32 := 0#32
  ![v3779.toNat, 0]
def k0_cond68 (i : grid0.Coords) (v25 : BitVec 32) (v3203 : BitVec 32) : BitVec 1 :=
  let c3_i32_1226 : BitVec 32 := 3#32
  let v3223 : BitVec 1 := Scalar.cmpi .sgt v25 c3_i32_1226
  let c0_i32_1220 : BitVec 32 := 0#32
  let v3207 : BitVec 1 := Scalar.cmpi .sgt v3203 c0_i32_1220
  let v3208 : BitVec 32 := Scalar.extui v3207
  let c0_i32_1221 : BitVec 32 := 0#32
  let v3209 : BitVec 1 := Scalar.cmpi .slt v3203 c0_i32_1221
  let v3210 : BitVec 32 := Scalar.extui v3209
  let v3211 : BitVec 32 := Scalar.subi v3208 v3210
  let c16_i32_1219 : BitVec 32 := 16#32
  let c0_i32_1222 : BitVec 32 := 0#32
  let v3212 : BitVec 1 := Scalar.cmpi .sgt c16_i32_1219 c0_i32_1222
  let v3213 : BitVec 32 := Scalar.extui v3212
  let c0_i32_1223 : BitVec 32 := 0#32
  let v3214 : BitVec 1 := Scalar.cmpi .slt c16_i32_1219 c0_i32_1223
  let v3215 : BitVec 32 := Scalar.extui v3214
  let v3216 : BitVec 32 := Scalar.subi v3213 v3215
  let v3217 : BitVec 1 := Scalar.cmpi .ne v3211 v3216
  let v3218 : BitVec 32 := Scalar.remsi v3203 c16_i32_1219
  let c0_i32_1224 : BitVec 32 := 0#32
  let v3219 : BitVec 1 := Scalar.cmpi .ne v3218 c0_i32_1224
  let v3220 : BitVec 1 := Scalar.andi v3217 v3219
  let v3206 : BitVec 32 := Scalar.divsi v3203 c16_i32_1219
  let c1_i32_1225 : BitVec 32 := 1#32
  let v3221 : BitVec 32 := Scalar.subi v3206 c1_i32_1225
  let v3222 : BitVec 32 := Scalar.select v3220 v3221 v3206
  let c0_i32_1228 : BitVec 32 := 0#32
  let v3225 : BitVec 1 := Scalar.cmpi .sgt v3222 c0_i32_1228
  let v3226 : BitVec 32 := Scalar.extui v3225
  let c0_i32_1229 : BitVec 32 := 0#32
  let v3227 : BitVec 1 := Scalar.cmpi .slt v3222 c0_i32_1229
  let v3228 : BitVec 32 := Scalar.extui v3227
  let v3229 : BitVec 32 := Scalar.subi v3226 v3228
  let c4_i32_1227 : BitVec 32 := 4#32
  let c0_i32_1230 : BitVec 32 := 0#32
  let v3230 : BitVec 1 := Scalar.cmpi .sgt c4_i32_1227 c0_i32_1230
  let v3231 : BitVec 32 := Scalar.extui v3230
  let c0_i32_1231 : BitVec 32 := 0#32
  let v3232 : BitVec 1 := Scalar.cmpi .slt c4_i32_1227 c0_i32_1231
  let v3233 : BitVec 32 := Scalar.extui v3232
  let v3234 : BitVec 32 := Scalar.subi v3231 v3233
  let v3235 : BitVec 1 := Scalar.cmpi .ne v3229 v3234
  let v3236 : BitVec 32 := Scalar.remsi v3222 c4_i32_1227
  let c0_i32_1232 : BitVec 32 := 0#32
  let v3237 : BitVec 1 := Scalar.cmpi .ne v3236 c0_i32_1232
  let v3238 : BitVec 1 := Scalar.andi v3235 v3237
  let v3224 : BitVec 32 := Scalar.divsi v3222 c4_i32_1227
  let c1_i32_1233 : BitVec 32 := 1#32
  let v3239 : BitVec 32 := Scalar.subi v3224 c1_i32_1233
  let v3240 : BitVec 32 := Scalar.select v3238 v3239 v3224
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3241 : BitVec 1 := Scalar.cmpi .eq v3240 v3072
  let v3242 : BitVec 1 := Scalar.andi v3223 v3241
  let v3243 : BitVec 32 := Scalar.extui v3242
  let c0_i32_1234 : BitVec 32 := 0#32
  let v3244 : BitVec 1 := Scalar.cmpi .ne v3243 c0_i32_1234
  v3244

@[reducible] def k0_t68_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off344 (v3205 : BitVec 32) (k0_t68 : Fin k0_t68_loop.trips) : Fin 2 → Nat :=
  let c0_i32_1453 : BitVec 32 := 0#32
  let c1_i32_1455 : BitVec 32 := 1#32
  let arg19 : BitVec 32 := Scf.iv c0_i32_1453 c1_i32_1455 k0_t68
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3205 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off345 (v3203 : BitVec 32) (k0_t68 : Fin k0_t68_loop.trips) : Fin 2 → Nat :=
  let c0_i32_1220 : BitVec 32 := 0#32
  let v3207 : BitVec 1 := Scalar.cmpi .sgt v3203 c0_i32_1220
  let v3208 : BitVec 32 := Scalar.extui v3207
  let c0_i32_1221 : BitVec 32 := 0#32
  let v3209 : BitVec 1 := Scalar.cmpi .slt v3203 c0_i32_1221
  let v3210 : BitVec 32 := Scalar.extui v3209
  let v3211 : BitVec 32 := Scalar.subi v3208 v3210
  let c16_i32_1219 : BitVec 32 := 16#32
  let c0_i32_1222 : BitVec 32 := 0#32
  let v3212 : BitVec 1 := Scalar.cmpi .sgt c16_i32_1219 c0_i32_1222
  let v3213 : BitVec 32 := Scalar.extui v3212
  let c0_i32_1223 : BitVec 32 := 0#32
  let v3214 : BitVec 1 := Scalar.cmpi .slt c16_i32_1219 c0_i32_1223
  let v3215 : BitVec 32 := Scalar.extui v3214
  let v3216 : BitVec 32 := Scalar.subi v3213 v3215
  let v3217 : BitVec 1 := Scalar.cmpi .ne v3211 v3216
  let v3218 : BitVec 32 := Scalar.remsi v3203 c16_i32_1219
  let c0_i32_1224 : BitVec 32 := 0#32
  let v3219 : BitVec 1 := Scalar.cmpi .ne v3218 c0_i32_1224
  let v3220 : BitVec 1 := Scalar.andi v3217 v3219
  let v3206 : BitVec 32 := Scalar.divsi v3203 c16_i32_1219
  let c1_i32_1225 : BitVec 32 := 1#32
  let v3221 : BitVec 32 := Scalar.subi v3206 c1_i32_1225
  let v3222 : BitVec 32 := Scalar.select v3220 v3221 v3206
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3222 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t68
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3203 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off346 (v3205 : BitVec 32) (k0_t68 : Fin k0_t68_loop.trips) : Fin 2 → Nat :=
  let c0_i32_1453 : BitVec 32 := 0#32
  let c1_i32_1455 : BitVec 32 := 1#32
  let arg19 : BitVec 32 := Scf.iv c0_i32_1453 c1_i32_1455 k0_t68
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3205 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk135 (i : grid0.Coords) (v25 : BitVec 32) (v3203 : BitVec 32) (v3205 : BitVec 32) : Prop :=
  (∀ (k0_h68 : k0_cond68 i v25 v3203 = 1#1), ∀ a, (k0_off343 i v3205) a + S32x512.size a ≤ S4096x512.size a) ∧
  (∀ k0_t68 : Fin k0_t68_loop.trips, ∀ (k0_h68 : k0_cond68 i v25 v3203 = 1#1), ∀ a, (k0_off344 v3205 k0_t68) a + S1x16.size a ≤ S32x512.size a) ∧
  (∀ k0_t68 : Fin k0_t68_loop.trips, ∀ (k0_h68 : k0_cond68 i v25 v3203 = 1#1), ∀ a, (k0_off346 v3205 k0_t68) a + S1x16.size a ≤ S32x512.size a)
theorem k0_off343_inb : ∀ (i : grid0.Coords) (v25 : BitVec 32) (v3203 : BitVec 32) (v3205 : BitVec 32) (k0_hw135 : k0_chk135 i v25 v3203 v3205), ∀ (k0_h68 : k0_cond68 i v25 v3203 = 1#1), ∀ a, (k0_off343 i v3205) a + S32x512.size a ≤ S4096x512.size a := fun i v25 v3203 v3205 k0_hw135 k0_h68 => k0_hw135.1 k0_h68
theorem k0_off344_inb : ∀ (i : grid0.Coords) (v25 : BitVec 32) (v3203 : BitVec 32) (v3205 : BitVec 32) (k0_hw135 : k0_chk135 i v25 v3203 v3205) (k0_t68 : Fin k0_t68_loop.trips), ∀ (k0_h68 : k0_cond68 i v25 v3203 = 1#1), ∀ a, (k0_off344 v3205 k0_t68) a + S1x16.size a ≤ S32x512.size a := fun i v25 v3203 v3205 k0_hw135 k0_t68 k0_h68 => k0_hw135.2.1 k0_t68 k0_h68
theorem k0_off346_inb : ∀ (i : grid0.Coords) (v25 : BitVec 32) (v3203 : BitVec 32) (v3205 : BitVec 32) (k0_hw135 : k0_chk135 i v25 v3203 v3205) (k0_t68 : Fin k0_t68_loop.trips), ∀ (k0_h68 : k0_cond68 i v25 v3203 = 1#1), ∀ a, (k0_off346 v3205 k0_t68) a + S1x16.size a ≤ S32x512.size a := fun i v25 v3203 v3205 k0_hw135 k0_t68 k0_h68 => k0_hw135.2.2 k0_t68 k0_h68

def k0_off347 (v3203 : BitVec 32) (k0_t68 : Fin k0_t68_loop.trips) : Fin 2 → Nat :=
  let c0_i32_1220 : BitVec 32 := 0#32
  let v3207 : BitVec 1 := Scalar.cmpi .sgt v3203 c0_i32_1220
  let v3208 : BitVec 32 := Scalar.extui v3207
  let c0_i32_1221 : BitVec 32 := 0#32
  let v3209 : BitVec 1 := Scalar.cmpi .slt v3203 c0_i32_1221
  let v3210 : BitVec 32 := Scalar.extui v3209
  let v3211 : BitVec 32 := Scalar.subi v3208 v3210
  let c16_i32_1219 : BitVec 32 := 16#32
  let c0_i32_1222 : BitVec 32 := 0#32
  let v3212 : BitVec 1 := Scalar.cmpi .sgt c16_i32_1219 c0_i32_1222
  let v3213 : BitVec 32 := Scalar.extui v3212
  let c0_i32_1223 : BitVec 32 := 0#32
  let v3214 : BitVec 1 := Scalar.cmpi .slt c16_i32_1219 c0_i32_1223
  let v3215 : BitVec 32 := Scalar.extui v3214
  let v3216 : BitVec 32 := Scalar.subi v3213 v3215
  let v3217 : BitVec 1 := Scalar.cmpi .ne v3211 v3216
  let v3218 : BitVec 32 := Scalar.remsi v3203 c16_i32_1219
  let c0_i32_1224 : BitVec 32 := 0#32
  let v3219 : BitVec 1 := Scalar.cmpi .ne v3218 c0_i32_1224
  let v3220 : BitVec 1 := Scalar.andi v3217 v3219
  let v3206 : BitVec 32 := Scalar.divsi v3203 c16_i32_1219
  let c1_i32_1225 : BitVec 32 := 1#32
  let v3221 : BitVec 32 := Scalar.subi v3206 c1_i32_1225
  let v3222 : BitVec 32 := Scalar.select v3220 v3221 v3206
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3222 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t68
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3203 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk136 (i : grid0.Coords) (v25 : BitVec 32) (v3203 : BitVec 32) : Prop :=
  (∀ k0_t68 : Fin k0_t68_loop.trips, ∀ (k0_h68 : k0_cond68 i v25 v3203 = 1#1), ∀ a, (k0_off345 v3203 k0_t68) a + S1x16.size a ≤ S128x512.size a) ∧
  (∀ k0_t68 : Fin k0_t68_loop.trips, ∀ (k0_h68 : k0_cond68 i v25 v3203 = 1#1), ∀ a, (k0_off347 v3203 k0_t68) a + S1x16.size a ≤ S128x512.size a)
theorem k0_off345_inb : ∀ (i : grid0.Coords) (v25 : BitVec 32) (v3203 : BitVec 32) (k0_hw136 : k0_chk136 i v25 v3203) (k0_t68 : Fin k0_t68_loop.trips), ∀ (k0_h68 : k0_cond68 i v25 v3203 = 1#1), ∀ a, (k0_off345 v3203 k0_t68) a + S1x16.size a ≤ S128x512.size a := fun i v25 v3203 k0_hw136 k0_t68 k0_h68 => k0_hw136.1 k0_t68 k0_h68
theorem k0_off347_inb : ∀ (i : grid0.Coords) (v25 : BitVec 32) (v3203 : BitVec 32) (k0_hw136 : k0_chk136 i v25 v3203) (k0_t68 : Fin k0_t68_loop.trips), ∀ (k0_h68 : k0_cond68 i v25 v3203 = 1#1), ∀ a, (k0_off347 v3203 k0_t68) a + S1x16.size a ≤ S128x512.size a := fun i v25 v3203 k0_hw136 k0_t68 k0_h68 => k0_hw136.2 k0_t68 k0_h68

def k0_off348 (i : grid0.Coords) (v3248 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3248 c0_i32_1428
  let v3763 : BitVec 32 := Scalar.extui v3762
  let c0_i32_1429 : BitVec 32 := 0#32
  let v3764 : BitVec 1 := Scalar.cmpi .slt v3248 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3248 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3248 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r80 : BitVec 32 := 0#32
  ![v3779.toNat, 0]
def k0_cond69 (i : grid0.Coords) (v25 : BitVec 32) (v3246 : BitVec 32) : BitVec 1 :=
  let c4_i32_1242 : BitVec 32 := 4#32
  let v3266 : BitVec 1 := Scalar.cmpi .sgt v25 c4_i32_1242
  let c0_i32_1236 : BitVec 32 := 0#32
  let v3250 : BitVec 1 := Scalar.cmpi .sgt v3246 c0_i32_1236
  let v3251 : BitVec 32 := Scalar.extui v3250
  let c0_i32_1237 : BitVec 32 := 0#32
  let v3252 : BitVec 1 := Scalar.cmpi .slt v3246 c0_i32_1237
  let v3253 : BitVec 32 := Scalar.extui v3252
  let v3254 : BitVec 32 := Scalar.subi v3251 v3253
  let c16_i32_1235 : BitVec 32 := 16#32
  let c0_i32_1238 : BitVec 32 := 0#32
  let v3255 : BitVec 1 := Scalar.cmpi .sgt c16_i32_1235 c0_i32_1238
  let v3256 : BitVec 32 := Scalar.extui v3255
  let c0_i32_1239 : BitVec 32 := 0#32
  let v3257 : BitVec 1 := Scalar.cmpi .slt c16_i32_1235 c0_i32_1239
  let v3258 : BitVec 32 := Scalar.extui v3257
  let v3259 : BitVec 32 := Scalar.subi v3256 v3258
  let v3260 : BitVec 1 := Scalar.cmpi .ne v3254 v3259
  let v3261 : BitVec 32 := Scalar.remsi v3246 c16_i32_1235
  let c0_i32_1240 : BitVec 32 := 0#32
  let v3262 : BitVec 1 := Scalar.cmpi .ne v3261 c0_i32_1240
  let v3263 : BitVec 1 := Scalar.andi v3260 v3262
  let v3249 : BitVec 32 := Scalar.divsi v3246 c16_i32_1235
  let c1_i32_1241 : BitVec 32 := 1#32
  let v3264 : BitVec 32 := Scalar.subi v3249 c1_i32_1241
  let v3265 : BitVec 32 := Scalar.select v3263 v3264 v3249
  let c0_i32_1244 : BitVec 32 := 0#32
  let v3268 : BitVec 1 := Scalar.cmpi .sgt v3265 c0_i32_1244
  let v3269 : BitVec 32 := Scalar.extui v3268
  let c0_i32_1245 : BitVec 32 := 0#32
  let v3270 : BitVec 1 := Scalar.cmpi .slt v3265 c0_i32_1245
  let v3271 : BitVec 32 := Scalar.extui v3270
  let v3272 : BitVec 32 := Scalar.subi v3269 v3271
  let c4_i32_1243 : BitVec 32 := 4#32
  let c0_i32_1246 : BitVec 32 := 0#32
  let v3273 : BitVec 1 := Scalar.cmpi .sgt c4_i32_1243 c0_i32_1246
  let v3274 : BitVec 32 := Scalar.extui v3273
  let c0_i32_1247 : BitVec 32 := 0#32
  let v3275 : BitVec 1 := Scalar.cmpi .slt c4_i32_1243 c0_i32_1247
  let v3276 : BitVec 32 := Scalar.extui v3275
  let v3277 : BitVec 32 := Scalar.subi v3274 v3276
  let v3278 : BitVec 1 := Scalar.cmpi .ne v3272 v3277
  let v3279 : BitVec 32 := Scalar.remsi v3265 c4_i32_1243
  let c0_i32_1248 : BitVec 32 := 0#32
  let v3280 : BitVec 1 := Scalar.cmpi .ne v3279 c0_i32_1248
  let v3281 : BitVec 1 := Scalar.andi v3278 v3280
  let v3267 : BitVec 32 := Scalar.divsi v3265 c4_i32_1243
  let c1_i32_1249 : BitVec 32 := 1#32
  let v3282 : BitVec 32 := Scalar.subi v3267 c1_i32_1249
  let v3283 : BitVec 32 := Scalar.select v3281 v3282 v3267
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3284 : BitVec 1 := Scalar.cmpi .eq v3283 v3072
  let v3285 : BitVec 1 := Scalar.andi v3266 v3284
  let v3286 : BitVec 32 := Scalar.extui v3285
  let c0_i32_1250 : BitVec 32 := 0#32
  let v3287 : BitVec 1 := Scalar.cmpi .ne v3286 c0_i32_1250
  v3287

@[reducible] def k0_t69_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off349 (v3248 : BitVec 32) (k0_t69 : Fin k0_t69_loop.trips) : Fin 2 → Nat :=
  let c0_i32_1453 : BitVec 32 := 0#32
  let c1_i32_1455 : BitVec 32 := 1#32
  let arg19 : BitVec 32 := Scf.iv c0_i32_1453 c1_i32_1455 k0_t69
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3248 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off350 (v3246 : BitVec 32) (k0_t69 : Fin k0_t69_loop.trips) : Fin 2 → Nat :=
  let c0_i32_1236 : BitVec 32 := 0#32
  let v3250 : BitVec 1 := Scalar.cmpi .sgt v3246 c0_i32_1236
  let v3251 : BitVec 32 := Scalar.extui v3250
  let c0_i32_1237 : BitVec 32 := 0#32
  let v3252 : BitVec 1 := Scalar.cmpi .slt v3246 c0_i32_1237
  let v3253 : BitVec 32 := Scalar.extui v3252
  let v3254 : BitVec 32 := Scalar.subi v3251 v3253
  let c16_i32_1235 : BitVec 32 := 16#32
  let c0_i32_1238 : BitVec 32 := 0#32
  let v3255 : BitVec 1 := Scalar.cmpi .sgt c16_i32_1235 c0_i32_1238
  let v3256 : BitVec 32 := Scalar.extui v3255
  let c0_i32_1239 : BitVec 32 := 0#32
  let v3257 : BitVec 1 := Scalar.cmpi .slt c16_i32_1235 c0_i32_1239
  let v3258 : BitVec 32 := Scalar.extui v3257
  let v3259 : BitVec 32 := Scalar.subi v3256 v3258
  let v3260 : BitVec 1 := Scalar.cmpi .ne v3254 v3259
  let v3261 : BitVec 32 := Scalar.remsi v3246 c16_i32_1235
  let c0_i32_1240 : BitVec 32 := 0#32
  let v3262 : BitVec 1 := Scalar.cmpi .ne v3261 c0_i32_1240
  let v3263 : BitVec 1 := Scalar.andi v3260 v3262
  let v3249 : BitVec 32 := Scalar.divsi v3246 c16_i32_1235
  let c1_i32_1241 : BitVec 32 := 1#32
  let v3264 : BitVec 32 := Scalar.subi v3249 c1_i32_1241
  let v3265 : BitVec 32 := Scalar.select v3263 v3264 v3249
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3265 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t69
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3246 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off351 (v3248 : BitVec 32) (k0_t69 : Fin k0_t69_loop.trips) : Fin 2 → Nat :=
  let c0_i32_1453 : BitVec 32 := 0#32
  let c1_i32_1455 : BitVec 32 := 1#32
  let arg19 : BitVec 32 := Scf.iv c0_i32_1453 c1_i32_1455 k0_t69
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3248 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk137 (i : grid0.Coords) (v25 : BitVec 32) (v3246 : BitVec 32) (v3248 : BitVec 32) : Prop :=
  (∀ (k0_h69 : k0_cond69 i v25 v3246 = 1#1), ∀ a, (k0_off348 i v3248) a + S32x512.size a ≤ S4096x512.size a) ∧
  (∀ k0_t69 : Fin k0_t69_loop.trips, ∀ (k0_h69 : k0_cond69 i v25 v3246 = 1#1), ∀ a, (k0_off349 v3248 k0_t69) a + S1x16.size a ≤ S32x512.size a) ∧
  (∀ k0_t69 : Fin k0_t69_loop.trips, ∀ (k0_h69 : k0_cond69 i v25 v3246 = 1#1), ∀ a, (k0_off351 v3248 k0_t69) a + S1x16.size a ≤ S32x512.size a)
theorem k0_off348_inb : ∀ (i : grid0.Coords) (v25 : BitVec 32) (v3246 : BitVec 32) (v3248 : BitVec 32) (k0_hw137 : k0_chk137 i v25 v3246 v3248), ∀ (k0_h69 : k0_cond69 i v25 v3246 = 1#1), ∀ a, (k0_off348 i v3248) a + S32x512.size a ≤ S4096x512.size a := fun i v25 v3246 v3248 k0_hw137 k0_h69 => k0_hw137.1 k0_h69
theorem k0_off349_inb : ∀ (i : grid0.Coords) (v25 : BitVec 32) (v3246 : BitVec 32) (v3248 : BitVec 32) (k0_hw137 : k0_chk137 i v25 v3246 v3248) (k0_t69 : Fin k0_t69_loop.trips), ∀ (k0_h69 : k0_cond69 i v25 v3246 = 1#1), ∀ a, (k0_off349 v3248 k0_t69) a + S1x16.size a ≤ S32x512.size a := fun i v25 v3246 v3248 k0_hw137 k0_t69 k0_h69 => k0_hw137.2.1 k0_t69 k0_h69
theorem k0_off351_inb : ∀ (i : grid0.Coords) (v25 : BitVec 32) (v3246 : BitVec 32) (v3248 : BitVec 32) (k0_hw137 : k0_chk137 i v25 v3246 v3248) (k0_t69 : Fin k0_t69_loop.trips), ∀ (k0_h69 : k0_cond69 i v25 v3246 = 1#1), ∀ a, (k0_off351 v3248 k0_t69) a + S1x16.size a ≤ S32x512.size a := fun i v25 v3246 v3248 k0_hw137 k0_t69 k0_h69 => k0_hw137.2.2 k0_t69 k0_h69

def k0_off352 (v3246 : BitVec 32) (k0_t69 : Fin k0_t69_loop.trips) : Fin 2 → Nat :=
  let c0_i32_1236 : BitVec 32 := 0#32
  let v3250 : BitVec 1 := Scalar.cmpi .sgt v3246 c0_i32_1236
  let v3251 : BitVec 32 := Scalar.extui v3250
  let c0_i32_1237 : BitVec 32 := 0#32
  let v3252 : BitVec 1 := Scalar.cmpi .slt v3246 c0_i32_1237
  let v3253 : BitVec 32 := Scalar.extui v3252
  let v3254 : BitVec 32 := Scalar.subi v3251 v3253
  let c16_i32_1235 : BitVec 32 := 16#32
  let c0_i32_1238 : BitVec 32 := 0#32
  let v3255 : BitVec 1 := Scalar.cmpi .sgt c16_i32_1235 c0_i32_1238
  let v3256 : BitVec 32 := Scalar.extui v3255
  let c0_i32_1239 : BitVec 32 := 0#32
  let v3257 : BitVec 1 := Scalar.cmpi .slt c16_i32_1235 c0_i32_1239
  let v3258 : BitVec 32 := Scalar.extui v3257
  let v3259 : BitVec 32 := Scalar.subi v3256 v3258
  let v3260 : BitVec 1 := Scalar.cmpi .ne v3254 v3259
  let v3261 : BitVec 32 := Scalar.remsi v3246 c16_i32_1235
  let c0_i32_1240 : BitVec 32 := 0#32
  let v3262 : BitVec 1 := Scalar.cmpi .ne v3261 c0_i32_1240
  let v3263 : BitVec 1 := Scalar.andi v3260 v3262
  let v3249 : BitVec 32 := Scalar.divsi v3246 c16_i32_1235
  let c1_i32_1241 : BitVec 32 := 1#32
  let v3264 : BitVec 32 := Scalar.subi v3249 c1_i32_1241
  let v3265 : BitVec 32 := Scalar.select v3263 v3264 v3249
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3265 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t69
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3246 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk138 (i : grid0.Coords) (v25 : BitVec 32) (v3246 : BitVec 32) : Prop :=
  (∀ k0_t69 : Fin k0_t69_loop.trips, ∀ (k0_h69 : k0_cond69 i v25 v3246 = 1#1), ∀ a, (k0_off350 v3246 k0_t69) a + S1x16.size a ≤ S128x512.size a) ∧
  (∀ k0_t69 : Fin k0_t69_loop.trips, ∀ (k0_h69 : k0_cond69 i v25 v3246 = 1#1), ∀ a, (k0_off352 v3246 k0_t69) a + S1x16.size a ≤ S128x512.size a)
theorem k0_off350_inb : ∀ (i : grid0.Coords) (v25 : BitVec 32) (v3246 : BitVec 32) (k0_hw138 : k0_chk138 i v25 v3246) (k0_t69 : Fin k0_t69_loop.trips), ∀ (k0_h69 : k0_cond69 i v25 v3246 = 1#1), ∀ a, (k0_off350 v3246 k0_t69) a + S1x16.size a ≤ S128x512.size a := fun i v25 v3246 k0_hw138 k0_t69 k0_h69 => k0_hw138.1 k0_t69 k0_h69
theorem k0_off352_inb : ∀ (i : grid0.Coords) (v25 : BitVec 32) (v3246 : BitVec 32) (k0_hw138 : k0_chk138 i v25 v3246) (k0_t69 : Fin k0_t69_loop.trips), ∀ (k0_h69 : k0_cond69 i v25 v3246 = 1#1), ∀ a, (k0_off352 v3246 k0_t69) a + S1x16.size a ≤ S128x512.size a := fun i v25 v3246 k0_hw138 k0_t69 k0_h69 => k0_hw138.2 k0_t69 k0_h69

def k0_off353 (i : grid0.Coords) (v3291 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3291 c0_i32_1428
  let v3763 : BitVec 32 := Scalar.extui v3762
  let c0_i32_1429 : BitVec 32 := 0#32
  let v3764 : BitVec 1 := Scalar.cmpi .slt v3291 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3291 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3291 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r81 : BitVec 32 := 0#32
  ![v3779.toNat, 0]
def k0_cond70 (i : grid0.Coords) (v25 : BitVec 32) (v3289 : BitVec 32) : BitVec 1 :=
  let c5_i32_1258 : BitVec 32 := 5#32
  let v3309 : BitVec 1 := Scalar.cmpi .sgt v25 c5_i32_1258
  let c0_i32_1252 : BitVec 32 := 0#32
  let v3293 : BitVec 1 := Scalar.cmpi .sgt v3289 c0_i32_1252
  let v3294 : BitVec 32 := Scalar.extui v3293
  let c0_i32_1253 : BitVec 32 := 0#32
  let v3295 : BitVec 1 := Scalar.cmpi .slt v3289 c0_i32_1253
  let v3296 : BitVec 32 := Scalar.extui v3295
  let v3297 : BitVec 32 := Scalar.subi v3294 v3296
  let c16_i32_1251 : BitVec 32 := 16#32
  let c0_i32_1254 : BitVec 32 := 0#32
  let v3298 : BitVec 1 := Scalar.cmpi .sgt c16_i32_1251 c0_i32_1254
  let v3299 : BitVec 32 := Scalar.extui v3298
  let c0_i32_1255 : BitVec 32 := 0#32
  let v3300 : BitVec 1 := Scalar.cmpi .slt c16_i32_1251 c0_i32_1255
  let v3301 : BitVec 32 := Scalar.extui v3300
  let v3302 : BitVec 32 := Scalar.subi v3299 v3301
  let v3303 : BitVec 1 := Scalar.cmpi .ne v3297 v3302
  let v3304 : BitVec 32 := Scalar.remsi v3289 c16_i32_1251
  let c0_i32_1256 : BitVec 32 := 0#32
  let v3305 : BitVec 1 := Scalar.cmpi .ne v3304 c0_i32_1256
  let v3306 : BitVec 1 := Scalar.andi v3303 v3305
  let v3292 : BitVec 32 := Scalar.divsi v3289 c16_i32_1251
  let c1_i32_1257 : BitVec 32 := 1#32
  let v3307 : BitVec 32 := Scalar.subi v3292 c1_i32_1257
  let v3308 : BitVec 32 := Scalar.select v3306 v3307 v3292
  let c0_i32_1260 : BitVec 32 := 0#32
  let v3311 : BitVec 1 := Scalar.cmpi .sgt v3308 c0_i32_1260
  let v3312 : BitVec 32 := Scalar.extui v3311
  let c0_i32_1261 : BitVec 32 := 0#32
  let v3313 : BitVec 1 := Scalar.cmpi .slt v3308 c0_i32_1261
  let v3314 : BitVec 32 := Scalar.extui v3313
  let v3315 : BitVec 32 := Scalar.subi v3312 v3314
  let c4_i32_1259 : BitVec 32 := 4#32
  let c0_i32_1262 : BitVec 32 := 0#32
  let v3316 : BitVec 1 := Scalar.cmpi .sgt c4_i32_1259 c0_i32_1262
  let v3317 : BitVec 32 := Scalar.extui v3316
  let c0_i32_1263 : BitVec 32 := 0#32
  let v3318 : BitVec 1 := Scalar.cmpi .slt c4_i32_1259 c0_i32_1263
  let v3319 : BitVec 32 := Scalar.extui v3318
  let v3320 : BitVec 32 := Scalar.subi v3317 v3319
  let v3321 : BitVec 1 := Scalar.cmpi .ne v3315 v3320
  let v3322 : BitVec 32 := Scalar.remsi v3308 c4_i32_1259
  let c0_i32_1264 : BitVec 32 := 0#32
  let v3323 : BitVec 1 := Scalar.cmpi .ne v3322 c0_i32_1264
  let v3324 : BitVec 1 := Scalar.andi v3321 v3323
  let v3310 : BitVec 32 := Scalar.divsi v3308 c4_i32_1259
  let c1_i32_1265 : BitVec 32 := 1#32
  let v3325 : BitVec 32 := Scalar.subi v3310 c1_i32_1265
  let v3326 : BitVec 32 := Scalar.select v3324 v3325 v3310
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3327 : BitVec 1 := Scalar.cmpi .eq v3326 v3072
  let v3328 : BitVec 1 := Scalar.andi v3309 v3327
  let v3329 : BitVec 32 := Scalar.extui v3328
  let c0_i32_1266 : BitVec 32 := 0#32
  let v3330 : BitVec 1 := Scalar.cmpi .ne v3329 c0_i32_1266
  v3330

@[reducible] def k0_t70_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off354 (v3291 : BitVec 32) (k0_t70 : Fin k0_t70_loop.trips) : Fin 2 → Nat :=
  let c0_i32_1453 : BitVec 32 := 0#32
  let c1_i32_1455 : BitVec 32 := 1#32
  let arg19 : BitVec 32 := Scf.iv c0_i32_1453 c1_i32_1455 k0_t70
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3291 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off355 (v3289 : BitVec 32) (k0_t70 : Fin k0_t70_loop.trips) : Fin 2 → Nat :=
  let c0_i32_1252 : BitVec 32 := 0#32
  let v3293 : BitVec 1 := Scalar.cmpi .sgt v3289 c0_i32_1252
  let v3294 : BitVec 32 := Scalar.extui v3293
  let c0_i32_1253 : BitVec 32 := 0#32
  let v3295 : BitVec 1 := Scalar.cmpi .slt v3289 c0_i32_1253
  let v3296 : BitVec 32 := Scalar.extui v3295
  let v3297 : BitVec 32 := Scalar.subi v3294 v3296
  let c16_i32_1251 : BitVec 32 := 16#32
  let c0_i32_1254 : BitVec 32 := 0#32
  let v3298 : BitVec 1 := Scalar.cmpi .sgt c16_i32_1251 c0_i32_1254
  let v3299 : BitVec 32 := Scalar.extui v3298
  let c0_i32_1255 : BitVec 32 := 0#32
  let v3300 : BitVec 1 := Scalar.cmpi .slt c16_i32_1251 c0_i32_1255
  let v3301 : BitVec 32 := Scalar.extui v3300
  let v3302 : BitVec 32 := Scalar.subi v3299 v3301
  let v3303 : BitVec 1 := Scalar.cmpi .ne v3297 v3302
  let v3304 : BitVec 32 := Scalar.remsi v3289 c16_i32_1251
  let c0_i32_1256 : BitVec 32 := 0#32
  let v3305 : BitVec 1 := Scalar.cmpi .ne v3304 c0_i32_1256
  let v3306 : BitVec 1 := Scalar.andi v3303 v3305
  let v3292 : BitVec 32 := Scalar.divsi v3289 c16_i32_1251
  let c1_i32_1257 : BitVec 32 := 1#32
  let v3307 : BitVec 32 := Scalar.subi v3292 c1_i32_1257
  let v3308 : BitVec 32 := Scalar.select v3306 v3307 v3292
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3308 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t70
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3289 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off356 (v3291 : BitVec 32) (k0_t70 : Fin k0_t70_loop.trips) : Fin 2 → Nat :=
  let c0_i32_1453 : BitVec 32 := 0#32
  let c1_i32_1455 : BitVec 32 := 1#32
  let arg19 : BitVec 32 := Scf.iv c0_i32_1453 c1_i32_1455 k0_t70
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3291 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk139 (i : grid0.Coords) (v25 : BitVec 32) (v3289 : BitVec 32) (v3291 : BitVec 32) : Prop :=
  (∀ (k0_h70 : k0_cond70 i v25 v3289 = 1#1), ∀ a, (k0_off353 i v3291) a + S32x512.size a ≤ S4096x512.size a) ∧
  (∀ k0_t70 : Fin k0_t70_loop.trips, ∀ (k0_h70 : k0_cond70 i v25 v3289 = 1#1), ∀ a, (k0_off354 v3291 k0_t70) a + S1x16.size a ≤ S32x512.size a) ∧
  (∀ k0_t70 : Fin k0_t70_loop.trips, ∀ (k0_h70 : k0_cond70 i v25 v3289 = 1#1), ∀ a, (k0_off356 v3291 k0_t70) a + S1x16.size a ≤ S32x512.size a)
theorem k0_off353_inb : ∀ (i : grid0.Coords) (v25 : BitVec 32) (v3289 : BitVec 32) (v3291 : BitVec 32) (k0_hw139 : k0_chk139 i v25 v3289 v3291), ∀ (k0_h70 : k0_cond70 i v25 v3289 = 1#1), ∀ a, (k0_off353 i v3291) a + S32x512.size a ≤ S4096x512.size a := fun i v25 v3289 v3291 k0_hw139 k0_h70 => k0_hw139.1 k0_h70
theorem k0_off354_inb : ∀ (i : grid0.Coords) (v25 : BitVec 32) (v3289 : BitVec 32) (v3291 : BitVec 32) (k0_hw139 : k0_chk139 i v25 v3289 v3291) (k0_t70 : Fin k0_t70_loop.trips), ∀ (k0_h70 : k0_cond70 i v25 v3289 = 1#1), ∀ a, (k0_off354 v3291 k0_t70) a + S1x16.size a ≤ S32x512.size a := fun i v25 v3289 v3291 k0_hw139 k0_t70 k0_h70 => k0_hw139.2.1 k0_t70 k0_h70
theorem k0_off356_inb : ∀ (i : grid0.Coords) (v25 : BitVec 32) (v3289 : BitVec 32) (v3291 : BitVec 32) (k0_hw139 : k0_chk139 i v25 v3289 v3291) (k0_t70 : Fin k0_t70_loop.trips), ∀ (k0_h70 : k0_cond70 i v25 v3289 = 1#1), ∀ a, (k0_off356 v3291 k0_t70) a + S1x16.size a ≤ S32x512.size a := fun i v25 v3289 v3291 k0_hw139 k0_t70 k0_h70 => k0_hw139.2.2 k0_t70 k0_h70

def k0_off357 (v3289 : BitVec 32) (k0_t70 : Fin k0_t70_loop.trips) : Fin 2 → Nat :=
  let c0_i32_1252 : BitVec 32 := 0#32
  let v3293 : BitVec 1 := Scalar.cmpi .sgt v3289 c0_i32_1252
  let v3294 : BitVec 32 := Scalar.extui v3293
  let c0_i32_1253 : BitVec 32 := 0#32
  let v3295 : BitVec 1 := Scalar.cmpi .slt v3289 c0_i32_1253
  let v3296 : BitVec 32 := Scalar.extui v3295
  let v3297 : BitVec 32 := Scalar.subi v3294 v3296
  let c16_i32_1251 : BitVec 32 := 16#32
  let c0_i32_1254 : BitVec 32 := 0#32
  let v3298 : BitVec 1 := Scalar.cmpi .sgt c16_i32_1251 c0_i32_1254
  let v3299 : BitVec 32 := Scalar.extui v3298
  let c0_i32_1255 : BitVec 32 := 0#32
  let v3300 : BitVec 1 := Scalar.cmpi .slt c16_i32_1251 c0_i32_1255
  let v3301 : BitVec 32 := Scalar.extui v3300
  let v3302 : BitVec 32 := Scalar.subi v3299 v3301
  let v3303 : BitVec 1 := Scalar.cmpi .ne v3297 v3302
  let v3304 : BitVec 32 := Scalar.remsi v3289 c16_i32_1251
  let c0_i32_1256 : BitVec 32 := 0#32
  let v3305 : BitVec 1 := Scalar.cmpi .ne v3304 c0_i32_1256
  let v3306 : BitVec 1 := Scalar.andi v3303 v3305
  let v3292 : BitVec 32 := Scalar.divsi v3289 c16_i32_1251
  let c1_i32_1257 : BitVec 32 := 1#32
  let v3307 : BitVec 32 := Scalar.subi v3292 c1_i32_1257
  let v3308 : BitVec 32 := Scalar.select v3306 v3307 v3292
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3308 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t70
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3289 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk140 (i : grid0.Coords) (v25 : BitVec 32) (v3289 : BitVec 32) : Prop :=
  (∀ k0_t70 : Fin k0_t70_loop.trips, ∀ (k0_h70 : k0_cond70 i v25 v3289 = 1#1), ∀ a, (k0_off355 v3289 k0_t70) a + S1x16.size a ≤ S128x512.size a) ∧
  (∀ k0_t70 : Fin k0_t70_loop.trips, ∀ (k0_h70 : k0_cond70 i v25 v3289 = 1#1), ∀ a, (k0_off357 v3289 k0_t70) a + S1x16.size a ≤ S128x512.size a)
theorem k0_off355_inb : ∀ (i : grid0.Coords) (v25 : BitVec 32) (v3289 : BitVec 32) (k0_hw140 : k0_chk140 i v25 v3289) (k0_t70 : Fin k0_t70_loop.trips), ∀ (k0_h70 : k0_cond70 i v25 v3289 = 1#1), ∀ a, (k0_off355 v3289 k0_t70) a + S1x16.size a ≤ S128x512.size a := fun i v25 v3289 k0_hw140 k0_t70 k0_h70 => k0_hw140.1 k0_t70 k0_h70
theorem k0_off357_inb : ∀ (i : grid0.Coords) (v25 : BitVec 32) (v3289 : BitVec 32) (k0_hw140 : k0_chk140 i v25 v3289) (k0_t70 : Fin k0_t70_loop.trips), ∀ (k0_h70 : k0_cond70 i v25 v3289 = 1#1), ∀ a, (k0_off357 v3289 k0_t70) a + S1x16.size a ≤ S128x512.size a := fun i v25 v3289 k0_hw140 k0_t70 k0_h70 => k0_hw140.2 k0_t70 k0_h70

def k0_off358 (i : grid0.Coords) (v3334 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3334 c0_i32_1428
  let v3763 : BitVec 32 := Scalar.extui v3762
  let c0_i32_1429 : BitVec 32 := 0#32
  let v3764 : BitVec 1 := Scalar.cmpi .slt v3334 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3334 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3334 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r82 : BitVec 32 := 0#32
  ![v3779.toNat, 0]
def k0_cond71 (i : grid0.Coords) (v25 : BitVec 32) (v3332 : BitVec 32) : BitVec 1 :=
  let c6_i32_1274 : BitVec 32 := 6#32
  let v3352 : BitVec 1 := Scalar.cmpi .sgt v25 c6_i32_1274
  let c0_i32_1268 : BitVec 32 := 0#32
  let v3336 : BitVec 1 := Scalar.cmpi .sgt v3332 c0_i32_1268
  let v3337 : BitVec 32 := Scalar.extui v3336
  let c0_i32_1269 : BitVec 32 := 0#32
  let v3338 : BitVec 1 := Scalar.cmpi .slt v3332 c0_i32_1269
  let v3339 : BitVec 32 := Scalar.extui v3338
  let v3340 : BitVec 32 := Scalar.subi v3337 v3339
  let c16_i32_1267 : BitVec 32 := 16#32
  let c0_i32_1270 : BitVec 32 := 0#32
  let v3341 : BitVec 1 := Scalar.cmpi .sgt c16_i32_1267 c0_i32_1270
  let v3342 : BitVec 32 := Scalar.extui v3341
  let c0_i32_1271 : BitVec 32 := 0#32
  let v3343 : BitVec 1 := Scalar.cmpi .slt c16_i32_1267 c0_i32_1271
  let v3344 : BitVec 32 := Scalar.extui v3343
  let v3345 : BitVec 32 := Scalar.subi v3342 v3344
  let v3346 : BitVec 1 := Scalar.cmpi .ne v3340 v3345
  let v3347 : BitVec 32 := Scalar.remsi v3332 c16_i32_1267
  let c0_i32_1272 : BitVec 32 := 0#32
  let v3348 : BitVec 1 := Scalar.cmpi .ne v3347 c0_i32_1272
  let v3349 : BitVec 1 := Scalar.andi v3346 v3348
  let v3335 : BitVec 32 := Scalar.divsi v3332 c16_i32_1267
  let c1_i32_1273 : BitVec 32 := 1#32
  let v3350 : BitVec 32 := Scalar.subi v3335 c1_i32_1273
  let v3351 : BitVec 32 := Scalar.select v3349 v3350 v3335
  let c0_i32_1276 : BitVec 32 := 0#32
  let v3354 : BitVec 1 := Scalar.cmpi .sgt v3351 c0_i32_1276
  let v3355 : BitVec 32 := Scalar.extui v3354
  let c0_i32_1277 : BitVec 32 := 0#32
  let v3356 : BitVec 1 := Scalar.cmpi .slt v3351 c0_i32_1277
  let v3357 : BitVec 32 := Scalar.extui v3356
  let v3358 : BitVec 32 := Scalar.subi v3355 v3357
  let c4_i32_1275 : BitVec 32 := 4#32
  let c0_i32_1278 : BitVec 32 := 0#32
  let v3359 : BitVec 1 := Scalar.cmpi .sgt c4_i32_1275 c0_i32_1278
  let v3360 : BitVec 32 := Scalar.extui v3359
  let c0_i32_1279 : BitVec 32 := 0#32
  let v3361 : BitVec 1 := Scalar.cmpi .slt c4_i32_1275 c0_i32_1279
  let v3362 : BitVec 32 := Scalar.extui v3361
  let v3363 : BitVec 32 := Scalar.subi v3360 v3362
  let v3364 : BitVec 1 := Scalar.cmpi .ne v3358 v3363
  let v3365 : BitVec 32 := Scalar.remsi v3351 c4_i32_1275
  let c0_i32_1280 : BitVec 32 := 0#32
  let v3366 : BitVec 1 := Scalar.cmpi .ne v3365 c0_i32_1280
  let v3367 : BitVec 1 := Scalar.andi v3364 v3366
  let v3353 : BitVec 32 := Scalar.divsi v3351 c4_i32_1275
  let c1_i32_1281 : BitVec 32 := 1#32
  let v3368 : BitVec 32 := Scalar.subi v3353 c1_i32_1281
  let v3369 : BitVec 32 := Scalar.select v3367 v3368 v3353
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3370 : BitVec 1 := Scalar.cmpi .eq v3369 v3072
  let v3371 : BitVec 1 := Scalar.andi v3352 v3370
  let v3372 : BitVec 32 := Scalar.extui v3371
  let c0_i32_1282 : BitVec 32 := 0#32
  let v3373 : BitVec 1 := Scalar.cmpi .ne v3372 c0_i32_1282
  v3373

@[reducible] def k0_t71_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off359 (v3334 : BitVec 32) (k0_t71 : Fin k0_t71_loop.trips) : Fin 2 → Nat :=
  let c0_i32_1453 : BitVec 32 := 0#32
  let c1_i32_1455 : BitVec 32 := 1#32
  let arg19 : BitVec 32 := Scf.iv c0_i32_1453 c1_i32_1455 k0_t71
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3334 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off360 (v3332 : BitVec 32) (k0_t71 : Fin k0_t71_loop.trips) : Fin 2 → Nat :=
  let c0_i32_1268 : BitVec 32 := 0#32
  let v3336 : BitVec 1 := Scalar.cmpi .sgt v3332 c0_i32_1268
  let v3337 : BitVec 32 := Scalar.extui v3336
  let c0_i32_1269 : BitVec 32 := 0#32
  let v3338 : BitVec 1 := Scalar.cmpi .slt v3332 c0_i32_1269
  let v3339 : BitVec 32 := Scalar.extui v3338
  let v3340 : BitVec 32 := Scalar.subi v3337 v3339
  let c16_i32_1267 : BitVec 32 := 16#32
  let c0_i32_1270 : BitVec 32 := 0#32
  let v3341 : BitVec 1 := Scalar.cmpi .sgt c16_i32_1267 c0_i32_1270
  let v3342 : BitVec 32 := Scalar.extui v3341
  let c0_i32_1271 : BitVec 32 := 0#32
  let v3343 : BitVec 1 := Scalar.cmpi .slt c16_i32_1267 c0_i32_1271
  let v3344 : BitVec 32 := Scalar.extui v3343
  let v3345 : BitVec 32 := Scalar.subi v3342 v3344
  let v3346 : BitVec 1 := Scalar.cmpi .ne v3340 v3345
  let v3347 : BitVec 32 := Scalar.remsi v3332 c16_i32_1267
  let c0_i32_1272 : BitVec 32 := 0#32
  let v3348 : BitVec 1 := Scalar.cmpi .ne v3347 c0_i32_1272
  let v3349 : BitVec 1 := Scalar.andi v3346 v3348
  let v3335 : BitVec 32 := Scalar.divsi v3332 c16_i32_1267
  let c1_i32_1273 : BitVec 32 := 1#32
  let v3350 : BitVec 32 := Scalar.subi v3335 c1_i32_1273
  let v3351 : BitVec 32 := Scalar.select v3349 v3350 v3335
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3351 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t71
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3332 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off361 (v3334 : BitVec 32) (k0_t71 : Fin k0_t71_loop.trips) : Fin 2 → Nat :=
  let c0_i32_1453 : BitVec 32 := 0#32
  let c1_i32_1455 : BitVec 32 := 1#32
  let arg19 : BitVec 32 := Scf.iv c0_i32_1453 c1_i32_1455 k0_t71
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3334 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk141 (i : grid0.Coords) (v25 : BitVec 32) (v3332 : BitVec 32) (v3334 : BitVec 32) : Prop :=
  (∀ (k0_h71 : k0_cond71 i v25 v3332 = 1#1), ∀ a, (k0_off358 i v3334) a + S32x512.size a ≤ S4096x512.size a) ∧
  (∀ k0_t71 : Fin k0_t71_loop.trips, ∀ (k0_h71 : k0_cond71 i v25 v3332 = 1#1), ∀ a, (k0_off359 v3334 k0_t71) a + S1x16.size a ≤ S32x512.size a) ∧
  (∀ k0_t71 : Fin k0_t71_loop.trips, ∀ (k0_h71 : k0_cond71 i v25 v3332 = 1#1), ∀ a, (k0_off361 v3334 k0_t71) a + S1x16.size a ≤ S32x512.size a)
theorem k0_off358_inb : ∀ (i : grid0.Coords) (v25 : BitVec 32) (v3332 : BitVec 32) (v3334 : BitVec 32) (k0_hw141 : k0_chk141 i v25 v3332 v3334), ∀ (k0_h71 : k0_cond71 i v25 v3332 = 1#1), ∀ a, (k0_off358 i v3334) a + S32x512.size a ≤ S4096x512.size a := fun i v25 v3332 v3334 k0_hw141 k0_h71 => k0_hw141.1 k0_h71
theorem k0_off359_inb : ∀ (i : grid0.Coords) (v25 : BitVec 32) (v3332 : BitVec 32) (v3334 : BitVec 32) (k0_hw141 : k0_chk141 i v25 v3332 v3334) (k0_t71 : Fin k0_t71_loop.trips), ∀ (k0_h71 : k0_cond71 i v25 v3332 = 1#1), ∀ a, (k0_off359 v3334 k0_t71) a + S1x16.size a ≤ S32x512.size a := fun i v25 v3332 v3334 k0_hw141 k0_t71 k0_h71 => k0_hw141.2.1 k0_t71 k0_h71
theorem k0_off361_inb : ∀ (i : grid0.Coords) (v25 : BitVec 32) (v3332 : BitVec 32) (v3334 : BitVec 32) (k0_hw141 : k0_chk141 i v25 v3332 v3334) (k0_t71 : Fin k0_t71_loop.trips), ∀ (k0_h71 : k0_cond71 i v25 v3332 = 1#1), ∀ a, (k0_off361 v3334 k0_t71) a + S1x16.size a ≤ S32x512.size a := fun i v25 v3332 v3334 k0_hw141 k0_t71 k0_h71 => k0_hw141.2.2 k0_t71 k0_h71

def k0_off362 (v3332 : BitVec 32) (k0_t71 : Fin k0_t71_loop.trips) : Fin 2 → Nat :=
  let c0_i32_1268 : BitVec 32 := 0#32
  let v3336 : BitVec 1 := Scalar.cmpi .sgt v3332 c0_i32_1268
  let v3337 : BitVec 32 := Scalar.extui v3336
  let c0_i32_1269 : BitVec 32 := 0#32
  let v3338 : BitVec 1 := Scalar.cmpi .slt v3332 c0_i32_1269
  let v3339 : BitVec 32 := Scalar.extui v3338
  let v3340 : BitVec 32 := Scalar.subi v3337 v3339
  let c16_i32_1267 : BitVec 32 := 16#32
  let c0_i32_1270 : BitVec 32 := 0#32
  let v3341 : BitVec 1 := Scalar.cmpi .sgt c16_i32_1267 c0_i32_1270
  let v3342 : BitVec 32 := Scalar.extui v3341
  let c0_i32_1271 : BitVec 32 := 0#32
  let v3343 : BitVec 1 := Scalar.cmpi .slt c16_i32_1267 c0_i32_1271
  let v3344 : BitVec 32 := Scalar.extui v3343
  let v3345 : BitVec 32 := Scalar.subi v3342 v3344
  let v3346 : BitVec 1 := Scalar.cmpi .ne v3340 v3345
  let v3347 : BitVec 32 := Scalar.remsi v3332 c16_i32_1267
  let c0_i32_1272 : BitVec 32 := 0#32
  let v3348 : BitVec 1 := Scalar.cmpi .ne v3347 c0_i32_1272
  let v3349 : BitVec 1 := Scalar.andi v3346 v3348
  let v3335 : BitVec 32 := Scalar.divsi v3332 c16_i32_1267
  let c1_i32_1273 : BitVec 32 := 1#32
  let v3350 : BitVec 32 := Scalar.subi v3335 c1_i32_1273
  let v3351 : BitVec 32 := Scalar.select v3349 v3350 v3335
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3351 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t71
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3332 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk142 (i : grid0.Coords) (v25 : BitVec 32) (v3332 : BitVec 32) : Prop :=
  (∀ k0_t71 : Fin k0_t71_loop.trips, ∀ (k0_h71 : k0_cond71 i v25 v3332 = 1#1), ∀ a, (k0_off360 v3332 k0_t71) a + S1x16.size a ≤ S128x512.size a) ∧
  (∀ k0_t71 : Fin k0_t71_loop.trips, ∀ (k0_h71 : k0_cond71 i v25 v3332 = 1#1), ∀ a, (k0_off362 v3332 k0_t71) a + S1x16.size a ≤ S128x512.size a)
theorem k0_off360_inb : ∀ (i : grid0.Coords) (v25 : BitVec 32) (v3332 : BitVec 32) (k0_hw142 : k0_chk142 i v25 v3332) (k0_t71 : Fin k0_t71_loop.trips), ∀ (k0_h71 : k0_cond71 i v25 v3332 = 1#1), ∀ a, (k0_off360 v3332 k0_t71) a + S1x16.size a ≤ S128x512.size a := fun i v25 v3332 k0_hw142 k0_t71 k0_h71 => k0_hw142.1 k0_t71 k0_h71
theorem k0_off362_inb : ∀ (i : grid0.Coords) (v25 : BitVec 32) (v3332 : BitVec 32) (k0_hw142 : k0_chk142 i v25 v3332) (k0_t71 : Fin k0_t71_loop.trips), ∀ (k0_h71 : k0_cond71 i v25 v3332 = 1#1), ∀ a, (k0_off362 v3332 k0_t71) a + S1x16.size a ≤ S128x512.size a := fun i v25 v3332 k0_hw142 k0_t71 k0_h71 => k0_hw142.2 k0_t71 k0_h71

def k0_off363 (i : grid0.Coords) (v3377 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3377 c0_i32_1428
  let v3763 : BitVec 32 := Scalar.extui v3762
  let c0_i32_1429 : BitVec 32 := 0#32
  let v3764 : BitVec 1 := Scalar.cmpi .slt v3377 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3377 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3377 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r83 : BitVec 32 := 0#32
  ![v3779.toNat, 0]
def k0_cond72 (i : grid0.Coords) (v25 : BitVec 32) (v3375 : BitVec 32) : BitVec 1 :=
  let c7_i32_1290 : BitVec 32 := 7#32
  let v3395 : BitVec 1 := Scalar.cmpi .sgt v25 c7_i32_1290
  let c0_i32_1284 : BitVec 32 := 0#32
  let v3379 : BitVec 1 := Scalar.cmpi .sgt v3375 c0_i32_1284
  let v3380 : BitVec 32 := Scalar.extui v3379
  let c0_i32_1285 : BitVec 32 := 0#32
  let v3381 : BitVec 1 := Scalar.cmpi .slt v3375 c0_i32_1285
  let v3382 : BitVec 32 := Scalar.extui v3381
  let v3383 : BitVec 32 := Scalar.subi v3380 v3382
  let c16_i32_1283 : BitVec 32 := 16#32
  let c0_i32_1286 : BitVec 32 := 0#32
  let v3384 : BitVec 1 := Scalar.cmpi .sgt c16_i32_1283 c0_i32_1286
  let v3385 : BitVec 32 := Scalar.extui v3384
  let c0_i32_1287 : BitVec 32 := 0#32
  let v3386 : BitVec 1 := Scalar.cmpi .slt c16_i32_1283 c0_i32_1287
  let v3387 : BitVec 32 := Scalar.extui v3386
  let v3388 : BitVec 32 := Scalar.subi v3385 v3387
  let v3389 : BitVec 1 := Scalar.cmpi .ne v3383 v3388
  let v3390 : BitVec 32 := Scalar.remsi v3375 c16_i32_1283
  let c0_i32_1288 : BitVec 32 := 0#32
  let v3391 : BitVec 1 := Scalar.cmpi .ne v3390 c0_i32_1288
  let v3392 : BitVec 1 := Scalar.andi v3389 v3391
  let v3378 : BitVec 32 := Scalar.divsi v3375 c16_i32_1283
  let c1_i32_1289 : BitVec 32 := 1#32
  let v3393 : BitVec 32 := Scalar.subi v3378 c1_i32_1289
  let v3394 : BitVec 32 := Scalar.select v3392 v3393 v3378
  let c0_i32_1292 : BitVec 32 := 0#32
  let v3397 : BitVec 1 := Scalar.cmpi .sgt v3394 c0_i32_1292
  let v3398 : BitVec 32 := Scalar.extui v3397
  let c0_i32_1293 : BitVec 32 := 0#32
  let v3399 : BitVec 1 := Scalar.cmpi .slt v3394 c0_i32_1293
  let v3400 : BitVec 32 := Scalar.extui v3399
  let v3401 : BitVec 32 := Scalar.subi v3398 v3400
  let c4_i32_1291 : BitVec 32 := 4#32
  let c0_i32_1294 : BitVec 32 := 0#32
  let v3402 : BitVec 1 := Scalar.cmpi .sgt c4_i32_1291 c0_i32_1294
  let v3403 : BitVec 32 := Scalar.extui v3402
  let c0_i32_1295 : BitVec 32 := 0#32
  let v3404 : BitVec 1 := Scalar.cmpi .slt c4_i32_1291 c0_i32_1295
  let v3405 : BitVec 32 := Scalar.extui v3404
  let v3406 : BitVec 32 := Scalar.subi v3403 v3405
  let v3407 : BitVec 1 := Scalar.cmpi .ne v3401 v3406
  let v3408 : BitVec 32 := Scalar.remsi v3394 c4_i32_1291
  let c0_i32_1296 : BitVec 32 := 0#32
  let v3409 : BitVec 1 := Scalar.cmpi .ne v3408 c0_i32_1296
  let v3410 : BitVec 1 := Scalar.andi v3407 v3409
  let v3396 : BitVec 32 := Scalar.divsi v3394 c4_i32_1291
  let c1_i32_1297 : BitVec 32 := 1#32
  let v3411 : BitVec 32 := Scalar.subi v3396 c1_i32_1297
  let v3412 : BitVec 32 := Scalar.select v3410 v3411 v3396
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3413 : BitVec 1 := Scalar.cmpi .eq v3412 v3072
  let v3414 : BitVec 1 := Scalar.andi v3395 v3413
  let v3415 : BitVec 32 := Scalar.extui v3414
  let c0_i32_1298 : BitVec 32 := 0#32
  let v3416 : BitVec 1 := Scalar.cmpi .ne v3415 c0_i32_1298
  v3416

@[reducible] def k0_t72_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off364 (v3377 : BitVec 32) (k0_t72 : Fin k0_t72_loop.trips) : Fin 2 → Nat :=
  let c0_i32_1453 : BitVec 32 := 0#32
  let c1_i32_1455 : BitVec 32 := 1#32
  let arg19 : BitVec 32 := Scf.iv c0_i32_1453 c1_i32_1455 k0_t72
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3377 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off365 (v3375 : BitVec 32) (k0_t72 : Fin k0_t72_loop.trips) : Fin 2 → Nat :=
  let c0_i32_1284 : BitVec 32 := 0#32
  let v3379 : BitVec 1 := Scalar.cmpi .sgt v3375 c0_i32_1284
  let v3380 : BitVec 32 := Scalar.extui v3379
  let c0_i32_1285 : BitVec 32 := 0#32
  let v3381 : BitVec 1 := Scalar.cmpi .slt v3375 c0_i32_1285
  let v3382 : BitVec 32 := Scalar.extui v3381
  let v3383 : BitVec 32 := Scalar.subi v3380 v3382
  let c16_i32_1283 : BitVec 32 := 16#32
  let c0_i32_1286 : BitVec 32 := 0#32
  let v3384 : BitVec 1 := Scalar.cmpi .sgt c16_i32_1283 c0_i32_1286
  let v3385 : BitVec 32 := Scalar.extui v3384
  let c0_i32_1287 : BitVec 32 := 0#32
  let v3386 : BitVec 1 := Scalar.cmpi .slt c16_i32_1283 c0_i32_1287
  let v3387 : BitVec 32 := Scalar.extui v3386
  let v3388 : BitVec 32 := Scalar.subi v3385 v3387
  let v3389 : BitVec 1 := Scalar.cmpi .ne v3383 v3388
  let v3390 : BitVec 32 := Scalar.remsi v3375 c16_i32_1283
  let c0_i32_1288 : BitVec 32 := 0#32
  let v3391 : BitVec 1 := Scalar.cmpi .ne v3390 c0_i32_1288
  let v3392 : BitVec 1 := Scalar.andi v3389 v3391
  let v3378 : BitVec 32 := Scalar.divsi v3375 c16_i32_1283
  let c1_i32_1289 : BitVec 32 := 1#32
  let v3393 : BitVec 32 := Scalar.subi v3378 c1_i32_1289
  let v3394 : BitVec 32 := Scalar.select v3392 v3393 v3378
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3394 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t72
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3375 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off366 (v3377 : BitVec 32) (k0_t72 : Fin k0_t72_loop.trips) : Fin 2 → Nat :=
  let c0_i32_1453 : BitVec 32 := 0#32
  let c1_i32_1455 : BitVec 32 := 1#32
  let arg19 : BitVec 32 := Scf.iv c0_i32_1453 c1_i32_1455 k0_t72
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3377 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk143 (i : grid0.Coords) (v25 : BitVec 32) (v3375 : BitVec 32) (v3377 : BitVec 32) : Prop :=
  (∀ (k0_h72 : k0_cond72 i v25 v3375 = 1#1), ∀ a, (k0_off363 i v3377) a + S32x512.size a ≤ S4096x512.size a) ∧
  (∀ k0_t72 : Fin k0_t72_loop.trips, ∀ (k0_h72 : k0_cond72 i v25 v3375 = 1#1), ∀ a, (k0_off364 v3377 k0_t72) a + S1x16.size a ≤ S32x512.size a) ∧
  (∀ k0_t72 : Fin k0_t72_loop.trips, ∀ (k0_h72 : k0_cond72 i v25 v3375 = 1#1), ∀ a, (k0_off366 v3377 k0_t72) a + S1x16.size a ≤ S32x512.size a)
theorem k0_off363_inb : ∀ (i : grid0.Coords) (v25 : BitVec 32) (v3375 : BitVec 32) (v3377 : BitVec 32) (k0_hw143 : k0_chk143 i v25 v3375 v3377), ∀ (k0_h72 : k0_cond72 i v25 v3375 = 1#1), ∀ a, (k0_off363 i v3377) a + S32x512.size a ≤ S4096x512.size a := fun i v25 v3375 v3377 k0_hw143 k0_h72 => k0_hw143.1 k0_h72
theorem k0_off364_inb : ∀ (i : grid0.Coords) (v25 : BitVec 32) (v3375 : BitVec 32) (v3377 : BitVec 32) (k0_hw143 : k0_chk143 i v25 v3375 v3377) (k0_t72 : Fin k0_t72_loop.trips), ∀ (k0_h72 : k0_cond72 i v25 v3375 = 1#1), ∀ a, (k0_off364 v3377 k0_t72) a + S1x16.size a ≤ S32x512.size a := fun i v25 v3375 v3377 k0_hw143 k0_t72 k0_h72 => k0_hw143.2.1 k0_t72 k0_h72
theorem k0_off366_inb : ∀ (i : grid0.Coords) (v25 : BitVec 32) (v3375 : BitVec 32) (v3377 : BitVec 32) (k0_hw143 : k0_chk143 i v25 v3375 v3377) (k0_t72 : Fin k0_t72_loop.trips), ∀ (k0_h72 : k0_cond72 i v25 v3375 = 1#1), ∀ a, (k0_off366 v3377 k0_t72) a + S1x16.size a ≤ S32x512.size a := fun i v25 v3375 v3377 k0_hw143 k0_t72 k0_h72 => k0_hw143.2.2 k0_t72 k0_h72

def k0_off367 (v3375 : BitVec 32) (k0_t72 : Fin k0_t72_loop.trips) : Fin 2 → Nat :=
  let c0_i32_1284 : BitVec 32 := 0#32
  let v3379 : BitVec 1 := Scalar.cmpi .sgt v3375 c0_i32_1284
  let v3380 : BitVec 32 := Scalar.extui v3379
  let c0_i32_1285 : BitVec 32 := 0#32
  let v3381 : BitVec 1 := Scalar.cmpi .slt v3375 c0_i32_1285
  let v3382 : BitVec 32 := Scalar.extui v3381
  let v3383 : BitVec 32 := Scalar.subi v3380 v3382
  let c16_i32_1283 : BitVec 32 := 16#32
  let c0_i32_1286 : BitVec 32 := 0#32
  let v3384 : BitVec 1 := Scalar.cmpi .sgt c16_i32_1283 c0_i32_1286
  let v3385 : BitVec 32 := Scalar.extui v3384
  let c0_i32_1287 : BitVec 32 := 0#32
  let v3386 : BitVec 1 := Scalar.cmpi .slt c16_i32_1283 c0_i32_1287
  let v3387 : BitVec 32 := Scalar.extui v3386
  let v3388 : BitVec 32 := Scalar.subi v3385 v3387
  let v3389 : BitVec 1 := Scalar.cmpi .ne v3383 v3388
  let v3390 : BitVec 32 := Scalar.remsi v3375 c16_i32_1283
  let c0_i32_1288 : BitVec 32 := 0#32
  let v3391 : BitVec 1 := Scalar.cmpi .ne v3390 c0_i32_1288
  let v3392 : BitVec 1 := Scalar.andi v3389 v3391
  let v3378 : BitVec 32 := Scalar.divsi v3375 c16_i32_1283
  let c1_i32_1289 : BitVec 32 := 1#32
  let v3393 : BitVec 32 := Scalar.subi v3378 c1_i32_1289
  let v3394 : BitVec 32 := Scalar.select v3392 v3393 v3378
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3394 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t72
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3375 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk144 (i : grid0.Coords) (v25 : BitVec 32) (v3375 : BitVec 32) : Prop :=
  (∀ k0_t72 : Fin k0_t72_loop.trips, ∀ (k0_h72 : k0_cond72 i v25 v3375 = 1#1), ∀ a, (k0_off365 v3375 k0_t72) a + S1x16.size a ≤ S128x512.size a) ∧
  (∀ k0_t72 : Fin k0_t72_loop.trips, ∀ (k0_h72 : k0_cond72 i v25 v3375 = 1#1), ∀ a, (k0_off367 v3375 k0_t72) a + S1x16.size a ≤ S128x512.size a)
theorem k0_off365_inb : ∀ (i : grid0.Coords) (v25 : BitVec 32) (v3375 : BitVec 32) (k0_hw144 : k0_chk144 i v25 v3375) (k0_t72 : Fin k0_t72_loop.trips), ∀ (k0_h72 : k0_cond72 i v25 v3375 = 1#1), ∀ a, (k0_off365 v3375 k0_t72) a + S1x16.size a ≤ S128x512.size a := fun i v25 v3375 k0_hw144 k0_t72 k0_h72 => k0_hw144.1 k0_t72 k0_h72
theorem k0_off367_inb : ∀ (i : grid0.Coords) (v25 : BitVec 32) (v3375 : BitVec 32) (k0_hw144 : k0_chk144 i v25 v3375) (k0_t72 : Fin k0_t72_loop.trips), ∀ (k0_h72 : k0_cond72 i v25 v3375 = 1#1), ∀ a, (k0_off367 v3375 k0_t72) a + S1x16.size a ≤ S128x512.size a := fun i v25 v3375 k0_hw144 k0_t72 k0_h72 => k0_hw144.2 k0_t72 k0_h72

def k0_off368 (i : grid0.Coords) (v3420 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3420 c0_i32_1428
  let v3763 : BitVec 32 := Scalar.extui v3762
  let c0_i32_1429 : BitVec 32 := 0#32
  let v3764 : BitVec 1 := Scalar.cmpi .slt v3420 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3420 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3420 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r84 : BitVec 32 := 0#32
  ![v3779.toNat, 0]

variable {F : FTy → Type} [FloatOps F]

def k0_cond73 (i : grid0.Coords) (v25 : BitVec 32) (v3418 : BitVec 32) : BitVec 1 :=
  let c8_i32_1306 : BitVec 32 := 8#32
  let v3438 : BitVec 1 := Scalar.cmpi .sgt v25 c8_i32_1306
  let c0_i32_1300 : BitVec 32 := 0#32
  let v3422 : BitVec 1 := Scalar.cmpi .sgt v3418 c0_i32_1300
  let v3423 : BitVec 32 := Scalar.extui v3422
  let c0_i32_1301 : BitVec 32 := 0#32
  let v3424 : BitVec 1 := Scalar.cmpi .slt v3418 c0_i32_1301
  let v3425 : BitVec 32 := Scalar.extui v3424
  let v3426 : BitVec 32 := Scalar.subi v3423 v3425
  let c16_i32_1299 : BitVec 32 := 16#32
  let c0_i32_1302 : BitVec 32 := 0#32
  let v3427 : BitVec 1 := Scalar.cmpi .sgt c16_i32_1299 c0_i32_1302
  let v3428 : BitVec 32 := Scalar.extui v3427
  let c0_i32_1303 : BitVec 32 := 0#32
  let v3429 : BitVec 1 := Scalar.cmpi .slt c16_i32_1299 c0_i32_1303
  let v3430 : BitVec 32 := Scalar.extui v3429
  let v3431 : BitVec 32 := Scalar.subi v3428 v3430
  let v3432 : BitVec 1 := Scalar.cmpi .ne v3426 v3431
  let v3433 : BitVec 32 := Scalar.remsi v3418 c16_i32_1299
  let c0_i32_1304 : BitVec 32 := 0#32
  let v3434 : BitVec 1 := Scalar.cmpi .ne v3433 c0_i32_1304
  let v3435 : BitVec 1 := Scalar.andi v3432 v3434
  let v3421 : BitVec 32 := Scalar.divsi v3418 c16_i32_1299
  let c1_i32_1305 : BitVec 32 := 1#32
  let v3436 : BitVec 32 := Scalar.subi v3421 c1_i32_1305
  let v3437 : BitVec 32 := Scalar.select v3435 v3436 v3421
  let c0_i32_1308 : BitVec 32 := 0#32
  let v3440 : BitVec 1 := Scalar.cmpi .sgt v3437 c0_i32_1308
  let v3441 : BitVec 32 := Scalar.extui v3440
  let c0_i32_1309 : BitVec 32 := 0#32
  let v3442 : BitVec 1 := Scalar.cmpi .slt v3437 c0_i32_1309
  let v3443 : BitVec 32 := Scalar.extui v3442
  let v3444 : BitVec 32 := Scalar.subi v3441 v3443
  let c4_i32_1307 : BitVec 32 := 4#32
  let c0_i32_1310 : BitVec 32 := 0#32
  let v3445 : BitVec 1 := Scalar.cmpi .sgt c4_i32_1307 c0_i32_1310
  let v3446 : BitVec 32 := Scalar.extui v3445
  let c0_i32_1311 : BitVec 32 := 0#32
  let v3447 : BitVec 1 := Scalar.cmpi .slt c4_i32_1307 c0_i32_1311
  let v3448 : BitVec 32 := Scalar.extui v3447
  let v3449 : BitVec 32 := Scalar.subi v3446 v3448
  let v3450 : BitVec 1 := Scalar.cmpi .ne v3444 v3449
  let v3451 : BitVec 32 := Scalar.remsi v3437 c4_i32_1307
  let c0_i32_1312 : BitVec 32 := 0#32
  let v3452 : BitVec 1 := Scalar.cmpi .ne v3451 c0_i32_1312
  let v3453 : BitVec 1 := Scalar.andi v3450 v3452
  let v3439 : BitVec 32 := Scalar.divsi v3437 c4_i32_1307
  let c1_i32_1313 : BitVec 32 := 1#32
  let v3454 : BitVec 32 := Scalar.subi v3439 c1_i32_1313
  let v3455 : BitVec 32 := Scalar.select v3453 v3454 v3439
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3456 : BitVec 1 := Scalar.cmpi .eq v3455 v3072
  let v3457 : BitVec 1 := Scalar.andi v3438 v3456
  let v3458 : BitVec 32 := Scalar.extui v3457
  let c0_i32_1314 : BitVec 32 := 0#32
  let v3459 : BitVec 1 := Scalar.cmpi .ne v3458 c0_i32_1314
  v3459

@[reducible] def k0_t73_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off369 (v3420 : BitVec 32) (k0_t73 : Fin k0_t73_loop.trips) : Fin 2 → Nat :=
  let c0_i32_1453 : BitVec 32 := 0#32
  let c1_i32_1455 : BitVec 32 := 1#32
  let arg19 : BitVec 32 := Scf.iv c0_i32_1453 c1_i32_1455 k0_t73
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3420 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off370 (v3418 : BitVec 32) (k0_t73 : Fin k0_t73_loop.trips) : Fin 2 → Nat :=
  let c0_i32_1300 : BitVec 32 := 0#32
  let v3422 : BitVec 1 := Scalar.cmpi .sgt v3418 c0_i32_1300
  let v3423 : BitVec 32 := Scalar.extui v3422
  let c0_i32_1301 : BitVec 32 := 0#32
  let v3424 : BitVec 1 := Scalar.cmpi .slt v3418 c0_i32_1301
  let v3425 : BitVec 32 := Scalar.extui v3424
  let v3426 : BitVec 32 := Scalar.subi v3423 v3425
  let c16_i32_1299 : BitVec 32 := 16#32
  let c0_i32_1302 : BitVec 32 := 0#32
  let v3427 : BitVec 1 := Scalar.cmpi .sgt c16_i32_1299 c0_i32_1302
  let v3428 : BitVec 32 := Scalar.extui v3427
  let c0_i32_1303 : BitVec 32 := 0#32
  let v3429 : BitVec 1 := Scalar.cmpi .slt c16_i32_1299 c0_i32_1303
  let v3430 : BitVec 32 := Scalar.extui v3429
  let v3431 : BitVec 32 := Scalar.subi v3428 v3430
  let v3432 : BitVec 1 := Scalar.cmpi .ne v3426 v3431
  let v3433 : BitVec 32 := Scalar.remsi v3418 c16_i32_1299
  let c0_i32_1304 : BitVec 32 := 0#32
  let v3434 : BitVec 1 := Scalar.cmpi .ne v3433 c0_i32_1304
  let v3435 : BitVec 1 := Scalar.andi v3432 v3434
  let v3421 : BitVec 32 := Scalar.divsi v3418 c16_i32_1299
  let c1_i32_1305 : BitVec 32 := 1#32
  let v3436 : BitVec 32 := Scalar.subi v3421 c1_i32_1305
  let v3437 : BitVec 32 := Scalar.select v3435 v3436 v3421
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3437 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t73
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3418 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off371 (v3420 : BitVec 32) (k0_t73 : Fin k0_t73_loop.trips) : Fin 2 → Nat :=
  let c0_i32_1453 : BitVec 32 := 0#32
  let c1_i32_1455 : BitVec 32 := 1#32
  let arg19 : BitVec 32 := Scf.iv c0_i32_1453 c1_i32_1455 k0_t73
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3420 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk145 (i : grid0.Coords) (v25 : BitVec 32) (v3418 : BitVec 32) (v3420 : BitVec 32) : Prop :=
  (∀ (k0_h73 : k0_cond73 i v25 v3418 = 1#1), ∀ a, (k0_off368 i v3420) a + S32x512.size a ≤ S4096x512.size a) ∧
  (∀ k0_t73 : Fin k0_t73_loop.trips, ∀ (k0_h73 : k0_cond73 i v25 v3418 = 1#1), ∀ a, (k0_off369 v3420 k0_t73) a + S1x16.size a ≤ S32x512.size a) ∧
  (∀ k0_t73 : Fin k0_t73_loop.trips, ∀ (k0_h73 : k0_cond73 i v25 v3418 = 1#1), ∀ a, (k0_off371 v3420 k0_t73) a + S1x16.size a ≤ S32x512.size a)
theorem k0_off368_inb : ∀ (i : grid0.Coords) (v25 : BitVec 32) (v3418 : BitVec 32) (v3420 : BitVec 32) (k0_hw145 : k0_chk145 i v25 v3418 v3420), ∀ (k0_h73 : k0_cond73 i v25 v3418 = 1#1), ∀ a, (k0_off368 i v3420) a + S32x512.size a ≤ S4096x512.size a := fun i v25 v3418 v3420 k0_hw145 k0_h73 => k0_hw145.1 k0_h73
theorem k0_off369_inb : ∀ (i : grid0.Coords) (v25 : BitVec 32) (v3418 : BitVec 32) (v3420 : BitVec 32) (k0_hw145 : k0_chk145 i v25 v3418 v3420) (k0_t73 : Fin k0_t73_loop.trips), ∀ (k0_h73 : k0_cond73 i v25 v3418 = 1#1), ∀ a, (k0_off369 v3420 k0_t73) a + S1x16.size a ≤ S32x512.size a := fun i v25 v3418 v3420 k0_hw145 k0_t73 k0_h73 => k0_hw145.2.1 k0_t73 k0_h73
theorem k0_off371_inb : ∀ (i : grid0.Coords) (v25 : BitVec 32) (v3418 : BitVec 32) (v3420 : BitVec 32) (k0_hw145 : k0_chk145 i v25 v3418 v3420) (k0_t73 : Fin k0_t73_loop.trips), ∀ (k0_h73 : k0_cond73 i v25 v3418 = 1#1), ∀ a, (k0_off371 v3420 k0_t73) a + S1x16.size a ≤ S32x512.size a := fun i v25 v3418 v3420 k0_hw145 k0_t73 k0_h73 => k0_hw145.2.2 k0_t73 k0_h73

def k0_off372 (v3418 : BitVec 32) (k0_t73 : Fin k0_t73_loop.trips) : Fin 2 → Nat :=
  let c0_i32_1300 : BitVec 32 := 0#32
  let v3422 : BitVec 1 := Scalar.cmpi .sgt v3418 c0_i32_1300
  let v3423 : BitVec 32 := Scalar.extui v3422
  let c0_i32_1301 : BitVec 32 := 0#32
  let v3424 : BitVec 1 := Scalar.cmpi .slt v3418 c0_i32_1301
  let v3425 : BitVec 32 := Scalar.extui v3424
  let v3426 : BitVec 32 := Scalar.subi v3423 v3425
  let c16_i32_1299 : BitVec 32 := 16#32
  let c0_i32_1302 : BitVec 32 := 0#32
  let v3427 : BitVec 1 := Scalar.cmpi .sgt c16_i32_1299 c0_i32_1302
  let v3428 : BitVec 32 := Scalar.extui v3427
  let c0_i32_1303 : BitVec 32 := 0#32
  let v3429 : BitVec 1 := Scalar.cmpi .slt c16_i32_1299 c0_i32_1303
  let v3430 : BitVec 32 := Scalar.extui v3429
  let v3431 : BitVec 32 := Scalar.subi v3428 v3430
  let v3432 : BitVec 1 := Scalar.cmpi .ne v3426 v3431
  let v3433 : BitVec 32 := Scalar.remsi v3418 c16_i32_1299
  let c0_i32_1304 : BitVec 32 := 0#32
  let v3434 : BitVec 1 := Scalar.cmpi .ne v3433 c0_i32_1304
  let v3435 : BitVec 1 := Scalar.andi v3432 v3434
  let v3421 : BitVec 32 := Scalar.divsi v3418 c16_i32_1299
  let c1_i32_1305 : BitVec 32 := 1#32
  let v3436 : BitVec 32 := Scalar.subi v3421 c1_i32_1305
  let v3437 : BitVec 32 := Scalar.select v3435 v3436 v3421
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3437 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t73
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3418 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk146 (i : grid0.Coords) (v25 : BitVec 32) (v3418 : BitVec 32) : Prop :=
  (∀ k0_t73 : Fin k0_t73_loop.trips, ∀ (k0_h73 : k0_cond73 i v25 v3418 = 1#1), ∀ a, (k0_off370 v3418 k0_t73) a + S1x16.size a ≤ S128x512.size a) ∧
  (∀ k0_t73 : Fin k0_t73_loop.trips, ∀ (k0_h73 : k0_cond73 i v25 v3418 = 1#1), ∀ a, (k0_off372 v3418 k0_t73) a + S1x16.size a ≤ S128x512.size a)
theorem k0_off370_inb : ∀ (i : grid0.Coords) (v25 : BitVec 32) (v3418 : BitVec 32) (k0_hw146 : k0_chk146 i v25 v3418) (k0_t73 : Fin k0_t73_loop.trips), ∀ (k0_h73 : k0_cond73 i v25 v3418 = 1#1), ∀ a, (k0_off370 v3418 k0_t73) a + S1x16.size a ≤ S128x512.size a := fun i v25 v3418 k0_hw146 k0_t73 k0_h73 => k0_hw146.1 k0_t73 k0_h73
theorem k0_off372_inb : ∀ (i : grid0.Coords) (v25 : BitVec 32) (v3418 : BitVec 32) (k0_hw146 : k0_chk146 i v25 v3418) (k0_t73 : Fin k0_t73_loop.trips), ∀ (k0_h73 : k0_cond73 i v25 v3418 = 1#1), ∀ a, (k0_off372 v3418 k0_t73) a + S1x16.size a ≤ S128x512.size a := fun i v25 v3418 k0_hw146 k0_t73 k0_h73 => k0_hw146.2 k0_t73 k0_h73

def k0_off373 (i : grid0.Coords) (v3463 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3463 c0_i32_1428
  let v3763 : BitVec 32 := Scalar.extui v3762
  let c0_i32_1429 : BitVec 32 := 0#32
  let v3764 : BitVec 1 := Scalar.cmpi .slt v3463 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3463 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3463 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r85 : BitVec 32 := 0#32
  ![v3779.toNat, 0]
def k0_cond74 (i : grid0.Coords) (v25 : BitVec 32) (v3461 : BitVec 32) : BitVec 1 :=
  let c9_i32_1322 : BitVec 32 := 9#32
  let v3481 : BitVec 1 := Scalar.cmpi .sgt v25 c9_i32_1322
  let c0_i32_1316 : BitVec 32 := 0#32
  let v3465 : BitVec 1 := Scalar.cmpi .sgt v3461 c0_i32_1316
  let v3466 : BitVec 32 := Scalar.extui v3465
  let c0_i32_1317 : BitVec 32 := 0#32
  let v3467 : BitVec 1 := Scalar.cmpi .slt v3461 c0_i32_1317
  let v3468 : BitVec 32 := Scalar.extui v3467
  let v3469 : BitVec 32 := Scalar.subi v3466 v3468
  let c16_i32_1315 : BitVec 32 := 16#32
  let c0_i32_1318 : BitVec 32 := 0#32
  let v3470 : BitVec 1 := Scalar.cmpi .sgt c16_i32_1315 c0_i32_1318
  let v3471 : BitVec 32 := Scalar.extui v3470
  let c0_i32_1319 : BitVec 32 := 0#32
  let v3472 : BitVec 1 := Scalar.cmpi .slt c16_i32_1315 c0_i32_1319
  let v3473 : BitVec 32 := Scalar.extui v3472
  let v3474 : BitVec 32 := Scalar.subi v3471 v3473
  let v3475 : BitVec 1 := Scalar.cmpi .ne v3469 v3474
  let v3476 : BitVec 32 := Scalar.remsi v3461 c16_i32_1315
  let c0_i32_1320 : BitVec 32 := 0#32
  let v3477 : BitVec 1 := Scalar.cmpi .ne v3476 c0_i32_1320
  let v3478 : BitVec 1 := Scalar.andi v3475 v3477
  let v3464 : BitVec 32 := Scalar.divsi v3461 c16_i32_1315
  let c1_i32_1321 : BitVec 32 := 1#32
  let v3479 : BitVec 32 := Scalar.subi v3464 c1_i32_1321
  let v3480 : BitVec 32 := Scalar.select v3478 v3479 v3464
  let c0_i32_1324 : BitVec 32 := 0#32
  let v3483 : BitVec 1 := Scalar.cmpi .sgt v3480 c0_i32_1324
  let v3484 : BitVec 32 := Scalar.extui v3483
  let c0_i32_1325 : BitVec 32 := 0#32
  let v3485 : BitVec 1 := Scalar.cmpi .slt v3480 c0_i32_1325
  let v3486 : BitVec 32 := Scalar.extui v3485
  let v3487 : BitVec 32 := Scalar.subi v3484 v3486
  let c4_i32_1323 : BitVec 32 := 4#32
  let c0_i32_1326 : BitVec 32 := 0#32
  let v3488 : BitVec 1 := Scalar.cmpi .sgt c4_i32_1323 c0_i32_1326
  let v3489 : BitVec 32 := Scalar.extui v3488
  let c0_i32_1327 : BitVec 32 := 0#32
  let v3490 : BitVec 1 := Scalar.cmpi .slt c4_i32_1323 c0_i32_1327
  let v3491 : BitVec 32 := Scalar.extui v3490
  let v3492 : BitVec 32 := Scalar.subi v3489 v3491
  let v3493 : BitVec 1 := Scalar.cmpi .ne v3487 v3492
  let v3494 : BitVec 32 := Scalar.remsi v3480 c4_i32_1323
  let c0_i32_1328 : BitVec 32 := 0#32
  let v3495 : BitVec 1 := Scalar.cmpi .ne v3494 c0_i32_1328
  let v3496 : BitVec 1 := Scalar.andi v3493 v3495
  let v3482 : BitVec 32 := Scalar.divsi v3480 c4_i32_1323
  let c1_i32_1329 : BitVec 32 := 1#32
  let v3497 : BitVec 32 := Scalar.subi v3482 c1_i32_1329
  let v3498 : BitVec 32 := Scalar.select v3496 v3497 v3482
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3499 : BitVec 1 := Scalar.cmpi .eq v3498 v3072
  let v3500 : BitVec 1 := Scalar.andi v3481 v3499
  let v3501 : BitVec 32 := Scalar.extui v3500
  let c0_i32_1330 : BitVec 32 := 0#32
  let v3502 : BitVec 1 := Scalar.cmpi .ne v3501 c0_i32_1330
  v3502

@[reducible] def k0_t74_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off374 (v3463 : BitVec 32) (k0_t74 : Fin k0_t74_loop.trips) : Fin 2 → Nat :=
  let c0_i32_1453 : BitVec 32 := 0#32
  let c1_i32_1455 : BitVec 32 := 1#32
  let arg19 : BitVec 32 := Scf.iv c0_i32_1453 c1_i32_1455 k0_t74
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3463 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off375 (v3461 : BitVec 32) (k0_t74 : Fin k0_t74_loop.trips) : Fin 2 → Nat :=
  let c0_i32_1316 : BitVec 32 := 0#32
  let v3465 : BitVec 1 := Scalar.cmpi .sgt v3461 c0_i32_1316
  let v3466 : BitVec 32 := Scalar.extui v3465
  let c0_i32_1317 : BitVec 32 := 0#32
  let v3467 : BitVec 1 := Scalar.cmpi .slt v3461 c0_i32_1317
  let v3468 : BitVec 32 := Scalar.extui v3467
  let v3469 : BitVec 32 := Scalar.subi v3466 v3468
  let c16_i32_1315 : BitVec 32 := 16#32
  let c0_i32_1318 : BitVec 32 := 0#32
  let v3470 : BitVec 1 := Scalar.cmpi .sgt c16_i32_1315 c0_i32_1318
  let v3471 : BitVec 32 := Scalar.extui v3470
  let c0_i32_1319 : BitVec 32 := 0#32
  let v3472 : BitVec 1 := Scalar.cmpi .slt c16_i32_1315 c0_i32_1319
  let v3473 : BitVec 32 := Scalar.extui v3472
  let v3474 : BitVec 32 := Scalar.subi v3471 v3473
  let v3475 : BitVec 1 := Scalar.cmpi .ne v3469 v3474
  let v3476 : BitVec 32 := Scalar.remsi v3461 c16_i32_1315
  let c0_i32_1320 : BitVec 32 := 0#32
  let v3477 : BitVec 1 := Scalar.cmpi .ne v3476 c0_i32_1320
  let v3478 : BitVec 1 := Scalar.andi v3475 v3477
  let v3464 : BitVec 32 := Scalar.divsi v3461 c16_i32_1315
  let c1_i32_1321 : BitVec 32 := 1#32
  let v3479 : BitVec 32 := Scalar.subi v3464 c1_i32_1321
  let v3480 : BitVec 32 := Scalar.select v3478 v3479 v3464
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3480 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t74
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3461 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off376 (v3463 : BitVec 32) (k0_t74 : Fin k0_t74_loop.trips) : Fin 2 → Nat :=
  let c0_i32_1453 : BitVec 32 := 0#32
  let c1_i32_1455 : BitVec 32 := 1#32
  let arg19 : BitVec 32 := Scf.iv c0_i32_1453 c1_i32_1455 k0_t74
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3463 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk147 (i : grid0.Coords) (v25 : BitVec 32) (v3461 : BitVec 32) (v3463 : BitVec 32) : Prop :=
  (∀ (k0_h74 : k0_cond74 i v25 v3461 = 1#1), ∀ a, (k0_off373 i v3463) a + S32x512.size a ≤ S4096x512.size a) ∧
  (∀ k0_t74 : Fin k0_t74_loop.trips, ∀ (k0_h74 : k0_cond74 i v25 v3461 = 1#1), ∀ a, (k0_off374 v3463 k0_t74) a + S1x16.size a ≤ S32x512.size a) ∧
  (∀ k0_t74 : Fin k0_t74_loop.trips, ∀ (k0_h74 : k0_cond74 i v25 v3461 = 1#1), ∀ a, (k0_off376 v3463 k0_t74) a + S1x16.size a ≤ S32x512.size a)
theorem k0_off373_inb : ∀ (i : grid0.Coords) (v25 : BitVec 32) (v3461 : BitVec 32) (v3463 : BitVec 32) (k0_hw147 : k0_chk147 i v25 v3461 v3463), ∀ (k0_h74 : k0_cond74 i v25 v3461 = 1#1), ∀ a, (k0_off373 i v3463) a + S32x512.size a ≤ S4096x512.size a := fun i v25 v3461 v3463 k0_hw147 k0_h74 => k0_hw147.1 k0_h74
theorem k0_off374_inb : ∀ (i : grid0.Coords) (v25 : BitVec 32) (v3461 : BitVec 32) (v3463 : BitVec 32) (k0_hw147 : k0_chk147 i v25 v3461 v3463) (k0_t74 : Fin k0_t74_loop.trips), ∀ (k0_h74 : k0_cond74 i v25 v3461 = 1#1), ∀ a, (k0_off374 v3463 k0_t74) a + S1x16.size a ≤ S32x512.size a := fun i v25 v3461 v3463 k0_hw147 k0_t74 k0_h74 => k0_hw147.2.1 k0_t74 k0_h74
theorem k0_off376_inb : ∀ (i : grid0.Coords) (v25 : BitVec 32) (v3461 : BitVec 32) (v3463 : BitVec 32) (k0_hw147 : k0_chk147 i v25 v3461 v3463) (k0_t74 : Fin k0_t74_loop.trips), ∀ (k0_h74 : k0_cond74 i v25 v3461 = 1#1), ∀ a, (k0_off376 v3463 k0_t74) a + S1x16.size a ≤ S32x512.size a := fun i v25 v3461 v3463 k0_hw147 k0_t74 k0_h74 => k0_hw147.2.2 k0_t74 k0_h74

def k0_off377 (v3461 : BitVec 32) (k0_t74 : Fin k0_t74_loop.trips) : Fin 2 → Nat :=
  let c0_i32_1316 : BitVec 32 := 0#32
  let v3465 : BitVec 1 := Scalar.cmpi .sgt v3461 c0_i32_1316
  let v3466 : BitVec 32 := Scalar.extui v3465
  let c0_i32_1317 : BitVec 32 := 0#32
  let v3467 : BitVec 1 := Scalar.cmpi .slt v3461 c0_i32_1317
  let v3468 : BitVec 32 := Scalar.extui v3467
  let v3469 : BitVec 32 := Scalar.subi v3466 v3468
  let c16_i32_1315 : BitVec 32 := 16#32
  let c0_i32_1318 : BitVec 32 := 0#32
  let v3470 : BitVec 1 := Scalar.cmpi .sgt c16_i32_1315 c0_i32_1318
  let v3471 : BitVec 32 := Scalar.extui v3470
  let c0_i32_1319 : BitVec 32 := 0#32
  let v3472 : BitVec 1 := Scalar.cmpi .slt c16_i32_1315 c0_i32_1319
  let v3473 : BitVec 32 := Scalar.extui v3472
  let v3474 : BitVec 32 := Scalar.subi v3471 v3473
  let v3475 : BitVec 1 := Scalar.cmpi .ne v3469 v3474
  let v3476 : BitVec 32 := Scalar.remsi v3461 c16_i32_1315
  let c0_i32_1320 : BitVec 32 := 0#32
  let v3477 : BitVec 1 := Scalar.cmpi .ne v3476 c0_i32_1320
  let v3478 : BitVec 1 := Scalar.andi v3475 v3477
  let v3464 : BitVec 32 := Scalar.divsi v3461 c16_i32_1315
  let c1_i32_1321 : BitVec 32 := 1#32
  let v3479 : BitVec 32 := Scalar.subi v3464 c1_i32_1321
  let v3480 : BitVec 32 := Scalar.select v3478 v3479 v3464
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3480 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t74
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3461 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk148 (i : grid0.Coords) (v25 : BitVec 32) (v3461 : BitVec 32) : Prop :=
  (∀ k0_t74 : Fin k0_t74_loop.trips, ∀ (k0_h74 : k0_cond74 i v25 v3461 = 1#1), ∀ a, (k0_off375 v3461 k0_t74) a + S1x16.size a ≤ S128x512.size a) ∧
  (∀ k0_t74 : Fin k0_t74_loop.trips, ∀ (k0_h74 : k0_cond74 i v25 v3461 = 1#1), ∀ a, (k0_off377 v3461 k0_t74) a + S1x16.size a ≤ S128x512.size a)
theorem k0_off375_inb : ∀ (i : grid0.Coords) (v25 : BitVec 32) (v3461 : BitVec 32) (k0_hw148 : k0_chk148 i v25 v3461) (k0_t74 : Fin k0_t74_loop.trips), ∀ (k0_h74 : k0_cond74 i v25 v3461 = 1#1), ∀ a, (k0_off375 v3461 k0_t74) a + S1x16.size a ≤ S128x512.size a := fun i v25 v3461 k0_hw148 k0_t74 k0_h74 => k0_hw148.1 k0_t74 k0_h74
theorem k0_off377_inb : ∀ (i : grid0.Coords) (v25 : BitVec 32) (v3461 : BitVec 32) (k0_hw148 : k0_chk148 i v25 v3461) (k0_t74 : Fin k0_t74_loop.trips), ∀ (k0_h74 : k0_cond74 i v25 v3461 = 1#1), ∀ a, (k0_off377 v3461 k0_t74) a + S1x16.size a ≤ S128x512.size a := fun i v25 v3461 k0_hw148 k0_t74 k0_h74 => k0_hw148.2 k0_t74 k0_h74

def k0_off378 (i : grid0.Coords) (v3506 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3506 c0_i32_1428
  let v3763 : BitVec 32 := Scalar.extui v3762
  let c0_i32_1429 : BitVec 32 := 0#32
  let v3764 : BitVec 1 := Scalar.cmpi .slt v3506 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3506 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3506 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r86 : BitVec 32 := 0#32
  ![v3779.toNat, 0]
def k0_cond75 (i : grid0.Coords) (v25 : BitVec 32) (v3504 : BitVec 32) : BitVec 1 :=
  let c10_i32_1338 : BitVec 32 := 10#32
  let v3524 : BitVec 1 := Scalar.cmpi .sgt v25 c10_i32_1338
  let c0_i32_1332 : BitVec 32 := 0#32
  let v3508 : BitVec 1 := Scalar.cmpi .sgt v3504 c0_i32_1332
  let v3509 : BitVec 32 := Scalar.extui v3508
  let c0_i32_1333 : BitVec 32 := 0#32
  let v3510 : BitVec 1 := Scalar.cmpi .slt v3504 c0_i32_1333
  let v3511 : BitVec 32 := Scalar.extui v3510
  let v3512 : BitVec 32 := Scalar.subi v3509 v3511
  let c16_i32_1331 : BitVec 32 := 16#32
  let c0_i32_1334 : BitVec 32 := 0#32
  let v3513 : BitVec 1 := Scalar.cmpi .sgt c16_i32_1331 c0_i32_1334
  let v3514 : BitVec 32 := Scalar.extui v3513
  let c0_i32_1335 : BitVec 32 := 0#32
  let v3515 : BitVec 1 := Scalar.cmpi .slt c16_i32_1331 c0_i32_1335
  let v3516 : BitVec 32 := Scalar.extui v3515
  let v3517 : BitVec 32 := Scalar.subi v3514 v3516
  let v3518 : BitVec 1 := Scalar.cmpi .ne v3512 v3517
  let v3519 : BitVec 32 := Scalar.remsi v3504 c16_i32_1331
  let c0_i32_1336 : BitVec 32 := 0#32
  let v3520 : BitVec 1 := Scalar.cmpi .ne v3519 c0_i32_1336
  let v3521 : BitVec 1 := Scalar.andi v3518 v3520
  let v3507 : BitVec 32 := Scalar.divsi v3504 c16_i32_1331
  let c1_i32_1337 : BitVec 32 := 1#32
  let v3522 : BitVec 32 := Scalar.subi v3507 c1_i32_1337
  let v3523 : BitVec 32 := Scalar.select v3521 v3522 v3507
  let c0_i32_1340 : BitVec 32 := 0#32
  let v3526 : BitVec 1 := Scalar.cmpi .sgt v3523 c0_i32_1340
  let v3527 : BitVec 32 := Scalar.extui v3526
  let c0_i32_1341 : BitVec 32 := 0#32
  let v3528 : BitVec 1 := Scalar.cmpi .slt v3523 c0_i32_1341
  let v3529 : BitVec 32 := Scalar.extui v3528
  let v3530 : BitVec 32 := Scalar.subi v3527 v3529
  let c4_i32_1339 : BitVec 32 := 4#32
  let c0_i32_1342 : BitVec 32 := 0#32
  let v3531 : BitVec 1 := Scalar.cmpi .sgt c4_i32_1339 c0_i32_1342
  let v3532 : BitVec 32 := Scalar.extui v3531
  let c0_i32_1343 : BitVec 32 := 0#32
  let v3533 : BitVec 1 := Scalar.cmpi .slt c4_i32_1339 c0_i32_1343
  let v3534 : BitVec 32 := Scalar.extui v3533
  let v3535 : BitVec 32 := Scalar.subi v3532 v3534
  let v3536 : BitVec 1 := Scalar.cmpi .ne v3530 v3535
  let v3537 : BitVec 32 := Scalar.remsi v3523 c4_i32_1339
  let c0_i32_1344 : BitVec 32 := 0#32
  let v3538 : BitVec 1 := Scalar.cmpi .ne v3537 c0_i32_1344
  let v3539 : BitVec 1 := Scalar.andi v3536 v3538
  let v3525 : BitVec 32 := Scalar.divsi v3523 c4_i32_1339
  let c1_i32_1345 : BitVec 32 := 1#32
  let v3540 : BitVec 32 := Scalar.subi v3525 c1_i32_1345
  let v3541 : BitVec 32 := Scalar.select v3539 v3540 v3525
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3542 : BitVec 1 := Scalar.cmpi .eq v3541 v3072
  let v3543 : BitVec 1 := Scalar.andi v3524 v3542
  let v3544 : BitVec 32 := Scalar.extui v3543
  let c0_i32_1346 : BitVec 32 := 0#32
  let v3545 : BitVec 1 := Scalar.cmpi .ne v3544 c0_i32_1346
  v3545

@[reducible] def k0_t75_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off379 (v3506 : BitVec 32) (k0_t75 : Fin k0_t75_loop.trips) : Fin 2 → Nat :=
  let c0_i32_1453 : BitVec 32 := 0#32
  let c1_i32_1455 : BitVec 32 := 1#32
  let arg19 : BitVec 32 := Scf.iv c0_i32_1453 c1_i32_1455 k0_t75
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3506 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off380 (v3504 : BitVec 32) (k0_t75 : Fin k0_t75_loop.trips) : Fin 2 → Nat :=
  let c0_i32_1332 : BitVec 32 := 0#32
  let v3508 : BitVec 1 := Scalar.cmpi .sgt v3504 c0_i32_1332
  let v3509 : BitVec 32 := Scalar.extui v3508
  let c0_i32_1333 : BitVec 32 := 0#32
  let v3510 : BitVec 1 := Scalar.cmpi .slt v3504 c0_i32_1333
  let v3511 : BitVec 32 := Scalar.extui v3510
  let v3512 : BitVec 32 := Scalar.subi v3509 v3511
  let c16_i32_1331 : BitVec 32 := 16#32
  let c0_i32_1334 : BitVec 32 := 0#32
  let v3513 : BitVec 1 := Scalar.cmpi .sgt c16_i32_1331 c0_i32_1334
  let v3514 : BitVec 32 := Scalar.extui v3513
  let c0_i32_1335 : BitVec 32 := 0#32
  let v3515 : BitVec 1 := Scalar.cmpi .slt c16_i32_1331 c0_i32_1335
  let v3516 : BitVec 32 := Scalar.extui v3515
  let v3517 : BitVec 32 := Scalar.subi v3514 v3516
  let v3518 : BitVec 1 := Scalar.cmpi .ne v3512 v3517
  let v3519 : BitVec 32 := Scalar.remsi v3504 c16_i32_1331
  let c0_i32_1336 : BitVec 32 := 0#32
  let v3520 : BitVec 1 := Scalar.cmpi .ne v3519 c0_i32_1336
  let v3521 : BitVec 1 := Scalar.andi v3518 v3520
  let v3507 : BitVec 32 := Scalar.divsi v3504 c16_i32_1331
  let c1_i32_1337 : BitVec 32 := 1#32
  let v3522 : BitVec 32 := Scalar.subi v3507 c1_i32_1337
  let v3523 : BitVec 32 := Scalar.select v3521 v3522 v3507
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3523 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t75
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3504 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off381 (v3506 : BitVec 32) (k0_t75 : Fin k0_t75_loop.trips) : Fin 2 → Nat :=
  let c0_i32_1453 : BitVec 32 := 0#32
  let c1_i32_1455 : BitVec 32 := 1#32
  let arg19 : BitVec 32 := Scf.iv c0_i32_1453 c1_i32_1455 k0_t75
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3506 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk149 (i : grid0.Coords) (v25 : BitVec 32) (v3504 : BitVec 32) (v3506 : BitVec 32) : Prop :=
  (∀ (k0_h75 : k0_cond75 i v25 v3504 = 1#1), ∀ a, (k0_off378 i v3506) a + S32x512.size a ≤ S4096x512.size a) ∧
  (∀ k0_t75 : Fin k0_t75_loop.trips, ∀ (k0_h75 : k0_cond75 i v25 v3504 = 1#1), ∀ a, (k0_off379 v3506 k0_t75) a + S1x16.size a ≤ S32x512.size a) ∧
  (∀ k0_t75 : Fin k0_t75_loop.trips, ∀ (k0_h75 : k0_cond75 i v25 v3504 = 1#1), ∀ a, (k0_off381 v3506 k0_t75) a + S1x16.size a ≤ S32x512.size a)
theorem k0_off378_inb : ∀ (i : grid0.Coords) (v25 : BitVec 32) (v3504 : BitVec 32) (v3506 : BitVec 32) (k0_hw149 : k0_chk149 i v25 v3504 v3506), ∀ (k0_h75 : k0_cond75 i v25 v3504 = 1#1), ∀ a, (k0_off378 i v3506) a + S32x512.size a ≤ S4096x512.size a := fun i v25 v3504 v3506 k0_hw149 k0_h75 => k0_hw149.1 k0_h75
theorem k0_off379_inb : ∀ (i : grid0.Coords) (v25 : BitVec 32) (v3504 : BitVec 32) (v3506 : BitVec 32) (k0_hw149 : k0_chk149 i v25 v3504 v3506) (k0_t75 : Fin k0_t75_loop.trips), ∀ (k0_h75 : k0_cond75 i v25 v3504 = 1#1), ∀ a, (k0_off379 v3506 k0_t75) a + S1x16.size a ≤ S32x512.size a := fun i v25 v3504 v3506 k0_hw149 k0_t75 k0_h75 => k0_hw149.2.1 k0_t75 k0_h75
theorem k0_off381_inb : ∀ (i : grid0.Coords) (v25 : BitVec 32) (v3504 : BitVec 32) (v3506 : BitVec 32) (k0_hw149 : k0_chk149 i v25 v3504 v3506) (k0_t75 : Fin k0_t75_loop.trips), ∀ (k0_h75 : k0_cond75 i v25 v3504 = 1#1), ∀ a, (k0_off381 v3506 k0_t75) a + S1x16.size a ≤ S32x512.size a := fun i v25 v3504 v3506 k0_hw149 k0_t75 k0_h75 => k0_hw149.2.2 k0_t75 k0_h75

def k0_off382 (v3504 : BitVec 32) (k0_t75 : Fin k0_t75_loop.trips) : Fin 2 → Nat :=
  let c0_i32_1332 : BitVec 32 := 0#32
  let v3508 : BitVec 1 := Scalar.cmpi .sgt v3504 c0_i32_1332
  let v3509 : BitVec 32 := Scalar.extui v3508
  let c0_i32_1333 : BitVec 32 := 0#32
  let v3510 : BitVec 1 := Scalar.cmpi .slt v3504 c0_i32_1333
  let v3511 : BitVec 32 := Scalar.extui v3510
  let v3512 : BitVec 32 := Scalar.subi v3509 v3511
  let c16_i32_1331 : BitVec 32 := 16#32
  let c0_i32_1334 : BitVec 32 := 0#32
  let v3513 : BitVec 1 := Scalar.cmpi .sgt c16_i32_1331 c0_i32_1334
  let v3514 : BitVec 32 := Scalar.extui v3513
  let c0_i32_1335 : BitVec 32 := 0#32
  let v3515 : BitVec 1 := Scalar.cmpi .slt c16_i32_1331 c0_i32_1335
  let v3516 : BitVec 32 := Scalar.extui v3515
  let v3517 : BitVec 32 := Scalar.subi v3514 v3516
  let v3518 : BitVec 1 := Scalar.cmpi .ne v3512 v3517
  let v3519 : BitVec 32 := Scalar.remsi v3504 c16_i32_1331
  let c0_i32_1336 : BitVec 32 := 0#32
  let v3520 : BitVec 1 := Scalar.cmpi .ne v3519 c0_i32_1336
  let v3521 : BitVec 1 := Scalar.andi v3518 v3520
  let v3507 : BitVec 32 := Scalar.divsi v3504 c16_i32_1331
  let c1_i32_1337 : BitVec 32 := 1#32
  let v3522 : BitVec 32 := Scalar.subi v3507 c1_i32_1337
  let v3523 : BitVec 32 := Scalar.select v3521 v3522 v3507
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3523 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t75
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3504 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk150 (i : grid0.Coords) (v25 : BitVec 32) (v3504 : BitVec 32) : Prop :=
  (∀ k0_t75 : Fin k0_t75_loop.trips, ∀ (k0_h75 : k0_cond75 i v25 v3504 = 1#1), ∀ a, (k0_off380 v3504 k0_t75) a + S1x16.size a ≤ S128x512.size a) ∧
  (∀ k0_t75 : Fin k0_t75_loop.trips, ∀ (k0_h75 : k0_cond75 i v25 v3504 = 1#1), ∀ a, (k0_off382 v3504 k0_t75) a + S1x16.size a ≤ S128x512.size a)
theorem k0_off380_inb : ∀ (i : grid0.Coords) (v25 : BitVec 32) (v3504 : BitVec 32) (k0_hw150 : k0_chk150 i v25 v3504) (k0_t75 : Fin k0_t75_loop.trips), ∀ (k0_h75 : k0_cond75 i v25 v3504 = 1#1), ∀ a, (k0_off380 v3504 k0_t75) a + S1x16.size a ≤ S128x512.size a := fun i v25 v3504 k0_hw150 k0_t75 k0_h75 => k0_hw150.1 k0_t75 k0_h75
theorem k0_off382_inb : ∀ (i : grid0.Coords) (v25 : BitVec 32) (v3504 : BitVec 32) (k0_hw150 : k0_chk150 i v25 v3504) (k0_t75 : Fin k0_t75_loop.trips), ∀ (k0_h75 : k0_cond75 i v25 v3504 = 1#1), ∀ a, (k0_off382 v3504 k0_t75) a + S1x16.size a ≤ S128x512.size a := fun i v25 v3504 k0_hw150 k0_t75 k0_h75 => k0_hw150.2 k0_t75 k0_h75

def k0_off383 (i : grid0.Coords) (v3549 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3549 c0_i32_1428
  let v3763 : BitVec 32 := Scalar.extui v3762
  let c0_i32_1429 : BitVec 32 := 0#32
  let v3764 : BitVec 1 := Scalar.cmpi .slt v3549 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3549 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3549 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r87 : BitVec 32 := 0#32
  ![v3779.toNat, 0]
def k0_cond76 (i : grid0.Coords) (v25 : BitVec 32) (v3547 : BitVec 32) : BitVec 1 :=
  let c11_i32_1354 : BitVec 32 := 11#32
  let v3567 : BitVec 1 := Scalar.cmpi .sgt v25 c11_i32_1354
  let c0_i32_1348 : BitVec 32 := 0#32
  let v3551 : BitVec 1 := Scalar.cmpi .sgt v3547 c0_i32_1348
  let v3552 : BitVec 32 := Scalar.extui v3551
  let c0_i32_1349 : BitVec 32 := 0#32
  let v3553 : BitVec 1 := Scalar.cmpi .slt v3547 c0_i32_1349
  let v3554 : BitVec 32 := Scalar.extui v3553
  let v3555 : BitVec 32 := Scalar.subi v3552 v3554
  let c16_i32_1347 : BitVec 32 := 16#32
  let c0_i32_1350 : BitVec 32 := 0#32
  let v3556 : BitVec 1 := Scalar.cmpi .sgt c16_i32_1347 c0_i32_1350
  let v3557 : BitVec 32 := Scalar.extui v3556
  let c0_i32_1351 : BitVec 32 := 0#32
  let v3558 : BitVec 1 := Scalar.cmpi .slt c16_i32_1347 c0_i32_1351
  let v3559 : BitVec 32 := Scalar.extui v3558
  let v3560 : BitVec 32 := Scalar.subi v3557 v3559
  let v3561 : BitVec 1 := Scalar.cmpi .ne v3555 v3560
  let v3562 : BitVec 32 := Scalar.remsi v3547 c16_i32_1347
  let c0_i32_1352 : BitVec 32 := 0#32
  let v3563 : BitVec 1 := Scalar.cmpi .ne v3562 c0_i32_1352
  let v3564 : BitVec 1 := Scalar.andi v3561 v3563
  let v3550 : BitVec 32 := Scalar.divsi v3547 c16_i32_1347
  let c1_i32_1353 : BitVec 32 := 1#32
  let v3565 : BitVec 32 := Scalar.subi v3550 c1_i32_1353
  let v3566 : BitVec 32 := Scalar.select v3564 v3565 v3550
  let c0_i32_1356 : BitVec 32 := 0#32
  let v3569 : BitVec 1 := Scalar.cmpi .sgt v3566 c0_i32_1356
  let v3570 : BitVec 32 := Scalar.extui v3569
  let c0_i32_1357 : BitVec 32 := 0#32
  let v3571 : BitVec 1 := Scalar.cmpi .slt v3566 c0_i32_1357
  let v3572 : BitVec 32 := Scalar.extui v3571
  let v3573 : BitVec 32 := Scalar.subi v3570 v3572
  let c4_i32_1355 : BitVec 32 := 4#32
  let c0_i32_1358 : BitVec 32 := 0#32
  let v3574 : BitVec 1 := Scalar.cmpi .sgt c4_i32_1355 c0_i32_1358
  let v3575 : BitVec 32 := Scalar.extui v3574
  let c0_i32_1359 : BitVec 32 := 0#32
  let v3576 : BitVec 1 := Scalar.cmpi .slt c4_i32_1355 c0_i32_1359
  let v3577 : BitVec 32 := Scalar.extui v3576
  let v3578 : BitVec 32 := Scalar.subi v3575 v3577
  let v3579 : BitVec 1 := Scalar.cmpi .ne v3573 v3578
  let v3580 : BitVec 32 := Scalar.remsi v3566 c4_i32_1355
  let c0_i32_1360 : BitVec 32 := 0#32
  let v3581 : BitVec 1 := Scalar.cmpi .ne v3580 c0_i32_1360
  let v3582 : BitVec 1 := Scalar.andi v3579 v3581
  let v3568 : BitVec 32 := Scalar.divsi v3566 c4_i32_1355
  let c1_i32_1361 : BitVec 32 := 1#32
  let v3583 : BitVec 32 := Scalar.subi v3568 c1_i32_1361
  let v3584 : BitVec 32 := Scalar.select v3582 v3583 v3568
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3585 : BitVec 1 := Scalar.cmpi .eq v3584 v3072
  let v3586 : BitVec 1 := Scalar.andi v3567 v3585
  let v3587 : BitVec 32 := Scalar.extui v3586
  let c0_i32_1362 : BitVec 32 := 0#32
  let v3588 : BitVec 1 := Scalar.cmpi .ne v3587 c0_i32_1362
  v3588

@[reducible] def k0_t76_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off384 (v3549 : BitVec 32) (k0_t76 : Fin k0_t76_loop.trips) : Fin 2 → Nat :=
  let c0_i32_1453 : BitVec 32 := 0#32
  let c1_i32_1455 : BitVec 32 := 1#32
  let arg19 : BitVec 32 := Scf.iv c0_i32_1453 c1_i32_1455 k0_t76
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3549 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off385 (v3547 : BitVec 32) (k0_t76 : Fin k0_t76_loop.trips) : Fin 2 → Nat :=
  let c0_i32_1348 : BitVec 32 := 0#32
  let v3551 : BitVec 1 := Scalar.cmpi .sgt v3547 c0_i32_1348
  let v3552 : BitVec 32 := Scalar.extui v3551
  let c0_i32_1349 : BitVec 32 := 0#32
  let v3553 : BitVec 1 := Scalar.cmpi .slt v3547 c0_i32_1349
  let v3554 : BitVec 32 := Scalar.extui v3553
  let v3555 : BitVec 32 := Scalar.subi v3552 v3554
  let c16_i32_1347 : BitVec 32 := 16#32
  let c0_i32_1350 : BitVec 32 := 0#32
  let v3556 : BitVec 1 := Scalar.cmpi .sgt c16_i32_1347 c0_i32_1350
  let v3557 : BitVec 32 := Scalar.extui v3556
  let c0_i32_1351 : BitVec 32 := 0#32
  let v3558 : BitVec 1 := Scalar.cmpi .slt c16_i32_1347 c0_i32_1351
  let v3559 : BitVec 32 := Scalar.extui v3558
  let v3560 : BitVec 32 := Scalar.subi v3557 v3559
  let v3561 : BitVec 1 := Scalar.cmpi .ne v3555 v3560
  let v3562 : BitVec 32 := Scalar.remsi v3547 c16_i32_1347
  let c0_i32_1352 : BitVec 32 := 0#32
  let v3563 : BitVec 1 := Scalar.cmpi .ne v3562 c0_i32_1352
  let v3564 : BitVec 1 := Scalar.andi v3561 v3563
  let v3550 : BitVec 32 := Scalar.divsi v3547 c16_i32_1347
  let c1_i32_1353 : BitVec 32 := 1#32
  let v3565 : BitVec 32 := Scalar.subi v3550 c1_i32_1353
  let v3566 : BitVec 32 := Scalar.select v3564 v3565 v3550
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3566 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t76
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3547 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off386 (v3549 : BitVec 32) (k0_t76 : Fin k0_t76_loop.trips) : Fin 2 → Nat :=
  let c0_i32_1453 : BitVec 32 := 0#32
  let c1_i32_1455 : BitVec 32 := 1#32
  let arg19 : BitVec 32 := Scf.iv c0_i32_1453 c1_i32_1455 k0_t76
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3549 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk151 (i : grid0.Coords) (v25 : BitVec 32) (v3547 : BitVec 32) (v3549 : BitVec 32) : Prop :=
  (∀ (k0_h76 : k0_cond76 i v25 v3547 = 1#1), ∀ a, (k0_off383 i v3549) a + S32x512.size a ≤ S4096x512.size a) ∧
  (∀ k0_t76 : Fin k0_t76_loop.trips, ∀ (k0_h76 : k0_cond76 i v25 v3547 = 1#1), ∀ a, (k0_off384 v3549 k0_t76) a + S1x16.size a ≤ S32x512.size a) ∧
  (∀ k0_t76 : Fin k0_t76_loop.trips, ∀ (k0_h76 : k0_cond76 i v25 v3547 = 1#1), ∀ a, (k0_off386 v3549 k0_t76) a + S1x16.size a ≤ S32x512.size a)
theorem k0_off383_inb : ∀ (i : grid0.Coords) (v25 : BitVec 32) (v3547 : BitVec 32) (v3549 : BitVec 32) (k0_hw151 : k0_chk151 i v25 v3547 v3549), ∀ (k0_h76 : k0_cond76 i v25 v3547 = 1#1), ∀ a, (k0_off383 i v3549) a + S32x512.size a ≤ S4096x512.size a := fun i v25 v3547 v3549 k0_hw151 k0_h76 => k0_hw151.1 k0_h76
theorem k0_off384_inb : ∀ (i : grid0.Coords) (v25 : BitVec 32) (v3547 : BitVec 32) (v3549 : BitVec 32) (k0_hw151 : k0_chk151 i v25 v3547 v3549) (k0_t76 : Fin k0_t76_loop.trips), ∀ (k0_h76 : k0_cond76 i v25 v3547 = 1#1), ∀ a, (k0_off384 v3549 k0_t76) a + S1x16.size a ≤ S32x512.size a := fun i v25 v3547 v3549 k0_hw151 k0_t76 k0_h76 => k0_hw151.2.1 k0_t76 k0_h76
theorem k0_off386_inb : ∀ (i : grid0.Coords) (v25 : BitVec 32) (v3547 : BitVec 32) (v3549 : BitVec 32) (k0_hw151 : k0_chk151 i v25 v3547 v3549) (k0_t76 : Fin k0_t76_loop.trips), ∀ (k0_h76 : k0_cond76 i v25 v3547 = 1#1), ∀ a, (k0_off386 v3549 k0_t76) a + S1x16.size a ≤ S32x512.size a := fun i v25 v3547 v3549 k0_hw151 k0_t76 k0_h76 => k0_hw151.2.2 k0_t76 k0_h76

def k0_off387 (v3547 : BitVec 32) (k0_t76 : Fin k0_t76_loop.trips) : Fin 2 → Nat :=
  let c0_i32_1348 : BitVec 32 := 0#32
  let v3551 : BitVec 1 := Scalar.cmpi .sgt v3547 c0_i32_1348
  let v3552 : BitVec 32 := Scalar.extui v3551
  let c0_i32_1349 : BitVec 32 := 0#32
  let v3553 : BitVec 1 := Scalar.cmpi .slt v3547 c0_i32_1349
  let v3554 : BitVec 32 := Scalar.extui v3553
  let v3555 : BitVec 32 := Scalar.subi v3552 v3554
  let c16_i32_1347 : BitVec 32 := 16#32
  let c0_i32_1350 : BitVec 32 := 0#32
  let v3556 : BitVec 1 := Scalar.cmpi .sgt c16_i32_1347 c0_i32_1350
  let v3557 : BitVec 32 := Scalar.extui v3556
  let c0_i32_1351 : BitVec 32 := 0#32
  let v3558 : BitVec 1 := Scalar.cmpi .slt c16_i32_1347 c0_i32_1351
  let v3559 : BitVec 32 := Scalar.extui v3558
  let v3560 : BitVec 32 := Scalar.subi v3557 v3559
  let v3561 : BitVec 1 := Scalar.cmpi .ne v3555 v3560
  let v3562 : BitVec 32 := Scalar.remsi v3547 c16_i32_1347
  let c0_i32_1352 : BitVec 32 := 0#32
  let v3563 : BitVec 1 := Scalar.cmpi .ne v3562 c0_i32_1352
  let v3564 : BitVec 1 := Scalar.andi v3561 v3563
  let v3550 : BitVec 32 := Scalar.divsi v3547 c16_i32_1347
  let c1_i32_1353 : BitVec 32 := 1#32
  let v3565 : BitVec 32 := Scalar.subi v3550 c1_i32_1353
  let v3566 : BitVec 32 := Scalar.select v3564 v3565 v3550
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3566 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t76
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3547 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk152 (i : grid0.Coords) (v25 : BitVec 32) (v3547 : BitVec 32) : Prop :=
  (∀ k0_t76 : Fin k0_t76_loop.trips, ∀ (k0_h76 : k0_cond76 i v25 v3547 = 1#1), ∀ a, (k0_off385 v3547 k0_t76) a + S1x16.size a ≤ S128x512.size a) ∧
  (∀ k0_t76 : Fin k0_t76_loop.trips, ∀ (k0_h76 : k0_cond76 i v25 v3547 = 1#1), ∀ a, (k0_off387 v3547 k0_t76) a + S1x16.size a ≤ S128x512.size a)
theorem k0_off385_inb : ∀ (i : grid0.Coords) (v25 : BitVec 32) (v3547 : BitVec 32) (k0_hw152 : k0_chk152 i v25 v3547) (k0_t76 : Fin k0_t76_loop.trips), ∀ (k0_h76 : k0_cond76 i v25 v3547 = 1#1), ∀ a, (k0_off385 v3547 k0_t76) a + S1x16.size a ≤ S128x512.size a := fun i v25 v3547 k0_hw152 k0_t76 k0_h76 => k0_hw152.1 k0_t76 k0_h76
theorem k0_off387_inb : ∀ (i : grid0.Coords) (v25 : BitVec 32) (v3547 : BitVec 32) (k0_hw152 : k0_chk152 i v25 v3547) (k0_t76 : Fin k0_t76_loop.trips), ∀ (k0_h76 : k0_cond76 i v25 v3547 = 1#1), ∀ a, (k0_off387 v3547 k0_t76) a + S1x16.size a ≤ S128x512.size a := fun i v25 v3547 k0_hw152 k0_t76 k0_h76 => k0_hw152.2 k0_t76 k0_h76

def k0_off388 (i : grid0.Coords) (v3592 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3592 c0_i32_1428
  let v3763 : BitVec 32 := Scalar.extui v3762
  let c0_i32_1429 : BitVec 32 := 0#32
  let v3764 : BitVec 1 := Scalar.cmpi .slt v3592 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3592 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3592 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r88 : BitVec 32 := 0#32
  ![v3779.toNat, 0]
def k0_cond77 (i : grid0.Coords) (v25 : BitVec 32) (v3590 : BitVec 32) : BitVec 1 :=
  let c12_i32_1370 : BitVec 32 := 12#32
  let v3610 : BitVec 1 := Scalar.cmpi .sgt v25 c12_i32_1370
  let c0_i32_1364 : BitVec 32 := 0#32
  let v3594 : BitVec 1 := Scalar.cmpi .sgt v3590 c0_i32_1364
  let v3595 : BitVec 32 := Scalar.extui v3594
  let c0_i32_1365 : BitVec 32 := 0#32
  let v3596 : BitVec 1 := Scalar.cmpi .slt v3590 c0_i32_1365
  let v3597 : BitVec 32 := Scalar.extui v3596
  let v3598 : BitVec 32 := Scalar.subi v3595 v3597
  let c16_i32_1363 : BitVec 32 := 16#32
  let c0_i32_1366 : BitVec 32 := 0#32
  let v3599 : BitVec 1 := Scalar.cmpi .sgt c16_i32_1363 c0_i32_1366
  let v3600 : BitVec 32 := Scalar.extui v3599
  let c0_i32_1367 : BitVec 32 := 0#32
  let v3601 : BitVec 1 := Scalar.cmpi .slt c16_i32_1363 c0_i32_1367
  let v3602 : BitVec 32 := Scalar.extui v3601
  let v3603 : BitVec 32 := Scalar.subi v3600 v3602
  let v3604 : BitVec 1 := Scalar.cmpi .ne v3598 v3603
  let v3605 : BitVec 32 := Scalar.remsi v3590 c16_i32_1363
  let c0_i32_1368 : BitVec 32 := 0#32
  let v3606 : BitVec 1 := Scalar.cmpi .ne v3605 c0_i32_1368
  let v3607 : BitVec 1 := Scalar.andi v3604 v3606
  let v3593 : BitVec 32 := Scalar.divsi v3590 c16_i32_1363
  let c1_i32_1369 : BitVec 32 := 1#32
  let v3608 : BitVec 32 := Scalar.subi v3593 c1_i32_1369
  let v3609 : BitVec 32 := Scalar.select v3607 v3608 v3593
  let c0_i32_1372 : BitVec 32 := 0#32
  let v3612 : BitVec 1 := Scalar.cmpi .sgt v3609 c0_i32_1372
  let v3613 : BitVec 32 := Scalar.extui v3612
  let c0_i32_1373 : BitVec 32 := 0#32
  let v3614 : BitVec 1 := Scalar.cmpi .slt v3609 c0_i32_1373
  let v3615 : BitVec 32 := Scalar.extui v3614
  let v3616 : BitVec 32 := Scalar.subi v3613 v3615
  let c4_i32_1371 : BitVec 32 := 4#32
  let c0_i32_1374 : BitVec 32 := 0#32
  let v3617 : BitVec 1 := Scalar.cmpi .sgt c4_i32_1371 c0_i32_1374
  let v3618 : BitVec 32 := Scalar.extui v3617
  let c0_i32_1375 : BitVec 32 := 0#32
  let v3619 : BitVec 1 := Scalar.cmpi .slt c4_i32_1371 c0_i32_1375
  let v3620 : BitVec 32 := Scalar.extui v3619
  let v3621 : BitVec 32 := Scalar.subi v3618 v3620
  let v3622 : BitVec 1 := Scalar.cmpi .ne v3616 v3621
  let v3623 : BitVec 32 := Scalar.remsi v3609 c4_i32_1371
  let c0_i32_1376 : BitVec 32 := 0#32
  let v3624 : BitVec 1 := Scalar.cmpi .ne v3623 c0_i32_1376
  let v3625 : BitVec 1 := Scalar.andi v3622 v3624
  let v3611 : BitVec 32 := Scalar.divsi v3609 c4_i32_1371
  let c1_i32_1377 : BitVec 32 := 1#32
  let v3626 : BitVec 32 := Scalar.subi v3611 c1_i32_1377
  let v3627 : BitVec 32 := Scalar.select v3625 v3626 v3611
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3628 : BitVec 1 := Scalar.cmpi .eq v3627 v3072
  let v3629 : BitVec 1 := Scalar.andi v3610 v3628
  let v3630 : BitVec 32 := Scalar.extui v3629
  let c0_i32_1378 : BitVec 32 := 0#32
  let v3631 : BitVec 1 := Scalar.cmpi .ne v3630 c0_i32_1378
  v3631

@[reducible] def k0_t77_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off389 (v3592 : BitVec 32) (k0_t77 : Fin k0_t77_loop.trips) : Fin 2 → Nat :=
  let c0_i32_1453 : BitVec 32 := 0#32
  let c1_i32_1455 : BitVec 32 := 1#32
  let arg19 : BitVec 32 := Scf.iv c0_i32_1453 c1_i32_1455 k0_t77
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3592 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off390 (v3590 : BitVec 32) (k0_t77 : Fin k0_t77_loop.trips) : Fin 2 → Nat :=
  let c0_i32_1364 : BitVec 32 := 0#32
  let v3594 : BitVec 1 := Scalar.cmpi .sgt v3590 c0_i32_1364
  let v3595 : BitVec 32 := Scalar.extui v3594
  let c0_i32_1365 : BitVec 32 := 0#32
  let v3596 : BitVec 1 := Scalar.cmpi .slt v3590 c0_i32_1365
  let v3597 : BitVec 32 := Scalar.extui v3596
  let v3598 : BitVec 32 := Scalar.subi v3595 v3597
  let c16_i32_1363 : BitVec 32 := 16#32
  let c0_i32_1366 : BitVec 32 := 0#32
  let v3599 : BitVec 1 := Scalar.cmpi .sgt c16_i32_1363 c0_i32_1366
  let v3600 : BitVec 32 := Scalar.extui v3599
  let c0_i32_1367 : BitVec 32 := 0#32
  let v3601 : BitVec 1 := Scalar.cmpi .slt c16_i32_1363 c0_i32_1367
  let v3602 : BitVec 32 := Scalar.extui v3601
  let v3603 : BitVec 32 := Scalar.subi v3600 v3602
  let v3604 : BitVec 1 := Scalar.cmpi .ne v3598 v3603
  let v3605 : BitVec 32 := Scalar.remsi v3590 c16_i32_1363
  let c0_i32_1368 : BitVec 32 := 0#32
  let v3606 : BitVec 1 := Scalar.cmpi .ne v3605 c0_i32_1368
  let v3607 : BitVec 1 := Scalar.andi v3604 v3606
  let v3593 : BitVec 32 := Scalar.divsi v3590 c16_i32_1363
  let c1_i32_1369 : BitVec 32 := 1#32
  let v3608 : BitVec 32 := Scalar.subi v3593 c1_i32_1369
  let v3609 : BitVec 32 := Scalar.select v3607 v3608 v3593
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3609 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t77
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3590 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off391 (v3592 : BitVec 32) (k0_t77 : Fin k0_t77_loop.trips) : Fin 2 → Nat :=
  let c0_i32_1453 : BitVec 32 := 0#32
  let c1_i32_1455 : BitVec 32 := 1#32
  let arg19 : BitVec 32 := Scf.iv c0_i32_1453 c1_i32_1455 k0_t77
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3592 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk153 (i : grid0.Coords) (v25 : BitVec 32) (v3590 : BitVec 32) (v3592 : BitVec 32) : Prop :=
  (∀ (k0_h77 : k0_cond77 i v25 v3590 = 1#1), ∀ a, (k0_off388 i v3592) a + S32x512.size a ≤ S4096x512.size a) ∧
  (∀ k0_t77 : Fin k0_t77_loop.trips, ∀ (k0_h77 : k0_cond77 i v25 v3590 = 1#1), ∀ a, (k0_off389 v3592 k0_t77) a + S1x16.size a ≤ S32x512.size a) ∧
  (∀ k0_t77 : Fin k0_t77_loop.trips, ∀ (k0_h77 : k0_cond77 i v25 v3590 = 1#1), ∀ a, (k0_off391 v3592 k0_t77) a + S1x16.size a ≤ S32x512.size a)
theorem k0_off388_inb : ∀ (i : grid0.Coords) (v25 : BitVec 32) (v3590 : BitVec 32) (v3592 : BitVec 32) (k0_hw153 : k0_chk153 i v25 v3590 v3592), ∀ (k0_h77 : k0_cond77 i v25 v3590 = 1#1), ∀ a, (k0_off388 i v3592) a + S32x512.size a ≤ S4096x512.size a := fun i v25 v3590 v3592 k0_hw153 k0_h77 => k0_hw153.1 k0_h77
theorem k0_off389_inb : ∀ (i : grid0.Coords) (v25 : BitVec 32) (v3590 : BitVec 32) (v3592 : BitVec 32) (k0_hw153 : k0_chk153 i v25 v3590 v3592) (k0_t77 : Fin k0_t77_loop.trips), ∀ (k0_h77 : k0_cond77 i v25 v3590 = 1#1), ∀ a, (k0_off389 v3592 k0_t77) a + S1x16.size a ≤ S32x512.size a := fun i v25 v3590 v3592 k0_hw153 k0_t77 k0_h77 => k0_hw153.2.1 k0_t77 k0_h77
theorem k0_off391_inb : ∀ (i : grid0.Coords) (v25 : BitVec 32) (v3590 : BitVec 32) (v3592 : BitVec 32) (k0_hw153 : k0_chk153 i v25 v3590 v3592) (k0_t77 : Fin k0_t77_loop.trips), ∀ (k0_h77 : k0_cond77 i v25 v3590 = 1#1), ∀ a, (k0_off391 v3592 k0_t77) a + S1x16.size a ≤ S32x512.size a := fun i v25 v3590 v3592 k0_hw153 k0_t77 k0_h77 => k0_hw153.2.2 k0_t77 k0_h77

def k0_off392 (v3590 : BitVec 32) (k0_t77 : Fin k0_t77_loop.trips) : Fin 2 → Nat :=
  let c0_i32_1364 : BitVec 32 := 0#32
  let v3594 : BitVec 1 := Scalar.cmpi .sgt v3590 c0_i32_1364
  let v3595 : BitVec 32 := Scalar.extui v3594
  let c0_i32_1365 : BitVec 32 := 0#32
  let v3596 : BitVec 1 := Scalar.cmpi .slt v3590 c0_i32_1365
  let v3597 : BitVec 32 := Scalar.extui v3596
  let v3598 : BitVec 32 := Scalar.subi v3595 v3597
  let c16_i32_1363 : BitVec 32 := 16#32
  let c0_i32_1366 : BitVec 32 := 0#32
  let v3599 : BitVec 1 := Scalar.cmpi .sgt c16_i32_1363 c0_i32_1366
  let v3600 : BitVec 32 := Scalar.extui v3599
  let c0_i32_1367 : BitVec 32 := 0#32
  let v3601 : BitVec 1 := Scalar.cmpi .slt c16_i32_1363 c0_i32_1367
  let v3602 : BitVec 32 := Scalar.extui v3601
  let v3603 : BitVec 32 := Scalar.subi v3600 v3602
  let v3604 : BitVec 1 := Scalar.cmpi .ne v3598 v3603
  let v3605 : BitVec 32 := Scalar.remsi v3590 c16_i32_1363
  let c0_i32_1368 : BitVec 32 := 0#32
  let v3606 : BitVec 1 := Scalar.cmpi .ne v3605 c0_i32_1368
  let v3607 : BitVec 1 := Scalar.andi v3604 v3606
  let v3593 : BitVec 32 := Scalar.divsi v3590 c16_i32_1363
  let c1_i32_1369 : BitVec 32 := 1#32
  let v3608 : BitVec 32 := Scalar.subi v3593 c1_i32_1369
  let v3609 : BitVec 32 := Scalar.select v3607 v3608 v3593
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3609 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t77
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3590 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk154 (i : grid0.Coords) (v25 : BitVec 32) (v3590 : BitVec 32) : Prop :=
  (∀ k0_t77 : Fin k0_t77_loop.trips, ∀ (k0_h77 : k0_cond77 i v25 v3590 = 1#1), ∀ a, (k0_off390 v3590 k0_t77) a + S1x16.size a ≤ S128x512.size a) ∧
  (∀ k0_t77 : Fin k0_t77_loop.trips, ∀ (k0_h77 : k0_cond77 i v25 v3590 = 1#1), ∀ a, (k0_off392 v3590 k0_t77) a + S1x16.size a ≤ S128x512.size a)
theorem k0_off390_inb : ∀ (i : grid0.Coords) (v25 : BitVec 32) (v3590 : BitVec 32) (k0_hw154 : k0_chk154 i v25 v3590) (k0_t77 : Fin k0_t77_loop.trips), ∀ (k0_h77 : k0_cond77 i v25 v3590 = 1#1), ∀ a, (k0_off390 v3590 k0_t77) a + S1x16.size a ≤ S128x512.size a := fun i v25 v3590 k0_hw154 k0_t77 k0_h77 => k0_hw154.1 k0_t77 k0_h77
theorem k0_off392_inb : ∀ (i : grid0.Coords) (v25 : BitVec 32) (v3590 : BitVec 32) (k0_hw154 : k0_chk154 i v25 v3590) (k0_t77 : Fin k0_t77_loop.trips), ∀ (k0_h77 : k0_cond77 i v25 v3590 = 1#1), ∀ a, (k0_off392 v3590 k0_t77) a + S1x16.size a ≤ S128x512.size a := fun i v25 v3590 k0_hw154 k0_t77 k0_h77 => k0_hw154.2 k0_t77 k0_h77

def k0_off393 (i : grid0.Coords) (v3635 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3635 c0_i32_1428
  let v3763 : BitVec 32 := Scalar.extui v3762
  let c0_i32_1429 : BitVec 32 := 0#32
  let v3764 : BitVec 1 := Scalar.cmpi .slt v3635 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3635 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3635 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r89 : BitVec 32 := 0#32
  ![v3779.toNat, 0]
def k0_cond78 (i : grid0.Coords) (v25 : BitVec 32) (v3633 : BitVec 32) : BitVec 1 :=
  let c13_i32_1386 : BitVec 32 := 13#32
  let v3653 : BitVec 1 := Scalar.cmpi .sgt v25 c13_i32_1386
  let c0_i32_1380 : BitVec 32 := 0#32
  let v3637 : BitVec 1 := Scalar.cmpi .sgt v3633 c0_i32_1380
  let v3638 : BitVec 32 := Scalar.extui v3637
  let c0_i32_1381 : BitVec 32 := 0#32
  let v3639 : BitVec 1 := Scalar.cmpi .slt v3633 c0_i32_1381
  let v3640 : BitVec 32 := Scalar.extui v3639
  let v3641 : BitVec 32 := Scalar.subi v3638 v3640
  let c16_i32_1379 : BitVec 32 := 16#32
  let c0_i32_1382 : BitVec 32 := 0#32
  let v3642 : BitVec 1 := Scalar.cmpi .sgt c16_i32_1379 c0_i32_1382
  let v3643 : BitVec 32 := Scalar.extui v3642
  let c0_i32_1383 : BitVec 32 := 0#32
  let v3644 : BitVec 1 := Scalar.cmpi .slt c16_i32_1379 c0_i32_1383
  let v3645 : BitVec 32 := Scalar.extui v3644
  let v3646 : BitVec 32 := Scalar.subi v3643 v3645
  let v3647 : BitVec 1 := Scalar.cmpi .ne v3641 v3646
  let v3648 : BitVec 32 := Scalar.remsi v3633 c16_i32_1379
  let c0_i32_1384 : BitVec 32 := 0#32
  let v3649 : BitVec 1 := Scalar.cmpi .ne v3648 c0_i32_1384
  let v3650 : BitVec 1 := Scalar.andi v3647 v3649
  let v3636 : BitVec 32 := Scalar.divsi v3633 c16_i32_1379
  let c1_i32_1385 : BitVec 32 := 1#32
  let v3651 : BitVec 32 := Scalar.subi v3636 c1_i32_1385
  let v3652 : BitVec 32 := Scalar.select v3650 v3651 v3636
  let c0_i32_1388 : BitVec 32 := 0#32
  let v3655 : BitVec 1 := Scalar.cmpi .sgt v3652 c0_i32_1388
  let v3656 : BitVec 32 := Scalar.extui v3655
  let c0_i32_1389 : BitVec 32 := 0#32
  let v3657 : BitVec 1 := Scalar.cmpi .slt v3652 c0_i32_1389
  let v3658 : BitVec 32 := Scalar.extui v3657
  let v3659 : BitVec 32 := Scalar.subi v3656 v3658
  let c4_i32_1387 : BitVec 32 := 4#32
  let c0_i32_1390 : BitVec 32 := 0#32
  let v3660 : BitVec 1 := Scalar.cmpi .sgt c4_i32_1387 c0_i32_1390
  let v3661 : BitVec 32 := Scalar.extui v3660
  let c0_i32_1391 : BitVec 32 := 0#32
  let v3662 : BitVec 1 := Scalar.cmpi .slt c4_i32_1387 c0_i32_1391
  let v3663 : BitVec 32 := Scalar.extui v3662
  let v3664 : BitVec 32 := Scalar.subi v3661 v3663
  let v3665 : BitVec 1 := Scalar.cmpi .ne v3659 v3664
  let v3666 : BitVec 32 := Scalar.remsi v3652 c4_i32_1387
  let c0_i32_1392 : BitVec 32 := 0#32
  let v3667 : BitVec 1 := Scalar.cmpi .ne v3666 c0_i32_1392
  let v3668 : BitVec 1 := Scalar.andi v3665 v3667
  let v3654 : BitVec 32 := Scalar.divsi v3652 c4_i32_1387
  let c1_i32_1393 : BitVec 32 := 1#32
  let v3669 : BitVec 32 := Scalar.subi v3654 c1_i32_1393
  let v3670 : BitVec 32 := Scalar.select v3668 v3669 v3654
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3671 : BitVec 1 := Scalar.cmpi .eq v3670 v3072
  let v3672 : BitVec 1 := Scalar.andi v3653 v3671
  let v3673 : BitVec 32 := Scalar.extui v3672
  let c0_i32_1394 : BitVec 32 := 0#32
  let v3674 : BitVec 1 := Scalar.cmpi .ne v3673 c0_i32_1394
  v3674

@[reducible] def k0_t78_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off394 (v3635 : BitVec 32) (k0_t78 : Fin k0_t78_loop.trips) : Fin 2 → Nat :=
  let c0_i32_1453 : BitVec 32 := 0#32
  let c1_i32_1455 : BitVec 32 := 1#32
  let arg19 : BitVec 32 := Scf.iv c0_i32_1453 c1_i32_1455 k0_t78
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3635 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off395 (v3633 : BitVec 32) (k0_t78 : Fin k0_t78_loop.trips) : Fin 2 → Nat :=
  let c0_i32_1380 : BitVec 32 := 0#32
  let v3637 : BitVec 1 := Scalar.cmpi .sgt v3633 c0_i32_1380
  let v3638 : BitVec 32 := Scalar.extui v3637
  let c0_i32_1381 : BitVec 32 := 0#32
  let v3639 : BitVec 1 := Scalar.cmpi .slt v3633 c0_i32_1381
  let v3640 : BitVec 32 := Scalar.extui v3639
  let v3641 : BitVec 32 := Scalar.subi v3638 v3640
  let c16_i32_1379 : BitVec 32 := 16#32
  let c0_i32_1382 : BitVec 32 := 0#32
  let v3642 : BitVec 1 := Scalar.cmpi .sgt c16_i32_1379 c0_i32_1382
  let v3643 : BitVec 32 := Scalar.extui v3642
  let c0_i32_1383 : BitVec 32 := 0#32
  let v3644 : BitVec 1 := Scalar.cmpi .slt c16_i32_1379 c0_i32_1383
  let v3645 : BitVec 32 := Scalar.extui v3644
  let v3646 : BitVec 32 := Scalar.subi v3643 v3645
  let v3647 : BitVec 1 := Scalar.cmpi .ne v3641 v3646
  let v3648 : BitVec 32 := Scalar.remsi v3633 c16_i32_1379
  let c0_i32_1384 : BitVec 32 := 0#32
  let v3649 : BitVec 1 := Scalar.cmpi .ne v3648 c0_i32_1384
  let v3650 : BitVec 1 := Scalar.andi v3647 v3649
  let v3636 : BitVec 32 := Scalar.divsi v3633 c16_i32_1379
  let c1_i32_1385 : BitVec 32 := 1#32
  let v3651 : BitVec 32 := Scalar.subi v3636 c1_i32_1385
  let v3652 : BitVec 32 := Scalar.select v3650 v3651 v3636
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3652 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t78
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3633 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off396 (v3635 : BitVec 32) (k0_t78 : Fin k0_t78_loop.trips) : Fin 2 → Nat :=
  let c0_i32_1453 : BitVec 32 := 0#32
  let c1_i32_1455 : BitVec 32 := 1#32
  let arg19 : BitVec 32 := Scf.iv c0_i32_1453 c1_i32_1455 k0_t78
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3635 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk155 (i : grid0.Coords) (v25 : BitVec 32) (v3633 : BitVec 32) (v3635 : BitVec 32) : Prop :=
  (∀ (k0_h78 : k0_cond78 i v25 v3633 = 1#1), ∀ a, (k0_off393 i v3635) a + S32x512.size a ≤ S4096x512.size a) ∧
  (∀ k0_t78 : Fin k0_t78_loop.trips, ∀ (k0_h78 : k0_cond78 i v25 v3633 = 1#1), ∀ a, (k0_off394 v3635 k0_t78) a + S1x16.size a ≤ S32x512.size a) ∧
  (∀ k0_t78 : Fin k0_t78_loop.trips, ∀ (k0_h78 : k0_cond78 i v25 v3633 = 1#1), ∀ a, (k0_off396 v3635 k0_t78) a + S1x16.size a ≤ S32x512.size a)
theorem k0_off393_inb : ∀ (i : grid0.Coords) (v25 : BitVec 32) (v3633 : BitVec 32) (v3635 : BitVec 32) (k0_hw155 : k0_chk155 i v25 v3633 v3635), ∀ (k0_h78 : k0_cond78 i v25 v3633 = 1#1), ∀ a, (k0_off393 i v3635) a + S32x512.size a ≤ S4096x512.size a := fun i v25 v3633 v3635 k0_hw155 k0_h78 => k0_hw155.1 k0_h78
theorem k0_off394_inb : ∀ (i : grid0.Coords) (v25 : BitVec 32) (v3633 : BitVec 32) (v3635 : BitVec 32) (k0_hw155 : k0_chk155 i v25 v3633 v3635) (k0_t78 : Fin k0_t78_loop.trips), ∀ (k0_h78 : k0_cond78 i v25 v3633 = 1#1), ∀ a, (k0_off394 v3635 k0_t78) a + S1x16.size a ≤ S32x512.size a := fun i v25 v3633 v3635 k0_hw155 k0_t78 k0_h78 => k0_hw155.2.1 k0_t78 k0_h78
theorem k0_off396_inb : ∀ (i : grid0.Coords) (v25 : BitVec 32) (v3633 : BitVec 32) (v3635 : BitVec 32) (k0_hw155 : k0_chk155 i v25 v3633 v3635) (k0_t78 : Fin k0_t78_loop.trips), ∀ (k0_h78 : k0_cond78 i v25 v3633 = 1#1), ∀ a, (k0_off396 v3635 k0_t78) a + S1x16.size a ≤ S32x512.size a := fun i v25 v3633 v3635 k0_hw155 k0_t78 k0_h78 => k0_hw155.2.2 k0_t78 k0_h78

def k0_off397 (v3633 : BitVec 32) (k0_t78 : Fin k0_t78_loop.trips) : Fin 2 → Nat :=
  let c0_i32_1380 : BitVec 32 := 0#32
  let v3637 : BitVec 1 := Scalar.cmpi .sgt v3633 c0_i32_1380
  let v3638 : BitVec 32 := Scalar.extui v3637
  let c0_i32_1381 : BitVec 32 := 0#32
  let v3639 : BitVec 1 := Scalar.cmpi .slt v3633 c0_i32_1381
  let v3640 : BitVec 32 := Scalar.extui v3639
  let v3641 : BitVec 32 := Scalar.subi v3638 v3640
  let c16_i32_1379 : BitVec 32 := 16#32
  let c0_i32_1382 : BitVec 32 := 0#32
  let v3642 : BitVec 1 := Scalar.cmpi .sgt c16_i32_1379 c0_i32_1382
  let v3643 : BitVec 32 := Scalar.extui v3642
  let c0_i32_1383 : BitVec 32 := 0#32
  let v3644 : BitVec 1 := Scalar.cmpi .slt c16_i32_1379 c0_i32_1383
  let v3645 : BitVec 32 := Scalar.extui v3644
  let v3646 : BitVec 32 := Scalar.subi v3643 v3645
  let v3647 : BitVec 1 := Scalar.cmpi .ne v3641 v3646
  let v3648 : BitVec 32 := Scalar.remsi v3633 c16_i32_1379
  let c0_i32_1384 : BitVec 32 := 0#32
  let v3649 : BitVec 1 := Scalar.cmpi .ne v3648 c0_i32_1384
  let v3650 : BitVec 1 := Scalar.andi v3647 v3649
  let v3636 : BitVec 32 := Scalar.divsi v3633 c16_i32_1379
  let c1_i32_1385 : BitVec 32 := 1#32
  let v3651 : BitVec 32 := Scalar.subi v3636 c1_i32_1385
  let v3652 : BitVec 32 := Scalar.select v3650 v3651 v3636
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3652 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t78
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3633 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk156 (i : grid0.Coords) (v25 : BitVec 32) (v3633 : BitVec 32) : Prop :=
  (∀ k0_t78 : Fin k0_t78_loop.trips, ∀ (k0_h78 : k0_cond78 i v25 v3633 = 1#1), ∀ a, (k0_off395 v3633 k0_t78) a + S1x16.size a ≤ S128x512.size a) ∧
  (∀ k0_t78 : Fin k0_t78_loop.trips, ∀ (k0_h78 : k0_cond78 i v25 v3633 = 1#1), ∀ a, (k0_off397 v3633 k0_t78) a + S1x16.size a ≤ S128x512.size a)
theorem k0_off395_inb : ∀ (i : grid0.Coords) (v25 : BitVec 32) (v3633 : BitVec 32) (k0_hw156 : k0_chk156 i v25 v3633) (k0_t78 : Fin k0_t78_loop.trips), ∀ (k0_h78 : k0_cond78 i v25 v3633 = 1#1), ∀ a, (k0_off395 v3633 k0_t78) a + S1x16.size a ≤ S128x512.size a := fun i v25 v3633 k0_hw156 k0_t78 k0_h78 => k0_hw156.1 k0_t78 k0_h78
theorem k0_off397_inb : ∀ (i : grid0.Coords) (v25 : BitVec 32) (v3633 : BitVec 32) (k0_hw156 : k0_chk156 i v25 v3633) (k0_t78 : Fin k0_t78_loop.trips), ∀ (k0_h78 : k0_cond78 i v25 v3633 = 1#1), ∀ a, (k0_off397 v3633 k0_t78) a + S1x16.size a ≤ S128x512.size a := fun i v25 v3633 k0_hw156 k0_t78 k0_h78 => k0_hw156.2 k0_t78 k0_h78

def k0_off398 (i : grid0.Coords) (v3678 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3678 c0_i32_1428
  let v3763 : BitVec 32 := Scalar.extui v3762
  let c0_i32_1429 : BitVec 32 := 0#32
  let v3764 : BitVec 1 := Scalar.cmpi .slt v3678 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3678 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3678 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r90 : BitVec 32 := 0#32
  ![v3779.toNat, 0]
def k0_cond79 (i : grid0.Coords) (v25 : BitVec 32) (v3676 : BitVec 32) : BitVec 1 :=
  let c14_i32_1402 : BitVec 32 := 14#32
  let v3696 : BitVec 1 := Scalar.cmpi .sgt v25 c14_i32_1402
  let c0_i32_1396 : BitVec 32 := 0#32
  let v3680 : BitVec 1 := Scalar.cmpi .sgt v3676 c0_i32_1396
  let v3681 : BitVec 32 := Scalar.extui v3680
  let c0_i32_1397 : BitVec 32 := 0#32
  let v3682 : BitVec 1 := Scalar.cmpi .slt v3676 c0_i32_1397
  let v3683 : BitVec 32 := Scalar.extui v3682
  let v3684 : BitVec 32 := Scalar.subi v3681 v3683
  let c16_i32_1395 : BitVec 32 := 16#32
  let c0_i32_1398 : BitVec 32 := 0#32
  let v3685 : BitVec 1 := Scalar.cmpi .sgt c16_i32_1395 c0_i32_1398
  let v3686 : BitVec 32 := Scalar.extui v3685
  let c0_i32_1399 : BitVec 32 := 0#32
  let v3687 : BitVec 1 := Scalar.cmpi .slt c16_i32_1395 c0_i32_1399
  let v3688 : BitVec 32 := Scalar.extui v3687
  let v3689 : BitVec 32 := Scalar.subi v3686 v3688
  let v3690 : BitVec 1 := Scalar.cmpi .ne v3684 v3689
  let v3691 : BitVec 32 := Scalar.remsi v3676 c16_i32_1395
  let c0_i32_1400 : BitVec 32 := 0#32
  let v3692 : BitVec 1 := Scalar.cmpi .ne v3691 c0_i32_1400
  let v3693 : BitVec 1 := Scalar.andi v3690 v3692
  let v3679 : BitVec 32 := Scalar.divsi v3676 c16_i32_1395
  let c1_i32_1401 : BitVec 32 := 1#32
  let v3694 : BitVec 32 := Scalar.subi v3679 c1_i32_1401
  let v3695 : BitVec 32 := Scalar.select v3693 v3694 v3679
  let c0_i32_1404 : BitVec 32 := 0#32
  let v3698 : BitVec 1 := Scalar.cmpi .sgt v3695 c0_i32_1404
  let v3699 : BitVec 32 := Scalar.extui v3698
  let c0_i32_1405 : BitVec 32 := 0#32
  let v3700 : BitVec 1 := Scalar.cmpi .slt v3695 c0_i32_1405
  let v3701 : BitVec 32 := Scalar.extui v3700
  let v3702 : BitVec 32 := Scalar.subi v3699 v3701
  let c4_i32_1403 : BitVec 32 := 4#32
  let c0_i32_1406 : BitVec 32 := 0#32
  let v3703 : BitVec 1 := Scalar.cmpi .sgt c4_i32_1403 c0_i32_1406
  let v3704 : BitVec 32 := Scalar.extui v3703
  let c0_i32_1407 : BitVec 32 := 0#32
  let v3705 : BitVec 1 := Scalar.cmpi .slt c4_i32_1403 c0_i32_1407
  let v3706 : BitVec 32 := Scalar.extui v3705
  let v3707 : BitVec 32 := Scalar.subi v3704 v3706
  let v3708 : BitVec 1 := Scalar.cmpi .ne v3702 v3707
  let v3709 : BitVec 32 := Scalar.remsi v3695 c4_i32_1403
  let c0_i32_1408 : BitVec 32 := 0#32
  let v3710 : BitVec 1 := Scalar.cmpi .ne v3709 c0_i32_1408
  let v3711 : BitVec 1 := Scalar.andi v3708 v3710
  let v3697 : BitVec 32 := Scalar.divsi v3695 c4_i32_1403
  let c1_i32_1409 : BitVec 32 := 1#32
  let v3712 : BitVec 32 := Scalar.subi v3697 c1_i32_1409
  let v3713 : BitVec 32 := Scalar.select v3711 v3712 v3697
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3714 : BitVec 1 := Scalar.cmpi .eq v3713 v3072
  let v3715 : BitVec 1 := Scalar.andi v3696 v3714
  let v3716 : BitVec 32 := Scalar.extui v3715
  let c0_i32_1410 : BitVec 32 := 0#32
  let v3717 : BitVec 1 := Scalar.cmpi .ne v3716 c0_i32_1410
  v3717

@[reducible] def k0_t79_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off399 (v3678 : BitVec 32) (k0_t79 : Fin k0_t79_loop.trips) : Fin 2 → Nat :=
  let c0_i32_1453 : BitVec 32 := 0#32
  let c1_i32_1455 : BitVec 32 := 1#32
  let arg19 : BitVec 32 := Scf.iv c0_i32_1453 c1_i32_1455 k0_t79
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3678 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off400 (v3676 : BitVec 32) (k0_t79 : Fin k0_t79_loop.trips) : Fin 2 → Nat :=
  let c0_i32_1396 : BitVec 32 := 0#32
  let v3680 : BitVec 1 := Scalar.cmpi .sgt v3676 c0_i32_1396
  let v3681 : BitVec 32 := Scalar.extui v3680
  let c0_i32_1397 : BitVec 32 := 0#32
  let v3682 : BitVec 1 := Scalar.cmpi .slt v3676 c0_i32_1397
  let v3683 : BitVec 32 := Scalar.extui v3682
  let v3684 : BitVec 32 := Scalar.subi v3681 v3683
  let c16_i32_1395 : BitVec 32 := 16#32
  let c0_i32_1398 : BitVec 32 := 0#32
  let v3685 : BitVec 1 := Scalar.cmpi .sgt c16_i32_1395 c0_i32_1398
  let v3686 : BitVec 32 := Scalar.extui v3685
  let c0_i32_1399 : BitVec 32 := 0#32
  let v3687 : BitVec 1 := Scalar.cmpi .slt c16_i32_1395 c0_i32_1399
  let v3688 : BitVec 32 := Scalar.extui v3687
  let v3689 : BitVec 32 := Scalar.subi v3686 v3688
  let v3690 : BitVec 1 := Scalar.cmpi .ne v3684 v3689
  let v3691 : BitVec 32 := Scalar.remsi v3676 c16_i32_1395
  let c0_i32_1400 : BitVec 32 := 0#32
  let v3692 : BitVec 1 := Scalar.cmpi .ne v3691 c0_i32_1400
  let v3693 : BitVec 1 := Scalar.andi v3690 v3692
  let v3679 : BitVec 32 := Scalar.divsi v3676 c16_i32_1395
  let c1_i32_1401 : BitVec 32 := 1#32
  let v3694 : BitVec 32 := Scalar.subi v3679 c1_i32_1401
  let v3695 : BitVec 32 := Scalar.select v3693 v3694 v3679
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3695 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t79
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3676 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off401 (v3678 : BitVec 32) (k0_t79 : Fin k0_t79_loop.trips) : Fin 2 → Nat :=
  let c0_i32_1453 : BitVec 32 := 0#32
  let c1_i32_1455 : BitVec 32 := 1#32
  let arg19 : BitVec 32 := Scf.iv c0_i32_1453 c1_i32_1455 k0_t79
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3678 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk157 (i : grid0.Coords) (v25 : BitVec 32) (v3676 : BitVec 32) (v3678 : BitVec 32) : Prop :=
  (∀ (k0_h79 : k0_cond79 i v25 v3676 = 1#1), ∀ a, (k0_off398 i v3678) a + S32x512.size a ≤ S4096x512.size a) ∧
  (∀ k0_t79 : Fin k0_t79_loop.trips, ∀ (k0_h79 : k0_cond79 i v25 v3676 = 1#1), ∀ a, (k0_off399 v3678 k0_t79) a + S1x16.size a ≤ S32x512.size a) ∧
  (∀ k0_t79 : Fin k0_t79_loop.trips, ∀ (k0_h79 : k0_cond79 i v25 v3676 = 1#1), ∀ a, (k0_off401 v3678 k0_t79) a + S1x16.size a ≤ S32x512.size a)
theorem k0_off398_inb : ∀ (i : grid0.Coords) (v25 : BitVec 32) (v3676 : BitVec 32) (v3678 : BitVec 32) (k0_hw157 : k0_chk157 i v25 v3676 v3678), ∀ (k0_h79 : k0_cond79 i v25 v3676 = 1#1), ∀ a, (k0_off398 i v3678) a + S32x512.size a ≤ S4096x512.size a := fun i v25 v3676 v3678 k0_hw157 k0_h79 => k0_hw157.1 k0_h79
theorem k0_off399_inb : ∀ (i : grid0.Coords) (v25 : BitVec 32) (v3676 : BitVec 32) (v3678 : BitVec 32) (k0_hw157 : k0_chk157 i v25 v3676 v3678) (k0_t79 : Fin k0_t79_loop.trips), ∀ (k0_h79 : k0_cond79 i v25 v3676 = 1#1), ∀ a, (k0_off399 v3678 k0_t79) a + S1x16.size a ≤ S32x512.size a := fun i v25 v3676 v3678 k0_hw157 k0_t79 k0_h79 => k0_hw157.2.1 k0_t79 k0_h79
theorem k0_off401_inb : ∀ (i : grid0.Coords) (v25 : BitVec 32) (v3676 : BitVec 32) (v3678 : BitVec 32) (k0_hw157 : k0_chk157 i v25 v3676 v3678) (k0_t79 : Fin k0_t79_loop.trips), ∀ (k0_h79 : k0_cond79 i v25 v3676 = 1#1), ∀ a, (k0_off401 v3678 k0_t79) a + S1x16.size a ≤ S32x512.size a := fun i v25 v3676 v3678 k0_hw157 k0_t79 k0_h79 => k0_hw157.2.2 k0_t79 k0_h79

def k0_off402 (v3676 : BitVec 32) (k0_t79 : Fin k0_t79_loop.trips) : Fin 2 → Nat :=
  let c0_i32_1396 : BitVec 32 := 0#32
  let v3680 : BitVec 1 := Scalar.cmpi .sgt v3676 c0_i32_1396
  let v3681 : BitVec 32 := Scalar.extui v3680
  let c0_i32_1397 : BitVec 32 := 0#32
  let v3682 : BitVec 1 := Scalar.cmpi .slt v3676 c0_i32_1397
  let v3683 : BitVec 32 := Scalar.extui v3682
  let v3684 : BitVec 32 := Scalar.subi v3681 v3683
  let c16_i32_1395 : BitVec 32 := 16#32
  let c0_i32_1398 : BitVec 32 := 0#32
  let v3685 : BitVec 1 := Scalar.cmpi .sgt c16_i32_1395 c0_i32_1398
  let v3686 : BitVec 32 := Scalar.extui v3685
  let c0_i32_1399 : BitVec 32 := 0#32
  let v3687 : BitVec 1 := Scalar.cmpi .slt c16_i32_1395 c0_i32_1399
  let v3688 : BitVec 32 := Scalar.extui v3687
  let v3689 : BitVec 32 := Scalar.subi v3686 v3688
  let v3690 : BitVec 1 := Scalar.cmpi .ne v3684 v3689
  let v3691 : BitVec 32 := Scalar.remsi v3676 c16_i32_1395
  let c0_i32_1400 : BitVec 32 := 0#32
  let v3692 : BitVec 1 := Scalar.cmpi .ne v3691 c0_i32_1400
  let v3693 : BitVec 1 := Scalar.andi v3690 v3692
  let v3679 : BitVec 32 := Scalar.divsi v3676 c16_i32_1395
  let c1_i32_1401 : BitVec 32 := 1#32
  let v3694 : BitVec 32 := Scalar.subi v3679 c1_i32_1401
  let v3695 : BitVec 32 := Scalar.select v3693 v3694 v3679
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3695 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t79
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3676 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk158 (i : grid0.Coords) (v25 : BitVec 32) (v3676 : BitVec 32) : Prop :=
  (∀ k0_t79 : Fin k0_t79_loop.trips, ∀ (k0_h79 : k0_cond79 i v25 v3676 = 1#1), ∀ a, (k0_off400 v3676 k0_t79) a + S1x16.size a ≤ S128x512.size a) ∧
  (∀ k0_t79 : Fin k0_t79_loop.trips, ∀ (k0_h79 : k0_cond79 i v25 v3676 = 1#1), ∀ a, (k0_off402 v3676 k0_t79) a + S1x16.size a ≤ S128x512.size a)
theorem k0_off400_inb : ∀ (i : grid0.Coords) (v25 : BitVec 32) (v3676 : BitVec 32) (k0_hw158 : k0_chk158 i v25 v3676) (k0_t79 : Fin k0_t79_loop.trips), ∀ (k0_h79 : k0_cond79 i v25 v3676 = 1#1), ∀ a, (k0_off400 v3676 k0_t79) a + S1x16.size a ≤ S128x512.size a := fun i v25 v3676 k0_hw158 k0_t79 k0_h79 => k0_hw158.1 k0_t79 k0_h79
theorem k0_off402_inb : ∀ (i : grid0.Coords) (v25 : BitVec 32) (v3676 : BitVec 32) (k0_hw158 : k0_chk158 i v25 v3676) (k0_t79 : Fin k0_t79_loop.trips), ∀ (k0_h79 : k0_cond79 i v25 v3676 = 1#1), ∀ a, (k0_off402 v3676 k0_t79) a + S1x16.size a ≤ S128x512.size a := fun i v25 v3676 k0_hw158 k0_t79 k0_h79 => k0_hw158.2 k0_t79 k0_h79

def k0_off403 (i : grid0.Coords) (v3721 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3721 c0_i32_1428
  let v3763 : BitVec 32 := Scalar.extui v3762
  let c0_i32_1429 : BitVec 32 := 0#32
  let v3764 : BitVec 1 := Scalar.cmpi .slt v3721 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3721 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3721 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r91 : BitVec 32 := 0#32
  ![v3779.toNat, 0]
def k0_cond80 (i : grid0.Coords) (v25 : BitVec 32) (v3719 : BitVec 32) : BitVec 1 :=
  let c15_i32_1418 : BitVec 32 := 15#32
  let v3739 : BitVec 1 := Scalar.cmpi .sgt v25 c15_i32_1418
  let c0_i32_1412 : BitVec 32 := 0#32
  let v3723 : BitVec 1 := Scalar.cmpi .sgt v3719 c0_i32_1412
  let v3724 : BitVec 32 := Scalar.extui v3723
  let c0_i32_1413 : BitVec 32 := 0#32
  let v3725 : BitVec 1 := Scalar.cmpi .slt v3719 c0_i32_1413
  let v3726 : BitVec 32 := Scalar.extui v3725
  let v3727 : BitVec 32 := Scalar.subi v3724 v3726
  let c16_i32_1411 : BitVec 32 := 16#32
  let c0_i32_1414 : BitVec 32 := 0#32
  let v3728 : BitVec 1 := Scalar.cmpi .sgt c16_i32_1411 c0_i32_1414
  let v3729 : BitVec 32 := Scalar.extui v3728
  let c0_i32_1415 : BitVec 32 := 0#32
  let v3730 : BitVec 1 := Scalar.cmpi .slt c16_i32_1411 c0_i32_1415
  let v3731 : BitVec 32 := Scalar.extui v3730
  let v3732 : BitVec 32 := Scalar.subi v3729 v3731
  let v3733 : BitVec 1 := Scalar.cmpi .ne v3727 v3732
  let v3734 : BitVec 32 := Scalar.remsi v3719 c16_i32_1411
  let c0_i32_1416 : BitVec 32 := 0#32
  let v3735 : BitVec 1 := Scalar.cmpi .ne v3734 c0_i32_1416
  let v3736 : BitVec 1 := Scalar.andi v3733 v3735
  let v3722 : BitVec 32 := Scalar.divsi v3719 c16_i32_1411
  let c1_i32_1417 : BitVec 32 := 1#32
  let v3737 : BitVec 32 := Scalar.subi v3722 c1_i32_1417
  let v3738 : BitVec 32 := Scalar.select v3736 v3737 v3722
  let c0_i32_1420 : BitVec 32 := 0#32
  let v3741 : BitVec 1 := Scalar.cmpi .sgt v3738 c0_i32_1420
  let v3742 : BitVec 32 := Scalar.extui v3741
  let c0_i32_1421 : BitVec 32 := 0#32
  let v3743 : BitVec 1 := Scalar.cmpi .slt v3738 c0_i32_1421
  let v3744 : BitVec 32 := Scalar.extui v3743
  let v3745 : BitVec 32 := Scalar.subi v3742 v3744
  let c4_i32_1419 : BitVec 32 := 4#32
  let c0_i32_1422 : BitVec 32 := 0#32
  let v3746 : BitVec 1 := Scalar.cmpi .sgt c4_i32_1419 c0_i32_1422
  let v3747 : BitVec 32 := Scalar.extui v3746
  let c0_i32_1423 : BitVec 32 := 0#32
  let v3748 : BitVec 1 := Scalar.cmpi .slt c4_i32_1419 c0_i32_1423
  let v3749 : BitVec 32 := Scalar.extui v3748
  let v3750 : BitVec 32 := Scalar.subi v3747 v3749
  let v3751 : BitVec 1 := Scalar.cmpi .ne v3745 v3750
  let v3752 : BitVec 32 := Scalar.remsi v3738 c4_i32_1419
  let c0_i32_1424 : BitVec 32 := 0#32
  let v3753 : BitVec 1 := Scalar.cmpi .ne v3752 c0_i32_1424
  let v3754 : BitVec 1 := Scalar.andi v3751 v3753
  let v3740 : BitVec 32 := Scalar.divsi v3738 c4_i32_1419
  let c1_i32_1425 : BitVec 32 := 1#32
  let v3755 : BitVec 32 := Scalar.subi v3740 c1_i32_1425
  let v3756 : BitVec 32 := Scalar.select v3754 v3755 v3740
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3757 : BitVec 1 := Scalar.cmpi .eq v3756 v3072
  let v3758 : BitVec 1 := Scalar.andi v3739 v3757
  let v3759 : BitVec 32 := Scalar.extui v3758
  let c0_i32_1426 : BitVec 32 := 0#32
  let v3760 : BitVec 1 := Scalar.cmpi .ne v3759 c0_i32_1426
  v3760

@[reducible] def k0_t80_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k0_off404 (v3721 : BitVec 32) (k0_t80 : Fin k0_t80_loop.trips) : Fin 2 → Nat :=
  let c0_i32_1453 : BitVec 32 := 0#32
  let c1_i32_1455 : BitVec 32 := 1#32
  let arg19 : BitVec 32 := Scf.iv c0_i32_1453 c1_i32_1455 k0_t80
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3721 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k0_off405 (v3719 : BitVec 32) (k0_t80 : Fin k0_t80_loop.trips) : Fin 2 → Nat :=
  let c0_i32_1412 : BitVec 32 := 0#32
  let v3723 : BitVec 1 := Scalar.cmpi .sgt v3719 c0_i32_1412
  let v3724 : BitVec 32 := Scalar.extui v3723
  let c0_i32_1413 : BitVec 32 := 0#32
  let v3725 : BitVec 1 := Scalar.cmpi .slt v3719 c0_i32_1413
  let v3726 : BitVec 32 := Scalar.extui v3725
  let v3727 : BitVec 32 := Scalar.subi v3724 v3726
  let c16_i32_1411 : BitVec 32 := 16#32
  let c0_i32_1414 : BitVec 32 := 0#32
  let v3728 : BitVec 1 := Scalar.cmpi .sgt c16_i32_1411 c0_i32_1414
  let v3729 : BitVec 32 := Scalar.extui v3728
  let c0_i32_1415 : BitVec 32 := 0#32
  let v3730 : BitVec 1 := Scalar.cmpi .slt c16_i32_1411 c0_i32_1415
  let v3731 : BitVec 32 := Scalar.extui v3730
  let v3732 : BitVec 32 := Scalar.subi v3729 v3731
  let v3733 : BitVec 1 := Scalar.cmpi .ne v3727 v3732
  let v3734 : BitVec 32 := Scalar.remsi v3719 c16_i32_1411
  let c0_i32_1416 : BitVec 32 := 0#32
  let v3735 : BitVec 1 := Scalar.cmpi .ne v3734 c0_i32_1416
  let v3736 : BitVec 1 := Scalar.andi v3733 v3735
  let v3722 : BitVec 32 := Scalar.divsi v3719 c16_i32_1411
  let c1_i32_1417 : BitVec 32 := 1#32
  let v3737 : BitVec 32 := Scalar.subi v3722 c1_i32_1417
  let v3738 : BitVec 32 := Scalar.select v3736 v3737 v3722
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3738 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t80
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3719 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k0_off406 (v3721 : BitVec 32) (k0_t80 : Fin k0_t80_loop.trips) : Fin 2 → Nat :=
  let c0_i32_1453 : BitVec 32 := 0#32
  let c1_i32_1455 : BitVec 32 := 1#32
  let arg19 : BitVec 32 := Scf.iv c0_i32_1453 c1_i32_1455 k0_t80
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3721 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k0_chk159 (i : grid0.Coords) (v25 : BitVec 32) (v3719 : BitVec 32) (v3721 : BitVec 32) : Prop :=
  (∀ (k0_h80 : k0_cond80 i v25 v3719 = 1#1), ∀ a, (k0_off403 i v3721) a + S32x512.size a ≤ S4096x512.size a) ∧
  (∀ k0_t80 : Fin k0_t80_loop.trips, ∀ (k0_h80 : k0_cond80 i v25 v3719 = 1#1), ∀ a, (k0_off404 v3721 k0_t80) a + S1x16.size a ≤ S32x512.size a) ∧
  (∀ k0_t80 : Fin k0_t80_loop.trips, ∀ (k0_h80 : k0_cond80 i v25 v3719 = 1#1), ∀ a, (k0_off406 v3721 k0_t80) a + S1x16.size a ≤ S32x512.size a)
theorem k0_off403_inb : ∀ (i : grid0.Coords) (v25 : BitVec 32) (v3719 : BitVec 32) (v3721 : BitVec 32) (k0_hw159 : k0_chk159 i v25 v3719 v3721), ∀ (k0_h80 : k0_cond80 i v25 v3719 = 1#1), ∀ a, (k0_off403 i v3721) a + S32x512.size a ≤ S4096x512.size a := fun i v25 v3719 v3721 k0_hw159 k0_h80 => k0_hw159.1 k0_h80
theorem k0_off404_inb : ∀ (i : grid0.Coords) (v25 : BitVec 32) (v3719 : BitVec 32) (v3721 : BitVec 32) (k0_hw159 : k0_chk159 i v25 v3719 v3721) (k0_t80 : Fin k0_t80_loop.trips), ∀ (k0_h80 : k0_cond80 i v25 v3719 = 1#1), ∀ a, (k0_off404 v3721 k0_t80) a + S1x16.size a ≤ S32x512.size a := fun i v25 v3719 v3721 k0_hw159 k0_t80 k0_h80 => k0_hw159.2.1 k0_t80 k0_h80
theorem k0_off406_inb : ∀ (i : grid0.Coords) (v25 : BitVec 32) (v3719 : BitVec 32) (v3721 : BitVec 32) (k0_hw159 : k0_chk159 i v25 v3719 v3721) (k0_t80 : Fin k0_t80_loop.trips), ∀ (k0_h80 : k0_cond80 i v25 v3719 = 1#1), ∀ a, (k0_off406 v3721 k0_t80) a + S1x16.size a ≤ S32x512.size a := fun i v25 v3719 v3721 k0_hw159 k0_t80 k0_h80 => k0_hw159.2.2 k0_t80 k0_h80

def k0_off407 (v3719 : BitVec 32) (k0_t80 : Fin k0_t80_loop.trips) : Fin 2 → Nat :=
  let c0_i32_1412 : BitVec 32 := 0#32
  let v3723 : BitVec 1 := Scalar.cmpi .sgt v3719 c0_i32_1412
  let v3724 : BitVec 32 := Scalar.extui v3723
  let c0_i32_1413 : BitVec 32 := 0#32
  let v3725 : BitVec 1 := Scalar.cmpi .slt v3719 c0_i32_1413
  let v3726 : BitVec 32 := Scalar.extui v3725
  let v3727 : BitVec 32 := Scalar.subi v3724 v3726
  let c16_i32_1411 : BitVec 32 := 16#32
  let c0_i32_1414 : BitVec 32 := 0#32
  let v3728 : BitVec 1 := Scalar.cmpi .sgt c16_i32_1411 c0_i32_1414
  let v3729 : BitVec 32 := Scalar.extui v3728
  let c0_i32_1415 : BitVec 32 := 0#32
  let v3730 : BitVec 1 := Scalar.cmpi .slt c16_i32_1411 c0_i32_1415
  let v3731 : BitVec 32 := Scalar.extui v3730
  let v3732 : BitVec 32 := Scalar.subi v3729 v3731
  let v3733 : BitVec 1 := Scalar.cmpi .ne v3727 v3732
  let v3734 : BitVec 32 := Scalar.remsi v3719 c16_i32_1411
  let c0_i32_1416 : BitVec 32 := 0#32
  let v3735 : BitVec 1 := Scalar.cmpi .ne v3734 c0_i32_1416
  let v3736 : BitVec 1 := Scalar.andi v3733 v3735
  let v3722 : BitVec 32 := Scalar.divsi v3719 c16_i32_1411
  let c1_i32_1417 : BitVec 32 := 1#32
  let v3737 : BitVec 32 := Scalar.subi v3722 c1_i32_1417
  let v3738 : BitVec 32 := Scalar.select v3736 v3737 v3722
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3738 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k0_t80
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3719 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k0_chk160 (i : grid0.Coords) (v25 : BitVec 32) (v3719 : BitVec 32) : Prop :=
  (∀ k0_t80 : Fin k0_t80_loop.trips, ∀ (k0_h80 : k0_cond80 i v25 v3719 = 1#1), ∀ a, (k0_off405 v3719 k0_t80) a + S1x16.size a ≤ S128x512.size a) ∧
  (∀ k0_t80 : Fin k0_t80_loop.trips, ∀ (k0_h80 : k0_cond80 i v25 v3719 = 1#1), ∀ a, (k0_off407 v3719 k0_t80) a + S1x16.size a ≤ S128x512.size a)
theorem k0_off405_inb : ∀ (i : grid0.Coords) (v25 : BitVec 32) (v3719 : BitVec 32) (k0_hw160 : k0_chk160 i v25 v3719) (k0_t80 : Fin k0_t80_loop.trips), ∀ (k0_h80 : k0_cond80 i v25 v3719 = 1#1), ∀ a, (k0_off405 v3719 k0_t80) a + S1x16.size a ≤ S128x512.size a := fun i v25 v3719 k0_hw160 k0_t80 k0_h80 => k0_hw160.1 k0_t80 k0_h80
theorem k0_off407_inb : ∀ (i : grid0.Coords) (v25 : BitVec 32) (v3719 : BitVec 32) (k0_hw160 : k0_chk160 i v25 v3719) (k0_t80 : Fin k0_t80_loop.trips), ∀ (k0_h80 : k0_cond80 i v25 v3719 = 1#1), ∀ a, (k0_off407 v3719 k0_t80) a + S1x16.size a ≤ S128x512.size a := fun i v25 v3719 k0_hw160 k0_t80 k0_h80 => k0_hw160.2 k0_t80 k0_h80

def k0_off408 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c0_i32_1427_r92 : BitVec 32 := 0#32
  ![v2328.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x3x512x512 : Shape := ⟨4, ![8, 3, 512, 512]⟩
abbrev S8x512x512 : Shape := ⟨3, ![8, 512, 512]⟩
abbrev S8x1x16 : Shape := ⟨3, ![8, 1, 16]⟩
abbrev S8x1x1 : Shape := ⟨3, ![8, 1, 1]⟩
abbrev S8 : Shape := ⟨1, ![8]⟩
abbrev S8x16 : Shape := ⟨2, ![8, 16]⟩
abbrev S16 : Shape := ⟨1, ![16]⟩
abbrev S1x16 : Shape := ⟨2, ![1, 16]⟩
abbrev S8x1 : Shape := ⟨2, ![8, 1]⟩
abbrev S_ : Shape := ⟨0, ![]⟩
abbrev S8x256 : Shape := ⟨2, ![8, 256]⟩
abbrev S8x16x1 : Shape := ⟨3, ![8, 16, 1]⟩
abbrev S8x16x2 : Shape := ⟨3, ![8, 16, 2]⟩
abbrev S8x3x16x32x16x32 : Shape := ⟨6, ![8, 3, 16, 32, 16, 32]⟩
abbrev S8x3x32x32x16x16 : Shape := ⟨6, ![8, 3, 32, 32, 16, 16]⟩
abbrev S8x3x32x32x256 : Shape := ⟨5, ![8, 3, 32, 32, 256]⟩
abbrev S8x1x1x1x256 : Shape := ⟨5, ![8, 1, 1, 1, 256]⟩
abbrev S8x256x1 : Shape := ⟨3, ![8, 256, 1]⟩
abbrev S1 : Shape := ⟨1, ![1]⟩
abbrev S1x1x1 : Shape := ⟨3, ![1, 1, 1]⟩
abbrev S8x1x512x512 : Shape := ⟨4, ![8, 1, 512, 512]⟩
abbrev S8x1x16x32x16x32 : Shape := ⟨6, ![8, 1, 16, 32, 16, 32]⟩
abbrev S8x1x32x32x16x16 : Shape := ⟨6, ![8, 1, 32, 32, 16, 16]⟩
abbrev S8x1x32x32x256 : Shape := ⟨5, ![8, 1, 32, 32, 256]⟩

abbrev nBuf : Space → Nat
  | .hbm => 180
  | .vmem => 0
  | .smem => 0
  | _ => 0

abbrev hbmTy0_0 (i : Nat) : BufTy := match i % 128 with
  | 0 => ⟨S8x3x512x512, .f32⟩
  | 1 => ⟨S8x3x512x512, .f32⟩
  | 2 => ⟨S8x512x512, .i32⟩
  | 3 => ⟨S8x512x512, .i32⟩
  | 4 => ⟨S8x512x512, .f32⟩
  | 5 => ⟨S8x512x512, .f32⟩
  | 6 => ⟨S8x1x16, .i32⟩
  | 7 => ⟨S8x1x16, .i32⟩
  | 8 => ⟨S8x1x16, .i32⟩
  | 9 => ⟨S8x1x1, .i32⟩
  | 10 => ⟨S8, .i32⟩
  | 11 => ⟨S8x16, .i32⟩
  | 12 => ⟨S8x16, .i32⟩
  | 13 => ⟨S16, .i32⟩
  | 14 => ⟨S1x16, .i32⟩
  | 15 => ⟨S8x1, .i32⟩
  | 16 => ⟨S8x16, .i32⟩
  | 17 => ⟨S8x16, .i32⟩
  | 18 => ⟨S8x16, .i1⟩
  | 19 => ⟨S8, .i32⟩
  | 20 => ⟨S8x1, .i32⟩
  | 21 => ⟨S_, .i1⟩
  | 22 => ⟨S8x256, .i1⟩
  | 23 => ⟨S_, .i32⟩
  | 24 => ⟨S8x1, .i32⟩
  | 25 => ⟨S8x1, .i1⟩
  | 26 => ⟨S_, .i32⟩
  | 27 => ⟨S8x1, .i32⟩
  | 28 => ⟨S8x1, .i32⟩
  | 29 => ⟨S8x1, .i32⟩
  | 30 => ⟨S_, .i32⟩
  | 31 => ⟨S8x16, .i32⟩
  | 32 => ⟨S8x16, .i1⟩
  | 33 => ⟨S_, .i32⟩
  | 34 => ⟨S8x16, .i32⟩
  | 35 => ⟨S8x16, .i32⟩
  | 36 => ⟨S8x16, .i32⟩
  | 37 => ⟨S8x16, .i32⟩
  | 38 => ⟨S8x16x1, .i32⟩
  | 39 => ⟨S8x16x1, .i32⟩
  | 40 => ⟨S8x16x2, .i32⟩
  | 41 => ⟨S8x256, .i1⟩
  | 42 => ⟨S_, .i32⟩
  | 43 => ⟨S8x256, .i32⟩
  | 44 => ⟨S_, .i32⟩
  | 45 => ⟨S8x1, .i32⟩
  | 46 => ⟨S8x1, .i1⟩
  | 47 => ⟨S_, .i32⟩
  | 48 => ⟨S8x1, .i32⟩
  | 49 => ⟨S8x1, .i32⟩
  | 50 => ⟨S8x1, .i32⟩
  | 51 => ⟨S_, .i32⟩
  | 52 => ⟨S8x16, .i32⟩
  | 53 => ⟨S8x16, .i1⟩
  | 54 => ⟨S_, .i32⟩
  | 55 => ⟨S8x16, .i32⟩
  | 56 => ⟨S8x16, .i32⟩
  | 57 => ⟨S8x16, .i32⟩
  | 58 => ⟨S8x16, .i32⟩
  | 59 => ⟨S8x16x1, .i32⟩
  | 60 => ⟨S8x16x1, .i32⟩
  | 61 => ⟨S8x16x2, .i32⟩
  | 62 => ⟨S8x256, .i32⟩
  | 63 => ⟨S8x3x16x32x16x32, .f32⟩
  | 64 => ⟨S8x3x32x32x16x16, .f32⟩
  | 65 => ⟨S8x3x32x32x256, .f32⟩
  | 66 => ⟨S8x3x16x32x16x32, .f32⟩
  | 67 => ⟨S8x3x32x32x16x16, .f32⟩
  | 68 => ⟨S8x3x32x32x256, .f32⟩
  | 69 => ⟨S8x1x1x1x256, .i32⟩
  | 70 => ⟨S_, .i32⟩
  | 71 => ⟨S8x1x1x1x256, .i32⟩
  | 72 => ⟨S8x1x1x1x256, .i1⟩
  | 73 => ⟨S_, .i32⟩
  | 74 => ⟨S8x1x1x1x256, .i32⟩
  | 75 => ⟨S8x1x1x1x256, .i32⟩
  | 76 => ⟨S8x1x1x1x256, .i32⟩
  | 77 => ⟨S8x256x1, .i32⟩
  | 78 => ⟨S1, .i32⟩
  | 79 => ⟨S_, .i32⟩
  | 80 => ⟨S8x256x1, .i32⟩
  | 81 => ⟨S8x256x1, .i1⟩
  | 82 => ⟨S1x1x1, .i32⟩
  | 83 => ⟨S8x256x1, .i32⟩
  | 84 => ⟨S8x256x1, .i1⟩
  | 85 => ⟨S8x256x1, .i1⟩
  | 86 => ⟨S_, .i1⟩
  | 87 => ⟨S8x256, .i1⟩
  | 88 => ⟨S8x3x32x32x256, .f32⟩
  | 89 => ⟨S8x3x32x32x256, .i1⟩
  | 90 => ⟨S_, .f32⟩
  | 91 => ⟨S8x3x32x32x256, .f32⟩
  | 92 => ⟨S8x3x32x32x256, .f32⟩
  | 93 => ⟨S8x1x1x1x256, .i1⟩
  | 94 => ⟨S8x3x32x32x256, .i1⟩
  | 95 => ⟨S8x3x32x32x256, .f32⟩
  | 96 => ⟨S8x3x32x32x16x16, .f32⟩
  | 97 => ⟨S8x3x16x32x16x32, .f32⟩
  | 98 => ⟨S8x3x512x512, .f32⟩
  | 99 => ⟨S8x1x512x512, .i32⟩
  | 100 => ⟨S8x1x512x512, .f32⟩
  | 101 => ⟨S8x1x512x512, .i32⟩
  | 102 => ⟨S8x1x512x512, .f32⟩
  | 103 => ⟨S8x1x16x32x16x32, .f32⟩
  | 104 => ⟨S8x1x32x32x16x16, .f32⟩
  | 105 => ⟨S8x1x32x32x256, .f32⟩
  | 106 => ⟨S8x1x16x32x16x32, .f32⟩
  | 107 => ⟨S8x1x32x32x16x16, .f32⟩
  | 108 => ⟨S8x1x32x32x256, .f32⟩
  | 109 => ⟨S8x1x1x1x256, .i32⟩
  | 110 => ⟨S_, .i32⟩
  | 111 => ⟨S8x1x1x1x256, .i32⟩
  | 112 => ⟨S8x1x1x1x256, .i1⟩
  | 113 => ⟨S_, .i32⟩
  | 114 => ⟨S8x1x1x1x256, .i32⟩
  | 115 => ⟨S8x1x1x1x256, .i32⟩
  | 116 => ⟨S8x1x1x1x256, .i32⟩
  | 117 => ⟨S8x256x1, .i32⟩
  | 118 => ⟨S1, .i32⟩
  | 119 => ⟨S_, .i32⟩
  | 120 => ⟨S8x256x1, .i32⟩
  | 121 => ⟨S8x256x1, .i1⟩
  | 122 => ⟨S1x1x1, .i32⟩
  | 123 => ⟨S8x256x1, .i32⟩
  | 124 => ⟨S8x256x1, .i1⟩
  | 125 => ⟨S8x256x1, .i1⟩
  | 126 => ⟨S_, .i1⟩
  | 127 => ⟨S8x256, .i1⟩
  | _ => ⟨S8x3x512x512, .f32⟩

abbrev hbmTy0_1 (i : Nat) : BufTy := match i % 128 with
  | 0 => ⟨S8x1x32x32x256, .f32⟩
  | 1 => ⟨S8x1x32x32x256, .i1⟩
  | 2 => ⟨S_, .f32⟩
  | 3 => ⟨S8x1x32x32x256, .f32⟩
  | 4 => ⟨S8x1x32x32x256, .f32⟩
  | 5 => ⟨S8x1x1x1x256, .i1⟩
  | 6 => ⟨S8x1x32x32x256, .i1⟩
  | 7 => ⟨S8x1x32x32x256, .f32⟩
  | 8 => ⟨S8x1x32x32x16x16, .f32⟩
  | 9 => ⟨S8x1x16x32x16x32, .f32⟩
  | 10 => ⟨S8x1x512x512, .f32⟩
  | 11 => ⟨S8x512x512, .f32⟩
  | 12 => ⟨S8x1x512x512, .f32⟩
  | 13 => ⟨S8x1x16x32x16x32, .f32⟩
  | 14 => ⟨S8x1x32x32x16x16, .f32⟩
  | 15 => ⟨S8x1x32x32x256, .f32⟩
  | 16 => ⟨S8x1x512x512, .f32⟩
  | 17 => ⟨S8x1x16x32x16x32, .f32⟩
  | 18 => ⟨S8x1x32x32x16x16, .f32⟩
  | 19 => ⟨S8x1x32x32x256, .f32⟩
  | 20 => ⟨S8x1x1x1x256, .i32⟩
  | 21 => ⟨S_, .i32⟩
  | 22 => ⟨S8x1x1x1x256, .i32⟩
  | 23 => ⟨S8x1x1x1x256, .i1⟩
  | 24 => ⟨S_, .i32⟩
  | 25 => ⟨S8x1x1x1x256, .i32⟩
  | 26 => ⟨S8x1x1x1x256, .i32⟩
  | 27 => ⟨S8x1x1x1x256, .i32⟩
  | 28 => ⟨S8x256x1, .i32⟩
  | 29 => ⟨S1, .i32⟩
  | 30 => ⟨S_, .i32⟩
  | 31 => ⟨S8x256x1, .i32⟩
  | 32 => ⟨S8x256x1, .i1⟩
  | 33 => ⟨S1x1x1, .i32⟩
  | 34 => ⟨S8x256x1, .i32⟩
  | 35 => ⟨S8x256x1, .i1⟩
  | 36 => ⟨S8x256x1, .i1⟩
  | 37 => ⟨S_, .i1⟩
  | 38 => ⟨S8x256, .i1⟩
  | 39 => ⟨S8x1x32x32x256, .f32⟩
  | 40 => ⟨S8x1x32x32x256, .i1⟩
  | 41 => ⟨S_, .f32⟩
  | 42 => ⟨S8x1x32x32x256, .f32⟩
  | 43 => ⟨S8x1x32x32x256, .f32⟩
  | 44 => ⟨S8x1x1x1x256, .i1⟩
  | 45 => ⟨S8x1x32x32x256, .i1⟩
  | 46 => ⟨S8x1x32x32x256, .f32⟩
  | 47 => ⟨S8x1x32x32x16x16, .f32⟩
  | 48 => ⟨S8x1x16x32x16x32, .f32⟩
  | 49 => ⟨S8x1x512x512, .f32⟩
  | 50 => ⟨S8x512x512, .f32⟩
  | 51 => ⟨S8x512x512, .i32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_c : Ref sig .tc := ⟨.hbm, 70, rfl⟩
abbrev main_call0_v0 : Ref sig .tc := ⟨.hbm, 71, rfl⟩
abbrev main_call0_v1 : Ref sig .tc := ⟨.hbm, 72, rfl⟩
abbrev main_call0_c_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_c_1 : Ref sig .tc := ⟨.hbm, 78, rfl⟩
abbrev main_call0_c_2 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_c_3 : Ref sig .tc := ⟨.hbm, 86, rfl⟩
abbrev main_call0_v12 : Ref sig .tc := ⟨.hbm, 87, rfl⟩
abbrev main_call0_v13 : Ref sig .tc := ⟨.hbm, 88, rfl⟩
abbrev main_call0_v14 : Ref sig .tc := ⟨.hbm, 89, rfl⟩
abbrev main_call0_cst : Ref sig .tc := ⟨.hbm, 90, rfl⟩
abbrev main_call0_v15 : Ref sig .tc := ⟨.hbm, 91, rfl⟩
abbrev main_v51 : Ref sig .tc := ⟨.hbm, 92, rfl⟩
abbrev main_v52 : Ref sig .tc := ⟨.hbm, 93, rfl⟩
abbrev main_call1_v0 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v68 : Ref sig .tc := ⟨.hbm, 132, rfl⟩
abbrev main_v69 : Ref sig .tc := ⟨.hbm, 133, rfl⟩
abbrev main_call3_v0 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v84 : Ref sig .tc := ⟨.hbm, 171, rfl⟩
abbrev main_v85 : Ref sig .tc := ⟨.hbm, 172, rfl⟩
abbrev main_call5_v0 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩

abbrev nD : Nat := 1
abbrev τ : Topo := Topo.v7x

variable {F : FTy → Type} [FloatOps F]
-- ==== Stats.lean ====
abbrev S8x512x512 : Shape := ⟨3, ![8, 512, 512]⟩
abbrev S8x4x512x512 : Shape := ⟨4, ![8, 4, 512, 512]⟩
abbrev S8x1x16 : Shape := ⟨3, ![8, 1, 16]⟩
abbrev S1x4x512x512 : Shape := ⟨4, ![1, 4, 512, 512]⟩
abbrev S1x512x512 : Shape := ⟨3, ![1, 512, 512]⟩
abbrev S1x1x16 : Shape := ⟨3, ![1, 1, 16]⟩
abbrev S4x512x512 : Shape := ⟨3, ![4, 512, 512]⟩
abbrev S512x512 : Shape := ⟨2, ![512, 512]⟩
abbrev S1 : Shape := ⟨1, ![1]⟩
abbrev S1x1x1 : Shape := ⟨3, ![1, 1, 1]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S256x16 : Shape := ⟨2, ![256, 16]⟩
abbrev S16 : Shape := ⟨1, ![16]⟩
abbrev S1x16 : Shape := ⟨2, ![1, 16]⟩

abbrev nBuf : Space → Nat
  | .hbm => 7
  | .vmem => 14
  | .smem => 0
  | _ => 0

abbrev bufTy : (tb : Table) → Fin (tcTables nBuf tb) → BufTy
  | .hbm, ⟨0, _⟩ => ⟨S8x512x512, .i32⟩
  | .hbm, ⟨1, _⟩ => ⟨S8x512x512, .f32⟩
  | .hbm, ⟨2, _⟩ => ⟨S8x512x512, .f32⟩
  | .hbm, ⟨3, _⟩ => ⟨S8x4x512x512, .f32⟩
  | .hbm, ⟨4, _⟩ => ⟨S8x1x16, .i32⟩
  | .hbm, ⟨5, _⟩ => ⟨S8x1x16, .i32⟩
  | .hbm, ⟨6, _⟩ => ⟨S8x1x16, .i32⟩
  | .local _ .vmem, ⟨0, _⟩ => ⟨S1x4x512x512, .f32⟩
  | .local _ .vmem, ⟨1, _⟩ => ⟨S1x4x512x512, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1x16, .i32⟩
  | .local _ .vmem, ⟨9, _⟩ => ⟨S1x1x16, .i32⟩
  | .local _ .vmem, ⟨10, _⟩ => ⟨S1x1x16, .i32⟩
  | .local _ .vmem, ⟨11, _⟩ => ⟨S1x1x16, .i32⟩
  | .local _ .vmem, ⟨12, _⟩ => ⟨S1x1x16, .i32⟩
  | .local _ .vmem, ⟨13, _⟩ => ⟨S1x1x16, .i32⟩
  | _, _ => ⟨S8x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StatsReferenceIdeal.lean ====
abbrev S8x512x512 : Shape := ⟨3, ![8, 512, 512]⟩
abbrev S8x4x512x512 : Shape := ⟨4, ![8, 4, 512, 512]⟩
abbrev S8x512x512x1 : Shape := ⟨4, ![8, 512, 512, 1]⟩
abbrev S1x1x1x4 : Shape := ⟨4, ![1, 1, 1, 4]⟩
abbrev S8x512x512x4 : Shape := ⟨4, ![8, 512, 512, 4]⟩
abbrev S_ : Shape := ⟨0, ![]⟩
abbrev S8x1x512x512 : Shape := ⟨4, ![8, 1, 512, 512]⟩
abbrev S8x4 : Shape := ⟨2, ![8, 4]⟩
abbrev S8 : Shape := ⟨1, ![8]⟩
abbrev S8x1 : Shape := ⟨2, ![8, 1]⟩
abbrev S8x1x16x32x16x32 : Shape := ⟨6, ![8, 1, 16, 32, 16, 32]⟩
abbrev S8x1x32x32x16x16 : Shape := ⟨6, ![8, 1, 32, 32, 16, 16]⟩
abbrev S8x1x32x32x256 : Shape := ⟨5, ![8, 1, 32, 32, 256]⟩
abbrev S8x256 : Shape := ⟨2, ![8, 256]⟩
abbrev S8x1x1 : Shape := ⟨3, ![8, 1, 1]⟩
abbrev S8x1x16 : Shape := ⟨3, ![8, 1, 16]⟩
abbrev S8x16 : Shape := ⟨2, ![8, 16]⟩

abbrev nBuf : Space → Nat
  | .hbm => 112
  | .vmem => 0
  | .smem => 0
  | _ => 0

abbrev bufTy : (tb : Table) → Fin (tcTables nBuf tb) → BufTy
  | .hbm, ⟨0, _⟩ => ⟨S8x512x512, .i32⟩
  | .hbm, ⟨1, _⟩ => ⟨S8x512x512, .f32⟩
  | .hbm, ⟨2, _⟩ => ⟨S8x512x512, .f32⟩
  | .hbm, ⟨3, _⟩ => ⟨S8x4x512x512, .f32⟩
  | .hbm, ⟨4, _⟩ => ⟨S8x512x512x1, .i32⟩
  | .hbm, ⟨5, _⟩ => ⟨S1x1x1x4, .i32⟩
  | .hbm, ⟨6, _⟩ => ⟨S8x512x512x4, .i32⟩
  | .hbm, ⟨7, _⟩ => ⟨S8x512x512x4, .i32⟩
  | .hbm, ⟨8, _⟩ => ⟨S8x512x512x4, .i1⟩
  | .hbm, ⟨9, _⟩ => ⟨S8x512x512x4, .f32⟩
  | .hbm, ⟨10, _⟩ => ⟨S8x4x512x512, .f32⟩
  | .hbm, ⟨11, _⟩ => ⟨S_, .f32⟩
  | .hbm, ⟨12, _⟩ => ⟨S8x512x512, .f32⟩
  | .hbm, ⟨13, _⟩ => ⟨S_, .f32⟩
  | .hbm, ⟨14, _⟩ => ⟨S8x512x512, .f32⟩
  | .hbm, ⟨15, _⟩ => ⟨S8x512x512, .f32⟩
  | .hbm, ⟨16, _⟩ => ⟨S8x1x512x512, .f32⟩
  | .hbm, ⟨17, _⟩ => ⟨S8x4x512x512, .f32⟩
  | .hbm, ⟨18, _⟩ => ⟨S8x4x512x512, .f32⟩
  | .hbm, ⟨19, _⟩ => ⟨S8x4x512x512, .f32⟩
  | .hbm, ⟨20, _⟩ => ⟨S_, .f32⟩
  | .hbm, ⟨21, _⟩ => ⟨S8x512x512, .f32⟩
  | .hbm, ⟨22, _⟩ => ⟨S8x1x512x512, .f32⟩
  | .hbm, ⟨23, _⟩ => ⟨S8x4x512x512, .f32⟩
  | .hbm, ⟨24, _⟩ => ⟨S8x4x512x512, .f32⟩
  | .hbm, ⟨25, _⟩ => ⟨S8x4x512x512, .f32⟩
  | .hbm, ⟨26, _⟩ => ⟨S_, .f32⟩
  | .hbm, ⟨27, _⟩ => ⟨S8x4, .f32⟩
  | .hbm, ⟨28, _⟩ => ⟨S8x4x512x512, .f32⟩
  | .hbm, ⟨29, _⟩ => ⟨S_, .f32⟩
  | .hbm, ⟨30, _⟩ => ⟨S8x4, .f32⟩
  | .hbm, ⟨31, _⟩ => ⟨S_, .f32⟩
  | .hbm, ⟨32, _⟩ => ⟨S8x4, .f32⟩
  | .hbm, ⟨33, _⟩ => ⟨S8x4, .f32⟩
  | .hbm, ⟨34, _⟩ => ⟨S_, .f32⟩
  | .hbm, ⟨35, _⟩ => ⟨S8x4, .f32⟩
  | .hbm, ⟨36, _⟩ => ⟨S8x4, .f32⟩
  | .hbm, ⟨37, _⟩ => ⟨S8x4, .f32⟩
  | .hbm, ⟨38, _⟩ => ⟨S_, .f32⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .i1⟩
  | .hbm, ⟨49, _⟩ => ⟨S8x1, .i1⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S8x1x512x512, .f32⟩
  | .hbm, ⟨57, _⟩ => ⟨S8x1x16x32x16x32, .f32⟩
  | .hbm, ⟨58, _⟩ => ⟨S8x1x32x32x16x16, .f32⟩
  | .hbm, ⟨59, _⟩ => ⟨S8x1x32x32x256, .f32⟩
  | .hbm, ⟨60, _⟩ => ⟨S_, .f32⟩
  | .hbm, ⟨61, _⟩ => ⟨S8x256, .f32⟩
  | .hbm, ⟨62, _⟩ => ⟨S_, .f32⟩
  | .hbm, ⟨63, _⟩ => ⟨S8x256, .f32⟩
  | .hbm, ⟨64, _⟩ => ⟨S8x256, .f32⟩
  | .hbm, ⟨65, _⟩ => ⟨S8x1x512x512, .f32⟩
  | .hbm, ⟨66, _⟩ => ⟨S8x1x16x32x16x32, .f32⟩
  | .hbm, ⟨67, _⟩ => ⟨S8x1x32x32x16x16, .f32⟩
  | .hbm, ⟨68, _⟩ => ⟨S8x1x32x32x256, .f32⟩
  | .hbm, ⟨69, _⟩ => ⟨S_, .f32⟩
  | .hbm, ⟨70, _⟩ => ⟨S8x256, .f32⟩
  | .hbm, ⟨71, _⟩ => ⟨S_, .f32⟩
  | .hbm, ⟨72, _⟩ => ⟨S8x256, .f32⟩
  | .hbm, ⟨73, _⟩ => ⟨S8x256, .f32⟩
  | .hbm, ⟨74, _⟩ => ⟨S8x256, .f32⟩
  | .hbm, ⟨75, _⟩ => ⟨S8x256, .i32⟩
  | .hbm, ⟨76, _⟩ => ⟨S8x256, .f32⟩
  | .hbm, ⟨77, _⟩ => ⟨S8x256, .i32⟩
  | .hbm, ⟨78, _⟩ => ⟨S8x256, .i32⟩
  | .hbm, ⟨79, _⟩ => ⟨S8x256, .f32⟩
  | .hbm, ⟨80, _⟩ => ⟨S8x256, .i32⟩
  | .hbm, ⟨81, _⟩ => ⟨S8x256, .i1⟩
  | .hbm, ⟨82, _⟩ => ⟨S8x256, .i32⟩
  | .hbm, ⟨83, _⟩ => ⟨S8x256, .i32⟩
  | .hbm, ⟨84, _⟩ => ⟨S8x256, .f32⟩
  | .hbm, ⟨85, _⟩ => ⟨S8x256, .i32⟩
  | .hbm, ⟨86, _⟩ => ⟨S8x256, .f32⟩
  | .hbm, ⟨87, _⟩ => ⟨S8x256, .i32⟩
  | .hbm, ⟨88, _⟩ => ⟨S8x256, .f32⟩
  | .hbm, ⟨89, _⟩ => ⟨S8x256, .i32⟩
  | .hbm, ⟨90, _⟩ => ⟨S8x256, .i1⟩
  | .hbm, ⟨91, _⟩ => ⟨S8x256, .i32⟩
  | .hbm, ⟨92, _⟩ => ⟨S_, .f32⟩
  | .hbm, ⟨93, _⟩ => ⟨S8, .f32⟩
  | .hbm, ⟨94, _⟩ => ⟨S8, .f32⟩
  | .hbm, ⟨95, _⟩ => ⟨S_, .f32⟩
  | .hbm, ⟨96, _⟩ => ⟨S8, .f32⟩
  | .hbm, ⟨97, _⟩ => ⟨S8, .i1⟩
  | .hbm, ⟨98, _⟩ => ⟨S8, .f32⟩
  | .hbm, ⟨99, _⟩ => ⟨S8, .f32⟩
  | .hbm, ⟨100, _⟩ => ⟨S8, .f32⟩
  | .hbm, ⟨101, _⟩ => ⟨S8, .f32⟩
  | .hbm, ⟨102, _⟩ => ⟨S_, .f32⟩
  | .hbm, ⟨103, _⟩ => ⟨S8, .f32⟩
  | .hbm, ⟨104, _⟩ => ⟨S8, .f32⟩
  | .hbm, ⟨105, _⟩ => ⟨S8, .i32⟩
  | .hbm, ⟨106, _⟩ => ⟨S8x1x1, .i32⟩
  | .hbm, ⟨107, _⟩ => ⟨S8x1x16, .i32⟩
  | .hbm, ⟨108, _⟩ => ⟨S8x16, .i32⟩
  | .hbm, ⟨109, _⟩ => ⟨S8x1x16, .i32⟩
  | .hbm, ⟨110, _⟩ => ⟨S8x16, .i32⟩
  | .hbm, ⟨111, _⟩ => ⟨S8x1x16, .i32⟩
  | _, _ => ⟨S8x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_v31 : Ref sig .tc := ⟨.hbm, 52, rfl⟩
abbrev main_cst_11 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_14 : Ref sig .tc := ⟨.hbm, 69, rfl⟩
abbrev main_v45 : Ref sig .tc := ⟨.hbm, 70, rfl⟩
abbrev main_cst_15 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_v0 : Ref sig .tc := ⟨.hbm, 75, rfl⟩
abbrev main_call1_v1_0 : Ref sig .tc := ⟨.hbm, 76, rfl⟩
abbrev main_v49 : Ref sig .tc := ⟨.hbm, 77, rfl⟩
abbrev main_call2_v0 : Ref sig .tc := ⟨.hbm, 78, rfl⟩
abbrev main_call2_v1_0 : Ref sig .tc := ⟨.hbm, 79, rfl⟩
abbrev main_v50 : Ref sig .tc := ⟨.hbm, 80, rfl⟩
abbrev main_call3_v0 : Ref sig .tc := ⟨.hbm, 81, rfl⟩
abbrev main_v51 : Ref sig .tc := ⟨.hbm, 82, rfl⟩
abbrev main_call4_v0 : Ref sig .tc := ⟨.hbm, 83, rfl⟩
abbrev main_call4_v1_0 : Ref sig .tc := ⟨.hbm, 84, rfl⟩
abbrev main_v52 : Ref sig .tc := ⟨.hbm, 85, rfl⟩
abbrev main_v53 : Ref sig .tc := ⟨.hbm, 86, rfl⟩
abbrev main_call5_v0 : Ref sig .tc := ⟨.hbm, 87, rfl⟩
abbrev main_call5_v1_0 : Ref sig .tc := ⟨.hbm, 88, rfl⟩
abbrev main_v54 : Ref sig .tc := ⟨.hbm, 89, rfl⟩
abbrev main_call6_v0 : Ref sig .tc := ⟨.hbm, 90, rfl⟩
abbrev main_v55 : Ref sig .tc := ⟨.hbm, 91, rfl⟩
abbrev main_cst_16 : Ref sig .tc := ⟨.hbm, 92, rfl⟩
abbrev main_v56 : Ref sig .tc := ⟨.hbm, 93, rfl⟩
abbrev main_v57 : Ref sig .tc := ⟨.hbm, 94, rfl⟩
abbrev main_call7_cst : Ref sig .tc := ⟨.hbm, 95, rfl⟩
abbrev main_call7_v0 : Ref sig .tc := ⟨.hbm, 96, rfl⟩
abbrev main_call7_v1 : Ref sig .tc := ⟨.hbm, 97, rfl⟩
abbrev main_call7_v2 : Ref sig .tc := ⟨.hbm, 98, rfl⟩
abbrev main_call7_v3 : Ref sig .tc := ⟨.hbm, 99, rfl⟩
abbrev main_v58 : Ref sig .tc := ⟨.hbm, 100, rfl⟩
abbrev main_v59 : Ref sig .tc := ⟨.hbm, 101, rfl⟩
abbrev main_cst_17 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩

abbrev nD : Nat := 1
abbrev τ : Topo := Topo.v7x

variable {F : FTy → Type} [FloatOps F]
-- ==== WholeIdeal.lean ====
abbrev S8x3x512x512 : Shape := ⟨4, ![8, 3, 512, 512]⟩
abbrev S8x512x512 : Shape := ⟨3, ![8, 512, 512]⟩
abbrev S8x4x512x512 : Shape := ⟨4, ![8, 4, 512, 512]⟩
abbrev S8x1x16 : Shape := ⟨3, ![8, 1, 16]⟩
abbrev S1x4x512x512 : Shape := ⟨4, ![1, 4, 512, 512]⟩
abbrev S1x512x512 : Shape := ⟨3, ![1, 512, 512]⟩
abbrev S1x1x16 : Shape := ⟨3, ![1, 1, 16]⟩
abbrev S4x512x512 : Shape := ⟨3, ![4, 512, 512]⟩
abbrev S512x512 : Shape := ⟨2, ![512, 512]⟩
abbrev S1 : Shape := ⟨1, ![1]⟩
abbrev S1x1x1 : Shape := ⟨3, ![1, 1, 1]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S256x16 : Shape := ⟨2, ![256, 16]⟩
abbrev S16 : Shape := ⟨1, ![16]⟩
abbrev S1x16 : Shape := ⟨2, ![1, 16]⟩
abbrev S128 : Shape := ⟨1, ![128]⟩
abbrev S12288x512 : Shape := ⟨2, ![12288, 512]⟩
abbrev S4096x512 : Shape := ⟨2, ![4096, 512]⟩
abbrev S128x512 : Shape := ⟨2, ![128, 512]⟩
abbrev S32x512 : Shape := ⟨2, ![32, 512]⟩
abbrev S_ : Shape := ⟨0, ![]⟩

abbrev nBuf : Table → Nat
  | .hbm => 28
  | .local .tc .vmem => 14
  | .local .scVector .vmem => 5
  | _ => 0

abbrev bufTy : (tb : Table) → Fin (nBuf tb) → BufTy
  | .hbm, ⟨0, _⟩ => ⟨S8x3x512x512, .f32⟩
  | .hbm, ⟨1, _⟩ => ⟨S8x3x512x512, .f32⟩
  | .hbm, ⟨2, _⟩ => ⟨S8x512x512, .i32⟩
  | .hbm, ⟨3, _⟩ => ⟨S8x512x512, .i32⟩
  | .hbm, ⟨4, _⟩ => ⟨S8x512x512, .f32⟩
  | .hbm, ⟨5, _⟩ => ⟨S8x512x512, .f32⟩
  | .hbm, ⟨6, _⟩ => ⟨S8x4x512x512, .f32⟩
  | .hbm, ⟨7, _⟩ => ⟨S8x1x16, .i32⟩
  | .hbm, ⟨8, _⟩ => ⟨S8x1x16, .i32⟩
  | .hbm, ⟨9, _⟩ => ⟨S8x1x16, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S12288x512, .f32⟩
  | .hbm, ⟨14, _⟩ => ⟨S12288x512, .f32⟩
  | .hbm, ⟨15, _⟩ => ⟨S8x512x512, .f32⟩
  | .hbm, ⟨16, _⟩ => ⟨S4096x512, .f32⟩
  | .hbm, ⟨17, _⟩ => ⟨S8x512x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S12288x512, .f32⟩
  | .hbm, ⟨22, _⟩ => ⟨S4096x512, .f32⟩
  | .hbm, ⟨23, _⟩ => ⟨S4096x512, .f32⟩
  | .hbm, ⟨24, _⟩ => ⟨S8x3x512x512, .f32⟩
  | .hbm, ⟨25, _⟩ => ⟨S8x512x512, .f32⟩
  | .hbm, ⟨26, _⟩ => ⟨S8x512x512, .i32⟩
  | .hbm, ⟨27, _⟩ => ⟨S8x512x512, .f32⟩
  | .local .tc .vmem, ⟨0, _⟩ => ⟨S1x4x512x512, .f32⟩
  | .local .tc .vmem, ⟨1, _⟩ => ⟨S1x4x512x512, .f32⟩
  | .local .tc .vmem, ⟨2, _⟩ => ⟨S1x512x512, .i32⟩
  | .local .tc .vmem, ⟨3, _⟩ => ⟨S1x512x512, .i32⟩
  | .local .tc .vmem, ⟨4, _⟩ => ⟨S1x512x512, .f32⟩
  | .local .tc .vmem, ⟨5, _⟩ => ⟨S1x512x512, .f32⟩
  | .local .tc .vmem, ⟨6, _⟩ => ⟨S1x512x512, .f32⟩
  | .local .tc .vmem, ⟨7, _⟩ => ⟨S1x512x512, .f32⟩
  | .local .tc .vmem, ⟨8, _⟩ => ⟨S1x1x16, .i32⟩
  | .local .tc .vmem, ⟨9, _⟩ => ⟨S1x1x16, .i32⟩
  | .local .tc .vmem, ⟨10, _⟩ => ⟨S1x1x16, .i32⟩
  | .local .tc .vmem, ⟨11, _⟩ => ⟨S1x1x16, .i32⟩
  | .local .tc .vmem, ⟨12, _⟩ => ⟨S1x1x16, .i32⟩
  | .local .tc .vmem, ⟨13, _⟩ => ⟨S1x1x16, .i32⟩
  | .local .scVector .vmem, ⟨0, _⟩ => ⟨S128x512, .f32⟩
  | .local .scVector .vmem, ⟨1, _⟩ => ⟨S32x512, .f32⟩
  | .local .scVector .vmem, ⟨2, _⟩ => ⟨S16, .i32⟩
  | .local .scVector .vmem, ⟨3, _⟩ => ⟨S16, .i32⟩
  | .local .scVector .vmem, ⟨4, _⟩ => ⟨S16, .i32⟩
  | _, _ => ⟨S8x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => false
  | ⟨75, _⟩ => false
  | ⟨76, _⟩ => false
  | ⟨77, _⟩ => false
  | ⟨78, _⟩ => false
  | ⟨79, _⟩ => false
  | ⟨80, _⟩ => false
  | ⟨81, _⟩ => false
  | ⟨82, _⟩ => false
  | ⟨83, _⟩ => false
  | ⟨84, _⟩ => false
  | ⟨85, _⟩ => false
  | ⟨86, _⟩ => false
  | ⟨87, _⟩ => false
  | ⟨88, _⟩ => false
  | ⟨89, _⟩ => false
  | ⟨90, _⟩ => false
  | ⟨91, _⟩ => false
  | ⟨92, _⟩ => false
  | ⟨93, _⟩ => false
  | ⟨94, _⟩ => false
  | ⟨95, _⟩ => false
  | ⟨96, _⟩ => false
  | ⟨97, _⟩ => false
  | ⟨98, _⟩ => false
  | ⟨99, _⟩ => false
  | ⟨100, _⟩ => false
  | ⟨101, _⟩ => false
  | ⟨102, _⟩ => false
  | ⟨103, _⟩ => false
  | ⟨104, _⟩ => false
  | ⟨105, _⟩ => false
  | ⟨106, _⟩ => false
  | _ => false

abbrev sig : RefSig :=
  ofTables nBuf rfl bufTy 4 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v4_scv : Ref sig .scVector := ⟨.hbm, 13, rfl⟩
abbrev main_v5_scv : Ref sig .scVector := ⟨.hbm, 14, rfl⟩
abbrev main_v7_scv : Ref sig .scVector := ⟨.hbm, 16, rfl⟩
abbrev main_v9_scv : Ref sig .scVector := ⟨.hbm, 18, rfl⟩
abbrev main_v10_scv : Ref sig .scVector := ⟨.hbm, 19, rfl⟩
abbrev main_v11_scv : Ref sig .scVector := ⟨.hbm, 20, rfl⟩
abbrev main_v1_scv : Ref sig .scVector := ⟨.hbm, 10, rfl⟩
abbrev main_v2_scv : Ref sig .scVector := ⟨.hbm, 11, rfl⟩
abbrev main_v3_scv : Ref sig .scVector := ⟨.hbm, 12, rfl⟩
abbrev main_v12_0_scv : Ref sig .scVector := ⟨.hbm, 21, rfl⟩
abbrev main_v12_1_scv : Ref sig .scVector := ⟨.hbm, 22, rfl⟩
abbrev main_v12_2_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x16 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x16 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c16_i32_4 : BitVec 32 := 16#32
  let v19 : BitVec 32 := Scalar.muli v18 c16_i32_4
  ![v19.toNat]
def k1_off2 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c0_i32_1427_r3 : BitVec 32 := 0#32
  ![v73.toNat, 0]
def k1_off3 (i : grid1.Coords) (v107 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v107 c0_i32_1428
  let v3763 : BitVec 32 := Scalar.extui v3762
  let c0_i32_1429 : BitVec 32 := 0#32
  let v3764 : BitVec 1 := Scalar.cmpi .slt v107 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v107 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v107 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r4 : BitVec 32 := 0#32
  ![v3779.toNat, 0]
def k1_cond1 (i : grid1.Coords) (v25 : BitVec 32) (v105 : BitVec 32) : BitVec 1 :=
  let c0_i32_51 : BitVec 32 := 0#32
  let v125 : BitVec 1 := Scalar.cmpi .sgt v25 c0_i32_51
  let c0_i32_45 : BitVec 32 := 0#32
  let v109 : BitVec 1 := Scalar.cmpi .sgt v105 c0_i32_45
  let v110 : BitVec 32 := Scalar.extui v109
  let c0_i32_46 : BitVec 32 := 0#32
  let v111 : BitVec 1 := Scalar.cmpi .slt v105 c0_i32_46
  let v112 : BitVec 32 := Scalar.extui v111
  let v113 : BitVec 32 := Scalar.subi v110 v112
  let c16_i32_44 : BitVec 32 := 16#32
  let c0_i32_47 : BitVec 32 := 0#32
  let v114 : BitVec 1 := Scalar.cmpi .sgt c16_i32_44 c0_i32_47
  let v115 : BitVec 32 := Scalar.extui v114
  let c0_i32_48 : BitVec 32 := 0#32
  let v116 : BitVec 1 := Scalar.cmpi .slt c16_i32_44 c0_i32_48
  let v117 : BitVec 32 := Scalar.extui v116
  let v118 : BitVec 32 := Scalar.subi v115 v117
  let v119 : BitVec 1 := Scalar.cmpi .ne v113 v118
  let v120 : BitVec 32 := Scalar.remsi v105 c16_i32_44
  let c0_i32_49 : BitVec 32 := 0#32
  let v121 : BitVec 1 := Scalar.cmpi .ne v120 c0_i32_49
  let v122 : BitVec 1 := Scalar.andi v119 v121
  let v108 : BitVec 32 := Scalar.divsi v105 c16_i32_44
  let c1_i32_50 : BitVec 32 := 1#32
  let v123 : BitVec 32 := Scalar.subi v108 c1_i32_50
  let v124 : BitVec 32 := Scalar.select v122 v123 v108
  let c0_i32_53 : BitVec 32 := 0#32
  let v127 : BitVec 1 := Scalar.cmpi .sgt v124 c0_i32_53
  let v128 : BitVec 32 := Scalar.extui v127
  let c0_i32_54 : BitVec 32 := 0#32
  let v129 : BitVec 1 := Scalar.cmpi .slt v124 c0_i32_54
  let v130 : BitVec 32 := Scalar.extui v129
  let v131 : BitVec 32 := Scalar.subi v128 v130
  let c4_i32_52 : BitVec 32 := 4#32
  let c0_i32_55 : BitVec 32 := 0#32
  let v132 : BitVec 1 := Scalar.cmpi .sgt c4_i32_52 c0_i32_55
  let v133 : BitVec 32 := Scalar.extui v132
  let c0_i32_56 : BitVec 32 := 0#32
  let v134 : BitVec 1 := Scalar.cmpi .slt c4_i32_52 c0_i32_56
  let v135 : BitVec 32 := Scalar.extui v134
  let v136 : BitVec 32 := Scalar.subi v133 v135
  let v137 : BitVec 1 := Scalar.cmpi .ne v131 v136
  let v138 : BitVec 32 := Scalar.remsi v124 c4_i32_52
  let c0_i32_57 : BitVec 32 := 0#32
  let v139 : BitVec 1 := Scalar.cmpi .ne v138 c0_i32_57
  let v140 : BitVec 1 := Scalar.andi v137 v139
  let v126 : BitVec 32 := Scalar.divsi v124 c4_i32_52
  let c1_i32_58 : BitVec 32 := 1#32
  let v141 : BitVec 32 := Scalar.subi v126 c1_i32_58
  let v142 : BitVec 32 := Scalar.select v140 v141 v126
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v143 : BitVec 1 := Scalar.cmpi .eq v142 v103
  let v144 : BitVec 1 := Scalar.andi v125 v143
  let v145 : BitVec 32 := Scalar.extui v144
  let c0_i32_59 : BitVec 32 := 0#32
  let v146 : BitVec 1 := Scalar.cmpi .ne v145 c0_i32_59
  v146

@[reducible] def k1_t1_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off4 (v107 : BitVec 32) (k1_t1 : Fin k1_t1_loop.trips) : Fin 2 → Nat :=
  let c0_i32_1453 : BitVec 32 := 0#32
  let c1_i32_1455 : BitVec 32 := 1#32
  let arg19 : BitVec 32 := Scf.iv c0_i32_1453 c1_i32_1455 k1_t1
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v107 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off5 (v105 : BitVec 32) (k1_t1 : Fin k1_t1_loop.trips) : Fin 2 → Nat :=
  let c0_i32_45 : BitVec 32 := 0#32
  let v109 : BitVec 1 := Scalar.cmpi .sgt v105 c0_i32_45
  let v110 : BitVec 32 := Scalar.extui v109
  let c0_i32_46 : BitVec 32 := 0#32
  let v111 : BitVec 1 := Scalar.cmpi .slt v105 c0_i32_46
  let v112 : BitVec 32 := Scalar.extui v111
  let v113 : BitVec 32 := Scalar.subi v110 v112
  let c16_i32_44 : BitVec 32 := 16#32
  let c0_i32_47 : BitVec 32 := 0#32
  let v114 : BitVec 1 := Scalar.cmpi .sgt c16_i32_44 c0_i32_47
  let v115 : BitVec 32 := Scalar.extui v114
  let c0_i32_48 : BitVec 32 := 0#32
  let v116 : BitVec 1 := Scalar.cmpi .slt c16_i32_44 c0_i32_48
  let v117 : BitVec 32 := Scalar.extui v116
  let v118 : BitVec 32 := Scalar.subi v115 v117
  let v119 : BitVec 1 := Scalar.cmpi .ne v113 v118
  let v120 : BitVec 32 := Scalar.remsi v105 c16_i32_44
  let c0_i32_49 : BitVec 32 := 0#32
  let v121 : BitVec 1 := Scalar.cmpi .ne v120 c0_i32_49
  let v122 : BitVec 1 := Scalar.andi v119 v121
  let v108 : BitVec 32 := Scalar.divsi v105 c16_i32_44
  let c1_i32_50 : BitVec 32 := 1#32
  let v123 : BitVec 32 := Scalar.subi v108 c1_i32_50
  let v124 : BitVec 32 := Scalar.select v122 v123 v108
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v124 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t1
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v105 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off6 (v107 : BitVec 32) (k1_t1 : Fin k1_t1_loop.trips) : Fin 2 → Nat :=
  let c0_i32_1453 : BitVec 32 := 0#32
  let c1_i32_1455 : BitVec 32 := 1#32
  let arg19 : BitVec 32 := Scf.iv c0_i32_1453 c1_i32_1455 k1_t1
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v107 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk1 (i : grid1.Coords) (v25 : BitVec 32) (v105 : BitVec 32) (v107 : BitVec 32) : Prop :=
  (∀ (k1_h1 : k1_cond1 i v25 v105 = 1#1), ∀ a, (k1_off3 i v107) a + S32x512.size a ≤ S12288x512.size a) ∧
  (∀ k1_t1 : Fin k1_t1_loop.trips, ∀ (k1_h1 : k1_cond1 i v25 v105 = 1#1), ∀ a, (k1_off4 v107 k1_t1) a + S1x16.size a ≤ S32x512.size a) ∧
  (∀ k1_t1 : Fin k1_t1_loop.trips, ∀ (k1_h1 : k1_cond1 i v25 v105 = 1#1), ∀ a, (k1_off6 v107 k1_t1) a + S1x16.size a ≤ S32x512.size a)
theorem k1_off3_inb : ∀ (i : grid1.Coords) (v25 : BitVec 32) (v105 : BitVec 32) (v107 : BitVec 32) (k1_hw1 : k1_chk1 i v25 v105 v107), ∀ (k1_h1 : k1_cond1 i v25 v105 = 1#1), ∀ a, (k1_off3 i v107) a + S32x512.size a ≤ S12288x512.size a := fun i v25 v105 v107 k1_hw1 k1_h1 => k1_hw1.1 k1_h1
theorem k1_off4_inb : ∀ (i : grid1.Coords) (v25 : BitVec 32) (v105 : BitVec 32) (v107 : BitVec 32) (k1_hw1 : k1_chk1 i v25 v105 v107) (k1_t1 : Fin k1_t1_loop.trips), ∀ (k1_h1 : k1_cond1 i v25 v105 = 1#1), ∀ a, (k1_off4 v107 k1_t1) a + S1x16.size a ≤ S32x512.size a := fun i v25 v105 v107 k1_hw1 k1_t1 k1_h1 => k1_hw1.2.1 k1_t1 k1_h1
theorem k1_off6_inb : ∀ (i : grid1.Coords) (v25 : BitVec 32) (v105 : BitVec 32) (v107 : BitVec 32) (k1_hw1 : k1_chk1 i v25 v105 v107) (k1_t1 : Fin k1_t1_loop.trips), ∀ (k1_h1 : k1_cond1 i v25 v105 = 1#1), ∀ a, (k1_off6 v107 k1_t1) a + S1x16.size a ≤ S32x512.size a := fun i v25 v105 v107 k1_hw1 k1_t1 k1_h1 => k1_hw1.2.2 k1_t1 k1_h1

def k1_off7 (v105 : BitVec 32) (k1_t1 : Fin k1_t1_loop.trips) : Fin 2 → Nat :=
  let c0_i32_45 : BitVec 32 := 0#32
  let v109 : BitVec 1 := Scalar.cmpi .sgt v105 c0_i32_45
  let v110 : BitVec 32 := Scalar.extui v109
  let c0_i32_46 : BitVec 32 := 0#32
  let v111 : BitVec 1 := Scalar.cmpi .slt v105 c0_i32_46
  let v112 : BitVec 32 := Scalar.extui v111
  let v113 : BitVec 32 := Scalar.subi v110 v112
  let c16_i32_44 : BitVec 32 := 16#32
  let c0_i32_47 : BitVec 32 := 0#32
  let v114 : BitVec 1 := Scalar.cmpi .sgt c16_i32_44 c0_i32_47
  let v115 : BitVec 32 := Scalar.extui v114
  let c0_i32_48 : BitVec 32 := 0#32
  let v116 : BitVec 1 := Scalar.cmpi .slt c16_i32_44 c0_i32_48
  let v117 : BitVec 32 := Scalar.extui v116
  let v118 : BitVec 32 := Scalar.subi v115 v117
  let v119 : BitVec 1 := Scalar.cmpi .ne v113 v118
  let v120 : BitVec 32 := Scalar.remsi v105 c16_i32_44
  let c0_i32_49 : BitVec 32 := 0#32
  let v121 : BitVec 1 := Scalar.cmpi .ne v120 c0_i32_49
  let v122 : BitVec 1 := Scalar.andi v119 v121
  let v108 : BitVec 32 := Scalar.divsi v105 c16_i32_44
  let c1_i32_50 : BitVec 32 := 1#32
  let v123 : BitVec 32 := Scalar.subi v108 c1_i32_50
  let v124 : BitVec 32 := Scalar.select v122 v123 v108
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v124 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t1
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v105 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk2 (i : grid1.Coords) (v25 : BitVec 32) (v105 : BitVec 32) : Prop :=
  (∀ k1_t1 : Fin k1_t1_loop.trips, ∀ (k1_h1 : k1_cond1 i v25 v105 = 1#1), ∀ a, (k1_off5 v105 k1_t1) a + S1x16.size a ≤ S128x512.size a) ∧
  (∀ k1_t1 : Fin k1_t1_loop.trips, ∀ (k1_h1 : k1_cond1 i v25 v105 = 1#1), ∀ a, (k1_off7 v105 k1_t1) a + S1x16.size a ≤ S128x512.size a)
theorem k1_off5_inb : ∀ (i : grid1.Coords) (v25 : BitVec 32) (v105 : BitVec 32) (k1_hw2 : k1_chk2 i v25 v105) (k1_t1 : Fin k1_t1_loop.trips), ∀ (k1_h1 : k1_cond1 i v25 v105 = 1#1), ∀ a, (k1_off5 v105 k1_t1) a + S1x16.size a ≤ S128x512.size a := fun i v25 v105 k1_hw2 k1_t1 k1_h1 => k1_hw2.1 k1_t1 k1_h1
theorem k1_off7_inb : ∀ (i : grid1.Coords) (v25 : BitVec 32) (v105 : BitVec 32) (k1_hw2 : k1_chk2 i v25 v105) (k1_t1 : Fin k1_t1_loop.trips), ∀ (k1_h1 : k1_cond1 i v25 v105 = 1#1), ∀ a, (k1_off7 v105 k1_t1) a + S1x16.size a ≤ S128x512.size a := fun i v25 v105 k1_hw2 k1_t1 k1_h1 => k1_hw2.2 k1_t1 k1_h1

def k1_off8 (i : grid1.Coords) (v150 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v150 c0_i32_1428
  let v3763 : BitVec 32 := Scalar.extui v3762
  let c0_i32_1429 : BitVec 32 := 0#32
  let v3764 : BitVec 1 := Scalar.cmpi .slt v150 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v150 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v150 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r5 : BitVec 32 := 0#32
  ![v3779.toNat, 0]
def k1_cond2 (i : grid1.Coords) (v25 : BitVec 32) (v148 : BitVec 32) : BitVec 1 :=
  let c1_i32_67 : BitVec 32 := 1#32
  let v168 : BitVec 1 := Scalar.cmpi .sgt v25 c1_i32_67
  let c0_i32_61 : BitVec 32 := 0#32
  let v152 : BitVec 1 := Scalar.cmpi .sgt v148 c0_i32_61
  let v153 : BitVec 32 := Scalar.extui v152
  let c0_i32_62 : BitVec 32 := 0#32
  let v154 : BitVec 1 := Scalar.cmpi .slt v148 c0_i32_62
  let v155 : BitVec 32 := Scalar.extui v154
  let v156 : BitVec 32 := Scalar.subi v153 v155
  let c16_i32_60 : BitVec 32 := 16#32
  let c0_i32_63 : BitVec 32 := 0#32
  let v157 : BitVec 1 := Scalar.cmpi .sgt c16_i32_60 c0_i32_63
  let v158 : BitVec 32 := Scalar.extui v157
  let c0_i32_64 : BitVec 32 := 0#32
  let v159 : BitVec 1 := Scalar.cmpi .slt c16_i32_60 c0_i32_64
  let v160 : BitVec 32 := Scalar.extui v159
  let v161 : BitVec 32 := Scalar.subi v158 v160
  let v162 : BitVec 1 := Scalar.cmpi .ne v156 v161
  let v163 : BitVec 32 := Scalar.remsi v148 c16_i32_60
  let c0_i32_65 : BitVec 32 := 0#32
  let v164 : BitVec 1 := Scalar.cmpi .ne v163 c0_i32_65
  let v165 : BitVec 1 := Scalar.andi v162 v164
  let v151 : BitVec 32 := Scalar.divsi v148 c16_i32_60
  let c1_i32_66 : BitVec 32 := 1#32
  let v166 : BitVec 32 := Scalar.subi v151 c1_i32_66
  let v167 : BitVec 32 := Scalar.select v165 v166 v151
  let c0_i32_69 : BitVec 32 := 0#32
  let v170 : BitVec 1 := Scalar.cmpi .sgt v167 c0_i32_69
  let v171 : BitVec 32 := Scalar.extui v170
  let c0_i32_70 : BitVec 32 := 0#32
  let v172 : BitVec 1 := Scalar.cmpi .slt v167 c0_i32_70
  let v173 : BitVec 32 := Scalar.extui v172
  let v174 : BitVec 32 := Scalar.subi v171 v173
  let c4_i32_68 : BitVec 32 := 4#32
  let c0_i32_71 : BitVec 32 := 0#32
  let v175 : BitVec 1 := Scalar.cmpi .sgt c4_i32_68 c0_i32_71
  let v176 : BitVec 32 := Scalar.extui v175
  let c0_i32_72 : BitVec 32 := 0#32
  let v177 : BitVec 1 := Scalar.cmpi .slt c4_i32_68 c0_i32_72
  let v178 : BitVec 32 := Scalar.extui v177
  let v179 : BitVec 32 := Scalar.subi v176 v178
  let v180 : BitVec 1 := Scalar.cmpi .ne v174 v179
  let v181 : BitVec 32 := Scalar.remsi v167 c4_i32_68
  let c0_i32_73 : BitVec 32 := 0#32
  let v182 : BitVec 1 := Scalar.cmpi .ne v181 c0_i32_73
  let v183 : BitVec 1 := Scalar.andi v180 v182
  let v169 : BitVec 32 := Scalar.divsi v167 c4_i32_68
  let c1_i32_74 : BitVec 32 := 1#32
  let v184 : BitVec 32 := Scalar.subi v169 c1_i32_74
  let v185 : BitVec 32 := Scalar.select v183 v184 v169
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v186 : BitVec 1 := Scalar.cmpi .eq v185 v103
  let v187 : BitVec 1 := Scalar.andi v168 v186
  let v188 : BitVec 32 := Scalar.extui v187
  let c0_i32_75 : BitVec 32 := 0#32
  let v189 : BitVec 1 := Scalar.cmpi .ne v188 c0_i32_75
  v189

@[reducible] def k1_t2_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off9 (v150 : BitVec 32) (k1_t2 : Fin k1_t2_loop.trips) : Fin 2 → Nat :=
  let c0_i32_1453 : BitVec 32 := 0#32
  let c1_i32_1455 : BitVec 32 := 1#32
  let arg19 : BitVec 32 := Scf.iv c0_i32_1453 c1_i32_1455 k1_t2
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v150 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off10 (v148 : BitVec 32) (k1_t2 : Fin k1_t2_loop.trips) : Fin 2 → Nat :=
  let c0_i32_61 : BitVec 32 := 0#32
  let v152 : BitVec 1 := Scalar.cmpi .sgt v148 c0_i32_61
  let v153 : BitVec 32 := Scalar.extui v152
  let c0_i32_62 : BitVec 32 := 0#32
  let v154 : BitVec 1 := Scalar.cmpi .slt v148 c0_i32_62
  let v155 : BitVec 32 := Scalar.extui v154
  let v156 : BitVec 32 := Scalar.subi v153 v155
  let c16_i32_60 : BitVec 32 := 16#32
  let c0_i32_63 : BitVec 32 := 0#32
  let v157 : BitVec 1 := Scalar.cmpi .sgt c16_i32_60 c0_i32_63
  let v158 : BitVec 32 := Scalar.extui v157
  let c0_i32_64 : BitVec 32 := 0#32
  let v159 : BitVec 1 := Scalar.cmpi .slt c16_i32_60 c0_i32_64
  let v160 : BitVec 32 := Scalar.extui v159
  let v161 : BitVec 32 := Scalar.subi v158 v160
  let v162 : BitVec 1 := Scalar.cmpi .ne v156 v161
  let v163 : BitVec 32 := Scalar.remsi v148 c16_i32_60
  let c0_i32_65 : BitVec 32 := 0#32
  let v164 : BitVec 1 := Scalar.cmpi .ne v163 c0_i32_65
  let v165 : BitVec 1 := Scalar.andi v162 v164
  let v151 : BitVec 32 := Scalar.divsi v148 c16_i32_60
  let c1_i32_66 : BitVec 32 := 1#32
  let v166 : BitVec 32 := Scalar.subi v151 c1_i32_66
  let v167 : BitVec 32 := Scalar.select v165 v166 v151
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v167 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t2
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v148 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off11 (v150 : BitVec 32) (k1_t2 : Fin k1_t2_loop.trips) : Fin 2 → Nat :=
  let c0_i32_1453 : BitVec 32 := 0#32
  let c1_i32_1455 : BitVec 32 := 1#32
  let arg19 : BitVec 32 := Scf.iv c0_i32_1453 c1_i32_1455 k1_t2
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v150 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk3 (i : grid1.Coords) (v25 : BitVec 32) (v148 : BitVec 32) (v150 : BitVec 32) : Prop :=
  (∀ (k1_h2 : k1_cond2 i v25 v148 = 1#1), ∀ a, (k1_off8 i v150) a + S32x512.size a ≤ S12288x512.size a) ∧
  (∀ k1_t2 : Fin k1_t2_loop.trips, ∀ (k1_h2 : k1_cond2 i v25 v148 = 1#1), ∀ a, (k1_off9 v150 k1_t2) a + S1x16.size a ≤ S32x512.size a) ∧
  (∀ k1_t2 : Fin k1_t2_loop.trips, ∀ (k1_h2 : k1_cond2 i v25 v148 = 1#1), ∀ a, (k1_off11 v150 k1_t2) a + S1x16.size a ≤ S32x512.size a)
theorem k1_off8_inb : ∀ (i : grid1.Coords) (v25 : BitVec 32) (v148 : BitVec 32) (v150 : BitVec 32) (k1_hw3 : k1_chk3 i v25 v148 v150), ∀ (k1_h2 : k1_cond2 i v25 v148 = 1#1), ∀ a, (k1_off8 i v150) a + S32x512.size a ≤ S12288x512.size a := fun i v25 v148 v150 k1_hw3 k1_h2 => k1_hw3.1 k1_h2
theorem k1_off9_inb : ∀ (i : grid1.Coords) (v25 : BitVec 32) (v148 : BitVec 32) (v150 : BitVec 32) (k1_hw3 : k1_chk3 i v25 v148 v150) (k1_t2 : Fin k1_t2_loop.trips), ∀ (k1_h2 : k1_cond2 i v25 v148 = 1#1), ∀ a, (k1_off9 v150 k1_t2) a + S1x16.size a ≤ S32x512.size a := fun i v25 v148 v150 k1_hw3 k1_t2 k1_h2 => k1_hw3.2.1 k1_t2 k1_h2
theorem k1_off11_inb : ∀ (i : grid1.Coords) (v25 : BitVec 32) (v148 : BitVec 32) (v150 : BitVec 32) (k1_hw3 : k1_chk3 i v25 v148 v150) (k1_t2 : Fin k1_t2_loop.trips), ∀ (k1_h2 : k1_cond2 i v25 v148 = 1#1), ∀ a, (k1_off11 v150 k1_t2) a + S1x16.size a ≤ S32x512.size a := fun i v25 v148 v150 k1_hw3 k1_t2 k1_h2 => k1_hw3.2.2 k1_t2 k1_h2

def k1_off12 (v148 : BitVec 32) (k1_t2 : Fin k1_t2_loop.trips) : Fin 2 → Nat :=
  let c0_i32_61 : BitVec 32 := 0#32
  let v152 : BitVec 1 := Scalar.cmpi .sgt v148 c0_i32_61
  let v153 : BitVec 32 := Scalar.extui v152
  let c0_i32_62 : BitVec 32 := 0#32
  let v154 : BitVec 1 := Scalar.cmpi .slt v148 c0_i32_62
  let v155 : BitVec 32 := Scalar.extui v154
  let v156 : BitVec 32 := Scalar.subi v153 v155
  let c16_i32_60 : BitVec 32 := 16#32
  let c0_i32_63 : BitVec 32 := 0#32
  let v157 : BitVec 1 := Scalar.cmpi .sgt c16_i32_60 c0_i32_63
  let v158 : BitVec 32 := Scalar.extui v157
  let c0_i32_64 : BitVec 32 := 0#32
  let v159 : BitVec 1 := Scalar.cmpi .slt c16_i32_60 c0_i32_64
  let v160 : BitVec 32 := Scalar.extui v159
  let v161 : BitVec 32 := Scalar.subi v158 v160
  let v162 : BitVec 1 := Scalar.cmpi .ne v156 v161
  let v163 : BitVec 32 := Scalar.remsi v148 c16_i32_60
  let c0_i32_65 : BitVec 32 := 0#32
  let v164 : BitVec 1 := Scalar.cmpi .ne v163 c0_i32_65
  let v165 : BitVec 1 := Scalar.andi v162 v164
  let v151 : BitVec 32 := Scalar.divsi v148 c16_i32_60
  let c1_i32_66 : BitVec 32 := 1#32
  let v166 : BitVec 32 := Scalar.subi v151 c1_i32_66
  let v167 : BitVec 32 := Scalar.select v165 v166 v151
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v167 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t2
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v148 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk4 (i : grid1.Coords) (v25 : BitVec 32) (v148 : BitVec 32) : Prop :=
  (∀ k1_t2 : Fin k1_t2_loop.trips, ∀ (k1_h2 : k1_cond2 i v25 v148 = 1#1), ∀ a, (k1_off10 v148 k1_t2) a + S1x16.size a ≤ S128x512.size a) ∧
  (∀ k1_t2 : Fin k1_t2_loop.trips, ∀ (k1_h2 : k1_cond2 i v25 v148 = 1#1), ∀ a, (k1_off12 v148 k1_t2) a + S1x16.size a ≤ S128x512.size a)
theorem k1_off10_inb : ∀ (i : grid1.Coords) (v25 : BitVec 32) (v148 : BitVec 32) (k1_hw4 : k1_chk4 i v25 v148) (k1_t2 : Fin k1_t2_loop.trips), ∀ (k1_h2 : k1_cond2 i v25 v148 = 1#1), ∀ a, (k1_off10 v148 k1_t2) a + S1x16.size a ≤ S128x512.size a := fun i v25 v148 k1_hw4 k1_t2 k1_h2 => k1_hw4.1 k1_t2 k1_h2
theorem k1_off12_inb : ∀ (i : grid1.Coords) (v25 : BitVec 32) (v148 : BitVec 32) (k1_hw4 : k1_chk4 i v25 v148) (k1_t2 : Fin k1_t2_loop.trips), ∀ (k1_h2 : k1_cond2 i v25 v148 = 1#1), ∀ a, (k1_off12 v148 k1_t2) a + S1x16.size a ≤ S128x512.size a := fun i v25 v148 k1_hw4 k1_t2 k1_h2 => k1_hw4.2 k1_t2 k1_h2

def k1_off13 (i : grid1.Coords) (v193 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v193 c0_i32_1428
  let v3763 : BitVec 32 := Scalar.extui v3762
  let c0_i32_1429 : BitVec 32 := 0#32
  let v3764 : BitVec 1 := Scalar.cmpi .slt v193 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v193 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v193 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r6 : BitVec 32 := 0#32
  ![v3779.toNat, 0]
def k1_cond3 (i : grid1.Coords) (v25 : BitVec 32) (v191 : BitVec 32) : BitVec 1 :=
  let c2_i32 : BitVec 32 := 2#32
  let v211 : BitVec 1 := Scalar.cmpi .sgt v25 c2_i32
  let c0_i32_77 : BitVec 32 := 0#32
  let v195 : BitVec 1 := Scalar.cmpi .sgt v191 c0_i32_77
  let v196 : BitVec 32 := Scalar.extui v195
  let c0_i32_78 : BitVec 32 := 0#32
  let v197 : BitVec 1 := Scalar.cmpi .slt v191 c0_i32_78
  let v198 : BitVec 32 := Scalar.extui v197
  let v199 : BitVec 32 := Scalar.subi v196 v198
  let c16_i32_76 : BitVec 32 := 16#32
  let c0_i32_79 : BitVec 32 := 0#32
  let v200 : BitVec 1 := Scalar.cmpi .sgt c16_i32_76 c0_i32_79
  let v201 : BitVec 32 := Scalar.extui v200
  let c0_i32_80 : BitVec 32 := 0#32
  let v202 : BitVec 1 := Scalar.cmpi .slt c16_i32_76 c0_i32_80
  let v203 : BitVec 32 := Scalar.extui v202
  let v204 : BitVec 32 := Scalar.subi v201 v203
  let v205 : BitVec 1 := Scalar.cmpi .ne v199 v204
  let v206 : BitVec 32 := Scalar.remsi v191 c16_i32_76
  let c0_i32_81 : BitVec 32 := 0#32
  let v207 : BitVec 1 := Scalar.cmpi .ne v206 c0_i32_81
  let v208 : BitVec 1 := Scalar.andi v205 v207
  let v194 : BitVec 32 := Scalar.divsi v191 c16_i32_76
  let c1_i32_82 : BitVec 32 := 1#32
  let v209 : BitVec 32 := Scalar.subi v194 c1_i32_82
  let v210 : BitVec 32 := Scalar.select v208 v209 v194
  let c0_i32_84 : BitVec 32 := 0#32
  let v213 : BitVec 1 := Scalar.cmpi .sgt v210 c0_i32_84
  let v214 : BitVec 32 := Scalar.extui v213
  let c0_i32_85 : BitVec 32 := 0#32
  let v215 : BitVec 1 := Scalar.cmpi .slt v210 c0_i32_85
  let v216 : BitVec 32 := Scalar.extui v215
  let v217 : BitVec 32 := Scalar.subi v214 v216
  let c4_i32_83 : BitVec 32 := 4#32
  let c0_i32_86 : BitVec 32 := 0#32
  let v218 : BitVec 1 := Scalar.cmpi .sgt c4_i32_83 c0_i32_86
  let v219 : BitVec 32 := Scalar.extui v218
  let c0_i32_87 : BitVec 32 := 0#32
  let v220 : BitVec 1 := Scalar.cmpi .slt c4_i32_83 c0_i32_87
  let v221 : BitVec 32 := Scalar.extui v220
  let v222 : BitVec 32 := Scalar.subi v219 v221
  let v223 : BitVec 1 := Scalar.cmpi .ne v217 v222
  let v224 : BitVec 32 := Scalar.remsi v210 c4_i32_83
  let c0_i32_88 : BitVec 32 := 0#32
  let v225 : BitVec 1 := Scalar.cmpi .ne v224 c0_i32_88
  let v226 : BitVec 1 := Scalar.andi v223 v225
  let v212 : BitVec 32 := Scalar.divsi v210 c4_i32_83
  let c1_i32_89 : BitVec 32 := 1#32
  let v227 : BitVec 32 := Scalar.subi v212 c1_i32_89
  let v228 : BitVec 32 := Scalar.select v226 v227 v212
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v229 : BitVec 1 := Scalar.cmpi .eq v228 v103
  let v230 : BitVec 1 := Scalar.andi v211 v229
  let v231 : BitVec 32 := Scalar.extui v230
  let c0_i32_90 : BitVec 32 := 0#32
  let v232 : BitVec 1 := Scalar.cmpi .ne v231 c0_i32_90
  v232

@[reducible] def k1_t3_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off14 (v193 : BitVec 32) (k1_t3 : Fin k1_t3_loop.trips) : Fin 2 → Nat :=
  let c0_i32_1453 : BitVec 32 := 0#32
  let c1_i32_1455 : BitVec 32 := 1#32
  let arg19 : BitVec 32 := Scf.iv c0_i32_1453 c1_i32_1455 k1_t3
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v193 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off15 (v191 : BitVec 32) (k1_t3 : Fin k1_t3_loop.trips) : Fin 2 → Nat :=
  let c0_i32_77 : BitVec 32 := 0#32
  let v195 : BitVec 1 := Scalar.cmpi .sgt v191 c0_i32_77
  let v196 : BitVec 32 := Scalar.extui v195
  let c0_i32_78 : BitVec 32 := 0#32
  let v197 : BitVec 1 := Scalar.cmpi .slt v191 c0_i32_78
  let v198 : BitVec 32 := Scalar.extui v197
  let v199 : BitVec 32 := Scalar.subi v196 v198
  let c16_i32_76 : BitVec 32 := 16#32
  let c0_i32_79 : BitVec 32 := 0#32
  let v200 : BitVec 1 := Scalar.cmpi .sgt c16_i32_76 c0_i32_79
  let v201 : BitVec 32 := Scalar.extui v200
  let c0_i32_80 : BitVec 32 := 0#32
  let v202 : BitVec 1 := Scalar.cmpi .slt c16_i32_76 c0_i32_80
  let v203 : BitVec 32 := Scalar.extui v202
  let v204 : BitVec 32 := Scalar.subi v201 v203
  let v205 : BitVec 1 := Scalar.cmpi .ne v199 v204
  let v206 : BitVec 32 := Scalar.remsi v191 c16_i32_76
  let c0_i32_81 : BitVec 32 := 0#32
  let v207 : BitVec 1 := Scalar.cmpi .ne v206 c0_i32_81
  let v208 : BitVec 1 := Scalar.andi v205 v207
  let v194 : BitVec 32 := Scalar.divsi v191 c16_i32_76
  let c1_i32_82 : BitVec 32 := 1#32
  let v209 : BitVec 32 := Scalar.subi v194 c1_i32_82
  let v210 : BitVec 32 := Scalar.select v208 v209 v194
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v210 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t3
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v191 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off16 (v193 : BitVec 32) (k1_t3 : Fin k1_t3_loop.trips) : Fin 2 → Nat :=
  let c0_i32_1453 : BitVec 32 := 0#32
  let c1_i32_1455 : BitVec 32 := 1#32
  let arg19 : BitVec 32 := Scf.iv c0_i32_1453 c1_i32_1455 k1_t3
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v193 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk5 (i : grid1.Coords) (v25 : BitVec 32) (v191 : BitVec 32) (v193 : BitVec 32) : Prop :=
  (∀ (k1_h3 : k1_cond3 i v25 v191 = 1#1), ∀ a, (k1_off13 i v193) a + S32x512.size a ≤ S12288x512.size a) ∧
  (∀ k1_t3 : Fin k1_t3_loop.trips, ∀ (k1_h3 : k1_cond3 i v25 v191 = 1#1), ∀ a, (k1_off14 v193 k1_t3) a + S1x16.size a ≤ S32x512.size a) ∧
  (∀ k1_t3 : Fin k1_t3_loop.trips, ∀ (k1_h3 : k1_cond3 i v25 v191 = 1#1), ∀ a, (k1_off16 v193 k1_t3) a + S1x16.size a ≤ S32x512.size a)
theorem k1_off13_inb : ∀ (i : grid1.Coords) (v25 : BitVec 32) (v191 : BitVec 32) (v193 : BitVec 32) (k1_hw5 : k1_chk5 i v25 v191 v193), ∀ (k1_h3 : k1_cond3 i v25 v191 = 1#1), ∀ a, (k1_off13 i v193) a + S32x512.size a ≤ S12288x512.size a := fun i v25 v191 v193 k1_hw5 k1_h3 => k1_hw5.1 k1_h3
theorem k1_off14_inb : ∀ (i : grid1.Coords) (v25 : BitVec 32) (v191 : BitVec 32) (v193 : BitVec 32) (k1_hw5 : k1_chk5 i v25 v191 v193) (k1_t3 : Fin k1_t3_loop.trips), ∀ (k1_h3 : k1_cond3 i v25 v191 = 1#1), ∀ a, (k1_off14 v193 k1_t3) a + S1x16.size a ≤ S32x512.size a := fun i v25 v191 v193 k1_hw5 k1_t3 k1_h3 => k1_hw5.2.1 k1_t3 k1_h3
theorem k1_off16_inb : ∀ (i : grid1.Coords) (v25 : BitVec 32) (v191 : BitVec 32) (v193 : BitVec 32) (k1_hw5 : k1_chk5 i v25 v191 v193) (k1_t3 : Fin k1_t3_loop.trips), ∀ (k1_h3 : k1_cond3 i v25 v191 = 1#1), ∀ a, (k1_off16 v193 k1_t3) a + S1x16.size a ≤ S32x512.size a := fun i v25 v191 v193 k1_hw5 k1_t3 k1_h3 => k1_hw5.2.2 k1_t3 k1_h3

def k1_off17 (v191 : BitVec 32) (k1_t3 : Fin k1_t3_loop.trips) : Fin 2 → Nat :=
  let c0_i32_77 : BitVec 32 := 0#32
  let v195 : BitVec 1 := Scalar.cmpi .sgt v191 c0_i32_77
  let v196 : BitVec 32 := Scalar.extui v195
  let c0_i32_78 : BitVec 32 := 0#32
  let v197 : BitVec 1 := Scalar.cmpi .slt v191 c0_i32_78
  let v198 : BitVec 32 := Scalar.extui v197
  let v199 : BitVec 32 := Scalar.subi v196 v198
  let c16_i32_76 : BitVec 32 := 16#32
  let c0_i32_79 : BitVec 32 := 0#32
  let v200 : BitVec 1 := Scalar.cmpi .sgt c16_i32_76 c0_i32_79
  let v201 : BitVec 32 := Scalar.extui v200
  let c0_i32_80 : BitVec 32 := 0#32
  let v202 : BitVec 1 := Scalar.cmpi .slt c16_i32_76 c0_i32_80
  let v203 : BitVec 32 := Scalar.extui v202
  let v204 : BitVec 32 := Scalar.subi v201 v203
  let v205 : BitVec 1 := Scalar.cmpi .ne v199 v204
  let v206 : BitVec 32 := Scalar.remsi v191 c16_i32_76
  let c0_i32_81 : BitVec 32 := 0#32
  let v207 : BitVec 1 := Scalar.cmpi .ne v206 c0_i32_81
  let v208 : BitVec 1 := Scalar.andi v205 v207
  let v194 : BitVec 32 := Scalar.divsi v191 c16_i32_76
  let c1_i32_82 : BitVec 32 := 1#32
  let v209 : BitVec 32 := Scalar.subi v194 c1_i32_82
  let v210 : BitVec 32 := Scalar.select v208 v209 v194
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v210 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t3
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v191 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk6 (i : grid1.Coords) (v25 : BitVec 32) (v191 : BitVec 32) : Prop :=
  (∀ k1_t3 : Fin k1_t3_loop.trips, ∀ (k1_h3 : k1_cond3 i v25 v191 = 1#1), ∀ a, (k1_off15 v191 k1_t3) a + S1x16.size a ≤ S128x512.size a) ∧
  (∀ k1_t3 : Fin k1_t3_loop.trips, ∀ (k1_h3 : k1_cond3 i v25 v191 = 1#1), ∀ a, (k1_off17 v191 k1_t3) a + S1x16.size a ≤ S128x512.size a)
theorem k1_off15_inb : ∀ (i : grid1.Coords) (v25 : BitVec 32) (v191 : BitVec 32) (k1_hw6 : k1_chk6 i v25 v191) (k1_t3 : Fin k1_t3_loop.trips), ∀ (k1_h3 : k1_cond3 i v25 v191 = 1#1), ∀ a, (k1_off15 v191 k1_t3) a + S1x16.size a ≤ S128x512.size a := fun i v25 v191 k1_hw6 k1_t3 k1_h3 => k1_hw6.1 k1_t3 k1_h3
theorem k1_off17_inb : ∀ (i : grid1.Coords) (v25 : BitVec 32) (v191 : BitVec 32) (k1_hw6 : k1_chk6 i v25 v191) (k1_t3 : Fin k1_t3_loop.trips), ∀ (k1_h3 : k1_cond3 i v25 v191 = 1#1), ∀ a, (k1_off17 v191 k1_t3) a + S1x16.size a ≤ S128x512.size a := fun i v25 v191 k1_hw6 k1_t3 k1_h3 => k1_hw6.2 k1_t3 k1_h3

def k1_off18 (i : grid1.Coords) (v236 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v236 c0_i32_1428
  let v3763 : BitVec 32 := Scalar.extui v3762
  let c0_i32_1429 : BitVec 32 := 0#32
  let v3764 : BitVec 1 := Scalar.cmpi .slt v236 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v236 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v236 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r7 : BitVec 32 := 0#32
  ![v3779.toNat, 0]
def k1_cond4 (i : grid1.Coords) (v25 : BitVec 32) (v234 : BitVec 32) : BitVec 1 :=
  let c3_i32_98 : BitVec 32 := 3#32
  let v254 : BitVec 1 := Scalar.cmpi .sgt v25 c3_i32_98
  let c0_i32_92 : BitVec 32 := 0#32
  let v238 : BitVec 1 := Scalar.cmpi .sgt v234 c0_i32_92
  let v239 : BitVec 32 := Scalar.extui v238
  let c0_i32_93 : BitVec 32 := 0#32
  let v240 : BitVec 1 := Scalar.cmpi .slt v234 c0_i32_93
  let v241 : BitVec 32 := Scalar.extui v240
  let v242 : BitVec 32 := Scalar.subi v239 v241
  let c16_i32_91 : BitVec 32 := 16#32
  let c0_i32_94 : BitVec 32 := 0#32
  let v243 : BitVec 1 := Scalar.cmpi .sgt c16_i32_91 c0_i32_94
  let v244 : BitVec 32 := Scalar.extui v243
  let c0_i32_95 : BitVec 32 := 0#32
  let v245 : BitVec 1 := Scalar.cmpi .slt c16_i32_91 c0_i32_95
  let v246 : BitVec 32 := Scalar.extui v245
  let v247 : BitVec 32 := Scalar.subi v244 v246
  let v248 : BitVec 1 := Scalar.cmpi .ne v242 v247
  let v249 : BitVec 32 := Scalar.remsi v234 c16_i32_91
  let c0_i32_96 : BitVec 32 := 0#32
  let v250 : BitVec 1 := Scalar.cmpi .ne v249 c0_i32_96
  let v251 : BitVec 1 := Scalar.andi v248 v250
  let v237 : BitVec 32 := Scalar.divsi v234 c16_i32_91
  let c1_i32_97 : BitVec 32 := 1#32
  let v252 : BitVec 32 := Scalar.subi v237 c1_i32_97
  let v253 : BitVec 32 := Scalar.select v251 v252 v237
  let c0_i32_100 : BitVec 32 := 0#32
  let v256 : BitVec 1 := Scalar.cmpi .sgt v253 c0_i32_100
  let v257 : BitVec 32 := Scalar.extui v256
  let c0_i32_101 : BitVec 32 := 0#32
  let v258 : BitVec 1 := Scalar.cmpi .slt v253 c0_i32_101
  let v259 : BitVec 32 := Scalar.extui v258
  let v260 : BitVec 32 := Scalar.subi v257 v259
  let c4_i32_99 : BitVec 32 := 4#32
  let c0_i32_102 : BitVec 32 := 0#32
  let v261 : BitVec 1 := Scalar.cmpi .sgt c4_i32_99 c0_i32_102
  let v262 : BitVec 32 := Scalar.extui v261
  let c0_i32_103 : BitVec 32 := 0#32
  let v263 : BitVec 1 := Scalar.cmpi .slt c4_i32_99 c0_i32_103
  let v264 : BitVec 32 := Scalar.extui v263
  let v265 : BitVec 32 := Scalar.subi v262 v264
  let v266 : BitVec 1 := Scalar.cmpi .ne v260 v265
  let v267 : BitVec 32 := Scalar.remsi v253 c4_i32_99
  let c0_i32_104 : BitVec 32 := 0#32
  let v268 : BitVec 1 := Scalar.cmpi .ne v267 c0_i32_104
  let v269 : BitVec 1 := Scalar.andi v266 v268
  let v255 : BitVec 32 := Scalar.divsi v253 c4_i32_99
  let c1_i32_105 : BitVec 32 := 1#32
  let v270 : BitVec 32 := Scalar.subi v255 c1_i32_105
  let v271 : BitVec 32 := Scalar.select v269 v270 v255
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v272 : BitVec 1 := Scalar.cmpi .eq v271 v103
  let v273 : BitVec 1 := Scalar.andi v254 v272
  let v274 : BitVec 32 := Scalar.extui v273
  let c0_i32_106 : BitVec 32 := 0#32
  let v275 : BitVec 1 := Scalar.cmpi .ne v274 c0_i32_106
  v275

@[reducible] def k1_t4_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off19 (v236 : BitVec 32) (k1_t4 : Fin k1_t4_loop.trips) : Fin 2 → Nat :=
  let c0_i32_1453 : BitVec 32 := 0#32
  let c1_i32_1455 : BitVec 32 := 1#32
  let arg19 : BitVec 32 := Scf.iv c0_i32_1453 c1_i32_1455 k1_t4
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v236 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off20 (v234 : BitVec 32) (k1_t4 : Fin k1_t4_loop.trips) : Fin 2 → Nat :=
  let c0_i32_92 : BitVec 32 := 0#32
  let v238 : BitVec 1 := Scalar.cmpi .sgt v234 c0_i32_92
  let v239 : BitVec 32 := Scalar.extui v238
  let c0_i32_93 : BitVec 32 := 0#32
  let v240 : BitVec 1 := Scalar.cmpi .slt v234 c0_i32_93
  let v241 : BitVec 32 := Scalar.extui v240
  let v242 : BitVec 32 := Scalar.subi v239 v241
  let c16_i32_91 : BitVec 32 := 16#32
  let c0_i32_94 : BitVec 32 := 0#32
  let v243 : BitVec 1 := Scalar.cmpi .sgt c16_i32_91 c0_i32_94
  let v244 : BitVec 32 := Scalar.extui v243
  let c0_i32_95 : BitVec 32 := 0#32
  let v245 : BitVec 1 := Scalar.cmpi .slt c16_i32_91 c0_i32_95
  let v246 : BitVec 32 := Scalar.extui v245
  let v247 : BitVec 32 := Scalar.subi v244 v246
  let v248 : BitVec 1 := Scalar.cmpi .ne v242 v247
  let v249 : BitVec 32 := Scalar.remsi v234 c16_i32_91
  let c0_i32_96 : BitVec 32 := 0#32
  let v250 : BitVec 1 := Scalar.cmpi .ne v249 c0_i32_96
  let v251 : BitVec 1 := Scalar.andi v248 v250
  let v237 : BitVec 32 := Scalar.divsi v234 c16_i32_91
  let c1_i32_97 : BitVec 32 := 1#32
  let v252 : BitVec 32 := Scalar.subi v237 c1_i32_97
  let v253 : BitVec 32 := Scalar.select v251 v252 v237
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v253 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t4
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v234 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off21 (v236 : BitVec 32) (k1_t4 : Fin k1_t4_loop.trips) : Fin 2 → Nat :=
  let c0_i32_1453 : BitVec 32 := 0#32
  let c1_i32_1455 : BitVec 32 := 1#32
  let arg19 : BitVec 32 := Scf.iv c0_i32_1453 c1_i32_1455 k1_t4
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v236 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk7 (i : grid1.Coords) (v25 : BitVec 32) (v234 : BitVec 32) (v236 : BitVec 32) : Prop :=
  (∀ (k1_h4 : k1_cond4 i v25 v234 = 1#1), ∀ a, (k1_off18 i v236) a + S32x512.size a ≤ S12288x512.size a) ∧
  (∀ k1_t4 : Fin k1_t4_loop.trips, ∀ (k1_h4 : k1_cond4 i v25 v234 = 1#1), ∀ a, (k1_off19 v236 k1_t4) a + S1x16.size a ≤ S32x512.size a) ∧
  (∀ k1_t4 : Fin k1_t4_loop.trips, ∀ (k1_h4 : k1_cond4 i v25 v234 = 1#1), ∀ a, (k1_off21 v236 k1_t4) a + S1x16.size a ≤ S32x512.size a)
theorem k1_off18_inb : ∀ (i : grid1.Coords) (v25 : BitVec 32) (v234 : BitVec 32) (v236 : BitVec 32) (k1_hw7 : k1_chk7 i v25 v234 v236), ∀ (k1_h4 : k1_cond4 i v25 v234 = 1#1), ∀ a, (k1_off18 i v236) a + S32x512.size a ≤ S12288x512.size a := fun i v25 v234 v236 k1_hw7 k1_h4 => k1_hw7.1 k1_h4
theorem k1_off19_inb : ∀ (i : grid1.Coords) (v25 : BitVec 32) (v234 : BitVec 32) (v236 : BitVec 32) (k1_hw7 : k1_chk7 i v25 v234 v236) (k1_t4 : Fin k1_t4_loop.trips), ∀ (k1_h4 : k1_cond4 i v25 v234 = 1#1), ∀ a, (k1_off19 v236 k1_t4) a + S1x16.size a ≤ S32x512.size a := fun i v25 v234 v236 k1_hw7 k1_t4 k1_h4 => k1_hw7.2.1 k1_t4 k1_h4
theorem k1_off21_inb : ∀ (i : grid1.Coords) (v25 : BitVec 32) (v234 : BitVec 32) (v236 : BitVec 32) (k1_hw7 : k1_chk7 i v25 v234 v236) (k1_t4 : Fin k1_t4_loop.trips), ∀ (k1_h4 : k1_cond4 i v25 v234 = 1#1), ∀ a, (k1_off21 v236 k1_t4) a + S1x16.size a ≤ S32x512.size a := fun i v25 v234 v236 k1_hw7 k1_t4 k1_h4 => k1_hw7.2.2 k1_t4 k1_h4

def k1_off22 (v234 : BitVec 32) (k1_t4 : Fin k1_t4_loop.trips) : Fin 2 → Nat :=
  let c0_i32_92 : BitVec 32 := 0#32
  let v238 : BitVec 1 := Scalar.cmpi .sgt v234 c0_i32_92
  let v239 : BitVec 32 := Scalar.extui v238
  let c0_i32_93 : BitVec 32 := 0#32
  let v240 : BitVec 1 := Scalar.cmpi .slt v234 c0_i32_93
  let v241 : BitVec 32 := Scalar.extui v240
  let v242 : BitVec 32 := Scalar.subi v239 v241
  let c16_i32_91 : BitVec 32 := 16#32
  let c0_i32_94 : BitVec 32 := 0#32
  let v243 : BitVec 1 := Scalar.cmpi .sgt c16_i32_91 c0_i32_94
  let v244 : BitVec 32 := Scalar.extui v243
  let c0_i32_95 : BitVec 32 := 0#32
  let v245 : BitVec 1 := Scalar.cmpi .slt c16_i32_91 c0_i32_95
  let v246 : BitVec 32 := Scalar.extui v245
  let v247 : BitVec 32 := Scalar.subi v244 v246
  let v248 : BitVec 1 := Scalar.cmpi .ne v242 v247
  let v249 : BitVec 32 := Scalar.remsi v234 c16_i32_91
  let c0_i32_96 : BitVec 32 := 0#32
  let v250 : BitVec 1 := Scalar.cmpi .ne v249 c0_i32_96
  let v251 : BitVec 1 := Scalar.andi v248 v250
  let v237 : BitVec 32 := Scalar.divsi v234 c16_i32_91
  let c1_i32_97 : BitVec 32 := 1#32
  let v252 : BitVec 32 := Scalar.subi v237 c1_i32_97
  let v253 : BitVec 32 := Scalar.select v251 v252 v237
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v253 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t4
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v234 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk8 (i : grid1.Coords) (v25 : BitVec 32) (v234 : BitVec 32) : Prop :=
  (∀ k1_t4 : Fin k1_t4_loop.trips, ∀ (k1_h4 : k1_cond4 i v25 v234 = 1#1), ∀ a, (k1_off20 v234 k1_t4) a + S1x16.size a ≤ S128x512.size a) ∧
  (∀ k1_t4 : Fin k1_t4_loop.trips, ∀ (k1_h4 : k1_cond4 i v25 v234 = 1#1), ∀ a, (k1_off22 v234 k1_t4) a + S1x16.size a ≤ S128x512.size a)
theorem k1_off20_inb : ∀ (i : grid1.Coords) (v25 : BitVec 32) (v234 : BitVec 32) (k1_hw8 : k1_chk8 i v25 v234) (k1_t4 : Fin k1_t4_loop.trips), ∀ (k1_h4 : k1_cond4 i v25 v234 = 1#1), ∀ a, (k1_off20 v234 k1_t4) a + S1x16.size a ≤ S128x512.size a := fun i v25 v234 k1_hw8 k1_t4 k1_h4 => k1_hw8.1 k1_t4 k1_h4
theorem k1_off22_inb : ∀ (i : grid1.Coords) (v25 : BitVec 32) (v234 : BitVec 32) (k1_hw8 : k1_chk8 i v25 v234) (k1_t4 : Fin k1_t4_loop.trips), ∀ (k1_h4 : k1_cond4 i v25 v234 = 1#1), ∀ a, (k1_off22 v234 k1_t4) a + S1x16.size a ≤ S128x512.size a := fun i v25 v234 k1_hw8 k1_t4 k1_h4 => k1_hw8.2 k1_t4 k1_h4

def k1_off23 (i : grid1.Coords) (v279 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v279 c0_i32_1428
  let v3763 : BitVec 32 := Scalar.extui v3762
  let c0_i32_1429 : BitVec 32 := 0#32
  let v3764 : BitVec 1 := Scalar.cmpi .slt v279 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v279 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v279 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r8 : BitVec 32 := 0#32
  ![v3779.toNat, 0]
def k1_cond5 (i : grid1.Coords) (v25 : BitVec 32) (v277 : BitVec 32) : BitVec 1 :=
  let c4_i32_114 : BitVec 32 := 4#32
  let v297 : BitVec 1 := Scalar.cmpi .sgt v25 c4_i32_114
  let c0_i32_108 : BitVec 32 := 0#32
  let v281 : BitVec 1 := Scalar.cmpi .sgt v277 c0_i32_108
  let v282 : BitVec 32 := Scalar.extui v281
  let c0_i32_109 : BitVec 32 := 0#32
  let v283 : BitVec 1 := Scalar.cmpi .slt v277 c0_i32_109
  let v284 : BitVec 32 := Scalar.extui v283
  let v285 : BitVec 32 := Scalar.subi v282 v284
  let c16_i32_107 : BitVec 32 := 16#32
  let c0_i32_110 : BitVec 32 := 0#32
  let v286 : BitVec 1 := Scalar.cmpi .sgt c16_i32_107 c0_i32_110
  let v287 : BitVec 32 := Scalar.extui v286
  let c0_i32_111 : BitVec 32 := 0#32
  let v288 : BitVec 1 := Scalar.cmpi .slt c16_i32_107 c0_i32_111
  let v289 : BitVec 32 := Scalar.extui v288
  let v290 : BitVec 32 := Scalar.subi v287 v289
  let v291 : BitVec 1 := Scalar.cmpi .ne v285 v290
  let v292 : BitVec 32 := Scalar.remsi v277 c16_i32_107
  let c0_i32_112 : BitVec 32 := 0#32
  let v293 : BitVec 1 := Scalar.cmpi .ne v292 c0_i32_112
  let v294 : BitVec 1 := Scalar.andi v291 v293
  let v280 : BitVec 32 := Scalar.divsi v277 c16_i32_107
  let c1_i32_113 : BitVec 32 := 1#32
  let v295 : BitVec 32 := Scalar.subi v280 c1_i32_113
  let v296 : BitVec 32 := Scalar.select v294 v295 v280
  let c0_i32_116 : BitVec 32 := 0#32
  let v299 : BitVec 1 := Scalar.cmpi .sgt v296 c0_i32_116
  let v300 : BitVec 32 := Scalar.extui v299
  let c0_i32_117 : BitVec 32 := 0#32
  let v301 : BitVec 1 := Scalar.cmpi .slt v296 c0_i32_117
  let v302 : BitVec 32 := Scalar.extui v301
  let v303 : BitVec 32 := Scalar.subi v300 v302
  let c4_i32_115 : BitVec 32 := 4#32
  let c0_i32_118 : BitVec 32 := 0#32
  let v304 : BitVec 1 := Scalar.cmpi .sgt c4_i32_115 c0_i32_118
  let v305 : BitVec 32 := Scalar.extui v304
  let c0_i32_119 : BitVec 32 := 0#32
  let v306 : BitVec 1 := Scalar.cmpi .slt c4_i32_115 c0_i32_119
  let v307 : BitVec 32 := Scalar.extui v306
  let v308 : BitVec 32 := Scalar.subi v305 v307
  let v309 : BitVec 1 := Scalar.cmpi .ne v303 v308
  let v310 : BitVec 32 := Scalar.remsi v296 c4_i32_115
  let c0_i32_120 : BitVec 32 := 0#32
  let v311 : BitVec 1 := Scalar.cmpi .ne v310 c0_i32_120
  let v312 : BitVec 1 := Scalar.andi v309 v311
  let v298 : BitVec 32 := Scalar.divsi v296 c4_i32_115
  let c1_i32_121 : BitVec 32 := 1#32
  let v313 : BitVec 32 := Scalar.subi v298 c1_i32_121
  let v314 : BitVec 32 := Scalar.select v312 v313 v298
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v315 : BitVec 1 := Scalar.cmpi .eq v314 v103
  let v316 : BitVec 1 := Scalar.andi v297 v315
  let v317 : BitVec 32 := Scalar.extui v316
  let c0_i32_122 : BitVec 32 := 0#32
  let v318 : BitVec 1 := Scalar.cmpi .ne v317 c0_i32_122
  v318

@[reducible] def k1_t5_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off24 (v279 : BitVec 32) (k1_t5 : Fin k1_t5_loop.trips) : Fin 2 → Nat :=
  let c0_i32_1453 : BitVec 32 := 0#32
  let c1_i32_1455 : BitVec 32 := 1#32
  let arg19 : BitVec 32 := Scf.iv c0_i32_1453 c1_i32_1455 k1_t5
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v279 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off25 (v277 : BitVec 32) (k1_t5 : Fin k1_t5_loop.trips) : Fin 2 → Nat :=
  let c0_i32_108 : BitVec 32 := 0#32
  let v281 : BitVec 1 := Scalar.cmpi .sgt v277 c0_i32_108
  let v282 : BitVec 32 := Scalar.extui v281
  let c0_i32_109 : BitVec 32 := 0#32
  let v283 : BitVec 1 := Scalar.cmpi .slt v277 c0_i32_109
  let v284 : BitVec 32 := Scalar.extui v283
  let v285 : BitVec 32 := Scalar.subi v282 v284
  let c16_i32_107 : BitVec 32 := 16#32
  let c0_i32_110 : BitVec 32 := 0#32
  let v286 : BitVec 1 := Scalar.cmpi .sgt c16_i32_107 c0_i32_110
  let v287 : BitVec 32 := Scalar.extui v286
  let c0_i32_111 : BitVec 32 := 0#32
  let v288 : BitVec 1 := Scalar.cmpi .slt c16_i32_107 c0_i32_111
  let v289 : BitVec 32 := Scalar.extui v288
  let v290 : BitVec 32 := Scalar.subi v287 v289
  let v291 : BitVec 1 := Scalar.cmpi .ne v285 v290
  let v292 : BitVec 32 := Scalar.remsi v277 c16_i32_107
  let c0_i32_112 : BitVec 32 := 0#32
  let v293 : BitVec 1 := Scalar.cmpi .ne v292 c0_i32_112
  let v294 : BitVec 1 := Scalar.andi v291 v293
  let v280 : BitVec 32 := Scalar.divsi v277 c16_i32_107
  let c1_i32_113 : BitVec 32 := 1#32
  let v295 : BitVec 32 := Scalar.subi v280 c1_i32_113
  let v296 : BitVec 32 := Scalar.select v294 v295 v280
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v296 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t5
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v277 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off26 (v279 : BitVec 32) (k1_t5 : Fin k1_t5_loop.trips) : Fin 2 → Nat :=
  let c0_i32_1453 : BitVec 32 := 0#32
  let c1_i32_1455 : BitVec 32 := 1#32
  let arg19 : BitVec 32 := Scf.iv c0_i32_1453 c1_i32_1455 k1_t5
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v279 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk9 (i : grid1.Coords) (v25 : BitVec 32) (v277 : BitVec 32) (v279 : BitVec 32) : Prop :=
  (∀ (k1_h5 : k1_cond5 i v25 v277 = 1#1), ∀ a, (k1_off23 i v279) a + S32x512.size a ≤ S12288x512.size a) ∧
  (∀ k1_t5 : Fin k1_t5_loop.trips, ∀ (k1_h5 : k1_cond5 i v25 v277 = 1#1), ∀ a, (k1_off24 v279 k1_t5) a + S1x16.size a ≤ S32x512.size a) ∧
  (∀ k1_t5 : Fin k1_t5_loop.trips, ∀ (k1_h5 : k1_cond5 i v25 v277 = 1#1), ∀ a, (k1_off26 v279 k1_t5) a + S1x16.size a ≤ S32x512.size a)
theorem k1_off23_inb : ∀ (i : grid1.Coords) (v25 : BitVec 32) (v277 : BitVec 32) (v279 : BitVec 32) (k1_hw9 : k1_chk9 i v25 v277 v279), ∀ (k1_h5 : k1_cond5 i v25 v277 = 1#1), ∀ a, (k1_off23 i v279) a + S32x512.size a ≤ S12288x512.size a := fun i v25 v277 v279 k1_hw9 k1_h5 => k1_hw9.1 k1_h5
theorem k1_off24_inb : ∀ (i : grid1.Coords) (v25 : BitVec 32) (v277 : BitVec 32) (v279 : BitVec 32) (k1_hw9 : k1_chk9 i v25 v277 v279) (k1_t5 : Fin k1_t5_loop.trips), ∀ (k1_h5 : k1_cond5 i v25 v277 = 1#1), ∀ a, (k1_off24 v279 k1_t5) a + S1x16.size a ≤ S32x512.size a := fun i v25 v277 v279 k1_hw9 k1_t5 k1_h5 => k1_hw9.2.1 k1_t5 k1_h5
theorem k1_off26_inb : ∀ (i : grid1.Coords) (v25 : BitVec 32) (v277 : BitVec 32) (v279 : BitVec 32) (k1_hw9 : k1_chk9 i v25 v277 v279) (k1_t5 : Fin k1_t5_loop.trips), ∀ (k1_h5 : k1_cond5 i v25 v277 = 1#1), ∀ a, (k1_off26 v279 k1_t5) a + S1x16.size a ≤ S32x512.size a := fun i v25 v277 v279 k1_hw9 k1_t5 k1_h5 => k1_hw9.2.2 k1_t5 k1_h5

def k1_off27 (v277 : BitVec 32) (k1_t5 : Fin k1_t5_loop.trips) : Fin 2 → Nat :=
  let c0_i32_108 : BitVec 32 := 0#32
  let v281 : BitVec 1 := Scalar.cmpi .sgt v277 c0_i32_108
  let v282 : BitVec 32 := Scalar.extui v281
  let c0_i32_109 : BitVec 32 := 0#32
  let v283 : BitVec 1 := Scalar.cmpi .slt v277 c0_i32_109
  let v284 : BitVec 32 := Scalar.extui v283
  let v285 : BitVec 32 := Scalar.subi v282 v284
  let c16_i32_107 : BitVec 32 := 16#32
  let c0_i32_110 : BitVec 32 := 0#32
  let v286 : BitVec 1 := Scalar.cmpi .sgt c16_i32_107 c0_i32_110
  let v287 : BitVec 32 := Scalar.extui v286
  let c0_i32_111 : BitVec 32 := 0#32
  let v288 : BitVec 1 := Scalar.cmpi .slt c16_i32_107 c0_i32_111
  let v289 : BitVec 32 := Scalar.extui v288
  let v290 : BitVec 32 := Scalar.subi v287 v289
  let v291 : BitVec 1 := Scalar.cmpi .ne v285 v290
  let v292 : BitVec 32 := Scalar.remsi v277 c16_i32_107
  let c0_i32_112 : BitVec 32 := 0#32
  let v293 : BitVec 1 := Scalar.cmpi .ne v292 c0_i32_112
  let v294 : BitVec 1 := Scalar.andi v291 v293
  let v280 : BitVec 32 := Scalar.divsi v277 c16_i32_107
  let c1_i32_113 : BitVec 32 := 1#32
  let v295 : BitVec 32 := Scalar.subi v280 c1_i32_113
  let v296 : BitVec 32 := Scalar.select v294 v295 v280
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v296 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t5
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v277 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk10 (i : grid1.Coords) (v25 : BitVec 32) (v277 : BitVec 32) : Prop :=
  (∀ k1_t5 : Fin k1_t5_loop.trips, ∀ (k1_h5 : k1_cond5 i v25 v277 = 1#1), ∀ a, (k1_off25 v277 k1_t5) a + S1x16.size a ≤ S128x512.size a) ∧
  (∀ k1_t5 : Fin k1_t5_loop.trips, ∀ (k1_h5 : k1_cond5 i v25 v277 = 1#1), ∀ a, (k1_off27 v277 k1_t5) a + S1x16.size a ≤ S128x512.size a)
theorem k1_off25_inb : ∀ (i : grid1.Coords) (v25 : BitVec 32) (v277 : BitVec 32) (k1_hw10 : k1_chk10 i v25 v277) (k1_t5 : Fin k1_t5_loop.trips), ∀ (k1_h5 : k1_cond5 i v25 v277 = 1#1), ∀ a, (k1_off25 v277 k1_t5) a + S1x16.size a ≤ S128x512.size a := fun i v25 v277 k1_hw10 k1_t5 k1_h5 => k1_hw10.1 k1_t5 k1_h5
theorem k1_off27_inb : ∀ (i : grid1.Coords) (v25 : BitVec 32) (v277 : BitVec 32) (k1_hw10 : k1_chk10 i v25 v277) (k1_t5 : Fin k1_t5_loop.trips), ∀ (k1_h5 : k1_cond5 i v25 v277 = 1#1), ∀ a, (k1_off27 v277 k1_t5) a + S1x16.size a ≤ S128x512.size a := fun i v25 v277 k1_hw10 k1_t5 k1_h5 => k1_hw10.2 k1_t5 k1_h5

def k1_off28 (i : grid1.Coords) (v322 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v322 c0_i32_1428
  let v3763 : BitVec 32 := Scalar.extui v3762
  let c0_i32_1429 : BitVec 32 := 0#32
  let v3764 : BitVec 1 := Scalar.cmpi .slt v322 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v322 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v322 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r9 : BitVec 32 := 0#32
  ![v3779.toNat, 0]
def k1_cond6 (i : grid1.Coords) (v25 : BitVec 32) (v320 : BitVec 32) : BitVec 1 :=
  let c5_i32 : BitVec 32 := 5#32
  let v340 : BitVec 1 := Scalar.cmpi .sgt v25 c5_i32
  let c0_i32_124 : BitVec 32 := 0#32
  let v324 : BitVec 1 := Scalar.cmpi .sgt v320 c0_i32_124
  let v325 : BitVec 32 := Scalar.extui v324
  let c0_i32_125 : BitVec 32 := 0#32
  let v326 : BitVec 1 := Scalar.cmpi .slt v320 c0_i32_125
  let v327 : BitVec 32 := Scalar.extui v326
  let v328 : BitVec 32 := Scalar.subi v325 v327
  let c16_i32_123 : BitVec 32 := 16#32
  let c0_i32_126 : BitVec 32 := 0#32
  let v329 : BitVec 1 := Scalar.cmpi .sgt c16_i32_123 c0_i32_126
  let v330 : BitVec 32 := Scalar.extui v329
  let c0_i32_127 : BitVec 32 := 0#32
  let v331 : BitVec 1 := Scalar.cmpi .slt c16_i32_123 c0_i32_127
  let v332 : BitVec 32 := Scalar.extui v331
  let v333 : BitVec 32 := Scalar.subi v330 v332
  let v334 : BitVec 1 := Scalar.cmpi .ne v328 v333
  let v335 : BitVec 32 := Scalar.remsi v320 c16_i32_123
  let c0_i32_128 : BitVec 32 := 0#32
  let v336 : BitVec 1 := Scalar.cmpi .ne v335 c0_i32_128
  let v337 : BitVec 1 := Scalar.andi v334 v336
  let v323 : BitVec 32 := Scalar.divsi v320 c16_i32_123
  let c1_i32_129 : BitVec 32 := 1#32
  let v338 : BitVec 32 := Scalar.subi v323 c1_i32_129
  let v339 : BitVec 32 := Scalar.select v337 v338 v323
  let c0_i32_131 : BitVec 32 := 0#32
  let v342 : BitVec 1 := Scalar.cmpi .sgt v339 c0_i32_131
  let v343 : BitVec 32 := Scalar.extui v342
  let c0_i32_132 : BitVec 32 := 0#32
  let v344 : BitVec 1 := Scalar.cmpi .slt v339 c0_i32_132
  let v345 : BitVec 32 := Scalar.extui v344
  let v346 : BitVec 32 := Scalar.subi v343 v345
  let c4_i32_130 : BitVec 32 := 4#32
  let c0_i32_133 : BitVec 32 := 0#32
  let v347 : BitVec 1 := Scalar.cmpi .sgt c4_i32_130 c0_i32_133
  let v348 : BitVec 32 := Scalar.extui v347
  let c0_i32_134 : BitVec 32 := 0#32
  let v349 : BitVec 1 := Scalar.cmpi .slt c4_i32_130 c0_i32_134
  let v350 : BitVec 32 := Scalar.extui v349
  let v351 : BitVec 32 := Scalar.subi v348 v350
  let v352 : BitVec 1 := Scalar.cmpi .ne v346 v351
  let v353 : BitVec 32 := Scalar.remsi v339 c4_i32_130
  let c0_i32_135 : BitVec 32 := 0#32
  let v354 : BitVec 1 := Scalar.cmpi .ne v353 c0_i32_135
  let v355 : BitVec 1 := Scalar.andi v352 v354
  let v341 : BitVec 32 := Scalar.divsi v339 c4_i32_130
  let c1_i32_136 : BitVec 32 := 1#32
  let v356 : BitVec 32 := Scalar.subi v341 c1_i32_136
  let v357 : BitVec 32 := Scalar.select v355 v356 v341
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v358 : BitVec 1 := Scalar.cmpi .eq v357 v103
  let v359 : BitVec 1 := Scalar.andi v340 v358
  let v360 : BitVec 32 := Scalar.extui v359
  let c0_i32_137 : BitVec 32 := 0#32
  let v361 : BitVec 1 := Scalar.cmpi .ne v360 c0_i32_137
  v361

@[reducible] def k1_t6_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off29 (v322 : BitVec 32) (k1_t6 : Fin k1_t6_loop.trips) : Fin 2 → Nat :=
  let c0_i32_1453 : BitVec 32 := 0#32
  let c1_i32_1455 : BitVec 32 := 1#32
  let arg19 : BitVec 32 := Scf.iv c0_i32_1453 c1_i32_1455 k1_t6
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v322 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off30 (v320 : BitVec 32) (k1_t6 : Fin k1_t6_loop.trips) : Fin 2 → Nat :=
  let c0_i32_124 : BitVec 32 := 0#32
  let v324 : BitVec 1 := Scalar.cmpi .sgt v320 c0_i32_124
  let v325 : BitVec 32 := Scalar.extui v324
  let c0_i32_125 : BitVec 32 := 0#32
  let v326 : BitVec 1 := Scalar.cmpi .slt v320 c0_i32_125
  let v327 : BitVec 32 := Scalar.extui v326
  let v328 : BitVec 32 := Scalar.subi v325 v327
  let c16_i32_123 : BitVec 32 := 16#32
  let c0_i32_126 : BitVec 32 := 0#32
  let v329 : BitVec 1 := Scalar.cmpi .sgt c16_i32_123 c0_i32_126
  let v330 : BitVec 32 := Scalar.extui v329
  let c0_i32_127 : BitVec 32 := 0#32
  let v331 : BitVec 1 := Scalar.cmpi .slt c16_i32_123 c0_i32_127
  let v332 : BitVec 32 := Scalar.extui v331
  let v333 : BitVec 32 := Scalar.subi v330 v332
  let v334 : BitVec 1 := Scalar.cmpi .ne v328 v333
  let v335 : BitVec 32 := Scalar.remsi v320 c16_i32_123
  let c0_i32_128 : BitVec 32 := 0#32
  let v336 : BitVec 1 := Scalar.cmpi .ne v335 c0_i32_128
  let v337 : BitVec 1 := Scalar.andi v334 v336
  let v323 : BitVec 32 := Scalar.divsi v320 c16_i32_123
  let c1_i32_129 : BitVec 32 := 1#32
  let v338 : BitVec 32 := Scalar.subi v323 c1_i32_129
  let v339 : BitVec 32 := Scalar.select v337 v338 v323
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v339 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t6
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v320 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off31 (v322 : BitVec 32) (k1_t6 : Fin k1_t6_loop.trips) : Fin 2 → Nat :=
  let c0_i32_1453 : BitVec 32 := 0#32
  let c1_i32_1455 : BitVec 32 := 1#32
  let arg19 : BitVec 32 := Scf.iv c0_i32_1453 c1_i32_1455 k1_t6
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v322 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk11 (i : grid1.Coords) (v25 : BitVec 32) (v320 : BitVec 32) (v322 : BitVec 32) : Prop :=
  (∀ (k1_h6 : k1_cond6 i v25 v320 = 1#1), ∀ a, (k1_off28 i v322) a + S32x512.size a ≤ S12288x512.size a) ∧
  (∀ k1_t6 : Fin k1_t6_loop.trips, ∀ (k1_h6 : k1_cond6 i v25 v320 = 1#1), ∀ a, (k1_off29 v322 k1_t6) a + S1x16.size a ≤ S32x512.size a) ∧
  (∀ k1_t6 : Fin k1_t6_loop.trips, ∀ (k1_h6 : k1_cond6 i v25 v320 = 1#1), ∀ a, (k1_off31 v322 k1_t6) a + S1x16.size a ≤ S32x512.size a)
theorem k1_off28_inb : ∀ (i : grid1.Coords) (v25 : BitVec 32) (v320 : BitVec 32) (v322 : BitVec 32) (k1_hw11 : k1_chk11 i v25 v320 v322), ∀ (k1_h6 : k1_cond6 i v25 v320 = 1#1), ∀ a, (k1_off28 i v322) a + S32x512.size a ≤ S12288x512.size a := fun i v25 v320 v322 k1_hw11 k1_h6 => k1_hw11.1 k1_h6
theorem k1_off29_inb : ∀ (i : grid1.Coords) (v25 : BitVec 32) (v320 : BitVec 32) (v322 : BitVec 32) (k1_hw11 : k1_chk11 i v25 v320 v322) (k1_t6 : Fin k1_t6_loop.trips), ∀ (k1_h6 : k1_cond6 i v25 v320 = 1#1), ∀ a, (k1_off29 v322 k1_t6) a + S1x16.size a ≤ S32x512.size a := fun i v25 v320 v322 k1_hw11 k1_t6 k1_h6 => k1_hw11.2.1 k1_t6 k1_h6
theorem k1_off31_inb : ∀ (i : grid1.Coords) (v25 : BitVec 32) (v320 : BitVec 32) (v322 : BitVec 32) (k1_hw11 : k1_chk11 i v25 v320 v322) (k1_t6 : Fin k1_t6_loop.trips), ∀ (k1_h6 : k1_cond6 i v25 v320 = 1#1), ∀ a, (k1_off31 v322 k1_t6) a + S1x16.size a ≤ S32x512.size a := fun i v25 v320 v322 k1_hw11 k1_t6 k1_h6 => k1_hw11.2.2 k1_t6 k1_h6

def k1_off32 (v320 : BitVec 32) (k1_t6 : Fin k1_t6_loop.trips) : Fin 2 → Nat :=
  let c0_i32_124 : BitVec 32 := 0#32
  let v324 : BitVec 1 := Scalar.cmpi .sgt v320 c0_i32_124
  let v325 : BitVec 32 := Scalar.extui v324
  let c0_i32_125 : BitVec 32 := 0#32
  let v326 : BitVec 1 := Scalar.cmpi .slt v320 c0_i32_125
  let v327 : BitVec 32 := Scalar.extui v326
  let v328 : BitVec 32 := Scalar.subi v325 v327
  let c16_i32_123 : BitVec 32 := 16#32
  let c0_i32_126 : BitVec 32 := 0#32
  let v329 : BitVec 1 := Scalar.cmpi .sgt c16_i32_123 c0_i32_126
  let v330 : BitVec 32 := Scalar.extui v329
  let c0_i32_127 : BitVec 32 := 0#32
  let v331 : BitVec 1 := Scalar.cmpi .slt c16_i32_123 c0_i32_127
  let v332 : BitVec 32 := Scalar.extui v331
  let v333 : BitVec 32 := Scalar.subi v330 v332
  let v334 : BitVec 1 := Scalar.cmpi .ne v328 v333
  let v335 : BitVec 32 := Scalar.remsi v320 c16_i32_123
  let c0_i32_128 : BitVec 32 := 0#32
  let v336 : BitVec 1 := Scalar.cmpi .ne v335 c0_i32_128
  let v337 : BitVec 1 := Scalar.andi v334 v336
  let v323 : BitVec 32 := Scalar.divsi v320 c16_i32_123
  let c1_i32_129 : BitVec 32 := 1#32
  let v338 : BitVec 32 := Scalar.subi v323 c1_i32_129
  let v339 : BitVec 32 := Scalar.select v337 v338 v323
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v339 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t6
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v320 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk12 (i : grid1.Coords) (v25 : BitVec 32) (v320 : BitVec 32) : Prop :=
  (∀ k1_t6 : Fin k1_t6_loop.trips, ∀ (k1_h6 : k1_cond6 i v25 v320 = 1#1), ∀ a, (k1_off30 v320 k1_t6) a + S1x16.size a ≤ S128x512.size a) ∧
  (∀ k1_t6 : Fin k1_t6_loop.trips, ∀ (k1_h6 : k1_cond6 i v25 v320 = 1#1), ∀ a, (k1_off32 v320 k1_t6) a + S1x16.size a ≤ S128x512.size a)
theorem k1_off30_inb : ∀ (i : grid1.Coords) (v25 : BitVec 32) (v320 : BitVec 32) (k1_hw12 : k1_chk12 i v25 v320) (k1_t6 : Fin k1_t6_loop.trips), ∀ (k1_h6 : k1_cond6 i v25 v320 = 1#1), ∀ a, (k1_off30 v320 k1_t6) a + S1x16.size a ≤ S128x512.size a := fun i v25 v320 k1_hw12 k1_t6 k1_h6 => k1_hw12.1 k1_t6 k1_h6
theorem k1_off32_inb : ∀ (i : grid1.Coords) (v25 : BitVec 32) (v320 : BitVec 32) (k1_hw12 : k1_chk12 i v25 v320) (k1_t6 : Fin k1_t6_loop.trips), ∀ (k1_h6 : k1_cond6 i v25 v320 = 1#1), ∀ a, (k1_off32 v320 k1_t6) a + S1x16.size a ≤ S128x512.size a := fun i v25 v320 k1_hw12 k1_t6 k1_h6 => k1_hw12.2 k1_t6 k1_h6

def k1_off33 (i : grid1.Coords) (v365 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v365 c0_i32_1428
  let v3763 : BitVec 32 := Scalar.extui v3762
  let c0_i32_1429 : BitVec 32 := 0#32
  let v3764 : BitVec 1 := Scalar.cmpi .slt v365 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v365 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v365 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r10 : BitVec 32 := 0#32
  ![v3779.toNat, 0]
def k1_cond7 (i : grid1.Coords) (v25 : BitVec 32) (v363 : BitVec 32) : BitVec 1 :=
  let c6_i32 : BitVec 32 := 6#32
  let v383 : BitVec 1 := Scalar.cmpi .sgt v25 c6_i32
  let c0_i32_139 : BitVec 32 := 0#32
  let v367 : BitVec 1 := Scalar.cmpi .sgt v363 c0_i32_139
  let v368 : BitVec 32 := Scalar.extui v367
  let c0_i32_140 : BitVec 32 := 0#32
  let v369 : BitVec 1 := Scalar.cmpi .slt v363 c0_i32_140
  let v370 : BitVec 32 := Scalar.extui v369
  let v371 : BitVec 32 := Scalar.subi v368 v370
  let c16_i32_138 : BitVec 32 := 16#32
  let c0_i32_141 : BitVec 32 := 0#32
  let v372 : BitVec 1 := Scalar.cmpi .sgt c16_i32_138 c0_i32_141
  let v373 : BitVec 32 := Scalar.extui v372
  let c0_i32_142 : BitVec 32 := 0#32
  let v374 : BitVec 1 := Scalar.cmpi .slt c16_i32_138 c0_i32_142
  let v375 : BitVec 32 := Scalar.extui v374
  let v376 : BitVec 32 := Scalar.subi v373 v375
  let v377 : BitVec 1 := Scalar.cmpi .ne v371 v376
  let v378 : BitVec 32 := Scalar.remsi v363 c16_i32_138
  let c0_i32_143 : BitVec 32 := 0#32
  let v379 : BitVec 1 := Scalar.cmpi .ne v378 c0_i32_143
  let v380 : BitVec 1 := Scalar.andi v377 v379
  let v366 : BitVec 32 := Scalar.divsi v363 c16_i32_138
  let c1_i32_144 : BitVec 32 := 1#32
  let v381 : BitVec 32 := Scalar.subi v366 c1_i32_144
  let v382 : BitVec 32 := Scalar.select v380 v381 v366
  let c0_i32_146 : BitVec 32 := 0#32
  let v385 : BitVec 1 := Scalar.cmpi .sgt v382 c0_i32_146
  let v386 : BitVec 32 := Scalar.extui v385
  let c0_i32_147 : BitVec 32 := 0#32
  let v387 : BitVec 1 := Scalar.cmpi .slt v382 c0_i32_147
  let v388 : BitVec 32 := Scalar.extui v387
  let v389 : BitVec 32 := Scalar.subi v386 v388
  let c4_i32_145 : BitVec 32 := 4#32
  let c0_i32_148 : BitVec 32 := 0#32
  let v390 : BitVec 1 := Scalar.cmpi .sgt c4_i32_145 c0_i32_148
  let v391 : BitVec 32 := Scalar.extui v390
  let c0_i32_149 : BitVec 32 := 0#32
  let v392 : BitVec 1 := Scalar.cmpi .slt c4_i32_145 c0_i32_149
  let v393 : BitVec 32 := Scalar.extui v392
  let v394 : BitVec 32 := Scalar.subi v391 v393
  let v395 : BitVec 1 := Scalar.cmpi .ne v389 v394
  let v396 : BitVec 32 := Scalar.remsi v382 c4_i32_145
  let c0_i32_150 : BitVec 32 := 0#32
  let v397 : BitVec 1 := Scalar.cmpi .ne v396 c0_i32_150
  let v398 : BitVec 1 := Scalar.andi v395 v397
  let v384 : BitVec 32 := Scalar.divsi v382 c4_i32_145
  let c1_i32_151 : BitVec 32 := 1#32
  let v399 : BitVec 32 := Scalar.subi v384 c1_i32_151
  let v400 : BitVec 32 := Scalar.select v398 v399 v384
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v401 : BitVec 1 := Scalar.cmpi .eq v400 v103
  let v402 : BitVec 1 := Scalar.andi v383 v401
  let v403 : BitVec 32 := Scalar.extui v402
  let c0_i32_152 : BitVec 32 := 0#32
  let v404 : BitVec 1 := Scalar.cmpi .ne v403 c0_i32_152
  v404

@[reducible] def k1_t7_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off34 (v365 : BitVec 32) (k1_t7 : Fin k1_t7_loop.trips) : Fin 2 → Nat :=
  let c0_i32_1453 : BitVec 32 := 0#32
  let c1_i32_1455 : BitVec 32 := 1#32
  let arg19 : BitVec 32 := Scf.iv c0_i32_1453 c1_i32_1455 k1_t7
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v365 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off35 (v363 : BitVec 32) (k1_t7 : Fin k1_t7_loop.trips) : Fin 2 → Nat :=
  let c0_i32_139 : BitVec 32 := 0#32
  let v367 : BitVec 1 := Scalar.cmpi .sgt v363 c0_i32_139
  let v368 : BitVec 32 := Scalar.extui v367
  let c0_i32_140 : BitVec 32 := 0#32
  let v369 : BitVec 1 := Scalar.cmpi .slt v363 c0_i32_140
  let v370 : BitVec 32 := Scalar.extui v369
  let v371 : BitVec 32 := Scalar.subi v368 v370
  let c16_i32_138 : BitVec 32 := 16#32
  let c0_i32_141 : BitVec 32 := 0#32
  let v372 : BitVec 1 := Scalar.cmpi .sgt c16_i32_138 c0_i32_141
  let v373 : BitVec 32 := Scalar.extui v372
  let c0_i32_142 : BitVec 32 := 0#32
  let v374 : BitVec 1 := Scalar.cmpi .slt c16_i32_138 c0_i32_142
  let v375 : BitVec 32 := Scalar.extui v374
  let v376 : BitVec 32 := Scalar.subi v373 v375
  let v377 : BitVec 1 := Scalar.cmpi .ne v371 v376
  let v378 : BitVec 32 := Scalar.remsi v363 c16_i32_138
  let c0_i32_143 : BitVec 32 := 0#32
  let v379 : BitVec 1 := Scalar.cmpi .ne v378 c0_i32_143
  let v380 : BitVec 1 := Scalar.andi v377 v379
  let v366 : BitVec 32 := Scalar.divsi v363 c16_i32_138
  let c1_i32_144 : BitVec 32 := 1#32
  let v381 : BitVec 32 := Scalar.subi v366 c1_i32_144
  let v382 : BitVec 32 := Scalar.select v380 v381 v366
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v382 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t7
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v363 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off36 (v365 : BitVec 32) (k1_t7 : Fin k1_t7_loop.trips) : Fin 2 → Nat :=
  let c0_i32_1453 : BitVec 32 := 0#32
  let c1_i32_1455 : BitVec 32 := 1#32
  let arg19 : BitVec 32 := Scf.iv c0_i32_1453 c1_i32_1455 k1_t7
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v365 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk13 (i : grid1.Coords) (v25 : BitVec 32) (v363 : BitVec 32) (v365 : BitVec 32) : Prop :=
  (∀ (k1_h7 : k1_cond7 i v25 v363 = 1#1), ∀ a, (k1_off33 i v365) a + S32x512.size a ≤ S12288x512.size a) ∧
  (∀ k1_t7 : Fin k1_t7_loop.trips, ∀ (k1_h7 : k1_cond7 i v25 v363 = 1#1), ∀ a, (k1_off34 v365 k1_t7) a + S1x16.size a ≤ S32x512.size a) ∧
  (∀ k1_t7 : Fin k1_t7_loop.trips, ∀ (k1_h7 : k1_cond7 i v25 v363 = 1#1), ∀ a, (k1_off36 v365 k1_t7) a + S1x16.size a ≤ S32x512.size a)
theorem k1_off33_inb : ∀ (i : grid1.Coords) (v25 : BitVec 32) (v363 : BitVec 32) (v365 : BitVec 32) (k1_hw13 : k1_chk13 i v25 v363 v365), ∀ (k1_h7 : k1_cond7 i v25 v363 = 1#1), ∀ a, (k1_off33 i v365) a + S32x512.size a ≤ S12288x512.size a := fun i v25 v363 v365 k1_hw13 k1_h7 => k1_hw13.1 k1_h7
theorem k1_off34_inb : ∀ (i : grid1.Coords) (v25 : BitVec 32) (v363 : BitVec 32) (v365 : BitVec 32) (k1_hw13 : k1_chk13 i v25 v363 v365) (k1_t7 : Fin k1_t7_loop.trips), ∀ (k1_h7 : k1_cond7 i v25 v363 = 1#1), ∀ a, (k1_off34 v365 k1_t7) a + S1x16.size a ≤ S32x512.size a := fun i v25 v363 v365 k1_hw13 k1_t7 k1_h7 => k1_hw13.2.1 k1_t7 k1_h7
theorem k1_off36_inb : ∀ (i : grid1.Coords) (v25 : BitVec 32) (v363 : BitVec 32) (v365 : BitVec 32) (k1_hw13 : k1_chk13 i v25 v363 v365) (k1_t7 : Fin k1_t7_loop.trips), ∀ (k1_h7 : k1_cond7 i v25 v363 = 1#1), ∀ a, (k1_off36 v365 k1_t7) a + S1x16.size a ≤ S32x512.size a := fun i v25 v363 v365 k1_hw13 k1_t7 k1_h7 => k1_hw13.2.2 k1_t7 k1_h7

def k1_off37 (v363 : BitVec 32) (k1_t7 : Fin k1_t7_loop.trips) : Fin 2 → Nat :=
  let c0_i32_139 : BitVec 32 := 0#32
  let v367 : BitVec 1 := Scalar.cmpi .sgt v363 c0_i32_139
  let v368 : BitVec 32 := Scalar.extui v367
  let c0_i32_140 : BitVec 32 := 0#32
  let v369 : BitVec 1 := Scalar.cmpi .slt v363 c0_i32_140
  let v370 : BitVec 32 := Scalar.extui v369
  let v371 : BitVec 32 := Scalar.subi v368 v370
  let c16_i32_138 : BitVec 32 := 16#32
  let c0_i32_141 : BitVec 32 := 0#32
  let v372 : BitVec 1 := Scalar.cmpi .sgt c16_i32_138 c0_i32_141
  let v373 : BitVec 32 := Scalar.extui v372
  let c0_i32_142 : BitVec 32 := 0#32
  let v374 : BitVec 1 := Scalar.cmpi .slt c16_i32_138 c0_i32_142
  let v375 : BitVec 32 := Scalar.extui v374
  let v376 : BitVec 32 := Scalar.subi v373 v375
  let v377 : BitVec 1 := Scalar.cmpi .ne v371 v376
  let v378 : BitVec 32 := Scalar.remsi v363 c16_i32_138
  let c0_i32_143 : BitVec 32 := 0#32
  let v379 : BitVec 1 := Scalar.cmpi .ne v378 c0_i32_143
  let v380 : BitVec 1 := Scalar.andi v377 v379
  let v366 : BitVec 32 := Scalar.divsi v363 c16_i32_138
  let c1_i32_144 : BitVec 32 := 1#32
  let v381 : BitVec 32 := Scalar.subi v366 c1_i32_144
  let v382 : BitVec 32 := Scalar.select v380 v381 v366
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v382 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t7
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v363 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk14 (i : grid1.Coords) (v25 : BitVec 32) (v363 : BitVec 32) : Prop :=
  (∀ k1_t7 : Fin k1_t7_loop.trips, ∀ (k1_h7 : k1_cond7 i v25 v363 = 1#1), ∀ a, (k1_off35 v363 k1_t7) a + S1x16.size a ≤ S128x512.size a) ∧
  (∀ k1_t7 : Fin k1_t7_loop.trips, ∀ (k1_h7 : k1_cond7 i v25 v363 = 1#1), ∀ a, (k1_off37 v363 k1_t7) a + S1x16.size a ≤ S128x512.size a)
theorem k1_off35_inb : ∀ (i : grid1.Coords) (v25 : BitVec 32) (v363 : BitVec 32) (k1_hw14 : k1_chk14 i v25 v363) (k1_t7 : Fin k1_t7_loop.trips), ∀ (k1_h7 : k1_cond7 i v25 v363 = 1#1), ∀ a, (k1_off35 v363 k1_t7) a + S1x16.size a ≤ S128x512.size a := fun i v25 v363 k1_hw14 k1_t7 k1_h7 => k1_hw14.1 k1_t7 k1_h7
theorem k1_off37_inb : ∀ (i : grid1.Coords) (v25 : BitVec 32) (v363 : BitVec 32) (k1_hw14 : k1_chk14 i v25 v363) (k1_t7 : Fin k1_t7_loop.trips), ∀ (k1_h7 : k1_cond7 i v25 v363 = 1#1), ∀ a, (k1_off37 v363 k1_t7) a + S1x16.size a ≤ S128x512.size a := fun i v25 v363 k1_hw14 k1_t7 k1_h7 => k1_hw14.2 k1_t7 k1_h7

def k1_off38 (i : grid1.Coords) (v408 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v408 c0_i32_1428
  let v3763 : BitVec 32 := Scalar.extui v3762
  let c0_i32_1429 : BitVec 32 := 0#32
  let v3764 : BitVec 1 := Scalar.cmpi .slt v408 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v408 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v408 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r11 : BitVec 32 := 0#32
  ![v3779.toNat, 0]
def k1_cond8 (i : grid1.Coords) (v25 : BitVec 32) (v406 : BitVec 32) : BitVec 1 :=
  let c7_i32 : BitVec 32 := 7#32
  let v426 : BitVec 1 := Scalar.cmpi .sgt v25 c7_i32
  let c0_i32_154 : BitVec 32 := 0#32
  let v410 : BitVec 1 := Scalar.cmpi .sgt v406 c0_i32_154
  let v411 : BitVec 32 := Scalar.extui v410
  let c0_i32_155 : BitVec 32 := 0#32
  let v412 : BitVec 1 := Scalar.cmpi .slt v406 c0_i32_155
  let v413 : BitVec 32 := Scalar.extui v412
  let v414 : BitVec 32 := Scalar.subi v411 v413
  let c16_i32_153 : BitVec 32 := 16#32
  let c0_i32_156 : BitVec 32 := 0#32
  let v415 : BitVec 1 := Scalar.cmpi .sgt c16_i32_153 c0_i32_156
  let v416 : BitVec 32 := Scalar.extui v415
  let c0_i32_157 : BitVec 32 := 0#32
  let v417 : BitVec 1 := Scalar.cmpi .slt c16_i32_153 c0_i32_157
  let v418 : BitVec 32 := Scalar.extui v417
  let v419 : BitVec 32 := Scalar.subi v416 v418
  let v420 : BitVec 1 := Scalar.cmpi .ne v414 v419
  let v421 : BitVec 32 := Scalar.remsi v406 c16_i32_153
  let c0_i32_158 : BitVec 32 := 0#32
  let v422 : BitVec 1 := Scalar.cmpi .ne v421 c0_i32_158
  let v423 : BitVec 1 := Scalar.andi v420 v422
  let v409 : BitVec 32 := Scalar.divsi v406 c16_i32_153
  let c1_i32_159 : BitVec 32 := 1#32
  let v424 : BitVec 32 := Scalar.subi v409 c1_i32_159
  let v425 : BitVec 32 := Scalar.select v423 v424 v409
  let c0_i32_161 : BitVec 32 := 0#32
  let v428 : BitVec 1 := Scalar.cmpi .sgt v425 c0_i32_161
  let v429 : BitVec 32 := Scalar.extui v428
  let c0_i32_162 : BitVec 32 := 0#32
  let v430 : BitVec 1 := Scalar.cmpi .slt v425 c0_i32_162
  let v431 : BitVec 32 := Scalar.extui v430
  let v432 : BitVec 32 := Scalar.subi v429 v431
  let c4_i32_160 : BitVec 32 := 4#32
  let c0_i32_163 : BitVec 32 := 0#32
  let v433 : BitVec 1 := Scalar.cmpi .sgt c4_i32_160 c0_i32_163
  let v434 : BitVec 32 := Scalar.extui v433
  let c0_i32_164 : BitVec 32 := 0#32
  let v435 : BitVec 1 := Scalar.cmpi .slt c4_i32_160 c0_i32_164
  let v436 : BitVec 32 := Scalar.extui v435
  let v437 : BitVec 32 := Scalar.subi v434 v436
  let v438 : BitVec 1 := Scalar.cmpi .ne v432 v437
  let v439 : BitVec 32 := Scalar.remsi v425 c4_i32_160
  let c0_i32_165 : BitVec 32 := 0#32
  let v440 : BitVec 1 := Scalar.cmpi .ne v439 c0_i32_165
  let v441 : BitVec 1 := Scalar.andi v438 v440
  let v427 : BitVec 32 := Scalar.divsi v425 c4_i32_160
  let c1_i32_166 : BitVec 32 := 1#32
  let v442 : BitVec 32 := Scalar.subi v427 c1_i32_166
  let v443 : BitVec 32 := Scalar.select v441 v442 v427
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v444 : BitVec 1 := Scalar.cmpi .eq v443 v103
  let v445 : BitVec 1 := Scalar.andi v426 v444
  let v446 : BitVec 32 := Scalar.extui v445
  let c0_i32_167 : BitVec 32 := 0#32
  let v447 : BitVec 1 := Scalar.cmpi .ne v446 c0_i32_167
  v447

@[reducible] def k1_t8_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off39 (v408 : BitVec 32) (k1_t8 : Fin k1_t8_loop.trips) : Fin 2 → Nat :=
  let c0_i32_1453 : BitVec 32 := 0#32
  let c1_i32_1455 : BitVec 32 := 1#32
  let arg19 : BitVec 32 := Scf.iv c0_i32_1453 c1_i32_1455 k1_t8
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v408 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off40 (v406 : BitVec 32) (k1_t8 : Fin k1_t8_loop.trips) : Fin 2 → Nat :=
  let c0_i32_154 : BitVec 32 := 0#32
  let v410 : BitVec 1 := Scalar.cmpi .sgt v406 c0_i32_154
  let v411 : BitVec 32 := Scalar.extui v410
  let c0_i32_155 : BitVec 32 := 0#32
  let v412 : BitVec 1 := Scalar.cmpi .slt v406 c0_i32_155
  let v413 : BitVec 32 := Scalar.extui v412
  let v414 : BitVec 32 := Scalar.subi v411 v413
  let c16_i32_153 : BitVec 32 := 16#32
  let c0_i32_156 : BitVec 32 := 0#32
  let v415 : BitVec 1 := Scalar.cmpi .sgt c16_i32_153 c0_i32_156
  let v416 : BitVec 32 := Scalar.extui v415
  let c0_i32_157 : BitVec 32 := 0#32
  let v417 : BitVec 1 := Scalar.cmpi .slt c16_i32_153 c0_i32_157
  let v418 : BitVec 32 := Scalar.extui v417
  let v419 : BitVec 32 := Scalar.subi v416 v418
  let v420 : BitVec 1 := Scalar.cmpi .ne v414 v419
  let v421 : BitVec 32 := Scalar.remsi v406 c16_i32_153
  let c0_i32_158 : BitVec 32 := 0#32
  let v422 : BitVec 1 := Scalar.cmpi .ne v421 c0_i32_158
  let v423 : BitVec 1 := Scalar.andi v420 v422
  let v409 : BitVec 32 := Scalar.divsi v406 c16_i32_153
  let c1_i32_159 : BitVec 32 := 1#32
  let v424 : BitVec 32 := Scalar.subi v409 c1_i32_159
  let v425 : BitVec 32 := Scalar.select v423 v424 v409
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v425 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t8
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v406 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off41 (v408 : BitVec 32) (k1_t8 : Fin k1_t8_loop.trips) : Fin 2 → Nat :=
  let c0_i32_1453 : BitVec 32 := 0#32
  let c1_i32_1455 : BitVec 32 := 1#32
  let arg19 : BitVec 32 := Scf.iv c0_i32_1453 c1_i32_1455 k1_t8
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v408 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk15 (i : grid1.Coords) (v25 : BitVec 32) (v406 : BitVec 32) (v408 : BitVec 32) : Prop :=
  (∀ (k1_h8 : k1_cond8 i v25 v406 = 1#1), ∀ a, (k1_off38 i v408) a + S32x512.size a ≤ S12288x512.size a) ∧
  (∀ k1_t8 : Fin k1_t8_loop.trips, ∀ (k1_h8 : k1_cond8 i v25 v406 = 1#1), ∀ a, (k1_off39 v408 k1_t8) a + S1x16.size a ≤ S32x512.size a) ∧
  (∀ k1_t8 : Fin k1_t8_loop.trips, ∀ (k1_h8 : k1_cond8 i v25 v406 = 1#1), ∀ a, (k1_off41 v408 k1_t8) a + S1x16.size a ≤ S32x512.size a)
theorem k1_off38_inb : ∀ (i : grid1.Coords) (v25 : BitVec 32) (v406 : BitVec 32) (v408 : BitVec 32) (k1_hw15 : k1_chk15 i v25 v406 v408), ∀ (k1_h8 : k1_cond8 i v25 v406 = 1#1), ∀ a, (k1_off38 i v408) a + S32x512.size a ≤ S12288x512.size a := fun i v25 v406 v408 k1_hw15 k1_h8 => k1_hw15.1 k1_h8
theorem k1_off39_inb : ∀ (i : grid1.Coords) (v25 : BitVec 32) (v406 : BitVec 32) (v408 : BitVec 32) (k1_hw15 : k1_chk15 i v25 v406 v408) (k1_t8 : Fin k1_t8_loop.trips), ∀ (k1_h8 : k1_cond8 i v25 v406 = 1#1), ∀ a, (k1_off39 v408 k1_t8) a + S1x16.size a ≤ S32x512.size a := fun i v25 v406 v408 k1_hw15 k1_t8 k1_h8 => k1_hw15.2.1 k1_t8 k1_h8
theorem k1_off41_inb : ∀ (i : grid1.Coords) (v25 : BitVec 32) (v406 : BitVec 32) (v408 : BitVec 32) (k1_hw15 : k1_chk15 i v25 v406 v408) (k1_t8 : Fin k1_t8_loop.trips), ∀ (k1_h8 : k1_cond8 i v25 v406 = 1#1), ∀ a, (k1_off41 v408 k1_t8) a + S1x16.size a ≤ S32x512.size a := fun i v25 v406 v408 k1_hw15 k1_t8 k1_h8 => k1_hw15.2.2 k1_t8 k1_h8

def k1_off42 (v406 : BitVec 32) (k1_t8 : Fin k1_t8_loop.trips) : Fin 2 → Nat :=
  let c0_i32_154 : BitVec 32 := 0#32
  let v410 : BitVec 1 := Scalar.cmpi .sgt v406 c0_i32_154
  let v411 : BitVec 32 := Scalar.extui v410
  let c0_i32_155 : BitVec 32 := 0#32
  let v412 : BitVec 1 := Scalar.cmpi .slt v406 c0_i32_155
  let v413 : BitVec 32 := Scalar.extui v412
  let v414 : BitVec 32 := Scalar.subi v411 v413
  let c16_i32_153 : BitVec 32 := 16#32
  let c0_i32_156 : BitVec 32 := 0#32
  let v415 : BitVec 1 := Scalar.cmpi .sgt c16_i32_153 c0_i32_156
  let v416 : BitVec 32 := Scalar.extui v415
  let c0_i32_157 : BitVec 32 := 0#32
  let v417 : BitVec 1 := Scalar.cmpi .slt c16_i32_153 c0_i32_157
  let v418 : BitVec 32 := Scalar.extui v417
  let v419 : BitVec 32 := Scalar.subi v416 v418
  let v420 : BitVec 1 := Scalar.cmpi .ne v414 v419
  let v421 : BitVec 32 := Scalar.remsi v406 c16_i32_153
  let c0_i32_158 : BitVec 32 := 0#32
  let v422 : BitVec 1 := Scalar.cmpi .ne v421 c0_i32_158
  let v423 : BitVec 1 := Scalar.andi v420 v422
  let v409 : BitVec 32 := Scalar.divsi v406 c16_i32_153
  let c1_i32_159 : BitVec 32 := 1#32
  let v424 : BitVec 32 := Scalar.subi v409 c1_i32_159
  let v425 : BitVec 32 := Scalar.select v423 v424 v409
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v425 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t8
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v406 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk16 (i : grid1.Coords) (v25 : BitVec 32) (v406 : BitVec 32) : Prop :=
  (∀ k1_t8 : Fin k1_t8_loop.trips, ∀ (k1_h8 : k1_cond8 i v25 v406 = 1#1), ∀ a, (k1_off40 v406 k1_t8) a + S1x16.size a ≤ S128x512.size a) ∧
  (∀ k1_t8 : Fin k1_t8_loop.trips, ∀ (k1_h8 : k1_cond8 i v25 v406 = 1#1), ∀ a, (k1_off42 v406 k1_t8) a + S1x16.size a ≤ S128x512.size a)
theorem k1_off40_inb : ∀ (i : grid1.Coords) (v25 : BitVec 32) (v406 : BitVec 32) (k1_hw16 : k1_chk16 i v25 v406) (k1_t8 : Fin k1_t8_loop.trips), ∀ (k1_h8 : k1_cond8 i v25 v406 = 1#1), ∀ a, (k1_off40 v406 k1_t8) a + S1x16.size a ≤ S128x512.size a := fun i v25 v406 k1_hw16 k1_t8 k1_h8 => k1_hw16.1 k1_t8 k1_h8
theorem k1_off42_inb : ∀ (i : grid1.Coords) (v25 : BitVec 32) (v406 : BitVec 32) (k1_hw16 : k1_chk16 i v25 v406) (k1_t8 : Fin k1_t8_loop.trips), ∀ (k1_h8 : k1_cond8 i v25 v406 = 1#1), ∀ a, (k1_off42 v406 k1_t8) a + S1x16.size a ≤ S128x512.size a := fun i v25 v406 k1_hw16 k1_t8 k1_h8 => k1_hw16.2 k1_t8 k1_h8

def k1_off43 (i : grid1.Coords) (v451 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v451 c0_i32_1428
  let v3763 : BitVec 32 := Scalar.extui v3762
  let c0_i32_1429 : BitVec 32 := 0#32
  let v3764 : BitVec 1 := Scalar.cmpi .slt v451 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v451 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v451 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r12 : BitVec 32 := 0#32
  ![v3779.toNat, 0]
def k1_cond9 (i : grid1.Coords) (v25 : BitVec 32) (v449 : BitVec 32) : BitVec 1 :=
  let c8_i32 : BitVec 32 := 8#32
  let v469 : BitVec 1 := Scalar.cmpi .sgt v25 c8_i32
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c16_i32_168 : BitVec 32 := 16#32
  let c0_i32_171 : BitVec 32 := 0#32
  let v458 : BitVec 1 := Scalar.cmpi .sgt c16_i32_168 c0_i32_171
  let v459 : BitVec 32 := Scalar.extui v458
  let c0_i32_172 : BitVec 32 := 0#32
  let v460 : BitVec 1 := Scalar.cmpi .slt c16_i32_168 c0_i32_172
  let v461 : BitVec 32 := Scalar.extui v460
  let v462 : BitVec 32 := Scalar.subi v459 v461
  let v463 : BitVec 1 := Scalar.cmpi .ne v457 v462
  let v464 : BitVec 32 := Scalar.remsi v449 c16_i32_168
  let c0_i32_173 : BitVec 32 := 0#32
  let v465 : BitVec 1 := Scalar.cmpi .ne v464 c0_i32_173
  let v466 : BitVec 1 := Scalar.andi v463 v465
  let v452 : BitVec 32 := Scalar.divsi v449 c16_i32_168
  let c1_i32_174 : BitVec 32 := 1#32
  let v467 : BitVec 32 := Scalar.subi v452 c1_i32_174
  let v468 : BitVec 32 := Scalar.select v466 v467 v452
  let c0_i32_176 : BitVec 32 := 0#32
  let v471 : BitVec 1 := Scalar.cmpi .sgt v468 c0_i32_176
  let v472 : BitVec 32 := Scalar.extui v471
  let c0_i32_177 : BitVec 32 := 0#32
  let v473 : BitVec 1 := Scalar.cmpi .slt v468 c0_i32_177
  let v474 : BitVec 32 := Scalar.extui v473
  let v475 : BitVec 32 := Scalar.subi v472 v474
  let c4_i32_175 : BitVec 32 := 4#32
  let c0_i32_178 : BitVec 32 := 0#32
  let v476 : BitVec 1 := Scalar.cmpi .sgt c4_i32_175 c0_i32_178
  let v477 : BitVec 32 := Scalar.extui v476
  let c0_i32_179 : BitVec 32 := 0#32
  let v478 : BitVec 1 := Scalar.cmpi .slt c4_i32_175 c0_i32_179
  let v479 : BitVec 32 := Scalar.extui v478
  let v480 : BitVec 32 := Scalar.subi v477 v479
  let v481 : BitVec 1 := Scalar.cmpi .ne v475 v480
  let v482 : BitVec 32 := Scalar.remsi v468 c4_i32_175
  let c0_i32_180 : BitVec 32 := 0#32
  let v483 : BitVec 1 := Scalar.cmpi .ne v482 c0_i32_180
  let v484 : BitVec 1 := Scalar.andi v481 v483
  let v470 : BitVec 32 := Scalar.divsi v468 c4_i32_175
  let c1_i32_181 : BitVec 32 := 1#32
  let v485 : BitVec 32 := Scalar.subi v470 c1_i32_181
  let v486 : BitVec 32 := Scalar.select v484 v485 v470
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v487 : BitVec 1 := Scalar.cmpi .eq v486 v103
  let v488 : BitVec 1 := Scalar.andi v469 v487
  let v489 : BitVec 32 := Scalar.extui v488
  let c0_i32_182 : BitVec 32 := 0#32
  let v490 : BitVec 1 := Scalar.cmpi .ne v489 c0_i32_182
  v490

@[reducible] def k1_t9_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off44 (v451 : BitVec 32) (k1_t9 : Fin k1_t9_loop.trips) : Fin 2 → Nat :=
  let c0_i32_1453 : BitVec 32 := 0#32
  let c1_i32_1455 : BitVec 32 := 1#32
  let arg19 : BitVec 32 := Scf.iv c0_i32_1453 c1_i32_1455 k1_t9
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v451 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off45 (v449 : BitVec 32) (k1_t9 : Fin k1_t9_loop.trips) : Fin 2 → Nat :=
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c16_i32_168 : BitVec 32 := 16#32
  let c0_i32_171 : BitVec 32 := 0#32
  let v458 : BitVec 1 := Scalar.cmpi .sgt c16_i32_168 c0_i32_171
  let v459 : BitVec 32 := Scalar.extui v458
  let c0_i32_172 : BitVec 32 := 0#32
  let v460 : BitVec 1 := Scalar.cmpi .slt c16_i32_168 c0_i32_172
  let v461 : BitVec 32 := Scalar.extui v460
  let v462 : BitVec 32 := Scalar.subi v459 v461
  let v463 : BitVec 1 := Scalar.cmpi .ne v457 v462
  let v464 : BitVec 32 := Scalar.remsi v449 c16_i32_168
  let c0_i32_173 : BitVec 32 := 0#32
  let v465 : BitVec 1 := Scalar.cmpi .ne v464 c0_i32_173
  let v466 : BitVec 1 := Scalar.andi v463 v465
  let v452 : BitVec 32 := Scalar.divsi v449 c16_i32_168
  let c1_i32_174 : BitVec 32 := 1#32
  let v467 : BitVec 32 := Scalar.subi v452 c1_i32_174
  let v468 : BitVec 32 := Scalar.select v466 v467 v452
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v468 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t9
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v449 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off46 (v451 : BitVec 32) (k1_t9 : Fin k1_t9_loop.trips) : Fin 2 → Nat :=
  let c0_i32_1453 : BitVec 32 := 0#32
  let c1_i32_1455 : BitVec 32 := 1#32
  let arg19 : BitVec 32 := Scf.iv c0_i32_1453 c1_i32_1455 k1_t9
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v451 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk17 (i : grid1.Coords) (v25 : BitVec 32) (v449 : BitVec 32) (v451 : BitVec 32) : Prop :=
  (∀ (k1_h9 : k1_cond9 i v25 v449 = 1#1), ∀ a, (k1_off43 i v451) a + S32x512.size a ≤ S12288x512.size a) ∧
  (∀ k1_t9 : Fin k1_t9_loop.trips, ∀ (k1_h9 : k1_cond9 i v25 v449 = 1#1), ∀ a, (k1_off44 v451 k1_t9) a + S1x16.size a ≤ S32x512.size a) ∧
  (∀ k1_t9 : Fin k1_t9_loop.trips, ∀ (k1_h9 : k1_cond9 i v25 v449 = 1#1), ∀ a, (k1_off46 v451 k1_t9) a + S1x16.size a ≤ S32x512.size a)
theorem k1_off43_inb : ∀ (i : grid1.Coords) (v25 : BitVec 32) (v449 : BitVec 32) (v451 : BitVec 32) (k1_hw17 : k1_chk17 i v25 v449 v451), ∀ (k1_h9 : k1_cond9 i v25 v449 = 1#1), ∀ a, (k1_off43 i v451) a + S32x512.size a ≤ S12288x512.size a := fun i v25 v449 v451 k1_hw17 k1_h9 => k1_hw17.1 k1_h9
theorem k1_off44_inb : ∀ (i : grid1.Coords) (v25 : BitVec 32) (v449 : BitVec 32) (v451 : BitVec 32) (k1_hw17 : k1_chk17 i v25 v449 v451) (k1_t9 : Fin k1_t9_loop.trips), ∀ (k1_h9 : k1_cond9 i v25 v449 = 1#1), ∀ a, (k1_off44 v451 k1_t9) a + S1x16.size a ≤ S32x512.size a := fun i v25 v449 v451 k1_hw17 k1_t9 k1_h9 => k1_hw17.2.1 k1_t9 k1_h9
theorem k1_off46_inb : ∀ (i : grid1.Coords) (v25 : BitVec 32) (v449 : BitVec 32) (v451 : BitVec 32) (k1_hw17 : k1_chk17 i v25 v449 v451) (k1_t9 : Fin k1_t9_loop.trips), ∀ (k1_h9 : k1_cond9 i v25 v449 = 1#1), ∀ a, (k1_off46 v451 k1_t9) a + S1x16.size a ≤ S32x512.size a := fun i v25 v449 v451 k1_hw17 k1_t9 k1_h9 => k1_hw17.2.2 k1_t9 k1_h9

def k1_off47 (v449 : BitVec 32) (k1_t9 : Fin k1_t9_loop.trips) : Fin 2 → Nat :=
  let c0_i32_169 : BitVec 32 := 0#32
  let v453 : BitVec 1 := Scalar.cmpi .sgt v449 c0_i32_169
  let v454 : BitVec 32 := Scalar.extui v453
  let c0_i32_170 : BitVec 32 := 0#32
  let v455 : BitVec 1 := Scalar.cmpi .slt v449 c0_i32_170
  let v456 : BitVec 32 := Scalar.extui v455
  let v457 : BitVec 32 := Scalar.subi v454 v456
  let c16_i32_168 : BitVec 32 := 16#32
  let c0_i32_171 : BitVec 32 := 0#32
  let v458 : BitVec 1 := Scalar.cmpi .sgt c16_i32_168 c0_i32_171
  let v459 : BitVec 32 := Scalar.extui v458
  let c0_i32_172 : BitVec 32 := 0#32
  let v460 : BitVec 1 := Scalar.cmpi .slt c16_i32_168 c0_i32_172
  let v461 : BitVec 32 := Scalar.extui v460
  let v462 : BitVec 32 := Scalar.subi v459 v461
  let v463 : BitVec 1 := Scalar.cmpi .ne v457 v462
  let v464 : BitVec 32 := Scalar.remsi v449 c16_i32_168
  let c0_i32_173 : BitVec 32 := 0#32
  let v465 : BitVec 1 := Scalar.cmpi .ne v464 c0_i32_173
  let v466 : BitVec 1 := Scalar.andi v463 v465
  let v452 : BitVec 32 := Scalar.divsi v449 c16_i32_168
  let c1_i32_174 : BitVec 32 := 1#32
  let v467 : BitVec 32 := Scalar.subi v452 c1_i32_174
  let v468 : BitVec 32 := Scalar.select v466 v467 v452
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v468 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t9
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v449 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk18 (i : grid1.Coords) (v25 : BitVec 32) (v449 : BitVec 32) : Prop :=
  (∀ k1_t9 : Fin k1_t9_loop.trips, ∀ (k1_h9 : k1_cond9 i v25 v449 = 1#1), ∀ a, (k1_off45 v449 k1_t9) a + S1x16.size a ≤ S128x512.size a) ∧
  (∀ k1_t9 : Fin k1_t9_loop.trips, ∀ (k1_h9 : k1_cond9 i v25 v449 = 1#1), ∀ a, (k1_off47 v449 k1_t9) a + S1x16.size a ≤ S128x512.size a)
theorem k1_off45_inb : ∀ (i : grid1.Coords) (v25 : BitVec 32) (v449 : BitVec 32) (k1_hw18 : k1_chk18 i v25 v449) (k1_t9 : Fin k1_t9_loop.trips), ∀ (k1_h9 : k1_cond9 i v25 v449 = 1#1), ∀ a, (k1_off45 v449 k1_t9) a + S1x16.size a ≤ S128x512.size a := fun i v25 v449 k1_hw18 k1_t9 k1_h9 => k1_hw18.1 k1_t9 k1_h9
theorem k1_off47_inb : ∀ (i : grid1.Coords) (v25 : BitVec 32) (v449 : BitVec 32) (k1_hw18 : k1_chk18 i v25 v449) (k1_t9 : Fin k1_t9_loop.trips), ∀ (k1_h9 : k1_cond9 i v25 v449 = 1#1), ∀ a, (k1_off47 v449 k1_t9) a + S1x16.size a ≤ S128x512.size a := fun i v25 v449 k1_hw18 k1_t9 k1_h9 => k1_hw18.2 k1_t9 k1_h9

def k1_off48 (i : grid1.Coords) (v494 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v494 c0_i32_1428
  let v3763 : BitVec 32 := Scalar.extui v3762
  let c0_i32_1429 : BitVec 32 := 0#32
  let v3764 : BitVec 1 := Scalar.cmpi .slt v494 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v494 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v494 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r13 : BitVec 32 := 0#32
  ![v3779.toNat, 0]
def k1_cond10 (i : grid1.Coords) (v25 : BitVec 32) (v492 : BitVec 32) : BitVec 1 :=
  let c9_i32 : BitVec 32 := 9#32
  let v512 : BitVec 1 := Scalar.cmpi .sgt v25 c9_i32
  let c0_i32_184 : BitVec 32 := 0#32
  let v496 : BitVec 1 := Scalar.cmpi .sgt v492 c0_i32_184
  let v497 : BitVec 32 := Scalar.extui v496
  let c0_i32_185 : BitVec 32 := 0#32
  let v498 : BitVec 1 := Scalar.cmpi .slt v492 c0_i32_185
  let v499 : BitVec 32 := Scalar.extui v498
  let v500 : BitVec 32 := Scalar.subi v497 v499
  let c16_i32_183 : BitVec 32 := 16#32
  let c0_i32_186 : BitVec 32 := 0#32
  let v501 : BitVec 1 := Scalar.cmpi .sgt c16_i32_183 c0_i32_186
  let v502 : BitVec 32 := Scalar.extui v501
  let c0_i32_187 : BitVec 32 := 0#32
  let v503 : BitVec 1 := Scalar.cmpi .slt c16_i32_183 c0_i32_187
  let v504 : BitVec 32 := Scalar.extui v503
  let v505 : BitVec 32 := Scalar.subi v502 v504
  let v506 : BitVec 1 := Scalar.cmpi .ne v500 v505
  let v507 : BitVec 32 := Scalar.remsi v492 c16_i32_183
  let c0_i32_188 : BitVec 32 := 0#32
  let v508 : BitVec 1 := Scalar.cmpi .ne v507 c0_i32_188
  let v509 : BitVec 1 := Scalar.andi v506 v508
  let v495 : BitVec 32 := Scalar.divsi v492 c16_i32_183
  let c1_i32_189 : BitVec 32 := 1#32
  let v510 : BitVec 32 := Scalar.subi v495 c1_i32_189
  let v511 : BitVec 32 := Scalar.select v509 v510 v495
  let c0_i32_191 : BitVec 32 := 0#32
  let v514 : BitVec 1 := Scalar.cmpi .sgt v511 c0_i32_191
  let v515 : BitVec 32 := Scalar.extui v514
  let c0_i32_192 : BitVec 32 := 0#32
  let v516 : BitVec 1 := Scalar.cmpi .slt v511 c0_i32_192
  let v517 : BitVec 32 := Scalar.extui v516
  let v518 : BitVec 32 := Scalar.subi v515 v517
  let c4_i32_190 : BitVec 32 := 4#32
  let c0_i32_193 : BitVec 32 := 0#32
  let v519 : BitVec 1 := Scalar.cmpi .sgt c4_i32_190 c0_i32_193
  let v520 : BitVec 32 := Scalar.extui v519
  let c0_i32_194 : BitVec 32 := 0#32
  let v521 : BitVec 1 := Scalar.cmpi .slt c4_i32_190 c0_i32_194
  let v522 : BitVec 32 := Scalar.extui v521
  let v523 : BitVec 32 := Scalar.subi v520 v522
  let v524 : BitVec 1 := Scalar.cmpi .ne v518 v523
  let v525 : BitVec 32 := Scalar.remsi v511 c4_i32_190
  let c0_i32_195 : BitVec 32 := 0#32
  let v526 : BitVec 1 := Scalar.cmpi .ne v525 c0_i32_195
  let v527 : BitVec 1 := Scalar.andi v524 v526
  let v513 : BitVec 32 := Scalar.divsi v511 c4_i32_190
  let c1_i32_196 : BitVec 32 := 1#32
  let v528 : BitVec 32 := Scalar.subi v513 c1_i32_196
  let v529 : BitVec 32 := Scalar.select v527 v528 v513
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v530 : BitVec 1 := Scalar.cmpi .eq v529 v103
  let v531 : BitVec 1 := Scalar.andi v512 v530
  let v532 : BitVec 32 := Scalar.extui v531
  let c0_i32_197 : BitVec 32 := 0#32
  let v533 : BitVec 1 := Scalar.cmpi .ne v532 c0_i32_197
  v533

@[reducible] def k1_t10_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off49 (v494 : BitVec 32) (k1_t10 : Fin k1_t10_loop.trips) : Fin 2 → Nat :=
  let c0_i32_1453 : BitVec 32 := 0#32
  let c1_i32_1455 : BitVec 32 := 1#32
  let arg19 : BitVec 32 := Scf.iv c0_i32_1453 c1_i32_1455 k1_t10
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v494 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off50 (v492 : BitVec 32) (k1_t10 : Fin k1_t10_loop.trips) : Fin 2 → Nat :=
  let c0_i32_184 : BitVec 32 := 0#32
  let v496 : BitVec 1 := Scalar.cmpi .sgt v492 c0_i32_184
  let v497 : BitVec 32 := Scalar.extui v496
  let c0_i32_185 : BitVec 32 := 0#32
  let v498 : BitVec 1 := Scalar.cmpi .slt v492 c0_i32_185
  let v499 : BitVec 32 := Scalar.extui v498
  let v500 : BitVec 32 := Scalar.subi v497 v499
  let c16_i32_183 : BitVec 32 := 16#32
  let c0_i32_186 : BitVec 32 := 0#32
  let v501 : BitVec 1 := Scalar.cmpi .sgt c16_i32_183 c0_i32_186
  let v502 : BitVec 32 := Scalar.extui v501
  let c0_i32_187 : BitVec 32 := 0#32
  let v503 : BitVec 1 := Scalar.cmpi .slt c16_i32_183 c0_i32_187
  let v504 : BitVec 32 := Scalar.extui v503
  let v505 : BitVec 32 := Scalar.subi v502 v504
  let v506 : BitVec 1 := Scalar.cmpi .ne v500 v505
  let v507 : BitVec 32 := Scalar.remsi v492 c16_i32_183
  let c0_i32_188 : BitVec 32 := 0#32
  let v508 : BitVec 1 := Scalar.cmpi .ne v507 c0_i32_188
  let v509 : BitVec 1 := Scalar.andi v506 v508
  let v495 : BitVec 32 := Scalar.divsi v492 c16_i32_183
  let c1_i32_189 : BitVec 32 := 1#32
  let v510 : BitVec 32 := Scalar.subi v495 c1_i32_189
  let v511 : BitVec 32 := Scalar.select v509 v510 v495
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v511 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t10
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v492 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off51 (v494 : BitVec 32) (k1_t10 : Fin k1_t10_loop.trips) : Fin 2 → Nat :=
  let c0_i32_1453 : BitVec 32 := 0#32
  let c1_i32_1455 : BitVec 32 := 1#32
  let arg19 : BitVec 32 := Scf.iv c0_i32_1453 c1_i32_1455 k1_t10
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v494 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk19 (i : grid1.Coords) (v25 : BitVec 32) (v492 : BitVec 32) (v494 : BitVec 32) : Prop :=
  (∀ (k1_h10 : k1_cond10 i v25 v492 = 1#1), ∀ a, (k1_off48 i v494) a + S32x512.size a ≤ S12288x512.size a) ∧
  (∀ k1_t10 : Fin k1_t10_loop.trips, ∀ (k1_h10 : k1_cond10 i v25 v492 = 1#1), ∀ a, (k1_off49 v494 k1_t10) a + S1x16.size a ≤ S32x512.size a) ∧
  (∀ k1_t10 : Fin k1_t10_loop.trips, ∀ (k1_h10 : k1_cond10 i v25 v492 = 1#1), ∀ a, (k1_off51 v494 k1_t10) a + S1x16.size a ≤ S32x512.size a)
theorem k1_off48_inb : ∀ (i : grid1.Coords) (v25 : BitVec 32) (v492 : BitVec 32) (v494 : BitVec 32) (k1_hw19 : k1_chk19 i v25 v492 v494), ∀ (k1_h10 : k1_cond10 i v25 v492 = 1#1), ∀ a, (k1_off48 i v494) a + S32x512.size a ≤ S12288x512.size a := fun i v25 v492 v494 k1_hw19 k1_h10 => k1_hw19.1 k1_h10
theorem k1_off49_inb : ∀ (i : grid1.Coords) (v25 : BitVec 32) (v492 : BitVec 32) (v494 : BitVec 32) (k1_hw19 : k1_chk19 i v25 v492 v494) (k1_t10 : Fin k1_t10_loop.trips), ∀ (k1_h10 : k1_cond10 i v25 v492 = 1#1), ∀ a, (k1_off49 v494 k1_t10) a + S1x16.size a ≤ S32x512.size a := fun i v25 v492 v494 k1_hw19 k1_t10 k1_h10 => k1_hw19.2.1 k1_t10 k1_h10
theorem k1_off51_inb : ∀ (i : grid1.Coords) (v25 : BitVec 32) (v492 : BitVec 32) (v494 : BitVec 32) (k1_hw19 : k1_chk19 i v25 v492 v494) (k1_t10 : Fin k1_t10_loop.trips), ∀ (k1_h10 : k1_cond10 i v25 v492 = 1#1), ∀ a, (k1_off51 v494 k1_t10) a + S1x16.size a ≤ S32x512.size a := fun i v25 v492 v494 k1_hw19 k1_t10 k1_h10 => k1_hw19.2.2 k1_t10 k1_h10

def k1_off52 (v492 : BitVec 32) (k1_t10 : Fin k1_t10_loop.trips) : Fin 2 → Nat :=
  let c0_i32_184 : BitVec 32 := 0#32
  let v496 : BitVec 1 := Scalar.cmpi .sgt v492 c0_i32_184
  let v497 : BitVec 32 := Scalar.extui v496
  let c0_i32_185 : BitVec 32 := 0#32
  let v498 : BitVec 1 := Scalar.cmpi .slt v492 c0_i32_185
  let v499 : BitVec 32 := Scalar.extui v498
  let v500 : BitVec 32 := Scalar.subi v497 v499
  let c16_i32_183 : BitVec 32 := 16#32
  let c0_i32_186 : BitVec 32 := 0#32
  let v501 : BitVec 1 := Scalar.cmpi .sgt c16_i32_183 c0_i32_186
  let v502 : BitVec 32 := Scalar.extui v501
  let c0_i32_187 : BitVec 32 := 0#32
  let v503 : BitVec 1 := Scalar.cmpi .slt c16_i32_183 c0_i32_187
  let v504 : BitVec 32 := Scalar.extui v503
  let v505 : BitVec 32 := Scalar.subi v502 v504
  let v506 : BitVec 1 := Scalar.cmpi .ne v500 v505
  let v507 : BitVec 32 := Scalar.remsi v492 c16_i32_183
  let c0_i32_188 : BitVec 32 := 0#32
  let v508 : BitVec 1 := Scalar.cmpi .ne v507 c0_i32_188
  let v509 : BitVec 1 := Scalar.andi v506 v508
  let v495 : BitVec 32 := Scalar.divsi v492 c16_i32_183
  let c1_i32_189 : BitVec 32 := 1#32
  let v510 : BitVec 32 := Scalar.subi v495 c1_i32_189
  let v511 : BitVec 32 := Scalar.select v509 v510 v495
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v511 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t10
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v492 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk20 (i : grid1.Coords) (v25 : BitVec 32) (v492 : BitVec 32) : Prop :=
  (∀ k1_t10 : Fin k1_t10_loop.trips, ∀ (k1_h10 : k1_cond10 i v25 v492 = 1#1), ∀ a, (k1_off50 v492 k1_t10) a + S1x16.size a ≤ S128x512.size a) ∧
  (∀ k1_t10 : Fin k1_t10_loop.trips, ∀ (k1_h10 : k1_cond10 i v25 v492 = 1#1), ∀ a, (k1_off52 v492 k1_t10) a + S1x16.size a ≤ S128x512.size a)
theorem k1_off50_inb : ∀ (i : grid1.Coords) (v25 : BitVec 32) (v492 : BitVec 32) (k1_hw20 : k1_chk20 i v25 v492) (k1_t10 : Fin k1_t10_loop.trips), ∀ (k1_h10 : k1_cond10 i v25 v492 = 1#1), ∀ a, (k1_off50 v492 k1_t10) a + S1x16.size a ≤ S128x512.size a := fun i v25 v492 k1_hw20 k1_t10 k1_h10 => k1_hw20.1 k1_t10 k1_h10
theorem k1_off52_inb : ∀ (i : grid1.Coords) (v25 : BitVec 32) (v492 : BitVec 32) (k1_hw20 : k1_chk20 i v25 v492) (k1_t10 : Fin k1_t10_loop.trips), ∀ (k1_h10 : k1_cond10 i v25 v492 = 1#1), ∀ a, (k1_off52 v492 k1_t10) a + S1x16.size a ≤ S128x512.size a := fun i v25 v492 k1_hw20 k1_t10 k1_h10 => k1_hw20.2 k1_t10 k1_h10

def k1_off53 (i : grid1.Coords) (v537 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v537 c0_i32_1428
  let v3763 : BitVec 32 := Scalar.extui v3762
  let c0_i32_1429 : BitVec 32 := 0#32
  let v3764 : BitVec 1 := Scalar.cmpi .slt v537 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v537 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v537 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r14 : BitVec 32 := 0#32
  ![v3779.toNat, 0]
def k1_cond11 (i : grid1.Coords) (v25 : BitVec 32) (v535 : BitVec 32) : BitVec 1 :=
  let c10_i32 : BitVec 32 := 10#32
  let v555 : BitVec 1 := Scalar.cmpi .sgt v25 c10_i32
  let c0_i32_199 : BitVec 32 := 0#32
  let v539 : BitVec 1 := Scalar.cmpi .sgt v535 c0_i32_199
  let v540 : BitVec 32 := Scalar.extui v539
  let c0_i32_200 : BitVec 32 := 0#32
  let v541 : BitVec 1 := Scalar.cmpi .slt v535 c0_i32_200
  let v542 : BitVec 32 := Scalar.extui v541
  let v543 : BitVec 32 := Scalar.subi v540 v542
  let c16_i32_198 : BitVec 32 := 16#32
  let c0_i32_201 : BitVec 32 := 0#32
  let v544 : BitVec 1 := Scalar.cmpi .sgt c16_i32_198 c0_i32_201
  let v545 : BitVec 32 := Scalar.extui v544
  let c0_i32_202 : BitVec 32 := 0#32
  let v546 : BitVec 1 := Scalar.cmpi .slt c16_i32_198 c0_i32_202
  let v547 : BitVec 32 := Scalar.extui v546
  let v548 : BitVec 32 := Scalar.subi v545 v547
  let v549 : BitVec 1 := Scalar.cmpi .ne v543 v548
  let v550 : BitVec 32 := Scalar.remsi v535 c16_i32_198
  let c0_i32_203 : BitVec 32 := 0#32
  let v551 : BitVec 1 := Scalar.cmpi .ne v550 c0_i32_203
  let v552 : BitVec 1 := Scalar.andi v549 v551
  let v538 : BitVec 32 := Scalar.divsi v535 c16_i32_198
  let c1_i32_204 : BitVec 32 := 1#32
  let v553 : BitVec 32 := Scalar.subi v538 c1_i32_204
  let v554 : BitVec 32 := Scalar.select v552 v553 v538
  let c0_i32_206 : BitVec 32 := 0#32
  let v557 : BitVec 1 := Scalar.cmpi .sgt v554 c0_i32_206
  let v558 : BitVec 32 := Scalar.extui v557
  let c0_i32_207 : BitVec 32 := 0#32
  let v559 : BitVec 1 := Scalar.cmpi .slt v554 c0_i32_207
  let v560 : BitVec 32 := Scalar.extui v559
  let v561 : BitVec 32 := Scalar.subi v558 v560
  let c4_i32_205 : BitVec 32 := 4#32
  let c0_i32_208 : BitVec 32 := 0#32
  let v562 : BitVec 1 := Scalar.cmpi .sgt c4_i32_205 c0_i32_208
  let v563 : BitVec 32 := Scalar.extui v562
  let c0_i32_209 : BitVec 32 := 0#32
  let v564 : BitVec 1 := Scalar.cmpi .slt c4_i32_205 c0_i32_209
  let v565 : BitVec 32 := Scalar.extui v564
  let v566 : BitVec 32 := Scalar.subi v563 v565
  let v567 : BitVec 1 := Scalar.cmpi .ne v561 v566
  let v568 : BitVec 32 := Scalar.remsi v554 c4_i32_205
  let c0_i32_210 : BitVec 32 := 0#32
  let v569 : BitVec 1 := Scalar.cmpi .ne v568 c0_i32_210
  let v570 : BitVec 1 := Scalar.andi v567 v569
  let v556 : BitVec 32 := Scalar.divsi v554 c4_i32_205
  let c1_i32_211 : BitVec 32 := 1#32
  let v571 : BitVec 32 := Scalar.subi v556 c1_i32_211
  let v572 : BitVec 32 := Scalar.select v570 v571 v556
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v573 : BitVec 1 := Scalar.cmpi .eq v572 v103
  let v574 : BitVec 1 := Scalar.andi v555 v573
  let v575 : BitVec 32 := Scalar.extui v574
  let c0_i32_212 : BitVec 32 := 0#32
  let v576 : BitVec 1 := Scalar.cmpi .ne v575 c0_i32_212
  v576

@[reducible] def k1_t11_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off54 (v537 : BitVec 32) (k1_t11 : Fin k1_t11_loop.trips) : Fin 2 → Nat :=
  let c0_i32_1453 : BitVec 32 := 0#32
  let c1_i32_1455 : BitVec 32 := 1#32
  let arg19 : BitVec 32 := Scf.iv c0_i32_1453 c1_i32_1455 k1_t11
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v537 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off55 (v535 : BitVec 32) (k1_t11 : Fin k1_t11_loop.trips) : Fin 2 → Nat :=
  let c0_i32_199 : BitVec 32 := 0#32
  let v539 : BitVec 1 := Scalar.cmpi .sgt v535 c0_i32_199
  let v540 : BitVec 32 := Scalar.extui v539
  let c0_i32_200 : BitVec 32 := 0#32
  let v541 : BitVec 1 := Scalar.cmpi .slt v535 c0_i32_200
  let v542 : BitVec 32 := Scalar.extui v541
  let v543 : BitVec 32 := Scalar.subi v540 v542
  let c16_i32_198 : BitVec 32 := 16#32
  let c0_i32_201 : BitVec 32 := 0#32
  let v544 : BitVec 1 := Scalar.cmpi .sgt c16_i32_198 c0_i32_201
  let v545 : BitVec 32 := Scalar.extui v544
  let c0_i32_202 : BitVec 32 := 0#32
  let v546 : BitVec 1 := Scalar.cmpi .slt c16_i32_198 c0_i32_202
  let v547 : BitVec 32 := Scalar.extui v546
  let v548 : BitVec 32 := Scalar.subi v545 v547
  let v549 : BitVec 1 := Scalar.cmpi .ne v543 v548
  let v550 : BitVec 32 := Scalar.remsi v535 c16_i32_198
  let c0_i32_203 : BitVec 32 := 0#32
  let v551 : BitVec 1 := Scalar.cmpi .ne v550 c0_i32_203
  let v552 : BitVec 1 := Scalar.andi v549 v551
  let v538 : BitVec 32 := Scalar.divsi v535 c16_i32_198
  let c1_i32_204 : BitVec 32 := 1#32
  let v553 : BitVec 32 := Scalar.subi v538 c1_i32_204
  let v554 : BitVec 32 := Scalar.select v552 v553 v538
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v554 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t11
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v535 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off56 (v537 : BitVec 32) (k1_t11 : Fin k1_t11_loop.trips) : Fin 2 → Nat :=
  let c0_i32_1453 : BitVec 32 := 0#32
  let c1_i32_1455 : BitVec 32 := 1#32
  let arg19 : BitVec 32 := Scf.iv c0_i32_1453 c1_i32_1455 k1_t11
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v537 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk21 (i : grid1.Coords) (v25 : BitVec 32) (v535 : BitVec 32) (v537 : BitVec 32) : Prop :=
  (∀ (k1_h11 : k1_cond11 i v25 v535 = 1#1), ∀ a, (k1_off53 i v537) a + S32x512.size a ≤ S12288x512.size a) ∧
  (∀ k1_t11 : Fin k1_t11_loop.trips, ∀ (k1_h11 : k1_cond11 i v25 v535 = 1#1), ∀ a, (k1_off54 v537 k1_t11) a + S1x16.size a ≤ S32x512.size a) ∧
  (∀ k1_t11 : Fin k1_t11_loop.trips, ∀ (k1_h11 : k1_cond11 i v25 v535 = 1#1), ∀ a, (k1_off56 v537 k1_t11) a + S1x16.size a ≤ S32x512.size a)
theorem k1_off53_inb : ∀ (i : grid1.Coords) (v25 : BitVec 32) (v535 : BitVec 32) (v537 : BitVec 32) (k1_hw21 : k1_chk21 i v25 v535 v537), ∀ (k1_h11 : k1_cond11 i v25 v535 = 1#1), ∀ a, (k1_off53 i v537) a + S32x512.size a ≤ S12288x512.size a := fun i v25 v535 v537 k1_hw21 k1_h11 => k1_hw21.1 k1_h11
theorem k1_off54_inb : ∀ (i : grid1.Coords) (v25 : BitVec 32) (v535 : BitVec 32) (v537 : BitVec 32) (k1_hw21 : k1_chk21 i v25 v535 v537) (k1_t11 : Fin k1_t11_loop.trips), ∀ (k1_h11 : k1_cond11 i v25 v535 = 1#1), ∀ a, (k1_off54 v537 k1_t11) a + S1x16.size a ≤ S32x512.size a := fun i v25 v535 v537 k1_hw21 k1_t11 k1_h11 => k1_hw21.2.1 k1_t11 k1_h11
theorem k1_off56_inb : ∀ (i : grid1.Coords) (v25 : BitVec 32) (v535 : BitVec 32) (v537 : BitVec 32) (k1_hw21 : k1_chk21 i v25 v535 v537) (k1_t11 : Fin k1_t11_loop.trips), ∀ (k1_h11 : k1_cond11 i v25 v535 = 1#1), ∀ a, (k1_off56 v537 k1_t11) a + S1x16.size a ≤ S32x512.size a := fun i v25 v535 v537 k1_hw21 k1_t11 k1_h11 => k1_hw21.2.2 k1_t11 k1_h11

def k1_off57 (v535 : BitVec 32) (k1_t11 : Fin k1_t11_loop.trips) : Fin 2 → Nat :=
  let c0_i32_199 : BitVec 32 := 0#32
  let v539 : BitVec 1 := Scalar.cmpi .sgt v535 c0_i32_199
  let v540 : BitVec 32 := Scalar.extui v539
  let c0_i32_200 : BitVec 32 := 0#32
  let v541 : BitVec 1 := Scalar.cmpi .slt v535 c0_i32_200
  let v542 : BitVec 32 := Scalar.extui v541
  let v543 : BitVec 32 := Scalar.subi v540 v542
  let c16_i32_198 : BitVec 32 := 16#32
  let c0_i32_201 : BitVec 32 := 0#32
  let v544 : BitVec 1 := Scalar.cmpi .sgt c16_i32_198 c0_i32_201
  let v545 : BitVec 32 := Scalar.extui v544
  let c0_i32_202 : BitVec 32 := 0#32
  let v546 : BitVec 1 := Scalar.cmpi .slt c16_i32_198 c0_i32_202
  let v547 : BitVec 32 := Scalar.extui v546
  let v548 : BitVec 32 := Scalar.subi v545 v547
  let v549 : BitVec 1 := Scalar.cmpi .ne v543 v548
  let v550 : BitVec 32 := Scalar.remsi v535 c16_i32_198
  let c0_i32_203 : BitVec 32 := 0#32
  let v551 : BitVec 1 := Scalar.cmpi .ne v550 c0_i32_203
  let v552 : BitVec 1 := Scalar.andi v549 v551
  let v538 : BitVec 32 := Scalar.divsi v535 c16_i32_198
  let c1_i32_204 : BitVec 32 := 1#32
  let v553 : BitVec 32 := Scalar.subi v538 c1_i32_204
  let v554 : BitVec 32 := Scalar.select v552 v553 v538
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v554 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t11
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v535 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk22 (i : grid1.Coords) (v25 : BitVec 32) (v535 : BitVec 32) : Prop :=
  (∀ k1_t11 : Fin k1_t11_loop.trips, ∀ (k1_h11 : k1_cond11 i v25 v535 = 1#1), ∀ a, (k1_off55 v535 k1_t11) a + S1x16.size a ≤ S128x512.size a) ∧
  (∀ k1_t11 : Fin k1_t11_loop.trips, ∀ (k1_h11 : k1_cond11 i v25 v535 = 1#1), ∀ a, (k1_off57 v535 k1_t11) a + S1x16.size a ≤ S128x512.size a)
theorem k1_off55_inb : ∀ (i : grid1.Coords) (v25 : BitVec 32) (v535 : BitVec 32) (k1_hw22 : k1_chk22 i v25 v535) (k1_t11 : Fin k1_t11_loop.trips), ∀ (k1_h11 : k1_cond11 i v25 v535 = 1#1), ∀ a, (k1_off55 v535 k1_t11) a + S1x16.size a ≤ S128x512.size a := fun i v25 v535 k1_hw22 k1_t11 k1_h11 => k1_hw22.1 k1_t11 k1_h11
theorem k1_off57_inb : ∀ (i : grid1.Coords) (v25 : BitVec 32) (v535 : BitVec 32) (k1_hw22 : k1_chk22 i v25 v535) (k1_t11 : Fin k1_t11_loop.trips), ∀ (k1_h11 : k1_cond11 i v25 v535 = 1#1), ∀ a, (k1_off57 v535 k1_t11) a + S1x16.size a ≤ S128x512.size a := fun i v25 v535 k1_hw22 k1_t11 k1_h11 => k1_hw22.2 k1_t11 k1_h11

def k1_off58 (i : grid1.Coords) (v580 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v580 c0_i32_1428
  let v3763 : BitVec 32 := Scalar.extui v3762
  let c0_i32_1429 : BitVec 32 := 0#32
  let v3764 : BitVec 1 := Scalar.cmpi .slt v580 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v580 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v580 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r15 : BitVec 32 := 0#32
  ![v3779.toNat, 0]
def k1_cond12 (i : grid1.Coords) (v25 : BitVec 32) (v578 : BitVec 32) : BitVec 1 :=
  let c11_i32 : BitVec 32 := 11#32
  let v598 : BitVec 1 := Scalar.cmpi .sgt v25 c11_i32
  let c0_i32_214 : BitVec 32 := 0#32
  let v582 : BitVec 1 := Scalar.cmpi .sgt v578 c0_i32_214
  let v583 : BitVec 32 := Scalar.extui v582
  let c0_i32_215 : BitVec 32 := 0#32
  let v584 : BitVec 1 := Scalar.cmpi .slt v578 c0_i32_215
  let v585 : BitVec 32 := Scalar.extui v584
  let v586 : BitVec 32 := Scalar.subi v583 v585
  let c16_i32_213 : BitVec 32 := 16#32
  let c0_i32_216 : BitVec 32 := 0#32
  let v587 : BitVec 1 := Scalar.cmpi .sgt c16_i32_213 c0_i32_216
  let v588 : BitVec 32 := Scalar.extui v587
  let c0_i32_217 : BitVec 32 := 0#32
  let v589 : BitVec 1 := Scalar.cmpi .slt c16_i32_213 c0_i32_217
  let v590 : BitVec 32 := Scalar.extui v589
  let v591 : BitVec 32 := Scalar.subi v588 v590
  let v592 : BitVec 1 := Scalar.cmpi .ne v586 v591
  let v593 : BitVec 32 := Scalar.remsi v578 c16_i32_213
  let c0_i32_218 : BitVec 32 := 0#32
  let v594 : BitVec 1 := Scalar.cmpi .ne v593 c0_i32_218
  let v595 : BitVec 1 := Scalar.andi v592 v594
  let v581 : BitVec 32 := Scalar.divsi v578 c16_i32_213
  let c1_i32_219 : BitVec 32 := 1#32
  let v596 : BitVec 32 := Scalar.subi v581 c1_i32_219
  let v597 : BitVec 32 := Scalar.select v595 v596 v581
  let c0_i32_221 : BitVec 32 := 0#32
  let v600 : BitVec 1 := Scalar.cmpi .sgt v597 c0_i32_221
  let v601 : BitVec 32 := Scalar.extui v600
  let c0_i32_222 : BitVec 32 := 0#32
  let v602 : BitVec 1 := Scalar.cmpi .slt v597 c0_i32_222
  let v603 : BitVec 32 := Scalar.extui v602
  let v604 : BitVec 32 := Scalar.subi v601 v603
  let c4_i32_220 : BitVec 32 := 4#32
  let c0_i32_223 : BitVec 32 := 0#32
  let v605 : BitVec 1 := Scalar.cmpi .sgt c4_i32_220 c0_i32_223
  let v606 : BitVec 32 := Scalar.extui v605
  let c0_i32_224 : BitVec 32 := 0#32
  let v607 : BitVec 1 := Scalar.cmpi .slt c4_i32_220 c0_i32_224
  let v608 : BitVec 32 := Scalar.extui v607
  let v609 : BitVec 32 := Scalar.subi v606 v608
  let v610 : BitVec 1 := Scalar.cmpi .ne v604 v609
  let v611 : BitVec 32 := Scalar.remsi v597 c4_i32_220
  let c0_i32_225 : BitVec 32 := 0#32
  let v612 : BitVec 1 := Scalar.cmpi .ne v611 c0_i32_225
  let v613 : BitVec 1 := Scalar.andi v610 v612
  let v599 : BitVec 32 := Scalar.divsi v597 c4_i32_220
  let c1_i32_226 : BitVec 32 := 1#32
  let v614 : BitVec 32 := Scalar.subi v599 c1_i32_226
  let v615 : BitVec 32 := Scalar.select v613 v614 v599
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v616 : BitVec 1 := Scalar.cmpi .eq v615 v103
  let v617 : BitVec 1 := Scalar.andi v598 v616
  let v618 : BitVec 32 := Scalar.extui v617
  let c0_i32_227 : BitVec 32 := 0#32
  let v619 : BitVec 1 := Scalar.cmpi .ne v618 c0_i32_227
  v619

@[reducible] def k1_t12_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off59 (v580 : BitVec 32) (k1_t12 : Fin k1_t12_loop.trips) : Fin 2 → Nat :=
  let c0_i32_1453 : BitVec 32 := 0#32
  let c1_i32_1455 : BitVec 32 := 1#32
  let arg19 : BitVec 32 := Scf.iv c0_i32_1453 c1_i32_1455 k1_t12
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v580 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off60 (v578 : BitVec 32) (k1_t12 : Fin k1_t12_loop.trips) : Fin 2 → Nat :=
  let c0_i32_214 : BitVec 32 := 0#32
  let v582 : BitVec 1 := Scalar.cmpi .sgt v578 c0_i32_214
  let v583 : BitVec 32 := Scalar.extui v582
  let c0_i32_215 : BitVec 32 := 0#32
  let v584 : BitVec 1 := Scalar.cmpi .slt v578 c0_i32_215
  let v585 : BitVec 32 := Scalar.extui v584
  let v586 : BitVec 32 := Scalar.subi v583 v585
  let c16_i32_213 : BitVec 32 := 16#32
  let c0_i32_216 : BitVec 32 := 0#32
  let v587 : BitVec 1 := Scalar.cmpi .sgt c16_i32_213 c0_i32_216
  let v588 : BitVec 32 := Scalar.extui v587
  let c0_i32_217 : BitVec 32 := 0#32
  let v589 : BitVec 1 := Scalar.cmpi .slt c16_i32_213 c0_i32_217
  let v590 : BitVec 32 := Scalar.extui v589
  let v591 : BitVec 32 := Scalar.subi v588 v590
  let v592 : BitVec 1 := Scalar.cmpi .ne v586 v591
  let v593 : BitVec 32 := Scalar.remsi v578 c16_i32_213
  let c0_i32_218 : BitVec 32 := 0#32
  let v594 : BitVec 1 := Scalar.cmpi .ne v593 c0_i32_218
  let v595 : BitVec 1 := Scalar.andi v592 v594
  let v581 : BitVec 32 := Scalar.divsi v578 c16_i32_213
  let c1_i32_219 : BitVec 32 := 1#32
  let v596 : BitVec 32 := Scalar.subi v581 c1_i32_219
  let v597 : BitVec 32 := Scalar.select v595 v596 v581
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v597 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t12
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v578 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off61 (v580 : BitVec 32) (k1_t12 : Fin k1_t12_loop.trips) : Fin 2 → Nat :=
  let c0_i32_1453 : BitVec 32 := 0#32
  let c1_i32_1455 : BitVec 32 := 1#32
  let arg19 : BitVec 32 := Scf.iv c0_i32_1453 c1_i32_1455 k1_t12
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v580 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk23 (i : grid1.Coords) (v25 : BitVec 32) (v578 : BitVec 32) (v580 : BitVec 32) : Prop :=
  (∀ (k1_h12 : k1_cond12 i v25 v578 = 1#1), ∀ a, (k1_off58 i v580) a + S32x512.size a ≤ S12288x512.size a) ∧
  (∀ k1_t12 : Fin k1_t12_loop.trips, ∀ (k1_h12 : k1_cond12 i v25 v578 = 1#1), ∀ a, (k1_off59 v580 k1_t12) a + S1x16.size a ≤ S32x512.size a) ∧
  (∀ k1_t12 : Fin k1_t12_loop.trips, ∀ (k1_h12 : k1_cond12 i v25 v578 = 1#1), ∀ a, (k1_off61 v580 k1_t12) a + S1x16.size a ≤ S32x512.size a)
theorem k1_off58_inb : ∀ (i : grid1.Coords) (v25 : BitVec 32) (v578 : BitVec 32) (v580 : BitVec 32) (k1_hw23 : k1_chk23 i v25 v578 v580), ∀ (k1_h12 : k1_cond12 i v25 v578 = 1#1), ∀ a, (k1_off58 i v580) a + S32x512.size a ≤ S12288x512.size a := fun i v25 v578 v580 k1_hw23 k1_h12 => k1_hw23.1 k1_h12
theorem k1_off59_inb : ∀ (i : grid1.Coords) (v25 : BitVec 32) (v578 : BitVec 32) (v580 : BitVec 32) (k1_hw23 : k1_chk23 i v25 v578 v580) (k1_t12 : Fin k1_t12_loop.trips), ∀ (k1_h12 : k1_cond12 i v25 v578 = 1#1), ∀ a, (k1_off59 v580 k1_t12) a + S1x16.size a ≤ S32x512.size a := fun i v25 v578 v580 k1_hw23 k1_t12 k1_h12 => k1_hw23.2.1 k1_t12 k1_h12
theorem k1_off61_inb : ∀ (i : grid1.Coords) (v25 : BitVec 32) (v578 : BitVec 32) (v580 : BitVec 32) (k1_hw23 : k1_chk23 i v25 v578 v580) (k1_t12 : Fin k1_t12_loop.trips), ∀ (k1_h12 : k1_cond12 i v25 v578 = 1#1), ∀ a, (k1_off61 v580 k1_t12) a + S1x16.size a ≤ S32x512.size a := fun i v25 v578 v580 k1_hw23 k1_t12 k1_h12 => k1_hw23.2.2 k1_t12 k1_h12

def k1_off62 (v578 : BitVec 32) (k1_t12 : Fin k1_t12_loop.trips) : Fin 2 → Nat :=
  let c0_i32_214 : BitVec 32 := 0#32
  let v582 : BitVec 1 := Scalar.cmpi .sgt v578 c0_i32_214
  let v583 : BitVec 32 := Scalar.extui v582
  let c0_i32_215 : BitVec 32 := 0#32
  let v584 : BitVec 1 := Scalar.cmpi .slt v578 c0_i32_215
  let v585 : BitVec 32 := Scalar.extui v584
  let v586 : BitVec 32 := Scalar.subi v583 v585
  let c16_i32_213 : BitVec 32 := 16#32
  let c0_i32_216 : BitVec 32 := 0#32
  let v587 : BitVec 1 := Scalar.cmpi .sgt c16_i32_213 c0_i32_216
  let v588 : BitVec 32 := Scalar.extui v587
  let c0_i32_217 : BitVec 32 := 0#32
  let v589 : BitVec 1 := Scalar.cmpi .slt c16_i32_213 c0_i32_217
  let v590 : BitVec 32 := Scalar.extui v589
  let v591 : BitVec 32 := Scalar.subi v588 v590
  let v592 : BitVec 1 := Scalar.cmpi .ne v586 v591
  let v593 : BitVec 32 := Scalar.remsi v578 c16_i32_213
  let c0_i32_218 : BitVec 32 := 0#32
  let v594 : BitVec 1 := Scalar.cmpi .ne v593 c0_i32_218
  let v595 : BitVec 1 := Scalar.andi v592 v594
  let v581 : BitVec 32 := Scalar.divsi v578 c16_i32_213
  let c1_i32_219 : BitVec 32 := 1#32
  let v596 : BitVec 32 := Scalar.subi v581 c1_i32_219
  let v597 : BitVec 32 := Scalar.select v595 v596 v581
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v597 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t12
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v578 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk24 (i : grid1.Coords) (v25 : BitVec 32) (v578 : BitVec 32) : Prop :=
  (∀ k1_t12 : Fin k1_t12_loop.trips, ∀ (k1_h12 : k1_cond12 i v25 v578 = 1#1), ∀ a, (k1_off60 v578 k1_t12) a + S1x16.size a ≤ S128x512.size a) ∧
  (∀ k1_t12 : Fin k1_t12_loop.trips, ∀ (k1_h12 : k1_cond12 i v25 v578 = 1#1), ∀ a, (k1_off62 v578 k1_t12) a + S1x16.size a ≤ S128x512.size a)
theorem k1_off60_inb : ∀ (i : grid1.Coords) (v25 : BitVec 32) (v578 : BitVec 32) (k1_hw24 : k1_chk24 i v25 v578) (k1_t12 : Fin k1_t12_loop.trips), ∀ (k1_h12 : k1_cond12 i v25 v578 = 1#1), ∀ a, (k1_off60 v578 k1_t12) a + S1x16.size a ≤ S128x512.size a := fun i v25 v578 k1_hw24 k1_t12 k1_h12 => k1_hw24.1 k1_t12 k1_h12
theorem k1_off62_inb : ∀ (i : grid1.Coords) (v25 : BitVec 32) (v578 : BitVec 32) (k1_hw24 : k1_chk24 i v25 v578) (k1_t12 : Fin k1_t12_loop.trips), ∀ (k1_h12 : k1_cond12 i v25 v578 = 1#1), ∀ a, (k1_off62 v578 k1_t12) a + S1x16.size a ≤ S128x512.size a := fun i v25 v578 k1_hw24 k1_t12 k1_h12 => k1_hw24.2 k1_t12 k1_h12

def k1_off63 (i : grid1.Coords) (v623 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v623 c0_i32_1428
  let v3763 : BitVec 32 := Scalar.extui v3762
  let c0_i32_1429 : BitVec 32 := 0#32
  let v3764 : BitVec 1 := Scalar.cmpi .slt v623 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v623 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v623 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r16 : BitVec 32 := 0#32
  ![v3779.toNat, 0]
def k1_cond13 (i : grid1.Coords) (v25 : BitVec 32) (v621 : BitVec 32) : BitVec 1 :=
  let c12_i32_235 : BitVec 32 := 12#32
  let v641 : BitVec 1 := Scalar.cmpi .sgt v25 c12_i32_235
  let c0_i32_229 : BitVec 32 := 0#32
  let v625 : BitVec 1 := Scalar.cmpi .sgt v621 c0_i32_229
  let v626 : BitVec 32 := Scalar.extui v625
  let c0_i32_230 : BitVec 32 := 0#32
  let v627 : BitVec 1 := Scalar.cmpi .slt v621 c0_i32_230
  let v628 : BitVec 32 := Scalar.extui v627
  let v629 : BitVec 32 := Scalar.subi v626 v628
  let c16_i32_228 : BitVec 32 := 16#32
  let c0_i32_231 : BitVec 32 := 0#32
  let v630 : BitVec 1 := Scalar.cmpi .sgt c16_i32_228 c0_i32_231
  let v631 : BitVec 32 := Scalar.extui v630
  let c0_i32_232 : BitVec 32 := 0#32
  let v632 : BitVec 1 := Scalar.cmpi .slt c16_i32_228 c0_i32_232
  let v633 : BitVec 32 := Scalar.extui v632
  let v634 : BitVec 32 := Scalar.subi v631 v633
  let v635 : BitVec 1 := Scalar.cmpi .ne v629 v634
  let v636 : BitVec 32 := Scalar.remsi v621 c16_i32_228
  let c0_i32_233 : BitVec 32 := 0#32
  let v637 : BitVec 1 := Scalar.cmpi .ne v636 c0_i32_233
  let v638 : BitVec 1 := Scalar.andi v635 v637
  let v624 : BitVec 32 := Scalar.divsi v621 c16_i32_228
  let c1_i32_234 : BitVec 32 := 1#32
  let v639 : BitVec 32 := Scalar.subi v624 c1_i32_234
  let v640 : BitVec 32 := Scalar.select v638 v639 v624
  let c0_i32_237 : BitVec 32 := 0#32
  let v643 : BitVec 1 := Scalar.cmpi .sgt v640 c0_i32_237
  let v644 : BitVec 32 := Scalar.extui v643
  let c0_i32_238 : BitVec 32 := 0#32
  let v645 : BitVec 1 := Scalar.cmpi .slt v640 c0_i32_238
  let v646 : BitVec 32 := Scalar.extui v645
  let v647 : BitVec 32 := Scalar.subi v644 v646
  let c4_i32_236 : BitVec 32 := 4#32
  let c0_i32_239 : BitVec 32 := 0#32
  let v648 : BitVec 1 := Scalar.cmpi .sgt c4_i32_236 c0_i32_239
  let v649 : BitVec 32 := Scalar.extui v648
  let c0_i32_240 : BitVec 32 := 0#32
  let v650 : BitVec 1 := Scalar.cmpi .slt c4_i32_236 c0_i32_240
  let v651 : BitVec 32 := Scalar.extui v650
  let v652 : BitVec 32 := Scalar.subi v649 v651
  let v653 : BitVec 1 := Scalar.cmpi .ne v647 v652
  let v654 : BitVec 32 := Scalar.remsi v640 c4_i32_236
  let c0_i32_241 : BitVec 32 := 0#32
  let v655 : BitVec 1 := Scalar.cmpi .ne v654 c0_i32_241
  let v656 : BitVec 1 := Scalar.andi v653 v655
  let v642 : BitVec 32 := Scalar.divsi v640 c4_i32_236
  let c1_i32_242 : BitVec 32 := 1#32
  let v657 : BitVec 32 := Scalar.subi v642 c1_i32_242
  let v658 : BitVec 32 := Scalar.select v656 v657 v642
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v659 : BitVec 1 := Scalar.cmpi .eq v658 v103
  let v660 : BitVec 1 := Scalar.andi v641 v659
  let v661 : BitVec 32 := Scalar.extui v660
  let c0_i32_243 : BitVec 32 := 0#32
  let v662 : BitVec 1 := Scalar.cmpi .ne v661 c0_i32_243
  v662

@[reducible] def k1_t13_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off64 (v623 : BitVec 32) (k1_t13 : Fin k1_t13_loop.trips) : Fin 2 → Nat :=
  let c0_i32_1453 : BitVec 32 := 0#32
  let c1_i32_1455 : BitVec 32 := 1#32
  let arg19 : BitVec 32 := Scf.iv c0_i32_1453 c1_i32_1455 k1_t13
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v623 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off65 (v621 : BitVec 32) (k1_t13 : Fin k1_t13_loop.trips) : Fin 2 → Nat :=
  let c0_i32_229 : BitVec 32 := 0#32
  let v625 : BitVec 1 := Scalar.cmpi .sgt v621 c0_i32_229
  let v626 : BitVec 32 := Scalar.extui v625
  let c0_i32_230 : BitVec 32 := 0#32
  let v627 : BitVec 1 := Scalar.cmpi .slt v621 c0_i32_230
  let v628 : BitVec 32 := Scalar.extui v627
  let v629 : BitVec 32 := Scalar.subi v626 v628
  let c16_i32_228 : BitVec 32 := 16#32
  let c0_i32_231 : BitVec 32 := 0#32
  let v630 : BitVec 1 := Scalar.cmpi .sgt c16_i32_228 c0_i32_231
  let v631 : BitVec 32 := Scalar.extui v630
  let c0_i32_232 : BitVec 32 := 0#32
  let v632 : BitVec 1 := Scalar.cmpi .slt c16_i32_228 c0_i32_232
  let v633 : BitVec 32 := Scalar.extui v632
  let v634 : BitVec 32 := Scalar.subi v631 v633
  let v635 : BitVec 1 := Scalar.cmpi .ne v629 v634
  let v636 : BitVec 32 := Scalar.remsi v621 c16_i32_228
  let c0_i32_233 : BitVec 32 := 0#32
  let v637 : BitVec 1 := Scalar.cmpi .ne v636 c0_i32_233
  let v638 : BitVec 1 := Scalar.andi v635 v637
  let v624 : BitVec 32 := Scalar.divsi v621 c16_i32_228
  let c1_i32_234 : BitVec 32 := 1#32
  let v639 : BitVec 32 := Scalar.subi v624 c1_i32_234
  let v640 : BitVec 32 := Scalar.select v638 v639 v624
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v640 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t13
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v621 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off66 (v623 : BitVec 32) (k1_t13 : Fin k1_t13_loop.trips) : Fin 2 → Nat :=
  let c0_i32_1453 : BitVec 32 := 0#32
  let c1_i32_1455 : BitVec 32 := 1#32
  let arg19 : BitVec 32 := Scf.iv c0_i32_1453 c1_i32_1455 k1_t13
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v623 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk25 (i : grid1.Coords) (v25 : BitVec 32) (v621 : BitVec 32) (v623 : BitVec 32) : Prop :=
  (∀ (k1_h13 : k1_cond13 i v25 v621 = 1#1), ∀ a, (k1_off63 i v623) a + S32x512.size a ≤ S12288x512.size a) ∧
  (∀ k1_t13 : Fin k1_t13_loop.trips, ∀ (k1_h13 : k1_cond13 i v25 v621 = 1#1), ∀ a, (k1_off64 v623 k1_t13) a + S1x16.size a ≤ S32x512.size a) ∧
  (∀ k1_t13 : Fin k1_t13_loop.trips, ∀ (k1_h13 : k1_cond13 i v25 v621 = 1#1), ∀ a, (k1_off66 v623 k1_t13) a + S1x16.size a ≤ S32x512.size a)
theorem k1_off63_inb : ∀ (i : grid1.Coords) (v25 : BitVec 32) (v621 : BitVec 32) (v623 : BitVec 32) (k1_hw25 : k1_chk25 i v25 v621 v623), ∀ (k1_h13 : k1_cond13 i v25 v621 = 1#1), ∀ a, (k1_off63 i v623) a + S32x512.size a ≤ S12288x512.size a := fun i v25 v621 v623 k1_hw25 k1_h13 => k1_hw25.1 k1_h13
theorem k1_off64_inb : ∀ (i : grid1.Coords) (v25 : BitVec 32) (v621 : BitVec 32) (v623 : BitVec 32) (k1_hw25 : k1_chk25 i v25 v621 v623) (k1_t13 : Fin k1_t13_loop.trips), ∀ (k1_h13 : k1_cond13 i v25 v621 = 1#1), ∀ a, (k1_off64 v623 k1_t13) a + S1x16.size a ≤ S32x512.size a := fun i v25 v621 v623 k1_hw25 k1_t13 k1_h13 => k1_hw25.2.1 k1_t13 k1_h13
theorem k1_off66_inb : ∀ (i : grid1.Coords) (v25 : BitVec 32) (v621 : BitVec 32) (v623 : BitVec 32) (k1_hw25 : k1_chk25 i v25 v621 v623) (k1_t13 : Fin k1_t13_loop.trips), ∀ (k1_h13 : k1_cond13 i v25 v621 = 1#1), ∀ a, (k1_off66 v623 k1_t13) a + S1x16.size a ≤ S32x512.size a := fun i v25 v621 v623 k1_hw25 k1_t13 k1_h13 => k1_hw25.2.2 k1_t13 k1_h13

def k1_off67 (v621 : BitVec 32) (k1_t13 : Fin k1_t13_loop.trips) : Fin 2 → Nat :=
  let c0_i32_229 : BitVec 32 := 0#32
  let v625 : BitVec 1 := Scalar.cmpi .sgt v621 c0_i32_229
  let v626 : BitVec 32 := Scalar.extui v625
  let c0_i32_230 : BitVec 32 := 0#32
  let v627 : BitVec 1 := Scalar.cmpi .slt v621 c0_i32_230
  let v628 : BitVec 32 := Scalar.extui v627
  let v629 : BitVec 32 := Scalar.subi v626 v628
  let c16_i32_228 : BitVec 32 := 16#32
  let c0_i32_231 : BitVec 32 := 0#32
  let v630 : BitVec 1 := Scalar.cmpi .sgt c16_i32_228 c0_i32_231
  let v631 : BitVec 32 := Scalar.extui v630
  let c0_i32_232 : BitVec 32 := 0#32
  let v632 : BitVec 1 := Scalar.cmpi .slt c16_i32_228 c0_i32_232
  let v633 : BitVec 32 := Scalar.extui v632
  let v634 : BitVec 32 := Scalar.subi v631 v633
  let v635 : BitVec 1 := Scalar.cmpi .ne v629 v634
  let v636 : BitVec 32 := Scalar.remsi v621 c16_i32_228
  let c0_i32_233 : BitVec 32 := 0#32
  let v637 : BitVec 1 := Scalar.cmpi .ne v636 c0_i32_233
  let v638 : BitVec 1 := Scalar.andi v635 v637
  let v624 : BitVec 32 := Scalar.divsi v621 c16_i32_228
  let c1_i32_234 : BitVec 32 := 1#32
  let v639 : BitVec 32 := Scalar.subi v624 c1_i32_234
  let v640 : BitVec 32 := Scalar.select v638 v639 v624
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v640 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t13
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v621 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk26 (i : grid1.Coords) (v25 : BitVec 32) (v621 : BitVec 32) : Prop :=
  (∀ k1_t13 : Fin k1_t13_loop.trips, ∀ (k1_h13 : k1_cond13 i v25 v621 = 1#1), ∀ a, (k1_off65 v621 k1_t13) a + S1x16.size a ≤ S128x512.size a) ∧
  (∀ k1_t13 : Fin k1_t13_loop.trips, ∀ (k1_h13 : k1_cond13 i v25 v621 = 1#1), ∀ a, (k1_off67 v621 k1_t13) a + S1x16.size a ≤ S128x512.size a)
theorem k1_off65_inb : ∀ (i : grid1.Coords) (v25 : BitVec 32) (v621 : BitVec 32) (k1_hw26 : k1_chk26 i v25 v621) (k1_t13 : Fin k1_t13_loop.trips), ∀ (k1_h13 : k1_cond13 i v25 v621 = 1#1), ∀ a, (k1_off65 v621 k1_t13) a + S1x16.size a ≤ S128x512.size a := fun i v25 v621 k1_hw26 k1_t13 k1_h13 => k1_hw26.1 k1_t13 k1_h13
theorem k1_off67_inb : ∀ (i : grid1.Coords) (v25 : BitVec 32) (v621 : BitVec 32) (k1_hw26 : k1_chk26 i v25 v621) (k1_t13 : Fin k1_t13_loop.trips), ∀ (k1_h13 : k1_cond13 i v25 v621 = 1#1), ∀ a, (k1_off67 v621 k1_t13) a + S1x16.size a ≤ S128x512.size a := fun i v25 v621 k1_hw26 k1_t13 k1_h13 => k1_hw26.2 k1_t13 k1_h13

def k1_off68 (i : grid1.Coords) (v666 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v666 c0_i32_1428
  let v3763 : BitVec 32 := Scalar.extui v3762
  let c0_i32_1429 : BitVec 32 := 0#32
  let v3764 : BitVec 1 := Scalar.cmpi .slt v666 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v666 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v666 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r17 : BitVec 32 := 0#32
  ![v3779.toNat, 0]
def k1_cond14 (i : grid1.Coords) (v25 : BitVec 32) (v664 : BitVec 32) : BitVec 1 :=
  let c13_i32 : BitVec 32 := 13#32
  let v684 : BitVec 1 := Scalar.cmpi .sgt v25 c13_i32
  let c0_i32_245 : BitVec 32 := 0#32
  let v668 : BitVec 1 := Scalar.cmpi .sgt v664 c0_i32_245
  let v669 : BitVec 32 := Scalar.extui v668
  let c0_i32_246 : BitVec 32 := 0#32
  let v670 : BitVec 1 := Scalar.cmpi .slt v664 c0_i32_246
  let v671 : BitVec 32 := Scalar.extui v670
  let v672 : BitVec 32 := Scalar.subi v669 v671
  let c16_i32_244 : BitVec 32 := 16#32
  let c0_i32_247 : BitVec 32 := 0#32
  let v673 : BitVec 1 := Scalar.cmpi .sgt c16_i32_244 c0_i32_247
  let v674 : BitVec 32 := Scalar.extui v673
  let c0_i32_248 : BitVec 32 := 0#32
  let v675 : BitVec 1 := Scalar.cmpi .slt c16_i32_244 c0_i32_248
  let v676 : BitVec 32 := Scalar.extui v675
  let v677 : BitVec 32 := Scalar.subi v674 v676
  let v678 : BitVec 1 := Scalar.cmpi .ne v672 v677
  let v679 : BitVec 32 := Scalar.remsi v664 c16_i32_244
  let c0_i32_249 : BitVec 32 := 0#32
  let v680 : BitVec 1 := Scalar.cmpi .ne v679 c0_i32_249
  let v681 : BitVec 1 := Scalar.andi v678 v680
  let v667 : BitVec 32 := Scalar.divsi v664 c16_i32_244
  let c1_i32_250 : BitVec 32 := 1#32
  let v682 : BitVec 32 := Scalar.subi v667 c1_i32_250
  let v683 : BitVec 32 := Scalar.select v681 v682 v667
  let c0_i32_252 : BitVec 32 := 0#32
  let v686 : BitVec 1 := Scalar.cmpi .sgt v683 c0_i32_252
  let v687 : BitVec 32 := Scalar.extui v686
  let c0_i32_253 : BitVec 32 := 0#32
  let v688 : BitVec 1 := Scalar.cmpi .slt v683 c0_i32_253
  let v689 : BitVec 32 := Scalar.extui v688
  let v690 : BitVec 32 := Scalar.subi v687 v689
  let c4_i32_251 : BitVec 32 := 4#32
  let c0_i32_254 : BitVec 32 := 0#32
  let v691 : BitVec 1 := Scalar.cmpi .sgt c4_i32_251 c0_i32_254
  let v692 : BitVec 32 := Scalar.extui v691
  let c0_i32_255 : BitVec 32 := 0#32
  let v693 : BitVec 1 := Scalar.cmpi .slt c4_i32_251 c0_i32_255
  let v694 : BitVec 32 := Scalar.extui v693
  let v695 : BitVec 32 := Scalar.subi v692 v694
  let v696 : BitVec 1 := Scalar.cmpi .ne v690 v695
  let v697 : BitVec 32 := Scalar.remsi v683 c4_i32_251
  let c0_i32_256 : BitVec 32 := 0#32
  let v698 : BitVec 1 := Scalar.cmpi .ne v697 c0_i32_256
  let v699 : BitVec 1 := Scalar.andi v696 v698
  let v685 : BitVec 32 := Scalar.divsi v683 c4_i32_251
  let c1_i32_257 : BitVec 32 := 1#32
  let v700 : BitVec 32 := Scalar.subi v685 c1_i32_257
  let v701 : BitVec 32 := Scalar.select v699 v700 v685
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v702 : BitVec 1 := Scalar.cmpi .eq v701 v103
  let v703 : BitVec 1 := Scalar.andi v684 v702
  let v704 : BitVec 32 := Scalar.extui v703
  let c0_i32_258 : BitVec 32 := 0#32
  let v705 : BitVec 1 := Scalar.cmpi .ne v704 c0_i32_258
  v705

@[reducible] def k1_t14_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off69 (v666 : BitVec 32) (k1_t14 : Fin k1_t14_loop.trips) : Fin 2 → Nat :=
  let c0_i32_1453 : BitVec 32 := 0#32
  let c1_i32_1455 : BitVec 32 := 1#32
  let arg19 : BitVec 32 := Scf.iv c0_i32_1453 c1_i32_1455 k1_t14
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v666 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off70 (v664 : BitVec 32) (k1_t14 : Fin k1_t14_loop.trips) : Fin 2 → Nat :=
  let c0_i32_245 : BitVec 32 := 0#32
  let v668 : BitVec 1 := Scalar.cmpi .sgt v664 c0_i32_245
  let v669 : BitVec 32 := Scalar.extui v668
  let c0_i32_246 : BitVec 32 := 0#32
  let v670 : BitVec 1 := Scalar.cmpi .slt v664 c0_i32_246
  let v671 : BitVec 32 := Scalar.extui v670
  let v672 : BitVec 32 := Scalar.subi v669 v671
  let c16_i32_244 : BitVec 32 := 16#32
  let c0_i32_247 : BitVec 32 := 0#32
  let v673 : BitVec 1 := Scalar.cmpi .sgt c16_i32_244 c0_i32_247
  let v674 : BitVec 32 := Scalar.extui v673
  let c0_i32_248 : BitVec 32 := 0#32
  let v675 : BitVec 1 := Scalar.cmpi .slt c16_i32_244 c0_i32_248
  let v676 : BitVec 32 := Scalar.extui v675
  let v677 : BitVec 32 := Scalar.subi v674 v676
  let v678 : BitVec 1 := Scalar.cmpi .ne v672 v677
  let v679 : BitVec 32 := Scalar.remsi v664 c16_i32_244
  let c0_i32_249 : BitVec 32 := 0#32
  let v680 : BitVec 1 := Scalar.cmpi .ne v679 c0_i32_249
  let v681 : BitVec 1 := Scalar.andi v678 v680
  let v667 : BitVec 32 := Scalar.divsi v664 c16_i32_244
  let c1_i32_250 : BitVec 32 := 1#32
  let v682 : BitVec 32 := Scalar.subi v667 c1_i32_250
  let v683 : BitVec 32 := Scalar.select v681 v682 v667
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v683 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t14
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v664 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off71 (v666 : BitVec 32) (k1_t14 : Fin k1_t14_loop.trips) : Fin 2 → Nat :=
  let c0_i32_1453 : BitVec 32 := 0#32
  let c1_i32_1455 : BitVec 32 := 1#32
  let arg19 : BitVec 32 := Scf.iv c0_i32_1453 c1_i32_1455 k1_t14
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v666 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk27 (i : grid1.Coords) (v25 : BitVec 32) (v664 : BitVec 32) (v666 : BitVec 32) : Prop :=
  (∀ (k1_h14 : k1_cond14 i v25 v664 = 1#1), ∀ a, (k1_off68 i v666) a + S32x512.size a ≤ S12288x512.size a) ∧
  (∀ k1_t14 : Fin k1_t14_loop.trips, ∀ (k1_h14 : k1_cond14 i v25 v664 = 1#1), ∀ a, (k1_off69 v666 k1_t14) a + S1x16.size a ≤ S32x512.size a) ∧
  (∀ k1_t14 : Fin k1_t14_loop.trips, ∀ (k1_h14 : k1_cond14 i v25 v664 = 1#1), ∀ a, (k1_off71 v666 k1_t14) a + S1x16.size a ≤ S32x512.size a)
theorem k1_off68_inb : ∀ (i : grid1.Coords) (v25 : BitVec 32) (v664 : BitVec 32) (v666 : BitVec 32) (k1_hw27 : k1_chk27 i v25 v664 v666), ∀ (k1_h14 : k1_cond14 i v25 v664 = 1#1), ∀ a, (k1_off68 i v666) a + S32x512.size a ≤ S12288x512.size a := fun i v25 v664 v666 k1_hw27 k1_h14 => k1_hw27.1 k1_h14
theorem k1_off69_inb : ∀ (i : grid1.Coords) (v25 : BitVec 32) (v664 : BitVec 32) (v666 : BitVec 32) (k1_hw27 : k1_chk27 i v25 v664 v666) (k1_t14 : Fin k1_t14_loop.trips), ∀ (k1_h14 : k1_cond14 i v25 v664 = 1#1), ∀ a, (k1_off69 v666 k1_t14) a + S1x16.size a ≤ S32x512.size a := fun i v25 v664 v666 k1_hw27 k1_t14 k1_h14 => k1_hw27.2.1 k1_t14 k1_h14
theorem k1_off71_inb : ∀ (i : grid1.Coords) (v25 : BitVec 32) (v664 : BitVec 32) (v666 : BitVec 32) (k1_hw27 : k1_chk27 i v25 v664 v666) (k1_t14 : Fin k1_t14_loop.trips), ∀ (k1_h14 : k1_cond14 i v25 v664 = 1#1), ∀ a, (k1_off71 v666 k1_t14) a + S1x16.size a ≤ S32x512.size a := fun i v25 v664 v666 k1_hw27 k1_t14 k1_h14 => k1_hw27.2.2 k1_t14 k1_h14

def k1_off72 (v664 : BitVec 32) (k1_t14 : Fin k1_t14_loop.trips) : Fin 2 → Nat :=
  let c0_i32_245 : BitVec 32 := 0#32
  let v668 : BitVec 1 := Scalar.cmpi .sgt v664 c0_i32_245
  let v669 : BitVec 32 := Scalar.extui v668
  let c0_i32_246 : BitVec 32 := 0#32
  let v670 : BitVec 1 := Scalar.cmpi .slt v664 c0_i32_246
  let v671 : BitVec 32 := Scalar.extui v670
  let v672 : BitVec 32 := Scalar.subi v669 v671
  let c16_i32_244 : BitVec 32 := 16#32
  let c0_i32_247 : BitVec 32 := 0#32
  let v673 : BitVec 1 := Scalar.cmpi .sgt c16_i32_244 c0_i32_247
  let v674 : BitVec 32 := Scalar.extui v673
  let c0_i32_248 : BitVec 32 := 0#32
  let v675 : BitVec 1 := Scalar.cmpi .slt c16_i32_244 c0_i32_248
  let v676 : BitVec 32 := Scalar.extui v675
  let v677 : BitVec 32 := Scalar.subi v674 v676
  let v678 : BitVec 1 := Scalar.cmpi .ne v672 v677
  let v679 : BitVec 32 := Scalar.remsi v664 c16_i32_244
  let c0_i32_249 : BitVec 32 := 0#32
  let v680 : BitVec 1 := Scalar.cmpi .ne v679 c0_i32_249
  let v681 : BitVec 1 := Scalar.andi v678 v680
  let v667 : BitVec 32 := Scalar.divsi v664 c16_i32_244
  let c1_i32_250 : BitVec 32 := 1#32
  let v682 : BitVec 32 := Scalar.subi v667 c1_i32_250
  let v683 : BitVec 32 := Scalar.select v681 v682 v667
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v683 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t14
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v664 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk28 (i : grid1.Coords) (v25 : BitVec 32) (v664 : BitVec 32) : Prop :=
  (∀ k1_t14 : Fin k1_t14_loop.trips, ∀ (k1_h14 : k1_cond14 i v25 v664 = 1#1), ∀ a, (k1_off70 v664 k1_t14) a + S1x16.size a ≤ S128x512.size a) ∧
  (∀ k1_t14 : Fin k1_t14_loop.trips, ∀ (k1_h14 : k1_cond14 i v25 v664 = 1#1), ∀ a, (k1_off72 v664 k1_t14) a + S1x16.size a ≤ S128x512.size a)
theorem k1_off70_inb : ∀ (i : grid1.Coords) (v25 : BitVec 32) (v664 : BitVec 32) (k1_hw28 : k1_chk28 i v25 v664) (k1_t14 : Fin k1_t14_loop.trips), ∀ (k1_h14 : k1_cond14 i v25 v664 = 1#1), ∀ a, (k1_off70 v664 k1_t14) a + S1x16.size a ≤ S128x512.size a := fun i v25 v664 k1_hw28 k1_t14 k1_h14 => k1_hw28.1 k1_t14 k1_h14
theorem k1_off72_inb : ∀ (i : grid1.Coords) (v25 : BitVec 32) (v664 : BitVec 32) (k1_hw28 : k1_chk28 i v25 v664) (k1_t14 : Fin k1_t14_loop.trips), ∀ (k1_h14 : k1_cond14 i v25 v664 = 1#1), ∀ a, (k1_off72 v664 k1_t14) a + S1x16.size a ≤ S128x512.size a := fun i v25 v664 k1_hw28 k1_t14 k1_h14 => k1_hw28.2 k1_t14 k1_h14

def k1_off73 (i : grid1.Coords) (v709 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v709 c0_i32_1428
  let v3763 : BitVec 32 := Scalar.extui v3762
  let c0_i32_1429 : BitVec 32 := 0#32
  let v3764 : BitVec 1 := Scalar.cmpi .slt v709 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v709 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v709 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r18 : BitVec 32 := 0#32
  ![v3779.toNat, 0]
def k1_cond15 (i : grid1.Coords) (v25 : BitVec 32) (v707 : BitVec 32) : BitVec 1 :=
  let c14_i32 : BitVec 32 := 14#32
  let v727 : BitVec 1 := Scalar.cmpi .sgt v25 c14_i32
  let c0_i32_260 : BitVec 32 := 0#32
  let v711 : BitVec 1 := Scalar.cmpi .sgt v707 c0_i32_260
  let v712 : BitVec 32 := Scalar.extui v711
  let c0_i32_261 : BitVec 32 := 0#32
  let v713 : BitVec 1 := Scalar.cmpi .slt v707 c0_i32_261
  let v714 : BitVec 32 := Scalar.extui v713
  let v715 : BitVec 32 := Scalar.subi v712 v714
  let c16_i32_259 : BitVec 32 := 16#32
  let c0_i32_262 : BitVec 32 := 0#32
  let v716 : BitVec 1 := Scalar.cmpi .sgt c16_i32_259 c0_i32_262
  let v717 : BitVec 32 := Scalar.extui v716
  let c0_i32_263 : BitVec 32 := 0#32
  let v718 : BitVec 1 := Scalar.cmpi .slt c16_i32_259 c0_i32_263
  let v719 : BitVec 32 := Scalar.extui v718
  let v720 : BitVec 32 := Scalar.subi v717 v719
  let v721 : BitVec 1 := Scalar.cmpi .ne v715 v720
  let v722 : BitVec 32 := Scalar.remsi v707 c16_i32_259
  let c0_i32_264 : BitVec 32 := 0#32
  let v723 : BitVec 1 := Scalar.cmpi .ne v722 c0_i32_264
  let v724 : BitVec 1 := Scalar.andi v721 v723
  let v710 : BitVec 32 := Scalar.divsi v707 c16_i32_259
  let c1_i32_265 : BitVec 32 := 1#32
  let v725 : BitVec 32 := Scalar.subi v710 c1_i32_265
  let v726 : BitVec 32 := Scalar.select v724 v725 v710
  let c0_i32_267 : BitVec 32 := 0#32
  let v729 : BitVec 1 := Scalar.cmpi .sgt v726 c0_i32_267
  let v730 : BitVec 32 := Scalar.extui v729
  let c0_i32_268 : BitVec 32 := 0#32
  let v731 : BitVec 1 := Scalar.cmpi .slt v726 c0_i32_268
  let v732 : BitVec 32 := Scalar.extui v731
  let v733 : BitVec 32 := Scalar.subi v730 v732
  let c4_i32_266 : BitVec 32 := 4#32
  let c0_i32_269 : BitVec 32 := 0#32
  let v734 : BitVec 1 := Scalar.cmpi .sgt c4_i32_266 c0_i32_269
  let v735 : BitVec 32 := Scalar.extui v734
  let c0_i32_270 : BitVec 32 := 0#32
  let v736 : BitVec 1 := Scalar.cmpi .slt c4_i32_266 c0_i32_270
  let v737 : BitVec 32 := Scalar.extui v736
  let v738 : BitVec 32 := Scalar.subi v735 v737
  let v739 : BitVec 1 := Scalar.cmpi .ne v733 v738
  let v740 : BitVec 32 := Scalar.remsi v726 c4_i32_266
  let c0_i32_271 : BitVec 32 := 0#32
  let v741 : BitVec 1 := Scalar.cmpi .ne v740 c0_i32_271
  let v742 : BitVec 1 := Scalar.andi v739 v741
  let v728 : BitVec 32 := Scalar.divsi v726 c4_i32_266
  let c1_i32_272 : BitVec 32 := 1#32
  let v743 : BitVec 32 := Scalar.subi v728 c1_i32_272
  let v744 : BitVec 32 := Scalar.select v742 v743 v728
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v745 : BitVec 1 := Scalar.cmpi .eq v744 v103
  let v746 : BitVec 1 := Scalar.andi v727 v745
  let v747 : BitVec 32 := Scalar.extui v746
  let c0_i32_273 : BitVec 32 := 0#32
  let v748 : BitVec 1 := Scalar.cmpi .ne v747 c0_i32_273
  v748

@[reducible] def k1_t15_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off74 (v709 : BitVec 32) (k1_t15 : Fin k1_t15_loop.trips) : Fin 2 → Nat :=
  let c0_i32_1453 : BitVec 32 := 0#32
  let c1_i32_1455 : BitVec 32 := 1#32
  let arg19 : BitVec 32 := Scf.iv c0_i32_1453 c1_i32_1455 k1_t15
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v709 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off75 (v707 : BitVec 32) (k1_t15 : Fin k1_t15_loop.trips) : Fin 2 → Nat :=
  let c0_i32_260 : BitVec 32 := 0#32
  let v711 : BitVec 1 := Scalar.cmpi .sgt v707 c0_i32_260
  let v712 : BitVec 32 := Scalar.extui v711
  let c0_i32_261 : BitVec 32 := 0#32
  let v713 : BitVec 1 := Scalar.cmpi .slt v707 c0_i32_261
  let v714 : BitVec 32 := Scalar.extui v713
  let v715 : BitVec 32 := Scalar.subi v712 v714
  let c16_i32_259 : BitVec 32 := 16#32
  let c0_i32_262 : BitVec 32 := 0#32
  let v716 : BitVec 1 := Scalar.cmpi .sgt c16_i32_259 c0_i32_262
  let v717 : BitVec 32 := Scalar.extui v716
  let c0_i32_263 : BitVec 32 := 0#32
  let v718 : BitVec 1 := Scalar.cmpi .slt c16_i32_259 c0_i32_263
  let v719 : BitVec 32 := Scalar.extui v718
  let v720 : BitVec 32 := Scalar.subi v717 v719
  let v721 : BitVec 1 := Scalar.cmpi .ne v715 v720
  let v722 : BitVec 32 := Scalar.remsi v707 c16_i32_259
  let c0_i32_264 : BitVec 32 := 0#32
  let v723 : BitVec 1 := Scalar.cmpi .ne v722 c0_i32_264
  let v724 : BitVec 1 := Scalar.andi v721 v723
  let v710 : BitVec 32 := Scalar.divsi v707 c16_i32_259
  let c1_i32_265 : BitVec 32 := 1#32
  let v725 : BitVec 32 := Scalar.subi v710 c1_i32_265
  let v726 : BitVec 32 := Scalar.select v724 v725 v710
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v726 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t15
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v707 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off76 (v709 : BitVec 32) (k1_t15 : Fin k1_t15_loop.trips) : Fin 2 → Nat :=
  let c0_i32_1453 : BitVec 32 := 0#32
  let c1_i32_1455 : BitVec 32 := 1#32
  let arg19 : BitVec 32 := Scf.iv c0_i32_1453 c1_i32_1455 k1_t15
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v709 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk29 (i : grid1.Coords) (v25 : BitVec 32) (v707 : BitVec 32) (v709 : BitVec 32) : Prop :=
  (∀ (k1_h15 : k1_cond15 i v25 v707 = 1#1), ∀ a, (k1_off73 i v709) a + S32x512.size a ≤ S12288x512.size a) ∧
  (∀ k1_t15 : Fin k1_t15_loop.trips, ∀ (k1_h15 : k1_cond15 i v25 v707 = 1#1), ∀ a, (k1_off74 v709 k1_t15) a + S1x16.size a ≤ S32x512.size a) ∧
  (∀ k1_t15 : Fin k1_t15_loop.trips, ∀ (k1_h15 : k1_cond15 i v25 v707 = 1#1), ∀ a, (k1_off76 v709 k1_t15) a + S1x16.size a ≤ S32x512.size a)
theorem k1_off73_inb : ∀ (i : grid1.Coords) (v25 : BitVec 32) (v707 : BitVec 32) (v709 : BitVec 32) (k1_hw29 : k1_chk29 i v25 v707 v709), ∀ (k1_h15 : k1_cond15 i v25 v707 = 1#1), ∀ a, (k1_off73 i v709) a + S32x512.size a ≤ S12288x512.size a := fun i v25 v707 v709 k1_hw29 k1_h15 => k1_hw29.1 k1_h15
theorem k1_off74_inb : ∀ (i : grid1.Coords) (v25 : BitVec 32) (v707 : BitVec 32) (v709 : BitVec 32) (k1_hw29 : k1_chk29 i v25 v707 v709) (k1_t15 : Fin k1_t15_loop.trips), ∀ (k1_h15 : k1_cond15 i v25 v707 = 1#1), ∀ a, (k1_off74 v709 k1_t15) a + S1x16.size a ≤ S32x512.size a := fun i v25 v707 v709 k1_hw29 k1_t15 k1_h15 => k1_hw29.2.1 k1_t15 k1_h15
theorem k1_off76_inb : ∀ (i : grid1.Coords) (v25 : BitVec 32) (v707 : BitVec 32) (v709 : BitVec 32) (k1_hw29 : k1_chk29 i v25 v707 v709) (k1_t15 : Fin k1_t15_loop.trips), ∀ (k1_h15 : k1_cond15 i v25 v707 = 1#1), ∀ a, (k1_off76 v709 k1_t15) a + S1x16.size a ≤ S32x512.size a := fun i v25 v707 v709 k1_hw29 k1_t15 k1_h15 => k1_hw29.2.2 k1_t15 k1_h15

def k1_off77 (v707 : BitVec 32) (k1_t15 : Fin k1_t15_loop.trips) : Fin 2 → Nat :=
  let c0_i32_260 : BitVec 32 := 0#32
  let v711 : BitVec 1 := Scalar.cmpi .sgt v707 c0_i32_260
  let v712 : BitVec 32 := Scalar.extui v711
  let c0_i32_261 : BitVec 32 := 0#32
  let v713 : BitVec 1 := Scalar.cmpi .slt v707 c0_i32_261
  let v714 : BitVec 32 := Scalar.extui v713
  let v715 : BitVec 32 := Scalar.subi v712 v714
  let c16_i32_259 : BitVec 32 := 16#32
  let c0_i32_262 : BitVec 32 := 0#32
  let v716 : BitVec 1 := Scalar.cmpi .sgt c16_i32_259 c0_i32_262
  let v717 : BitVec 32 := Scalar.extui v716
  let c0_i32_263 : BitVec 32 := 0#32
  let v718 : BitVec 1 := Scalar.cmpi .slt c16_i32_259 c0_i32_263
  let v719 : BitVec 32 := Scalar.extui v718
  let v720 : BitVec 32 := Scalar.subi v717 v719
  let v721 : BitVec 1 := Scalar.cmpi .ne v715 v720
  let v722 : BitVec 32 := Scalar.remsi v707 c16_i32_259
  let c0_i32_264 : BitVec 32 := 0#32
  let v723 : BitVec 1 := Scalar.cmpi .ne v722 c0_i32_264
  let v724 : BitVec 1 := Scalar.andi v721 v723
  let v710 : BitVec 32 := Scalar.divsi v707 c16_i32_259
  let c1_i32_265 : BitVec 32 := 1#32
  let v725 : BitVec 32 := Scalar.subi v710 c1_i32_265
  let v726 : BitVec 32 := Scalar.select v724 v725 v710
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v726 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t15
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v707 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk30 (i : grid1.Coords) (v25 : BitVec 32) (v707 : BitVec 32) : Prop :=
  (∀ k1_t15 : Fin k1_t15_loop.trips, ∀ (k1_h15 : k1_cond15 i v25 v707 = 1#1), ∀ a, (k1_off75 v707 k1_t15) a + S1x16.size a ≤ S128x512.size a) ∧
  (∀ k1_t15 : Fin k1_t15_loop.trips, ∀ (k1_h15 : k1_cond15 i v25 v707 = 1#1), ∀ a, (k1_off77 v707 k1_t15) a + S1x16.size a ≤ S128x512.size a)
theorem k1_off75_inb : ∀ (i : grid1.Coords) (v25 : BitVec 32) (v707 : BitVec 32) (k1_hw30 : k1_chk30 i v25 v707) (k1_t15 : Fin k1_t15_loop.trips), ∀ (k1_h15 : k1_cond15 i v25 v707 = 1#1), ∀ a, (k1_off75 v707 k1_t15) a + S1x16.size a ≤ S128x512.size a := fun i v25 v707 k1_hw30 k1_t15 k1_h15 => k1_hw30.1 k1_t15 k1_h15
theorem k1_off77_inb : ∀ (i : grid1.Coords) (v25 : BitVec 32) (v707 : BitVec 32) (k1_hw30 : k1_chk30 i v25 v707) (k1_t15 : Fin k1_t15_loop.trips), ∀ (k1_h15 : k1_cond15 i v25 v707 = 1#1), ∀ a, (k1_off77 v707 k1_t15) a + S1x16.size a ≤ S128x512.size a := fun i v25 v707 k1_hw30 k1_t15 k1_h15 => k1_hw30.2 k1_t15 k1_h15

def k1_off78 (i : grid1.Coords) (v752 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_29 : BitVec 32 := 3#32
  let v74 : BitVec 32 := Scalar.muli v18 c3_i32_29
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v75 : BitVec 32 := Scalar.addi v74 v58
  let c512_i32_30 : BitVec 32 := 512#32
  let v76 : BitVec 32 := Scalar.muli v75 c512_i32_30
  let c0_i32_1428 : BitVec 32 := 0#32
  let v3762 : BitVec 1 := Scalar.cmpi .sgt v752 c0_i32_1428
  let v3763 : BitVec 32 := Scalar.extui v3762
  let c0_i32_1429 : BitVec 32 := 0#32
  let v3764 : BitVec 1 := Scalar.cmpi .slt v752 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v752 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v752 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v76 v3778
  let c0_i32_1457_r19 : BitVec 32 := 0#32
  ![v3779.toNat, 0]
def k1_cond16 (i : grid1.Coords) (v25 : BitVec 32) (v750 : BitVec 32) : BitVec 1 :=
  let c15_i32 : BitVec 32 := 15#32
  let v770 : BitVec 1 := Scalar.cmpi .sgt v25 c15_i32
  let c0_i32_275 : BitVec 32 := 0#32
  let v754 : BitVec 1 := Scalar.cmpi .sgt v750 c0_i32_275
  let v755 : BitVec 32 := Scalar.extui v754
  let c0_i32_276 : BitVec 32 := 0#32
  let v756 : BitVec 1 := Scalar.cmpi .slt v750 c0_i32_276
  let v757 : BitVec 32 := Scalar.extui v756
  let v758 : BitVec 32 := Scalar.subi v755 v757
  let c16_i32_274 : BitVec 32 := 16#32
  let c0_i32_277 : BitVec 32 := 0#32
  let v759 : BitVec 1 := Scalar.cmpi .sgt c16_i32_274 c0_i32_277
  let v760 : BitVec 32 := Scalar.extui v759
  let c0_i32_278 : BitVec 32 := 0#32
  let v761 : BitVec 1 := Scalar.cmpi .slt c16_i32_274 c0_i32_278
  let v762 : BitVec 32 := Scalar.extui v761
  let v763 : BitVec 32 := Scalar.subi v760 v762
  let v764 : BitVec 1 := Scalar.cmpi .ne v758 v763
  let v765 : BitVec 32 := Scalar.remsi v750 c16_i32_274
  let c0_i32_279 : BitVec 32 := 0#32
  let v766 : BitVec 1 := Scalar.cmpi .ne v765 c0_i32_279
  let v767 : BitVec 1 := Scalar.andi v764 v766
  let v753 : BitVec 32 := Scalar.divsi v750 c16_i32_274
  let c1_i32_280 : BitVec 32 := 1#32
  let v768 : BitVec 32 := Scalar.subi v753 c1_i32_280
  let v769 : BitVec 32 := Scalar.select v767 v768 v753
  let c0_i32_282 : BitVec 32 := 0#32
  let v772 : BitVec 1 := Scalar.cmpi .sgt v769 c0_i32_282
  let v773 : BitVec 32 := Scalar.extui v772
  let c0_i32_283 : BitVec 32 := 0#32
  let v774 : BitVec 1 := Scalar.cmpi .slt v769 c0_i32_283
  let v775 : BitVec 32 := Scalar.extui v774
  let v776 : BitVec 32 := Scalar.subi v773 v775
  let c4_i32_281 : BitVec 32 := 4#32
  let c0_i32_284 : BitVec 32 := 0#32
  let v777 : BitVec 1 := Scalar.cmpi .sgt c4_i32_281 c0_i32_284
  let v778 : BitVec 32 := Scalar.extui v777
  let c0_i32_285 : BitVec 32 := 0#32
  let v779 : BitVec 1 := Scalar.cmpi .slt c4_i32_281 c0_i32_285
  let v780 : BitVec 32 := Scalar.extui v779
  let v781 : BitVec 32 := Scalar.subi v778 v780
  let v782 : BitVec 1 := Scalar.cmpi .ne v776 v781
  let v783 : BitVec 32 := Scalar.remsi v769 c4_i32_281
  let c0_i32_286 : BitVec 32 := 0#32
  let v784 : BitVec 1 := Scalar.cmpi .ne v783 c0_i32_286
  let v785 : BitVec 1 := Scalar.andi v782 v784
  let v771 : BitVec 32 := Scalar.divsi v769 c4_i32_281
  let c1_i32_287 : BitVec 32 := 1#32
  let v786 : BitVec 32 := Scalar.subi v771 c1_i32_287
  let v787 : BitVec 32 := Scalar.select v785 v786 v771
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let c0_i32_9 : BitVec 32 := 0#32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c512_i32_31 : BitVec 32 := 512#32
  let c0_i32_32 : BitVec 32 := 0#32
  let v77 : BitVec 1 := Scalar.cmpi .eq c512_i32_31 c0_i32_32
  let c1_i32_33 : BitVec 32 := 1#32
  let v78 : BitVec 32 := Scalar.select v77 c1_i32_33 c512_i32_31
  let v79 : BitVec 32 := Scalar.remsi v73 v78
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let c0_i32_34 : BitVec 32 := 0#32
  let v80 : BitVec 1 := Scalar.cmpi .ne v79 c0_i32_34
  let v84 : BitVec 1 := Scalar.andi v83 v80
  let v85 : BitVec 32 := Scalar.addi v79 v78
  let v86 : BitVec 32 := Scalar.select v84 v85 v79
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c128_i32_37 : BitVec 32 := 128#32
  let c0_i32_40 : BitVec 32 := 0#32
  let v93 : BitVec 1 := Scalar.cmpi .sgt c128_i32_37 c0_i32_40
  let v94 : BitVec 32 := Scalar.extui v93
  let c0_i32_41 : BitVec 32 := 0#32
  let v95 : BitVec 1 := Scalar.cmpi .slt c128_i32_37 c0_i32_41
  let v96 : BitVec 32 := Scalar.extui v95
  let v97 : BitVec 32 := Scalar.subi v94 v96
  let v98 : BitVec 1 := Scalar.cmpi .ne v92 v97
  let v99 : BitVec 32 := Scalar.remsi v86 c128_i32_37
  let c0_i32_42 : BitVec 32 := 0#32
  let v100 : BitVec 1 := Scalar.cmpi .ne v99 c0_i32_42
  let v101 : BitVec 1 := Scalar.andi v98 v100
  let v87 : BitVec 32 := Scalar.divsi v86 c128_i32_37
  let c1_i32_43 : BitVec 32 := 1#32
  let v102 : BitVec 32 := Scalar.subi v87 c1_i32_43
  let v103 : BitVec 32 := Scalar.select v101 v102 v87
  let v788 : BitVec 1 := Scalar.cmpi .eq v787 v103
  let v789 : BitVec 1 := Scalar.andi v770 v788
  let v790 : BitVec 32 := Scalar.extui v789
  let c0_i32_288 : BitVec 32 := 0#32
  let v791 : BitVec 1 := Scalar.cmpi .ne v790 c0_i32_288
  v791

@[reducible] def k1_t16_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off79 (v752 : BitVec 32) (k1_t16 : Fin k1_t16_loop.trips) : Fin 2 → Nat :=
  let c0_i32_1453 : BitVec 32 := 0#32
  let c1_i32_1455 : BitVec 32 := 1#32
  let arg19 : BitVec 32 := Scf.iv c0_i32_1453 c1_i32_1455 k1_t16
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v752 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off80 (v750 : BitVec 32) (k1_t16 : Fin k1_t16_loop.trips) : Fin 2 → Nat :=
  let c0_i32_275 : BitVec 32 := 0#32
  let v754 : BitVec 1 := Scalar.cmpi .sgt v750 c0_i32_275
  let v755 : BitVec 32 := Scalar.extui v754
  let c0_i32_276 : BitVec 32 := 0#32
  let v756 : BitVec 1 := Scalar.cmpi .slt v750 c0_i32_276
  let v757 : BitVec 32 := Scalar.extui v756
  let v758 : BitVec 32 := Scalar.subi v755 v757
  let c16_i32_274 : BitVec 32 := 16#32
  let c0_i32_277 : BitVec 32 := 0#32
  let v759 : BitVec 1 := Scalar.cmpi .sgt c16_i32_274 c0_i32_277
  let v760 : BitVec 32 := Scalar.extui v759
  let c0_i32_278 : BitVec 32 := 0#32
  let v761 : BitVec 1 := Scalar.cmpi .slt c16_i32_274 c0_i32_278
  let v762 : BitVec 32 := Scalar.extui v761
  let v763 : BitVec 32 := Scalar.subi v760 v762
  let v764 : BitVec 1 := Scalar.cmpi .ne v758 v763
  let v765 : BitVec 32 := Scalar.remsi v750 c16_i32_274
  let c0_i32_279 : BitVec 32 := 0#32
  let v766 : BitVec 1 := Scalar.cmpi .ne v765 c0_i32_279
  let v767 : BitVec 1 := Scalar.andi v764 v766
  let v753 : BitVec 32 := Scalar.divsi v750 c16_i32_274
  let c1_i32_280 : BitVec 32 := 1#32
  let v768 : BitVec 32 := Scalar.subi v753 c1_i32_280
  let v769 : BitVec 32 := Scalar.select v767 v768 v753
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v769 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t16
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v750 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off81 (v752 : BitVec 32) (k1_t16 : Fin k1_t16_loop.trips) : Fin 2 → Nat :=
  let c0_i32_1453 : BitVec 32 := 0#32
  let c1_i32_1455 : BitVec 32 := 1#32
  let arg19 : BitVec 32 := Scf.iv c0_i32_1453 c1_i32_1455 k1_t16
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v752 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk31 (i : grid1.Coords) (v25 : BitVec 32) (v750 : BitVec 32) (v752 : BitVec 32) : Prop :=
  (∀ (k1_h16 : k1_cond16 i v25 v750 = 1#1), ∀ a, (k1_off78 i v752) a + S32x512.size a ≤ S12288x512.size a) ∧
  (∀ k1_t16 : Fin k1_t16_loop.trips, ∀ (k1_h16 : k1_cond16 i v25 v750 = 1#1), ∀ a, (k1_off79 v752 k1_t16) a + S1x16.size a ≤ S32x512.size a) ∧
  (∀ k1_t16 : Fin k1_t16_loop.trips, ∀ (k1_h16 : k1_cond16 i v25 v750 = 1#1), ∀ a, (k1_off81 v752 k1_t16) a + S1x16.size a ≤ S32x512.size a)
theorem k1_off78_inb : ∀ (i : grid1.Coords) (v25 : BitVec 32) (v750 : BitVec 32) (v752 : BitVec 32) (k1_hw31 : k1_chk31 i v25 v750 v752), ∀ (k1_h16 : k1_cond16 i v25 v750 = 1#1), ∀ a, (k1_off78 i v752) a + S32x512.size a ≤ S12288x512.size a := fun i v25 v750 v752 k1_hw31 k1_h16 => k1_hw31.1 k1_h16
theorem k1_off79_inb : ∀ (i : grid1.Coords) (v25 : BitVec 32) (v750 : BitVec 32) (v752 : BitVec 32) (k1_hw31 : k1_chk31 i v25 v750 v752) (k1_t16 : Fin k1_t16_loop.trips), ∀ (k1_h16 : k1_cond16 i v25 v750 = 1#1), ∀ a, (k1_off79 v752 k1_t16) a + S1x16.size a ≤ S32x512.size a := fun i v25 v750 v752 k1_hw31 k1_t16 k1_h16 => k1_hw31.2.1 k1_t16 k1_h16
theorem k1_off81_inb : ∀ (i : grid1.Coords) (v25 : BitVec 32) (v750 : BitVec 32) (v752 : BitVec 32) (k1_hw31 : k1_chk31 i v25 v750 v752) (k1_t16 : Fin k1_t16_loop.trips), ∀ (k1_h16 : k1_cond16 i v25 v750 = 1#1), ∀ a, (k1_off81 v752 k1_t16) a + S1x16.size a ≤ S32x512.size a := fun i v25 v750 v752 k1_hw31 k1_t16 k1_h16 => k1_hw31.2.2 k1_t16 k1_h16

def k1_off82 (v750 : BitVec 32) (k1_t16 : Fin k1_t16_loop.trips) : Fin 2 → Nat :=
  let c0_i32_275 : BitVec 32 := 0#32
  let v754 : BitVec 1 := Scalar.cmpi .sgt v750 c0_i32_275
  let v755 : BitVec 32 := Scalar.extui v754
  let c0_i32_276 : BitVec 32 := 0#32
  let v756 : BitVec 1 := Scalar.cmpi .slt v750 c0_i32_276
  let v757 : BitVec 32 := Scalar.extui v756
  let v758 : BitVec 32 := Scalar.subi v755 v757
  let c16_i32_274 : BitVec 32 := 16#32
  let c0_i32_277 : BitVec 32 := 0#32
  let v759 : BitVec 1 := Scalar.cmpi .sgt c16_i32_274 c0_i32_277
  let v760 : BitVec 32 := Scalar.extui v759
  let c0_i32_278 : BitVec 32 := 0#32
  let v761 : BitVec 1 := Scalar.cmpi .slt c16_i32_274 c0_i32_278
  let v762 : BitVec 32 := Scalar.extui v761
  let v763 : BitVec 32 := Scalar.subi v760 v762
  let v764 : BitVec 1 := Scalar.cmpi .ne v758 v763
  let v765 : BitVec 32 := Scalar.remsi v750 c16_i32_274
  let c0_i32_279 : BitVec 32 := 0#32
  let v766 : BitVec 1 := Scalar.cmpi .ne v765 c0_i32_279
  let v767 : BitVec 1 := Scalar.andi v764 v766
  let v753 : BitVec 32 := Scalar.divsi v750 c16_i32_274
  let c1_i32_280 : BitVec 32 := 1#32
  let v768 : BitVec 32 := Scalar.subi v753 c1_i32_280
  let v769 : BitVec 32 := Scalar.select v767 v768 v753
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v769 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t16
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v750 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk32 (i : grid1.Coords) (v25 : BitVec 32) (v750 : BitVec 32) : Prop :=
  (∀ k1_t16 : Fin k1_t16_loop.trips, ∀ (k1_h16 : k1_cond16 i v25 v750 = 1#1), ∀ a, (k1_off80 v750 k1_t16) a + S1x16.size a ≤ S128x512.size a) ∧
  (∀ k1_t16 : Fin k1_t16_loop.trips, ∀ (k1_h16 : k1_cond16 i v25 v750 = 1#1), ∀ a, (k1_off82 v750 k1_t16) a + S1x16.size a ≤ S128x512.size a)
theorem k1_off80_inb : ∀ (i : grid1.Coords) (v25 : BitVec 32) (v750 : BitVec 32) (k1_hw32 : k1_chk32 i v25 v750) (k1_t16 : Fin k1_t16_loop.trips), ∀ (k1_h16 : k1_cond16 i v25 v750 = 1#1), ∀ a, (k1_off80 v750 k1_t16) a + S1x16.size a ≤ S128x512.size a := fun i v25 v750 k1_hw32 k1_t16 k1_h16 => k1_hw32.1 k1_t16 k1_h16
theorem k1_off82_inb : ∀ (i : grid1.Coords) (v25 : BitVec 32) (v750 : BitVec 32) (k1_hw32 : k1_chk32 i v25 v750) (k1_t16 : Fin k1_t16_loop.trips), ∀ (k1_h16 : k1_cond16 i v25 v750 = 1#1), ∀ a, (k1_off82 v750 k1_t16) a + S1x16.size a ≤ S128x512.size a := fun i v25 v750 k1_hw32 k1_t16 k1_h16 => k1_hw32.2 k1_t16 k1_h16

def k1_off83 (i : grid1.Coords) (c0_i32_9 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_28 : BitVec 32 := 3#32
  let v69 : BitVec 32 := Scalar.muli v18 c3_i32_28
  let c3_i32 : BitVec 32 := 3#32
  let v30 : BitVec 32 := Scalar.muli v1 c3_i32
  let v31 : BitVec 32 := Scalar.addi v30 c0_i32_9
  let c12_i32 : BitVec 32 := 12#32
  let c0_i32_10 : BitVec 32 := 0#32
  let v32 : BitVec 1 := Scalar.cmpi .eq c12_i32 c0_i32_10
  let c1_i32_11 : BitVec 32 := 1#32
  let v33 : BitVec 32 := Scalar.select v32 c1_i32_11 c12_i32
  let v34 : BitVec 32 := Scalar.remsi v31 v33
  let c0_i32_13 : BitVec 32 := 0#32
  let v36 : BitVec 1 := Scalar.cmpi .slt v34 c0_i32_13
  let c0_i32_14 : BitVec 32 := 0#32
  let v37 : BitVec 1 := Scalar.cmpi .slt v33 c0_i32_14
  let v38 : BitVec 1 := Scalar.xori v36 v37
  let c0_i32_12 : BitVec 32 := 0#32
  let v35 : BitVec 1 := Scalar.cmpi .ne v34 c0_i32_12
  let v39 : BitVec 1 := Scalar.andi v38 v35
  let v40 : BitVec 32 := Scalar.addi v34 v33
  let v41 : BitVec 32 := Scalar.select v39 v40 v34
  let c0_i32_16 : BitVec 32 := 0#32
  let v43 : BitVec 1 := Scalar.cmpi .sgt v41 c0_i32_16
  let v44 : BitVec 32 := Scalar.extui v43
  let c0_i32_17 : BitVec 32 := 0#32
  let v45 : BitVec 1 := Scalar.cmpi .slt v41 c0_i32_17
  let v46 : BitVec 32 := Scalar.extui v45
  let v47 : BitVec 32 := Scalar.subi v44 v46
  let c4_i32_15 : BitVec 32 := 4#32
  let c0_i32_18 : BitVec 32 := 0#32
  let v48 : BitVec 1 := Scalar.cmpi .sgt c4_i32_15 c0_i32_18
  let v49 : BitVec 32 := Scalar.extui v48
  let c0_i32_19 : BitVec 32 := 0#32
  let v50 : BitVec 1 := Scalar.cmpi .slt c4_i32_15 c0_i32_19
  let v51 : BitVec 32 := Scalar.extui v50
  let v52 : BitVec 32 := Scalar.subi v49 v51
  let v53 : BitVec 1 := Scalar.cmpi .ne v47 v52
  let v54 : BitVec 32 := Scalar.remsi v41 c4_i32_15
  let c0_i32_20 : BitVec 32 := 0#32
  let v55 : BitVec 1 := Scalar.cmpi .ne v54 c0_i32_20
  let v56 : BitVec 1 := Scalar.andi v53 v55
  let v42 : BitVec 32 := Scalar.divsi v41 c4_i32_15
  let c1_i32_21 : BitVec 32 := 1#32
  let v57 : BitVec 32 := Scalar.subi v42 c1_i32_21
  let v58 : BitVec 32 := Scalar.select v56 v57 v42
  let v70 : BitVec 32 := Scalar.addi v69 v58
  let c512_i32 : BitVec 32 := 512#32
  let v71 : BitVec 32 := Scalar.muli v70 c512_i32
  let c4_i32_22 : BitVec 32 := 4#32
  let c0_i32_23 : BitVec 32 := 0#32
  let v59 : BitVec 1 := Scalar.cmpi .eq c4_i32_22 c0_i32_23
  let c1_i32_24 : BitVec 32 := 1#32
  let v60 : BitVec 32 := Scalar.select v59 c1_i32_24 c4_i32_22
  let v61 : BitVec 32 := Scalar.remsi v31 v60
  let c0_i32_26 : BitVec 32 := 0#32
  let v63 : BitVec 1 := Scalar.cmpi .slt v61 c0_i32_26
  let c0_i32_27 : BitVec 32 := 0#32
  let v64 : BitVec 1 := Scalar.cmpi .slt v60 c0_i32_27
  let v65 : BitVec 1 := Scalar.xori v63 v64
  let c0_i32_25 : BitVec 32 := 0#32
  let v62 : BitVec 1 := Scalar.cmpi .ne v61 c0_i32_25
  let v66 : BitVec 1 := Scalar.andi v65 v62
  let v67 : BitVec 32 := Scalar.addi v61 v60
  let v68 : BitVec 32 := Scalar.select v66 v67 v61
  let c128_i32 : BitVec 32 := 128#32
  let v72 : BitVec 32 := Scalar.muli v68 c128_i32
  let v73 : BitVec 32 := Scalar.addi v71 v72
  let c0_i32_1427_r20 : BitVec 32 := 0#32
  ![v73.toNat, 0]
def k1_off84 (i : grid1.Coords) (v869 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v869 c0_i32_1428
  let v3763 : BitVec 32 := Scalar.extui v3762
  let c0_i32_1429 : BitVec 32 := 0#32
  let v3764 : BitVec 1 := Scalar.cmpi .slt v869 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v869 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v869 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r22 : BitVec 32 := 0#32
  ![v3779.toNat, 0]
def k1_cond17 (i : grid1.Coords) (v25 : BitVec 32) (v867 : BitVec 32) : BitVec 1 :=
  let c0_i32_335 : BitVec 32 := 0#32
  let v887 : BitVec 1 := Scalar.cmpi .sgt v25 c0_i32_335
  let c0_i32_329 : BitVec 32 := 0#32
  let v871 : BitVec 1 := Scalar.cmpi .sgt v867 c0_i32_329
  let v872 : BitVec 32 := Scalar.extui v871
  let c0_i32_330 : BitVec 32 := 0#32
  let v873 : BitVec 1 := Scalar.cmpi .slt v867 c0_i32_330
  let v874 : BitVec 32 := Scalar.extui v873
  let v875 : BitVec 32 := Scalar.subi v872 v874
  let c16_i32_328 : BitVec 32 := 16#32
  let c0_i32_331 : BitVec 32 := 0#32
  let v876 : BitVec 1 := Scalar.cmpi .sgt c16_i32_328 c0_i32_331
  let v877 : BitVec 32 := Scalar.extui v876
  let c0_i32_332 : BitVec 32 := 0#32
  let v878 : BitVec 1 := Scalar.cmpi .slt c16_i32_328 c0_i32_332
  let v879 : BitVec 32 := Scalar.extui v878
  let v880 : BitVec 32 := Scalar.subi v877 v879
  let v881 : BitVec 1 := Scalar.cmpi .ne v875 v880
  let v882 : BitVec 32 := Scalar.remsi v867 c16_i32_328
  let c0_i32_333 : BitVec 32 := 0#32
  let v883 : BitVec 1 := Scalar.cmpi .ne v882 c0_i32_333
  let v884 : BitVec 1 := Scalar.andi v881 v883
  let v870 : BitVec 32 := Scalar.divsi v867 c16_i32_328
  let c1_i32_334 : BitVec 32 := 1#32
  let v885 : BitVec 32 := Scalar.subi v870 c1_i32_334
  let v886 : BitVec 32 := Scalar.select v884 v885 v870
  let c0_i32_337 : BitVec 32 := 0#32
  let v889 : BitVec 1 := Scalar.cmpi .sgt v886 c0_i32_337
  let v890 : BitVec 32 := Scalar.extui v889
  let c0_i32_338 : BitVec 32 := 0#32
  let v891 : BitVec 1 := Scalar.cmpi .slt v886 c0_i32_338
  let v892 : BitVec 32 := Scalar.extui v891
  let v893 : BitVec 32 := Scalar.subi v890 v892
  let c4_i32_336 : BitVec 32 := 4#32
  let c0_i32_339 : BitVec 32 := 0#32
  let v894 : BitVec 1 := Scalar.cmpi .sgt c4_i32_336 c0_i32_339
  let v895 : BitVec 32 := Scalar.extui v894
  let c0_i32_340 : BitVec 32 := 0#32
  let v896 : BitVec 1 := Scalar.cmpi .slt c4_i32_336 c0_i32_340
  let v897 : BitVec 32 := Scalar.extui v896
  let v898 : BitVec 32 := Scalar.subi v895 v897
  let v899 : BitVec 1 := Scalar.cmpi .ne v893 v898
  let v900 : BitVec 32 := Scalar.remsi v886 c4_i32_336
  let c0_i32_341 : BitVec 32 := 0#32
  let v901 : BitVec 1 := Scalar.cmpi .ne v900 c0_i32_341
  let v902 : BitVec 1 := Scalar.andi v899 v901
  let v888 : BitVec 32 := Scalar.divsi v886 c4_i32_336
  let c1_i32_342 : BitVec 32 := 1#32
  let v903 : BitVec 32 := Scalar.subi v888 c1_i32_342
  let v904 : BitVec 32 := Scalar.select v902 v903 v888
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v905 : BitVec 1 := Scalar.cmpi .eq v904 v865
  let v906 : BitVec 1 := Scalar.andi v887 v905
  let v907 : BitVec 32 := Scalar.extui v906
  let c0_i32_343 : BitVec 32 := 0#32
  let v908 : BitVec 1 := Scalar.cmpi .ne v907 c0_i32_343
  v908

@[reducible] def k1_t17_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off85 (v869 : BitVec 32) (k1_t17 : Fin k1_t17_loop.trips) : Fin 2 → Nat :=
  let c0_i32_1453 : BitVec 32 := 0#32
  let c1_i32_1455 : BitVec 32 := 1#32
  let arg19 : BitVec 32 := Scf.iv c0_i32_1453 c1_i32_1455 k1_t17
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v869 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off86 (v867 : BitVec 32) (k1_t17 : Fin k1_t17_loop.trips) : Fin 2 → Nat :=
  let c0_i32_329 : BitVec 32 := 0#32
  let v871 : BitVec 1 := Scalar.cmpi .sgt v867 c0_i32_329
  let v872 : BitVec 32 := Scalar.extui v871
  let c0_i32_330 : BitVec 32 := 0#32
  let v873 : BitVec 1 := Scalar.cmpi .slt v867 c0_i32_330
  let v874 : BitVec 32 := Scalar.extui v873
  let v875 : BitVec 32 := Scalar.subi v872 v874
  let c16_i32_328 : BitVec 32 := 16#32
  let c0_i32_331 : BitVec 32 := 0#32
  let v876 : BitVec 1 := Scalar.cmpi .sgt c16_i32_328 c0_i32_331
  let v877 : BitVec 32 := Scalar.extui v876
  let c0_i32_332 : BitVec 32 := 0#32
  let v878 : BitVec 1 := Scalar.cmpi .slt c16_i32_328 c0_i32_332
  let v879 : BitVec 32 := Scalar.extui v878
  let v880 : BitVec 32 := Scalar.subi v877 v879
  let v881 : BitVec 1 := Scalar.cmpi .ne v875 v880
  let v882 : BitVec 32 := Scalar.remsi v867 c16_i32_328
  let c0_i32_333 : BitVec 32 := 0#32
  let v883 : BitVec 1 := Scalar.cmpi .ne v882 c0_i32_333
  let v884 : BitVec 1 := Scalar.andi v881 v883
  let v870 : BitVec 32 := Scalar.divsi v867 c16_i32_328
  let c1_i32_334 : BitVec 32 := 1#32
  let v885 : BitVec 32 := Scalar.subi v870 c1_i32_334
  let v886 : BitVec 32 := Scalar.select v884 v885 v870
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v886 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t17
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v867 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off87 (v869 : BitVec 32) (k1_t17 : Fin k1_t17_loop.trips) : Fin 2 → Nat :=
  let c0_i32_1453 : BitVec 32 := 0#32
  let c1_i32_1455 : BitVec 32 := 1#32
  let arg19 : BitVec 32 := Scf.iv c0_i32_1453 c1_i32_1455 k1_t17
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v869 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk33 (i : grid1.Coords) (v25 : BitVec 32) (v867 : BitVec 32) (v869 : BitVec 32) : Prop :=
  (∀ (k1_h17 : k1_cond17 i v25 v867 = 1#1), ∀ a, (k1_off84 i v869) a + S32x512.size a ≤ S12288x512.size a) ∧
  (∀ k1_t17 : Fin k1_t17_loop.trips, ∀ (k1_h17 : k1_cond17 i v25 v867 = 1#1), ∀ a, (k1_off85 v869 k1_t17) a + S1x16.size a ≤ S32x512.size a) ∧
  (∀ k1_t17 : Fin k1_t17_loop.trips, ∀ (k1_h17 : k1_cond17 i v25 v867 = 1#1), ∀ a, (k1_off87 v869 k1_t17) a + S1x16.size a ≤ S32x512.size a)
theorem k1_off84_inb : ∀ (i : grid1.Coords) (v25 : BitVec 32) (v867 : BitVec 32) (v869 : BitVec 32) (k1_hw33 : k1_chk33 i v25 v867 v869), ∀ (k1_h17 : k1_cond17 i v25 v867 = 1#1), ∀ a, (k1_off84 i v869) a + S32x512.size a ≤ S12288x512.size a := fun i v25 v867 v869 k1_hw33 k1_h17 => k1_hw33.1 k1_h17
theorem k1_off85_inb : ∀ (i : grid1.Coords) (v25 : BitVec 32) (v867 : BitVec 32) (v869 : BitVec 32) (k1_hw33 : k1_chk33 i v25 v867 v869) (k1_t17 : Fin k1_t17_loop.trips), ∀ (k1_h17 : k1_cond17 i v25 v867 = 1#1), ∀ a, (k1_off85 v869 k1_t17) a + S1x16.size a ≤ S32x512.size a := fun i v25 v867 v869 k1_hw33 k1_t17 k1_h17 => k1_hw33.2.1 k1_t17 k1_h17
theorem k1_off87_inb : ∀ (i : grid1.Coords) (v25 : BitVec 32) (v867 : BitVec 32) (v869 : BitVec 32) (k1_hw33 : k1_chk33 i v25 v867 v869) (k1_t17 : Fin k1_t17_loop.trips), ∀ (k1_h17 : k1_cond17 i v25 v867 = 1#1), ∀ a, (k1_off87 v869 k1_t17) a + S1x16.size a ≤ S32x512.size a := fun i v25 v867 v869 k1_hw33 k1_t17 k1_h17 => k1_hw33.2.2 k1_t17 k1_h17

def k1_off88 (v867 : BitVec 32) (k1_t17 : Fin k1_t17_loop.trips) : Fin 2 → Nat :=
  let c0_i32_329 : BitVec 32 := 0#32
  let v871 : BitVec 1 := Scalar.cmpi .sgt v867 c0_i32_329
  let v872 : BitVec 32 := Scalar.extui v871
  let c0_i32_330 : BitVec 32 := 0#32
  let v873 : BitVec 1 := Scalar.cmpi .slt v867 c0_i32_330
  let v874 : BitVec 32 := Scalar.extui v873
  let v875 : BitVec 32 := Scalar.subi v872 v874
  let c16_i32_328 : BitVec 32 := 16#32
  let c0_i32_331 : BitVec 32 := 0#32
  let v876 : BitVec 1 := Scalar.cmpi .sgt c16_i32_328 c0_i32_331
  let v877 : BitVec 32 := Scalar.extui v876
  let c0_i32_332 : BitVec 32 := 0#32
  let v878 : BitVec 1 := Scalar.cmpi .slt c16_i32_328 c0_i32_332
  let v879 : BitVec 32 := Scalar.extui v878
  let v880 : BitVec 32 := Scalar.subi v877 v879
  let v881 : BitVec 1 := Scalar.cmpi .ne v875 v880
  let v882 : BitVec 32 := Scalar.remsi v867 c16_i32_328
  let c0_i32_333 : BitVec 32 := 0#32
  let v883 : BitVec 1 := Scalar.cmpi .ne v882 c0_i32_333
  let v884 : BitVec 1 := Scalar.andi v881 v883
  let v870 : BitVec 32 := Scalar.divsi v867 c16_i32_328
  let c1_i32_334 : BitVec 32 := 1#32
  let v885 : BitVec 32 := Scalar.subi v870 c1_i32_334
  let v886 : BitVec 32 := Scalar.select v884 v885 v870
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v886 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t17
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v867 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk34 (i : grid1.Coords) (v25 : BitVec 32) (v867 : BitVec 32) : Prop :=
  (∀ k1_t17 : Fin k1_t17_loop.trips, ∀ (k1_h17 : k1_cond17 i v25 v867 = 1#1), ∀ a, (k1_off86 v867 k1_t17) a + S1x16.size a ≤ S128x512.size a) ∧
  (∀ k1_t17 : Fin k1_t17_loop.trips, ∀ (k1_h17 : k1_cond17 i v25 v867 = 1#1), ∀ a, (k1_off88 v867 k1_t17) a + S1x16.size a ≤ S128x512.size a)
theorem k1_off86_inb : ∀ (i : grid1.Coords) (v25 : BitVec 32) (v867 : BitVec 32) (k1_hw34 : k1_chk34 i v25 v867) (k1_t17 : Fin k1_t17_loop.trips), ∀ (k1_h17 : k1_cond17 i v25 v867 = 1#1), ∀ a, (k1_off86 v867 k1_t17) a + S1x16.size a ≤ S128x512.size a := fun i v25 v867 k1_hw34 k1_t17 k1_h17 => k1_hw34.1 k1_t17 k1_h17
theorem k1_off88_inb : ∀ (i : grid1.Coords) (v25 : BitVec 32) (v867 : BitVec 32) (k1_hw34 : k1_chk34 i v25 v867) (k1_t17 : Fin k1_t17_loop.trips), ∀ (k1_h17 : k1_cond17 i v25 v867 = 1#1), ∀ a, (k1_off88 v867 k1_t17) a + S1x16.size a ≤ S128x512.size a := fun i v25 v867 k1_hw34 k1_t17 k1_h17 => k1_hw34.2 k1_t17 k1_h17

def k1_off89 (i : grid1.Coords) (v912 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v912 c0_i32_1428
  let v3763 : BitVec 32 := Scalar.extui v3762
  let c0_i32_1429 : BitVec 32 := 0#32
  let v3764 : BitVec 1 := Scalar.cmpi .slt v912 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v912 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v912 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r23 : BitVec 32 := 0#32
  ![v3779.toNat, 0]
def k1_cond18 (i : grid1.Coords) (v25 : BitVec 32) (v910 : BitVec 32) : BitVec 1 :=
  let c1_i32_351 : BitVec 32 := 1#32
  let v930 : BitVec 1 := Scalar.cmpi .sgt v25 c1_i32_351
  let c0_i32_345 : BitVec 32 := 0#32
  let v914 : BitVec 1 := Scalar.cmpi .sgt v910 c0_i32_345
  let v915 : BitVec 32 := Scalar.extui v914
  let c0_i32_346 : BitVec 32 := 0#32
  let v916 : BitVec 1 := Scalar.cmpi .slt v910 c0_i32_346
  let v917 : BitVec 32 := Scalar.extui v916
  let v918 : BitVec 32 := Scalar.subi v915 v917
  let c16_i32_344 : BitVec 32 := 16#32
  let c0_i32_347 : BitVec 32 := 0#32
  let v919 : BitVec 1 := Scalar.cmpi .sgt c16_i32_344 c0_i32_347
  let v920 : BitVec 32 := Scalar.extui v919
  let c0_i32_348 : BitVec 32 := 0#32
  let v921 : BitVec 1 := Scalar.cmpi .slt c16_i32_344 c0_i32_348
  let v922 : BitVec 32 := Scalar.extui v921
  let v923 : BitVec 32 := Scalar.subi v920 v922
  let v924 : BitVec 1 := Scalar.cmpi .ne v918 v923
  let v925 : BitVec 32 := Scalar.remsi v910 c16_i32_344
  let c0_i32_349 : BitVec 32 := 0#32
  let v926 : BitVec 1 := Scalar.cmpi .ne v925 c0_i32_349
  let v927 : BitVec 1 := Scalar.andi v924 v926
  let v913 : BitVec 32 := Scalar.divsi v910 c16_i32_344
  let c1_i32_350 : BitVec 32 := 1#32
  let v928 : BitVec 32 := Scalar.subi v913 c1_i32_350
  let v929 : BitVec 32 := Scalar.select v927 v928 v913
  let c0_i32_353 : BitVec 32 := 0#32
  let v932 : BitVec 1 := Scalar.cmpi .sgt v929 c0_i32_353
  let v933 : BitVec 32 := Scalar.extui v932
  let c0_i32_354 : BitVec 32 := 0#32
  let v934 : BitVec 1 := Scalar.cmpi .slt v929 c0_i32_354
  let v935 : BitVec 32 := Scalar.extui v934
  let v936 : BitVec 32 := Scalar.subi v933 v935
  let c4_i32_352 : BitVec 32 := 4#32
  let c0_i32_355 : BitVec 32 := 0#32
  let v937 : BitVec 1 := Scalar.cmpi .sgt c4_i32_352 c0_i32_355
  let v938 : BitVec 32 := Scalar.extui v937
  let c0_i32_356 : BitVec 32 := 0#32
  let v939 : BitVec 1 := Scalar.cmpi .slt c4_i32_352 c0_i32_356
  let v940 : BitVec 32 := Scalar.extui v939
  let v941 : BitVec 32 := Scalar.subi v938 v940
  let v942 : BitVec 1 := Scalar.cmpi .ne v936 v941
  let v943 : BitVec 32 := Scalar.remsi v929 c4_i32_352
  let c0_i32_357 : BitVec 32 := 0#32
  let v944 : BitVec 1 := Scalar.cmpi .ne v943 c0_i32_357
  let v945 : BitVec 1 := Scalar.andi v942 v944
  let v931 : BitVec 32 := Scalar.divsi v929 c4_i32_352
  let c1_i32_358 : BitVec 32 := 1#32
  let v946 : BitVec 32 := Scalar.subi v931 c1_i32_358
  let v947 : BitVec 32 := Scalar.select v945 v946 v931
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v948 : BitVec 1 := Scalar.cmpi .eq v947 v865
  let v949 : BitVec 1 := Scalar.andi v930 v948
  let v950 : BitVec 32 := Scalar.extui v949
  let c0_i32_359 : BitVec 32 := 0#32
  let v951 : BitVec 1 := Scalar.cmpi .ne v950 c0_i32_359
  v951

@[reducible] def k1_t18_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off90 (v912 : BitVec 32) (k1_t18 : Fin k1_t18_loop.trips) : Fin 2 → Nat :=
  let c0_i32_1453 : BitVec 32 := 0#32
  let c1_i32_1455 : BitVec 32 := 1#32
  let arg19 : BitVec 32 := Scf.iv c0_i32_1453 c1_i32_1455 k1_t18
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v912 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off91 (v910 : BitVec 32) (k1_t18 : Fin k1_t18_loop.trips) : Fin 2 → Nat :=
  let c0_i32_345 : BitVec 32 := 0#32
  let v914 : BitVec 1 := Scalar.cmpi .sgt v910 c0_i32_345
  let v915 : BitVec 32 := Scalar.extui v914
  let c0_i32_346 : BitVec 32 := 0#32
  let v916 : BitVec 1 := Scalar.cmpi .slt v910 c0_i32_346
  let v917 : BitVec 32 := Scalar.extui v916
  let v918 : BitVec 32 := Scalar.subi v915 v917
  let c16_i32_344 : BitVec 32 := 16#32
  let c0_i32_347 : BitVec 32 := 0#32
  let v919 : BitVec 1 := Scalar.cmpi .sgt c16_i32_344 c0_i32_347
  let v920 : BitVec 32 := Scalar.extui v919
  let c0_i32_348 : BitVec 32 := 0#32
  let v921 : BitVec 1 := Scalar.cmpi .slt c16_i32_344 c0_i32_348
  let v922 : BitVec 32 := Scalar.extui v921
  let v923 : BitVec 32 := Scalar.subi v920 v922
  let v924 : BitVec 1 := Scalar.cmpi .ne v918 v923
  let v925 : BitVec 32 := Scalar.remsi v910 c16_i32_344
  let c0_i32_349 : BitVec 32 := 0#32
  let v926 : BitVec 1 := Scalar.cmpi .ne v925 c0_i32_349
  let v927 : BitVec 1 := Scalar.andi v924 v926
  let v913 : BitVec 32 := Scalar.divsi v910 c16_i32_344
  let c1_i32_350 : BitVec 32 := 1#32
  let v928 : BitVec 32 := Scalar.subi v913 c1_i32_350
  let v929 : BitVec 32 := Scalar.select v927 v928 v913
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v929 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t18
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v910 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off92 (v912 : BitVec 32) (k1_t18 : Fin k1_t18_loop.trips) : Fin 2 → Nat :=
  let c0_i32_1453 : BitVec 32 := 0#32
  let c1_i32_1455 : BitVec 32 := 1#32
  let arg19 : BitVec 32 := Scf.iv c0_i32_1453 c1_i32_1455 k1_t18
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v912 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk35 (i : grid1.Coords) (v25 : BitVec 32) (v910 : BitVec 32) (v912 : BitVec 32) : Prop :=
  (∀ (k1_h18 : k1_cond18 i v25 v910 = 1#1), ∀ a, (k1_off89 i v912) a + S32x512.size a ≤ S12288x512.size a) ∧
  (∀ k1_t18 : Fin k1_t18_loop.trips, ∀ (k1_h18 : k1_cond18 i v25 v910 = 1#1), ∀ a, (k1_off90 v912 k1_t18) a + S1x16.size a ≤ S32x512.size a) ∧
  (∀ k1_t18 : Fin k1_t18_loop.trips, ∀ (k1_h18 : k1_cond18 i v25 v910 = 1#1), ∀ a, (k1_off92 v912 k1_t18) a + S1x16.size a ≤ S32x512.size a)
theorem k1_off89_inb : ∀ (i : grid1.Coords) (v25 : BitVec 32) (v910 : BitVec 32) (v912 : BitVec 32) (k1_hw35 : k1_chk35 i v25 v910 v912), ∀ (k1_h18 : k1_cond18 i v25 v910 = 1#1), ∀ a, (k1_off89 i v912) a + S32x512.size a ≤ S12288x512.size a := fun i v25 v910 v912 k1_hw35 k1_h18 => k1_hw35.1 k1_h18
theorem k1_off90_inb : ∀ (i : grid1.Coords) (v25 : BitVec 32) (v910 : BitVec 32) (v912 : BitVec 32) (k1_hw35 : k1_chk35 i v25 v910 v912) (k1_t18 : Fin k1_t18_loop.trips), ∀ (k1_h18 : k1_cond18 i v25 v910 = 1#1), ∀ a, (k1_off90 v912 k1_t18) a + S1x16.size a ≤ S32x512.size a := fun i v25 v910 v912 k1_hw35 k1_t18 k1_h18 => k1_hw35.2.1 k1_t18 k1_h18
theorem k1_off92_inb : ∀ (i : grid1.Coords) (v25 : BitVec 32) (v910 : BitVec 32) (v912 : BitVec 32) (k1_hw35 : k1_chk35 i v25 v910 v912) (k1_t18 : Fin k1_t18_loop.trips), ∀ (k1_h18 : k1_cond18 i v25 v910 = 1#1), ∀ a, (k1_off92 v912 k1_t18) a + S1x16.size a ≤ S32x512.size a := fun i v25 v910 v912 k1_hw35 k1_t18 k1_h18 => k1_hw35.2.2 k1_t18 k1_h18

def k1_off93 (v910 : BitVec 32) (k1_t18 : Fin k1_t18_loop.trips) : Fin 2 → Nat :=
  let c0_i32_345 : BitVec 32 := 0#32
  let v914 : BitVec 1 := Scalar.cmpi .sgt v910 c0_i32_345
  let v915 : BitVec 32 := Scalar.extui v914
  let c0_i32_346 : BitVec 32 := 0#32
  let v916 : BitVec 1 := Scalar.cmpi .slt v910 c0_i32_346
  let v917 : BitVec 32 := Scalar.extui v916
  let v918 : BitVec 32 := Scalar.subi v915 v917
  let c16_i32_344 : BitVec 32 := 16#32
  let c0_i32_347 : BitVec 32 := 0#32
  let v919 : BitVec 1 := Scalar.cmpi .sgt c16_i32_344 c0_i32_347
  let v920 : BitVec 32 := Scalar.extui v919
  let c0_i32_348 : BitVec 32 := 0#32
  let v921 : BitVec 1 := Scalar.cmpi .slt c16_i32_344 c0_i32_348
  let v922 : BitVec 32 := Scalar.extui v921
  let v923 : BitVec 32 := Scalar.subi v920 v922
  let v924 : BitVec 1 := Scalar.cmpi .ne v918 v923
  let v925 : BitVec 32 := Scalar.remsi v910 c16_i32_344
  let c0_i32_349 : BitVec 32 := 0#32
  let v926 : BitVec 1 := Scalar.cmpi .ne v925 c0_i32_349
  let v927 : BitVec 1 := Scalar.andi v924 v926
  let v913 : BitVec 32 := Scalar.divsi v910 c16_i32_344
  let c1_i32_350 : BitVec 32 := 1#32
  let v928 : BitVec 32 := Scalar.subi v913 c1_i32_350
  let v929 : BitVec 32 := Scalar.select v927 v928 v913
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v929 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t18
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v910 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk36 (i : grid1.Coords) (v25 : BitVec 32) (v910 : BitVec 32) : Prop :=
  (∀ k1_t18 : Fin k1_t18_loop.trips, ∀ (k1_h18 : k1_cond18 i v25 v910 = 1#1), ∀ a, (k1_off91 v910 k1_t18) a + S1x16.size a ≤ S128x512.size a) ∧
  (∀ k1_t18 : Fin k1_t18_loop.trips, ∀ (k1_h18 : k1_cond18 i v25 v910 = 1#1), ∀ a, (k1_off93 v910 k1_t18) a + S1x16.size a ≤ S128x512.size a)
theorem k1_off91_inb : ∀ (i : grid1.Coords) (v25 : BitVec 32) (v910 : BitVec 32) (k1_hw36 : k1_chk36 i v25 v910) (k1_t18 : Fin k1_t18_loop.trips), ∀ (k1_h18 : k1_cond18 i v25 v910 = 1#1), ∀ a, (k1_off91 v910 k1_t18) a + S1x16.size a ≤ S128x512.size a := fun i v25 v910 k1_hw36 k1_t18 k1_h18 => k1_hw36.1 k1_t18 k1_h18
theorem k1_off93_inb : ∀ (i : grid1.Coords) (v25 : BitVec 32) (v910 : BitVec 32) (k1_hw36 : k1_chk36 i v25 v910) (k1_t18 : Fin k1_t18_loop.trips), ∀ (k1_h18 : k1_cond18 i v25 v910 = 1#1), ∀ a, (k1_off93 v910 k1_t18) a + S1x16.size a ≤ S128x512.size a := fun i v25 v910 k1_hw36 k1_t18 k1_h18 => k1_hw36.2 k1_t18 k1_h18

def k1_off94 (i : grid1.Coords) (v955 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v955 c0_i32_1428
  let v3763 : BitVec 32 := Scalar.extui v3762
  let c0_i32_1429 : BitVec 32 := 0#32
  let v3764 : BitVec 1 := Scalar.cmpi .slt v955 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v955 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v955 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r24 : BitVec 32 := 0#32
  ![v3779.toNat, 0]
def k1_cond19 (i : grid1.Coords) (v25 : BitVec 32) (v953 : BitVec 32) : BitVec 1 :=
  let c2_i32_367 : BitVec 32 := 2#32
  let v973 : BitVec 1 := Scalar.cmpi .sgt v25 c2_i32_367
  let c0_i32_361 : BitVec 32 := 0#32
  let v957 : BitVec 1 := Scalar.cmpi .sgt v953 c0_i32_361
  let v958 : BitVec 32 := Scalar.extui v957
  let c0_i32_362 : BitVec 32 := 0#32
  let v959 : BitVec 1 := Scalar.cmpi .slt v953 c0_i32_362
  let v960 : BitVec 32 := Scalar.extui v959
  let v961 : BitVec 32 := Scalar.subi v958 v960
  let c16_i32_360 : BitVec 32 := 16#32
  let c0_i32_363 : BitVec 32 := 0#32
  let v962 : BitVec 1 := Scalar.cmpi .sgt c16_i32_360 c0_i32_363
  let v963 : BitVec 32 := Scalar.extui v962
  let c0_i32_364 : BitVec 32 := 0#32
  let v964 : BitVec 1 := Scalar.cmpi .slt c16_i32_360 c0_i32_364
  let v965 : BitVec 32 := Scalar.extui v964
  let v966 : BitVec 32 := Scalar.subi v963 v965
  let v967 : BitVec 1 := Scalar.cmpi .ne v961 v966
  let v968 : BitVec 32 := Scalar.remsi v953 c16_i32_360
  let c0_i32_365 : BitVec 32 := 0#32
  let v969 : BitVec 1 := Scalar.cmpi .ne v968 c0_i32_365
  let v970 : BitVec 1 := Scalar.andi v967 v969
  let v956 : BitVec 32 := Scalar.divsi v953 c16_i32_360
  let c1_i32_366 : BitVec 32 := 1#32
  let v971 : BitVec 32 := Scalar.subi v956 c1_i32_366
  let v972 : BitVec 32 := Scalar.select v970 v971 v956
  let c0_i32_369 : BitVec 32 := 0#32
  let v975 : BitVec 1 := Scalar.cmpi .sgt v972 c0_i32_369
  let v976 : BitVec 32 := Scalar.extui v975
  let c0_i32_370 : BitVec 32 := 0#32
  let v977 : BitVec 1 := Scalar.cmpi .slt v972 c0_i32_370
  let v978 : BitVec 32 := Scalar.extui v977
  let v979 : BitVec 32 := Scalar.subi v976 v978
  let c4_i32_368 : BitVec 32 := 4#32
  let c0_i32_371 : BitVec 32 := 0#32
  let v980 : BitVec 1 := Scalar.cmpi .sgt c4_i32_368 c0_i32_371
  let v981 : BitVec 32 := Scalar.extui v980
  let c0_i32_372 : BitVec 32 := 0#32
  let v982 : BitVec 1 := Scalar.cmpi .slt c4_i32_368 c0_i32_372
  let v983 : BitVec 32 := Scalar.extui v982
  let v984 : BitVec 32 := Scalar.subi v981 v983
  let v985 : BitVec 1 := Scalar.cmpi .ne v979 v984
  let v986 : BitVec 32 := Scalar.remsi v972 c4_i32_368
  let c0_i32_373 : BitVec 32 := 0#32
  let v987 : BitVec 1 := Scalar.cmpi .ne v986 c0_i32_373
  let v988 : BitVec 1 := Scalar.andi v985 v987
  let v974 : BitVec 32 := Scalar.divsi v972 c4_i32_368
  let c1_i32_374 : BitVec 32 := 1#32
  let v989 : BitVec 32 := Scalar.subi v974 c1_i32_374
  let v990 : BitVec 32 := Scalar.select v988 v989 v974
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v991 : BitVec 1 := Scalar.cmpi .eq v990 v865
  let v992 : BitVec 1 := Scalar.andi v973 v991
  let v993 : BitVec 32 := Scalar.extui v992
  let c0_i32_375 : BitVec 32 := 0#32
  let v994 : BitVec 1 := Scalar.cmpi .ne v993 c0_i32_375
  v994

@[reducible] def k1_t19_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off95 (v955 : BitVec 32) (k1_t19 : Fin k1_t19_loop.trips) : Fin 2 → Nat :=
  let c0_i32_1453 : BitVec 32 := 0#32
  let c1_i32_1455 : BitVec 32 := 1#32
  let arg19 : BitVec 32 := Scf.iv c0_i32_1453 c1_i32_1455 k1_t19
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v955 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off96 (v953 : BitVec 32) (k1_t19 : Fin k1_t19_loop.trips) : Fin 2 → Nat :=
  let c0_i32_361 : BitVec 32 := 0#32
  let v957 : BitVec 1 := Scalar.cmpi .sgt v953 c0_i32_361
  let v958 : BitVec 32 := Scalar.extui v957
  let c0_i32_362 : BitVec 32 := 0#32
  let v959 : BitVec 1 := Scalar.cmpi .slt v953 c0_i32_362
  let v960 : BitVec 32 := Scalar.extui v959
  let v961 : BitVec 32 := Scalar.subi v958 v960
  let c16_i32_360 : BitVec 32 := 16#32
  let c0_i32_363 : BitVec 32 := 0#32
  let v962 : BitVec 1 := Scalar.cmpi .sgt c16_i32_360 c0_i32_363
  let v963 : BitVec 32 := Scalar.extui v962
  let c0_i32_364 : BitVec 32 := 0#32
  let v964 : BitVec 1 := Scalar.cmpi .slt c16_i32_360 c0_i32_364
  let v965 : BitVec 32 := Scalar.extui v964
  let v966 : BitVec 32 := Scalar.subi v963 v965
  let v967 : BitVec 1 := Scalar.cmpi .ne v961 v966
  let v968 : BitVec 32 := Scalar.remsi v953 c16_i32_360
  let c0_i32_365 : BitVec 32 := 0#32
  let v969 : BitVec 1 := Scalar.cmpi .ne v968 c0_i32_365
  let v970 : BitVec 1 := Scalar.andi v967 v969
  let v956 : BitVec 32 := Scalar.divsi v953 c16_i32_360
  let c1_i32_366 : BitVec 32 := 1#32
  let v971 : BitVec 32 := Scalar.subi v956 c1_i32_366
  let v972 : BitVec 32 := Scalar.select v970 v971 v956
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v972 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t19
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v953 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off97 (v955 : BitVec 32) (k1_t19 : Fin k1_t19_loop.trips) : Fin 2 → Nat :=
  let c0_i32_1453 : BitVec 32 := 0#32
  let c1_i32_1455 : BitVec 32 := 1#32
  let arg19 : BitVec 32 := Scf.iv c0_i32_1453 c1_i32_1455 k1_t19
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v955 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk37 (i : grid1.Coords) (v25 : BitVec 32) (v953 : BitVec 32) (v955 : BitVec 32) : Prop :=
  (∀ (k1_h19 : k1_cond19 i v25 v953 = 1#1), ∀ a, (k1_off94 i v955) a + S32x512.size a ≤ S12288x512.size a) ∧
  (∀ k1_t19 : Fin k1_t19_loop.trips, ∀ (k1_h19 : k1_cond19 i v25 v953 = 1#1), ∀ a, (k1_off95 v955 k1_t19) a + S1x16.size a ≤ S32x512.size a) ∧
  (∀ k1_t19 : Fin k1_t19_loop.trips, ∀ (k1_h19 : k1_cond19 i v25 v953 = 1#1), ∀ a, (k1_off97 v955 k1_t19) a + S1x16.size a ≤ S32x512.size a)
theorem k1_off94_inb : ∀ (i : grid1.Coords) (v25 : BitVec 32) (v953 : BitVec 32) (v955 : BitVec 32) (k1_hw37 : k1_chk37 i v25 v953 v955), ∀ (k1_h19 : k1_cond19 i v25 v953 = 1#1), ∀ a, (k1_off94 i v955) a + S32x512.size a ≤ S12288x512.size a := fun i v25 v953 v955 k1_hw37 k1_h19 => k1_hw37.1 k1_h19
theorem k1_off95_inb : ∀ (i : grid1.Coords) (v25 : BitVec 32) (v953 : BitVec 32) (v955 : BitVec 32) (k1_hw37 : k1_chk37 i v25 v953 v955) (k1_t19 : Fin k1_t19_loop.trips), ∀ (k1_h19 : k1_cond19 i v25 v953 = 1#1), ∀ a, (k1_off95 v955 k1_t19) a + S1x16.size a ≤ S32x512.size a := fun i v25 v953 v955 k1_hw37 k1_t19 k1_h19 => k1_hw37.2.1 k1_t19 k1_h19
theorem k1_off97_inb : ∀ (i : grid1.Coords) (v25 : BitVec 32) (v953 : BitVec 32) (v955 : BitVec 32) (k1_hw37 : k1_chk37 i v25 v953 v955) (k1_t19 : Fin k1_t19_loop.trips), ∀ (k1_h19 : k1_cond19 i v25 v953 = 1#1), ∀ a, (k1_off97 v955 k1_t19) a + S1x16.size a ≤ S32x512.size a := fun i v25 v953 v955 k1_hw37 k1_t19 k1_h19 => k1_hw37.2.2 k1_t19 k1_h19

def k1_off98 (v953 : BitVec 32) (k1_t19 : Fin k1_t19_loop.trips) : Fin 2 → Nat :=
  let c0_i32_361 : BitVec 32 := 0#32
  let v957 : BitVec 1 := Scalar.cmpi .sgt v953 c0_i32_361
  let v958 : BitVec 32 := Scalar.extui v957
  let c0_i32_362 : BitVec 32 := 0#32
  let v959 : BitVec 1 := Scalar.cmpi .slt v953 c0_i32_362
  let v960 : BitVec 32 := Scalar.extui v959
  let v961 : BitVec 32 := Scalar.subi v958 v960
  let c16_i32_360 : BitVec 32 := 16#32
  let c0_i32_363 : BitVec 32 := 0#32
  let v962 : BitVec 1 := Scalar.cmpi .sgt c16_i32_360 c0_i32_363
  let v963 : BitVec 32 := Scalar.extui v962
  let c0_i32_364 : BitVec 32 := 0#32
  let v964 : BitVec 1 := Scalar.cmpi .slt c16_i32_360 c0_i32_364
  let v965 : BitVec 32 := Scalar.extui v964
  let v966 : BitVec 32 := Scalar.subi v963 v965
  let v967 : BitVec 1 := Scalar.cmpi .ne v961 v966
  let v968 : BitVec 32 := Scalar.remsi v953 c16_i32_360
  let c0_i32_365 : BitVec 32 := 0#32
  let v969 : BitVec 1 := Scalar.cmpi .ne v968 c0_i32_365
  let v970 : BitVec 1 := Scalar.andi v967 v969
  let v956 : BitVec 32 := Scalar.divsi v953 c16_i32_360
  let c1_i32_366 : BitVec 32 := 1#32
  let v971 : BitVec 32 := Scalar.subi v956 c1_i32_366
  let v972 : BitVec 32 := Scalar.select v970 v971 v956
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v972 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t19
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v953 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk38 (i : grid1.Coords) (v25 : BitVec 32) (v953 : BitVec 32) : Prop :=
  (∀ k1_t19 : Fin k1_t19_loop.trips, ∀ (k1_h19 : k1_cond19 i v25 v953 = 1#1), ∀ a, (k1_off96 v953 k1_t19) a + S1x16.size a ≤ S128x512.size a) ∧
  (∀ k1_t19 : Fin k1_t19_loop.trips, ∀ (k1_h19 : k1_cond19 i v25 v953 = 1#1), ∀ a, (k1_off98 v953 k1_t19) a + S1x16.size a ≤ S128x512.size a)
theorem k1_off96_inb : ∀ (i : grid1.Coords) (v25 : BitVec 32) (v953 : BitVec 32) (k1_hw38 : k1_chk38 i v25 v953) (k1_t19 : Fin k1_t19_loop.trips), ∀ (k1_h19 : k1_cond19 i v25 v953 = 1#1), ∀ a, (k1_off96 v953 k1_t19) a + S1x16.size a ≤ S128x512.size a := fun i v25 v953 k1_hw38 k1_t19 k1_h19 => k1_hw38.1 k1_t19 k1_h19
theorem k1_off98_inb : ∀ (i : grid1.Coords) (v25 : BitVec 32) (v953 : BitVec 32) (k1_hw38 : k1_chk38 i v25 v953) (k1_t19 : Fin k1_t19_loop.trips), ∀ (k1_h19 : k1_cond19 i v25 v953 = 1#1), ∀ a, (k1_off98 v953 k1_t19) a + S1x16.size a ≤ S128x512.size a := fun i v25 v953 k1_hw38 k1_t19 k1_h19 => k1_hw38.2 k1_t19 k1_h19

def k1_off99 (i : grid1.Coords) (v998 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v998 c0_i32_1428
  let v3763 : BitVec 32 := Scalar.extui v3762
  let c0_i32_1429 : BitVec 32 := 0#32
  let v3764 : BitVec 1 := Scalar.cmpi .slt v998 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v998 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v998 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r25 : BitVec 32 := 0#32
  ![v3779.toNat, 0]
def k1_cond20 (i : grid1.Coords) (v25 : BitVec 32) (v996 : BitVec 32) : BitVec 1 :=
  let c3_i32_383 : BitVec 32 := 3#32
  let v1016 : BitVec 1 := Scalar.cmpi .sgt v25 c3_i32_383
  let c0_i32_377 : BitVec 32 := 0#32
  let v1000 : BitVec 1 := Scalar.cmpi .sgt v996 c0_i32_377
  let v1001 : BitVec 32 := Scalar.extui v1000
  let c0_i32_378 : BitVec 32 := 0#32
  let v1002 : BitVec 1 := Scalar.cmpi .slt v996 c0_i32_378
  let v1003 : BitVec 32 := Scalar.extui v1002
  let v1004 : BitVec 32 := Scalar.subi v1001 v1003
  let c16_i32_376 : BitVec 32 := 16#32
  let c0_i32_379 : BitVec 32 := 0#32
  let v1005 : BitVec 1 := Scalar.cmpi .sgt c16_i32_376 c0_i32_379
  let v1006 : BitVec 32 := Scalar.extui v1005
  let c0_i32_380 : BitVec 32 := 0#32
  let v1007 : BitVec 1 := Scalar.cmpi .slt c16_i32_376 c0_i32_380
  let v1008 : BitVec 32 := Scalar.extui v1007
  let v1009 : BitVec 32 := Scalar.subi v1006 v1008
  let v1010 : BitVec 1 := Scalar.cmpi .ne v1004 v1009
  let v1011 : BitVec 32 := Scalar.remsi v996 c16_i32_376
  let c0_i32_381 : BitVec 32 := 0#32
  let v1012 : BitVec 1 := Scalar.cmpi .ne v1011 c0_i32_381
  let v1013 : BitVec 1 := Scalar.andi v1010 v1012
  let v999 : BitVec 32 := Scalar.divsi v996 c16_i32_376
  let c1_i32_382 : BitVec 32 := 1#32
  let v1014 : BitVec 32 := Scalar.subi v999 c1_i32_382
  let v1015 : BitVec 32 := Scalar.select v1013 v1014 v999
  let c0_i32_385 : BitVec 32 := 0#32
  let v1018 : BitVec 1 := Scalar.cmpi .sgt v1015 c0_i32_385
  let v1019 : BitVec 32 := Scalar.extui v1018
  let c0_i32_386 : BitVec 32 := 0#32
  let v1020 : BitVec 1 := Scalar.cmpi .slt v1015 c0_i32_386
  let v1021 : BitVec 32 := Scalar.extui v1020
  let v1022 : BitVec 32 := Scalar.subi v1019 v1021
  let c4_i32_384 : BitVec 32 := 4#32
  let c0_i32_387 : BitVec 32 := 0#32
  let v1023 : BitVec 1 := Scalar.cmpi .sgt c4_i32_384 c0_i32_387
  let v1024 : BitVec 32 := Scalar.extui v1023
  let c0_i32_388 : BitVec 32 := 0#32
  let v1025 : BitVec 1 := Scalar.cmpi .slt c4_i32_384 c0_i32_388
  let v1026 : BitVec 32 := Scalar.extui v1025
  let v1027 : BitVec 32 := Scalar.subi v1024 v1026
  let v1028 : BitVec 1 := Scalar.cmpi .ne v1022 v1027
  let v1029 : BitVec 32 := Scalar.remsi v1015 c4_i32_384
  let c0_i32_389 : BitVec 32 := 0#32
  let v1030 : BitVec 1 := Scalar.cmpi .ne v1029 c0_i32_389
  let v1031 : BitVec 1 := Scalar.andi v1028 v1030
  let v1017 : BitVec 32 := Scalar.divsi v1015 c4_i32_384
  let c1_i32_390 : BitVec 32 := 1#32
  let v1032 : BitVec 32 := Scalar.subi v1017 c1_i32_390
  let v1033 : BitVec 32 := Scalar.select v1031 v1032 v1017
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1034 : BitVec 1 := Scalar.cmpi .eq v1033 v865
  let v1035 : BitVec 1 := Scalar.andi v1016 v1034
  let v1036 : BitVec 32 := Scalar.extui v1035
  let c0_i32_391 : BitVec 32 := 0#32
  let v1037 : BitVec 1 := Scalar.cmpi .ne v1036 c0_i32_391
  v1037

@[reducible] def k1_t20_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off100 (v998 : BitVec 32) (k1_t20 : Fin k1_t20_loop.trips) : Fin 2 → Nat :=
  let c0_i32_1453 : BitVec 32 := 0#32
  let c1_i32_1455 : BitVec 32 := 1#32
  let arg19 : BitVec 32 := Scf.iv c0_i32_1453 c1_i32_1455 k1_t20
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v998 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off101 (v996 : BitVec 32) (k1_t20 : Fin k1_t20_loop.trips) : Fin 2 → Nat :=
  let c0_i32_377 : BitVec 32 := 0#32
  let v1000 : BitVec 1 := Scalar.cmpi .sgt v996 c0_i32_377
  let v1001 : BitVec 32 := Scalar.extui v1000
  let c0_i32_378 : BitVec 32 := 0#32
  let v1002 : BitVec 1 := Scalar.cmpi .slt v996 c0_i32_378
  let v1003 : BitVec 32 := Scalar.extui v1002
  let v1004 : BitVec 32 := Scalar.subi v1001 v1003
  let c16_i32_376 : BitVec 32 := 16#32
  let c0_i32_379 : BitVec 32 := 0#32
  let v1005 : BitVec 1 := Scalar.cmpi .sgt c16_i32_376 c0_i32_379
  let v1006 : BitVec 32 := Scalar.extui v1005
  let c0_i32_380 : BitVec 32 := 0#32
  let v1007 : BitVec 1 := Scalar.cmpi .slt c16_i32_376 c0_i32_380
  let v1008 : BitVec 32 := Scalar.extui v1007
  let v1009 : BitVec 32 := Scalar.subi v1006 v1008
  let v1010 : BitVec 1 := Scalar.cmpi .ne v1004 v1009
  let v1011 : BitVec 32 := Scalar.remsi v996 c16_i32_376
  let c0_i32_381 : BitVec 32 := 0#32
  let v1012 : BitVec 1 := Scalar.cmpi .ne v1011 c0_i32_381
  let v1013 : BitVec 1 := Scalar.andi v1010 v1012
  let v999 : BitVec 32 := Scalar.divsi v996 c16_i32_376
  let c1_i32_382 : BitVec 32 := 1#32
  let v1014 : BitVec 32 := Scalar.subi v999 c1_i32_382
  let v1015 : BitVec 32 := Scalar.select v1013 v1014 v999
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1015 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t20
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v996 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off102 (v998 : BitVec 32) (k1_t20 : Fin k1_t20_loop.trips) : Fin 2 → Nat :=
  let c0_i32_1453 : BitVec 32 := 0#32
  let c1_i32_1455 : BitVec 32 := 1#32
  let arg19 : BitVec 32 := Scf.iv c0_i32_1453 c1_i32_1455 k1_t20
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v998 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk39 (i : grid1.Coords) (v25 : BitVec 32) (v996 : BitVec 32) (v998 : BitVec 32) : Prop :=
  (∀ (k1_h20 : k1_cond20 i v25 v996 = 1#1), ∀ a, (k1_off99 i v998) a + S32x512.size a ≤ S12288x512.size a) ∧
  (∀ k1_t20 : Fin k1_t20_loop.trips, ∀ (k1_h20 : k1_cond20 i v25 v996 = 1#1), ∀ a, (k1_off100 v998 k1_t20) a + S1x16.size a ≤ S32x512.size a) ∧
  (∀ k1_t20 : Fin k1_t20_loop.trips, ∀ (k1_h20 : k1_cond20 i v25 v996 = 1#1), ∀ a, (k1_off102 v998 k1_t20) a + S1x16.size a ≤ S32x512.size a)
theorem k1_off99_inb : ∀ (i : grid1.Coords) (v25 : BitVec 32) (v996 : BitVec 32) (v998 : BitVec 32) (k1_hw39 : k1_chk39 i v25 v996 v998), ∀ (k1_h20 : k1_cond20 i v25 v996 = 1#1), ∀ a, (k1_off99 i v998) a + S32x512.size a ≤ S12288x512.size a := fun i v25 v996 v998 k1_hw39 k1_h20 => k1_hw39.1 k1_h20
theorem k1_off100_inb : ∀ (i : grid1.Coords) (v25 : BitVec 32) (v996 : BitVec 32) (v998 : BitVec 32) (k1_hw39 : k1_chk39 i v25 v996 v998) (k1_t20 : Fin k1_t20_loop.trips), ∀ (k1_h20 : k1_cond20 i v25 v996 = 1#1), ∀ a, (k1_off100 v998 k1_t20) a + S1x16.size a ≤ S32x512.size a := fun i v25 v996 v998 k1_hw39 k1_t20 k1_h20 => k1_hw39.2.1 k1_t20 k1_h20
theorem k1_off102_inb : ∀ (i : grid1.Coords) (v25 : BitVec 32) (v996 : BitVec 32) (v998 : BitVec 32) (k1_hw39 : k1_chk39 i v25 v996 v998) (k1_t20 : Fin k1_t20_loop.trips), ∀ (k1_h20 : k1_cond20 i v25 v996 = 1#1), ∀ a, (k1_off102 v998 k1_t20) a + S1x16.size a ≤ S32x512.size a := fun i v25 v996 v998 k1_hw39 k1_t20 k1_h20 => k1_hw39.2.2 k1_t20 k1_h20

def k1_off103 (v996 : BitVec 32) (k1_t20 : Fin k1_t20_loop.trips) : Fin 2 → Nat :=
  let c0_i32_377 : BitVec 32 := 0#32
  let v1000 : BitVec 1 := Scalar.cmpi .sgt v996 c0_i32_377
  let v1001 : BitVec 32 := Scalar.extui v1000
  let c0_i32_378 : BitVec 32 := 0#32
  let v1002 : BitVec 1 := Scalar.cmpi .slt v996 c0_i32_378
  let v1003 : BitVec 32 := Scalar.extui v1002
  let v1004 : BitVec 32 := Scalar.subi v1001 v1003
  let c16_i32_376 : BitVec 32 := 16#32
  let c0_i32_379 : BitVec 32 := 0#32
  let v1005 : BitVec 1 := Scalar.cmpi .sgt c16_i32_376 c0_i32_379
  let v1006 : BitVec 32 := Scalar.extui v1005
  let c0_i32_380 : BitVec 32 := 0#32
  let v1007 : BitVec 1 := Scalar.cmpi .slt c16_i32_376 c0_i32_380
  let v1008 : BitVec 32 := Scalar.extui v1007
  let v1009 : BitVec 32 := Scalar.subi v1006 v1008
  let v1010 : BitVec 1 := Scalar.cmpi .ne v1004 v1009
  let v1011 : BitVec 32 := Scalar.remsi v996 c16_i32_376
  let c0_i32_381 : BitVec 32 := 0#32
  let v1012 : BitVec 1 := Scalar.cmpi .ne v1011 c0_i32_381
  let v1013 : BitVec 1 := Scalar.andi v1010 v1012
  let v999 : BitVec 32 := Scalar.divsi v996 c16_i32_376
  let c1_i32_382 : BitVec 32 := 1#32
  let v1014 : BitVec 32 := Scalar.subi v999 c1_i32_382
  let v1015 : BitVec 32 := Scalar.select v1013 v1014 v999
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1015 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t20
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v996 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk40 (i : grid1.Coords) (v25 : BitVec 32) (v996 : BitVec 32) : Prop :=
  (∀ k1_t20 : Fin k1_t20_loop.trips, ∀ (k1_h20 : k1_cond20 i v25 v996 = 1#1), ∀ a, (k1_off101 v996 k1_t20) a + S1x16.size a ≤ S128x512.size a) ∧
  (∀ k1_t20 : Fin k1_t20_loop.trips, ∀ (k1_h20 : k1_cond20 i v25 v996 = 1#1), ∀ a, (k1_off103 v996 k1_t20) a + S1x16.size a ≤ S128x512.size a)
theorem k1_off101_inb : ∀ (i : grid1.Coords) (v25 : BitVec 32) (v996 : BitVec 32) (k1_hw40 : k1_chk40 i v25 v996) (k1_t20 : Fin k1_t20_loop.trips), ∀ (k1_h20 : k1_cond20 i v25 v996 = 1#1), ∀ a, (k1_off101 v996 k1_t20) a + S1x16.size a ≤ S128x512.size a := fun i v25 v996 k1_hw40 k1_t20 k1_h20 => k1_hw40.1 k1_t20 k1_h20
theorem k1_off103_inb : ∀ (i : grid1.Coords) (v25 : BitVec 32) (v996 : BitVec 32) (k1_hw40 : k1_chk40 i v25 v996) (k1_t20 : Fin k1_t20_loop.trips), ∀ (k1_h20 : k1_cond20 i v25 v996 = 1#1), ∀ a, (k1_off103 v996 k1_t20) a + S1x16.size a ≤ S128x512.size a := fun i v25 v996 k1_hw40 k1_t20 k1_h20 => k1_hw40.2 k1_t20 k1_h20

def k1_off104 (i : grid1.Coords) (v1041 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1041 c0_i32_1428
  let v3763 : BitVec 32 := Scalar.extui v3762
  let c0_i32_1429 : BitVec 32 := 0#32
  let v3764 : BitVec 1 := Scalar.cmpi .slt v1041 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1041 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1041 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r26 : BitVec 32 := 0#32
  ![v3779.toNat, 0]
def k1_cond21 (i : grid1.Coords) (v25 : BitVec 32) (v1039 : BitVec 32) : BitVec 1 :=
  let c4_i32_399 : BitVec 32 := 4#32
  let v1059 : BitVec 1 := Scalar.cmpi .sgt v25 c4_i32_399
  let c0_i32_393 : BitVec 32 := 0#32
  let v1043 : BitVec 1 := Scalar.cmpi .sgt v1039 c0_i32_393
  let v1044 : BitVec 32 := Scalar.extui v1043
  let c0_i32_394 : BitVec 32 := 0#32
  let v1045 : BitVec 1 := Scalar.cmpi .slt v1039 c0_i32_394
  let v1046 : BitVec 32 := Scalar.extui v1045
  let v1047 : BitVec 32 := Scalar.subi v1044 v1046
  let c16_i32_392 : BitVec 32 := 16#32
  let c0_i32_395 : BitVec 32 := 0#32
  let v1048 : BitVec 1 := Scalar.cmpi .sgt c16_i32_392 c0_i32_395
  let v1049 : BitVec 32 := Scalar.extui v1048
  let c0_i32_396 : BitVec 32 := 0#32
  let v1050 : BitVec 1 := Scalar.cmpi .slt c16_i32_392 c0_i32_396
  let v1051 : BitVec 32 := Scalar.extui v1050
  let v1052 : BitVec 32 := Scalar.subi v1049 v1051
  let v1053 : BitVec 1 := Scalar.cmpi .ne v1047 v1052
  let v1054 : BitVec 32 := Scalar.remsi v1039 c16_i32_392
  let c0_i32_397 : BitVec 32 := 0#32
  let v1055 : BitVec 1 := Scalar.cmpi .ne v1054 c0_i32_397
  let v1056 : BitVec 1 := Scalar.andi v1053 v1055
  let v1042 : BitVec 32 := Scalar.divsi v1039 c16_i32_392
  let c1_i32_398 : BitVec 32 := 1#32
  let v1057 : BitVec 32 := Scalar.subi v1042 c1_i32_398
  let v1058 : BitVec 32 := Scalar.select v1056 v1057 v1042
  let c0_i32_401 : BitVec 32 := 0#32
  let v1061 : BitVec 1 := Scalar.cmpi .sgt v1058 c0_i32_401
  let v1062 : BitVec 32 := Scalar.extui v1061
  let c0_i32_402 : BitVec 32 := 0#32
  let v1063 : BitVec 1 := Scalar.cmpi .slt v1058 c0_i32_402
  let v1064 : BitVec 32 := Scalar.extui v1063
  let v1065 : BitVec 32 := Scalar.subi v1062 v1064
  let c4_i32_400 : BitVec 32 := 4#32
  let c0_i32_403 : BitVec 32 := 0#32
  let v1066 : BitVec 1 := Scalar.cmpi .sgt c4_i32_400 c0_i32_403
  let v1067 : BitVec 32 := Scalar.extui v1066
  let c0_i32_404 : BitVec 32 := 0#32
  let v1068 : BitVec 1 := Scalar.cmpi .slt c4_i32_400 c0_i32_404
  let v1069 : BitVec 32 := Scalar.extui v1068
  let v1070 : BitVec 32 := Scalar.subi v1067 v1069
  let v1071 : BitVec 1 := Scalar.cmpi .ne v1065 v1070
  let v1072 : BitVec 32 := Scalar.remsi v1058 c4_i32_400
  let c0_i32_405 : BitVec 32 := 0#32
  let v1073 : BitVec 1 := Scalar.cmpi .ne v1072 c0_i32_405
  let v1074 : BitVec 1 := Scalar.andi v1071 v1073
  let v1060 : BitVec 32 := Scalar.divsi v1058 c4_i32_400
  let c1_i32_406 : BitVec 32 := 1#32
  let v1075 : BitVec 32 := Scalar.subi v1060 c1_i32_406
  let v1076 : BitVec 32 := Scalar.select v1074 v1075 v1060
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1077 : BitVec 1 := Scalar.cmpi .eq v1076 v865
  let v1078 : BitVec 1 := Scalar.andi v1059 v1077
  let v1079 : BitVec 32 := Scalar.extui v1078
  let c0_i32_407 : BitVec 32 := 0#32
  let v1080 : BitVec 1 := Scalar.cmpi .ne v1079 c0_i32_407
  v1080

@[reducible] def k1_t21_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off105 (v1041 : BitVec 32) (k1_t21 : Fin k1_t21_loop.trips) : Fin 2 → Nat :=
  let c0_i32_1453 : BitVec 32 := 0#32
  let c1_i32_1455 : BitVec 32 := 1#32
  let arg19 : BitVec 32 := Scf.iv c0_i32_1453 c1_i32_1455 k1_t21
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1041 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off106 (v1039 : BitVec 32) (k1_t21 : Fin k1_t21_loop.trips) : Fin 2 → Nat :=
  let c0_i32_393 : BitVec 32 := 0#32
  let v1043 : BitVec 1 := Scalar.cmpi .sgt v1039 c0_i32_393
  let v1044 : BitVec 32 := Scalar.extui v1043
  let c0_i32_394 : BitVec 32 := 0#32
  let v1045 : BitVec 1 := Scalar.cmpi .slt v1039 c0_i32_394
  let v1046 : BitVec 32 := Scalar.extui v1045
  let v1047 : BitVec 32 := Scalar.subi v1044 v1046
  let c16_i32_392 : BitVec 32 := 16#32
  let c0_i32_395 : BitVec 32 := 0#32
  let v1048 : BitVec 1 := Scalar.cmpi .sgt c16_i32_392 c0_i32_395
  let v1049 : BitVec 32 := Scalar.extui v1048
  let c0_i32_396 : BitVec 32 := 0#32
  let v1050 : BitVec 1 := Scalar.cmpi .slt c16_i32_392 c0_i32_396
  let v1051 : BitVec 32 := Scalar.extui v1050
  let v1052 : BitVec 32 := Scalar.subi v1049 v1051
  let v1053 : BitVec 1 := Scalar.cmpi .ne v1047 v1052
  let v1054 : BitVec 32 := Scalar.remsi v1039 c16_i32_392
  let c0_i32_397 : BitVec 32 := 0#32
  let v1055 : BitVec 1 := Scalar.cmpi .ne v1054 c0_i32_397
  let v1056 : BitVec 1 := Scalar.andi v1053 v1055
  let v1042 : BitVec 32 := Scalar.divsi v1039 c16_i32_392
  let c1_i32_398 : BitVec 32 := 1#32
  let v1057 : BitVec 32 := Scalar.subi v1042 c1_i32_398
  let v1058 : BitVec 32 := Scalar.select v1056 v1057 v1042
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1058 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t21
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1039 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off107 (v1041 : BitVec 32) (k1_t21 : Fin k1_t21_loop.trips) : Fin 2 → Nat :=
  let c0_i32_1453 : BitVec 32 := 0#32
  let c1_i32_1455 : BitVec 32 := 1#32
  let arg19 : BitVec 32 := Scf.iv c0_i32_1453 c1_i32_1455 k1_t21
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1041 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk41 (i : grid1.Coords) (v25 : BitVec 32) (v1039 : BitVec 32) (v1041 : BitVec 32) : Prop :=
  (∀ (k1_h21 : k1_cond21 i v25 v1039 = 1#1), ∀ a, (k1_off104 i v1041) a + S32x512.size a ≤ S12288x512.size a) ∧
  (∀ k1_t21 : Fin k1_t21_loop.trips, ∀ (k1_h21 : k1_cond21 i v25 v1039 = 1#1), ∀ a, (k1_off105 v1041 k1_t21) a + S1x16.size a ≤ S32x512.size a) ∧
  (∀ k1_t21 : Fin k1_t21_loop.trips, ∀ (k1_h21 : k1_cond21 i v25 v1039 = 1#1), ∀ a, (k1_off107 v1041 k1_t21) a + S1x16.size a ≤ S32x512.size a)
theorem k1_off104_inb : ∀ (i : grid1.Coords) (v25 : BitVec 32) (v1039 : BitVec 32) (v1041 : BitVec 32) (k1_hw41 : k1_chk41 i v25 v1039 v1041), ∀ (k1_h21 : k1_cond21 i v25 v1039 = 1#1), ∀ a, (k1_off104 i v1041) a + S32x512.size a ≤ S12288x512.size a := fun i v25 v1039 v1041 k1_hw41 k1_h21 => k1_hw41.1 k1_h21
theorem k1_off105_inb : ∀ (i : grid1.Coords) (v25 : BitVec 32) (v1039 : BitVec 32) (v1041 : BitVec 32) (k1_hw41 : k1_chk41 i v25 v1039 v1041) (k1_t21 : Fin k1_t21_loop.trips), ∀ (k1_h21 : k1_cond21 i v25 v1039 = 1#1), ∀ a, (k1_off105 v1041 k1_t21) a + S1x16.size a ≤ S32x512.size a := fun i v25 v1039 v1041 k1_hw41 k1_t21 k1_h21 => k1_hw41.2.1 k1_t21 k1_h21
theorem k1_off107_inb : ∀ (i : grid1.Coords) (v25 : BitVec 32) (v1039 : BitVec 32) (v1041 : BitVec 32) (k1_hw41 : k1_chk41 i v25 v1039 v1041) (k1_t21 : Fin k1_t21_loop.trips), ∀ (k1_h21 : k1_cond21 i v25 v1039 = 1#1), ∀ a, (k1_off107 v1041 k1_t21) a + S1x16.size a ≤ S32x512.size a := fun i v25 v1039 v1041 k1_hw41 k1_t21 k1_h21 => k1_hw41.2.2 k1_t21 k1_h21

def k1_off108 (v1039 : BitVec 32) (k1_t21 : Fin k1_t21_loop.trips) : Fin 2 → Nat :=
  let c0_i32_393 : BitVec 32 := 0#32
  let v1043 : BitVec 1 := Scalar.cmpi .sgt v1039 c0_i32_393
  let v1044 : BitVec 32 := Scalar.extui v1043
  let c0_i32_394 : BitVec 32 := 0#32
  let v1045 : BitVec 1 := Scalar.cmpi .slt v1039 c0_i32_394
  let v1046 : BitVec 32 := Scalar.extui v1045
  let v1047 : BitVec 32 := Scalar.subi v1044 v1046
  let c16_i32_392 : BitVec 32 := 16#32
  let c0_i32_395 : BitVec 32 := 0#32
  let v1048 : BitVec 1 := Scalar.cmpi .sgt c16_i32_392 c0_i32_395
  let v1049 : BitVec 32 := Scalar.extui v1048
  let c0_i32_396 : BitVec 32 := 0#32
  let v1050 : BitVec 1 := Scalar.cmpi .slt c16_i32_392 c0_i32_396
  let v1051 : BitVec 32 := Scalar.extui v1050
  let v1052 : BitVec 32 := Scalar.subi v1049 v1051
  let v1053 : BitVec 1 := Scalar.cmpi .ne v1047 v1052
  let v1054 : BitVec 32 := Scalar.remsi v1039 c16_i32_392
  let c0_i32_397 : BitVec 32 := 0#32
  let v1055 : BitVec 1 := Scalar.cmpi .ne v1054 c0_i32_397
  let v1056 : BitVec 1 := Scalar.andi v1053 v1055
  let v1042 : BitVec 32 := Scalar.divsi v1039 c16_i32_392
  let c1_i32_398 : BitVec 32 := 1#32
  let v1057 : BitVec 32 := Scalar.subi v1042 c1_i32_398
  let v1058 : BitVec 32 := Scalar.select v1056 v1057 v1042
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1058 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t21
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1039 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk42 (i : grid1.Coords) (v25 : BitVec 32) (v1039 : BitVec 32) : Prop :=
  (∀ k1_t21 : Fin k1_t21_loop.trips, ∀ (k1_h21 : k1_cond21 i v25 v1039 = 1#1), ∀ a, (k1_off106 v1039 k1_t21) a + S1x16.size a ≤ S128x512.size a) ∧
  (∀ k1_t21 : Fin k1_t21_loop.trips, ∀ (k1_h21 : k1_cond21 i v25 v1039 = 1#1), ∀ a, (k1_off108 v1039 k1_t21) a + S1x16.size a ≤ S128x512.size a)
theorem k1_off106_inb : ∀ (i : grid1.Coords) (v25 : BitVec 32) (v1039 : BitVec 32) (k1_hw42 : k1_chk42 i v25 v1039) (k1_t21 : Fin k1_t21_loop.trips), ∀ (k1_h21 : k1_cond21 i v25 v1039 = 1#1), ∀ a, (k1_off106 v1039 k1_t21) a + S1x16.size a ≤ S128x512.size a := fun i v25 v1039 k1_hw42 k1_t21 k1_h21 => k1_hw42.1 k1_t21 k1_h21
theorem k1_off108_inb : ∀ (i : grid1.Coords) (v25 : BitVec 32) (v1039 : BitVec 32) (k1_hw42 : k1_chk42 i v25 v1039) (k1_t21 : Fin k1_t21_loop.trips), ∀ (k1_h21 : k1_cond21 i v25 v1039 = 1#1), ∀ a, (k1_off108 v1039 k1_t21) a + S1x16.size a ≤ S128x512.size a := fun i v25 v1039 k1_hw42 k1_t21 k1_h21 => k1_hw42.2 k1_t21 k1_h21

def k1_off109 (i : grid1.Coords) (v1084 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1084 c0_i32_1428
  let v3763 : BitVec 32 := Scalar.extui v3762
  let c0_i32_1429 : BitVec 32 := 0#32
  let v3764 : BitVec 1 := Scalar.cmpi .slt v1084 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1084 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1084 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r27 : BitVec 32 := 0#32
  ![v3779.toNat, 0]
def k1_cond22 (i : grid1.Coords) (v25 : BitVec 32) (v1082 : BitVec 32) : BitVec 1 :=
  let c5_i32_415 : BitVec 32 := 5#32
  let v1102 : BitVec 1 := Scalar.cmpi .sgt v25 c5_i32_415
  let c0_i32_409 : BitVec 32 := 0#32
  let v1086 : BitVec 1 := Scalar.cmpi .sgt v1082 c0_i32_409
  let v1087 : BitVec 32 := Scalar.extui v1086
  let c0_i32_410 : BitVec 32 := 0#32
  let v1088 : BitVec 1 := Scalar.cmpi .slt v1082 c0_i32_410
  let v1089 : BitVec 32 := Scalar.extui v1088
  let v1090 : BitVec 32 := Scalar.subi v1087 v1089
  let c16_i32_408 : BitVec 32 := 16#32
  let c0_i32_411 : BitVec 32 := 0#32
  let v1091 : BitVec 1 := Scalar.cmpi .sgt c16_i32_408 c0_i32_411
  let v1092 : BitVec 32 := Scalar.extui v1091
  let c0_i32_412 : BitVec 32 := 0#32
  let v1093 : BitVec 1 := Scalar.cmpi .slt c16_i32_408 c0_i32_412
  let v1094 : BitVec 32 := Scalar.extui v1093
  let v1095 : BitVec 32 := Scalar.subi v1092 v1094
  let v1096 : BitVec 1 := Scalar.cmpi .ne v1090 v1095
  let v1097 : BitVec 32 := Scalar.remsi v1082 c16_i32_408
  let c0_i32_413 : BitVec 32 := 0#32
  let v1098 : BitVec 1 := Scalar.cmpi .ne v1097 c0_i32_413
  let v1099 : BitVec 1 := Scalar.andi v1096 v1098
  let v1085 : BitVec 32 := Scalar.divsi v1082 c16_i32_408
  let c1_i32_414 : BitVec 32 := 1#32
  let v1100 : BitVec 32 := Scalar.subi v1085 c1_i32_414
  let v1101 : BitVec 32 := Scalar.select v1099 v1100 v1085
  let c0_i32_417 : BitVec 32 := 0#32
  let v1104 : BitVec 1 := Scalar.cmpi .sgt v1101 c0_i32_417
  let v1105 : BitVec 32 := Scalar.extui v1104
  let c0_i32_418 : BitVec 32 := 0#32
  let v1106 : BitVec 1 := Scalar.cmpi .slt v1101 c0_i32_418
  let v1107 : BitVec 32 := Scalar.extui v1106
  let v1108 : BitVec 32 := Scalar.subi v1105 v1107
  let c4_i32_416 : BitVec 32 := 4#32
  let c0_i32_419 : BitVec 32 := 0#32
  let v1109 : BitVec 1 := Scalar.cmpi .sgt c4_i32_416 c0_i32_419
  let v1110 : BitVec 32 := Scalar.extui v1109
  let c0_i32_420 : BitVec 32 := 0#32
  let v1111 : BitVec 1 := Scalar.cmpi .slt c4_i32_416 c0_i32_420
  let v1112 : BitVec 32 := Scalar.extui v1111
  let v1113 : BitVec 32 := Scalar.subi v1110 v1112
  let v1114 : BitVec 1 := Scalar.cmpi .ne v1108 v1113
  let v1115 : BitVec 32 := Scalar.remsi v1101 c4_i32_416
  let c0_i32_421 : BitVec 32 := 0#32
  let v1116 : BitVec 1 := Scalar.cmpi .ne v1115 c0_i32_421
  let v1117 : BitVec 1 := Scalar.andi v1114 v1116
  let v1103 : BitVec 32 := Scalar.divsi v1101 c4_i32_416
  let c1_i32_422 : BitVec 32 := 1#32
  let v1118 : BitVec 32 := Scalar.subi v1103 c1_i32_422
  let v1119 : BitVec 32 := Scalar.select v1117 v1118 v1103
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1120 : BitVec 1 := Scalar.cmpi .eq v1119 v865
  let v1121 : BitVec 1 := Scalar.andi v1102 v1120
  let v1122 : BitVec 32 := Scalar.extui v1121
  let c0_i32_423 : BitVec 32 := 0#32
  let v1123 : BitVec 1 := Scalar.cmpi .ne v1122 c0_i32_423
  v1123

@[reducible] def k1_t22_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off110 (v1084 : BitVec 32) (k1_t22 : Fin k1_t22_loop.trips) : Fin 2 → Nat :=
  let c0_i32_1453 : BitVec 32 := 0#32
  let c1_i32_1455 : BitVec 32 := 1#32
  let arg19 : BitVec 32 := Scf.iv c0_i32_1453 c1_i32_1455 k1_t22
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1084 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off111 (v1082 : BitVec 32) (k1_t22 : Fin k1_t22_loop.trips) : Fin 2 → Nat :=
  let c0_i32_409 : BitVec 32 := 0#32
  let v1086 : BitVec 1 := Scalar.cmpi .sgt v1082 c0_i32_409
  let v1087 : BitVec 32 := Scalar.extui v1086
  let c0_i32_410 : BitVec 32 := 0#32
  let v1088 : BitVec 1 := Scalar.cmpi .slt v1082 c0_i32_410
  let v1089 : BitVec 32 := Scalar.extui v1088
  let v1090 : BitVec 32 := Scalar.subi v1087 v1089
  let c16_i32_408 : BitVec 32 := 16#32
  let c0_i32_411 : BitVec 32 := 0#32
  let v1091 : BitVec 1 := Scalar.cmpi .sgt c16_i32_408 c0_i32_411
  let v1092 : BitVec 32 := Scalar.extui v1091
  let c0_i32_412 : BitVec 32 := 0#32
  let v1093 : BitVec 1 := Scalar.cmpi .slt c16_i32_408 c0_i32_412
  let v1094 : BitVec 32 := Scalar.extui v1093
  let v1095 : BitVec 32 := Scalar.subi v1092 v1094
  let v1096 : BitVec 1 := Scalar.cmpi .ne v1090 v1095
  let v1097 : BitVec 32 := Scalar.remsi v1082 c16_i32_408
  let c0_i32_413 : BitVec 32 := 0#32
  let v1098 : BitVec 1 := Scalar.cmpi .ne v1097 c0_i32_413
  let v1099 : BitVec 1 := Scalar.andi v1096 v1098
  let v1085 : BitVec 32 := Scalar.divsi v1082 c16_i32_408
  let c1_i32_414 : BitVec 32 := 1#32
  let v1100 : BitVec 32 := Scalar.subi v1085 c1_i32_414
  let v1101 : BitVec 32 := Scalar.select v1099 v1100 v1085
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1101 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t22
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1082 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off112 (v1084 : BitVec 32) (k1_t22 : Fin k1_t22_loop.trips) : Fin 2 → Nat :=
  let c0_i32_1453 : BitVec 32 := 0#32
  let c1_i32_1455 : BitVec 32 := 1#32
  let arg19 : BitVec 32 := Scf.iv c0_i32_1453 c1_i32_1455 k1_t22
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1084 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk43 (i : grid1.Coords) (v25 : BitVec 32) (v1082 : BitVec 32) (v1084 : BitVec 32) : Prop :=
  (∀ (k1_h22 : k1_cond22 i v25 v1082 = 1#1), ∀ a, (k1_off109 i v1084) a + S32x512.size a ≤ S12288x512.size a) ∧
  (∀ k1_t22 : Fin k1_t22_loop.trips, ∀ (k1_h22 : k1_cond22 i v25 v1082 = 1#1), ∀ a, (k1_off110 v1084 k1_t22) a + S1x16.size a ≤ S32x512.size a) ∧
  (∀ k1_t22 : Fin k1_t22_loop.trips, ∀ (k1_h22 : k1_cond22 i v25 v1082 = 1#1), ∀ a, (k1_off112 v1084 k1_t22) a + S1x16.size a ≤ S32x512.size a)
theorem k1_off109_inb : ∀ (i : grid1.Coords) (v25 : BitVec 32) (v1082 : BitVec 32) (v1084 : BitVec 32) (k1_hw43 : k1_chk43 i v25 v1082 v1084), ∀ (k1_h22 : k1_cond22 i v25 v1082 = 1#1), ∀ a, (k1_off109 i v1084) a + S32x512.size a ≤ S12288x512.size a := fun i v25 v1082 v1084 k1_hw43 k1_h22 => k1_hw43.1 k1_h22
theorem k1_off110_inb : ∀ (i : grid1.Coords) (v25 : BitVec 32) (v1082 : BitVec 32) (v1084 : BitVec 32) (k1_hw43 : k1_chk43 i v25 v1082 v1084) (k1_t22 : Fin k1_t22_loop.trips), ∀ (k1_h22 : k1_cond22 i v25 v1082 = 1#1), ∀ a, (k1_off110 v1084 k1_t22) a + S1x16.size a ≤ S32x512.size a := fun i v25 v1082 v1084 k1_hw43 k1_t22 k1_h22 => k1_hw43.2.1 k1_t22 k1_h22
theorem k1_off112_inb : ∀ (i : grid1.Coords) (v25 : BitVec 32) (v1082 : BitVec 32) (v1084 : BitVec 32) (k1_hw43 : k1_chk43 i v25 v1082 v1084) (k1_t22 : Fin k1_t22_loop.trips), ∀ (k1_h22 : k1_cond22 i v25 v1082 = 1#1), ∀ a, (k1_off112 v1084 k1_t22) a + S1x16.size a ≤ S32x512.size a := fun i v25 v1082 v1084 k1_hw43 k1_t22 k1_h22 => k1_hw43.2.2 k1_t22 k1_h22

def k1_off113 (v1082 : BitVec 32) (k1_t22 : Fin k1_t22_loop.trips) : Fin 2 → Nat :=
  let c0_i32_409 : BitVec 32 := 0#32
  let v1086 : BitVec 1 := Scalar.cmpi .sgt v1082 c0_i32_409
  let v1087 : BitVec 32 := Scalar.extui v1086
  let c0_i32_410 : BitVec 32 := 0#32
  let v1088 : BitVec 1 := Scalar.cmpi .slt v1082 c0_i32_410
  let v1089 : BitVec 32 := Scalar.extui v1088
  let v1090 : BitVec 32 := Scalar.subi v1087 v1089
  let c16_i32_408 : BitVec 32 := 16#32
  let c0_i32_411 : BitVec 32 := 0#32
  let v1091 : BitVec 1 := Scalar.cmpi .sgt c16_i32_408 c0_i32_411
  let v1092 : BitVec 32 := Scalar.extui v1091
  let c0_i32_412 : BitVec 32 := 0#32
  let v1093 : BitVec 1 := Scalar.cmpi .slt c16_i32_408 c0_i32_412
  let v1094 : BitVec 32 := Scalar.extui v1093
  let v1095 : BitVec 32 := Scalar.subi v1092 v1094
  let v1096 : BitVec 1 := Scalar.cmpi .ne v1090 v1095
  let v1097 : BitVec 32 := Scalar.remsi v1082 c16_i32_408
  let c0_i32_413 : BitVec 32 := 0#32
  let v1098 : BitVec 1 := Scalar.cmpi .ne v1097 c0_i32_413
  let v1099 : BitVec 1 := Scalar.andi v1096 v1098
  let v1085 : BitVec 32 := Scalar.divsi v1082 c16_i32_408
  let c1_i32_414 : BitVec 32 := 1#32
  let v1100 : BitVec 32 := Scalar.subi v1085 c1_i32_414
  let v1101 : BitVec 32 := Scalar.select v1099 v1100 v1085
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1101 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t22
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1082 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk44 (i : grid1.Coords) (v25 : BitVec 32) (v1082 : BitVec 32) : Prop :=
  (∀ k1_t22 : Fin k1_t22_loop.trips, ∀ (k1_h22 : k1_cond22 i v25 v1082 = 1#1), ∀ a, (k1_off111 v1082 k1_t22) a + S1x16.size a ≤ S128x512.size a) ∧
  (∀ k1_t22 : Fin k1_t22_loop.trips, ∀ (k1_h22 : k1_cond22 i v25 v1082 = 1#1), ∀ a, (k1_off113 v1082 k1_t22) a + S1x16.size a ≤ S128x512.size a)
theorem k1_off111_inb : ∀ (i : grid1.Coords) (v25 : BitVec 32) (v1082 : BitVec 32) (k1_hw44 : k1_chk44 i v25 v1082) (k1_t22 : Fin k1_t22_loop.trips), ∀ (k1_h22 : k1_cond22 i v25 v1082 = 1#1), ∀ a, (k1_off111 v1082 k1_t22) a + S1x16.size a ≤ S128x512.size a := fun i v25 v1082 k1_hw44 k1_t22 k1_h22 => k1_hw44.1 k1_t22 k1_h22
theorem k1_off113_inb : ∀ (i : grid1.Coords) (v25 : BitVec 32) (v1082 : BitVec 32) (k1_hw44 : k1_chk44 i v25 v1082) (k1_t22 : Fin k1_t22_loop.trips), ∀ (k1_h22 : k1_cond22 i v25 v1082 = 1#1), ∀ a, (k1_off113 v1082 k1_t22) a + S1x16.size a ≤ S128x512.size a := fun i v25 v1082 k1_hw44 k1_t22 k1_h22 => k1_hw44.2 k1_t22 k1_h22

def k1_off114 (i : grid1.Coords) (v1127 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1127 c0_i32_1428
  let v3763 : BitVec 32 := Scalar.extui v3762
  let c0_i32_1429 : BitVec 32 := 0#32
  let v3764 : BitVec 1 := Scalar.cmpi .slt v1127 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1127 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1127 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r28 : BitVec 32 := 0#32
  ![v3779.toNat, 0]
def k1_cond23 (i : grid1.Coords) (v25 : BitVec 32) (v1125 : BitVec 32) : BitVec 1 :=
  let c6_i32_431 : BitVec 32 := 6#32
  let v1145 : BitVec 1 := Scalar.cmpi .sgt v25 c6_i32_431
  let c0_i32_425 : BitVec 32 := 0#32
  let v1129 : BitVec 1 := Scalar.cmpi .sgt v1125 c0_i32_425
  let v1130 : BitVec 32 := Scalar.extui v1129
  let c0_i32_426 : BitVec 32 := 0#32
  let v1131 : BitVec 1 := Scalar.cmpi .slt v1125 c0_i32_426
  let v1132 : BitVec 32 := Scalar.extui v1131
  let v1133 : BitVec 32 := Scalar.subi v1130 v1132
  let c16_i32_424 : BitVec 32 := 16#32
  let c0_i32_427 : BitVec 32 := 0#32
  let v1134 : BitVec 1 := Scalar.cmpi .sgt c16_i32_424 c0_i32_427
  let v1135 : BitVec 32 := Scalar.extui v1134
  let c0_i32_428 : BitVec 32 := 0#32
  let v1136 : BitVec 1 := Scalar.cmpi .slt c16_i32_424 c0_i32_428
  let v1137 : BitVec 32 := Scalar.extui v1136
  let v1138 : BitVec 32 := Scalar.subi v1135 v1137
  let v1139 : BitVec 1 := Scalar.cmpi .ne v1133 v1138
  let v1140 : BitVec 32 := Scalar.remsi v1125 c16_i32_424
  let c0_i32_429 : BitVec 32 := 0#32
  let v1141 : BitVec 1 := Scalar.cmpi .ne v1140 c0_i32_429
  let v1142 : BitVec 1 := Scalar.andi v1139 v1141
  let v1128 : BitVec 32 := Scalar.divsi v1125 c16_i32_424
  let c1_i32_430 : BitVec 32 := 1#32
  let v1143 : BitVec 32 := Scalar.subi v1128 c1_i32_430
  let v1144 : BitVec 32 := Scalar.select v1142 v1143 v1128
  let c0_i32_433 : BitVec 32 := 0#32
  let v1147 : BitVec 1 := Scalar.cmpi .sgt v1144 c0_i32_433
  let v1148 : BitVec 32 := Scalar.extui v1147
  let c0_i32_434 : BitVec 32 := 0#32
  let v1149 : BitVec 1 := Scalar.cmpi .slt v1144 c0_i32_434
  let v1150 : BitVec 32 := Scalar.extui v1149
  let v1151 : BitVec 32 := Scalar.subi v1148 v1150
  let c4_i32_432 : BitVec 32 := 4#32
  let c0_i32_435 : BitVec 32 := 0#32
  let v1152 : BitVec 1 := Scalar.cmpi .sgt c4_i32_432 c0_i32_435
  let v1153 : BitVec 32 := Scalar.extui v1152
  let c0_i32_436 : BitVec 32 := 0#32
  let v1154 : BitVec 1 := Scalar.cmpi .slt c4_i32_432 c0_i32_436
  let v1155 : BitVec 32 := Scalar.extui v1154
  let v1156 : BitVec 32 := Scalar.subi v1153 v1155
  let v1157 : BitVec 1 := Scalar.cmpi .ne v1151 v1156
  let v1158 : BitVec 32 := Scalar.remsi v1144 c4_i32_432
  let c0_i32_437 : BitVec 32 := 0#32
  let v1159 : BitVec 1 := Scalar.cmpi .ne v1158 c0_i32_437
  let v1160 : BitVec 1 := Scalar.andi v1157 v1159
  let v1146 : BitVec 32 := Scalar.divsi v1144 c4_i32_432
  let c1_i32_438 : BitVec 32 := 1#32
  let v1161 : BitVec 32 := Scalar.subi v1146 c1_i32_438
  let v1162 : BitVec 32 := Scalar.select v1160 v1161 v1146
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1163 : BitVec 1 := Scalar.cmpi .eq v1162 v865
  let v1164 : BitVec 1 := Scalar.andi v1145 v1163
  let v1165 : BitVec 32 := Scalar.extui v1164
  let c0_i32_439 : BitVec 32 := 0#32
  let v1166 : BitVec 1 := Scalar.cmpi .ne v1165 c0_i32_439
  v1166

@[reducible] def k1_t23_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off115 (v1127 : BitVec 32) (k1_t23 : Fin k1_t23_loop.trips) : Fin 2 → Nat :=
  let c0_i32_1453 : BitVec 32 := 0#32
  let c1_i32_1455 : BitVec 32 := 1#32
  let arg19 : BitVec 32 := Scf.iv c0_i32_1453 c1_i32_1455 k1_t23
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1127 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off116 (v1125 : BitVec 32) (k1_t23 : Fin k1_t23_loop.trips) : Fin 2 → Nat :=
  let c0_i32_425 : BitVec 32 := 0#32
  let v1129 : BitVec 1 := Scalar.cmpi .sgt v1125 c0_i32_425
  let v1130 : BitVec 32 := Scalar.extui v1129
  let c0_i32_426 : BitVec 32 := 0#32
  let v1131 : BitVec 1 := Scalar.cmpi .slt v1125 c0_i32_426
  let v1132 : BitVec 32 := Scalar.extui v1131
  let v1133 : BitVec 32 := Scalar.subi v1130 v1132
  let c16_i32_424 : BitVec 32 := 16#32
  let c0_i32_427 : BitVec 32 := 0#32
  let v1134 : BitVec 1 := Scalar.cmpi .sgt c16_i32_424 c0_i32_427
  let v1135 : BitVec 32 := Scalar.extui v1134
  let c0_i32_428 : BitVec 32 := 0#32
  let v1136 : BitVec 1 := Scalar.cmpi .slt c16_i32_424 c0_i32_428
  let v1137 : BitVec 32 := Scalar.extui v1136
  let v1138 : BitVec 32 := Scalar.subi v1135 v1137
  let v1139 : BitVec 1 := Scalar.cmpi .ne v1133 v1138
  let v1140 : BitVec 32 := Scalar.remsi v1125 c16_i32_424
  let c0_i32_429 : BitVec 32 := 0#32
  let v1141 : BitVec 1 := Scalar.cmpi .ne v1140 c0_i32_429
  let v1142 : BitVec 1 := Scalar.andi v1139 v1141
  let v1128 : BitVec 32 := Scalar.divsi v1125 c16_i32_424
  let c1_i32_430 : BitVec 32 := 1#32
  let v1143 : BitVec 32 := Scalar.subi v1128 c1_i32_430
  let v1144 : BitVec 32 := Scalar.select v1142 v1143 v1128
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1144 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t23
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1125 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off117 (v1127 : BitVec 32) (k1_t23 : Fin k1_t23_loop.trips) : Fin 2 → Nat :=
  let c0_i32_1453 : BitVec 32 := 0#32
  let c1_i32_1455 : BitVec 32 := 1#32
  let arg19 : BitVec 32 := Scf.iv c0_i32_1453 c1_i32_1455 k1_t23
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1127 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk45 (i : grid1.Coords) (v25 : BitVec 32) (v1125 : BitVec 32) (v1127 : BitVec 32) : Prop :=
  (∀ (k1_h23 : k1_cond23 i v25 v1125 = 1#1), ∀ a, (k1_off114 i v1127) a + S32x512.size a ≤ S12288x512.size a) ∧
  (∀ k1_t23 : Fin k1_t23_loop.trips, ∀ (k1_h23 : k1_cond23 i v25 v1125 = 1#1), ∀ a, (k1_off115 v1127 k1_t23) a + S1x16.size a ≤ S32x512.size a) ∧
  (∀ k1_t23 : Fin k1_t23_loop.trips, ∀ (k1_h23 : k1_cond23 i v25 v1125 = 1#1), ∀ a, (k1_off117 v1127 k1_t23) a + S1x16.size a ≤ S32x512.size a)
theorem k1_off114_inb : ∀ (i : grid1.Coords) (v25 : BitVec 32) (v1125 : BitVec 32) (v1127 : BitVec 32) (k1_hw45 : k1_chk45 i v25 v1125 v1127), ∀ (k1_h23 : k1_cond23 i v25 v1125 = 1#1), ∀ a, (k1_off114 i v1127) a + S32x512.size a ≤ S12288x512.size a := fun i v25 v1125 v1127 k1_hw45 k1_h23 => k1_hw45.1 k1_h23
theorem k1_off115_inb : ∀ (i : grid1.Coords) (v25 : BitVec 32) (v1125 : BitVec 32) (v1127 : BitVec 32) (k1_hw45 : k1_chk45 i v25 v1125 v1127) (k1_t23 : Fin k1_t23_loop.trips), ∀ (k1_h23 : k1_cond23 i v25 v1125 = 1#1), ∀ a, (k1_off115 v1127 k1_t23) a + S1x16.size a ≤ S32x512.size a := fun i v25 v1125 v1127 k1_hw45 k1_t23 k1_h23 => k1_hw45.2.1 k1_t23 k1_h23
theorem k1_off117_inb : ∀ (i : grid1.Coords) (v25 : BitVec 32) (v1125 : BitVec 32) (v1127 : BitVec 32) (k1_hw45 : k1_chk45 i v25 v1125 v1127) (k1_t23 : Fin k1_t23_loop.trips), ∀ (k1_h23 : k1_cond23 i v25 v1125 = 1#1), ∀ a, (k1_off117 v1127 k1_t23) a + S1x16.size a ≤ S32x512.size a := fun i v25 v1125 v1127 k1_hw45 k1_t23 k1_h23 => k1_hw45.2.2 k1_t23 k1_h23

def k1_off118 (v1125 : BitVec 32) (k1_t23 : Fin k1_t23_loop.trips) : Fin 2 → Nat :=
  let c0_i32_425 : BitVec 32 := 0#32
  let v1129 : BitVec 1 := Scalar.cmpi .sgt v1125 c0_i32_425
  let v1130 : BitVec 32 := Scalar.extui v1129
  let c0_i32_426 : BitVec 32 := 0#32
  let v1131 : BitVec 1 := Scalar.cmpi .slt v1125 c0_i32_426
  let v1132 : BitVec 32 := Scalar.extui v1131
  let v1133 : BitVec 32 := Scalar.subi v1130 v1132
  let c16_i32_424 : BitVec 32 := 16#32
  let c0_i32_427 : BitVec 32 := 0#32
  let v1134 : BitVec 1 := Scalar.cmpi .sgt c16_i32_424 c0_i32_427
  let v1135 : BitVec 32 := Scalar.extui v1134
  let c0_i32_428 : BitVec 32 := 0#32
  let v1136 : BitVec 1 := Scalar.cmpi .slt c16_i32_424 c0_i32_428
  let v1137 : BitVec 32 := Scalar.extui v1136
  let v1138 : BitVec 32 := Scalar.subi v1135 v1137
  let v1139 : BitVec 1 := Scalar.cmpi .ne v1133 v1138
  let v1140 : BitVec 32 := Scalar.remsi v1125 c16_i32_424
  let c0_i32_429 : BitVec 32 := 0#32
  let v1141 : BitVec 1 := Scalar.cmpi .ne v1140 c0_i32_429
  let v1142 : BitVec 1 := Scalar.andi v1139 v1141
  let v1128 : BitVec 32 := Scalar.divsi v1125 c16_i32_424
  let c1_i32_430 : BitVec 32 := 1#32
  let v1143 : BitVec 32 := Scalar.subi v1128 c1_i32_430
  let v1144 : BitVec 32 := Scalar.select v1142 v1143 v1128
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1144 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t23
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1125 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk46 (i : grid1.Coords) (v25 : BitVec 32) (v1125 : BitVec 32) : Prop :=
  (∀ k1_t23 : Fin k1_t23_loop.trips, ∀ (k1_h23 : k1_cond23 i v25 v1125 = 1#1), ∀ a, (k1_off116 v1125 k1_t23) a + S1x16.size a ≤ S128x512.size a) ∧
  (∀ k1_t23 : Fin k1_t23_loop.trips, ∀ (k1_h23 : k1_cond23 i v25 v1125 = 1#1), ∀ a, (k1_off118 v1125 k1_t23) a + S1x16.size a ≤ S128x512.size a)
theorem k1_off116_inb : ∀ (i : grid1.Coords) (v25 : BitVec 32) (v1125 : BitVec 32) (k1_hw46 : k1_chk46 i v25 v1125) (k1_t23 : Fin k1_t23_loop.trips), ∀ (k1_h23 : k1_cond23 i v25 v1125 = 1#1), ∀ a, (k1_off116 v1125 k1_t23) a + S1x16.size a ≤ S128x512.size a := fun i v25 v1125 k1_hw46 k1_t23 k1_h23 => k1_hw46.1 k1_t23 k1_h23
theorem k1_off118_inb : ∀ (i : grid1.Coords) (v25 : BitVec 32) (v1125 : BitVec 32) (k1_hw46 : k1_chk46 i v25 v1125) (k1_t23 : Fin k1_t23_loop.trips), ∀ (k1_h23 : k1_cond23 i v25 v1125 = 1#1), ∀ a, (k1_off118 v1125 k1_t23) a + S1x16.size a ≤ S128x512.size a := fun i v25 v1125 k1_hw46 k1_t23 k1_h23 => k1_hw46.2 k1_t23 k1_h23

def k1_off119 (i : grid1.Coords) (v1170 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1170 c0_i32_1428
  let v3763 : BitVec 32 := Scalar.extui v3762
  let c0_i32_1429 : BitVec 32 := 0#32
  let v3764 : BitVec 1 := Scalar.cmpi .slt v1170 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1170 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1170 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r29 : BitVec 32 := 0#32
  ![v3779.toNat, 0]
def k1_cond24 (i : grid1.Coords) (v25 : BitVec 32) (v1168 : BitVec 32) : BitVec 1 :=
  let c7_i32_447 : BitVec 32 := 7#32
  let v1188 : BitVec 1 := Scalar.cmpi .sgt v25 c7_i32_447
  let c0_i32_441 : BitVec 32 := 0#32
  let v1172 : BitVec 1 := Scalar.cmpi .sgt v1168 c0_i32_441
  let v1173 : BitVec 32 := Scalar.extui v1172
  let c0_i32_442 : BitVec 32 := 0#32
  let v1174 : BitVec 1 := Scalar.cmpi .slt v1168 c0_i32_442
  let v1175 : BitVec 32 := Scalar.extui v1174
  let v1176 : BitVec 32 := Scalar.subi v1173 v1175
  let c16_i32_440 : BitVec 32 := 16#32
  let c0_i32_443 : BitVec 32 := 0#32
  let v1177 : BitVec 1 := Scalar.cmpi .sgt c16_i32_440 c0_i32_443
  let v1178 : BitVec 32 := Scalar.extui v1177
  let c0_i32_444 : BitVec 32 := 0#32
  let v1179 : BitVec 1 := Scalar.cmpi .slt c16_i32_440 c0_i32_444
  let v1180 : BitVec 32 := Scalar.extui v1179
  let v1181 : BitVec 32 := Scalar.subi v1178 v1180
  let v1182 : BitVec 1 := Scalar.cmpi .ne v1176 v1181
  let v1183 : BitVec 32 := Scalar.remsi v1168 c16_i32_440
  let c0_i32_445 : BitVec 32 := 0#32
  let v1184 : BitVec 1 := Scalar.cmpi .ne v1183 c0_i32_445
  let v1185 : BitVec 1 := Scalar.andi v1182 v1184
  let v1171 : BitVec 32 := Scalar.divsi v1168 c16_i32_440
  let c1_i32_446 : BitVec 32 := 1#32
  let v1186 : BitVec 32 := Scalar.subi v1171 c1_i32_446
  let v1187 : BitVec 32 := Scalar.select v1185 v1186 v1171
  let c0_i32_449 : BitVec 32 := 0#32
  let v1190 : BitVec 1 := Scalar.cmpi .sgt v1187 c0_i32_449
  let v1191 : BitVec 32 := Scalar.extui v1190
  let c0_i32_450 : BitVec 32 := 0#32
  let v1192 : BitVec 1 := Scalar.cmpi .slt v1187 c0_i32_450
  let v1193 : BitVec 32 := Scalar.extui v1192
  let v1194 : BitVec 32 := Scalar.subi v1191 v1193
  let c4_i32_448 : BitVec 32 := 4#32
  let c0_i32_451 : BitVec 32 := 0#32
  let v1195 : BitVec 1 := Scalar.cmpi .sgt c4_i32_448 c0_i32_451
  let v1196 : BitVec 32 := Scalar.extui v1195
  let c0_i32_452 : BitVec 32 := 0#32
  let v1197 : BitVec 1 := Scalar.cmpi .slt c4_i32_448 c0_i32_452
  let v1198 : BitVec 32 := Scalar.extui v1197
  let v1199 : BitVec 32 := Scalar.subi v1196 v1198
  let v1200 : BitVec 1 := Scalar.cmpi .ne v1194 v1199
  let v1201 : BitVec 32 := Scalar.remsi v1187 c4_i32_448
  let c0_i32_453 : BitVec 32 := 0#32
  let v1202 : BitVec 1 := Scalar.cmpi .ne v1201 c0_i32_453
  let v1203 : BitVec 1 := Scalar.andi v1200 v1202
  let v1189 : BitVec 32 := Scalar.divsi v1187 c4_i32_448
  let c1_i32_454 : BitVec 32 := 1#32
  let v1204 : BitVec 32 := Scalar.subi v1189 c1_i32_454
  let v1205 : BitVec 32 := Scalar.select v1203 v1204 v1189
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1206 : BitVec 1 := Scalar.cmpi .eq v1205 v865
  let v1207 : BitVec 1 := Scalar.andi v1188 v1206
  let v1208 : BitVec 32 := Scalar.extui v1207
  let c0_i32_455 : BitVec 32 := 0#32
  let v1209 : BitVec 1 := Scalar.cmpi .ne v1208 c0_i32_455
  v1209

@[reducible] def k1_t24_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off120 (v1170 : BitVec 32) (k1_t24 : Fin k1_t24_loop.trips) : Fin 2 → Nat :=
  let c0_i32_1453 : BitVec 32 := 0#32
  let c1_i32_1455 : BitVec 32 := 1#32
  let arg19 : BitVec 32 := Scf.iv c0_i32_1453 c1_i32_1455 k1_t24
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1170 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off121 (v1168 : BitVec 32) (k1_t24 : Fin k1_t24_loop.trips) : Fin 2 → Nat :=
  let c0_i32_441 : BitVec 32 := 0#32
  let v1172 : BitVec 1 := Scalar.cmpi .sgt v1168 c0_i32_441
  let v1173 : BitVec 32 := Scalar.extui v1172
  let c0_i32_442 : BitVec 32 := 0#32
  let v1174 : BitVec 1 := Scalar.cmpi .slt v1168 c0_i32_442
  let v1175 : BitVec 32 := Scalar.extui v1174
  let v1176 : BitVec 32 := Scalar.subi v1173 v1175
  let c16_i32_440 : BitVec 32 := 16#32
  let c0_i32_443 : BitVec 32 := 0#32
  let v1177 : BitVec 1 := Scalar.cmpi .sgt c16_i32_440 c0_i32_443
  let v1178 : BitVec 32 := Scalar.extui v1177
  let c0_i32_444 : BitVec 32 := 0#32
  let v1179 : BitVec 1 := Scalar.cmpi .slt c16_i32_440 c0_i32_444
  let v1180 : BitVec 32 := Scalar.extui v1179
  let v1181 : BitVec 32 := Scalar.subi v1178 v1180
  let v1182 : BitVec 1 := Scalar.cmpi .ne v1176 v1181
  let v1183 : BitVec 32 := Scalar.remsi v1168 c16_i32_440
  let c0_i32_445 : BitVec 32 := 0#32
  let v1184 : BitVec 1 := Scalar.cmpi .ne v1183 c0_i32_445
  let v1185 : BitVec 1 := Scalar.andi v1182 v1184
  let v1171 : BitVec 32 := Scalar.divsi v1168 c16_i32_440
  let c1_i32_446 : BitVec 32 := 1#32
  let v1186 : BitVec 32 := Scalar.subi v1171 c1_i32_446
  let v1187 : BitVec 32 := Scalar.select v1185 v1186 v1171
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1187 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t24
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1168 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off122 (v1170 : BitVec 32) (k1_t24 : Fin k1_t24_loop.trips) : Fin 2 → Nat :=
  let c0_i32_1453 : BitVec 32 := 0#32
  let c1_i32_1455 : BitVec 32 := 1#32
  let arg19 : BitVec 32 := Scf.iv c0_i32_1453 c1_i32_1455 k1_t24
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1170 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk47 (i : grid1.Coords) (v25 : BitVec 32) (v1168 : BitVec 32) (v1170 : BitVec 32) : Prop :=
  (∀ (k1_h24 : k1_cond24 i v25 v1168 = 1#1), ∀ a, (k1_off119 i v1170) a + S32x512.size a ≤ S12288x512.size a) ∧
  (∀ k1_t24 : Fin k1_t24_loop.trips, ∀ (k1_h24 : k1_cond24 i v25 v1168 = 1#1), ∀ a, (k1_off120 v1170 k1_t24) a + S1x16.size a ≤ S32x512.size a) ∧
  (∀ k1_t24 : Fin k1_t24_loop.trips, ∀ (k1_h24 : k1_cond24 i v25 v1168 = 1#1), ∀ a, (k1_off122 v1170 k1_t24) a + S1x16.size a ≤ S32x512.size a)
theorem k1_off119_inb : ∀ (i : grid1.Coords) (v25 : BitVec 32) (v1168 : BitVec 32) (v1170 : BitVec 32) (k1_hw47 : k1_chk47 i v25 v1168 v1170), ∀ (k1_h24 : k1_cond24 i v25 v1168 = 1#1), ∀ a, (k1_off119 i v1170) a + S32x512.size a ≤ S12288x512.size a := fun i v25 v1168 v1170 k1_hw47 k1_h24 => k1_hw47.1 k1_h24
theorem k1_off120_inb : ∀ (i : grid1.Coords) (v25 : BitVec 32) (v1168 : BitVec 32) (v1170 : BitVec 32) (k1_hw47 : k1_chk47 i v25 v1168 v1170) (k1_t24 : Fin k1_t24_loop.trips), ∀ (k1_h24 : k1_cond24 i v25 v1168 = 1#1), ∀ a, (k1_off120 v1170 k1_t24) a + S1x16.size a ≤ S32x512.size a := fun i v25 v1168 v1170 k1_hw47 k1_t24 k1_h24 => k1_hw47.2.1 k1_t24 k1_h24
theorem k1_off122_inb : ∀ (i : grid1.Coords) (v25 : BitVec 32) (v1168 : BitVec 32) (v1170 : BitVec 32) (k1_hw47 : k1_chk47 i v25 v1168 v1170) (k1_t24 : Fin k1_t24_loop.trips), ∀ (k1_h24 : k1_cond24 i v25 v1168 = 1#1), ∀ a, (k1_off122 v1170 k1_t24) a + S1x16.size a ≤ S32x512.size a := fun i v25 v1168 v1170 k1_hw47 k1_t24 k1_h24 => k1_hw47.2.2 k1_t24 k1_h24

def k1_off123 (v1168 : BitVec 32) (k1_t24 : Fin k1_t24_loop.trips) : Fin 2 → Nat :=
  let c0_i32_441 : BitVec 32 := 0#32
  let v1172 : BitVec 1 := Scalar.cmpi .sgt v1168 c0_i32_441
  let v1173 : BitVec 32 := Scalar.extui v1172
  let c0_i32_442 : BitVec 32 := 0#32
  let v1174 : BitVec 1 := Scalar.cmpi .slt v1168 c0_i32_442
  let v1175 : BitVec 32 := Scalar.extui v1174
  let v1176 : BitVec 32 := Scalar.subi v1173 v1175
  let c16_i32_440 : BitVec 32 := 16#32
  let c0_i32_443 : BitVec 32 := 0#32
  let v1177 : BitVec 1 := Scalar.cmpi .sgt c16_i32_440 c0_i32_443
  let v1178 : BitVec 32 := Scalar.extui v1177
  let c0_i32_444 : BitVec 32 := 0#32
  let v1179 : BitVec 1 := Scalar.cmpi .slt c16_i32_440 c0_i32_444
  let v1180 : BitVec 32 := Scalar.extui v1179
  let v1181 : BitVec 32 := Scalar.subi v1178 v1180
  let v1182 : BitVec 1 := Scalar.cmpi .ne v1176 v1181
  let v1183 : BitVec 32 := Scalar.remsi v1168 c16_i32_440
  let c0_i32_445 : BitVec 32 := 0#32
  let v1184 : BitVec 1 := Scalar.cmpi .ne v1183 c0_i32_445
  let v1185 : BitVec 1 := Scalar.andi v1182 v1184
  let v1171 : BitVec 32 := Scalar.divsi v1168 c16_i32_440
  let c1_i32_446 : BitVec 32 := 1#32
  let v1186 : BitVec 32 := Scalar.subi v1171 c1_i32_446
  let v1187 : BitVec 32 := Scalar.select v1185 v1186 v1171
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1187 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t24
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1168 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk48 (i : grid1.Coords) (v25 : BitVec 32) (v1168 : BitVec 32) : Prop :=
  (∀ k1_t24 : Fin k1_t24_loop.trips, ∀ (k1_h24 : k1_cond24 i v25 v1168 = 1#1), ∀ a, (k1_off121 v1168 k1_t24) a + S1x16.size a ≤ S128x512.size a) ∧
  (∀ k1_t24 : Fin k1_t24_loop.trips, ∀ (k1_h24 : k1_cond24 i v25 v1168 = 1#1), ∀ a, (k1_off123 v1168 k1_t24) a + S1x16.size a ≤ S128x512.size a)
theorem k1_off121_inb : ∀ (i : grid1.Coords) (v25 : BitVec 32) (v1168 : BitVec 32) (k1_hw48 : k1_chk48 i v25 v1168) (k1_t24 : Fin k1_t24_loop.trips), ∀ (k1_h24 : k1_cond24 i v25 v1168 = 1#1), ∀ a, (k1_off121 v1168 k1_t24) a + S1x16.size a ≤ S128x512.size a := fun i v25 v1168 k1_hw48 k1_t24 k1_h24 => k1_hw48.1 k1_t24 k1_h24
theorem k1_off123_inb : ∀ (i : grid1.Coords) (v25 : BitVec 32) (v1168 : BitVec 32) (k1_hw48 : k1_chk48 i v25 v1168) (k1_t24 : Fin k1_t24_loop.trips), ∀ (k1_h24 : k1_cond24 i v25 v1168 = 1#1), ∀ a, (k1_off123 v1168 k1_t24) a + S1x16.size a ≤ S128x512.size a := fun i v25 v1168 k1_hw48 k1_t24 k1_h24 => k1_hw48.2 k1_t24 k1_h24

def k1_off124 (i : grid1.Coords) (v1213 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1213 c0_i32_1428
  let v3763 : BitVec 32 := Scalar.extui v3762
  let c0_i32_1429 : BitVec 32 := 0#32
  let v3764 : BitVec 1 := Scalar.cmpi .slt v1213 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1213 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1213 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r30 : BitVec 32 := 0#32
  ![v3779.toNat, 0]
def k1_cond25 (i : grid1.Coords) (v25 : BitVec 32) (v1211 : BitVec 32) : BitVec 1 :=
  let c8_i32_463 : BitVec 32 := 8#32
  let v1231 : BitVec 1 := Scalar.cmpi .sgt v25 c8_i32_463
  let c0_i32_457 : BitVec 32 := 0#32
  let v1215 : BitVec 1 := Scalar.cmpi .sgt v1211 c0_i32_457
  let v1216 : BitVec 32 := Scalar.extui v1215
  let c0_i32_458 : BitVec 32 := 0#32
  let v1217 : BitVec 1 := Scalar.cmpi .slt v1211 c0_i32_458
  let v1218 : BitVec 32 := Scalar.extui v1217
  let v1219 : BitVec 32 := Scalar.subi v1216 v1218
  let c16_i32_456 : BitVec 32 := 16#32
  let c0_i32_459 : BitVec 32 := 0#32
  let v1220 : BitVec 1 := Scalar.cmpi .sgt c16_i32_456 c0_i32_459
  let v1221 : BitVec 32 := Scalar.extui v1220
  let c0_i32_460 : BitVec 32 := 0#32
  let v1222 : BitVec 1 := Scalar.cmpi .slt c16_i32_456 c0_i32_460
  let v1223 : BitVec 32 := Scalar.extui v1222
  let v1224 : BitVec 32 := Scalar.subi v1221 v1223
  let v1225 : BitVec 1 := Scalar.cmpi .ne v1219 v1224
  let v1226 : BitVec 32 := Scalar.remsi v1211 c16_i32_456
  let c0_i32_461 : BitVec 32 := 0#32
  let v1227 : BitVec 1 := Scalar.cmpi .ne v1226 c0_i32_461
  let v1228 : BitVec 1 := Scalar.andi v1225 v1227
  let v1214 : BitVec 32 := Scalar.divsi v1211 c16_i32_456
  let c1_i32_462 : BitVec 32 := 1#32
  let v1229 : BitVec 32 := Scalar.subi v1214 c1_i32_462
  let v1230 : BitVec 32 := Scalar.select v1228 v1229 v1214
  let c0_i32_465 : BitVec 32 := 0#32
  let v1233 : BitVec 1 := Scalar.cmpi .sgt v1230 c0_i32_465
  let v1234 : BitVec 32 := Scalar.extui v1233
  let c0_i32_466 : BitVec 32 := 0#32
  let v1235 : BitVec 1 := Scalar.cmpi .slt v1230 c0_i32_466
  let v1236 : BitVec 32 := Scalar.extui v1235
  let v1237 : BitVec 32 := Scalar.subi v1234 v1236
  let c4_i32_464 : BitVec 32 := 4#32
  let c0_i32_467 : BitVec 32 := 0#32
  let v1238 : BitVec 1 := Scalar.cmpi .sgt c4_i32_464 c0_i32_467
  let v1239 : BitVec 32 := Scalar.extui v1238
  let c0_i32_468 : BitVec 32 := 0#32
  let v1240 : BitVec 1 := Scalar.cmpi .slt c4_i32_464 c0_i32_468
  let v1241 : BitVec 32 := Scalar.extui v1240
  let v1242 : BitVec 32 := Scalar.subi v1239 v1241
  let v1243 : BitVec 1 := Scalar.cmpi .ne v1237 v1242
  let v1244 : BitVec 32 := Scalar.remsi v1230 c4_i32_464
  let c0_i32_469 : BitVec 32 := 0#32
  let v1245 : BitVec 1 := Scalar.cmpi .ne v1244 c0_i32_469
  let v1246 : BitVec 1 := Scalar.andi v1243 v1245
  let v1232 : BitVec 32 := Scalar.divsi v1230 c4_i32_464
  let c1_i32_470 : BitVec 32 := 1#32
  let v1247 : BitVec 32 := Scalar.subi v1232 c1_i32_470
  let v1248 : BitVec 32 := Scalar.select v1246 v1247 v1232
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1249 : BitVec 1 := Scalar.cmpi .eq v1248 v865
  let v1250 : BitVec 1 := Scalar.andi v1231 v1249
  let v1251 : BitVec 32 := Scalar.extui v1250
  let c0_i32_471 : BitVec 32 := 0#32
  let v1252 : BitVec 1 := Scalar.cmpi .ne v1251 c0_i32_471
  v1252

@[reducible] def k1_t25_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off125 (v1213 : BitVec 32) (k1_t25 : Fin k1_t25_loop.trips) : Fin 2 → Nat :=
  let c0_i32_1453 : BitVec 32 := 0#32
  let c1_i32_1455 : BitVec 32 := 1#32
  let arg19 : BitVec 32 := Scf.iv c0_i32_1453 c1_i32_1455 k1_t25
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1213 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off126 (v1211 : BitVec 32) (k1_t25 : Fin k1_t25_loop.trips) : Fin 2 → Nat :=
  let c0_i32_457 : BitVec 32 := 0#32
  let v1215 : BitVec 1 := Scalar.cmpi .sgt v1211 c0_i32_457
  let v1216 : BitVec 32 := Scalar.extui v1215
  let c0_i32_458 : BitVec 32 := 0#32
  let v1217 : BitVec 1 := Scalar.cmpi .slt v1211 c0_i32_458
  let v1218 : BitVec 32 := Scalar.extui v1217
  let v1219 : BitVec 32 := Scalar.subi v1216 v1218
  let c16_i32_456 : BitVec 32 := 16#32
  let c0_i32_459 : BitVec 32 := 0#32
  let v1220 : BitVec 1 := Scalar.cmpi .sgt c16_i32_456 c0_i32_459
  let v1221 : BitVec 32 := Scalar.extui v1220
  let c0_i32_460 : BitVec 32 := 0#32
  let v1222 : BitVec 1 := Scalar.cmpi .slt c16_i32_456 c0_i32_460
  let v1223 : BitVec 32 := Scalar.extui v1222
  let v1224 : BitVec 32 := Scalar.subi v1221 v1223
  let v1225 : BitVec 1 := Scalar.cmpi .ne v1219 v1224
  let v1226 : BitVec 32 := Scalar.remsi v1211 c16_i32_456
  let c0_i32_461 : BitVec 32 := 0#32
  let v1227 : BitVec 1 := Scalar.cmpi .ne v1226 c0_i32_461
  let v1228 : BitVec 1 := Scalar.andi v1225 v1227
  let v1214 : BitVec 32 := Scalar.divsi v1211 c16_i32_456
  let c1_i32_462 : BitVec 32 := 1#32
  let v1229 : BitVec 32 := Scalar.subi v1214 c1_i32_462
  let v1230 : BitVec 32 := Scalar.select v1228 v1229 v1214
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1230 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t25
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1211 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off127 (v1213 : BitVec 32) (k1_t25 : Fin k1_t25_loop.trips) : Fin 2 → Nat :=
  let c0_i32_1453 : BitVec 32 := 0#32
  let c1_i32_1455 : BitVec 32 := 1#32
  let arg19 : BitVec 32 := Scf.iv c0_i32_1453 c1_i32_1455 k1_t25
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1213 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk49 (i : grid1.Coords) (v25 : BitVec 32) (v1211 : BitVec 32) (v1213 : BitVec 32) : Prop :=
  (∀ (k1_h25 : k1_cond25 i v25 v1211 = 1#1), ∀ a, (k1_off124 i v1213) a + S32x512.size a ≤ S12288x512.size a) ∧
  (∀ k1_t25 : Fin k1_t25_loop.trips, ∀ (k1_h25 : k1_cond25 i v25 v1211 = 1#1), ∀ a, (k1_off125 v1213 k1_t25) a + S1x16.size a ≤ S32x512.size a) ∧
  (∀ k1_t25 : Fin k1_t25_loop.trips, ∀ (k1_h25 : k1_cond25 i v25 v1211 = 1#1), ∀ a, (k1_off127 v1213 k1_t25) a + S1x16.size a ≤ S32x512.size a)
theorem k1_off124_inb : ∀ (i : grid1.Coords) (v25 : BitVec 32) (v1211 : BitVec 32) (v1213 : BitVec 32) (k1_hw49 : k1_chk49 i v25 v1211 v1213), ∀ (k1_h25 : k1_cond25 i v25 v1211 = 1#1), ∀ a, (k1_off124 i v1213) a + S32x512.size a ≤ S12288x512.size a := fun i v25 v1211 v1213 k1_hw49 k1_h25 => k1_hw49.1 k1_h25
theorem k1_off125_inb : ∀ (i : grid1.Coords) (v25 : BitVec 32) (v1211 : BitVec 32) (v1213 : BitVec 32) (k1_hw49 : k1_chk49 i v25 v1211 v1213) (k1_t25 : Fin k1_t25_loop.trips), ∀ (k1_h25 : k1_cond25 i v25 v1211 = 1#1), ∀ a, (k1_off125 v1213 k1_t25) a + S1x16.size a ≤ S32x512.size a := fun i v25 v1211 v1213 k1_hw49 k1_t25 k1_h25 => k1_hw49.2.1 k1_t25 k1_h25
theorem k1_off127_inb : ∀ (i : grid1.Coords) (v25 : BitVec 32) (v1211 : BitVec 32) (v1213 : BitVec 32) (k1_hw49 : k1_chk49 i v25 v1211 v1213) (k1_t25 : Fin k1_t25_loop.trips), ∀ (k1_h25 : k1_cond25 i v25 v1211 = 1#1), ∀ a, (k1_off127 v1213 k1_t25) a + S1x16.size a ≤ S32x512.size a := fun i v25 v1211 v1213 k1_hw49 k1_t25 k1_h25 => k1_hw49.2.2 k1_t25 k1_h25

def k1_off128 (v1211 : BitVec 32) (k1_t25 : Fin k1_t25_loop.trips) : Fin 2 → Nat :=
  let c0_i32_457 : BitVec 32 := 0#32
  let v1215 : BitVec 1 := Scalar.cmpi .sgt v1211 c0_i32_457
  let v1216 : BitVec 32 := Scalar.extui v1215
  let c0_i32_458 : BitVec 32 := 0#32
  let v1217 : BitVec 1 := Scalar.cmpi .slt v1211 c0_i32_458
  let v1218 : BitVec 32 := Scalar.extui v1217
  let v1219 : BitVec 32 := Scalar.subi v1216 v1218
  let c16_i32_456 : BitVec 32 := 16#32
  let c0_i32_459 : BitVec 32 := 0#32
  let v1220 : BitVec 1 := Scalar.cmpi .sgt c16_i32_456 c0_i32_459
  let v1221 : BitVec 32 := Scalar.extui v1220
  let c0_i32_460 : BitVec 32 := 0#32
  let v1222 : BitVec 1 := Scalar.cmpi .slt c16_i32_456 c0_i32_460
  let v1223 : BitVec 32 := Scalar.extui v1222
  let v1224 : BitVec 32 := Scalar.subi v1221 v1223
  let v1225 : BitVec 1 := Scalar.cmpi .ne v1219 v1224
  let v1226 : BitVec 32 := Scalar.remsi v1211 c16_i32_456
  let c0_i32_461 : BitVec 32 := 0#32
  let v1227 : BitVec 1 := Scalar.cmpi .ne v1226 c0_i32_461
  let v1228 : BitVec 1 := Scalar.andi v1225 v1227
  let v1214 : BitVec 32 := Scalar.divsi v1211 c16_i32_456
  let c1_i32_462 : BitVec 32 := 1#32
  let v1229 : BitVec 32 := Scalar.subi v1214 c1_i32_462
  let v1230 : BitVec 32 := Scalar.select v1228 v1229 v1214
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1230 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t25
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1211 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk50 (i : grid1.Coords) (v25 : BitVec 32) (v1211 : BitVec 32) : Prop :=
  (∀ k1_t25 : Fin k1_t25_loop.trips, ∀ (k1_h25 : k1_cond25 i v25 v1211 = 1#1), ∀ a, (k1_off126 v1211 k1_t25) a + S1x16.size a ≤ S128x512.size a) ∧
  (∀ k1_t25 : Fin k1_t25_loop.trips, ∀ (k1_h25 : k1_cond25 i v25 v1211 = 1#1), ∀ a, (k1_off128 v1211 k1_t25) a + S1x16.size a ≤ S128x512.size a)
theorem k1_off126_inb : ∀ (i : grid1.Coords) (v25 : BitVec 32) (v1211 : BitVec 32) (k1_hw50 : k1_chk50 i v25 v1211) (k1_t25 : Fin k1_t25_loop.trips), ∀ (k1_h25 : k1_cond25 i v25 v1211 = 1#1), ∀ a, (k1_off126 v1211 k1_t25) a + S1x16.size a ≤ S128x512.size a := fun i v25 v1211 k1_hw50 k1_t25 k1_h25 => k1_hw50.1 k1_t25 k1_h25
theorem k1_off128_inb : ∀ (i : grid1.Coords) (v25 : BitVec 32) (v1211 : BitVec 32) (k1_hw50 : k1_chk50 i v25 v1211) (k1_t25 : Fin k1_t25_loop.trips), ∀ (k1_h25 : k1_cond25 i v25 v1211 = 1#1), ∀ a, (k1_off128 v1211 k1_t25) a + S1x16.size a ≤ S128x512.size a := fun i v25 v1211 k1_hw50 k1_t25 k1_h25 => k1_hw50.2 k1_t25 k1_h25

def k1_off129 (i : grid1.Coords) (v1256 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1256 c0_i32_1428
  let v3763 : BitVec 32 := Scalar.extui v3762
  let c0_i32_1429 : BitVec 32 := 0#32
  let v3764 : BitVec 1 := Scalar.cmpi .slt v1256 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1256 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1256 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r31 : BitVec 32 := 0#32
  ![v3779.toNat, 0]
def k1_cond26 (i : grid1.Coords) (v25 : BitVec 32) (v1254 : BitVec 32) : BitVec 1 :=
  let c9_i32_479 : BitVec 32 := 9#32
  let v1274 : BitVec 1 := Scalar.cmpi .sgt v25 c9_i32_479
  let c0_i32_473 : BitVec 32 := 0#32
  let v1258 : BitVec 1 := Scalar.cmpi .sgt v1254 c0_i32_473
  let v1259 : BitVec 32 := Scalar.extui v1258
  let c0_i32_474 : BitVec 32 := 0#32
  let v1260 : BitVec 1 := Scalar.cmpi .slt v1254 c0_i32_474
  let v1261 : BitVec 32 := Scalar.extui v1260
  let v1262 : BitVec 32 := Scalar.subi v1259 v1261
  let c16_i32_472 : BitVec 32 := 16#32
  let c0_i32_475 : BitVec 32 := 0#32
  let v1263 : BitVec 1 := Scalar.cmpi .sgt c16_i32_472 c0_i32_475
  let v1264 : BitVec 32 := Scalar.extui v1263
  let c0_i32_476 : BitVec 32 := 0#32
  let v1265 : BitVec 1 := Scalar.cmpi .slt c16_i32_472 c0_i32_476
  let v1266 : BitVec 32 := Scalar.extui v1265
  let v1267 : BitVec 32 := Scalar.subi v1264 v1266
  let v1268 : BitVec 1 := Scalar.cmpi .ne v1262 v1267
  let v1269 : BitVec 32 := Scalar.remsi v1254 c16_i32_472
  let c0_i32_477 : BitVec 32 := 0#32
  let v1270 : BitVec 1 := Scalar.cmpi .ne v1269 c0_i32_477
  let v1271 : BitVec 1 := Scalar.andi v1268 v1270
  let v1257 : BitVec 32 := Scalar.divsi v1254 c16_i32_472
  let c1_i32_478 : BitVec 32 := 1#32
  let v1272 : BitVec 32 := Scalar.subi v1257 c1_i32_478
  let v1273 : BitVec 32 := Scalar.select v1271 v1272 v1257
  let c0_i32_481 : BitVec 32 := 0#32
  let v1276 : BitVec 1 := Scalar.cmpi .sgt v1273 c0_i32_481
  let v1277 : BitVec 32 := Scalar.extui v1276
  let c0_i32_482 : BitVec 32 := 0#32
  let v1278 : BitVec 1 := Scalar.cmpi .slt v1273 c0_i32_482
  let v1279 : BitVec 32 := Scalar.extui v1278
  let v1280 : BitVec 32 := Scalar.subi v1277 v1279
  let c4_i32_480 : BitVec 32 := 4#32
  let c0_i32_483 : BitVec 32 := 0#32
  let v1281 : BitVec 1 := Scalar.cmpi .sgt c4_i32_480 c0_i32_483
  let v1282 : BitVec 32 := Scalar.extui v1281
  let c0_i32_484 : BitVec 32 := 0#32
  let v1283 : BitVec 1 := Scalar.cmpi .slt c4_i32_480 c0_i32_484
  let v1284 : BitVec 32 := Scalar.extui v1283
  let v1285 : BitVec 32 := Scalar.subi v1282 v1284
  let v1286 : BitVec 1 := Scalar.cmpi .ne v1280 v1285
  let v1287 : BitVec 32 := Scalar.remsi v1273 c4_i32_480
  let c0_i32_485 : BitVec 32 := 0#32
  let v1288 : BitVec 1 := Scalar.cmpi .ne v1287 c0_i32_485
  let v1289 : BitVec 1 := Scalar.andi v1286 v1288
  let v1275 : BitVec 32 := Scalar.divsi v1273 c4_i32_480
  let c1_i32_486 : BitVec 32 := 1#32
  let v1290 : BitVec 32 := Scalar.subi v1275 c1_i32_486
  let v1291 : BitVec 32 := Scalar.select v1289 v1290 v1275
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1292 : BitVec 1 := Scalar.cmpi .eq v1291 v865
  let v1293 : BitVec 1 := Scalar.andi v1274 v1292
  let v1294 : BitVec 32 := Scalar.extui v1293
  let c0_i32_487 : BitVec 32 := 0#32
  let v1295 : BitVec 1 := Scalar.cmpi .ne v1294 c0_i32_487
  v1295

@[reducible] def k1_t26_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off130 (v1256 : BitVec 32) (k1_t26 : Fin k1_t26_loop.trips) : Fin 2 → Nat :=
  let c0_i32_1453 : BitVec 32 := 0#32
  let c1_i32_1455 : BitVec 32 := 1#32
  let arg19 : BitVec 32 := Scf.iv c0_i32_1453 c1_i32_1455 k1_t26
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1256 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off131 (v1254 : BitVec 32) (k1_t26 : Fin k1_t26_loop.trips) : Fin 2 → Nat :=
  let c0_i32_473 : BitVec 32 := 0#32
  let v1258 : BitVec 1 := Scalar.cmpi .sgt v1254 c0_i32_473
  let v1259 : BitVec 32 := Scalar.extui v1258
  let c0_i32_474 : BitVec 32 := 0#32
  let v1260 : BitVec 1 := Scalar.cmpi .slt v1254 c0_i32_474
  let v1261 : BitVec 32 := Scalar.extui v1260
  let v1262 : BitVec 32 := Scalar.subi v1259 v1261
  let c16_i32_472 : BitVec 32 := 16#32
  let c0_i32_475 : BitVec 32 := 0#32
  let v1263 : BitVec 1 := Scalar.cmpi .sgt c16_i32_472 c0_i32_475
  let v1264 : BitVec 32 := Scalar.extui v1263
  let c0_i32_476 : BitVec 32 := 0#32
  let v1265 : BitVec 1 := Scalar.cmpi .slt c16_i32_472 c0_i32_476
  let v1266 : BitVec 32 := Scalar.extui v1265
  let v1267 : BitVec 32 := Scalar.subi v1264 v1266
  let v1268 : BitVec 1 := Scalar.cmpi .ne v1262 v1267
  let v1269 : BitVec 32 := Scalar.remsi v1254 c16_i32_472
  let c0_i32_477 : BitVec 32 := 0#32
  let v1270 : BitVec 1 := Scalar.cmpi .ne v1269 c0_i32_477
  let v1271 : BitVec 1 := Scalar.andi v1268 v1270
  let v1257 : BitVec 32 := Scalar.divsi v1254 c16_i32_472
  let c1_i32_478 : BitVec 32 := 1#32
  let v1272 : BitVec 32 := Scalar.subi v1257 c1_i32_478
  let v1273 : BitVec 32 := Scalar.select v1271 v1272 v1257
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1273 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t26
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1254 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off132 (v1256 : BitVec 32) (k1_t26 : Fin k1_t26_loop.trips) : Fin 2 → Nat :=
  let c0_i32_1453 : BitVec 32 := 0#32
  let c1_i32_1455 : BitVec 32 := 1#32
  let arg19 : BitVec 32 := Scf.iv c0_i32_1453 c1_i32_1455 k1_t26
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1256 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk51 (i : grid1.Coords) (v25 : BitVec 32) (v1254 : BitVec 32) (v1256 : BitVec 32) : Prop :=
  (∀ (k1_h26 : k1_cond26 i v25 v1254 = 1#1), ∀ a, (k1_off129 i v1256) a + S32x512.size a ≤ S12288x512.size a) ∧
  (∀ k1_t26 : Fin k1_t26_loop.trips, ∀ (k1_h26 : k1_cond26 i v25 v1254 = 1#1), ∀ a, (k1_off130 v1256 k1_t26) a + S1x16.size a ≤ S32x512.size a) ∧
  (∀ k1_t26 : Fin k1_t26_loop.trips, ∀ (k1_h26 : k1_cond26 i v25 v1254 = 1#1), ∀ a, (k1_off132 v1256 k1_t26) a + S1x16.size a ≤ S32x512.size a)
theorem k1_off129_inb : ∀ (i : grid1.Coords) (v25 : BitVec 32) (v1254 : BitVec 32) (v1256 : BitVec 32) (k1_hw51 : k1_chk51 i v25 v1254 v1256), ∀ (k1_h26 : k1_cond26 i v25 v1254 = 1#1), ∀ a, (k1_off129 i v1256) a + S32x512.size a ≤ S12288x512.size a := fun i v25 v1254 v1256 k1_hw51 k1_h26 => k1_hw51.1 k1_h26
theorem k1_off130_inb : ∀ (i : grid1.Coords) (v25 : BitVec 32) (v1254 : BitVec 32) (v1256 : BitVec 32) (k1_hw51 : k1_chk51 i v25 v1254 v1256) (k1_t26 : Fin k1_t26_loop.trips), ∀ (k1_h26 : k1_cond26 i v25 v1254 = 1#1), ∀ a, (k1_off130 v1256 k1_t26) a + S1x16.size a ≤ S32x512.size a := fun i v25 v1254 v1256 k1_hw51 k1_t26 k1_h26 => k1_hw51.2.1 k1_t26 k1_h26
theorem k1_off132_inb : ∀ (i : grid1.Coords) (v25 : BitVec 32) (v1254 : BitVec 32) (v1256 : BitVec 32) (k1_hw51 : k1_chk51 i v25 v1254 v1256) (k1_t26 : Fin k1_t26_loop.trips), ∀ (k1_h26 : k1_cond26 i v25 v1254 = 1#1), ∀ a, (k1_off132 v1256 k1_t26) a + S1x16.size a ≤ S32x512.size a := fun i v25 v1254 v1256 k1_hw51 k1_t26 k1_h26 => k1_hw51.2.2 k1_t26 k1_h26

def k1_off133 (v1254 : BitVec 32) (k1_t26 : Fin k1_t26_loop.trips) : Fin 2 → Nat :=
  let c0_i32_473 : BitVec 32 := 0#32
  let v1258 : BitVec 1 := Scalar.cmpi .sgt v1254 c0_i32_473
  let v1259 : BitVec 32 := Scalar.extui v1258
  let c0_i32_474 : BitVec 32 := 0#32
  let v1260 : BitVec 1 := Scalar.cmpi .slt v1254 c0_i32_474
  let v1261 : BitVec 32 := Scalar.extui v1260
  let v1262 : BitVec 32 := Scalar.subi v1259 v1261
  let c16_i32_472 : BitVec 32 := 16#32
  let c0_i32_475 : BitVec 32 := 0#32
  let v1263 : BitVec 1 := Scalar.cmpi .sgt c16_i32_472 c0_i32_475
  let v1264 : BitVec 32 := Scalar.extui v1263
  let c0_i32_476 : BitVec 32 := 0#32
  let v1265 : BitVec 1 := Scalar.cmpi .slt c16_i32_472 c0_i32_476
  let v1266 : BitVec 32 := Scalar.extui v1265
  let v1267 : BitVec 32 := Scalar.subi v1264 v1266
  let v1268 : BitVec 1 := Scalar.cmpi .ne v1262 v1267
  let v1269 : BitVec 32 := Scalar.remsi v1254 c16_i32_472
  let c0_i32_477 : BitVec 32 := 0#32
  let v1270 : BitVec 1 := Scalar.cmpi .ne v1269 c0_i32_477
  let v1271 : BitVec 1 := Scalar.andi v1268 v1270
  let v1257 : BitVec 32 := Scalar.divsi v1254 c16_i32_472
  let c1_i32_478 : BitVec 32 := 1#32
  let v1272 : BitVec 32 := Scalar.subi v1257 c1_i32_478
  let v1273 : BitVec 32 := Scalar.select v1271 v1272 v1257
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1273 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t26
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1254 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk52 (i : grid1.Coords) (v25 : BitVec 32) (v1254 : BitVec 32) : Prop :=
  (∀ k1_t26 : Fin k1_t26_loop.trips, ∀ (k1_h26 : k1_cond26 i v25 v1254 = 1#1), ∀ a, (k1_off131 v1254 k1_t26) a + S1x16.size a ≤ S128x512.size a) ∧
  (∀ k1_t26 : Fin k1_t26_loop.trips, ∀ (k1_h26 : k1_cond26 i v25 v1254 = 1#1), ∀ a, (k1_off133 v1254 k1_t26) a + S1x16.size a ≤ S128x512.size a)
theorem k1_off131_inb : ∀ (i : grid1.Coords) (v25 : BitVec 32) (v1254 : BitVec 32) (k1_hw52 : k1_chk52 i v25 v1254) (k1_t26 : Fin k1_t26_loop.trips), ∀ (k1_h26 : k1_cond26 i v25 v1254 = 1#1), ∀ a, (k1_off131 v1254 k1_t26) a + S1x16.size a ≤ S128x512.size a := fun i v25 v1254 k1_hw52 k1_t26 k1_h26 => k1_hw52.1 k1_t26 k1_h26
theorem k1_off133_inb : ∀ (i : grid1.Coords) (v25 : BitVec 32) (v1254 : BitVec 32) (k1_hw52 : k1_chk52 i v25 v1254) (k1_t26 : Fin k1_t26_loop.trips), ∀ (k1_h26 : k1_cond26 i v25 v1254 = 1#1), ∀ a, (k1_off133 v1254 k1_t26) a + S1x16.size a ≤ S128x512.size a := fun i v25 v1254 k1_hw52 k1_t26 k1_h26 => k1_hw52.2 k1_t26 k1_h26

def k1_off134 (i : grid1.Coords) (v1299 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1299 c0_i32_1428
  let v3763 : BitVec 32 := Scalar.extui v3762
  let c0_i32_1429 : BitVec 32 := 0#32
  let v3764 : BitVec 1 := Scalar.cmpi .slt v1299 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1299 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1299 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r32 : BitVec 32 := 0#32
  ![v3779.toNat, 0]
def k1_cond27 (i : grid1.Coords) (v25 : BitVec 32) (v1297 : BitVec 32) : BitVec 1 :=
  let c10_i32_495 : BitVec 32 := 10#32
  let v1317 : BitVec 1 := Scalar.cmpi .sgt v25 c10_i32_495
  let c0_i32_489 : BitVec 32 := 0#32
  let v1301 : BitVec 1 := Scalar.cmpi .sgt v1297 c0_i32_489
  let v1302 : BitVec 32 := Scalar.extui v1301
  let c0_i32_490 : BitVec 32 := 0#32
  let v1303 : BitVec 1 := Scalar.cmpi .slt v1297 c0_i32_490
  let v1304 : BitVec 32 := Scalar.extui v1303
  let v1305 : BitVec 32 := Scalar.subi v1302 v1304
  let c16_i32_488 : BitVec 32 := 16#32
  let c0_i32_491 : BitVec 32 := 0#32
  let v1306 : BitVec 1 := Scalar.cmpi .sgt c16_i32_488 c0_i32_491
  let v1307 : BitVec 32 := Scalar.extui v1306
  let c0_i32_492 : BitVec 32 := 0#32
  let v1308 : BitVec 1 := Scalar.cmpi .slt c16_i32_488 c0_i32_492
  let v1309 : BitVec 32 := Scalar.extui v1308
  let v1310 : BitVec 32 := Scalar.subi v1307 v1309
  let v1311 : BitVec 1 := Scalar.cmpi .ne v1305 v1310
  let v1312 : BitVec 32 := Scalar.remsi v1297 c16_i32_488
  let c0_i32_493 : BitVec 32 := 0#32
  let v1313 : BitVec 1 := Scalar.cmpi .ne v1312 c0_i32_493
  let v1314 : BitVec 1 := Scalar.andi v1311 v1313
  let v1300 : BitVec 32 := Scalar.divsi v1297 c16_i32_488
  let c1_i32_494 : BitVec 32 := 1#32
  let v1315 : BitVec 32 := Scalar.subi v1300 c1_i32_494
  let v1316 : BitVec 32 := Scalar.select v1314 v1315 v1300
  let c0_i32_497 : BitVec 32 := 0#32
  let v1319 : BitVec 1 := Scalar.cmpi .sgt v1316 c0_i32_497
  let v1320 : BitVec 32 := Scalar.extui v1319
  let c0_i32_498 : BitVec 32 := 0#32
  let v1321 : BitVec 1 := Scalar.cmpi .slt v1316 c0_i32_498
  let v1322 : BitVec 32 := Scalar.extui v1321
  let v1323 : BitVec 32 := Scalar.subi v1320 v1322
  let c4_i32_496 : BitVec 32 := 4#32
  let c0_i32_499 : BitVec 32 := 0#32
  let v1324 : BitVec 1 := Scalar.cmpi .sgt c4_i32_496 c0_i32_499
  let v1325 : BitVec 32 := Scalar.extui v1324
  let c0_i32_500 : BitVec 32 := 0#32
  let v1326 : BitVec 1 := Scalar.cmpi .slt c4_i32_496 c0_i32_500
  let v1327 : BitVec 32 := Scalar.extui v1326
  let v1328 : BitVec 32 := Scalar.subi v1325 v1327
  let v1329 : BitVec 1 := Scalar.cmpi .ne v1323 v1328
  let v1330 : BitVec 32 := Scalar.remsi v1316 c4_i32_496
  let c0_i32_501 : BitVec 32 := 0#32
  let v1331 : BitVec 1 := Scalar.cmpi .ne v1330 c0_i32_501
  let v1332 : BitVec 1 := Scalar.andi v1329 v1331
  let v1318 : BitVec 32 := Scalar.divsi v1316 c4_i32_496
  let c1_i32_502 : BitVec 32 := 1#32
  let v1333 : BitVec 32 := Scalar.subi v1318 c1_i32_502
  let v1334 : BitVec 32 := Scalar.select v1332 v1333 v1318
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1335 : BitVec 1 := Scalar.cmpi .eq v1334 v865
  let v1336 : BitVec 1 := Scalar.andi v1317 v1335
  let v1337 : BitVec 32 := Scalar.extui v1336
  let c0_i32_503 : BitVec 32 := 0#32
  let v1338 : BitVec 1 := Scalar.cmpi .ne v1337 c0_i32_503
  v1338

@[reducible] def k1_t27_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off135 (v1299 : BitVec 32) (k1_t27 : Fin k1_t27_loop.trips) : Fin 2 → Nat :=
  let c0_i32_1453 : BitVec 32 := 0#32
  let c1_i32_1455 : BitVec 32 := 1#32
  let arg19 : BitVec 32 := Scf.iv c0_i32_1453 c1_i32_1455 k1_t27
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1299 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off136 (v1297 : BitVec 32) (k1_t27 : Fin k1_t27_loop.trips) : Fin 2 → Nat :=
  let c0_i32_489 : BitVec 32 := 0#32
  let v1301 : BitVec 1 := Scalar.cmpi .sgt v1297 c0_i32_489
  let v1302 : BitVec 32 := Scalar.extui v1301
  let c0_i32_490 : BitVec 32 := 0#32
  let v1303 : BitVec 1 := Scalar.cmpi .slt v1297 c0_i32_490
  let v1304 : BitVec 32 := Scalar.extui v1303
  let v1305 : BitVec 32 := Scalar.subi v1302 v1304
  let c16_i32_488 : BitVec 32 := 16#32
  let c0_i32_491 : BitVec 32 := 0#32
  let v1306 : BitVec 1 := Scalar.cmpi .sgt c16_i32_488 c0_i32_491
  let v1307 : BitVec 32 := Scalar.extui v1306
  let c0_i32_492 : BitVec 32 := 0#32
  let v1308 : BitVec 1 := Scalar.cmpi .slt c16_i32_488 c0_i32_492
  let v1309 : BitVec 32 := Scalar.extui v1308
  let v1310 : BitVec 32 := Scalar.subi v1307 v1309
  let v1311 : BitVec 1 := Scalar.cmpi .ne v1305 v1310
  let v1312 : BitVec 32 := Scalar.remsi v1297 c16_i32_488
  let c0_i32_493 : BitVec 32 := 0#32
  let v1313 : BitVec 1 := Scalar.cmpi .ne v1312 c0_i32_493
  let v1314 : BitVec 1 := Scalar.andi v1311 v1313
  let v1300 : BitVec 32 := Scalar.divsi v1297 c16_i32_488
  let c1_i32_494 : BitVec 32 := 1#32
  let v1315 : BitVec 32 := Scalar.subi v1300 c1_i32_494
  let v1316 : BitVec 32 := Scalar.select v1314 v1315 v1300
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1316 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t27
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1297 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off137 (v1299 : BitVec 32) (k1_t27 : Fin k1_t27_loop.trips) : Fin 2 → Nat :=
  let c0_i32_1453 : BitVec 32 := 0#32
  let c1_i32_1455 : BitVec 32 := 1#32
  let arg19 : BitVec 32 := Scf.iv c0_i32_1453 c1_i32_1455 k1_t27
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1299 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk53 (i : grid1.Coords) (v25 : BitVec 32) (v1297 : BitVec 32) (v1299 : BitVec 32) : Prop :=
  (∀ (k1_h27 : k1_cond27 i v25 v1297 = 1#1), ∀ a, (k1_off134 i v1299) a + S32x512.size a ≤ S12288x512.size a) ∧
  (∀ k1_t27 : Fin k1_t27_loop.trips, ∀ (k1_h27 : k1_cond27 i v25 v1297 = 1#1), ∀ a, (k1_off135 v1299 k1_t27) a + S1x16.size a ≤ S32x512.size a) ∧
  (∀ k1_t27 : Fin k1_t27_loop.trips, ∀ (k1_h27 : k1_cond27 i v25 v1297 = 1#1), ∀ a, (k1_off137 v1299 k1_t27) a + S1x16.size a ≤ S32x512.size a)
theorem k1_off134_inb : ∀ (i : grid1.Coords) (v25 : BitVec 32) (v1297 : BitVec 32) (v1299 : BitVec 32) (k1_hw53 : k1_chk53 i v25 v1297 v1299), ∀ (k1_h27 : k1_cond27 i v25 v1297 = 1#1), ∀ a, (k1_off134 i v1299) a + S32x512.size a ≤ S12288x512.size a := fun i v25 v1297 v1299 k1_hw53 k1_h27 => k1_hw53.1 k1_h27
theorem k1_off135_inb : ∀ (i : grid1.Coords) (v25 : BitVec 32) (v1297 : BitVec 32) (v1299 : BitVec 32) (k1_hw53 : k1_chk53 i v25 v1297 v1299) (k1_t27 : Fin k1_t27_loop.trips), ∀ (k1_h27 : k1_cond27 i v25 v1297 = 1#1), ∀ a, (k1_off135 v1299 k1_t27) a + S1x16.size a ≤ S32x512.size a := fun i v25 v1297 v1299 k1_hw53 k1_t27 k1_h27 => k1_hw53.2.1 k1_t27 k1_h27
theorem k1_off137_inb : ∀ (i : grid1.Coords) (v25 : BitVec 32) (v1297 : BitVec 32) (v1299 : BitVec 32) (k1_hw53 : k1_chk53 i v25 v1297 v1299) (k1_t27 : Fin k1_t27_loop.trips), ∀ (k1_h27 : k1_cond27 i v25 v1297 = 1#1), ∀ a, (k1_off137 v1299 k1_t27) a + S1x16.size a ≤ S32x512.size a := fun i v25 v1297 v1299 k1_hw53 k1_t27 k1_h27 => k1_hw53.2.2 k1_t27 k1_h27

def k1_off138 (v1297 : BitVec 32) (k1_t27 : Fin k1_t27_loop.trips) : Fin 2 → Nat :=
  let c0_i32_489 : BitVec 32 := 0#32
  let v1301 : BitVec 1 := Scalar.cmpi .sgt v1297 c0_i32_489
  let v1302 : BitVec 32 := Scalar.extui v1301
  let c0_i32_490 : BitVec 32 := 0#32
  let v1303 : BitVec 1 := Scalar.cmpi .slt v1297 c0_i32_490
  let v1304 : BitVec 32 := Scalar.extui v1303
  let v1305 : BitVec 32 := Scalar.subi v1302 v1304
  let c16_i32_488 : BitVec 32 := 16#32
  let c0_i32_491 : BitVec 32 := 0#32
  let v1306 : BitVec 1 := Scalar.cmpi .sgt c16_i32_488 c0_i32_491
  let v1307 : BitVec 32 := Scalar.extui v1306
  let c0_i32_492 : BitVec 32 := 0#32
  let v1308 : BitVec 1 := Scalar.cmpi .slt c16_i32_488 c0_i32_492
  let v1309 : BitVec 32 := Scalar.extui v1308
  let v1310 : BitVec 32 := Scalar.subi v1307 v1309
  let v1311 : BitVec 1 := Scalar.cmpi .ne v1305 v1310
  let v1312 : BitVec 32 := Scalar.remsi v1297 c16_i32_488
  let c0_i32_493 : BitVec 32 := 0#32
  let v1313 : BitVec 1 := Scalar.cmpi .ne v1312 c0_i32_493
  let v1314 : BitVec 1 := Scalar.andi v1311 v1313
  let v1300 : BitVec 32 := Scalar.divsi v1297 c16_i32_488
  let c1_i32_494 : BitVec 32 := 1#32
  let v1315 : BitVec 32 := Scalar.subi v1300 c1_i32_494
  let v1316 : BitVec 32 := Scalar.select v1314 v1315 v1300
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1316 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t27
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1297 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk54 (i : grid1.Coords) (v25 : BitVec 32) (v1297 : BitVec 32) : Prop :=
  (∀ k1_t27 : Fin k1_t27_loop.trips, ∀ (k1_h27 : k1_cond27 i v25 v1297 = 1#1), ∀ a, (k1_off136 v1297 k1_t27) a + S1x16.size a ≤ S128x512.size a) ∧
  (∀ k1_t27 : Fin k1_t27_loop.trips, ∀ (k1_h27 : k1_cond27 i v25 v1297 = 1#1), ∀ a, (k1_off138 v1297 k1_t27) a + S1x16.size a ≤ S128x512.size a)
theorem k1_off136_inb : ∀ (i : grid1.Coords) (v25 : BitVec 32) (v1297 : BitVec 32) (k1_hw54 : k1_chk54 i v25 v1297) (k1_t27 : Fin k1_t27_loop.trips), ∀ (k1_h27 : k1_cond27 i v25 v1297 = 1#1), ∀ a, (k1_off136 v1297 k1_t27) a + S1x16.size a ≤ S128x512.size a := fun i v25 v1297 k1_hw54 k1_t27 k1_h27 => k1_hw54.1 k1_t27 k1_h27
theorem k1_off138_inb : ∀ (i : grid1.Coords) (v25 : BitVec 32) (v1297 : BitVec 32) (k1_hw54 : k1_chk54 i v25 v1297) (k1_t27 : Fin k1_t27_loop.trips), ∀ (k1_h27 : k1_cond27 i v25 v1297 = 1#1), ∀ a, (k1_off138 v1297 k1_t27) a + S1x16.size a ≤ S128x512.size a := fun i v25 v1297 k1_hw54 k1_t27 k1_h27 => k1_hw54.2 k1_t27 k1_h27

def k1_off139 (i : grid1.Coords) (v1342 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1342 c0_i32_1428
  let v3763 : BitVec 32 := Scalar.extui v3762
  let c0_i32_1429 : BitVec 32 := 0#32
  let v3764 : BitVec 1 := Scalar.cmpi .slt v1342 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1342 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1342 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r33 : BitVec 32 := 0#32
  ![v3779.toNat, 0]
def k1_cond28 (i : grid1.Coords) (v25 : BitVec 32) (v1340 : BitVec 32) : BitVec 1 :=
  let c11_i32_511 : BitVec 32 := 11#32
  let v1360 : BitVec 1 := Scalar.cmpi .sgt v25 c11_i32_511
  let c0_i32_505 : BitVec 32 := 0#32
  let v1344 : BitVec 1 := Scalar.cmpi .sgt v1340 c0_i32_505
  let v1345 : BitVec 32 := Scalar.extui v1344
  let c0_i32_506 : BitVec 32 := 0#32
  let v1346 : BitVec 1 := Scalar.cmpi .slt v1340 c0_i32_506
  let v1347 : BitVec 32 := Scalar.extui v1346
  let v1348 : BitVec 32 := Scalar.subi v1345 v1347
  let c16_i32_504 : BitVec 32 := 16#32
  let c0_i32_507 : BitVec 32 := 0#32
  let v1349 : BitVec 1 := Scalar.cmpi .sgt c16_i32_504 c0_i32_507
  let v1350 : BitVec 32 := Scalar.extui v1349
  let c0_i32_508 : BitVec 32 := 0#32
  let v1351 : BitVec 1 := Scalar.cmpi .slt c16_i32_504 c0_i32_508
  let v1352 : BitVec 32 := Scalar.extui v1351
  let v1353 : BitVec 32 := Scalar.subi v1350 v1352
  let v1354 : BitVec 1 := Scalar.cmpi .ne v1348 v1353
  let v1355 : BitVec 32 := Scalar.remsi v1340 c16_i32_504
  let c0_i32_509 : BitVec 32 := 0#32
  let v1356 : BitVec 1 := Scalar.cmpi .ne v1355 c0_i32_509
  let v1357 : BitVec 1 := Scalar.andi v1354 v1356
  let v1343 : BitVec 32 := Scalar.divsi v1340 c16_i32_504
  let c1_i32_510 : BitVec 32 := 1#32
  let v1358 : BitVec 32 := Scalar.subi v1343 c1_i32_510
  let v1359 : BitVec 32 := Scalar.select v1357 v1358 v1343
  let c0_i32_513 : BitVec 32 := 0#32
  let v1362 : BitVec 1 := Scalar.cmpi .sgt v1359 c0_i32_513
  let v1363 : BitVec 32 := Scalar.extui v1362
  let c0_i32_514 : BitVec 32 := 0#32
  let v1364 : BitVec 1 := Scalar.cmpi .slt v1359 c0_i32_514
  let v1365 : BitVec 32 := Scalar.extui v1364
  let v1366 : BitVec 32 := Scalar.subi v1363 v1365
  let c4_i32_512 : BitVec 32 := 4#32
  let c0_i32_515 : BitVec 32 := 0#32
  let v1367 : BitVec 1 := Scalar.cmpi .sgt c4_i32_512 c0_i32_515
  let v1368 : BitVec 32 := Scalar.extui v1367
  let c0_i32_516 : BitVec 32 := 0#32
  let v1369 : BitVec 1 := Scalar.cmpi .slt c4_i32_512 c0_i32_516
  let v1370 : BitVec 32 := Scalar.extui v1369
  let v1371 : BitVec 32 := Scalar.subi v1368 v1370
  let v1372 : BitVec 1 := Scalar.cmpi .ne v1366 v1371
  let v1373 : BitVec 32 := Scalar.remsi v1359 c4_i32_512
  let c0_i32_517 : BitVec 32 := 0#32
  let v1374 : BitVec 1 := Scalar.cmpi .ne v1373 c0_i32_517
  let v1375 : BitVec 1 := Scalar.andi v1372 v1374
  let v1361 : BitVec 32 := Scalar.divsi v1359 c4_i32_512
  let c1_i32_518 : BitVec 32 := 1#32
  let v1376 : BitVec 32 := Scalar.subi v1361 c1_i32_518
  let v1377 : BitVec 32 := Scalar.select v1375 v1376 v1361
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1378 : BitVec 1 := Scalar.cmpi .eq v1377 v865
  let v1379 : BitVec 1 := Scalar.andi v1360 v1378
  let v1380 : BitVec 32 := Scalar.extui v1379
  let c0_i32_519 : BitVec 32 := 0#32
  let v1381 : BitVec 1 := Scalar.cmpi .ne v1380 c0_i32_519
  v1381

@[reducible] def k1_t28_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off140 (v1342 : BitVec 32) (k1_t28 : Fin k1_t28_loop.trips) : Fin 2 → Nat :=
  let c0_i32_1453 : BitVec 32 := 0#32
  let c1_i32_1455 : BitVec 32 := 1#32
  let arg19 : BitVec 32 := Scf.iv c0_i32_1453 c1_i32_1455 k1_t28
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1342 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off141 (v1340 : BitVec 32) (k1_t28 : Fin k1_t28_loop.trips) : Fin 2 → Nat :=
  let c0_i32_505 : BitVec 32 := 0#32
  let v1344 : BitVec 1 := Scalar.cmpi .sgt v1340 c0_i32_505
  let v1345 : BitVec 32 := Scalar.extui v1344
  let c0_i32_506 : BitVec 32 := 0#32
  let v1346 : BitVec 1 := Scalar.cmpi .slt v1340 c0_i32_506
  let v1347 : BitVec 32 := Scalar.extui v1346
  let v1348 : BitVec 32 := Scalar.subi v1345 v1347
  let c16_i32_504 : BitVec 32 := 16#32
  let c0_i32_507 : BitVec 32 := 0#32
  let v1349 : BitVec 1 := Scalar.cmpi .sgt c16_i32_504 c0_i32_507
  let v1350 : BitVec 32 := Scalar.extui v1349
  let c0_i32_508 : BitVec 32 := 0#32
  let v1351 : BitVec 1 := Scalar.cmpi .slt c16_i32_504 c0_i32_508
  let v1352 : BitVec 32 := Scalar.extui v1351
  let v1353 : BitVec 32 := Scalar.subi v1350 v1352
  let v1354 : BitVec 1 := Scalar.cmpi .ne v1348 v1353
  let v1355 : BitVec 32 := Scalar.remsi v1340 c16_i32_504
  let c0_i32_509 : BitVec 32 := 0#32
  let v1356 : BitVec 1 := Scalar.cmpi .ne v1355 c0_i32_509
  let v1357 : BitVec 1 := Scalar.andi v1354 v1356
  let v1343 : BitVec 32 := Scalar.divsi v1340 c16_i32_504
  let c1_i32_510 : BitVec 32 := 1#32
  let v1358 : BitVec 32 := Scalar.subi v1343 c1_i32_510
  let v1359 : BitVec 32 := Scalar.select v1357 v1358 v1343
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1359 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t28
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1340 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off142 (v1342 : BitVec 32) (k1_t28 : Fin k1_t28_loop.trips) : Fin 2 → Nat :=
  let c0_i32_1453 : BitVec 32 := 0#32
  let c1_i32_1455 : BitVec 32 := 1#32
  let arg19 : BitVec 32 := Scf.iv c0_i32_1453 c1_i32_1455 k1_t28
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1342 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk55 (i : grid1.Coords) (v25 : BitVec 32) (v1340 : BitVec 32) (v1342 : BitVec 32) : Prop :=
  (∀ (k1_h28 : k1_cond28 i v25 v1340 = 1#1), ∀ a, (k1_off139 i v1342) a + S32x512.size a ≤ S12288x512.size a) ∧
  (∀ k1_t28 : Fin k1_t28_loop.trips, ∀ (k1_h28 : k1_cond28 i v25 v1340 = 1#1), ∀ a, (k1_off140 v1342 k1_t28) a + S1x16.size a ≤ S32x512.size a) ∧
  (∀ k1_t28 : Fin k1_t28_loop.trips, ∀ (k1_h28 : k1_cond28 i v25 v1340 = 1#1), ∀ a, (k1_off142 v1342 k1_t28) a + S1x16.size a ≤ S32x512.size a)
theorem k1_off139_inb : ∀ (i : grid1.Coords) (v25 : BitVec 32) (v1340 : BitVec 32) (v1342 : BitVec 32) (k1_hw55 : k1_chk55 i v25 v1340 v1342), ∀ (k1_h28 : k1_cond28 i v25 v1340 = 1#1), ∀ a, (k1_off139 i v1342) a + S32x512.size a ≤ S12288x512.size a := fun i v25 v1340 v1342 k1_hw55 k1_h28 => k1_hw55.1 k1_h28
theorem k1_off140_inb : ∀ (i : grid1.Coords) (v25 : BitVec 32) (v1340 : BitVec 32) (v1342 : BitVec 32) (k1_hw55 : k1_chk55 i v25 v1340 v1342) (k1_t28 : Fin k1_t28_loop.trips), ∀ (k1_h28 : k1_cond28 i v25 v1340 = 1#1), ∀ a, (k1_off140 v1342 k1_t28) a + S1x16.size a ≤ S32x512.size a := fun i v25 v1340 v1342 k1_hw55 k1_t28 k1_h28 => k1_hw55.2.1 k1_t28 k1_h28
theorem k1_off142_inb : ∀ (i : grid1.Coords) (v25 : BitVec 32) (v1340 : BitVec 32) (v1342 : BitVec 32) (k1_hw55 : k1_chk55 i v25 v1340 v1342) (k1_t28 : Fin k1_t28_loop.trips), ∀ (k1_h28 : k1_cond28 i v25 v1340 = 1#1), ∀ a, (k1_off142 v1342 k1_t28) a + S1x16.size a ≤ S32x512.size a := fun i v25 v1340 v1342 k1_hw55 k1_t28 k1_h28 => k1_hw55.2.2 k1_t28 k1_h28

def k1_off143 (v1340 : BitVec 32) (k1_t28 : Fin k1_t28_loop.trips) : Fin 2 → Nat :=
  let c0_i32_505 : BitVec 32 := 0#32
  let v1344 : BitVec 1 := Scalar.cmpi .sgt v1340 c0_i32_505
  let v1345 : BitVec 32 := Scalar.extui v1344
  let c0_i32_506 : BitVec 32 := 0#32
  let v1346 : BitVec 1 := Scalar.cmpi .slt v1340 c0_i32_506
  let v1347 : BitVec 32 := Scalar.extui v1346
  let v1348 : BitVec 32 := Scalar.subi v1345 v1347
  let c16_i32_504 : BitVec 32 := 16#32
  let c0_i32_507 : BitVec 32 := 0#32
  let v1349 : BitVec 1 := Scalar.cmpi .sgt c16_i32_504 c0_i32_507
  let v1350 : BitVec 32 := Scalar.extui v1349
  let c0_i32_508 : BitVec 32 := 0#32
  let v1351 : BitVec 1 := Scalar.cmpi .slt c16_i32_504 c0_i32_508
  let v1352 : BitVec 32 := Scalar.extui v1351
  let v1353 : BitVec 32 := Scalar.subi v1350 v1352
  let v1354 : BitVec 1 := Scalar.cmpi .ne v1348 v1353
  let v1355 : BitVec 32 := Scalar.remsi v1340 c16_i32_504
  let c0_i32_509 : BitVec 32 := 0#32
  let v1356 : BitVec 1 := Scalar.cmpi .ne v1355 c0_i32_509
  let v1357 : BitVec 1 := Scalar.andi v1354 v1356
  let v1343 : BitVec 32 := Scalar.divsi v1340 c16_i32_504
  let c1_i32_510 : BitVec 32 := 1#32
  let v1358 : BitVec 32 := Scalar.subi v1343 c1_i32_510
  let v1359 : BitVec 32 := Scalar.select v1357 v1358 v1343
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1359 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t28
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1340 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk56 (i : grid1.Coords) (v25 : BitVec 32) (v1340 : BitVec 32) : Prop :=
  (∀ k1_t28 : Fin k1_t28_loop.trips, ∀ (k1_h28 : k1_cond28 i v25 v1340 = 1#1), ∀ a, (k1_off141 v1340 k1_t28) a + S1x16.size a ≤ S128x512.size a) ∧
  (∀ k1_t28 : Fin k1_t28_loop.trips, ∀ (k1_h28 : k1_cond28 i v25 v1340 = 1#1), ∀ a, (k1_off143 v1340 k1_t28) a + S1x16.size a ≤ S128x512.size a)
theorem k1_off141_inb : ∀ (i : grid1.Coords) (v25 : BitVec 32) (v1340 : BitVec 32) (k1_hw56 : k1_chk56 i v25 v1340) (k1_t28 : Fin k1_t28_loop.trips), ∀ (k1_h28 : k1_cond28 i v25 v1340 = 1#1), ∀ a, (k1_off141 v1340 k1_t28) a + S1x16.size a ≤ S128x512.size a := fun i v25 v1340 k1_hw56 k1_t28 k1_h28 => k1_hw56.1 k1_t28 k1_h28
theorem k1_off143_inb : ∀ (i : grid1.Coords) (v25 : BitVec 32) (v1340 : BitVec 32) (k1_hw56 : k1_chk56 i v25 v1340) (k1_t28 : Fin k1_t28_loop.trips), ∀ (k1_h28 : k1_cond28 i v25 v1340 = 1#1), ∀ a, (k1_off143 v1340 k1_t28) a + S1x16.size a ≤ S128x512.size a := fun i v25 v1340 k1_hw56 k1_t28 k1_h28 => k1_hw56.2 k1_t28 k1_h28

def k1_off144 (i : grid1.Coords) (v1385 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1385 c0_i32_1428
  let v3763 : BitVec 32 := Scalar.extui v3762
  let c0_i32_1429 : BitVec 32 := 0#32
  let v3764 : BitVec 1 := Scalar.cmpi .slt v1385 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1385 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1385 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r34 : BitVec 32 := 0#32
  ![v3779.toNat, 0]
def k1_cond29 (i : grid1.Coords) (v25 : BitVec 32) (v1383 : BitVec 32) : BitVec 1 :=
  let c12_i32_527 : BitVec 32 := 12#32
  let v1403 : BitVec 1 := Scalar.cmpi .sgt v25 c12_i32_527
  let c0_i32_521 : BitVec 32 := 0#32
  let v1387 : BitVec 1 := Scalar.cmpi .sgt v1383 c0_i32_521
  let v1388 : BitVec 32 := Scalar.extui v1387
  let c0_i32_522 : BitVec 32 := 0#32
  let v1389 : BitVec 1 := Scalar.cmpi .slt v1383 c0_i32_522
  let v1390 : BitVec 32 := Scalar.extui v1389
  let v1391 : BitVec 32 := Scalar.subi v1388 v1390
  let c16_i32_520 : BitVec 32 := 16#32
  let c0_i32_523 : BitVec 32 := 0#32
  let v1392 : BitVec 1 := Scalar.cmpi .sgt c16_i32_520 c0_i32_523
  let v1393 : BitVec 32 := Scalar.extui v1392
  let c0_i32_524 : BitVec 32 := 0#32
  let v1394 : BitVec 1 := Scalar.cmpi .slt c16_i32_520 c0_i32_524
  let v1395 : BitVec 32 := Scalar.extui v1394
  let v1396 : BitVec 32 := Scalar.subi v1393 v1395
  let v1397 : BitVec 1 := Scalar.cmpi .ne v1391 v1396
  let v1398 : BitVec 32 := Scalar.remsi v1383 c16_i32_520
  let c0_i32_525 : BitVec 32 := 0#32
  let v1399 : BitVec 1 := Scalar.cmpi .ne v1398 c0_i32_525
  let v1400 : BitVec 1 := Scalar.andi v1397 v1399
  let v1386 : BitVec 32 := Scalar.divsi v1383 c16_i32_520
  let c1_i32_526 : BitVec 32 := 1#32
  let v1401 : BitVec 32 := Scalar.subi v1386 c1_i32_526
  let v1402 : BitVec 32 := Scalar.select v1400 v1401 v1386
  let c0_i32_529 : BitVec 32 := 0#32
  let v1405 : BitVec 1 := Scalar.cmpi .sgt v1402 c0_i32_529
  let v1406 : BitVec 32 := Scalar.extui v1405
  let c0_i32_530 : BitVec 32 := 0#32
  let v1407 : BitVec 1 := Scalar.cmpi .slt v1402 c0_i32_530
  let v1408 : BitVec 32 := Scalar.extui v1407
  let v1409 : BitVec 32 := Scalar.subi v1406 v1408
  let c4_i32_528 : BitVec 32 := 4#32
  let c0_i32_531 : BitVec 32 := 0#32
  let v1410 : BitVec 1 := Scalar.cmpi .sgt c4_i32_528 c0_i32_531
  let v1411 : BitVec 32 := Scalar.extui v1410
  let c0_i32_532 : BitVec 32 := 0#32
  let v1412 : BitVec 1 := Scalar.cmpi .slt c4_i32_528 c0_i32_532
  let v1413 : BitVec 32 := Scalar.extui v1412
  let v1414 : BitVec 32 := Scalar.subi v1411 v1413
  let v1415 : BitVec 1 := Scalar.cmpi .ne v1409 v1414
  let v1416 : BitVec 32 := Scalar.remsi v1402 c4_i32_528
  let c0_i32_533 : BitVec 32 := 0#32
  let v1417 : BitVec 1 := Scalar.cmpi .ne v1416 c0_i32_533
  let v1418 : BitVec 1 := Scalar.andi v1415 v1417
  let v1404 : BitVec 32 := Scalar.divsi v1402 c4_i32_528
  let c1_i32_534 : BitVec 32 := 1#32
  let v1419 : BitVec 32 := Scalar.subi v1404 c1_i32_534
  let v1420 : BitVec 32 := Scalar.select v1418 v1419 v1404
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1421 : BitVec 1 := Scalar.cmpi .eq v1420 v865
  let v1422 : BitVec 1 := Scalar.andi v1403 v1421
  let v1423 : BitVec 32 := Scalar.extui v1422
  let c0_i32_535 : BitVec 32 := 0#32
  let v1424 : BitVec 1 := Scalar.cmpi .ne v1423 c0_i32_535
  v1424

@[reducible] def k1_t29_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off145 (v1385 : BitVec 32) (k1_t29 : Fin k1_t29_loop.trips) : Fin 2 → Nat :=
  let c0_i32_1453 : BitVec 32 := 0#32
  let c1_i32_1455 : BitVec 32 := 1#32
  let arg19 : BitVec 32 := Scf.iv c0_i32_1453 c1_i32_1455 k1_t29
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1385 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off146 (v1383 : BitVec 32) (k1_t29 : Fin k1_t29_loop.trips) : Fin 2 → Nat :=
  let c0_i32_521 : BitVec 32 := 0#32
  let v1387 : BitVec 1 := Scalar.cmpi .sgt v1383 c0_i32_521
  let v1388 : BitVec 32 := Scalar.extui v1387
  let c0_i32_522 : BitVec 32 := 0#32
  let v1389 : BitVec 1 := Scalar.cmpi .slt v1383 c0_i32_522
  let v1390 : BitVec 32 := Scalar.extui v1389
  let v1391 : BitVec 32 := Scalar.subi v1388 v1390
  let c16_i32_520 : BitVec 32 := 16#32
  let c0_i32_523 : BitVec 32 := 0#32
  let v1392 : BitVec 1 := Scalar.cmpi .sgt c16_i32_520 c0_i32_523
  let v1393 : BitVec 32 := Scalar.extui v1392
  let c0_i32_524 : BitVec 32 := 0#32
  let v1394 : BitVec 1 := Scalar.cmpi .slt c16_i32_520 c0_i32_524
  let v1395 : BitVec 32 := Scalar.extui v1394
  let v1396 : BitVec 32 := Scalar.subi v1393 v1395
  let v1397 : BitVec 1 := Scalar.cmpi .ne v1391 v1396
  let v1398 : BitVec 32 := Scalar.remsi v1383 c16_i32_520
  let c0_i32_525 : BitVec 32 := 0#32
  let v1399 : BitVec 1 := Scalar.cmpi .ne v1398 c0_i32_525
  let v1400 : BitVec 1 := Scalar.andi v1397 v1399
  let v1386 : BitVec 32 := Scalar.divsi v1383 c16_i32_520
  let c1_i32_526 : BitVec 32 := 1#32
  let v1401 : BitVec 32 := Scalar.subi v1386 c1_i32_526
  let v1402 : BitVec 32 := Scalar.select v1400 v1401 v1386
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1402 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t29
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1383 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off147 (v1385 : BitVec 32) (k1_t29 : Fin k1_t29_loop.trips) : Fin 2 → Nat :=
  let c0_i32_1453 : BitVec 32 := 0#32
  let c1_i32_1455 : BitVec 32 := 1#32
  let arg19 : BitVec 32 := Scf.iv c0_i32_1453 c1_i32_1455 k1_t29
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1385 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk57 (i : grid1.Coords) (v25 : BitVec 32) (v1383 : BitVec 32) (v1385 : BitVec 32) : Prop :=
  (∀ (k1_h29 : k1_cond29 i v25 v1383 = 1#1), ∀ a, (k1_off144 i v1385) a + S32x512.size a ≤ S12288x512.size a) ∧
  (∀ k1_t29 : Fin k1_t29_loop.trips, ∀ (k1_h29 : k1_cond29 i v25 v1383 = 1#1), ∀ a, (k1_off145 v1385 k1_t29) a + S1x16.size a ≤ S32x512.size a) ∧
  (∀ k1_t29 : Fin k1_t29_loop.trips, ∀ (k1_h29 : k1_cond29 i v25 v1383 = 1#1), ∀ a, (k1_off147 v1385 k1_t29) a + S1x16.size a ≤ S32x512.size a)
theorem k1_off144_inb : ∀ (i : grid1.Coords) (v25 : BitVec 32) (v1383 : BitVec 32) (v1385 : BitVec 32) (k1_hw57 : k1_chk57 i v25 v1383 v1385), ∀ (k1_h29 : k1_cond29 i v25 v1383 = 1#1), ∀ a, (k1_off144 i v1385) a + S32x512.size a ≤ S12288x512.size a := fun i v25 v1383 v1385 k1_hw57 k1_h29 => k1_hw57.1 k1_h29
theorem k1_off145_inb : ∀ (i : grid1.Coords) (v25 : BitVec 32) (v1383 : BitVec 32) (v1385 : BitVec 32) (k1_hw57 : k1_chk57 i v25 v1383 v1385) (k1_t29 : Fin k1_t29_loop.trips), ∀ (k1_h29 : k1_cond29 i v25 v1383 = 1#1), ∀ a, (k1_off145 v1385 k1_t29) a + S1x16.size a ≤ S32x512.size a := fun i v25 v1383 v1385 k1_hw57 k1_t29 k1_h29 => k1_hw57.2.1 k1_t29 k1_h29
theorem k1_off147_inb : ∀ (i : grid1.Coords) (v25 : BitVec 32) (v1383 : BitVec 32) (v1385 : BitVec 32) (k1_hw57 : k1_chk57 i v25 v1383 v1385) (k1_t29 : Fin k1_t29_loop.trips), ∀ (k1_h29 : k1_cond29 i v25 v1383 = 1#1), ∀ a, (k1_off147 v1385 k1_t29) a + S1x16.size a ≤ S32x512.size a := fun i v25 v1383 v1385 k1_hw57 k1_t29 k1_h29 => k1_hw57.2.2 k1_t29 k1_h29

def k1_off148 (v1383 : BitVec 32) (k1_t29 : Fin k1_t29_loop.trips) : Fin 2 → Nat :=
  let c0_i32_521 : BitVec 32 := 0#32
  let v1387 : BitVec 1 := Scalar.cmpi .sgt v1383 c0_i32_521
  let v1388 : BitVec 32 := Scalar.extui v1387
  let c0_i32_522 : BitVec 32 := 0#32
  let v1389 : BitVec 1 := Scalar.cmpi .slt v1383 c0_i32_522
  let v1390 : BitVec 32 := Scalar.extui v1389
  let v1391 : BitVec 32 := Scalar.subi v1388 v1390
  let c16_i32_520 : BitVec 32 := 16#32
  let c0_i32_523 : BitVec 32 := 0#32
  let v1392 : BitVec 1 := Scalar.cmpi .sgt c16_i32_520 c0_i32_523
  let v1393 : BitVec 32 := Scalar.extui v1392
  let c0_i32_524 : BitVec 32 := 0#32
  let v1394 : BitVec 1 := Scalar.cmpi .slt c16_i32_520 c0_i32_524
  let v1395 : BitVec 32 := Scalar.extui v1394
  let v1396 : BitVec 32 := Scalar.subi v1393 v1395
  let v1397 : BitVec 1 := Scalar.cmpi .ne v1391 v1396
  let v1398 : BitVec 32 := Scalar.remsi v1383 c16_i32_520
  let c0_i32_525 : BitVec 32 := 0#32
  let v1399 : BitVec 1 := Scalar.cmpi .ne v1398 c0_i32_525
  let v1400 : BitVec 1 := Scalar.andi v1397 v1399
  let v1386 : BitVec 32 := Scalar.divsi v1383 c16_i32_520
  let c1_i32_526 : BitVec 32 := 1#32
  let v1401 : BitVec 32 := Scalar.subi v1386 c1_i32_526
  let v1402 : BitVec 32 := Scalar.select v1400 v1401 v1386
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1402 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t29
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1383 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk58 (i : grid1.Coords) (v25 : BitVec 32) (v1383 : BitVec 32) : Prop :=
  (∀ k1_t29 : Fin k1_t29_loop.trips, ∀ (k1_h29 : k1_cond29 i v25 v1383 = 1#1), ∀ a, (k1_off146 v1383 k1_t29) a + S1x16.size a ≤ S128x512.size a) ∧
  (∀ k1_t29 : Fin k1_t29_loop.trips, ∀ (k1_h29 : k1_cond29 i v25 v1383 = 1#1), ∀ a, (k1_off148 v1383 k1_t29) a + S1x16.size a ≤ S128x512.size a)
theorem k1_off146_inb : ∀ (i : grid1.Coords) (v25 : BitVec 32) (v1383 : BitVec 32) (k1_hw58 : k1_chk58 i v25 v1383) (k1_t29 : Fin k1_t29_loop.trips), ∀ (k1_h29 : k1_cond29 i v25 v1383 = 1#1), ∀ a, (k1_off146 v1383 k1_t29) a + S1x16.size a ≤ S128x512.size a := fun i v25 v1383 k1_hw58 k1_t29 k1_h29 => k1_hw58.1 k1_t29 k1_h29
theorem k1_off148_inb : ∀ (i : grid1.Coords) (v25 : BitVec 32) (v1383 : BitVec 32) (k1_hw58 : k1_chk58 i v25 v1383) (k1_t29 : Fin k1_t29_loop.trips), ∀ (k1_h29 : k1_cond29 i v25 v1383 = 1#1), ∀ a, (k1_off148 v1383 k1_t29) a + S1x16.size a ≤ S128x512.size a := fun i v25 v1383 k1_hw58 k1_t29 k1_h29 => k1_hw58.2 k1_t29 k1_h29

def k1_off149 (i : grid1.Coords) (v1428 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1428 c0_i32_1428
  let v3763 : BitVec 32 := Scalar.extui v3762
  let c0_i32_1429 : BitVec 32 := 0#32
  let v3764 : BitVec 1 := Scalar.cmpi .slt v1428 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1428 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1428 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r35 : BitVec 32 := 0#32
  ![v3779.toNat, 0]
def k1_cond30 (i : grid1.Coords) (v25 : BitVec 32) (v1426 : BitVec 32) : BitVec 1 :=
  let c13_i32_543 : BitVec 32 := 13#32
  let v1446 : BitVec 1 := Scalar.cmpi .sgt v25 c13_i32_543
  let c0_i32_537 : BitVec 32 := 0#32
  let v1430 : BitVec 1 := Scalar.cmpi .sgt v1426 c0_i32_537
  let v1431 : BitVec 32 := Scalar.extui v1430
  let c0_i32_538 : BitVec 32 := 0#32
  let v1432 : BitVec 1 := Scalar.cmpi .slt v1426 c0_i32_538
  let v1433 : BitVec 32 := Scalar.extui v1432
  let v1434 : BitVec 32 := Scalar.subi v1431 v1433
  let c16_i32_536 : BitVec 32 := 16#32
  let c0_i32_539 : BitVec 32 := 0#32
  let v1435 : BitVec 1 := Scalar.cmpi .sgt c16_i32_536 c0_i32_539
  let v1436 : BitVec 32 := Scalar.extui v1435
  let c0_i32_540 : BitVec 32 := 0#32
  let v1437 : BitVec 1 := Scalar.cmpi .slt c16_i32_536 c0_i32_540
  let v1438 : BitVec 32 := Scalar.extui v1437
  let v1439 : BitVec 32 := Scalar.subi v1436 v1438
  let v1440 : BitVec 1 := Scalar.cmpi .ne v1434 v1439
  let v1441 : BitVec 32 := Scalar.remsi v1426 c16_i32_536
  let c0_i32_541 : BitVec 32 := 0#32
  let v1442 : BitVec 1 := Scalar.cmpi .ne v1441 c0_i32_541
  let v1443 : BitVec 1 := Scalar.andi v1440 v1442
  let v1429 : BitVec 32 := Scalar.divsi v1426 c16_i32_536
  let c1_i32_542 : BitVec 32 := 1#32
  let v1444 : BitVec 32 := Scalar.subi v1429 c1_i32_542
  let v1445 : BitVec 32 := Scalar.select v1443 v1444 v1429
  let c0_i32_545 : BitVec 32 := 0#32
  let v1448 : BitVec 1 := Scalar.cmpi .sgt v1445 c0_i32_545
  let v1449 : BitVec 32 := Scalar.extui v1448
  let c0_i32_546 : BitVec 32 := 0#32
  let v1450 : BitVec 1 := Scalar.cmpi .slt v1445 c0_i32_546
  let v1451 : BitVec 32 := Scalar.extui v1450
  let v1452 : BitVec 32 := Scalar.subi v1449 v1451
  let c4_i32_544 : BitVec 32 := 4#32
  let c0_i32_547 : BitVec 32 := 0#32
  let v1453 : BitVec 1 := Scalar.cmpi .sgt c4_i32_544 c0_i32_547
  let v1454 : BitVec 32 := Scalar.extui v1453
  let c0_i32_548 : BitVec 32 := 0#32
  let v1455 : BitVec 1 := Scalar.cmpi .slt c4_i32_544 c0_i32_548
  let v1456 : BitVec 32 := Scalar.extui v1455
  let v1457 : BitVec 32 := Scalar.subi v1454 v1456
  let v1458 : BitVec 1 := Scalar.cmpi .ne v1452 v1457
  let v1459 : BitVec 32 := Scalar.remsi v1445 c4_i32_544
  let c0_i32_549 : BitVec 32 := 0#32
  let v1460 : BitVec 1 := Scalar.cmpi .ne v1459 c0_i32_549
  let v1461 : BitVec 1 := Scalar.andi v1458 v1460
  let v1447 : BitVec 32 := Scalar.divsi v1445 c4_i32_544
  let c1_i32_550 : BitVec 32 := 1#32
  let v1462 : BitVec 32 := Scalar.subi v1447 c1_i32_550
  let v1463 : BitVec 32 := Scalar.select v1461 v1462 v1447
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1464 : BitVec 1 := Scalar.cmpi .eq v1463 v865
  let v1465 : BitVec 1 := Scalar.andi v1446 v1464
  let v1466 : BitVec 32 := Scalar.extui v1465
  let c0_i32_551 : BitVec 32 := 0#32
  let v1467 : BitVec 1 := Scalar.cmpi .ne v1466 c0_i32_551
  v1467

@[reducible] def k1_t30_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off150 (v1428 : BitVec 32) (k1_t30 : Fin k1_t30_loop.trips) : Fin 2 → Nat :=
  let c0_i32_1453 : BitVec 32 := 0#32
  let c1_i32_1455 : BitVec 32 := 1#32
  let arg19 : BitVec 32 := Scf.iv c0_i32_1453 c1_i32_1455 k1_t30
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1428 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off151 (v1426 : BitVec 32) (k1_t30 : Fin k1_t30_loop.trips) : Fin 2 → Nat :=
  let c0_i32_537 : BitVec 32 := 0#32
  let v1430 : BitVec 1 := Scalar.cmpi .sgt v1426 c0_i32_537
  let v1431 : BitVec 32 := Scalar.extui v1430
  let c0_i32_538 : BitVec 32 := 0#32
  let v1432 : BitVec 1 := Scalar.cmpi .slt v1426 c0_i32_538
  let v1433 : BitVec 32 := Scalar.extui v1432
  let v1434 : BitVec 32 := Scalar.subi v1431 v1433
  let c16_i32_536 : BitVec 32 := 16#32
  let c0_i32_539 : BitVec 32 := 0#32
  let v1435 : BitVec 1 := Scalar.cmpi .sgt c16_i32_536 c0_i32_539
  let v1436 : BitVec 32 := Scalar.extui v1435
  let c0_i32_540 : BitVec 32 := 0#32
  let v1437 : BitVec 1 := Scalar.cmpi .slt c16_i32_536 c0_i32_540
  let v1438 : BitVec 32 := Scalar.extui v1437
  let v1439 : BitVec 32 := Scalar.subi v1436 v1438
  let v1440 : BitVec 1 := Scalar.cmpi .ne v1434 v1439
  let v1441 : BitVec 32 := Scalar.remsi v1426 c16_i32_536
  let c0_i32_541 : BitVec 32 := 0#32
  let v1442 : BitVec 1 := Scalar.cmpi .ne v1441 c0_i32_541
  let v1443 : BitVec 1 := Scalar.andi v1440 v1442
  let v1429 : BitVec 32 := Scalar.divsi v1426 c16_i32_536
  let c1_i32_542 : BitVec 32 := 1#32
  let v1444 : BitVec 32 := Scalar.subi v1429 c1_i32_542
  let v1445 : BitVec 32 := Scalar.select v1443 v1444 v1429
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1445 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t30
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1426 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off152 (v1428 : BitVec 32) (k1_t30 : Fin k1_t30_loop.trips) : Fin 2 → Nat :=
  let c0_i32_1453 : BitVec 32 := 0#32
  let c1_i32_1455 : BitVec 32 := 1#32
  let arg19 : BitVec 32 := Scf.iv c0_i32_1453 c1_i32_1455 k1_t30
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1428 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk59 (i : grid1.Coords) (v25 : BitVec 32) (v1426 : BitVec 32) (v1428 : BitVec 32) : Prop :=
  (∀ (k1_h30 : k1_cond30 i v25 v1426 = 1#1), ∀ a, (k1_off149 i v1428) a + S32x512.size a ≤ S12288x512.size a) ∧
  (∀ k1_t30 : Fin k1_t30_loop.trips, ∀ (k1_h30 : k1_cond30 i v25 v1426 = 1#1), ∀ a, (k1_off150 v1428 k1_t30) a + S1x16.size a ≤ S32x512.size a) ∧
  (∀ k1_t30 : Fin k1_t30_loop.trips, ∀ (k1_h30 : k1_cond30 i v25 v1426 = 1#1), ∀ a, (k1_off152 v1428 k1_t30) a + S1x16.size a ≤ S32x512.size a)
theorem k1_off149_inb : ∀ (i : grid1.Coords) (v25 : BitVec 32) (v1426 : BitVec 32) (v1428 : BitVec 32) (k1_hw59 : k1_chk59 i v25 v1426 v1428), ∀ (k1_h30 : k1_cond30 i v25 v1426 = 1#1), ∀ a, (k1_off149 i v1428) a + S32x512.size a ≤ S12288x512.size a := fun i v25 v1426 v1428 k1_hw59 k1_h30 => k1_hw59.1 k1_h30
theorem k1_off150_inb : ∀ (i : grid1.Coords) (v25 : BitVec 32) (v1426 : BitVec 32) (v1428 : BitVec 32) (k1_hw59 : k1_chk59 i v25 v1426 v1428) (k1_t30 : Fin k1_t30_loop.trips), ∀ (k1_h30 : k1_cond30 i v25 v1426 = 1#1), ∀ a, (k1_off150 v1428 k1_t30) a + S1x16.size a ≤ S32x512.size a := fun i v25 v1426 v1428 k1_hw59 k1_t30 k1_h30 => k1_hw59.2.1 k1_t30 k1_h30
theorem k1_off152_inb : ∀ (i : grid1.Coords) (v25 : BitVec 32) (v1426 : BitVec 32) (v1428 : BitVec 32) (k1_hw59 : k1_chk59 i v25 v1426 v1428) (k1_t30 : Fin k1_t30_loop.trips), ∀ (k1_h30 : k1_cond30 i v25 v1426 = 1#1), ∀ a, (k1_off152 v1428 k1_t30) a + S1x16.size a ≤ S32x512.size a := fun i v25 v1426 v1428 k1_hw59 k1_t30 k1_h30 => k1_hw59.2.2 k1_t30 k1_h30

def k1_off153 (v1426 : BitVec 32) (k1_t30 : Fin k1_t30_loop.trips) : Fin 2 → Nat :=
  let c0_i32_537 : BitVec 32 := 0#32
  let v1430 : BitVec 1 := Scalar.cmpi .sgt v1426 c0_i32_537
  let v1431 : BitVec 32 := Scalar.extui v1430
  let c0_i32_538 : BitVec 32 := 0#32
  let v1432 : BitVec 1 := Scalar.cmpi .slt v1426 c0_i32_538
  let v1433 : BitVec 32 := Scalar.extui v1432
  let v1434 : BitVec 32 := Scalar.subi v1431 v1433
  let c16_i32_536 : BitVec 32 := 16#32
  let c0_i32_539 : BitVec 32 := 0#32
  let v1435 : BitVec 1 := Scalar.cmpi .sgt c16_i32_536 c0_i32_539
  let v1436 : BitVec 32 := Scalar.extui v1435
  let c0_i32_540 : BitVec 32 := 0#32
  let v1437 : BitVec 1 := Scalar.cmpi .slt c16_i32_536 c0_i32_540
  let v1438 : BitVec 32 := Scalar.extui v1437
  let v1439 : BitVec 32 := Scalar.subi v1436 v1438
  let v1440 : BitVec 1 := Scalar.cmpi .ne v1434 v1439
  let v1441 : BitVec 32 := Scalar.remsi v1426 c16_i32_536
  let c0_i32_541 : BitVec 32 := 0#32
  let v1442 : BitVec 1 := Scalar.cmpi .ne v1441 c0_i32_541
  let v1443 : BitVec 1 := Scalar.andi v1440 v1442
  let v1429 : BitVec 32 := Scalar.divsi v1426 c16_i32_536
  let c1_i32_542 : BitVec 32 := 1#32
  let v1444 : BitVec 32 := Scalar.subi v1429 c1_i32_542
  let v1445 : BitVec 32 := Scalar.select v1443 v1444 v1429
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1445 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t30
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1426 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk60 (i : grid1.Coords) (v25 : BitVec 32) (v1426 : BitVec 32) : Prop :=
  (∀ k1_t30 : Fin k1_t30_loop.trips, ∀ (k1_h30 : k1_cond30 i v25 v1426 = 1#1), ∀ a, (k1_off151 v1426 k1_t30) a + S1x16.size a ≤ S128x512.size a) ∧
  (∀ k1_t30 : Fin k1_t30_loop.trips, ∀ (k1_h30 : k1_cond30 i v25 v1426 = 1#1), ∀ a, (k1_off153 v1426 k1_t30) a + S1x16.size a ≤ S128x512.size a)
theorem k1_off151_inb : ∀ (i : grid1.Coords) (v25 : BitVec 32) (v1426 : BitVec 32) (k1_hw60 : k1_chk60 i v25 v1426) (k1_t30 : Fin k1_t30_loop.trips), ∀ (k1_h30 : k1_cond30 i v25 v1426 = 1#1), ∀ a, (k1_off151 v1426 k1_t30) a + S1x16.size a ≤ S128x512.size a := fun i v25 v1426 k1_hw60 k1_t30 k1_h30 => k1_hw60.1 k1_t30 k1_h30
theorem k1_off153_inb : ∀ (i : grid1.Coords) (v25 : BitVec 32) (v1426 : BitVec 32) (k1_hw60 : k1_chk60 i v25 v1426) (k1_t30 : Fin k1_t30_loop.trips), ∀ (k1_h30 : k1_cond30 i v25 v1426 = 1#1), ∀ a, (k1_off153 v1426 k1_t30) a + S1x16.size a ≤ S128x512.size a := fun i v25 v1426 k1_hw60 k1_t30 k1_h30 => k1_hw60.2 k1_t30 k1_h30

def k1_off154 (i : grid1.Coords) (v1471 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1471 c0_i32_1428
  let v3763 : BitVec 32 := Scalar.extui v3762
  let c0_i32_1429 : BitVec 32 := 0#32
  let v3764 : BitVec 1 := Scalar.cmpi .slt v1471 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1471 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1471 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r36 : BitVec 32 := 0#32
  ![v3779.toNat, 0]
def k1_cond31 (i : grid1.Coords) (v25 : BitVec 32) (v1469 : BitVec 32) : BitVec 1 :=
  let c14_i32_559 : BitVec 32 := 14#32
  let v1489 : BitVec 1 := Scalar.cmpi .sgt v25 c14_i32_559
  let c0_i32_553 : BitVec 32 := 0#32
  let v1473 : BitVec 1 := Scalar.cmpi .sgt v1469 c0_i32_553
  let v1474 : BitVec 32 := Scalar.extui v1473
  let c0_i32_554 : BitVec 32 := 0#32
  let v1475 : BitVec 1 := Scalar.cmpi .slt v1469 c0_i32_554
  let v1476 : BitVec 32 := Scalar.extui v1475
  let v1477 : BitVec 32 := Scalar.subi v1474 v1476
  let c16_i32_552 : BitVec 32 := 16#32
  let c0_i32_555 : BitVec 32 := 0#32
  let v1478 : BitVec 1 := Scalar.cmpi .sgt c16_i32_552 c0_i32_555
  let v1479 : BitVec 32 := Scalar.extui v1478
  let c0_i32_556 : BitVec 32 := 0#32
  let v1480 : BitVec 1 := Scalar.cmpi .slt c16_i32_552 c0_i32_556
  let v1481 : BitVec 32 := Scalar.extui v1480
  let v1482 : BitVec 32 := Scalar.subi v1479 v1481
  let v1483 : BitVec 1 := Scalar.cmpi .ne v1477 v1482
  let v1484 : BitVec 32 := Scalar.remsi v1469 c16_i32_552
  let c0_i32_557 : BitVec 32 := 0#32
  let v1485 : BitVec 1 := Scalar.cmpi .ne v1484 c0_i32_557
  let v1486 : BitVec 1 := Scalar.andi v1483 v1485
  let v1472 : BitVec 32 := Scalar.divsi v1469 c16_i32_552
  let c1_i32_558 : BitVec 32 := 1#32
  let v1487 : BitVec 32 := Scalar.subi v1472 c1_i32_558
  let v1488 : BitVec 32 := Scalar.select v1486 v1487 v1472
  let c0_i32_561 : BitVec 32 := 0#32
  let v1491 : BitVec 1 := Scalar.cmpi .sgt v1488 c0_i32_561
  let v1492 : BitVec 32 := Scalar.extui v1491
  let c0_i32_562 : BitVec 32 := 0#32
  let v1493 : BitVec 1 := Scalar.cmpi .slt v1488 c0_i32_562
  let v1494 : BitVec 32 := Scalar.extui v1493
  let v1495 : BitVec 32 := Scalar.subi v1492 v1494
  let c4_i32_560 : BitVec 32 := 4#32
  let c0_i32_563 : BitVec 32 := 0#32
  let v1496 : BitVec 1 := Scalar.cmpi .sgt c4_i32_560 c0_i32_563
  let v1497 : BitVec 32 := Scalar.extui v1496
  let c0_i32_564 : BitVec 32 := 0#32
  let v1498 : BitVec 1 := Scalar.cmpi .slt c4_i32_560 c0_i32_564
  let v1499 : BitVec 32 := Scalar.extui v1498
  let v1500 : BitVec 32 := Scalar.subi v1497 v1499
  let v1501 : BitVec 1 := Scalar.cmpi .ne v1495 v1500
  let v1502 : BitVec 32 := Scalar.remsi v1488 c4_i32_560
  let c0_i32_565 : BitVec 32 := 0#32
  let v1503 : BitVec 1 := Scalar.cmpi .ne v1502 c0_i32_565
  let v1504 : BitVec 1 := Scalar.andi v1501 v1503
  let v1490 : BitVec 32 := Scalar.divsi v1488 c4_i32_560
  let c1_i32_566 : BitVec 32 := 1#32
  let v1505 : BitVec 32 := Scalar.subi v1490 c1_i32_566
  let v1506 : BitVec 32 := Scalar.select v1504 v1505 v1490
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1507 : BitVec 1 := Scalar.cmpi .eq v1506 v865
  let v1508 : BitVec 1 := Scalar.andi v1489 v1507
  let v1509 : BitVec 32 := Scalar.extui v1508
  let c0_i32_567 : BitVec 32 := 0#32
  let v1510 : BitVec 1 := Scalar.cmpi .ne v1509 c0_i32_567
  v1510

@[reducible] def k1_t31_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off155 (v1471 : BitVec 32) (k1_t31 : Fin k1_t31_loop.trips) : Fin 2 → Nat :=
  let c0_i32_1453 : BitVec 32 := 0#32
  let c1_i32_1455 : BitVec 32 := 1#32
  let arg19 : BitVec 32 := Scf.iv c0_i32_1453 c1_i32_1455 k1_t31
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1471 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off156 (v1469 : BitVec 32) (k1_t31 : Fin k1_t31_loop.trips) : Fin 2 → Nat :=
  let c0_i32_553 : BitVec 32 := 0#32
  let v1473 : BitVec 1 := Scalar.cmpi .sgt v1469 c0_i32_553
  let v1474 : BitVec 32 := Scalar.extui v1473
  let c0_i32_554 : BitVec 32 := 0#32
  let v1475 : BitVec 1 := Scalar.cmpi .slt v1469 c0_i32_554
  let v1476 : BitVec 32 := Scalar.extui v1475
  let v1477 : BitVec 32 := Scalar.subi v1474 v1476
  let c16_i32_552 : BitVec 32 := 16#32
  let c0_i32_555 : BitVec 32 := 0#32
  let v1478 : BitVec 1 := Scalar.cmpi .sgt c16_i32_552 c0_i32_555
  let v1479 : BitVec 32 := Scalar.extui v1478
  let c0_i32_556 : BitVec 32 := 0#32
  let v1480 : BitVec 1 := Scalar.cmpi .slt c16_i32_552 c0_i32_556
  let v1481 : BitVec 32 := Scalar.extui v1480
  let v1482 : BitVec 32 := Scalar.subi v1479 v1481
  let v1483 : BitVec 1 := Scalar.cmpi .ne v1477 v1482
  let v1484 : BitVec 32 := Scalar.remsi v1469 c16_i32_552
  let c0_i32_557 : BitVec 32 := 0#32
  let v1485 : BitVec 1 := Scalar.cmpi .ne v1484 c0_i32_557
  let v1486 : BitVec 1 := Scalar.andi v1483 v1485
  let v1472 : BitVec 32 := Scalar.divsi v1469 c16_i32_552
  let c1_i32_558 : BitVec 32 := 1#32
  let v1487 : BitVec 32 := Scalar.subi v1472 c1_i32_558
  let v1488 : BitVec 32 := Scalar.select v1486 v1487 v1472
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1488 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t31
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1469 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off157 (v1471 : BitVec 32) (k1_t31 : Fin k1_t31_loop.trips) : Fin 2 → Nat :=
  let c0_i32_1453 : BitVec 32 := 0#32
  let c1_i32_1455 : BitVec 32 := 1#32
  let arg19 : BitVec 32 := Scf.iv c0_i32_1453 c1_i32_1455 k1_t31
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1471 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk61 (i : grid1.Coords) (v25 : BitVec 32) (v1469 : BitVec 32) (v1471 : BitVec 32) : Prop :=
  (∀ (k1_h31 : k1_cond31 i v25 v1469 = 1#1), ∀ a, (k1_off154 i v1471) a + S32x512.size a ≤ S12288x512.size a) ∧
  (∀ k1_t31 : Fin k1_t31_loop.trips, ∀ (k1_h31 : k1_cond31 i v25 v1469 = 1#1), ∀ a, (k1_off155 v1471 k1_t31) a + S1x16.size a ≤ S32x512.size a) ∧
  (∀ k1_t31 : Fin k1_t31_loop.trips, ∀ (k1_h31 : k1_cond31 i v25 v1469 = 1#1), ∀ a, (k1_off157 v1471 k1_t31) a + S1x16.size a ≤ S32x512.size a)
theorem k1_off154_inb : ∀ (i : grid1.Coords) (v25 : BitVec 32) (v1469 : BitVec 32) (v1471 : BitVec 32) (k1_hw61 : k1_chk61 i v25 v1469 v1471), ∀ (k1_h31 : k1_cond31 i v25 v1469 = 1#1), ∀ a, (k1_off154 i v1471) a + S32x512.size a ≤ S12288x512.size a := fun i v25 v1469 v1471 k1_hw61 k1_h31 => k1_hw61.1 k1_h31
theorem k1_off155_inb : ∀ (i : grid1.Coords) (v25 : BitVec 32) (v1469 : BitVec 32) (v1471 : BitVec 32) (k1_hw61 : k1_chk61 i v25 v1469 v1471) (k1_t31 : Fin k1_t31_loop.trips), ∀ (k1_h31 : k1_cond31 i v25 v1469 = 1#1), ∀ a, (k1_off155 v1471 k1_t31) a + S1x16.size a ≤ S32x512.size a := fun i v25 v1469 v1471 k1_hw61 k1_t31 k1_h31 => k1_hw61.2.1 k1_t31 k1_h31
theorem k1_off157_inb : ∀ (i : grid1.Coords) (v25 : BitVec 32) (v1469 : BitVec 32) (v1471 : BitVec 32) (k1_hw61 : k1_chk61 i v25 v1469 v1471) (k1_t31 : Fin k1_t31_loop.trips), ∀ (k1_h31 : k1_cond31 i v25 v1469 = 1#1), ∀ a, (k1_off157 v1471 k1_t31) a + S1x16.size a ≤ S32x512.size a := fun i v25 v1469 v1471 k1_hw61 k1_t31 k1_h31 => k1_hw61.2.2 k1_t31 k1_h31

def k1_off158 (v1469 : BitVec 32) (k1_t31 : Fin k1_t31_loop.trips) : Fin 2 → Nat :=
  let c0_i32_553 : BitVec 32 := 0#32
  let v1473 : BitVec 1 := Scalar.cmpi .sgt v1469 c0_i32_553
  let v1474 : BitVec 32 := Scalar.extui v1473
  let c0_i32_554 : BitVec 32 := 0#32
  let v1475 : BitVec 1 := Scalar.cmpi .slt v1469 c0_i32_554
  let v1476 : BitVec 32 := Scalar.extui v1475
  let v1477 : BitVec 32 := Scalar.subi v1474 v1476
  let c16_i32_552 : BitVec 32 := 16#32
  let c0_i32_555 : BitVec 32 := 0#32
  let v1478 : BitVec 1 := Scalar.cmpi .sgt c16_i32_552 c0_i32_555
  let v1479 : BitVec 32 := Scalar.extui v1478
  let c0_i32_556 : BitVec 32 := 0#32
  let v1480 : BitVec 1 := Scalar.cmpi .slt c16_i32_552 c0_i32_556
  let v1481 : BitVec 32 := Scalar.extui v1480
  let v1482 : BitVec 32 := Scalar.subi v1479 v1481
  let v1483 : BitVec 1 := Scalar.cmpi .ne v1477 v1482
  let v1484 : BitVec 32 := Scalar.remsi v1469 c16_i32_552
  let c0_i32_557 : BitVec 32 := 0#32
  let v1485 : BitVec 1 := Scalar.cmpi .ne v1484 c0_i32_557
  let v1486 : BitVec 1 := Scalar.andi v1483 v1485
  let v1472 : BitVec 32 := Scalar.divsi v1469 c16_i32_552
  let c1_i32_558 : BitVec 32 := 1#32
  let v1487 : BitVec 32 := Scalar.subi v1472 c1_i32_558
  let v1488 : BitVec 32 := Scalar.select v1486 v1487 v1472
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1488 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t31
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1469 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk62 (i : grid1.Coords) (v25 : BitVec 32) (v1469 : BitVec 32) : Prop :=
  (∀ k1_t31 : Fin k1_t31_loop.trips, ∀ (k1_h31 : k1_cond31 i v25 v1469 = 1#1), ∀ a, (k1_off156 v1469 k1_t31) a + S1x16.size a ≤ S128x512.size a) ∧
  (∀ k1_t31 : Fin k1_t31_loop.trips, ∀ (k1_h31 : k1_cond31 i v25 v1469 = 1#1), ∀ a, (k1_off158 v1469 k1_t31) a + S1x16.size a ≤ S128x512.size a)
theorem k1_off156_inb : ∀ (i : grid1.Coords) (v25 : BitVec 32) (v1469 : BitVec 32) (k1_hw62 : k1_chk62 i v25 v1469) (k1_t31 : Fin k1_t31_loop.trips), ∀ (k1_h31 : k1_cond31 i v25 v1469 = 1#1), ∀ a, (k1_off156 v1469 k1_t31) a + S1x16.size a ≤ S128x512.size a := fun i v25 v1469 k1_hw62 k1_t31 k1_h31 => k1_hw62.1 k1_t31 k1_h31
theorem k1_off158_inb : ∀ (i : grid1.Coords) (v25 : BitVec 32) (v1469 : BitVec 32) (k1_hw62 : k1_chk62 i v25 v1469) (k1_t31 : Fin k1_t31_loop.trips), ∀ (k1_h31 : k1_cond31 i v25 v1469 = 1#1), ∀ a, (k1_off158 v1469 k1_t31) a + S1x16.size a ≤ S128x512.size a := fun i v25 v1469 k1_hw62 k1_t31 k1_h31 => k1_hw62.2 k1_t31 k1_h31

def k1_off159 (i : grid1.Coords) (v1514 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_313 : BitVec 32 := 3#32
  let v836 : BitVec 32 := Scalar.muli v18 c3_i32_313
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v837 : BitVec 32 := Scalar.addi v836 v820
  let c512_i32_314 : BitVec 32 := 512#32
  let v838 : BitVec 32 := Scalar.muli v837 c512_i32_314
  let c0_i32_1428 : BitVec 32 := 0#32
  let v3762 : BitVec 1 := Scalar.cmpi .sgt v1514 c0_i32_1428
  let v3763 : BitVec 32 := Scalar.extui v3762
  let c0_i32_1429 : BitVec 32 := 0#32
  let v3764 : BitVec 1 := Scalar.cmpi .slt v1514 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1514 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1514 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v838 v3778
  let c0_i32_1457_r37 : BitVec 32 := 0#32
  ![v3779.toNat, 0]
def k1_cond32 (i : grid1.Coords) (v25 : BitVec 32) (v1512 : BitVec 32) : BitVec 1 :=
  let c15_i32_575 : BitVec 32 := 15#32
  let v1532 : BitVec 1 := Scalar.cmpi .sgt v25 c15_i32_575
  let c0_i32_569 : BitVec 32 := 0#32
  let v1516 : BitVec 1 := Scalar.cmpi .sgt v1512 c0_i32_569
  let v1517 : BitVec 32 := Scalar.extui v1516
  let c0_i32_570 : BitVec 32 := 0#32
  let v1518 : BitVec 1 := Scalar.cmpi .slt v1512 c0_i32_570
  let v1519 : BitVec 32 := Scalar.extui v1518
  let v1520 : BitVec 32 := Scalar.subi v1517 v1519
  let c16_i32_568 : BitVec 32 := 16#32
  let c0_i32_571 : BitVec 32 := 0#32
  let v1521 : BitVec 1 := Scalar.cmpi .sgt c16_i32_568 c0_i32_571
  let v1522 : BitVec 32 := Scalar.extui v1521
  let c0_i32_572 : BitVec 32 := 0#32
  let v1523 : BitVec 1 := Scalar.cmpi .slt c16_i32_568 c0_i32_572
  let v1524 : BitVec 32 := Scalar.extui v1523
  let v1525 : BitVec 32 := Scalar.subi v1522 v1524
  let v1526 : BitVec 1 := Scalar.cmpi .ne v1520 v1525
  let v1527 : BitVec 32 := Scalar.remsi v1512 c16_i32_568
  let c0_i32_573 : BitVec 32 := 0#32
  let v1528 : BitVec 1 := Scalar.cmpi .ne v1527 c0_i32_573
  let v1529 : BitVec 1 := Scalar.andi v1526 v1528
  let v1515 : BitVec 32 := Scalar.divsi v1512 c16_i32_568
  let c1_i32_574 : BitVec 32 := 1#32
  let v1530 : BitVec 32 := Scalar.subi v1515 c1_i32_574
  let v1531 : BitVec 32 := Scalar.select v1529 v1530 v1515
  let c0_i32_577 : BitVec 32 := 0#32
  let v1534 : BitVec 1 := Scalar.cmpi .sgt v1531 c0_i32_577
  let v1535 : BitVec 32 := Scalar.extui v1534
  let c0_i32_578 : BitVec 32 := 0#32
  let v1536 : BitVec 1 := Scalar.cmpi .slt v1531 c0_i32_578
  let v1537 : BitVec 32 := Scalar.extui v1536
  let v1538 : BitVec 32 := Scalar.subi v1535 v1537
  let c4_i32_576 : BitVec 32 := 4#32
  let c0_i32_579 : BitVec 32 := 0#32
  let v1539 : BitVec 1 := Scalar.cmpi .sgt c4_i32_576 c0_i32_579
  let v1540 : BitVec 32 := Scalar.extui v1539
  let c0_i32_580 : BitVec 32 := 0#32
  let v1541 : BitVec 1 := Scalar.cmpi .slt c4_i32_576 c0_i32_580
  let v1542 : BitVec 32 := Scalar.extui v1541
  let v1543 : BitVec 32 := Scalar.subi v1540 v1542
  let v1544 : BitVec 1 := Scalar.cmpi .ne v1538 v1543
  let v1545 : BitVec 32 := Scalar.remsi v1531 c4_i32_576
  let c0_i32_581 : BitVec 32 := 0#32
  let v1546 : BitVec 1 := Scalar.cmpi .ne v1545 c0_i32_581
  let v1547 : BitVec 1 := Scalar.andi v1544 v1546
  let v1533 : BitVec 32 := Scalar.divsi v1531 c4_i32_576
  let c1_i32_582 : BitVec 32 := 1#32
  let v1548 : BitVec 32 := Scalar.subi v1533 c1_i32_582
  let v1549 : BitVec 32 := Scalar.select v1547 v1548 v1533
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let c1_i32_290 : BitVec 32 := 1#32
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c512_i32_315 : BitVec 32 := 512#32
  let c0_i32_316 : BitVec 32 := 0#32
  let v839 : BitVec 1 := Scalar.cmpi .eq c512_i32_315 c0_i32_316
  let c1_i32_317 : BitVec 32 := 1#32
  let v840 : BitVec 32 := Scalar.select v839 c1_i32_317 c512_i32_315
  let v841 : BitVec 32 := Scalar.remsi v835 v840
  let c0_i32_319 : BitVec 32 := 0#32
  let v843 : BitVec 1 := Scalar.cmpi .slt v841 c0_i32_319
  let c0_i32_320 : BitVec 32 := 0#32
  let v844 : BitVec 1 := Scalar.cmpi .slt v840 c0_i32_320
  let v845 : BitVec 1 := Scalar.xori v843 v844
  let c0_i32_318 : BitVec 32 := 0#32
  let v842 : BitVec 1 := Scalar.cmpi .ne v841 c0_i32_318
  let v846 : BitVec 1 := Scalar.andi v845 v842
  let v847 : BitVec 32 := Scalar.addi v841 v840
  let v848 : BitVec 32 := Scalar.select v846 v847 v841
  let c0_i32_322 : BitVec 32 := 0#32
  let v850 : BitVec 1 := Scalar.cmpi .sgt v848 c0_i32_322
  let v851 : BitVec 32 := Scalar.extui v850
  let c0_i32_323 : BitVec 32 := 0#32
  let v852 : BitVec 1 := Scalar.cmpi .slt v848 c0_i32_323
  let v853 : BitVec 32 := Scalar.extui v852
  let v854 : BitVec 32 := Scalar.subi v851 v853
  let c128_i32_321 : BitVec 32 := 128#32
  let c0_i32_324 : BitVec 32 := 0#32
  let v855 : BitVec 1 := Scalar.cmpi .sgt c128_i32_321 c0_i32_324
  let v856 : BitVec 32 := Scalar.extui v855
  let c0_i32_325 : BitVec 32 := 0#32
  let v857 : BitVec 1 := Scalar.cmpi .slt c128_i32_321 c0_i32_325
  let v858 : BitVec 32 := Scalar.extui v857
  let v859 : BitVec 32 := Scalar.subi v856 v858
  let v860 : BitVec 1 := Scalar.cmpi .ne v854 v859
  let v861 : BitVec 32 := Scalar.remsi v848 c128_i32_321
  let c0_i32_326 : BitVec 32 := 0#32
  let v862 : BitVec 1 := Scalar.cmpi .ne v861 c0_i32_326
  let v863 : BitVec 1 := Scalar.andi v860 v862
  let v849 : BitVec 32 := Scalar.divsi v848 c128_i32_321
  let c1_i32_327 : BitVec 32 := 1#32
  let v864 : BitVec 32 := Scalar.subi v849 c1_i32_327
  let v865 : BitVec 32 := Scalar.select v863 v864 v849
  let v1550 : BitVec 1 := Scalar.cmpi .eq v1549 v865
  let v1551 : BitVec 1 := Scalar.andi v1532 v1550
  let v1552 : BitVec 32 := Scalar.extui v1551
  let c0_i32_583 : BitVec 32 := 0#32
  let v1553 : BitVec 1 := Scalar.cmpi .ne v1552 c0_i32_583
  v1553

@[reducible] def k1_t32_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off160 (v1514 : BitVec 32) (k1_t32 : Fin k1_t32_loop.trips) : Fin 2 → Nat :=
  let c0_i32_1453 : BitVec 32 := 0#32
  let c1_i32_1455 : BitVec 32 := 1#32
  let arg19 : BitVec 32 := Scf.iv c0_i32_1453 c1_i32_1455 k1_t32
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1514 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off161 (v1512 : BitVec 32) (k1_t32 : Fin k1_t32_loop.trips) : Fin 2 → Nat :=
  let c0_i32_569 : BitVec 32 := 0#32
  let v1516 : BitVec 1 := Scalar.cmpi .sgt v1512 c0_i32_569
  let v1517 : BitVec 32 := Scalar.extui v1516
  let c0_i32_570 : BitVec 32 := 0#32
  let v1518 : BitVec 1 := Scalar.cmpi .slt v1512 c0_i32_570
  let v1519 : BitVec 32 := Scalar.extui v1518
  let v1520 : BitVec 32 := Scalar.subi v1517 v1519
  let c16_i32_568 : BitVec 32 := 16#32
  let c0_i32_571 : BitVec 32 := 0#32
  let v1521 : BitVec 1 := Scalar.cmpi .sgt c16_i32_568 c0_i32_571
  let v1522 : BitVec 32 := Scalar.extui v1521
  let c0_i32_572 : BitVec 32 := 0#32
  let v1523 : BitVec 1 := Scalar.cmpi .slt c16_i32_568 c0_i32_572
  let v1524 : BitVec 32 := Scalar.extui v1523
  let v1525 : BitVec 32 := Scalar.subi v1522 v1524
  let v1526 : BitVec 1 := Scalar.cmpi .ne v1520 v1525
  let v1527 : BitVec 32 := Scalar.remsi v1512 c16_i32_568
  let c0_i32_573 : BitVec 32 := 0#32
  let v1528 : BitVec 1 := Scalar.cmpi .ne v1527 c0_i32_573
  let v1529 : BitVec 1 := Scalar.andi v1526 v1528
  let v1515 : BitVec 32 := Scalar.divsi v1512 c16_i32_568
  let c1_i32_574 : BitVec 32 := 1#32
  let v1530 : BitVec 32 := Scalar.subi v1515 c1_i32_574
  let v1531 : BitVec 32 := Scalar.select v1529 v1530 v1515
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1531 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t32
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1512 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off162 (v1514 : BitVec 32) (k1_t32 : Fin k1_t32_loop.trips) : Fin 2 → Nat :=
  let c0_i32_1453 : BitVec 32 := 0#32
  let c1_i32_1455 : BitVec 32 := 1#32
  let arg19 : BitVec 32 := Scf.iv c0_i32_1453 c1_i32_1455 k1_t32
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1514 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk63 (i : grid1.Coords) (v25 : BitVec 32) (v1512 : BitVec 32) (v1514 : BitVec 32) : Prop :=
  (∀ (k1_h32 : k1_cond32 i v25 v1512 = 1#1), ∀ a, (k1_off159 i v1514) a + S32x512.size a ≤ S12288x512.size a) ∧
  (∀ k1_t32 : Fin k1_t32_loop.trips, ∀ (k1_h32 : k1_cond32 i v25 v1512 = 1#1), ∀ a, (k1_off160 v1514 k1_t32) a + S1x16.size a ≤ S32x512.size a) ∧
  (∀ k1_t32 : Fin k1_t32_loop.trips, ∀ (k1_h32 : k1_cond32 i v25 v1512 = 1#1), ∀ a, (k1_off162 v1514 k1_t32) a + S1x16.size a ≤ S32x512.size a)
theorem k1_off159_inb : ∀ (i : grid1.Coords) (v25 : BitVec 32) (v1512 : BitVec 32) (v1514 : BitVec 32) (k1_hw63 : k1_chk63 i v25 v1512 v1514), ∀ (k1_h32 : k1_cond32 i v25 v1512 = 1#1), ∀ a, (k1_off159 i v1514) a + S32x512.size a ≤ S12288x512.size a := fun i v25 v1512 v1514 k1_hw63 k1_h32 => k1_hw63.1 k1_h32
theorem k1_off160_inb : ∀ (i : grid1.Coords) (v25 : BitVec 32) (v1512 : BitVec 32) (v1514 : BitVec 32) (k1_hw63 : k1_chk63 i v25 v1512 v1514) (k1_t32 : Fin k1_t32_loop.trips), ∀ (k1_h32 : k1_cond32 i v25 v1512 = 1#1), ∀ a, (k1_off160 v1514 k1_t32) a + S1x16.size a ≤ S32x512.size a := fun i v25 v1512 v1514 k1_hw63 k1_t32 k1_h32 => k1_hw63.2.1 k1_t32 k1_h32
theorem k1_off162_inb : ∀ (i : grid1.Coords) (v25 : BitVec 32) (v1512 : BitVec 32) (v1514 : BitVec 32) (k1_hw63 : k1_chk63 i v25 v1512 v1514) (k1_t32 : Fin k1_t32_loop.trips), ∀ (k1_h32 : k1_cond32 i v25 v1512 = 1#1), ∀ a, (k1_off162 v1514 k1_t32) a + S1x16.size a ≤ S32x512.size a := fun i v25 v1512 v1514 k1_hw63 k1_t32 k1_h32 => k1_hw63.2.2 k1_t32 k1_h32

def k1_off163 (v1512 : BitVec 32) (k1_t32 : Fin k1_t32_loop.trips) : Fin 2 → Nat :=
  let c0_i32_569 : BitVec 32 := 0#32
  let v1516 : BitVec 1 := Scalar.cmpi .sgt v1512 c0_i32_569
  let v1517 : BitVec 32 := Scalar.extui v1516
  let c0_i32_570 : BitVec 32 := 0#32
  let v1518 : BitVec 1 := Scalar.cmpi .slt v1512 c0_i32_570
  let v1519 : BitVec 32 := Scalar.extui v1518
  let v1520 : BitVec 32 := Scalar.subi v1517 v1519
  let c16_i32_568 : BitVec 32 := 16#32
  let c0_i32_571 : BitVec 32 := 0#32
  let v1521 : BitVec 1 := Scalar.cmpi .sgt c16_i32_568 c0_i32_571
  let v1522 : BitVec 32 := Scalar.extui v1521
  let c0_i32_572 : BitVec 32 := 0#32
  let v1523 : BitVec 1 := Scalar.cmpi .slt c16_i32_568 c0_i32_572
  let v1524 : BitVec 32 := Scalar.extui v1523
  let v1525 : BitVec 32 := Scalar.subi v1522 v1524
  let v1526 : BitVec 1 := Scalar.cmpi .ne v1520 v1525
  let v1527 : BitVec 32 := Scalar.remsi v1512 c16_i32_568
  let c0_i32_573 : BitVec 32 := 0#32
  let v1528 : BitVec 1 := Scalar.cmpi .ne v1527 c0_i32_573
  let v1529 : BitVec 1 := Scalar.andi v1526 v1528
  let v1515 : BitVec 32 := Scalar.divsi v1512 c16_i32_568
  let c1_i32_574 : BitVec 32 := 1#32
  let v1530 : BitVec 32 := Scalar.subi v1515 c1_i32_574
  let v1531 : BitVec 32 := Scalar.select v1529 v1530 v1515
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1531 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t32
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1512 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk64 (i : grid1.Coords) (v25 : BitVec 32) (v1512 : BitVec 32) : Prop :=
  (∀ k1_t32 : Fin k1_t32_loop.trips, ∀ (k1_h32 : k1_cond32 i v25 v1512 = 1#1), ∀ a, (k1_off161 v1512 k1_t32) a + S1x16.size a ≤ S128x512.size a) ∧
  (∀ k1_t32 : Fin k1_t32_loop.trips, ∀ (k1_h32 : k1_cond32 i v25 v1512 = 1#1), ∀ a, (k1_off163 v1512 k1_t32) a + S1x16.size a ≤ S128x512.size a)
theorem k1_off161_inb : ∀ (i : grid1.Coords) (v25 : BitVec 32) (v1512 : BitVec 32) (k1_hw64 : k1_chk64 i v25 v1512) (k1_t32 : Fin k1_t32_loop.trips), ∀ (k1_h32 : k1_cond32 i v25 v1512 = 1#1), ∀ a, (k1_off161 v1512 k1_t32) a + S1x16.size a ≤ S128x512.size a := fun i v25 v1512 k1_hw64 k1_t32 k1_h32 => k1_hw64.1 k1_t32 k1_h32
theorem k1_off163_inb : ∀ (i : grid1.Coords) (v25 : BitVec 32) (v1512 : BitVec 32) (k1_hw64 : k1_chk64 i v25 v1512) (k1_t32 : Fin k1_t32_loop.trips), ∀ (k1_h32 : k1_cond32 i v25 v1512 = 1#1), ∀ a, (k1_off163 v1512 k1_t32) a + S1x16.size a ≤ S128x512.size a := fun i v25 v1512 k1_hw64 k1_t32 k1_h32 => k1_hw64.2 k1_t32 k1_h32

def k1_off164 (i : grid1.Coords) (c1_i32_290 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_310 : BitVec 32 := 3#32
  let v831 : BitVec 32 := Scalar.muli v18 c3_i32_310
  let c3_i32_289 : BitVec 32 := 3#32
  let v792 : BitVec 32 := Scalar.muli v1 c3_i32_289
  let v793 : BitVec 32 := Scalar.addi v792 c1_i32_290
  let c12_i32_291 : BitVec 32 := 12#32
  let c0_i32_292 : BitVec 32 := 0#32
  let v794 : BitVec 1 := Scalar.cmpi .eq c12_i32_291 c0_i32_292
  let c1_i32_293 : BitVec 32 := 1#32
  let v795 : BitVec 32 := Scalar.select v794 c1_i32_293 c12_i32_291
  let v796 : BitVec 32 := Scalar.remsi v793 v795
  let c0_i32_295 : BitVec 32 := 0#32
  let v798 : BitVec 1 := Scalar.cmpi .slt v796 c0_i32_295
  let c0_i32_296 : BitVec 32 := 0#32
  let v799 : BitVec 1 := Scalar.cmpi .slt v795 c0_i32_296
  let v800 : BitVec 1 := Scalar.xori v798 v799
  let c0_i32_294 : BitVec 32 := 0#32
  let v797 : BitVec 1 := Scalar.cmpi .ne v796 c0_i32_294
  let v801 : BitVec 1 := Scalar.andi v800 v797
  let v802 : BitVec 32 := Scalar.addi v796 v795
  let v803 : BitVec 32 := Scalar.select v801 v802 v796
  let c0_i32_298 : BitVec 32 := 0#32
  let v805 : BitVec 1 := Scalar.cmpi .sgt v803 c0_i32_298
  let v806 : BitVec 32 := Scalar.extui v805
  let c0_i32_299 : BitVec 32 := 0#32
  let v807 : BitVec 1 := Scalar.cmpi .slt v803 c0_i32_299
  let v808 : BitVec 32 := Scalar.extui v807
  let v809 : BitVec 32 := Scalar.subi v806 v808
  let c4_i32_297 : BitVec 32 := 4#32
  let c0_i32_300 : BitVec 32 := 0#32
  let v810 : BitVec 1 := Scalar.cmpi .sgt c4_i32_297 c0_i32_300
  let v811 : BitVec 32 := Scalar.extui v810
  let c0_i32_301 : BitVec 32 := 0#32
  let v812 : BitVec 1 := Scalar.cmpi .slt c4_i32_297 c0_i32_301
  let v813 : BitVec 32 := Scalar.extui v812
  let v814 : BitVec 32 := Scalar.subi v811 v813
  let v815 : BitVec 1 := Scalar.cmpi .ne v809 v814
  let v816 : BitVec 32 := Scalar.remsi v803 c4_i32_297
  let c0_i32_302 : BitVec 32 := 0#32
  let v817 : BitVec 1 := Scalar.cmpi .ne v816 c0_i32_302
  let v818 : BitVec 1 := Scalar.andi v815 v817
  let v804 : BitVec 32 := Scalar.divsi v803 c4_i32_297
  let c1_i32_303 : BitVec 32 := 1#32
  let v819 : BitVec 32 := Scalar.subi v804 c1_i32_303
  let v820 : BitVec 32 := Scalar.select v818 v819 v804
  let v832 : BitVec 32 := Scalar.addi v831 v820
  let c512_i32_311 : BitVec 32 := 512#32
  let v833 : BitVec 32 := Scalar.muli v832 c512_i32_311
  let c4_i32_304 : BitVec 32 := 4#32
  let c0_i32_305 : BitVec 32 := 0#32
  let v821 : BitVec 1 := Scalar.cmpi .eq c4_i32_304 c0_i32_305
  let c1_i32_306 : BitVec 32 := 1#32
  let v822 : BitVec 32 := Scalar.select v821 c1_i32_306 c4_i32_304
  let v823 : BitVec 32 := Scalar.remsi v793 v822
  let c0_i32_308 : BitVec 32 := 0#32
  let v825 : BitVec 1 := Scalar.cmpi .slt v823 c0_i32_308
  let c0_i32_309 : BitVec 32 := 0#32
  let v826 : BitVec 1 := Scalar.cmpi .slt v822 c0_i32_309
  let v827 : BitVec 1 := Scalar.xori v825 v826
  let c0_i32_307 : BitVec 32 := 0#32
  let v824 : BitVec 1 := Scalar.cmpi .ne v823 c0_i32_307
  let v828 : BitVec 1 := Scalar.andi v827 v824
  let v829 : BitVec 32 := Scalar.addi v823 v822
  let v830 : BitVec 32 := Scalar.select v828 v829 v823
  let c128_i32_312 : BitVec 32 := 128#32
  let v834 : BitVec 32 := Scalar.muli v830 c128_i32_312
  let v835 : BitVec 32 := Scalar.addi v833 v834
  let c0_i32_1427_r38 : BitVec 32 := 0#32
  ![v835.toNat, 0]
def k1_off165 (i : grid1.Coords) (v1631 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1631 c0_i32_1428
  let v3763 : BitVec 32 := Scalar.extui v3762
  let c0_i32_1429 : BitVec 32 := 0#32
  let v3764 : BitVec 1 := Scalar.cmpi .slt v1631 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1631 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1631 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r40 : BitVec 32 := 0#32
  ![v3779.toNat, 0]
def k1_cond33 (i : grid1.Coords) (v25 : BitVec 32) (v1629 : BitVec 32) : BitVec 1 :=
  let c0_i32_630 : BitVec 32 := 0#32
  let v1649 : BitVec 1 := Scalar.cmpi .sgt v25 c0_i32_630
  let c0_i32_624 : BitVec 32 := 0#32
  let v1633 : BitVec 1 := Scalar.cmpi .sgt v1629 c0_i32_624
  let v1634 : BitVec 32 := Scalar.extui v1633
  let c0_i32_625 : BitVec 32 := 0#32
  let v1635 : BitVec 1 := Scalar.cmpi .slt v1629 c0_i32_625
  let v1636 : BitVec 32 := Scalar.extui v1635
  let v1637 : BitVec 32 := Scalar.subi v1634 v1636
  let c16_i32_623 : BitVec 32 := 16#32
  let c0_i32_626 : BitVec 32 := 0#32
  let v1638 : BitVec 1 := Scalar.cmpi .sgt c16_i32_623 c0_i32_626
  let v1639 : BitVec 32 := Scalar.extui v1638
  let c0_i32_627 : BitVec 32 := 0#32
  let v1640 : BitVec 1 := Scalar.cmpi .slt c16_i32_623 c0_i32_627
  let v1641 : BitVec 32 := Scalar.extui v1640
  let v1642 : BitVec 32 := Scalar.subi v1639 v1641
  let v1643 : BitVec 1 := Scalar.cmpi .ne v1637 v1642
  let v1644 : BitVec 32 := Scalar.remsi v1629 c16_i32_623
  let c0_i32_628 : BitVec 32 := 0#32
  let v1645 : BitVec 1 := Scalar.cmpi .ne v1644 c0_i32_628
  let v1646 : BitVec 1 := Scalar.andi v1643 v1645
  let v1632 : BitVec 32 := Scalar.divsi v1629 c16_i32_623
  let c1_i32_629 : BitVec 32 := 1#32
  let v1647 : BitVec 32 := Scalar.subi v1632 c1_i32_629
  let v1648 : BitVec 32 := Scalar.select v1646 v1647 v1632
  let c0_i32_632 : BitVec 32 := 0#32
  let v1651 : BitVec 1 := Scalar.cmpi .sgt v1648 c0_i32_632
  let v1652 : BitVec 32 := Scalar.extui v1651
  let c0_i32_633 : BitVec 32 := 0#32
  let v1653 : BitVec 1 := Scalar.cmpi .slt v1648 c0_i32_633
  let v1654 : BitVec 32 := Scalar.extui v1653
  let v1655 : BitVec 32 := Scalar.subi v1652 v1654
  let c4_i32_631 : BitVec 32 := 4#32
  let c0_i32_634 : BitVec 32 := 0#32
  let v1656 : BitVec 1 := Scalar.cmpi .sgt c4_i32_631 c0_i32_634
  let v1657 : BitVec 32 := Scalar.extui v1656
  let c0_i32_635 : BitVec 32 := 0#32
  let v1658 : BitVec 1 := Scalar.cmpi .slt c4_i32_631 c0_i32_635
  let v1659 : BitVec 32 := Scalar.extui v1658
  let v1660 : BitVec 32 := Scalar.subi v1657 v1659
  let v1661 : BitVec 1 := Scalar.cmpi .ne v1655 v1660
  let v1662 : BitVec 32 := Scalar.remsi v1648 c4_i32_631
  let c0_i32_636 : BitVec 32 := 0#32
  let v1663 : BitVec 1 := Scalar.cmpi .ne v1662 c0_i32_636
  let v1664 : BitVec 1 := Scalar.andi v1661 v1663
  let v1650 : BitVec 32 := Scalar.divsi v1648 c4_i32_631
  let c1_i32_637 : BitVec 32 := 1#32
  let v1665 : BitVec 32 := Scalar.subi v1650 c1_i32_637
  let v1666 : BitVec 32 := Scalar.select v1664 v1665 v1650
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1667 : BitVec 1 := Scalar.cmpi .eq v1666 v1627
  let v1668 : BitVec 1 := Scalar.andi v1649 v1667
  let v1669 : BitVec 32 := Scalar.extui v1668
  let c0_i32_638 : BitVec 32 := 0#32
  let v1670 : BitVec 1 := Scalar.cmpi .ne v1669 c0_i32_638
  v1670

@[reducible] def k1_t33_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off166 (v1631 : BitVec 32) (k1_t33 : Fin k1_t33_loop.trips) : Fin 2 → Nat :=
  let c0_i32_1453 : BitVec 32 := 0#32
  let c1_i32_1455 : BitVec 32 := 1#32
  let arg19 : BitVec 32 := Scf.iv c0_i32_1453 c1_i32_1455 k1_t33
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1631 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off167 (v1629 : BitVec 32) (k1_t33 : Fin k1_t33_loop.trips) : Fin 2 → Nat :=
  let c0_i32_624 : BitVec 32 := 0#32
  let v1633 : BitVec 1 := Scalar.cmpi .sgt v1629 c0_i32_624
  let v1634 : BitVec 32 := Scalar.extui v1633
  let c0_i32_625 : BitVec 32 := 0#32
  let v1635 : BitVec 1 := Scalar.cmpi .slt v1629 c0_i32_625
  let v1636 : BitVec 32 := Scalar.extui v1635
  let v1637 : BitVec 32 := Scalar.subi v1634 v1636
  let c16_i32_623 : BitVec 32 := 16#32
  let c0_i32_626 : BitVec 32 := 0#32
  let v1638 : BitVec 1 := Scalar.cmpi .sgt c16_i32_623 c0_i32_626
  let v1639 : BitVec 32 := Scalar.extui v1638
  let c0_i32_627 : BitVec 32 := 0#32
  let v1640 : BitVec 1 := Scalar.cmpi .slt c16_i32_623 c0_i32_627
  let v1641 : BitVec 32 := Scalar.extui v1640
  let v1642 : BitVec 32 := Scalar.subi v1639 v1641
  let v1643 : BitVec 1 := Scalar.cmpi .ne v1637 v1642
  let v1644 : BitVec 32 := Scalar.remsi v1629 c16_i32_623
  let c0_i32_628 : BitVec 32 := 0#32
  let v1645 : BitVec 1 := Scalar.cmpi .ne v1644 c0_i32_628
  let v1646 : BitVec 1 := Scalar.andi v1643 v1645
  let v1632 : BitVec 32 := Scalar.divsi v1629 c16_i32_623
  let c1_i32_629 : BitVec 32 := 1#32
  let v1647 : BitVec 32 := Scalar.subi v1632 c1_i32_629
  let v1648 : BitVec 32 := Scalar.select v1646 v1647 v1632
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1648 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t33
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1629 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off168 (v1631 : BitVec 32) (k1_t33 : Fin k1_t33_loop.trips) : Fin 2 → Nat :=
  let c0_i32_1453 : BitVec 32 := 0#32
  let c1_i32_1455 : BitVec 32 := 1#32
  let arg19 : BitVec 32 := Scf.iv c0_i32_1453 c1_i32_1455 k1_t33
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1631 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk65 (i : grid1.Coords) (v25 : BitVec 32) (v1629 : BitVec 32) (v1631 : BitVec 32) : Prop :=
  (∀ (k1_h33 : k1_cond33 i v25 v1629 = 1#1), ∀ a, (k1_off165 i v1631) a + S32x512.size a ≤ S12288x512.size a) ∧
  (∀ k1_t33 : Fin k1_t33_loop.trips, ∀ (k1_h33 : k1_cond33 i v25 v1629 = 1#1), ∀ a, (k1_off166 v1631 k1_t33) a + S1x16.size a ≤ S32x512.size a) ∧
  (∀ k1_t33 : Fin k1_t33_loop.trips, ∀ (k1_h33 : k1_cond33 i v25 v1629 = 1#1), ∀ a, (k1_off168 v1631 k1_t33) a + S1x16.size a ≤ S32x512.size a)
theorem k1_off165_inb : ∀ (i : grid1.Coords) (v25 : BitVec 32) (v1629 : BitVec 32) (v1631 : BitVec 32) (k1_hw65 : k1_chk65 i v25 v1629 v1631), ∀ (k1_h33 : k1_cond33 i v25 v1629 = 1#1), ∀ a, (k1_off165 i v1631) a + S32x512.size a ≤ S12288x512.size a := fun i v25 v1629 v1631 k1_hw65 k1_h33 => k1_hw65.1 k1_h33
theorem k1_off166_inb : ∀ (i : grid1.Coords) (v25 : BitVec 32) (v1629 : BitVec 32) (v1631 : BitVec 32) (k1_hw65 : k1_chk65 i v25 v1629 v1631) (k1_t33 : Fin k1_t33_loop.trips), ∀ (k1_h33 : k1_cond33 i v25 v1629 = 1#1), ∀ a, (k1_off166 v1631 k1_t33) a + S1x16.size a ≤ S32x512.size a := fun i v25 v1629 v1631 k1_hw65 k1_t33 k1_h33 => k1_hw65.2.1 k1_t33 k1_h33
theorem k1_off168_inb : ∀ (i : grid1.Coords) (v25 : BitVec 32) (v1629 : BitVec 32) (v1631 : BitVec 32) (k1_hw65 : k1_chk65 i v25 v1629 v1631) (k1_t33 : Fin k1_t33_loop.trips), ∀ (k1_h33 : k1_cond33 i v25 v1629 = 1#1), ∀ a, (k1_off168 v1631 k1_t33) a + S1x16.size a ≤ S32x512.size a := fun i v25 v1629 v1631 k1_hw65 k1_t33 k1_h33 => k1_hw65.2.2 k1_t33 k1_h33

def k1_off169 (v1629 : BitVec 32) (k1_t33 : Fin k1_t33_loop.trips) : Fin 2 → Nat :=
  let c0_i32_624 : BitVec 32 := 0#32
  let v1633 : BitVec 1 := Scalar.cmpi .sgt v1629 c0_i32_624
  let v1634 : BitVec 32 := Scalar.extui v1633
  let c0_i32_625 : BitVec 32 := 0#32
  let v1635 : BitVec 1 := Scalar.cmpi .slt v1629 c0_i32_625
  let v1636 : BitVec 32 := Scalar.extui v1635
  let v1637 : BitVec 32 := Scalar.subi v1634 v1636
  let c16_i32_623 : BitVec 32 := 16#32
  let c0_i32_626 : BitVec 32 := 0#32
  let v1638 : BitVec 1 := Scalar.cmpi .sgt c16_i32_623 c0_i32_626
  let v1639 : BitVec 32 := Scalar.extui v1638
  let c0_i32_627 : BitVec 32 := 0#32
  let v1640 : BitVec 1 := Scalar.cmpi .slt c16_i32_623 c0_i32_627
  let v1641 : BitVec 32 := Scalar.extui v1640
  let v1642 : BitVec 32 := Scalar.subi v1639 v1641
  let v1643 : BitVec 1 := Scalar.cmpi .ne v1637 v1642
  let v1644 : BitVec 32 := Scalar.remsi v1629 c16_i32_623
  let c0_i32_628 : BitVec 32 := 0#32
  let v1645 : BitVec 1 := Scalar.cmpi .ne v1644 c0_i32_628
  let v1646 : BitVec 1 := Scalar.andi v1643 v1645
  let v1632 : BitVec 32 := Scalar.divsi v1629 c16_i32_623
  let c1_i32_629 : BitVec 32 := 1#32
  let v1647 : BitVec 32 := Scalar.subi v1632 c1_i32_629
  let v1648 : BitVec 32 := Scalar.select v1646 v1647 v1632
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1648 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t33
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1629 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk66 (i : grid1.Coords) (v25 : BitVec 32) (v1629 : BitVec 32) : Prop :=
  (∀ k1_t33 : Fin k1_t33_loop.trips, ∀ (k1_h33 : k1_cond33 i v25 v1629 = 1#1), ∀ a, (k1_off167 v1629 k1_t33) a + S1x16.size a ≤ S128x512.size a) ∧
  (∀ k1_t33 : Fin k1_t33_loop.trips, ∀ (k1_h33 : k1_cond33 i v25 v1629 = 1#1), ∀ a, (k1_off169 v1629 k1_t33) a + S1x16.size a ≤ S128x512.size a)
theorem k1_off167_inb : ∀ (i : grid1.Coords) (v25 : BitVec 32) (v1629 : BitVec 32) (k1_hw66 : k1_chk66 i v25 v1629) (k1_t33 : Fin k1_t33_loop.trips), ∀ (k1_h33 : k1_cond33 i v25 v1629 = 1#1), ∀ a, (k1_off167 v1629 k1_t33) a + S1x16.size a ≤ S128x512.size a := fun i v25 v1629 k1_hw66 k1_t33 k1_h33 => k1_hw66.1 k1_t33 k1_h33
theorem k1_off169_inb : ∀ (i : grid1.Coords) (v25 : BitVec 32) (v1629 : BitVec 32) (k1_hw66 : k1_chk66 i v25 v1629) (k1_t33 : Fin k1_t33_loop.trips), ∀ (k1_h33 : k1_cond33 i v25 v1629 = 1#1), ∀ a, (k1_off169 v1629 k1_t33) a + S1x16.size a ≤ S128x512.size a := fun i v25 v1629 k1_hw66 k1_t33 k1_h33 => k1_hw66.2 k1_t33 k1_h33

def k1_off170 (i : grid1.Coords) (v1674 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1674 c0_i32_1428
  let v3763 : BitVec 32 := Scalar.extui v3762
  let c0_i32_1429 : BitVec 32 := 0#32
  let v3764 : BitVec 1 := Scalar.cmpi .slt v1674 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1674 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1674 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r41 : BitVec 32 := 0#32
  ![v3779.toNat, 0]
def k1_cond34 (i : grid1.Coords) (v25 : BitVec 32) (v1672 : BitVec 32) : BitVec 1 :=
  let c1_i32_646 : BitVec 32 := 1#32
  let v1692 : BitVec 1 := Scalar.cmpi .sgt v25 c1_i32_646
  let c0_i32_640 : BitVec 32 := 0#32
  let v1676 : BitVec 1 := Scalar.cmpi .sgt v1672 c0_i32_640
  let v1677 : BitVec 32 := Scalar.extui v1676
  let c0_i32_641 : BitVec 32 := 0#32
  let v1678 : BitVec 1 := Scalar.cmpi .slt v1672 c0_i32_641
  let v1679 : BitVec 32 := Scalar.extui v1678
  let v1680 : BitVec 32 := Scalar.subi v1677 v1679
  let c16_i32_639 : BitVec 32 := 16#32
  let c0_i32_642 : BitVec 32 := 0#32
  let v1681 : BitVec 1 := Scalar.cmpi .sgt c16_i32_639 c0_i32_642
  let v1682 : BitVec 32 := Scalar.extui v1681
  let c0_i32_643 : BitVec 32 := 0#32
  let v1683 : BitVec 1 := Scalar.cmpi .slt c16_i32_639 c0_i32_643
  let v1684 : BitVec 32 := Scalar.extui v1683
  let v1685 : BitVec 32 := Scalar.subi v1682 v1684
  let v1686 : BitVec 1 := Scalar.cmpi .ne v1680 v1685
  let v1687 : BitVec 32 := Scalar.remsi v1672 c16_i32_639
  let c0_i32_644 : BitVec 32 := 0#32
  let v1688 : BitVec 1 := Scalar.cmpi .ne v1687 c0_i32_644
  let v1689 : BitVec 1 := Scalar.andi v1686 v1688
  let v1675 : BitVec 32 := Scalar.divsi v1672 c16_i32_639
  let c1_i32_645 : BitVec 32 := 1#32
  let v1690 : BitVec 32 := Scalar.subi v1675 c1_i32_645
  let v1691 : BitVec 32 := Scalar.select v1689 v1690 v1675
  let c0_i32_648 : BitVec 32 := 0#32
  let v1694 : BitVec 1 := Scalar.cmpi .sgt v1691 c0_i32_648
  let v1695 : BitVec 32 := Scalar.extui v1694
  let c0_i32_649 : BitVec 32 := 0#32
  let v1696 : BitVec 1 := Scalar.cmpi .slt v1691 c0_i32_649
  let v1697 : BitVec 32 := Scalar.extui v1696
  let v1698 : BitVec 32 := Scalar.subi v1695 v1697
  let c4_i32_647 : BitVec 32 := 4#32
  let c0_i32_650 : BitVec 32 := 0#32
  let v1699 : BitVec 1 := Scalar.cmpi .sgt c4_i32_647 c0_i32_650
  let v1700 : BitVec 32 := Scalar.extui v1699
  let c0_i32_651 : BitVec 32 := 0#32
  let v1701 : BitVec 1 := Scalar.cmpi .slt c4_i32_647 c0_i32_651
  let v1702 : BitVec 32 := Scalar.extui v1701
  let v1703 : BitVec 32 := Scalar.subi v1700 v1702
  let v1704 : BitVec 1 := Scalar.cmpi .ne v1698 v1703
  let v1705 : BitVec 32 := Scalar.remsi v1691 c4_i32_647
  let c0_i32_652 : BitVec 32 := 0#32
  let v1706 : BitVec 1 := Scalar.cmpi .ne v1705 c0_i32_652
  let v1707 : BitVec 1 := Scalar.andi v1704 v1706
  let v1693 : BitVec 32 := Scalar.divsi v1691 c4_i32_647
  let c1_i32_653 : BitVec 32 := 1#32
  let v1708 : BitVec 32 := Scalar.subi v1693 c1_i32_653
  let v1709 : BitVec 32 := Scalar.select v1707 v1708 v1693
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1710 : BitVec 1 := Scalar.cmpi .eq v1709 v1627
  let v1711 : BitVec 1 := Scalar.andi v1692 v1710
  let v1712 : BitVec 32 := Scalar.extui v1711
  let c0_i32_654 : BitVec 32 := 0#32
  let v1713 : BitVec 1 := Scalar.cmpi .ne v1712 c0_i32_654
  v1713

@[reducible] def k1_t34_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off171 (v1674 : BitVec 32) (k1_t34 : Fin k1_t34_loop.trips) : Fin 2 → Nat :=
  let c0_i32_1453 : BitVec 32 := 0#32
  let c1_i32_1455 : BitVec 32 := 1#32
  let arg19 : BitVec 32 := Scf.iv c0_i32_1453 c1_i32_1455 k1_t34
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1674 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off172 (v1672 : BitVec 32) (k1_t34 : Fin k1_t34_loop.trips) : Fin 2 → Nat :=
  let c0_i32_640 : BitVec 32 := 0#32
  let v1676 : BitVec 1 := Scalar.cmpi .sgt v1672 c0_i32_640
  let v1677 : BitVec 32 := Scalar.extui v1676
  let c0_i32_641 : BitVec 32 := 0#32
  let v1678 : BitVec 1 := Scalar.cmpi .slt v1672 c0_i32_641
  let v1679 : BitVec 32 := Scalar.extui v1678
  let v1680 : BitVec 32 := Scalar.subi v1677 v1679
  let c16_i32_639 : BitVec 32 := 16#32
  let c0_i32_642 : BitVec 32 := 0#32
  let v1681 : BitVec 1 := Scalar.cmpi .sgt c16_i32_639 c0_i32_642
  let v1682 : BitVec 32 := Scalar.extui v1681
  let c0_i32_643 : BitVec 32 := 0#32
  let v1683 : BitVec 1 := Scalar.cmpi .slt c16_i32_639 c0_i32_643
  let v1684 : BitVec 32 := Scalar.extui v1683
  let v1685 : BitVec 32 := Scalar.subi v1682 v1684
  let v1686 : BitVec 1 := Scalar.cmpi .ne v1680 v1685
  let v1687 : BitVec 32 := Scalar.remsi v1672 c16_i32_639
  let c0_i32_644 : BitVec 32 := 0#32
  let v1688 : BitVec 1 := Scalar.cmpi .ne v1687 c0_i32_644
  let v1689 : BitVec 1 := Scalar.andi v1686 v1688
  let v1675 : BitVec 32 := Scalar.divsi v1672 c16_i32_639
  let c1_i32_645 : BitVec 32 := 1#32
  let v1690 : BitVec 32 := Scalar.subi v1675 c1_i32_645
  let v1691 : BitVec 32 := Scalar.select v1689 v1690 v1675
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1691 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t34
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1672 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off173 (v1674 : BitVec 32) (k1_t34 : Fin k1_t34_loop.trips) : Fin 2 → Nat :=
  let c0_i32_1453 : BitVec 32 := 0#32
  let c1_i32_1455 : BitVec 32 := 1#32
  let arg19 : BitVec 32 := Scf.iv c0_i32_1453 c1_i32_1455 k1_t34
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1674 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk67 (i : grid1.Coords) (v25 : BitVec 32) (v1672 : BitVec 32) (v1674 : BitVec 32) : Prop :=
  (∀ (k1_h34 : k1_cond34 i v25 v1672 = 1#1), ∀ a, (k1_off170 i v1674) a + S32x512.size a ≤ S12288x512.size a) ∧
  (∀ k1_t34 : Fin k1_t34_loop.trips, ∀ (k1_h34 : k1_cond34 i v25 v1672 = 1#1), ∀ a, (k1_off171 v1674 k1_t34) a + S1x16.size a ≤ S32x512.size a) ∧
  (∀ k1_t34 : Fin k1_t34_loop.trips, ∀ (k1_h34 : k1_cond34 i v25 v1672 = 1#1), ∀ a, (k1_off173 v1674 k1_t34) a + S1x16.size a ≤ S32x512.size a)
theorem k1_off170_inb : ∀ (i : grid1.Coords) (v25 : BitVec 32) (v1672 : BitVec 32) (v1674 : BitVec 32) (k1_hw67 : k1_chk67 i v25 v1672 v1674), ∀ (k1_h34 : k1_cond34 i v25 v1672 = 1#1), ∀ a, (k1_off170 i v1674) a + S32x512.size a ≤ S12288x512.size a := fun i v25 v1672 v1674 k1_hw67 k1_h34 => k1_hw67.1 k1_h34
theorem k1_off171_inb : ∀ (i : grid1.Coords) (v25 : BitVec 32) (v1672 : BitVec 32) (v1674 : BitVec 32) (k1_hw67 : k1_chk67 i v25 v1672 v1674) (k1_t34 : Fin k1_t34_loop.trips), ∀ (k1_h34 : k1_cond34 i v25 v1672 = 1#1), ∀ a, (k1_off171 v1674 k1_t34) a + S1x16.size a ≤ S32x512.size a := fun i v25 v1672 v1674 k1_hw67 k1_t34 k1_h34 => k1_hw67.2.1 k1_t34 k1_h34
theorem k1_off173_inb : ∀ (i : grid1.Coords) (v25 : BitVec 32) (v1672 : BitVec 32) (v1674 : BitVec 32) (k1_hw67 : k1_chk67 i v25 v1672 v1674) (k1_t34 : Fin k1_t34_loop.trips), ∀ (k1_h34 : k1_cond34 i v25 v1672 = 1#1), ∀ a, (k1_off173 v1674 k1_t34) a + S1x16.size a ≤ S32x512.size a := fun i v25 v1672 v1674 k1_hw67 k1_t34 k1_h34 => k1_hw67.2.2 k1_t34 k1_h34

def k1_off174 (v1672 : BitVec 32) (k1_t34 : Fin k1_t34_loop.trips) : Fin 2 → Nat :=
  let c0_i32_640 : BitVec 32 := 0#32
  let v1676 : BitVec 1 := Scalar.cmpi .sgt v1672 c0_i32_640
  let v1677 : BitVec 32 := Scalar.extui v1676
  let c0_i32_641 : BitVec 32 := 0#32
  let v1678 : BitVec 1 := Scalar.cmpi .slt v1672 c0_i32_641
  let v1679 : BitVec 32 := Scalar.extui v1678
  let v1680 : BitVec 32 := Scalar.subi v1677 v1679
  let c16_i32_639 : BitVec 32 := 16#32
  let c0_i32_642 : BitVec 32 := 0#32
  let v1681 : BitVec 1 := Scalar.cmpi .sgt c16_i32_639 c0_i32_642
  let v1682 : BitVec 32 := Scalar.extui v1681
  let c0_i32_643 : BitVec 32 := 0#32
  let v1683 : BitVec 1 := Scalar.cmpi .slt c16_i32_639 c0_i32_643
  let v1684 : BitVec 32 := Scalar.extui v1683
  let v1685 : BitVec 32 := Scalar.subi v1682 v1684
  let v1686 : BitVec 1 := Scalar.cmpi .ne v1680 v1685
  let v1687 : BitVec 32 := Scalar.remsi v1672 c16_i32_639
  let c0_i32_644 : BitVec 32 := 0#32
  let v1688 : BitVec 1 := Scalar.cmpi .ne v1687 c0_i32_644
  let v1689 : BitVec 1 := Scalar.andi v1686 v1688
  let v1675 : BitVec 32 := Scalar.divsi v1672 c16_i32_639
  let c1_i32_645 : BitVec 32 := 1#32
  let v1690 : BitVec 32 := Scalar.subi v1675 c1_i32_645
  let v1691 : BitVec 32 := Scalar.select v1689 v1690 v1675
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1691 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t34
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1672 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk68 (i : grid1.Coords) (v25 : BitVec 32) (v1672 : BitVec 32) : Prop :=
  (∀ k1_t34 : Fin k1_t34_loop.trips, ∀ (k1_h34 : k1_cond34 i v25 v1672 = 1#1), ∀ a, (k1_off172 v1672 k1_t34) a + S1x16.size a ≤ S128x512.size a) ∧
  (∀ k1_t34 : Fin k1_t34_loop.trips, ∀ (k1_h34 : k1_cond34 i v25 v1672 = 1#1), ∀ a, (k1_off174 v1672 k1_t34) a + S1x16.size a ≤ S128x512.size a)
theorem k1_off172_inb : ∀ (i : grid1.Coords) (v25 : BitVec 32) (v1672 : BitVec 32) (k1_hw68 : k1_chk68 i v25 v1672) (k1_t34 : Fin k1_t34_loop.trips), ∀ (k1_h34 : k1_cond34 i v25 v1672 = 1#1), ∀ a, (k1_off172 v1672 k1_t34) a + S1x16.size a ≤ S128x512.size a := fun i v25 v1672 k1_hw68 k1_t34 k1_h34 => k1_hw68.1 k1_t34 k1_h34
theorem k1_off174_inb : ∀ (i : grid1.Coords) (v25 : BitVec 32) (v1672 : BitVec 32) (k1_hw68 : k1_chk68 i v25 v1672) (k1_t34 : Fin k1_t34_loop.trips), ∀ (k1_h34 : k1_cond34 i v25 v1672 = 1#1), ∀ a, (k1_off174 v1672 k1_t34) a + S1x16.size a ≤ S128x512.size a := fun i v25 v1672 k1_hw68 k1_t34 k1_h34 => k1_hw68.2 k1_t34 k1_h34

def k1_off175 (i : grid1.Coords) (v1717 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1717 c0_i32_1428
  let v3763 : BitVec 32 := Scalar.extui v3762
  let c0_i32_1429 : BitVec 32 := 0#32
  let v3764 : BitVec 1 := Scalar.cmpi .slt v1717 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1717 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1717 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r42 : BitVec 32 := 0#32
  ![v3779.toNat, 0]
def k1_cond35 (i : grid1.Coords) (v25 : BitVec 32) (v1715 : BitVec 32) : BitVec 1 :=
  let c2_i32_662 : BitVec 32 := 2#32
  let v1735 : BitVec 1 := Scalar.cmpi .sgt v25 c2_i32_662
  let c0_i32_656 : BitVec 32 := 0#32
  let v1719 : BitVec 1 := Scalar.cmpi .sgt v1715 c0_i32_656
  let v1720 : BitVec 32 := Scalar.extui v1719
  let c0_i32_657 : BitVec 32 := 0#32
  let v1721 : BitVec 1 := Scalar.cmpi .slt v1715 c0_i32_657
  let v1722 : BitVec 32 := Scalar.extui v1721
  let v1723 : BitVec 32 := Scalar.subi v1720 v1722
  let c16_i32_655 : BitVec 32 := 16#32
  let c0_i32_658 : BitVec 32 := 0#32
  let v1724 : BitVec 1 := Scalar.cmpi .sgt c16_i32_655 c0_i32_658
  let v1725 : BitVec 32 := Scalar.extui v1724
  let c0_i32_659 : BitVec 32 := 0#32
  let v1726 : BitVec 1 := Scalar.cmpi .slt c16_i32_655 c0_i32_659
  let v1727 : BitVec 32 := Scalar.extui v1726
  let v1728 : BitVec 32 := Scalar.subi v1725 v1727
  let v1729 : BitVec 1 := Scalar.cmpi .ne v1723 v1728
  let v1730 : BitVec 32 := Scalar.remsi v1715 c16_i32_655
  let c0_i32_660 : BitVec 32 := 0#32
  let v1731 : BitVec 1 := Scalar.cmpi .ne v1730 c0_i32_660
  let v1732 : BitVec 1 := Scalar.andi v1729 v1731
  let v1718 : BitVec 32 := Scalar.divsi v1715 c16_i32_655
  let c1_i32_661 : BitVec 32 := 1#32
  let v1733 : BitVec 32 := Scalar.subi v1718 c1_i32_661
  let v1734 : BitVec 32 := Scalar.select v1732 v1733 v1718
  let c0_i32_664 : BitVec 32 := 0#32
  let v1737 : BitVec 1 := Scalar.cmpi .sgt v1734 c0_i32_664
  let v1738 : BitVec 32 := Scalar.extui v1737
  let c0_i32_665 : BitVec 32 := 0#32
  let v1739 : BitVec 1 := Scalar.cmpi .slt v1734 c0_i32_665
  let v1740 : BitVec 32 := Scalar.extui v1739
  let v1741 : BitVec 32 := Scalar.subi v1738 v1740
  let c4_i32_663 : BitVec 32 := 4#32
  let c0_i32_666 : BitVec 32 := 0#32
  let v1742 : BitVec 1 := Scalar.cmpi .sgt c4_i32_663 c0_i32_666
  let v1743 : BitVec 32 := Scalar.extui v1742
  let c0_i32_667 : BitVec 32 := 0#32
  let v1744 : BitVec 1 := Scalar.cmpi .slt c4_i32_663 c0_i32_667
  let v1745 : BitVec 32 := Scalar.extui v1744
  let v1746 : BitVec 32 := Scalar.subi v1743 v1745
  let v1747 : BitVec 1 := Scalar.cmpi .ne v1741 v1746
  let v1748 : BitVec 32 := Scalar.remsi v1734 c4_i32_663
  let c0_i32_668 : BitVec 32 := 0#32
  let v1749 : BitVec 1 := Scalar.cmpi .ne v1748 c0_i32_668
  let v1750 : BitVec 1 := Scalar.andi v1747 v1749
  let v1736 : BitVec 32 := Scalar.divsi v1734 c4_i32_663
  let c1_i32_669 : BitVec 32 := 1#32
  let v1751 : BitVec 32 := Scalar.subi v1736 c1_i32_669
  let v1752 : BitVec 32 := Scalar.select v1750 v1751 v1736
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1753 : BitVec 1 := Scalar.cmpi .eq v1752 v1627
  let v1754 : BitVec 1 := Scalar.andi v1735 v1753
  let v1755 : BitVec 32 := Scalar.extui v1754
  let c0_i32_670 : BitVec 32 := 0#32
  let v1756 : BitVec 1 := Scalar.cmpi .ne v1755 c0_i32_670
  v1756

@[reducible] def k1_t35_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off176 (v1717 : BitVec 32) (k1_t35 : Fin k1_t35_loop.trips) : Fin 2 → Nat :=
  let c0_i32_1453 : BitVec 32 := 0#32
  let c1_i32_1455 : BitVec 32 := 1#32
  let arg19 : BitVec 32 := Scf.iv c0_i32_1453 c1_i32_1455 k1_t35
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1717 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off177 (v1715 : BitVec 32) (k1_t35 : Fin k1_t35_loop.trips) : Fin 2 → Nat :=
  let c0_i32_656 : BitVec 32 := 0#32
  let v1719 : BitVec 1 := Scalar.cmpi .sgt v1715 c0_i32_656
  let v1720 : BitVec 32 := Scalar.extui v1719
  let c0_i32_657 : BitVec 32 := 0#32
  let v1721 : BitVec 1 := Scalar.cmpi .slt v1715 c0_i32_657
  let v1722 : BitVec 32 := Scalar.extui v1721
  let v1723 : BitVec 32 := Scalar.subi v1720 v1722
  let c16_i32_655 : BitVec 32 := 16#32
  let c0_i32_658 : BitVec 32 := 0#32
  let v1724 : BitVec 1 := Scalar.cmpi .sgt c16_i32_655 c0_i32_658
  let v1725 : BitVec 32 := Scalar.extui v1724
  let c0_i32_659 : BitVec 32 := 0#32
  let v1726 : BitVec 1 := Scalar.cmpi .slt c16_i32_655 c0_i32_659
  let v1727 : BitVec 32 := Scalar.extui v1726
  let v1728 : BitVec 32 := Scalar.subi v1725 v1727
  let v1729 : BitVec 1 := Scalar.cmpi .ne v1723 v1728
  let v1730 : BitVec 32 := Scalar.remsi v1715 c16_i32_655
  let c0_i32_660 : BitVec 32 := 0#32
  let v1731 : BitVec 1 := Scalar.cmpi .ne v1730 c0_i32_660
  let v1732 : BitVec 1 := Scalar.andi v1729 v1731
  let v1718 : BitVec 32 := Scalar.divsi v1715 c16_i32_655
  let c1_i32_661 : BitVec 32 := 1#32
  let v1733 : BitVec 32 := Scalar.subi v1718 c1_i32_661
  let v1734 : BitVec 32 := Scalar.select v1732 v1733 v1718
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1734 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t35
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1715 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off178 (v1717 : BitVec 32) (k1_t35 : Fin k1_t35_loop.trips) : Fin 2 → Nat :=
  let c0_i32_1453 : BitVec 32 := 0#32
  let c1_i32_1455 : BitVec 32 := 1#32
  let arg19 : BitVec 32 := Scf.iv c0_i32_1453 c1_i32_1455 k1_t35
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1717 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk69 (i : grid1.Coords) (v25 : BitVec 32) (v1715 : BitVec 32) (v1717 : BitVec 32) : Prop :=
  (∀ (k1_h35 : k1_cond35 i v25 v1715 = 1#1), ∀ a, (k1_off175 i v1717) a + S32x512.size a ≤ S12288x512.size a) ∧
  (∀ k1_t35 : Fin k1_t35_loop.trips, ∀ (k1_h35 : k1_cond35 i v25 v1715 = 1#1), ∀ a, (k1_off176 v1717 k1_t35) a + S1x16.size a ≤ S32x512.size a) ∧
  (∀ k1_t35 : Fin k1_t35_loop.trips, ∀ (k1_h35 : k1_cond35 i v25 v1715 = 1#1), ∀ a, (k1_off178 v1717 k1_t35) a + S1x16.size a ≤ S32x512.size a)
theorem k1_off175_inb : ∀ (i : grid1.Coords) (v25 : BitVec 32) (v1715 : BitVec 32) (v1717 : BitVec 32) (k1_hw69 : k1_chk69 i v25 v1715 v1717), ∀ (k1_h35 : k1_cond35 i v25 v1715 = 1#1), ∀ a, (k1_off175 i v1717) a + S32x512.size a ≤ S12288x512.size a := fun i v25 v1715 v1717 k1_hw69 k1_h35 => k1_hw69.1 k1_h35
theorem k1_off176_inb : ∀ (i : grid1.Coords) (v25 : BitVec 32) (v1715 : BitVec 32) (v1717 : BitVec 32) (k1_hw69 : k1_chk69 i v25 v1715 v1717) (k1_t35 : Fin k1_t35_loop.trips), ∀ (k1_h35 : k1_cond35 i v25 v1715 = 1#1), ∀ a, (k1_off176 v1717 k1_t35) a + S1x16.size a ≤ S32x512.size a := fun i v25 v1715 v1717 k1_hw69 k1_t35 k1_h35 => k1_hw69.2.1 k1_t35 k1_h35
theorem k1_off178_inb : ∀ (i : grid1.Coords) (v25 : BitVec 32) (v1715 : BitVec 32) (v1717 : BitVec 32) (k1_hw69 : k1_chk69 i v25 v1715 v1717) (k1_t35 : Fin k1_t35_loop.trips), ∀ (k1_h35 : k1_cond35 i v25 v1715 = 1#1), ∀ a, (k1_off178 v1717 k1_t35) a + S1x16.size a ≤ S32x512.size a := fun i v25 v1715 v1717 k1_hw69 k1_t35 k1_h35 => k1_hw69.2.2 k1_t35 k1_h35

def k1_off179 (v1715 : BitVec 32) (k1_t35 : Fin k1_t35_loop.trips) : Fin 2 → Nat :=
  let c0_i32_656 : BitVec 32 := 0#32
  let v1719 : BitVec 1 := Scalar.cmpi .sgt v1715 c0_i32_656
  let v1720 : BitVec 32 := Scalar.extui v1719
  let c0_i32_657 : BitVec 32 := 0#32
  let v1721 : BitVec 1 := Scalar.cmpi .slt v1715 c0_i32_657
  let v1722 : BitVec 32 := Scalar.extui v1721
  let v1723 : BitVec 32 := Scalar.subi v1720 v1722
  let c16_i32_655 : BitVec 32 := 16#32
  let c0_i32_658 : BitVec 32 := 0#32
  let v1724 : BitVec 1 := Scalar.cmpi .sgt c16_i32_655 c0_i32_658
  let v1725 : BitVec 32 := Scalar.extui v1724
  let c0_i32_659 : BitVec 32 := 0#32
  let v1726 : BitVec 1 := Scalar.cmpi .slt c16_i32_655 c0_i32_659
  let v1727 : BitVec 32 := Scalar.extui v1726
  let v1728 : BitVec 32 := Scalar.subi v1725 v1727
  let v1729 : BitVec 1 := Scalar.cmpi .ne v1723 v1728
  let v1730 : BitVec 32 := Scalar.remsi v1715 c16_i32_655
  let c0_i32_660 : BitVec 32 := 0#32
  let v1731 : BitVec 1 := Scalar.cmpi .ne v1730 c0_i32_660
  let v1732 : BitVec 1 := Scalar.andi v1729 v1731
  let v1718 : BitVec 32 := Scalar.divsi v1715 c16_i32_655
  let c1_i32_661 : BitVec 32 := 1#32
  let v1733 : BitVec 32 := Scalar.subi v1718 c1_i32_661
  let v1734 : BitVec 32 := Scalar.select v1732 v1733 v1718
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1734 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t35
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1715 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk70 (i : grid1.Coords) (v25 : BitVec 32) (v1715 : BitVec 32) : Prop :=
  (∀ k1_t35 : Fin k1_t35_loop.trips, ∀ (k1_h35 : k1_cond35 i v25 v1715 = 1#1), ∀ a, (k1_off177 v1715 k1_t35) a + S1x16.size a ≤ S128x512.size a) ∧
  (∀ k1_t35 : Fin k1_t35_loop.trips, ∀ (k1_h35 : k1_cond35 i v25 v1715 = 1#1), ∀ a, (k1_off179 v1715 k1_t35) a + S1x16.size a ≤ S128x512.size a)
theorem k1_off177_inb : ∀ (i : grid1.Coords) (v25 : BitVec 32) (v1715 : BitVec 32) (k1_hw70 : k1_chk70 i v25 v1715) (k1_t35 : Fin k1_t35_loop.trips), ∀ (k1_h35 : k1_cond35 i v25 v1715 = 1#1), ∀ a, (k1_off177 v1715 k1_t35) a + S1x16.size a ≤ S128x512.size a := fun i v25 v1715 k1_hw70 k1_t35 k1_h35 => k1_hw70.1 k1_t35 k1_h35
theorem k1_off179_inb : ∀ (i : grid1.Coords) (v25 : BitVec 32) (v1715 : BitVec 32) (k1_hw70 : k1_chk70 i v25 v1715) (k1_t35 : Fin k1_t35_loop.trips), ∀ (k1_h35 : k1_cond35 i v25 v1715 = 1#1), ∀ a, (k1_off179 v1715 k1_t35) a + S1x16.size a ≤ S128x512.size a := fun i v25 v1715 k1_hw70 k1_t35 k1_h35 => k1_hw70.2 k1_t35 k1_h35

def k1_off180 (i : grid1.Coords) (v1760 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1760 c0_i32_1428
  let v3763 : BitVec 32 := Scalar.extui v3762
  let c0_i32_1429 : BitVec 32 := 0#32
  let v3764 : BitVec 1 := Scalar.cmpi .slt v1760 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1760 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1760 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r43 : BitVec 32 := 0#32
  ![v3779.toNat, 0]
def k1_cond36 (i : grid1.Coords) (v25 : BitVec 32) (v1758 : BitVec 32) : BitVec 1 :=
  let c3_i32_678 : BitVec 32 := 3#32
  let v1778 : BitVec 1 := Scalar.cmpi .sgt v25 c3_i32_678
  let c0_i32_672 : BitVec 32 := 0#32
  let v1762 : BitVec 1 := Scalar.cmpi .sgt v1758 c0_i32_672
  let v1763 : BitVec 32 := Scalar.extui v1762
  let c0_i32_673 : BitVec 32 := 0#32
  let v1764 : BitVec 1 := Scalar.cmpi .slt v1758 c0_i32_673
  let v1765 : BitVec 32 := Scalar.extui v1764
  let v1766 : BitVec 32 := Scalar.subi v1763 v1765
  let c16_i32_671 : BitVec 32 := 16#32
  let c0_i32_674 : BitVec 32 := 0#32
  let v1767 : BitVec 1 := Scalar.cmpi .sgt c16_i32_671 c0_i32_674
  let v1768 : BitVec 32 := Scalar.extui v1767
  let c0_i32_675 : BitVec 32 := 0#32
  let v1769 : BitVec 1 := Scalar.cmpi .slt c16_i32_671 c0_i32_675
  let v1770 : BitVec 32 := Scalar.extui v1769
  let v1771 : BitVec 32 := Scalar.subi v1768 v1770
  let v1772 : BitVec 1 := Scalar.cmpi .ne v1766 v1771
  let v1773 : BitVec 32 := Scalar.remsi v1758 c16_i32_671
  let c0_i32_676 : BitVec 32 := 0#32
  let v1774 : BitVec 1 := Scalar.cmpi .ne v1773 c0_i32_676
  let v1775 : BitVec 1 := Scalar.andi v1772 v1774
  let v1761 : BitVec 32 := Scalar.divsi v1758 c16_i32_671
  let c1_i32_677 : BitVec 32 := 1#32
  let v1776 : BitVec 32 := Scalar.subi v1761 c1_i32_677
  let v1777 : BitVec 32 := Scalar.select v1775 v1776 v1761
  let c0_i32_680 : BitVec 32 := 0#32
  let v1780 : BitVec 1 := Scalar.cmpi .sgt v1777 c0_i32_680
  let v1781 : BitVec 32 := Scalar.extui v1780
  let c0_i32_681 : BitVec 32 := 0#32
  let v1782 : BitVec 1 := Scalar.cmpi .slt v1777 c0_i32_681
  let v1783 : BitVec 32 := Scalar.extui v1782
  let v1784 : BitVec 32 := Scalar.subi v1781 v1783
  let c4_i32_679 : BitVec 32 := 4#32
  let c0_i32_682 : BitVec 32 := 0#32
  let v1785 : BitVec 1 := Scalar.cmpi .sgt c4_i32_679 c0_i32_682
  let v1786 : BitVec 32 := Scalar.extui v1785
  let c0_i32_683 : BitVec 32 := 0#32
  let v1787 : BitVec 1 := Scalar.cmpi .slt c4_i32_679 c0_i32_683
  let v1788 : BitVec 32 := Scalar.extui v1787
  let v1789 : BitVec 32 := Scalar.subi v1786 v1788
  let v1790 : BitVec 1 := Scalar.cmpi .ne v1784 v1789
  let v1791 : BitVec 32 := Scalar.remsi v1777 c4_i32_679
  let c0_i32_684 : BitVec 32 := 0#32
  let v1792 : BitVec 1 := Scalar.cmpi .ne v1791 c0_i32_684
  let v1793 : BitVec 1 := Scalar.andi v1790 v1792
  let v1779 : BitVec 32 := Scalar.divsi v1777 c4_i32_679
  let c1_i32_685 : BitVec 32 := 1#32
  let v1794 : BitVec 32 := Scalar.subi v1779 c1_i32_685
  let v1795 : BitVec 32 := Scalar.select v1793 v1794 v1779
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1796 : BitVec 1 := Scalar.cmpi .eq v1795 v1627
  let v1797 : BitVec 1 := Scalar.andi v1778 v1796
  let v1798 : BitVec 32 := Scalar.extui v1797
  let c0_i32_686 : BitVec 32 := 0#32
  let v1799 : BitVec 1 := Scalar.cmpi .ne v1798 c0_i32_686
  v1799

@[reducible] def k1_t36_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off181 (v1760 : BitVec 32) (k1_t36 : Fin k1_t36_loop.trips) : Fin 2 → Nat :=
  let c0_i32_1453 : BitVec 32 := 0#32
  let c1_i32_1455 : BitVec 32 := 1#32
  let arg19 : BitVec 32 := Scf.iv c0_i32_1453 c1_i32_1455 k1_t36
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1760 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off182 (v1758 : BitVec 32) (k1_t36 : Fin k1_t36_loop.trips) : Fin 2 → Nat :=
  let c0_i32_672 : BitVec 32 := 0#32
  let v1762 : BitVec 1 := Scalar.cmpi .sgt v1758 c0_i32_672
  let v1763 : BitVec 32 := Scalar.extui v1762
  let c0_i32_673 : BitVec 32 := 0#32
  let v1764 : BitVec 1 := Scalar.cmpi .slt v1758 c0_i32_673
  let v1765 : BitVec 32 := Scalar.extui v1764
  let v1766 : BitVec 32 := Scalar.subi v1763 v1765
  let c16_i32_671 : BitVec 32 := 16#32
  let c0_i32_674 : BitVec 32 := 0#32
  let v1767 : BitVec 1 := Scalar.cmpi .sgt c16_i32_671 c0_i32_674
  let v1768 : BitVec 32 := Scalar.extui v1767
  let c0_i32_675 : BitVec 32 := 0#32
  let v1769 : BitVec 1 := Scalar.cmpi .slt c16_i32_671 c0_i32_675
  let v1770 : BitVec 32 := Scalar.extui v1769
  let v1771 : BitVec 32 := Scalar.subi v1768 v1770
  let v1772 : BitVec 1 := Scalar.cmpi .ne v1766 v1771
  let v1773 : BitVec 32 := Scalar.remsi v1758 c16_i32_671
  let c0_i32_676 : BitVec 32 := 0#32
  let v1774 : BitVec 1 := Scalar.cmpi .ne v1773 c0_i32_676
  let v1775 : BitVec 1 := Scalar.andi v1772 v1774
  let v1761 : BitVec 32 := Scalar.divsi v1758 c16_i32_671
  let c1_i32_677 : BitVec 32 := 1#32
  let v1776 : BitVec 32 := Scalar.subi v1761 c1_i32_677
  let v1777 : BitVec 32 := Scalar.select v1775 v1776 v1761
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1777 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t36
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1758 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off183 (v1760 : BitVec 32) (k1_t36 : Fin k1_t36_loop.trips) : Fin 2 → Nat :=
  let c0_i32_1453 : BitVec 32 := 0#32
  let c1_i32_1455 : BitVec 32 := 1#32
  let arg19 : BitVec 32 := Scf.iv c0_i32_1453 c1_i32_1455 k1_t36
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1760 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk71 (i : grid1.Coords) (v25 : BitVec 32) (v1758 : BitVec 32) (v1760 : BitVec 32) : Prop :=
  (∀ (k1_h36 : k1_cond36 i v25 v1758 = 1#1), ∀ a, (k1_off180 i v1760) a + S32x512.size a ≤ S12288x512.size a) ∧
  (∀ k1_t36 : Fin k1_t36_loop.trips, ∀ (k1_h36 : k1_cond36 i v25 v1758 = 1#1), ∀ a, (k1_off181 v1760 k1_t36) a + S1x16.size a ≤ S32x512.size a) ∧
  (∀ k1_t36 : Fin k1_t36_loop.trips, ∀ (k1_h36 : k1_cond36 i v25 v1758 = 1#1), ∀ a, (k1_off183 v1760 k1_t36) a + S1x16.size a ≤ S32x512.size a)
theorem k1_off180_inb : ∀ (i : grid1.Coords) (v25 : BitVec 32) (v1758 : BitVec 32) (v1760 : BitVec 32) (k1_hw71 : k1_chk71 i v25 v1758 v1760), ∀ (k1_h36 : k1_cond36 i v25 v1758 = 1#1), ∀ a, (k1_off180 i v1760) a + S32x512.size a ≤ S12288x512.size a := fun i v25 v1758 v1760 k1_hw71 k1_h36 => k1_hw71.1 k1_h36
theorem k1_off181_inb : ∀ (i : grid1.Coords) (v25 : BitVec 32) (v1758 : BitVec 32) (v1760 : BitVec 32) (k1_hw71 : k1_chk71 i v25 v1758 v1760) (k1_t36 : Fin k1_t36_loop.trips), ∀ (k1_h36 : k1_cond36 i v25 v1758 = 1#1), ∀ a, (k1_off181 v1760 k1_t36) a + S1x16.size a ≤ S32x512.size a := fun i v25 v1758 v1760 k1_hw71 k1_t36 k1_h36 => k1_hw71.2.1 k1_t36 k1_h36
theorem k1_off183_inb : ∀ (i : grid1.Coords) (v25 : BitVec 32) (v1758 : BitVec 32) (v1760 : BitVec 32) (k1_hw71 : k1_chk71 i v25 v1758 v1760) (k1_t36 : Fin k1_t36_loop.trips), ∀ (k1_h36 : k1_cond36 i v25 v1758 = 1#1), ∀ a, (k1_off183 v1760 k1_t36) a + S1x16.size a ≤ S32x512.size a := fun i v25 v1758 v1760 k1_hw71 k1_t36 k1_h36 => k1_hw71.2.2 k1_t36 k1_h36

def k1_off184 (v1758 : BitVec 32) (k1_t36 : Fin k1_t36_loop.trips) : Fin 2 → Nat :=
  let c0_i32_672 : BitVec 32 := 0#32
  let v1762 : BitVec 1 := Scalar.cmpi .sgt v1758 c0_i32_672
  let v1763 : BitVec 32 := Scalar.extui v1762
  let c0_i32_673 : BitVec 32 := 0#32
  let v1764 : BitVec 1 := Scalar.cmpi .slt v1758 c0_i32_673
  let v1765 : BitVec 32 := Scalar.extui v1764
  let v1766 : BitVec 32 := Scalar.subi v1763 v1765
  let c16_i32_671 : BitVec 32 := 16#32
  let c0_i32_674 : BitVec 32 := 0#32
  let v1767 : BitVec 1 := Scalar.cmpi .sgt c16_i32_671 c0_i32_674
  let v1768 : BitVec 32 := Scalar.extui v1767
  let c0_i32_675 : BitVec 32 := 0#32
  let v1769 : BitVec 1 := Scalar.cmpi .slt c16_i32_671 c0_i32_675
  let v1770 : BitVec 32 := Scalar.extui v1769
  let v1771 : BitVec 32 := Scalar.subi v1768 v1770
  let v1772 : BitVec 1 := Scalar.cmpi .ne v1766 v1771
  let v1773 : BitVec 32 := Scalar.remsi v1758 c16_i32_671
  let c0_i32_676 : BitVec 32 := 0#32
  let v1774 : BitVec 1 := Scalar.cmpi .ne v1773 c0_i32_676
  let v1775 : BitVec 1 := Scalar.andi v1772 v1774
  let v1761 : BitVec 32 := Scalar.divsi v1758 c16_i32_671
  let c1_i32_677 : BitVec 32 := 1#32
  let v1776 : BitVec 32 := Scalar.subi v1761 c1_i32_677
  let v1777 : BitVec 32 := Scalar.select v1775 v1776 v1761
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1777 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t36
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1758 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk72 (i : grid1.Coords) (v25 : BitVec 32) (v1758 : BitVec 32) : Prop :=
  (∀ k1_t36 : Fin k1_t36_loop.trips, ∀ (k1_h36 : k1_cond36 i v25 v1758 = 1#1), ∀ a, (k1_off182 v1758 k1_t36) a + S1x16.size a ≤ S128x512.size a) ∧
  (∀ k1_t36 : Fin k1_t36_loop.trips, ∀ (k1_h36 : k1_cond36 i v25 v1758 = 1#1), ∀ a, (k1_off184 v1758 k1_t36) a + S1x16.size a ≤ S128x512.size a)
theorem k1_off182_inb : ∀ (i : grid1.Coords) (v25 : BitVec 32) (v1758 : BitVec 32) (k1_hw72 : k1_chk72 i v25 v1758) (k1_t36 : Fin k1_t36_loop.trips), ∀ (k1_h36 : k1_cond36 i v25 v1758 = 1#1), ∀ a, (k1_off182 v1758 k1_t36) a + S1x16.size a ≤ S128x512.size a := fun i v25 v1758 k1_hw72 k1_t36 k1_h36 => k1_hw72.1 k1_t36 k1_h36
theorem k1_off184_inb : ∀ (i : grid1.Coords) (v25 : BitVec 32) (v1758 : BitVec 32) (k1_hw72 : k1_chk72 i v25 v1758) (k1_t36 : Fin k1_t36_loop.trips), ∀ (k1_h36 : k1_cond36 i v25 v1758 = 1#1), ∀ a, (k1_off184 v1758 k1_t36) a + S1x16.size a ≤ S128x512.size a := fun i v25 v1758 k1_hw72 k1_t36 k1_h36 => k1_hw72.2 k1_t36 k1_h36

def k1_off185 (i : grid1.Coords) (v1803 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1803 c0_i32_1428
  let v3763 : BitVec 32 := Scalar.extui v3762
  let c0_i32_1429 : BitVec 32 := 0#32
  let v3764 : BitVec 1 := Scalar.cmpi .slt v1803 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1803 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1803 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r44 : BitVec 32 := 0#32
  ![v3779.toNat, 0]
def k1_cond37 (i : grid1.Coords) (v25 : BitVec 32) (v1801 : BitVec 32) : BitVec 1 :=
  let c4_i32_694 : BitVec 32 := 4#32
  let v1821 : BitVec 1 := Scalar.cmpi .sgt v25 c4_i32_694
  let c0_i32_688 : BitVec 32 := 0#32
  let v1805 : BitVec 1 := Scalar.cmpi .sgt v1801 c0_i32_688
  let v1806 : BitVec 32 := Scalar.extui v1805
  let c0_i32_689 : BitVec 32 := 0#32
  let v1807 : BitVec 1 := Scalar.cmpi .slt v1801 c0_i32_689
  let v1808 : BitVec 32 := Scalar.extui v1807
  let v1809 : BitVec 32 := Scalar.subi v1806 v1808
  let c16_i32_687 : BitVec 32 := 16#32
  let c0_i32_690 : BitVec 32 := 0#32
  let v1810 : BitVec 1 := Scalar.cmpi .sgt c16_i32_687 c0_i32_690
  let v1811 : BitVec 32 := Scalar.extui v1810
  let c0_i32_691 : BitVec 32 := 0#32
  let v1812 : BitVec 1 := Scalar.cmpi .slt c16_i32_687 c0_i32_691
  let v1813 : BitVec 32 := Scalar.extui v1812
  let v1814 : BitVec 32 := Scalar.subi v1811 v1813
  let v1815 : BitVec 1 := Scalar.cmpi .ne v1809 v1814
  let v1816 : BitVec 32 := Scalar.remsi v1801 c16_i32_687
  let c0_i32_692 : BitVec 32 := 0#32
  let v1817 : BitVec 1 := Scalar.cmpi .ne v1816 c0_i32_692
  let v1818 : BitVec 1 := Scalar.andi v1815 v1817
  let v1804 : BitVec 32 := Scalar.divsi v1801 c16_i32_687
  let c1_i32_693 : BitVec 32 := 1#32
  let v1819 : BitVec 32 := Scalar.subi v1804 c1_i32_693
  let v1820 : BitVec 32 := Scalar.select v1818 v1819 v1804
  let c0_i32_696 : BitVec 32 := 0#32
  let v1823 : BitVec 1 := Scalar.cmpi .sgt v1820 c0_i32_696
  let v1824 : BitVec 32 := Scalar.extui v1823
  let c0_i32_697 : BitVec 32 := 0#32
  let v1825 : BitVec 1 := Scalar.cmpi .slt v1820 c0_i32_697
  let v1826 : BitVec 32 := Scalar.extui v1825
  let v1827 : BitVec 32 := Scalar.subi v1824 v1826
  let c4_i32_695 : BitVec 32 := 4#32
  let c0_i32_698 : BitVec 32 := 0#32
  let v1828 : BitVec 1 := Scalar.cmpi .sgt c4_i32_695 c0_i32_698
  let v1829 : BitVec 32 := Scalar.extui v1828
  let c0_i32_699 : BitVec 32 := 0#32
  let v1830 : BitVec 1 := Scalar.cmpi .slt c4_i32_695 c0_i32_699
  let v1831 : BitVec 32 := Scalar.extui v1830
  let v1832 : BitVec 32 := Scalar.subi v1829 v1831
  let v1833 : BitVec 1 := Scalar.cmpi .ne v1827 v1832
  let v1834 : BitVec 32 := Scalar.remsi v1820 c4_i32_695
  let c0_i32_700 : BitVec 32 := 0#32
  let v1835 : BitVec 1 := Scalar.cmpi .ne v1834 c0_i32_700
  let v1836 : BitVec 1 := Scalar.andi v1833 v1835
  let v1822 : BitVec 32 := Scalar.divsi v1820 c4_i32_695
  let c1_i32_701 : BitVec 32 := 1#32
  let v1837 : BitVec 32 := Scalar.subi v1822 c1_i32_701
  let v1838 : BitVec 32 := Scalar.select v1836 v1837 v1822
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1839 : BitVec 1 := Scalar.cmpi .eq v1838 v1627
  let v1840 : BitVec 1 := Scalar.andi v1821 v1839
  let v1841 : BitVec 32 := Scalar.extui v1840
  let c0_i32_702 : BitVec 32 := 0#32
  let v1842 : BitVec 1 := Scalar.cmpi .ne v1841 c0_i32_702
  v1842

@[reducible] def k1_t37_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off186 (v1803 : BitVec 32) (k1_t37 : Fin k1_t37_loop.trips) : Fin 2 → Nat :=
  let c0_i32_1453 : BitVec 32 := 0#32
  let c1_i32_1455 : BitVec 32 := 1#32
  let arg19 : BitVec 32 := Scf.iv c0_i32_1453 c1_i32_1455 k1_t37
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1803 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off187 (v1801 : BitVec 32) (k1_t37 : Fin k1_t37_loop.trips) : Fin 2 → Nat :=
  let c0_i32_688 : BitVec 32 := 0#32
  let v1805 : BitVec 1 := Scalar.cmpi .sgt v1801 c0_i32_688
  let v1806 : BitVec 32 := Scalar.extui v1805
  let c0_i32_689 : BitVec 32 := 0#32
  let v1807 : BitVec 1 := Scalar.cmpi .slt v1801 c0_i32_689
  let v1808 : BitVec 32 := Scalar.extui v1807
  let v1809 : BitVec 32 := Scalar.subi v1806 v1808
  let c16_i32_687 : BitVec 32 := 16#32
  let c0_i32_690 : BitVec 32 := 0#32
  let v1810 : BitVec 1 := Scalar.cmpi .sgt c16_i32_687 c0_i32_690
  let v1811 : BitVec 32 := Scalar.extui v1810
  let c0_i32_691 : BitVec 32 := 0#32
  let v1812 : BitVec 1 := Scalar.cmpi .slt c16_i32_687 c0_i32_691
  let v1813 : BitVec 32 := Scalar.extui v1812
  let v1814 : BitVec 32 := Scalar.subi v1811 v1813
  let v1815 : BitVec 1 := Scalar.cmpi .ne v1809 v1814
  let v1816 : BitVec 32 := Scalar.remsi v1801 c16_i32_687
  let c0_i32_692 : BitVec 32 := 0#32
  let v1817 : BitVec 1 := Scalar.cmpi .ne v1816 c0_i32_692
  let v1818 : BitVec 1 := Scalar.andi v1815 v1817
  let v1804 : BitVec 32 := Scalar.divsi v1801 c16_i32_687
  let c1_i32_693 : BitVec 32 := 1#32
  let v1819 : BitVec 32 := Scalar.subi v1804 c1_i32_693
  let v1820 : BitVec 32 := Scalar.select v1818 v1819 v1804
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1820 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t37
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1801 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off188 (v1803 : BitVec 32) (k1_t37 : Fin k1_t37_loop.trips) : Fin 2 → Nat :=
  let c0_i32_1453 : BitVec 32 := 0#32
  let c1_i32_1455 : BitVec 32 := 1#32
  let arg19 : BitVec 32 := Scf.iv c0_i32_1453 c1_i32_1455 k1_t37
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1803 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk73 (i : grid1.Coords) (v25 : BitVec 32) (v1801 : BitVec 32) (v1803 : BitVec 32) : Prop :=
  (∀ (k1_h37 : k1_cond37 i v25 v1801 = 1#1), ∀ a, (k1_off185 i v1803) a + S32x512.size a ≤ S12288x512.size a) ∧
  (∀ k1_t37 : Fin k1_t37_loop.trips, ∀ (k1_h37 : k1_cond37 i v25 v1801 = 1#1), ∀ a, (k1_off186 v1803 k1_t37) a + S1x16.size a ≤ S32x512.size a) ∧
  (∀ k1_t37 : Fin k1_t37_loop.trips, ∀ (k1_h37 : k1_cond37 i v25 v1801 = 1#1), ∀ a, (k1_off188 v1803 k1_t37) a + S1x16.size a ≤ S32x512.size a)
theorem k1_off185_inb : ∀ (i : grid1.Coords) (v25 : BitVec 32) (v1801 : BitVec 32) (v1803 : BitVec 32) (k1_hw73 : k1_chk73 i v25 v1801 v1803), ∀ (k1_h37 : k1_cond37 i v25 v1801 = 1#1), ∀ a, (k1_off185 i v1803) a + S32x512.size a ≤ S12288x512.size a := fun i v25 v1801 v1803 k1_hw73 k1_h37 => k1_hw73.1 k1_h37
theorem k1_off186_inb : ∀ (i : grid1.Coords) (v25 : BitVec 32) (v1801 : BitVec 32) (v1803 : BitVec 32) (k1_hw73 : k1_chk73 i v25 v1801 v1803) (k1_t37 : Fin k1_t37_loop.trips), ∀ (k1_h37 : k1_cond37 i v25 v1801 = 1#1), ∀ a, (k1_off186 v1803 k1_t37) a + S1x16.size a ≤ S32x512.size a := fun i v25 v1801 v1803 k1_hw73 k1_t37 k1_h37 => k1_hw73.2.1 k1_t37 k1_h37
theorem k1_off188_inb : ∀ (i : grid1.Coords) (v25 : BitVec 32) (v1801 : BitVec 32) (v1803 : BitVec 32) (k1_hw73 : k1_chk73 i v25 v1801 v1803) (k1_t37 : Fin k1_t37_loop.trips), ∀ (k1_h37 : k1_cond37 i v25 v1801 = 1#1), ∀ a, (k1_off188 v1803 k1_t37) a + S1x16.size a ≤ S32x512.size a := fun i v25 v1801 v1803 k1_hw73 k1_t37 k1_h37 => k1_hw73.2.2 k1_t37 k1_h37

def k1_off189 (v1801 : BitVec 32) (k1_t37 : Fin k1_t37_loop.trips) : Fin 2 → Nat :=
  let c0_i32_688 : BitVec 32 := 0#32
  let v1805 : BitVec 1 := Scalar.cmpi .sgt v1801 c0_i32_688
  let v1806 : BitVec 32 := Scalar.extui v1805
  let c0_i32_689 : BitVec 32 := 0#32
  let v1807 : BitVec 1 := Scalar.cmpi .slt v1801 c0_i32_689
  let v1808 : BitVec 32 := Scalar.extui v1807
  let v1809 : BitVec 32 := Scalar.subi v1806 v1808
  let c16_i32_687 : BitVec 32 := 16#32
  let c0_i32_690 : BitVec 32 := 0#32
  let v1810 : BitVec 1 := Scalar.cmpi .sgt c16_i32_687 c0_i32_690
  let v1811 : BitVec 32 := Scalar.extui v1810
  let c0_i32_691 : BitVec 32 := 0#32
  let v1812 : BitVec 1 := Scalar.cmpi .slt c16_i32_687 c0_i32_691
  let v1813 : BitVec 32 := Scalar.extui v1812
  let v1814 : BitVec 32 := Scalar.subi v1811 v1813
  let v1815 : BitVec 1 := Scalar.cmpi .ne v1809 v1814
  let v1816 : BitVec 32 := Scalar.remsi v1801 c16_i32_687
  let c0_i32_692 : BitVec 32 := 0#32
  let v1817 : BitVec 1 := Scalar.cmpi .ne v1816 c0_i32_692
  let v1818 : BitVec 1 := Scalar.andi v1815 v1817
  let v1804 : BitVec 32 := Scalar.divsi v1801 c16_i32_687
  let c1_i32_693 : BitVec 32 := 1#32
  let v1819 : BitVec 32 := Scalar.subi v1804 c1_i32_693
  let v1820 : BitVec 32 := Scalar.select v1818 v1819 v1804
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1820 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t37
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1801 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk74 (i : grid1.Coords) (v25 : BitVec 32) (v1801 : BitVec 32) : Prop :=
  (∀ k1_t37 : Fin k1_t37_loop.trips, ∀ (k1_h37 : k1_cond37 i v25 v1801 = 1#1), ∀ a, (k1_off187 v1801 k1_t37) a + S1x16.size a ≤ S128x512.size a) ∧
  (∀ k1_t37 : Fin k1_t37_loop.trips, ∀ (k1_h37 : k1_cond37 i v25 v1801 = 1#1), ∀ a, (k1_off189 v1801 k1_t37) a + S1x16.size a ≤ S128x512.size a)
theorem k1_off187_inb : ∀ (i : grid1.Coords) (v25 : BitVec 32) (v1801 : BitVec 32) (k1_hw74 : k1_chk74 i v25 v1801) (k1_t37 : Fin k1_t37_loop.trips), ∀ (k1_h37 : k1_cond37 i v25 v1801 = 1#1), ∀ a, (k1_off187 v1801 k1_t37) a + S1x16.size a ≤ S128x512.size a := fun i v25 v1801 k1_hw74 k1_t37 k1_h37 => k1_hw74.1 k1_t37 k1_h37
theorem k1_off189_inb : ∀ (i : grid1.Coords) (v25 : BitVec 32) (v1801 : BitVec 32) (k1_hw74 : k1_chk74 i v25 v1801) (k1_t37 : Fin k1_t37_loop.trips), ∀ (k1_h37 : k1_cond37 i v25 v1801 = 1#1), ∀ a, (k1_off189 v1801 k1_t37) a + S1x16.size a ≤ S128x512.size a := fun i v25 v1801 k1_hw74 k1_t37 k1_h37 => k1_hw74.2 k1_t37 k1_h37

def k1_off190 (i : grid1.Coords) (v1846 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1846 c0_i32_1428
  let v3763 : BitVec 32 := Scalar.extui v3762
  let c0_i32_1429 : BitVec 32 := 0#32
  let v3764 : BitVec 1 := Scalar.cmpi .slt v1846 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1846 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1846 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r45 : BitVec 32 := 0#32
  ![v3779.toNat, 0]
def k1_cond38 (i : grid1.Coords) (v25 : BitVec 32) (v1844 : BitVec 32) : BitVec 1 :=
  let c5_i32_710 : BitVec 32 := 5#32
  let v1864 : BitVec 1 := Scalar.cmpi .sgt v25 c5_i32_710
  let c0_i32_704 : BitVec 32 := 0#32
  let v1848 : BitVec 1 := Scalar.cmpi .sgt v1844 c0_i32_704
  let v1849 : BitVec 32 := Scalar.extui v1848
  let c0_i32_705 : BitVec 32 := 0#32
  let v1850 : BitVec 1 := Scalar.cmpi .slt v1844 c0_i32_705
  let v1851 : BitVec 32 := Scalar.extui v1850
  let v1852 : BitVec 32 := Scalar.subi v1849 v1851
  let c16_i32_703 : BitVec 32 := 16#32
  let c0_i32_706 : BitVec 32 := 0#32
  let v1853 : BitVec 1 := Scalar.cmpi .sgt c16_i32_703 c0_i32_706
  let v1854 : BitVec 32 := Scalar.extui v1853
  let c0_i32_707 : BitVec 32 := 0#32
  let v1855 : BitVec 1 := Scalar.cmpi .slt c16_i32_703 c0_i32_707
  let v1856 : BitVec 32 := Scalar.extui v1855
  let v1857 : BitVec 32 := Scalar.subi v1854 v1856
  let v1858 : BitVec 1 := Scalar.cmpi .ne v1852 v1857
  let v1859 : BitVec 32 := Scalar.remsi v1844 c16_i32_703
  let c0_i32_708 : BitVec 32 := 0#32
  let v1860 : BitVec 1 := Scalar.cmpi .ne v1859 c0_i32_708
  let v1861 : BitVec 1 := Scalar.andi v1858 v1860
  let v1847 : BitVec 32 := Scalar.divsi v1844 c16_i32_703
  let c1_i32_709 : BitVec 32 := 1#32
  let v1862 : BitVec 32 := Scalar.subi v1847 c1_i32_709
  let v1863 : BitVec 32 := Scalar.select v1861 v1862 v1847
  let c0_i32_712 : BitVec 32 := 0#32
  let v1866 : BitVec 1 := Scalar.cmpi .sgt v1863 c0_i32_712
  let v1867 : BitVec 32 := Scalar.extui v1866
  let c0_i32_713 : BitVec 32 := 0#32
  let v1868 : BitVec 1 := Scalar.cmpi .slt v1863 c0_i32_713
  let v1869 : BitVec 32 := Scalar.extui v1868
  let v1870 : BitVec 32 := Scalar.subi v1867 v1869
  let c4_i32_711 : BitVec 32 := 4#32
  let c0_i32_714 : BitVec 32 := 0#32
  let v1871 : BitVec 1 := Scalar.cmpi .sgt c4_i32_711 c0_i32_714
  let v1872 : BitVec 32 := Scalar.extui v1871
  let c0_i32_715 : BitVec 32 := 0#32
  let v1873 : BitVec 1 := Scalar.cmpi .slt c4_i32_711 c0_i32_715
  let v1874 : BitVec 32 := Scalar.extui v1873
  let v1875 : BitVec 32 := Scalar.subi v1872 v1874
  let v1876 : BitVec 1 := Scalar.cmpi .ne v1870 v1875
  let v1877 : BitVec 32 := Scalar.remsi v1863 c4_i32_711
  let c0_i32_716 : BitVec 32 := 0#32
  let v1878 : BitVec 1 := Scalar.cmpi .ne v1877 c0_i32_716
  let v1879 : BitVec 1 := Scalar.andi v1876 v1878
  let v1865 : BitVec 32 := Scalar.divsi v1863 c4_i32_711
  let c1_i32_717 : BitVec 32 := 1#32
  let v1880 : BitVec 32 := Scalar.subi v1865 c1_i32_717
  let v1881 : BitVec 32 := Scalar.select v1879 v1880 v1865
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1882 : BitVec 1 := Scalar.cmpi .eq v1881 v1627
  let v1883 : BitVec 1 := Scalar.andi v1864 v1882
  let v1884 : BitVec 32 := Scalar.extui v1883
  let c0_i32_718 : BitVec 32 := 0#32
  let v1885 : BitVec 1 := Scalar.cmpi .ne v1884 c0_i32_718
  v1885

@[reducible] def k1_t38_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off191 (v1846 : BitVec 32) (k1_t38 : Fin k1_t38_loop.trips) : Fin 2 → Nat :=
  let c0_i32_1453 : BitVec 32 := 0#32
  let c1_i32_1455 : BitVec 32 := 1#32
  let arg19 : BitVec 32 := Scf.iv c0_i32_1453 c1_i32_1455 k1_t38
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1846 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off192 (v1844 : BitVec 32) (k1_t38 : Fin k1_t38_loop.trips) : Fin 2 → Nat :=
  let c0_i32_704 : BitVec 32 := 0#32
  let v1848 : BitVec 1 := Scalar.cmpi .sgt v1844 c0_i32_704
  let v1849 : BitVec 32 := Scalar.extui v1848
  let c0_i32_705 : BitVec 32 := 0#32
  let v1850 : BitVec 1 := Scalar.cmpi .slt v1844 c0_i32_705
  let v1851 : BitVec 32 := Scalar.extui v1850
  let v1852 : BitVec 32 := Scalar.subi v1849 v1851
  let c16_i32_703 : BitVec 32 := 16#32
  let c0_i32_706 : BitVec 32 := 0#32
  let v1853 : BitVec 1 := Scalar.cmpi .sgt c16_i32_703 c0_i32_706
  let v1854 : BitVec 32 := Scalar.extui v1853
  let c0_i32_707 : BitVec 32 := 0#32
  let v1855 : BitVec 1 := Scalar.cmpi .slt c16_i32_703 c0_i32_707
  let v1856 : BitVec 32 := Scalar.extui v1855
  let v1857 : BitVec 32 := Scalar.subi v1854 v1856
  let v1858 : BitVec 1 := Scalar.cmpi .ne v1852 v1857
  let v1859 : BitVec 32 := Scalar.remsi v1844 c16_i32_703
  let c0_i32_708 : BitVec 32 := 0#32
  let v1860 : BitVec 1 := Scalar.cmpi .ne v1859 c0_i32_708
  let v1861 : BitVec 1 := Scalar.andi v1858 v1860
  let v1847 : BitVec 32 := Scalar.divsi v1844 c16_i32_703
  let c1_i32_709 : BitVec 32 := 1#32
  let v1862 : BitVec 32 := Scalar.subi v1847 c1_i32_709
  let v1863 : BitVec 32 := Scalar.select v1861 v1862 v1847
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1863 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t38
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1844 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off193 (v1846 : BitVec 32) (k1_t38 : Fin k1_t38_loop.trips) : Fin 2 → Nat :=
  let c0_i32_1453 : BitVec 32 := 0#32
  let c1_i32_1455 : BitVec 32 := 1#32
  let arg19 : BitVec 32 := Scf.iv c0_i32_1453 c1_i32_1455 k1_t38
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1846 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk75 (i : grid1.Coords) (v25 : BitVec 32) (v1844 : BitVec 32) (v1846 : BitVec 32) : Prop :=
  (∀ (k1_h38 : k1_cond38 i v25 v1844 = 1#1), ∀ a, (k1_off190 i v1846) a + S32x512.size a ≤ S12288x512.size a) ∧
  (∀ k1_t38 : Fin k1_t38_loop.trips, ∀ (k1_h38 : k1_cond38 i v25 v1844 = 1#1), ∀ a, (k1_off191 v1846 k1_t38) a + S1x16.size a ≤ S32x512.size a) ∧
  (∀ k1_t38 : Fin k1_t38_loop.trips, ∀ (k1_h38 : k1_cond38 i v25 v1844 = 1#1), ∀ a, (k1_off193 v1846 k1_t38) a + S1x16.size a ≤ S32x512.size a)
theorem k1_off190_inb : ∀ (i : grid1.Coords) (v25 : BitVec 32) (v1844 : BitVec 32) (v1846 : BitVec 32) (k1_hw75 : k1_chk75 i v25 v1844 v1846), ∀ (k1_h38 : k1_cond38 i v25 v1844 = 1#1), ∀ a, (k1_off190 i v1846) a + S32x512.size a ≤ S12288x512.size a := fun i v25 v1844 v1846 k1_hw75 k1_h38 => k1_hw75.1 k1_h38
theorem k1_off191_inb : ∀ (i : grid1.Coords) (v25 : BitVec 32) (v1844 : BitVec 32) (v1846 : BitVec 32) (k1_hw75 : k1_chk75 i v25 v1844 v1846) (k1_t38 : Fin k1_t38_loop.trips), ∀ (k1_h38 : k1_cond38 i v25 v1844 = 1#1), ∀ a, (k1_off191 v1846 k1_t38) a + S1x16.size a ≤ S32x512.size a := fun i v25 v1844 v1846 k1_hw75 k1_t38 k1_h38 => k1_hw75.2.1 k1_t38 k1_h38
theorem k1_off193_inb : ∀ (i : grid1.Coords) (v25 : BitVec 32) (v1844 : BitVec 32) (v1846 : BitVec 32) (k1_hw75 : k1_chk75 i v25 v1844 v1846) (k1_t38 : Fin k1_t38_loop.trips), ∀ (k1_h38 : k1_cond38 i v25 v1844 = 1#1), ∀ a, (k1_off193 v1846 k1_t38) a + S1x16.size a ≤ S32x512.size a := fun i v25 v1844 v1846 k1_hw75 k1_t38 k1_h38 => k1_hw75.2.2 k1_t38 k1_h38

def k1_off194 (v1844 : BitVec 32) (k1_t38 : Fin k1_t38_loop.trips) : Fin 2 → Nat :=
  let c0_i32_704 : BitVec 32 := 0#32
  let v1848 : BitVec 1 := Scalar.cmpi .sgt v1844 c0_i32_704
  let v1849 : BitVec 32 := Scalar.extui v1848
  let c0_i32_705 : BitVec 32 := 0#32
  let v1850 : BitVec 1 := Scalar.cmpi .slt v1844 c0_i32_705
  let v1851 : BitVec 32 := Scalar.extui v1850
  let v1852 : BitVec 32 := Scalar.subi v1849 v1851
  let c16_i32_703 : BitVec 32 := 16#32
  let c0_i32_706 : BitVec 32 := 0#32
  let v1853 : BitVec 1 := Scalar.cmpi .sgt c16_i32_703 c0_i32_706
  let v1854 : BitVec 32 := Scalar.extui v1853
  let c0_i32_707 : BitVec 32 := 0#32
  let v1855 : BitVec 1 := Scalar.cmpi .slt c16_i32_703 c0_i32_707
  let v1856 : BitVec 32 := Scalar.extui v1855
  let v1857 : BitVec 32 := Scalar.subi v1854 v1856
  let v1858 : BitVec 1 := Scalar.cmpi .ne v1852 v1857
  let v1859 : BitVec 32 := Scalar.remsi v1844 c16_i32_703
  let c0_i32_708 : BitVec 32 := 0#32
  let v1860 : BitVec 1 := Scalar.cmpi .ne v1859 c0_i32_708
  let v1861 : BitVec 1 := Scalar.andi v1858 v1860
  let v1847 : BitVec 32 := Scalar.divsi v1844 c16_i32_703
  let c1_i32_709 : BitVec 32 := 1#32
  let v1862 : BitVec 32 := Scalar.subi v1847 c1_i32_709
  let v1863 : BitVec 32 := Scalar.select v1861 v1862 v1847
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1863 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t38
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1844 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk76 (i : grid1.Coords) (v25 : BitVec 32) (v1844 : BitVec 32) : Prop :=
  (∀ k1_t38 : Fin k1_t38_loop.trips, ∀ (k1_h38 : k1_cond38 i v25 v1844 = 1#1), ∀ a, (k1_off192 v1844 k1_t38) a + S1x16.size a ≤ S128x512.size a) ∧
  (∀ k1_t38 : Fin k1_t38_loop.trips, ∀ (k1_h38 : k1_cond38 i v25 v1844 = 1#1), ∀ a, (k1_off194 v1844 k1_t38) a + S1x16.size a ≤ S128x512.size a)
theorem k1_off192_inb : ∀ (i : grid1.Coords) (v25 : BitVec 32) (v1844 : BitVec 32) (k1_hw76 : k1_chk76 i v25 v1844) (k1_t38 : Fin k1_t38_loop.trips), ∀ (k1_h38 : k1_cond38 i v25 v1844 = 1#1), ∀ a, (k1_off192 v1844 k1_t38) a + S1x16.size a ≤ S128x512.size a := fun i v25 v1844 k1_hw76 k1_t38 k1_h38 => k1_hw76.1 k1_t38 k1_h38
theorem k1_off194_inb : ∀ (i : grid1.Coords) (v25 : BitVec 32) (v1844 : BitVec 32) (k1_hw76 : k1_chk76 i v25 v1844) (k1_t38 : Fin k1_t38_loop.trips), ∀ (k1_h38 : k1_cond38 i v25 v1844 = 1#1), ∀ a, (k1_off194 v1844 k1_t38) a + S1x16.size a ≤ S128x512.size a := fun i v25 v1844 k1_hw76 k1_t38 k1_h38 => k1_hw76.2 k1_t38 k1_h38

def k1_off195 (i : grid1.Coords) (v1889 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1889 c0_i32_1428
  let v3763 : BitVec 32 := Scalar.extui v3762
  let c0_i32_1429 : BitVec 32 := 0#32
  let v3764 : BitVec 1 := Scalar.cmpi .slt v1889 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1889 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1889 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r46 : BitVec 32 := 0#32
  ![v3779.toNat, 0]
def k1_cond39 (i : grid1.Coords) (v25 : BitVec 32) (v1887 : BitVec 32) : BitVec 1 :=
  let c6_i32_726 : BitVec 32 := 6#32
  let v1907 : BitVec 1 := Scalar.cmpi .sgt v25 c6_i32_726
  let c0_i32_720 : BitVec 32 := 0#32
  let v1891 : BitVec 1 := Scalar.cmpi .sgt v1887 c0_i32_720
  let v1892 : BitVec 32 := Scalar.extui v1891
  let c0_i32_721 : BitVec 32 := 0#32
  let v1893 : BitVec 1 := Scalar.cmpi .slt v1887 c0_i32_721
  let v1894 : BitVec 32 := Scalar.extui v1893
  let v1895 : BitVec 32 := Scalar.subi v1892 v1894
  let c16_i32_719 : BitVec 32 := 16#32
  let c0_i32_722 : BitVec 32 := 0#32
  let v1896 : BitVec 1 := Scalar.cmpi .sgt c16_i32_719 c0_i32_722
  let v1897 : BitVec 32 := Scalar.extui v1896
  let c0_i32_723 : BitVec 32 := 0#32
  let v1898 : BitVec 1 := Scalar.cmpi .slt c16_i32_719 c0_i32_723
  let v1899 : BitVec 32 := Scalar.extui v1898
  let v1900 : BitVec 32 := Scalar.subi v1897 v1899
  let v1901 : BitVec 1 := Scalar.cmpi .ne v1895 v1900
  let v1902 : BitVec 32 := Scalar.remsi v1887 c16_i32_719
  let c0_i32_724 : BitVec 32 := 0#32
  let v1903 : BitVec 1 := Scalar.cmpi .ne v1902 c0_i32_724
  let v1904 : BitVec 1 := Scalar.andi v1901 v1903
  let v1890 : BitVec 32 := Scalar.divsi v1887 c16_i32_719
  let c1_i32_725 : BitVec 32 := 1#32
  let v1905 : BitVec 32 := Scalar.subi v1890 c1_i32_725
  let v1906 : BitVec 32 := Scalar.select v1904 v1905 v1890
  let c0_i32_728 : BitVec 32 := 0#32
  let v1909 : BitVec 1 := Scalar.cmpi .sgt v1906 c0_i32_728
  let v1910 : BitVec 32 := Scalar.extui v1909
  let c0_i32_729 : BitVec 32 := 0#32
  let v1911 : BitVec 1 := Scalar.cmpi .slt v1906 c0_i32_729
  let v1912 : BitVec 32 := Scalar.extui v1911
  let v1913 : BitVec 32 := Scalar.subi v1910 v1912
  let c4_i32_727 : BitVec 32 := 4#32
  let c0_i32_730 : BitVec 32 := 0#32
  let v1914 : BitVec 1 := Scalar.cmpi .sgt c4_i32_727 c0_i32_730
  let v1915 : BitVec 32 := Scalar.extui v1914
  let c0_i32_731 : BitVec 32 := 0#32
  let v1916 : BitVec 1 := Scalar.cmpi .slt c4_i32_727 c0_i32_731
  let v1917 : BitVec 32 := Scalar.extui v1916
  let v1918 : BitVec 32 := Scalar.subi v1915 v1917
  let v1919 : BitVec 1 := Scalar.cmpi .ne v1913 v1918
  let v1920 : BitVec 32 := Scalar.remsi v1906 c4_i32_727
  let c0_i32_732 : BitVec 32 := 0#32
  let v1921 : BitVec 1 := Scalar.cmpi .ne v1920 c0_i32_732
  let v1922 : BitVec 1 := Scalar.andi v1919 v1921
  let v1908 : BitVec 32 := Scalar.divsi v1906 c4_i32_727
  let c1_i32_733 : BitVec 32 := 1#32
  let v1923 : BitVec 32 := Scalar.subi v1908 c1_i32_733
  let v1924 : BitVec 32 := Scalar.select v1922 v1923 v1908
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1925 : BitVec 1 := Scalar.cmpi .eq v1924 v1627
  let v1926 : BitVec 1 := Scalar.andi v1907 v1925
  let v1927 : BitVec 32 := Scalar.extui v1926
  let c0_i32_734 : BitVec 32 := 0#32
  let v1928 : BitVec 1 := Scalar.cmpi .ne v1927 c0_i32_734
  v1928

@[reducible] def k1_t39_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off196 (v1889 : BitVec 32) (k1_t39 : Fin k1_t39_loop.trips) : Fin 2 → Nat :=
  let c0_i32_1453 : BitVec 32 := 0#32
  let c1_i32_1455 : BitVec 32 := 1#32
  let arg19 : BitVec 32 := Scf.iv c0_i32_1453 c1_i32_1455 k1_t39
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1889 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off197 (v1887 : BitVec 32) (k1_t39 : Fin k1_t39_loop.trips) : Fin 2 → Nat :=
  let c0_i32_720 : BitVec 32 := 0#32
  let v1891 : BitVec 1 := Scalar.cmpi .sgt v1887 c0_i32_720
  let v1892 : BitVec 32 := Scalar.extui v1891
  let c0_i32_721 : BitVec 32 := 0#32
  let v1893 : BitVec 1 := Scalar.cmpi .slt v1887 c0_i32_721
  let v1894 : BitVec 32 := Scalar.extui v1893
  let v1895 : BitVec 32 := Scalar.subi v1892 v1894
  let c16_i32_719 : BitVec 32 := 16#32
  let c0_i32_722 : BitVec 32 := 0#32
  let v1896 : BitVec 1 := Scalar.cmpi .sgt c16_i32_719 c0_i32_722
  let v1897 : BitVec 32 := Scalar.extui v1896
  let c0_i32_723 : BitVec 32 := 0#32
  let v1898 : BitVec 1 := Scalar.cmpi .slt c16_i32_719 c0_i32_723
  let v1899 : BitVec 32 := Scalar.extui v1898
  let v1900 : BitVec 32 := Scalar.subi v1897 v1899
  let v1901 : BitVec 1 := Scalar.cmpi .ne v1895 v1900
  let v1902 : BitVec 32 := Scalar.remsi v1887 c16_i32_719
  let c0_i32_724 : BitVec 32 := 0#32
  let v1903 : BitVec 1 := Scalar.cmpi .ne v1902 c0_i32_724
  let v1904 : BitVec 1 := Scalar.andi v1901 v1903
  let v1890 : BitVec 32 := Scalar.divsi v1887 c16_i32_719
  let c1_i32_725 : BitVec 32 := 1#32
  let v1905 : BitVec 32 := Scalar.subi v1890 c1_i32_725
  let v1906 : BitVec 32 := Scalar.select v1904 v1905 v1890
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1906 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t39
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1887 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off198 (v1889 : BitVec 32) (k1_t39 : Fin k1_t39_loop.trips) : Fin 2 → Nat :=
  let c0_i32_1453 : BitVec 32 := 0#32
  let c1_i32_1455 : BitVec 32 := 1#32
  let arg19 : BitVec 32 := Scf.iv c0_i32_1453 c1_i32_1455 k1_t39
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1889 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk77 (i : grid1.Coords) (v25 : BitVec 32) (v1887 : BitVec 32) (v1889 : BitVec 32) : Prop :=
  (∀ (k1_h39 : k1_cond39 i v25 v1887 = 1#1), ∀ a, (k1_off195 i v1889) a + S32x512.size a ≤ S12288x512.size a) ∧
  (∀ k1_t39 : Fin k1_t39_loop.trips, ∀ (k1_h39 : k1_cond39 i v25 v1887 = 1#1), ∀ a, (k1_off196 v1889 k1_t39) a + S1x16.size a ≤ S32x512.size a) ∧
  (∀ k1_t39 : Fin k1_t39_loop.trips, ∀ (k1_h39 : k1_cond39 i v25 v1887 = 1#1), ∀ a, (k1_off198 v1889 k1_t39) a + S1x16.size a ≤ S32x512.size a)
theorem k1_off195_inb : ∀ (i : grid1.Coords) (v25 : BitVec 32) (v1887 : BitVec 32) (v1889 : BitVec 32) (k1_hw77 : k1_chk77 i v25 v1887 v1889), ∀ (k1_h39 : k1_cond39 i v25 v1887 = 1#1), ∀ a, (k1_off195 i v1889) a + S32x512.size a ≤ S12288x512.size a := fun i v25 v1887 v1889 k1_hw77 k1_h39 => k1_hw77.1 k1_h39
theorem k1_off196_inb : ∀ (i : grid1.Coords) (v25 : BitVec 32) (v1887 : BitVec 32) (v1889 : BitVec 32) (k1_hw77 : k1_chk77 i v25 v1887 v1889) (k1_t39 : Fin k1_t39_loop.trips), ∀ (k1_h39 : k1_cond39 i v25 v1887 = 1#1), ∀ a, (k1_off196 v1889 k1_t39) a + S1x16.size a ≤ S32x512.size a := fun i v25 v1887 v1889 k1_hw77 k1_t39 k1_h39 => k1_hw77.2.1 k1_t39 k1_h39
theorem k1_off198_inb : ∀ (i : grid1.Coords) (v25 : BitVec 32) (v1887 : BitVec 32) (v1889 : BitVec 32) (k1_hw77 : k1_chk77 i v25 v1887 v1889) (k1_t39 : Fin k1_t39_loop.trips), ∀ (k1_h39 : k1_cond39 i v25 v1887 = 1#1), ∀ a, (k1_off198 v1889 k1_t39) a + S1x16.size a ≤ S32x512.size a := fun i v25 v1887 v1889 k1_hw77 k1_t39 k1_h39 => k1_hw77.2.2 k1_t39 k1_h39

def k1_off199 (v1887 : BitVec 32) (k1_t39 : Fin k1_t39_loop.trips) : Fin 2 → Nat :=
  let c0_i32_720 : BitVec 32 := 0#32
  let v1891 : BitVec 1 := Scalar.cmpi .sgt v1887 c0_i32_720
  let v1892 : BitVec 32 := Scalar.extui v1891
  let c0_i32_721 : BitVec 32 := 0#32
  let v1893 : BitVec 1 := Scalar.cmpi .slt v1887 c0_i32_721
  let v1894 : BitVec 32 := Scalar.extui v1893
  let v1895 : BitVec 32 := Scalar.subi v1892 v1894
  let c16_i32_719 : BitVec 32 := 16#32
  let c0_i32_722 : BitVec 32 := 0#32
  let v1896 : BitVec 1 := Scalar.cmpi .sgt c16_i32_719 c0_i32_722
  let v1897 : BitVec 32 := Scalar.extui v1896
  let c0_i32_723 : BitVec 32 := 0#32
  let v1898 : BitVec 1 := Scalar.cmpi .slt c16_i32_719 c0_i32_723
  let v1899 : BitVec 32 := Scalar.extui v1898
  let v1900 : BitVec 32 := Scalar.subi v1897 v1899
  let v1901 : BitVec 1 := Scalar.cmpi .ne v1895 v1900
  let v1902 : BitVec 32 := Scalar.remsi v1887 c16_i32_719
  let c0_i32_724 : BitVec 32 := 0#32
  let v1903 : BitVec 1 := Scalar.cmpi .ne v1902 c0_i32_724
  let v1904 : BitVec 1 := Scalar.andi v1901 v1903
  let v1890 : BitVec 32 := Scalar.divsi v1887 c16_i32_719
  let c1_i32_725 : BitVec 32 := 1#32
  let v1905 : BitVec 32 := Scalar.subi v1890 c1_i32_725
  let v1906 : BitVec 32 := Scalar.select v1904 v1905 v1890
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1906 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t39
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1887 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk78 (i : grid1.Coords) (v25 : BitVec 32) (v1887 : BitVec 32) : Prop :=
  (∀ k1_t39 : Fin k1_t39_loop.trips, ∀ (k1_h39 : k1_cond39 i v25 v1887 = 1#1), ∀ a, (k1_off197 v1887 k1_t39) a + S1x16.size a ≤ S128x512.size a) ∧
  (∀ k1_t39 : Fin k1_t39_loop.trips, ∀ (k1_h39 : k1_cond39 i v25 v1887 = 1#1), ∀ a, (k1_off199 v1887 k1_t39) a + S1x16.size a ≤ S128x512.size a)
theorem k1_off197_inb : ∀ (i : grid1.Coords) (v25 : BitVec 32) (v1887 : BitVec 32) (k1_hw78 : k1_chk78 i v25 v1887) (k1_t39 : Fin k1_t39_loop.trips), ∀ (k1_h39 : k1_cond39 i v25 v1887 = 1#1), ∀ a, (k1_off197 v1887 k1_t39) a + S1x16.size a ≤ S128x512.size a := fun i v25 v1887 k1_hw78 k1_t39 k1_h39 => k1_hw78.1 k1_t39 k1_h39
theorem k1_off199_inb : ∀ (i : grid1.Coords) (v25 : BitVec 32) (v1887 : BitVec 32) (k1_hw78 : k1_chk78 i v25 v1887) (k1_t39 : Fin k1_t39_loop.trips), ∀ (k1_h39 : k1_cond39 i v25 v1887 = 1#1), ∀ a, (k1_off199 v1887 k1_t39) a + S1x16.size a ≤ S128x512.size a := fun i v25 v1887 k1_hw78 k1_t39 k1_h39 => k1_hw78.2 k1_t39 k1_h39

def k1_off200 (i : grid1.Coords) (v1932 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1932 c0_i32_1428
  let v3763 : BitVec 32 := Scalar.extui v3762
  let c0_i32_1429 : BitVec 32 := 0#32
  let v3764 : BitVec 1 := Scalar.cmpi .slt v1932 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1932 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1932 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r47 : BitVec 32 := 0#32
  ![v3779.toNat, 0]
def k1_cond40 (i : grid1.Coords) (v25 : BitVec 32) (v1930 : BitVec 32) : BitVec 1 :=
  let c7_i32_742 : BitVec 32 := 7#32
  let v1950 : BitVec 1 := Scalar.cmpi .sgt v25 c7_i32_742
  let c0_i32_736 : BitVec 32 := 0#32
  let v1934 : BitVec 1 := Scalar.cmpi .sgt v1930 c0_i32_736
  let v1935 : BitVec 32 := Scalar.extui v1934
  let c0_i32_737 : BitVec 32 := 0#32
  let v1936 : BitVec 1 := Scalar.cmpi .slt v1930 c0_i32_737
  let v1937 : BitVec 32 := Scalar.extui v1936
  let v1938 : BitVec 32 := Scalar.subi v1935 v1937
  let c16_i32_735 : BitVec 32 := 16#32
  let c0_i32_738 : BitVec 32 := 0#32
  let v1939 : BitVec 1 := Scalar.cmpi .sgt c16_i32_735 c0_i32_738
  let v1940 : BitVec 32 := Scalar.extui v1939
  let c0_i32_739 : BitVec 32 := 0#32
  let v1941 : BitVec 1 := Scalar.cmpi .slt c16_i32_735 c0_i32_739
  let v1942 : BitVec 32 := Scalar.extui v1941
  let v1943 : BitVec 32 := Scalar.subi v1940 v1942
  let v1944 : BitVec 1 := Scalar.cmpi .ne v1938 v1943
  let v1945 : BitVec 32 := Scalar.remsi v1930 c16_i32_735
  let c0_i32_740 : BitVec 32 := 0#32
  let v1946 : BitVec 1 := Scalar.cmpi .ne v1945 c0_i32_740
  let v1947 : BitVec 1 := Scalar.andi v1944 v1946
  let v1933 : BitVec 32 := Scalar.divsi v1930 c16_i32_735
  let c1_i32_741 : BitVec 32 := 1#32
  let v1948 : BitVec 32 := Scalar.subi v1933 c1_i32_741
  let v1949 : BitVec 32 := Scalar.select v1947 v1948 v1933
  let c0_i32_744 : BitVec 32 := 0#32
  let v1952 : BitVec 1 := Scalar.cmpi .sgt v1949 c0_i32_744
  let v1953 : BitVec 32 := Scalar.extui v1952
  let c0_i32_745 : BitVec 32 := 0#32
  let v1954 : BitVec 1 := Scalar.cmpi .slt v1949 c0_i32_745
  let v1955 : BitVec 32 := Scalar.extui v1954
  let v1956 : BitVec 32 := Scalar.subi v1953 v1955
  let c4_i32_743 : BitVec 32 := 4#32
  let c0_i32_746 : BitVec 32 := 0#32
  let v1957 : BitVec 1 := Scalar.cmpi .sgt c4_i32_743 c0_i32_746
  let v1958 : BitVec 32 := Scalar.extui v1957
  let c0_i32_747 : BitVec 32 := 0#32
  let v1959 : BitVec 1 := Scalar.cmpi .slt c4_i32_743 c0_i32_747
  let v1960 : BitVec 32 := Scalar.extui v1959
  let v1961 : BitVec 32 := Scalar.subi v1958 v1960
  let v1962 : BitVec 1 := Scalar.cmpi .ne v1956 v1961
  let v1963 : BitVec 32 := Scalar.remsi v1949 c4_i32_743
  let c0_i32_748 : BitVec 32 := 0#32
  let v1964 : BitVec 1 := Scalar.cmpi .ne v1963 c0_i32_748
  let v1965 : BitVec 1 := Scalar.andi v1962 v1964
  let v1951 : BitVec 32 := Scalar.divsi v1949 c4_i32_743
  let c1_i32_749 : BitVec 32 := 1#32
  let v1966 : BitVec 32 := Scalar.subi v1951 c1_i32_749
  let v1967 : BitVec 32 := Scalar.select v1965 v1966 v1951
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v1968 : BitVec 1 := Scalar.cmpi .eq v1967 v1627
  let v1969 : BitVec 1 := Scalar.andi v1950 v1968
  let v1970 : BitVec 32 := Scalar.extui v1969
  let c0_i32_750 : BitVec 32 := 0#32
  let v1971 : BitVec 1 := Scalar.cmpi .ne v1970 c0_i32_750
  v1971

@[reducible] def k1_t40_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off201 (v1932 : BitVec 32) (k1_t40 : Fin k1_t40_loop.trips) : Fin 2 → Nat :=
  let c0_i32_1453 : BitVec 32 := 0#32
  let c1_i32_1455 : BitVec 32 := 1#32
  let arg19 : BitVec 32 := Scf.iv c0_i32_1453 c1_i32_1455 k1_t40
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1932 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off202 (v1930 : BitVec 32) (k1_t40 : Fin k1_t40_loop.trips) : Fin 2 → Nat :=
  let c0_i32_736 : BitVec 32 := 0#32
  let v1934 : BitVec 1 := Scalar.cmpi .sgt v1930 c0_i32_736
  let v1935 : BitVec 32 := Scalar.extui v1934
  let c0_i32_737 : BitVec 32 := 0#32
  let v1936 : BitVec 1 := Scalar.cmpi .slt v1930 c0_i32_737
  let v1937 : BitVec 32 := Scalar.extui v1936
  let v1938 : BitVec 32 := Scalar.subi v1935 v1937
  let c16_i32_735 : BitVec 32 := 16#32
  let c0_i32_738 : BitVec 32 := 0#32
  let v1939 : BitVec 1 := Scalar.cmpi .sgt c16_i32_735 c0_i32_738
  let v1940 : BitVec 32 := Scalar.extui v1939
  let c0_i32_739 : BitVec 32 := 0#32
  let v1941 : BitVec 1 := Scalar.cmpi .slt c16_i32_735 c0_i32_739
  let v1942 : BitVec 32 := Scalar.extui v1941
  let v1943 : BitVec 32 := Scalar.subi v1940 v1942
  let v1944 : BitVec 1 := Scalar.cmpi .ne v1938 v1943
  let v1945 : BitVec 32 := Scalar.remsi v1930 c16_i32_735
  let c0_i32_740 : BitVec 32 := 0#32
  let v1946 : BitVec 1 := Scalar.cmpi .ne v1945 c0_i32_740
  let v1947 : BitVec 1 := Scalar.andi v1944 v1946
  let v1933 : BitVec 32 := Scalar.divsi v1930 c16_i32_735
  let c1_i32_741 : BitVec 32 := 1#32
  let v1948 : BitVec 32 := Scalar.subi v1933 c1_i32_741
  let v1949 : BitVec 32 := Scalar.select v1947 v1948 v1933
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1949 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t40
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1930 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off203 (v1932 : BitVec 32) (k1_t40 : Fin k1_t40_loop.trips) : Fin 2 → Nat :=
  let c0_i32_1453 : BitVec 32 := 0#32
  let c1_i32_1455 : BitVec 32 := 1#32
  let arg19 : BitVec 32 := Scf.iv c0_i32_1453 c1_i32_1455 k1_t40
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1932 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk79 (i : grid1.Coords) (v25 : BitVec 32) (v1930 : BitVec 32) (v1932 : BitVec 32) : Prop :=
  (∀ (k1_h40 : k1_cond40 i v25 v1930 = 1#1), ∀ a, (k1_off200 i v1932) a + S32x512.size a ≤ S12288x512.size a) ∧
  (∀ k1_t40 : Fin k1_t40_loop.trips, ∀ (k1_h40 : k1_cond40 i v25 v1930 = 1#1), ∀ a, (k1_off201 v1932 k1_t40) a + S1x16.size a ≤ S32x512.size a) ∧
  (∀ k1_t40 : Fin k1_t40_loop.trips, ∀ (k1_h40 : k1_cond40 i v25 v1930 = 1#1), ∀ a, (k1_off203 v1932 k1_t40) a + S1x16.size a ≤ S32x512.size a)
theorem k1_off200_inb : ∀ (i : grid1.Coords) (v25 : BitVec 32) (v1930 : BitVec 32) (v1932 : BitVec 32) (k1_hw79 : k1_chk79 i v25 v1930 v1932), ∀ (k1_h40 : k1_cond40 i v25 v1930 = 1#1), ∀ a, (k1_off200 i v1932) a + S32x512.size a ≤ S12288x512.size a := fun i v25 v1930 v1932 k1_hw79 k1_h40 => k1_hw79.1 k1_h40
theorem k1_off201_inb : ∀ (i : grid1.Coords) (v25 : BitVec 32) (v1930 : BitVec 32) (v1932 : BitVec 32) (k1_hw79 : k1_chk79 i v25 v1930 v1932) (k1_t40 : Fin k1_t40_loop.trips), ∀ (k1_h40 : k1_cond40 i v25 v1930 = 1#1), ∀ a, (k1_off201 v1932 k1_t40) a + S1x16.size a ≤ S32x512.size a := fun i v25 v1930 v1932 k1_hw79 k1_t40 k1_h40 => k1_hw79.2.1 k1_t40 k1_h40
theorem k1_off203_inb : ∀ (i : grid1.Coords) (v25 : BitVec 32) (v1930 : BitVec 32) (v1932 : BitVec 32) (k1_hw79 : k1_chk79 i v25 v1930 v1932) (k1_t40 : Fin k1_t40_loop.trips), ∀ (k1_h40 : k1_cond40 i v25 v1930 = 1#1), ∀ a, (k1_off203 v1932 k1_t40) a + S1x16.size a ≤ S32x512.size a := fun i v25 v1930 v1932 k1_hw79 k1_t40 k1_h40 => k1_hw79.2.2 k1_t40 k1_h40

def k1_off204 (v1930 : BitVec 32) (k1_t40 : Fin k1_t40_loop.trips) : Fin 2 → Nat :=
  let c0_i32_736 : BitVec 32 := 0#32
  let v1934 : BitVec 1 := Scalar.cmpi .sgt v1930 c0_i32_736
  let v1935 : BitVec 32 := Scalar.extui v1934
  let c0_i32_737 : BitVec 32 := 0#32
  let v1936 : BitVec 1 := Scalar.cmpi .slt v1930 c0_i32_737
  let v1937 : BitVec 32 := Scalar.extui v1936
  let v1938 : BitVec 32 := Scalar.subi v1935 v1937
  let c16_i32_735 : BitVec 32 := 16#32
  let c0_i32_738 : BitVec 32 := 0#32
  let v1939 : BitVec 1 := Scalar.cmpi .sgt c16_i32_735 c0_i32_738
  let v1940 : BitVec 32 := Scalar.extui v1939
  let c0_i32_739 : BitVec 32 := 0#32
  let v1941 : BitVec 1 := Scalar.cmpi .slt c16_i32_735 c0_i32_739
  let v1942 : BitVec 32 := Scalar.extui v1941
  let v1943 : BitVec 32 := Scalar.subi v1940 v1942
  let v1944 : BitVec 1 := Scalar.cmpi .ne v1938 v1943
  let v1945 : BitVec 32 := Scalar.remsi v1930 c16_i32_735
  let c0_i32_740 : BitVec 32 := 0#32
  let v1946 : BitVec 1 := Scalar.cmpi .ne v1945 c0_i32_740
  let v1947 : BitVec 1 := Scalar.andi v1944 v1946
  let v1933 : BitVec 32 := Scalar.divsi v1930 c16_i32_735
  let c1_i32_741 : BitVec 32 := 1#32
  let v1948 : BitVec 32 := Scalar.subi v1933 c1_i32_741
  let v1949 : BitVec 32 := Scalar.select v1947 v1948 v1933
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1949 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t40
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1930 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk80 (i : grid1.Coords) (v25 : BitVec 32) (v1930 : BitVec 32) : Prop :=
  (∀ k1_t40 : Fin k1_t40_loop.trips, ∀ (k1_h40 : k1_cond40 i v25 v1930 = 1#1), ∀ a, (k1_off202 v1930 k1_t40) a + S1x16.size a ≤ S128x512.size a) ∧
  (∀ k1_t40 : Fin k1_t40_loop.trips, ∀ (k1_h40 : k1_cond40 i v25 v1930 = 1#1), ∀ a, (k1_off204 v1930 k1_t40) a + S1x16.size a ≤ S128x512.size a)
theorem k1_off202_inb : ∀ (i : grid1.Coords) (v25 : BitVec 32) (v1930 : BitVec 32) (k1_hw80 : k1_chk80 i v25 v1930) (k1_t40 : Fin k1_t40_loop.trips), ∀ (k1_h40 : k1_cond40 i v25 v1930 = 1#1), ∀ a, (k1_off202 v1930 k1_t40) a + S1x16.size a ≤ S128x512.size a := fun i v25 v1930 k1_hw80 k1_t40 k1_h40 => k1_hw80.1 k1_t40 k1_h40
theorem k1_off204_inb : ∀ (i : grid1.Coords) (v25 : BitVec 32) (v1930 : BitVec 32) (k1_hw80 : k1_chk80 i v25 v1930) (k1_t40 : Fin k1_t40_loop.trips), ∀ (k1_h40 : k1_cond40 i v25 v1930 = 1#1), ∀ a, (k1_off204 v1930 k1_t40) a + S1x16.size a ≤ S128x512.size a := fun i v25 v1930 k1_hw80 k1_t40 k1_h40 => k1_hw80.2 k1_t40 k1_h40

def k1_off205 (i : grid1.Coords) (v1975 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v1975 c0_i32_1428
  let v3763 : BitVec 32 := Scalar.extui v3762
  let c0_i32_1429 : BitVec 32 := 0#32
  let v3764 : BitVec 1 := Scalar.cmpi .slt v1975 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v1975 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v1975 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r48 : BitVec 32 := 0#32
  ![v3779.toNat, 0]
def k1_cond41 (i : grid1.Coords) (v25 : BitVec 32) (v1973 : BitVec 32) : BitVec 1 :=
  let c8_i32_758 : BitVec 32 := 8#32
  let v1993 : BitVec 1 := Scalar.cmpi .sgt v25 c8_i32_758
  let c0_i32_752 : BitVec 32 := 0#32
  let v1977 : BitVec 1 := Scalar.cmpi .sgt v1973 c0_i32_752
  let v1978 : BitVec 32 := Scalar.extui v1977
  let c0_i32_753 : BitVec 32 := 0#32
  let v1979 : BitVec 1 := Scalar.cmpi .slt v1973 c0_i32_753
  let v1980 : BitVec 32 := Scalar.extui v1979
  let v1981 : BitVec 32 := Scalar.subi v1978 v1980
  let c16_i32_751 : BitVec 32 := 16#32
  let c0_i32_754 : BitVec 32 := 0#32
  let v1982 : BitVec 1 := Scalar.cmpi .sgt c16_i32_751 c0_i32_754
  let v1983 : BitVec 32 := Scalar.extui v1982
  let c0_i32_755 : BitVec 32 := 0#32
  let v1984 : BitVec 1 := Scalar.cmpi .slt c16_i32_751 c0_i32_755
  let v1985 : BitVec 32 := Scalar.extui v1984
  let v1986 : BitVec 32 := Scalar.subi v1983 v1985
  let v1987 : BitVec 1 := Scalar.cmpi .ne v1981 v1986
  let v1988 : BitVec 32 := Scalar.remsi v1973 c16_i32_751
  let c0_i32_756 : BitVec 32 := 0#32
  let v1989 : BitVec 1 := Scalar.cmpi .ne v1988 c0_i32_756
  let v1990 : BitVec 1 := Scalar.andi v1987 v1989
  let v1976 : BitVec 32 := Scalar.divsi v1973 c16_i32_751
  let c1_i32_757 : BitVec 32 := 1#32
  let v1991 : BitVec 32 := Scalar.subi v1976 c1_i32_757
  let v1992 : BitVec 32 := Scalar.select v1990 v1991 v1976
  let c0_i32_760 : BitVec 32 := 0#32
  let v1995 : BitVec 1 := Scalar.cmpi .sgt v1992 c0_i32_760
  let v1996 : BitVec 32 := Scalar.extui v1995
  let c0_i32_761 : BitVec 32 := 0#32
  let v1997 : BitVec 1 := Scalar.cmpi .slt v1992 c0_i32_761
  let v1998 : BitVec 32 := Scalar.extui v1997
  let v1999 : BitVec 32 := Scalar.subi v1996 v1998
  let c4_i32_759 : BitVec 32 := 4#32
  let c0_i32_762 : BitVec 32 := 0#32
  let v2000 : BitVec 1 := Scalar.cmpi .sgt c4_i32_759 c0_i32_762
  let v2001 : BitVec 32 := Scalar.extui v2000
  let c0_i32_763 : BitVec 32 := 0#32
  let v2002 : BitVec 1 := Scalar.cmpi .slt c4_i32_759 c0_i32_763
  let v2003 : BitVec 32 := Scalar.extui v2002
  let v2004 : BitVec 32 := Scalar.subi v2001 v2003
  let v2005 : BitVec 1 := Scalar.cmpi .ne v1999 v2004
  let v2006 : BitVec 32 := Scalar.remsi v1992 c4_i32_759
  let c0_i32_764 : BitVec 32 := 0#32
  let v2007 : BitVec 1 := Scalar.cmpi .ne v2006 c0_i32_764
  let v2008 : BitVec 1 := Scalar.andi v2005 v2007
  let v1994 : BitVec 32 := Scalar.divsi v1992 c4_i32_759
  let c1_i32_765 : BitVec 32 := 1#32
  let v2009 : BitVec 32 := Scalar.subi v1994 c1_i32_765
  let v2010 : BitVec 32 := Scalar.select v2008 v2009 v1994
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2011 : BitVec 1 := Scalar.cmpi .eq v2010 v1627
  let v2012 : BitVec 1 := Scalar.andi v1993 v2011
  let v2013 : BitVec 32 := Scalar.extui v2012
  let c0_i32_766 : BitVec 32 := 0#32
  let v2014 : BitVec 1 := Scalar.cmpi .ne v2013 c0_i32_766
  v2014

@[reducible] def k1_t41_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off206 (v1975 : BitVec 32) (k1_t41 : Fin k1_t41_loop.trips) : Fin 2 → Nat :=
  let c0_i32_1453 : BitVec 32 := 0#32
  let c1_i32_1455 : BitVec 32 := 1#32
  let arg19 : BitVec 32 := Scf.iv c0_i32_1453 c1_i32_1455 k1_t41
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1975 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off207 (v1973 : BitVec 32) (k1_t41 : Fin k1_t41_loop.trips) : Fin 2 → Nat :=
  let c0_i32_752 : BitVec 32 := 0#32
  let v1977 : BitVec 1 := Scalar.cmpi .sgt v1973 c0_i32_752
  let v1978 : BitVec 32 := Scalar.extui v1977
  let c0_i32_753 : BitVec 32 := 0#32
  let v1979 : BitVec 1 := Scalar.cmpi .slt v1973 c0_i32_753
  let v1980 : BitVec 32 := Scalar.extui v1979
  let v1981 : BitVec 32 := Scalar.subi v1978 v1980
  let c16_i32_751 : BitVec 32 := 16#32
  let c0_i32_754 : BitVec 32 := 0#32
  let v1982 : BitVec 1 := Scalar.cmpi .sgt c16_i32_751 c0_i32_754
  let v1983 : BitVec 32 := Scalar.extui v1982
  let c0_i32_755 : BitVec 32 := 0#32
  let v1984 : BitVec 1 := Scalar.cmpi .slt c16_i32_751 c0_i32_755
  let v1985 : BitVec 32 := Scalar.extui v1984
  let v1986 : BitVec 32 := Scalar.subi v1983 v1985
  let v1987 : BitVec 1 := Scalar.cmpi .ne v1981 v1986
  let v1988 : BitVec 32 := Scalar.remsi v1973 c16_i32_751
  let c0_i32_756 : BitVec 32 := 0#32
  let v1989 : BitVec 1 := Scalar.cmpi .ne v1988 c0_i32_756
  let v1990 : BitVec 1 := Scalar.andi v1987 v1989
  let v1976 : BitVec 32 := Scalar.divsi v1973 c16_i32_751
  let c1_i32_757 : BitVec 32 := 1#32
  let v1991 : BitVec 32 := Scalar.subi v1976 c1_i32_757
  let v1992 : BitVec 32 := Scalar.select v1990 v1991 v1976
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1992 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t41
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1973 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off208 (v1975 : BitVec 32) (k1_t41 : Fin k1_t41_loop.trips) : Fin 2 → Nat :=
  let c0_i32_1453 : BitVec 32 := 0#32
  let c1_i32_1455 : BitVec 32 := 1#32
  let arg19 : BitVec 32 := Scf.iv c0_i32_1453 c1_i32_1455 k1_t41
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v1975 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk81 (i : grid1.Coords) (v25 : BitVec 32) (v1973 : BitVec 32) (v1975 : BitVec 32) : Prop :=
  (∀ (k1_h41 : k1_cond41 i v25 v1973 = 1#1), ∀ a, (k1_off205 i v1975) a + S32x512.size a ≤ S12288x512.size a) ∧
  (∀ k1_t41 : Fin k1_t41_loop.trips, ∀ (k1_h41 : k1_cond41 i v25 v1973 = 1#1), ∀ a, (k1_off206 v1975 k1_t41) a + S1x16.size a ≤ S32x512.size a) ∧
  (∀ k1_t41 : Fin k1_t41_loop.trips, ∀ (k1_h41 : k1_cond41 i v25 v1973 = 1#1), ∀ a, (k1_off208 v1975 k1_t41) a + S1x16.size a ≤ S32x512.size a)
theorem k1_off205_inb : ∀ (i : grid1.Coords) (v25 : BitVec 32) (v1973 : BitVec 32) (v1975 : BitVec 32) (k1_hw81 : k1_chk81 i v25 v1973 v1975), ∀ (k1_h41 : k1_cond41 i v25 v1973 = 1#1), ∀ a, (k1_off205 i v1975) a + S32x512.size a ≤ S12288x512.size a := fun i v25 v1973 v1975 k1_hw81 k1_h41 => k1_hw81.1 k1_h41
theorem k1_off206_inb : ∀ (i : grid1.Coords) (v25 : BitVec 32) (v1973 : BitVec 32) (v1975 : BitVec 32) (k1_hw81 : k1_chk81 i v25 v1973 v1975) (k1_t41 : Fin k1_t41_loop.trips), ∀ (k1_h41 : k1_cond41 i v25 v1973 = 1#1), ∀ a, (k1_off206 v1975 k1_t41) a + S1x16.size a ≤ S32x512.size a := fun i v25 v1973 v1975 k1_hw81 k1_t41 k1_h41 => k1_hw81.2.1 k1_t41 k1_h41
theorem k1_off208_inb : ∀ (i : grid1.Coords) (v25 : BitVec 32) (v1973 : BitVec 32) (v1975 : BitVec 32) (k1_hw81 : k1_chk81 i v25 v1973 v1975) (k1_t41 : Fin k1_t41_loop.trips), ∀ (k1_h41 : k1_cond41 i v25 v1973 = 1#1), ∀ a, (k1_off208 v1975 k1_t41) a + S1x16.size a ≤ S32x512.size a := fun i v25 v1973 v1975 k1_hw81 k1_t41 k1_h41 => k1_hw81.2.2 k1_t41 k1_h41

def k1_off209 (v1973 : BitVec 32) (k1_t41 : Fin k1_t41_loop.trips) : Fin 2 → Nat :=
  let c0_i32_752 : BitVec 32 := 0#32
  let v1977 : BitVec 1 := Scalar.cmpi .sgt v1973 c0_i32_752
  let v1978 : BitVec 32 := Scalar.extui v1977
  let c0_i32_753 : BitVec 32 := 0#32
  let v1979 : BitVec 1 := Scalar.cmpi .slt v1973 c0_i32_753
  let v1980 : BitVec 32 := Scalar.extui v1979
  let v1981 : BitVec 32 := Scalar.subi v1978 v1980
  let c16_i32_751 : BitVec 32 := 16#32
  let c0_i32_754 : BitVec 32 := 0#32
  let v1982 : BitVec 1 := Scalar.cmpi .sgt c16_i32_751 c0_i32_754
  let v1983 : BitVec 32 := Scalar.extui v1982
  let c0_i32_755 : BitVec 32 := 0#32
  let v1984 : BitVec 1 := Scalar.cmpi .slt c16_i32_751 c0_i32_755
  let v1985 : BitVec 32 := Scalar.extui v1984
  let v1986 : BitVec 32 := Scalar.subi v1983 v1985
  let v1987 : BitVec 1 := Scalar.cmpi .ne v1981 v1986
  let v1988 : BitVec 32 := Scalar.remsi v1973 c16_i32_751
  let c0_i32_756 : BitVec 32 := 0#32
  let v1989 : BitVec 1 := Scalar.cmpi .ne v1988 c0_i32_756
  let v1990 : BitVec 1 := Scalar.andi v1987 v1989
  let v1976 : BitVec 32 := Scalar.divsi v1973 c16_i32_751
  let c1_i32_757 : BitVec 32 := 1#32
  let v1991 : BitVec 32 := Scalar.subi v1976 c1_i32_757
  let v1992 : BitVec 32 := Scalar.select v1990 v1991 v1976
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v1992 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t41
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v1973 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk82 (i : grid1.Coords) (v25 : BitVec 32) (v1973 : BitVec 32) : Prop :=
  (∀ k1_t41 : Fin k1_t41_loop.trips, ∀ (k1_h41 : k1_cond41 i v25 v1973 = 1#1), ∀ a, (k1_off207 v1973 k1_t41) a + S1x16.size a ≤ S128x512.size a) ∧
  (∀ k1_t41 : Fin k1_t41_loop.trips, ∀ (k1_h41 : k1_cond41 i v25 v1973 = 1#1), ∀ a, (k1_off209 v1973 k1_t41) a + S1x16.size a ≤ S128x512.size a)
theorem k1_off207_inb : ∀ (i : grid1.Coords) (v25 : BitVec 32) (v1973 : BitVec 32) (k1_hw82 : k1_chk82 i v25 v1973) (k1_t41 : Fin k1_t41_loop.trips), ∀ (k1_h41 : k1_cond41 i v25 v1973 = 1#1), ∀ a, (k1_off207 v1973 k1_t41) a + S1x16.size a ≤ S128x512.size a := fun i v25 v1973 k1_hw82 k1_t41 k1_h41 => k1_hw82.1 k1_t41 k1_h41
theorem k1_off209_inb : ∀ (i : grid1.Coords) (v25 : BitVec 32) (v1973 : BitVec 32) (k1_hw82 : k1_chk82 i v25 v1973) (k1_t41 : Fin k1_t41_loop.trips), ∀ (k1_h41 : k1_cond41 i v25 v1973 = 1#1), ∀ a, (k1_off209 v1973 k1_t41) a + S1x16.size a ≤ S128x512.size a := fun i v25 v1973 k1_hw82 k1_t41 k1_h41 => k1_hw82.2 k1_t41 k1_h41

def k1_off210 (i : grid1.Coords) (v2018 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2018 c0_i32_1428
  let v3763 : BitVec 32 := Scalar.extui v3762
  let c0_i32_1429 : BitVec 32 := 0#32
  let v3764 : BitVec 1 := Scalar.cmpi .slt v2018 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2018 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2018 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r49 : BitVec 32 := 0#32
  ![v3779.toNat, 0]
def k1_cond42 (i : grid1.Coords) (v25 : BitVec 32) (v2016 : BitVec 32) : BitVec 1 :=
  let c9_i32_774 : BitVec 32 := 9#32
  let v2036 : BitVec 1 := Scalar.cmpi .sgt v25 c9_i32_774
  let c0_i32_768 : BitVec 32 := 0#32
  let v2020 : BitVec 1 := Scalar.cmpi .sgt v2016 c0_i32_768
  let v2021 : BitVec 32 := Scalar.extui v2020
  let c0_i32_769 : BitVec 32 := 0#32
  let v2022 : BitVec 1 := Scalar.cmpi .slt v2016 c0_i32_769
  let v2023 : BitVec 32 := Scalar.extui v2022
  let v2024 : BitVec 32 := Scalar.subi v2021 v2023
  let c16_i32_767 : BitVec 32 := 16#32
  let c0_i32_770 : BitVec 32 := 0#32
  let v2025 : BitVec 1 := Scalar.cmpi .sgt c16_i32_767 c0_i32_770
  let v2026 : BitVec 32 := Scalar.extui v2025
  let c0_i32_771 : BitVec 32 := 0#32
  let v2027 : BitVec 1 := Scalar.cmpi .slt c16_i32_767 c0_i32_771
  let v2028 : BitVec 32 := Scalar.extui v2027
  let v2029 : BitVec 32 := Scalar.subi v2026 v2028
  let v2030 : BitVec 1 := Scalar.cmpi .ne v2024 v2029
  let v2031 : BitVec 32 := Scalar.remsi v2016 c16_i32_767
  let c0_i32_772 : BitVec 32 := 0#32
  let v2032 : BitVec 1 := Scalar.cmpi .ne v2031 c0_i32_772
  let v2033 : BitVec 1 := Scalar.andi v2030 v2032
  let v2019 : BitVec 32 := Scalar.divsi v2016 c16_i32_767
  let c1_i32_773 : BitVec 32 := 1#32
  let v2034 : BitVec 32 := Scalar.subi v2019 c1_i32_773
  let v2035 : BitVec 32 := Scalar.select v2033 v2034 v2019
  let c0_i32_776 : BitVec 32 := 0#32
  let v2038 : BitVec 1 := Scalar.cmpi .sgt v2035 c0_i32_776
  let v2039 : BitVec 32 := Scalar.extui v2038
  let c0_i32_777 : BitVec 32 := 0#32
  let v2040 : BitVec 1 := Scalar.cmpi .slt v2035 c0_i32_777
  let v2041 : BitVec 32 := Scalar.extui v2040
  let v2042 : BitVec 32 := Scalar.subi v2039 v2041
  let c4_i32_775 : BitVec 32 := 4#32
  let c0_i32_778 : BitVec 32 := 0#32
  let v2043 : BitVec 1 := Scalar.cmpi .sgt c4_i32_775 c0_i32_778
  let v2044 : BitVec 32 := Scalar.extui v2043
  let c0_i32_779 : BitVec 32 := 0#32
  let v2045 : BitVec 1 := Scalar.cmpi .slt c4_i32_775 c0_i32_779
  let v2046 : BitVec 32 := Scalar.extui v2045
  let v2047 : BitVec 32 := Scalar.subi v2044 v2046
  let v2048 : BitVec 1 := Scalar.cmpi .ne v2042 v2047
  let v2049 : BitVec 32 := Scalar.remsi v2035 c4_i32_775
  let c0_i32_780 : BitVec 32 := 0#32
  let v2050 : BitVec 1 := Scalar.cmpi .ne v2049 c0_i32_780
  let v2051 : BitVec 1 := Scalar.andi v2048 v2050
  let v2037 : BitVec 32 := Scalar.divsi v2035 c4_i32_775
  let c1_i32_781 : BitVec 32 := 1#32
  let v2052 : BitVec 32 := Scalar.subi v2037 c1_i32_781
  let v2053 : BitVec 32 := Scalar.select v2051 v2052 v2037
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2054 : BitVec 1 := Scalar.cmpi .eq v2053 v1627
  let v2055 : BitVec 1 := Scalar.andi v2036 v2054
  let v2056 : BitVec 32 := Scalar.extui v2055
  let c0_i32_782 : BitVec 32 := 0#32
  let v2057 : BitVec 1 := Scalar.cmpi .ne v2056 c0_i32_782
  v2057

@[reducible] def k1_t42_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off211 (v2018 : BitVec 32) (k1_t42 : Fin k1_t42_loop.trips) : Fin 2 → Nat :=
  let c0_i32_1453 : BitVec 32 := 0#32
  let c1_i32_1455 : BitVec 32 := 1#32
  let arg19 : BitVec 32 := Scf.iv c0_i32_1453 c1_i32_1455 k1_t42
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2018 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off212 (v2016 : BitVec 32) (k1_t42 : Fin k1_t42_loop.trips) : Fin 2 → Nat :=
  let c0_i32_768 : BitVec 32 := 0#32
  let v2020 : BitVec 1 := Scalar.cmpi .sgt v2016 c0_i32_768
  let v2021 : BitVec 32 := Scalar.extui v2020
  let c0_i32_769 : BitVec 32 := 0#32
  let v2022 : BitVec 1 := Scalar.cmpi .slt v2016 c0_i32_769
  let v2023 : BitVec 32 := Scalar.extui v2022
  let v2024 : BitVec 32 := Scalar.subi v2021 v2023
  let c16_i32_767 : BitVec 32 := 16#32
  let c0_i32_770 : BitVec 32 := 0#32
  let v2025 : BitVec 1 := Scalar.cmpi .sgt c16_i32_767 c0_i32_770
  let v2026 : BitVec 32 := Scalar.extui v2025
  let c0_i32_771 : BitVec 32 := 0#32
  let v2027 : BitVec 1 := Scalar.cmpi .slt c16_i32_767 c0_i32_771
  let v2028 : BitVec 32 := Scalar.extui v2027
  let v2029 : BitVec 32 := Scalar.subi v2026 v2028
  let v2030 : BitVec 1 := Scalar.cmpi .ne v2024 v2029
  let v2031 : BitVec 32 := Scalar.remsi v2016 c16_i32_767
  let c0_i32_772 : BitVec 32 := 0#32
  let v2032 : BitVec 1 := Scalar.cmpi .ne v2031 c0_i32_772
  let v2033 : BitVec 1 := Scalar.andi v2030 v2032
  let v2019 : BitVec 32 := Scalar.divsi v2016 c16_i32_767
  let c1_i32_773 : BitVec 32 := 1#32
  let v2034 : BitVec 32 := Scalar.subi v2019 c1_i32_773
  let v2035 : BitVec 32 := Scalar.select v2033 v2034 v2019
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2035 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t42
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2016 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off213 (v2018 : BitVec 32) (k1_t42 : Fin k1_t42_loop.trips) : Fin 2 → Nat :=
  let c0_i32_1453 : BitVec 32 := 0#32
  let c1_i32_1455 : BitVec 32 := 1#32
  let arg19 : BitVec 32 := Scf.iv c0_i32_1453 c1_i32_1455 k1_t42
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2018 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk83 (i : grid1.Coords) (v25 : BitVec 32) (v2016 : BitVec 32) (v2018 : BitVec 32) : Prop :=
  (∀ (k1_h42 : k1_cond42 i v25 v2016 = 1#1), ∀ a, (k1_off210 i v2018) a + S32x512.size a ≤ S12288x512.size a) ∧
  (∀ k1_t42 : Fin k1_t42_loop.trips, ∀ (k1_h42 : k1_cond42 i v25 v2016 = 1#1), ∀ a, (k1_off211 v2018 k1_t42) a + S1x16.size a ≤ S32x512.size a) ∧
  (∀ k1_t42 : Fin k1_t42_loop.trips, ∀ (k1_h42 : k1_cond42 i v25 v2016 = 1#1), ∀ a, (k1_off213 v2018 k1_t42) a + S1x16.size a ≤ S32x512.size a)
theorem k1_off210_inb : ∀ (i : grid1.Coords) (v25 : BitVec 32) (v2016 : BitVec 32) (v2018 : BitVec 32) (k1_hw83 : k1_chk83 i v25 v2016 v2018), ∀ (k1_h42 : k1_cond42 i v25 v2016 = 1#1), ∀ a, (k1_off210 i v2018) a + S32x512.size a ≤ S12288x512.size a := fun i v25 v2016 v2018 k1_hw83 k1_h42 => k1_hw83.1 k1_h42
theorem k1_off211_inb : ∀ (i : grid1.Coords) (v25 : BitVec 32) (v2016 : BitVec 32) (v2018 : BitVec 32) (k1_hw83 : k1_chk83 i v25 v2016 v2018) (k1_t42 : Fin k1_t42_loop.trips), ∀ (k1_h42 : k1_cond42 i v25 v2016 = 1#1), ∀ a, (k1_off211 v2018 k1_t42) a + S1x16.size a ≤ S32x512.size a := fun i v25 v2016 v2018 k1_hw83 k1_t42 k1_h42 => k1_hw83.2.1 k1_t42 k1_h42
theorem k1_off213_inb : ∀ (i : grid1.Coords) (v25 : BitVec 32) (v2016 : BitVec 32) (v2018 : BitVec 32) (k1_hw83 : k1_chk83 i v25 v2016 v2018) (k1_t42 : Fin k1_t42_loop.trips), ∀ (k1_h42 : k1_cond42 i v25 v2016 = 1#1), ∀ a, (k1_off213 v2018 k1_t42) a + S1x16.size a ≤ S32x512.size a := fun i v25 v2016 v2018 k1_hw83 k1_t42 k1_h42 => k1_hw83.2.2 k1_t42 k1_h42

def k1_off214 (v2016 : BitVec 32) (k1_t42 : Fin k1_t42_loop.trips) : Fin 2 → Nat :=
  let c0_i32_768 : BitVec 32 := 0#32
  let v2020 : BitVec 1 := Scalar.cmpi .sgt v2016 c0_i32_768
  let v2021 : BitVec 32 := Scalar.extui v2020
  let c0_i32_769 : BitVec 32 := 0#32
  let v2022 : BitVec 1 := Scalar.cmpi .slt v2016 c0_i32_769
  let v2023 : BitVec 32 := Scalar.extui v2022
  let v2024 : BitVec 32 := Scalar.subi v2021 v2023
  let c16_i32_767 : BitVec 32 := 16#32
  let c0_i32_770 : BitVec 32 := 0#32
  let v2025 : BitVec 1 := Scalar.cmpi .sgt c16_i32_767 c0_i32_770
  let v2026 : BitVec 32 := Scalar.extui v2025
  let c0_i32_771 : BitVec 32 := 0#32
  let v2027 : BitVec 1 := Scalar.cmpi .slt c16_i32_767 c0_i32_771
  let v2028 : BitVec 32 := Scalar.extui v2027
  let v2029 : BitVec 32 := Scalar.subi v2026 v2028
  let v2030 : BitVec 1 := Scalar.cmpi .ne v2024 v2029
  let v2031 : BitVec 32 := Scalar.remsi v2016 c16_i32_767
  let c0_i32_772 : BitVec 32 := 0#32
  let v2032 : BitVec 1 := Scalar.cmpi .ne v2031 c0_i32_772
  let v2033 : BitVec 1 := Scalar.andi v2030 v2032
  let v2019 : BitVec 32 := Scalar.divsi v2016 c16_i32_767
  let c1_i32_773 : BitVec 32 := 1#32
  let v2034 : BitVec 32 := Scalar.subi v2019 c1_i32_773
  let v2035 : BitVec 32 := Scalar.select v2033 v2034 v2019
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2035 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t42
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2016 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk84 (i : grid1.Coords) (v25 : BitVec 32) (v2016 : BitVec 32) : Prop :=
  (∀ k1_t42 : Fin k1_t42_loop.trips, ∀ (k1_h42 : k1_cond42 i v25 v2016 = 1#1), ∀ a, (k1_off212 v2016 k1_t42) a + S1x16.size a ≤ S128x512.size a) ∧
  (∀ k1_t42 : Fin k1_t42_loop.trips, ∀ (k1_h42 : k1_cond42 i v25 v2016 = 1#1), ∀ a, (k1_off214 v2016 k1_t42) a + S1x16.size a ≤ S128x512.size a)
theorem k1_off212_inb : ∀ (i : grid1.Coords) (v25 : BitVec 32) (v2016 : BitVec 32) (k1_hw84 : k1_chk84 i v25 v2016) (k1_t42 : Fin k1_t42_loop.trips), ∀ (k1_h42 : k1_cond42 i v25 v2016 = 1#1), ∀ a, (k1_off212 v2016 k1_t42) a + S1x16.size a ≤ S128x512.size a := fun i v25 v2016 k1_hw84 k1_t42 k1_h42 => k1_hw84.1 k1_t42 k1_h42
theorem k1_off214_inb : ∀ (i : grid1.Coords) (v25 : BitVec 32) (v2016 : BitVec 32) (k1_hw84 : k1_chk84 i v25 v2016) (k1_t42 : Fin k1_t42_loop.trips), ∀ (k1_h42 : k1_cond42 i v25 v2016 = 1#1), ∀ a, (k1_off214 v2016 k1_t42) a + S1x16.size a ≤ S128x512.size a := fun i v25 v2016 k1_hw84 k1_t42 k1_h42 => k1_hw84.2 k1_t42 k1_h42

def k1_off215 (i : grid1.Coords) (v2061 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2061 c0_i32_1428
  let v3763 : BitVec 32 := Scalar.extui v3762
  let c0_i32_1429 : BitVec 32 := 0#32
  let v3764 : BitVec 1 := Scalar.cmpi .slt v2061 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2061 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2061 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r50 : BitVec 32 := 0#32
  ![v3779.toNat, 0]
def k1_cond43 (i : grid1.Coords) (v25 : BitVec 32) (v2059 : BitVec 32) : BitVec 1 :=
  let c10_i32_790 : BitVec 32 := 10#32
  let v2079 : BitVec 1 := Scalar.cmpi .sgt v25 c10_i32_790
  let c0_i32_784 : BitVec 32 := 0#32
  let v2063 : BitVec 1 := Scalar.cmpi .sgt v2059 c0_i32_784
  let v2064 : BitVec 32 := Scalar.extui v2063
  let c0_i32_785 : BitVec 32 := 0#32
  let v2065 : BitVec 1 := Scalar.cmpi .slt v2059 c0_i32_785
  let v2066 : BitVec 32 := Scalar.extui v2065
  let v2067 : BitVec 32 := Scalar.subi v2064 v2066
  let c16_i32_783 : BitVec 32 := 16#32
  let c0_i32_786 : BitVec 32 := 0#32
  let v2068 : BitVec 1 := Scalar.cmpi .sgt c16_i32_783 c0_i32_786
  let v2069 : BitVec 32 := Scalar.extui v2068
  let c0_i32_787 : BitVec 32 := 0#32
  let v2070 : BitVec 1 := Scalar.cmpi .slt c16_i32_783 c0_i32_787
  let v2071 : BitVec 32 := Scalar.extui v2070
  let v2072 : BitVec 32 := Scalar.subi v2069 v2071
  let v2073 : BitVec 1 := Scalar.cmpi .ne v2067 v2072
  let v2074 : BitVec 32 := Scalar.remsi v2059 c16_i32_783
  let c0_i32_788 : BitVec 32 := 0#32
  let v2075 : BitVec 1 := Scalar.cmpi .ne v2074 c0_i32_788
  let v2076 : BitVec 1 := Scalar.andi v2073 v2075
  let v2062 : BitVec 32 := Scalar.divsi v2059 c16_i32_783
  let c1_i32_789 : BitVec 32 := 1#32
  let v2077 : BitVec 32 := Scalar.subi v2062 c1_i32_789
  let v2078 : BitVec 32 := Scalar.select v2076 v2077 v2062
  let c0_i32_792 : BitVec 32 := 0#32
  let v2081 : BitVec 1 := Scalar.cmpi .sgt v2078 c0_i32_792
  let v2082 : BitVec 32 := Scalar.extui v2081
  let c0_i32_793 : BitVec 32 := 0#32
  let v2083 : BitVec 1 := Scalar.cmpi .slt v2078 c0_i32_793
  let v2084 : BitVec 32 := Scalar.extui v2083
  let v2085 : BitVec 32 := Scalar.subi v2082 v2084
  let c4_i32_791 : BitVec 32 := 4#32
  let c0_i32_794 : BitVec 32 := 0#32
  let v2086 : BitVec 1 := Scalar.cmpi .sgt c4_i32_791 c0_i32_794
  let v2087 : BitVec 32 := Scalar.extui v2086
  let c0_i32_795 : BitVec 32 := 0#32
  let v2088 : BitVec 1 := Scalar.cmpi .slt c4_i32_791 c0_i32_795
  let v2089 : BitVec 32 := Scalar.extui v2088
  let v2090 : BitVec 32 := Scalar.subi v2087 v2089
  let v2091 : BitVec 1 := Scalar.cmpi .ne v2085 v2090
  let v2092 : BitVec 32 := Scalar.remsi v2078 c4_i32_791
  let c0_i32_796 : BitVec 32 := 0#32
  let v2093 : BitVec 1 := Scalar.cmpi .ne v2092 c0_i32_796
  let v2094 : BitVec 1 := Scalar.andi v2091 v2093
  let v2080 : BitVec 32 := Scalar.divsi v2078 c4_i32_791
  let c1_i32_797 : BitVec 32 := 1#32
  let v2095 : BitVec 32 := Scalar.subi v2080 c1_i32_797
  let v2096 : BitVec 32 := Scalar.select v2094 v2095 v2080
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2097 : BitVec 1 := Scalar.cmpi .eq v2096 v1627
  let v2098 : BitVec 1 := Scalar.andi v2079 v2097
  let v2099 : BitVec 32 := Scalar.extui v2098
  let c0_i32_798 : BitVec 32 := 0#32
  let v2100 : BitVec 1 := Scalar.cmpi .ne v2099 c0_i32_798
  v2100

@[reducible] def k1_t43_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off216 (v2061 : BitVec 32) (k1_t43 : Fin k1_t43_loop.trips) : Fin 2 → Nat :=
  let c0_i32_1453 : BitVec 32 := 0#32
  let c1_i32_1455 : BitVec 32 := 1#32
  let arg19 : BitVec 32 := Scf.iv c0_i32_1453 c1_i32_1455 k1_t43
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2061 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off217 (v2059 : BitVec 32) (k1_t43 : Fin k1_t43_loop.trips) : Fin 2 → Nat :=
  let c0_i32_784 : BitVec 32 := 0#32
  let v2063 : BitVec 1 := Scalar.cmpi .sgt v2059 c0_i32_784
  let v2064 : BitVec 32 := Scalar.extui v2063
  let c0_i32_785 : BitVec 32 := 0#32
  let v2065 : BitVec 1 := Scalar.cmpi .slt v2059 c0_i32_785
  let v2066 : BitVec 32 := Scalar.extui v2065
  let v2067 : BitVec 32 := Scalar.subi v2064 v2066
  let c16_i32_783 : BitVec 32 := 16#32
  let c0_i32_786 : BitVec 32 := 0#32
  let v2068 : BitVec 1 := Scalar.cmpi .sgt c16_i32_783 c0_i32_786
  let v2069 : BitVec 32 := Scalar.extui v2068
  let c0_i32_787 : BitVec 32 := 0#32
  let v2070 : BitVec 1 := Scalar.cmpi .slt c16_i32_783 c0_i32_787
  let v2071 : BitVec 32 := Scalar.extui v2070
  let v2072 : BitVec 32 := Scalar.subi v2069 v2071
  let v2073 : BitVec 1 := Scalar.cmpi .ne v2067 v2072
  let v2074 : BitVec 32 := Scalar.remsi v2059 c16_i32_783
  let c0_i32_788 : BitVec 32 := 0#32
  let v2075 : BitVec 1 := Scalar.cmpi .ne v2074 c0_i32_788
  let v2076 : BitVec 1 := Scalar.andi v2073 v2075
  let v2062 : BitVec 32 := Scalar.divsi v2059 c16_i32_783
  let c1_i32_789 : BitVec 32 := 1#32
  let v2077 : BitVec 32 := Scalar.subi v2062 c1_i32_789
  let v2078 : BitVec 32 := Scalar.select v2076 v2077 v2062
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2078 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t43
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2059 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off218 (v2061 : BitVec 32) (k1_t43 : Fin k1_t43_loop.trips) : Fin 2 → Nat :=
  let c0_i32_1453 : BitVec 32 := 0#32
  let c1_i32_1455 : BitVec 32 := 1#32
  let arg19 : BitVec 32 := Scf.iv c0_i32_1453 c1_i32_1455 k1_t43
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2061 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk85 (i : grid1.Coords) (v25 : BitVec 32) (v2059 : BitVec 32) (v2061 : BitVec 32) : Prop :=
  (∀ (k1_h43 : k1_cond43 i v25 v2059 = 1#1), ∀ a, (k1_off215 i v2061) a + S32x512.size a ≤ S12288x512.size a) ∧
  (∀ k1_t43 : Fin k1_t43_loop.trips, ∀ (k1_h43 : k1_cond43 i v25 v2059 = 1#1), ∀ a, (k1_off216 v2061 k1_t43) a + S1x16.size a ≤ S32x512.size a) ∧
  (∀ k1_t43 : Fin k1_t43_loop.trips, ∀ (k1_h43 : k1_cond43 i v25 v2059 = 1#1), ∀ a, (k1_off218 v2061 k1_t43) a + S1x16.size a ≤ S32x512.size a)
theorem k1_off215_inb : ∀ (i : grid1.Coords) (v25 : BitVec 32) (v2059 : BitVec 32) (v2061 : BitVec 32) (k1_hw85 : k1_chk85 i v25 v2059 v2061), ∀ (k1_h43 : k1_cond43 i v25 v2059 = 1#1), ∀ a, (k1_off215 i v2061) a + S32x512.size a ≤ S12288x512.size a := fun i v25 v2059 v2061 k1_hw85 k1_h43 => k1_hw85.1 k1_h43
theorem k1_off216_inb : ∀ (i : grid1.Coords) (v25 : BitVec 32) (v2059 : BitVec 32) (v2061 : BitVec 32) (k1_hw85 : k1_chk85 i v25 v2059 v2061) (k1_t43 : Fin k1_t43_loop.trips), ∀ (k1_h43 : k1_cond43 i v25 v2059 = 1#1), ∀ a, (k1_off216 v2061 k1_t43) a + S1x16.size a ≤ S32x512.size a := fun i v25 v2059 v2061 k1_hw85 k1_t43 k1_h43 => k1_hw85.2.1 k1_t43 k1_h43
theorem k1_off218_inb : ∀ (i : grid1.Coords) (v25 : BitVec 32) (v2059 : BitVec 32) (v2061 : BitVec 32) (k1_hw85 : k1_chk85 i v25 v2059 v2061) (k1_t43 : Fin k1_t43_loop.trips), ∀ (k1_h43 : k1_cond43 i v25 v2059 = 1#1), ∀ a, (k1_off218 v2061 k1_t43) a + S1x16.size a ≤ S32x512.size a := fun i v25 v2059 v2061 k1_hw85 k1_t43 k1_h43 => k1_hw85.2.2 k1_t43 k1_h43

def k1_off219 (v2059 : BitVec 32) (k1_t43 : Fin k1_t43_loop.trips) : Fin 2 → Nat :=
  let c0_i32_784 : BitVec 32 := 0#32
  let v2063 : BitVec 1 := Scalar.cmpi .sgt v2059 c0_i32_784
  let v2064 : BitVec 32 := Scalar.extui v2063
  let c0_i32_785 : BitVec 32 := 0#32
  let v2065 : BitVec 1 := Scalar.cmpi .slt v2059 c0_i32_785
  let v2066 : BitVec 32 := Scalar.extui v2065
  let v2067 : BitVec 32 := Scalar.subi v2064 v2066
  let c16_i32_783 : BitVec 32 := 16#32
  let c0_i32_786 : BitVec 32 := 0#32
  let v2068 : BitVec 1 := Scalar.cmpi .sgt c16_i32_783 c0_i32_786
  let v2069 : BitVec 32 := Scalar.extui v2068
  let c0_i32_787 : BitVec 32 := 0#32
  let v2070 : BitVec 1 := Scalar.cmpi .slt c16_i32_783 c0_i32_787
  let v2071 : BitVec 32 := Scalar.extui v2070
  let v2072 : BitVec 32 := Scalar.subi v2069 v2071
  let v2073 : BitVec 1 := Scalar.cmpi .ne v2067 v2072
  let v2074 : BitVec 32 := Scalar.remsi v2059 c16_i32_783
  let c0_i32_788 : BitVec 32 := 0#32
  let v2075 : BitVec 1 := Scalar.cmpi .ne v2074 c0_i32_788
  let v2076 : BitVec 1 := Scalar.andi v2073 v2075
  let v2062 : BitVec 32 := Scalar.divsi v2059 c16_i32_783
  let c1_i32_789 : BitVec 32 := 1#32
  let v2077 : BitVec 32 := Scalar.subi v2062 c1_i32_789
  let v2078 : BitVec 32 := Scalar.select v2076 v2077 v2062
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2078 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t43
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2059 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk86 (i : grid1.Coords) (v25 : BitVec 32) (v2059 : BitVec 32) : Prop :=
  (∀ k1_t43 : Fin k1_t43_loop.trips, ∀ (k1_h43 : k1_cond43 i v25 v2059 = 1#1), ∀ a, (k1_off217 v2059 k1_t43) a + S1x16.size a ≤ S128x512.size a) ∧
  (∀ k1_t43 : Fin k1_t43_loop.trips, ∀ (k1_h43 : k1_cond43 i v25 v2059 = 1#1), ∀ a, (k1_off219 v2059 k1_t43) a + S1x16.size a ≤ S128x512.size a)
theorem k1_off217_inb : ∀ (i : grid1.Coords) (v25 : BitVec 32) (v2059 : BitVec 32) (k1_hw86 : k1_chk86 i v25 v2059) (k1_t43 : Fin k1_t43_loop.trips), ∀ (k1_h43 : k1_cond43 i v25 v2059 = 1#1), ∀ a, (k1_off217 v2059 k1_t43) a + S1x16.size a ≤ S128x512.size a := fun i v25 v2059 k1_hw86 k1_t43 k1_h43 => k1_hw86.1 k1_t43 k1_h43
theorem k1_off219_inb : ∀ (i : grid1.Coords) (v25 : BitVec 32) (v2059 : BitVec 32) (k1_hw86 : k1_chk86 i v25 v2059) (k1_t43 : Fin k1_t43_loop.trips), ∀ (k1_h43 : k1_cond43 i v25 v2059 = 1#1), ∀ a, (k1_off219 v2059 k1_t43) a + S1x16.size a ≤ S128x512.size a := fun i v25 v2059 k1_hw86 k1_t43 k1_h43 => k1_hw86.2 k1_t43 k1_h43

def k1_off220 (i : grid1.Coords) (v2104 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2104 c0_i32_1428
  let v3763 : BitVec 32 := Scalar.extui v3762
  let c0_i32_1429 : BitVec 32 := 0#32
  let v3764 : BitVec 1 := Scalar.cmpi .slt v2104 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2104 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2104 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r51 : BitVec 32 := 0#32
  ![v3779.toNat, 0]
def k1_cond44 (i : grid1.Coords) (v25 : BitVec 32) (v2102 : BitVec 32) : BitVec 1 :=
  let c11_i32_806 : BitVec 32 := 11#32
  let v2122 : BitVec 1 := Scalar.cmpi .sgt v25 c11_i32_806
  let c0_i32_800 : BitVec 32 := 0#32
  let v2106 : BitVec 1 := Scalar.cmpi .sgt v2102 c0_i32_800
  let v2107 : BitVec 32 := Scalar.extui v2106
  let c0_i32_801 : BitVec 32 := 0#32
  let v2108 : BitVec 1 := Scalar.cmpi .slt v2102 c0_i32_801
  let v2109 : BitVec 32 := Scalar.extui v2108
  let v2110 : BitVec 32 := Scalar.subi v2107 v2109
  let c16_i32_799 : BitVec 32 := 16#32
  let c0_i32_802 : BitVec 32 := 0#32
  let v2111 : BitVec 1 := Scalar.cmpi .sgt c16_i32_799 c0_i32_802
  let v2112 : BitVec 32 := Scalar.extui v2111
  let c0_i32_803 : BitVec 32 := 0#32
  let v2113 : BitVec 1 := Scalar.cmpi .slt c16_i32_799 c0_i32_803
  let v2114 : BitVec 32 := Scalar.extui v2113
  let v2115 : BitVec 32 := Scalar.subi v2112 v2114
  let v2116 : BitVec 1 := Scalar.cmpi .ne v2110 v2115
  let v2117 : BitVec 32 := Scalar.remsi v2102 c16_i32_799
  let c0_i32_804 : BitVec 32 := 0#32
  let v2118 : BitVec 1 := Scalar.cmpi .ne v2117 c0_i32_804
  let v2119 : BitVec 1 := Scalar.andi v2116 v2118
  let v2105 : BitVec 32 := Scalar.divsi v2102 c16_i32_799
  let c1_i32_805 : BitVec 32 := 1#32
  let v2120 : BitVec 32 := Scalar.subi v2105 c1_i32_805
  let v2121 : BitVec 32 := Scalar.select v2119 v2120 v2105
  let c0_i32_808 : BitVec 32 := 0#32
  let v2124 : BitVec 1 := Scalar.cmpi .sgt v2121 c0_i32_808
  let v2125 : BitVec 32 := Scalar.extui v2124
  let c0_i32_809 : BitVec 32 := 0#32
  let v2126 : BitVec 1 := Scalar.cmpi .slt v2121 c0_i32_809
  let v2127 : BitVec 32 := Scalar.extui v2126
  let v2128 : BitVec 32 := Scalar.subi v2125 v2127
  let c4_i32_807 : BitVec 32 := 4#32
  let c0_i32_810 : BitVec 32 := 0#32
  let v2129 : BitVec 1 := Scalar.cmpi .sgt c4_i32_807 c0_i32_810
  let v2130 : BitVec 32 := Scalar.extui v2129
  let c0_i32_811 : BitVec 32 := 0#32
  let v2131 : BitVec 1 := Scalar.cmpi .slt c4_i32_807 c0_i32_811
  let v2132 : BitVec 32 := Scalar.extui v2131
  let v2133 : BitVec 32 := Scalar.subi v2130 v2132
  let v2134 : BitVec 1 := Scalar.cmpi .ne v2128 v2133
  let v2135 : BitVec 32 := Scalar.remsi v2121 c4_i32_807
  let c0_i32_812 : BitVec 32 := 0#32
  let v2136 : BitVec 1 := Scalar.cmpi .ne v2135 c0_i32_812
  let v2137 : BitVec 1 := Scalar.andi v2134 v2136
  let v2123 : BitVec 32 := Scalar.divsi v2121 c4_i32_807
  let c1_i32_813 : BitVec 32 := 1#32
  let v2138 : BitVec 32 := Scalar.subi v2123 c1_i32_813
  let v2139 : BitVec 32 := Scalar.select v2137 v2138 v2123
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2140 : BitVec 1 := Scalar.cmpi .eq v2139 v1627
  let v2141 : BitVec 1 := Scalar.andi v2122 v2140
  let v2142 : BitVec 32 := Scalar.extui v2141
  let c0_i32_814 : BitVec 32 := 0#32
  let v2143 : BitVec 1 := Scalar.cmpi .ne v2142 c0_i32_814
  v2143

@[reducible] def k1_t44_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off221 (v2104 : BitVec 32) (k1_t44 : Fin k1_t44_loop.trips) : Fin 2 → Nat :=
  let c0_i32_1453 : BitVec 32 := 0#32
  let c1_i32_1455 : BitVec 32 := 1#32
  let arg19 : BitVec 32 := Scf.iv c0_i32_1453 c1_i32_1455 k1_t44
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2104 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off222 (v2102 : BitVec 32) (k1_t44 : Fin k1_t44_loop.trips) : Fin 2 → Nat :=
  let c0_i32_800 : BitVec 32 := 0#32
  let v2106 : BitVec 1 := Scalar.cmpi .sgt v2102 c0_i32_800
  let v2107 : BitVec 32 := Scalar.extui v2106
  let c0_i32_801 : BitVec 32 := 0#32
  let v2108 : BitVec 1 := Scalar.cmpi .slt v2102 c0_i32_801
  let v2109 : BitVec 32 := Scalar.extui v2108
  let v2110 : BitVec 32 := Scalar.subi v2107 v2109
  let c16_i32_799 : BitVec 32 := 16#32
  let c0_i32_802 : BitVec 32 := 0#32
  let v2111 : BitVec 1 := Scalar.cmpi .sgt c16_i32_799 c0_i32_802
  let v2112 : BitVec 32 := Scalar.extui v2111
  let c0_i32_803 : BitVec 32 := 0#32
  let v2113 : BitVec 1 := Scalar.cmpi .slt c16_i32_799 c0_i32_803
  let v2114 : BitVec 32 := Scalar.extui v2113
  let v2115 : BitVec 32 := Scalar.subi v2112 v2114
  let v2116 : BitVec 1 := Scalar.cmpi .ne v2110 v2115
  let v2117 : BitVec 32 := Scalar.remsi v2102 c16_i32_799
  let c0_i32_804 : BitVec 32 := 0#32
  let v2118 : BitVec 1 := Scalar.cmpi .ne v2117 c0_i32_804
  let v2119 : BitVec 1 := Scalar.andi v2116 v2118
  let v2105 : BitVec 32 := Scalar.divsi v2102 c16_i32_799
  let c1_i32_805 : BitVec 32 := 1#32
  let v2120 : BitVec 32 := Scalar.subi v2105 c1_i32_805
  let v2121 : BitVec 32 := Scalar.select v2119 v2120 v2105
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2121 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t44
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2102 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off223 (v2104 : BitVec 32) (k1_t44 : Fin k1_t44_loop.trips) : Fin 2 → Nat :=
  let c0_i32_1453 : BitVec 32 := 0#32
  let c1_i32_1455 : BitVec 32 := 1#32
  let arg19 : BitVec 32 := Scf.iv c0_i32_1453 c1_i32_1455 k1_t44
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2104 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk87 (i : grid1.Coords) (v25 : BitVec 32) (v2102 : BitVec 32) (v2104 : BitVec 32) : Prop :=
  (∀ (k1_h44 : k1_cond44 i v25 v2102 = 1#1), ∀ a, (k1_off220 i v2104) a + S32x512.size a ≤ S12288x512.size a) ∧
  (∀ k1_t44 : Fin k1_t44_loop.trips, ∀ (k1_h44 : k1_cond44 i v25 v2102 = 1#1), ∀ a, (k1_off221 v2104 k1_t44) a + S1x16.size a ≤ S32x512.size a) ∧
  (∀ k1_t44 : Fin k1_t44_loop.trips, ∀ (k1_h44 : k1_cond44 i v25 v2102 = 1#1), ∀ a, (k1_off223 v2104 k1_t44) a + S1x16.size a ≤ S32x512.size a)
theorem k1_off220_inb : ∀ (i : grid1.Coords) (v25 : BitVec 32) (v2102 : BitVec 32) (v2104 : BitVec 32) (k1_hw87 : k1_chk87 i v25 v2102 v2104), ∀ (k1_h44 : k1_cond44 i v25 v2102 = 1#1), ∀ a, (k1_off220 i v2104) a + S32x512.size a ≤ S12288x512.size a := fun i v25 v2102 v2104 k1_hw87 k1_h44 => k1_hw87.1 k1_h44
theorem k1_off221_inb : ∀ (i : grid1.Coords) (v25 : BitVec 32) (v2102 : BitVec 32) (v2104 : BitVec 32) (k1_hw87 : k1_chk87 i v25 v2102 v2104) (k1_t44 : Fin k1_t44_loop.trips), ∀ (k1_h44 : k1_cond44 i v25 v2102 = 1#1), ∀ a, (k1_off221 v2104 k1_t44) a + S1x16.size a ≤ S32x512.size a := fun i v25 v2102 v2104 k1_hw87 k1_t44 k1_h44 => k1_hw87.2.1 k1_t44 k1_h44
theorem k1_off223_inb : ∀ (i : grid1.Coords) (v25 : BitVec 32) (v2102 : BitVec 32) (v2104 : BitVec 32) (k1_hw87 : k1_chk87 i v25 v2102 v2104) (k1_t44 : Fin k1_t44_loop.trips), ∀ (k1_h44 : k1_cond44 i v25 v2102 = 1#1), ∀ a, (k1_off223 v2104 k1_t44) a + S1x16.size a ≤ S32x512.size a := fun i v25 v2102 v2104 k1_hw87 k1_t44 k1_h44 => k1_hw87.2.2 k1_t44 k1_h44

def k1_off224 (v2102 : BitVec 32) (k1_t44 : Fin k1_t44_loop.trips) : Fin 2 → Nat :=
  let c0_i32_800 : BitVec 32 := 0#32
  let v2106 : BitVec 1 := Scalar.cmpi .sgt v2102 c0_i32_800
  let v2107 : BitVec 32 := Scalar.extui v2106
  let c0_i32_801 : BitVec 32 := 0#32
  let v2108 : BitVec 1 := Scalar.cmpi .slt v2102 c0_i32_801
  let v2109 : BitVec 32 := Scalar.extui v2108
  let v2110 : BitVec 32 := Scalar.subi v2107 v2109
  let c16_i32_799 : BitVec 32 := 16#32
  let c0_i32_802 : BitVec 32 := 0#32
  let v2111 : BitVec 1 := Scalar.cmpi .sgt c16_i32_799 c0_i32_802
  let v2112 : BitVec 32 := Scalar.extui v2111
  let c0_i32_803 : BitVec 32 := 0#32
  let v2113 : BitVec 1 := Scalar.cmpi .slt c16_i32_799 c0_i32_803
  let v2114 : BitVec 32 := Scalar.extui v2113
  let v2115 : BitVec 32 := Scalar.subi v2112 v2114
  let v2116 : BitVec 1 := Scalar.cmpi .ne v2110 v2115
  let v2117 : BitVec 32 := Scalar.remsi v2102 c16_i32_799
  let c0_i32_804 : BitVec 32 := 0#32
  let v2118 : BitVec 1 := Scalar.cmpi .ne v2117 c0_i32_804
  let v2119 : BitVec 1 := Scalar.andi v2116 v2118
  let v2105 : BitVec 32 := Scalar.divsi v2102 c16_i32_799
  let c1_i32_805 : BitVec 32 := 1#32
  let v2120 : BitVec 32 := Scalar.subi v2105 c1_i32_805
  let v2121 : BitVec 32 := Scalar.select v2119 v2120 v2105
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2121 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t44
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2102 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk88 (i : grid1.Coords) (v25 : BitVec 32) (v2102 : BitVec 32) : Prop :=
  (∀ k1_t44 : Fin k1_t44_loop.trips, ∀ (k1_h44 : k1_cond44 i v25 v2102 = 1#1), ∀ a, (k1_off222 v2102 k1_t44) a + S1x16.size a ≤ S128x512.size a) ∧
  (∀ k1_t44 : Fin k1_t44_loop.trips, ∀ (k1_h44 : k1_cond44 i v25 v2102 = 1#1), ∀ a, (k1_off224 v2102 k1_t44) a + S1x16.size a ≤ S128x512.size a)
theorem k1_off222_inb : ∀ (i : grid1.Coords) (v25 : BitVec 32) (v2102 : BitVec 32) (k1_hw88 : k1_chk88 i v25 v2102) (k1_t44 : Fin k1_t44_loop.trips), ∀ (k1_h44 : k1_cond44 i v25 v2102 = 1#1), ∀ a, (k1_off222 v2102 k1_t44) a + S1x16.size a ≤ S128x512.size a := fun i v25 v2102 k1_hw88 k1_t44 k1_h44 => k1_hw88.1 k1_t44 k1_h44
theorem k1_off224_inb : ∀ (i : grid1.Coords) (v25 : BitVec 32) (v2102 : BitVec 32) (k1_hw88 : k1_chk88 i v25 v2102) (k1_t44 : Fin k1_t44_loop.trips), ∀ (k1_h44 : k1_cond44 i v25 v2102 = 1#1), ∀ a, (k1_off224 v2102 k1_t44) a + S1x16.size a ≤ S128x512.size a := fun i v25 v2102 k1_hw88 k1_t44 k1_h44 => k1_hw88.2 k1_t44 k1_h44

def k1_off225 (i : grid1.Coords) (v2147 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2147 c0_i32_1428
  let v3763 : BitVec 32 := Scalar.extui v3762
  let c0_i32_1429 : BitVec 32 := 0#32
  let v3764 : BitVec 1 := Scalar.cmpi .slt v2147 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2147 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2147 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r52 : BitVec 32 := 0#32
  ![v3779.toNat, 0]
def k1_cond45 (i : grid1.Coords) (v25 : BitVec 32) (v2145 : BitVec 32) : BitVec 1 :=
  let c12_i32_822 : BitVec 32 := 12#32
  let v2165 : BitVec 1 := Scalar.cmpi .sgt v25 c12_i32_822
  let c0_i32_816 : BitVec 32 := 0#32
  let v2149 : BitVec 1 := Scalar.cmpi .sgt v2145 c0_i32_816
  let v2150 : BitVec 32 := Scalar.extui v2149
  let c0_i32_817 : BitVec 32 := 0#32
  let v2151 : BitVec 1 := Scalar.cmpi .slt v2145 c0_i32_817
  let v2152 : BitVec 32 := Scalar.extui v2151
  let v2153 : BitVec 32 := Scalar.subi v2150 v2152
  let c16_i32_815 : BitVec 32 := 16#32
  let c0_i32_818 : BitVec 32 := 0#32
  let v2154 : BitVec 1 := Scalar.cmpi .sgt c16_i32_815 c0_i32_818
  let v2155 : BitVec 32 := Scalar.extui v2154
  let c0_i32_819 : BitVec 32 := 0#32
  let v2156 : BitVec 1 := Scalar.cmpi .slt c16_i32_815 c0_i32_819
  let v2157 : BitVec 32 := Scalar.extui v2156
  let v2158 : BitVec 32 := Scalar.subi v2155 v2157
  let v2159 : BitVec 1 := Scalar.cmpi .ne v2153 v2158
  let v2160 : BitVec 32 := Scalar.remsi v2145 c16_i32_815
  let c0_i32_820 : BitVec 32 := 0#32
  let v2161 : BitVec 1 := Scalar.cmpi .ne v2160 c0_i32_820
  let v2162 : BitVec 1 := Scalar.andi v2159 v2161
  let v2148 : BitVec 32 := Scalar.divsi v2145 c16_i32_815
  let c1_i32_821 : BitVec 32 := 1#32
  let v2163 : BitVec 32 := Scalar.subi v2148 c1_i32_821
  let v2164 : BitVec 32 := Scalar.select v2162 v2163 v2148
  let c0_i32_824 : BitVec 32 := 0#32
  let v2167 : BitVec 1 := Scalar.cmpi .sgt v2164 c0_i32_824
  let v2168 : BitVec 32 := Scalar.extui v2167
  let c0_i32_825 : BitVec 32 := 0#32
  let v2169 : BitVec 1 := Scalar.cmpi .slt v2164 c0_i32_825
  let v2170 : BitVec 32 := Scalar.extui v2169
  let v2171 : BitVec 32 := Scalar.subi v2168 v2170
  let c4_i32_823 : BitVec 32 := 4#32
  let c0_i32_826 : BitVec 32 := 0#32
  let v2172 : BitVec 1 := Scalar.cmpi .sgt c4_i32_823 c0_i32_826
  let v2173 : BitVec 32 := Scalar.extui v2172
  let c0_i32_827 : BitVec 32 := 0#32
  let v2174 : BitVec 1 := Scalar.cmpi .slt c4_i32_823 c0_i32_827
  let v2175 : BitVec 32 := Scalar.extui v2174
  let v2176 : BitVec 32 := Scalar.subi v2173 v2175
  let v2177 : BitVec 1 := Scalar.cmpi .ne v2171 v2176
  let v2178 : BitVec 32 := Scalar.remsi v2164 c4_i32_823
  let c0_i32_828 : BitVec 32 := 0#32
  let v2179 : BitVec 1 := Scalar.cmpi .ne v2178 c0_i32_828
  let v2180 : BitVec 1 := Scalar.andi v2177 v2179
  let v2166 : BitVec 32 := Scalar.divsi v2164 c4_i32_823
  let c1_i32_829 : BitVec 32 := 1#32
  let v2181 : BitVec 32 := Scalar.subi v2166 c1_i32_829
  let v2182 : BitVec 32 := Scalar.select v2180 v2181 v2166
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2183 : BitVec 1 := Scalar.cmpi .eq v2182 v1627
  let v2184 : BitVec 1 := Scalar.andi v2165 v2183
  let v2185 : BitVec 32 := Scalar.extui v2184
  let c0_i32_830 : BitVec 32 := 0#32
  let v2186 : BitVec 1 := Scalar.cmpi .ne v2185 c0_i32_830
  v2186

@[reducible] def k1_t45_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off226 (v2147 : BitVec 32) (k1_t45 : Fin k1_t45_loop.trips) : Fin 2 → Nat :=
  let c0_i32_1453 : BitVec 32 := 0#32
  let c1_i32_1455 : BitVec 32 := 1#32
  let arg19 : BitVec 32 := Scf.iv c0_i32_1453 c1_i32_1455 k1_t45
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2147 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off227 (v2145 : BitVec 32) (k1_t45 : Fin k1_t45_loop.trips) : Fin 2 → Nat :=
  let c0_i32_816 : BitVec 32 := 0#32
  let v2149 : BitVec 1 := Scalar.cmpi .sgt v2145 c0_i32_816
  let v2150 : BitVec 32 := Scalar.extui v2149
  let c0_i32_817 : BitVec 32 := 0#32
  let v2151 : BitVec 1 := Scalar.cmpi .slt v2145 c0_i32_817
  let v2152 : BitVec 32 := Scalar.extui v2151
  let v2153 : BitVec 32 := Scalar.subi v2150 v2152
  let c16_i32_815 : BitVec 32 := 16#32
  let c0_i32_818 : BitVec 32 := 0#32
  let v2154 : BitVec 1 := Scalar.cmpi .sgt c16_i32_815 c0_i32_818
  let v2155 : BitVec 32 := Scalar.extui v2154
  let c0_i32_819 : BitVec 32 := 0#32
  let v2156 : BitVec 1 := Scalar.cmpi .slt c16_i32_815 c0_i32_819
  let v2157 : BitVec 32 := Scalar.extui v2156
  let v2158 : BitVec 32 := Scalar.subi v2155 v2157
  let v2159 : BitVec 1 := Scalar.cmpi .ne v2153 v2158
  let v2160 : BitVec 32 := Scalar.remsi v2145 c16_i32_815
  let c0_i32_820 : BitVec 32 := 0#32
  let v2161 : BitVec 1 := Scalar.cmpi .ne v2160 c0_i32_820
  let v2162 : BitVec 1 := Scalar.andi v2159 v2161
  let v2148 : BitVec 32 := Scalar.divsi v2145 c16_i32_815
  let c1_i32_821 : BitVec 32 := 1#32
  let v2163 : BitVec 32 := Scalar.subi v2148 c1_i32_821
  let v2164 : BitVec 32 := Scalar.select v2162 v2163 v2148
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2164 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t45
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2145 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off228 (v2147 : BitVec 32) (k1_t45 : Fin k1_t45_loop.trips) : Fin 2 → Nat :=
  let c0_i32_1453 : BitVec 32 := 0#32
  let c1_i32_1455 : BitVec 32 := 1#32
  let arg19 : BitVec 32 := Scf.iv c0_i32_1453 c1_i32_1455 k1_t45
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2147 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk89 (i : grid1.Coords) (v25 : BitVec 32) (v2145 : BitVec 32) (v2147 : BitVec 32) : Prop :=
  (∀ (k1_h45 : k1_cond45 i v25 v2145 = 1#1), ∀ a, (k1_off225 i v2147) a + S32x512.size a ≤ S12288x512.size a) ∧
  (∀ k1_t45 : Fin k1_t45_loop.trips, ∀ (k1_h45 : k1_cond45 i v25 v2145 = 1#1), ∀ a, (k1_off226 v2147 k1_t45) a + S1x16.size a ≤ S32x512.size a) ∧
  (∀ k1_t45 : Fin k1_t45_loop.trips, ∀ (k1_h45 : k1_cond45 i v25 v2145 = 1#1), ∀ a, (k1_off228 v2147 k1_t45) a + S1x16.size a ≤ S32x512.size a)
theorem k1_off225_inb : ∀ (i : grid1.Coords) (v25 : BitVec 32) (v2145 : BitVec 32) (v2147 : BitVec 32) (k1_hw89 : k1_chk89 i v25 v2145 v2147), ∀ (k1_h45 : k1_cond45 i v25 v2145 = 1#1), ∀ a, (k1_off225 i v2147) a + S32x512.size a ≤ S12288x512.size a := fun i v25 v2145 v2147 k1_hw89 k1_h45 => k1_hw89.1 k1_h45
theorem k1_off226_inb : ∀ (i : grid1.Coords) (v25 : BitVec 32) (v2145 : BitVec 32) (v2147 : BitVec 32) (k1_hw89 : k1_chk89 i v25 v2145 v2147) (k1_t45 : Fin k1_t45_loop.trips), ∀ (k1_h45 : k1_cond45 i v25 v2145 = 1#1), ∀ a, (k1_off226 v2147 k1_t45) a + S1x16.size a ≤ S32x512.size a := fun i v25 v2145 v2147 k1_hw89 k1_t45 k1_h45 => k1_hw89.2.1 k1_t45 k1_h45
theorem k1_off228_inb : ∀ (i : grid1.Coords) (v25 : BitVec 32) (v2145 : BitVec 32) (v2147 : BitVec 32) (k1_hw89 : k1_chk89 i v25 v2145 v2147) (k1_t45 : Fin k1_t45_loop.trips), ∀ (k1_h45 : k1_cond45 i v25 v2145 = 1#1), ∀ a, (k1_off228 v2147 k1_t45) a + S1x16.size a ≤ S32x512.size a := fun i v25 v2145 v2147 k1_hw89 k1_t45 k1_h45 => k1_hw89.2.2 k1_t45 k1_h45

def k1_off229 (v2145 : BitVec 32) (k1_t45 : Fin k1_t45_loop.trips) : Fin 2 → Nat :=
  let c0_i32_816 : BitVec 32 := 0#32
  let v2149 : BitVec 1 := Scalar.cmpi .sgt v2145 c0_i32_816
  let v2150 : BitVec 32 := Scalar.extui v2149
  let c0_i32_817 : BitVec 32 := 0#32
  let v2151 : BitVec 1 := Scalar.cmpi .slt v2145 c0_i32_817
  let v2152 : BitVec 32 := Scalar.extui v2151
  let v2153 : BitVec 32 := Scalar.subi v2150 v2152
  let c16_i32_815 : BitVec 32 := 16#32
  let c0_i32_818 : BitVec 32 := 0#32
  let v2154 : BitVec 1 := Scalar.cmpi .sgt c16_i32_815 c0_i32_818
  let v2155 : BitVec 32 := Scalar.extui v2154
  let c0_i32_819 : BitVec 32 := 0#32
  let v2156 : BitVec 1 := Scalar.cmpi .slt c16_i32_815 c0_i32_819
  let v2157 : BitVec 32 := Scalar.extui v2156
  let v2158 : BitVec 32 := Scalar.subi v2155 v2157
  let v2159 : BitVec 1 := Scalar.cmpi .ne v2153 v2158
  let v2160 : BitVec 32 := Scalar.remsi v2145 c16_i32_815
  let c0_i32_820 : BitVec 32 := 0#32
  let v2161 : BitVec 1 := Scalar.cmpi .ne v2160 c0_i32_820
  let v2162 : BitVec 1 := Scalar.andi v2159 v2161
  let v2148 : BitVec 32 := Scalar.divsi v2145 c16_i32_815
  let c1_i32_821 : BitVec 32 := 1#32
  let v2163 : BitVec 32 := Scalar.subi v2148 c1_i32_821
  let v2164 : BitVec 32 := Scalar.select v2162 v2163 v2148
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2164 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t45
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2145 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk90 (i : grid1.Coords) (v25 : BitVec 32) (v2145 : BitVec 32) : Prop :=
  (∀ k1_t45 : Fin k1_t45_loop.trips, ∀ (k1_h45 : k1_cond45 i v25 v2145 = 1#1), ∀ a, (k1_off227 v2145 k1_t45) a + S1x16.size a ≤ S128x512.size a) ∧
  (∀ k1_t45 : Fin k1_t45_loop.trips, ∀ (k1_h45 : k1_cond45 i v25 v2145 = 1#1), ∀ a, (k1_off229 v2145 k1_t45) a + S1x16.size a ≤ S128x512.size a)
theorem k1_off227_inb : ∀ (i : grid1.Coords) (v25 : BitVec 32) (v2145 : BitVec 32) (k1_hw90 : k1_chk90 i v25 v2145) (k1_t45 : Fin k1_t45_loop.trips), ∀ (k1_h45 : k1_cond45 i v25 v2145 = 1#1), ∀ a, (k1_off227 v2145 k1_t45) a + S1x16.size a ≤ S128x512.size a := fun i v25 v2145 k1_hw90 k1_t45 k1_h45 => k1_hw90.1 k1_t45 k1_h45
theorem k1_off229_inb : ∀ (i : grid1.Coords) (v25 : BitVec 32) (v2145 : BitVec 32) (k1_hw90 : k1_chk90 i v25 v2145) (k1_t45 : Fin k1_t45_loop.trips), ∀ (k1_h45 : k1_cond45 i v25 v2145 = 1#1), ∀ a, (k1_off229 v2145 k1_t45) a + S1x16.size a ≤ S128x512.size a := fun i v25 v2145 k1_hw90 k1_t45 k1_h45 => k1_hw90.2 k1_t45 k1_h45

def k1_off230 (i : grid1.Coords) (v2190 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2190 c0_i32_1428
  let v3763 : BitVec 32 := Scalar.extui v3762
  let c0_i32_1429 : BitVec 32 := 0#32
  let v3764 : BitVec 1 := Scalar.cmpi .slt v2190 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2190 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2190 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r53 : BitVec 32 := 0#32
  ![v3779.toNat, 0]
def k1_cond46 (i : grid1.Coords) (v25 : BitVec 32) (v2188 : BitVec 32) : BitVec 1 :=
  let c13_i32_838 : BitVec 32 := 13#32
  let v2208 : BitVec 1 := Scalar.cmpi .sgt v25 c13_i32_838
  let c0_i32_832 : BitVec 32 := 0#32
  let v2192 : BitVec 1 := Scalar.cmpi .sgt v2188 c0_i32_832
  let v2193 : BitVec 32 := Scalar.extui v2192
  let c0_i32_833 : BitVec 32 := 0#32
  let v2194 : BitVec 1 := Scalar.cmpi .slt v2188 c0_i32_833
  let v2195 : BitVec 32 := Scalar.extui v2194
  let v2196 : BitVec 32 := Scalar.subi v2193 v2195
  let c16_i32_831 : BitVec 32 := 16#32
  let c0_i32_834 : BitVec 32 := 0#32
  let v2197 : BitVec 1 := Scalar.cmpi .sgt c16_i32_831 c0_i32_834
  let v2198 : BitVec 32 := Scalar.extui v2197
  let c0_i32_835 : BitVec 32 := 0#32
  let v2199 : BitVec 1 := Scalar.cmpi .slt c16_i32_831 c0_i32_835
  let v2200 : BitVec 32 := Scalar.extui v2199
  let v2201 : BitVec 32 := Scalar.subi v2198 v2200
  let v2202 : BitVec 1 := Scalar.cmpi .ne v2196 v2201
  let v2203 : BitVec 32 := Scalar.remsi v2188 c16_i32_831
  let c0_i32_836 : BitVec 32 := 0#32
  let v2204 : BitVec 1 := Scalar.cmpi .ne v2203 c0_i32_836
  let v2205 : BitVec 1 := Scalar.andi v2202 v2204
  let v2191 : BitVec 32 := Scalar.divsi v2188 c16_i32_831
  let c1_i32_837 : BitVec 32 := 1#32
  let v2206 : BitVec 32 := Scalar.subi v2191 c1_i32_837
  let v2207 : BitVec 32 := Scalar.select v2205 v2206 v2191
  let c0_i32_840 : BitVec 32 := 0#32
  let v2210 : BitVec 1 := Scalar.cmpi .sgt v2207 c0_i32_840
  let v2211 : BitVec 32 := Scalar.extui v2210
  let c0_i32_841 : BitVec 32 := 0#32
  let v2212 : BitVec 1 := Scalar.cmpi .slt v2207 c0_i32_841
  let v2213 : BitVec 32 := Scalar.extui v2212
  let v2214 : BitVec 32 := Scalar.subi v2211 v2213
  let c4_i32_839 : BitVec 32 := 4#32
  let c0_i32_842 : BitVec 32 := 0#32
  let v2215 : BitVec 1 := Scalar.cmpi .sgt c4_i32_839 c0_i32_842
  let v2216 : BitVec 32 := Scalar.extui v2215
  let c0_i32_843 : BitVec 32 := 0#32
  let v2217 : BitVec 1 := Scalar.cmpi .slt c4_i32_839 c0_i32_843
  let v2218 : BitVec 32 := Scalar.extui v2217
  let v2219 : BitVec 32 := Scalar.subi v2216 v2218
  let v2220 : BitVec 1 := Scalar.cmpi .ne v2214 v2219
  let v2221 : BitVec 32 := Scalar.remsi v2207 c4_i32_839
  let c0_i32_844 : BitVec 32 := 0#32
  let v2222 : BitVec 1 := Scalar.cmpi .ne v2221 c0_i32_844
  let v2223 : BitVec 1 := Scalar.andi v2220 v2222
  let v2209 : BitVec 32 := Scalar.divsi v2207 c4_i32_839
  let c1_i32_845 : BitVec 32 := 1#32
  let v2224 : BitVec 32 := Scalar.subi v2209 c1_i32_845
  let v2225 : BitVec 32 := Scalar.select v2223 v2224 v2209
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2226 : BitVec 1 := Scalar.cmpi .eq v2225 v1627
  let v2227 : BitVec 1 := Scalar.andi v2208 v2226
  let v2228 : BitVec 32 := Scalar.extui v2227
  let c0_i32_846 : BitVec 32 := 0#32
  let v2229 : BitVec 1 := Scalar.cmpi .ne v2228 c0_i32_846
  v2229

@[reducible] def k1_t46_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off231 (v2190 : BitVec 32) (k1_t46 : Fin k1_t46_loop.trips) : Fin 2 → Nat :=
  let c0_i32_1453 : BitVec 32 := 0#32
  let c1_i32_1455 : BitVec 32 := 1#32
  let arg19 : BitVec 32 := Scf.iv c0_i32_1453 c1_i32_1455 k1_t46
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2190 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off232 (v2188 : BitVec 32) (k1_t46 : Fin k1_t46_loop.trips) : Fin 2 → Nat :=
  let c0_i32_832 : BitVec 32 := 0#32
  let v2192 : BitVec 1 := Scalar.cmpi .sgt v2188 c0_i32_832
  let v2193 : BitVec 32 := Scalar.extui v2192
  let c0_i32_833 : BitVec 32 := 0#32
  let v2194 : BitVec 1 := Scalar.cmpi .slt v2188 c0_i32_833
  let v2195 : BitVec 32 := Scalar.extui v2194
  let v2196 : BitVec 32 := Scalar.subi v2193 v2195
  let c16_i32_831 : BitVec 32 := 16#32
  let c0_i32_834 : BitVec 32 := 0#32
  let v2197 : BitVec 1 := Scalar.cmpi .sgt c16_i32_831 c0_i32_834
  let v2198 : BitVec 32 := Scalar.extui v2197
  let c0_i32_835 : BitVec 32 := 0#32
  let v2199 : BitVec 1 := Scalar.cmpi .slt c16_i32_831 c0_i32_835
  let v2200 : BitVec 32 := Scalar.extui v2199
  let v2201 : BitVec 32 := Scalar.subi v2198 v2200
  let v2202 : BitVec 1 := Scalar.cmpi .ne v2196 v2201
  let v2203 : BitVec 32 := Scalar.remsi v2188 c16_i32_831
  let c0_i32_836 : BitVec 32 := 0#32
  let v2204 : BitVec 1 := Scalar.cmpi .ne v2203 c0_i32_836
  let v2205 : BitVec 1 := Scalar.andi v2202 v2204
  let v2191 : BitVec 32 := Scalar.divsi v2188 c16_i32_831
  let c1_i32_837 : BitVec 32 := 1#32
  let v2206 : BitVec 32 := Scalar.subi v2191 c1_i32_837
  let v2207 : BitVec 32 := Scalar.select v2205 v2206 v2191
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2207 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t46
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2188 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off233 (v2190 : BitVec 32) (k1_t46 : Fin k1_t46_loop.trips) : Fin 2 → Nat :=
  let c0_i32_1453 : BitVec 32 := 0#32
  let c1_i32_1455 : BitVec 32 := 1#32
  let arg19 : BitVec 32 := Scf.iv c0_i32_1453 c1_i32_1455 k1_t46
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2190 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk91 (i : grid1.Coords) (v25 : BitVec 32) (v2188 : BitVec 32) (v2190 : BitVec 32) : Prop :=
  (∀ (k1_h46 : k1_cond46 i v25 v2188 = 1#1), ∀ a, (k1_off230 i v2190) a + S32x512.size a ≤ S12288x512.size a) ∧
  (∀ k1_t46 : Fin k1_t46_loop.trips, ∀ (k1_h46 : k1_cond46 i v25 v2188 = 1#1), ∀ a, (k1_off231 v2190 k1_t46) a + S1x16.size a ≤ S32x512.size a) ∧
  (∀ k1_t46 : Fin k1_t46_loop.trips, ∀ (k1_h46 : k1_cond46 i v25 v2188 = 1#1), ∀ a, (k1_off233 v2190 k1_t46) a + S1x16.size a ≤ S32x512.size a)
theorem k1_off230_inb : ∀ (i : grid1.Coords) (v25 : BitVec 32) (v2188 : BitVec 32) (v2190 : BitVec 32) (k1_hw91 : k1_chk91 i v25 v2188 v2190), ∀ (k1_h46 : k1_cond46 i v25 v2188 = 1#1), ∀ a, (k1_off230 i v2190) a + S32x512.size a ≤ S12288x512.size a := fun i v25 v2188 v2190 k1_hw91 k1_h46 => k1_hw91.1 k1_h46
theorem k1_off231_inb : ∀ (i : grid1.Coords) (v25 : BitVec 32) (v2188 : BitVec 32) (v2190 : BitVec 32) (k1_hw91 : k1_chk91 i v25 v2188 v2190) (k1_t46 : Fin k1_t46_loop.trips), ∀ (k1_h46 : k1_cond46 i v25 v2188 = 1#1), ∀ a, (k1_off231 v2190 k1_t46) a + S1x16.size a ≤ S32x512.size a := fun i v25 v2188 v2190 k1_hw91 k1_t46 k1_h46 => k1_hw91.2.1 k1_t46 k1_h46
theorem k1_off233_inb : ∀ (i : grid1.Coords) (v25 : BitVec 32) (v2188 : BitVec 32) (v2190 : BitVec 32) (k1_hw91 : k1_chk91 i v25 v2188 v2190) (k1_t46 : Fin k1_t46_loop.trips), ∀ (k1_h46 : k1_cond46 i v25 v2188 = 1#1), ∀ a, (k1_off233 v2190 k1_t46) a + S1x16.size a ≤ S32x512.size a := fun i v25 v2188 v2190 k1_hw91 k1_t46 k1_h46 => k1_hw91.2.2 k1_t46 k1_h46

def k1_off234 (v2188 : BitVec 32) (k1_t46 : Fin k1_t46_loop.trips) : Fin 2 → Nat :=
  let c0_i32_832 : BitVec 32 := 0#32
  let v2192 : BitVec 1 := Scalar.cmpi .sgt v2188 c0_i32_832
  let v2193 : BitVec 32 := Scalar.extui v2192
  let c0_i32_833 : BitVec 32 := 0#32
  let v2194 : BitVec 1 := Scalar.cmpi .slt v2188 c0_i32_833
  let v2195 : BitVec 32 := Scalar.extui v2194
  let v2196 : BitVec 32 := Scalar.subi v2193 v2195
  let c16_i32_831 : BitVec 32 := 16#32
  let c0_i32_834 : BitVec 32 := 0#32
  let v2197 : BitVec 1 := Scalar.cmpi .sgt c16_i32_831 c0_i32_834
  let v2198 : BitVec 32 := Scalar.extui v2197
  let c0_i32_835 : BitVec 32 := 0#32
  let v2199 : BitVec 1 := Scalar.cmpi .slt c16_i32_831 c0_i32_835
  let v2200 : BitVec 32 := Scalar.extui v2199
  let v2201 : BitVec 32 := Scalar.subi v2198 v2200
  let v2202 : BitVec 1 := Scalar.cmpi .ne v2196 v2201
  let v2203 : BitVec 32 := Scalar.remsi v2188 c16_i32_831
  let c0_i32_836 : BitVec 32 := 0#32
  let v2204 : BitVec 1 := Scalar.cmpi .ne v2203 c0_i32_836
  let v2205 : BitVec 1 := Scalar.andi v2202 v2204
  let v2191 : BitVec 32 := Scalar.divsi v2188 c16_i32_831
  let c1_i32_837 : BitVec 32 := 1#32
  let v2206 : BitVec 32 := Scalar.subi v2191 c1_i32_837
  let v2207 : BitVec 32 := Scalar.select v2205 v2206 v2191
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2207 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t46
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2188 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk92 (i : grid1.Coords) (v25 : BitVec 32) (v2188 : BitVec 32) : Prop :=
  (∀ k1_t46 : Fin k1_t46_loop.trips, ∀ (k1_h46 : k1_cond46 i v25 v2188 = 1#1), ∀ a, (k1_off232 v2188 k1_t46) a + S1x16.size a ≤ S128x512.size a) ∧
  (∀ k1_t46 : Fin k1_t46_loop.trips, ∀ (k1_h46 : k1_cond46 i v25 v2188 = 1#1), ∀ a, (k1_off234 v2188 k1_t46) a + S1x16.size a ≤ S128x512.size a)
theorem k1_off232_inb : ∀ (i : grid1.Coords) (v25 : BitVec 32) (v2188 : BitVec 32) (k1_hw92 : k1_chk92 i v25 v2188) (k1_t46 : Fin k1_t46_loop.trips), ∀ (k1_h46 : k1_cond46 i v25 v2188 = 1#1), ∀ a, (k1_off232 v2188 k1_t46) a + S1x16.size a ≤ S128x512.size a := fun i v25 v2188 k1_hw92 k1_t46 k1_h46 => k1_hw92.1 k1_t46 k1_h46
theorem k1_off234_inb : ∀ (i : grid1.Coords) (v25 : BitVec 32) (v2188 : BitVec 32) (k1_hw92 : k1_chk92 i v25 v2188) (k1_t46 : Fin k1_t46_loop.trips), ∀ (k1_h46 : k1_cond46 i v25 v2188 = 1#1), ∀ a, (k1_off234 v2188 k1_t46) a + S1x16.size a ≤ S128x512.size a := fun i v25 v2188 k1_hw92 k1_t46 k1_h46 => k1_hw92.2 k1_t46 k1_h46

def k1_off235 (i : grid1.Coords) (v2233 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2233 c0_i32_1428
  let v3763 : BitVec 32 := Scalar.extui v3762
  let c0_i32_1429 : BitVec 32 := 0#32
  let v3764 : BitVec 1 := Scalar.cmpi .slt v2233 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2233 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2233 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r54 : BitVec 32 := 0#32
  ![v3779.toNat, 0]
def k1_cond47 (i : grid1.Coords) (v25 : BitVec 32) (v2231 : BitVec 32) : BitVec 1 :=
  let c14_i32_854 : BitVec 32 := 14#32
  let v2251 : BitVec 1 := Scalar.cmpi .sgt v25 c14_i32_854
  let c0_i32_848 : BitVec 32 := 0#32
  let v2235 : BitVec 1 := Scalar.cmpi .sgt v2231 c0_i32_848
  let v2236 : BitVec 32 := Scalar.extui v2235
  let c0_i32_849 : BitVec 32 := 0#32
  let v2237 : BitVec 1 := Scalar.cmpi .slt v2231 c0_i32_849
  let v2238 : BitVec 32 := Scalar.extui v2237
  let v2239 : BitVec 32 := Scalar.subi v2236 v2238
  let c16_i32_847 : BitVec 32 := 16#32
  let c0_i32_850 : BitVec 32 := 0#32
  let v2240 : BitVec 1 := Scalar.cmpi .sgt c16_i32_847 c0_i32_850
  let v2241 : BitVec 32 := Scalar.extui v2240
  let c0_i32_851 : BitVec 32 := 0#32
  let v2242 : BitVec 1 := Scalar.cmpi .slt c16_i32_847 c0_i32_851
  let v2243 : BitVec 32 := Scalar.extui v2242
  let v2244 : BitVec 32 := Scalar.subi v2241 v2243
  let v2245 : BitVec 1 := Scalar.cmpi .ne v2239 v2244
  let v2246 : BitVec 32 := Scalar.remsi v2231 c16_i32_847
  let c0_i32_852 : BitVec 32 := 0#32
  let v2247 : BitVec 1 := Scalar.cmpi .ne v2246 c0_i32_852
  let v2248 : BitVec 1 := Scalar.andi v2245 v2247
  let v2234 : BitVec 32 := Scalar.divsi v2231 c16_i32_847
  let c1_i32_853 : BitVec 32 := 1#32
  let v2249 : BitVec 32 := Scalar.subi v2234 c1_i32_853
  let v2250 : BitVec 32 := Scalar.select v2248 v2249 v2234
  let c0_i32_856 : BitVec 32 := 0#32
  let v2253 : BitVec 1 := Scalar.cmpi .sgt v2250 c0_i32_856
  let v2254 : BitVec 32 := Scalar.extui v2253
  let c0_i32_857 : BitVec 32 := 0#32
  let v2255 : BitVec 1 := Scalar.cmpi .slt v2250 c0_i32_857
  let v2256 : BitVec 32 := Scalar.extui v2255
  let v2257 : BitVec 32 := Scalar.subi v2254 v2256
  let c4_i32_855 : BitVec 32 := 4#32
  let c0_i32_858 : BitVec 32 := 0#32
  let v2258 : BitVec 1 := Scalar.cmpi .sgt c4_i32_855 c0_i32_858
  let v2259 : BitVec 32 := Scalar.extui v2258
  let c0_i32_859 : BitVec 32 := 0#32
  let v2260 : BitVec 1 := Scalar.cmpi .slt c4_i32_855 c0_i32_859
  let v2261 : BitVec 32 := Scalar.extui v2260
  let v2262 : BitVec 32 := Scalar.subi v2259 v2261
  let v2263 : BitVec 1 := Scalar.cmpi .ne v2257 v2262
  let v2264 : BitVec 32 := Scalar.remsi v2250 c4_i32_855
  let c0_i32_860 : BitVec 32 := 0#32
  let v2265 : BitVec 1 := Scalar.cmpi .ne v2264 c0_i32_860
  let v2266 : BitVec 1 := Scalar.andi v2263 v2265
  let v2252 : BitVec 32 := Scalar.divsi v2250 c4_i32_855
  let c1_i32_861 : BitVec 32 := 1#32
  let v2267 : BitVec 32 := Scalar.subi v2252 c1_i32_861
  let v2268 : BitVec 32 := Scalar.select v2266 v2267 v2252
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2269 : BitVec 1 := Scalar.cmpi .eq v2268 v1627
  let v2270 : BitVec 1 := Scalar.andi v2251 v2269
  let v2271 : BitVec 32 := Scalar.extui v2270
  let c0_i32_862 : BitVec 32 := 0#32
  let v2272 : BitVec 1 := Scalar.cmpi .ne v2271 c0_i32_862
  v2272

@[reducible] def k1_t47_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off236 (v2233 : BitVec 32) (k1_t47 : Fin k1_t47_loop.trips) : Fin 2 → Nat :=
  let c0_i32_1453 : BitVec 32 := 0#32
  let c1_i32_1455 : BitVec 32 := 1#32
  let arg19 : BitVec 32 := Scf.iv c0_i32_1453 c1_i32_1455 k1_t47
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2233 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off237 (v2231 : BitVec 32) (k1_t47 : Fin k1_t47_loop.trips) : Fin 2 → Nat :=
  let c0_i32_848 : BitVec 32 := 0#32
  let v2235 : BitVec 1 := Scalar.cmpi .sgt v2231 c0_i32_848
  let v2236 : BitVec 32 := Scalar.extui v2235
  let c0_i32_849 : BitVec 32 := 0#32
  let v2237 : BitVec 1 := Scalar.cmpi .slt v2231 c0_i32_849
  let v2238 : BitVec 32 := Scalar.extui v2237
  let v2239 : BitVec 32 := Scalar.subi v2236 v2238
  let c16_i32_847 : BitVec 32 := 16#32
  let c0_i32_850 : BitVec 32 := 0#32
  let v2240 : BitVec 1 := Scalar.cmpi .sgt c16_i32_847 c0_i32_850
  let v2241 : BitVec 32 := Scalar.extui v2240
  let c0_i32_851 : BitVec 32 := 0#32
  let v2242 : BitVec 1 := Scalar.cmpi .slt c16_i32_847 c0_i32_851
  let v2243 : BitVec 32 := Scalar.extui v2242
  let v2244 : BitVec 32 := Scalar.subi v2241 v2243
  let v2245 : BitVec 1 := Scalar.cmpi .ne v2239 v2244
  let v2246 : BitVec 32 := Scalar.remsi v2231 c16_i32_847
  let c0_i32_852 : BitVec 32 := 0#32
  let v2247 : BitVec 1 := Scalar.cmpi .ne v2246 c0_i32_852
  let v2248 : BitVec 1 := Scalar.andi v2245 v2247
  let v2234 : BitVec 32 := Scalar.divsi v2231 c16_i32_847
  let c1_i32_853 : BitVec 32 := 1#32
  let v2249 : BitVec 32 := Scalar.subi v2234 c1_i32_853
  let v2250 : BitVec 32 := Scalar.select v2248 v2249 v2234
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2250 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t47
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2231 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off238 (v2233 : BitVec 32) (k1_t47 : Fin k1_t47_loop.trips) : Fin 2 → Nat :=
  let c0_i32_1453 : BitVec 32 := 0#32
  let c1_i32_1455 : BitVec 32 := 1#32
  let arg19 : BitVec 32 := Scf.iv c0_i32_1453 c1_i32_1455 k1_t47
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2233 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk93 (i : grid1.Coords) (v25 : BitVec 32) (v2231 : BitVec 32) (v2233 : BitVec 32) : Prop :=
  (∀ (k1_h47 : k1_cond47 i v25 v2231 = 1#1), ∀ a, (k1_off235 i v2233) a + S32x512.size a ≤ S12288x512.size a) ∧
  (∀ k1_t47 : Fin k1_t47_loop.trips, ∀ (k1_h47 : k1_cond47 i v25 v2231 = 1#1), ∀ a, (k1_off236 v2233 k1_t47) a + S1x16.size a ≤ S32x512.size a) ∧
  (∀ k1_t47 : Fin k1_t47_loop.trips, ∀ (k1_h47 : k1_cond47 i v25 v2231 = 1#1), ∀ a, (k1_off238 v2233 k1_t47) a + S1x16.size a ≤ S32x512.size a)
theorem k1_off235_inb : ∀ (i : grid1.Coords) (v25 : BitVec 32) (v2231 : BitVec 32) (v2233 : BitVec 32) (k1_hw93 : k1_chk93 i v25 v2231 v2233), ∀ (k1_h47 : k1_cond47 i v25 v2231 = 1#1), ∀ a, (k1_off235 i v2233) a + S32x512.size a ≤ S12288x512.size a := fun i v25 v2231 v2233 k1_hw93 k1_h47 => k1_hw93.1 k1_h47
theorem k1_off236_inb : ∀ (i : grid1.Coords) (v25 : BitVec 32) (v2231 : BitVec 32) (v2233 : BitVec 32) (k1_hw93 : k1_chk93 i v25 v2231 v2233) (k1_t47 : Fin k1_t47_loop.trips), ∀ (k1_h47 : k1_cond47 i v25 v2231 = 1#1), ∀ a, (k1_off236 v2233 k1_t47) a + S1x16.size a ≤ S32x512.size a := fun i v25 v2231 v2233 k1_hw93 k1_t47 k1_h47 => k1_hw93.2.1 k1_t47 k1_h47
theorem k1_off238_inb : ∀ (i : grid1.Coords) (v25 : BitVec 32) (v2231 : BitVec 32) (v2233 : BitVec 32) (k1_hw93 : k1_chk93 i v25 v2231 v2233) (k1_t47 : Fin k1_t47_loop.trips), ∀ (k1_h47 : k1_cond47 i v25 v2231 = 1#1), ∀ a, (k1_off238 v2233 k1_t47) a + S1x16.size a ≤ S32x512.size a := fun i v25 v2231 v2233 k1_hw93 k1_t47 k1_h47 => k1_hw93.2.2 k1_t47 k1_h47

def k1_off239 (v2231 : BitVec 32) (k1_t47 : Fin k1_t47_loop.trips) : Fin 2 → Nat :=
  let c0_i32_848 : BitVec 32 := 0#32
  let v2235 : BitVec 1 := Scalar.cmpi .sgt v2231 c0_i32_848
  let v2236 : BitVec 32 := Scalar.extui v2235
  let c0_i32_849 : BitVec 32 := 0#32
  let v2237 : BitVec 1 := Scalar.cmpi .slt v2231 c0_i32_849
  let v2238 : BitVec 32 := Scalar.extui v2237
  let v2239 : BitVec 32 := Scalar.subi v2236 v2238
  let c16_i32_847 : BitVec 32 := 16#32
  let c0_i32_850 : BitVec 32 := 0#32
  let v2240 : BitVec 1 := Scalar.cmpi .sgt c16_i32_847 c0_i32_850
  let v2241 : BitVec 32 := Scalar.extui v2240
  let c0_i32_851 : BitVec 32 := 0#32
  let v2242 : BitVec 1 := Scalar.cmpi .slt c16_i32_847 c0_i32_851
  let v2243 : BitVec 32 := Scalar.extui v2242
  let v2244 : BitVec 32 := Scalar.subi v2241 v2243
  let v2245 : BitVec 1 := Scalar.cmpi .ne v2239 v2244
  let v2246 : BitVec 32 := Scalar.remsi v2231 c16_i32_847
  let c0_i32_852 : BitVec 32 := 0#32
  let v2247 : BitVec 1 := Scalar.cmpi .ne v2246 c0_i32_852
  let v2248 : BitVec 1 := Scalar.andi v2245 v2247
  let v2234 : BitVec 32 := Scalar.divsi v2231 c16_i32_847
  let c1_i32_853 : BitVec 32 := 1#32
  let v2249 : BitVec 32 := Scalar.subi v2234 c1_i32_853
  let v2250 : BitVec 32 := Scalar.select v2248 v2249 v2234
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2250 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t47
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2231 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk94 (i : grid1.Coords) (v25 : BitVec 32) (v2231 : BitVec 32) : Prop :=
  (∀ k1_t47 : Fin k1_t47_loop.trips, ∀ (k1_h47 : k1_cond47 i v25 v2231 = 1#1), ∀ a, (k1_off237 v2231 k1_t47) a + S1x16.size a ≤ S128x512.size a) ∧
  (∀ k1_t47 : Fin k1_t47_loop.trips, ∀ (k1_h47 : k1_cond47 i v25 v2231 = 1#1), ∀ a, (k1_off239 v2231 k1_t47) a + S1x16.size a ≤ S128x512.size a)
theorem k1_off237_inb : ∀ (i : grid1.Coords) (v25 : BitVec 32) (v2231 : BitVec 32) (k1_hw94 : k1_chk94 i v25 v2231) (k1_t47 : Fin k1_t47_loop.trips), ∀ (k1_h47 : k1_cond47 i v25 v2231 = 1#1), ∀ a, (k1_off237 v2231 k1_t47) a + S1x16.size a ≤ S128x512.size a := fun i v25 v2231 k1_hw94 k1_t47 k1_h47 => k1_hw94.1 k1_t47 k1_h47
theorem k1_off239_inb : ∀ (i : grid1.Coords) (v25 : BitVec 32) (v2231 : BitVec 32) (k1_hw94 : k1_chk94 i v25 v2231) (k1_t47 : Fin k1_t47_loop.trips), ∀ (k1_h47 : k1_cond47 i v25 v2231 = 1#1), ∀ a, (k1_off239 v2231 k1_t47) a + S1x16.size a ≤ S128x512.size a := fun i v25 v2231 k1_hw94 k1_t47 k1_h47 => k1_hw94.2 k1_t47 k1_h47

def k1_off240 (i : grid1.Coords) (v2276 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_608 : BitVec 32 := 3#32
  let v1598 : BitVec 32 := Scalar.muli v18 c3_i32_608
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1599 : BitVec 32 := Scalar.addi v1598 v1582
  let c512_i32_609 : BitVec 32 := 512#32
  let v1600 : BitVec 32 := Scalar.muli v1599 c512_i32_609
  let c0_i32_1428 : BitVec 32 := 0#32
  let v3762 : BitVec 1 := Scalar.cmpi .sgt v2276 c0_i32_1428
  let v3763 : BitVec 32 := Scalar.extui v3762
  let c0_i32_1429 : BitVec 32 := 0#32
  let v3764 : BitVec 1 := Scalar.cmpi .slt v2276 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2276 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2276 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v1600 v3778
  let c0_i32_1457_r55 : BitVec 32 := 0#32
  ![v3779.toNat, 0]
def k1_cond48 (i : grid1.Coords) (v25 : BitVec 32) (v2274 : BitVec 32) : BitVec 1 :=
  let c15_i32_870 : BitVec 32 := 15#32
  let v2294 : BitVec 1 := Scalar.cmpi .sgt v25 c15_i32_870
  let c0_i32_864 : BitVec 32 := 0#32
  let v2278 : BitVec 1 := Scalar.cmpi .sgt v2274 c0_i32_864
  let v2279 : BitVec 32 := Scalar.extui v2278
  let c0_i32_865 : BitVec 32 := 0#32
  let v2280 : BitVec 1 := Scalar.cmpi .slt v2274 c0_i32_865
  let v2281 : BitVec 32 := Scalar.extui v2280
  let v2282 : BitVec 32 := Scalar.subi v2279 v2281
  let c16_i32_863 : BitVec 32 := 16#32
  let c0_i32_866 : BitVec 32 := 0#32
  let v2283 : BitVec 1 := Scalar.cmpi .sgt c16_i32_863 c0_i32_866
  let v2284 : BitVec 32 := Scalar.extui v2283
  let c0_i32_867 : BitVec 32 := 0#32
  let v2285 : BitVec 1 := Scalar.cmpi .slt c16_i32_863 c0_i32_867
  let v2286 : BitVec 32 := Scalar.extui v2285
  let v2287 : BitVec 32 := Scalar.subi v2284 v2286
  let v2288 : BitVec 1 := Scalar.cmpi .ne v2282 v2287
  let v2289 : BitVec 32 := Scalar.remsi v2274 c16_i32_863
  let c0_i32_868 : BitVec 32 := 0#32
  let v2290 : BitVec 1 := Scalar.cmpi .ne v2289 c0_i32_868
  let v2291 : BitVec 1 := Scalar.andi v2288 v2290
  let v2277 : BitVec 32 := Scalar.divsi v2274 c16_i32_863
  let c1_i32_869 : BitVec 32 := 1#32
  let v2292 : BitVec 32 := Scalar.subi v2277 c1_i32_869
  let v2293 : BitVec 32 := Scalar.select v2291 v2292 v2277
  let c0_i32_872 : BitVec 32 := 0#32
  let v2296 : BitVec 1 := Scalar.cmpi .sgt v2293 c0_i32_872
  let v2297 : BitVec 32 := Scalar.extui v2296
  let c0_i32_873 : BitVec 32 := 0#32
  let v2298 : BitVec 1 := Scalar.cmpi .slt v2293 c0_i32_873
  let v2299 : BitVec 32 := Scalar.extui v2298
  let v2300 : BitVec 32 := Scalar.subi v2297 v2299
  let c4_i32_871 : BitVec 32 := 4#32
  let c0_i32_874 : BitVec 32 := 0#32
  let v2301 : BitVec 1 := Scalar.cmpi .sgt c4_i32_871 c0_i32_874
  let v2302 : BitVec 32 := Scalar.extui v2301
  let c0_i32_875 : BitVec 32 := 0#32
  let v2303 : BitVec 1 := Scalar.cmpi .slt c4_i32_871 c0_i32_875
  let v2304 : BitVec 32 := Scalar.extui v2303
  let v2305 : BitVec 32 := Scalar.subi v2302 v2304
  let v2306 : BitVec 1 := Scalar.cmpi .ne v2300 v2305
  let v2307 : BitVec 32 := Scalar.remsi v2293 c4_i32_871
  let c0_i32_876 : BitVec 32 := 0#32
  let v2308 : BitVec 1 := Scalar.cmpi .ne v2307 c0_i32_876
  let v2309 : BitVec 1 := Scalar.andi v2306 v2308
  let v2295 : BitVec 32 := Scalar.divsi v2293 c4_i32_871
  let c1_i32_877 : BitVec 32 := 1#32
  let v2310 : BitVec 32 := Scalar.subi v2295 c1_i32_877
  let v2311 : BitVec 32 := Scalar.select v2309 v2310 v2295
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c512_i32_610 : BitVec 32 := 512#32
  let c0_i32_611 : BitVec 32 := 0#32
  let v1601 : BitVec 1 := Scalar.cmpi .eq c512_i32_610 c0_i32_611
  let c1_i32_612 : BitVec 32 := 1#32
  let v1602 : BitVec 32 := Scalar.select v1601 c1_i32_612 c512_i32_610
  let v1603 : BitVec 32 := Scalar.remsi v1597 v1602
  let c0_i32_614 : BitVec 32 := 0#32
  let v1605 : BitVec 1 := Scalar.cmpi .slt v1603 c0_i32_614
  let c0_i32_615 : BitVec 32 := 0#32
  let v1606 : BitVec 1 := Scalar.cmpi .slt v1602 c0_i32_615
  let v1607 : BitVec 1 := Scalar.xori v1605 v1606
  let c0_i32_613 : BitVec 32 := 0#32
  let v1604 : BitVec 1 := Scalar.cmpi .ne v1603 c0_i32_613
  let v1608 : BitVec 1 := Scalar.andi v1607 v1604
  let v1609 : BitVec 32 := Scalar.addi v1603 v1602
  let v1610 : BitVec 32 := Scalar.select v1608 v1609 v1603
  let c0_i32_617 : BitVec 32 := 0#32
  let v1612 : BitVec 1 := Scalar.cmpi .sgt v1610 c0_i32_617
  let v1613 : BitVec 32 := Scalar.extui v1612
  let c0_i32_618 : BitVec 32 := 0#32
  let v1614 : BitVec 1 := Scalar.cmpi .slt v1610 c0_i32_618
  let v1615 : BitVec 32 := Scalar.extui v1614
  let v1616 : BitVec 32 := Scalar.subi v1613 v1615
  let c128_i32_616 : BitVec 32 := 128#32
  let c0_i32_619 : BitVec 32 := 0#32
  let v1617 : BitVec 1 := Scalar.cmpi .sgt c128_i32_616 c0_i32_619
  let v1618 : BitVec 32 := Scalar.extui v1617
  let c0_i32_620 : BitVec 32 := 0#32
  let v1619 : BitVec 1 := Scalar.cmpi .slt c128_i32_616 c0_i32_620
  let v1620 : BitVec 32 := Scalar.extui v1619
  let v1621 : BitVec 32 := Scalar.subi v1618 v1620
  let v1622 : BitVec 1 := Scalar.cmpi .ne v1616 v1621
  let v1623 : BitVec 32 := Scalar.remsi v1610 c128_i32_616
  let c0_i32_621 : BitVec 32 := 0#32
  let v1624 : BitVec 1 := Scalar.cmpi .ne v1623 c0_i32_621
  let v1625 : BitVec 1 := Scalar.andi v1622 v1624
  let v1611 : BitVec 32 := Scalar.divsi v1610 c128_i32_616
  let c1_i32_622 : BitVec 32 := 1#32
  let v1626 : BitVec 32 := Scalar.subi v1611 c1_i32_622
  let v1627 : BitVec 32 := Scalar.select v1625 v1626 v1611
  let v2312 : BitVec 1 := Scalar.cmpi .eq v2311 v1627
  let v2313 : BitVec 1 := Scalar.andi v2294 v2312
  let v2314 : BitVec 32 := Scalar.extui v2313
  let c0_i32_878 : BitVec 32 := 0#32
  let v2315 : BitVec 1 := Scalar.cmpi .ne v2314 c0_i32_878
  v2315

@[reducible] def k1_t48_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off241 (v2276 : BitVec 32) (k1_t48 : Fin k1_t48_loop.trips) : Fin 2 → Nat :=
  let c0_i32_1453 : BitVec 32 := 0#32
  let c1_i32_1455 : BitVec 32 := 1#32
  let arg19 : BitVec 32 := Scf.iv c0_i32_1453 c1_i32_1455 k1_t48
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2276 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off242 (v2274 : BitVec 32) (k1_t48 : Fin k1_t48_loop.trips) : Fin 2 → Nat :=
  let c0_i32_864 : BitVec 32 := 0#32
  let v2278 : BitVec 1 := Scalar.cmpi .sgt v2274 c0_i32_864
  let v2279 : BitVec 32 := Scalar.extui v2278
  let c0_i32_865 : BitVec 32 := 0#32
  let v2280 : BitVec 1 := Scalar.cmpi .slt v2274 c0_i32_865
  let v2281 : BitVec 32 := Scalar.extui v2280
  let v2282 : BitVec 32 := Scalar.subi v2279 v2281
  let c16_i32_863 : BitVec 32 := 16#32
  let c0_i32_866 : BitVec 32 := 0#32
  let v2283 : BitVec 1 := Scalar.cmpi .sgt c16_i32_863 c0_i32_866
  let v2284 : BitVec 32 := Scalar.extui v2283
  let c0_i32_867 : BitVec 32 := 0#32
  let v2285 : BitVec 1 := Scalar.cmpi .slt c16_i32_863 c0_i32_867
  let v2286 : BitVec 32 := Scalar.extui v2285
  let v2287 : BitVec 32 := Scalar.subi v2284 v2286
  let v2288 : BitVec 1 := Scalar.cmpi .ne v2282 v2287
  let v2289 : BitVec 32 := Scalar.remsi v2274 c16_i32_863
  let c0_i32_868 : BitVec 32 := 0#32
  let v2290 : BitVec 1 := Scalar.cmpi .ne v2289 c0_i32_868
  let v2291 : BitVec 1 := Scalar.andi v2288 v2290
  let v2277 : BitVec 32 := Scalar.divsi v2274 c16_i32_863
  let c1_i32_869 : BitVec 32 := 1#32
  let v2292 : BitVec 32 := Scalar.subi v2277 c1_i32_869
  let v2293 : BitVec 32 := Scalar.select v2291 v2292 v2277
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2293 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t48
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2274 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off243 (v2276 : BitVec 32) (k1_t48 : Fin k1_t48_loop.trips) : Fin 2 → Nat :=
  let c0_i32_1453 : BitVec 32 := 0#32
  let c1_i32_1455 : BitVec 32 := 1#32
  let arg19 : BitVec 32 := Scf.iv c0_i32_1453 c1_i32_1455 k1_t48
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2276 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk95 (i : grid1.Coords) (v25 : BitVec 32) (v2274 : BitVec 32) (v2276 : BitVec 32) : Prop :=
  (∀ (k1_h48 : k1_cond48 i v25 v2274 = 1#1), ∀ a, (k1_off240 i v2276) a + S32x512.size a ≤ S12288x512.size a) ∧
  (∀ k1_t48 : Fin k1_t48_loop.trips, ∀ (k1_h48 : k1_cond48 i v25 v2274 = 1#1), ∀ a, (k1_off241 v2276 k1_t48) a + S1x16.size a ≤ S32x512.size a) ∧
  (∀ k1_t48 : Fin k1_t48_loop.trips, ∀ (k1_h48 : k1_cond48 i v25 v2274 = 1#1), ∀ a, (k1_off243 v2276 k1_t48) a + S1x16.size a ≤ S32x512.size a)
theorem k1_off240_inb : ∀ (i : grid1.Coords) (v25 : BitVec 32) (v2274 : BitVec 32) (v2276 : BitVec 32) (k1_hw95 : k1_chk95 i v25 v2274 v2276), ∀ (k1_h48 : k1_cond48 i v25 v2274 = 1#1), ∀ a, (k1_off240 i v2276) a + S32x512.size a ≤ S12288x512.size a := fun i v25 v2274 v2276 k1_hw95 k1_h48 => k1_hw95.1 k1_h48
theorem k1_off241_inb : ∀ (i : grid1.Coords) (v25 : BitVec 32) (v2274 : BitVec 32) (v2276 : BitVec 32) (k1_hw95 : k1_chk95 i v25 v2274 v2276) (k1_t48 : Fin k1_t48_loop.trips), ∀ (k1_h48 : k1_cond48 i v25 v2274 = 1#1), ∀ a, (k1_off241 v2276 k1_t48) a + S1x16.size a ≤ S32x512.size a := fun i v25 v2274 v2276 k1_hw95 k1_t48 k1_h48 => k1_hw95.2.1 k1_t48 k1_h48
theorem k1_off243_inb : ∀ (i : grid1.Coords) (v25 : BitVec 32) (v2274 : BitVec 32) (v2276 : BitVec 32) (k1_hw95 : k1_chk95 i v25 v2274 v2276) (k1_t48 : Fin k1_t48_loop.trips), ∀ (k1_h48 : k1_cond48 i v25 v2274 = 1#1), ∀ a, (k1_off243 v2276 k1_t48) a + S1x16.size a ≤ S32x512.size a := fun i v25 v2274 v2276 k1_hw95 k1_t48 k1_h48 => k1_hw95.2.2 k1_t48 k1_h48

def k1_off244 (v2274 : BitVec 32) (k1_t48 : Fin k1_t48_loop.trips) : Fin 2 → Nat :=
  let c0_i32_864 : BitVec 32 := 0#32
  let v2278 : BitVec 1 := Scalar.cmpi .sgt v2274 c0_i32_864
  let v2279 : BitVec 32 := Scalar.extui v2278
  let c0_i32_865 : BitVec 32 := 0#32
  let v2280 : BitVec 1 := Scalar.cmpi .slt v2274 c0_i32_865
  let v2281 : BitVec 32 := Scalar.extui v2280
  let v2282 : BitVec 32 := Scalar.subi v2279 v2281
  let c16_i32_863 : BitVec 32 := 16#32
  let c0_i32_866 : BitVec 32 := 0#32
  let v2283 : BitVec 1 := Scalar.cmpi .sgt c16_i32_863 c0_i32_866
  let v2284 : BitVec 32 := Scalar.extui v2283
  let c0_i32_867 : BitVec 32 := 0#32
  let v2285 : BitVec 1 := Scalar.cmpi .slt c16_i32_863 c0_i32_867
  let v2286 : BitVec 32 := Scalar.extui v2285
  let v2287 : BitVec 32 := Scalar.subi v2284 v2286
  let v2288 : BitVec 1 := Scalar.cmpi .ne v2282 v2287
  let v2289 : BitVec 32 := Scalar.remsi v2274 c16_i32_863
  let c0_i32_868 : BitVec 32 := 0#32
  let v2290 : BitVec 1 := Scalar.cmpi .ne v2289 c0_i32_868
  let v2291 : BitVec 1 := Scalar.andi v2288 v2290
  let v2277 : BitVec 32 := Scalar.divsi v2274 c16_i32_863
  let c1_i32_869 : BitVec 32 := 1#32
  let v2292 : BitVec 32 := Scalar.subi v2277 c1_i32_869
  let v2293 : BitVec 32 := Scalar.select v2291 v2292 v2277
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2293 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t48
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2274 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk96 (i : grid1.Coords) (v25 : BitVec 32) (v2274 : BitVec 32) : Prop :=
  (∀ k1_t48 : Fin k1_t48_loop.trips, ∀ (k1_h48 : k1_cond48 i v25 v2274 = 1#1), ∀ a, (k1_off242 v2274 k1_t48) a + S1x16.size a ≤ S128x512.size a) ∧
  (∀ k1_t48 : Fin k1_t48_loop.trips, ∀ (k1_h48 : k1_cond48 i v25 v2274 = 1#1), ∀ a, (k1_off244 v2274 k1_t48) a + S1x16.size a ≤ S128x512.size a)
theorem k1_off242_inb : ∀ (i : grid1.Coords) (v25 : BitVec 32) (v2274 : BitVec 32) (k1_hw96 : k1_chk96 i v25 v2274) (k1_t48 : Fin k1_t48_loop.trips), ∀ (k1_h48 : k1_cond48 i v25 v2274 = 1#1), ∀ a, (k1_off242 v2274 k1_t48) a + S1x16.size a ≤ S128x512.size a := fun i v25 v2274 k1_hw96 k1_t48 k1_h48 => k1_hw96.1 k1_t48 k1_h48
theorem k1_off244_inb : ∀ (i : grid1.Coords) (v25 : BitVec 32) (v2274 : BitVec 32) (k1_hw96 : k1_chk96 i v25 v2274) (k1_t48 : Fin k1_t48_loop.trips), ∀ (k1_h48 : k1_cond48 i v25 v2274 = 1#1), ∀ a, (k1_off244 v2274 k1_t48) a + S1x16.size a ≤ S128x512.size a := fun i v25 v2274 k1_hw96 k1_t48 k1_h48 => k1_hw96.2 k1_t48 k1_h48

def k1_off245 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_605 : BitVec 32 := 3#32
  let v1593 : BitVec 32 := Scalar.muli v18 c3_i32_605
  let c3_i32_584 : BitVec 32 := 3#32
  let v1554 : BitVec 32 := Scalar.muli v1 c3_i32_584
  let c2_i32_585 : BitVec 32 := 2#32
  let v1555 : BitVec 32 := Scalar.addi v1554 c2_i32_585
  let c12_i32_586 : BitVec 32 := 12#32
  let c0_i32_587 : BitVec 32 := 0#32
  let v1556 : BitVec 1 := Scalar.cmpi .eq c12_i32_586 c0_i32_587
  let c1_i32_588 : BitVec 32 := 1#32
  let v1557 : BitVec 32 := Scalar.select v1556 c1_i32_588 c12_i32_586
  let v1558 : BitVec 32 := Scalar.remsi v1555 v1557
  let c0_i32_590 : BitVec 32 := 0#32
  let v1560 : BitVec 1 := Scalar.cmpi .slt v1558 c0_i32_590
  let c0_i32_591 : BitVec 32 := 0#32
  let v1561 : BitVec 1 := Scalar.cmpi .slt v1557 c0_i32_591
  let v1562 : BitVec 1 := Scalar.xori v1560 v1561
  let c0_i32_589 : BitVec 32 := 0#32
  let v1559 : BitVec 1 := Scalar.cmpi .ne v1558 c0_i32_589
  let v1563 : BitVec 1 := Scalar.andi v1562 v1559
  let v1564 : BitVec 32 := Scalar.addi v1558 v1557
  let v1565 : BitVec 32 := Scalar.select v1563 v1564 v1558
  let c0_i32_593 : BitVec 32 := 0#32
  let v1567 : BitVec 1 := Scalar.cmpi .sgt v1565 c0_i32_593
  let v1568 : BitVec 32 := Scalar.extui v1567
  let c0_i32_594 : BitVec 32 := 0#32
  let v1569 : BitVec 1 := Scalar.cmpi .slt v1565 c0_i32_594
  let v1570 : BitVec 32 := Scalar.extui v1569
  let v1571 : BitVec 32 := Scalar.subi v1568 v1570
  let c4_i32_592 : BitVec 32 := 4#32
  let c0_i32_595 : BitVec 32 := 0#32
  let v1572 : BitVec 1 := Scalar.cmpi .sgt c4_i32_592 c0_i32_595
  let v1573 : BitVec 32 := Scalar.extui v1572
  let c0_i32_596 : BitVec 32 := 0#32
  let v1574 : BitVec 1 := Scalar.cmpi .slt c4_i32_592 c0_i32_596
  let v1575 : BitVec 32 := Scalar.extui v1574
  let v1576 : BitVec 32 := Scalar.subi v1573 v1575
  let v1577 : BitVec 1 := Scalar.cmpi .ne v1571 v1576
  let v1578 : BitVec 32 := Scalar.remsi v1565 c4_i32_592
  let c0_i32_597 : BitVec 32 := 0#32
  let v1579 : BitVec 1 := Scalar.cmpi .ne v1578 c0_i32_597
  let v1580 : BitVec 1 := Scalar.andi v1577 v1579
  let v1566 : BitVec 32 := Scalar.divsi v1565 c4_i32_592
  let c1_i32_598 : BitVec 32 := 1#32
  let v1581 : BitVec 32 := Scalar.subi v1566 c1_i32_598
  let v1582 : BitVec 32 := Scalar.select v1580 v1581 v1566
  let v1594 : BitVec 32 := Scalar.addi v1593 v1582
  let c512_i32_606 : BitVec 32 := 512#32
  let v1595 : BitVec 32 := Scalar.muli v1594 c512_i32_606
  let c4_i32_599 : BitVec 32 := 4#32
  let c0_i32_600 : BitVec 32 := 0#32
  let v1583 : BitVec 1 := Scalar.cmpi .eq c4_i32_599 c0_i32_600
  let c1_i32_601 : BitVec 32 := 1#32
  let v1584 : BitVec 32 := Scalar.select v1583 c1_i32_601 c4_i32_599
  let v1585 : BitVec 32 := Scalar.remsi v1555 v1584
  let c0_i32_603 : BitVec 32 := 0#32
  let v1587 : BitVec 1 := Scalar.cmpi .slt v1585 c0_i32_603
  let c0_i32_604 : BitVec 32 := 0#32
  let v1588 : BitVec 1 := Scalar.cmpi .slt v1584 c0_i32_604
  let v1589 : BitVec 1 := Scalar.xori v1587 v1588
  let c0_i32_602 : BitVec 32 := 0#32
  let v1586 : BitVec 1 := Scalar.cmpi .ne v1585 c0_i32_602
  let v1590 : BitVec 1 := Scalar.andi v1589 v1586
  let v1591 : BitVec 32 := Scalar.addi v1585 v1584
  let v1592 : BitVec 32 := Scalar.select v1590 v1591 v1585
  let c128_i32_607 : BitVec 32 := 128#32
  let v1596 : BitVec 32 := Scalar.muli v1592 c128_i32_607
  let v1597 : BitVec 32 := Scalar.addi v1595 v1596
  let c0_i32_1427_r56 : BitVec 32 := 0#32
  ![v1597.toNat, 0]
def k1_off246 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c0_i32_1427_r57 : BitVec 32 := 0#32
  ![v2328.toNat, 0]
def k1_off247 (i : grid1.Coords) (v2360 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2360 c0_i32_1428
  let v3763 : BitVec 32 := Scalar.extui v3762
  let c0_i32_1429 : BitVec 32 := 0#32
  let v3764 : BitVec 1 := Scalar.cmpi .slt v2360 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2360 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2360 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r58 : BitVec 32 := 0#32
  ![v3779.toNat, 0]
def k1_cond49 (i : grid1.Coords) (v25 : BitVec 32) (v2358 : BitVec 32) : BitVec 1 :=
  let c0_i32_908 : BitVec 32 := 0#32
  let v2378 : BitVec 1 := Scalar.cmpi .sgt v25 c0_i32_908
  let c0_i32_902 : BitVec 32 := 0#32
  let v2362 : BitVec 1 := Scalar.cmpi .sgt v2358 c0_i32_902
  let v2363 : BitVec 32 := Scalar.extui v2362
  let c0_i32_903 : BitVec 32 := 0#32
  let v2364 : BitVec 1 := Scalar.cmpi .slt v2358 c0_i32_903
  let v2365 : BitVec 32 := Scalar.extui v2364
  let v2366 : BitVec 32 := Scalar.subi v2363 v2365
  let c16_i32_901 : BitVec 32 := 16#32
  let c0_i32_904 : BitVec 32 := 0#32
  let v2367 : BitVec 1 := Scalar.cmpi .sgt c16_i32_901 c0_i32_904
  let v2368 : BitVec 32 := Scalar.extui v2367
  let c0_i32_905 : BitVec 32 := 0#32
  let v2369 : BitVec 1 := Scalar.cmpi .slt c16_i32_901 c0_i32_905
  let v2370 : BitVec 32 := Scalar.extui v2369
  let v2371 : BitVec 32 := Scalar.subi v2368 v2370
  let v2372 : BitVec 1 := Scalar.cmpi .ne v2366 v2371
  let v2373 : BitVec 32 := Scalar.remsi v2358 c16_i32_901
  let c0_i32_906 : BitVec 32 := 0#32
  let v2374 : BitVec 1 := Scalar.cmpi .ne v2373 c0_i32_906
  let v2375 : BitVec 1 := Scalar.andi v2372 v2374
  let v2361 : BitVec 32 := Scalar.divsi v2358 c16_i32_901
  let c1_i32_907 : BitVec 32 := 1#32
  let v2376 : BitVec 32 := Scalar.subi v2361 c1_i32_907
  let v2377 : BitVec 32 := Scalar.select v2375 v2376 v2361
  let c0_i32_910 : BitVec 32 := 0#32
  let v2380 : BitVec 1 := Scalar.cmpi .sgt v2377 c0_i32_910
  let v2381 : BitVec 32 := Scalar.extui v2380
  let c0_i32_911 : BitVec 32 := 0#32
  let v2382 : BitVec 1 := Scalar.cmpi .slt v2377 c0_i32_911
  let v2383 : BitVec 32 := Scalar.extui v2382
  let v2384 : BitVec 32 := Scalar.subi v2381 v2383
  let c4_i32_909 : BitVec 32 := 4#32
  let c0_i32_912 : BitVec 32 := 0#32
  let v2385 : BitVec 1 := Scalar.cmpi .sgt c4_i32_909 c0_i32_912
  let v2386 : BitVec 32 := Scalar.extui v2385
  let c0_i32_913 : BitVec 32 := 0#32
  let v2387 : BitVec 1 := Scalar.cmpi .slt c4_i32_909 c0_i32_913
  let v2388 : BitVec 32 := Scalar.extui v2387
  let v2389 : BitVec 32 := Scalar.subi v2386 v2388
  let v2390 : BitVec 1 := Scalar.cmpi .ne v2384 v2389
  let v2391 : BitVec 32 := Scalar.remsi v2377 c4_i32_909
  let c0_i32_914 : BitVec 32 := 0#32
  let v2392 : BitVec 1 := Scalar.cmpi .ne v2391 c0_i32_914
  let v2393 : BitVec 1 := Scalar.andi v2390 v2392
  let v2379 : BitVec 32 := Scalar.divsi v2377 c4_i32_909
  let c1_i32_915 : BitVec 32 := 1#32
  let v2394 : BitVec 32 := Scalar.subi v2379 c1_i32_915
  let v2395 : BitVec 32 := Scalar.select v2393 v2394 v2379
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2396 : BitVec 1 := Scalar.cmpi .eq v2395 v2356
  let v2397 : BitVec 1 := Scalar.andi v2378 v2396
  let v2398 : BitVec 32 := Scalar.extui v2397
  let c0_i32_916 : BitVec 32 := 0#32
  let v2399 : BitVec 1 := Scalar.cmpi .ne v2398 c0_i32_916
  v2399

@[reducible] def k1_t49_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off248 (v2360 : BitVec 32) (k1_t49 : Fin k1_t49_loop.trips) : Fin 2 → Nat :=
  let c0_i32_1453 : BitVec 32 := 0#32
  let c1_i32_1455 : BitVec 32 := 1#32
  let arg19 : BitVec 32 := Scf.iv c0_i32_1453 c1_i32_1455 k1_t49
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2360 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off249 (v2358 : BitVec 32) (k1_t49 : Fin k1_t49_loop.trips) : Fin 2 → Nat :=
  let c0_i32_902 : BitVec 32 := 0#32
  let v2362 : BitVec 1 := Scalar.cmpi .sgt v2358 c0_i32_902
  let v2363 : BitVec 32 := Scalar.extui v2362
  let c0_i32_903 : BitVec 32 := 0#32
  let v2364 : BitVec 1 := Scalar.cmpi .slt v2358 c0_i32_903
  let v2365 : BitVec 32 := Scalar.extui v2364
  let v2366 : BitVec 32 := Scalar.subi v2363 v2365
  let c16_i32_901 : BitVec 32 := 16#32
  let c0_i32_904 : BitVec 32 := 0#32
  let v2367 : BitVec 1 := Scalar.cmpi .sgt c16_i32_901 c0_i32_904
  let v2368 : BitVec 32 := Scalar.extui v2367
  let c0_i32_905 : BitVec 32 := 0#32
  let v2369 : BitVec 1 := Scalar.cmpi .slt c16_i32_901 c0_i32_905
  let v2370 : BitVec 32 := Scalar.extui v2369
  let v2371 : BitVec 32 := Scalar.subi v2368 v2370
  let v2372 : BitVec 1 := Scalar.cmpi .ne v2366 v2371
  let v2373 : BitVec 32 := Scalar.remsi v2358 c16_i32_901
  let c0_i32_906 : BitVec 32 := 0#32
  let v2374 : BitVec 1 := Scalar.cmpi .ne v2373 c0_i32_906
  let v2375 : BitVec 1 := Scalar.andi v2372 v2374
  let v2361 : BitVec 32 := Scalar.divsi v2358 c16_i32_901
  let c1_i32_907 : BitVec 32 := 1#32
  let v2376 : BitVec 32 := Scalar.subi v2361 c1_i32_907
  let v2377 : BitVec 32 := Scalar.select v2375 v2376 v2361
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2377 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t49
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2358 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off250 (v2360 : BitVec 32) (k1_t49 : Fin k1_t49_loop.trips) : Fin 2 → Nat :=
  let c0_i32_1453 : BitVec 32 := 0#32
  let c1_i32_1455 : BitVec 32 := 1#32
  let arg19 : BitVec 32 := Scf.iv c0_i32_1453 c1_i32_1455 k1_t49
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2360 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk97 (i : grid1.Coords) (v25 : BitVec 32) (v2358 : BitVec 32) (v2360 : BitVec 32) : Prop :=
  (∀ (k1_h49 : k1_cond49 i v25 v2358 = 1#1), ∀ a, (k1_off247 i v2360) a + S32x512.size a ≤ S4096x512.size a) ∧
  (∀ k1_t49 : Fin k1_t49_loop.trips, ∀ (k1_h49 : k1_cond49 i v25 v2358 = 1#1), ∀ a, (k1_off248 v2360 k1_t49) a + S1x16.size a ≤ S32x512.size a) ∧
  (∀ k1_t49 : Fin k1_t49_loop.trips, ∀ (k1_h49 : k1_cond49 i v25 v2358 = 1#1), ∀ a, (k1_off250 v2360 k1_t49) a + S1x16.size a ≤ S32x512.size a)
theorem k1_off247_inb : ∀ (i : grid1.Coords) (v25 : BitVec 32) (v2358 : BitVec 32) (v2360 : BitVec 32) (k1_hw97 : k1_chk97 i v25 v2358 v2360), ∀ (k1_h49 : k1_cond49 i v25 v2358 = 1#1), ∀ a, (k1_off247 i v2360) a + S32x512.size a ≤ S4096x512.size a := fun i v25 v2358 v2360 k1_hw97 k1_h49 => k1_hw97.1 k1_h49
theorem k1_off248_inb : ∀ (i : grid1.Coords) (v25 : BitVec 32) (v2358 : BitVec 32) (v2360 : BitVec 32) (k1_hw97 : k1_chk97 i v25 v2358 v2360) (k1_t49 : Fin k1_t49_loop.trips), ∀ (k1_h49 : k1_cond49 i v25 v2358 = 1#1), ∀ a, (k1_off248 v2360 k1_t49) a + S1x16.size a ≤ S32x512.size a := fun i v25 v2358 v2360 k1_hw97 k1_t49 k1_h49 => k1_hw97.2.1 k1_t49 k1_h49
theorem k1_off250_inb : ∀ (i : grid1.Coords) (v25 : BitVec 32) (v2358 : BitVec 32) (v2360 : BitVec 32) (k1_hw97 : k1_chk97 i v25 v2358 v2360) (k1_t49 : Fin k1_t49_loop.trips), ∀ (k1_h49 : k1_cond49 i v25 v2358 = 1#1), ∀ a, (k1_off250 v2360 k1_t49) a + S1x16.size a ≤ S32x512.size a := fun i v25 v2358 v2360 k1_hw97 k1_t49 k1_h49 => k1_hw97.2.2 k1_t49 k1_h49

def k1_off251 (v2358 : BitVec 32) (k1_t49 : Fin k1_t49_loop.trips) : Fin 2 → Nat :=
  let c0_i32_902 : BitVec 32 := 0#32
  let v2362 : BitVec 1 := Scalar.cmpi .sgt v2358 c0_i32_902
  let v2363 : BitVec 32 := Scalar.extui v2362
  let c0_i32_903 : BitVec 32 := 0#32
  let v2364 : BitVec 1 := Scalar.cmpi .slt v2358 c0_i32_903
  let v2365 : BitVec 32 := Scalar.extui v2364
  let v2366 : BitVec 32 := Scalar.subi v2363 v2365
  let c16_i32_901 : BitVec 32 := 16#32
  let c0_i32_904 : BitVec 32 := 0#32
  let v2367 : BitVec 1 := Scalar.cmpi .sgt c16_i32_901 c0_i32_904
  let v2368 : BitVec 32 := Scalar.extui v2367
  let c0_i32_905 : BitVec 32 := 0#32
  let v2369 : BitVec 1 := Scalar.cmpi .slt c16_i32_901 c0_i32_905
  let v2370 : BitVec 32 := Scalar.extui v2369
  let v2371 : BitVec 32 := Scalar.subi v2368 v2370
  let v2372 : BitVec 1 := Scalar.cmpi .ne v2366 v2371
  let v2373 : BitVec 32 := Scalar.remsi v2358 c16_i32_901
  let c0_i32_906 : BitVec 32 := 0#32
  let v2374 : BitVec 1 := Scalar.cmpi .ne v2373 c0_i32_906
  let v2375 : BitVec 1 := Scalar.andi v2372 v2374
  let v2361 : BitVec 32 := Scalar.divsi v2358 c16_i32_901
  let c1_i32_907 : BitVec 32 := 1#32
  let v2376 : BitVec 32 := Scalar.subi v2361 c1_i32_907
  let v2377 : BitVec 32 := Scalar.select v2375 v2376 v2361
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2377 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t49
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2358 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk98 (i : grid1.Coords) (v25 : BitVec 32) (v2358 : BitVec 32) : Prop :=
  (∀ k1_t49 : Fin k1_t49_loop.trips, ∀ (k1_h49 : k1_cond49 i v25 v2358 = 1#1), ∀ a, (k1_off249 v2358 k1_t49) a + S1x16.size a ≤ S128x512.size a) ∧
  (∀ k1_t49 : Fin k1_t49_loop.trips, ∀ (k1_h49 : k1_cond49 i v25 v2358 = 1#1), ∀ a, (k1_off251 v2358 k1_t49) a + S1x16.size a ≤ S128x512.size a)
theorem k1_off249_inb : ∀ (i : grid1.Coords) (v25 : BitVec 32) (v2358 : BitVec 32) (k1_hw98 : k1_chk98 i v25 v2358) (k1_t49 : Fin k1_t49_loop.trips), ∀ (k1_h49 : k1_cond49 i v25 v2358 = 1#1), ∀ a, (k1_off249 v2358 k1_t49) a + S1x16.size a ≤ S128x512.size a := fun i v25 v2358 k1_hw98 k1_t49 k1_h49 => k1_hw98.1 k1_t49 k1_h49
theorem k1_off251_inb : ∀ (i : grid1.Coords) (v25 : BitVec 32) (v2358 : BitVec 32) (k1_hw98 : k1_chk98 i v25 v2358) (k1_t49 : Fin k1_t49_loop.trips), ∀ (k1_h49 : k1_cond49 i v25 v2358 = 1#1), ∀ a, (k1_off251 v2358 k1_t49) a + S1x16.size a ≤ S128x512.size a := fun i v25 v2358 k1_hw98 k1_t49 k1_h49 => k1_hw98.2 k1_t49 k1_h49

def k1_off252 (i : grid1.Coords) (v2403 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2403 c0_i32_1428
  let v3763 : BitVec 32 := Scalar.extui v3762
  let c0_i32_1429 : BitVec 32 := 0#32
  let v3764 : BitVec 1 := Scalar.cmpi .slt v2403 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2403 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2403 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r59 : BitVec 32 := 0#32
  ![v3779.toNat, 0]
def k1_cond50 (i : grid1.Coords) (v25 : BitVec 32) (v2401 : BitVec 32) : BitVec 1 :=
  let c1_i32_924 : BitVec 32 := 1#32
  let v2421 : BitVec 1 := Scalar.cmpi .sgt v25 c1_i32_924
  let c0_i32_918 : BitVec 32 := 0#32
  let v2405 : BitVec 1 := Scalar.cmpi .sgt v2401 c0_i32_918
  let v2406 : BitVec 32 := Scalar.extui v2405
  let c0_i32_919 : BitVec 32 := 0#32
  let v2407 : BitVec 1 := Scalar.cmpi .slt v2401 c0_i32_919
  let v2408 : BitVec 32 := Scalar.extui v2407
  let v2409 : BitVec 32 := Scalar.subi v2406 v2408
  let c16_i32_917 : BitVec 32 := 16#32
  let c0_i32_920 : BitVec 32 := 0#32
  let v2410 : BitVec 1 := Scalar.cmpi .sgt c16_i32_917 c0_i32_920
  let v2411 : BitVec 32 := Scalar.extui v2410
  let c0_i32_921 : BitVec 32 := 0#32
  let v2412 : BitVec 1 := Scalar.cmpi .slt c16_i32_917 c0_i32_921
  let v2413 : BitVec 32 := Scalar.extui v2412
  let v2414 : BitVec 32 := Scalar.subi v2411 v2413
  let v2415 : BitVec 1 := Scalar.cmpi .ne v2409 v2414
  let v2416 : BitVec 32 := Scalar.remsi v2401 c16_i32_917
  let c0_i32_922 : BitVec 32 := 0#32
  let v2417 : BitVec 1 := Scalar.cmpi .ne v2416 c0_i32_922
  let v2418 : BitVec 1 := Scalar.andi v2415 v2417
  let v2404 : BitVec 32 := Scalar.divsi v2401 c16_i32_917
  let c1_i32_923 : BitVec 32 := 1#32
  let v2419 : BitVec 32 := Scalar.subi v2404 c1_i32_923
  let v2420 : BitVec 32 := Scalar.select v2418 v2419 v2404
  let c0_i32_926 : BitVec 32 := 0#32
  let v2423 : BitVec 1 := Scalar.cmpi .sgt v2420 c0_i32_926
  let v2424 : BitVec 32 := Scalar.extui v2423
  let c0_i32_927 : BitVec 32 := 0#32
  let v2425 : BitVec 1 := Scalar.cmpi .slt v2420 c0_i32_927
  let v2426 : BitVec 32 := Scalar.extui v2425
  let v2427 : BitVec 32 := Scalar.subi v2424 v2426
  let c4_i32_925 : BitVec 32 := 4#32
  let c0_i32_928 : BitVec 32 := 0#32
  let v2428 : BitVec 1 := Scalar.cmpi .sgt c4_i32_925 c0_i32_928
  let v2429 : BitVec 32 := Scalar.extui v2428
  let c0_i32_929 : BitVec 32 := 0#32
  let v2430 : BitVec 1 := Scalar.cmpi .slt c4_i32_925 c0_i32_929
  let v2431 : BitVec 32 := Scalar.extui v2430
  let v2432 : BitVec 32 := Scalar.subi v2429 v2431
  let v2433 : BitVec 1 := Scalar.cmpi .ne v2427 v2432
  let v2434 : BitVec 32 := Scalar.remsi v2420 c4_i32_925
  let c0_i32_930 : BitVec 32 := 0#32
  let v2435 : BitVec 1 := Scalar.cmpi .ne v2434 c0_i32_930
  let v2436 : BitVec 1 := Scalar.andi v2433 v2435
  let v2422 : BitVec 32 := Scalar.divsi v2420 c4_i32_925
  let c1_i32_931 : BitVec 32 := 1#32
  let v2437 : BitVec 32 := Scalar.subi v2422 c1_i32_931
  let v2438 : BitVec 32 := Scalar.select v2436 v2437 v2422
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2439 : BitVec 1 := Scalar.cmpi .eq v2438 v2356
  let v2440 : BitVec 1 := Scalar.andi v2421 v2439
  let v2441 : BitVec 32 := Scalar.extui v2440
  let c0_i32_932 : BitVec 32 := 0#32
  let v2442 : BitVec 1 := Scalar.cmpi .ne v2441 c0_i32_932
  v2442

@[reducible] def k1_t50_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off253 (v2403 : BitVec 32) (k1_t50 : Fin k1_t50_loop.trips) : Fin 2 → Nat :=
  let c0_i32_1453 : BitVec 32 := 0#32
  let c1_i32_1455 : BitVec 32 := 1#32
  let arg19 : BitVec 32 := Scf.iv c0_i32_1453 c1_i32_1455 k1_t50
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2403 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off254 (v2401 : BitVec 32) (k1_t50 : Fin k1_t50_loop.trips) : Fin 2 → Nat :=
  let c0_i32_918 : BitVec 32 := 0#32
  let v2405 : BitVec 1 := Scalar.cmpi .sgt v2401 c0_i32_918
  let v2406 : BitVec 32 := Scalar.extui v2405
  let c0_i32_919 : BitVec 32 := 0#32
  let v2407 : BitVec 1 := Scalar.cmpi .slt v2401 c0_i32_919
  let v2408 : BitVec 32 := Scalar.extui v2407
  let v2409 : BitVec 32 := Scalar.subi v2406 v2408
  let c16_i32_917 : BitVec 32 := 16#32
  let c0_i32_920 : BitVec 32 := 0#32
  let v2410 : BitVec 1 := Scalar.cmpi .sgt c16_i32_917 c0_i32_920
  let v2411 : BitVec 32 := Scalar.extui v2410
  let c0_i32_921 : BitVec 32 := 0#32
  let v2412 : BitVec 1 := Scalar.cmpi .slt c16_i32_917 c0_i32_921
  let v2413 : BitVec 32 := Scalar.extui v2412
  let v2414 : BitVec 32 := Scalar.subi v2411 v2413
  let v2415 : BitVec 1 := Scalar.cmpi .ne v2409 v2414
  let v2416 : BitVec 32 := Scalar.remsi v2401 c16_i32_917
  let c0_i32_922 : BitVec 32 := 0#32
  let v2417 : BitVec 1 := Scalar.cmpi .ne v2416 c0_i32_922
  let v2418 : BitVec 1 := Scalar.andi v2415 v2417
  let v2404 : BitVec 32 := Scalar.divsi v2401 c16_i32_917
  let c1_i32_923 : BitVec 32 := 1#32
  let v2419 : BitVec 32 := Scalar.subi v2404 c1_i32_923
  let v2420 : BitVec 32 := Scalar.select v2418 v2419 v2404
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2420 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t50
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2401 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off255 (v2403 : BitVec 32) (k1_t50 : Fin k1_t50_loop.trips) : Fin 2 → Nat :=
  let c0_i32_1453 : BitVec 32 := 0#32
  let c1_i32_1455 : BitVec 32 := 1#32
  let arg19 : BitVec 32 := Scf.iv c0_i32_1453 c1_i32_1455 k1_t50
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2403 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk99 (i : grid1.Coords) (v25 : BitVec 32) (v2401 : BitVec 32) (v2403 : BitVec 32) : Prop :=
  (∀ (k1_h50 : k1_cond50 i v25 v2401 = 1#1), ∀ a, (k1_off252 i v2403) a + S32x512.size a ≤ S4096x512.size a) ∧
  (∀ k1_t50 : Fin k1_t50_loop.trips, ∀ (k1_h50 : k1_cond50 i v25 v2401 = 1#1), ∀ a, (k1_off253 v2403 k1_t50) a + S1x16.size a ≤ S32x512.size a) ∧
  (∀ k1_t50 : Fin k1_t50_loop.trips, ∀ (k1_h50 : k1_cond50 i v25 v2401 = 1#1), ∀ a, (k1_off255 v2403 k1_t50) a + S1x16.size a ≤ S32x512.size a)
theorem k1_off252_inb : ∀ (i : grid1.Coords) (v25 : BitVec 32) (v2401 : BitVec 32) (v2403 : BitVec 32) (k1_hw99 : k1_chk99 i v25 v2401 v2403), ∀ (k1_h50 : k1_cond50 i v25 v2401 = 1#1), ∀ a, (k1_off252 i v2403) a + S32x512.size a ≤ S4096x512.size a := fun i v25 v2401 v2403 k1_hw99 k1_h50 => k1_hw99.1 k1_h50
theorem k1_off253_inb : ∀ (i : grid1.Coords) (v25 : BitVec 32) (v2401 : BitVec 32) (v2403 : BitVec 32) (k1_hw99 : k1_chk99 i v25 v2401 v2403) (k1_t50 : Fin k1_t50_loop.trips), ∀ (k1_h50 : k1_cond50 i v25 v2401 = 1#1), ∀ a, (k1_off253 v2403 k1_t50) a + S1x16.size a ≤ S32x512.size a := fun i v25 v2401 v2403 k1_hw99 k1_t50 k1_h50 => k1_hw99.2.1 k1_t50 k1_h50
theorem k1_off255_inb : ∀ (i : grid1.Coords) (v25 : BitVec 32) (v2401 : BitVec 32) (v2403 : BitVec 32) (k1_hw99 : k1_chk99 i v25 v2401 v2403) (k1_t50 : Fin k1_t50_loop.trips), ∀ (k1_h50 : k1_cond50 i v25 v2401 = 1#1), ∀ a, (k1_off255 v2403 k1_t50) a + S1x16.size a ≤ S32x512.size a := fun i v25 v2401 v2403 k1_hw99 k1_t50 k1_h50 => k1_hw99.2.2 k1_t50 k1_h50

def k1_off256 (v2401 : BitVec 32) (k1_t50 : Fin k1_t50_loop.trips) : Fin 2 → Nat :=
  let c0_i32_918 : BitVec 32 := 0#32
  let v2405 : BitVec 1 := Scalar.cmpi .sgt v2401 c0_i32_918
  let v2406 : BitVec 32 := Scalar.extui v2405
  let c0_i32_919 : BitVec 32 := 0#32
  let v2407 : BitVec 1 := Scalar.cmpi .slt v2401 c0_i32_919
  let v2408 : BitVec 32 := Scalar.extui v2407
  let v2409 : BitVec 32 := Scalar.subi v2406 v2408
  let c16_i32_917 : BitVec 32 := 16#32
  let c0_i32_920 : BitVec 32 := 0#32
  let v2410 : BitVec 1 := Scalar.cmpi .sgt c16_i32_917 c0_i32_920
  let v2411 : BitVec 32 := Scalar.extui v2410
  let c0_i32_921 : BitVec 32 := 0#32
  let v2412 : BitVec 1 := Scalar.cmpi .slt c16_i32_917 c0_i32_921
  let v2413 : BitVec 32 := Scalar.extui v2412
  let v2414 : BitVec 32 := Scalar.subi v2411 v2413
  let v2415 : BitVec 1 := Scalar.cmpi .ne v2409 v2414
  let v2416 : BitVec 32 := Scalar.remsi v2401 c16_i32_917
  let c0_i32_922 : BitVec 32 := 0#32
  let v2417 : BitVec 1 := Scalar.cmpi .ne v2416 c0_i32_922
  let v2418 : BitVec 1 := Scalar.andi v2415 v2417
  let v2404 : BitVec 32 := Scalar.divsi v2401 c16_i32_917
  let c1_i32_923 : BitVec 32 := 1#32
  let v2419 : BitVec 32 := Scalar.subi v2404 c1_i32_923
  let v2420 : BitVec 32 := Scalar.select v2418 v2419 v2404
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2420 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t50
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2401 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk100 (i : grid1.Coords) (v25 : BitVec 32) (v2401 : BitVec 32) : Prop :=
  (∀ k1_t50 : Fin k1_t50_loop.trips, ∀ (k1_h50 : k1_cond50 i v25 v2401 = 1#1), ∀ a, (k1_off254 v2401 k1_t50) a + S1x16.size a ≤ S128x512.size a) ∧
  (∀ k1_t50 : Fin k1_t50_loop.trips, ∀ (k1_h50 : k1_cond50 i v25 v2401 = 1#1), ∀ a, (k1_off256 v2401 k1_t50) a + S1x16.size a ≤ S128x512.size a)
theorem k1_off254_inb : ∀ (i : grid1.Coords) (v25 : BitVec 32) (v2401 : BitVec 32) (k1_hw100 : k1_chk100 i v25 v2401) (k1_t50 : Fin k1_t50_loop.trips), ∀ (k1_h50 : k1_cond50 i v25 v2401 = 1#1), ∀ a, (k1_off254 v2401 k1_t50) a + S1x16.size a ≤ S128x512.size a := fun i v25 v2401 k1_hw100 k1_t50 k1_h50 => k1_hw100.1 k1_t50 k1_h50
theorem k1_off256_inb : ∀ (i : grid1.Coords) (v25 : BitVec 32) (v2401 : BitVec 32) (k1_hw100 : k1_chk100 i v25 v2401) (k1_t50 : Fin k1_t50_loop.trips), ∀ (k1_h50 : k1_cond50 i v25 v2401 = 1#1), ∀ a, (k1_off256 v2401 k1_t50) a + S1x16.size a ≤ S128x512.size a := fun i v25 v2401 k1_hw100 k1_t50 k1_h50 => k1_hw100.2 k1_t50 k1_h50

def k1_off257 (i : grid1.Coords) (v2446 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2446 c0_i32_1428
  let v3763 : BitVec 32 := Scalar.extui v3762
  let c0_i32_1429 : BitVec 32 := 0#32
  let v3764 : BitVec 1 := Scalar.cmpi .slt v2446 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2446 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2446 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r60 : BitVec 32 := 0#32
  ![v3779.toNat, 0]
def k1_cond51 (i : grid1.Coords) (v25 : BitVec 32) (v2444 : BitVec 32) : BitVec 1 :=
  let c2_i32_940 : BitVec 32 := 2#32
  let v2464 : BitVec 1 := Scalar.cmpi .sgt v25 c2_i32_940
  let c0_i32_934 : BitVec 32 := 0#32
  let v2448 : BitVec 1 := Scalar.cmpi .sgt v2444 c0_i32_934
  let v2449 : BitVec 32 := Scalar.extui v2448
  let c0_i32_935 : BitVec 32 := 0#32
  let v2450 : BitVec 1 := Scalar.cmpi .slt v2444 c0_i32_935
  let v2451 : BitVec 32 := Scalar.extui v2450
  let v2452 : BitVec 32 := Scalar.subi v2449 v2451
  let c16_i32_933 : BitVec 32 := 16#32
  let c0_i32_936 : BitVec 32 := 0#32
  let v2453 : BitVec 1 := Scalar.cmpi .sgt c16_i32_933 c0_i32_936
  let v2454 : BitVec 32 := Scalar.extui v2453
  let c0_i32_937 : BitVec 32 := 0#32
  let v2455 : BitVec 1 := Scalar.cmpi .slt c16_i32_933 c0_i32_937
  let v2456 : BitVec 32 := Scalar.extui v2455
  let v2457 : BitVec 32 := Scalar.subi v2454 v2456
  let v2458 : BitVec 1 := Scalar.cmpi .ne v2452 v2457
  let v2459 : BitVec 32 := Scalar.remsi v2444 c16_i32_933
  let c0_i32_938 : BitVec 32 := 0#32
  let v2460 : BitVec 1 := Scalar.cmpi .ne v2459 c0_i32_938
  let v2461 : BitVec 1 := Scalar.andi v2458 v2460
  let v2447 : BitVec 32 := Scalar.divsi v2444 c16_i32_933
  let c1_i32_939 : BitVec 32 := 1#32
  let v2462 : BitVec 32 := Scalar.subi v2447 c1_i32_939
  let v2463 : BitVec 32 := Scalar.select v2461 v2462 v2447
  let c0_i32_942 : BitVec 32 := 0#32
  let v2466 : BitVec 1 := Scalar.cmpi .sgt v2463 c0_i32_942
  let v2467 : BitVec 32 := Scalar.extui v2466
  let c0_i32_943 : BitVec 32 := 0#32
  let v2468 : BitVec 1 := Scalar.cmpi .slt v2463 c0_i32_943
  let v2469 : BitVec 32 := Scalar.extui v2468
  let v2470 : BitVec 32 := Scalar.subi v2467 v2469
  let c4_i32_941 : BitVec 32 := 4#32
  let c0_i32_944 : BitVec 32 := 0#32
  let v2471 : BitVec 1 := Scalar.cmpi .sgt c4_i32_941 c0_i32_944
  let v2472 : BitVec 32 := Scalar.extui v2471
  let c0_i32_945 : BitVec 32 := 0#32
  let v2473 : BitVec 1 := Scalar.cmpi .slt c4_i32_941 c0_i32_945
  let v2474 : BitVec 32 := Scalar.extui v2473
  let v2475 : BitVec 32 := Scalar.subi v2472 v2474
  let v2476 : BitVec 1 := Scalar.cmpi .ne v2470 v2475
  let v2477 : BitVec 32 := Scalar.remsi v2463 c4_i32_941
  let c0_i32_946 : BitVec 32 := 0#32
  let v2478 : BitVec 1 := Scalar.cmpi .ne v2477 c0_i32_946
  let v2479 : BitVec 1 := Scalar.andi v2476 v2478
  let v2465 : BitVec 32 := Scalar.divsi v2463 c4_i32_941
  let c1_i32_947 : BitVec 32 := 1#32
  let v2480 : BitVec 32 := Scalar.subi v2465 c1_i32_947
  let v2481 : BitVec 32 := Scalar.select v2479 v2480 v2465
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2482 : BitVec 1 := Scalar.cmpi .eq v2481 v2356
  let v2483 : BitVec 1 := Scalar.andi v2464 v2482
  let v2484 : BitVec 32 := Scalar.extui v2483
  let c0_i32_948 : BitVec 32 := 0#32
  let v2485 : BitVec 1 := Scalar.cmpi .ne v2484 c0_i32_948
  v2485

@[reducible] def k1_t51_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off258 (v2446 : BitVec 32) (k1_t51 : Fin k1_t51_loop.trips) : Fin 2 → Nat :=
  let c0_i32_1453 : BitVec 32 := 0#32
  let c1_i32_1455 : BitVec 32 := 1#32
  let arg19 : BitVec 32 := Scf.iv c0_i32_1453 c1_i32_1455 k1_t51
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2446 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off259 (v2444 : BitVec 32) (k1_t51 : Fin k1_t51_loop.trips) : Fin 2 → Nat :=
  let c0_i32_934 : BitVec 32 := 0#32
  let v2448 : BitVec 1 := Scalar.cmpi .sgt v2444 c0_i32_934
  let v2449 : BitVec 32 := Scalar.extui v2448
  let c0_i32_935 : BitVec 32 := 0#32
  let v2450 : BitVec 1 := Scalar.cmpi .slt v2444 c0_i32_935
  let v2451 : BitVec 32 := Scalar.extui v2450
  let v2452 : BitVec 32 := Scalar.subi v2449 v2451
  let c16_i32_933 : BitVec 32 := 16#32
  let c0_i32_936 : BitVec 32 := 0#32
  let v2453 : BitVec 1 := Scalar.cmpi .sgt c16_i32_933 c0_i32_936
  let v2454 : BitVec 32 := Scalar.extui v2453
  let c0_i32_937 : BitVec 32 := 0#32
  let v2455 : BitVec 1 := Scalar.cmpi .slt c16_i32_933 c0_i32_937
  let v2456 : BitVec 32 := Scalar.extui v2455
  let v2457 : BitVec 32 := Scalar.subi v2454 v2456
  let v2458 : BitVec 1 := Scalar.cmpi .ne v2452 v2457
  let v2459 : BitVec 32 := Scalar.remsi v2444 c16_i32_933
  let c0_i32_938 : BitVec 32 := 0#32
  let v2460 : BitVec 1 := Scalar.cmpi .ne v2459 c0_i32_938
  let v2461 : BitVec 1 := Scalar.andi v2458 v2460
  let v2447 : BitVec 32 := Scalar.divsi v2444 c16_i32_933
  let c1_i32_939 : BitVec 32 := 1#32
  let v2462 : BitVec 32 := Scalar.subi v2447 c1_i32_939
  let v2463 : BitVec 32 := Scalar.select v2461 v2462 v2447
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2463 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t51
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2444 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off260 (v2446 : BitVec 32) (k1_t51 : Fin k1_t51_loop.trips) : Fin 2 → Nat :=
  let c0_i32_1453 : BitVec 32 := 0#32
  let c1_i32_1455 : BitVec 32 := 1#32
  let arg19 : BitVec 32 := Scf.iv c0_i32_1453 c1_i32_1455 k1_t51
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2446 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk101 (i : grid1.Coords) (v25 : BitVec 32) (v2444 : BitVec 32) (v2446 : BitVec 32) : Prop :=
  (∀ (k1_h51 : k1_cond51 i v25 v2444 = 1#1), ∀ a, (k1_off257 i v2446) a + S32x512.size a ≤ S4096x512.size a) ∧
  (∀ k1_t51 : Fin k1_t51_loop.trips, ∀ (k1_h51 : k1_cond51 i v25 v2444 = 1#1), ∀ a, (k1_off258 v2446 k1_t51) a + S1x16.size a ≤ S32x512.size a) ∧
  (∀ k1_t51 : Fin k1_t51_loop.trips, ∀ (k1_h51 : k1_cond51 i v25 v2444 = 1#1), ∀ a, (k1_off260 v2446 k1_t51) a + S1x16.size a ≤ S32x512.size a)
theorem k1_off257_inb : ∀ (i : grid1.Coords) (v25 : BitVec 32) (v2444 : BitVec 32) (v2446 : BitVec 32) (k1_hw101 : k1_chk101 i v25 v2444 v2446), ∀ (k1_h51 : k1_cond51 i v25 v2444 = 1#1), ∀ a, (k1_off257 i v2446) a + S32x512.size a ≤ S4096x512.size a := fun i v25 v2444 v2446 k1_hw101 k1_h51 => k1_hw101.1 k1_h51
theorem k1_off258_inb : ∀ (i : grid1.Coords) (v25 : BitVec 32) (v2444 : BitVec 32) (v2446 : BitVec 32) (k1_hw101 : k1_chk101 i v25 v2444 v2446) (k1_t51 : Fin k1_t51_loop.trips), ∀ (k1_h51 : k1_cond51 i v25 v2444 = 1#1), ∀ a, (k1_off258 v2446 k1_t51) a + S1x16.size a ≤ S32x512.size a := fun i v25 v2444 v2446 k1_hw101 k1_t51 k1_h51 => k1_hw101.2.1 k1_t51 k1_h51
theorem k1_off260_inb : ∀ (i : grid1.Coords) (v25 : BitVec 32) (v2444 : BitVec 32) (v2446 : BitVec 32) (k1_hw101 : k1_chk101 i v25 v2444 v2446) (k1_t51 : Fin k1_t51_loop.trips), ∀ (k1_h51 : k1_cond51 i v25 v2444 = 1#1), ∀ a, (k1_off260 v2446 k1_t51) a + S1x16.size a ≤ S32x512.size a := fun i v25 v2444 v2446 k1_hw101 k1_t51 k1_h51 => k1_hw101.2.2 k1_t51 k1_h51

def k1_off261 (v2444 : BitVec 32) (k1_t51 : Fin k1_t51_loop.trips) : Fin 2 → Nat :=
  let c0_i32_934 : BitVec 32 := 0#32
  let v2448 : BitVec 1 := Scalar.cmpi .sgt v2444 c0_i32_934
  let v2449 : BitVec 32 := Scalar.extui v2448
  let c0_i32_935 : BitVec 32 := 0#32
  let v2450 : BitVec 1 := Scalar.cmpi .slt v2444 c0_i32_935
  let v2451 : BitVec 32 := Scalar.extui v2450
  let v2452 : BitVec 32 := Scalar.subi v2449 v2451
  let c16_i32_933 : BitVec 32 := 16#32
  let c0_i32_936 : BitVec 32 := 0#32
  let v2453 : BitVec 1 := Scalar.cmpi .sgt c16_i32_933 c0_i32_936
  let v2454 : BitVec 32 := Scalar.extui v2453
  let c0_i32_937 : BitVec 32 := 0#32
  let v2455 : BitVec 1 := Scalar.cmpi .slt c16_i32_933 c0_i32_937
  let v2456 : BitVec 32 := Scalar.extui v2455
  let v2457 : BitVec 32 := Scalar.subi v2454 v2456
  let v2458 : BitVec 1 := Scalar.cmpi .ne v2452 v2457
  let v2459 : BitVec 32 := Scalar.remsi v2444 c16_i32_933
  let c0_i32_938 : BitVec 32 := 0#32
  let v2460 : BitVec 1 := Scalar.cmpi .ne v2459 c0_i32_938
  let v2461 : BitVec 1 := Scalar.andi v2458 v2460
  let v2447 : BitVec 32 := Scalar.divsi v2444 c16_i32_933
  let c1_i32_939 : BitVec 32 := 1#32
  let v2462 : BitVec 32 := Scalar.subi v2447 c1_i32_939
  let v2463 : BitVec 32 := Scalar.select v2461 v2462 v2447
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2463 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t51
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2444 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk102 (i : grid1.Coords) (v25 : BitVec 32) (v2444 : BitVec 32) : Prop :=
  (∀ k1_t51 : Fin k1_t51_loop.trips, ∀ (k1_h51 : k1_cond51 i v25 v2444 = 1#1), ∀ a, (k1_off259 v2444 k1_t51) a + S1x16.size a ≤ S128x512.size a) ∧
  (∀ k1_t51 : Fin k1_t51_loop.trips, ∀ (k1_h51 : k1_cond51 i v25 v2444 = 1#1), ∀ a, (k1_off261 v2444 k1_t51) a + S1x16.size a ≤ S128x512.size a)
theorem k1_off259_inb : ∀ (i : grid1.Coords) (v25 : BitVec 32) (v2444 : BitVec 32) (k1_hw102 : k1_chk102 i v25 v2444) (k1_t51 : Fin k1_t51_loop.trips), ∀ (k1_h51 : k1_cond51 i v25 v2444 = 1#1), ∀ a, (k1_off259 v2444 k1_t51) a + S1x16.size a ≤ S128x512.size a := fun i v25 v2444 k1_hw102 k1_t51 k1_h51 => k1_hw102.1 k1_t51 k1_h51
theorem k1_off261_inb : ∀ (i : grid1.Coords) (v25 : BitVec 32) (v2444 : BitVec 32) (k1_hw102 : k1_chk102 i v25 v2444) (k1_t51 : Fin k1_t51_loop.trips), ∀ (k1_h51 : k1_cond51 i v25 v2444 = 1#1), ∀ a, (k1_off261 v2444 k1_t51) a + S1x16.size a ≤ S128x512.size a := fun i v25 v2444 k1_hw102 k1_t51 k1_h51 => k1_hw102.2 k1_t51 k1_h51

def k1_off262 (i : grid1.Coords) (v2489 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2489 c0_i32_1428
  let v3763 : BitVec 32 := Scalar.extui v3762
  let c0_i32_1429 : BitVec 32 := 0#32
  let v3764 : BitVec 1 := Scalar.cmpi .slt v2489 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2489 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2489 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r61 : BitVec 32 := 0#32
  ![v3779.toNat, 0]
def k1_cond52 (i : grid1.Coords) (v25 : BitVec 32) (v2487 : BitVec 32) : BitVec 1 :=
  let c3_i32_956 : BitVec 32 := 3#32
  let v2507 : BitVec 1 := Scalar.cmpi .sgt v25 c3_i32_956
  let c0_i32_950 : BitVec 32 := 0#32
  let v2491 : BitVec 1 := Scalar.cmpi .sgt v2487 c0_i32_950
  let v2492 : BitVec 32 := Scalar.extui v2491
  let c0_i32_951 : BitVec 32 := 0#32
  let v2493 : BitVec 1 := Scalar.cmpi .slt v2487 c0_i32_951
  let v2494 : BitVec 32 := Scalar.extui v2493
  let v2495 : BitVec 32 := Scalar.subi v2492 v2494
  let c16_i32_949 : BitVec 32 := 16#32
  let c0_i32_952 : BitVec 32 := 0#32
  let v2496 : BitVec 1 := Scalar.cmpi .sgt c16_i32_949 c0_i32_952
  let v2497 : BitVec 32 := Scalar.extui v2496
  let c0_i32_953 : BitVec 32 := 0#32
  let v2498 : BitVec 1 := Scalar.cmpi .slt c16_i32_949 c0_i32_953
  let v2499 : BitVec 32 := Scalar.extui v2498
  let v2500 : BitVec 32 := Scalar.subi v2497 v2499
  let v2501 : BitVec 1 := Scalar.cmpi .ne v2495 v2500
  let v2502 : BitVec 32 := Scalar.remsi v2487 c16_i32_949
  let c0_i32_954 : BitVec 32 := 0#32
  let v2503 : BitVec 1 := Scalar.cmpi .ne v2502 c0_i32_954
  let v2504 : BitVec 1 := Scalar.andi v2501 v2503
  let v2490 : BitVec 32 := Scalar.divsi v2487 c16_i32_949
  let c1_i32_955 : BitVec 32 := 1#32
  let v2505 : BitVec 32 := Scalar.subi v2490 c1_i32_955
  let v2506 : BitVec 32 := Scalar.select v2504 v2505 v2490
  let c0_i32_958 : BitVec 32 := 0#32
  let v2509 : BitVec 1 := Scalar.cmpi .sgt v2506 c0_i32_958
  let v2510 : BitVec 32 := Scalar.extui v2509
  let c0_i32_959 : BitVec 32 := 0#32
  let v2511 : BitVec 1 := Scalar.cmpi .slt v2506 c0_i32_959
  let v2512 : BitVec 32 := Scalar.extui v2511
  let v2513 : BitVec 32 := Scalar.subi v2510 v2512
  let c4_i32_957 : BitVec 32 := 4#32
  let c0_i32_960 : BitVec 32 := 0#32
  let v2514 : BitVec 1 := Scalar.cmpi .sgt c4_i32_957 c0_i32_960
  let v2515 : BitVec 32 := Scalar.extui v2514
  let c0_i32_961 : BitVec 32 := 0#32
  let v2516 : BitVec 1 := Scalar.cmpi .slt c4_i32_957 c0_i32_961
  let v2517 : BitVec 32 := Scalar.extui v2516
  let v2518 : BitVec 32 := Scalar.subi v2515 v2517
  let v2519 : BitVec 1 := Scalar.cmpi .ne v2513 v2518
  let v2520 : BitVec 32 := Scalar.remsi v2506 c4_i32_957
  let c0_i32_962 : BitVec 32 := 0#32
  let v2521 : BitVec 1 := Scalar.cmpi .ne v2520 c0_i32_962
  let v2522 : BitVec 1 := Scalar.andi v2519 v2521
  let v2508 : BitVec 32 := Scalar.divsi v2506 c4_i32_957
  let c1_i32_963 : BitVec 32 := 1#32
  let v2523 : BitVec 32 := Scalar.subi v2508 c1_i32_963
  let v2524 : BitVec 32 := Scalar.select v2522 v2523 v2508
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2525 : BitVec 1 := Scalar.cmpi .eq v2524 v2356
  let v2526 : BitVec 1 := Scalar.andi v2507 v2525
  let v2527 : BitVec 32 := Scalar.extui v2526
  let c0_i32_964 : BitVec 32 := 0#32
  let v2528 : BitVec 1 := Scalar.cmpi .ne v2527 c0_i32_964
  v2528

@[reducible] def k1_t52_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off263 (v2489 : BitVec 32) (k1_t52 : Fin k1_t52_loop.trips) : Fin 2 → Nat :=
  let c0_i32_1453 : BitVec 32 := 0#32
  let c1_i32_1455 : BitVec 32 := 1#32
  let arg19 : BitVec 32 := Scf.iv c0_i32_1453 c1_i32_1455 k1_t52
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2489 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off264 (v2487 : BitVec 32) (k1_t52 : Fin k1_t52_loop.trips) : Fin 2 → Nat :=
  let c0_i32_950 : BitVec 32 := 0#32
  let v2491 : BitVec 1 := Scalar.cmpi .sgt v2487 c0_i32_950
  let v2492 : BitVec 32 := Scalar.extui v2491
  let c0_i32_951 : BitVec 32 := 0#32
  let v2493 : BitVec 1 := Scalar.cmpi .slt v2487 c0_i32_951
  let v2494 : BitVec 32 := Scalar.extui v2493
  let v2495 : BitVec 32 := Scalar.subi v2492 v2494
  let c16_i32_949 : BitVec 32 := 16#32
  let c0_i32_952 : BitVec 32 := 0#32
  let v2496 : BitVec 1 := Scalar.cmpi .sgt c16_i32_949 c0_i32_952
  let v2497 : BitVec 32 := Scalar.extui v2496
  let c0_i32_953 : BitVec 32 := 0#32
  let v2498 : BitVec 1 := Scalar.cmpi .slt c16_i32_949 c0_i32_953
  let v2499 : BitVec 32 := Scalar.extui v2498
  let v2500 : BitVec 32 := Scalar.subi v2497 v2499
  let v2501 : BitVec 1 := Scalar.cmpi .ne v2495 v2500
  let v2502 : BitVec 32 := Scalar.remsi v2487 c16_i32_949
  let c0_i32_954 : BitVec 32 := 0#32
  let v2503 : BitVec 1 := Scalar.cmpi .ne v2502 c0_i32_954
  let v2504 : BitVec 1 := Scalar.andi v2501 v2503
  let v2490 : BitVec 32 := Scalar.divsi v2487 c16_i32_949
  let c1_i32_955 : BitVec 32 := 1#32
  let v2505 : BitVec 32 := Scalar.subi v2490 c1_i32_955
  let v2506 : BitVec 32 := Scalar.select v2504 v2505 v2490
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2506 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t52
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2487 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off265 (v2489 : BitVec 32) (k1_t52 : Fin k1_t52_loop.trips) : Fin 2 → Nat :=
  let c0_i32_1453 : BitVec 32 := 0#32
  let c1_i32_1455 : BitVec 32 := 1#32
  let arg19 : BitVec 32 := Scf.iv c0_i32_1453 c1_i32_1455 k1_t52
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2489 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk103 (i : grid1.Coords) (v25 : BitVec 32) (v2487 : BitVec 32) (v2489 : BitVec 32) : Prop :=
  (∀ (k1_h52 : k1_cond52 i v25 v2487 = 1#1), ∀ a, (k1_off262 i v2489) a + S32x512.size a ≤ S4096x512.size a) ∧
  (∀ k1_t52 : Fin k1_t52_loop.trips, ∀ (k1_h52 : k1_cond52 i v25 v2487 = 1#1), ∀ a, (k1_off263 v2489 k1_t52) a + S1x16.size a ≤ S32x512.size a) ∧
  (∀ k1_t52 : Fin k1_t52_loop.trips, ∀ (k1_h52 : k1_cond52 i v25 v2487 = 1#1), ∀ a, (k1_off265 v2489 k1_t52) a + S1x16.size a ≤ S32x512.size a)
theorem k1_off262_inb : ∀ (i : grid1.Coords) (v25 : BitVec 32) (v2487 : BitVec 32) (v2489 : BitVec 32) (k1_hw103 : k1_chk103 i v25 v2487 v2489), ∀ (k1_h52 : k1_cond52 i v25 v2487 = 1#1), ∀ a, (k1_off262 i v2489) a + S32x512.size a ≤ S4096x512.size a := fun i v25 v2487 v2489 k1_hw103 k1_h52 => k1_hw103.1 k1_h52
theorem k1_off263_inb : ∀ (i : grid1.Coords) (v25 : BitVec 32) (v2487 : BitVec 32) (v2489 : BitVec 32) (k1_hw103 : k1_chk103 i v25 v2487 v2489) (k1_t52 : Fin k1_t52_loop.trips), ∀ (k1_h52 : k1_cond52 i v25 v2487 = 1#1), ∀ a, (k1_off263 v2489 k1_t52) a + S1x16.size a ≤ S32x512.size a := fun i v25 v2487 v2489 k1_hw103 k1_t52 k1_h52 => k1_hw103.2.1 k1_t52 k1_h52
theorem k1_off265_inb : ∀ (i : grid1.Coords) (v25 : BitVec 32) (v2487 : BitVec 32) (v2489 : BitVec 32) (k1_hw103 : k1_chk103 i v25 v2487 v2489) (k1_t52 : Fin k1_t52_loop.trips), ∀ (k1_h52 : k1_cond52 i v25 v2487 = 1#1), ∀ a, (k1_off265 v2489 k1_t52) a + S1x16.size a ≤ S32x512.size a := fun i v25 v2487 v2489 k1_hw103 k1_t52 k1_h52 => k1_hw103.2.2 k1_t52 k1_h52

def k1_off266 (v2487 : BitVec 32) (k1_t52 : Fin k1_t52_loop.trips) : Fin 2 → Nat :=
  let c0_i32_950 : BitVec 32 := 0#32
  let v2491 : BitVec 1 := Scalar.cmpi .sgt v2487 c0_i32_950
  let v2492 : BitVec 32 := Scalar.extui v2491
  let c0_i32_951 : BitVec 32 := 0#32
  let v2493 : BitVec 1 := Scalar.cmpi .slt v2487 c0_i32_951
  let v2494 : BitVec 32 := Scalar.extui v2493
  let v2495 : BitVec 32 := Scalar.subi v2492 v2494
  let c16_i32_949 : BitVec 32 := 16#32
  let c0_i32_952 : BitVec 32 := 0#32
  let v2496 : BitVec 1 := Scalar.cmpi .sgt c16_i32_949 c0_i32_952
  let v2497 : BitVec 32 := Scalar.extui v2496
  let c0_i32_953 : BitVec 32 := 0#32
  let v2498 : BitVec 1 := Scalar.cmpi .slt c16_i32_949 c0_i32_953
  let v2499 : BitVec 32 := Scalar.extui v2498
  let v2500 : BitVec 32 := Scalar.subi v2497 v2499
  let v2501 : BitVec 1 := Scalar.cmpi .ne v2495 v2500
  let v2502 : BitVec 32 := Scalar.remsi v2487 c16_i32_949
  let c0_i32_954 : BitVec 32 := 0#32
  let v2503 : BitVec 1 := Scalar.cmpi .ne v2502 c0_i32_954
  let v2504 : BitVec 1 := Scalar.andi v2501 v2503
  let v2490 : BitVec 32 := Scalar.divsi v2487 c16_i32_949
  let c1_i32_955 : BitVec 32 := 1#32
  let v2505 : BitVec 32 := Scalar.subi v2490 c1_i32_955
  let v2506 : BitVec 32 := Scalar.select v2504 v2505 v2490
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2506 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t52
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2487 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk104 (i : grid1.Coords) (v25 : BitVec 32) (v2487 : BitVec 32) : Prop :=
  (∀ k1_t52 : Fin k1_t52_loop.trips, ∀ (k1_h52 : k1_cond52 i v25 v2487 = 1#1), ∀ a, (k1_off264 v2487 k1_t52) a + S1x16.size a ≤ S128x512.size a) ∧
  (∀ k1_t52 : Fin k1_t52_loop.trips, ∀ (k1_h52 : k1_cond52 i v25 v2487 = 1#1), ∀ a, (k1_off266 v2487 k1_t52) a + S1x16.size a ≤ S128x512.size a)
theorem k1_off264_inb : ∀ (i : grid1.Coords) (v25 : BitVec 32) (v2487 : BitVec 32) (k1_hw104 : k1_chk104 i v25 v2487) (k1_t52 : Fin k1_t52_loop.trips), ∀ (k1_h52 : k1_cond52 i v25 v2487 = 1#1), ∀ a, (k1_off264 v2487 k1_t52) a + S1x16.size a ≤ S128x512.size a := fun i v25 v2487 k1_hw104 k1_t52 k1_h52 => k1_hw104.1 k1_t52 k1_h52
theorem k1_off266_inb : ∀ (i : grid1.Coords) (v25 : BitVec 32) (v2487 : BitVec 32) (k1_hw104 : k1_chk104 i v25 v2487) (k1_t52 : Fin k1_t52_loop.trips), ∀ (k1_h52 : k1_cond52 i v25 v2487 = 1#1), ∀ a, (k1_off266 v2487 k1_t52) a + S1x16.size a ≤ S128x512.size a := fun i v25 v2487 k1_hw104 k1_t52 k1_h52 => k1_hw104.2 k1_t52 k1_h52

def k1_off267 (i : grid1.Coords) (v2532 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2532 c0_i32_1428
  let v3763 : BitVec 32 := Scalar.extui v3762
  let c0_i32_1429 : BitVec 32 := 0#32
  let v3764 : BitVec 1 := Scalar.cmpi .slt v2532 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2532 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2532 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r62 : BitVec 32 := 0#32
  ![v3779.toNat, 0]
def k1_cond53 (i : grid1.Coords) (v25 : BitVec 32) (v2530 : BitVec 32) : BitVec 1 :=
  let c4_i32_972 : BitVec 32 := 4#32
  let v2550 : BitVec 1 := Scalar.cmpi .sgt v25 c4_i32_972
  let c0_i32_966 : BitVec 32 := 0#32
  let v2534 : BitVec 1 := Scalar.cmpi .sgt v2530 c0_i32_966
  let v2535 : BitVec 32 := Scalar.extui v2534
  let c0_i32_967 : BitVec 32 := 0#32
  let v2536 : BitVec 1 := Scalar.cmpi .slt v2530 c0_i32_967
  let v2537 : BitVec 32 := Scalar.extui v2536
  let v2538 : BitVec 32 := Scalar.subi v2535 v2537
  let c16_i32_965 : BitVec 32 := 16#32
  let c0_i32_968 : BitVec 32 := 0#32
  let v2539 : BitVec 1 := Scalar.cmpi .sgt c16_i32_965 c0_i32_968
  let v2540 : BitVec 32 := Scalar.extui v2539
  let c0_i32_969 : BitVec 32 := 0#32
  let v2541 : BitVec 1 := Scalar.cmpi .slt c16_i32_965 c0_i32_969
  let v2542 : BitVec 32 := Scalar.extui v2541
  let v2543 : BitVec 32 := Scalar.subi v2540 v2542
  let v2544 : BitVec 1 := Scalar.cmpi .ne v2538 v2543
  let v2545 : BitVec 32 := Scalar.remsi v2530 c16_i32_965
  let c0_i32_970 : BitVec 32 := 0#32
  let v2546 : BitVec 1 := Scalar.cmpi .ne v2545 c0_i32_970
  let v2547 : BitVec 1 := Scalar.andi v2544 v2546
  let v2533 : BitVec 32 := Scalar.divsi v2530 c16_i32_965
  let c1_i32_971 : BitVec 32 := 1#32
  let v2548 : BitVec 32 := Scalar.subi v2533 c1_i32_971
  let v2549 : BitVec 32 := Scalar.select v2547 v2548 v2533
  let c0_i32_974 : BitVec 32 := 0#32
  let v2552 : BitVec 1 := Scalar.cmpi .sgt v2549 c0_i32_974
  let v2553 : BitVec 32 := Scalar.extui v2552
  let c0_i32_975 : BitVec 32 := 0#32
  let v2554 : BitVec 1 := Scalar.cmpi .slt v2549 c0_i32_975
  let v2555 : BitVec 32 := Scalar.extui v2554
  let v2556 : BitVec 32 := Scalar.subi v2553 v2555
  let c4_i32_973 : BitVec 32 := 4#32
  let c0_i32_976 : BitVec 32 := 0#32
  let v2557 : BitVec 1 := Scalar.cmpi .sgt c4_i32_973 c0_i32_976
  let v2558 : BitVec 32 := Scalar.extui v2557
  let c0_i32_977 : BitVec 32 := 0#32
  let v2559 : BitVec 1 := Scalar.cmpi .slt c4_i32_973 c0_i32_977
  let v2560 : BitVec 32 := Scalar.extui v2559
  let v2561 : BitVec 32 := Scalar.subi v2558 v2560
  let v2562 : BitVec 1 := Scalar.cmpi .ne v2556 v2561
  let v2563 : BitVec 32 := Scalar.remsi v2549 c4_i32_973
  let c0_i32_978 : BitVec 32 := 0#32
  let v2564 : BitVec 1 := Scalar.cmpi .ne v2563 c0_i32_978
  let v2565 : BitVec 1 := Scalar.andi v2562 v2564
  let v2551 : BitVec 32 := Scalar.divsi v2549 c4_i32_973
  let c1_i32_979 : BitVec 32 := 1#32
  let v2566 : BitVec 32 := Scalar.subi v2551 c1_i32_979
  let v2567 : BitVec 32 := Scalar.select v2565 v2566 v2551
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2568 : BitVec 1 := Scalar.cmpi .eq v2567 v2356
  let v2569 : BitVec 1 := Scalar.andi v2550 v2568
  let v2570 : BitVec 32 := Scalar.extui v2569
  let c0_i32_980 : BitVec 32 := 0#32
  let v2571 : BitVec 1 := Scalar.cmpi .ne v2570 c0_i32_980
  v2571

@[reducible] def k1_t53_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off268 (v2532 : BitVec 32) (k1_t53 : Fin k1_t53_loop.trips) : Fin 2 → Nat :=
  let c0_i32_1453 : BitVec 32 := 0#32
  let c1_i32_1455 : BitVec 32 := 1#32
  let arg19 : BitVec 32 := Scf.iv c0_i32_1453 c1_i32_1455 k1_t53
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2532 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off269 (v2530 : BitVec 32) (k1_t53 : Fin k1_t53_loop.trips) : Fin 2 → Nat :=
  let c0_i32_966 : BitVec 32 := 0#32
  let v2534 : BitVec 1 := Scalar.cmpi .sgt v2530 c0_i32_966
  let v2535 : BitVec 32 := Scalar.extui v2534
  let c0_i32_967 : BitVec 32 := 0#32
  let v2536 : BitVec 1 := Scalar.cmpi .slt v2530 c0_i32_967
  let v2537 : BitVec 32 := Scalar.extui v2536
  let v2538 : BitVec 32 := Scalar.subi v2535 v2537
  let c16_i32_965 : BitVec 32 := 16#32
  let c0_i32_968 : BitVec 32 := 0#32
  let v2539 : BitVec 1 := Scalar.cmpi .sgt c16_i32_965 c0_i32_968
  let v2540 : BitVec 32 := Scalar.extui v2539
  let c0_i32_969 : BitVec 32 := 0#32
  let v2541 : BitVec 1 := Scalar.cmpi .slt c16_i32_965 c0_i32_969
  let v2542 : BitVec 32 := Scalar.extui v2541
  let v2543 : BitVec 32 := Scalar.subi v2540 v2542
  let v2544 : BitVec 1 := Scalar.cmpi .ne v2538 v2543
  let v2545 : BitVec 32 := Scalar.remsi v2530 c16_i32_965
  let c0_i32_970 : BitVec 32 := 0#32
  let v2546 : BitVec 1 := Scalar.cmpi .ne v2545 c0_i32_970
  let v2547 : BitVec 1 := Scalar.andi v2544 v2546
  let v2533 : BitVec 32 := Scalar.divsi v2530 c16_i32_965
  let c1_i32_971 : BitVec 32 := 1#32
  let v2548 : BitVec 32 := Scalar.subi v2533 c1_i32_971
  let v2549 : BitVec 32 := Scalar.select v2547 v2548 v2533
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2549 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t53
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2530 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off270 (v2532 : BitVec 32) (k1_t53 : Fin k1_t53_loop.trips) : Fin 2 → Nat :=
  let c0_i32_1453 : BitVec 32 := 0#32
  let c1_i32_1455 : BitVec 32 := 1#32
  let arg19 : BitVec 32 := Scf.iv c0_i32_1453 c1_i32_1455 k1_t53
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2532 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk105 (i : grid1.Coords) (v25 : BitVec 32) (v2530 : BitVec 32) (v2532 : BitVec 32) : Prop :=
  (∀ (k1_h53 : k1_cond53 i v25 v2530 = 1#1), ∀ a, (k1_off267 i v2532) a + S32x512.size a ≤ S4096x512.size a) ∧
  (∀ k1_t53 : Fin k1_t53_loop.trips, ∀ (k1_h53 : k1_cond53 i v25 v2530 = 1#1), ∀ a, (k1_off268 v2532 k1_t53) a + S1x16.size a ≤ S32x512.size a) ∧
  (∀ k1_t53 : Fin k1_t53_loop.trips, ∀ (k1_h53 : k1_cond53 i v25 v2530 = 1#1), ∀ a, (k1_off270 v2532 k1_t53) a + S1x16.size a ≤ S32x512.size a)
theorem k1_off267_inb : ∀ (i : grid1.Coords) (v25 : BitVec 32) (v2530 : BitVec 32) (v2532 : BitVec 32) (k1_hw105 : k1_chk105 i v25 v2530 v2532), ∀ (k1_h53 : k1_cond53 i v25 v2530 = 1#1), ∀ a, (k1_off267 i v2532) a + S32x512.size a ≤ S4096x512.size a := fun i v25 v2530 v2532 k1_hw105 k1_h53 => k1_hw105.1 k1_h53
theorem k1_off268_inb : ∀ (i : grid1.Coords) (v25 : BitVec 32) (v2530 : BitVec 32) (v2532 : BitVec 32) (k1_hw105 : k1_chk105 i v25 v2530 v2532) (k1_t53 : Fin k1_t53_loop.trips), ∀ (k1_h53 : k1_cond53 i v25 v2530 = 1#1), ∀ a, (k1_off268 v2532 k1_t53) a + S1x16.size a ≤ S32x512.size a := fun i v25 v2530 v2532 k1_hw105 k1_t53 k1_h53 => k1_hw105.2.1 k1_t53 k1_h53
theorem k1_off270_inb : ∀ (i : grid1.Coords) (v25 : BitVec 32) (v2530 : BitVec 32) (v2532 : BitVec 32) (k1_hw105 : k1_chk105 i v25 v2530 v2532) (k1_t53 : Fin k1_t53_loop.trips), ∀ (k1_h53 : k1_cond53 i v25 v2530 = 1#1), ∀ a, (k1_off270 v2532 k1_t53) a + S1x16.size a ≤ S32x512.size a := fun i v25 v2530 v2532 k1_hw105 k1_t53 k1_h53 => k1_hw105.2.2 k1_t53 k1_h53

def k1_off271 (v2530 : BitVec 32) (k1_t53 : Fin k1_t53_loop.trips) : Fin 2 → Nat :=
  let c0_i32_966 : BitVec 32 := 0#32
  let v2534 : BitVec 1 := Scalar.cmpi .sgt v2530 c0_i32_966
  let v2535 : BitVec 32 := Scalar.extui v2534
  let c0_i32_967 : BitVec 32 := 0#32
  let v2536 : BitVec 1 := Scalar.cmpi .slt v2530 c0_i32_967
  let v2537 : BitVec 32 := Scalar.extui v2536
  let v2538 : BitVec 32 := Scalar.subi v2535 v2537
  let c16_i32_965 : BitVec 32 := 16#32
  let c0_i32_968 : BitVec 32 := 0#32
  let v2539 : BitVec 1 := Scalar.cmpi .sgt c16_i32_965 c0_i32_968
  let v2540 : BitVec 32 := Scalar.extui v2539
  let c0_i32_969 : BitVec 32 := 0#32
  let v2541 : BitVec 1 := Scalar.cmpi .slt c16_i32_965 c0_i32_969
  let v2542 : BitVec 32 := Scalar.extui v2541
  let v2543 : BitVec 32 := Scalar.subi v2540 v2542
  let v2544 : BitVec 1 := Scalar.cmpi .ne v2538 v2543
  let v2545 : BitVec 32 := Scalar.remsi v2530 c16_i32_965
  let c0_i32_970 : BitVec 32 := 0#32
  let v2546 : BitVec 1 := Scalar.cmpi .ne v2545 c0_i32_970
  let v2547 : BitVec 1 := Scalar.andi v2544 v2546
  let v2533 : BitVec 32 := Scalar.divsi v2530 c16_i32_965
  let c1_i32_971 : BitVec 32 := 1#32
  let v2548 : BitVec 32 := Scalar.subi v2533 c1_i32_971
  let v2549 : BitVec 32 := Scalar.select v2547 v2548 v2533
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2549 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t53
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2530 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk106 (i : grid1.Coords) (v25 : BitVec 32) (v2530 : BitVec 32) : Prop :=
  (∀ k1_t53 : Fin k1_t53_loop.trips, ∀ (k1_h53 : k1_cond53 i v25 v2530 = 1#1), ∀ a, (k1_off269 v2530 k1_t53) a + S1x16.size a ≤ S128x512.size a) ∧
  (∀ k1_t53 : Fin k1_t53_loop.trips, ∀ (k1_h53 : k1_cond53 i v25 v2530 = 1#1), ∀ a, (k1_off271 v2530 k1_t53) a + S1x16.size a ≤ S128x512.size a)
theorem k1_off269_inb : ∀ (i : grid1.Coords) (v25 : BitVec 32) (v2530 : BitVec 32) (k1_hw106 : k1_chk106 i v25 v2530) (k1_t53 : Fin k1_t53_loop.trips), ∀ (k1_h53 : k1_cond53 i v25 v2530 = 1#1), ∀ a, (k1_off269 v2530 k1_t53) a + S1x16.size a ≤ S128x512.size a := fun i v25 v2530 k1_hw106 k1_t53 k1_h53 => k1_hw106.1 k1_t53 k1_h53
theorem k1_off271_inb : ∀ (i : grid1.Coords) (v25 : BitVec 32) (v2530 : BitVec 32) (k1_hw106 : k1_chk106 i v25 v2530) (k1_t53 : Fin k1_t53_loop.trips), ∀ (k1_h53 : k1_cond53 i v25 v2530 = 1#1), ∀ a, (k1_off271 v2530 k1_t53) a + S1x16.size a ≤ S128x512.size a := fun i v25 v2530 k1_hw106 k1_t53 k1_h53 => k1_hw106.2 k1_t53 k1_h53

def k1_off272 (i : grid1.Coords) (v2575 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2575 c0_i32_1428
  let v3763 : BitVec 32 := Scalar.extui v3762
  let c0_i32_1429 : BitVec 32 := 0#32
  let v3764 : BitVec 1 := Scalar.cmpi .slt v2575 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2575 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2575 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r63 : BitVec 32 := 0#32
  ![v3779.toNat, 0]
def k1_cond54 (i : grid1.Coords) (v25 : BitVec 32) (v2573 : BitVec 32) : BitVec 1 :=
  let c5_i32_988 : BitVec 32 := 5#32
  let v2593 : BitVec 1 := Scalar.cmpi .sgt v25 c5_i32_988
  let c0_i32_982 : BitVec 32 := 0#32
  let v2577 : BitVec 1 := Scalar.cmpi .sgt v2573 c0_i32_982
  let v2578 : BitVec 32 := Scalar.extui v2577
  let c0_i32_983 : BitVec 32 := 0#32
  let v2579 : BitVec 1 := Scalar.cmpi .slt v2573 c0_i32_983
  let v2580 : BitVec 32 := Scalar.extui v2579
  let v2581 : BitVec 32 := Scalar.subi v2578 v2580
  let c16_i32_981 : BitVec 32 := 16#32
  let c0_i32_984 : BitVec 32 := 0#32
  let v2582 : BitVec 1 := Scalar.cmpi .sgt c16_i32_981 c0_i32_984
  let v2583 : BitVec 32 := Scalar.extui v2582
  let c0_i32_985 : BitVec 32 := 0#32
  let v2584 : BitVec 1 := Scalar.cmpi .slt c16_i32_981 c0_i32_985
  let v2585 : BitVec 32 := Scalar.extui v2584
  let v2586 : BitVec 32 := Scalar.subi v2583 v2585
  let v2587 : BitVec 1 := Scalar.cmpi .ne v2581 v2586
  let v2588 : BitVec 32 := Scalar.remsi v2573 c16_i32_981
  let c0_i32_986 : BitVec 32 := 0#32
  let v2589 : BitVec 1 := Scalar.cmpi .ne v2588 c0_i32_986
  let v2590 : BitVec 1 := Scalar.andi v2587 v2589
  let v2576 : BitVec 32 := Scalar.divsi v2573 c16_i32_981
  let c1_i32_987 : BitVec 32 := 1#32
  let v2591 : BitVec 32 := Scalar.subi v2576 c1_i32_987
  let v2592 : BitVec 32 := Scalar.select v2590 v2591 v2576
  let c0_i32_990 : BitVec 32 := 0#32
  let v2595 : BitVec 1 := Scalar.cmpi .sgt v2592 c0_i32_990
  let v2596 : BitVec 32 := Scalar.extui v2595
  let c0_i32_991 : BitVec 32 := 0#32
  let v2597 : BitVec 1 := Scalar.cmpi .slt v2592 c0_i32_991
  let v2598 : BitVec 32 := Scalar.extui v2597
  let v2599 : BitVec 32 := Scalar.subi v2596 v2598
  let c4_i32_989 : BitVec 32 := 4#32
  let c0_i32_992 : BitVec 32 := 0#32
  let v2600 : BitVec 1 := Scalar.cmpi .sgt c4_i32_989 c0_i32_992
  let v2601 : BitVec 32 := Scalar.extui v2600
  let c0_i32_993 : BitVec 32 := 0#32
  let v2602 : BitVec 1 := Scalar.cmpi .slt c4_i32_989 c0_i32_993
  let v2603 : BitVec 32 := Scalar.extui v2602
  let v2604 : BitVec 32 := Scalar.subi v2601 v2603
  let v2605 : BitVec 1 := Scalar.cmpi .ne v2599 v2604
  let v2606 : BitVec 32 := Scalar.remsi v2592 c4_i32_989
  let c0_i32_994 : BitVec 32 := 0#32
  let v2607 : BitVec 1 := Scalar.cmpi .ne v2606 c0_i32_994
  let v2608 : BitVec 1 := Scalar.andi v2605 v2607
  let v2594 : BitVec 32 := Scalar.divsi v2592 c4_i32_989
  let c1_i32_995 : BitVec 32 := 1#32
  let v2609 : BitVec 32 := Scalar.subi v2594 c1_i32_995
  let v2610 : BitVec 32 := Scalar.select v2608 v2609 v2594
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2611 : BitVec 1 := Scalar.cmpi .eq v2610 v2356
  let v2612 : BitVec 1 := Scalar.andi v2593 v2611
  let v2613 : BitVec 32 := Scalar.extui v2612
  let c0_i32_996 : BitVec 32 := 0#32
  let v2614 : BitVec 1 := Scalar.cmpi .ne v2613 c0_i32_996
  v2614

@[reducible] def k1_t54_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off273 (v2575 : BitVec 32) (k1_t54 : Fin k1_t54_loop.trips) : Fin 2 → Nat :=
  let c0_i32_1453 : BitVec 32 := 0#32
  let c1_i32_1455 : BitVec 32 := 1#32
  let arg19 : BitVec 32 := Scf.iv c0_i32_1453 c1_i32_1455 k1_t54
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2575 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off274 (v2573 : BitVec 32) (k1_t54 : Fin k1_t54_loop.trips) : Fin 2 → Nat :=
  let c0_i32_982 : BitVec 32 := 0#32
  let v2577 : BitVec 1 := Scalar.cmpi .sgt v2573 c0_i32_982
  let v2578 : BitVec 32 := Scalar.extui v2577
  let c0_i32_983 : BitVec 32 := 0#32
  let v2579 : BitVec 1 := Scalar.cmpi .slt v2573 c0_i32_983
  let v2580 : BitVec 32 := Scalar.extui v2579
  let v2581 : BitVec 32 := Scalar.subi v2578 v2580
  let c16_i32_981 : BitVec 32 := 16#32
  let c0_i32_984 : BitVec 32 := 0#32
  let v2582 : BitVec 1 := Scalar.cmpi .sgt c16_i32_981 c0_i32_984
  let v2583 : BitVec 32 := Scalar.extui v2582
  let c0_i32_985 : BitVec 32 := 0#32
  let v2584 : BitVec 1 := Scalar.cmpi .slt c16_i32_981 c0_i32_985
  let v2585 : BitVec 32 := Scalar.extui v2584
  let v2586 : BitVec 32 := Scalar.subi v2583 v2585
  let v2587 : BitVec 1 := Scalar.cmpi .ne v2581 v2586
  let v2588 : BitVec 32 := Scalar.remsi v2573 c16_i32_981
  let c0_i32_986 : BitVec 32 := 0#32
  let v2589 : BitVec 1 := Scalar.cmpi .ne v2588 c0_i32_986
  let v2590 : BitVec 1 := Scalar.andi v2587 v2589
  let v2576 : BitVec 32 := Scalar.divsi v2573 c16_i32_981
  let c1_i32_987 : BitVec 32 := 1#32
  let v2591 : BitVec 32 := Scalar.subi v2576 c1_i32_987
  let v2592 : BitVec 32 := Scalar.select v2590 v2591 v2576
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2592 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t54
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2573 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off275 (v2575 : BitVec 32) (k1_t54 : Fin k1_t54_loop.trips) : Fin 2 → Nat :=
  let c0_i32_1453 : BitVec 32 := 0#32
  let c1_i32_1455 : BitVec 32 := 1#32
  let arg19 : BitVec 32 := Scf.iv c0_i32_1453 c1_i32_1455 k1_t54
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2575 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk107 (i : grid1.Coords) (v25 : BitVec 32) (v2573 : BitVec 32) (v2575 : BitVec 32) : Prop :=
  (∀ (k1_h54 : k1_cond54 i v25 v2573 = 1#1), ∀ a, (k1_off272 i v2575) a + S32x512.size a ≤ S4096x512.size a) ∧
  (∀ k1_t54 : Fin k1_t54_loop.trips, ∀ (k1_h54 : k1_cond54 i v25 v2573 = 1#1), ∀ a, (k1_off273 v2575 k1_t54) a + S1x16.size a ≤ S32x512.size a) ∧
  (∀ k1_t54 : Fin k1_t54_loop.trips, ∀ (k1_h54 : k1_cond54 i v25 v2573 = 1#1), ∀ a, (k1_off275 v2575 k1_t54) a + S1x16.size a ≤ S32x512.size a)
theorem k1_off272_inb : ∀ (i : grid1.Coords) (v25 : BitVec 32) (v2573 : BitVec 32) (v2575 : BitVec 32) (k1_hw107 : k1_chk107 i v25 v2573 v2575), ∀ (k1_h54 : k1_cond54 i v25 v2573 = 1#1), ∀ a, (k1_off272 i v2575) a + S32x512.size a ≤ S4096x512.size a := fun i v25 v2573 v2575 k1_hw107 k1_h54 => k1_hw107.1 k1_h54
theorem k1_off273_inb : ∀ (i : grid1.Coords) (v25 : BitVec 32) (v2573 : BitVec 32) (v2575 : BitVec 32) (k1_hw107 : k1_chk107 i v25 v2573 v2575) (k1_t54 : Fin k1_t54_loop.trips), ∀ (k1_h54 : k1_cond54 i v25 v2573 = 1#1), ∀ a, (k1_off273 v2575 k1_t54) a + S1x16.size a ≤ S32x512.size a := fun i v25 v2573 v2575 k1_hw107 k1_t54 k1_h54 => k1_hw107.2.1 k1_t54 k1_h54
theorem k1_off275_inb : ∀ (i : grid1.Coords) (v25 : BitVec 32) (v2573 : BitVec 32) (v2575 : BitVec 32) (k1_hw107 : k1_chk107 i v25 v2573 v2575) (k1_t54 : Fin k1_t54_loop.trips), ∀ (k1_h54 : k1_cond54 i v25 v2573 = 1#1), ∀ a, (k1_off275 v2575 k1_t54) a + S1x16.size a ≤ S32x512.size a := fun i v25 v2573 v2575 k1_hw107 k1_t54 k1_h54 => k1_hw107.2.2 k1_t54 k1_h54

def k1_off276 (v2573 : BitVec 32) (k1_t54 : Fin k1_t54_loop.trips) : Fin 2 → Nat :=
  let c0_i32_982 : BitVec 32 := 0#32
  let v2577 : BitVec 1 := Scalar.cmpi .sgt v2573 c0_i32_982
  let v2578 : BitVec 32 := Scalar.extui v2577
  let c0_i32_983 : BitVec 32 := 0#32
  let v2579 : BitVec 1 := Scalar.cmpi .slt v2573 c0_i32_983
  let v2580 : BitVec 32 := Scalar.extui v2579
  let v2581 : BitVec 32 := Scalar.subi v2578 v2580
  let c16_i32_981 : BitVec 32 := 16#32
  let c0_i32_984 : BitVec 32 := 0#32
  let v2582 : BitVec 1 := Scalar.cmpi .sgt c16_i32_981 c0_i32_984
  let v2583 : BitVec 32 := Scalar.extui v2582
  let c0_i32_985 : BitVec 32 := 0#32
  let v2584 : BitVec 1 := Scalar.cmpi .slt c16_i32_981 c0_i32_985
  let v2585 : BitVec 32 := Scalar.extui v2584
  let v2586 : BitVec 32 := Scalar.subi v2583 v2585
  let v2587 : BitVec 1 := Scalar.cmpi .ne v2581 v2586
  let v2588 : BitVec 32 := Scalar.remsi v2573 c16_i32_981
  let c0_i32_986 : BitVec 32 := 0#32
  let v2589 : BitVec 1 := Scalar.cmpi .ne v2588 c0_i32_986
  let v2590 : BitVec 1 := Scalar.andi v2587 v2589
  let v2576 : BitVec 32 := Scalar.divsi v2573 c16_i32_981
  let c1_i32_987 : BitVec 32 := 1#32
  let v2591 : BitVec 32 := Scalar.subi v2576 c1_i32_987
  let v2592 : BitVec 32 := Scalar.select v2590 v2591 v2576
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2592 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t54
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2573 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk108 (i : grid1.Coords) (v25 : BitVec 32) (v2573 : BitVec 32) : Prop :=
  (∀ k1_t54 : Fin k1_t54_loop.trips, ∀ (k1_h54 : k1_cond54 i v25 v2573 = 1#1), ∀ a, (k1_off274 v2573 k1_t54) a + S1x16.size a ≤ S128x512.size a) ∧
  (∀ k1_t54 : Fin k1_t54_loop.trips, ∀ (k1_h54 : k1_cond54 i v25 v2573 = 1#1), ∀ a, (k1_off276 v2573 k1_t54) a + S1x16.size a ≤ S128x512.size a)
theorem k1_off274_inb : ∀ (i : grid1.Coords) (v25 : BitVec 32) (v2573 : BitVec 32) (k1_hw108 : k1_chk108 i v25 v2573) (k1_t54 : Fin k1_t54_loop.trips), ∀ (k1_h54 : k1_cond54 i v25 v2573 = 1#1), ∀ a, (k1_off274 v2573 k1_t54) a + S1x16.size a ≤ S128x512.size a := fun i v25 v2573 k1_hw108 k1_t54 k1_h54 => k1_hw108.1 k1_t54 k1_h54
theorem k1_off276_inb : ∀ (i : grid1.Coords) (v25 : BitVec 32) (v2573 : BitVec 32) (k1_hw108 : k1_chk108 i v25 v2573) (k1_t54 : Fin k1_t54_loop.trips), ∀ (k1_h54 : k1_cond54 i v25 v2573 = 1#1), ∀ a, (k1_off276 v2573 k1_t54) a + S1x16.size a ≤ S128x512.size a := fun i v25 v2573 k1_hw108 k1_t54 k1_h54 => k1_hw108.2 k1_t54 k1_h54

def k1_off277 (i : grid1.Coords) (v2618 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2618 c0_i32_1428
  let v3763 : BitVec 32 := Scalar.extui v3762
  let c0_i32_1429 : BitVec 32 := 0#32
  let v3764 : BitVec 1 := Scalar.cmpi .slt v2618 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2618 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2618 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r64 : BitVec 32 := 0#32
  ![v3779.toNat, 0]
def k1_cond55 (i : grid1.Coords) (v25 : BitVec 32) (v2616 : BitVec 32) : BitVec 1 :=
  let c6_i32_1004 : BitVec 32 := 6#32
  let v2636 : BitVec 1 := Scalar.cmpi .sgt v25 c6_i32_1004
  let c0_i32_998 : BitVec 32 := 0#32
  let v2620 : BitVec 1 := Scalar.cmpi .sgt v2616 c0_i32_998
  let v2621 : BitVec 32 := Scalar.extui v2620
  let c0_i32_999 : BitVec 32 := 0#32
  let v2622 : BitVec 1 := Scalar.cmpi .slt v2616 c0_i32_999
  let v2623 : BitVec 32 := Scalar.extui v2622
  let v2624 : BitVec 32 := Scalar.subi v2621 v2623
  let c16_i32_997 : BitVec 32 := 16#32
  let c0_i32_1000 : BitVec 32 := 0#32
  let v2625 : BitVec 1 := Scalar.cmpi .sgt c16_i32_997 c0_i32_1000
  let v2626 : BitVec 32 := Scalar.extui v2625
  let c0_i32_1001 : BitVec 32 := 0#32
  let v2627 : BitVec 1 := Scalar.cmpi .slt c16_i32_997 c0_i32_1001
  let v2628 : BitVec 32 := Scalar.extui v2627
  let v2629 : BitVec 32 := Scalar.subi v2626 v2628
  let v2630 : BitVec 1 := Scalar.cmpi .ne v2624 v2629
  let v2631 : BitVec 32 := Scalar.remsi v2616 c16_i32_997
  let c0_i32_1002 : BitVec 32 := 0#32
  let v2632 : BitVec 1 := Scalar.cmpi .ne v2631 c0_i32_1002
  let v2633 : BitVec 1 := Scalar.andi v2630 v2632
  let v2619 : BitVec 32 := Scalar.divsi v2616 c16_i32_997
  let c1_i32_1003 : BitVec 32 := 1#32
  let v2634 : BitVec 32 := Scalar.subi v2619 c1_i32_1003
  let v2635 : BitVec 32 := Scalar.select v2633 v2634 v2619
  let c0_i32_1006 : BitVec 32 := 0#32
  let v2638 : BitVec 1 := Scalar.cmpi .sgt v2635 c0_i32_1006
  let v2639 : BitVec 32 := Scalar.extui v2638
  let c0_i32_1007 : BitVec 32 := 0#32
  let v2640 : BitVec 1 := Scalar.cmpi .slt v2635 c0_i32_1007
  let v2641 : BitVec 32 := Scalar.extui v2640
  let v2642 : BitVec 32 := Scalar.subi v2639 v2641
  let c4_i32_1005 : BitVec 32 := 4#32
  let c0_i32_1008 : BitVec 32 := 0#32
  let v2643 : BitVec 1 := Scalar.cmpi .sgt c4_i32_1005 c0_i32_1008
  let v2644 : BitVec 32 := Scalar.extui v2643
  let c0_i32_1009 : BitVec 32 := 0#32
  let v2645 : BitVec 1 := Scalar.cmpi .slt c4_i32_1005 c0_i32_1009
  let v2646 : BitVec 32 := Scalar.extui v2645
  let v2647 : BitVec 32 := Scalar.subi v2644 v2646
  let v2648 : BitVec 1 := Scalar.cmpi .ne v2642 v2647
  let v2649 : BitVec 32 := Scalar.remsi v2635 c4_i32_1005
  let c0_i32_1010 : BitVec 32 := 0#32
  let v2650 : BitVec 1 := Scalar.cmpi .ne v2649 c0_i32_1010
  let v2651 : BitVec 1 := Scalar.andi v2648 v2650
  let v2637 : BitVec 32 := Scalar.divsi v2635 c4_i32_1005
  let c1_i32_1011 : BitVec 32 := 1#32
  let v2652 : BitVec 32 := Scalar.subi v2637 c1_i32_1011
  let v2653 : BitVec 32 := Scalar.select v2651 v2652 v2637
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2654 : BitVec 1 := Scalar.cmpi .eq v2653 v2356
  let v2655 : BitVec 1 := Scalar.andi v2636 v2654
  let v2656 : BitVec 32 := Scalar.extui v2655
  let c0_i32_1012 : BitVec 32 := 0#32
  let v2657 : BitVec 1 := Scalar.cmpi .ne v2656 c0_i32_1012
  v2657

@[reducible] def k1_t55_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off278 (v2618 : BitVec 32) (k1_t55 : Fin k1_t55_loop.trips) : Fin 2 → Nat :=
  let c0_i32_1453 : BitVec 32 := 0#32
  let c1_i32_1455 : BitVec 32 := 1#32
  let arg19 : BitVec 32 := Scf.iv c0_i32_1453 c1_i32_1455 k1_t55
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2618 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off279 (v2616 : BitVec 32) (k1_t55 : Fin k1_t55_loop.trips) : Fin 2 → Nat :=
  let c0_i32_998 : BitVec 32 := 0#32
  let v2620 : BitVec 1 := Scalar.cmpi .sgt v2616 c0_i32_998
  let v2621 : BitVec 32 := Scalar.extui v2620
  let c0_i32_999 : BitVec 32 := 0#32
  let v2622 : BitVec 1 := Scalar.cmpi .slt v2616 c0_i32_999
  let v2623 : BitVec 32 := Scalar.extui v2622
  let v2624 : BitVec 32 := Scalar.subi v2621 v2623
  let c16_i32_997 : BitVec 32 := 16#32
  let c0_i32_1000 : BitVec 32 := 0#32
  let v2625 : BitVec 1 := Scalar.cmpi .sgt c16_i32_997 c0_i32_1000
  let v2626 : BitVec 32 := Scalar.extui v2625
  let c0_i32_1001 : BitVec 32 := 0#32
  let v2627 : BitVec 1 := Scalar.cmpi .slt c16_i32_997 c0_i32_1001
  let v2628 : BitVec 32 := Scalar.extui v2627
  let v2629 : BitVec 32 := Scalar.subi v2626 v2628
  let v2630 : BitVec 1 := Scalar.cmpi .ne v2624 v2629
  let v2631 : BitVec 32 := Scalar.remsi v2616 c16_i32_997
  let c0_i32_1002 : BitVec 32 := 0#32
  let v2632 : BitVec 1 := Scalar.cmpi .ne v2631 c0_i32_1002
  let v2633 : BitVec 1 := Scalar.andi v2630 v2632
  let v2619 : BitVec 32 := Scalar.divsi v2616 c16_i32_997
  let c1_i32_1003 : BitVec 32 := 1#32
  let v2634 : BitVec 32 := Scalar.subi v2619 c1_i32_1003
  let v2635 : BitVec 32 := Scalar.select v2633 v2634 v2619
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2635 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t55
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2616 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off280 (v2618 : BitVec 32) (k1_t55 : Fin k1_t55_loop.trips) : Fin 2 → Nat :=
  let c0_i32_1453 : BitVec 32 := 0#32
  let c1_i32_1455 : BitVec 32 := 1#32
  let arg19 : BitVec 32 := Scf.iv c0_i32_1453 c1_i32_1455 k1_t55
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2618 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk109 (i : grid1.Coords) (v25 : BitVec 32) (v2616 : BitVec 32) (v2618 : BitVec 32) : Prop :=
  (∀ (k1_h55 : k1_cond55 i v25 v2616 = 1#1), ∀ a, (k1_off277 i v2618) a + S32x512.size a ≤ S4096x512.size a) ∧
  (∀ k1_t55 : Fin k1_t55_loop.trips, ∀ (k1_h55 : k1_cond55 i v25 v2616 = 1#1), ∀ a, (k1_off278 v2618 k1_t55) a + S1x16.size a ≤ S32x512.size a) ∧
  (∀ k1_t55 : Fin k1_t55_loop.trips, ∀ (k1_h55 : k1_cond55 i v25 v2616 = 1#1), ∀ a, (k1_off280 v2618 k1_t55) a + S1x16.size a ≤ S32x512.size a)
theorem k1_off277_inb : ∀ (i : grid1.Coords) (v25 : BitVec 32) (v2616 : BitVec 32) (v2618 : BitVec 32) (k1_hw109 : k1_chk109 i v25 v2616 v2618), ∀ (k1_h55 : k1_cond55 i v25 v2616 = 1#1), ∀ a, (k1_off277 i v2618) a + S32x512.size a ≤ S4096x512.size a := fun i v25 v2616 v2618 k1_hw109 k1_h55 => k1_hw109.1 k1_h55
theorem k1_off278_inb : ∀ (i : grid1.Coords) (v25 : BitVec 32) (v2616 : BitVec 32) (v2618 : BitVec 32) (k1_hw109 : k1_chk109 i v25 v2616 v2618) (k1_t55 : Fin k1_t55_loop.trips), ∀ (k1_h55 : k1_cond55 i v25 v2616 = 1#1), ∀ a, (k1_off278 v2618 k1_t55) a + S1x16.size a ≤ S32x512.size a := fun i v25 v2616 v2618 k1_hw109 k1_t55 k1_h55 => k1_hw109.2.1 k1_t55 k1_h55
theorem k1_off280_inb : ∀ (i : grid1.Coords) (v25 : BitVec 32) (v2616 : BitVec 32) (v2618 : BitVec 32) (k1_hw109 : k1_chk109 i v25 v2616 v2618) (k1_t55 : Fin k1_t55_loop.trips), ∀ (k1_h55 : k1_cond55 i v25 v2616 = 1#1), ∀ a, (k1_off280 v2618 k1_t55) a + S1x16.size a ≤ S32x512.size a := fun i v25 v2616 v2618 k1_hw109 k1_t55 k1_h55 => k1_hw109.2.2 k1_t55 k1_h55

def k1_off281 (v2616 : BitVec 32) (k1_t55 : Fin k1_t55_loop.trips) : Fin 2 → Nat :=
  let c0_i32_998 : BitVec 32 := 0#32
  let v2620 : BitVec 1 := Scalar.cmpi .sgt v2616 c0_i32_998
  let v2621 : BitVec 32 := Scalar.extui v2620
  let c0_i32_999 : BitVec 32 := 0#32
  let v2622 : BitVec 1 := Scalar.cmpi .slt v2616 c0_i32_999
  let v2623 : BitVec 32 := Scalar.extui v2622
  let v2624 : BitVec 32 := Scalar.subi v2621 v2623
  let c16_i32_997 : BitVec 32 := 16#32
  let c0_i32_1000 : BitVec 32 := 0#32
  let v2625 : BitVec 1 := Scalar.cmpi .sgt c16_i32_997 c0_i32_1000
  let v2626 : BitVec 32 := Scalar.extui v2625
  let c0_i32_1001 : BitVec 32 := 0#32
  let v2627 : BitVec 1 := Scalar.cmpi .slt c16_i32_997 c0_i32_1001
  let v2628 : BitVec 32 := Scalar.extui v2627
  let v2629 : BitVec 32 := Scalar.subi v2626 v2628
  let v2630 : BitVec 1 := Scalar.cmpi .ne v2624 v2629
  let v2631 : BitVec 32 := Scalar.remsi v2616 c16_i32_997
  let c0_i32_1002 : BitVec 32 := 0#32
  let v2632 : BitVec 1 := Scalar.cmpi .ne v2631 c0_i32_1002
  let v2633 : BitVec 1 := Scalar.andi v2630 v2632
  let v2619 : BitVec 32 := Scalar.divsi v2616 c16_i32_997
  let c1_i32_1003 : BitVec 32 := 1#32
  let v2634 : BitVec 32 := Scalar.subi v2619 c1_i32_1003
  let v2635 : BitVec 32 := Scalar.select v2633 v2634 v2619
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2635 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t55
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2616 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk110 (i : grid1.Coords) (v25 : BitVec 32) (v2616 : BitVec 32) : Prop :=
  (∀ k1_t55 : Fin k1_t55_loop.trips, ∀ (k1_h55 : k1_cond55 i v25 v2616 = 1#1), ∀ a, (k1_off279 v2616 k1_t55) a + S1x16.size a ≤ S128x512.size a) ∧
  (∀ k1_t55 : Fin k1_t55_loop.trips, ∀ (k1_h55 : k1_cond55 i v25 v2616 = 1#1), ∀ a, (k1_off281 v2616 k1_t55) a + S1x16.size a ≤ S128x512.size a)
theorem k1_off279_inb : ∀ (i : grid1.Coords) (v25 : BitVec 32) (v2616 : BitVec 32) (k1_hw110 : k1_chk110 i v25 v2616) (k1_t55 : Fin k1_t55_loop.trips), ∀ (k1_h55 : k1_cond55 i v25 v2616 = 1#1), ∀ a, (k1_off279 v2616 k1_t55) a + S1x16.size a ≤ S128x512.size a := fun i v25 v2616 k1_hw110 k1_t55 k1_h55 => k1_hw110.1 k1_t55 k1_h55
theorem k1_off281_inb : ∀ (i : grid1.Coords) (v25 : BitVec 32) (v2616 : BitVec 32) (k1_hw110 : k1_chk110 i v25 v2616) (k1_t55 : Fin k1_t55_loop.trips), ∀ (k1_h55 : k1_cond55 i v25 v2616 = 1#1), ∀ a, (k1_off281 v2616 k1_t55) a + S1x16.size a ≤ S128x512.size a := fun i v25 v2616 k1_hw110 k1_t55 k1_h55 => k1_hw110.2 k1_t55 k1_h55

def k1_off282 (i : grid1.Coords) (v2661 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2661 c0_i32_1428
  let v3763 : BitVec 32 := Scalar.extui v3762
  let c0_i32_1429 : BitVec 32 := 0#32
  let v3764 : BitVec 1 := Scalar.cmpi .slt v2661 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2661 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2661 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r65 : BitVec 32 := 0#32
  ![v3779.toNat, 0]
def k1_cond56 (i : grid1.Coords) (v25 : BitVec 32) (v2659 : BitVec 32) : BitVec 1 :=
  let c7_i32_1020 : BitVec 32 := 7#32
  let v2679 : BitVec 1 := Scalar.cmpi .sgt v25 c7_i32_1020
  let c0_i32_1014 : BitVec 32 := 0#32
  let v2663 : BitVec 1 := Scalar.cmpi .sgt v2659 c0_i32_1014
  let v2664 : BitVec 32 := Scalar.extui v2663
  let c0_i32_1015 : BitVec 32 := 0#32
  let v2665 : BitVec 1 := Scalar.cmpi .slt v2659 c0_i32_1015
  let v2666 : BitVec 32 := Scalar.extui v2665
  let v2667 : BitVec 32 := Scalar.subi v2664 v2666
  let c16_i32_1013 : BitVec 32 := 16#32
  let c0_i32_1016 : BitVec 32 := 0#32
  let v2668 : BitVec 1 := Scalar.cmpi .sgt c16_i32_1013 c0_i32_1016
  let v2669 : BitVec 32 := Scalar.extui v2668
  let c0_i32_1017 : BitVec 32 := 0#32
  let v2670 : BitVec 1 := Scalar.cmpi .slt c16_i32_1013 c0_i32_1017
  let v2671 : BitVec 32 := Scalar.extui v2670
  let v2672 : BitVec 32 := Scalar.subi v2669 v2671
  let v2673 : BitVec 1 := Scalar.cmpi .ne v2667 v2672
  let v2674 : BitVec 32 := Scalar.remsi v2659 c16_i32_1013
  let c0_i32_1018 : BitVec 32 := 0#32
  let v2675 : BitVec 1 := Scalar.cmpi .ne v2674 c0_i32_1018
  let v2676 : BitVec 1 := Scalar.andi v2673 v2675
  let v2662 : BitVec 32 := Scalar.divsi v2659 c16_i32_1013
  let c1_i32_1019 : BitVec 32 := 1#32
  let v2677 : BitVec 32 := Scalar.subi v2662 c1_i32_1019
  let v2678 : BitVec 32 := Scalar.select v2676 v2677 v2662
  let c0_i32_1022 : BitVec 32 := 0#32
  let v2681 : BitVec 1 := Scalar.cmpi .sgt v2678 c0_i32_1022
  let v2682 : BitVec 32 := Scalar.extui v2681
  let c0_i32_1023 : BitVec 32 := 0#32
  let v2683 : BitVec 1 := Scalar.cmpi .slt v2678 c0_i32_1023
  let v2684 : BitVec 32 := Scalar.extui v2683
  let v2685 : BitVec 32 := Scalar.subi v2682 v2684
  let c4_i32_1021 : BitVec 32 := 4#32
  let c0_i32_1024 : BitVec 32 := 0#32
  let v2686 : BitVec 1 := Scalar.cmpi .sgt c4_i32_1021 c0_i32_1024
  let v2687 : BitVec 32 := Scalar.extui v2686
  let c0_i32_1025 : BitVec 32 := 0#32
  let v2688 : BitVec 1 := Scalar.cmpi .slt c4_i32_1021 c0_i32_1025
  let v2689 : BitVec 32 := Scalar.extui v2688
  let v2690 : BitVec 32 := Scalar.subi v2687 v2689
  let v2691 : BitVec 1 := Scalar.cmpi .ne v2685 v2690
  let v2692 : BitVec 32 := Scalar.remsi v2678 c4_i32_1021
  let c0_i32_1026 : BitVec 32 := 0#32
  let v2693 : BitVec 1 := Scalar.cmpi .ne v2692 c0_i32_1026
  let v2694 : BitVec 1 := Scalar.andi v2691 v2693
  let v2680 : BitVec 32 := Scalar.divsi v2678 c4_i32_1021
  let c1_i32_1027 : BitVec 32 := 1#32
  let v2695 : BitVec 32 := Scalar.subi v2680 c1_i32_1027
  let v2696 : BitVec 32 := Scalar.select v2694 v2695 v2680
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2697 : BitVec 1 := Scalar.cmpi .eq v2696 v2356
  let v2698 : BitVec 1 := Scalar.andi v2679 v2697
  let v2699 : BitVec 32 := Scalar.extui v2698
  let c0_i32_1028 : BitVec 32 := 0#32
  let v2700 : BitVec 1 := Scalar.cmpi .ne v2699 c0_i32_1028
  v2700

@[reducible] def k1_t56_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off283 (v2661 : BitVec 32) (k1_t56 : Fin k1_t56_loop.trips) : Fin 2 → Nat :=
  let c0_i32_1453 : BitVec 32 := 0#32
  let c1_i32_1455 : BitVec 32 := 1#32
  let arg19 : BitVec 32 := Scf.iv c0_i32_1453 c1_i32_1455 k1_t56
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2661 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off284 (v2659 : BitVec 32) (k1_t56 : Fin k1_t56_loop.trips) : Fin 2 → Nat :=
  let c0_i32_1014 : BitVec 32 := 0#32
  let v2663 : BitVec 1 := Scalar.cmpi .sgt v2659 c0_i32_1014
  let v2664 : BitVec 32 := Scalar.extui v2663
  let c0_i32_1015 : BitVec 32 := 0#32
  let v2665 : BitVec 1 := Scalar.cmpi .slt v2659 c0_i32_1015
  let v2666 : BitVec 32 := Scalar.extui v2665
  let v2667 : BitVec 32 := Scalar.subi v2664 v2666
  let c16_i32_1013 : BitVec 32 := 16#32
  let c0_i32_1016 : BitVec 32 := 0#32
  let v2668 : BitVec 1 := Scalar.cmpi .sgt c16_i32_1013 c0_i32_1016
  let v2669 : BitVec 32 := Scalar.extui v2668
  let c0_i32_1017 : BitVec 32 := 0#32
  let v2670 : BitVec 1 := Scalar.cmpi .slt c16_i32_1013 c0_i32_1017
  let v2671 : BitVec 32 := Scalar.extui v2670
  let v2672 : BitVec 32 := Scalar.subi v2669 v2671
  let v2673 : BitVec 1 := Scalar.cmpi .ne v2667 v2672
  let v2674 : BitVec 32 := Scalar.remsi v2659 c16_i32_1013
  let c0_i32_1018 : BitVec 32 := 0#32
  let v2675 : BitVec 1 := Scalar.cmpi .ne v2674 c0_i32_1018
  let v2676 : BitVec 1 := Scalar.andi v2673 v2675
  let v2662 : BitVec 32 := Scalar.divsi v2659 c16_i32_1013
  let c1_i32_1019 : BitVec 32 := 1#32
  let v2677 : BitVec 32 := Scalar.subi v2662 c1_i32_1019
  let v2678 : BitVec 32 := Scalar.select v2676 v2677 v2662
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2678 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t56
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2659 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off285 (v2661 : BitVec 32) (k1_t56 : Fin k1_t56_loop.trips) : Fin 2 → Nat :=
  let c0_i32_1453 : BitVec 32 := 0#32
  let c1_i32_1455 : BitVec 32 := 1#32
  let arg19 : BitVec 32 := Scf.iv c0_i32_1453 c1_i32_1455 k1_t56
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2661 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk111 (i : grid1.Coords) (v25 : BitVec 32) (v2659 : BitVec 32) (v2661 : BitVec 32) : Prop :=
  (∀ (k1_h56 : k1_cond56 i v25 v2659 = 1#1), ∀ a, (k1_off282 i v2661) a + S32x512.size a ≤ S4096x512.size a) ∧
  (∀ k1_t56 : Fin k1_t56_loop.trips, ∀ (k1_h56 : k1_cond56 i v25 v2659 = 1#1), ∀ a, (k1_off283 v2661 k1_t56) a + S1x16.size a ≤ S32x512.size a) ∧
  (∀ k1_t56 : Fin k1_t56_loop.trips, ∀ (k1_h56 : k1_cond56 i v25 v2659 = 1#1), ∀ a, (k1_off285 v2661 k1_t56) a + S1x16.size a ≤ S32x512.size a)
theorem k1_off282_inb : ∀ (i : grid1.Coords) (v25 : BitVec 32) (v2659 : BitVec 32) (v2661 : BitVec 32) (k1_hw111 : k1_chk111 i v25 v2659 v2661), ∀ (k1_h56 : k1_cond56 i v25 v2659 = 1#1), ∀ a, (k1_off282 i v2661) a + S32x512.size a ≤ S4096x512.size a := fun i v25 v2659 v2661 k1_hw111 k1_h56 => k1_hw111.1 k1_h56
theorem k1_off283_inb : ∀ (i : grid1.Coords) (v25 : BitVec 32) (v2659 : BitVec 32) (v2661 : BitVec 32) (k1_hw111 : k1_chk111 i v25 v2659 v2661) (k1_t56 : Fin k1_t56_loop.trips), ∀ (k1_h56 : k1_cond56 i v25 v2659 = 1#1), ∀ a, (k1_off283 v2661 k1_t56) a + S1x16.size a ≤ S32x512.size a := fun i v25 v2659 v2661 k1_hw111 k1_t56 k1_h56 => k1_hw111.2.1 k1_t56 k1_h56
theorem k1_off285_inb : ∀ (i : grid1.Coords) (v25 : BitVec 32) (v2659 : BitVec 32) (v2661 : BitVec 32) (k1_hw111 : k1_chk111 i v25 v2659 v2661) (k1_t56 : Fin k1_t56_loop.trips), ∀ (k1_h56 : k1_cond56 i v25 v2659 = 1#1), ∀ a, (k1_off285 v2661 k1_t56) a + S1x16.size a ≤ S32x512.size a := fun i v25 v2659 v2661 k1_hw111 k1_t56 k1_h56 => k1_hw111.2.2 k1_t56 k1_h56

def k1_off286 (v2659 : BitVec 32) (k1_t56 : Fin k1_t56_loop.trips) : Fin 2 → Nat :=
  let c0_i32_1014 : BitVec 32 := 0#32
  let v2663 : BitVec 1 := Scalar.cmpi .sgt v2659 c0_i32_1014
  let v2664 : BitVec 32 := Scalar.extui v2663
  let c0_i32_1015 : BitVec 32 := 0#32
  let v2665 : BitVec 1 := Scalar.cmpi .slt v2659 c0_i32_1015
  let v2666 : BitVec 32 := Scalar.extui v2665
  let v2667 : BitVec 32 := Scalar.subi v2664 v2666
  let c16_i32_1013 : BitVec 32 := 16#32
  let c0_i32_1016 : BitVec 32 := 0#32
  let v2668 : BitVec 1 := Scalar.cmpi .sgt c16_i32_1013 c0_i32_1016
  let v2669 : BitVec 32 := Scalar.extui v2668
  let c0_i32_1017 : BitVec 32 := 0#32
  let v2670 : BitVec 1 := Scalar.cmpi .slt c16_i32_1013 c0_i32_1017
  let v2671 : BitVec 32 := Scalar.extui v2670
  let v2672 : BitVec 32 := Scalar.subi v2669 v2671
  let v2673 : BitVec 1 := Scalar.cmpi .ne v2667 v2672
  let v2674 : BitVec 32 := Scalar.remsi v2659 c16_i32_1013
  let c0_i32_1018 : BitVec 32 := 0#32
  let v2675 : BitVec 1 := Scalar.cmpi .ne v2674 c0_i32_1018
  let v2676 : BitVec 1 := Scalar.andi v2673 v2675
  let v2662 : BitVec 32 := Scalar.divsi v2659 c16_i32_1013
  let c1_i32_1019 : BitVec 32 := 1#32
  let v2677 : BitVec 32 := Scalar.subi v2662 c1_i32_1019
  let v2678 : BitVec 32 := Scalar.select v2676 v2677 v2662
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2678 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t56
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2659 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk112 (i : grid1.Coords) (v25 : BitVec 32) (v2659 : BitVec 32) : Prop :=
  (∀ k1_t56 : Fin k1_t56_loop.trips, ∀ (k1_h56 : k1_cond56 i v25 v2659 = 1#1), ∀ a, (k1_off284 v2659 k1_t56) a + S1x16.size a ≤ S128x512.size a) ∧
  (∀ k1_t56 : Fin k1_t56_loop.trips, ∀ (k1_h56 : k1_cond56 i v25 v2659 = 1#1), ∀ a, (k1_off286 v2659 k1_t56) a + S1x16.size a ≤ S128x512.size a)
theorem k1_off284_inb : ∀ (i : grid1.Coords) (v25 : BitVec 32) (v2659 : BitVec 32) (k1_hw112 : k1_chk112 i v25 v2659) (k1_t56 : Fin k1_t56_loop.trips), ∀ (k1_h56 : k1_cond56 i v25 v2659 = 1#1), ∀ a, (k1_off284 v2659 k1_t56) a + S1x16.size a ≤ S128x512.size a := fun i v25 v2659 k1_hw112 k1_t56 k1_h56 => k1_hw112.1 k1_t56 k1_h56
theorem k1_off286_inb : ∀ (i : grid1.Coords) (v25 : BitVec 32) (v2659 : BitVec 32) (k1_hw112 : k1_chk112 i v25 v2659) (k1_t56 : Fin k1_t56_loop.trips), ∀ (k1_h56 : k1_cond56 i v25 v2659 = 1#1), ∀ a, (k1_off286 v2659 k1_t56) a + S1x16.size a ≤ S128x512.size a := fun i v25 v2659 k1_hw112 k1_t56 k1_h56 => k1_hw112.2 k1_t56 k1_h56

def k1_off287 (i : grid1.Coords) (v2704 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2704 c0_i32_1428
  let v3763 : BitVec 32 := Scalar.extui v3762
  let c0_i32_1429 : BitVec 32 := 0#32
  let v3764 : BitVec 1 := Scalar.cmpi .slt v2704 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2704 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2704 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r66 : BitVec 32 := 0#32
  ![v3779.toNat, 0]
def k1_cond57 (i : grid1.Coords) (v25 : BitVec 32) (v2702 : BitVec 32) : BitVec 1 :=
  let c8_i32_1036 : BitVec 32 := 8#32
  let v2722 : BitVec 1 := Scalar.cmpi .sgt v25 c8_i32_1036
  let c0_i32_1030 : BitVec 32 := 0#32
  let v2706 : BitVec 1 := Scalar.cmpi .sgt v2702 c0_i32_1030
  let v2707 : BitVec 32 := Scalar.extui v2706
  let c0_i32_1031 : BitVec 32 := 0#32
  let v2708 : BitVec 1 := Scalar.cmpi .slt v2702 c0_i32_1031
  let v2709 : BitVec 32 := Scalar.extui v2708
  let v2710 : BitVec 32 := Scalar.subi v2707 v2709
  let c16_i32_1029 : BitVec 32 := 16#32
  let c0_i32_1032 : BitVec 32 := 0#32
  let v2711 : BitVec 1 := Scalar.cmpi .sgt c16_i32_1029 c0_i32_1032
  let v2712 : BitVec 32 := Scalar.extui v2711
  let c0_i32_1033 : BitVec 32 := 0#32
  let v2713 : BitVec 1 := Scalar.cmpi .slt c16_i32_1029 c0_i32_1033
  let v2714 : BitVec 32 := Scalar.extui v2713
  let v2715 : BitVec 32 := Scalar.subi v2712 v2714
  let v2716 : BitVec 1 := Scalar.cmpi .ne v2710 v2715
  let v2717 : BitVec 32 := Scalar.remsi v2702 c16_i32_1029
  let c0_i32_1034 : BitVec 32 := 0#32
  let v2718 : BitVec 1 := Scalar.cmpi .ne v2717 c0_i32_1034
  let v2719 : BitVec 1 := Scalar.andi v2716 v2718
  let v2705 : BitVec 32 := Scalar.divsi v2702 c16_i32_1029
  let c1_i32_1035 : BitVec 32 := 1#32
  let v2720 : BitVec 32 := Scalar.subi v2705 c1_i32_1035
  let v2721 : BitVec 32 := Scalar.select v2719 v2720 v2705
  let c0_i32_1038 : BitVec 32 := 0#32
  let v2724 : BitVec 1 := Scalar.cmpi .sgt v2721 c0_i32_1038
  let v2725 : BitVec 32 := Scalar.extui v2724
  let c0_i32_1039 : BitVec 32 := 0#32
  let v2726 : BitVec 1 := Scalar.cmpi .slt v2721 c0_i32_1039
  let v2727 : BitVec 32 := Scalar.extui v2726
  let v2728 : BitVec 32 := Scalar.subi v2725 v2727
  let c4_i32_1037 : BitVec 32 := 4#32
  let c0_i32_1040 : BitVec 32 := 0#32
  let v2729 : BitVec 1 := Scalar.cmpi .sgt c4_i32_1037 c0_i32_1040
  let v2730 : BitVec 32 := Scalar.extui v2729
  let c0_i32_1041 : BitVec 32 := 0#32
  let v2731 : BitVec 1 := Scalar.cmpi .slt c4_i32_1037 c0_i32_1041
  let v2732 : BitVec 32 := Scalar.extui v2731
  let v2733 : BitVec 32 := Scalar.subi v2730 v2732
  let v2734 : BitVec 1 := Scalar.cmpi .ne v2728 v2733
  let v2735 : BitVec 32 := Scalar.remsi v2721 c4_i32_1037
  let c0_i32_1042 : BitVec 32 := 0#32
  let v2736 : BitVec 1 := Scalar.cmpi .ne v2735 c0_i32_1042
  let v2737 : BitVec 1 := Scalar.andi v2734 v2736
  let v2723 : BitVec 32 := Scalar.divsi v2721 c4_i32_1037
  let c1_i32_1043 : BitVec 32 := 1#32
  let v2738 : BitVec 32 := Scalar.subi v2723 c1_i32_1043
  let v2739 : BitVec 32 := Scalar.select v2737 v2738 v2723
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2740 : BitVec 1 := Scalar.cmpi .eq v2739 v2356
  let v2741 : BitVec 1 := Scalar.andi v2722 v2740
  let v2742 : BitVec 32 := Scalar.extui v2741
  let c0_i32_1044 : BitVec 32 := 0#32
  let v2743 : BitVec 1 := Scalar.cmpi .ne v2742 c0_i32_1044
  v2743

@[reducible] def k1_t57_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off288 (v2704 : BitVec 32) (k1_t57 : Fin k1_t57_loop.trips) : Fin 2 → Nat :=
  let c0_i32_1453 : BitVec 32 := 0#32
  let c1_i32_1455 : BitVec 32 := 1#32
  let arg19 : BitVec 32 := Scf.iv c0_i32_1453 c1_i32_1455 k1_t57
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2704 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off289 (v2702 : BitVec 32) (k1_t57 : Fin k1_t57_loop.trips) : Fin 2 → Nat :=
  let c0_i32_1030 : BitVec 32 := 0#32
  let v2706 : BitVec 1 := Scalar.cmpi .sgt v2702 c0_i32_1030
  let v2707 : BitVec 32 := Scalar.extui v2706
  let c0_i32_1031 : BitVec 32 := 0#32
  let v2708 : BitVec 1 := Scalar.cmpi .slt v2702 c0_i32_1031
  let v2709 : BitVec 32 := Scalar.extui v2708
  let v2710 : BitVec 32 := Scalar.subi v2707 v2709
  let c16_i32_1029 : BitVec 32 := 16#32
  let c0_i32_1032 : BitVec 32 := 0#32
  let v2711 : BitVec 1 := Scalar.cmpi .sgt c16_i32_1029 c0_i32_1032
  let v2712 : BitVec 32 := Scalar.extui v2711
  let c0_i32_1033 : BitVec 32 := 0#32
  let v2713 : BitVec 1 := Scalar.cmpi .slt c16_i32_1029 c0_i32_1033
  let v2714 : BitVec 32 := Scalar.extui v2713
  let v2715 : BitVec 32 := Scalar.subi v2712 v2714
  let v2716 : BitVec 1 := Scalar.cmpi .ne v2710 v2715
  let v2717 : BitVec 32 := Scalar.remsi v2702 c16_i32_1029
  let c0_i32_1034 : BitVec 32 := 0#32
  let v2718 : BitVec 1 := Scalar.cmpi .ne v2717 c0_i32_1034
  let v2719 : BitVec 1 := Scalar.andi v2716 v2718
  let v2705 : BitVec 32 := Scalar.divsi v2702 c16_i32_1029
  let c1_i32_1035 : BitVec 32 := 1#32
  let v2720 : BitVec 32 := Scalar.subi v2705 c1_i32_1035
  let v2721 : BitVec 32 := Scalar.select v2719 v2720 v2705
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2721 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t57
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2702 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off290 (v2704 : BitVec 32) (k1_t57 : Fin k1_t57_loop.trips) : Fin 2 → Nat :=
  let c0_i32_1453 : BitVec 32 := 0#32
  let c1_i32_1455 : BitVec 32 := 1#32
  let arg19 : BitVec 32 := Scf.iv c0_i32_1453 c1_i32_1455 k1_t57
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2704 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk113 (i : grid1.Coords) (v25 : BitVec 32) (v2702 : BitVec 32) (v2704 : BitVec 32) : Prop :=
  (∀ (k1_h57 : k1_cond57 i v25 v2702 = 1#1), ∀ a, (k1_off287 i v2704) a + S32x512.size a ≤ S4096x512.size a) ∧
  (∀ k1_t57 : Fin k1_t57_loop.trips, ∀ (k1_h57 : k1_cond57 i v25 v2702 = 1#1), ∀ a, (k1_off288 v2704 k1_t57) a + S1x16.size a ≤ S32x512.size a) ∧
  (∀ k1_t57 : Fin k1_t57_loop.trips, ∀ (k1_h57 : k1_cond57 i v25 v2702 = 1#1), ∀ a, (k1_off290 v2704 k1_t57) a + S1x16.size a ≤ S32x512.size a)
theorem k1_off287_inb : ∀ (i : grid1.Coords) (v25 : BitVec 32) (v2702 : BitVec 32) (v2704 : BitVec 32) (k1_hw113 : k1_chk113 i v25 v2702 v2704), ∀ (k1_h57 : k1_cond57 i v25 v2702 = 1#1), ∀ a, (k1_off287 i v2704) a + S32x512.size a ≤ S4096x512.size a := fun i v25 v2702 v2704 k1_hw113 k1_h57 => k1_hw113.1 k1_h57
theorem k1_off288_inb : ∀ (i : grid1.Coords) (v25 : BitVec 32) (v2702 : BitVec 32) (v2704 : BitVec 32) (k1_hw113 : k1_chk113 i v25 v2702 v2704) (k1_t57 : Fin k1_t57_loop.trips), ∀ (k1_h57 : k1_cond57 i v25 v2702 = 1#1), ∀ a, (k1_off288 v2704 k1_t57) a + S1x16.size a ≤ S32x512.size a := fun i v25 v2702 v2704 k1_hw113 k1_t57 k1_h57 => k1_hw113.2.1 k1_t57 k1_h57
theorem k1_off290_inb : ∀ (i : grid1.Coords) (v25 : BitVec 32) (v2702 : BitVec 32) (v2704 : BitVec 32) (k1_hw113 : k1_chk113 i v25 v2702 v2704) (k1_t57 : Fin k1_t57_loop.trips), ∀ (k1_h57 : k1_cond57 i v25 v2702 = 1#1), ∀ a, (k1_off290 v2704 k1_t57) a + S1x16.size a ≤ S32x512.size a := fun i v25 v2702 v2704 k1_hw113 k1_t57 k1_h57 => k1_hw113.2.2 k1_t57 k1_h57

def k1_off291 (v2702 : BitVec 32) (k1_t57 : Fin k1_t57_loop.trips) : Fin 2 → Nat :=
  let c0_i32_1030 : BitVec 32 := 0#32
  let v2706 : BitVec 1 := Scalar.cmpi .sgt v2702 c0_i32_1030
  let v2707 : BitVec 32 := Scalar.extui v2706
  let c0_i32_1031 : BitVec 32 := 0#32
  let v2708 : BitVec 1 := Scalar.cmpi .slt v2702 c0_i32_1031
  let v2709 : BitVec 32 := Scalar.extui v2708
  let v2710 : BitVec 32 := Scalar.subi v2707 v2709
  let c16_i32_1029 : BitVec 32 := 16#32
  let c0_i32_1032 : BitVec 32 := 0#32
  let v2711 : BitVec 1 := Scalar.cmpi .sgt c16_i32_1029 c0_i32_1032
  let v2712 : BitVec 32 := Scalar.extui v2711
  let c0_i32_1033 : BitVec 32 := 0#32
  let v2713 : BitVec 1 := Scalar.cmpi .slt c16_i32_1029 c0_i32_1033
  let v2714 : BitVec 32 := Scalar.extui v2713
  let v2715 : BitVec 32 := Scalar.subi v2712 v2714
  let v2716 : BitVec 1 := Scalar.cmpi .ne v2710 v2715
  let v2717 : BitVec 32 := Scalar.remsi v2702 c16_i32_1029
  let c0_i32_1034 : BitVec 32 := 0#32
  let v2718 : BitVec 1 := Scalar.cmpi .ne v2717 c0_i32_1034
  let v2719 : BitVec 1 := Scalar.andi v2716 v2718
  let v2705 : BitVec 32 := Scalar.divsi v2702 c16_i32_1029
  let c1_i32_1035 : BitVec 32 := 1#32
  let v2720 : BitVec 32 := Scalar.subi v2705 c1_i32_1035
  let v2721 : BitVec 32 := Scalar.select v2719 v2720 v2705
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2721 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t57
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2702 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk114 (i : grid1.Coords) (v25 : BitVec 32) (v2702 : BitVec 32) : Prop :=
  (∀ k1_t57 : Fin k1_t57_loop.trips, ∀ (k1_h57 : k1_cond57 i v25 v2702 = 1#1), ∀ a, (k1_off289 v2702 k1_t57) a + S1x16.size a ≤ S128x512.size a) ∧
  (∀ k1_t57 : Fin k1_t57_loop.trips, ∀ (k1_h57 : k1_cond57 i v25 v2702 = 1#1), ∀ a, (k1_off291 v2702 k1_t57) a + S1x16.size a ≤ S128x512.size a)
theorem k1_off289_inb : ∀ (i : grid1.Coords) (v25 : BitVec 32) (v2702 : BitVec 32) (k1_hw114 : k1_chk114 i v25 v2702) (k1_t57 : Fin k1_t57_loop.trips), ∀ (k1_h57 : k1_cond57 i v25 v2702 = 1#1), ∀ a, (k1_off289 v2702 k1_t57) a + S1x16.size a ≤ S128x512.size a := fun i v25 v2702 k1_hw114 k1_t57 k1_h57 => k1_hw114.1 k1_t57 k1_h57
theorem k1_off291_inb : ∀ (i : grid1.Coords) (v25 : BitVec 32) (v2702 : BitVec 32) (k1_hw114 : k1_chk114 i v25 v2702) (k1_t57 : Fin k1_t57_loop.trips), ∀ (k1_h57 : k1_cond57 i v25 v2702 = 1#1), ∀ a, (k1_off291 v2702 k1_t57) a + S1x16.size a ≤ S128x512.size a := fun i v25 v2702 k1_hw114 k1_t57 k1_h57 => k1_hw114.2 k1_t57 k1_h57

def k1_off292 (i : grid1.Coords) (v2747 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2747 c0_i32_1428
  let v3763 : BitVec 32 := Scalar.extui v3762
  let c0_i32_1429 : BitVec 32 := 0#32
  let v3764 : BitVec 1 := Scalar.cmpi .slt v2747 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2747 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2747 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r67 : BitVec 32 := 0#32
  ![v3779.toNat, 0]
def k1_cond58 (i : grid1.Coords) (v25 : BitVec 32) (v2745 : BitVec 32) : BitVec 1 :=
  let c9_i32_1052 : BitVec 32 := 9#32
  let v2765 : BitVec 1 := Scalar.cmpi .sgt v25 c9_i32_1052
  let c0_i32_1046 : BitVec 32 := 0#32
  let v2749 : BitVec 1 := Scalar.cmpi .sgt v2745 c0_i32_1046
  let v2750 : BitVec 32 := Scalar.extui v2749
  let c0_i32_1047 : BitVec 32 := 0#32
  let v2751 : BitVec 1 := Scalar.cmpi .slt v2745 c0_i32_1047
  let v2752 : BitVec 32 := Scalar.extui v2751
  let v2753 : BitVec 32 := Scalar.subi v2750 v2752
  let c16_i32_1045 : BitVec 32 := 16#32
  let c0_i32_1048 : BitVec 32 := 0#32
  let v2754 : BitVec 1 := Scalar.cmpi .sgt c16_i32_1045 c0_i32_1048
  let v2755 : BitVec 32 := Scalar.extui v2754
  let c0_i32_1049 : BitVec 32 := 0#32
  let v2756 : BitVec 1 := Scalar.cmpi .slt c16_i32_1045 c0_i32_1049
  let v2757 : BitVec 32 := Scalar.extui v2756
  let v2758 : BitVec 32 := Scalar.subi v2755 v2757
  let v2759 : BitVec 1 := Scalar.cmpi .ne v2753 v2758
  let v2760 : BitVec 32 := Scalar.remsi v2745 c16_i32_1045
  let c0_i32_1050 : BitVec 32 := 0#32
  let v2761 : BitVec 1 := Scalar.cmpi .ne v2760 c0_i32_1050
  let v2762 : BitVec 1 := Scalar.andi v2759 v2761
  let v2748 : BitVec 32 := Scalar.divsi v2745 c16_i32_1045
  let c1_i32_1051 : BitVec 32 := 1#32
  let v2763 : BitVec 32 := Scalar.subi v2748 c1_i32_1051
  let v2764 : BitVec 32 := Scalar.select v2762 v2763 v2748
  let c0_i32_1054 : BitVec 32 := 0#32
  let v2767 : BitVec 1 := Scalar.cmpi .sgt v2764 c0_i32_1054
  let v2768 : BitVec 32 := Scalar.extui v2767
  let c0_i32_1055 : BitVec 32 := 0#32
  let v2769 : BitVec 1 := Scalar.cmpi .slt v2764 c0_i32_1055
  let v2770 : BitVec 32 := Scalar.extui v2769
  let v2771 : BitVec 32 := Scalar.subi v2768 v2770
  let c4_i32_1053 : BitVec 32 := 4#32
  let c0_i32_1056 : BitVec 32 := 0#32
  let v2772 : BitVec 1 := Scalar.cmpi .sgt c4_i32_1053 c0_i32_1056
  let v2773 : BitVec 32 := Scalar.extui v2772
  let c0_i32_1057 : BitVec 32 := 0#32
  let v2774 : BitVec 1 := Scalar.cmpi .slt c4_i32_1053 c0_i32_1057
  let v2775 : BitVec 32 := Scalar.extui v2774
  let v2776 : BitVec 32 := Scalar.subi v2773 v2775
  let v2777 : BitVec 1 := Scalar.cmpi .ne v2771 v2776
  let v2778 : BitVec 32 := Scalar.remsi v2764 c4_i32_1053
  let c0_i32_1058 : BitVec 32 := 0#32
  let v2779 : BitVec 1 := Scalar.cmpi .ne v2778 c0_i32_1058
  let v2780 : BitVec 1 := Scalar.andi v2777 v2779
  let v2766 : BitVec 32 := Scalar.divsi v2764 c4_i32_1053
  let c1_i32_1059 : BitVec 32 := 1#32
  let v2781 : BitVec 32 := Scalar.subi v2766 c1_i32_1059
  let v2782 : BitVec 32 := Scalar.select v2780 v2781 v2766
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2783 : BitVec 1 := Scalar.cmpi .eq v2782 v2356
  let v2784 : BitVec 1 := Scalar.andi v2765 v2783
  let v2785 : BitVec 32 := Scalar.extui v2784
  let c0_i32_1060 : BitVec 32 := 0#32
  let v2786 : BitVec 1 := Scalar.cmpi .ne v2785 c0_i32_1060
  v2786

@[reducible] def k1_t58_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off293 (v2747 : BitVec 32) (k1_t58 : Fin k1_t58_loop.trips) : Fin 2 → Nat :=
  let c0_i32_1453 : BitVec 32 := 0#32
  let c1_i32_1455 : BitVec 32 := 1#32
  let arg19 : BitVec 32 := Scf.iv c0_i32_1453 c1_i32_1455 k1_t58
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2747 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off294 (v2745 : BitVec 32) (k1_t58 : Fin k1_t58_loop.trips) : Fin 2 → Nat :=
  let c0_i32_1046 : BitVec 32 := 0#32
  let v2749 : BitVec 1 := Scalar.cmpi .sgt v2745 c0_i32_1046
  let v2750 : BitVec 32 := Scalar.extui v2749
  let c0_i32_1047 : BitVec 32 := 0#32
  let v2751 : BitVec 1 := Scalar.cmpi .slt v2745 c0_i32_1047
  let v2752 : BitVec 32 := Scalar.extui v2751
  let v2753 : BitVec 32 := Scalar.subi v2750 v2752
  let c16_i32_1045 : BitVec 32 := 16#32
  let c0_i32_1048 : BitVec 32 := 0#32
  let v2754 : BitVec 1 := Scalar.cmpi .sgt c16_i32_1045 c0_i32_1048
  let v2755 : BitVec 32 := Scalar.extui v2754
  let c0_i32_1049 : BitVec 32 := 0#32
  let v2756 : BitVec 1 := Scalar.cmpi .slt c16_i32_1045 c0_i32_1049
  let v2757 : BitVec 32 := Scalar.extui v2756
  let v2758 : BitVec 32 := Scalar.subi v2755 v2757
  let v2759 : BitVec 1 := Scalar.cmpi .ne v2753 v2758
  let v2760 : BitVec 32 := Scalar.remsi v2745 c16_i32_1045
  let c0_i32_1050 : BitVec 32 := 0#32
  let v2761 : BitVec 1 := Scalar.cmpi .ne v2760 c0_i32_1050
  let v2762 : BitVec 1 := Scalar.andi v2759 v2761
  let v2748 : BitVec 32 := Scalar.divsi v2745 c16_i32_1045
  let c1_i32_1051 : BitVec 32 := 1#32
  let v2763 : BitVec 32 := Scalar.subi v2748 c1_i32_1051
  let v2764 : BitVec 32 := Scalar.select v2762 v2763 v2748
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2764 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t58
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2745 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off295 (v2747 : BitVec 32) (k1_t58 : Fin k1_t58_loop.trips) : Fin 2 → Nat :=
  let c0_i32_1453 : BitVec 32 := 0#32
  let c1_i32_1455 : BitVec 32 := 1#32
  let arg19 : BitVec 32 := Scf.iv c0_i32_1453 c1_i32_1455 k1_t58
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2747 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk115 (i : grid1.Coords) (v25 : BitVec 32) (v2745 : BitVec 32) (v2747 : BitVec 32) : Prop :=
  (∀ (k1_h58 : k1_cond58 i v25 v2745 = 1#1), ∀ a, (k1_off292 i v2747) a + S32x512.size a ≤ S4096x512.size a) ∧
  (∀ k1_t58 : Fin k1_t58_loop.trips, ∀ (k1_h58 : k1_cond58 i v25 v2745 = 1#1), ∀ a, (k1_off293 v2747 k1_t58) a + S1x16.size a ≤ S32x512.size a) ∧
  (∀ k1_t58 : Fin k1_t58_loop.trips, ∀ (k1_h58 : k1_cond58 i v25 v2745 = 1#1), ∀ a, (k1_off295 v2747 k1_t58) a + S1x16.size a ≤ S32x512.size a)
theorem k1_off292_inb : ∀ (i : grid1.Coords) (v25 : BitVec 32) (v2745 : BitVec 32) (v2747 : BitVec 32) (k1_hw115 : k1_chk115 i v25 v2745 v2747), ∀ (k1_h58 : k1_cond58 i v25 v2745 = 1#1), ∀ a, (k1_off292 i v2747) a + S32x512.size a ≤ S4096x512.size a := fun i v25 v2745 v2747 k1_hw115 k1_h58 => k1_hw115.1 k1_h58
theorem k1_off293_inb : ∀ (i : grid1.Coords) (v25 : BitVec 32) (v2745 : BitVec 32) (v2747 : BitVec 32) (k1_hw115 : k1_chk115 i v25 v2745 v2747) (k1_t58 : Fin k1_t58_loop.trips), ∀ (k1_h58 : k1_cond58 i v25 v2745 = 1#1), ∀ a, (k1_off293 v2747 k1_t58) a + S1x16.size a ≤ S32x512.size a := fun i v25 v2745 v2747 k1_hw115 k1_t58 k1_h58 => k1_hw115.2.1 k1_t58 k1_h58
theorem k1_off295_inb : ∀ (i : grid1.Coords) (v25 : BitVec 32) (v2745 : BitVec 32) (v2747 : BitVec 32) (k1_hw115 : k1_chk115 i v25 v2745 v2747) (k1_t58 : Fin k1_t58_loop.trips), ∀ (k1_h58 : k1_cond58 i v25 v2745 = 1#1), ∀ a, (k1_off295 v2747 k1_t58) a + S1x16.size a ≤ S32x512.size a := fun i v25 v2745 v2747 k1_hw115 k1_t58 k1_h58 => k1_hw115.2.2 k1_t58 k1_h58

def k1_off296 (v2745 : BitVec 32) (k1_t58 : Fin k1_t58_loop.trips) : Fin 2 → Nat :=
  let c0_i32_1046 : BitVec 32 := 0#32
  let v2749 : BitVec 1 := Scalar.cmpi .sgt v2745 c0_i32_1046
  let v2750 : BitVec 32 := Scalar.extui v2749
  let c0_i32_1047 : BitVec 32 := 0#32
  let v2751 : BitVec 1 := Scalar.cmpi .slt v2745 c0_i32_1047
  let v2752 : BitVec 32 := Scalar.extui v2751
  let v2753 : BitVec 32 := Scalar.subi v2750 v2752
  let c16_i32_1045 : BitVec 32 := 16#32
  let c0_i32_1048 : BitVec 32 := 0#32
  let v2754 : BitVec 1 := Scalar.cmpi .sgt c16_i32_1045 c0_i32_1048
  let v2755 : BitVec 32 := Scalar.extui v2754
  let c0_i32_1049 : BitVec 32 := 0#32
  let v2756 : BitVec 1 := Scalar.cmpi .slt c16_i32_1045 c0_i32_1049
  let v2757 : BitVec 32 := Scalar.extui v2756
  let v2758 : BitVec 32 := Scalar.subi v2755 v2757
  let v2759 : BitVec 1 := Scalar.cmpi .ne v2753 v2758
  let v2760 : BitVec 32 := Scalar.remsi v2745 c16_i32_1045
  let c0_i32_1050 : BitVec 32 := 0#32
  let v2761 : BitVec 1 := Scalar.cmpi .ne v2760 c0_i32_1050
  let v2762 : BitVec 1 := Scalar.andi v2759 v2761
  let v2748 : BitVec 32 := Scalar.divsi v2745 c16_i32_1045
  let c1_i32_1051 : BitVec 32 := 1#32
  let v2763 : BitVec 32 := Scalar.subi v2748 c1_i32_1051
  let v2764 : BitVec 32 := Scalar.select v2762 v2763 v2748
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2764 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t58
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2745 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk116 (i : grid1.Coords) (v25 : BitVec 32) (v2745 : BitVec 32) : Prop :=
  (∀ k1_t58 : Fin k1_t58_loop.trips, ∀ (k1_h58 : k1_cond58 i v25 v2745 = 1#1), ∀ a, (k1_off294 v2745 k1_t58) a + S1x16.size a ≤ S128x512.size a) ∧
  (∀ k1_t58 : Fin k1_t58_loop.trips, ∀ (k1_h58 : k1_cond58 i v25 v2745 = 1#1), ∀ a, (k1_off296 v2745 k1_t58) a + S1x16.size a ≤ S128x512.size a)
theorem k1_off294_inb : ∀ (i : grid1.Coords) (v25 : BitVec 32) (v2745 : BitVec 32) (k1_hw116 : k1_chk116 i v25 v2745) (k1_t58 : Fin k1_t58_loop.trips), ∀ (k1_h58 : k1_cond58 i v25 v2745 = 1#1), ∀ a, (k1_off294 v2745 k1_t58) a + S1x16.size a ≤ S128x512.size a := fun i v25 v2745 k1_hw116 k1_t58 k1_h58 => k1_hw116.1 k1_t58 k1_h58
theorem k1_off296_inb : ∀ (i : grid1.Coords) (v25 : BitVec 32) (v2745 : BitVec 32) (k1_hw116 : k1_chk116 i v25 v2745) (k1_t58 : Fin k1_t58_loop.trips), ∀ (k1_h58 : k1_cond58 i v25 v2745 = 1#1), ∀ a, (k1_off296 v2745 k1_t58) a + S1x16.size a ≤ S128x512.size a := fun i v25 v2745 k1_hw116 k1_t58 k1_h58 => k1_hw116.2 k1_t58 k1_h58

def k1_off297 (i : grid1.Coords) (v2790 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2790 c0_i32_1428
  let v3763 : BitVec 32 := Scalar.extui v3762
  let c0_i32_1429 : BitVec 32 := 0#32
  let v3764 : BitVec 1 := Scalar.cmpi .slt v2790 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2790 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2790 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r68 : BitVec 32 := 0#32
  ![v3779.toNat, 0]
def k1_cond59 (i : grid1.Coords) (v25 : BitVec 32) (v2788 : BitVec 32) : BitVec 1 :=
  let c10_i32_1068 : BitVec 32 := 10#32
  let v2808 : BitVec 1 := Scalar.cmpi .sgt v25 c10_i32_1068
  let c0_i32_1062 : BitVec 32 := 0#32
  let v2792 : BitVec 1 := Scalar.cmpi .sgt v2788 c0_i32_1062
  let v2793 : BitVec 32 := Scalar.extui v2792
  let c0_i32_1063 : BitVec 32 := 0#32
  let v2794 : BitVec 1 := Scalar.cmpi .slt v2788 c0_i32_1063
  let v2795 : BitVec 32 := Scalar.extui v2794
  let v2796 : BitVec 32 := Scalar.subi v2793 v2795
  let c16_i32_1061 : BitVec 32 := 16#32
  let c0_i32_1064 : BitVec 32 := 0#32
  let v2797 : BitVec 1 := Scalar.cmpi .sgt c16_i32_1061 c0_i32_1064
  let v2798 : BitVec 32 := Scalar.extui v2797
  let c0_i32_1065 : BitVec 32 := 0#32
  let v2799 : BitVec 1 := Scalar.cmpi .slt c16_i32_1061 c0_i32_1065
  let v2800 : BitVec 32 := Scalar.extui v2799
  let v2801 : BitVec 32 := Scalar.subi v2798 v2800
  let v2802 : BitVec 1 := Scalar.cmpi .ne v2796 v2801
  let v2803 : BitVec 32 := Scalar.remsi v2788 c16_i32_1061
  let c0_i32_1066 : BitVec 32 := 0#32
  let v2804 : BitVec 1 := Scalar.cmpi .ne v2803 c0_i32_1066
  let v2805 : BitVec 1 := Scalar.andi v2802 v2804
  let v2791 : BitVec 32 := Scalar.divsi v2788 c16_i32_1061
  let c1_i32_1067 : BitVec 32 := 1#32
  let v2806 : BitVec 32 := Scalar.subi v2791 c1_i32_1067
  let v2807 : BitVec 32 := Scalar.select v2805 v2806 v2791
  let c0_i32_1070 : BitVec 32 := 0#32
  let v2810 : BitVec 1 := Scalar.cmpi .sgt v2807 c0_i32_1070
  let v2811 : BitVec 32 := Scalar.extui v2810
  let c0_i32_1071 : BitVec 32 := 0#32
  let v2812 : BitVec 1 := Scalar.cmpi .slt v2807 c0_i32_1071
  let v2813 : BitVec 32 := Scalar.extui v2812
  let v2814 : BitVec 32 := Scalar.subi v2811 v2813
  let c4_i32_1069 : BitVec 32 := 4#32
  let c0_i32_1072 : BitVec 32 := 0#32
  let v2815 : BitVec 1 := Scalar.cmpi .sgt c4_i32_1069 c0_i32_1072
  let v2816 : BitVec 32 := Scalar.extui v2815
  let c0_i32_1073 : BitVec 32 := 0#32
  let v2817 : BitVec 1 := Scalar.cmpi .slt c4_i32_1069 c0_i32_1073
  let v2818 : BitVec 32 := Scalar.extui v2817
  let v2819 : BitVec 32 := Scalar.subi v2816 v2818
  let v2820 : BitVec 1 := Scalar.cmpi .ne v2814 v2819
  let v2821 : BitVec 32 := Scalar.remsi v2807 c4_i32_1069
  let c0_i32_1074 : BitVec 32 := 0#32
  let v2822 : BitVec 1 := Scalar.cmpi .ne v2821 c0_i32_1074
  let v2823 : BitVec 1 := Scalar.andi v2820 v2822
  let v2809 : BitVec 32 := Scalar.divsi v2807 c4_i32_1069
  let c1_i32_1075 : BitVec 32 := 1#32
  let v2824 : BitVec 32 := Scalar.subi v2809 c1_i32_1075
  let v2825 : BitVec 32 := Scalar.select v2823 v2824 v2809
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2826 : BitVec 1 := Scalar.cmpi .eq v2825 v2356
  let v2827 : BitVec 1 := Scalar.andi v2808 v2826
  let v2828 : BitVec 32 := Scalar.extui v2827
  let c0_i32_1076 : BitVec 32 := 0#32
  let v2829 : BitVec 1 := Scalar.cmpi .ne v2828 c0_i32_1076
  v2829

@[reducible] def k1_t59_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off298 (v2790 : BitVec 32) (k1_t59 : Fin k1_t59_loop.trips) : Fin 2 → Nat :=
  let c0_i32_1453 : BitVec 32 := 0#32
  let c1_i32_1455 : BitVec 32 := 1#32
  let arg19 : BitVec 32 := Scf.iv c0_i32_1453 c1_i32_1455 k1_t59
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2790 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off299 (v2788 : BitVec 32) (k1_t59 : Fin k1_t59_loop.trips) : Fin 2 → Nat :=
  let c0_i32_1062 : BitVec 32 := 0#32
  let v2792 : BitVec 1 := Scalar.cmpi .sgt v2788 c0_i32_1062
  let v2793 : BitVec 32 := Scalar.extui v2792
  let c0_i32_1063 : BitVec 32 := 0#32
  let v2794 : BitVec 1 := Scalar.cmpi .slt v2788 c0_i32_1063
  let v2795 : BitVec 32 := Scalar.extui v2794
  let v2796 : BitVec 32 := Scalar.subi v2793 v2795
  let c16_i32_1061 : BitVec 32 := 16#32
  let c0_i32_1064 : BitVec 32 := 0#32
  let v2797 : BitVec 1 := Scalar.cmpi .sgt c16_i32_1061 c0_i32_1064
  let v2798 : BitVec 32 := Scalar.extui v2797
  let c0_i32_1065 : BitVec 32 := 0#32
  let v2799 : BitVec 1 := Scalar.cmpi .slt c16_i32_1061 c0_i32_1065
  let v2800 : BitVec 32 := Scalar.extui v2799
  let v2801 : BitVec 32 := Scalar.subi v2798 v2800
  let v2802 : BitVec 1 := Scalar.cmpi .ne v2796 v2801
  let v2803 : BitVec 32 := Scalar.remsi v2788 c16_i32_1061
  let c0_i32_1066 : BitVec 32 := 0#32
  let v2804 : BitVec 1 := Scalar.cmpi .ne v2803 c0_i32_1066
  let v2805 : BitVec 1 := Scalar.andi v2802 v2804
  let v2791 : BitVec 32 := Scalar.divsi v2788 c16_i32_1061
  let c1_i32_1067 : BitVec 32 := 1#32
  let v2806 : BitVec 32 := Scalar.subi v2791 c1_i32_1067
  let v2807 : BitVec 32 := Scalar.select v2805 v2806 v2791
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2807 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t59
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2788 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off300 (v2790 : BitVec 32) (k1_t59 : Fin k1_t59_loop.trips) : Fin 2 → Nat :=
  let c0_i32_1453 : BitVec 32 := 0#32
  let c1_i32_1455 : BitVec 32 := 1#32
  let arg19 : BitVec 32 := Scf.iv c0_i32_1453 c1_i32_1455 k1_t59
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2790 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk117 (i : grid1.Coords) (v25 : BitVec 32) (v2788 : BitVec 32) (v2790 : BitVec 32) : Prop :=
  (∀ (k1_h59 : k1_cond59 i v25 v2788 = 1#1), ∀ a, (k1_off297 i v2790) a + S32x512.size a ≤ S4096x512.size a) ∧
  (∀ k1_t59 : Fin k1_t59_loop.trips, ∀ (k1_h59 : k1_cond59 i v25 v2788 = 1#1), ∀ a, (k1_off298 v2790 k1_t59) a + S1x16.size a ≤ S32x512.size a) ∧
  (∀ k1_t59 : Fin k1_t59_loop.trips, ∀ (k1_h59 : k1_cond59 i v25 v2788 = 1#1), ∀ a, (k1_off300 v2790 k1_t59) a + S1x16.size a ≤ S32x512.size a)
theorem k1_off297_inb : ∀ (i : grid1.Coords) (v25 : BitVec 32) (v2788 : BitVec 32) (v2790 : BitVec 32) (k1_hw117 : k1_chk117 i v25 v2788 v2790), ∀ (k1_h59 : k1_cond59 i v25 v2788 = 1#1), ∀ a, (k1_off297 i v2790) a + S32x512.size a ≤ S4096x512.size a := fun i v25 v2788 v2790 k1_hw117 k1_h59 => k1_hw117.1 k1_h59
theorem k1_off298_inb : ∀ (i : grid1.Coords) (v25 : BitVec 32) (v2788 : BitVec 32) (v2790 : BitVec 32) (k1_hw117 : k1_chk117 i v25 v2788 v2790) (k1_t59 : Fin k1_t59_loop.trips), ∀ (k1_h59 : k1_cond59 i v25 v2788 = 1#1), ∀ a, (k1_off298 v2790 k1_t59) a + S1x16.size a ≤ S32x512.size a := fun i v25 v2788 v2790 k1_hw117 k1_t59 k1_h59 => k1_hw117.2.1 k1_t59 k1_h59
theorem k1_off300_inb : ∀ (i : grid1.Coords) (v25 : BitVec 32) (v2788 : BitVec 32) (v2790 : BitVec 32) (k1_hw117 : k1_chk117 i v25 v2788 v2790) (k1_t59 : Fin k1_t59_loop.trips), ∀ (k1_h59 : k1_cond59 i v25 v2788 = 1#1), ∀ a, (k1_off300 v2790 k1_t59) a + S1x16.size a ≤ S32x512.size a := fun i v25 v2788 v2790 k1_hw117 k1_t59 k1_h59 => k1_hw117.2.2 k1_t59 k1_h59

def k1_off301 (v2788 : BitVec 32) (k1_t59 : Fin k1_t59_loop.trips) : Fin 2 → Nat :=
  let c0_i32_1062 : BitVec 32 := 0#32
  let v2792 : BitVec 1 := Scalar.cmpi .sgt v2788 c0_i32_1062
  let v2793 : BitVec 32 := Scalar.extui v2792
  let c0_i32_1063 : BitVec 32 := 0#32
  let v2794 : BitVec 1 := Scalar.cmpi .slt v2788 c0_i32_1063
  let v2795 : BitVec 32 := Scalar.extui v2794
  let v2796 : BitVec 32 := Scalar.subi v2793 v2795
  let c16_i32_1061 : BitVec 32 := 16#32
  let c0_i32_1064 : BitVec 32 := 0#32
  let v2797 : BitVec 1 := Scalar.cmpi .sgt c16_i32_1061 c0_i32_1064
  let v2798 : BitVec 32 := Scalar.extui v2797
  let c0_i32_1065 : BitVec 32 := 0#32
  let v2799 : BitVec 1 := Scalar.cmpi .slt c16_i32_1061 c0_i32_1065
  let v2800 : BitVec 32 := Scalar.extui v2799
  let v2801 : BitVec 32 := Scalar.subi v2798 v2800
  let v2802 : BitVec 1 := Scalar.cmpi .ne v2796 v2801
  let v2803 : BitVec 32 := Scalar.remsi v2788 c16_i32_1061
  let c0_i32_1066 : BitVec 32 := 0#32
  let v2804 : BitVec 1 := Scalar.cmpi .ne v2803 c0_i32_1066
  let v2805 : BitVec 1 := Scalar.andi v2802 v2804
  let v2791 : BitVec 32 := Scalar.divsi v2788 c16_i32_1061
  let c1_i32_1067 : BitVec 32 := 1#32
  let v2806 : BitVec 32 := Scalar.subi v2791 c1_i32_1067
  let v2807 : BitVec 32 := Scalar.select v2805 v2806 v2791
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2807 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t59
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2788 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk118 (i : grid1.Coords) (v25 : BitVec 32) (v2788 : BitVec 32) : Prop :=
  (∀ k1_t59 : Fin k1_t59_loop.trips, ∀ (k1_h59 : k1_cond59 i v25 v2788 = 1#1), ∀ a, (k1_off299 v2788 k1_t59) a + S1x16.size a ≤ S128x512.size a) ∧
  (∀ k1_t59 : Fin k1_t59_loop.trips, ∀ (k1_h59 : k1_cond59 i v25 v2788 = 1#1), ∀ a, (k1_off301 v2788 k1_t59) a + S1x16.size a ≤ S128x512.size a)
theorem k1_off299_inb : ∀ (i : grid1.Coords) (v25 : BitVec 32) (v2788 : BitVec 32) (k1_hw118 : k1_chk118 i v25 v2788) (k1_t59 : Fin k1_t59_loop.trips), ∀ (k1_h59 : k1_cond59 i v25 v2788 = 1#1), ∀ a, (k1_off299 v2788 k1_t59) a + S1x16.size a ≤ S128x512.size a := fun i v25 v2788 k1_hw118 k1_t59 k1_h59 => k1_hw118.1 k1_t59 k1_h59
theorem k1_off301_inb : ∀ (i : grid1.Coords) (v25 : BitVec 32) (v2788 : BitVec 32) (k1_hw118 : k1_chk118 i v25 v2788) (k1_t59 : Fin k1_t59_loop.trips), ∀ (k1_h59 : k1_cond59 i v25 v2788 = 1#1), ∀ a, (k1_off301 v2788 k1_t59) a + S1x16.size a ≤ S128x512.size a := fun i v25 v2788 k1_hw118 k1_t59 k1_h59 => k1_hw118.2 k1_t59 k1_h59

def k1_off302 (i : grid1.Coords) (v2833 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2833 c0_i32_1428
  let v3763 : BitVec 32 := Scalar.extui v3762
  let c0_i32_1429 : BitVec 32 := 0#32
  let v3764 : BitVec 1 := Scalar.cmpi .slt v2833 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2833 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2833 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r69 : BitVec 32 := 0#32
  ![v3779.toNat, 0]
def k1_cond60 (i : grid1.Coords) (v25 : BitVec 32) (v2831 : BitVec 32) : BitVec 1 :=
  let c11_i32_1084 : BitVec 32 := 11#32
  let v2851 : BitVec 1 := Scalar.cmpi .sgt v25 c11_i32_1084
  let c0_i32_1078 : BitVec 32 := 0#32
  let v2835 : BitVec 1 := Scalar.cmpi .sgt v2831 c0_i32_1078
  let v2836 : BitVec 32 := Scalar.extui v2835
  let c0_i32_1079 : BitVec 32 := 0#32
  let v2837 : BitVec 1 := Scalar.cmpi .slt v2831 c0_i32_1079
  let v2838 : BitVec 32 := Scalar.extui v2837
  let v2839 : BitVec 32 := Scalar.subi v2836 v2838
  let c16_i32_1077 : BitVec 32 := 16#32
  let c0_i32_1080 : BitVec 32 := 0#32
  let v2840 : BitVec 1 := Scalar.cmpi .sgt c16_i32_1077 c0_i32_1080
  let v2841 : BitVec 32 := Scalar.extui v2840
  let c0_i32_1081 : BitVec 32 := 0#32
  let v2842 : BitVec 1 := Scalar.cmpi .slt c16_i32_1077 c0_i32_1081
  let v2843 : BitVec 32 := Scalar.extui v2842
  let v2844 : BitVec 32 := Scalar.subi v2841 v2843
  let v2845 : BitVec 1 := Scalar.cmpi .ne v2839 v2844
  let v2846 : BitVec 32 := Scalar.remsi v2831 c16_i32_1077
  let c0_i32_1082 : BitVec 32 := 0#32
  let v2847 : BitVec 1 := Scalar.cmpi .ne v2846 c0_i32_1082
  let v2848 : BitVec 1 := Scalar.andi v2845 v2847
  let v2834 : BitVec 32 := Scalar.divsi v2831 c16_i32_1077
  let c1_i32_1083 : BitVec 32 := 1#32
  let v2849 : BitVec 32 := Scalar.subi v2834 c1_i32_1083
  let v2850 : BitVec 32 := Scalar.select v2848 v2849 v2834
  let c0_i32_1086 : BitVec 32 := 0#32
  let v2853 : BitVec 1 := Scalar.cmpi .sgt v2850 c0_i32_1086
  let v2854 : BitVec 32 := Scalar.extui v2853
  let c0_i32_1087 : BitVec 32 := 0#32
  let v2855 : BitVec 1 := Scalar.cmpi .slt v2850 c0_i32_1087
  let v2856 : BitVec 32 := Scalar.extui v2855
  let v2857 : BitVec 32 := Scalar.subi v2854 v2856
  let c4_i32_1085 : BitVec 32 := 4#32
  let c0_i32_1088 : BitVec 32 := 0#32
  let v2858 : BitVec 1 := Scalar.cmpi .sgt c4_i32_1085 c0_i32_1088
  let v2859 : BitVec 32 := Scalar.extui v2858
  let c0_i32_1089 : BitVec 32 := 0#32
  let v2860 : BitVec 1 := Scalar.cmpi .slt c4_i32_1085 c0_i32_1089
  let v2861 : BitVec 32 := Scalar.extui v2860
  let v2862 : BitVec 32 := Scalar.subi v2859 v2861
  let v2863 : BitVec 1 := Scalar.cmpi .ne v2857 v2862
  let v2864 : BitVec 32 := Scalar.remsi v2850 c4_i32_1085
  let c0_i32_1090 : BitVec 32 := 0#32
  let v2865 : BitVec 1 := Scalar.cmpi .ne v2864 c0_i32_1090
  let v2866 : BitVec 1 := Scalar.andi v2863 v2865
  let v2852 : BitVec 32 := Scalar.divsi v2850 c4_i32_1085
  let c1_i32_1091 : BitVec 32 := 1#32
  let v2867 : BitVec 32 := Scalar.subi v2852 c1_i32_1091
  let v2868 : BitVec 32 := Scalar.select v2866 v2867 v2852
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2869 : BitVec 1 := Scalar.cmpi .eq v2868 v2356
  let v2870 : BitVec 1 := Scalar.andi v2851 v2869
  let v2871 : BitVec 32 := Scalar.extui v2870
  let c0_i32_1092 : BitVec 32 := 0#32
  let v2872 : BitVec 1 := Scalar.cmpi .ne v2871 c0_i32_1092
  v2872

@[reducible] def k1_t60_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off303 (v2833 : BitVec 32) (k1_t60 : Fin k1_t60_loop.trips) : Fin 2 → Nat :=
  let c0_i32_1453 : BitVec 32 := 0#32
  let c1_i32_1455 : BitVec 32 := 1#32
  let arg19 : BitVec 32 := Scf.iv c0_i32_1453 c1_i32_1455 k1_t60
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2833 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off304 (v2831 : BitVec 32) (k1_t60 : Fin k1_t60_loop.trips) : Fin 2 → Nat :=
  let c0_i32_1078 : BitVec 32 := 0#32
  let v2835 : BitVec 1 := Scalar.cmpi .sgt v2831 c0_i32_1078
  let v2836 : BitVec 32 := Scalar.extui v2835
  let c0_i32_1079 : BitVec 32 := 0#32
  let v2837 : BitVec 1 := Scalar.cmpi .slt v2831 c0_i32_1079
  let v2838 : BitVec 32 := Scalar.extui v2837
  let v2839 : BitVec 32 := Scalar.subi v2836 v2838
  let c16_i32_1077 : BitVec 32 := 16#32
  let c0_i32_1080 : BitVec 32 := 0#32
  let v2840 : BitVec 1 := Scalar.cmpi .sgt c16_i32_1077 c0_i32_1080
  let v2841 : BitVec 32 := Scalar.extui v2840
  let c0_i32_1081 : BitVec 32 := 0#32
  let v2842 : BitVec 1 := Scalar.cmpi .slt c16_i32_1077 c0_i32_1081
  let v2843 : BitVec 32 := Scalar.extui v2842
  let v2844 : BitVec 32 := Scalar.subi v2841 v2843
  let v2845 : BitVec 1 := Scalar.cmpi .ne v2839 v2844
  let v2846 : BitVec 32 := Scalar.remsi v2831 c16_i32_1077
  let c0_i32_1082 : BitVec 32 := 0#32
  let v2847 : BitVec 1 := Scalar.cmpi .ne v2846 c0_i32_1082
  let v2848 : BitVec 1 := Scalar.andi v2845 v2847
  let v2834 : BitVec 32 := Scalar.divsi v2831 c16_i32_1077
  let c1_i32_1083 : BitVec 32 := 1#32
  let v2849 : BitVec 32 := Scalar.subi v2834 c1_i32_1083
  let v2850 : BitVec 32 := Scalar.select v2848 v2849 v2834
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2850 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t60
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2831 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off305 (v2833 : BitVec 32) (k1_t60 : Fin k1_t60_loop.trips) : Fin 2 → Nat :=
  let c0_i32_1453 : BitVec 32 := 0#32
  let c1_i32_1455 : BitVec 32 := 1#32
  let arg19 : BitVec 32 := Scf.iv c0_i32_1453 c1_i32_1455 k1_t60
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2833 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk119 (i : grid1.Coords) (v25 : BitVec 32) (v2831 : BitVec 32) (v2833 : BitVec 32) : Prop :=
  (∀ (k1_h60 : k1_cond60 i v25 v2831 = 1#1), ∀ a, (k1_off302 i v2833) a + S32x512.size a ≤ S4096x512.size a) ∧
  (∀ k1_t60 : Fin k1_t60_loop.trips, ∀ (k1_h60 : k1_cond60 i v25 v2831 = 1#1), ∀ a, (k1_off303 v2833 k1_t60) a + S1x16.size a ≤ S32x512.size a) ∧
  (∀ k1_t60 : Fin k1_t60_loop.trips, ∀ (k1_h60 : k1_cond60 i v25 v2831 = 1#1), ∀ a, (k1_off305 v2833 k1_t60) a + S1x16.size a ≤ S32x512.size a)
theorem k1_off302_inb : ∀ (i : grid1.Coords) (v25 : BitVec 32) (v2831 : BitVec 32) (v2833 : BitVec 32) (k1_hw119 : k1_chk119 i v25 v2831 v2833), ∀ (k1_h60 : k1_cond60 i v25 v2831 = 1#1), ∀ a, (k1_off302 i v2833) a + S32x512.size a ≤ S4096x512.size a := fun i v25 v2831 v2833 k1_hw119 k1_h60 => k1_hw119.1 k1_h60
theorem k1_off303_inb : ∀ (i : grid1.Coords) (v25 : BitVec 32) (v2831 : BitVec 32) (v2833 : BitVec 32) (k1_hw119 : k1_chk119 i v25 v2831 v2833) (k1_t60 : Fin k1_t60_loop.trips), ∀ (k1_h60 : k1_cond60 i v25 v2831 = 1#1), ∀ a, (k1_off303 v2833 k1_t60) a + S1x16.size a ≤ S32x512.size a := fun i v25 v2831 v2833 k1_hw119 k1_t60 k1_h60 => k1_hw119.2.1 k1_t60 k1_h60
theorem k1_off305_inb : ∀ (i : grid1.Coords) (v25 : BitVec 32) (v2831 : BitVec 32) (v2833 : BitVec 32) (k1_hw119 : k1_chk119 i v25 v2831 v2833) (k1_t60 : Fin k1_t60_loop.trips), ∀ (k1_h60 : k1_cond60 i v25 v2831 = 1#1), ∀ a, (k1_off305 v2833 k1_t60) a + S1x16.size a ≤ S32x512.size a := fun i v25 v2831 v2833 k1_hw119 k1_t60 k1_h60 => k1_hw119.2.2 k1_t60 k1_h60

def k1_off306 (v2831 : BitVec 32) (k1_t60 : Fin k1_t60_loop.trips) : Fin 2 → Nat :=
  let c0_i32_1078 : BitVec 32 := 0#32
  let v2835 : BitVec 1 := Scalar.cmpi .sgt v2831 c0_i32_1078
  let v2836 : BitVec 32 := Scalar.extui v2835
  let c0_i32_1079 : BitVec 32 := 0#32
  let v2837 : BitVec 1 := Scalar.cmpi .slt v2831 c0_i32_1079
  let v2838 : BitVec 32 := Scalar.extui v2837
  let v2839 : BitVec 32 := Scalar.subi v2836 v2838
  let c16_i32_1077 : BitVec 32 := 16#32
  let c0_i32_1080 : BitVec 32 := 0#32
  let v2840 : BitVec 1 := Scalar.cmpi .sgt c16_i32_1077 c0_i32_1080
  let v2841 : BitVec 32 := Scalar.extui v2840
  let c0_i32_1081 : BitVec 32 := 0#32
  let v2842 : BitVec 1 := Scalar.cmpi .slt c16_i32_1077 c0_i32_1081
  let v2843 : BitVec 32 := Scalar.extui v2842
  let v2844 : BitVec 32 := Scalar.subi v2841 v2843
  let v2845 : BitVec 1 := Scalar.cmpi .ne v2839 v2844
  let v2846 : BitVec 32 := Scalar.remsi v2831 c16_i32_1077
  let c0_i32_1082 : BitVec 32 := 0#32
  let v2847 : BitVec 1 := Scalar.cmpi .ne v2846 c0_i32_1082
  let v2848 : BitVec 1 := Scalar.andi v2845 v2847
  let v2834 : BitVec 32 := Scalar.divsi v2831 c16_i32_1077
  let c1_i32_1083 : BitVec 32 := 1#32
  let v2849 : BitVec 32 := Scalar.subi v2834 c1_i32_1083
  let v2850 : BitVec 32 := Scalar.select v2848 v2849 v2834
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2850 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t60
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2831 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk120 (i : grid1.Coords) (v25 : BitVec 32) (v2831 : BitVec 32) : Prop :=
  (∀ k1_t60 : Fin k1_t60_loop.trips, ∀ (k1_h60 : k1_cond60 i v25 v2831 = 1#1), ∀ a, (k1_off304 v2831 k1_t60) a + S1x16.size a ≤ S128x512.size a) ∧
  (∀ k1_t60 : Fin k1_t60_loop.trips, ∀ (k1_h60 : k1_cond60 i v25 v2831 = 1#1), ∀ a, (k1_off306 v2831 k1_t60) a + S1x16.size a ≤ S128x512.size a)
theorem k1_off304_inb : ∀ (i : grid1.Coords) (v25 : BitVec 32) (v2831 : BitVec 32) (k1_hw120 : k1_chk120 i v25 v2831) (k1_t60 : Fin k1_t60_loop.trips), ∀ (k1_h60 : k1_cond60 i v25 v2831 = 1#1), ∀ a, (k1_off304 v2831 k1_t60) a + S1x16.size a ≤ S128x512.size a := fun i v25 v2831 k1_hw120 k1_t60 k1_h60 => k1_hw120.1 k1_t60 k1_h60
theorem k1_off306_inb : ∀ (i : grid1.Coords) (v25 : BitVec 32) (v2831 : BitVec 32) (k1_hw120 : k1_chk120 i v25 v2831) (k1_t60 : Fin k1_t60_loop.trips), ∀ (k1_h60 : k1_cond60 i v25 v2831 = 1#1), ∀ a, (k1_off306 v2831 k1_t60) a + S1x16.size a ≤ S128x512.size a := fun i v25 v2831 k1_hw120 k1_t60 k1_h60 => k1_hw120.2 k1_t60 k1_h60

def k1_off307 (i : grid1.Coords) (v2876 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2876 c0_i32_1428
  let v3763 : BitVec 32 := Scalar.extui v3762
  let c0_i32_1429 : BitVec 32 := 0#32
  let v3764 : BitVec 1 := Scalar.cmpi .slt v2876 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2876 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2876 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r70 : BitVec 32 := 0#32
  ![v3779.toNat, 0]
def k1_cond61 (i : grid1.Coords) (v25 : BitVec 32) (v2874 : BitVec 32) : BitVec 1 :=
  let c12_i32_1100 : BitVec 32 := 12#32
  let v2894 : BitVec 1 := Scalar.cmpi .sgt v25 c12_i32_1100
  let c0_i32_1094 : BitVec 32 := 0#32
  let v2878 : BitVec 1 := Scalar.cmpi .sgt v2874 c0_i32_1094
  let v2879 : BitVec 32 := Scalar.extui v2878
  let c0_i32_1095 : BitVec 32 := 0#32
  let v2880 : BitVec 1 := Scalar.cmpi .slt v2874 c0_i32_1095
  let v2881 : BitVec 32 := Scalar.extui v2880
  let v2882 : BitVec 32 := Scalar.subi v2879 v2881
  let c16_i32_1093 : BitVec 32 := 16#32
  let c0_i32_1096 : BitVec 32 := 0#32
  let v2883 : BitVec 1 := Scalar.cmpi .sgt c16_i32_1093 c0_i32_1096
  let v2884 : BitVec 32 := Scalar.extui v2883
  let c0_i32_1097 : BitVec 32 := 0#32
  let v2885 : BitVec 1 := Scalar.cmpi .slt c16_i32_1093 c0_i32_1097
  let v2886 : BitVec 32 := Scalar.extui v2885
  let v2887 : BitVec 32 := Scalar.subi v2884 v2886
  let v2888 : BitVec 1 := Scalar.cmpi .ne v2882 v2887
  let v2889 : BitVec 32 := Scalar.remsi v2874 c16_i32_1093
  let c0_i32_1098 : BitVec 32 := 0#32
  let v2890 : BitVec 1 := Scalar.cmpi .ne v2889 c0_i32_1098
  let v2891 : BitVec 1 := Scalar.andi v2888 v2890
  let v2877 : BitVec 32 := Scalar.divsi v2874 c16_i32_1093
  let c1_i32_1099 : BitVec 32 := 1#32
  let v2892 : BitVec 32 := Scalar.subi v2877 c1_i32_1099
  let v2893 : BitVec 32 := Scalar.select v2891 v2892 v2877
  let c0_i32_1102 : BitVec 32 := 0#32
  let v2896 : BitVec 1 := Scalar.cmpi .sgt v2893 c0_i32_1102
  let v2897 : BitVec 32 := Scalar.extui v2896
  let c0_i32_1103 : BitVec 32 := 0#32
  let v2898 : BitVec 1 := Scalar.cmpi .slt v2893 c0_i32_1103
  let v2899 : BitVec 32 := Scalar.extui v2898
  let v2900 : BitVec 32 := Scalar.subi v2897 v2899
  let c4_i32_1101 : BitVec 32 := 4#32
  let c0_i32_1104 : BitVec 32 := 0#32
  let v2901 : BitVec 1 := Scalar.cmpi .sgt c4_i32_1101 c0_i32_1104
  let v2902 : BitVec 32 := Scalar.extui v2901
  let c0_i32_1105 : BitVec 32 := 0#32
  let v2903 : BitVec 1 := Scalar.cmpi .slt c4_i32_1101 c0_i32_1105
  let v2904 : BitVec 32 := Scalar.extui v2903
  let v2905 : BitVec 32 := Scalar.subi v2902 v2904
  let v2906 : BitVec 1 := Scalar.cmpi .ne v2900 v2905
  let v2907 : BitVec 32 := Scalar.remsi v2893 c4_i32_1101
  let c0_i32_1106 : BitVec 32 := 0#32
  let v2908 : BitVec 1 := Scalar.cmpi .ne v2907 c0_i32_1106
  let v2909 : BitVec 1 := Scalar.andi v2906 v2908
  let v2895 : BitVec 32 := Scalar.divsi v2893 c4_i32_1101
  let c1_i32_1107 : BitVec 32 := 1#32
  let v2910 : BitVec 32 := Scalar.subi v2895 c1_i32_1107
  let v2911 : BitVec 32 := Scalar.select v2909 v2910 v2895
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2912 : BitVec 1 := Scalar.cmpi .eq v2911 v2356
  let v2913 : BitVec 1 := Scalar.andi v2894 v2912
  let v2914 : BitVec 32 := Scalar.extui v2913
  let c0_i32_1108 : BitVec 32 := 0#32
  let v2915 : BitVec 1 := Scalar.cmpi .ne v2914 c0_i32_1108
  v2915

@[reducible] def k1_t61_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off308 (v2876 : BitVec 32) (k1_t61 : Fin k1_t61_loop.trips) : Fin 2 → Nat :=
  let c0_i32_1453 : BitVec 32 := 0#32
  let c1_i32_1455 : BitVec 32 := 1#32
  let arg19 : BitVec 32 := Scf.iv c0_i32_1453 c1_i32_1455 k1_t61
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2876 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off309 (v2874 : BitVec 32) (k1_t61 : Fin k1_t61_loop.trips) : Fin 2 → Nat :=
  let c0_i32_1094 : BitVec 32 := 0#32
  let v2878 : BitVec 1 := Scalar.cmpi .sgt v2874 c0_i32_1094
  let v2879 : BitVec 32 := Scalar.extui v2878
  let c0_i32_1095 : BitVec 32 := 0#32
  let v2880 : BitVec 1 := Scalar.cmpi .slt v2874 c0_i32_1095
  let v2881 : BitVec 32 := Scalar.extui v2880
  let v2882 : BitVec 32 := Scalar.subi v2879 v2881
  let c16_i32_1093 : BitVec 32 := 16#32
  let c0_i32_1096 : BitVec 32 := 0#32
  let v2883 : BitVec 1 := Scalar.cmpi .sgt c16_i32_1093 c0_i32_1096
  let v2884 : BitVec 32 := Scalar.extui v2883
  let c0_i32_1097 : BitVec 32 := 0#32
  let v2885 : BitVec 1 := Scalar.cmpi .slt c16_i32_1093 c0_i32_1097
  let v2886 : BitVec 32 := Scalar.extui v2885
  let v2887 : BitVec 32 := Scalar.subi v2884 v2886
  let v2888 : BitVec 1 := Scalar.cmpi .ne v2882 v2887
  let v2889 : BitVec 32 := Scalar.remsi v2874 c16_i32_1093
  let c0_i32_1098 : BitVec 32 := 0#32
  let v2890 : BitVec 1 := Scalar.cmpi .ne v2889 c0_i32_1098
  let v2891 : BitVec 1 := Scalar.andi v2888 v2890
  let v2877 : BitVec 32 := Scalar.divsi v2874 c16_i32_1093
  let c1_i32_1099 : BitVec 32 := 1#32
  let v2892 : BitVec 32 := Scalar.subi v2877 c1_i32_1099
  let v2893 : BitVec 32 := Scalar.select v2891 v2892 v2877
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2893 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t61
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2874 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off310 (v2876 : BitVec 32) (k1_t61 : Fin k1_t61_loop.trips) : Fin 2 → Nat :=
  let c0_i32_1453 : BitVec 32 := 0#32
  let c1_i32_1455 : BitVec 32 := 1#32
  let arg19 : BitVec 32 := Scf.iv c0_i32_1453 c1_i32_1455 k1_t61
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2876 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk121 (i : grid1.Coords) (v25 : BitVec 32) (v2874 : BitVec 32) (v2876 : BitVec 32) : Prop :=
  (∀ (k1_h61 : k1_cond61 i v25 v2874 = 1#1), ∀ a, (k1_off307 i v2876) a + S32x512.size a ≤ S4096x512.size a) ∧
  (∀ k1_t61 : Fin k1_t61_loop.trips, ∀ (k1_h61 : k1_cond61 i v25 v2874 = 1#1), ∀ a, (k1_off308 v2876 k1_t61) a + S1x16.size a ≤ S32x512.size a) ∧
  (∀ k1_t61 : Fin k1_t61_loop.trips, ∀ (k1_h61 : k1_cond61 i v25 v2874 = 1#1), ∀ a, (k1_off310 v2876 k1_t61) a + S1x16.size a ≤ S32x512.size a)
theorem k1_off307_inb : ∀ (i : grid1.Coords) (v25 : BitVec 32) (v2874 : BitVec 32) (v2876 : BitVec 32) (k1_hw121 : k1_chk121 i v25 v2874 v2876), ∀ (k1_h61 : k1_cond61 i v25 v2874 = 1#1), ∀ a, (k1_off307 i v2876) a + S32x512.size a ≤ S4096x512.size a := fun i v25 v2874 v2876 k1_hw121 k1_h61 => k1_hw121.1 k1_h61
theorem k1_off308_inb : ∀ (i : grid1.Coords) (v25 : BitVec 32) (v2874 : BitVec 32) (v2876 : BitVec 32) (k1_hw121 : k1_chk121 i v25 v2874 v2876) (k1_t61 : Fin k1_t61_loop.trips), ∀ (k1_h61 : k1_cond61 i v25 v2874 = 1#1), ∀ a, (k1_off308 v2876 k1_t61) a + S1x16.size a ≤ S32x512.size a := fun i v25 v2874 v2876 k1_hw121 k1_t61 k1_h61 => k1_hw121.2.1 k1_t61 k1_h61
theorem k1_off310_inb : ∀ (i : grid1.Coords) (v25 : BitVec 32) (v2874 : BitVec 32) (v2876 : BitVec 32) (k1_hw121 : k1_chk121 i v25 v2874 v2876) (k1_t61 : Fin k1_t61_loop.trips), ∀ (k1_h61 : k1_cond61 i v25 v2874 = 1#1), ∀ a, (k1_off310 v2876 k1_t61) a + S1x16.size a ≤ S32x512.size a := fun i v25 v2874 v2876 k1_hw121 k1_t61 k1_h61 => k1_hw121.2.2 k1_t61 k1_h61

def k1_off311 (v2874 : BitVec 32) (k1_t61 : Fin k1_t61_loop.trips) : Fin 2 → Nat :=
  let c0_i32_1094 : BitVec 32 := 0#32
  let v2878 : BitVec 1 := Scalar.cmpi .sgt v2874 c0_i32_1094
  let v2879 : BitVec 32 := Scalar.extui v2878
  let c0_i32_1095 : BitVec 32 := 0#32
  let v2880 : BitVec 1 := Scalar.cmpi .slt v2874 c0_i32_1095
  let v2881 : BitVec 32 := Scalar.extui v2880
  let v2882 : BitVec 32 := Scalar.subi v2879 v2881
  let c16_i32_1093 : BitVec 32 := 16#32
  let c0_i32_1096 : BitVec 32 := 0#32
  let v2883 : BitVec 1 := Scalar.cmpi .sgt c16_i32_1093 c0_i32_1096
  let v2884 : BitVec 32 := Scalar.extui v2883
  let c0_i32_1097 : BitVec 32 := 0#32
  let v2885 : BitVec 1 := Scalar.cmpi .slt c16_i32_1093 c0_i32_1097
  let v2886 : BitVec 32 := Scalar.extui v2885
  let v2887 : BitVec 32 := Scalar.subi v2884 v2886
  let v2888 : BitVec 1 := Scalar.cmpi .ne v2882 v2887
  let v2889 : BitVec 32 := Scalar.remsi v2874 c16_i32_1093
  let c0_i32_1098 : BitVec 32 := 0#32
  let v2890 : BitVec 1 := Scalar.cmpi .ne v2889 c0_i32_1098
  let v2891 : BitVec 1 := Scalar.andi v2888 v2890
  let v2877 : BitVec 32 := Scalar.divsi v2874 c16_i32_1093
  let c1_i32_1099 : BitVec 32 := 1#32
  let v2892 : BitVec 32 := Scalar.subi v2877 c1_i32_1099
  let v2893 : BitVec 32 := Scalar.select v2891 v2892 v2877
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2893 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t61
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2874 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk122 (i : grid1.Coords) (v25 : BitVec 32) (v2874 : BitVec 32) : Prop :=
  (∀ k1_t61 : Fin k1_t61_loop.trips, ∀ (k1_h61 : k1_cond61 i v25 v2874 = 1#1), ∀ a, (k1_off309 v2874 k1_t61) a + S1x16.size a ≤ S128x512.size a) ∧
  (∀ k1_t61 : Fin k1_t61_loop.trips, ∀ (k1_h61 : k1_cond61 i v25 v2874 = 1#1), ∀ a, (k1_off311 v2874 k1_t61) a + S1x16.size a ≤ S128x512.size a)
theorem k1_off309_inb : ∀ (i : grid1.Coords) (v25 : BitVec 32) (v2874 : BitVec 32) (k1_hw122 : k1_chk122 i v25 v2874) (k1_t61 : Fin k1_t61_loop.trips), ∀ (k1_h61 : k1_cond61 i v25 v2874 = 1#1), ∀ a, (k1_off309 v2874 k1_t61) a + S1x16.size a ≤ S128x512.size a := fun i v25 v2874 k1_hw122 k1_t61 k1_h61 => k1_hw122.1 k1_t61 k1_h61
theorem k1_off311_inb : ∀ (i : grid1.Coords) (v25 : BitVec 32) (v2874 : BitVec 32) (k1_hw122 : k1_chk122 i v25 v2874) (k1_t61 : Fin k1_t61_loop.trips), ∀ (k1_h61 : k1_cond61 i v25 v2874 = 1#1), ∀ a, (k1_off311 v2874 k1_t61) a + S1x16.size a ≤ S128x512.size a := fun i v25 v2874 k1_hw122 k1_t61 k1_h61 => k1_hw122.2 k1_t61 k1_h61

def k1_off312 (i : grid1.Coords) (v2919 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2919 c0_i32_1428
  let v3763 : BitVec 32 := Scalar.extui v3762
  let c0_i32_1429 : BitVec 32 := 0#32
  let v3764 : BitVec 1 := Scalar.cmpi .slt v2919 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2919 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2919 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r71 : BitVec 32 := 0#32
  ![v3779.toNat, 0]
def k1_cond62 (i : grid1.Coords) (v25 : BitVec 32) (v2917 : BitVec 32) : BitVec 1 :=
  let c13_i32_1116 : BitVec 32 := 13#32
  let v2937 : BitVec 1 := Scalar.cmpi .sgt v25 c13_i32_1116
  let c0_i32_1110 : BitVec 32 := 0#32
  let v2921 : BitVec 1 := Scalar.cmpi .sgt v2917 c0_i32_1110
  let v2922 : BitVec 32 := Scalar.extui v2921
  let c0_i32_1111 : BitVec 32 := 0#32
  let v2923 : BitVec 1 := Scalar.cmpi .slt v2917 c0_i32_1111
  let v2924 : BitVec 32 := Scalar.extui v2923
  let v2925 : BitVec 32 := Scalar.subi v2922 v2924
  let c16_i32_1109 : BitVec 32 := 16#32
  let c0_i32_1112 : BitVec 32 := 0#32
  let v2926 : BitVec 1 := Scalar.cmpi .sgt c16_i32_1109 c0_i32_1112
  let v2927 : BitVec 32 := Scalar.extui v2926
  let c0_i32_1113 : BitVec 32 := 0#32
  let v2928 : BitVec 1 := Scalar.cmpi .slt c16_i32_1109 c0_i32_1113
  let v2929 : BitVec 32 := Scalar.extui v2928
  let v2930 : BitVec 32 := Scalar.subi v2927 v2929
  let v2931 : BitVec 1 := Scalar.cmpi .ne v2925 v2930
  let v2932 : BitVec 32 := Scalar.remsi v2917 c16_i32_1109
  let c0_i32_1114 : BitVec 32 := 0#32
  let v2933 : BitVec 1 := Scalar.cmpi .ne v2932 c0_i32_1114
  let v2934 : BitVec 1 := Scalar.andi v2931 v2933
  let v2920 : BitVec 32 := Scalar.divsi v2917 c16_i32_1109
  let c1_i32_1115 : BitVec 32 := 1#32
  let v2935 : BitVec 32 := Scalar.subi v2920 c1_i32_1115
  let v2936 : BitVec 32 := Scalar.select v2934 v2935 v2920
  let c0_i32_1118 : BitVec 32 := 0#32
  let v2939 : BitVec 1 := Scalar.cmpi .sgt v2936 c0_i32_1118
  let v2940 : BitVec 32 := Scalar.extui v2939
  let c0_i32_1119 : BitVec 32 := 0#32
  let v2941 : BitVec 1 := Scalar.cmpi .slt v2936 c0_i32_1119
  let v2942 : BitVec 32 := Scalar.extui v2941
  let v2943 : BitVec 32 := Scalar.subi v2940 v2942
  let c4_i32_1117 : BitVec 32 := 4#32
  let c0_i32_1120 : BitVec 32 := 0#32
  let v2944 : BitVec 1 := Scalar.cmpi .sgt c4_i32_1117 c0_i32_1120
  let v2945 : BitVec 32 := Scalar.extui v2944
  let c0_i32_1121 : BitVec 32 := 0#32
  let v2946 : BitVec 1 := Scalar.cmpi .slt c4_i32_1117 c0_i32_1121
  let v2947 : BitVec 32 := Scalar.extui v2946
  let v2948 : BitVec 32 := Scalar.subi v2945 v2947
  let v2949 : BitVec 1 := Scalar.cmpi .ne v2943 v2948
  let v2950 : BitVec 32 := Scalar.remsi v2936 c4_i32_1117
  let c0_i32_1122 : BitVec 32 := 0#32
  let v2951 : BitVec 1 := Scalar.cmpi .ne v2950 c0_i32_1122
  let v2952 : BitVec 1 := Scalar.andi v2949 v2951
  let v2938 : BitVec 32 := Scalar.divsi v2936 c4_i32_1117
  let c1_i32_1123 : BitVec 32 := 1#32
  let v2953 : BitVec 32 := Scalar.subi v2938 c1_i32_1123
  let v2954 : BitVec 32 := Scalar.select v2952 v2953 v2938
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2955 : BitVec 1 := Scalar.cmpi .eq v2954 v2356
  let v2956 : BitVec 1 := Scalar.andi v2937 v2955
  let v2957 : BitVec 32 := Scalar.extui v2956
  let c0_i32_1124 : BitVec 32 := 0#32
  let v2958 : BitVec 1 := Scalar.cmpi .ne v2957 c0_i32_1124
  v2958

@[reducible] def k1_t62_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off313 (v2919 : BitVec 32) (k1_t62 : Fin k1_t62_loop.trips) : Fin 2 → Nat :=
  let c0_i32_1453 : BitVec 32 := 0#32
  let c1_i32_1455 : BitVec 32 := 1#32
  let arg19 : BitVec 32 := Scf.iv c0_i32_1453 c1_i32_1455 k1_t62
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2919 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off314 (v2917 : BitVec 32) (k1_t62 : Fin k1_t62_loop.trips) : Fin 2 → Nat :=
  let c0_i32_1110 : BitVec 32 := 0#32
  let v2921 : BitVec 1 := Scalar.cmpi .sgt v2917 c0_i32_1110
  let v2922 : BitVec 32 := Scalar.extui v2921
  let c0_i32_1111 : BitVec 32 := 0#32
  let v2923 : BitVec 1 := Scalar.cmpi .slt v2917 c0_i32_1111
  let v2924 : BitVec 32 := Scalar.extui v2923
  let v2925 : BitVec 32 := Scalar.subi v2922 v2924
  let c16_i32_1109 : BitVec 32 := 16#32
  let c0_i32_1112 : BitVec 32 := 0#32
  let v2926 : BitVec 1 := Scalar.cmpi .sgt c16_i32_1109 c0_i32_1112
  let v2927 : BitVec 32 := Scalar.extui v2926
  let c0_i32_1113 : BitVec 32 := 0#32
  let v2928 : BitVec 1 := Scalar.cmpi .slt c16_i32_1109 c0_i32_1113
  let v2929 : BitVec 32 := Scalar.extui v2928
  let v2930 : BitVec 32 := Scalar.subi v2927 v2929
  let v2931 : BitVec 1 := Scalar.cmpi .ne v2925 v2930
  let v2932 : BitVec 32 := Scalar.remsi v2917 c16_i32_1109
  let c0_i32_1114 : BitVec 32 := 0#32
  let v2933 : BitVec 1 := Scalar.cmpi .ne v2932 c0_i32_1114
  let v2934 : BitVec 1 := Scalar.andi v2931 v2933
  let v2920 : BitVec 32 := Scalar.divsi v2917 c16_i32_1109
  let c1_i32_1115 : BitVec 32 := 1#32
  let v2935 : BitVec 32 := Scalar.subi v2920 c1_i32_1115
  let v2936 : BitVec 32 := Scalar.select v2934 v2935 v2920
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2936 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t62
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2917 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off315 (v2919 : BitVec 32) (k1_t62 : Fin k1_t62_loop.trips) : Fin 2 → Nat :=
  let c0_i32_1453 : BitVec 32 := 0#32
  let c1_i32_1455 : BitVec 32 := 1#32
  let arg19 : BitVec 32 := Scf.iv c0_i32_1453 c1_i32_1455 k1_t62
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2919 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk123 (i : grid1.Coords) (v25 : BitVec 32) (v2917 : BitVec 32) (v2919 : BitVec 32) : Prop :=
  (∀ (k1_h62 : k1_cond62 i v25 v2917 = 1#1), ∀ a, (k1_off312 i v2919) a + S32x512.size a ≤ S4096x512.size a) ∧
  (∀ k1_t62 : Fin k1_t62_loop.trips, ∀ (k1_h62 : k1_cond62 i v25 v2917 = 1#1), ∀ a, (k1_off313 v2919 k1_t62) a + S1x16.size a ≤ S32x512.size a) ∧
  (∀ k1_t62 : Fin k1_t62_loop.trips, ∀ (k1_h62 : k1_cond62 i v25 v2917 = 1#1), ∀ a, (k1_off315 v2919 k1_t62) a + S1x16.size a ≤ S32x512.size a)
theorem k1_off312_inb : ∀ (i : grid1.Coords) (v25 : BitVec 32) (v2917 : BitVec 32) (v2919 : BitVec 32) (k1_hw123 : k1_chk123 i v25 v2917 v2919), ∀ (k1_h62 : k1_cond62 i v25 v2917 = 1#1), ∀ a, (k1_off312 i v2919) a + S32x512.size a ≤ S4096x512.size a := fun i v25 v2917 v2919 k1_hw123 k1_h62 => k1_hw123.1 k1_h62
theorem k1_off313_inb : ∀ (i : grid1.Coords) (v25 : BitVec 32) (v2917 : BitVec 32) (v2919 : BitVec 32) (k1_hw123 : k1_chk123 i v25 v2917 v2919) (k1_t62 : Fin k1_t62_loop.trips), ∀ (k1_h62 : k1_cond62 i v25 v2917 = 1#1), ∀ a, (k1_off313 v2919 k1_t62) a + S1x16.size a ≤ S32x512.size a := fun i v25 v2917 v2919 k1_hw123 k1_t62 k1_h62 => k1_hw123.2.1 k1_t62 k1_h62
theorem k1_off315_inb : ∀ (i : grid1.Coords) (v25 : BitVec 32) (v2917 : BitVec 32) (v2919 : BitVec 32) (k1_hw123 : k1_chk123 i v25 v2917 v2919) (k1_t62 : Fin k1_t62_loop.trips), ∀ (k1_h62 : k1_cond62 i v25 v2917 = 1#1), ∀ a, (k1_off315 v2919 k1_t62) a + S1x16.size a ≤ S32x512.size a := fun i v25 v2917 v2919 k1_hw123 k1_t62 k1_h62 => k1_hw123.2.2 k1_t62 k1_h62

def k1_off316 (v2917 : BitVec 32) (k1_t62 : Fin k1_t62_loop.trips) : Fin 2 → Nat :=
  let c0_i32_1110 : BitVec 32 := 0#32
  let v2921 : BitVec 1 := Scalar.cmpi .sgt v2917 c0_i32_1110
  let v2922 : BitVec 32 := Scalar.extui v2921
  let c0_i32_1111 : BitVec 32 := 0#32
  let v2923 : BitVec 1 := Scalar.cmpi .slt v2917 c0_i32_1111
  let v2924 : BitVec 32 := Scalar.extui v2923
  let v2925 : BitVec 32 := Scalar.subi v2922 v2924
  let c16_i32_1109 : BitVec 32 := 16#32
  let c0_i32_1112 : BitVec 32 := 0#32
  let v2926 : BitVec 1 := Scalar.cmpi .sgt c16_i32_1109 c0_i32_1112
  let v2927 : BitVec 32 := Scalar.extui v2926
  let c0_i32_1113 : BitVec 32 := 0#32
  let v2928 : BitVec 1 := Scalar.cmpi .slt c16_i32_1109 c0_i32_1113
  let v2929 : BitVec 32 := Scalar.extui v2928
  let v2930 : BitVec 32 := Scalar.subi v2927 v2929
  let v2931 : BitVec 1 := Scalar.cmpi .ne v2925 v2930
  let v2932 : BitVec 32 := Scalar.remsi v2917 c16_i32_1109
  let c0_i32_1114 : BitVec 32 := 0#32
  let v2933 : BitVec 1 := Scalar.cmpi .ne v2932 c0_i32_1114
  let v2934 : BitVec 1 := Scalar.andi v2931 v2933
  let v2920 : BitVec 32 := Scalar.divsi v2917 c16_i32_1109
  let c1_i32_1115 : BitVec 32 := 1#32
  let v2935 : BitVec 32 := Scalar.subi v2920 c1_i32_1115
  let v2936 : BitVec 32 := Scalar.select v2934 v2935 v2920
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2936 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t62
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2917 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk124 (i : grid1.Coords) (v25 : BitVec 32) (v2917 : BitVec 32) : Prop :=
  (∀ k1_t62 : Fin k1_t62_loop.trips, ∀ (k1_h62 : k1_cond62 i v25 v2917 = 1#1), ∀ a, (k1_off314 v2917 k1_t62) a + S1x16.size a ≤ S128x512.size a) ∧
  (∀ k1_t62 : Fin k1_t62_loop.trips, ∀ (k1_h62 : k1_cond62 i v25 v2917 = 1#1), ∀ a, (k1_off316 v2917 k1_t62) a + S1x16.size a ≤ S128x512.size a)
theorem k1_off314_inb : ∀ (i : grid1.Coords) (v25 : BitVec 32) (v2917 : BitVec 32) (k1_hw124 : k1_chk124 i v25 v2917) (k1_t62 : Fin k1_t62_loop.trips), ∀ (k1_h62 : k1_cond62 i v25 v2917 = 1#1), ∀ a, (k1_off314 v2917 k1_t62) a + S1x16.size a ≤ S128x512.size a := fun i v25 v2917 k1_hw124 k1_t62 k1_h62 => k1_hw124.1 k1_t62 k1_h62
theorem k1_off316_inb : ∀ (i : grid1.Coords) (v25 : BitVec 32) (v2917 : BitVec 32) (k1_hw124 : k1_chk124 i v25 v2917) (k1_t62 : Fin k1_t62_loop.trips), ∀ (k1_h62 : k1_cond62 i v25 v2917 = 1#1), ∀ a, (k1_off316 v2917 k1_t62) a + S1x16.size a ≤ S128x512.size a := fun i v25 v2917 k1_hw124 k1_t62 k1_h62 => k1_hw124.2 k1_t62 k1_h62

def k1_off317 (i : grid1.Coords) (v2962 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v2962 c0_i32_1428
  let v3763 : BitVec 32 := Scalar.extui v3762
  let c0_i32_1429 : BitVec 32 := 0#32
  let v3764 : BitVec 1 := Scalar.cmpi .slt v2962 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v2962 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v2962 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r72 : BitVec 32 := 0#32
  ![v3779.toNat, 0]
def k1_cond63 (i : grid1.Coords) (v25 : BitVec 32) (v2960 : BitVec 32) : BitVec 1 :=
  let c14_i32_1132 : BitVec 32 := 14#32
  let v2980 : BitVec 1 := Scalar.cmpi .sgt v25 c14_i32_1132
  let c0_i32_1126 : BitVec 32 := 0#32
  let v2964 : BitVec 1 := Scalar.cmpi .sgt v2960 c0_i32_1126
  let v2965 : BitVec 32 := Scalar.extui v2964
  let c0_i32_1127 : BitVec 32 := 0#32
  let v2966 : BitVec 1 := Scalar.cmpi .slt v2960 c0_i32_1127
  let v2967 : BitVec 32 := Scalar.extui v2966
  let v2968 : BitVec 32 := Scalar.subi v2965 v2967
  let c16_i32_1125 : BitVec 32 := 16#32
  let c0_i32_1128 : BitVec 32 := 0#32
  let v2969 : BitVec 1 := Scalar.cmpi .sgt c16_i32_1125 c0_i32_1128
  let v2970 : BitVec 32 := Scalar.extui v2969
  let c0_i32_1129 : BitVec 32 := 0#32
  let v2971 : BitVec 1 := Scalar.cmpi .slt c16_i32_1125 c0_i32_1129
  let v2972 : BitVec 32 := Scalar.extui v2971
  let v2973 : BitVec 32 := Scalar.subi v2970 v2972
  let v2974 : BitVec 1 := Scalar.cmpi .ne v2968 v2973
  let v2975 : BitVec 32 := Scalar.remsi v2960 c16_i32_1125
  let c0_i32_1130 : BitVec 32 := 0#32
  let v2976 : BitVec 1 := Scalar.cmpi .ne v2975 c0_i32_1130
  let v2977 : BitVec 1 := Scalar.andi v2974 v2976
  let v2963 : BitVec 32 := Scalar.divsi v2960 c16_i32_1125
  let c1_i32_1131 : BitVec 32 := 1#32
  let v2978 : BitVec 32 := Scalar.subi v2963 c1_i32_1131
  let v2979 : BitVec 32 := Scalar.select v2977 v2978 v2963
  let c0_i32_1134 : BitVec 32 := 0#32
  let v2982 : BitVec 1 := Scalar.cmpi .sgt v2979 c0_i32_1134
  let v2983 : BitVec 32 := Scalar.extui v2982
  let c0_i32_1135 : BitVec 32 := 0#32
  let v2984 : BitVec 1 := Scalar.cmpi .slt v2979 c0_i32_1135
  let v2985 : BitVec 32 := Scalar.extui v2984
  let v2986 : BitVec 32 := Scalar.subi v2983 v2985
  let c4_i32_1133 : BitVec 32 := 4#32
  let c0_i32_1136 : BitVec 32 := 0#32
  let v2987 : BitVec 1 := Scalar.cmpi .sgt c4_i32_1133 c0_i32_1136
  let v2988 : BitVec 32 := Scalar.extui v2987
  let c0_i32_1137 : BitVec 32 := 0#32
  let v2989 : BitVec 1 := Scalar.cmpi .slt c4_i32_1133 c0_i32_1137
  let v2990 : BitVec 32 := Scalar.extui v2989
  let v2991 : BitVec 32 := Scalar.subi v2988 v2990
  let v2992 : BitVec 1 := Scalar.cmpi .ne v2986 v2991
  let v2993 : BitVec 32 := Scalar.remsi v2979 c4_i32_1133
  let c0_i32_1138 : BitVec 32 := 0#32
  let v2994 : BitVec 1 := Scalar.cmpi .ne v2993 c0_i32_1138
  let v2995 : BitVec 1 := Scalar.andi v2992 v2994
  let v2981 : BitVec 32 := Scalar.divsi v2979 c4_i32_1133
  let c1_i32_1139 : BitVec 32 := 1#32
  let v2996 : BitVec 32 := Scalar.subi v2981 c1_i32_1139
  let v2997 : BitVec 32 := Scalar.select v2995 v2996 v2981
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v2998 : BitVec 1 := Scalar.cmpi .eq v2997 v2356
  let v2999 : BitVec 1 := Scalar.andi v2980 v2998
  let v3000 : BitVec 32 := Scalar.extui v2999
  let c0_i32_1140 : BitVec 32 := 0#32
  let v3001 : BitVec 1 := Scalar.cmpi .ne v3000 c0_i32_1140
  v3001

@[reducible] def k1_t63_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off318 (v2962 : BitVec 32) (k1_t63 : Fin k1_t63_loop.trips) : Fin 2 → Nat :=
  let c0_i32_1453 : BitVec 32 := 0#32
  let c1_i32_1455 : BitVec 32 := 1#32
  let arg19 : BitVec 32 := Scf.iv c0_i32_1453 c1_i32_1455 k1_t63
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2962 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off319 (v2960 : BitVec 32) (k1_t63 : Fin k1_t63_loop.trips) : Fin 2 → Nat :=
  let c0_i32_1126 : BitVec 32 := 0#32
  let v2964 : BitVec 1 := Scalar.cmpi .sgt v2960 c0_i32_1126
  let v2965 : BitVec 32 := Scalar.extui v2964
  let c0_i32_1127 : BitVec 32 := 0#32
  let v2966 : BitVec 1 := Scalar.cmpi .slt v2960 c0_i32_1127
  let v2967 : BitVec 32 := Scalar.extui v2966
  let v2968 : BitVec 32 := Scalar.subi v2965 v2967
  let c16_i32_1125 : BitVec 32 := 16#32
  let c0_i32_1128 : BitVec 32 := 0#32
  let v2969 : BitVec 1 := Scalar.cmpi .sgt c16_i32_1125 c0_i32_1128
  let v2970 : BitVec 32 := Scalar.extui v2969
  let c0_i32_1129 : BitVec 32 := 0#32
  let v2971 : BitVec 1 := Scalar.cmpi .slt c16_i32_1125 c0_i32_1129
  let v2972 : BitVec 32 := Scalar.extui v2971
  let v2973 : BitVec 32 := Scalar.subi v2970 v2972
  let v2974 : BitVec 1 := Scalar.cmpi .ne v2968 v2973
  let v2975 : BitVec 32 := Scalar.remsi v2960 c16_i32_1125
  let c0_i32_1130 : BitVec 32 := 0#32
  let v2976 : BitVec 1 := Scalar.cmpi .ne v2975 c0_i32_1130
  let v2977 : BitVec 1 := Scalar.andi v2974 v2976
  let v2963 : BitVec 32 := Scalar.divsi v2960 c16_i32_1125
  let c1_i32_1131 : BitVec 32 := 1#32
  let v2978 : BitVec 32 := Scalar.subi v2963 c1_i32_1131
  let v2979 : BitVec 32 := Scalar.select v2977 v2978 v2963
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2979 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t63
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2960 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off320 (v2962 : BitVec 32) (k1_t63 : Fin k1_t63_loop.trips) : Fin 2 → Nat :=
  let c0_i32_1453 : BitVec 32 := 0#32
  let c1_i32_1455 : BitVec 32 := 1#32
  let arg19 : BitVec 32 := Scf.iv c0_i32_1453 c1_i32_1455 k1_t63
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v2962 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk125 (i : grid1.Coords) (v25 : BitVec 32) (v2960 : BitVec 32) (v2962 : BitVec 32) : Prop :=
  (∀ (k1_h63 : k1_cond63 i v25 v2960 = 1#1), ∀ a, (k1_off317 i v2962) a + S32x512.size a ≤ S4096x512.size a) ∧
  (∀ k1_t63 : Fin k1_t63_loop.trips, ∀ (k1_h63 : k1_cond63 i v25 v2960 = 1#1), ∀ a, (k1_off318 v2962 k1_t63) a + S1x16.size a ≤ S32x512.size a) ∧
  (∀ k1_t63 : Fin k1_t63_loop.trips, ∀ (k1_h63 : k1_cond63 i v25 v2960 = 1#1), ∀ a, (k1_off320 v2962 k1_t63) a + S1x16.size a ≤ S32x512.size a)
theorem k1_off317_inb : ∀ (i : grid1.Coords) (v25 : BitVec 32) (v2960 : BitVec 32) (v2962 : BitVec 32) (k1_hw125 : k1_chk125 i v25 v2960 v2962), ∀ (k1_h63 : k1_cond63 i v25 v2960 = 1#1), ∀ a, (k1_off317 i v2962) a + S32x512.size a ≤ S4096x512.size a := fun i v25 v2960 v2962 k1_hw125 k1_h63 => k1_hw125.1 k1_h63
theorem k1_off318_inb : ∀ (i : grid1.Coords) (v25 : BitVec 32) (v2960 : BitVec 32) (v2962 : BitVec 32) (k1_hw125 : k1_chk125 i v25 v2960 v2962) (k1_t63 : Fin k1_t63_loop.trips), ∀ (k1_h63 : k1_cond63 i v25 v2960 = 1#1), ∀ a, (k1_off318 v2962 k1_t63) a + S1x16.size a ≤ S32x512.size a := fun i v25 v2960 v2962 k1_hw125 k1_t63 k1_h63 => k1_hw125.2.1 k1_t63 k1_h63
theorem k1_off320_inb : ∀ (i : grid1.Coords) (v25 : BitVec 32) (v2960 : BitVec 32) (v2962 : BitVec 32) (k1_hw125 : k1_chk125 i v25 v2960 v2962) (k1_t63 : Fin k1_t63_loop.trips), ∀ (k1_h63 : k1_cond63 i v25 v2960 = 1#1), ∀ a, (k1_off320 v2962 k1_t63) a + S1x16.size a ≤ S32x512.size a := fun i v25 v2960 v2962 k1_hw125 k1_t63 k1_h63 => k1_hw125.2.2 k1_t63 k1_h63

def k1_off321 (v2960 : BitVec 32) (k1_t63 : Fin k1_t63_loop.trips) : Fin 2 → Nat :=
  let c0_i32_1126 : BitVec 32 := 0#32
  let v2964 : BitVec 1 := Scalar.cmpi .sgt v2960 c0_i32_1126
  let v2965 : BitVec 32 := Scalar.extui v2964
  let c0_i32_1127 : BitVec 32 := 0#32
  let v2966 : BitVec 1 := Scalar.cmpi .slt v2960 c0_i32_1127
  let v2967 : BitVec 32 := Scalar.extui v2966
  let v2968 : BitVec 32 := Scalar.subi v2965 v2967
  let c16_i32_1125 : BitVec 32 := 16#32
  let c0_i32_1128 : BitVec 32 := 0#32
  let v2969 : BitVec 1 := Scalar.cmpi .sgt c16_i32_1125 c0_i32_1128
  let v2970 : BitVec 32 := Scalar.extui v2969
  let c0_i32_1129 : BitVec 32 := 0#32
  let v2971 : BitVec 1 := Scalar.cmpi .slt c16_i32_1125 c0_i32_1129
  let v2972 : BitVec 32 := Scalar.extui v2971
  let v2973 : BitVec 32 := Scalar.subi v2970 v2972
  let v2974 : BitVec 1 := Scalar.cmpi .ne v2968 v2973
  let v2975 : BitVec 32 := Scalar.remsi v2960 c16_i32_1125
  let c0_i32_1130 : BitVec 32 := 0#32
  let v2976 : BitVec 1 := Scalar.cmpi .ne v2975 c0_i32_1130
  let v2977 : BitVec 1 := Scalar.andi v2974 v2976
  let v2963 : BitVec 32 := Scalar.divsi v2960 c16_i32_1125
  let c1_i32_1131 : BitVec 32 := 1#32
  let v2978 : BitVec 32 := Scalar.subi v2963 c1_i32_1131
  let v2979 : BitVec 32 := Scalar.select v2977 v2978 v2963
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v2979 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t63
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v2960 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk126 (i : grid1.Coords) (v25 : BitVec 32) (v2960 : BitVec 32) : Prop :=
  (∀ k1_t63 : Fin k1_t63_loop.trips, ∀ (k1_h63 : k1_cond63 i v25 v2960 = 1#1), ∀ a, (k1_off319 v2960 k1_t63) a + S1x16.size a ≤ S128x512.size a) ∧
  (∀ k1_t63 : Fin k1_t63_loop.trips, ∀ (k1_h63 : k1_cond63 i v25 v2960 = 1#1), ∀ a, (k1_off321 v2960 k1_t63) a + S1x16.size a ≤ S128x512.size a)
theorem k1_off319_inb : ∀ (i : grid1.Coords) (v25 : BitVec 32) (v2960 : BitVec 32) (k1_hw126 : k1_chk126 i v25 v2960) (k1_t63 : Fin k1_t63_loop.trips), ∀ (k1_h63 : k1_cond63 i v25 v2960 = 1#1), ∀ a, (k1_off319 v2960 k1_t63) a + S1x16.size a ≤ S128x512.size a := fun i v25 v2960 k1_hw126 k1_t63 k1_h63 => k1_hw126.1 k1_t63 k1_h63
theorem k1_off321_inb : ∀ (i : grid1.Coords) (v25 : BitVec 32) (v2960 : BitVec 32) (k1_hw126 : k1_chk126 i v25 v2960) (k1_t63 : Fin k1_t63_loop.trips), ∀ (k1_h63 : k1_cond63 i v25 v2960 = 1#1), ∀ a, (k1_off321 v2960 k1_t63) a + S1x16.size a ≤ S128x512.size a := fun i v25 v2960 k1_hw126 k1_t63 k1_h63 => k1_hw126.2 k1_t63 k1_h63

def k1_off322 (i : grid1.Coords) (v3005 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_887 : BitVec 32 := 512#32
  let v2329 : BitVec 32 := Scalar.muli v18 c512_i32_887
  let c0_i32_1428 : BitVec 32 := 0#32
  let v3762 : BitVec 1 := Scalar.cmpi .sgt v3005 c0_i32_1428
  let v3763 : BitVec 32 := Scalar.extui v3762
  let c0_i32_1429 : BitVec 32 := 0#32
  let v3764 : BitVec 1 := Scalar.cmpi .slt v3005 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3005 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3005 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v2329 v3778
  let c0_i32_1457_r73 : BitVec 32 := 0#32
  ![v3779.toNat, 0]
def k1_cond64 (i : grid1.Coords) (v25 : BitVec 32) (v3003 : BitVec 32) : BitVec 1 :=
  let c15_i32_1148 : BitVec 32 := 15#32
  let v3023 : BitVec 1 := Scalar.cmpi .sgt v25 c15_i32_1148
  let c0_i32_1142 : BitVec 32 := 0#32
  let v3007 : BitVec 1 := Scalar.cmpi .sgt v3003 c0_i32_1142
  let v3008 : BitVec 32 := Scalar.extui v3007
  let c0_i32_1143 : BitVec 32 := 0#32
  let v3009 : BitVec 1 := Scalar.cmpi .slt v3003 c0_i32_1143
  let v3010 : BitVec 32 := Scalar.extui v3009
  let v3011 : BitVec 32 := Scalar.subi v3008 v3010
  let c16_i32_1141 : BitVec 32 := 16#32
  let c0_i32_1144 : BitVec 32 := 0#32
  let v3012 : BitVec 1 := Scalar.cmpi .sgt c16_i32_1141 c0_i32_1144
  let v3013 : BitVec 32 := Scalar.extui v3012
  let c0_i32_1145 : BitVec 32 := 0#32
  let v3014 : BitVec 1 := Scalar.cmpi .slt c16_i32_1141 c0_i32_1145
  let v3015 : BitVec 32 := Scalar.extui v3014
  let v3016 : BitVec 32 := Scalar.subi v3013 v3015
  let v3017 : BitVec 1 := Scalar.cmpi .ne v3011 v3016
  let v3018 : BitVec 32 := Scalar.remsi v3003 c16_i32_1141
  let c0_i32_1146 : BitVec 32 := 0#32
  let v3019 : BitVec 1 := Scalar.cmpi .ne v3018 c0_i32_1146
  let v3020 : BitVec 1 := Scalar.andi v3017 v3019
  let v3006 : BitVec 32 := Scalar.divsi v3003 c16_i32_1141
  let c1_i32_1147 : BitVec 32 := 1#32
  let v3021 : BitVec 32 := Scalar.subi v3006 c1_i32_1147
  let v3022 : BitVec 32 := Scalar.select v3020 v3021 v3006
  let c0_i32_1150 : BitVec 32 := 0#32
  let v3025 : BitVec 1 := Scalar.cmpi .sgt v3022 c0_i32_1150
  let v3026 : BitVec 32 := Scalar.extui v3025
  let c0_i32_1151 : BitVec 32 := 0#32
  let v3027 : BitVec 1 := Scalar.cmpi .slt v3022 c0_i32_1151
  let v3028 : BitVec 32 := Scalar.extui v3027
  let v3029 : BitVec 32 := Scalar.subi v3026 v3028
  let c4_i32_1149 : BitVec 32 := 4#32
  let c0_i32_1152 : BitVec 32 := 0#32
  let v3030 : BitVec 1 := Scalar.cmpi .sgt c4_i32_1149 c0_i32_1152
  let v3031 : BitVec 32 := Scalar.extui v3030
  let c0_i32_1153 : BitVec 32 := 0#32
  let v3032 : BitVec 1 := Scalar.cmpi .slt c4_i32_1149 c0_i32_1153
  let v3033 : BitVec 32 := Scalar.extui v3032
  let v3034 : BitVec 32 := Scalar.subi v3031 v3033
  let v3035 : BitVec 1 := Scalar.cmpi .ne v3029 v3034
  let v3036 : BitVec 32 := Scalar.remsi v3022 c4_i32_1149
  let c0_i32_1154 : BitVec 32 := 0#32
  let v3037 : BitVec 1 := Scalar.cmpi .ne v3036 c0_i32_1154
  let v3038 : BitVec 1 := Scalar.andi v3035 v3037
  let v3024 : BitVec 32 := Scalar.divsi v3022 c4_i32_1149
  let c1_i32_1155 : BitVec 32 := 1#32
  let v3039 : BitVec 32 := Scalar.subi v3024 c1_i32_1155
  let v3040 : BitVec 32 := Scalar.select v3038 v3039 v3024
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_888 : BitVec 32 := 512#32
  let c0_i32_889 : BitVec 32 := 0#32
  let v2330 : BitVec 1 := Scalar.cmpi .eq c512_i32_888 c0_i32_889
  let c1_i32_890 : BitVec 32 := 1#32
  let v2331 : BitVec 32 := Scalar.select v2330 c1_i32_890 c512_i32_888
  let v2332 : BitVec 32 := Scalar.remsi v2328 v2331
  let c0_i32_892 : BitVec 32 := 0#32
  let v2334 : BitVec 1 := Scalar.cmpi .slt v2332 c0_i32_892
  let c0_i32_893 : BitVec 32 := 0#32
  let v2335 : BitVec 1 := Scalar.cmpi .slt v2331 c0_i32_893
  let v2336 : BitVec 1 := Scalar.xori v2334 v2335
  let c0_i32_891 : BitVec 32 := 0#32
  let v2333 : BitVec 1 := Scalar.cmpi .ne v2332 c0_i32_891
  let v2337 : BitVec 1 := Scalar.andi v2336 v2333
  let v2338 : BitVec 32 := Scalar.addi v2332 v2331
  let v2339 : BitVec 32 := Scalar.select v2337 v2338 v2332
  let c0_i32_895 : BitVec 32 := 0#32
  let v2341 : BitVec 1 := Scalar.cmpi .sgt v2339 c0_i32_895
  let v2342 : BitVec 32 := Scalar.extui v2341
  let c0_i32_896 : BitVec 32 := 0#32
  let v2343 : BitVec 1 := Scalar.cmpi .slt v2339 c0_i32_896
  let v2344 : BitVec 32 := Scalar.extui v2343
  let v2345 : BitVec 32 := Scalar.subi v2342 v2344
  let c128_i32_894 : BitVec 32 := 128#32
  let c0_i32_897 : BitVec 32 := 0#32
  let v2346 : BitVec 1 := Scalar.cmpi .sgt c128_i32_894 c0_i32_897
  let v2347 : BitVec 32 := Scalar.extui v2346
  let c0_i32_898 : BitVec 32 := 0#32
  let v2348 : BitVec 1 := Scalar.cmpi .slt c128_i32_894 c0_i32_898
  let v2349 : BitVec 32 := Scalar.extui v2348
  let v2350 : BitVec 32 := Scalar.subi v2347 v2349
  let v2351 : BitVec 1 := Scalar.cmpi .ne v2345 v2350
  let v2352 : BitVec 32 := Scalar.remsi v2339 c128_i32_894
  let c0_i32_899 : BitVec 32 := 0#32
  let v2353 : BitVec 1 := Scalar.cmpi .ne v2352 c0_i32_899
  let v2354 : BitVec 1 := Scalar.andi v2351 v2353
  let v2340 : BitVec 32 := Scalar.divsi v2339 c128_i32_894
  let c1_i32_900 : BitVec 32 := 1#32
  let v2355 : BitVec 32 := Scalar.subi v2340 c1_i32_900
  let v2356 : BitVec 32 := Scalar.select v2354 v2355 v2340
  let v3041 : BitVec 1 := Scalar.cmpi .eq v3040 v2356
  let v3042 : BitVec 1 := Scalar.andi v3023 v3041
  let v3043 : BitVec 32 := Scalar.extui v3042
  let c0_i32_1156 : BitVec 32 := 0#32
  let v3044 : BitVec 1 := Scalar.cmpi .ne v3043 c0_i32_1156
  v3044

@[reducible] def k1_t64_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off323 (v3005 : BitVec 32) (k1_t64 : Fin k1_t64_loop.trips) : Fin 2 → Nat :=
  let c0_i32_1453 : BitVec 32 := 0#32
  let c1_i32_1455 : BitVec 32 := 1#32
  let arg19 : BitVec 32 := Scf.iv c0_i32_1453 c1_i32_1455 k1_t64
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3005 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off324 (v3003 : BitVec 32) (k1_t64 : Fin k1_t64_loop.trips) : Fin 2 → Nat :=
  let c0_i32_1142 : BitVec 32 := 0#32
  let v3007 : BitVec 1 := Scalar.cmpi .sgt v3003 c0_i32_1142
  let v3008 : BitVec 32 := Scalar.extui v3007
  let c0_i32_1143 : BitVec 32 := 0#32
  let v3009 : BitVec 1 := Scalar.cmpi .slt v3003 c0_i32_1143
  let v3010 : BitVec 32 := Scalar.extui v3009
  let v3011 : BitVec 32 := Scalar.subi v3008 v3010
  let c16_i32_1141 : BitVec 32 := 16#32
  let c0_i32_1144 : BitVec 32 := 0#32
  let v3012 : BitVec 1 := Scalar.cmpi .sgt c16_i32_1141 c0_i32_1144
  let v3013 : BitVec 32 := Scalar.extui v3012
  let c0_i32_1145 : BitVec 32 := 0#32
  let v3014 : BitVec 1 := Scalar.cmpi .slt c16_i32_1141 c0_i32_1145
  let v3015 : BitVec 32 := Scalar.extui v3014
  let v3016 : BitVec 32 := Scalar.subi v3013 v3015
  let v3017 : BitVec 1 := Scalar.cmpi .ne v3011 v3016
  let v3018 : BitVec 32 := Scalar.remsi v3003 c16_i32_1141
  let c0_i32_1146 : BitVec 32 := 0#32
  let v3019 : BitVec 1 := Scalar.cmpi .ne v3018 c0_i32_1146
  let v3020 : BitVec 1 := Scalar.andi v3017 v3019
  let v3006 : BitVec 32 := Scalar.divsi v3003 c16_i32_1141
  let c1_i32_1147 : BitVec 32 := 1#32
  let v3021 : BitVec 32 := Scalar.subi v3006 c1_i32_1147
  let v3022 : BitVec 32 := Scalar.select v3020 v3021 v3006
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3022 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t64
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3003 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off325 (v3005 : BitVec 32) (k1_t64 : Fin k1_t64_loop.trips) : Fin 2 → Nat :=
  let c0_i32_1453 : BitVec 32 := 0#32
  let c1_i32_1455 : BitVec 32 := 1#32
  let arg19 : BitVec 32 := Scf.iv c0_i32_1453 c1_i32_1455 k1_t64
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3005 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk127 (i : grid1.Coords) (v25 : BitVec 32) (v3003 : BitVec 32) (v3005 : BitVec 32) : Prop :=
  (∀ (k1_h64 : k1_cond64 i v25 v3003 = 1#1), ∀ a, (k1_off322 i v3005) a + S32x512.size a ≤ S4096x512.size a) ∧
  (∀ k1_t64 : Fin k1_t64_loop.trips, ∀ (k1_h64 : k1_cond64 i v25 v3003 = 1#1), ∀ a, (k1_off323 v3005 k1_t64) a + S1x16.size a ≤ S32x512.size a) ∧
  (∀ k1_t64 : Fin k1_t64_loop.trips, ∀ (k1_h64 : k1_cond64 i v25 v3003 = 1#1), ∀ a, (k1_off325 v3005 k1_t64) a + S1x16.size a ≤ S32x512.size a)
theorem k1_off322_inb : ∀ (i : grid1.Coords) (v25 : BitVec 32) (v3003 : BitVec 32) (v3005 : BitVec 32) (k1_hw127 : k1_chk127 i v25 v3003 v3005), ∀ (k1_h64 : k1_cond64 i v25 v3003 = 1#1), ∀ a, (k1_off322 i v3005) a + S32x512.size a ≤ S4096x512.size a := fun i v25 v3003 v3005 k1_hw127 k1_h64 => k1_hw127.1 k1_h64
theorem k1_off323_inb : ∀ (i : grid1.Coords) (v25 : BitVec 32) (v3003 : BitVec 32) (v3005 : BitVec 32) (k1_hw127 : k1_chk127 i v25 v3003 v3005) (k1_t64 : Fin k1_t64_loop.trips), ∀ (k1_h64 : k1_cond64 i v25 v3003 = 1#1), ∀ a, (k1_off323 v3005 k1_t64) a + S1x16.size a ≤ S32x512.size a := fun i v25 v3003 v3005 k1_hw127 k1_t64 k1_h64 => k1_hw127.2.1 k1_t64 k1_h64
theorem k1_off325_inb : ∀ (i : grid1.Coords) (v25 : BitVec 32) (v3003 : BitVec 32) (v3005 : BitVec 32) (k1_hw127 : k1_chk127 i v25 v3003 v3005) (k1_t64 : Fin k1_t64_loop.trips), ∀ (k1_h64 : k1_cond64 i v25 v3003 = 1#1), ∀ a, (k1_off325 v3005 k1_t64) a + S1x16.size a ≤ S32x512.size a := fun i v25 v3003 v3005 k1_hw127 k1_t64 k1_h64 => k1_hw127.2.2 k1_t64 k1_h64

def k1_off326 (v3003 : BitVec 32) (k1_t64 : Fin k1_t64_loop.trips) : Fin 2 → Nat :=
  let c0_i32_1142 : BitVec 32 := 0#32
  let v3007 : BitVec 1 := Scalar.cmpi .sgt v3003 c0_i32_1142
  let v3008 : BitVec 32 := Scalar.extui v3007
  let c0_i32_1143 : BitVec 32 := 0#32
  let v3009 : BitVec 1 := Scalar.cmpi .slt v3003 c0_i32_1143
  let v3010 : BitVec 32 := Scalar.extui v3009
  let v3011 : BitVec 32 := Scalar.subi v3008 v3010
  let c16_i32_1141 : BitVec 32 := 16#32
  let c0_i32_1144 : BitVec 32 := 0#32
  let v3012 : BitVec 1 := Scalar.cmpi .sgt c16_i32_1141 c0_i32_1144
  let v3013 : BitVec 32 := Scalar.extui v3012
  let c0_i32_1145 : BitVec 32 := 0#32
  let v3014 : BitVec 1 := Scalar.cmpi .slt c16_i32_1141 c0_i32_1145
  let v3015 : BitVec 32 := Scalar.extui v3014
  let v3016 : BitVec 32 := Scalar.subi v3013 v3015
  let v3017 : BitVec 1 := Scalar.cmpi .ne v3011 v3016
  let v3018 : BitVec 32 := Scalar.remsi v3003 c16_i32_1141
  let c0_i32_1146 : BitVec 32 := 0#32
  let v3019 : BitVec 1 := Scalar.cmpi .ne v3018 c0_i32_1146
  let v3020 : BitVec 1 := Scalar.andi v3017 v3019
  let v3006 : BitVec 32 := Scalar.divsi v3003 c16_i32_1141
  let c1_i32_1147 : BitVec 32 := 1#32
  let v3021 : BitVec 32 := Scalar.subi v3006 c1_i32_1147
  let v3022 : BitVec 32 := Scalar.select v3020 v3021 v3006
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3022 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t64
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3003 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk128 (i : grid1.Coords) (v25 : BitVec 32) (v3003 : BitVec 32) : Prop :=
  (∀ k1_t64 : Fin k1_t64_loop.trips, ∀ (k1_h64 : k1_cond64 i v25 v3003 = 1#1), ∀ a, (k1_off324 v3003 k1_t64) a + S1x16.size a ≤ S128x512.size a) ∧
  (∀ k1_t64 : Fin k1_t64_loop.trips, ∀ (k1_h64 : k1_cond64 i v25 v3003 = 1#1), ∀ a, (k1_off326 v3003 k1_t64) a + S1x16.size a ≤ S128x512.size a)
theorem k1_off324_inb : ∀ (i : grid1.Coords) (v25 : BitVec 32) (v3003 : BitVec 32) (k1_hw128 : k1_chk128 i v25 v3003) (k1_t64 : Fin k1_t64_loop.trips), ∀ (k1_h64 : k1_cond64 i v25 v3003 = 1#1), ∀ a, (k1_off324 v3003 k1_t64) a + S1x16.size a ≤ S128x512.size a := fun i v25 v3003 k1_hw128 k1_t64 k1_h64 => k1_hw128.1 k1_t64 k1_h64
theorem k1_off326_inb : ∀ (i : grid1.Coords) (v25 : BitVec 32) (v3003 : BitVec 32) (k1_hw128 : k1_chk128 i v25 v3003) (k1_t64 : Fin k1_t64_loop.trips), ∀ (k1_h64 : k1_cond64 i v25 v3003 = 1#1), ∀ a, (k1_off326 v3003 k1_t64) a + S1x16.size a ≤ S128x512.size a := fun i v25 v3003 k1_hw128 k1_t64 k1_h64 => k1_hw128.2 k1_t64 k1_h64

def k1_off327 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c0_i32_1427_r74 : BitVec 32 := 0#32
  ![v2328.toNat, 0]
def k1_off328 (i : grid1.Coords) (v3076 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3076 c0_i32_1428
  let v3763 : BitVec 32 := Scalar.extui v3762
  let c0_i32_1429 : BitVec 32 := 0#32
  let v3764 : BitVec 1 := Scalar.cmpi .slt v3076 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3076 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3076 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r76 : BitVec 32 := 0#32
  ![v3779.toNat, 0]
def k1_cond65 (i : grid1.Coords) (v25 : BitVec 32) (v3074 : BitVec 32) : BitVec 1 :=
  let c0_i32_1178 : BitVec 32 := 0#32
  let v3094 : BitVec 1 := Scalar.cmpi .sgt v25 c0_i32_1178
  let c0_i32_1172 : BitVec 32 := 0#32
  let v3078 : BitVec 1 := Scalar.cmpi .sgt v3074 c0_i32_1172
  let v3079 : BitVec 32 := Scalar.extui v3078
  let c0_i32_1173 : BitVec 32 := 0#32
  let v3080 : BitVec 1 := Scalar.cmpi .slt v3074 c0_i32_1173
  let v3081 : BitVec 32 := Scalar.extui v3080
  let v3082 : BitVec 32 := Scalar.subi v3079 v3081
  let c16_i32_1171 : BitVec 32 := 16#32
  let c0_i32_1174 : BitVec 32 := 0#32
  let v3083 : BitVec 1 := Scalar.cmpi .sgt c16_i32_1171 c0_i32_1174
  let v3084 : BitVec 32 := Scalar.extui v3083
  let c0_i32_1175 : BitVec 32 := 0#32
  let v3085 : BitVec 1 := Scalar.cmpi .slt c16_i32_1171 c0_i32_1175
  let v3086 : BitVec 32 := Scalar.extui v3085
  let v3087 : BitVec 32 := Scalar.subi v3084 v3086
  let v3088 : BitVec 1 := Scalar.cmpi .ne v3082 v3087
  let v3089 : BitVec 32 := Scalar.remsi v3074 c16_i32_1171
  let c0_i32_1176 : BitVec 32 := 0#32
  let v3090 : BitVec 1 := Scalar.cmpi .ne v3089 c0_i32_1176
  let v3091 : BitVec 1 := Scalar.andi v3088 v3090
  let v3077 : BitVec 32 := Scalar.divsi v3074 c16_i32_1171
  let c1_i32_1177 : BitVec 32 := 1#32
  let v3092 : BitVec 32 := Scalar.subi v3077 c1_i32_1177
  let v3093 : BitVec 32 := Scalar.select v3091 v3092 v3077
  let c0_i32_1180 : BitVec 32 := 0#32
  let v3096 : BitVec 1 := Scalar.cmpi .sgt v3093 c0_i32_1180
  let v3097 : BitVec 32 := Scalar.extui v3096
  let c0_i32_1181 : BitVec 32 := 0#32
  let v3098 : BitVec 1 := Scalar.cmpi .slt v3093 c0_i32_1181
  let v3099 : BitVec 32 := Scalar.extui v3098
  let v3100 : BitVec 32 := Scalar.subi v3097 v3099
  let c4_i32_1179 : BitVec 32 := 4#32
  let c0_i32_1182 : BitVec 32 := 0#32
  let v3101 : BitVec 1 := Scalar.cmpi .sgt c4_i32_1179 c0_i32_1182
  let v3102 : BitVec 32 := Scalar.extui v3101
  let c0_i32_1183 : BitVec 32 := 0#32
  let v3103 : BitVec 1 := Scalar.cmpi .slt c4_i32_1179 c0_i32_1183
  let v3104 : BitVec 32 := Scalar.extui v3103
  let v3105 : BitVec 32 := Scalar.subi v3102 v3104
  let v3106 : BitVec 1 := Scalar.cmpi .ne v3100 v3105
  let v3107 : BitVec 32 := Scalar.remsi v3093 c4_i32_1179
  let c0_i32_1184 : BitVec 32 := 0#32
  let v3108 : BitVec 1 := Scalar.cmpi .ne v3107 c0_i32_1184
  let v3109 : BitVec 1 := Scalar.andi v3106 v3108
  let v3095 : BitVec 32 := Scalar.divsi v3093 c4_i32_1179
  let c1_i32_1185 : BitVec 32 := 1#32
  let v3110 : BitVec 32 := Scalar.subi v3095 c1_i32_1185
  let v3111 : BitVec 32 := Scalar.select v3109 v3110 v3095
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3112 : BitVec 1 := Scalar.cmpi .eq v3111 v3072
  let v3113 : BitVec 1 := Scalar.andi v3094 v3112
  let v3114 : BitVec 32 := Scalar.extui v3113
  let c0_i32_1186 : BitVec 32 := 0#32
  let v3115 : BitVec 1 := Scalar.cmpi .ne v3114 c0_i32_1186
  v3115

@[reducible] def k1_t65_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off329 (v3076 : BitVec 32) (k1_t65 : Fin k1_t65_loop.trips) : Fin 2 → Nat :=
  let c0_i32_1453 : BitVec 32 := 0#32
  let c1_i32_1455 : BitVec 32 := 1#32
  let arg19 : BitVec 32 := Scf.iv c0_i32_1453 c1_i32_1455 k1_t65
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3076 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off330 (v3074 : BitVec 32) (k1_t65 : Fin k1_t65_loop.trips) : Fin 2 → Nat :=
  let c0_i32_1172 : BitVec 32 := 0#32
  let v3078 : BitVec 1 := Scalar.cmpi .sgt v3074 c0_i32_1172
  let v3079 : BitVec 32 := Scalar.extui v3078
  let c0_i32_1173 : BitVec 32 := 0#32
  let v3080 : BitVec 1 := Scalar.cmpi .slt v3074 c0_i32_1173
  let v3081 : BitVec 32 := Scalar.extui v3080
  let v3082 : BitVec 32 := Scalar.subi v3079 v3081
  let c16_i32_1171 : BitVec 32 := 16#32
  let c0_i32_1174 : BitVec 32 := 0#32
  let v3083 : BitVec 1 := Scalar.cmpi .sgt c16_i32_1171 c0_i32_1174
  let v3084 : BitVec 32 := Scalar.extui v3083
  let c0_i32_1175 : BitVec 32 := 0#32
  let v3085 : BitVec 1 := Scalar.cmpi .slt c16_i32_1171 c0_i32_1175
  let v3086 : BitVec 32 := Scalar.extui v3085
  let v3087 : BitVec 32 := Scalar.subi v3084 v3086
  let v3088 : BitVec 1 := Scalar.cmpi .ne v3082 v3087
  let v3089 : BitVec 32 := Scalar.remsi v3074 c16_i32_1171
  let c0_i32_1176 : BitVec 32 := 0#32
  let v3090 : BitVec 1 := Scalar.cmpi .ne v3089 c0_i32_1176
  let v3091 : BitVec 1 := Scalar.andi v3088 v3090
  let v3077 : BitVec 32 := Scalar.divsi v3074 c16_i32_1171
  let c1_i32_1177 : BitVec 32 := 1#32
  let v3092 : BitVec 32 := Scalar.subi v3077 c1_i32_1177
  let v3093 : BitVec 32 := Scalar.select v3091 v3092 v3077
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3093 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t65
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3074 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off331 (v3076 : BitVec 32) (k1_t65 : Fin k1_t65_loop.trips) : Fin 2 → Nat :=
  let c0_i32_1453 : BitVec 32 := 0#32
  let c1_i32_1455 : BitVec 32 := 1#32
  let arg19 : BitVec 32 := Scf.iv c0_i32_1453 c1_i32_1455 k1_t65
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3076 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk129 (i : grid1.Coords) (v25 : BitVec 32) (v3074 : BitVec 32) (v3076 : BitVec 32) : Prop :=
  (∀ (k1_h65 : k1_cond65 i v25 v3074 = 1#1), ∀ a, (k1_off328 i v3076) a + S32x512.size a ≤ S4096x512.size a) ∧
  (∀ k1_t65 : Fin k1_t65_loop.trips, ∀ (k1_h65 : k1_cond65 i v25 v3074 = 1#1), ∀ a, (k1_off329 v3076 k1_t65) a + S1x16.size a ≤ S32x512.size a) ∧
  (∀ k1_t65 : Fin k1_t65_loop.trips, ∀ (k1_h65 : k1_cond65 i v25 v3074 = 1#1), ∀ a, (k1_off331 v3076 k1_t65) a + S1x16.size a ≤ S32x512.size a)
theorem k1_off328_inb : ∀ (i : grid1.Coords) (v25 : BitVec 32) (v3074 : BitVec 32) (v3076 : BitVec 32) (k1_hw129 : k1_chk129 i v25 v3074 v3076), ∀ (k1_h65 : k1_cond65 i v25 v3074 = 1#1), ∀ a, (k1_off328 i v3076) a + S32x512.size a ≤ S4096x512.size a := fun i v25 v3074 v3076 k1_hw129 k1_h65 => k1_hw129.1 k1_h65
theorem k1_off329_inb : ∀ (i : grid1.Coords) (v25 : BitVec 32) (v3074 : BitVec 32) (v3076 : BitVec 32) (k1_hw129 : k1_chk129 i v25 v3074 v3076) (k1_t65 : Fin k1_t65_loop.trips), ∀ (k1_h65 : k1_cond65 i v25 v3074 = 1#1), ∀ a, (k1_off329 v3076 k1_t65) a + S1x16.size a ≤ S32x512.size a := fun i v25 v3074 v3076 k1_hw129 k1_t65 k1_h65 => k1_hw129.2.1 k1_t65 k1_h65
theorem k1_off331_inb : ∀ (i : grid1.Coords) (v25 : BitVec 32) (v3074 : BitVec 32) (v3076 : BitVec 32) (k1_hw129 : k1_chk129 i v25 v3074 v3076) (k1_t65 : Fin k1_t65_loop.trips), ∀ (k1_h65 : k1_cond65 i v25 v3074 = 1#1), ∀ a, (k1_off331 v3076 k1_t65) a + S1x16.size a ≤ S32x512.size a := fun i v25 v3074 v3076 k1_hw129 k1_t65 k1_h65 => k1_hw129.2.2 k1_t65 k1_h65

def k1_off332 (v3074 : BitVec 32) (k1_t65 : Fin k1_t65_loop.trips) : Fin 2 → Nat :=
  let c0_i32_1172 : BitVec 32 := 0#32
  let v3078 : BitVec 1 := Scalar.cmpi .sgt v3074 c0_i32_1172
  let v3079 : BitVec 32 := Scalar.extui v3078
  let c0_i32_1173 : BitVec 32 := 0#32
  let v3080 : BitVec 1 := Scalar.cmpi .slt v3074 c0_i32_1173
  let v3081 : BitVec 32 := Scalar.extui v3080
  let v3082 : BitVec 32 := Scalar.subi v3079 v3081
  let c16_i32_1171 : BitVec 32 := 16#32
  let c0_i32_1174 : BitVec 32 := 0#32
  let v3083 : BitVec 1 := Scalar.cmpi .sgt c16_i32_1171 c0_i32_1174
  let v3084 : BitVec 32 := Scalar.extui v3083
  let c0_i32_1175 : BitVec 32 := 0#32
  let v3085 : BitVec 1 := Scalar.cmpi .slt c16_i32_1171 c0_i32_1175
  let v3086 : BitVec 32 := Scalar.extui v3085
  let v3087 : BitVec 32 := Scalar.subi v3084 v3086
  let v3088 : BitVec 1 := Scalar.cmpi .ne v3082 v3087
  let v3089 : BitVec 32 := Scalar.remsi v3074 c16_i32_1171
  let c0_i32_1176 : BitVec 32 := 0#32
  let v3090 : BitVec 1 := Scalar.cmpi .ne v3089 c0_i32_1176
  let v3091 : BitVec 1 := Scalar.andi v3088 v3090
  let v3077 : BitVec 32 := Scalar.divsi v3074 c16_i32_1171
  let c1_i32_1177 : BitVec 32 := 1#32
  let v3092 : BitVec 32 := Scalar.subi v3077 c1_i32_1177
  let v3093 : BitVec 32 := Scalar.select v3091 v3092 v3077
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3093 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t65
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3074 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk130 (i : grid1.Coords) (v25 : BitVec 32) (v3074 : BitVec 32) : Prop :=
  (∀ k1_t65 : Fin k1_t65_loop.trips, ∀ (k1_h65 : k1_cond65 i v25 v3074 = 1#1), ∀ a, (k1_off330 v3074 k1_t65) a + S1x16.size a ≤ S128x512.size a) ∧
  (∀ k1_t65 : Fin k1_t65_loop.trips, ∀ (k1_h65 : k1_cond65 i v25 v3074 = 1#1), ∀ a, (k1_off332 v3074 k1_t65) a + S1x16.size a ≤ S128x512.size a)
theorem k1_off330_inb : ∀ (i : grid1.Coords) (v25 : BitVec 32) (v3074 : BitVec 32) (k1_hw130 : k1_chk130 i v25 v3074) (k1_t65 : Fin k1_t65_loop.trips), ∀ (k1_h65 : k1_cond65 i v25 v3074 = 1#1), ∀ a, (k1_off330 v3074 k1_t65) a + S1x16.size a ≤ S128x512.size a := fun i v25 v3074 k1_hw130 k1_t65 k1_h65 => k1_hw130.1 k1_t65 k1_h65
theorem k1_off332_inb : ∀ (i : grid1.Coords) (v25 : BitVec 32) (v3074 : BitVec 32) (k1_hw130 : k1_chk130 i v25 v3074) (k1_t65 : Fin k1_t65_loop.trips), ∀ (k1_h65 : k1_cond65 i v25 v3074 = 1#1), ∀ a, (k1_off332 v3074 k1_t65) a + S1x16.size a ≤ S128x512.size a := fun i v25 v3074 k1_hw130 k1_t65 k1_h65 => k1_hw130.2 k1_t65 k1_h65

def k1_off333 (i : grid1.Coords) (v3119 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3119 c0_i32_1428
  let v3763 : BitVec 32 := Scalar.extui v3762
  let c0_i32_1429 : BitVec 32 := 0#32
  let v3764 : BitVec 1 := Scalar.cmpi .slt v3119 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3119 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3119 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r77 : BitVec 32 := 0#32
  ![v3779.toNat, 0]
def k1_cond66 (i : grid1.Coords) (v25 : BitVec 32) (v3117 : BitVec 32) : BitVec 1 :=
  let c1_i32_1194 : BitVec 32 := 1#32
  let v3137 : BitVec 1 := Scalar.cmpi .sgt v25 c1_i32_1194
  let c0_i32_1188 : BitVec 32 := 0#32
  let v3121 : BitVec 1 := Scalar.cmpi .sgt v3117 c0_i32_1188
  let v3122 : BitVec 32 := Scalar.extui v3121
  let c0_i32_1189 : BitVec 32 := 0#32
  let v3123 : BitVec 1 := Scalar.cmpi .slt v3117 c0_i32_1189
  let v3124 : BitVec 32 := Scalar.extui v3123
  let v3125 : BitVec 32 := Scalar.subi v3122 v3124
  let c16_i32_1187 : BitVec 32 := 16#32
  let c0_i32_1190 : BitVec 32 := 0#32
  let v3126 : BitVec 1 := Scalar.cmpi .sgt c16_i32_1187 c0_i32_1190
  let v3127 : BitVec 32 := Scalar.extui v3126
  let c0_i32_1191 : BitVec 32 := 0#32
  let v3128 : BitVec 1 := Scalar.cmpi .slt c16_i32_1187 c0_i32_1191
  let v3129 : BitVec 32 := Scalar.extui v3128
  let v3130 : BitVec 32 := Scalar.subi v3127 v3129
  let v3131 : BitVec 1 := Scalar.cmpi .ne v3125 v3130
  let v3132 : BitVec 32 := Scalar.remsi v3117 c16_i32_1187
  let c0_i32_1192 : BitVec 32 := 0#32
  let v3133 : BitVec 1 := Scalar.cmpi .ne v3132 c0_i32_1192
  let v3134 : BitVec 1 := Scalar.andi v3131 v3133
  let v3120 : BitVec 32 := Scalar.divsi v3117 c16_i32_1187
  let c1_i32_1193 : BitVec 32 := 1#32
  let v3135 : BitVec 32 := Scalar.subi v3120 c1_i32_1193
  let v3136 : BitVec 32 := Scalar.select v3134 v3135 v3120
  let c0_i32_1196 : BitVec 32 := 0#32
  let v3139 : BitVec 1 := Scalar.cmpi .sgt v3136 c0_i32_1196
  let v3140 : BitVec 32 := Scalar.extui v3139
  let c0_i32_1197 : BitVec 32 := 0#32
  let v3141 : BitVec 1 := Scalar.cmpi .slt v3136 c0_i32_1197
  let v3142 : BitVec 32 := Scalar.extui v3141
  let v3143 : BitVec 32 := Scalar.subi v3140 v3142
  let c4_i32_1195 : BitVec 32 := 4#32
  let c0_i32_1198 : BitVec 32 := 0#32
  let v3144 : BitVec 1 := Scalar.cmpi .sgt c4_i32_1195 c0_i32_1198
  let v3145 : BitVec 32 := Scalar.extui v3144
  let c0_i32_1199 : BitVec 32 := 0#32
  let v3146 : BitVec 1 := Scalar.cmpi .slt c4_i32_1195 c0_i32_1199
  let v3147 : BitVec 32 := Scalar.extui v3146
  let v3148 : BitVec 32 := Scalar.subi v3145 v3147
  let v3149 : BitVec 1 := Scalar.cmpi .ne v3143 v3148
  let v3150 : BitVec 32 := Scalar.remsi v3136 c4_i32_1195
  let c0_i32_1200 : BitVec 32 := 0#32
  let v3151 : BitVec 1 := Scalar.cmpi .ne v3150 c0_i32_1200
  let v3152 : BitVec 1 := Scalar.andi v3149 v3151
  let v3138 : BitVec 32 := Scalar.divsi v3136 c4_i32_1195
  let c1_i32_1201 : BitVec 32 := 1#32
  let v3153 : BitVec 32 := Scalar.subi v3138 c1_i32_1201
  let v3154 : BitVec 32 := Scalar.select v3152 v3153 v3138
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3155 : BitVec 1 := Scalar.cmpi .eq v3154 v3072
  let v3156 : BitVec 1 := Scalar.andi v3137 v3155
  let v3157 : BitVec 32 := Scalar.extui v3156
  let c0_i32_1202 : BitVec 32 := 0#32
  let v3158 : BitVec 1 := Scalar.cmpi .ne v3157 c0_i32_1202
  v3158

@[reducible] def k1_t66_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off334 (v3119 : BitVec 32) (k1_t66 : Fin k1_t66_loop.trips) : Fin 2 → Nat :=
  let c0_i32_1453 : BitVec 32 := 0#32
  let c1_i32_1455 : BitVec 32 := 1#32
  let arg19 : BitVec 32 := Scf.iv c0_i32_1453 c1_i32_1455 k1_t66
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3119 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off335 (v3117 : BitVec 32) (k1_t66 : Fin k1_t66_loop.trips) : Fin 2 → Nat :=
  let c0_i32_1188 : BitVec 32 := 0#32
  let v3121 : BitVec 1 := Scalar.cmpi .sgt v3117 c0_i32_1188
  let v3122 : BitVec 32 := Scalar.extui v3121
  let c0_i32_1189 : BitVec 32 := 0#32
  let v3123 : BitVec 1 := Scalar.cmpi .slt v3117 c0_i32_1189
  let v3124 : BitVec 32 := Scalar.extui v3123
  let v3125 : BitVec 32 := Scalar.subi v3122 v3124
  let c16_i32_1187 : BitVec 32 := 16#32
  let c0_i32_1190 : BitVec 32 := 0#32
  let v3126 : BitVec 1 := Scalar.cmpi .sgt c16_i32_1187 c0_i32_1190
  let v3127 : BitVec 32 := Scalar.extui v3126
  let c0_i32_1191 : BitVec 32 := 0#32
  let v3128 : BitVec 1 := Scalar.cmpi .slt c16_i32_1187 c0_i32_1191
  let v3129 : BitVec 32 := Scalar.extui v3128
  let v3130 : BitVec 32 := Scalar.subi v3127 v3129
  let v3131 : BitVec 1 := Scalar.cmpi .ne v3125 v3130
  let v3132 : BitVec 32 := Scalar.remsi v3117 c16_i32_1187
  let c0_i32_1192 : BitVec 32 := 0#32
  let v3133 : BitVec 1 := Scalar.cmpi .ne v3132 c0_i32_1192
  let v3134 : BitVec 1 := Scalar.andi v3131 v3133
  let v3120 : BitVec 32 := Scalar.divsi v3117 c16_i32_1187
  let c1_i32_1193 : BitVec 32 := 1#32
  let v3135 : BitVec 32 := Scalar.subi v3120 c1_i32_1193
  let v3136 : BitVec 32 := Scalar.select v3134 v3135 v3120
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3136 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t66
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3117 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off336 (v3119 : BitVec 32) (k1_t66 : Fin k1_t66_loop.trips) : Fin 2 → Nat :=
  let c0_i32_1453 : BitVec 32 := 0#32
  let c1_i32_1455 : BitVec 32 := 1#32
  let arg19 : BitVec 32 := Scf.iv c0_i32_1453 c1_i32_1455 k1_t66
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3119 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk131 (i : grid1.Coords) (v25 : BitVec 32) (v3117 : BitVec 32) (v3119 : BitVec 32) : Prop :=
  (∀ (k1_h66 : k1_cond66 i v25 v3117 = 1#1), ∀ a, (k1_off333 i v3119) a + S32x512.size a ≤ S4096x512.size a) ∧
  (∀ k1_t66 : Fin k1_t66_loop.trips, ∀ (k1_h66 : k1_cond66 i v25 v3117 = 1#1), ∀ a, (k1_off334 v3119 k1_t66) a + S1x16.size a ≤ S32x512.size a) ∧
  (∀ k1_t66 : Fin k1_t66_loop.trips, ∀ (k1_h66 : k1_cond66 i v25 v3117 = 1#1), ∀ a, (k1_off336 v3119 k1_t66) a + S1x16.size a ≤ S32x512.size a)
theorem k1_off333_inb : ∀ (i : grid1.Coords) (v25 : BitVec 32) (v3117 : BitVec 32) (v3119 : BitVec 32) (k1_hw131 : k1_chk131 i v25 v3117 v3119), ∀ (k1_h66 : k1_cond66 i v25 v3117 = 1#1), ∀ a, (k1_off333 i v3119) a + S32x512.size a ≤ S4096x512.size a := fun i v25 v3117 v3119 k1_hw131 k1_h66 => k1_hw131.1 k1_h66
theorem k1_off334_inb : ∀ (i : grid1.Coords) (v25 : BitVec 32) (v3117 : BitVec 32) (v3119 : BitVec 32) (k1_hw131 : k1_chk131 i v25 v3117 v3119) (k1_t66 : Fin k1_t66_loop.trips), ∀ (k1_h66 : k1_cond66 i v25 v3117 = 1#1), ∀ a, (k1_off334 v3119 k1_t66) a + S1x16.size a ≤ S32x512.size a := fun i v25 v3117 v3119 k1_hw131 k1_t66 k1_h66 => k1_hw131.2.1 k1_t66 k1_h66
theorem k1_off336_inb : ∀ (i : grid1.Coords) (v25 : BitVec 32) (v3117 : BitVec 32) (v3119 : BitVec 32) (k1_hw131 : k1_chk131 i v25 v3117 v3119) (k1_t66 : Fin k1_t66_loop.trips), ∀ (k1_h66 : k1_cond66 i v25 v3117 = 1#1), ∀ a, (k1_off336 v3119 k1_t66) a + S1x16.size a ≤ S32x512.size a := fun i v25 v3117 v3119 k1_hw131 k1_t66 k1_h66 => k1_hw131.2.2 k1_t66 k1_h66

def k1_off337 (v3117 : BitVec 32) (k1_t66 : Fin k1_t66_loop.trips) : Fin 2 → Nat :=
  let c0_i32_1188 : BitVec 32 := 0#32
  let v3121 : BitVec 1 := Scalar.cmpi .sgt v3117 c0_i32_1188
  let v3122 : BitVec 32 := Scalar.extui v3121
  let c0_i32_1189 : BitVec 32 := 0#32
  let v3123 : BitVec 1 := Scalar.cmpi .slt v3117 c0_i32_1189
  let v3124 : BitVec 32 := Scalar.extui v3123
  let v3125 : BitVec 32 := Scalar.subi v3122 v3124
  let c16_i32_1187 : BitVec 32 := 16#32
  let c0_i32_1190 : BitVec 32 := 0#32
  let v3126 : BitVec 1 := Scalar.cmpi .sgt c16_i32_1187 c0_i32_1190
  let v3127 : BitVec 32 := Scalar.extui v3126
  let c0_i32_1191 : BitVec 32 := 0#32
  let v3128 : BitVec 1 := Scalar.cmpi .slt c16_i32_1187 c0_i32_1191
  let v3129 : BitVec 32 := Scalar.extui v3128
  let v3130 : BitVec 32 := Scalar.subi v3127 v3129
  let v3131 : BitVec 1 := Scalar.cmpi .ne v3125 v3130
  let v3132 : BitVec 32 := Scalar.remsi v3117 c16_i32_1187
  let c0_i32_1192 : BitVec 32 := 0#32
  let v3133 : BitVec 1 := Scalar.cmpi .ne v3132 c0_i32_1192
  let v3134 : BitVec 1 := Scalar.andi v3131 v3133
  let v3120 : BitVec 32 := Scalar.divsi v3117 c16_i32_1187
  let c1_i32_1193 : BitVec 32 := 1#32
  let v3135 : BitVec 32 := Scalar.subi v3120 c1_i32_1193
  let v3136 : BitVec 32 := Scalar.select v3134 v3135 v3120
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3136 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t66
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3117 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk132 (i : grid1.Coords) (v25 : BitVec 32) (v3117 : BitVec 32) : Prop :=
  (∀ k1_t66 : Fin k1_t66_loop.trips, ∀ (k1_h66 : k1_cond66 i v25 v3117 = 1#1), ∀ a, (k1_off335 v3117 k1_t66) a + S1x16.size a ≤ S128x512.size a) ∧
  (∀ k1_t66 : Fin k1_t66_loop.trips, ∀ (k1_h66 : k1_cond66 i v25 v3117 = 1#1), ∀ a, (k1_off337 v3117 k1_t66) a + S1x16.size a ≤ S128x512.size a)
theorem k1_off335_inb : ∀ (i : grid1.Coords) (v25 : BitVec 32) (v3117 : BitVec 32) (k1_hw132 : k1_chk132 i v25 v3117) (k1_t66 : Fin k1_t66_loop.trips), ∀ (k1_h66 : k1_cond66 i v25 v3117 = 1#1), ∀ a, (k1_off335 v3117 k1_t66) a + S1x16.size a ≤ S128x512.size a := fun i v25 v3117 k1_hw132 k1_t66 k1_h66 => k1_hw132.1 k1_t66 k1_h66
theorem k1_off337_inb : ∀ (i : grid1.Coords) (v25 : BitVec 32) (v3117 : BitVec 32) (k1_hw132 : k1_chk132 i v25 v3117) (k1_t66 : Fin k1_t66_loop.trips), ∀ (k1_h66 : k1_cond66 i v25 v3117 = 1#1), ∀ a, (k1_off337 v3117 k1_t66) a + S1x16.size a ≤ S128x512.size a := fun i v25 v3117 k1_hw132 k1_t66 k1_h66 => k1_hw132.2 k1_t66 k1_h66

def k1_off338 (i : grid1.Coords) (v3162 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3162 c0_i32_1428
  let v3763 : BitVec 32 := Scalar.extui v3762
  let c0_i32_1429 : BitVec 32 := 0#32
  let v3764 : BitVec 1 := Scalar.cmpi .slt v3162 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3162 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3162 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r78 : BitVec 32 := 0#32
  ![v3779.toNat, 0]
def k1_cond67 (i : grid1.Coords) (v25 : BitVec 32) (v3160 : BitVec 32) : BitVec 1 :=
  let c2_i32_1210 : BitVec 32 := 2#32
  let v3180 : BitVec 1 := Scalar.cmpi .sgt v25 c2_i32_1210
  let c0_i32_1204 : BitVec 32 := 0#32
  let v3164 : BitVec 1 := Scalar.cmpi .sgt v3160 c0_i32_1204
  let v3165 : BitVec 32 := Scalar.extui v3164
  let c0_i32_1205 : BitVec 32 := 0#32
  let v3166 : BitVec 1 := Scalar.cmpi .slt v3160 c0_i32_1205
  let v3167 : BitVec 32 := Scalar.extui v3166
  let v3168 : BitVec 32 := Scalar.subi v3165 v3167
  let c16_i32_1203 : BitVec 32 := 16#32
  let c0_i32_1206 : BitVec 32 := 0#32
  let v3169 : BitVec 1 := Scalar.cmpi .sgt c16_i32_1203 c0_i32_1206
  let v3170 : BitVec 32 := Scalar.extui v3169
  let c0_i32_1207 : BitVec 32 := 0#32
  let v3171 : BitVec 1 := Scalar.cmpi .slt c16_i32_1203 c0_i32_1207
  let v3172 : BitVec 32 := Scalar.extui v3171
  let v3173 : BitVec 32 := Scalar.subi v3170 v3172
  let v3174 : BitVec 1 := Scalar.cmpi .ne v3168 v3173
  let v3175 : BitVec 32 := Scalar.remsi v3160 c16_i32_1203
  let c0_i32_1208 : BitVec 32 := 0#32
  let v3176 : BitVec 1 := Scalar.cmpi .ne v3175 c0_i32_1208
  let v3177 : BitVec 1 := Scalar.andi v3174 v3176
  let v3163 : BitVec 32 := Scalar.divsi v3160 c16_i32_1203
  let c1_i32_1209 : BitVec 32 := 1#32
  let v3178 : BitVec 32 := Scalar.subi v3163 c1_i32_1209
  let v3179 : BitVec 32 := Scalar.select v3177 v3178 v3163
  let c0_i32_1212 : BitVec 32 := 0#32
  let v3182 : BitVec 1 := Scalar.cmpi .sgt v3179 c0_i32_1212
  let v3183 : BitVec 32 := Scalar.extui v3182
  let c0_i32_1213 : BitVec 32 := 0#32
  let v3184 : BitVec 1 := Scalar.cmpi .slt v3179 c0_i32_1213
  let v3185 : BitVec 32 := Scalar.extui v3184
  let v3186 : BitVec 32 := Scalar.subi v3183 v3185
  let c4_i32_1211 : BitVec 32 := 4#32
  let c0_i32_1214 : BitVec 32 := 0#32
  let v3187 : BitVec 1 := Scalar.cmpi .sgt c4_i32_1211 c0_i32_1214
  let v3188 : BitVec 32 := Scalar.extui v3187
  let c0_i32_1215 : BitVec 32 := 0#32
  let v3189 : BitVec 1 := Scalar.cmpi .slt c4_i32_1211 c0_i32_1215
  let v3190 : BitVec 32 := Scalar.extui v3189
  let v3191 : BitVec 32 := Scalar.subi v3188 v3190
  let v3192 : BitVec 1 := Scalar.cmpi .ne v3186 v3191
  let v3193 : BitVec 32 := Scalar.remsi v3179 c4_i32_1211
  let c0_i32_1216 : BitVec 32 := 0#32
  let v3194 : BitVec 1 := Scalar.cmpi .ne v3193 c0_i32_1216
  let v3195 : BitVec 1 := Scalar.andi v3192 v3194
  let v3181 : BitVec 32 := Scalar.divsi v3179 c4_i32_1211
  let c1_i32_1217 : BitVec 32 := 1#32
  let v3196 : BitVec 32 := Scalar.subi v3181 c1_i32_1217
  let v3197 : BitVec 32 := Scalar.select v3195 v3196 v3181
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3198 : BitVec 1 := Scalar.cmpi .eq v3197 v3072
  let v3199 : BitVec 1 := Scalar.andi v3180 v3198
  let v3200 : BitVec 32 := Scalar.extui v3199
  let c0_i32_1218 : BitVec 32 := 0#32
  let v3201 : BitVec 1 := Scalar.cmpi .ne v3200 c0_i32_1218
  v3201

@[reducible] def k1_t67_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off339 (v3162 : BitVec 32) (k1_t67 : Fin k1_t67_loop.trips) : Fin 2 → Nat :=
  let c0_i32_1453 : BitVec 32 := 0#32
  let c1_i32_1455 : BitVec 32 := 1#32
  let arg19 : BitVec 32 := Scf.iv c0_i32_1453 c1_i32_1455 k1_t67
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3162 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off340 (v3160 : BitVec 32) (k1_t67 : Fin k1_t67_loop.trips) : Fin 2 → Nat :=
  let c0_i32_1204 : BitVec 32 := 0#32
  let v3164 : BitVec 1 := Scalar.cmpi .sgt v3160 c0_i32_1204
  let v3165 : BitVec 32 := Scalar.extui v3164
  let c0_i32_1205 : BitVec 32 := 0#32
  let v3166 : BitVec 1 := Scalar.cmpi .slt v3160 c0_i32_1205
  let v3167 : BitVec 32 := Scalar.extui v3166
  let v3168 : BitVec 32 := Scalar.subi v3165 v3167
  let c16_i32_1203 : BitVec 32 := 16#32
  let c0_i32_1206 : BitVec 32 := 0#32
  let v3169 : BitVec 1 := Scalar.cmpi .sgt c16_i32_1203 c0_i32_1206
  let v3170 : BitVec 32 := Scalar.extui v3169
  let c0_i32_1207 : BitVec 32 := 0#32
  let v3171 : BitVec 1 := Scalar.cmpi .slt c16_i32_1203 c0_i32_1207
  let v3172 : BitVec 32 := Scalar.extui v3171
  let v3173 : BitVec 32 := Scalar.subi v3170 v3172
  let v3174 : BitVec 1 := Scalar.cmpi .ne v3168 v3173
  let v3175 : BitVec 32 := Scalar.remsi v3160 c16_i32_1203
  let c0_i32_1208 : BitVec 32 := 0#32
  let v3176 : BitVec 1 := Scalar.cmpi .ne v3175 c0_i32_1208
  let v3177 : BitVec 1 := Scalar.andi v3174 v3176
  let v3163 : BitVec 32 := Scalar.divsi v3160 c16_i32_1203
  let c1_i32_1209 : BitVec 32 := 1#32
  let v3178 : BitVec 32 := Scalar.subi v3163 c1_i32_1209
  let v3179 : BitVec 32 := Scalar.select v3177 v3178 v3163
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3179 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t67
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3160 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off341 (v3162 : BitVec 32) (k1_t67 : Fin k1_t67_loop.trips) : Fin 2 → Nat :=
  let c0_i32_1453 : BitVec 32 := 0#32
  let c1_i32_1455 : BitVec 32 := 1#32
  let arg19 : BitVec 32 := Scf.iv c0_i32_1453 c1_i32_1455 k1_t67
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3162 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk133 (i : grid1.Coords) (v25 : BitVec 32) (v3160 : BitVec 32) (v3162 : BitVec 32) : Prop :=
  (∀ (k1_h67 : k1_cond67 i v25 v3160 = 1#1), ∀ a, (k1_off338 i v3162) a + S32x512.size a ≤ S4096x512.size a) ∧
  (∀ k1_t67 : Fin k1_t67_loop.trips, ∀ (k1_h67 : k1_cond67 i v25 v3160 = 1#1), ∀ a, (k1_off339 v3162 k1_t67) a + S1x16.size a ≤ S32x512.size a) ∧
  (∀ k1_t67 : Fin k1_t67_loop.trips, ∀ (k1_h67 : k1_cond67 i v25 v3160 = 1#1), ∀ a, (k1_off341 v3162 k1_t67) a + S1x16.size a ≤ S32x512.size a)
theorem k1_off338_inb : ∀ (i : grid1.Coords) (v25 : BitVec 32) (v3160 : BitVec 32) (v3162 : BitVec 32) (k1_hw133 : k1_chk133 i v25 v3160 v3162), ∀ (k1_h67 : k1_cond67 i v25 v3160 = 1#1), ∀ a, (k1_off338 i v3162) a + S32x512.size a ≤ S4096x512.size a := fun i v25 v3160 v3162 k1_hw133 k1_h67 => k1_hw133.1 k1_h67
theorem k1_off339_inb : ∀ (i : grid1.Coords) (v25 : BitVec 32) (v3160 : BitVec 32) (v3162 : BitVec 32) (k1_hw133 : k1_chk133 i v25 v3160 v3162) (k1_t67 : Fin k1_t67_loop.trips), ∀ (k1_h67 : k1_cond67 i v25 v3160 = 1#1), ∀ a, (k1_off339 v3162 k1_t67) a + S1x16.size a ≤ S32x512.size a := fun i v25 v3160 v3162 k1_hw133 k1_t67 k1_h67 => k1_hw133.2.1 k1_t67 k1_h67
theorem k1_off341_inb : ∀ (i : grid1.Coords) (v25 : BitVec 32) (v3160 : BitVec 32) (v3162 : BitVec 32) (k1_hw133 : k1_chk133 i v25 v3160 v3162) (k1_t67 : Fin k1_t67_loop.trips), ∀ (k1_h67 : k1_cond67 i v25 v3160 = 1#1), ∀ a, (k1_off341 v3162 k1_t67) a + S1x16.size a ≤ S32x512.size a := fun i v25 v3160 v3162 k1_hw133 k1_t67 k1_h67 => k1_hw133.2.2 k1_t67 k1_h67

def k1_off342 (v3160 : BitVec 32) (k1_t67 : Fin k1_t67_loop.trips) : Fin 2 → Nat :=
  let c0_i32_1204 : BitVec 32 := 0#32
  let v3164 : BitVec 1 := Scalar.cmpi .sgt v3160 c0_i32_1204
  let v3165 : BitVec 32 := Scalar.extui v3164
  let c0_i32_1205 : BitVec 32 := 0#32
  let v3166 : BitVec 1 := Scalar.cmpi .slt v3160 c0_i32_1205
  let v3167 : BitVec 32 := Scalar.extui v3166
  let v3168 : BitVec 32 := Scalar.subi v3165 v3167
  let c16_i32_1203 : BitVec 32 := 16#32
  let c0_i32_1206 : BitVec 32 := 0#32
  let v3169 : BitVec 1 := Scalar.cmpi .sgt c16_i32_1203 c0_i32_1206
  let v3170 : BitVec 32 := Scalar.extui v3169
  let c0_i32_1207 : BitVec 32 := 0#32
  let v3171 : BitVec 1 := Scalar.cmpi .slt c16_i32_1203 c0_i32_1207
  let v3172 : BitVec 32 := Scalar.extui v3171
  let v3173 : BitVec 32 := Scalar.subi v3170 v3172
  let v3174 : BitVec 1 := Scalar.cmpi .ne v3168 v3173
  let v3175 : BitVec 32 := Scalar.remsi v3160 c16_i32_1203
  let c0_i32_1208 : BitVec 32 := 0#32
  let v3176 : BitVec 1 := Scalar.cmpi .ne v3175 c0_i32_1208
  let v3177 : BitVec 1 := Scalar.andi v3174 v3176
  let v3163 : BitVec 32 := Scalar.divsi v3160 c16_i32_1203
  let c1_i32_1209 : BitVec 32 := 1#32
  let v3178 : BitVec 32 := Scalar.subi v3163 c1_i32_1209
  let v3179 : BitVec 32 := Scalar.select v3177 v3178 v3163
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3179 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t67
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3160 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk134 (i : grid1.Coords) (v25 : BitVec 32) (v3160 : BitVec 32) : Prop :=
  (∀ k1_t67 : Fin k1_t67_loop.trips, ∀ (k1_h67 : k1_cond67 i v25 v3160 = 1#1), ∀ a, (k1_off340 v3160 k1_t67) a + S1x16.size a ≤ S128x512.size a) ∧
  (∀ k1_t67 : Fin k1_t67_loop.trips, ∀ (k1_h67 : k1_cond67 i v25 v3160 = 1#1), ∀ a, (k1_off342 v3160 k1_t67) a + S1x16.size a ≤ S128x512.size a)
theorem k1_off340_inb : ∀ (i : grid1.Coords) (v25 : BitVec 32) (v3160 : BitVec 32) (k1_hw134 : k1_chk134 i v25 v3160) (k1_t67 : Fin k1_t67_loop.trips), ∀ (k1_h67 : k1_cond67 i v25 v3160 = 1#1), ∀ a, (k1_off340 v3160 k1_t67) a + S1x16.size a ≤ S128x512.size a := fun i v25 v3160 k1_hw134 k1_t67 k1_h67 => k1_hw134.1 k1_t67 k1_h67
theorem k1_off342_inb : ∀ (i : grid1.Coords) (v25 : BitVec 32) (v3160 : BitVec 32) (k1_hw134 : k1_chk134 i v25 v3160) (k1_t67 : Fin k1_t67_loop.trips), ∀ (k1_h67 : k1_cond67 i v25 v3160 = 1#1), ∀ a, (k1_off342 v3160 k1_t67) a + S1x16.size a ≤ S128x512.size a := fun i v25 v3160 k1_hw134 k1_t67 k1_h67 => k1_hw134.2 k1_t67 k1_h67

def k1_off343 (i : grid1.Coords) (v3205 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3205 c0_i32_1428
  let v3763 : BitVec 32 := Scalar.extui v3762
  let c0_i32_1429 : BitVec 32 := 0#32
  let v3764 : BitVec 1 := Scalar.cmpi .slt v3205 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3205 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3205 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r79 : BitVec 32 := 0#32
  ![v3779.toNat, 0]
def k1_cond68 (i : grid1.Coords) (v25 : BitVec 32) (v3203 : BitVec 32) : BitVec 1 :=
  let c3_i32_1226 : BitVec 32 := 3#32
  let v3223 : BitVec 1 := Scalar.cmpi .sgt v25 c3_i32_1226
  let c0_i32_1220 : BitVec 32 := 0#32
  let v3207 : BitVec 1 := Scalar.cmpi .sgt v3203 c0_i32_1220
  let v3208 : BitVec 32 := Scalar.extui v3207
  let c0_i32_1221 : BitVec 32 := 0#32
  let v3209 : BitVec 1 := Scalar.cmpi .slt v3203 c0_i32_1221
  let v3210 : BitVec 32 := Scalar.extui v3209
  let v3211 : BitVec 32 := Scalar.subi v3208 v3210
  let c16_i32_1219 : BitVec 32 := 16#32
  let c0_i32_1222 : BitVec 32 := 0#32
  let v3212 : BitVec 1 := Scalar.cmpi .sgt c16_i32_1219 c0_i32_1222
  let v3213 : BitVec 32 := Scalar.extui v3212
  let c0_i32_1223 : BitVec 32 := 0#32
  let v3214 : BitVec 1 := Scalar.cmpi .slt c16_i32_1219 c0_i32_1223
  let v3215 : BitVec 32 := Scalar.extui v3214
  let v3216 : BitVec 32 := Scalar.subi v3213 v3215
  let v3217 : BitVec 1 := Scalar.cmpi .ne v3211 v3216
  let v3218 : BitVec 32 := Scalar.remsi v3203 c16_i32_1219
  let c0_i32_1224 : BitVec 32 := 0#32
  let v3219 : BitVec 1 := Scalar.cmpi .ne v3218 c0_i32_1224
  let v3220 : BitVec 1 := Scalar.andi v3217 v3219
  let v3206 : BitVec 32 := Scalar.divsi v3203 c16_i32_1219
  let c1_i32_1225 : BitVec 32 := 1#32
  let v3221 : BitVec 32 := Scalar.subi v3206 c1_i32_1225
  let v3222 : BitVec 32 := Scalar.select v3220 v3221 v3206
  let c0_i32_1228 : BitVec 32 := 0#32
  let v3225 : BitVec 1 := Scalar.cmpi .sgt v3222 c0_i32_1228
  let v3226 : BitVec 32 := Scalar.extui v3225
  let c0_i32_1229 : BitVec 32 := 0#32
  let v3227 : BitVec 1 := Scalar.cmpi .slt v3222 c0_i32_1229
  let v3228 : BitVec 32 := Scalar.extui v3227
  let v3229 : BitVec 32 := Scalar.subi v3226 v3228
  let c4_i32_1227 : BitVec 32 := 4#32
  let c0_i32_1230 : BitVec 32 := 0#32
  let v3230 : BitVec 1 := Scalar.cmpi .sgt c4_i32_1227 c0_i32_1230
  let v3231 : BitVec 32 := Scalar.extui v3230
  let c0_i32_1231 : BitVec 32 := 0#32
  let v3232 : BitVec 1 := Scalar.cmpi .slt c4_i32_1227 c0_i32_1231
  let v3233 : BitVec 32 := Scalar.extui v3232
  let v3234 : BitVec 32 := Scalar.subi v3231 v3233
  let v3235 : BitVec 1 := Scalar.cmpi .ne v3229 v3234
  let v3236 : BitVec 32 := Scalar.remsi v3222 c4_i32_1227
  let c0_i32_1232 : BitVec 32 := 0#32
  let v3237 : BitVec 1 := Scalar.cmpi .ne v3236 c0_i32_1232
  let v3238 : BitVec 1 := Scalar.andi v3235 v3237
  let v3224 : BitVec 32 := Scalar.divsi v3222 c4_i32_1227
  let c1_i32_1233 : BitVec 32 := 1#32
  let v3239 : BitVec 32 := Scalar.subi v3224 c1_i32_1233
  let v3240 : BitVec 32 := Scalar.select v3238 v3239 v3224
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3241 : BitVec 1 := Scalar.cmpi .eq v3240 v3072
  let v3242 : BitVec 1 := Scalar.andi v3223 v3241
  let v3243 : BitVec 32 := Scalar.extui v3242
  let c0_i32_1234 : BitVec 32 := 0#32
  let v3244 : BitVec 1 := Scalar.cmpi .ne v3243 c0_i32_1234
  v3244

@[reducible] def k1_t68_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off344 (v3205 : BitVec 32) (k1_t68 : Fin k1_t68_loop.trips) : Fin 2 → Nat :=
  let c0_i32_1453 : BitVec 32 := 0#32
  let c1_i32_1455 : BitVec 32 := 1#32
  let arg19 : BitVec 32 := Scf.iv c0_i32_1453 c1_i32_1455 k1_t68
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3205 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off345 (v3203 : BitVec 32) (k1_t68 : Fin k1_t68_loop.trips) : Fin 2 → Nat :=
  let c0_i32_1220 : BitVec 32 := 0#32
  let v3207 : BitVec 1 := Scalar.cmpi .sgt v3203 c0_i32_1220
  let v3208 : BitVec 32 := Scalar.extui v3207
  let c0_i32_1221 : BitVec 32 := 0#32
  let v3209 : BitVec 1 := Scalar.cmpi .slt v3203 c0_i32_1221
  let v3210 : BitVec 32 := Scalar.extui v3209
  let v3211 : BitVec 32 := Scalar.subi v3208 v3210
  let c16_i32_1219 : BitVec 32 := 16#32
  let c0_i32_1222 : BitVec 32 := 0#32
  let v3212 : BitVec 1 := Scalar.cmpi .sgt c16_i32_1219 c0_i32_1222
  let v3213 : BitVec 32 := Scalar.extui v3212
  let c0_i32_1223 : BitVec 32 := 0#32
  let v3214 : BitVec 1 := Scalar.cmpi .slt c16_i32_1219 c0_i32_1223
  let v3215 : BitVec 32 := Scalar.extui v3214
  let v3216 : BitVec 32 := Scalar.subi v3213 v3215
  let v3217 : BitVec 1 := Scalar.cmpi .ne v3211 v3216
  let v3218 : BitVec 32 := Scalar.remsi v3203 c16_i32_1219
  let c0_i32_1224 : BitVec 32 := 0#32
  let v3219 : BitVec 1 := Scalar.cmpi .ne v3218 c0_i32_1224
  let v3220 : BitVec 1 := Scalar.andi v3217 v3219
  let v3206 : BitVec 32 := Scalar.divsi v3203 c16_i32_1219
  let c1_i32_1225 : BitVec 32 := 1#32
  let v3221 : BitVec 32 := Scalar.subi v3206 c1_i32_1225
  let v3222 : BitVec 32 := Scalar.select v3220 v3221 v3206
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3222 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t68
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3203 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off346 (v3205 : BitVec 32) (k1_t68 : Fin k1_t68_loop.trips) : Fin 2 → Nat :=
  let c0_i32_1453 : BitVec 32 := 0#32
  let c1_i32_1455 : BitVec 32 := 1#32
  let arg19 : BitVec 32 := Scf.iv c0_i32_1453 c1_i32_1455 k1_t68
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3205 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk135 (i : grid1.Coords) (v25 : BitVec 32) (v3203 : BitVec 32) (v3205 : BitVec 32) : Prop :=
  (∀ (k1_h68 : k1_cond68 i v25 v3203 = 1#1), ∀ a, (k1_off343 i v3205) a + S32x512.size a ≤ S4096x512.size a) ∧
  (∀ k1_t68 : Fin k1_t68_loop.trips, ∀ (k1_h68 : k1_cond68 i v25 v3203 = 1#1), ∀ a, (k1_off344 v3205 k1_t68) a + S1x16.size a ≤ S32x512.size a) ∧
  (∀ k1_t68 : Fin k1_t68_loop.trips, ∀ (k1_h68 : k1_cond68 i v25 v3203 = 1#1), ∀ a, (k1_off346 v3205 k1_t68) a + S1x16.size a ≤ S32x512.size a)
theorem k1_off343_inb : ∀ (i : grid1.Coords) (v25 : BitVec 32) (v3203 : BitVec 32) (v3205 : BitVec 32) (k1_hw135 : k1_chk135 i v25 v3203 v3205), ∀ (k1_h68 : k1_cond68 i v25 v3203 = 1#1), ∀ a, (k1_off343 i v3205) a + S32x512.size a ≤ S4096x512.size a := fun i v25 v3203 v3205 k1_hw135 k1_h68 => k1_hw135.1 k1_h68
theorem k1_off344_inb : ∀ (i : grid1.Coords) (v25 : BitVec 32) (v3203 : BitVec 32) (v3205 : BitVec 32) (k1_hw135 : k1_chk135 i v25 v3203 v3205) (k1_t68 : Fin k1_t68_loop.trips), ∀ (k1_h68 : k1_cond68 i v25 v3203 = 1#1), ∀ a, (k1_off344 v3205 k1_t68) a + S1x16.size a ≤ S32x512.size a := fun i v25 v3203 v3205 k1_hw135 k1_t68 k1_h68 => k1_hw135.2.1 k1_t68 k1_h68
theorem k1_off346_inb : ∀ (i : grid1.Coords) (v25 : BitVec 32) (v3203 : BitVec 32) (v3205 : BitVec 32) (k1_hw135 : k1_chk135 i v25 v3203 v3205) (k1_t68 : Fin k1_t68_loop.trips), ∀ (k1_h68 : k1_cond68 i v25 v3203 = 1#1), ∀ a, (k1_off346 v3205 k1_t68) a + S1x16.size a ≤ S32x512.size a := fun i v25 v3203 v3205 k1_hw135 k1_t68 k1_h68 => k1_hw135.2.2 k1_t68 k1_h68

def k1_off347 (v3203 : BitVec 32) (k1_t68 : Fin k1_t68_loop.trips) : Fin 2 → Nat :=
  let c0_i32_1220 : BitVec 32 := 0#32
  let v3207 : BitVec 1 := Scalar.cmpi .sgt v3203 c0_i32_1220
  let v3208 : BitVec 32 := Scalar.extui v3207
  let c0_i32_1221 : BitVec 32 := 0#32
  let v3209 : BitVec 1 := Scalar.cmpi .slt v3203 c0_i32_1221
  let v3210 : BitVec 32 := Scalar.extui v3209
  let v3211 : BitVec 32 := Scalar.subi v3208 v3210
  let c16_i32_1219 : BitVec 32 := 16#32
  let c0_i32_1222 : BitVec 32 := 0#32
  let v3212 : BitVec 1 := Scalar.cmpi .sgt c16_i32_1219 c0_i32_1222
  let v3213 : BitVec 32 := Scalar.extui v3212
  let c0_i32_1223 : BitVec 32 := 0#32
  let v3214 : BitVec 1 := Scalar.cmpi .slt c16_i32_1219 c0_i32_1223
  let v3215 : BitVec 32 := Scalar.extui v3214
  let v3216 : BitVec 32 := Scalar.subi v3213 v3215
  let v3217 : BitVec 1 := Scalar.cmpi .ne v3211 v3216
  let v3218 : BitVec 32 := Scalar.remsi v3203 c16_i32_1219
  let c0_i32_1224 : BitVec 32 := 0#32
  let v3219 : BitVec 1 := Scalar.cmpi .ne v3218 c0_i32_1224
  let v3220 : BitVec 1 := Scalar.andi v3217 v3219
  let v3206 : BitVec 32 := Scalar.divsi v3203 c16_i32_1219
  let c1_i32_1225 : BitVec 32 := 1#32
  let v3221 : BitVec 32 := Scalar.subi v3206 c1_i32_1225
  let v3222 : BitVec 32 := Scalar.select v3220 v3221 v3206
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3222 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t68
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3203 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk136 (i : grid1.Coords) (v25 : BitVec 32) (v3203 : BitVec 32) : Prop :=
  (∀ k1_t68 : Fin k1_t68_loop.trips, ∀ (k1_h68 : k1_cond68 i v25 v3203 = 1#1), ∀ a, (k1_off345 v3203 k1_t68) a + S1x16.size a ≤ S128x512.size a) ∧
  (∀ k1_t68 : Fin k1_t68_loop.trips, ∀ (k1_h68 : k1_cond68 i v25 v3203 = 1#1), ∀ a, (k1_off347 v3203 k1_t68) a + S1x16.size a ≤ S128x512.size a)
theorem k1_off345_inb : ∀ (i : grid1.Coords) (v25 : BitVec 32) (v3203 : BitVec 32) (k1_hw136 : k1_chk136 i v25 v3203) (k1_t68 : Fin k1_t68_loop.trips), ∀ (k1_h68 : k1_cond68 i v25 v3203 = 1#1), ∀ a, (k1_off345 v3203 k1_t68) a + S1x16.size a ≤ S128x512.size a := fun i v25 v3203 k1_hw136 k1_t68 k1_h68 => k1_hw136.1 k1_t68 k1_h68
theorem k1_off347_inb : ∀ (i : grid1.Coords) (v25 : BitVec 32) (v3203 : BitVec 32) (k1_hw136 : k1_chk136 i v25 v3203) (k1_t68 : Fin k1_t68_loop.trips), ∀ (k1_h68 : k1_cond68 i v25 v3203 = 1#1), ∀ a, (k1_off347 v3203 k1_t68) a + S1x16.size a ≤ S128x512.size a := fun i v25 v3203 k1_hw136 k1_t68 k1_h68 => k1_hw136.2 k1_t68 k1_h68

def k1_off348 (i : grid1.Coords) (v3248 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3248 c0_i32_1428
  let v3763 : BitVec 32 := Scalar.extui v3762
  let c0_i32_1429 : BitVec 32 := 0#32
  let v3764 : BitVec 1 := Scalar.cmpi .slt v3248 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3248 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3248 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r80 : BitVec 32 := 0#32
  ![v3779.toNat, 0]
def k1_cond69 (i : grid1.Coords) (v25 : BitVec 32) (v3246 : BitVec 32) : BitVec 1 :=
  let c4_i32_1242 : BitVec 32 := 4#32
  let v3266 : BitVec 1 := Scalar.cmpi .sgt v25 c4_i32_1242
  let c0_i32_1236 : BitVec 32 := 0#32
  let v3250 : BitVec 1 := Scalar.cmpi .sgt v3246 c0_i32_1236
  let v3251 : BitVec 32 := Scalar.extui v3250
  let c0_i32_1237 : BitVec 32 := 0#32
  let v3252 : BitVec 1 := Scalar.cmpi .slt v3246 c0_i32_1237
  let v3253 : BitVec 32 := Scalar.extui v3252
  let v3254 : BitVec 32 := Scalar.subi v3251 v3253
  let c16_i32_1235 : BitVec 32 := 16#32
  let c0_i32_1238 : BitVec 32 := 0#32
  let v3255 : BitVec 1 := Scalar.cmpi .sgt c16_i32_1235 c0_i32_1238
  let v3256 : BitVec 32 := Scalar.extui v3255
  let c0_i32_1239 : BitVec 32 := 0#32
  let v3257 : BitVec 1 := Scalar.cmpi .slt c16_i32_1235 c0_i32_1239
  let v3258 : BitVec 32 := Scalar.extui v3257
  let v3259 : BitVec 32 := Scalar.subi v3256 v3258
  let v3260 : BitVec 1 := Scalar.cmpi .ne v3254 v3259
  let v3261 : BitVec 32 := Scalar.remsi v3246 c16_i32_1235
  let c0_i32_1240 : BitVec 32 := 0#32
  let v3262 : BitVec 1 := Scalar.cmpi .ne v3261 c0_i32_1240
  let v3263 : BitVec 1 := Scalar.andi v3260 v3262
  let v3249 : BitVec 32 := Scalar.divsi v3246 c16_i32_1235
  let c1_i32_1241 : BitVec 32 := 1#32
  let v3264 : BitVec 32 := Scalar.subi v3249 c1_i32_1241
  let v3265 : BitVec 32 := Scalar.select v3263 v3264 v3249
  let c0_i32_1244 : BitVec 32 := 0#32
  let v3268 : BitVec 1 := Scalar.cmpi .sgt v3265 c0_i32_1244
  let v3269 : BitVec 32 := Scalar.extui v3268
  let c0_i32_1245 : BitVec 32 := 0#32
  let v3270 : BitVec 1 := Scalar.cmpi .slt v3265 c0_i32_1245
  let v3271 : BitVec 32 := Scalar.extui v3270
  let v3272 : BitVec 32 := Scalar.subi v3269 v3271
  let c4_i32_1243 : BitVec 32 := 4#32
  let c0_i32_1246 : BitVec 32 := 0#32
  let v3273 : BitVec 1 := Scalar.cmpi .sgt c4_i32_1243 c0_i32_1246
  let v3274 : BitVec 32 := Scalar.extui v3273
  let c0_i32_1247 : BitVec 32 := 0#32
  let v3275 : BitVec 1 := Scalar.cmpi .slt c4_i32_1243 c0_i32_1247
  let v3276 : BitVec 32 := Scalar.extui v3275
  let v3277 : BitVec 32 := Scalar.subi v3274 v3276
  let v3278 : BitVec 1 := Scalar.cmpi .ne v3272 v3277
  let v3279 : BitVec 32 := Scalar.remsi v3265 c4_i32_1243
  let c0_i32_1248 : BitVec 32 := 0#32
  let v3280 : BitVec 1 := Scalar.cmpi .ne v3279 c0_i32_1248
  let v3281 : BitVec 1 := Scalar.andi v3278 v3280
  let v3267 : BitVec 32 := Scalar.divsi v3265 c4_i32_1243
  let c1_i32_1249 : BitVec 32 := 1#32
  let v3282 : BitVec 32 := Scalar.subi v3267 c1_i32_1249
  let v3283 : BitVec 32 := Scalar.select v3281 v3282 v3267
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3284 : BitVec 1 := Scalar.cmpi .eq v3283 v3072
  let v3285 : BitVec 1 := Scalar.andi v3266 v3284
  let v3286 : BitVec 32 := Scalar.extui v3285
  let c0_i32_1250 : BitVec 32 := 0#32
  let v3287 : BitVec 1 := Scalar.cmpi .ne v3286 c0_i32_1250
  v3287

@[reducible] def k1_t69_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off349 (v3248 : BitVec 32) (k1_t69 : Fin k1_t69_loop.trips) : Fin 2 → Nat :=
  let c0_i32_1453 : BitVec 32 := 0#32
  let c1_i32_1455 : BitVec 32 := 1#32
  let arg19 : BitVec 32 := Scf.iv c0_i32_1453 c1_i32_1455 k1_t69
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3248 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off350 (v3246 : BitVec 32) (k1_t69 : Fin k1_t69_loop.trips) : Fin 2 → Nat :=
  let c0_i32_1236 : BitVec 32 := 0#32
  let v3250 : BitVec 1 := Scalar.cmpi .sgt v3246 c0_i32_1236
  let v3251 : BitVec 32 := Scalar.extui v3250
  let c0_i32_1237 : BitVec 32 := 0#32
  let v3252 : BitVec 1 := Scalar.cmpi .slt v3246 c0_i32_1237
  let v3253 : BitVec 32 := Scalar.extui v3252
  let v3254 : BitVec 32 := Scalar.subi v3251 v3253
  let c16_i32_1235 : BitVec 32 := 16#32
  let c0_i32_1238 : BitVec 32 := 0#32
  let v3255 : BitVec 1 := Scalar.cmpi .sgt c16_i32_1235 c0_i32_1238
  let v3256 : BitVec 32 := Scalar.extui v3255
  let c0_i32_1239 : BitVec 32 := 0#32
  let v3257 : BitVec 1 := Scalar.cmpi .slt c16_i32_1235 c0_i32_1239
  let v3258 : BitVec 32 := Scalar.extui v3257
  let v3259 : BitVec 32 := Scalar.subi v3256 v3258
  let v3260 : BitVec 1 := Scalar.cmpi .ne v3254 v3259
  let v3261 : BitVec 32 := Scalar.remsi v3246 c16_i32_1235
  let c0_i32_1240 : BitVec 32 := 0#32
  let v3262 : BitVec 1 := Scalar.cmpi .ne v3261 c0_i32_1240
  let v3263 : BitVec 1 := Scalar.andi v3260 v3262
  let v3249 : BitVec 32 := Scalar.divsi v3246 c16_i32_1235
  let c1_i32_1241 : BitVec 32 := 1#32
  let v3264 : BitVec 32 := Scalar.subi v3249 c1_i32_1241
  let v3265 : BitVec 32 := Scalar.select v3263 v3264 v3249
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3265 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t69
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3246 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off351 (v3248 : BitVec 32) (k1_t69 : Fin k1_t69_loop.trips) : Fin 2 → Nat :=
  let c0_i32_1453 : BitVec 32 := 0#32
  let c1_i32_1455 : BitVec 32 := 1#32
  let arg19 : BitVec 32 := Scf.iv c0_i32_1453 c1_i32_1455 k1_t69
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3248 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk137 (i : grid1.Coords) (v25 : BitVec 32) (v3246 : BitVec 32) (v3248 : BitVec 32) : Prop :=
  (∀ (k1_h69 : k1_cond69 i v25 v3246 = 1#1), ∀ a, (k1_off348 i v3248) a + S32x512.size a ≤ S4096x512.size a) ∧
  (∀ k1_t69 : Fin k1_t69_loop.trips, ∀ (k1_h69 : k1_cond69 i v25 v3246 = 1#1), ∀ a, (k1_off349 v3248 k1_t69) a + S1x16.size a ≤ S32x512.size a) ∧
  (∀ k1_t69 : Fin k1_t69_loop.trips, ∀ (k1_h69 : k1_cond69 i v25 v3246 = 1#1), ∀ a, (k1_off351 v3248 k1_t69) a + S1x16.size a ≤ S32x512.size a)
theorem k1_off348_inb : ∀ (i : grid1.Coords) (v25 : BitVec 32) (v3246 : BitVec 32) (v3248 : BitVec 32) (k1_hw137 : k1_chk137 i v25 v3246 v3248), ∀ (k1_h69 : k1_cond69 i v25 v3246 = 1#1), ∀ a, (k1_off348 i v3248) a + S32x512.size a ≤ S4096x512.size a := fun i v25 v3246 v3248 k1_hw137 k1_h69 => k1_hw137.1 k1_h69
theorem k1_off349_inb : ∀ (i : grid1.Coords) (v25 : BitVec 32) (v3246 : BitVec 32) (v3248 : BitVec 32) (k1_hw137 : k1_chk137 i v25 v3246 v3248) (k1_t69 : Fin k1_t69_loop.trips), ∀ (k1_h69 : k1_cond69 i v25 v3246 = 1#1), ∀ a, (k1_off349 v3248 k1_t69) a + S1x16.size a ≤ S32x512.size a := fun i v25 v3246 v3248 k1_hw137 k1_t69 k1_h69 => k1_hw137.2.1 k1_t69 k1_h69
theorem k1_off351_inb : ∀ (i : grid1.Coords) (v25 : BitVec 32) (v3246 : BitVec 32) (v3248 : BitVec 32) (k1_hw137 : k1_chk137 i v25 v3246 v3248) (k1_t69 : Fin k1_t69_loop.trips), ∀ (k1_h69 : k1_cond69 i v25 v3246 = 1#1), ∀ a, (k1_off351 v3248 k1_t69) a + S1x16.size a ≤ S32x512.size a := fun i v25 v3246 v3248 k1_hw137 k1_t69 k1_h69 => k1_hw137.2.2 k1_t69 k1_h69

def k1_off352 (v3246 : BitVec 32) (k1_t69 : Fin k1_t69_loop.trips) : Fin 2 → Nat :=
  let c0_i32_1236 : BitVec 32 := 0#32
  let v3250 : BitVec 1 := Scalar.cmpi .sgt v3246 c0_i32_1236
  let v3251 : BitVec 32 := Scalar.extui v3250
  let c0_i32_1237 : BitVec 32 := 0#32
  let v3252 : BitVec 1 := Scalar.cmpi .slt v3246 c0_i32_1237
  let v3253 : BitVec 32 := Scalar.extui v3252
  let v3254 : BitVec 32 := Scalar.subi v3251 v3253
  let c16_i32_1235 : BitVec 32 := 16#32
  let c0_i32_1238 : BitVec 32 := 0#32
  let v3255 : BitVec 1 := Scalar.cmpi .sgt c16_i32_1235 c0_i32_1238
  let v3256 : BitVec 32 := Scalar.extui v3255
  let c0_i32_1239 : BitVec 32 := 0#32
  let v3257 : BitVec 1 := Scalar.cmpi .slt c16_i32_1235 c0_i32_1239
  let v3258 : BitVec 32 := Scalar.extui v3257
  let v3259 : BitVec 32 := Scalar.subi v3256 v3258
  let v3260 : BitVec 1 := Scalar.cmpi .ne v3254 v3259
  let v3261 : BitVec 32 := Scalar.remsi v3246 c16_i32_1235
  let c0_i32_1240 : BitVec 32 := 0#32
  let v3262 : BitVec 1 := Scalar.cmpi .ne v3261 c0_i32_1240
  let v3263 : BitVec 1 := Scalar.andi v3260 v3262
  let v3249 : BitVec 32 := Scalar.divsi v3246 c16_i32_1235
  let c1_i32_1241 : BitVec 32 := 1#32
  let v3264 : BitVec 32 := Scalar.subi v3249 c1_i32_1241
  let v3265 : BitVec 32 := Scalar.select v3263 v3264 v3249
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3265 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t69
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3246 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk138 (i : grid1.Coords) (v25 : BitVec 32) (v3246 : BitVec 32) : Prop :=
  (∀ k1_t69 : Fin k1_t69_loop.trips, ∀ (k1_h69 : k1_cond69 i v25 v3246 = 1#1), ∀ a, (k1_off350 v3246 k1_t69) a + S1x16.size a ≤ S128x512.size a) ∧
  (∀ k1_t69 : Fin k1_t69_loop.trips, ∀ (k1_h69 : k1_cond69 i v25 v3246 = 1#1), ∀ a, (k1_off352 v3246 k1_t69) a + S1x16.size a ≤ S128x512.size a)
theorem k1_off350_inb : ∀ (i : grid1.Coords) (v25 : BitVec 32) (v3246 : BitVec 32) (k1_hw138 : k1_chk138 i v25 v3246) (k1_t69 : Fin k1_t69_loop.trips), ∀ (k1_h69 : k1_cond69 i v25 v3246 = 1#1), ∀ a, (k1_off350 v3246 k1_t69) a + S1x16.size a ≤ S128x512.size a := fun i v25 v3246 k1_hw138 k1_t69 k1_h69 => k1_hw138.1 k1_t69 k1_h69
theorem k1_off352_inb : ∀ (i : grid1.Coords) (v25 : BitVec 32) (v3246 : BitVec 32) (k1_hw138 : k1_chk138 i v25 v3246) (k1_t69 : Fin k1_t69_loop.trips), ∀ (k1_h69 : k1_cond69 i v25 v3246 = 1#1), ∀ a, (k1_off352 v3246 k1_t69) a + S1x16.size a ≤ S128x512.size a := fun i v25 v3246 k1_hw138 k1_t69 k1_h69 => k1_hw138.2 k1_t69 k1_h69

def k1_off353 (i : grid1.Coords) (v3291 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3291 c0_i32_1428
  let v3763 : BitVec 32 := Scalar.extui v3762
  let c0_i32_1429 : BitVec 32 := 0#32
  let v3764 : BitVec 1 := Scalar.cmpi .slt v3291 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3291 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3291 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r81 : BitVec 32 := 0#32
  ![v3779.toNat, 0]
def k1_cond70 (i : grid1.Coords) (v25 : BitVec 32) (v3289 : BitVec 32) : BitVec 1 :=
  let c5_i32_1258 : BitVec 32 := 5#32
  let v3309 : BitVec 1 := Scalar.cmpi .sgt v25 c5_i32_1258
  let c0_i32_1252 : BitVec 32 := 0#32
  let v3293 : BitVec 1 := Scalar.cmpi .sgt v3289 c0_i32_1252
  let v3294 : BitVec 32 := Scalar.extui v3293
  let c0_i32_1253 : BitVec 32 := 0#32
  let v3295 : BitVec 1 := Scalar.cmpi .slt v3289 c0_i32_1253
  let v3296 : BitVec 32 := Scalar.extui v3295
  let v3297 : BitVec 32 := Scalar.subi v3294 v3296
  let c16_i32_1251 : BitVec 32 := 16#32
  let c0_i32_1254 : BitVec 32 := 0#32
  let v3298 : BitVec 1 := Scalar.cmpi .sgt c16_i32_1251 c0_i32_1254
  let v3299 : BitVec 32 := Scalar.extui v3298
  let c0_i32_1255 : BitVec 32 := 0#32
  let v3300 : BitVec 1 := Scalar.cmpi .slt c16_i32_1251 c0_i32_1255
  let v3301 : BitVec 32 := Scalar.extui v3300
  let v3302 : BitVec 32 := Scalar.subi v3299 v3301
  let v3303 : BitVec 1 := Scalar.cmpi .ne v3297 v3302
  let v3304 : BitVec 32 := Scalar.remsi v3289 c16_i32_1251
  let c0_i32_1256 : BitVec 32 := 0#32
  let v3305 : BitVec 1 := Scalar.cmpi .ne v3304 c0_i32_1256
  let v3306 : BitVec 1 := Scalar.andi v3303 v3305
  let v3292 : BitVec 32 := Scalar.divsi v3289 c16_i32_1251
  let c1_i32_1257 : BitVec 32 := 1#32
  let v3307 : BitVec 32 := Scalar.subi v3292 c1_i32_1257
  let v3308 : BitVec 32 := Scalar.select v3306 v3307 v3292
  let c0_i32_1260 : BitVec 32 := 0#32
  let v3311 : BitVec 1 := Scalar.cmpi .sgt v3308 c0_i32_1260
  let v3312 : BitVec 32 := Scalar.extui v3311
  let c0_i32_1261 : BitVec 32 := 0#32
  let v3313 : BitVec 1 := Scalar.cmpi .slt v3308 c0_i32_1261
  let v3314 : BitVec 32 := Scalar.extui v3313
  let v3315 : BitVec 32 := Scalar.subi v3312 v3314
  let c4_i32_1259 : BitVec 32 := 4#32
  let c0_i32_1262 : BitVec 32 := 0#32
  let v3316 : BitVec 1 := Scalar.cmpi .sgt c4_i32_1259 c0_i32_1262
  let v3317 : BitVec 32 := Scalar.extui v3316
  let c0_i32_1263 : BitVec 32 := 0#32
  let v3318 : BitVec 1 := Scalar.cmpi .slt c4_i32_1259 c0_i32_1263
  let v3319 : BitVec 32 := Scalar.extui v3318
  let v3320 : BitVec 32 := Scalar.subi v3317 v3319
  let v3321 : BitVec 1 := Scalar.cmpi .ne v3315 v3320
  let v3322 : BitVec 32 := Scalar.remsi v3308 c4_i32_1259
  let c0_i32_1264 : BitVec 32 := 0#32
  let v3323 : BitVec 1 := Scalar.cmpi .ne v3322 c0_i32_1264
  let v3324 : BitVec 1 := Scalar.andi v3321 v3323
  let v3310 : BitVec 32 := Scalar.divsi v3308 c4_i32_1259
  let c1_i32_1265 : BitVec 32 := 1#32
  let v3325 : BitVec 32 := Scalar.subi v3310 c1_i32_1265
  let v3326 : BitVec 32 := Scalar.select v3324 v3325 v3310
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3327 : BitVec 1 := Scalar.cmpi .eq v3326 v3072
  let v3328 : BitVec 1 := Scalar.andi v3309 v3327
  let v3329 : BitVec 32 := Scalar.extui v3328
  let c0_i32_1266 : BitVec 32 := 0#32
  let v3330 : BitVec 1 := Scalar.cmpi .ne v3329 c0_i32_1266
  v3330

@[reducible] def k1_t70_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off354 (v3291 : BitVec 32) (k1_t70 : Fin k1_t70_loop.trips) : Fin 2 → Nat :=
  let c0_i32_1453 : BitVec 32 := 0#32
  let c1_i32_1455 : BitVec 32 := 1#32
  let arg19 : BitVec 32 := Scf.iv c0_i32_1453 c1_i32_1455 k1_t70
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3291 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off355 (v3289 : BitVec 32) (k1_t70 : Fin k1_t70_loop.trips) : Fin 2 → Nat :=
  let c0_i32_1252 : BitVec 32 := 0#32
  let v3293 : BitVec 1 := Scalar.cmpi .sgt v3289 c0_i32_1252
  let v3294 : BitVec 32 := Scalar.extui v3293
  let c0_i32_1253 : BitVec 32 := 0#32
  let v3295 : BitVec 1 := Scalar.cmpi .slt v3289 c0_i32_1253
  let v3296 : BitVec 32 := Scalar.extui v3295
  let v3297 : BitVec 32 := Scalar.subi v3294 v3296
  let c16_i32_1251 : BitVec 32 := 16#32
  let c0_i32_1254 : BitVec 32 := 0#32
  let v3298 : BitVec 1 := Scalar.cmpi .sgt c16_i32_1251 c0_i32_1254
  let v3299 : BitVec 32 := Scalar.extui v3298
  let c0_i32_1255 : BitVec 32 := 0#32
  let v3300 : BitVec 1 := Scalar.cmpi .slt c16_i32_1251 c0_i32_1255
  let v3301 : BitVec 32 := Scalar.extui v3300
  let v3302 : BitVec 32 := Scalar.subi v3299 v3301
  let v3303 : BitVec 1 := Scalar.cmpi .ne v3297 v3302
  let v3304 : BitVec 32 := Scalar.remsi v3289 c16_i32_1251
  let c0_i32_1256 : BitVec 32 := 0#32
  let v3305 : BitVec 1 := Scalar.cmpi .ne v3304 c0_i32_1256
  let v3306 : BitVec 1 := Scalar.andi v3303 v3305
  let v3292 : BitVec 32 := Scalar.divsi v3289 c16_i32_1251
  let c1_i32_1257 : BitVec 32 := 1#32
  let v3307 : BitVec 32 := Scalar.subi v3292 c1_i32_1257
  let v3308 : BitVec 32 := Scalar.select v3306 v3307 v3292
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3308 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t70
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3289 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off356 (v3291 : BitVec 32) (k1_t70 : Fin k1_t70_loop.trips) : Fin 2 → Nat :=
  let c0_i32_1453 : BitVec 32 := 0#32
  let c1_i32_1455 : BitVec 32 := 1#32
  let arg19 : BitVec 32 := Scf.iv c0_i32_1453 c1_i32_1455 k1_t70
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3291 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk139 (i : grid1.Coords) (v25 : BitVec 32) (v3289 : BitVec 32) (v3291 : BitVec 32) : Prop :=
  (∀ (k1_h70 : k1_cond70 i v25 v3289 = 1#1), ∀ a, (k1_off353 i v3291) a + S32x512.size a ≤ S4096x512.size a) ∧
  (∀ k1_t70 : Fin k1_t70_loop.trips, ∀ (k1_h70 : k1_cond70 i v25 v3289 = 1#1), ∀ a, (k1_off354 v3291 k1_t70) a + S1x16.size a ≤ S32x512.size a) ∧
  (∀ k1_t70 : Fin k1_t70_loop.trips, ∀ (k1_h70 : k1_cond70 i v25 v3289 = 1#1), ∀ a, (k1_off356 v3291 k1_t70) a + S1x16.size a ≤ S32x512.size a)
theorem k1_off353_inb : ∀ (i : grid1.Coords) (v25 : BitVec 32) (v3289 : BitVec 32) (v3291 : BitVec 32) (k1_hw139 : k1_chk139 i v25 v3289 v3291), ∀ (k1_h70 : k1_cond70 i v25 v3289 = 1#1), ∀ a, (k1_off353 i v3291) a + S32x512.size a ≤ S4096x512.size a := fun i v25 v3289 v3291 k1_hw139 k1_h70 => k1_hw139.1 k1_h70
theorem k1_off354_inb : ∀ (i : grid1.Coords) (v25 : BitVec 32) (v3289 : BitVec 32) (v3291 : BitVec 32) (k1_hw139 : k1_chk139 i v25 v3289 v3291) (k1_t70 : Fin k1_t70_loop.trips), ∀ (k1_h70 : k1_cond70 i v25 v3289 = 1#1), ∀ a, (k1_off354 v3291 k1_t70) a + S1x16.size a ≤ S32x512.size a := fun i v25 v3289 v3291 k1_hw139 k1_t70 k1_h70 => k1_hw139.2.1 k1_t70 k1_h70
theorem k1_off356_inb : ∀ (i : grid1.Coords) (v25 : BitVec 32) (v3289 : BitVec 32) (v3291 : BitVec 32) (k1_hw139 : k1_chk139 i v25 v3289 v3291) (k1_t70 : Fin k1_t70_loop.trips), ∀ (k1_h70 : k1_cond70 i v25 v3289 = 1#1), ∀ a, (k1_off356 v3291 k1_t70) a + S1x16.size a ≤ S32x512.size a := fun i v25 v3289 v3291 k1_hw139 k1_t70 k1_h70 => k1_hw139.2.2 k1_t70 k1_h70

def k1_off357 (v3289 : BitVec 32) (k1_t70 : Fin k1_t70_loop.trips) : Fin 2 → Nat :=
  let c0_i32_1252 : BitVec 32 := 0#32
  let v3293 : BitVec 1 := Scalar.cmpi .sgt v3289 c0_i32_1252
  let v3294 : BitVec 32 := Scalar.extui v3293
  let c0_i32_1253 : BitVec 32 := 0#32
  let v3295 : BitVec 1 := Scalar.cmpi .slt v3289 c0_i32_1253
  let v3296 : BitVec 32 := Scalar.extui v3295
  let v3297 : BitVec 32 := Scalar.subi v3294 v3296
  let c16_i32_1251 : BitVec 32 := 16#32
  let c0_i32_1254 : BitVec 32 := 0#32
  let v3298 : BitVec 1 := Scalar.cmpi .sgt c16_i32_1251 c0_i32_1254
  let v3299 : BitVec 32 := Scalar.extui v3298
  let c0_i32_1255 : BitVec 32 := 0#32
  let v3300 : BitVec 1 := Scalar.cmpi .slt c16_i32_1251 c0_i32_1255
  let v3301 : BitVec 32 := Scalar.extui v3300
  let v3302 : BitVec 32 := Scalar.subi v3299 v3301
  let v3303 : BitVec 1 := Scalar.cmpi .ne v3297 v3302
  let v3304 : BitVec 32 := Scalar.remsi v3289 c16_i32_1251
  let c0_i32_1256 : BitVec 32 := 0#32
  let v3305 : BitVec 1 := Scalar.cmpi .ne v3304 c0_i32_1256
  let v3306 : BitVec 1 := Scalar.andi v3303 v3305
  let v3292 : BitVec 32 := Scalar.divsi v3289 c16_i32_1251
  let c1_i32_1257 : BitVec 32 := 1#32
  let v3307 : BitVec 32 := Scalar.subi v3292 c1_i32_1257
  let v3308 : BitVec 32 := Scalar.select v3306 v3307 v3292
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3308 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t70
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3289 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk140 (i : grid1.Coords) (v25 : BitVec 32) (v3289 : BitVec 32) : Prop :=
  (∀ k1_t70 : Fin k1_t70_loop.trips, ∀ (k1_h70 : k1_cond70 i v25 v3289 = 1#1), ∀ a, (k1_off355 v3289 k1_t70) a + S1x16.size a ≤ S128x512.size a) ∧
  (∀ k1_t70 : Fin k1_t70_loop.trips, ∀ (k1_h70 : k1_cond70 i v25 v3289 = 1#1), ∀ a, (k1_off357 v3289 k1_t70) a + S1x16.size a ≤ S128x512.size a)
theorem k1_off355_inb : ∀ (i : grid1.Coords) (v25 : BitVec 32) (v3289 : BitVec 32) (k1_hw140 : k1_chk140 i v25 v3289) (k1_t70 : Fin k1_t70_loop.trips), ∀ (k1_h70 : k1_cond70 i v25 v3289 = 1#1), ∀ a, (k1_off355 v3289 k1_t70) a + S1x16.size a ≤ S128x512.size a := fun i v25 v3289 k1_hw140 k1_t70 k1_h70 => k1_hw140.1 k1_t70 k1_h70
theorem k1_off357_inb : ∀ (i : grid1.Coords) (v25 : BitVec 32) (v3289 : BitVec 32) (k1_hw140 : k1_chk140 i v25 v3289) (k1_t70 : Fin k1_t70_loop.trips), ∀ (k1_h70 : k1_cond70 i v25 v3289 = 1#1), ∀ a, (k1_off357 v3289 k1_t70) a + S1x16.size a ≤ S128x512.size a := fun i v25 v3289 k1_hw140 k1_t70 k1_h70 => k1_hw140.2 k1_t70 k1_h70

def k1_off358 (i : grid1.Coords) (v3334 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3334 c0_i32_1428
  let v3763 : BitVec 32 := Scalar.extui v3762
  let c0_i32_1429 : BitVec 32 := 0#32
  let v3764 : BitVec 1 := Scalar.cmpi .slt v3334 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3334 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3334 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r82 : BitVec 32 := 0#32
  ![v3779.toNat, 0]
def k1_cond71 (i : grid1.Coords) (v25 : BitVec 32) (v3332 : BitVec 32) : BitVec 1 :=
  let c6_i32_1274 : BitVec 32 := 6#32
  let v3352 : BitVec 1 := Scalar.cmpi .sgt v25 c6_i32_1274
  let c0_i32_1268 : BitVec 32 := 0#32
  let v3336 : BitVec 1 := Scalar.cmpi .sgt v3332 c0_i32_1268
  let v3337 : BitVec 32 := Scalar.extui v3336
  let c0_i32_1269 : BitVec 32 := 0#32
  let v3338 : BitVec 1 := Scalar.cmpi .slt v3332 c0_i32_1269
  let v3339 : BitVec 32 := Scalar.extui v3338
  let v3340 : BitVec 32 := Scalar.subi v3337 v3339
  let c16_i32_1267 : BitVec 32 := 16#32
  let c0_i32_1270 : BitVec 32 := 0#32
  let v3341 : BitVec 1 := Scalar.cmpi .sgt c16_i32_1267 c0_i32_1270
  let v3342 : BitVec 32 := Scalar.extui v3341
  let c0_i32_1271 : BitVec 32 := 0#32
  let v3343 : BitVec 1 := Scalar.cmpi .slt c16_i32_1267 c0_i32_1271
  let v3344 : BitVec 32 := Scalar.extui v3343
  let v3345 : BitVec 32 := Scalar.subi v3342 v3344
  let v3346 : BitVec 1 := Scalar.cmpi .ne v3340 v3345
  let v3347 : BitVec 32 := Scalar.remsi v3332 c16_i32_1267
  let c0_i32_1272 : BitVec 32 := 0#32
  let v3348 : BitVec 1 := Scalar.cmpi .ne v3347 c0_i32_1272
  let v3349 : BitVec 1 := Scalar.andi v3346 v3348
  let v3335 : BitVec 32 := Scalar.divsi v3332 c16_i32_1267
  let c1_i32_1273 : BitVec 32 := 1#32
  let v3350 : BitVec 32 := Scalar.subi v3335 c1_i32_1273
  let v3351 : BitVec 32 := Scalar.select v3349 v3350 v3335
  let c0_i32_1276 : BitVec 32 := 0#32
  let v3354 : BitVec 1 := Scalar.cmpi .sgt v3351 c0_i32_1276
  let v3355 : BitVec 32 := Scalar.extui v3354
  let c0_i32_1277 : BitVec 32 := 0#32
  let v3356 : BitVec 1 := Scalar.cmpi .slt v3351 c0_i32_1277
  let v3357 : BitVec 32 := Scalar.extui v3356
  let v3358 : BitVec 32 := Scalar.subi v3355 v3357
  let c4_i32_1275 : BitVec 32 := 4#32
  let c0_i32_1278 : BitVec 32 := 0#32
  let v3359 : BitVec 1 := Scalar.cmpi .sgt c4_i32_1275 c0_i32_1278
  let v3360 : BitVec 32 := Scalar.extui v3359
  let c0_i32_1279 : BitVec 32 := 0#32
  let v3361 : BitVec 1 := Scalar.cmpi .slt c4_i32_1275 c0_i32_1279
  let v3362 : BitVec 32 := Scalar.extui v3361
  let v3363 : BitVec 32 := Scalar.subi v3360 v3362
  let v3364 : BitVec 1 := Scalar.cmpi .ne v3358 v3363
  let v3365 : BitVec 32 := Scalar.remsi v3351 c4_i32_1275
  let c0_i32_1280 : BitVec 32 := 0#32
  let v3366 : BitVec 1 := Scalar.cmpi .ne v3365 c0_i32_1280
  let v3367 : BitVec 1 := Scalar.andi v3364 v3366
  let v3353 : BitVec 32 := Scalar.divsi v3351 c4_i32_1275
  let c1_i32_1281 : BitVec 32 := 1#32
  let v3368 : BitVec 32 := Scalar.subi v3353 c1_i32_1281
  let v3369 : BitVec 32 := Scalar.select v3367 v3368 v3353
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3370 : BitVec 1 := Scalar.cmpi .eq v3369 v3072
  let v3371 : BitVec 1 := Scalar.andi v3352 v3370
  let v3372 : BitVec 32 := Scalar.extui v3371
  let c0_i32_1282 : BitVec 32 := 0#32
  let v3373 : BitVec 1 := Scalar.cmpi .ne v3372 c0_i32_1282
  v3373

@[reducible] def k1_t71_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off359 (v3334 : BitVec 32) (k1_t71 : Fin k1_t71_loop.trips) : Fin 2 → Nat :=
  let c0_i32_1453 : BitVec 32 := 0#32
  let c1_i32_1455 : BitVec 32 := 1#32
  let arg19 : BitVec 32 := Scf.iv c0_i32_1453 c1_i32_1455 k1_t71
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3334 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off360 (v3332 : BitVec 32) (k1_t71 : Fin k1_t71_loop.trips) : Fin 2 → Nat :=
  let c0_i32_1268 : BitVec 32 := 0#32
  let v3336 : BitVec 1 := Scalar.cmpi .sgt v3332 c0_i32_1268
  let v3337 : BitVec 32 := Scalar.extui v3336
  let c0_i32_1269 : BitVec 32 := 0#32
  let v3338 : BitVec 1 := Scalar.cmpi .slt v3332 c0_i32_1269
  let v3339 : BitVec 32 := Scalar.extui v3338
  let v3340 : BitVec 32 := Scalar.subi v3337 v3339
  let c16_i32_1267 : BitVec 32 := 16#32
  let c0_i32_1270 : BitVec 32 := 0#32
  let v3341 : BitVec 1 := Scalar.cmpi .sgt c16_i32_1267 c0_i32_1270
  let v3342 : BitVec 32 := Scalar.extui v3341
  let c0_i32_1271 : BitVec 32 := 0#32
  let v3343 : BitVec 1 := Scalar.cmpi .slt c16_i32_1267 c0_i32_1271
  let v3344 : BitVec 32 := Scalar.extui v3343
  let v3345 : BitVec 32 := Scalar.subi v3342 v3344
  let v3346 : BitVec 1 := Scalar.cmpi .ne v3340 v3345
  let v3347 : BitVec 32 := Scalar.remsi v3332 c16_i32_1267
  let c0_i32_1272 : BitVec 32 := 0#32
  let v3348 : BitVec 1 := Scalar.cmpi .ne v3347 c0_i32_1272
  let v3349 : BitVec 1 := Scalar.andi v3346 v3348
  let v3335 : BitVec 32 := Scalar.divsi v3332 c16_i32_1267
  let c1_i32_1273 : BitVec 32 := 1#32
  let v3350 : BitVec 32 := Scalar.subi v3335 c1_i32_1273
  let v3351 : BitVec 32 := Scalar.select v3349 v3350 v3335
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3351 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t71
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3332 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off361 (v3334 : BitVec 32) (k1_t71 : Fin k1_t71_loop.trips) : Fin 2 → Nat :=
  let c0_i32_1453 : BitVec 32 := 0#32
  let c1_i32_1455 : BitVec 32 := 1#32
  let arg19 : BitVec 32 := Scf.iv c0_i32_1453 c1_i32_1455 k1_t71
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3334 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk141 (i : grid1.Coords) (v25 : BitVec 32) (v3332 : BitVec 32) (v3334 : BitVec 32) : Prop :=
  (∀ (k1_h71 : k1_cond71 i v25 v3332 = 1#1), ∀ a, (k1_off358 i v3334) a + S32x512.size a ≤ S4096x512.size a) ∧
  (∀ k1_t71 : Fin k1_t71_loop.trips, ∀ (k1_h71 : k1_cond71 i v25 v3332 = 1#1), ∀ a, (k1_off359 v3334 k1_t71) a + S1x16.size a ≤ S32x512.size a) ∧
  (∀ k1_t71 : Fin k1_t71_loop.trips, ∀ (k1_h71 : k1_cond71 i v25 v3332 = 1#1), ∀ a, (k1_off361 v3334 k1_t71) a + S1x16.size a ≤ S32x512.size a)
theorem k1_off358_inb : ∀ (i : grid1.Coords) (v25 : BitVec 32) (v3332 : BitVec 32) (v3334 : BitVec 32) (k1_hw141 : k1_chk141 i v25 v3332 v3334), ∀ (k1_h71 : k1_cond71 i v25 v3332 = 1#1), ∀ a, (k1_off358 i v3334) a + S32x512.size a ≤ S4096x512.size a := fun i v25 v3332 v3334 k1_hw141 k1_h71 => k1_hw141.1 k1_h71
theorem k1_off359_inb : ∀ (i : grid1.Coords) (v25 : BitVec 32) (v3332 : BitVec 32) (v3334 : BitVec 32) (k1_hw141 : k1_chk141 i v25 v3332 v3334) (k1_t71 : Fin k1_t71_loop.trips), ∀ (k1_h71 : k1_cond71 i v25 v3332 = 1#1), ∀ a, (k1_off359 v3334 k1_t71) a + S1x16.size a ≤ S32x512.size a := fun i v25 v3332 v3334 k1_hw141 k1_t71 k1_h71 => k1_hw141.2.1 k1_t71 k1_h71
theorem k1_off361_inb : ∀ (i : grid1.Coords) (v25 : BitVec 32) (v3332 : BitVec 32) (v3334 : BitVec 32) (k1_hw141 : k1_chk141 i v25 v3332 v3334) (k1_t71 : Fin k1_t71_loop.trips), ∀ (k1_h71 : k1_cond71 i v25 v3332 = 1#1), ∀ a, (k1_off361 v3334 k1_t71) a + S1x16.size a ≤ S32x512.size a := fun i v25 v3332 v3334 k1_hw141 k1_t71 k1_h71 => k1_hw141.2.2 k1_t71 k1_h71

def k1_off362 (v3332 : BitVec 32) (k1_t71 : Fin k1_t71_loop.trips) : Fin 2 → Nat :=
  let c0_i32_1268 : BitVec 32 := 0#32
  let v3336 : BitVec 1 := Scalar.cmpi .sgt v3332 c0_i32_1268
  let v3337 : BitVec 32 := Scalar.extui v3336
  let c0_i32_1269 : BitVec 32 := 0#32
  let v3338 : BitVec 1 := Scalar.cmpi .slt v3332 c0_i32_1269
  let v3339 : BitVec 32 := Scalar.extui v3338
  let v3340 : BitVec 32 := Scalar.subi v3337 v3339
  let c16_i32_1267 : BitVec 32 := 16#32
  let c0_i32_1270 : BitVec 32 := 0#32
  let v3341 : BitVec 1 := Scalar.cmpi .sgt c16_i32_1267 c0_i32_1270
  let v3342 : BitVec 32 := Scalar.extui v3341
  let c0_i32_1271 : BitVec 32 := 0#32
  let v3343 : BitVec 1 := Scalar.cmpi .slt c16_i32_1267 c0_i32_1271
  let v3344 : BitVec 32 := Scalar.extui v3343
  let v3345 : BitVec 32 := Scalar.subi v3342 v3344
  let v3346 : BitVec 1 := Scalar.cmpi .ne v3340 v3345
  let v3347 : BitVec 32 := Scalar.remsi v3332 c16_i32_1267
  let c0_i32_1272 : BitVec 32 := 0#32
  let v3348 : BitVec 1 := Scalar.cmpi .ne v3347 c0_i32_1272
  let v3349 : BitVec 1 := Scalar.andi v3346 v3348
  let v3335 : BitVec 32 := Scalar.divsi v3332 c16_i32_1267
  let c1_i32_1273 : BitVec 32 := 1#32
  let v3350 : BitVec 32 := Scalar.subi v3335 c1_i32_1273
  let v3351 : BitVec 32 := Scalar.select v3349 v3350 v3335
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3351 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t71
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3332 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk142 (i : grid1.Coords) (v25 : BitVec 32) (v3332 : BitVec 32) : Prop :=
  (∀ k1_t71 : Fin k1_t71_loop.trips, ∀ (k1_h71 : k1_cond71 i v25 v3332 = 1#1), ∀ a, (k1_off360 v3332 k1_t71) a + S1x16.size a ≤ S128x512.size a) ∧
  (∀ k1_t71 : Fin k1_t71_loop.trips, ∀ (k1_h71 : k1_cond71 i v25 v3332 = 1#1), ∀ a, (k1_off362 v3332 k1_t71) a + S1x16.size a ≤ S128x512.size a)
theorem k1_off360_inb : ∀ (i : grid1.Coords) (v25 : BitVec 32) (v3332 : BitVec 32) (k1_hw142 : k1_chk142 i v25 v3332) (k1_t71 : Fin k1_t71_loop.trips), ∀ (k1_h71 : k1_cond71 i v25 v3332 = 1#1), ∀ a, (k1_off360 v3332 k1_t71) a + S1x16.size a ≤ S128x512.size a := fun i v25 v3332 k1_hw142 k1_t71 k1_h71 => k1_hw142.1 k1_t71 k1_h71
theorem k1_off362_inb : ∀ (i : grid1.Coords) (v25 : BitVec 32) (v3332 : BitVec 32) (k1_hw142 : k1_chk142 i v25 v3332) (k1_t71 : Fin k1_t71_loop.trips), ∀ (k1_h71 : k1_cond71 i v25 v3332 = 1#1), ∀ a, (k1_off362 v3332 k1_t71) a + S1x16.size a ≤ S128x512.size a := fun i v25 v3332 k1_hw142 k1_t71 k1_h71 => k1_hw142.2 k1_t71 k1_h71

def k1_off363 (i : grid1.Coords) (v3377 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3377 c0_i32_1428
  let v3763 : BitVec 32 := Scalar.extui v3762
  let c0_i32_1429 : BitVec 32 := 0#32
  let v3764 : BitVec 1 := Scalar.cmpi .slt v3377 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3377 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3377 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r83 : BitVec 32 := 0#32
  ![v3779.toNat, 0]

variable {F : FTy → Type} [FloatOps F]

def k1_cond72 (i : grid1.Coords) (v25 : BitVec 32) (v3375 : BitVec 32) : BitVec 1 :=
  let c7_i32_1290 : BitVec 32 := 7#32
  let v3395 : BitVec 1 := Scalar.cmpi .sgt v25 c7_i32_1290
  let c0_i32_1284 : BitVec 32 := 0#32
  let v3379 : BitVec 1 := Scalar.cmpi .sgt v3375 c0_i32_1284
  let v3380 : BitVec 32 := Scalar.extui v3379
  let c0_i32_1285 : BitVec 32 := 0#32
  let v3381 : BitVec 1 := Scalar.cmpi .slt v3375 c0_i32_1285
  let v3382 : BitVec 32 := Scalar.extui v3381
  let v3383 : BitVec 32 := Scalar.subi v3380 v3382
  let c16_i32_1283 : BitVec 32 := 16#32
  let c0_i32_1286 : BitVec 32 := 0#32
  let v3384 : BitVec 1 := Scalar.cmpi .sgt c16_i32_1283 c0_i32_1286
  let v3385 : BitVec 32 := Scalar.extui v3384
  let c0_i32_1287 : BitVec 32 := 0#32
  let v3386 : BitVec 1 := Scalar.cmpi .slt c16_i32_1283 c0_i32_1287
  let v3387 : BitVec 32 := Scalar.extui v3386
  let v3388 : BitVec 32 := Scalar.subi v3385 v3387
  let v3389 : BitVec 1 := Scalar.cmpi .ne v3383 v3388
  let v3390 : BitVec 32 := Scalar.remsi v3375 c16_i32_1283
  let c0_i32_1288 : BitVec 32 := 0#32
  let v3391 : BitVec 1 := Scalar.cmpi .ne v3390 c0_i32_1288
  let v3392 : BitVec 1 := Scalar.andi v3389 v3391
  let v3378 : BitVec 32 := Scalar.divsi v3375 c16_i32_1283
  let c1_i32_1289 : BitVec 32 := 1#32
  let v3393 : BitVec 32 := Scalar.subi v3378 c1_i32_1289
  let v3394 : BitVec 32 := Scalar.select v3392 v3393 v3378
  let c0_i32_1292 : BitVec 32 := 0#32
  let v3397 : BitVec 1 := Scalar.cmpi .sgt v3394 c0_i32_1292
  let v3398 : BitVec 32 := Scalar.extui v3397
  let c0_i32_1293 : BitVec 32 := 0#32
  let v3399 : BitVec 1 := Scalar.cmpi .slt v3394 c0_i32_1293
  let v3400 : BitVec 32 := Scalar.extui v3399
  let v3401 : BitVec 32 := Scalar.subi v3398 v3400
  let c4_i32_1291 : BitVec 32 := 4#32
  let c0_i32_1294 : BitVec 32 := 0#32
  let v3402 : BitVec 1 := Scalar.cmpi .sgt c4_i32_1291 c0_i32_1294
  let v3403 : BitVec 32 := Scalar.extui v3402
  let c0_i32_1295 : BitVec 32 := 0#32
  let v3404 : BitVec 1 := Scalar.cmpi .slt c4_i32_1291 c0_i32_1295
  let v3405 : BitVec 32 := Scalar.extui v3404
  let v3406 : BitVec 32 := Scalar.subi v3403 v3405
  let v3407 : BitVec 1 := Scalar.cmpi .ne v3401 v3406
  let v3408 : BitVec 32 := Scalar.remsi v3394 c4_i32_1291
  let c0_i32_1296 : BitVec 32 := 0#32
  let v3409 : BitVec 1 := Scalar.cmpi .ne v3408 c0_i32_1296
  let v3410 : BitVec 1 := Scalar.andi v3407 v3409
  let v3396 : BitVec 32 := Scalar.divsi v3394 c4_i32_1291
  let c1_i32_1297 : BitVec 32 := 1#32
  let v3411 : BitVec 32 := Scalar.subi v3396 c1_i32_1297
  let v3412 : BitVec 32 := Scalar.select v3410 v3411 v3396
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3413 : BitVec 1 := Scalar.cmpi .eq v3412 v3072
  let v3414 : BitVec 1 := Scalar.andi v3395 v3413
  let v3415 : BitVec 32 := Scalar.extui v3414
  let c0_i32_1298 : BitVec 32 := 0#32
  let v3416 : BitVec 1 := Scalar.cmpi .ne v3415 c0_i32_1298
  v3416

@[reducible] def k1_t72_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off364 (v3377 : BitVec 32) (k1_t72 : Fin k1_t72_loop.trips) : Fin 2 → Nat :=
  let c0_i32_1453 : BitVec 32 := 0#32
  let c1_i32_1455 : BitVec 32 := 1#32
  let arg19 : BitVec 32 := Scf.iv c0_i32_1453 c1_i32_1455 k1_t72
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3377 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off365 (v3375 : BitVec 32) (k1_t72 : Fin k1_t72_loop.trips) : Fin 2 → Nat :=
  let c0_i32_1284 : BitVec 32 := 0#32
  let v3379 : BitVec 1 := Scalar.cmpi .sgt v3375 c0_i32_1284
  let v3380 : BitVec 32 := Scalar.extui v3379
  let c0_i32_1285 : BitVec 32 := 0#32
  let v3381 : BitVec 1 := Scalar.cmpi .slt v3375 c0_i32_1285
  let v3382 : BitVec 32 := Scalar.extui v3381
  let v3383 : BitVec 32 := Scalar.subi v3380 v3382
  let c16_i32_1283 : BitVec 32 := 16#32
  let c0_i32_1286 : BitVec 32 := 0#32
  let v3384 : BitVec 1 := Scalar.cmpi .sgt c16_i32_1283 c0_i32_1286
  let v3385 : BitVec 32 := Scalar.extui v3384
  let c0_i32_1287 : BitVec 32 := 0#32
  let v3386 : BitVec 1 := Scalar.cmpi .slt c16_i32_1283 c0_i32_1287
  let v3387 : BitVec 32 := Scalar.extui v3386
  let v3388 : BitVec 32 := Scalar.subi v3385 v3387
  let v3389 : BitVec 1 := Scalar.cmpi .ne v3383 v3388
  let v3390 : BitVec 32 := Scalar.remsi v3375 c16_i32_1283
  let c0_i32_1288 : BitVec 32 := 0#32
  let v3391 : BitVec 1 := Scalar.cmpi .ne v3390 c0_i32_1288
  let v3392 : BitVec 1 := Scalar.andi v3389 v3391
  let v3378 : BitVec 32 := Scalar.divsi v3375 c16_i32_1283
  let c1_i32_1289 : BitVec 32 := 1#32
  let v3393 : BitVec 32 := Scalar.subi v3378 c1_i32_1289
  let v3394 : BitVec 32 := Scalar.select v3392 v3393 v3378
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3394 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t72
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3375 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off366 (v3377 : BitVec 32) (k1_t72 : Fin k1_t72_loop.trips) : Fin 2 → Nat :=
  let c0_i32_1453 : BitVec 32 := 0#32
  let c1_i32_1455 : BitVec 32 := 1#32
  let arg19 : BitVec 32 := Scf.iv c0_i32_1453 c1_i32_1455 k1_t72
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3377 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk143 (i : grid1.Coords) (v25 : BitVec 32) (v3375 : BitVec 32) (v3377 : BitVec 32) : Prop :=
  (∀ (k1_h72 : k1_cond72 i v25 v3375 = 1#1), ∀ a, (k1_off363 i v3377) a + S32x512.size a ≤ S4096x512.size a) ∧
  (∀ k1_t72 : Fin k1_t72_loop.trips, ∀ (k1_h72 : k1_cond72 i v25 v3375 = 1#1), ∀ a, (k1_off364 v3377 k1_t72) a + S1x16.size a ≤ S32x512.size a) ∧
  (∀ k1_t72 : Fin k1_t72_loop.trips, ∀ (k1_h72 : k1_cond72 i v25 v3375 = 1#1), ∀ a, (k1_off366 v3377 k1_t72) a + S1x16.size a ≤ S32x512.size a)
theorem k1_off363_inb : ∀ (i : grid1.Coords) (v25 : BitVec 32) (v3375 : BitVec 32) (v3377 : BitVec 32) (k1_hw143 : k1_chk143 i v25 v3375 v3377), ∀ (k1_h72 : k1_cond72 i v25 v3375 = 1#1), ∀ a, (k1_off363 i v3377) a + S32x512.size a ≤ S4096x512.size a := fun i v25 v3375 v3377 k1_hw143 k1_h72 => k1_hw143.1 k1_h72
theorem k1_off364_inb : ∀ (i : grid1.Coords) (v25 : BitVec 32) (v3375 : BitVec 32) (v3377 : BitVec 32) (k1_hw143 : k1_chk143 i v25 v3375 v3377) (k1_t72 : Fin k1_t72_loop.trips), ∀ (k1_h72 : k1_cond72 i v25 v3375 = 1#1), ∀ a, (k1_off364 v3377 k1_t72) a + S1x16.size a ≤ S32x512.size a := fun i v25 v3375 v3377 k1_hw143 k1_t72 k1_h72 => k1_hw143.2.1 k1_t72 k1_h72
theorem k1_off366_inb : ∀ (i : grid1.Coords) (v25 : BitVec 32) (v3375 : BitVec 32) (v3377 : BitVec 32) (k1_hw143 : k1_chk143 i v25 v3375 v3377) (k1_t72 : Fin k1_t72_loop.trips), ∀ (k1_h72 : k1_cond72 i v25 v3375 = 1#1), ∀ a, (k1_off366 v3377 k1_t72) a + S1x16.size a ≤ S32x512.size a := fun i v25 v3375 v3377 k1_hw143 k1_t72 k1_h72 => k1_hw143.2.2 k1_t72 k1_h72

def k1_off367 (v3375 : BitVec 32) (k1_t72 : Fin k1_t72_loop.trips) : Fin 2 → Nat :=
  let c0_i32_1284 : BitVec 32 := 0#32
  let v3379 : BitVec 1 := Scalar.cmpi .sgt v3375 c0_i32_1284
  let v3380 : BitVec 32 := Scalar.extui v3379
  let c0_i32_1285 : BitVec 32 := 0#32
  let v3381 : BitVec 1 := Scalar.cmpi .slt v3375 c0_i32_1285
  let v3382 : BitVec 32 := Scalar.extui v3381
  let v3383 : BitVec 32 := Scalar.subi v3380 v3382
  let c16_i32_1283 : BitVec 32 := 16#32
  let c0_i32_1286 : BitVec 32 := 0#32
  let v3384 : BitVec 1 := Scalar.cmpi .sgt c16_i32_1283 c0_i32_1286
  let v3385 : BitVec 32 := Scalar.extui v3384
  let c0_i32_1287 : BitVec 32 := 0#32
  let v3386 : BitVec 1 := Scalar.cmpi .slt c16_i32_1283 c0_i32_1287
  let v3387 : BitVec 32 := Scalar.extui v3386
  let v3388 : BitVec 32 := Scalar.subi v3385 v3387
  let v3389 : BitVec 1 := Scalar.cmpi .ne v3383 v3388
  let v3390 : BitVec 32 := Scalar.remsi v3375 c16_i32_1283
  let c0_i32_1288 : BitVec 32 := 0#32
  let v3391 : BitVec 1 := Scalar.cmpi .ne v3390 c0_i32_1288
  let v3392 : BitVec 1 := Scalar.andi v3389 v3391
  let v3378 : BitVec 32 := Scalar.divsi v3375 c16_i32_1283
  let c1_i32_1289 : BitVec 32 := 1#32
  let v3393 : BitVec 32 := Scalar.subi v3378 c1_i32_1289
  let v3394 : BitVec 32 := Scalar.select v3392 v3393 v3378
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3394 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t72
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3375 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk144 (i : grid1.Coords) (v25 : BitVec 32) (v3375 : BitVec 32) : Prop :=
  (∀ k1_t72 : Fin k1_t72_loop.trips, ∀ (k1_h72 : k1_cond72 i v25 v3375 = 1#1), ∀ a, (k1_off365 v3375 k1_t72) a + S1x16.size a ≤ S128x512.size a) ∧
  (∀ k1_t72 : Fin k1_t72_loop.trips, ∀ (k1_h72 : k1_cond72 i v25 v3375 = 1#1), ∀ a, (k1_off367 v3375 k1_t72) a + S1x16.size a ≤ S128x512.size a)
theorem k1_off365_inb : ∀ (i : grid1.Coords) (v25 : BitVec 32) (v3375 : BitVec 32) (k1_hw144 : k1_chk144 i v25 v3375) (k1_t72 : Fin k1_t72_loop.trips), ∀ (k1_h72 : k1_cond72 i v25 v3375 = 1#1), ∀ a, (k1_off365 v3375 k1_t72) a + S1x16.size a ≤ S128x512.size a := fun i v25 v3375 k1_hw144 k1_t72 k1_h72 => k1_hw144.1 k1_t72 k1_h72
theorem k1_off367_inb : ∀ (i : grid1.Coords) (v25 : BitVec 32) (v3375 : BitVec 32) (k1_hw144 : k1_chk144 i v25 v3375) (k1_t72 : Fin k1_t72_loop.trips), ∀ (k1_h72 : k1_cond72 i v25 v3375 = 1#1), ∀ a, (k1_off367 v3375 k1_t72) a + S1x16.size a ≤ S128x512.size a := fun i v25 v3375 k1_hw144 k1_t72 k1_h72 => k1_hw144.2 k1_t72 k1_h72

def k1_off368 (i : grid1.Coords) (v3420 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3420 c0_i32_1428
  let v3763 : BitVec 32 := Scalar.extui v3762
  let c0_i32_1429 : BitVec 32 := 0#32
  let v3764 : BitVec 1 := Scalar.cmpi .slt v3420 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3420 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3420 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r84 : BitVec 32 := 0#32
  ![v3779.toNat, 0]
def k1_cond73 (i : grid1.Coords) (v25 : BitVec 32) (v3418 : BitVec 32) : BitVec 1 :=
  let c8_i32_1306 : BitVec 32 := 8#32
  let v3438 : BitVec 1 := Scalar.cmpi .sgt v25 c8_i32_1306
  let c0_i32_1300 : BitVec 32 := 0#32
  let v3422 : BitVec 1 := Scalar.cmpi .sgt v3418 c0_i32_1300
  let v3423 : BitVec 32 := Scalar.extui v3422
  let c0_i32_1301 : BitVec 32 := 0#32
  let v3424 : BitVec 1 := Scalar.cmpi .slt v3418 c0_i32_1301
  let v3425 : BitVec 32 := Scalar.extui v3424
  let v3426 : BitVec 32 := Scalar.subi v3423 v3425
  let c16_i32_1299 : BitVec 32 := 16#32
  let c0_i32_1302 : BitVec 32 := 0#32
  let v3427 : BitVec 1 := Scalar.cmpi .sgt c16_i32_1299 c0_i32_1302
  let v3428 : BitVec 32 := Scalar.extui v3427
  let c0_i32_1303 : BitVec 32 := 0#32
  let v3429 : BitVec 1 := Scalar.cmpi .slt c16_i32_1299 c0_i32_1303
  let v3430 : BitVec 32 := Scalar.extui v3429
  let v3431 : BitVec 32 := Scalar.subi v3428 v3430
  let v3432 : BitVec 1 := Scalar.cmpi .ne v3426 v3431
  let v3433 : BitVec 32 := Scalar.remsi v3418 c16_i32_1299
  let c0_i32_1304 : BitVec 32 := 0#32
  let v3434 : BitVec 1 := Scalar.cmpi .ne v3433 c0_i32_1304
  let v3435 : BitVec 1 := Scalar.andi v3432 v3434
  let v3421 : BitVec 32 := Scalar.divsi v3418 c16_i32_1299
  let c1_i32_1305 : BitVec 32 := 1#32
  let v3436 : BitVec 32 := Scalar.subi v3421 c1_i32_1305
  let v3437 : BitVec 32 := Scalar.select v3435 v3436 v3421
  let c0_i32_1308 : BitVec 32 := 0#32
  let v3440 : BitVec 1 := Scalar.cmpi .sgt v3437 c0_i32_1308
  let v3441 : BitVec 32 := Scalar.extui v3440
  let c0_i32_1309 : BitVec 32 := 0#32
  let v3442 : BitVec 1 := Scalar.cmpi .slt v3437 c0_i32_1309
  let v3443 : BitVec 32 := Scalar.extui v3442
  let v3444 : BitVec 32 := Scalar.subi v3441 v3443
  let c4_i32_1307 : BitVec 32 := 4#32
  let c0_i32_1310 : BitVec 32 := 0#32
  let v3445 : BitVec 1 := Scalar.cmpi .sgt c4_i32_1307 c0_i32_1310
  let v3446 : BitVec 32 := Scalar.extui v3445
  let c0_i32_1311 : BitVec 32 := 0#32
  let v3447 : BitVec 1 := Scalar.cmpi .slt c4_i32_1307 c0_i32_1311
  let v3448 : BitVec 32 := Scalar.extui v3447
  let v3449 : BitVec 32 := Scalar.subi v3446 v3448
  let v3450 : BitVec 1 := Scalar.cmpi .ne v3444 v3449
  let v3451 : BitVec 32 := Scalar.remsi v3437 c4_i32_1307
  let c0_i32_1312 : BitVec 32 := 0#32
  let v3452 : BitVec 1 := Scalar.cmpi .ne v3451 c0_i32_1312
  let v3453 : BitVec 1 := Scalar.andi v3450 v3452
  let v3439 : BitVec 32 := Scalar.divsi v3437 c4_i32_1307
  let c1_i32_1313 : BitVec 32 := 1#32
  let v3454 : BitVec 32 := Scalar.subi v3439 c1_i32_1313
  let v3455 : BitVec 32 := Scalar.select v3453 v3454 v3439
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3456 : BitVec 1 := Scalar.cmpi .eq v3455 v3072
  let v3457 : BitVec 1 := Scalar.andi v3438 v3456
  let v3458 : BitVec 32 := Scalar.extui v3457
  let c0_i32_1314 : BitVec 32 := 0#32
  let v3459 : BitVec 1 := Scalar.cmpi .ne v3458 c0_i32_1314
  v3459

@[reducible] def k1_t73_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off369 (v3420 : BitVec 32) (k1_t73 : Fin k1_t73_loop.trips) : Fin 2 → Nat :=
  let c0_i32_1453 : BitVec 32 := 0#32
  let c1_i32_1455 : BitVec 32 := 1#32
  let arg19 : BitVec 32 := Scf.iv c0_i32_1453 c1_i32_1455 k1_t73
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3420 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off370 (v3418 : BitVec 32) (k1_t73 : Fin k1_t73_loop.trips) : Fin 2 → Nat :=
  let c0_i32_1300 : BitVec 32 := 0#32
  let v3422 : BitVec 1 := Scalar.cmpi .sgt v3418 c0_i32_1300
  let v3423 : BitVec 32 := Scalar.extui v3422
  let c0_i32_1301 : BitVec 32 := 0#32
  let v3424 : BitVec 1 := Scalar.cmpi .slt v3418 c0_i32_1301
  let v3425 : BitVec 32 := Scalar.extui v3424
  let v3426 : BitVec 32 := Scalar.subi v3423 v3425
  let c16_i32_1299 : BitVec 32 := 16#32
  let c0_i32_1302 : BitVec 32 := 0#32
  let v3427 : BitVec 1 := Scalar.cmpi .sgt c16_i32_1299 c0_i32_1302
  let v3428 : BitVec 32 := Scalar.extui v3427
  let c0_i32_1303 : BitVec 32 := 0#32
  let v3429 : BitVec 1 := Scalar.cmpi .slt c16_i32_1299 c0_i32_1303
  let v3430 : BitVec 32 := Scalar.extui v3429
  let v3431 : BitVec 32 := Scalar.subi v3428 v3430
  let v3432 : BitVec 1 := Scalar.cmpi .ne v3426 v3431
  let v3433 : BitVec 32 := Scalar.remsi v3418 c16_i32_1299
  let c0_i32_1304 : BitVec 32 := 0#32
  let v3434 : BitVec 1 := Scalar.cmpi .ne v3433 c0_i32_1304
  let v3435 : BitVec 1 := Scalar.andi v3432 v3434
  let v3421 : BitVec 32 := Scalar.divsi v3418 c16_i32_1299
  let c1_i32_1305 : BitVec 32 := 1#32
  let v3436 : BitVec 32 := Scalar.subi v3421 c1_i32_1305
  let v3437 : BitVec 32 := Scalar.select v3435 v3436 v3421
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3437 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t73
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3418 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off371 (v3420 : BitVec 32) (k1_t73 : Fin k1_t73_loop.trips) : Fin 2 → Nat :=
  let c0_i32_1453 : BitVec 32 := 0#32
  let c1_i32_1455 : BitVec 32 := 1#32
  let arg19 : BitVec 32 := Scf.iv c0_i32_1453 c1_i32_1455 k1_t73
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3420 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk145 (i : grid1.Coords) (v25 : BitVec 32) (v3418 : BitVec 32) (v3420 : BitVec 32) : Prop :=
  (∀ (k1_h73 : k1_cond73 i v25 v3418 = 1#1), ∀ a, (k1_off368 i v3420) a + S32x512.size a ≤ S4096x512.size a) ∧
  (∀ k1_t73 : Fin k1_t73_loop.trips, ∀ (k1_h73 : k1_cond73 i v25 v3418 = 1#1), ∀ a, (k1_off369 v3420 k1_t73) a + S1x16.size a ≤ S32x512.size a) ∧
  (∀ k1_t73 : Fin k1_t73_loop.trips, ∀ (k1_h73 : k1_cond73 i v25 v3418 = 1#1), ∀ a, (k1_off371 v3420 k1_t73) a + S1x16.size a ≤ S32x512.size a)
theorem k1_off368_inb : ∀ (i : grid1.Coords) (v25 : BitVec 32) (v3418 : BitVec 32) (v3420 : BitVec 32) (k1_hw145 : k1_chk145 i v25 v3418 v3420), ∀ (k1_h73 : k1_cond73 i v25 v3418 = 1#1), ∀ a, (k1_off368 i v3420) a + S32x512.size a ≤ S4096x512.size a := fun i v25 v3418 v3420 k1_hw145 k1_h73 => k1_hw145.1 k1_h73
theorem k1_off369_inb : ∀ (i : grid1.Coords) (v25 : BitVec 32) (v3418 : BitVec 32) (v3420 : BitVec 32) (k1_hw145 : k1_chk145 i v25 v3418 v3420) (k1_t73 : Fin k1_t73_loop.trips), ∀ (k1_h73 : k1_cond73 i v25 v3418 = 1#1), ∀ a, (k1_off369 v3420 k1_t73) a + S1x16.size a ≤ S32x512.size a := fun i v25 v3418 v3420 k1_hw145 k1_t73 k1_h73 => k1_hw145.2.1 k1_t73 k1_h73
theorem k1_off371_inb : ∀ (i : grid1.Coords) (v25 : BitVec 32) (v3418 : BitVec 32) (v3420 : BitVec 32) (k1_hw145 : k1_chk145 i v25 v3418 v3420) (k1_t73 : Fin k1_t73_loop.trips), ∀ (k1_h73 : k1_cond73 i v25 v3418 = 1#1), ∀ a, (k1_off371 v3420 k1_t73) a + S1x16.size a ≤ S32x512.size a := fun i v25 v3418 v3420 k1_hw145 k1_t73 k1_h73 => k1_hw145.2.2 k1_t73 k1_h73

def k1_off372 (v3418 : BitVec 32) (k1_t73 : Fin k1_t73_loop.trips) : Fin 2 → Nat :=
  let c0_i32_1300 : BitVec 32 := 0#32
  let v3422 : BitVec 1 := Scalar.cmpi .sgt v3418 c0_i32_1300
  let v3423 : BitVec 32 := Scalar.extui v3422
  let c0_i32_1301 : BitVec 32 := 0#32
  let v3424 : BitVec 1 := Scalar.cmpi .slt v3418 c0_i32_1301
  let v3425 : BitVec 32 := Scalar.extui v3424
  let v3426 : BitVec 32 := Scalar.subi v3423 v3425
  let c16_i32_1299 : BitVec 32 := 16#32
  let c0_i32_1302 : BitVec 32 := 0#32
  let v3427 : BitVec 1 := Scalar.cmpi .sgt c16_i32_1299 c0_i32_1302
  let v3428 : BitVec 32 := Scalar.extui v3427
  let c0_i32_1303 : BitVec 32 := 0#32
  let v3429 : BitVec 1 := Scalar.cmpi .slt c16_i32_1299 c0_i32_1303
  let v3430 : BitVec 32 := Scalar.extui v3429
  let v3431 : BitVec 32 := Scalar.subi v3428 v3430
  let v3432 : BitVec 1 := Scalar.cmpi .ne v3426 v3431
  let v3433 : BitVec 32 := Scalar.remsi v3418 c16_i32_1299
  let c0_i32_1304 : BitVec 32 := 0#32
  let v3434 : BitVec 1 := Scalar.cmpi .ne v3433 c0_i32_1304
  let v3435 : BitVec 1 := Scalar.andi v3432 v3434
  let v3421 : BitVec 32 := Scalar.divsi v3418 c16_i32_1299
  let c1_i32_1305 : BitVec 32 := 1#32
  let v3436 : BitVec 32 := Scalar.subi v3421 c1_i32_1305
  let v3437 : BitVec 32 := Scalar.select v3435 v3436 v3421
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3437 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t73
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3418 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk146 (i : grid1.Coords) (v25 : BitVec 32) (v3418 : BitVec 32) : Prop :=
  (∀ k1_t73 : Fin k1_t73_loop.trips, ∀ (k1_h73 : k1_cond73 i v25 v3418 = 1#1), ∀ a, (k1_off370 v3418 k1_t73) a + S1x16.size a ≤ S128x512.size a) ∧
  (∀ k1_t73 : Fin k1_t73_loop.trips, ∀ (k1_h73 : k1_cond73 i v25 v3418 = 1#1), ∀ a, (k1_off372 v3418 k1_t73) a + S1x16.size a ≤ S128x512.size a)
theorem k1_off370_inb : ∀ (i : grid1.Coords) (v25 : BitVec 32) (v3418 : BitVec 32) (k1_hw146 : k1_chk146 i v25 v3418) (k1_t73 : Fin k1_t73_loop.trips), ∀ (k1_h73 : k1_cond73 i v25 v3418 = 1#1), ∀ a, (k1_off370 v3418 k1_t73) a + S1x16.size a ≤ S128x512.size a := fun i v25 v3418 k1_hw146 k1_t73 k1_h73 => k1_hw146.1 k1_t73 k1_h73
theorem k1_off372_inb : ∀ (i : grid1.Coords) (v25 : BitVec 32) (v3418 : BitVec 32) (k1_hw146 : k1_chk146 i v25 v3418) (k1_t73 : Fin k1_t73_loop.trips), ∀ (k1_h73 : k1_cond73 i v25 v3418 = 1#1), ∀ a, (k1_off372 v3418 k1_t73) a + S1x16.size a ≤ S128x512.size a := fun i v25 v3418 k1_hw146 k1_t73 k1_h73 => k1_hw146.2 k1_t73 k1_h73

def k1_off373 (i : grid1.Coords) (v3463 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3463 c0_i32_1428
  let v3763 : BitVec 32 := Scalar.extui v3762
  let c0_i32_1429 : BitVec 32 := 0#32
  let v3764 : BitVec 1 := Scalar.cmpi .slt v3463 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3463 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3463 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r85 : BitVec 32 := 0#32
  ![v3779.toNat, 0]
def k1_cond74 (i : grid1.Coords) (v25 : BitVec 32) (v3461 : BitVec 32) : BitVec 1 :=
  let c9_i32_1322 : BitVec 32 := 9#32
  let v3481 : BitVec 1 := Scalar.cmpi .sgt v25 c9_i32_1322
  let c0_i32_1316 : BitVec 32 := 0#32
  let v3465 : BitVec 1 := Scalar.cmpi .sgt v3461 c0_i32_1316
  let v3466 : BitVec 32 := Scalar.extui v3465
  let c0_i32_1317 : BitVec 32 := 0#32
  let v3467 : BitVec 1 := Scalar.cmpi .slt v3461 c0_i32_1317
  let v3468 : BitVec 32 := Scalar.extui v3467
  let v3469 : BitVec 32 := Scalar.subi v3466 v3468
  let c16_i32_1315 : BitVec 32 := 16#32
  let c0_i32_1318 : BitVec 32 := 0#32
  let v3470 : BitVec 1 := Scalar.cmpi .sgt c16_i32_1315 c0_i32_1318
  let v3471 : BitVec 32 := Scalar.extui v3470
  let c0_i32_1319 : BitVec 32 := 0#32
  let v3472 : BitVec 1 := Scalar.cmpi .slt c16_i32_1315 c0_i32_1319
  let v3473 : BitVec 32 := Scalar.extui v3472
  let v3474 : BitVec 32 := Scalar.subi v3471 v3473
  let v3475 : BitVec 1 := Scalar.cmpi .ne v3469 v3474
  let v3476 : BitVec 32 := Scalar.remsi v3461 c16_i32_1315
  let c0_i32_1320 : BitVec 32 := 0#32
  let v3477 : BitVec 1 := Scalar.cmpi .ne v3476 c0_i32_1320
  let v3478 : BitVec 1 := Scalar.andi v3475 v3477
  let v3464 : BitVec 32 := Scalar.divsi v3461 c16_i32_1315
  let c1_i32_1321 : BitVec 32 := 1#32
  let v3479 : BitVec 32 := Scalar.subi v3464 c1_i32_1321
  let v3480 : BitVec 32 := Scalar.select v3478 v3479 v3464
  let c0_i32_1324 : BitVec 32 := 0#32
  let v3483 : BitVec 1 := Scalar.cmpi .sgt v3480 c0_i32_1324
  let v3484 : BitVec 32 := Scalar.extui v3483
  let c0_i32_1325 : BitVec 32 := 0#32
  let v3485 : BitVec 1 := Scalar.cmpi .slt v3480 c0_i32_1325
  let v3486 : BitVec 32 := Scalar.extui v3485
  let v3487 : BitVec 32 := Scalar.subi v3484 v3486
  let c4_i32_1323 : BitVec 32 := 4#32
  let c0_i32_1326 : BitVec 32 := 0#32
  let v3488 : BitVec 1 := Scalar.cmpi .sgt c4_i32_1323 c0_i32_1326
  let v3489 : BitVec 32 := Scalar.extui v3488
  let c0_i32_1327 : BitVec 32 := 0#32
  let v3490 : BitVec 1 := Scalar.cmpi .slt c4_i32_1323 c0_i32_1327
  let v3491 : BitVec 32 := Scalar.extui v3490
  let v3492 : BitVec 32 := Scalar.subi v3489 v3491
  let v3493 : BitVec 1 := Scalar.cmpi .ne v3487 v3492
  let v3494 : BitVec 32 := Scalar.remsi v3480 c4_i32_1323
  let c0_i32_1328 : BitVec 32 := 0#32
  let v3495 : BitVec 1 := Scalar.cmpi .ne v3494 c0_i32_1328
  let v3496 : BitVec 1 := Scalar.andi v3493 v3495
  let v3482 : BitVec 32 := Scalar.divsi v3480 c4_i32_1323
  let c1_i32_1329 : BitVec 32 := 1#32
  let v3497 : BitVec 32 := Scalar.subi v3482 c1_i32_1329
  let v3498 : BitVec 32 := Scalar.select v3496 v3497 v3482
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3499 : BitVec 1 := Scalar.cmpi .eq v3498 v3072
  let v3500 : BitVec 1 := Scalar.andi v3481 v3499
  let v3501 : BitVec 32 := Scalar.extui v3500
  let c0_i32_1330 : BitVec 32 := 0#32
  let v3502 : BitVec 1 := Scalar.cmpi .ne v3501 c0_i32_1330
  v3502

@[reducible] def k1_t74_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off374 (v3463 : BitVec 32) (k1_t74 : Fin k1_t74_loop.trips) : Fin 2 → Nat :=
  let c0_i32_1453 : BitVec 32 := 0#32
  let c1_i32_1455 : BitVec 32 := 1#32
  let arg19 : BitVec 32 := Scf.iv c0_i32_1453 c1_i32_1455 k1_t74
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3463 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off375 (v3461 : BitVec 32) (k1_t74 : Fin k1_t74_loop.trips) : Fin 2 → Nat :=
  let c0_i32_1316 : BitVec 32 := 0#32
  let v3465 : BitVec 1 := Scalar.cmpi .sgt v3461 c0_i32_1316
  let v3466 : BitVec 32 := Scalar.extui v3465
  let c0_i32_1317 : BitVec 32 := 0#32
  let v3467 : BitVec 1 := Scalar.cmpi .slt v3461 c0_i32_1317
  let v3468 : BitVec 32 := Scalar.extui v3467
  let v3469 : BitVec 32 := Scalar.subi v3466 v3468
  let c16_i32_1315 : BitVec 32 := 16#32
  let c0_i32_1318 : BitVec 32 := 0#32
  let v3470 : BitVec 1 := Scalar.cmpi .sgt c16_i32_1315 c0_i32_1318
  let v3471 : BitVec 32 := Scalar.extui v3470
  let c0_i32_1319 : BitVec 32 := 0#32
  let v3472 : BitVec 1 := Scalar.cmpi .slt c16_i32_1315 c0_i32_1319
  let v3473 : BitVec 32 := Scalar.extui v3472
  let v3474 : BitVec 32 := Scalar.subi v3471 v3473
  let v3475 : BitVec 1 := Scalar.cmpi .ne v3469 v3474
  let v3476 : BitVec 32 := Scalar.remsi v3461 c16_i32_1315
  let c0_i32_1320 : BitVec 32 := 0#32
  let v3477 : BitVec 1 := Scalar.cmpi .ne v3476 c0_i32_1320
  let v3478 : BitVec 1 := Scalar.andi v3475 v3477
  let v3464 : BitVec 32 := Scalar.divsi v3461 c16_i32_1315
  let c1_i32_1321 : BitVec 32 := 1#32
  let v3479 : BitVec 32 := Scalar.subi v3464 c1_i32_1321
  let v3480 : BitVec 32 := Scalar.select v3478 v3479 v3464
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3480 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t74
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3461 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off376 (v3463 : BitVec 32) (k1_t74 : Fin k1_t74_loop.trips) : Fin 2 → Nat :=
  let c0_i32_1453 : BitVec 32 := 0#32
  let c1_i32_1455 : BitVec 32 := 1#32
  let arg19 : BitVec 32 := Scf.iv c0_i32_1453 c1_i32_1455 k1_t74
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3463 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk147 (i : grid1.Coords) (v25 : BitVec 32) (v3461 : BitVec 32) (v3463 : BitVec 32) : Prop :=
  (∀ (k1_h74 : k1_cond74 i v25 v3461 = 1#1), ∀ a, (k1_off373 i v3463) a + S32x512.size a ≤ S4096x512.size a) ∧
  (∀ k1_t74 : Fin k1_t74_loop.trips, ∀ (k1_h74 : k1_cond74 i v25 v3461 = 1#1), ∀ a, (k1_off374 v3463 k1_t74) a + S1x16.size a ≤ S32x512.size a) ∧
  (∀ k1_t74 : Fin k1_t74_loop.trips, ∀ (k1_h74 : k1_cond74 i v25 v3461 = 1#1), ∀ a, (k1_off376 v3463 k1_t74) a + S1x16.size a ≤ S32x512.size a)
theorem k1_off373_inb : ∀ (i : grid1.Coords) (v25 : BitVec 32) (v3461 : BitVec 32) (v3463 : BitVec 32) (k1_hw147 : k1_chk147 i v25 v3461 v3463), ∀ (k1_h74 : k1_cond74 i v25 v3461 = 1#1), ∀ a, (k1_off373 i v3463) a + S32x512.size a ≤ S4096x512.size a := fun i v25 v3461 v3463 k1_hw147 k1_h74 => k1_hw147.1 k1_h74
theorem k1_off374_inb : ∀ (i : grid1.Coords) (v25 : BitVec 32) (v3461 : BitVec 32) (v3463 : BitVec 32) (k1_hw147 : k1_chk147 i v25 v3461 v3463) (k1_t74 : Fin k1_t74_loop.trips), ∀ (k1_h74 : k1_cond74 i v25 v3461 = 1#1), ∀ a, (k1_off374 v3463 k1_t74) a + S1x16.size a ≤ S32x512.size a := fun i v25 v3461 v3463 k1_hw147 k1_t74 k1_h74 => k1_hw147.2.1 k1_t74 k1_h74
theorem k1_off376_inb : ∀ (i : grid1.Coords) (v25 : BitVec 32) (v3461 : BitVec 32) (v3463 : BitVec 32) (k1_hw147 : k1_chk147 i v25 v3461 v3463) (k1_t74 : Fin k1_t74_loop.trips), ∀ (k1_h74 : k1_cond74 i v25 v3461 = 1#1), ∀ a, (k1_off376 v3463 k1_t74) a + S1x16.size a ≤ S32x512.size a := fun i v25 v3461 v3463 k1_hw147 k1_t74 k1_h74 => k1_hw147.2.2 k1_t74 k1_h74

def k1_off377 (v3461 : BitVec 32) (k1_t74 : Fin k1_t74_loop.trips) : Fin 2 → Nat :=
  let c0_i32_1316 : BitVec 32 := 0#32
  let v3465 : BitVec 1 := Scalar.cmpi .sgt v3461 c0_i32_1316
  let v3466 : BitVec 32 := Scalar.extui v3465
  let c0_i32_1317 : BitVec 32 := 0#32
  let v3467 : BitVec 1 := Scalar.cmpi .slt v3461 c0_i32_1317
  let v3468 : BitVec 32 := Scalar.extui v3467
  let v3469 : BitVec 32 := Scalar.subi v3466 v3468
  let c16_i32_1315 : BitVec 32 := 16#32
  let c0_i32_1318 : BitVec 32 := 0#32
  let v3470 : BitVec 1 := Scalar.cmpi .sgt c16_i32_1315 c0_i32_1318
  let v3471 : BitVec 32 := Scalar.extui v3470
  let c0_i32_1319 : BitVec 32 := 0#32
  let v3472 : BitVec 1 := Scalar.cmpi .slt c16_i32_1315 c0_i32_1319
  let v3473 : BitVec 32 := Scalar.extui v3472
  let v3474 : BitVec 32 := Scalar.subi v3471 v3473
  let v3475 : BitVec 1 := Scalar.cmpi .ne v3469 v3474
  let v3476 : BitVec 32 := Scalar.remsi v3461 c16_i32_1315
  let c0_i32_1320 : BitVec 32 := 0#32
  let v3477 : BitVec 1 := Scalar.cmpi .ne v3476 c0_i32_1320
  let v3478 : BitVec 1 := Scalar.andi v3475 v3477
  let v3464 : BitVec 32 := Scalar.divsi v3461 c16_i32_1315
  let c1_i32_1321 : BitVec 32 := 1#32
  let v3479 : BitVec 32 := Scalar.subi v3464 c1_i32_1321
  let v3480 : BitVec 32 := Scalar.select v3478 v3479 v3464
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3480 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t74
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3461 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk148 (i : grid1.Coords) (v25 : BitVec 32) (v3461 : BitVec 32) : Prop :=
  (∀ k1_t74 : Fin k1_t74_loop.trips, ∀ (k1_h74 : k1_cond74 i v25 v3461 = 1#1), ∀ a, (k1_off375 v3461 k1_t74) a + S1x16.size a ≤ S128x512.size a) ∧
  (∀ k1_t74 : Fin k1_t74_loop.trips, ∀ (k1_h74 : k1_cond74 i v25 v3461 = 1#1), ∀ a, (k1_off377 v3461 k1_t74) a + S1x16.size a ≤ S128x512.size a)
theorem k1_off375_inb : ∀ (i : grid1.Coords) (v25 : BitVec 32) (v3461 : BitVec 32) (k1_hw148 : k1_chk148 i v25 v3461) (k1_t74 : Fin k1_t74_loop.trips), ∀ (k1_h74 : k1_cond74 i v25 v3461 = 1#1), ∀ a, (k1_off375 v3461 k1_t74) a + S1x16.size a ≤ S128x512.size a := fun i v25 v3461 k1_hw148 k1_t74 k1_h74 => k1_hw148.1 k1_t74 k1_h74
theorem k1_off377_inb : ∀ (i : grid1.Coords) (v25 : BitVec 32) (v3461 : BitVec 32) (k1_hw148 : k1_chk148 i v25 v3461) (k1_t74 : Fin k1_t74_loop.trips), ∀ (k1_h74 : k1_cond74 i v25 v3461 = 1#1), ∀ a, (k1_off377 v3461 k1_t74) a + S1x16.size a ≤ S128x512.size a := fun i v25 v3461 k1_hw148 k1_t74 k1_h74 => k1_hw148.2 k1_t74 k1_h74

def k1_off378 (i : grid1.Coords) (v3506 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3506 c0_i32_1428
  let v3763 : BitVec 32 := Scalar.extui v3762
  let c0_i32_1429 : BitVec 32 := 0#32
  let v3764 : BitVec 1 := Scalar.cmpi .slt v3506 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3506 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3506 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r86 : BitVec 32 := 0#32
  ![v3779.toNat, 0]
def k1_cond75 (i : grid1.Coords) (v25 : BitVec 32) (v3504 : BitVec 32) : BitVec 1 :=
  let c10_i32_1338 : BitVec 32 := 10#32
  let v3524 : BitVec 1 := Scalar.cmpi .sgt v25 c10_i32_1338
  let c0_i32_1332 : BitVec 32 := 0#32
  let v3508 : BitVec 1 := Scalar.cmpi .sgt v3504 c0_i32_1332
  let v3509 : BitVec 32 := Scalar.extui v3508
  let c0_i32_1333 : BitVec 32 := 0#32
  let v3510 : BitVec 1 := Scalar.cmpi .slt v3504 c0_i32_1333
  let v3511 : BitVec 32 := Scalar.extui v3510
  let v3512 : BitVec 32 := Scalar.subi v3509 v3511
  let c16_i32_1331 : BitVec 32 := 16#32
  let c0_i32_1334 : BitVec 32 := 0#32
  let v3513 : BitVec 1 := Scalar.cmpi .sgt c16_i32_1331 c0_i32_1334
  let v3514 : BitVec 32 := Scalar.extui v3513
  let c0_i32_1335 : BitVec 32 := 0#32
  let v3515 : BitVec 1 := Scalar.cmpi .slt c16_i32_1331 c0_i32_1335
  let v3516 : BitVec 32 := Scalar.extui v3515
  let v3517 : BitVec 32 := Scalar.subi v3514 v3516
  let v3518 : BitVec 1 := Scalar.cmpi .ne v3512 v3517
  let v3519 : BitVec 32 := Scalar.remsi v3504 c16_i32_1331
  let c0_i32_1336 : BitVec 32 := 0#32
  let v3520 : BitVec 1 := Scalar.cmpi .ne v3519 c0_i32_1336
  let v3521 : BitVec 1 := Scalar.andi v3518 v3520
  let v3507 : BitVec 32 := Scalar.divsi v3504 c16_i32_1331
  let c1_i32_1337 : BitVec 32 := 1#32
  let v3522 : BitVec 32 := Scalar.subi v3507 c1_i32_1337
  let v3523 : BitVec 32 := Scalar.select v3521 v3522 v3507
  let c0_i32_1340 : BitVec 32 := 0#32
  let v3526 : BitVec 1 := Scalar.cmpi .sgt v3523 c0_i32_1340
  let v3527 : BitVec 32 := Scalar.extui v3526
  let c0_i32_1341 : BitVec 32 := 0#32
  let v3528 : BitVec 1 := Scalar.cmpi .slt v3523 c0_i32_1341
  let v3529 : BitVec 32 := Scalar.extui v3528
  let v3530 : BitVec 32 := Scalar.subi v3527 v3529
  let c4_i32_1339 : BitVec 32 := 4#32
  let c0_i32_1342 : BitVec 32 := 0#32
  let v3531 : BitVec 1 := Scalar.cmpi .sgt c4_i32_1339 c0_i32_1342
  let v3532 : BitVec 32 := Scalar.extui v3531
  let c0_i32_1343 : BitVec 32 := 0#32
  let v3533 : BitVec 1 := Scalar.cmpi .slt c4_i32_1339 c0_i32_1343
  let v3534 : BitVec 32 := Scalar.extui v3533
  let v3535 : BitVec 32 := Scalar.subi v3532 v3534
  let v3536 : BitVec 1 := Scalar.cmpi .ne v3530 v3535
  let v3537 : BitVec 32 := Scalar.remsi v3523 c4_i32_1339
  let c0_i32_1344 : BitVec 32 := 0#32
  let v3538 : BitVec 1 := Scalar.cmpi .ne v3537 c0_i32_1344
  let v3539 : BitVec 1 := Scalar.andi v3536 v3538
  let v3525 : BitVec 32 := Scalar.divsi v3523 c4_i32_1339
  let c1_i32_1345 : BitVec 32 := 1#32
  let v3540 : BitVec 32 := Scalar.subi v3525 c1_i32_1345
  let v3541 : BitVec 32 := Scalar.select v3539 v3540 v3525
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3542 : BitVec 1 := Scalar.cmpi .eq v3541 v3072
  let v3543 : BitVec 1 := Scalar.andi v3524 v3542
  let v3544 : BitVec 32 := Scalar.extui v3543
  let c0_i32_1346 : BitVec 32 := 0#32
  let v3545 : BitVec 1 := Scalar.cmpi .ne v3544 c0_i32_1346
  v3545

@[reducible] def k1_t75_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off379 (v3506 : BitVec 32) (k1_t75 : Fin k1_t75_loop.trips) : Fin 2 → Nat :=
  let c0_i32_1453 : BitVec 32 := 0#32
  let c1_i32_1455 : BitVec 32 := 1#32
  let arg19 : BitVec 32 := Scf.iv c0_i32_1453 c1_i32_1455 k1_t75
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3506 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off380 (v3504 : BitVec 32) (k1_t75 : Fin k1_t75_loop.trips) : Fin 2 → Nat :=
  let c0_i32_1332 : BitVec 32 := 0#32
  let v3508 : BitVec 1 := Scalar.cmpi .sgt v3504 c0_i32_1332
  let v3509 : BitVec 32 := Scalar.extui v3508
  let c0_i32_1333 : BitVec 32 := 0#32
  let v3510 : BitVec 1 := Scalar.cmpi .slt v3504 c0_i32_1333
  let v3511 : BitVec 32 := Scalar.extui v3510
  let v3512 : BitVec 32 := Scalar.subi v3509 v3511
  let c16_i32_1331 : BitVec 32 := 16#32
  let c0_i32_1334 : BitVec 32 := 0#32
  let v3513 : BitVec 1 := Scalar.cmpi .sgt c16_i32_1331 c0_i32_1334
  let v3514 : BitVec 32 := Scalar.extui v3513
  let c0_i32_1335 : BitVec 32 := 0#32
  let v3515 : BitVec 1 := Scalar.cmpi .slt c16_i32_1331 c0_i32_1335
  let v3516 : BitVec 32 := Scalar.extui v3515
  let v3517 : BitVec 32 := Scalar.subi v3514 v3516
  let v3518 : BitVec 1 := Scalar.cmpi .ne v3512 v3517
  let v3519 : BitVec 32 := Scalar.remsi v3504 c16_i32_1331
  let c0_i32_1336 : BitVec 32 := 0#32
  let v3520 : BitVec 1 := Scalar.cmpi .ne v3519 c0_i32_1336
  let v3521 : BitVec 1 := Scalar.andi v3518 v3520
  let v3507 : BitVec 32 := Scalar.divsi v3504 c16_i32_1331
  let c1_i32_1337 : BitVec 32 := 1#32
  let v3522 : BitVec 32 := Scalar.subi v3507 c1_i32_1337
  let v3523 : BitVec 32 := Scalar.select v3521 v3522 v3507
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3523 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t75
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3504 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off381 (v3506 : BitVec 32) (k1_t75 : Fin k1_t75_loop.trips) : Fin 2 → Nat :=
  let c0_i32_1453 : BitVec 32 := 0#32
  let c1_i32_1455 : BitVec 32 := 1#32
  let arg19 : BitVec 32 := Scf.iv c0_i32_1453 c1_i32_1455 k1_t75
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3506 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk149 (i : grid1.Coords) (v25 : BitVec 32) (v3504 : BitVec 32) (v3506 : BitVec 32) : Prop :=
  (∀ (k1_h75 : k1_cond75 i v25 v3504 = 1#1), ∀ a, (k1_off378 i v3506) a + S32x512.size a ≤ S4096x512.size a) ∧
  (∀ k1_t75 : Fin k1_t75_loop.trips, ∀ (k1_h75 : k1_cond75 i v25 v3504 = 1#1), ∀ a, (k1_off379 v3506 k1_t75) a + S1x16.size a ≤ S32x512.size a) ∧
  (∀ k1_t75 : Fin k1_t75_loop.trips, ∀ (k1_h75 : k1_cond75 i v25 v3504 = 1#1), ∀ a, (k1_off381 v3506 k1_t75) a + S1x16.size a ≤ S32x512.size a)
theorem k1_off378_inb : ∀ (i : grid1.Coords) (v25 : BitVec 32) (v3504 : BitVec 32) (v3506 : BitVec 32) (k1_hw149 : k1_chk149 i v25 v3504 v3506), ∀ (k1_h75 : k1_cond75 i v25 v3504 = 1#1), ∀ a, (k1_off378 i v3506) a + S32x512.size a ≤ S4096x512.size a := fun i v25 v3504 v3506 k1_hw149 k1_h75 => k1_hw149.1 k1_h75
theorem k1_off379_inb : ∀ (i : grid1.Coords) (v25 : BitVec 32) (v3504 : BitVec 32) (v3506 : BitVec 32) (k1_hw149 : k1_chk149 i v25 v3504 v3506) (k1_t75 : Fin k1_t75_loop.trips), ∀ (k1_h75 : k1_cond75 i v25 v3504 = 1#1), ∀ a, (k1_off379 v3506 k1_t75) a + S1x16.size a ≤ S32x512.size a := fun i v25 v3504 v3506 k1_hw149 k1_t75 k1_h75 => k1_hw149.2.1 k1_t75 k1_h75
theorem k1_off381_inb : ∀ (i : grid1.Coords) (v25 : BitVec 32) (v3504 : BitVec 32) (v3506 : BitVec 32) (k1_hw149 : k1_chk149 i v25 v3504 v3506) (k1_t75 : Fin k1_t75_loop.trips), ∀ (k1_h75 : k1_cond75 i v25 v3504 = 1#1), ∀ a, (k1_off381 v3506 k1_t75) a + S1x16.size a ≤ S32x512.size a := fun i v25 v3504 v3506 k1_hw149 k1_t75 k1_h75 => k1_hw149.2.2 k1_t75 k1_h75

def k1_off382 (v3504 : BitVec 32) (k1_t75 : Fin k1_t75_loop.trips) : Fin 2 → Nat :=
  let c0_i32_1332 : BitVec 32 := 0#32
  let v3508 : BitVec 1 := Scalar.cmpi .sgt v3504 c0_i32_1332
  let v3509 : BitVec 32 := Scalar.extui v3508
  let c0_i32_1333 : BitVec 32 := 0#32
  let v3510 : BitVec 1 := Scalar.cmpi .slt v3504 c0_i32_1333
  let v3511 : BitVec 32 := Scalar.extui v3510
  let v3512 : BitVec 32 := Scalar.subi v3509 v3511
  let c16_i32_1331 : BitVec 32 := 16#32
  let c0_i32_1334 : BitVec 32 := 0#32
  let v3513 : BitVec 1 := Scalar.cmpi .sgt c16_i32_1331 c0_i32_1334
  let v3514 : BitVec 32 := Scalar.extui v3513
  let c0_i32_1335 : BitVec 32 := 0#32
  let v3515 : BitVec 1 := Scalar.cmpi .slt c16_i32_1331 c0_i32_1335
  let v3516 : BitVec 32 := Scalar.extui v3515
  let v3517 : BitVec 32 := Scalar.subi v3514 v3516
  let v3518 : BitVec 1 := Scalar.cmpi .ne v3512 v3517
  let v3519 : BitVec 32 := Scalar.remsi v3504 c16_i32_1331
  let c0_i32_1336 : BitVec 32 := 0#32
  let v3520 : BitVec 1 := Scalar.cmpi .ne v3519 c0_i32_1336
  let v3521 : BitVec 1 := Scalar.andi v3518 v3520
  let v3507 : BitVec 32 := Scalar.divsi v3504 c16_i32_1331
  let c1_i32_1337 : BitVec 32 := 1#32
  let v3522 : BitVec 32 := Scalar.subi v3507 c1_i32_1337
  let v3523 : BitVec 32 := Scalar.select v3521 v3522 v3507
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3523 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t75
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3504 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk150 (i : grid1.Coords) (v25 : BitVec 32) (v3504 : BitVec 32) : Prop :=
  (∀ k1_t75 : Fin k1_t75_loop.trips, ∀ (k1_h75 : k1_cond75 i v25 v3504 = 1#1), ∀ a, (k1_off380 v3504 k1_t75) a + S1x16.size a ≤ S128x512.size a) ∧
  (∀ k1_t75 : Fin k1_t75_loop.trips, ∀ (k1_h75 : k1_cond75 i v25 v3504 = 1#1), ∀ a, (k1_off382 v3504 k1_t75) a + S1x16.size a ≤ S128x512.size a)
theorem k1_off380_inb : ∀ (i : grid1.Coords) (v25 : BitVec 32) (v3504 : BitVec 32) (k1_hw150 : k1_chk150 i v25 v3504) (k1_t75 : Fin k1_t75_loop.trips), ∀ (k1_h75 : k1_cond75 i v25 v3504 = 1#1), ∀ a, (k1_off380 v3504 k1_t75) a + S1x16.size a ≤ S128x512.size a := fun i v25 v3504 k1_hw150 k1_t75 k1_h75 => k1_hw150.1 k1_t75 k1_h75
theorem k1_off382_inb : ∀ (i : grid1.Coords) (v25 : BitVec 32) (v3504 : BitVec 32) (k1_hw150 : k1_chk150 i v25 v3504) (k1_t75 : Fin k1_t75_loop.trips), ∀ (k1_h75 : k1_cond75 i v25 v3504 = 1#1), ∀ a, (k1_off382 v3504 k1_t75) a + S1x16.size a ≤ S128x512.size a := fun i v25 v3504 k1_hw150 k1_t75 k1_h75 => k1_hw150.2 k1_t75 k1_h75

def k1_off383 (i : grid1.Coords) (v3549 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3549 c0_i32_1428
  let v3763 : BitVec 32 := Scalar.extui v3762
  let c0_i32_1429 : BitVec 32 := 0#32
  let v3764 : BitVec 1 := Scalar.cmpi .slt v3549 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3549 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3549 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r87 : BitVec 32 := 0#32
  ![v3779.toNat, 0]
def k1_cond76 (i : grid1.Coords) (v25 : BitVec 32) (v3547 : BitVec 32) : BitVec 1 :=
  let c11_i32_1354 : BitVec 32 := 11#32
  let v3567 : BitVec 1 := Scalar.cmpi .sgt v25 c11_i32_1354
  let c0_i32_1348 : BitVec 32 := 0#32
  let v3551 : BitVec 1 := Scalar.cmpi .sgt v3547 c0_i32_1348
  let v3552 : BitVec 32 := Scalar.extui v3551
  let c0_i32_1349 : BitVec 32 := 0#32
  let v3553 : BitVec 1 := Scalar.cmpi .slt v3547 c0_i32_1349
  let v3554 : BitVec 32 := Scalar.extui v3553
  let v3555 : BitVec 32 := Scalar.subi v3552 v3554
  let c16_i32_1347 : BitVec 32 := 16#32
  let c0_i32_1350 : BitVec 32 := 0#32
  let v3556 : BitVec 1 := Scalar.cmpi .sgt c16_i32_1347 c0_i32_1350
  let v3557 : BitVec 32 := Scalar.extui v3556
  let c0_i32_1351 : BitVec 32 := 0#32
  let v3558 : BitVec 1 := Scalar.cmpi .slt c16_i32_1347 c0_i32_1351
  let v3559 : BitVec 32 := Scalar.extui v3558
  let v3560 : BitVec 32 := Scalar.subi v3557 v3559
  let v3561 : BitVec 1 := Scalar.cmpi .ne v3555 v3560
  let v3562 : BitVec 32 := Scalar.remsi v3547 c16_i32_1347
  let c0_i32_1352 : BitVec 32 := 0#32
  let v3563 : BitVec 1 := Scalar.cmpi .ne v3562 c0_i32_1352
  let v3564 : BitVec 1 := Scalar.andi v3561 v3563
  let v3550 : BitVec 32 := Scalar.divsi v3547 c16_i32_1347
  let c1_i32_1353 : BitVec 32 := 1#32
  let v3565 : BitVec 32 := Scalar.subi v3550 c1_i32_1353
  let v3566 : BitVec 32 := Scalar.select v3564 v3565 v3550
  let c0_i32_1356 : BitVec 32 := 0#32
  let v3569 : BitVec 1 := Scalar.cmpi .sgt v3566 c0_i32_1356
  let v3570 : BitVec 32 := Scalar.extui v3569
  let c0_i32_1357 : BitVec 32 := 0#32
  let v3571 : BitVec 1 := Scalar.cmpi .slt v3566 c0_i32_1357
  let v3572 : BitVec 32 := Scalar.extui v3571
  let v3573 : BitVec 32 := Scalar.subi v3570 v3572
  let c4_i32_1355 : BitVec 32 := 4#32
  let c0_i32_1358 : BitVec 32 := 0#32
  let v3574 : BitVec 1 := Scalar.cmpi .sgt c4_i32_1355 c0_i32_1358
  let v3575 : BitVec 32 := Scalar.extui v3574
  let c0_i32_1359 : BitVec 32 := 0#32
  let v3576 : BitVec 1 := Scalar.cmpi .slt c4_i32_1355 c0_i32_1359
  let v3577 : BitVec 32 := Scalar.extui v3576
  let v3578 : BitVec 32 := Scalar.subi v3575 v3577
  let v3579 : BitVec 1 := Scalar.cmpi .ne v3573 v3578
  let v3580 : BitVec 32 := Scalar.remsi v3566 c4_i32_1355
  let c0_i32_1360 : BitVec 32 := 0#32
  let v3581 : BitVec 1 := Scalar.cmpi .ne v3580 c0_i32_1360
  let v3582 : BitVec 1 := Scalar.andi v3579 v3581
  let v3568 : BitVec 32 := Scalar.divsi v3566 c4_i32_1355
  let c1_i32_1361 : BitVec 32 := 1#32
  let v3583 : BitVec 32 := Scalar.subi v3568 c1_i32_1361
  let v3584 : BitVec 32 := Scalar.select v3582 v3583 v3568
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3585 : BitVec 1 := Scalar.cmpi .eq v3584 v3072
  let v3586 : BitVec 1 := Scalar.andi v3567 v3585
  let v3587 : BitVec 32 := Scalar.extui v3586
  let c0_i32_1362 : BitVec 32 := 0#32
  let v3588 : BitVec 1 := Scalar.cmpi .ne v3587 c0_i32_1362
  v3588

@[reducible] def k1_t76_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off384 (v3549 : BitVec 32) (k1_t76 : Fin k1_t76_loop.trips) : Fin 2 → Nat :=
  let c0_i32_1453 : BitVec 32 := 0#32
  let c1_i32_1455 : BitVec 32 := 1#32
  let arg19 : BitVec 32 := Scf.iv c0_i32_1453 c1_i32_1455 k1_t76
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3549 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off385 (v3547 : BitVec 32) (k1_t76 : Fin k1_t76_loop.trips) : Fin 2 → Nat :=
  let c0_i32_1348 : BitVec 32 := 0#32
  let v3551 : BitVec 1 := Scalar.cmpi .sgt v3547 c0_i32_1348
  let v3552 : BitVec 32 := Scalar.extui v3551
  let c0_i32_1349 : BitVec 32 := 0#32
  let v3553 : BitVec 1 := Scalar.cmpi .slt v3547 c0_i32_1349
  let v3554 : BitVec 32 := Scalar.extui v3553
  let v3555 : BitVec 32 := Scalar.subi v3552 v3554
  let c16_i32_1347 : BitVec 32 := 16#32
  let c0_i32_1350 : BitVec 32 := 0#32
  let v3556 : BitVec 1 := Scalar.cmpi .sgt c16_i32_1347 c0_i32_1350
  let v3557 : BitVec 32 := Scalar.extui v3556
  let c0_i32_1351 : BitVec 32 := 0#32
  let v3558 : BitVec 1 := Scalar.cmpi .slt c16_i32_1347 c0_i32_1351
  let v3559 : BitVec 32 := Scalar.extui v3558
  let v3560 : BitVec 32 := Scalar.subi v3557 v3559
  let v3561 : BitVec 1 := Scalar.cmpi .ne v3555 v3560
  let v3562 : BitVec 32 := Scalar.remsi v3547 c16_i32_1347
  let c0_i32_1352 : BitVec 32 := 0#32
  let v3563 : BitVec 1 := Scalar.cmpi .ne v3562 c0_i32_1352
  let v3564 : BitVec 1 := Scalar.andi v3561 v3563
  let v3550 : BitVec 32 := Scalar.divsi v3547 c16_i32_1347
  let c1_i32_1353 : BitVec 32 := 1#32
  let v3565 : BitVec 32 := Scalar.subi v3550 c1_i32_1353
  let v3566 : BitVec 32 := Scalar.select v3564 v3565 v3550
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3566 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t76
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3547 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off386 (v3549 : BitVec 32) (k1_t76 : Fin k1_t76_loop.trips) : Fin 2 → Nat :=
  let c0_i32_1453 : BitVec 32 := 0#32
  let c1_i32_1455 : BitVec 32 := 1#32
  let arg19 : BitVec 32 := Scf.iv c0_i32_1453 c1_i32_1455 k1_t76
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3549 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk151 (i : grid1.Coords) (v25 : BitVec 32) (v3547 : BitVec 32) (v3549 : BitVec 32) : Prop :=
  (∀ (k1_h76 : k1_cond76 i v25 v3547 = 1#1), ∀ a, (k1_off383 i v3549) a + S32x512.size a ≤ S4096x512.size a) ∧
  (∀ k1_t76 : Fin k1_t76_loop.trips, ∀ (k1_h76 : k1_cond76 i v25 v3547 = 1#1), ∀ a, (k1_off384 v3549 k1_t76) a + S1x16.size a ≤ S32x512.size a) ∧
  (∀ k1_t76 : Fin k1_t76_loop.trips, ∀ (k1_h76 : k1_cond76 i v25 v3547 = 1#1), ∀ a, (k1_off386 v3549 k1_t76) a + S1x16.size a ≤ S32x512.size a)
theorem k1_off383_inb : ∀ (i : grid1.Coords) (v25 : BitVec 32) (v3547 : BitVec 32) (v3549 : BitVec 32) (k1_hw151 : k1_chk151 i v25 v3547 v3549), ∀ (k1_h76 : k1_cond76 i v25 v3547 = 1#1), ∀ a, (k1_off383 i v3549) a + S32x512.size a ≤ S4096x512.size a := fun i v25 v3547 v3549 k1_hw151 k1_h76 => k1_hw151.1 k1_h76
theorem k1_off384_inb : ∀ (i : grid1.Coords) (v25 : BitVec 32) (v3547 : BitVec 32) (v3549 : BitVec 32) (k1_hw151 : k1_chk151 i v25 v3547 v3549) (k1_t76 : Fin k1_t76_loop.trips), ∀ (k1_h76 : k1_cond76 i v25 v3547 = 1#1), ∀ a, (k1_off384 v3549 k1_t76) a + S1x16.size a ≤ S32x512.size a := fun i v25 v3547 v3549 k1_hw151 k1_t76 k1_h76 => k1_hw151.2.1 k1_t76 k1_h76
theorem k1_off386_inb : ∀ (i : grid1.Coords) (v25 : BitVec 32) (v3547 : BitVec 32) (v3549 : BitVec 32) (k1_hw151 : k1_chk151 i v25 v3547 v3549) (k1_t76 : Fin k1_t76_loop.trips), ∀ (k1_h76 : k1_cond76 i v25 v3547 = 1#1), ∀ a, (k1_off386 v3549 k1_t76) a + S1x16.size a ≤ S32x512.size a := fun i v25 v3547 v3549 k1_hw151 k1_t76 k1_h76 => k1_hw151.2.2 k1_t76 k1_h76

def k1_off387 (v3547 : BitVec 32) (k1_t76 : Fin k1_t76_loop.trips) : Fin 2 → Nat :=
  let c0_i32_1348 : BitVec 32 := 0#32
  let v3551 : BitVec 1 := Scalar.cmpi .sgt v3547 c0_i32_1348
  let v3552 : BitVec 32 := Scalar.extui v3551
  let c0_i32_1349 : BitVec 32 := 0#32
  let v3553 : BitVec 1 := Scalar.cmpi .slt v3547 c0_i32_1349
  let v3554 : BitVec 32 := Scalar.extui v3553
  let v3555 : BitVec 32 := Scalar.subi v3552 v3554
  let c16_i32_1347 : BitVec 32 := 16#32
  let c0_i32_1350 : BitVec 32 := 0#32
  let v3556 : BitVec 1 := Scalar.cmpi .sgt c16_i32_1347 c0_i32_1350
  let v3557 : BitVec 32 := Scalar.extui v3556
  let c0_i32_1351 : BitVec 32 := 0#32
  let v3558 : BitVec 1 := Scalar.cmpi .slt c16_i32_1347 c0_i32_1351
  let v3559 : BitVec 32 := Scalar.extui v3558
  let v3560 : BitVec 32 := Scalar.subi v3557 v3559
  let v3561 : BitVec 1 := Scalar.cmpi .ne v3555 v3560
  let v3562 : BitVec 32 := Scalar.remsi v3547 c16_i32_1347
  let c0_i32_1352 : BitVec 32 := 0#32
  let v3563 : BitVec 1 := Scalar.cmpi .ne v3562 c0_i32_1352
  let v3564 : BitVec 1 := Scalar.andi v3561 v3563
  let v3550 : BitVec 32 := Scalar.divsi v3547 c16_i32_1347
  let c1_i32_1353 : BitVec 32 := 1#32
  let v3565 : BitVec 32 := Scalar.subi v3550 c1_i32_1353
  let v3566 : BitVec 32 := Scalar.select v3564 v3565 v3550
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3566 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t76
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3547 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk152 (i : grid1.Coords) (v25 : BitVec 32) (v3547 : BitVec 32) : Prop :=
  (∀ k1_t76 : Fin k1_t76_loop.trips, ∀ (k1_h76 : k1_cond76 i v25 v3547 = 1#1), ∀ a, (k1_off385 v3547 k1_t76) a + S1x16.size a ≤ S128x512.size a) ∧
  (∀ k1_t76 : Fin k1_t76_loop.trips, ∀ (k1_h76 : k1_cond76 i v25 v3547 = 1#1), ∀ a, (k1_off387 v3547 k1_t76) a + S1x16.size a ≤ S128x512.size a)
theorem k1_off385_inb : ∀ (i : grid1.Coords) (v25 : BitVec 32) (v3547 : BitVec 32) (k1_hw152 : k1_chk152 i v25 v3547) (k1_t76 : Fin k1_t76_loop.trips), ∀ (k1_h76 : k1_cond76 i v25 v3547 = 1#1), ∀ a, (k1_off385 v3547 k1_t76) a + S1x16.size a ≤ S128x512.size a := fun i v25 v3547 k1_hw152 k1_t76 k1_h76 => k1_hw152.1 k1_t76 k1_h76
theorem k1_off387_inb : ∀ (i : grid1.Coords) (v25 : BitVec 32) (v3547 : BitVec 32) (k1_hw152 : k1_chk152 i v25 v3547) (k1_t76 : Fin k1_t76_loop.trips), ∀ (k1_h76 : k1_cond76 i v25 v3547 = 1#1), ∀ a, (k1_off387 v3547 k1_t76) a + S1x16.size a ≤ S128x512.size a := fun i v25 v3547 k1_hw152 k1_t76 k1_h76 => k1_hw152.2 k1_t76 k1_h76

def k1_off388 (i : grid1.Coords) (v3592 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3592 c0_i32_1428
  let v3763 : BitVec 32 := Scalar.extui v3762
  let c0_i32_1429 : BitVec 32 := 0#32
  let v3764 : BitVec 1 := Scalar.cmpi .slt v3592 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3592 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3592 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r88 : BitVec 32 := 0#32
  ![v3779.toNat, 0]
def k1_cond77 (i : grid1.Coords) (v25 : BitVec 32) (v3590 : BitVec 32) : BitVec 1 :=
  let c12_i32_1370 : BitVec 32 := 12#32
  let v3610 : BitVec 1 := Scalar.cmpi .sgt v25 c12_i32_1370
  let c0_i32_1364 : BitVec 32 := 0#32
  let v3594 : BitVec 1 := Scalar.cmpi .sgt v3590 c0_i32_1364
  let v3595 : BitVec 32 := Scalar.extui v3594
  let c0_i32_1365 : BitVec 32 := 0#32
  let v3596 : BitVec 1 := Scalar.cmpi .slt v3590 c0_i32_1365
  let v3597 : BitVec 32 := Scalar.extui v3596
  let v3598 : BitVec 32 := Scalar.subi v3595 v3597
  let c16_i32_1363 : BitVec 32 := 16#32
  let c0_i32_1366 : BitVec 32 := 0#32
  let v3599 : BitVec 1 := Scalar.cmpi .sgt c16_i32_1363 c0_i32_1366
  let v3600 : BitVec 32 := Scalar.extui v3599
  let c0_i32_1367 : BitVec 32 := 0#32
  let v3601 : BitVec 1 := Scalar.cmpi .slt c16_i32_1363 c0_i32_1367
  let v3602 : BitVec 32 := Scalar.extui v3601
  let v3603 : BitVec 32 := Scalar.subi v3600 v3602
  let v3604 : BitVec 1 := Scalar.cmpi .ne v3598 v3603
  let v3605 : BitVec 32 := Scalar.remsi v3590 c16_i32_1363
  let c0_i32_1368 : BitVec 32 := 0#32
  let v3606 : BitVec 1 := Scalar.cmpi .ne v3605 c0_i32_1368
  let v3607 : BitVec 1 := Scalar.andi v3604 v3606
  let v3593 : BitVec 32 := Scalar.divsi v3590 c16_i32_1363
  let c1_i32_1369 : BitVec 32 := 1#32
  let v3608 : BitVec 32 := Scalar.subi v3593 c1_i32_1369
  let v3609 : BitVec 32 := Scalar.select v3607 v3608 v3593
  let c0_i32_1372 : BitVec 32 := 0#32
  let v3612 : BitVec 1 := Scalar.cmpi .sgt v3609 c0_i32_1372
  let v3613 : BitVec 32 := Scalar.extui v3612
  let c0_i32_1373 : BitVec 32 := 0#32
  let v3614 : BitVec 1 := Scalar.cmpi .slt v3609 c0_i32_1373
  let v3615 : BitVec 32 := Scalar.extui v3614
  let v3616 : BitVec 32 := Scalar.subi v3613 v3615
  let c4_i32_1371 : BitVec 32 := 4#32
  let c0_i32_1374 : BitVec 32 := 0#32
  let v3617 : BitVec 1 := Scalar.cmpi .sgt c4_i32_1371 c0_i32_1374
  let v3618 : BitVec 32 := Scalar.extui v3617
  let c0_i32_1375 : BitVec 32 := 0#32
  let v3619 : BitVec 1 := Scalar.cmpi .slt c4_i32_1371 c0_i32_1375
  let v3620 : BitVec 32 := Scalar.extui v3619
  let v3621 : BitVec 32 := Scalar.subi v3618 v3620
  let v3622 : BitVec 1 := Scalar.cmpi .ne v3616 v3621
  let v3623 : BitVec 32 := Scalar.remsi v3609 c4_i32_1371
  let c0_i32_1376 : BitVec 32 := 0#32
  let v3624 : BitVec 1 := Scalar.cmpi .ne v3623 c0_i32_1376
  let v3625 : BitVec 1 := Scalar.andi v3622 v3624
  let v3611 : BitVec 32 := Scalar.divsi v3609 c4_i32_1371
  let c1_i32_1377 : BitVec 32 := 1#32
  let v3626 : BitVec 32 := Scalar.subi v3611 c1_i32_1377
  let v3627 : BitVec 32 := Scalar.select v3625 v3626 v3611
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3628 : BitVec 1 := Scalar.cmpi .eq v3627 v3072
  let v3629 : BitVec 1 := Scalar.andi v3610 v3628
  let v3630 : BitVec 32 := Scalar.extui v3629
  let c0_i32_1378 : BitVec 32 := 0#32
  let v3631 : BitVec 1 := Scalar.cmpi .ne v3630 c0_i32_1378
  v3631

@[reducible] def k1_t77_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off389 (v3592 : BitVec 32) (k1_t77 : Fin k1_t77_loop.trips) : Fin 2 → Nat :=
  let c0_i32_1453 : BitVec 32 := 0#32
  let c1_i32_1455 : BitVec 32 := 1#32
  let arg19 : BitVec 32 := Scf.iv c0_i32_1453 c1_i32_1455 k1_t77
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3592 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off390 (v3590 : BitVec 32) (k1_t77 : Fin k1_t77_loop.trips) : Fin 2 → Nat :=
  let c0_i32_1364 : BitVec 32 := 0#32
  let v3594 : BitVec 1 := Scalar.cmpi .sgt v3590 c0_i32_1364
  let v3595 : BitVec 32 := Scalar.extui v3594
  let c0_i32_1365 : BitVec 32 := 0#32
  let v3596 : BitVec 1 := Scalar.cmpi .slt v3590 c0_i32_1365
  let v3597 : BitVec 32 := Scalar.extui v3596
  let v3598 : BitVec 32 := Scalar.subi v3595 v3597
  let c16_i32_1363 : BitVec 32 := 16#32
  let c0_i32_1366 : BitVec 32 := 0#32
  let v3599 : BitVec 1 := Scalar.cmpi .sgt c16_i32_1363 c0_i32_1366
  let v3600 : BitVec 32 := Scalar.extui v3599
  let c0_i32_1367 : BitVec 32 := 0#32
  let v3601 : BitVec 1 := Scalar.cmpi .slt c16_i32_1363 c0_i32_1367
  let v3602 : BitVec 32 := Scalar.extui v3601
  let v3603 : BitVec 32 := Scalar.subi v3600 v3602
  let v3604 : BitVec 1 := Scalar.cmpi .ne v3598 v3603
  let v3605 : BitVec 32 := Scalar.remsi v3590 c16_i32_1363
  let c0_i32_1368 : BitVec 32 := 0#32
  let v3606 : BitVec 1 := Scalar.cmpi .ne v3605 c0_i32_1368
  let v3607 : BitVec 1 := Scalar.andi v3604 v3606
  let v3593 : BitVec 32 := Scalar.divsi v3590 c16_i32_1363
  let c1_i32_1369 : BitVec 32 := 1#32
  let v3608 : BitVec 32 := Scalar.subi v3593 c1_i32_1369
  let v3609 : BitVec 32 := Scalar.select v3607 v3608 v3593
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3609 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t77
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3590 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off391 (v3592 : BitVec 32) (k1_t77 : Fin k1_t77_loop.trips) : Fin 2 → Nat :=
  let c0_i32_1453 : BitVec 32 := 0#32
  let c1_i32_1455 : BitVec 32 := 1#32
  let arg19 : BitVec 32 := Scf.iv c0_i32_1453 c1_i32_1455 k1_t77
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3592 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk153 (i : grid1.Coords) (v25 : BitVec 32) (v3590 : BitVec 32) (v3592 : BitVec 32) : Prop :=
  (∀ (k1_h77 : k1_cond77 i v25 v3590 = 1#1), ∀ a, (k1_off388 i v3592) a + S32x512.size a ≤ S4096x512.size a) ∧
  (∀ k1_t77 : Fin k1_t77_loop.trips, ∀ (k1_h77 : k1_cond77 i v25 v3590 = 1#1), ∀ a, (k1_off389 v3592 k1_t77) a + S1x16.size a ≤ S32x512.size a) ∧
  (∀ k1_t77 : Fin k1_t77_loop.trips, ∀ (k1_h77 : k1_cond77 i v25 v3590 = 1#1), ∀ a, (k1_off391 v3592 k1_t77) a + S1x16.size a ≤ S32x512.size a)
theorem k1_off388_inb : ∀ (i : grid1.Coords) (v25 : BitVec 32) (v3590 : BitVec 32) (v3592 : BitVec 32) (k1_hw153 : k1_chk153 i v25 v3590 v3592), ∀ (k1_h77 : k1_cond77 i v25 v3590 = 1#1), ∀ a, (k1_off388 i v3592) a + S32x512.size a ≤ S4096x512.size a := fun i v25 v3590 v3592 k1_hw153 k1_h77 => k1_hw153.1 k1_h77
theorem k1_off389_inb : ∀ (i : grid1.Coords) (v25 : BitVec 32) (v3590 : BitVec 32) (v3592 : BitVec 32) (k1_hw153 : k1_chk153 i v25 v3590 v3592) (k1_t77 : Fin k1_t77_loop.trips), ∀ (k1_h77 : k1_cond77 i v25 v3590 = 1#1), ∀ a, (k1_off389 v3592 k1_t77) a + S1x16.size a ≤ S32x512.size a := fun i v25 v3590 v3592 k1_hw153 k1_t77 k1_h77 => k1_hw153.2.1 k1_t77 k1_h77
theorem k1_off391_inb : ∀ (i : grid1.Coords) (v25 : BitVec 32) (v3590 : BitVec 32) (v3592 : BitVec 32) (k1_hw153 : k1_chk153 i v25 v3590 v3592) (k1_t77 : Fin k1_t77_loop.trips), ∀ (k1_h77 : k1_cond77 i v25 v3590 = 1#1), ∀ a, (k1_off391 v3592 k1_t77) a + S1x16.size a ≤ S32x512.size a := fun i v25 v3590 v3592 k1_hw153 k1_t77 k1_h77 => k1_hw153.2.2 k1_t77 k1_h77

def k1_off392 (v3590 : BitVec 32) (k1_t77 : Fin k1_t77_loop.trips) : Fin 2 → Nat :=
  let c0_i32_1364 : BitVec 32 := 0#32
  let v3594 : BitVec 1 := Scalar.cmpi .sgt v3590 c0_i32_1364
  let v3595 : BitVec 32 := Scalar.extui v3594
  let c0_i32_1365 : BitVec 32 := 0#32
  let v3596 : BitVec 1 := Scalar.cmpi .slt v3590 c0_i32_1365
  let v3597 : BitVec 32 := Scalar.extui v3596
  let v3598 : BitVec 32 := Scalar.subi v3595 v3597
  let c16_i32_1363 : BitVec 32 := 16#32
  let c0_i32_1366 : BitVec 32 := 0#32
  let v3599 : BitVec 1 := Scalar.cmpi .sgt c16_i32_1363 c0_i32_1366
  let v3600 : BitVec 32 := Scalar.extui v3599
  let c0_i32_1367 : BitVec 32 := 0#32
  let v3601 : BitVec 1 := Scalar.cmpi .slt c16_i32_1363 c0_i32_1367
  let v3602 : BitVec 32 := Scalar.extui v3601
  let v3603 : BitVec 32 := Scalar.subi v3600 v3602
  let v3604 : BitVec 1 := Scalar.cmpi .ne v3598 v3603
  let v3605 : BitVec 32 := Scalar.remsi v3590 c16_i32_1363
  let c0_i32_1368 : BitVec 32 := 0#32
  let v3606 : BitVec 1 := Scalar.cmpi .ne v3605 c0_i32_1368
  let v3607 : BitVec 1 := Scalar.andi v3604 v3606
  let v3593 : BitVec 32 := Scalar.divsi v3590 c16_i32_1363
  let c1_i32_1369 : BitVec 32 := 1#32
  let v3608 : BitVec 32 := Scalar.subi v3593 c1_i32_1369
  let v3609 : BitVec 32 := Scalar.select v3607 v3608 v3593
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3609 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t77
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3590 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk154 (i : grid1.Coords) (v25 : BitVec 32) (v3590 : BitVec 32) : Prop :=
  (∀ k1_t77 : Fin k1_t77_loop.trips, ∀ (k1_h77 : k1_cond77 i v25 v3590 = 1#1), ∀ a, (k1_off390 v3590 k1_t77) a + S1x16.size a ≤ S128x512.size a) ∧
  (∀ k1_t77 : Fin k1_t77_loop.trips, ∀ (k1_h77 : k1_cond77 i v25 v3590 = 1#1), ∀ a, (k1_off392 v3590 k1_t77) a + S1x16.size a ≤ S128x512.size a)
theorem k1_off390_inb : ∀ (i : grid1.Coords) (v25 : BitVec 32) (v3590 : BitVec 32) (k1_hw154 : k1_chk154 i v25 v3590) (k1_t77 : Fin k1_t77_loop.trips), ∀ (k1_h77 : k1_cond77 i v25 v3590 = 1#1), ∀ a, (k1_off390 v3590 k1_t77) a + S1x16.size a ≤ S128x512.size a := fun i v25 v3590 k1_hw154 k1_t77 k1_h77 => k1_hw154.1 k1_t77 k1_h77
theorem k1_off392_inb : ∀ (i : grid1.Coords) (v25 : BitVec 32) (v3590 : BitVec 32) (k1_hw154 : k1_chk154 i v25 v3590) (k1_t77 : Fin k1_t77_loop.trips), ∀ (k1_h77 : k1_cond77 i v25 v3590 = 1#1), ∀ a, (k1_off392 v3590 k1_t77) a + S1x16.size a ≤ S128x512.size a := fun i v25 v3590 k1_hw154 k1_t77 k1_h77 => k1_hw154.2 k1_t77 k1_h77

def k1_off393 (i : grid1.Coords) (v3635 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3635 c0_i32_1428
  let v3763 : BitVec 32 := Scalar.extui v3762
  let c0_i32_1429 : BitVec 32 := 0#32
  let v3764 : BitVec 1 := Scalar.cmpi .slt v3635 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3635 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3635 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r89 : BitVec 32 := 0#32
  ![v3779.toNat, 0]
def k1_cond78 (i : grid1.Coords) (v25 : BitVec 32) (v3633 : BitVec 32) : BitVec 1 :=
  let c13_i32_1386 : BitVec 32 := 13#32
  let v3653 : BitVec 1 := Scalar.cmpi .sgt v25 c13_i32_1386
  let c0_i32_1380 : BitVec 32 := 0#32
  let v3637 : BitVec 1 := Scalar.cmpi .sgt v3633 c0_i32_1380
  let v3638 : BitVec 32 := Scalar.extui v3637
  let c0_i32_1381 : BitVec 32 := 0#32
  let v3639 : BitVec 1 := Scalar.cmpi .slt v3633 c0_i32_1381
  let v3640 : BitVec 32 := Scalar.extui v3639
  let v3641 : BitVec 32 := Scalar.subi v3638 v3640
  let c16_i32_1379 : BitVec 32 := 16#32
  let c0_i32_1382 : BitVec 32 := 0#32
  let v3642 : BitVec 1 := Scalar.cmpi .sgt c16_i32_1379 c0_i32_1382
  let v3643 : BitVec 32 := Scalar.extui v3642
  let c0_i32_1383 : BitVec 32 := 0#32
  let v3644 : BitVec 1 := Scalar.cmpi .slt c16_i32_1379 c0_i32_1383
  let v3645 : BitVec 32 := Scalar.extui v3644
  let v3646 : BitVec 32 := Scalar.subi v3643 v3645
  let v3647 : BitVec 1 := Scalar.cmpi .ne v3641 v3646
  let v3648 : BitVec 32 := Scalar.remsi v3633 c16_i32_1379
  let c0_i32_1384 : BitVec 32 := 0#32
  let v3649 : BitVec 1 := Scalar.cmpi .ne v3648 c0_i32_1384
  let v3650 : BitVec 1 := Scalar.andi v3647 v3649
  let v3636 : BitVec 32 := Scalar.divsi v3633 c16_i32_1379
  let c1_i32_1385 : BitVec 32 := 1#32
  let v3651 : BitVec 32 := Scalar.subi v3636 c1_i32_1385
  let v3652 : BitVec 32 := Scalar.select v3650 v3651 v3636
  let c0_i32_1388 : BitVec 32 := 0#32
  let v3655 : BitVec 1 := Scalar.cmpi .sgt v3652 c0_i32_1388
  let v3656 : BitVec 32 := Scalar.extui v3655
  let c0_i32_1389 : BitVec 32 := 0#32
  let v3657 : BitVec 1 := Scalar.cmpi .slt v3652 c0_i32_1389
  let v3658 : BitVec 32 := Scalar.extui v3657
  let v3659 : BitVec 32 := Scalar.subi v3656 v3658
  let c4_i32_1387 : BitVec 32 := 4#32
  let c0_i32_1390 : BitVec 32 := 0#32
  let v3660 : BitVec 1 := Scalar.cmpi .sgt c4_i32_1387 c0_i32_1390
  let v3661 : BitVec 32 := Scalar.extui v3660
  let c0_i32_1391 : BitVec 32 := 0#32
  let v3662 : BitVec 1 := Scalar.cmpi .slt c4_i32_1387 c0_i32_1391
  let v3663 : BitVec 32 := Scalar.extui v3662
  let v3664 : BitVec 32 := Scalar.subi v3661 v3663
  let v3665 : BitVec 1 := Scalar.cmpi .ne v3659 v3664
  let v3666 : BitVec 32 := Scalar.remsi v3652 c4_i32_1387
  let c0_i32_1392 : BitVec 32 := 0#32
  let v3667 : BitVec 1 := Scalar.cmpi .ne v3666 c0_i32_1392
  let v3668 : BitVec 1 := Scalar.andi v3665 v3667
  let v3654 : BitVec 32 := Scalar.divsi v3652 c4_i32_1387
  let c1_i32_1393 : BitVec 32 := 1#32
  let v3669 : BitVec 32 := Scalar.subi v3654 c1_i32_1393
  let v3670 : BitVec 32 := Scalar.select v3668 v3669 v3654
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3671 : BitVec 1 := Scalar.cmpi .eq v3670 v3072
  let v3672 : BitVec 1 := Scalar.andi v3653 v3671
  let v3673 : BitVec 32 := Scalar.extui v3672
  let c0_i32_1394 : BitVec 32 := 0#32
  let v3674 : BitVec 1 := Scalar.cmpi .ne v3673 c0_i32_1394
  v3674

@[reducible] def k1_t78_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off394 (v3635 : BitVec 32) (k1_t78 : Fin k1_t78_loop.trips) : Fin 2 → Nat :=
  let c0_i32_1453 : BitVec 32 := 0#32
  let c1_i32_1455 : BitVec 32 := 1#32
  let arg19 : BitVec 32 := Scf.iv c0_i32_1453 c1_i32_1455 k1_t78
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3635 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off395 (v3633 : BitVec 32) (k1_t78 : Fin k1_t78_loop.trips) : Fin 2 → Nat :=
  let c0_i32_1380 : BitVec 32 := 0#32
  let v3637 : BitVec 1 := Scalar.cmpi .sgt v3633 c0_i32_1380
  let v3638 : BitVec 32 := Scalar.extui v3637
  let c0_i32_1381 : BitVec 32 := 0#32
  let v3639 : BitVec 1 := Scalar.cmpi .slt v3633 c0_i32_1381
  let v3640 : BitVec 32 := Scalar.extui v3639
  let v3641 : BitVec 32 := Scalar.subi v3638 v3640
  let c16_i32_1379 : BitVec 32 := 16#32
  let c0_i32_1382 : BitVec 32 := 0#32
  let v3642 : BitVec 1 := Scalar.cmpi .sgt c16_i32_1379 c0_i32_1382
  let v3643 : BitVec 32 := Scalar.extui v3642
  let c0_i32_1383 : BitVec 32 := 0#32
  let v3644 : BitVec 1 := Scalar.cmpi .slt c16_i32_1379 c0_i32_1383
  let v3645 : BitVec 32 := Scalar.extui v3644
  let v3646 : BitVec 32 := Scalar.subi v3643 v3645
  let v3647 : BitVec 1 := Scalar.cmpi .ne v3641 v3646
  let v3648 : BitVec 32 := Scalar.remsi v3633 c16_i32_1379
  let c0_i32_1384 : BitVec 32 := 0#32
  let v3649 : BitVec 1 := Scalar.cmpi .ne v3648 c0_i32_1384
  let v3650 : BitVec 1 := Scalar.andi v3647 v3649
  let v3636 : BitVec 32 := Scalar.divsi v3633 c16_i32_1379
  let c1_i32_1385 : BitVec 32 := 1#32
  let v3651 : BitVec 32 := Scalar.subi v3636 c1_i32_1385
  let v3652 : BitVec 32 := Scalar.select v3650 v3651 v3636
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3652 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t78
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3633 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off396 (v3635 : BitVec 32) (k1_t78 : Fin k1_t78_loop.trips) : Fin 2 → Nat :=
  let c0_i32_1453 : BitVec 32 := 0#32
  let c1_i32_1455 : BitVec 32 := 1#32
  let arg19 : BitVec 32 := Scf.iv c0_i32_1453 c1_i32_1455 k1_t78
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3635 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk155 (i : grid1.Coords) (v25 : BitVec 32) (v3633 : BitVec 32) (v3635 : BitVec 32) : Prop :=
  (∀ (k1_h78 : k1_cond78 i v25 v3633 = 1#1), ∀ a, (k1_off393 i v3635) a + S32x512.size a ≤ S4096x512.size a) ∧
  (∀ k1_t78 : Fin k1_t78_loop.trips, ∀ (k1_h78 : k1_cond78 i v25 v3633 = 1#1), ∀ a, (k1_off394 v3635 k1_t78) a + S1x16.size a ≤ S32x512.size a) ∧
  (∀ k1_t78 : Fin k1_t78_loop.trips, ∀ (k1_h78 : k1_cond78 i v25 v3633 = 1#1), ∀ a, (k1_off396 v3635 k1_t78) a + S1x16.size a ≤ S32x512.size a)
theorem k1_off393_inb : ∀ (i : grid1.Coords) (v25 : BitVec 32) (v3633 : BitVec 32) (v3635 : BitVec 32) (k1_hw155 : k1_chk155 i v25 v3633 v3635), ∀ (k1_h78 : k1_cond78 i v25 v3633 = 1#1), ∀ a, (k1_off393 i v3635) a + S32x512.size a ≤ S4096x512.size a := fun i v25 v3633 v3635 k1_hw155 k1_h78 => k1_hw155.1 k1_h78
theorem k1_off394_inb : ∀ (i : grid1.Coords) (v25 : BitVec 32) (v3633 : BitVec 32) (v3635 : BitVec 32) (k1_hw155 : k1_chk155 i v25 v3633 v3635) (k1_t78 : Fin k1_t78_loop.trips), ∀ (k1_h78 : k1_cond78 i v25 v3633 = 1#1), ∀ a, (k1_off394 v3635 k1_t78) a + S1x16.size a ≤ S32x512.size a := fun i v25 v3633 v3635 k1_hw155 k1_t78 k1_h78 => k1_hw155.2.1 k1_t78 k1_h78
theorem k1_off396_inb : ∀ (i : grid1.Coords) (v25 : BitVec 32) (v3633 : BitVec 32) (v3635 : BitVec 32) (k1_hw155 : k1_chk155 i v25 v3633 v3635) (k1_t78 : Fin k1_t78_loop.trips), ∀ (k1_h78 : k1_cond78 i v25 v3633 = 1#1), ∀ a, (k1_off396 v3635 k1_t78) a + S1x16.size a ≤ S32x512.size a := fun i v25 v3633 v3635 k1_hw155 k1_t78 k1_h78 => k1_hw155.2.2 k1_t78 k1_h78

def k1_off397 (v3633 : BitVec 32) (k1_t78 : Fin k1_t78_loop.trips) : Fin 2 → Nat :=
  let c0_i32_1380 : BitVec 32 := 0#32
  let v3637 : BitVec 1 := Scalar.cmpi .sgt v3633 c0_i32_1380
  let v3638 : BitVec 32 := Scalar.extui v3637
  let c0_i32_1381 : BitVec 32 := 0#32
  let v3639 : BitVec 1 := Scalar.cmpi .slt v3633 c0_i32_1381
  let v3640 : BitVec 32 := Scalar.extui v3639
  let v3641 : BitVec 32 := Scalar.subi v3638 v3640
  let c16_i32_1379 : BitVec 32 := 16#32
  let c0_i32_1382 : BitVec 32 := 0#32
  let v3642 : BitVec 1 := Scalar.cmpi .sgt c16_i32_1379 c0_i32_1382
  let v3643 : BitVec 32 := Scalar.extui v3642
  let c0_i32_1383 : BitVec 32 := 0#32
  let v3644 : BitVec 1 := Scalar.cmpi .slt c16_i32_1379 c0_i32_1383
  let v3645 : BitVec 32 := Scalar.extui v3644
  let v3646 : BitVec 32 := Scalar.subi v3643 v3645
  let v3647 : BitVec 1 := Scalar.cmpi .ne v3641 v3646
  let v3648 : BitVec 32 := Scalar.remsi v3633 c16_i32_1379
  let c0_i32_1384 : BitVec 32 := 0#32
  let v3649 : BitVec 1 := Scalar.cmpi .ne v3648 c0_i32_1384
  let v3650 : BitVec 1 := Scalar.andi v3647 v3649
  let v3636 : BitVec 32 := Scalar.divsi v3633 c16_i32_1379
  let c1_i32_1385 : BitVec 32 := 1#32
  let v3651 : BitVec 32 := Scalar.subi v3636 c1_i32_1385
  let v3652 : BitVec 32 := Scalar.select v3650 v3651 v3636
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3652 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t78
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3633 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk156 (i : grid1.Coords) (v25 : BitVec 32) (v3633 : BitVec 32) : Prop :=
  (∀ k1_t78 : Fin k1_t78_loop.trips, ∀ (k1_h78 : k1_cond78 i v25 v3633 = 1#1), ∀ a, (k1_off395 v3633 k1_t78) a + S1x16.size a ≤ S128x512.size a) ∧
  (∀ k1_t78 : Fin k1_t78_loop.trips, ∀ (k1_h78 : k1_cond78 i v25 v3633 = 1#1), ∀ a, (k1_off397 v3633 k1_t78) a + S1x16.size a ≤ S128x512.size a)
theorem k1_off395_inb : ∀ (i : grid1.Coords) (v25 : BitVec 32) (v3633 : BitVec 32) (k1_hw156 : k1_chk156 i v25 v3633) (k1_t78 : Fin k1_t78_loop.trips), ∀ (k1_h78 : k1_cond78 i v25 v3633 = 1#1), ∀ a, (k1_off395 v3633 k1_t78) a + S1x16.size a ≤ S128x512.size a := fun i v25 v3633 k1_hw156 k1_t78 k1_h78 => k1_hw156.1 k1_t78 k1_h78
theorem k1_off397_inb : ∀ (i : grid1.Coords) (v25 : BitVec 32) (v3633 : BitVec 32) (k1_hw156 : k1_chk156 i v25 v3633) (k1_t78 : Fin k1_t78_loop.trips), ∀ (k1_h78 : k1_cond78 i v25 v3633 = 1#1), ∀ a, (k1_off397 v3633 k1_t78) a + S1x16.size a ≤ S128x512.size a := fun i v25 v3633 k1_hw156 k1_t78 k1_h78 => k1_hw156.2 k1_t78 k1_h78

def k1_off398 (i : grid1.Coords) (v3678 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3678 c0_i32_1428
  let v3763 : BitVec 32 := Scalar.extui v3762
  let c0_i32_1429 : BitVec 32 := 0#32
  let v3764 : BitVec 1 := Scalar.cmpi .slt v3678 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3678 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3678 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r90 : BitVec 32 := 0#32
  ![v3779.toNat, 0]
def k1_cond79 (i : grid1.Coords) (v25 : BitVec 32) (v3676 : BitVec 32) : BitVec 1 :=
  let c14_i32_1402 : BitVec 32 := 14#32
  let v3696 : BitVec 1 := Scalar.cmpi .sgt v25 c14_i32_1402
  let c0_i32_1396 : BitVec 32 := 0#32
  let v3680 : BitVec 1 := Scalar.cmpi .sgt v3676 c0_i32_1396
  let v3681 : BitVec 32 := Scalar.extui v3680
  let c0_i32_1397 : BitVec 32 := 0#32
  let v3682 : BitVec 1 := Scalar.cmpi .slt v3676 c0_i32_1397
  let v3683 : BitVec 32 := Scalar.extui v3682
  let v3684 : BitVec 32 := Scalar.subi v3681 v3683
  let c16_i32_1395 : BitVec 32 := 16#32
  let c0_i32_1398 : BitVec 32 := 0#32
  let v3685 : BitVec 1 := Scalar.cmpi .sgt c16_i32_1395 c0_i32_1398
  let v3686 : BitVec 32 := Scalar.extui v3685
  let c0_i32_1399 : BitVec 32 := 0#32
  let v3687 : BitVec 1 := Scalar.cmpi .slt c16_i32_1395 c0_i32_1399
  let v3688 : BitVec 32 := Scalar.extui v3687
  let v3689 : BitVec 32 := Scalar.subi v3686 v3688
  let v3690 : BitVec 1 := Scalar.cmpi .ne v3684 v3689
  let v3691 : BitVec 32 := Scalar.remsi v3676 c16_i32_1395
  let c0_i32_1400 : BitVec 32 := 0#32
  let v3692 : BitVec 1 := Scalar.cmpi .ne v3691 c0_i32_1400
  let v3693 : BitVec 1 := Scalar.andi v3690 v3692
  let v3679 : BitVec 32 := Scalar.divsi v3676 c16_i32_1395
  let c1_i32_1401 : BitVec 32 := 1#32
  let v3694 : BitVec 32 := Scalar.subi v3679 c1_i32_1401
  let v3695 : BitVec 32 := Scalar.select v3693 v3694 v3679
  let c0_i32_1404 : BitVec 32 := 0#32
  let v3698 : BitVec 1 := Scalar.cmpi .sgt v3695 c0_i32_1404
  let v3699 : BitVec 32 := Scalar.extui v3698
  let c0_i32_1405 : BitVec 32 := 0#32
  let v3700 : BitVec 1 := Scalar.cmpi .slt v3695 c0_i32_1405
  let v3701 : BitVec 32 := Scalar.extui v3700
  let v3702 : BitVec 32 := Scalar.subi v3699 v3701
  let c4_i32_1403 : BitVec 32 := 4#32
  let c0_i32_1406 : BitVec 32 := 0#32
  let v3703 : BitVec 1 := Scalar.cmpi .sgt c4_i32_1403 c0_i32_1406
  let v3704 : BitVec 32 := Scalar.extui v3703
  let c0_i32_1407 : BitVec 32 := 0#32
  let v3705 : BitVec 1 := Scalar.cmpi .slt c4_i32_1403 c0_i32_1407
  let v3706 : BitVec 32 := Scalar.extui v3705
  let v3707 : BitVec 32 := Scalar.subi v3704 v3706
  let v3708 : BitVec 1 := Scalar.cmpi .ne v3702 v3707
  let v3709 : BitVec 32 := Scalar.remsi v3695 c4_i32_1403
  let c0_i32_1408 : BitVec 32 := 0#32
  let v3710 : BitVec 1 := Scalar.cmpi .ne v3709 c0_i32_1408
  let v3711 : BitVec 1 := Scalar.andi v3708 v3710
  let v3697 : BitVec 32 := Scalar.divsi v3695 c4_i32_1403
  let c1_i32_1409 : BitVec 32 := 1#32
  let v3712 : BitVec 32 := Scalar.subi v3697 c1_i32_1409
  let v3713 : BitVec 32 := Scalar.select v3711 v3712 v3697
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3714 : BitVec 1 := Scalar.cmpi .eq v3713 v3072
  let v3715 : BitVec 1 := Scalar.andi v3696 v3714
  let v3716 : BitVec 32 := Scalar.extui v3715
  let c0_i32_1410 : BitVec 32 := 0#32
  let v3717 : BitVec 1 := Scalar.cmpi .ne v3716 c0_i32_1410
  v3717

@[reducible] def k1_t79_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off399 (v3678 : BitVec 32) (k1_t79 : Fin k1_t79_loop.trips) : Fin 2 → Nat :=
  let c0_i32_1453 : BitVec 32 := 0#32
  let c1_i32_1455 : BitVec 32 := 1#32
  let arg19 : BitVec 32 := Scf.iv c0_i32_1453 c1_i32_1455 k1_t79
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3678 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off400 (v3676 : BitVec 32) (k1_t79 : Fin k1_t79_loop.trips) : Fin 2 → Nat :=
  let c0_i32_1396 : BitVec 32 := 0#32
  let v3680 : BitVec 1 := Scalar.cmpi .sgt v3676 c0_i32_1396
  let v3681 : BitVec 32 := Scalar.extui v3680
  let c0_i32_1397 : BitVec 32 := 0#32
  let v3682 : BitVec 1 := Scalar.cmpi .slt v3676 c0_i32_1397
  let v3683 : BitVec 32 := Scalar.extui v3682
  let v3684 : BitVec 32 := Scalar.subi v3681 v3683
  let c16_i32_1395 : BitVec 32 := 16#32
  let c0_i32_1398 : BitVec 32 := 0#32
  let v3685 : BitVec 1 := Scalar.cmpi .sgt c16_i32_1395 c0_i32_1398
  let v3686 : BitVec 32 := Scalar.extui v3685
  let c0_i32_1399 : BitVec 32 := 0#32
  let v3687 : BitVec 1 := Scalar.cmpi .slt c16_i32_1395 c0_i32_1399
  let v3688 : BitVec 32 := Scalar.extui v3687
  let v3689 : BitVec 32 := Scalar.subi v3686 v3688
  let v3690 : BitVec 1 := Scalar.cmpi .ne v3684 v3689
  let v3691 : BitVec 32 := Scalar.remsi v3676 c16_i32_1395
  let c0_i32_1400 : BitVec 32 := 0#32
  let v3692 : BitVec 1 := Scalar.cmpi .ne v3691 c0_i32_1400
  let v3693 : BitVec 1 := Scalar.andi v3690 v3692
  let v3679 : BitVec 32 := Scalar.divsi v3676 c16_i32_1395
  let c1_i32_1401 : BitVec 32 := 1#32
  let v3694 : BitVec 32 := Scalar.subi v3679 c1_i32_1401
  let v3695 : BitVec 32 := Scalar.select v3693 v3694 v3679
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3695 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t79
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3676 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off401 (v3678 : BitVec 32) (k1_t79 : Fin k1_t79_loop.trips) : Fin 2 → Nat :=
  let c0_i32_1453 : BitVec 32 := 0#32
  let c1_i32_1455 : BitVec 32 := 1#32
  let arg19 : BitVec 32 := Scf.iv c0_i32_1453 c1_i32_1455 k1_t79
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3678 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk157 (i : grid1.Coords) (v25 : BitVec 32) (v3676 : BitVec 32) (v3678 : BitVec 32) : Prop :=
  (∀ (k1_h79 : k1_cond79 i v25 v3676 = 1#1), ∀ a, (k1_off398 i v3678) a + S32x512.size a ≤ S4096x512.size a) ∧
  (∀ k1_t79 : Fin k1_t79_loop.trips, ∀ (k1_h79 : k1_cond79 i v25 v3676 = 1#1), ∀ a, (k1_off399 v3678 k1_t79) a + S1x16.size a ≤ S32x512.size a) ∧
  (∀ k1_t79 : Fin k1_t79_loop.trips, ∀ (k1_h79 : k1_cond79 i v25 v3676 = 1#1), ∀ a, (k1_off401 v3678 k1_t79) a + S1x16.size a ≤ S32x512.size a)
theorem k1_off398_inb : ∀ (i : grid1.Coords) (v25 : BitVec 32) (v3676 : BitVec 32) (v3678 : BitVec 32) (k1_hw157 : k1_chk157 i v25 v3676 v3678), ∀ (k1_h79 : k1_cond79 i v25 v3676 = 1#1), ∀ a, (k1_off398 i v3678) a + S32x512.size a ≤ S4096x512.size a := fun i v25 v3676 v3678 k1_hw157 k1_h79 => k1_hw157.1 k1_h79
theorem k1_off399_inb : ∀ (i : grid1.Coords) (v25 : BitVec 32) (v3676 : BitVec 32) (v3678 : BitVec 32) (k1_hw157 : k1_chk157 i v25 v3676 v3678) (k1_t79 : Fin k1_t79_loop.trips), ∀ (k1_h79 : k1_cond79 i v25 v3676 = 1#1), ∀ a, (k1_off399 v3678 k1_t79) a + S1x16.size a ≤ S32x512.size a := fun i v25 v3676 v3678 k1_hw157 k1_t79 k1_h79 => k1_hw157.2.1 k1_t79 k1_h79
theorem k1_off401_inb : ∀ (i : grid1.Coords) (v25 : BitVec 32) (v3676 : BitVec 32) (v3678 : BitVec 32) (k1_hw157 : k1_chk157 i v25 v3676 v3678) (k1_t79 : Fin k1_t79_loop.trips), ∀ (k1_h79 : k1_cond79 i v25 v3676 = 1#1), ∀ a, (k1_off401 v3678 k1_t79) a + S1x16.size a ≤ S32x512.size a := fun i v25 v3676 v3678 k1_hw157 k1_t79 k1_h79 => k1_hw157.2.2 k1_t79 k1_h79

def k1_off402 (v3676 : BitVec 32) (k1_t79 : Fin k1_t79_loop.trips) : Fin 2 → Nat :=
  let c0_i32_1396 : BitVec 32 := 0#32
  let v3680 : BitVec 1 := Scalar.cmpi .sgt v3676 c0_i32_1396
  let v3681 : BitVec 32 := Scalar.extui v3680
  let c0_i32_1397 : BitVec 32 := 0#32
  let v3682 : BitVec 1 := Scalar.cmpi .slt v3676 c0_i32_1397
  let v3683 : BitVec 32 := Scalar.extui v3682
  let v3684 : BitVec 32 := Scalar.subi v3681 v3683
  let c16_i32_1395 : BitVec 32 := 16#32
  let c0_i32_1398 : BitVec 32 := 0#32
  let v3685 : BitVec 1 := Scalar.cmpi .sgt c16_i32_1395 c0_i32_1398
  let v3686 : BitVec 32 := Scalar.extui v3685
  let c0_i32_1399 : BitVec 32 := 0#32
  let v3687 : BitVec 1 := Scalar.cmpi .slt c16_i32_1395 c0_i32_1399
  let v3688 : BitVec 32 := Scalar.extui v3687
  let v3689 : BitVec 32 := Scalar.subi v3686 v3688
  let v3690 : BitVec 1 := Scalar.cmpi .ne v3684 v3689
  let v3691 : BitVec 32 := Scalar.remsi v3676 c16_i32_1395
  let c0_i32_1400 : BitVec 32 := 0#32
  let v3692 : BitVec 1 := Scalar.cmpi .ne v3691 c0_i32_1400
  let v3693 : BitVec 1 := Scalar.andi v3690 v3692
  let v3679 : BitVec 32 := Scalar.divsi v3676 c16_i32_1395
  let c1_i32_1401 : BitVec 32 := 1#32
  let v3694 : BitVec 32 := Scalar.subi v3679 c1_i32_1401
  let v3695 : BitVec 32 := Scalar.select v3693 v3694 v3679
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3695 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t79
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3676 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk158 (i : grid1.Coords) (v25 : BitVec 32) (v3676 : BitVec 32) : Prop :=
  (∀ k1_t79 : Fin k1_t79_loop.trips, ∀ (k1_h79 : k1_cond79 i v25 v3676 = 1#1), ∀ a, (k1_off400 v3676 k1_t79) a + S1x16.size a ≤ S128x512.size a) ∧
  (∀ k1_t79 : Fin k1_t79_loop.trips, ∀ (k1_h79 : k1_cond79 i v25 v3676 = 1#1), ∀ a, (k1_off402 v3676 k1_t79) a + S1x16.size a ≤ S128x512.size a)
theorem k1_off400_inb : ∀ (i : grid1.Coords) (v25 : BitVec 32) (v3676 : BitVec 32) (k1_hw158 : k1_chk158 i v25 v3676) (k1_t79 : Fin k1_t79_loop.trips), ∀ (k1_h79 : k1_cond79 i v25 v3676 = 1#1), ∀ a, (k1_off400 v3676 k1_t79) a + S1x16.size a ≤ S128x512.size a := fun i v25 v3676 k1_hw158 k1_t79 k1_h79 => k1_hw158.1 k1_t79 k1_h79
theorem k1_off402_inb : ∀ (i : grid1.Coords) (v25 : BitVec 32) (v3676 : BitVec 32) (k1_hw158 : k1_chk158 i v25 v3676) (k1_t79 : Fin k1_t79_loop.trips), ∀ (k1_h79 : k1_cond79 i v25 v3676 = 1#1), ∀ a, (k1_off402 v3676 k1_t79) a + S1x16.size a ≤ S128x512.size a := fun i v25 v3676 k1_hw158 k1_t79 k1_h79 => k1_hw158.2 k1_t79 k1_h79

def k1_off403 (i : grid1.Coords) (v3721 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_1157 : BitVec 32 := 512#32
  let v3045 : BitVec 32 := Scalar.muli v18 c512_i32_1157
  let c0_i32_1428 : BitVec 32 := 0#32
  let v3762 : BitVec 1 := Scalar.cmpi .sgt v3721 c0_i32_1428
  let v3763 : BitVec 32 := Scalar.extui v3762
  let c0_i32_1429 : BitVec 32 := 0#32
  let v3764 : BitVec 1 := Scalar.cmpi .slt v3721 c0_i32_1429
  let v3765 : BitVec 32 := Scalar.extui v3764
  let v3766 : BitVec 32 := Scalar.subi v3763 v3765
  let c16_i32_1427 : BitVec 32 := 16#32
  let c0_i32_1430 : BitVec 32 := 0#32
  let v3767 : BitVec 1 := Scalar.cmpi .sgt c16_i32_1427 c0_i32_1430
  let v3768 : BitVec 32 := Scalar.extui v3767
  let c0_i32_1431 : BitVec 32 := 0#32
  let v3769 : BitVec 1 := Scalar.cmpi .slt c16_i32_1427 c0_i32_1431
  let v3770 : BitVec 32 := Scalar.extui v3769
  let v3771 : BitVec 32 := Scalar.subi v3768 v3770
  let v3772 : BitVec 1 := Scalar.cmpi .ne v3766 v3771
  let v3773 : BitVec 32 := Scalar.remsi v3721 c16_i32_1427
  let c0_i32_1432 : BitVec 32 := 0#32
  let v3774 : BitVec 1 := Scalar.cmpi .ne v3773 c0_i32_1432
  let v3775 : BitVec 1 := Scalar.andi v3772 v3774
  let v3761 : BitVec 32 := Scalar.divsi v3721 c16_i32_1427
  let c1_i32_1433 : BitVec 32 := 1#32
  let v3776 : BitVec 32 := Scalar.subi v3761 c1_i32_1433
  let v3777 : BitVec 32 := Scalar.select v3775 v3776 v3761
  let c32_i32 : BitVec 32 := 32#32
  let v3778 : BitVec 32 := Scalar.muli v3777 c32_i32
  let v3779 : BitVec 32 := Scalar.addi v3045 v3778
  let c0_i32_1457_r91 : BitVec 32 := 0#32
  ![v3779.toNat, 0]
def k1_cond80 (i : grid1.Coords) (v25 : BitVec 32) (v3719 : BitVec 32) : BitVec 1 :=
  let c15_i32_1418 : BitVec 32 := 15#32
  let v3739 : BitVec 1 := Scalar.cmpi .sgt v25 c15_i32_1418
  let c0_i32_1412 : BitVec 32 := 0#32
  let v3723 : BitVec 1 := Scalar.cmpi .sgt v3719 c0_i32_1412
  let v3724 : BitVec 32 := Scalar.extui v3723
  let c0_i32_1413 : BitVec 32 := 0#32
  let v3725 : BitVec 1 := Scalar.cmpi .slt v3719 c0_i32_1413
  let v3726 : BitVec 32 := Scalar.extui v3725
  let v3727 : BitVec 32 := Scalar.subi v3724 v3726
  let c16_i32_1411 : BitVec 32 := 16#32
  let c0_i32_1414 : BitVec 32 := 0#32
  let v3728 : BitVec 1 := Scalar.cmpi .sgt c16_i32_1411 c0_i32_1414
  let v3729 : BitVec 32 := Scalar.extui v3728
  let c0_i32_1415 : BitVec 32 := 0#32
  let v3730 : BitVec 1 := Scalar.cmpi .slt c16_i32_1411 c0_i32_1415
  let v3731 : BitVec 32 := Scalar.extui v3730
  let v3732 : BitVec 32 := Scalar.subi v3729 v3731
  let v3733 : BitVec 1 := Scalar.cmpi .ne v3727 v3732
  let v3734 : BitVec 32 := Scalar.remsi v3719 c16_i32_1411
  let c0_i32_1416 : BitVec 32 := 0#32
  let v3735 : BitVec 1 := Scalar.cmpi .ne v3734 c0_i32_1416
  let v3736 : BitVec 1 := Scalar.andi v3733 v3735
  let v3722 : BitVec 32 := Scalar.divsi v3719 c16_i32_1411
  let c1_i32_1417 : BitVec 32 := 1#32
  let v3737 : BitVec 32 := Scalar.subi v3722 c1_i32_1417
  let v3738 : BitVec 32 := Scalar.select v3736 v3737 v3722
  let c0_i32_1420 : BitVec 32 := 0#32
  let v3741 : BitVec 1 := Scalar.cmpi .sgt v3738 c0_i32_1420
  let v3742 : BitVec 32 := Scalar.extui v3741
  let c0_i32_1421 : BitVec 32 := 0#32
  let v3743 : BitVec 1 := Scalar.cmpi .slt v3738 c0_i32_1421
  let v3744 : BitVec 32 := Scalar.extui v3743
  let v3745 : BitVec 32 := Scalar.subi v3742 v3744
  let c4_i32_1419 : BitVec 32 := 4#32
  let c0_i32_1422 : BitVec 32 := 0#32
  let v3746 : BitVec 1 := Scalar.cmpi .sgt c4_i32_1419 c0_i32_1422
  let v3747 : BitVec 32 := Scalar.extui v3746
  let c0_i32_1423 : BitVec 32 := 0#32
  let v3748 : BitVec 1 := Scalar.cmpi .slt c4_i32_1419 c0_i32_1423
  let v3749 : BitVec 32 := Scalar.extui v3748
  let v3750 : BitVec 32 := Scalar.subi v3747 v3749
  let v3751 : BitVec 1 := Scalar.cmpi .ne v3745 v3750
  let v3752 : BitVec 32 := Scalar.remsi v3738 c4_i32_1419
  let c0_i32_1424 : BitVec 32 := 0#32
  let v3753 : BitVec 1 := Scalar.cmpi .ne v3752 c0_i32_1424
  let v3754 : BitVec 1 := Scalar.andi v3751 v3753
  let v3740 : BitVec 32 := Scalar.divsi v3738 c4_i32_1419
  let c1_i32_1425 : BitVec 32 := 1#32
  let v3755 : BitVec 32 := Scalar.subi v3740 c1_i32_1425
  let v3756 : BitVec 32 := Scalar.select v3754 v3755 v3740
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c512_i32_1158 : BitVec 32 := 512#32
  let c0_i32_1159 : BitVec 32 := 0#32
  let v3046 : BitVec 1 := Scalar.cmpi .eq c512_i32_1158 c0_i32_1159
  let c1_i32_1160 : BitVec 32 := 1#32
  let v3047 : BitVec 32 := Scalar.select v3046 c1_i32_1160 c512_i32_1158
  let v3048 : BitVec 32 := Scalar.remsi v2328 v3047
  let c0_i32_1162 : BitVec 32 := 0#32
  let v3050 : BitVec 1 := Scalar.cmpi .slt v3048 c0_i32_1162
  let c0_i32_1163 : BitVec 32 := 0#32
  let v3051 : BitVec 1 := Scalar.cmpi .slt v3047 c0_i32_1163
  let v3052 : BitVec 1 := Scalar.xori v3050 v3051
  let c0_i32_1161 : BitVec 32 := 0#32
  let v3049 : BitVec 1 := Scalar.cmpi .ne v3048 c0_i32_1161
  let v3053 : BitVec 1 := Scalar.andi v3052 v3049
  let v3054 : BitVec 32 := Scalar.addi v3048 v3047
  let v3055 : BitVec 32 := Scalar.select v3053 v3054 v3048
  let c0_i32_1165 : BitVec 32 := 0#32
  let v3057 : BitVec 1 := Scalar.cmpi .sgt v3055 c0_i32_1165
  let v3058 : BitVec 32 := Scalar.extui v3057
  let c0_i32_1166 : BitVec 32 := 0#32
  let v3059 : BitVec 1 := Scalar.cmpi .slt v3055 c0_i32_1166
  let v3060 : BitVec 32 := Scalar.extui v3059
  let v3061 : BitVec 32 := Scalar.subi v3058 v3060
  let c128_i32_1164 : BitVec 32 := 128#32
  let c0_i32_1167 : BitVec 32 := 0#32
  let v3062 : BitVec 1 := Scalar.cmpi .sgt c128_i32_1164 c0_i32_1167
  let v3063 : BitVec 32 := Scalar.extui v3062
  let c0_i32_1168 : BitVec 32 := 0#32
  let v3064 : BitVec 1 := Scalar.cmpi .slt c128_i32_1164 c0_i32_1168
  let v3065 : BitVec 32 := Scalar.extui v3064
  let v3066 : BitVec 32 := Scalar.subi v3063 v3065
  let v3067 : BitVec 1 := Scalar.cmpi .ne v3061 v3066
  let v3068 : BitVec 32 := Scalar.remsi v3055 c128_i32_1164
  let c0_i32_1169 : BitVec 32 := 0#32
  let v3069 : BitVec 1 := Scalar.cmpi .ne v3068 c0_i32_1169
  let v3070 : BitVec 1 := Scalar.andi v3067 v3069
  let v3056 : BitVec 32 := Scalar.divsi v3055 c128_i32_1164
  let c1_i32_1170 : BitVec 32 := 1#32
  let v3071 : BitVec 32 := Scalar.subi v3056 c1_i32_1170
  let v3072 : BitVec 32 := Scalar.select v3070 v3071 v3056
  let v3757 : BitVec 1 := Scalar.cmpi .eq v3756 v3072
  let v3758 : BitVec 1 := Scalar.andi v3739 v3757
  let v3759 : BitVec 32 := Scalar.extui v3758
  let c0_i32_1426 : BitVec 32 := 0#32
  let v3760 : BitVec 1 := Scalar.cmpi .ne v3759 c0_i32_1426
  v3760

@[reducible] def k1_t80_loop : Scf.Loop 32 :=
  let c0_i32_1453 : BitVec 32 := 0#32
  let c32_i32_1454 : BitVec 32 := 32#32
  let v3810 : BitVec 32 := Scalar.addi c0_i32_1453 c32_i32_1454
  let c1_i32_1455 : BitVec 32 := 1#32
  ⟨c0_i32_1453, v3810, c1_i32_1455⟩
def k1_off404 (v3721 : BitVec 32) (k1_t80 : Fin k1_t80_loop.trips) : Fin 2 → Nat :=
  let c0_i32_1453 : BitVec 32 := 0#32
  let c1_i32_1455 : BitVec 32 := 1#32
  let arg19 : BitVec 32 := Scf.iv c0_i32_1453 c1_i32_1455 k1_t80
  let v3816 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3721 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let v3817 : Index := Scalar.indexCast v3812
  ![v3816.toNat, v3817.toNat]
def k1_off405 (v3719 : BitVec 32) (k1_t80 : Fin k1_t80_loop.trips) : Fin 2 → Nat :=
  let c0_i32_1412 : BitVec 32 := 0#32
  let v3723 : BitVec 1 := Scalar.cmpi .sgt v3719 c0_i32_1412
  let v3724 : BitVec 32 := Scalar.extui v3723
  let c0_i32_1413 : BitVec 32 := 0#32
  let v3725 : BitVec 1 := Scalar.cmpi .slt v3719 c0_i32_1413
  let v3726 : BitVec 32 := Scalar.extui v3725
  let v3727 : BitVec 32 := Scalar.subi v3724 v3726
  let c16_i32_1411 : BitVec 32 := 16#32
  let c0_i32_1414 : BitVec 32 := 0#32
  let v3728 : BitVec 1 := Scalar.cmpi .sgt c16_i32_1411 c0_i32_1414
  let v3729 : BitVec 32 := Scalar.extui v3728
  let c0_i32_1415 : BitVec 32 := 0#32
  let v3730 : BitVec 1 := Scalar.cmpi .slt c16_i32_1411 c0_i32_1415
  let v3731 : BitVec 32 := Scalar.extui v3730
  let v3732 : BitVec 32 := Scalar.subi v3729 v3731
  let v3733 : BitVec 1 := Scalar.cmpi .ne v3727 v3732
  let v3734 : BitVec 32 := Scalar.remsi v3719 c16_i32_1411
  let c0_i32_1416 : BitVec 32 := 0#32
  let v3735 : BitVec 1 := Scalar.cmpi .ne v3734 c0_i32_1416
  let v3736 : BitVec 1 := Scalar.andi v3733 v3735
  let v3722 : BitVec 32 := Scalar.divsi v3719 c16_i32_1411
  let c1_i32_1417 : BitVec 32 := 1#32
  let v3737 : BitVec 32 := Scalar.subi v3722 c1_i32_1417
  let v3738 : BitVec 32 := Scalar.select v3736 v3737 v3722
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3738 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t80
  let v3815 : BitVec 32 := Scalar.addi v3814 arg19
  let v3820 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3719 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let v3821 : Index := Scalar.indexCast v3813
  ![v3820.toNat, v3821.toNat]

def k1_off406 (v3721 : BitVec 32) (k1_t80 : Fin k1_t80_loop.trips) : Fin 2 → Nat :=
  let c0_i32_1453 : BitVec 32 := 0#32
  let c1_i32_1455 : BitVec 32 := 1#32
  let arg19 : BitVec 32 := Scf.iv c0_i32_1453 c1_i32_1455 k1_t80
  let v3826 : Index := Scalar.indexCast arg19
  let c16_i32_1446 : BitVec 32 := 16#32
  let c0_i32_1447 : BitVec 32 := 0#32
  let v3800 : BitVec 1 := Scalar.cmpi .eq c16_i32_1446 c0_i32_1447
  let c1_i32_1448 : BitVec 32 := 1#32
  let v3801 : BitVec 32 := Scalar.select v3800 c1_i32_1448 c16_i32_1446
  let v3802 : BitVec 32 := Scalar.remsi v3721 v3801
  let c0_i32_1450 : BitVec 32 := 0#32
  let v3804 : BitVec 1 := Scalar.cmpi .slt v3802 c0_i32_1450
  let c0_i32_1451 : BitVec 32 := 0#32
  let v3805 : BitVec 1 := Scalar.cmpi .slt v3801 c0_i32_1451
  let v3806 : BitVec 1 := Scalar.xori v3804 v3805
  let c0_i32_1449 : BitVec 32 := 0#32
  let v3803 : BitVec 1 := Scalar.cmpi .ne v3802 c0_i32_1449
  let v3807 : BitVec 1 := Scalar.andi v3806 v3803
  let v3808 : BitVec 32 := Scalar.addi v3802 v3801
  let v3809 : BitVec 32 := Scalar.select v3807 v3808 v3802
  let c32_i32_1457 : BitVec 32 := 32#32
  let v3812 : BitVec 32 := Scalar.muli v3809 c32_i32_1457
  let c16_i32_1460 : BitVec 32 := 16#32
  let v3825 : BitVec 32 := Scalar.addi v3812 c16_i32_1460
  let v3827 : Index := Scalar.indexCast v3825
  ![v3826.toNat, v3827.toNat]

def k1_chk159 (i : grid1.Coords) (v25 : BitVec 32) (v3719 : BitVec 32) (v3721 : BitVec 32) : Prop :=
  (∀ (k1_h80 : k1_cond80 i v25 v3719 = 1#1), ∀ a, (k1_off403 i v3721) a + S32x512.size a ≤ S4096x512.size a) ∧
  (∀ k1_t80 : Fin k1_t80_loop.trips, ∀ (k1_h80 : k1_cond80 i v25 v3719 = 1#1), ∀ a, (k1_off404 v3721 k1_t80) a + S1x16.size a ≤ S32x512.size a) ∧
  (∀ k1_t80 : Fin k1_t80_loop.trips, ∀ (k1_h80 : k1_cond80 i v25 v3719 = 1#1), ∀ a, (k1_off406 v3721 k1_t80) a + S1x16.size a ≤ S32x512.size a)
theorem k1_off403_inb : ∀ (i : grid1.Coords) (v25 : BitVec 32) (v3719 : BitVec 32) (v3721 : BitVec 32) (k1_hw159 : k1_chk159 i v25 v3719 v3721), ∀ (k1_h80 : k1_cond80 i v25 v3719 = 1#1), ∀ a, (k1_off403 i v3721) a + S32x512.size a ≤ S4096x512.size a := fun i v25 v3719 v3721 k1_hw159 k1_h80 => k1_hw159.1 k1_h80
theorem k1_off404_inb : ∀ (i : grid1.Coords) (v25 : BitVec 32) (v3719 : BitVec 32) (v3721 : BitVec 32) (k1_hw159 : k1_chk159 i v25 v3719 v3721) (k1_t80 : Fin k1_t80_loop.trips), ∀ (k1_h80 : k1_cond80 i v25 v3719 = 1#1), ∀ a, (k1_off404 v3721 k1_t80) a + S1x16.size a ≤ S32x512.size a := fun i v25 v3719 v3721 k1_hw159 k1_t80 k1_h80 => k1_hw159.2.1 k1_t80 k1_h80
theorem k1_off406_inb : ∀ (i : grid1.Coords) (v25 : BitVec 32) (v3719 : BitVec 32) (v3721 : BitVec 32) (k1_hw159 : k1_chk159 i v25 v3719 v3721) (k1_t80 : Fin k1_t80_loop.trips), ∀ (k1_h80 : k1_cond80 i v25 v3719 = 1#1), ∀ a, (k1_off406 v3721 k1_t80) a + S1x16.size a ≤ S32x512.size a := fun i v25 v3719 v3721 k1_hw159 k1_t80 k1_h80 => k1_hw159.2.2 k1_t80 k1_h80

def k1_off407 (v3719 : BitVec 32) (k1_t80 : Fin k1_t80_loop.trips) : Fin 2 → Nat :=
  let c0_i32_1412 : BitVec 32 := 0#32
  let v3723 : BitVec 1 := Scalar.cmpi .sgt v3719 c0_i32_1412
  let v3724 : BitVec 32 := Scalar.extui v3723
  let c0_i32_1413 : BitVec 32 := 0#32
  let v3725 : BitVec 1 := Scalar.cmpi .slt v3719 c0_i32_1413
  let v3726 : BitVec 32 := Scalar.extui v3725
  let v3727 : BitVec 32 := Scalar.subi v3724 v3726
  let c16_i32_1411 : BitVec 32 := 16#32
  let c0_i32_1414 : BitVec 32 := 0#32
  let v3728 : BitVec 1 := Scalar.cmpi .sgt c16_i32_1411 c0_i32_1414
  let v3729 : BitVec 32 := Scalar.extui v3728
  let c0_i32_1415 : BitVec 32 := 0#32
  let v3730 : BitVec 1 := Scalar.cmpi .slt c16_i32_1411 c0_i32_1415
  let v3731 : BitVec 32 := Scalar.extui v3730
  let v3732 : BitVec 32 := Scalar.subi v3729 v3731
  let v3733 : BitVec 1 := Scalar.cmpi .ne v3727 v3732
  let v3734 : BitVec 32 := Scalar.remsi v3719 c16_i32_1411
  let c0_i32_1416 : BitVec 32 := 0#32
  let v3735 : BitVec 1 := Scalar.cmpi .ne v3734 c0_i32_1416
  let v3736 : BitVec 1 := Scalar.andi v3733 v3735
  let v3722 : BitVec 32 := Scalar.divsi v3719 c16_i32_1411
  let c1_i32_1417 : BitVec 32 := 1#32
  let v3737 : BitVec 32 := Scalar.subi v3722 c1_i32_1417
  let v3738 : BitVec 32 := Scalar.select v3736 v3737 v3722
  let c4_i32_1434 : BitVec 32 := 4#32
  let c0_i32_1435 : BitVec 32 := 0#32
  let v3780 : BitVec 1 := Scalar.cmpi .eq c4_i32_1434 c0_i32_1435
  let c1_i32_1436 : BitVec 32 := 1#32
  let v3781 : BitVec 32 := Scalar.select v3780 c1_i32_1436 c4_i32_1434
  let v3782 : BitVec 32 := Scalar.remsi v3738 v3781
  let c0_i32_1438 : BitVec 32 := 0#32
  let v3784 : BitVec 1 := Scalar.cmpi .slt v3782 c0_i32_1438
  let c0_i32_1439 : BitVec 32 := 0#32
  let v3785 : BitVec 1 := Scalar.cmpi .slt v3781 c0_i32_1439
  let v3786 : BitVec 1 := Scalar.xori v3784 v3785
  let c0_i32_1437 : BitVec 32 := 0#32
  let v3783 : BitVec 1 := Scalar.cmpi .ne v3782 c0_i32_1437
  let v3787 : BitVec 1 := Scalar.andi v3786 v3783
  let v3788 : BitVec 32 := Scalar.addi v3782 v3781
  let v3789 : BitVec 32 := Scalar.select v3787 v3788 v3782
  let c32_i32_1459 : BitVec 32 := 32#32
  let v3814 : BitVec 32 := Scalar.muli v3789 c32_i32_1459
  let c0_i32_1453 : BitVec 32 := 0#32
  let c1_i32_1455 : BitVec 32 := 1#32
  let arg19 : BitVec 32 := Scf.iv c0_i32_1453 c1_i32_1455 k1_t80
  let v3815 : BitVec 32 := Scalar.addi v3814 arg19
  let v3831 : Index := Scalar.indexCast v3815
  let c16_i32_1440 : BitVec 32 := 16#32
  let c0_i32_1441 : BitVec 32 := 0#32
  let v3790 : BitVec 1 := Scalar.cmpi .eq c16_i32_1440 c0_i32_1441
  let c1_i32_1442 : BitVec 32 := 1#32
  let v3791 : BitVec 32 := Scalar.select v3790 c1_i32_1442 c16_i32_1440
  let v3792 : BitVec 32 := Scalar.remsi v3719 v3791
  let c0_i32_1444 : BitVec 32 := 0#32
  let v3794 : BitVec 1 := Scalar.cmpi .slt v3792 c0_i32_1444
  let c0_i32_1445 : BitVec 32 := 0#32
  let v3795 : BitVec 1 := Scalar.cmpi .slt v3791 c0_i32_1445
  let v3796 : BitVec 1 := Scalar.xori v3794 v3795
  let c0_i32_1443 : BitVec 32 := 0#32
  let v3793 : BitVec 1 := Scalar.cmpi .ne v3792 c0_i32_1443
  let v3797 : BitVec 1 := Scalar.andi v3796 v3793
  let v3798 : BitVec 32 := Scalar.addi v3792 v3791
  let v3799 : BitVec 32 := Scalar.select v3797 v3798 v3792
  let c32_i32_1458 : BitVec 32 := 32#32
  let v3813 : BitVec 32 := Scalar.muli v3799 c32_i32_1458
  let c16_i32_1461 : BitVec 32 := 16#32
  let v3830 : BitVec 32 := Scalar.addi v3813 c16_i32_1461
  let v3832 : Index := Scalar.indexCast v3830
  ![v3831.toNat, v3832.toNat]

def k1_chk160 (i : grid1.Coords) (v25 : BitVec 32) (v3719 : BitVec 32) : Prop :=
  (∀ k1_t80 : Fin k1_t80_loop.trips, ∀ (k1_h80 : k1_cond80 i v25 v3719 = 1#1), ∀ a, (k1_off405 v3719 k1_t80) a + S1x16.size a ≤ S128x512.size a) ∧
  (∀ k1_t80 : Fin k1_t80_loop.trips, ∀ (k1_h80 : k1_cond80 i v25 v3719 = 1#1), ∀ a, (k1_off407 v3719 k1_t80) a + S1x16.size a ≤ S128x512.size a)
theorem k1_off405_inb : ∀ (i : grid1.Coords) (v25 : BitVec 32) (v3719 : BitVec 32) (k1_hw160 : k1_chk160 i v25 v3719) (k1_t80 : Fin k1_t80_loop.trips), ∀ (k1_h80 : k1_cond80 i v25 v3719 = 1#1), ∀ a, (k1_off405 v3719 k1_t80) a + S1x16.size a ≤ S128x512.size a := fun i v25 v3719 k1_hw160 k1_t80 k1_h80 => k1_hw160.1 k1_t80 k1_h80
theorem k1_off407_inb : ∀ (i : grid1.Coords) (v25 : BitVec 32) (v3719 : BitVec 32) (k1_hw160 : k1_chk160 i v25 v3719) (k1_t80 : Fin k1_t80_loop.trips), ∀ (k1_h80 : k1_cond80 i v25 v3719 = 1#1), ∀ a, (k1_off407 v3719 k1_t80) a + S1x16.size a ≤ S128x512.size a := fun i v25 v3719 k1_hw160 k1_t80 k1_h80 => k1_hw160.2 k1_t80 k1_h80

def k1_off408 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c512_i32_885 : BitVec 32 := 512#32
  let v2326 : BitVec 32 := Scalar.muli v18 c512_i32_885
  let c4_i32_879 : BitVec 32 := 4#32
  let c0_i32_880 : BitVec 32 := 0#32
  let v2316 : BitVec 1 := Scalar.cmpi .eq c4_i32_879 c0_i32_880
  let c1_i32_881 : BitVec 32 := 1#32
  let v2317 : BitVec 32 := Scalar.select v2316 c1_i32_881 c4_i32_879
  let v2318 : BitVec 32 := Scalar.remsi v1 v2317
  let c0_i32_883 : BitVec 32 := 0#32
  let v2320 : BitVec 1 := Scalar.cmpi .slt v2318 c0_i32_883
  let c0_i32_884 : BitVec 32 := 0#32
  let v2321 : BitVec 1 := Scalar.cmpi .slt v2317 c0_i32_884
  let v2322 : BitVec 1 := Scalar.xori v2320 v2321
  let c0_i32_882 : BitVec 32 := 0#32
  let v2319 : BitVec 1 := Scalar.cmpi .ne v2318 c0_i32_882
  let v2323 : BitVec 1 := Scalar.andi v2322 v2319
  let v2324 : BitVec 32 := Scalar.addi v2318 v2317
  let v2325 : BitVec 32 := Scalar.select v2323 v2324 v2318
  let c128_i32_886 : BitVec 32 := 128#32
  let v2327 : BitVec 32 := Scalar.muli v2325 c128_i32_886
  let v2328 : BitVec 32 := Scalar.addi v2326 v2327
  let c0_i32_1427_r92 : BitVec 32 := 0#32
  ![v2328.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== WholeReferenceIdeal.lean ====
abbrev S8x3x512x512 : Shape := ⟨4, ![8, 3, 512, 512]⟩
abbrev S8x512x512 : Shape := ⟨3, ![8, 512, 512]⟩
abbrev S8x4x512x512 : Shape := ⟨4, ![8, 4, 512, 512]⟩
abbrev S8x512x512x1 : Shape := ⟨4, ![8, 512, 512, 1]⟩
abbrev S1x1x1x4 : Shape := ⟨4, ![1, 1, 1, 4]⟩
abbrev S8x512x512x4 : Shape := ⟨4, ![8, 512, 512, 4]⟩
abbrev S_ : Shape := ⟨0, ![]⟩
abbrev S8x1x512x512 : Shape := ⟨4, ![8, 1, 512, 512]⟩
abbrev S8x4 : Shape := ⟨2, ![8, 4]⟩
abbrev S8 : Shape := ⟨1, ![8]⟩
abbrev S8x1 : Shape := ⟨2, ![8, 1]⟩
abbrev S8x1x16x32x16x32 : Shape := ⟨6, ![8, 1, 16, 32, 16, 32]⟩
abbrev S8x1x32x32x16x16 : Shape := ⟨6, ![8, 1, 32, 32, 16, 16]⟩
abbrev S8x1x32x32x256 : Shape := ⟨5, ![8, 1, 32, 32, 256]⟩
abbrev S8x256 : Shape := ⟨2, ![8, 256]⟩
abbrev S8x1x1 : Shape := ⟨3, ![8, 1, 1]⟩
abbrev S8x1x16 : Shape := ⟨3, ![8, 1, 16]⟩
abbrev S8x16 : Shape := ⟨2, ![8, 16]⟩
abbrev S16 : Shape := ⟨1, ![16]⟩
abbrev S1x16 : Shape := ⟨2, ![1, 16]⟩
abbrev S8x16x1 : Shape := ⟨3, ![8, 16, 1]⟩
abbrev S8x16x2 : Shape := ⟨3, ![8, 16, 2]⟩
abbrev S8x3x16x32x16x32 : Shape := ⟨6, ![8, 3, 16, 32, 16, 32]⟩
abbrev S8x3x32x32x16x16 : Shape := ⟨6, ![8, 3, 32, 32, 16, 16]⟩
abbrev S8x3x32x32x256 : Shape := ⟨5, ![8, 3, 32, 32, 256]⟩
abbrev S8x1x1x1x256 : Shape := ⟨5, ![8, 1, 1, 1, 256]⟩
abbrev S8x256x1 : Shape := ⟨3, ![8, 256, 1]⟩
abbrev S1 : Shape := ⟨1, ![1]⟩
abbrev S1x1x1 : Shape := ⟨3, ![1, 1, 1]⟩

abbrev nBuf : Space → Nat
  | .hbm => 286
  | .vmem => 0
  | .smem => 0
  | _ => 0

abbrev hbmTy0_0 (i : Nat) : BufTy := match i % 128 with
  | 0 => ⟨S8x3x512x512, .f32⟩
  | 1 => ⟨S8x3x512x512, .f32⟩
  | 2 => ⟨S8x512x512, .i32⟩
  | 3 => ⟨S8x512x512, .i32⟩
  | 4 => ⟨S8x512x512, .f32⟩
  | 5 => ⟨S8x512x512, .f32⟩
  | 6 => ⟨S8x4x512x512, .f32⟩
  | 7 => ⟨S8x512x512x1, .i32⟩
  | 8 => ⟨S1x1x1x4, .i32⟩
  | 9 => ⟨S8x512x512x4, .i32⟩
  | 10 => ⟨S8x512x512x4, .i32⟩
  | 11 => ⟨S8x512x512x4, .i1⟩
  | 12 => ⟨S8x512x512x4, .f32⟩
  | 13 => ⟨S8x4x512x512, .f32⟩
  | 14 => ⟨S_, .f32⟩
  | 15 => ⟨S8x512x512, .f32⟩
  | 16 => ⟨S_, .f32⟩
  | 17 => ⟨S8x512x512, .f32⟩
  | 18 => ⟨S8x512x512, .f32⟩
  | 19 => ⟨S8x1x512x512, .f32⟩
  | 20 => ⟨S8x4x512x512, .f32⟩
  | 21 => ⟨S8x4x512x512, .f32⟩
  | 22 => ⟨S8x4x512x512, .f32⟩
  | 23 => ⟨S_, .f32⟩
  | 24 => ⟨S8x512x512, .f32⟩
  | 25 => ⟨S8x1x512x512, .f32⟩
  | 26 => ⟨S8x4x512x512, .f32⟩
  | 27 => ⟨S8x4x512x512, .f32⟩
  | 28 => ⟨S8x4x512x512, .f32⟩
  | 29 => ⟨S_, .f32⟩
  | 30 => ⟨S8x4, .f32⟩
  | 31 => ⟨S8x4x512x512, .f32⟩
  | 32 => ⟨S_, .f32⟩
  | 33 => ⟨S8x4, .f32⟩
  | 34 => ⟨S_, .f32⟩
  | 35 => ⟨S8x4, .f32⟩
  | 36 => ⟨S8x4, .f32⟩
  | 37 => ⟨S_, .f32⟩
  | 38 => ⟨S8x4, .f32⟩
  | 39 => ⟨S8x4, .f32⟩
  | 40 => ⟨S8x4, .f32⟩
  | 41 => ⟨S_, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .i1⟩
  | 52 => ⟨S8x1, .i1⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S8x1x512x512, .f32⟩
  | 60 => ⟨S8x1x16x32x16x32, .f32⟩
  | 61 => ⟨S8x1x32x32x16x16, .f32⟩
  | 62 => ⟨S8x1x32x32x256, .f32⟩
  | 63 => ⟨S_, .f32⟩
  | 64 => ⟨S8x256, .f32⟩
  | 65 => ⟨S_, .f32⟩
  | 66 => ⟨S8x256, .f32⟩
  | 67 => ⟨S8x256, .f32⟩
  | 68 => ⟨S8x1x512x512, .f32⟩
  | 69 => ⟨S8x1x16x32x16x32, .f32⟩
  | 70 => ⟨S8x1x32x32x16x16, .f32⟩
  | 71 => ⟨S8x1x32x32x256, .f32⟩
  | 72 => ⟨S_, .f32⟩
  | 73 => ⟨S8x256, .f32⟩
  | 74 => ⟨S_, .f32⟩
  | 75 => ⟨S8x256, .f32⟩
  | 76 => ⟨S8x256, .f32⟩
  | 77 => ⟨S8x256, .f32⟩
  | 78 => ⟨S8x256, .i32⟩
  | 79 => ⟨S8x256, .f32⟩
  | 80 => ⟨S8x256, .i32⟩
  | 81 => ⟨S8x256, .i32⟩
  | 82 => ⟨S8x256, .f32⟩
  | 83 => ⟨S8x256, .i32⟩
  | 84 => ⟨S8x256, .i1⟩
  | 85 => ⟨S8x256, .i32⟩
  | 86 => ⟨S8x256, .i32⟩
  | 87 => ⟨S8x256, .f32⟩
  | 88 => ⟨S8x256, .i32⟩
  | 89 => ⟨S8x256, .f32⟩
  | 90 => ⟨S8x256, .i32⟩
  | 91 => ⟨S8x256, .f32⟩
  | 92 => ⟨S8x256, .i32⟩
  | 93 => ⟨S8x256, .i1⟩
  | 94 => ⟨S8x256, .i32⟩
  | 95 => ⟨S_, .f32⟩
  | 96 => ⟨S8, .f32⟩
  | 97 => ⟨S8, .f32⟩
  | 98 => ⟨S_, .f32⟩
  | 99 => ⟨S8, .f32⟩
  | 100 => ⟨S8, .i1⟩
  | 101 => ⟨S8, .f32⟩
  | 102 => ⟨S8, .f32⟩
  | 103 => ⟨S8, .f32⟩
  | 104 => ⟨S8, .f32⟩
  | 105 => ⟨S_, .f32⟩
  | 106 => ⟨S8, .f32⟩
  | 107 => ⟨S8, .f32⟩
  | 108 => ⟨S8, .i32⟩
  | 109 => ⟨S8x1x1, .i32⟩
  | 110 => ⟨S8x1x16, .i32⟩
  | 111 => ⟨S8x16, .i32⟩
  | 112 => ⟨S8x1x16, .i32⟩
  | 113 => ⟨S8x16, .i32⟩
  | 114 => ⟨S8x1x16, .i32⟩
  | 115 => ⟨S8x1x1, .i32⟩
  | 116 => ⟨S8, .i32⟩
  | 117 => ⟨S8x16, .i32⟩
  | 118 => ⟨S8x16, .i32⟩
  | 119 => ⟨S16, .i32⟩
  | 120 => ⟨S1x16, .i32⟩
  | 121 => ⟨S8x1, .i32⟩
  | 122 => ⟨S8x16, .i32⟩
  | 123 => ⟨S8x16, .i32⟩
  | 124 => ⟨S8x16, .i1⟩
  | 125 => ⟨S8, .i32⟩
  | 126 => ⟨S8x1, .i32⟩
  | 127 => ⟨S_, .i1⟩
  | _ => ⟨S8x3x512x512, .f32⟩

abbrev hbmTy0_1 (i : Nat) : BufTy := match i % 128 with
  | 0 => ⟨S8x256, .i1⟩
  | 1 => ⟨S_, .i32⟩
  | 2 => ⟨S8x1, .i32⟩
  | 3 => ⟨S8x1, .i1⟩
  | 4 => ⟨S_, .i32⟩
  | 5 => ⟨S8x1, .i32⟩
  | 6 => ⟨S8x1, .i32⟩
  | 7 => ⟨S8x1, .i32⟩
  | 8 => ⟨S_, .i32⟩
  | 9 => ⟨S8x16, .i32⟩
  | 10 => ⟨S8x16, .i1⟩
  | 11 => ⟨S_, .i32⟩
  | 12 => ⟨S8x16, .i32⟩
  | 13 => ⟨S8x16, .i32⟩
  | 14 => ⟨S8x16, .i32⟩
  | 15 => ⟨S8x16, .i32⟩
  | 16 => ⟨S8x16x1, .i32⟩
  | 17 => ⟨S8x16x1, .i32⟩
  | 18 => ⟨S8x16x2, .i32⟩
  | 19 => ⟨S8x256, .i1⟩
  | 20 => ⟨S_, .i32⟩
  | 21 => ⟨S8x256, .i32⟩
  | 22 => ⟨S_, .i32⟩
  | 23 => ⟨S8x1, .i32⟩
  | 24 => ⟨S8x1, .i1⟩
  | 25 => ⟨S_, .i32⟩
  | 26 => ⟨S8x1, .i32⟩
  | 27 => ⟨S8x1, .i32⟩
  | 28 => ⟨S8x1, .i32⟩
  | 29 => ⟨S_, .i32⟩
  | 30 => ⟨S8x16, .i32⟩
  | 31 => ⟨S8x16, .i1⟩
  | 32 => ⟨S_, .i32⟩
  | 33 => ⟨S8x16, .i32⟩
  | 34 => ⟨S8x16, .i32⟩
  | 35 => ⟨S8x16, .i32⟩
  | 36 => ⟨S8x16, .i32⟩
  | 37 => ⟨S8x16x1, .i32⟩
  | 38 => ⟨S8x16x1, .i32⟩
  | 39 => ⟨S8x16x2, .i32⟩
  | 40 => ⟨S8x256, .i32⟩
  | 41 => ⟨S8x3x16x32x16x32, .f32⟩
  | 42 => ⟨S8x3x32x32x16x16, .f32⟩
  | 43 => ⟨S8x3x32x32x256, .f32⟩
  | 44 => ⟨S8x3x16x32x16x32, .f32⟩
  | 45 => ⟨S8x3x32x32x16x16, .f32⟩
  | 46 => ⟨S8x3x32x32x256, .f32⟩
  | 47 => ⟨S8x1x1x1x256, .i32⟩
  | 48 => ⟨S_, .i32⟩
  | 49 => ⟨S8x1x1x1x256, .i32⟩
  | 50 => ⟨S8x1x1x1x256, .i1⟩
  | 51 => ⟨S_, .i32⟩
  | 52 => ⟨S8x1x1x1x256, .i32⟩
  | 53 => ⟨S8x1x1x1x256, .i32⟩
  | 54 => ⟨S8x1x1x1x256, .i32⟩
  | 55 => ⟨S8x256x1, .i32⟩
  | 56 => ⟨S1, .i32⟩
  | 57 => ⟨S_, .i32⟩
  | 58 => ⟨S8x256x1, .i32⟩
  | 59 => ⟨S8x256x1, .i1⟩
  | 60 => ⟨S1x1x1, .i32⟩
  | 61 => ⟨S8x256x1, .i32⟩
  | 62 => ⟨S8x256x1, .i1⟩
  | 63 => ⟨S8x256x1, .i1⟩
  | 64 => ⟨S_, .i1⟩
  | 65 => ⟨S8x256, .i1⟩
  | 66 => ⟨S8x3x32x32x256, .f32⟩
  | 67 => ⟨S8x3x32x32x256, .i1⟩
  | 68 => ⟨S_, .f32⟩
  | 69 => ⟨S8x3x32x32x256, .f32⟩
  | 70 => ⟨S8x3x32x32x256, .f32⟩
  | 71 => ⟨S8x1x1x1x256, .i1⟩
  | 72 => ⟨S8x3x32x32x256, .i1⟩
  | 73 => ⟨S8x3x32x32x256, .f32⟩
  | 74 => ⟨S8x3x32x32x16x16, .f32⟩
  | 75 => ⟨S8x3x16x32x16x32, .f32⟩
  | 76 => ⟨S8x3x512x512, .f32⟩
  | 77 => ⟨S8x1x512x512, .i32⟩
  | 78 => ⟨S8x1x512x512, .f32⟩
  | 79 => ⟨S8x1x512x512, .i32⟩
  | 80 => ⟨S8x1x512x512, .f32⟩
  | 81 => ⟨S8x1x16x32x16x32, .f32⟩
  | 82 => ⟨S8x1x32x32x16x16, .f32⟩
  | 83 => ⟨S8x1x32x32x256, .f32⟩
  | 84 => ⟨S8x1x16x32x16x32, .f32⟩
  | 85 => ⟨S8x1x32x32x16x16, .f32⟩
  | 86 => ⟨S8x1x32x32x256, .f32⟩
  | 87 => ⟨S8x1x1x1x256, .i32⟩
  | 88 => ⟨S_, .i32⟩
  | 89 => ⟨S8x1x1x1x256, .i32⟩
  | 90 => ⟨S8x1x1x1x256, .i1⟩
  | 91 => ⟨S_, .i32⟩
  | 92 => ⟨S8x1x1x1x256, .i32⟩
  | 93 => ⟨S8x1x1x1x256, .i32⟩
  | 94 => ⟨S8x1x1x1x256, .i32⟩
  | 95 => ⟨S8x256x1, .i32⟩
  | 96 => ⟨S1, .i32⟩
  | 97 => ⟨S_, .i32⟩
  | 98 => ⟨S8x256x1, .i32⟩
  | 99 => ⟨S8x256x1, .i1⟩
  | 100 => ⟨S1x1x1, .i32⟩
  | 101 => ⟨S8x256x1, .i32⟩
  | 102 => ⟨S8x256x1, .i1⟩
  | 103 => ⟨S8x256x1, .i1⟩
  | 104 => ⟨S_, .i1⟩
  | 105 => ⟨S8x256, .i1⟩
  | 106 => ⟨S8x1x32x32x256, .f32⟩
  | 107 => ⟨S8x1x32x32x256, .i1⟩
  | 108 => ⟨S_, .f32⟩
  | 109 => ⟨S8x1x32x32x256, .f32⟩
  | 110 => ⟨S8x1x32x32x256, .f32⟩
  | 111 => ⟨S8x1x1x1x256, .i1⟩
  | 112 => ⟨S8x1x32x32x256, .i1⟩
  | 113 => ⟨S8x1x32x32x256, .f32⟩
  | 114 => ⟨S8x1x32x32x16x16, .f32⟩
  | 115 => ⟨S8x1x16x32x16x32, .f32⟩
  | 116 => ⟨S8x1x512x512, .f32⟩
  | 117 => ⟨S8x512x512, .f32⟩
  | 118 => ⟨S8x1x512x512, .f32⟩
  | 119 => ⟨S8x1x16x32x16x32, .f32⟩
  | 120 => ⟨S8x1x32x32x16x16, .f32⟩
  | 121 => ⟨S8x1x32x32x256, .f32⟩
  | 122 => ⟨S8x1x512x512, .f32⟩
  | 123 => ⟨S8x1x16x32x16x32, .f32⟩
  | 124 => ⟨S8x1x32x32x16x16, .f32⟩
  | 125 => ⟨S8x1x32x32x256, .f32⟩
  | 126 => ⟨S8x1x1x1x256, .i32⟩
  | 127 => ⟨S_, .i32⟩
  | _ => ⟨S8x3x512x512, .f32⟩

abbrev hbmTy0_2 (i : Nat) : BufTy := match i % 128 with
  | 0 => ⟨S8x1x1x1x256, .i32⟩
  | 1 => ⟨S8x1x1x1x256, .i1⟩
  | 2 => ⟨S_, .i32⟩
  | 3 => ⟨S8x1x1x1x256, .i32⟩
  | 4 => ⟨S8x1x1x1x256, .i32⟩
  | 5 => ⟨S8x1x1x1x256, .i32⟩
  | 6 => ⟨S8x256x1, .i32⟩
  | 7 => ⟨S1, .i32⟩
  | 8 => ⟨S_, .i32⟩
  | 9 => ⟨S8x256x1, .i32⟩
  | 10 => ⟨S8x256x1, .i1⟩
  | 11 => ⟨S1x1x1, .i32⟩
  | 12 => ⟨S8x256x1, .i32⟩
  | 13 => ⟨S8x256x1, .i1⟩
  | 14 => ⟨S8x256x1, .i1⟩
  | 15 => ⟨S_, .i1⟩
  | 16 => ⟨S8x256, .i1⟩
  | 17 => ⟨S8x1x32x32x256, .f32⟩
  | 18 => ⟨S8x1x32x32x256, .i1⟩
  | 19 => ⟨S_, .f32⟩
  | 20 => ⟨S8x1x32x32x256, .f32⟩
  | 21 => ⟨S8x1x32x32x256, .f32⟩
  | 22 => ⟨S8x1x1x1x256, .i1⟩
  | 23 => ⟨S8x1x32x32x256, .i1⟩
  | 24 => ⟨S8x1x32x32x256, .f32⟩
  | 25 => ⟨S8x1x32x32x16x16, .f32⟩
  | 26 => ⟨S8x1x16x32x16x32, .f32⟩
  | 27 => ⟨S8x1x512x512, .f32⟩
  | 28 => ⟨S8x512x512, .f32⟩
  | 29 => ⟨S8x512x512, .i32⟩
  | _ => ⟨S8x3x512x512, .f32⟩

abbrev hbmTy (i : Nat) : BufTy := match i / 128 with
  | 0 => hbmTy0_0 i
  | 1 => hbmTy0_1 i
  | 2 => hbmTy0_2 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_cst_9 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_cst_13 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_14 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_v0 : Ref sig .tc := ⟨.hbm, 78, rfl⟩
abbrev main_call1_v1_0 : Ref sig .tc := ⟨.hbm, 79, rfl⟩
abbrev main_v49 : Ref sig .tc := ⟨.hbm, 80, rfl⟩
abbrev main_call2_v0 : Ref sig .tc := ⟨.hbm, 81, rfl⟩
abbrev main_call2_v1_0 : Ref sig .tc := ⟨.hbm, 82, rfl⟩
abbrev main_v50 : Ref sig .tc := ⟨.hbm, 83, rfl⟩
abbrev main_call3_v0 : Ref sig .tc := ⟨.hbm, 84, rfl⟩
abbrev main_v51 : Ref sig .tc := ⟨.hbm, 85, rfl⟩
abbrev main_call4_v0 : Ref sig .tc := ⟨.hbm, 86, rfl⟩
abbrev main_call4_v1_0 : Ref sig .tc := ⟨.hbm, 87, rfl⟩
abbrev main_v52 : Ref sig .tc := ⟨.hbm, 88, rfl⟩
abbrev main_v53 : Ref sig .tc := ⟨.hbm, 89, rfl⟩
abbrev main_call5_v0 : Ref sig .tc := ⟨.hbm, 90, rfl⟩
abbrev main_call5_v1_0 : Ref sig .tc := ⟨.hbm, 91, rfl⟩
abbrev main_v54 : Ref sig .tc := ⟨.hbm, 92, rfl⟩
abbrev main_call6_v0 : Ref sig .tc := ⟨.hbm, 93, rfl⟩
abbrev main_v55 : Ref sig .tc := ⟨.hbm, 94, rfl⟩
abbrev main_cst_16 : Ref sig .tc := ⟨.hbm, 95, rfl⟩
abbrev main_v56 : Ref sig .tc := ⟨.hbm, 96, rfl⟩
abbrev main_v57 : Ref sig .tc := ⟨.hbm, 97, rfl⟩
abbrev main_call7_cst : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_v58 : Ref sig .tc := ⟨.hbm, 103, rfl⟩
abbrev main_v59 : Ref sig .tc := ⟨.hbm, 104, rfl⟩
abbrev main_cst_17 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c : Ref sig .tc := ⟨.hbm, 127, rfl⟩
abbrev main_v81 : Ref sig .tc := ⟨.hbm, 128, rfl⟩
abbrev main_c_18 : Ref sig .tc := ⟨.hbm, 129, rfl⟩
abbrev main_v82 : Ref sig .tc := ⟨.hbm, 130, rfl⟩
abbrev main_v83 : Ref sig .tc := ⟨.hbm, 131, rfl⟩
abbrev main_c_19 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_20 : Ref sig .tc := ⟨.hbm, 136, rfl⟩
abbrev main_v87 : Ref sig .tc := ⟨.hbm, 137, rfl⟩
abbrev main_v88 : Ref sig .tc := ⟨.hbm, 138, rfl⟩
abbrev main_c_21 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_c_22 : Ref sig .tc := ⟨.hbm, 148, rfl⟩
abbrev main_v97 : Ref sig .tc := ⟨.hbm, 149, rfl⟩
abbrev main_c_23 : Ref sig .tc := ⟨.hbm, 150, rfl⟩
abbrev main_v98 : Ref sig .tc := ⟨.hbm, 151, rfl⟩
abbrev main_v99 : Ref sig .tc := ⟨.hbm, 152, rfl⟩
abbrev main_c_24 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_25 : Ref sig .tc := ⟨.hbm, 157, rfl⟩
abbrev main_v103 : Ref sig .tc := ⟨.hbm, 158, rfl⟩
abbrev main_v104 : Ref sig .tc := ⟨.hbm, 159, rfl⟩
abbrev main_c_26 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_call8_c : Ref sig .tc := ⟨.hbm, 176, rfl⟩
abbrev main_call8_v0 : Ref sig .tc := ⟨.hbm, 177, rfl⟩
abbrev main_call8_v1 : Ref sig .tc := ⟨.hbm, 178, rfl⟩
abbrev main_call8_c_0 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_v5 : Ref sig .tc := ⟨.hbm, 183, rfl⟩
abbrev main_call8_c_1 : Ref sig .tc := ⟨.hbm, 184, rfl⟩
abbrev main_call8_c_2 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_call8_v11 : Ref sig .tc := ⟨.hbm, 191, rfl⟩
abbrev main_call8_c_3 : Ref sig .tc := ⟨.hbm, 192, rfl⟩
abbrev main_call8_v12 : Ref sig .tc := ⟨.hbm, 193, rfl⟩
abbrev main_call8_v13 : Ref sig .tc := ⟨.hbm, 194, rfl⟩
abbrev main_call8_v14 : Ref sig .tc := ⟨.hbm, 195, rfl⟩
abbrev main_call8_cst : Ref sig .tc := ⟨.hbm, 196, rfl⟩
abbrev main_call8_v15 : Ref sig .tc := ⟨.hbm, 197, rfl⟩
abbrev main_v120 : Ref sig .tc := ⟨.hbm, 198, rfl⟩
abbrev main_v121 : Ref sig .tc := ⟨.hbm, 199, rfl⟩
abbrev main_call9_v0 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_call10_c : Ref sig .tc := ⟨.hbm, 216, rfl⟩
abbrev main_call10_v0 : Ref sig .tc := ⟨.hbm, 217, rfl⟩
abbrev main_call10_v1 : Ref sig .tc := ⟨.hbm, 218, rfl⟩
abbrev main_call10_c_0 : Ref sig .tc := ⟨.hbm, 219, rfl⟩
abbrev main_call10_v2 : Ref sig .tc := ⟨.hbm, 220, rfl⟩
abbrev main_call10_v3 : Ref sig .tc := ⟨.hbm, 221, rfl⟩
abbrev main_call10_v4 : Ref sig .tc := ⟨.hbm, 222, rfl⟩
abbrev main_call10_v5 : Ref sig .tc := ⟨.hbm, 223, rfl⟩
abbrev main_call10_c_1 : Ref sig .tc := ⟨.hbm, 224, rfl⟩
abbrev main_call10_c_2 : Ref sig .tc := ⟨.hbm, 225, rfl⟩
abbrev main_call10_v6 : Ref sig .tc := ⟨.hbm, 226, rfl⟩
abbrev main_call10_v7 : Ref sig .tc := ⟨.hbm, 227, rfl⟩
abbrev main_call10_v8 : Ref sig .tc := ⟨.hbm, 228, rfl⟩
abbrev main_call10_v9 : Ref sig .tc := ⟨.hbm, 229, rfl⟩
abbrev main_call10_v10 : Ref sig .tc := ⟨.hbm, 230, rfl⟩
abbrev main_call10_v11 : Ref sig .tc := ⟨.hbm, 231, rfl⟩
abbrev main_call10_c_3 : Ref sig .tc := ⟨.hbm, 232, rfl⟩
abbrev main_call10_v12 : Ref sig .tc := ⟨.hbm, 233, rfl⟩
abbrev main_call10_v13 : Ref sig .tc := ⟨.hbm, 234, rfl⟩
abbrev main_call10_v14 : Ref sig .tc := ⟨.hbm, 235, rfl⟩
abbrev main_call10_cst : Ref sig .tc := ⟨.hbm, 236, rfl⟩
abbrev main_call10_v15 : Ref sig .tc := ⟨.hbm, 237, rfl⟩
abbrev main_v137 : Ref sig .tc := ⟨.hbm, 238, rfl⟩
abbrev main_v138 : Ref sig .tc := ⟨.hbm, 239, rfl⟩
abbrev main_call11_v0 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_call12_c : Ref sig .tc := ⟨.hbm, 255, rfl⟩
abbrev main_call12_v0 : Ref sig .tc := ⟨.hbm, 256, rfl⟩
abbrev main_call12_v1 : Ref sig .tc := ⟨.hbm, 257, rfl⟩
abbrev main_call12_c_0 : Ref sig .tc := ⟨.hbm, 258, rfl⟩
abbrev main_call12_v2 : Ref sig .tc := ⟨.hbm, 259, rfl⟩
abbrev main_call12_v3 : Ref sig .tc := ⟨.hbm, 260, rfl⟩
abbrev main_call12_v4 : Ref sig .tc := ⟨.hbm, 261, rfl⟩
abbrev main_call12_v5 : Ref sig .tc := ⟨.hbm, 262, rfl⟩
abbrev main_call12_c_1 : Ref sig .tc := ⟨.hbm, 263, rfl⟩
abbrev main_call12_c_2 : Ref sig .tc := ⟨.hbm, 264, rfl⟩
abbrev main_call12_v6 : Ref sig .tc := ⟨.hbm, 265, rfl⟩
abbrev main_call12_v7 : Ref sig .tc := ⟨.hbm, 266, rfl⟩
abbrev main_call12_v8 : Ref sig .tc := ⟨.hbm, 267, rfl⟩
abbrev main_call12_v9 : Ref sig .tc := ⟨.hbm, 268, rfl⟩
abbrev main_call12_v10 : Ref sig .tc := ⟨.hbm, 269, rfl⟩
abbrev main_call12_v11 : Ref sig .tc := ⟨.hbm, 270, rfl⟩
abbrev main_call12_c_3 : Ref sig .tc := ⟨.hbm, 271, rfl⟩
abbrev main_call12_v12 : Ref sig .tc := ⟨.hbm, 272, rfl⟩
abbrev main_call12_v13 : Ref sig .tc := ⟨.hbm, 273, rfl⟩
abbrev main_call12_v14 : Ref sig .tc := ⟨.hbm, 274, rfl⟩
abbrev main_call12_cst : Ref sig .tc := ⟨.hbm, 275, rfl⟩
abbrev main_call12_v15 : Ref sig .tc := ⟨.hbm, 276, rfl⟩
abbrev main_v153 : Ref sig .tc := ⟨.hbm, 277, rfl⟩
abbrev main_v154 : Ref sig .tc := ⟨.hbm, 278, rfl⟩
abbrev main_call13_v0 : Ref sig .tc := ⟨.hbm, 279, rfl⟩
abbrev main_v155 : Ref sig .tc := ⟨.hbm, 280, rfl⟩
abbrev main_v156 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_v160 : Ref sig .tc := ⟨.hbm, 285, rfl⟩

abbrev nD : Nat := 1
abbrev τ : Topo := Topo.v7x

variable {F : FTy → Type} [FloatOps F]
-- ==== Proof.PreRead.lean ====
module

public import proofs.«01_k».proof.Proof.Gen.Pre_picks_in_range
public import Idealize.ShloMosaic.Lib.Pointwise

@[expose] public section

/-! # The precondition, read -/

namespace Cert.Proof.PreRead

open Idealize.ShloMosaic Cert.Pre_picks_in_range Cert.Pre_picks_in_range.Gen

variable {F : FTy → Type} [FloatOps F]

theorem and_one {x y : BitVec 1} (h : IntOp.andi x y = 1#1) : x = 1#1 ∧ y = 1#1 := by
  revert x y; decide
theorem or_one {x y : BitVec 1} (h : IntOp.ori x y = 1#1) : x = 1#1 ∨ y = 1#1 := by
  revert x y; decide
theorem ofBool_one {b : Bool} : BitVec.ofBool b = 1#1 ↔ b = true := by
  revert b; decide

theorem small {x : BitVec 32} (h0 : IntOp.cmpi .sge x 0#32 = 1#1) (h1 : IntOp.cmpi .slt x 256#32 = 1#1) : x.toNat < 256 := by
  have h0 : (0#32 : BitVec 32).sle x = true := ofBool_one.1 h0
  have h1 : x.slt 256#32 = true := ofBool_one.1 h1
  rw [BitVec.sle_eq_decide, decide_eq_true_eq] at h0
  rw [BitVec.slt_eq_decide, decide_eq_true_eq] at h1
  rw [show (0#32 : BitVec 32).toInt = 0 from rfl] at h0
  rw [show (256#32 : BitVec 32).toInt = 256 from rfl] at h1
  rw [BitVec.toInt_eq_toNat_cond] at h0 h1
  split at h0 <;> rename_i hc
  · rw [if_pos hc] at h1; omega
  · omega

/-- The patch indices are below 256. -/
theorem ranges (a0 a1 a2 a3 a4 a5 a6) (dv sv : S8x1x16.Idx → BitVec 32)
    (h : (fn (F := F) a0 a1 a2 a3 a4 a5 a6 dv sv).1 = fun _ => 1#1) (i : S8x1x16.Idx) : (dv i).toNat < 256 ∧ (sv i).toNat < 256 := by
  have e := congrFun h i
  dsimp only [fn, fn_part1] at e
  obtain ⟨e, h3⟩ := and_one e
  obtain ⟨e, h2⟩ := and_one e
  obtain ⟨h0, h1⟩ := and_one e
  exact ⟨small h0 h1, small h2 h3⟩

/-- The target patches of a batch are distinct. -/
theorem distinct (a0 a1 a2 a3 a4 a5 a6) (dv sv : S8x1x16.Idx → BitVec 32)
    (h : (fn (F := F) a0 a1 a2 a3 a4 a5 a6 dv sv).2 = fun _ => 1#1) (b : Fin 8) (j k : Fin 16)
    (hjk : dv (ix3 b 0 j) = dv (ix3 b 0 k)) : j = k := by
  have e := congrFun h (ix3 b j k)
  dsimp only [fn, fn_part1] at e
  rcases or_one e with e | e
  · exfalso
    have e1 : IntOp.cmpi .ne (dv (ix3 b 0 j)) (dv (ix3 b 0 k)) = 1#1 := by
      rw [← e]; pointwise
    rw [hjk] at e1
    have : (dv (ix3 b 0 k) != dv (ix3 b 0 k)) = true := ofBool_one.1 e1
    simp at this
  · have e1 : IntOp.cmpi .eq (BitVec.ofNat 32 j.val) (BitVec.ofNat 32 k.val) = 1#1 := by
      rw [← e]; pointwise
    have : (BitVec.ofNat 32 j.val == BitVec.ofNat 32 k.val) = true := ofBool_one.1 e1
    rw [beq_iff_eq] at this
    have := congrArg BitVec.toNat this
    rw [BitVec.toNat_ofNat, BitVec.toNat_ofNat] at this
    exact Fin.ext (by omega)

end Cert.Proof.PreRead
-- ==== Proof.Words.lean ====
module

public import Idealize.ShloMosaic.Lib.Scf
public import Idealize.ShloMosaic.PureOps

@[expose] public section

/-! # The words the SparseCore kernel computes

Floor division and floor remainder as the kernel spells them, the numbers it computes of its tile and of a pick's
patch indices, and their values. -/

namespace Cert.Proof.Words

open Idealize.ShloMosaic

/-- The sign of a word, as the difference of two tests. -/
def sgn (x : BitVec 32) : BitVec 32 := Scalar.subi (Scalar.extui (Scalar.cmpi .sgt x 0#32)) (Scalar.extui (Scalar.cmpi .slt x 0#32))

/-- Floor division: the truncated quotient, one less where the signs differ and the remainder is not zero. -/
def fdiv (x c : BitVec 32) : BitVec 32 :=
  Scalar.select (Scalar.andi (Scalar.cmpi .ne (sgn x) (sgn c)) (Scalar.cmpi .ne (Scalar.remsi x c) 0#32))
    (Scalar.subi (Scalar.divsi x c) 1#32) (Scalar.divsi x c)

/-- The divisor of a floor remainder: one in place of zero. -/
def nz (c : BitVec 32) : BitVec 32 := Scalar.select (Scalar.cmpi .eq c 0#32) 1#32 c

/-- Floor remainder: the truncated remainder, the divisor added where their signs differ and it is not zero. -/
def fmod (x c : BitVec 32) : BitVec 32 :=
  Scalar.select (Scalar.andi (Scalar.xori (Scalar.cmpi .slt (Scalar.remsi x (nz c)) 0#32) (Scalar.cmpi .slt (nz c) 0#32))
      (Scalar.cmpi .ne (Scalar.remsi x (nz c)) 0#32))
    (Scalar.addi (Scalar.remsi x (nz c)) (nz c)) (Scalar.remsi x (nz c))

/-- The tile's number on core `c`, subcore `s`. -/
def tileW (c s : Nat) : BitVec 32 := Scalar.addi (Scalar.muli (BitVec.ofNat 32 c) 16#32) (BitVec.ofNat 32 s)

/-- The image plane of unit `m` of tile `w`, first row. -/
def arowW (w m : BitVec 32) : BitVec 32 :=
  Scalar.muli (Scalar.addi (Scalar.muli (fdiv w 4#32) 3#32) (fdiv (fmod (Scalar.addi (Scalar.muli w 3#32) m) 12#32) 4#32)) 512#32
/-- The first row of unit `m` of tile `w`. -/
def rowW (w m : BitVec 32) : BitVec 32 :=
  Scalar.addi (arowW w m) (Scalar.muli (fmod (Scalar.addi (Scalar.muli w 3#32) m) 4#32) 128#32)
/-- The label's (and the confidences') plane of tile `w`, first row. -/
def larowW (w : BitVec 32) : BitVec 32 := Scalar.muli (fdiv w 4#32) 512#32
/-- The first row of the label's unit of tile `w`. -/
def lrowW (w : BitVec 32) : BitVec 32 := Scalar.addi (larowW w) (Scalar.muli (fmod w 4#32) 128#32)
/-- The quarter of its plane that a unit's first row lies in. -/
def qW (row : BitVec 32) : BitVec 32 := fdiv (fmod row 512#32) 128#32

/-- Whether pick `j` is taken and its patch lies in quarter `q`. -/
def condW (tk j d q : BitVec 32) : BitVec 1 :=
  Scalar.cmpi .ne (Scalar.extui (Scalar.andi (Scalar.cmpi .sgt tk j) (Scalar.cmpi .eq (fdiv (fdiv d 16#32) 4#32) q))) 0#32

/-- The first row of the source band. -/
def bandW (arow s : BitVec 32) : BitVec 32 := Scalar.addi arow (Scalar.muli (fdiv s 16#32) 32#32)
/-- The column of a patch. -/
def colW (x : BitVec 32) : BitVec 32 := Scalar.muli (fmod x 16#32) 32#32
/-- The row of a patch within its quarter, at trip `t`. -/
def prowW (d : BitVec 32) (t : Nat) : BitVec 32 :=
  Scalar.addi (Scalar.muli (fmod (fdiv d 16#32) 4#32) 32#32) (Scf.iv 0#32 1#32 t)

/-! ## Their values -/

theorem of_all {n : Nat} {p : BitVec 32 → Prop} (h : ∀ k : Fin n, p (BitVec.ofNat 32 k)) {x : BitVec 32} (hx : x.toNat < n) : p x := by
  have := h ⟨x.toNat, hx⟩
  rwa [BitVec.ofNat_toNat, BitVec.setWidth_eq] at this

theorem fdiv_patch_all : ∀ k : Fin 256, (fdiv (BitVec.ofNat 32 k) 16#32) = BitVec.ofNat 32 ((BitVec.ofNat 32 k : BitVec 32).toNat / 16) := by
  decide +kernel
theorem fdiv_patch {x : BitVec 32} (h : x.toNat < 256) : fdiv x 16#32 = BitVec.ofNat 32 (x.toNat / 16) :=
  of_all (p := fun x => fdiv x 16#32 = BitVec.ofNat 32 (x.toNat / 16)) fdiv_patch_all h

theorem quarter_all : ∀ k : Fin 256, (fdiv (fdiv (BitVec.ofNat 32 k) 16#32) 4#32) = BitVec.ofNat 32 ((BitVec.ofNat 32 k : BitVec 32).toNat / 64) := by
  decide +kernel
theorem quarter {x : BitVec 32} (h : x.toNat < 256) : fdiv (fdiv x 16#32) 4#32 = BitVec.ofNat 32 (x.toNat / 64) :=
  of_all (p := fun x => fdiv (fdiv x 16#32) 4#32 = BitVec.ofNat 32 (x.toNat / 64)) quarter_all h

theorem colW_all : ∀ k : Fin 256, (colW (BitVec.ofNat 32 k)).toNat = (BitVec.ofNat 32 k : BitVec 32).toNat % 16 * 32
    ∧ (Scalar.addi (colW (BitVec.ofNat 32 k)) 16#32).toNat = (BitVec.ofNat 32 k : BitVec 32).toNat % 16 * 32 + 16 := by
  decide +kernel
theorem colW_eq {x : BitVec 32} (h : x.toNat < 256) : (colW x).toNat = x.toNat % 16 * 32 :=
  (of_all (p := fun x => (colW x).toNat = x.toNat % 16 * 32 ∧ (Scalar.addi (colW x) 16#32).toNat = x.toNat % 16 * 32 + 16) colW_all h).1
theorem colW'_eq {x : BitVec 32} (h : x.toNat < 256) : (Scalar.addi (colW x) 16#32).toNat = x.toNat % 16 * 32 + 16 :=
  (of_all (p := fun x => (colW x).toNat = x.toNat % 16 * 32 ∧ (Scalar.addi (colW x) 16#32).toNat = x.toNat % 16 * 32 + 16) colW_all h).2

theorem prow0_all : ∀ k : Fin 256, Scalar.muli (fmod (fdiv (BitVec.ofNat 32 k) 16#32) 4#32) 32#32
    = BitVec.ofNat 32 ((BitVec.ofNat 32 k : BitVec 32).toNat / 16 % 4 * 32) := by
  decide +kernel

theorem iv_eq (t : Nat) : Scf.iv 0#32 1#32 t = BitVec.ofNat 32 t := by
  simp [Scf.iv]
theorem iv_toNat {t : Nat} (h : t < 32) : (Scf.iv 0#32 1#32 t).toNat = t := by
  rw [iv_eq, BitVec.toNat_ofNat]; omega

theorem prowW_eq {x : BitVec 32} (h : x.toNat < 256) {t : Nat} (ht : t < 32) : (prowW x t).toNat = x.toNat / 16 % 4 * 32 + t := by
  have h0 := of_all (p := fun x => Scalar.muli (fmod (fdiv x 16#32) 4#32) 32#32 = BitVec.ofNat 32 (x.toNat / 16 % 4 * 32)) prow0_all h
  show (Scalar.muli (fmod (fdiv x 16#32) 4#32) 32#32 + Scf.iv 0#32 1#32 t).toNat = _
  rw [h0, iv_eq, BitVec.toNat_add, BitVec.toNat_ofNat, BitVec.toNat_ofNat]; omega

theorem bandW_eq {a x : BitVec 32} (ha : a.toNat < 12288) (h : x.toNat < 256) : (bandW a x).toNat = a.toNat + x.toNat / 16 * 32 := by
  have h1 : (fdiv x 16#32) = _ := fdiv_patch h
  show (a + fdiv x 16#32 * 32#32).toNat = _
  rw [h1, BitVec.toNat_add, BitVec.toNat_mul, BitVec.toNat_ofNat]
  show (a.toNat + x.toNat / 16 % 2 ^ 32 * 32 % 2 ^ 32) % 2 ^ 32 = _
  omega

theorem condW_eq {tk d q : BitVec 32} {j : Nat} (hj : j < 16) (hd : d.toNat < 256) {n : Nat} (hn : n < 4) (hq : q = BitVec.ofNat 32 n) :
    condW tk (BitVec.ofNat 32 j) d q = 1#1 ↔ (j : Int) < tk.toInt ∧ d.toNat / 64 = n := by
  unfold condW
  rw [quarter hd, hq]
  have e : (BitVec.ofNat 32 j).toInt = (j : Int) := by
    rw [BitVec.toInt_eq_toNat_of_lt] <;> rw [BitVec.toNat_ofNat] <;> omega
  have e2 : (BitVec.ofNat 32 (d.toNat / 64) = BitVec.ofNat 32 n) ↔ d.toNat / 64 = n := by
    constructor
    · intro h
      have := congrArg BitVec.toNat h
      rw [BitVec.toNat_ofNat, BitVec.toNat_ofNat] at this
      omega
    · intro h; rw [h]
  have e3 : (Scalar.cmpi .sgt tk (BitVec.ofNat 32 j) = 1#1) ↔ (j : Int) < tk.toInt := by
    rw [← e]
    show (BitVec.ofBool _ = 1#1) ↔ _
    have eb : ∀ b : Bool, BitVec.ofBool b = 1#1 ↔ b = true := by decide
    rw [eb]; simp [BitVec.slt]
  have e4 : (Scalar.cmpi .eq (BitVec.ofNat 32 (d.toNat / 64)) (BitVec.ofNat 32 n) = 1#1) ↔ d.toNat / 64 = n := by
    rw [← e2]
    show (BitVec.ofBool _ = 1#1) ↔ _
    have eb : ∀ b : Bool, BitVec.ofBool b = 1#1 ↔ b = true := by decide
    rw [eb]; simp
  rw [← e3, ← e4]
  generalize Scalar.cmpi .sgt tk (BitVec.ofNat 32 j) = x
  generalize Scalar.cmpi .eq (BitVec.ofNat 32 (d.toNat / 64)) (BitVec.ofNat 32 n) = y
  revert x y; decide +kernel

/-! ## The tile's numbers -/

theorem tile_nums : ∀ (c : Fin 2) (s : Fin 16),
    ((fdiv (tileW c s) 4#32).toNat = (c.val * 16 + s.val) / 4 ∧ (Scalar.muli (fdiv (tileW c s) 4#32) 16#32).toNat = (c.val * 16 + s.val) / 4 * 16)
    ∧ ((lrowW (tileW c s)).toNat = (c.val * 16 + s.val) * 128 ∧ (larowW (tileW c s)).toNat = (c.val * 16 + s.val) / 4 * 512
      ∧ qW (lrowW (tileW c s)) = BitVec.ofNat 32 ((c.val * 16 + s.val) % 4)) := by
  decide +kernel

theorem unit_nums : ∀ (c : Fin 2) (s : Fin 16) (m : Fin 3),
    (rowW (tileW c s) (BitVec.ofNat 32 m)).toNat = (c.val * 16 + s.val) * 384 + m.val * 128
    ∧ (arowW (tileW c s) (BitVec.ofNat 32 m)).toNat = ((c.val * 16 + s.val) * 3 + m.val) / 4 * 512
    ∧ qW (rowW (tileW c s) (BitVec.ofNat 32 m)) = BitVec.ofNat 32 (((c.val * 16 + s.val) * 3 + m.val) % 4) := by
  decide +kernel

/-! ## The pasted window -/

/-- A quarter of a plane: 128 rows. -/
abbrev SQ : Shape := ⟨2, ![128, 512]⟩
/-- A band of a plane: 32 rows. -/
abbrev SB : Shape := ⟨2, ![32, 512]⟩

variable {X : Type}

/-- The quarter `n` after the first `j` picks: at a position of a pick's patch, taken, the plane `A` at the source
    patch, the last such pick's. -/
def pasted (tk : Int) (D : Nat → Nat) (Sr : Nat → Nat) (n : Nat) (A : Nat → Nat → X) (f : SQ.Idx → X) : Nat → SQ.Idx → X
  | 0, x => f x
  | j + 1, x => if ((j : Int) < tk ∧ D j / 64 = n) ∧ (x 0).val / 32 = D j / 16 % 4 ∧ (x 1).val / 32 = D j % 16 then
      A (Sr j / 16 * 32 + (x 0).val % 32) (Sr j % 16 * 32 + (x 1).val % 32)
    else pasted tk D Sr n A f j x

/-- One patch copied as far as row `t`: the rows before `t` of patch `d` from patch column `s % 16` of the band `g`. -/
def merged (d s : Nat) (g : SB.Idx → X) (f : SQ.Idx → X) (t : Nat) (x : SQ.Idx) : X :=
  if ((x 0).val / 32 = d / 16 % 4 ∧ (x 1).val / 32 = d % 16) ∧ (x 0).val % 32 < t then
    g (fun | 0 => ⟨(x 0).val % 32, Nat.mod_lt _ (by decide)⟩ | 1 => ⟨s % 16 * 32 + (x 1).val % 32, by show _ < 512; omega⟩)
  else f x

theorem merged_zero (d s : Nat) (g : SB.Idx → X) (f : SQ.Idx → X) : merged d s g f 0 = f := by
  funext x; simp [merged]

theorem merged_full {tk : Int} {D Sr : Nat → Nat} {n : Nat} {A : Nat → Nat → X} {f : SQ.Idx → X} {j : Nat} {g : SB.Idx → X}
    (hg : ∀ y, g y = A (Sr j / 16 * 32 + (y 0).val) (y 1).val) (hc : (j : Int) < tk ∧ D j / 64 = n) :
    merged (D j) (Sr j) g (pasted tk D Sr n A f j) 32 = pasted tk D Sr n A f (j + 1) := by
  funext x
  have : (x 0).val % 32 < 32 := Nat.mod_lt _ (by decide)
  simp only [merged, pasted, hc, this, and_true, true_and, hg]

theorem pasted_skip {tk : Int} {D Sr : Nat → Nat} {n : Nat} {A : Nat → Nat → X} {f : SQ.Idx → X} {j : Nat}
    (hc : ¬((j : Int) < tk ∧ D j / 64 = n)) : pasted tk D Sr n A f (j + 1) = pasted tk D Sr n A f j := by
  funext x
  simp only [pasted, hc, false_and, if_false]

/-! ## Rows of an array -/

/-- An array of `n` rows. -/
abbrev SN (n : Nat) : Shape := ⟨2, ![n, 512]⟩

variable {n : Nat} [NeZero n]

/-- The 128 rows from row `r0`. -/
def rowsAt (r0 : Nat) (f : (SN n).Idx → X) : SQ.Idx → X :=
  fun y => f (fun | 0 => ⟨(r0 + (y 0).val) % n, Nat.mod_lt _ (Nat.pos_of_ne_zero (NeZero.ne n))⟩ | 1 => y 1)

omit [NeZero n] in
/-- The 128 rows from row `r0` replaced. -/
def putRows (r0 : Nat) (U : SQ.Idx → X) (f : (SN n).Idx → X) : (SN n).Idx → X :=
  fun x => if r0 ≤ (x 0).val ∧ (x 0).val < r0 + 128 then U (fun | 0 => ⟨((x 0).val - r0) % 128, Nat.mod_lt _ (by decide)⟩ | 1 => x 1) else f x

/-- The 16 words from word `r0`. -/
def listAt (r0 : Nat) (f : (⟨1, ![128]⟩ : Shape).Idx → X) : (⟨1, ![16]⟩ : Shape).Idx → X :=
  fun y => f (fun | 0 => ⟨(r0 + (y 0).val) % 128, Nat.mod_lt _ (by decide)⟩)

/-- Position `j` among 16. -/
def ix16 (j : Nat) : (⟨1, ![16]⟩ : Shape).Idx := fun | 0 => ⟨j % 16, Nat.mod_lt _ (by decide)⟩

/-- Word `j` of batch `b` in a list. -/
def lAt (l : (⟨1, ![128]⟩ : Shape).Idx → BitVec 32) (b j : Nat) : BitVec 32 := l (fun | 0 => ⟨(b * 16 + j % 16) % 128, Nat.mod_lt _ (by decide)⟩)

/-- A plane of 512 rows from row `r0`. -/
def planeAt (r0 : Nat) (a : (SN n).Idx → X) (r c : Nat) : X :=
  a (fun | 0 => ⟨(r0 + r) % n, Nat.mod_lt _ (Nat.pos_of_ne_zero (NeZero.ne n))⟩ | 1 => ⟨c % 512, Nat.mod_lt _ (by decide)⟩)

/-- THE RESULT of `kk` planes a batch: each 128 rows `u` are the old ones with the batch's picks pasted in. -/
def pastedAt (kk : Nat) (tk : Nat → Int) (D Sr : Nat → Nat → Nat) (o a : (SN n).Idx → X) (x : (SN n).Idx) : X :=
  pasted (tk ((x 0).val / 128 / (4 * kk))) (D ((x 0).val / 128 / (4 * kk))) (Sr ((x 0).val / 128 / (4 * kk))) ((x 0).val / 128 % 4)
    (planeAt ((x 0).val / 128 / 4 * 512) a) (rowsAt ((x 0).val / 128 * 128) o) 16
    (fun | 0 => ⟨(x 0).val % 128, Nat.mod_lt _ (by decide)⟩ | 1 => x 1)

theorem updateSlice_rows {r0 : Nat} (inb : ∀ a, (![r0, 0] : Fin 2 → Nat) a + (![128, 512] : Fin 2 → Nat) a ≤ (SN n).size a) (f : (SN n).Idx → X) (w : SQ.Idx → X) :
    updateSlice (s := SN n) (u := SQ) f w ![r0, 0] ⟨rfl, inb⟩ = putRows r0 w f := by
  funext x
  have h1 : (x 1).val < 512 := (x 1).isLt
  unfold updateSlice putRows
  by_cases hx : r0 ≤ (x 0).val ∧ (x 0).val < r0 + 128
  · rw [if_pos hx, dif_pos]
    swap
    · intro a
      match a with
      | 0 => exact hx
      | 1 => exact ⟨Nat.zero_le _, by show _ < 0 + 512; omega⟩
    refine congrArg w (funext fun a => Fin.ext ?_)
    match a with
    | 0 => show (x 0).val - r0 = ((x 0).val - r0) % 128; omega
    | 1 => show (x 1).val - 0 = (x 1).val; omega
  · rw [if_neg hx, dif_neg]
    intro h; exact hx (h 0)

/-- One unit's rows of the result. -/
theorem pastedAt_unit {kk : Nat} {tk : Nat → Int} {D Sr : Nat → Nat → Nat} {o a : (SN n).Idx → X} {u b r0 p0 nq : Nat}
    (hr : r0 = u * 128) (hb : u / (4 * kk) = b) (hp : p0 = u / 4 * 512) (hq : nq = u % 4) (f : (SN n).Idx → X) (x : (SN n).Idx) :
    putRows r0 (pasted (tk b) (D b) (Sr b) nq (planeAt p0 a) (rowsAt r0 o) 16) f x
      = if (x 0).val / 128 = u then pastedAt kk tk D Sr o a x else f x := by
  subst hr hb hp hq
  unfold putRows
  by_cases hx : (x 0).val / 128 = u
  · rw [if_pos hx, if_pos (by omega)]
    unfold pastedAt
    subst hx
    refine congrArg _ (funext fun a => Fin.ext ?_)
    match a with
    | 0 => show ((x 0).val - (x 0).val / 128 * 128) % 128 = (x 0).val % 128; omega
    | 1 => rfl
  · rw [if_neg hx, if_neg (by omega)]

end Cert.Proof.Words
-- ==== Proof.TileKI.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Words
public import proofs.«01_k».proof.Proof.Gen.KernelIdeal
public import proofs.«01_k».proof.Proof.Gen.KernelIdeal.Skeleton

@[expose] public section

noncomputable section

/-! # One tile's steps: a copy and its wait, a patch moved, a pick's branch -/

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0

/-- A tile's program. -/
abbrev TProg (F : FTy → Type) (L : grid0.Coords) (α : Type) : Type 1 := Prog (TpuEff nD τ sig (Elt F) Λ₀ (.scVector (cV L) (jV L))) α

/-- The tile's two buffers: its quarter of a plane, a band of the source. -/
abbrev pV : Memref sig .scVector .vmem S128x512 .f32 := Memref.whole cc0_scratch0
abbrev aV : Memref sig .scVector .vmem S32x512 .f32 := Memref.whole cc0_scratch1

variable [FloatOps F] (d : Dev nD) (L : grid0.Coords)

local notation "thr" => (V d (cV L) (jV L) : Thread nD τ)

/-! ## What a tile holds between its steps -/

/-- What the tile owes, its waits so far recorded. -/
def Ow (O : CellTallies nD τ sig (HIx 1)) (W : Waits sig (HIx 1)) : sProp 𝕄 :=
  iprop(∃ W', ⌜∀ p ∈ W', p ∈ W ∨ p.2 = none⌝ ∗ owes thr O W')

omit [FloatOps F] in
/-- Every one of a tile's transfer semaphores is among its own cells, at zero: taken out and put back. -/
theorem sem_out (s : DmaSem sig) :
    (ownSems0 thr : sProp 𝕄) ⊢ iprop(semVal (thr, .dma s) 0 ∗ (semVal (thr, .dma s) 0 -∗ ownSems0 thr)) := by
  have hs : ∀ s : DmaSem sig, (SemLoc.dma s : SemLoc sig).isScoped .scVector = true := by decide
  have hm : ((thr, .dma s) : GSem nD τ sig) ∈ ownCells thr := mem_ownCells.mpr ⟨rfl, hs s⟩
  unfold SparseCore.Cfg.ownSems0
  rw [SparseCore.bigSep_erase' hm]
  iintro ⟨Hv, Hr⟩
  isplitl [Hv]; · iexact Hv
  iintro Hv
  isplitl [Hv] <;> iassumption

/-- A COPY AND ITS WAIT: the destination written with what the source reads. -/
theorem copy_wp {α : Type} {sp sp' : Space} {s : Shape} {e : EltTy} (O : CellTallies nD τ sig (HIx 1)) (W : Waits sig (HIx 1))
    (src : Memref sig .scVector sp s e) (dst : Memref sig .scVector sp' s e) (sem : DmaSem sig)
    {h1 : src.view.WordExact} {h2 : dst.view.WordExact} {h3 : DmaTarget.Typed (nD := nD) (p := .scVector (cV L) (jV L)) sp (.dma sem) (.here dst)}
    {h4 : src.view.WordExact} {h5 : dst.view.WordExact} (k : TProg F L α) {Q : α → sProp 𝕄}
    {q : PosShare TreeShare} {fs : Buf (Elt F) (src.view.loc thr)} {Sd : Finset (Idx (dst.view.loc thr))} {fd : Buf (Elt F) (dst.view.loc thr)}
    (hSd : dst.view.set ⊆ Sd) (hN : 0 < dst.view.dmaCredit) :
    iprop(Transfers.MayWaits thr (default : HIx 1) O ∗ (src.view.loc thr ↦[src.view.set]{q} fs) ∗ (dst.view.loc thr ↦[Sd]{fullShare} fd)
        ∗ ownSems0 thr ∗ Ow d L O W)
      ⊢ iprop((iprop((src.view.loc thr ↦[src.view.set]{q} fs)
              ∗ (dst.view.loc thr ↦[Sd]{fullShare} dst.view.write (Elt F) fd (src.view.read (Elt F) fs) Finset.univ) ∗ ownSems0 thr ∗ Ow d L O W)
            -∗ wp frame (wpE (defs₀ (F := F)) 𝒱₀ thr none) Set.univ k Q)
          -∗ wp frame (wpE (defs₀ (F := F)) 𝒱₀ thr none) Set.univ
            ((Prog.lift (.enqueueDma src (.here dst) (.dma sem) h1 h2 h3) >>= fun _ => Prog.lift (.waitDma2 sem src dst h4 h5) >>= fun _ => k : TProg F L α)) Q) := by
  show _ ⊢ iprop(_ -∗ wp frame (wpE (defs₀ (F := F)) 𝒱₀ thr none) Set.univ
    (.op (.enqueueDma src (.here dst) (.dma sem) h1 h2 h3) fun _ => .op (.waitDma2 sem src dst h4 h5) fun _ => k) Q)
  iintro ⟨#Hmw, Hs, Hd, Hsems, HO⟩ Hk
  ihave Hv := (sem_out (F := F) d L sem) $$ Hsems
  icases Hv with ⟨Hv, Hback⟩
  iapply (Transfers.wp_dmaLocal countersEmb 𝒱₀ thr none (via := .same) (q := q) (fs := fs) (default : HIx 1) dst.view.dmaCredit rfl hN hSd) $$ [Hs Hd Hv]
  · isplitl [Hs]; · iexact Hs
    isplitl [Hd] <;> iassumption
  iintro Hf
  unfold Ow
  icases HO with ⟨%W', %hW', HO⟩
  iapply (Transfers.wp_waitLocalO countersEmb 𝒱₀ thr none (default : HIx 1) (rfl : dst.view.dmaCredit = _)) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]; · iexact Hd
  isplitl [Hv Hback]
  · iapply Hback; iexact Hv
  iexists _; isplitr
  swap; · iexact HO
  ipureintro; intro p hp
  rcases Finset.mem_insert.mp hp with hp | hp; · exact .inr (hp ▸ rfl)
  exact hW' p hp

/-! ## One trip: a row of the patch, in two halves -/

section Trip

variable (oL1 oS1 oL2 oS2 : Fin 2 → ℕ)
variable (iL1 : ∀ a, oL1 a + S1x16.size a ≤ S32x512.size a) (iS1 : ∀ a, oS1 a + S1x16.size a ≤ S128x512.size a)
variable (iL2 : ∀ a, oL2 a + S1x16.size a ≤ S32x512.size a) (iS2 : ∀ a, oS2 a + S1x16.size a ≤ S128x512.size a)

/-- The trip's program. -/
def tripG : TProg F L (BitVec 32) := do
  let v3818 : Vec F S1x16 .f32 ← Prog.lift (.load aV (Rect.unit (s := S32x512) oL1 S1x16.size iL1).toLoadRect (View.loadsAt_vmem h_S1x16))
  let _v3822 : Vec F S1x16 .f32 ← Prog.lift (.load pV (Rect.unit (s := S128x512) oS1 S1x16.size iS1).toLoadRect (View.loadsAt_vmem h_S1x16))
  Prog.lift (.store pV (Rect.unit (s := S128x512) oS1 S1x16.size iS1) (k0_pay8 v3818) Finset.univ (View.stores_vmem_bits_univ h_S1x16 rfl) (.inl rfl))
  let v3828 : Vec F S1x16 .f32 ← Prog.lift (.load aV (Rect.unit (s := S32x512) oL2 S1x16.size iL2).toLoadRect (View.loadsAt_vmem h_S1x16))
  let _v3833 : Vec F S1x16 .f32 ← Prog.lift (.load pV (Rect.unit (s := S128x512) oS2 S1x16.size iS2).toLoadRect (View.loadsAt_vmem h_S1x16))
  Prog.lift (.store pV (Rect.unit (s := S128x512) oS2 S1x16.size iS2) (k0_pay9 v3828) Finset.univ (View.stores_vmem_bits_univ h_S1x16 rfl) (.inl rfl))
  pure 0#32

/-- What the buffer holds after it. -/
def tripF (g : SB.Idx → Elt F .f32) (f : SQ.Idx → Elt F .f32) : SQ.Idx → Elt F .f32 :=
  updateSlice (updateSlice f (k0_pay8 fun x => g ((Rect.unit (s := S32x512) oL1 S1x16.size iL1).toLoadRect.idx x)) oS1 ⟨rfl, iS1⟩)
    (k0_pay9 fun x => g ((Rect.unit (s := S32x512) oL2 S1x16.size iL2).toLoadRect.idx x)) oS2 ⟨rfl, iS2⟩

theorem trip_wp (g : SB.Idx → Elt F .f32) (f : SQ.Idx → Elt F .f32) :
    (iprop(((pV).view.loc thr ↦{fullShare} f) ∗ ((aV).view.loc thr ↦{fullShare} g)) : sProp 𝕄)
      ⊢ wp frame (wpE (defs₀ (F := F)) 𝒱₀ thr none) Set.univ (tripG (F := F) L oL1 oS1 oL2 oS2 iL1 iS1 iL2 iS2)
          fun _ => iprop(((pV).view.loc thr ↦{fullShare} tripF oL1 oS1 oL2 oS2 iL1 iS1 iL2 iS2 g f) ∗ ((aV).view.loc thr ↦{fullShare} g)) := by
  unfold tripG
  show _ ⊢ wp frame (wpE (defs₀ (F := F)) 𝒱₀ thr none) Set.univ (.op _ fun _ => .op _ fun _ => .op _ fun _ => .op _ fun _ => .op _ fun _ => .op _ fun _ => .ret _) _
  iintro ⟨Hp, Ha⟩
  iapply (wp_load 𝒱₀ thr none Set.univ (Finset.subset_univ _)) $$ Ha
  iintro Ha
  iapply (wp_load 𝒱₀ thr none Set.univ (Finset.subset_univ _)) $$ Hp
  iintro Hp
  iapply (wp_store 𝒱₀ thr none Set.univ (m := pV) (r := Rect.unit (s := S128x512) oS1 S1x16.size iS1) (Mk := Finset.univ) (Finset.subset_univ _)) $$ Hp
  iintro Hp
  iapply (wp_load 𝒱₀ thr none Set.univ (Finset.subset_univ _)) $$ Ha
  iintro Ha
  iapply (wp_load 𝒱₀ thr none Set.univ (Finset.subset_univ _)) $$ Hp
  iintro Hp
  iapply (wp_store 𝒱₀ thr none Set.univ (m := pV) (r := Rect.unit (s := S128x512) oS2 S1x16.size iS2) (Mk := Finset.univ) (Finset.subset_univ _)) $$ Hp
  iintro Hp
  rw [wp_ret]; imodintro
  isplitl [Hp]
  · have e1 := View.write_whole_slice_unit (Val := Elt F) cc0_scratch0 oS1 S1x16.size iS1 f
      (k0_pay8 fun x => g ((Rect.unit (s := S32x512) oL1 S1x16.size iL1).toLoadRect.idx x))
    have e2 := View.write_whole_slice_unit (Val := Elt F) cc0_scratch0 oS2 S1x16.size iS2
      (updateSlice f (k0_pay8 fun x => g ((Rect.unit (s := S32x512) oL1 S1x16.size iL1).toLoadRect.idx x)) oS1 ⟨rfl, iS1⟩)
      (k0_pay9 fun x => g ((Rect.unit (s := S32x512) oL2 S1x16.size iL2).toLoadRect.idx x))
    rw [← e1] at e2
    unfold tripF
    rw [← e1]
    refine (Entails.of_eq (congrArg (fun h => ((pV).view.loc thr ↦{fullShare} h : sProp 𝕄)) ?_) : _ ⊢ _)
    exact e2
  · iexact Ha

end Trip

omit [FloatOps F] in
/-- A trip moves row `t` of the patch. -/
theorem tripF_merged {dd ss t : ℕ} (ht : t < 32) {oL1 oS1 oL2 oS2 : Fin 2 → ℕ}
    {iL1 : ∀ a, oL1 a + S1x16.size a ≤ S32x512.size a} {iS1 : ∀ a, oS1 a + S1x16.size a ≤ S128x512.size a}
    {iL2 : ∀ a, oL2 a + S1x16.size a ≤ S32x512.size a} {iS2 : ∀ a, oS2 a + S1x16.size a ≤ S128x512.size a}
    (h1 : oL1 = ![t, ss % 16 * 32]) (h2 : oS1 = ![dd / 16 % 4 * 32 + t, dd % 16 * 32])
    (h3 : oL2 = ![t, ss % 16 * 32 + 16]) (h4 : oS2 = ![dd / 16 % 4 * 32 + t, dd % 16 * 32 + 16])
    (g : SB.Idx → Elt F .f32) (f : SQ.Idx → Elt F .f32) :
    tripF oL1 oS1 oL2 oS2 iL1 iS1 iL2 iS2 g (merged dd ss g f t) = merged dd ss g f (t + 1) := by
  subst h1 h2 h3 h4
  have hp8 : ∀ (w : Vec F S1x16 .f32), k0_pay8 (F := F) w = w := fun w => shapeCast_shapeCast (s := S1x16) (t := S16) w _ _
  have hp9 : ∀ (w : Vec F S1x16 .f32), k0_pay9 (F := F) w = w := fun w => shapeCast_shapeCast (s := S1x16) (t := S16) w _ _
  funext x
  have hx0 : (x 0).val < 128 := (x 0).isLt
  have hx1 : (x 1).val < 512 := (x 1).isLt
  unfold tripF
  rw [hp8, hp9]
  unfold updateSlice
  have key : ∀ (o : Fin 2 → ℕ) (io : ∀ a, o a + S1x16.size a ≤ S32x512.size a) (y : S1x16.Idx) (z : SB.Idx), (z 0).val = o 0 + (y 0).val → (z 1).val = o 1 + (y 1).val →
      g ((Rect.unit (s := S32x512) o S1x16.size io).toLoadRect.idx y) = g z := by
    intro o io y z h0 h1
    refine congrArg g (funext fun a => Fin.ext ?_)
    match a with
    | 0 => show o 0 + 1 * (y 0).val = _; rw [h0, one_mul]
    | 1 => show o 1 + 1 * (y 1).val = _; rw [h1, one_mul]
  split
  · next h =>
    have h0 := h 0; have h1 := h 1
    change dd / 16 % 4 * 32 + t ≤ (x 0).val ∧ (x 0).val < dd / 16 % 4 * 32 + t + 1 at h0
    change dd % 16 * 32 + 16 ≤ (x 1).val ∧ (x 1).val < dd % 16 * 32 + 16 + 16 at h1
    unfold merged
    rw [if_pos (by omega)]
    refine key _ _ _ _ ?_ ?_
    · show (x 0).val % 32 = t + ((x 0).val - (dd / 16 % 4 * 32 + t)); omega
    · show ss % 16 * 32 + (x 1).val % 32 = ss % 16 * 32 + 16 + ((x 1).val - (dd % 16 * 32 + 16)); omega
  · next hn =>
    have hn' : ¬((dd / 16 % 4 * 32 + t ≤ (x 0).val ∧ (x 0).val < dd / 16 % 4 * 32 + t + 1)
        ∧ (dd % 16 * 32 + 16 ≤ (x 1).val ∧ (x 1).val < dd % 16 * 32 + 16 + 16)) := fun hc => hn fun a => by
      match a with
      | 0 => exact hc.1
      | 1 => exact hc.2
    split
    · next h =>
      have h0 := h 0; have h1 := h 1
      change dd / 16 % 4 * 32 + t ≤ (x 0).val ∧ (x 0).val < dd / 16 % 4 * 32 + t + 1 at h0
      change dd % 16 * 32 ≤ (x 1).val ∧ (x 1).val < dd % 16 * 32 + 16 at h1
      unfold merged
      rw [if_pos (by omega)]
      refine key _ _ _ _ ?_ ?_
      · show (x 0).val % 32 = t + ((x 0).val - (dd / 16 % 4 * 32 + t)); omega
      · show ss % 16 * 32 + (x 1).val % 32 = ss % 16 * 32 + ((x 1).val - dd % 16 * 32); omega
    · next hm =>
      have hm' : ¬((dd / 16 % 4 * 32 + t ≤ (x 0).val ∧ (x 0).val < dd / 16 % 4 * 32 + t + 1)
          ∧ (dd % 16 * 32 ≤ (x 1).val ∧ (x 1).val < dd % 16 * 32 + 16)) := fun hc => hm fun a => by
        match a with
        | 0 => exact hc.1
        | 1 => exact hc.2
      unfold merged
      by_cases hc : ((x 0).val / 32 = dd / 16 % 4 ∧ (x 1).val / 32 = dd % 16) ∧ (x 0).val % 32 < t
      · rw [if_pos hc, if_pos (by omega)]
      · rw [if_neg hc, if_neg (by omega)]

/-! ## A pick's branch -/

/-- A unit of a tile's work: the source array, its first row and quarter. -/
structure UnitD where
  n : ℕ
  asrc : Memref sig .scVector .hbm ⟨2, ![n, 512]⟩ .f32
  q : PosShare TreeShare
  fs : Buf (Elt F) (asrc.view.loc thr)
  aw : BitVec 32
  qw : BitVec 32
  nq : ℕ
  haw : aw.toNat + 512 ≤ n
  hn : n ≤ 12288
  hqw : qw = BitVec.ofNat 32 nq
  hnq : nq < 4

variable {d L} in
/-- The unit's source plane. -/
def UnitD.A (u : UnitD (F := F) d L) (r c : ℕ) : Elt F .f32 :=
  u.asrc.view.read (Elt F) u.fs (fun | 0 => ⟨(u.aw.toNat + r) % u.n, Nat.mod_lt _ (by have := u.haw; omega)⟩ | 1 => ⟨c % 512, Nat.mod_lt _ (by decide)⟩)

/-- The picks as the tile reads them. -/
structure Picks where
  tk : BitVec 32
  D : IVec S16 32
  S : IVec S16 32
  hD : ∀ j, (D j).toNat < 256
  hS : ∀ j, (S j).toNat < 256

theorem slices_at (j : ℕ) : S16.Slices ![j % 16] S1 := ⟨rfl, fun a => match a with
  | 0 => by show j % 16 + 1 ≤ 16; omega⟩

/-- Position `j` of a list. -/
def at16 (v : IVec S16 32) (j : ℕ) : BitVec 32 := extractAt ![0] (extractStridedSlice S1 ![j % 16] v (slices_at j)) inpos_S1_p0

theorem at16_lt {v : IVec S16 32} (hv : ∀ j, (v j).toNat < 256) (j : ℕ) : (at16 v j).toNat < 256 := hv _

variable (O : CellTallies nD τ sig (HIx 1)) (W : Waits sig (HIx 1))

/-- The quarter after `j` picks. -/
def Uf (pk : Picks) (u : UnitD (F := F) d L) (f0 : SQ.Idx → Elt F .f32) (j : ℕ) : SQ.Idx → Elt F .f32 :=
  pasted pk.tk.toInt (fun j => (at16 pk.D j).toNat) (fun j => (at16 pk.S j).toNat) u.nq u.A f0 j

/-- Between two picks of a unit. -/
def St (pk : Picks) (u : UnitD (F := F) d L) (f0 : SQ.Idx → Elt F .f32) (j : ℕ) (Rest : sProp 𝕄) : sProp 𝕄 :=
  iprop(Transfers.MayWaits thr (default : HIx 1) O ∗ ((pV).view.loc thr ↦{fullShare} Uf d L pk u f0 j) ∗ (∃ g, (aV).view.loc thr ↦{fullShare} g)
    ∗ (u.asrc.view.loc thr ↦{u.q} u.fs) ∗ ownSems0 thr ∗ Ow d L O W ∗ Rest)

/-- A pick's branch: the band fetched and its patch moved, where the condition holds. -/
def branchG {α σ : Type} {n : ℕ} (asrc : Memref sig .scVector .hbm ⟨2, ![n, 512]⟩ .f32) (sem : DmaSem sig) (cond : BitVec 1) (offA : Fin 2 → ℕ)
    (inbA : cond = 1#1 → ∀ a, offA a + S32x512.size a ≤ (⟨2, ![n, 512]⟩ : Shape).size a) (oL1 oS1 oL2 oS2 : Fin k0_t1_loop.trips → Fin 2 → ℕ)
    (iL1 : cond = 1#1 → ∀ t, ∀ a, oL1 t a + S1x16.size a ≤ S32x512.size a) (iS1 : cond = 1#1 → ∀ t, ∀ a, oS1 t a + S1x16.size a ≤ S128x512.size a)
    (iL2 : cond = 1#1 → ∀ t, ∀ a, oL2 t a + S1x16.size a ≤ S32x512.size a) (iS2 : cond = 1#1 → ∀ t, ∀ a, oS2 t a + S1x16.size a ≤ S128x512.size a)
    (r : σ) (J : TProg F L α) : TProg F L α :=
  if h : cond = 1#1 then
    (Prog.lift (.enqueueDma (asrc.slice (Rect.unit (s := ⟨2, ![n, 512]⟩) offA S32x512.size (inbA h)) (fun _ => rfl)) (.here (p := .scVector (cV L) (jV L)) aV) (.dma sem)
        (View.wordExact_bits rfl) (View.wordExact_bits rfl) ⟨Or.inl rfl, trivial⟩) >>= fun _ =>
      Prog.lift (.waitDma2 sem (asrc.slice (Rect.unit (s := ⟨2, ![n, 512]⟩) offA S32x512.size (inbA h)) (fun _ => rfl)) aV (View.wordExact_bits rfl) (View.wordExact_bits rfl)) >>= fun _ =>
      (pure r : TProg F L σ)) >>= fun _ =>
    Scf.Loop.for k0_t1_loop k0_t1_ok 0#32 (fun t _ => tripG L (oL1 t) (oS1 t) (oL2 t) (oS2 t) (iL1 h t) (iS1 h t) (iL2 h t) (iS2 h t)) >>= fun _ => J
  else J

theorem branch_wp {α σ : Type} (pk : Picks) (u : UnitD (F := F) d L) (f0 : SQ.Idx → Elt F .f32) (j : ℕ) (Rest : sProp 𝕄)
    (p : TProg F L α) {sem : DmaSem sig} {cond : BitVec 1} {offA : Fin 2 → ℕ}
    {inbA : cond = 1#1 → ∀ a, offA a + S32x512.size a ≤ (⟨2, ![u.n, 512]⟩ : Shape).size a} {oL1 oS1 oL2 oS2 : Fin k0_t1_loop.trips → Fin 2 → ℕ}
    {iL1 : cond = 1#1 → ∀ t, ∀ a, oL1 t a + S1x16.size a ≤ S32x512.size a} {iS1 : cond = 1#1 → ∀ t, ∀ a, oS1 t a + S1x16.size a ≤ S128x512.size a}
    {iL2 : cond = 1#1 → ∀ t, ∀ a, oL2 t a + S1x16.size a ≤ S32x512.size a} {iS2 : cond = 1#1 → ∀ t, ∀ a, oS2 t a + S1x16.size a ≤ S128x512.size a}
    {r : σ} {J : TProg F L α} {Q : α → sProp 𝕄}
    (hp : p = branchG L u.asrc sem cond offA inbA oL1 oS1 oL2 oS2 iL1 iS1 iL2 iS2 r J) (hj : j < 16)
    (hc : cond = condW pk.tk (BitVec.ofNat 32 j) (at16 pk.D j) u.qw) (hA : offA = ![(bandW u.aw (at16 pk.S j)).toNat, 0])
    (h1 : oL1 = fun t : Fin k0_t1_loop.trips => ![(Scf.iv 0#32 1#32 t).toNat, (colW (at16 pk.S j)).toNat])
    (h2 : oS1 = fun t : Fin k0_t1_loop.trips => ![(prowW (at16 pk.D j) t).toNat, (colW (at16 pk.D j)).toNat])
    (h3 : oL2 = fun t : Fin k0_t1_loop.trips => ![(Scf.iv 0#32 1#32 t).toNat, (Scalar.addi (colW (at16 pk.S j)) 16#32).toNat])
    (h4 : oS2 = fun t : Fin k0_t1_loop.trips => ![(prowW (at16 pk.D j) t).toNat, (Scalar.addi (colW (at16 pk.D j)) 16#32).toNat])
    (h : St d L O W pk u f0 (j + 1) Rest ⊢ wp frame (wpE (defs₀ (F := F)) 𝒱₀ thr none) Set.univ J Q) :
    St d L O W pk u f0 j Rest ⊢ wp frame (wpE (defs₀ (F := F)) 𝒱₀ thr none) Set.univ p Q := by
  subst hp
  unfold branchG
  have hiff := condW_eq (tk := pk.tk) hj (at16_lt pk.hD j) u.hnq u.hqw
  by_cases hcond : cond = 1#1
  swap
  · rw [dif_neg hcond]
    have : ¬((j : Int) < pk.tk.toInt ∧ (at16 pk.D j).toNat / 64 = u.nq) := fun hh => hcond (hc.trans (hiff.mpr hh))
    have e : Uf d L pk u f0 (j + 1) = Uf d L pk u f0 j := pasted_skip this
    unfold St at h ⊢
    rw [e] at h
    exact h
  rw [dif_pos hcond]
  have hcc : (j : Int) < pk.tk.toInt ∧ (at16 pk.D j).toNat / 64 = u.nq := hiff.mp (hc.symm.trans hcond)
  have hd : (at16 pk.D j).toNat < 256 := at16_lt pk.hD j
  have hs : (at16 pk.S j).toNat < 256 := at16_lt pk.hS j
  have hb : (bandW u.aw (at16 pk.S j)).toNat = u.aw.toNat + (at16 pk.S j).toNat / 16 * 32 :=
    bandW_eq (by have := u.haw; have := u.hn; omega) hs
  show _ ⊢ wp frame (wpE (defs₀ (F := F)) 𝒱₀ thr none) Set.univ ((Prog.lift (.enqueueDma _ (.here (p := .scVector (cV L) (jV L)) aV) (.dma sem)
        (View.wordExact_bits rfl) (View.wordExact_bits rfl) ⟨Or.inl rfl, trivial⟩) >>= fun _ =>
      Prog.lift (.waitDma2 sem _ aV (View.wordExact_bits rfl) (View.wordExact_bits rfl)) >>= fun _ =>
    Scf.Loop.for k0_t1_loop k0_t1_ok 0#32 (fun t _ => tripG L (oL1 t) (oS1 t) (oL2 t) (oS2 t) (iL1 hcond t) (iS1 hcond t) (iL2 hcond t) (iS2 hcond t)) >>= fun _ => J : TProg F L α)) Q
  unfold St
  iintro ⟨#Hmw, Hp, ⟨%g0, Ha⟩, Hs, Hsems, HO, HR⟩
  ihave Hs' := (pointsTo_split_subset (q := u.q) (f := u.fs) (S := Finset.univ)
    (Finset.subset_univ (u.asrc.slice (Rect.unit (s := ⟨2, ![u.n, 512]⟩) offA S32x512.size (inbA hcond)) (fun _ => rfl)).view.set)).1 $$ Hs
  icases Hs' with ⟨Hs, Hsr⟩
  iapply (copy_wp d L O W (u.asrc.slice (Rect.unit (s := ⟨2, ![u.n, 512]⟩) offA S32x512.size (inbA hcond)) (fun _ => rfl)) aV sem
    (q := u.q) (fs := u.fs) (fd := g0) (Sd := Finset.univ) _ (Finset.subset_univ _) (show 0 < (aV).view.dmaCredit by decide)) $$ [Hs Ha Hsems HO]
  · isplitr; · iexact Hmw
    isplitl [Hs]; · iexact Hs
    isplitl [Ha]; · iexact Ha
    isplitl [Hsems] <;> iassumption
  iintro ⟨Hs, Ha, Hsems, HO⟩
  ihave Hs' := (pointsTo_split_subset (q := u.q) (f := u.fs) (S := Finset.univ)
    (Finset.subset_univ (u.asrc.slice (Rect.unit (s := ⟨2, ![u.n, 512]⟩) offA S32x512.size (inbA hcond)) (fun _ => rfl)).view.set)).2 $$ [Hs Hsr]
  · isplitl [Hs] <;> iassumption
  set g1 : SB.Idx → Elt F .f32 := (aV).view.write (Elt F) g0
    ((u.asrc.slice (Rect.unit (s := ⟨2, ![u.n, 512]⟩) offA S32x512.size (inbA hcond)) (fun _ => rfl)).view.read (Elt F) u.fs) Finset.univ with hg1
  have hg : ∀ y : SB.Idx, g1 y = u.A ((at16 pk.S j).toNat / 16 * 32 + (y 0).val) (y 1).val := by
    intro y
    have h0 : (y 0).val < 32 := (y 0).isLt
    have h1 : (y 1).val < 512 := (y 1).isLt
    have e : g1 = (u.asrc.slice (Rect.unit (s := ⟨2, ![u.n, 512]⟩) offA S32x512.size (inbA hcond)) (fun _ => rfl)).view.read (Elt F) u.fs :=
      View.write_whole_univ cc0_scratch1 _ _
    rw [e]
    refine congrArg (u.asrc.view.read (Elt F) u.fs) (funext fun a => Fin.ext ?_)
    subst hA
    have := u.haw
    match a with
    | 0 =>
      show (bandW u.aw (at16 pk.S j)).toNat + 1 * (y 0).val = (u.aw.toNat + ((at16 pk.S j).toNat / 16 * 32 + (y 0).val)) % u.n
      rw [hb, Nat.mod_eq_of_lt] <;> omega
    | 1 =>
      show 0 + 1 * (y 1).val = (y 1).val % 512
      omega
  clear_value g1
  have htr : k0_t1_loop.trips = 32 := by decide
  iapply (Scf.wp_for_bind frame (wpE (defs₀ (F := F)) 𝒱₀ thr none) Set.univ k0_t1_loop.lb k0_t1_loop.ub k0_t1_loop.st k0_t1_ok 0#32
    (fun t _ => tripG L (oL1 t) (oS1 t) (oL2 t) (oS2 t) (iL1 hcond t) (iS1 hcond t) (iL2 hcond t) (iS2 hcond t))
    (fun t _ => iprop(((pV).view.loc thr ↦{fullShare} merged (at16 pk.D j).toNat (at16 pk.S j).toNat g1 (Uf d L pk u f0 j) t)
      ∗ ((aV).view.loc thr ↦{fullShare} g1))) (fun t _ => by
        have ht : t.val < 32 := Nat.lt_of_lt_of_eq t.isLt htr
        refine (trip_wp d L _ _ _ _ _ _ _ _ g1 _).trans (wp_mono frame _ _ fun _ => ?_)
        rw [tripF_merged (t := t.val) ht]
        · rw [h1]; simp only [iv_toNat ht, colW_eq hs]
        · rw [h2]; simp only [prowW_eq hd ht, colW_eq hd]
        · rw [h3]; simp only [iv_toNat ht, colW'_eq hs]
        · rw [h4]; simp only [prowW_eq hd ht, colW'_eq hd])) $$ [Hp Ha]
  · isplitl [Hp]
    · rw [merged_zero]; iexact Hp
    · iexact Ha
  iintro %acc ⟨Hp, Ha⟩
  iapply h
  unfold St
  isplitr; · iexact Hmw
  isplitl [Hp]
  · have e : merged (at16 pk.D j).toNat (at16 pk.S j).toNat g1 (Uf d L pk u f0 j) k0_t1_loop.trips = Uf d L pk u f0 (j + 1) := by
      rw [htr]
      exact merged_full (tk := pk.tk.toInt) (D := fun j => (at16 pk.D j).toNat) (Sr := fun j => (at16 pk.S j).toNat) (n := u.nq) (A := u.A) (f := f0) (j := j) hg hcc
    rw [← e]; iexact Hp
  isplitl [Ha]; · iexists _; iexact Ha
  isplitl [Hs']; · iexact Hs'
  isplitl [Hsems]; · iexact Hsems
  isplitl [HO] <;> iassumption

end Cert.Proof.KernelIdeal
-- ==== Proof.StepsKI.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.TileKI
public import proofs.«01_k».proof.Proof.Gen.KernelIdeal
public import proofs.«01_k».proof.Proof.Gen.KernelIdeal.Skeleton

@[expose] public section

noncomputable section

/-! # The steps of a walk over a tile's program -/

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

local notation "thr" => (V d (cV L) (jV L) : Thread nD τ)

variable (O : CellTallies nD τ sig (HIx 1)) (W : Waits sig (HIx 1))

/-! ## Steps of the walk -/

/-- Where the unit's source is: whole, under a share. -/
theorem copy_sub_wp {α : Type} {sp sp' : Space} {s : Shape} {e : EltTy} (O : CellTallies nD τ sig (HIx 1)) (W : Waits sig (HIx 1))
    (src : Memref sig .scVector sp s e) (dst : Memref sig .scVector sp' s e) (sem : DmaSem sig)
    {h1 : src.view.WordExact} {h2 : dst.view.WordExact} {h3 : DmaTarget.Typed (nD := nD) (p := .scVector (cV L) (jV L)) sp (.dma sem) (.here dst)}
    {h4 : src.view.WordExact} {h5 : dst.view.WordExact} (k : TProg F L α) {Q : α → sProp 𝕄}
    {q : PosShare TreeShare} {fs : Buf (Elt F) (src.view.loc thr)} {Sd : Finset (Idx (dst.view.loc thr))} {fd : Buf (Elt F) (dst.view.loc thr)}
    (hSd : dst.view.set ⊆ Sd) (hN : 0 < dst.view.dmaCredit) :
    iprop(Transfers.MayWaits thr (default : HIx 1) O ∗ (src.view.loc thr ↦{q} fs) ∗ (dst.view.loc thr ↦[Sd]{fullShare} fd)
        ∗ ownSems0 thr ∗ Ow d L O W)
      ⊢ iprop((iprop((src.view.loc thr ↦{q} fs)
              ∗ (dst.view.loc thr ↦[Sd]{fullShare} dst.view.write (Elt F) fd (src.view.read (Elt F) fs) Finset.univ) ∗ ownSems0 thr ∗ Ow d L O W)
            -∗ wp frame (wpE (defs₀ (F := F)) 𝒱₀ thr none) Set.univ k Q)
          -∗ wp frame (wpE (defs₀ (F := F)) 𝒱₀ thr none) Set.univ
            ((Prog.lift (.enqueueDma src (.here dst) (.dma sem) h1 h2 h3) >>= fun _ => Prog.lift (.waitDma2 sem src dst h4 h5) >>= fun _ => k : TProg F L α)) Q) := by
  iintro ⟨#Hmw, Hs, Hd, Hsems, HO⟩ Hk
  ihave Hs' := (pointsTo_split_subset (q := q) (f := fs) (S := Finset.univ) (Finset.subset_univ src.view.set)).1 $$ Hs
  icases Hs' with ⟨Hs, Hsr⟩
  iapply (copy_wp d L O W src dst sem k hSd hN) $$ [Hs Hd Hsems HO]
  · isplitr; · iexact Hmw
    isplitl [Hs]; · iexact Hs
    isplitl [Hd]; · iexact Hd
    isplitl [Hsems] <;> iassumption
  iintro ⟨Hs, Hd, Hsems, HO⟩
  iapply Hk
  isplitl [Hs Hsr]
  · iapply (pointsTo_split_subset (q := q) (f := fs) (S := Finset.univ) (Finset.subset_univ src.view.set)).2
    isplitl [Hs] <;> iassumption
  isplitl [Hd]; · iexact Hd
  isplitl [Hsems] <;> iassumption

/-- Between two units. -/
def Idle (R : sProp 𝕄) : sProp 𝕄 :=
  iprop(Transfers.MayWaits thr (default : HIx 1) O ∗ (∃ f, (pV).view.loc thr ↦{fullShare} f) ∗ (∃ g, (aV).view.loc thr ↦{fullShare} g)
    ∗ ownSems0 thr ∗ Ow d L O W ∗ R)

/-- A copy and its wait, the rest to follow. -/
def copyG {α : Type} {sp sp' : Space} {s : Shape} {e : EltTy} (src : Memref sig .scVector sp s e) (dst : Memref sig .scVector sp' s e) (sem : DmaSem sig)
    (h1 : src.view.WordExact) (h2 : dst.view.WordExact) (h3 : DmaTarget.Typed (nD := nD) (p := .scVector (cV L) (jV L)) sp (.dma sem) (.here dst))
    (h4 : src.view.WordExact) (h5 : dst.view.WordExact) (k : TProg F L α) : TProg F L α :=
  Prog.lift (.enqueueDma src (.here dst) (.dma sem) h1 h2 h3) >>= fun _ => Prog.lift (.waitDma2 sem src dst h4 h5) >>= fun _ => k

/-- A UNIT BEGINS: its quarter fetched. -/
theorem unit_in {α : Type} (pk : Picks) (u : UnitD (F := F) d L) (osrc : Memref sig .scVector .hbm ⟨2, ![u.n, 512]⟩ .f32) (qo : PosShare TreeShare)
    (fo : Buf (Elt F) (osrc.view.loc thr)) (Rest : sProp 𝕄) (p : TProg F L α) {sem : DmaSem sig} {off : Fin 2 → ℕ}
    {inb : ∀ a, off a + S128x512.size a ≤ (⟨2, ![u.n, 512]⟩ : Shape).size a}
    {h1 : (osrc.slice (Rect.unit (s := ⟨2, ![u.n, 512]⟩) off S128x512.size inb) (fun _ => rfl)).view.WordExact} {h2 : (pV).view.WordExact}
    {h3 : DmaTarget.Typed (nD := nD) (p := .scVector (cV L) (jV L)) .hbm (.dma sem) (.here pV)}
    {h4 : (osrc.slice (Rect.unit (s := ⟨2, ![u.n, 512]⟩) off S128x512.size inb) (fun _ => rfl)).view.WordExact} {h5 : (pV).view.WordExact}
    {k : TProg F L α} {Q : α → sProp 𝕄} (f0 : SQ.Idx → Elt F .f32)
    (hp : p = copyG L (osrc.slice (Rect.unit (s := ⟨2, ![u.n, 512]⟩) off S128x512.size inb) (fun _ => rfl)) pV sem h1 h2 h3 h4 h5 k)
    (hf : (osrc.slice (Rect.unit (s := ⟨2, ![u.n, 512]⟩) off S128x512.size inb) (fun _ => rfl)).view.read (Elt F) fo = f0)
    (h : St d L O W pk u f0 0 iprop((osrc.view.loc thr ↦{qo} fo) ∗ Rest) ⊢ wp frame (wpE (defs₀ (F := F)) 𝒱₀ thr none) Set.univ k Q) :
    Idle d L O W iprop((osrc.view.loc thr ↦{qo} fo) ∗ (u.asrc.view.loc thr ↦{u.q} u.fs) ∗ Rest)
      ⊢ wp frame (wpE (defs₀ (F := F)) 𝒱₀ thr none) Set.univ p Q := by
  subst hp
  unfold Idle copyG
  iintro ⟨#Hmw, ⟨%f, Hp⟩, Ha, Hsems, HO, Ho, Hs, HR⟩
  iapply (copy_sub_wp d L O W (osrc.slice (Rect.unit (s := ⟨2, ![u.n, 512]⟩) off S128x512.size inb) (fun _ => rfl)) pV sem
    (q := qo) (fs := fo) (fd := f) (Sd := Finset.univ) k (Finset.subset_univ _) (show 0 < (pV).view.dmaCredit by decide)) $$ [Ho Hp Hsems HO]
  · isplitr; · iexact Hmw
    isplitl [Ho]; · iexact Ho
    isplitl [Hp]; · iexact Hp
    isplitl [Hsems] <;> iassumption
  iintro ⟨Ho, Hp, Hsems, HO⟩
  iapply h
  unfold St
  isplitr; · iexact Hmw
  isplitl [Hp]
  · have e : (pV).view.write (Elt F) f ((osrc.slice (Rect.unit (s := ⟨2, ![u.n, 512]⟩) off S128x512.size inb) (fun _ => rfl)).view.read (Elt F) fo) Finset.univ
        = Uf d L pk u f0 0 := (View.write_whole_univ cc0_scratch0 _ _).trans hf
    rw [← e]; iexact Hp
  isplitl [Ha]; · iexact Ha
  isplitl [Hs]; · iexact Hs
  isplitl [Hsems]; · iexact Hsems
  isplitl [HO]; · iexact HO
  isplitl [Ho] <;> iassumption

/-- A UNIT ENDS: its quarter written out. -/
theorem unit_out {α : Type} (pk : Picks) (u : UnitD (F := F) d L) (f0 : SQ.Idx → Elt F .f32) {n : ℕ} (out : Memref sig .scVector .hbm ⟨2, ![n, 512]⟩ .f32)
    (Sd : Finset (Idx (out.view.loc thr))) (fo : Buf (Elt F) (out.view.loc thr)) (X Rest : sProp 𝕄) (p : TProg F L α) {sem : DmaSem sig} {off : Fin 2 → ℕ}
    {inb : ∀ a, off a + S128x512.size a ≤ (⟨2, ![n, 512]⟩ : Shape).size a}
    {h2 : (out.slice (Rect.unit (s := ⟨2, ![n, 512]⟩) off S128x512.size inb) (fun _ => rfl)).view.WordExact} {h1 : (pV).view.WordExact}
    {h3 : DmaTarget.Typed (nD := nD) (p := .scVector (cV L) (jV L)) .vmem (.dma sem) (.here (out.slice (Rect.unit (s := ⟨2, ![n, 512]⟩) off S128x512.size inb) (fun _ => rfl)))}
    {h5 : (out.slice (Rect.unit (s := ⟨2, ![n, 512]⟩) off S128x512.size inb) (fun _ => rfl)).view.WordExact} {h4 : (pV).view.WordExact}
    {k : TProg F L α} {Q : α → sProp 𝕄}
    (hp : p = copyG L pV (out.slice (Rect.unit (s := ⟨2, ![n, 512]⟩) off S128x512.size inb) (fun _ => rfl)) sem h1 h2 h3 h4 h5 k)
    (f' : Buf (Elt F) (out.view.loc thr))
    (hw : (out.slice (Rect.unit (s := ⟨2, ![n, 512]⟩) off S128x512.size inb) (fun _ => rfl)).view.write (Elt F) fo (Uf d L pk u f0 16) Finset.univ = f')
    (hS : (out.slice (Rect.unit (s := ⟨2, ![n, 512]⟩) off S128x512.size inb) (fun _ => rfl)).view.set ⊆ Sd)
    (h : Idle d L O W iprop(X ∗ (u.asrc.view.loc thr ↦{u.q} u.fs)
        ∗ (out.view.loc thr ↦[Sd]{fullShare} f') ∗ Rest) ⊢ wp frame (wpE (defs₀ (F := F)) 𝒱₀ thr none) Set.univ k Q) :
    St d L O W pk u f0 16 iprop(X ∗ (out.view.loc thr ↦[Sd]{fullShare} fo) ∗ Rest)
      ⊢ wp frame (wpE (defs₀ (F := F)) 𝒱₀ thr none) Set.univ p Q := by
  subst hp hw
  unfold St copyG
  iintro ⟨#Hmw, Hp, Ha, Hs, Hsems, HO, HX, Ho, HR⟩
  iapply (copy_sub_wp d L O W pV (out.slice (Rect.unit (s := ⟨2, ![n, 512]⟩) off S128x512.size inb) (fun _ => rfl)) sem
    (q := fullShare) (fs := Uf d L pk u f0 16) (fd := fo) (Sd := Sd) k hS (show 0 < (pV).view.dmaCredit by decide)) $$ [Ho Hp Hsems HO]
  · isplitr; · iexact Hmw
    isplitl [Hp]; · iexact Hp
    isplitl [Ho]; · iexact Ho
    isplitl [Hsems] <;> iassumption
  iintro ⟨Hp, Ho, Hsems, HO⟩
  iapply h
  unfold Idle
  isplitr; · iexact Hmw
  isplitl [Hp]; · iexists _; iexact Hp
  isplitl [Ha]; · iexact Ha
  isplitl [Hsems]; · iexact Hsems
  isplitl [HO]; · iexact HO
  isplitl [HX]; · iexact HX
  isplitl [Hs]; · iexact Hs
  isplitl [Ho]; · iexact Ho
  iexact HR

theorem walk_bind {α β : Type} {X : sProp 𝕄} {p : TProg F L β} {k : β → TProg F L α} {Q : α → sProp 𝕄}
    (h : X ⊢ wp frame (wpE (defs₀ (F := F)) 𝒱₀ thr none) Set.univ p fun r => wp frame (wpE (defs₀ (F := F)) 𝒱₀ thr none) Set.univ (k r) Q) :
    X ⊢ wp frame (wpE (defs₀ (F := F)) 𝒱₀ thr none) Set.univ (p >>= k) Q := by
  rw [wp_bind]; exact h

theorem walk_pure {α : Type} {X : sProp 𝕄} {r : α} {Q : α → sProp 𝕄} (h : X ⊢ Q r) :
    X ⊢ wp frame (wpE (defs₀ (F := F)) 𝒱₀ thr none) Set.univ (pure r : TProg F L α) Q := by
  rw [wp_pure]
  iintro H; imodintro; iapply h; iexact H

theorem walk_assume {α : Type} {X : sProp 𝕄} {P : Prop} {dec : Decidable P} {k : PLift P → TProg F L α} {Q : α → sProp 𝕄} (hP : P)
    (h : X ⊢ wp frame (wpE (defs₀ (F := F)) 𝒱₀ thr none) Set.univ (k ⟨hP⟩) Q) :
    X ⊢ wp frame (wpE (defs₀ (F := F)) 𝒱₀ thr none) Set.univ (Prog.lift (.assume P dec) >>= k) Q := by
  show X ⊢ wp frame (wpE (defs₀ (F := F)) 𝒱₀ thr none) Set.univ (.op (.assume P dec) k) Q
  iintro H; iapply (wp_assume 𝒱₀ thr none Set.univ hP); iapply h; iexact H

/-- A destination pick's patch lies in its quarter. -/
theorem chkD {P : Prop} {x : BitVec 32} (hx : x.toNat < 256) :
    (∀ t : Fin k0_t1_loop.trips, ∀ _ : P, ∀ a, (![(prowW x t).toNat, (colW x).toNat] : Fin 2 → ℕ) a + S1x16.size a ≤ S128x512.size a)
    ∧ (∀ t : Fin k0_t1_loop.trips, ∀ _ : P, ∀ a, (![(prowW x t).toNat, (Scalar.addi (colW x) 16#32).toNat] : Fin 2 → ℕ) a + S1x16.size a ≤ S128x512.size a) := by
  have htr : k0_t1_loop.trips = 32 := by decide
  refine ⟨fun t _ a => ?_, fun t _ a => ?_⟩ <;> have ht : t.val < 32 := Nat.lt_of_lt_of_eq t.isLt htr
  · match a with
    | 0 => show (prowW x t).toNat + 1 ≤ 128; rw [prowW_eq hx ht]; omega
    | 1 => show (colW x).toNat + 16 ≤ 512; rw [colW_eq hx]; omega
  · match a with
    | 0 => show (prowW x t).toNat + 1 ≤ 128; rw [prowW_eq hx ht]; omega
    | 1 => show (Scalar.addi (colW x) 16#32).toNat + 16 ≤ 512; rw [colW'_eq hx]; omega

/-- A source pick's band lies in its array, its patch in the band. -/
theorem chkS {P : Prop} {n : ℕ} {aw x : BitVec 32} (haw : aw.toNat + 512 ≤ n) (hn : n ≤ 12288) (hx : x.toNat < 256) :
    (∀ _ : P, ∀ a, (![(bandW aw x).toNat, 0] : Fin 2 → ℕ) a + S32x512.size a ≤ (⟨2, ![n, 512]⟩ : Shape).size a)
    ∧ (∀ t : Fin k0_t1_loop.trips, ∀ _ : P, ∀ a, (![(Scf.iv 0#32 1#32 t).toNat, (colW x).toNat] : Fin 2 → ℕ) a + S1x16.size a ≤ S32x512.size a)
    ∧ (∀ t : Fin k0_t1_loop.trips, ∀ _ : P, ∀ a, (![(Scf.iv 0#32 1#32 t).toNat, (Scalar.addi (colW x) 16#32).toNat] : Fin 2 → ℕ) a + S1x16.size a ≤ S32x512.size a) := by
  have htr : k0_t1_loop.trips = 32 := by decide
  refine ⟨fun _ a => ?_, fun t _ a => ?_, fun t _ a => ?_⟩
  · match a with
    | 0 => show (bandW aw x).toNat + 32 ≤ n; rw [bandW_eq (by omega) hx]; omega
    | 1 => show 0 + 512 ≤ 512; omega
  all_goals have ht : t.val < 32 := Nat.lt_of_lt_of_eq t.isLt htr
  · match a with
    | 0 => show (Scf.iv 0#32 1#32 t).toNat + 1 ≤ 32; rw [iv_toNat ht]; omega
    | 1 => show (colW x).toNat + 16 ≤ 512; rw [colW_eq hx]; omega
  · match a with
    | 0 => show (Scf.iv 0#32 1#32 t).toNat + 1 ≤ 32; rw [iv_toNat ht]; omega
    | 1 => show (Scalar.addi (colW x) 16#32).toNat + 16 ≤ 512; rw [colW'_eq hx]; omega

/-- A destination pick checked. -/
theorem walk_D {α : Type} (pk : Picks) (u : UnitD (F := F) d L) (f0 : SQ.Idx → Elt F .f32) (j : ℕ) (Rest : sProp 𝕄) {P C : Prop} {dec : Decidable P}
    {k : PLift P → TProg F L α} {Q : α → sProp 𝕄}
    (hP : (∀ t : Fin k0_t1_loop.trips, ∀ _ : C, ∀ a, (![(prowW (at16 pk.D j) t).toNat, (colW (at16 pk.D j)).toNat] : Fin 2 → ℕ) a + S1x16.size a ≤ S128x512.size a)
      ∧ (∀ t : Fin k0_t1_loop.trips, ∀ _ : C, ∀ a, (![(prowW (at16 pk.D j) t).toNat, (Scalar.addi (colW (at16 pk.D j)) 16#32).toNat] : Fin 2 → ℕ) a + S1x16.size a ≤ S128x512.size a) → P)
    (h : St d L O W pk u f0 j Rest ⊢ wp frame (wpE (defs₀ (F := F)) 𝒱₀ thr none) Set.univ (k ⟨hP (chkD (at16_lt pk.hD j))⟩) Q) :
    St d L O W pk u f0 j Rest ⊢ wp frame (wpE (defs₀ (F := F)) 𝒱₀ thr none) Set.univ (Prog.lift (.assume P dec) >>= k) Q :=
  walk_assume d L _ h

/-- A source pick checked. -/
theorem walk_S {α : Type} (pk : Picks) (u : UnitD (F := F) d L) (f0 : SQ.Idx → Elt F .f32) (j : ℕ) (Rest : sProp 𝕄) {P C : Prop} {dec : Decidable P}
    {k : PLift P → TProg F L α} {Q : α → sProp 𝕄}
    (hP : (∀ _ : C, ∀ a, (![(bandW u.aw (at16 pk.S j)).toNat, 0] : Fin 2 → ℕ) a + S32x512.size a ≤ (⟨2, ![u.n, 512]⟩ : Shape).size a)
      ∧ (∀ t : Fin k0_t1_loop.trips, ∀ _ : C, ∀ a, (![(Scf.iv 0#32 1#32 t).toNat, (colW (at16 pk.S j)).toNat] : Fin 2 → ℕ) a + S1x16.size a ≤ S32x512.size a)
      ∧ (∀ t : Fin k0_t1_loop.trips, ∀ _ : C, ∀ a, (![(Scf.iv 0#32 1#32 t).toNat, (Scalar.addi (colW (at16 pk.S j)) 16#32).toNat] : Fin 2 → ℕ) a + S1x16.size a ≤ S32x512.size a) → P)
    (h : St d L O W pk u f0 j Rest ⊢ wp frame (wpE (defs₀ (F := F)) 𝒱₀ thr none) Set.univ (k ⟨hP (chkS u.haw u.hn (at16_lt pk.hS j))⟩) Q) :
    St d L O W pk u f0 j Rest ⊢ wp frame (wpE (defs₀ (F := F)) 𝒱₀ thr none) Set.univ (Prog.lift (.assume P dec) >>= k) Q :=
  walk_assume d L _ h

theorem idle_perm {R R' X : sProp 𝕄} (e : R = R') (h : Idle d L O W R' ⊢ X) : Idle d L O W R ⊢ X := e ▸ h

/-- A LIST FETCHED: sixteen words of it. -/
theorem list_in {α : Type} (src : Memref sig .scVector .hbm S128 .i32) (dst : Memref sig .scVector .vmem S16 .i32) (q : PosShare TreeShare)
    (fs : Buf (Elt F) (src.view.loc thr)) (Rest : sProp 𝕄) (p : TProg F L α) {sem : DmaSem sig} {off : Fin 1 → ℕ} {inb : ∀ a, off a + S16.size a ≤ S128.size a}
    {h1 : (src.slice (Rect.unit (s := S128) off S16.size inb) (fun _ => rfl)).view.WordExact} {h2 : dst.view.WordExact}
    {h3 : DmaTarget.Typed (nD := nD) (p := .scVector (cV L) (jV L)) .hbm (.dma sem) (.here dst)}
    {h4 : (src.slice (Rect.unit (s := S128) off S16.size inb) (fun _ => rfl)).view.WordExact} {h5 : dst.view.WordExact}
    {k : TProg F L α} {Q : α → sProp 𝕄} (v : Buf (Elt F) (dst.view.loc thr))
    (hp : p = copyG L (src.slice (Rect.unit (s := S128) off S16.size inb) (fun _ => rfl)) dst sem h1 h2 h3 h4 h5 k)
    (hv : ∀ f, dst.view.write (Elt F) f ((src.slice (Rect.unit (s := S128) off S16.size inb) (fun _ => rfl)).view.read (Elt F) fs) Finset.univ = v)
    (hN : 0 < dst.view.dmaCredit)
    (h : Idle d L O W iprop((src.view.loc thr ↦{q} fs) ∗ (dst.view.loc thr ↦{fullShare} v) ∗ Rest) ⊢ wp frame (wpE (defs₀ (F := F)) 𝒱₀ thr none) Set.univ k Q) :
    Idle d L O W iprop((src.view.loc thr ↦{q} fs) ∗ (∃ f, dst.view.loc thr ↦{fullShare} f) ∗ Rest)
      ⊢ wp frame (wpE (defs₀ (F := F)) 𝒱₀ thr none) Set.univ p Q := by
  subst hp
  unfold Idle copyG
  iintro ⟨#Hmw, Hp, Ha, Hsems, HO, Hs, ⟨%f, Hd⟩, HR⟩
  iapply (copy_sub_wp d L O W (src.slice (Rect.unit (s := S128) off S16.size inb) (fun _ => rfl)) dst sem
    (q := q) (fs := fs) (fd := f) (Sd := Finset.univ) k (Finset.subset_univ _) hN) $$ [Hs Hd Hsems HO]
  · isplitr; · iexact Hmw
    isplitl [Hs]; · iexact Hs
    isplitl [Hd]; · iexact Hd
    isplitl [Hsems] <;> iassumption
  iintro ⟨Hs, Hd, Hsems, HO⟩
  rw [hv f]
  iapply h
  unfold Idle
  isplitr; · iexact Hmw
  isplitl [Hp]; · iexact Hp
  isplitl [Ha]; · iexact Ha
  isplitl [Hsems]; · iexact Hsems
  isplitl [HO]; · iexact HO
  isplitl [Hs]; · iexact Hs
  isplitl [Hd]; · iexact Hd
  iexact HR

/-- A list read. -/
theorem list_load {α : Type} (dst : Memref sig .scVector .vmem S16 .i32) (v : Buf (Elt F) (dst.view.loc thr)) (A Rest : sProp 𝕄)
    {r : LoadRect S16} {hl : dst.view.LoadsAt r} {k : (r.shape.Idx → Elt F .i32) → TProg F L α} {Q : α → sProp 𝕄} (w : r.shape.Idx → Elt F .i32)
    (hw : dst.view.readAt (Elt F) r v = w)
    (h : Idle d L O W iprop(A ∗ (dst.view.loc thr ↦{fullShare} v) ∗ Rest) ⊢ wp frame (wpE (defs₀ (F := F)) 𝒱₀ thr none) Set.univ (k w) Q) :
    Idle d L O W iprop(A ∗ (dst.view.loc thr ↦{fullShare} v) ∗ Rest)
      ⊢ wp frame (wpE (defs₀ (F := F)) 𝒱₀ thr none) Set.univ (Prog.lift (.load dst r hl) >>= k) Q := by
  subst hw
  show _ ⊢ wp frame (wpE (defs₀ (F := F)) 𝒱₀ thr none) Set.univ (.op (.load dst r hl) k) Q
  unfold Idle at h ⊢
  iintro ⟨#Hmw, Hp, Ha, Hsems, HO, HA, Hd, HR⟩
  iapply (wp_load 𝒱₀ thr none Set.univ (m := dst) (r := r) (Finset.subset_univ _)) $$ Hd
  iintro Hd
  iapply h
  isplitr; · iexact Hmw
  isplitl [Hp]; · iexact Hp
  isplitl [Ha]; · iexact Ha
  isplitl [Hsems]; · iexact Hsems
  isplitl [HO]; · iexact HO
  isplitl [HA]; · iexact HA
  isplitl [Hd]; · iexact Hd
  iexact HR

end Cert.Proof.KernelIdeal
-- ==== Proof.BodyKI.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.StepsKI
public import proofs.«01_k».proof.Proof.Gen.KernelIdeal
public import proofs.«01_k».proof.Proof.Gen.KernelIdeal.Skeleton

@[expose] public section

noncomputable section

/-! # A tile's program walked -/

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

local notation "thr" => (V d (cV L) (jV L) : Thread nD τ)

variable (O : CellTallies nD τ sig (HIx 1)) (W : Waits sig (HIx 1))

/-! ## The tile's units -/

/-- The tile's number. -/
abbrev tN : ℕ := (L 0).val * 16 + (L 1).val
/-- The tile's number, a word. -/
abbrev tW : BitVec 32 := tileW (L 0).val (L 1).val

theorem tN_lt : tN L < 32 := by
  have h0 : (L 0).val < 2 := (L 0).isLt
  have h1 : (L 1).val < 16 := (L 1).isLt
  show (L 0).val * 16 + (L 1).val < 32
  omega

theorem tile_at : ((Scalar.muli (fdiv (tW L) 4#32) 16#32).toNat = tN L / 4 * 16)
    ∧ ((lrowW (tW L)).toNat = tN L * 128 ∧ (larowW (tW L)).toNat = tN L / 4 * 512 ∧ qW (lrowW (tW L)) = BitVec.ofNat 32 (tN L % 4)) :=
  ⟨(tile_nums (L 0) (L 1)).1.2, (tile_nums (L 0) (L 1)).2⟩

theorem unit_at (m : Fin 3) : (rowW (tW L) (BitVec.ofNat 32 m)).toNat = tN L * 384 + m.val * 128
    ∧ (arowW (tW L) (BitVec.ofNat 32 m)).toNat = (tN L * 3 + m.val) / 4 * 512
    ∧ qW (rowW (tW L) (BitVec.ofNat 32 m)) = BitVec.ofNat 32 ((tN L * 3 + m.val) % 4) := unit_nums (L 0) (L 1) m

/-- An image unit. -/
abbrev uI (q : PosShare TreeShare) (fs : Buf (Elt F) ((Memref.whole main_v4_scv : Memref sig .scVector .hbm S12288x512 .f32).view.loc thr)) (m : Fin 3) : UnitD (F := F) d L where
  n := 12288
  asrc := Memref.whole main_v4_scv
  q := q
  fs := fs
  aw := arowW (tW L) (BitVec.ofNat 32 m)
  qw := qW (rowW (tW L) (BitVec.ofNat 32 m))
  nq := (tN L * 3 + m.val) % 4
  haw := by rw [(unit_at L m).2.1]; have := tN_lt L; have := m.isLt; omega
  hn := le_refl _
  hqw := (unit_at L m).2.2
  hnq := Nat.mod_lt _ (by decide)

/-- The label's unit. -/
abbrev uL (q : PosShare TreeShare) (fs : Buf (Elt F) ((Memref.whole main_v8_scv : Memref sig .scVector .hbm S4096x512 .f32).view.loc thr)) : UnitD (F := F) d L where
  n := 4096
  asrc := Memref.whole main_v8_scv
  q := q
  fs := fs
  aw := larowW (tW L)
  qw := qW (lrowW (tW L))
  nq := tN L % 4
  haw := by rw [(tile_at L).2.2.1]; have := tN_lt L; omega
  hn := by decide
  hqw := (tile_at L).2.2.2
  hnq := Nat.mod_lt _ (by decide)

/-- The confidences' unit. -/
abbrev uC (q : PosShare TreeShare) (fs : Buf (Elt F) ((Memref.whole main_v10_scv : Memref sig .scVector .hbm S4096x512 .f32).view.loc thr)) : UnitD (F := F) d L where
  n := 4096
  asrc := Memref.whole main_v10_scv
  q := q
  fs := fs
  aw := larowW (tW L)
  qw := qW (lrowW (tW L))
  nq := tN L % 4
  haw := by rw [(tile_at L).2.2.1]; have := tN_lt L; omega
  hn := by decide
  hqw := (tile_at L).2.2.2
  hnq := Nat.mod_lt _ (by decide)

/-! ## The rows each copy moves -/

omit [FloatOps F] in
theorem rows_inb {n r : ℕ} (h : r + 128 ≤ n) : ∀ a, (![r, 0] : Fin 2 → ℕ) a + S128x512.size a ≤ (SN n).size a := fun a => match a with
  | 0 => h
  | 1 => by show 0 + 512 ≤ 512; omega

omit [FloatOps F] in
theorem idx_rows {n r : ℕ} [NeZero n] (inb : ∀ a, (![r, 0] : Fin 2 → ℕ) a + S128x512.size a ≤ (SN n).size a) (f : (SN n).Idx → Elt F .f32) :
    (fun y => f ((Rect.unit (s := SN n) ![r, 0] S128x512.size inb).toLoadRect.idx y)) = rowsAt r f := by
  funext y
  have hr : r + 128 ≤ n := inb 0
  have h0 : (y 0).val < 128 := (y 0).isLt
  refine congrArg f (funext fun a => Fin.ext ?_)
  match a with
  | 0 => show r + 1 * (y 0).val = (r + (y 0).val) % n; rw [Nat.mod_eq_of_lt] <;> omega
  | 1 => show 0 + 1 * (y 1).val = (y 1).val; omega

omit [FloatOps F] in
theorem idx_list {r : ℕ} (inb : ∀ a, (![r] : Fin 1 → ℕ) a + S16.size a ≤ S128.size a) (f : S128.Idx → Elt F .i32) :
    (fun y => f ((Rect.unit (s := S128) ![r] S16.size inb).toLoadRect.idx y)) = listAt r f := by
  funext y
  have hr : r + 16 ≤ 128 := inb 0
  have h0 : (y 0).val < 16 := (y 0).isLt
  refine congrArg f (funext fun a => Fin.ext ?_)
  match a with
  | 0 => show r + 1 * (y 0).val = (r + (y 0).val) % 128; omega

omit [FloatOps F] in
theorem read_list (f : S16.Idx → Elt F .i32) : (fun y => f ((Rect.unit (s := S16) ![0] S16.size inb_S16_S16_0).toLoadRect.idx y)) = f := by
  funext y
  refine congrArg f (funext fun a => Fin.ext ?_)
  match a with
  | 0 => show 0 + 1 * (y 0).val = (y 0).val; omega

/-- The rows of `k` to a tile. -/
abbrev rowSet (n k : ℕ) : Finset (SN n).Idx := Finset.univ.filter fun x => (x 0).val / k = tN L

omit [FloatOps F] in
theorem rows_sub {n k r : ℕ} (inb : ∀ a, (![r, 0] : Fin 2 → ℕ) a + S128x512.size a ≤ (SN n).size a) (h : r / k = tN L ∧ (r + 127) / k = tN L) :
    (Rect.unit (s := SN n) ![r, 0] S128x512.size inb).set ⊆ rowSet L n k := by
  intro x hx
  rw [Rect.mem_set_unit] at hx
  have h0 := hx 0
  change r ≤ (x 0).val ∧ (x 0).val < r + 128 at h0
  simp only [Finset.mem_filter, Finset.mem_univ, true_and]
  refine le_antisymm ?_ ?_
  · rw [← h.2]; exact Nat.div_le_div_right (by omega)
  · rw [← h.1]; exact Nat.div_le_div_right h0.1

/-! ## The walk -/

/-- The tile's inputs: the lists, the planes, each under a share, and the result's old contents. -/
structure Ins where
  q : PosShare TreeShare
  tk : S128.Idx → BitVec 32
  dv : S128.Idx → BitVec 32
  sv : S128.Idx → BitVec 32
  oi : (SN 12288).Idx → Elt F .f32
  ai : (SN 12288).Idx → Elt F .f32
  ol : (SN 4096).Idx → Elt F .f32
  al : (SN 4096).Idx → Elt F .f32
  oc : (SN 4096).Idx → Elt F .f32
  ac : (SN 4096).Idx → Elt F .f32
  fi : (SN 12288).Idx → Elt F .f32
  fl : (SN 4096).Idx → Elt F .f32
  fc : (SN 4096).Idx → Elt F .f32
  hdv : ∀ i, (dv i).toNat < 256
  hsv : ∀ i, (sv i).toNat < 256

variable (I : Ins (F := F))

/-- The first word of the tile's batch in a list. -/
abbrev lOff : ℕ := (Scalar.muli (fdiv (tW L) 4#32) 16#32).toNat

/-- The tile's picks. -/
def pk : Picks where
  tk := extractAt ![0] (k0_pay3 (F := F) (listAt (lOff L) I.tk)) inpos_S1_p0
  D := k0_pay4 (F := F) (listAt (lOff L) I.dv)
  S := k0_pay5 (F := F) (listAt (lOff L) I.sv)
  hD := fun _ => I.hdv _
  hS := fun _ => I.hsv _

abbrev iR (m : Fin 3) : ℕ := (rowW (tW L) (BitVec.ofNat 32 m)).toNat
abbrev lR : ℕ := (lrowW (tW L)).toNat

/-- What an image unit leaves of its quarter; the label's; the confidences'. -/
abbrev UI (m : Fin 3) : SQ.Idx → Elt F .f32 := Uf d L (pk L I) (uI d L I.q I.ai m) (rowsAt (iR L m) I.oi) 16
abbrev UL : SQ.Idx → Elt F .f32 := Uf d L (pk L I) (uL d L I.q I.al) (rowsAt (lR L) I.ol) 16
abbrev UC : SQ.Idx → Elt F .f32 := Uf d L (pk L I) (uC d L I.q I.ac) (rowsAt (lR L) I.oc) 16

/-- The lists and where the tile keeps its part of them. -/
abbrev rL (b0 b1 b2 : sProp 𝕄) : sProp 𝕄 :=
  iprop(((Memref.whole main_v0_scv : Memref sig .scVector .hbm S128 .i32).view.loc thr ↦{I.q} I.tk) ∗ b0
    ∗ ((Memref.whole main_v1_scv : Memref sig .scVector .hbm S128 .i32).view.loc thr ↦{I.q} I.dv) ∗ b1
    ∗ ((Memref.whole main_v2_scv : Memref sig .scVector .hbm S128 .i32).view.loc thr ↦{I.q} I.sv) ∗ b2)
abbrev b0 (f : S16.Idx → BitVec 32) : sProp 𝕄 := (Memref.whole cc0_scratch2 : Memref sig .scVector .vmem S16 .i32).view.loc thr ↦{fullShare} f
abbrev b1 (f : S16.Idx → BitVec 32) : sProp 𝕄 := (Memref.whole cc0_scratch3 : Memref sig .scVector .vmem S16 .i32).view.loc thr ↦{fullShare} f
abbrev b2 (f : S16.Idx → BitVec 32) : sProp 𝕄 := (Memref.whole cc0_scratch4 : Memref sig .scVector .vmem S16 .i32).view.loc thr ↦{fullShare} f
abbrev rI (f : (SN 12288).Idx → Elt F .f32) : sProp 𝕄 :=
  iprop(((Memref.whole main_v3_scv : Memref sig .scVector .hbm S12288x512 .f32).view.loc thr ↦{I.q} I.oi)
    ∗ ((Memref.whole main_v4_scv : Memref sig .scVector .hbm S12288x512 .f32).view.loc thr ↦{I.q} I.ai)
    ∗ ((Memref.whole main_v11_0_scv : Memref sig .scVector .hbm S12288x512 .f32).view.loc thr ↦[rowSet L 12288 384]{fullShare} f))
abbrev rLab (f : (SN 4096).Idx → Elt F .f32) : sProp 𝕄 :=
  iprop(((Memref.whole main_v6_scv : Memref sig .scVector .hbm S4096x512 .f32).view.loc thr ↦{I.q} I.ol)
    ∗ ((Memref.whole main_v8_scv : Memref sig .scVector .hbm S4096x512 .f32).view.loc thr ↦{I.q} I.al)
    ∗ ((Memref.whole main_v11_1_scv : Memref sig .scVector .hbm S4096x512 .f32).view.loc thr ↦[rowSet L 4096 128]{fullShare} f))
abbrev rC (f : (SN 4096).Idx → Elt F .f32) : sProp 𝕄 :=
  iprop(((Memref.whole main_v9_scv : Memref sig .scVector .hbm S4096x512 .f32).view.loc thr ↦{I.q} I.oc)
    ∗ ((Memref.whole main_v10_scv : Memref sig .scVector .hbm S4096x512 .f32).view.loc thr ↦{I.q} I.ac)
    ∗ ((Memref.whole main_v11_2_scv : Memref sig .scVector .hbm S4096x512 .f32).view.loc thr ↦[rowSet L 4096 128]{fullShare} f))

omit [FloatOps F] in
theorem iR_div (m : Fin 3) : iR L m / 384 = tN L ∧ (iR L m + 127) / 384 = tN L := by
  have := m.isLt
  unfold iR; rw [(unit_at L m).1]; omega
omit [FloatOps F] in
theorem lR_div : lR L / 128 = tN L ∧ (lR L + 127) / 128 = tN L := by
  unfold lR; rw [(tile_at L).2.1]; omega

omit [FloatOps F] in
theorem iR_le (m : Fin 3) : iR L m + 128 ≤ 12288 := by
  have := iR_div L m; have := tN_lt L; omega
omit [FloatOps F] in
theorem lR_le : lR L + 128 ≤ 4096 := by
  have := lR_div L; have := tN_lt L; omega

section Perm
variable {M : Type*} (op : M → M → M) [Std.Commutative op] [Std.Associative op] (a b c x y z u v w l r : M)
theorem perm_lists : op (op a (op b (op c (op x (op y z))))) r = op a (op b (op c (op x (op y (op z r))))) := by ac_rfl
theorem perm_rot : op a (op b (op c (op x (op y (op z r))))) = op c (op x (op y (op z (op a (op b r))))) := by ac_rfl
theorem perm_image : op y (op z (op a (op b (op c (op x (op (op u (op v w)) r)))))) = op u (op v (op w (op (op a (op b (op c (op x (op y z))))) r))) := by ac_rfl
theorem perm_label : op a (op b (op c (op l (op (op x (op y z)) r)))) = op x (op y (op z (op l (op (op a (op b c)) r)))) := by ac_rfl
theorem perm_conf : op x (op y (op z (op l (op (op a (op b c)) (op u (op v w)))))) = op u (op v (op w (op l (op (op a (op b c)) (op x (op y z)))))) := by ac_rfl
theorem perm_end : op u (op v (op w (op l (op (op a (op b c)) (op x (op y z)))))) = op l (op (op a (op b c)) (op (op x (op y z)) (op u (op v w)))) := by ac_rfl
end Perm

omit [FloatOps F] in
theorem sep_com : Std.Commutative (α := sProp 𝕄) BIBase.sep := ⟨fun _ _ => BI.Entails.antisymm BI.sep_comm BI.sep_comm⟩
omit [FloatOps F] in
theorem sep_ass : Std.Associative (α := sProp 𝕄) BIBase.sep := ⟨fun _ _ _ => BI.Entails.antisymm BI.sep_assoc BI.sep_assoc'⟩
attribute [local instance] sep_com sep_ass

set_option maxHeartbeats 40000000 in
set_option maxRecDepth 65536 in
theorem body_wp :
    Idle d L O W iprop(rL d L I iprop(∃ f, b0 d L f) iprop(∃ f, b1 d L f) iprop(∃ f, b2 d L f) ∗ rI d L I I.fi ∗ rLab d L I I.fl ∗ rC d L I I.fc)
      ⊢ wp frame (wpE (defs₀ (F := F)) 𝒱₀ thr none) Set.univ (cc0__sc_assemble_body (F := F) L (Memref.whole main_v3_scv) (Memref.isWhole_whole _) (Memref.whole main_v4_scv) (Memref.isWhole_whole _) (Memref.whole main_v6_scv) (Memref.isWhole_whole _) (Memref.whole main_v8_scv) (Memref.isWhole_whole _) (Memref.whole main_v9_scv) (Memref.isWhole_whole _) (Memref.whole main_v10_scv) (Memref.isWhole_whole _) (Memref.whole main_v0_scv) (Memref.isWhole_whole _) (Memref.whole main_v1_scv) (Memref.isWhole_whole _) (Memref.whole main_v2_scv) (Memref.isWhole_whole _) (Memref.whole main_v11_0_scv) (Memref.isWhole_whole _) (Memref.whole main_v11_1_scv) (Memref.isWhole_whole _) (Memref.whole main_v11_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92)
        fun _ => Idle d L O W iprop(rL d L I (b0 d L (listAt (lOff L) I.tk)) (b1 d L (listAt (lOff L) I.dv)) (b2 d L (listAt (lOff L) I.sv))
          ∗ rI d L I (putRows (iR L 2) (UI d L I 2) (putRows (iR L 1) (UI d L I 1) (putRows (iR L 0) (UI d L I 0) I.fi)))
          ∗ rLab d L I (putRows (lR L) (UL d L I) I.fl) ∗ rC d L I (putRows (lR L) (UC d L I) I.fc)) := by
  refine walk_bind d L ?_
  refine walk_bind d L ?_
  refine idle_perm d L O W (perm_lists BIBase.sep _ _ _ _ _ _ _) ?_
  refine list_in d L O W (Memref.whole main_v0_scv) (Memref.whole cc0_scratch2) I.q I.tk _ _ (listAt (lOff L) I.tk) rfl
    (fun f => (View.write_whole_univ cc0_scratch2 _ _).trans (idx_list _ _)) (by decide) ?_
  refine idle_perm d L O W (perm_rot BIBase.sep _ _ _ _ _ _ _) ?_
  refine list_in d L O W (Memref.whole main_v1_scv) (Memref.whole cc0_scratch3) I.q I.dv _ _ (listAt (lOff L) I.dv) rfl
    (fun f => (View.write_whole_univ cc0_scratch3 _ _).trans (idx_list _ _)) (by decide) ?_
  refine idle_perm d L O W (perm_rot BIBase.sep _ _ _ _ _ _ _) ?_
  refine list_in d L O W (Memref.whole main_v2_scv) (Memref.whole cc0_scratch4) I.q I.sv _ _ (listAt (lOff L) I.sv) rfl
    (fun f => (View.write_whole_univ cc0_scratch4 _ _).trans (idx_list _ _)) (by decide) ?_
  refine idle_perm d L O W (perm_rot BIBase.sep _ _ _ _ _ _ _) ?_
  refine list_load d L O W (Memref.whole cc0_scratch2) _ _ _ (listAt (lOff L) I.tk) (read_list _) ?_
  refine idle_perm d L O W (perm_rot BIBase.sep _ _ _ _ _ _ _) ?_
  refine list_load d L O W (Memref.whole cc0_scratch3) _ _ _ (listAt (lOff L) I.dv) (read_list _) ?_
  refine walk_pure d L ?_
  refine walk_bind d L ?_
  refine idle_perm d L O W (perm_rot BIBase.sep _ _ _ _ _ _ _) ?_
  refine list_load d L O W (Memref.whole cc0_scratch4) _ _ _ (listAt (lOff L) I.sv) (read_list _) ?_
  refine walk_pure d L ?_
  refine walk_bind d L ?_
  refine idle_perm d L O W (perm_image BIBase.sep _ _ _ _ _ _ _ _ _ _) ?_
  -- the image, quarter 0
  refine unit_in d L O W (pk L I) (uI d L I.q I.ai 0) (Memref.whole main_v3_scv) I.q I.oi _ _ (rowsAt (iR L 0) I.oi) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 15
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine unit_out d L O W _ _ _ (Memref.whole main_v11_0_scv) (rowSet L 12288 384) _ _ _ _ rfl (putRows (iR L 0) (UI d L I 0) I.fi)
    ((View.write_whole_slice_unit main_v11_0_scv _ _ _ _ _).trans (updateSlice_rows (rows_inb (iR_le L 0)) _ _)) ?_ ?_
  · exact (View.set_slice _ _).trans_subset (Finset.map_refl.trans_subset (rows_sub L (k := 384) _ (iR_div L 0)))
  refine walk_pure d L ?_
  refine walk_bind d L ?_
  refine walk_pure d L ?_
  refine walk_bind d L ?_
  -- quarter 1
  refine unit_in d L O W (pk L I) (uI d L I.q I.ai 1) (Memref.whole main_v3_scv) I.q I.oi _ _ (rowsAt (iR L 1) I.oi) rfl (idx_rows _ _) ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 11
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine unit_out d L O W _ _ _ (Memref.whole main_v11_0_scv) (rowSet L 12288 384) _ _ _ _ rfl (putRows (iR L 1) (UI d L I 1) (putRows (iR L 0) (UI d L I 0) I.fi))
    ((View.write_whole_slice_unit main_v11_0_scv _ _ _ _ _).trans (updateSlice_rows (rows_inb (iR_le L 1)) _ _)) ?_ ?_
  · exact (View.set_slice _ _).trans_subset (Finset.map_refl.trans_subset (rows_sub L (k := 384) _ (iR_div L 1)))
  refine walk_pure d L ?_
  refine walk_bind d L ?_
  -- quarter 2
  refine unit_in d L O W (pk L I) (uI d L I.q I.ai 2) (Memref.whole main_v3_scv) I.q I.oi _ _ (rowsAt (iR L 2) I.oi) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 8
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 4
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine unit_out d L O W _ _ _ (Memref.whole main_v11_0_scv) (rowSet L 12288 384) _ _ _ _ rfl (putRows (iR L 2) (UI d L I 2) (putRows (iR L 1) (UI d L I 1) (putRows (iR L 0) (UI d L I 0) I.fi)))
    ((View.write_whole_slice_unit main_v11_0_scv _ _ _ _ _).trans (updateSlice_rows (rows_inb (iR_le L 2)) _ _)) ?_ ?_
  · exact (View.set_slice _ _).trans_subset (Finset.map_refl.trans_subset (rows_sub L (k := 384) _ (iR_div L 2)))
  -- the label
  refine idle_perm d L O W (perm_label BIBase.sep _ _ _ _ _ _ _ _) ?_
  refine unit_in d L O W (pk L I) (uL d L I.q I.al) (Memref.whole main_v6_scv) I.q I.ol _ _ (rowsAt (lR L) I.ol) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_pure d L ?_
  refine walk_bind d L ?_
  refine walk_bind d L ?_
  iterate 10
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine unit_out d L O W _ _ _ (Memref.whole main_v11_1_scv) (rowSet L 4096 128) _ _ _ _ rfl (putRows (lR L) (UL d L I) I.fl)
    ((View.write_whole_slice_unit main_v11_1_scv _ _ _ _ _).trans (updateSlice_rows (rows_inb (lR_le L)) _ _)) ?_ ?_
  · exact (View.set_slice _ _).trans_subset (Finset.map_refl.trans_subset (rows_sub L (k := 128) _ (lR_div L)))
  -- the confidences
  refine idle_perm d L O W (perm_conf BIBase.sep _ _ _ _ _ _ _ _ _ _) ?_
  refine unit_in d L O W (pk L I) (uC d L I.q I.ac) (Memref.whole main_v9_scv) I.q I.oc _ _ (rowsAt (lR L) I.oc) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 14
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_pure d L ?_
  refine branch_wp d L O W _ _ _ _ _ _ rfl (by decide) rfl rfl rfl rfl rfl rfl ?_
  refine unit_out d L O W _ _ _ (Memref.whole main_v11_2_scv) (rowSet L 4096 128) _ _ _ _ rfl (putRows (lR L) (UC d L I) I.fc)
    ((View.write_whole_slice_unit main_v11_2_scv _ _ _ _ _).trans (updateSlice_rows (rows_inb (lR_le L)) _ _)) ?_ ?_
  · exact (View.set_slice _ _).trans_subset (Finset.map_refl.trans_subset (rows_sub L (k := 128) _ (lR_div L)))
  refine walk_pure d L ?_
  refine idle_perm d L O W (perm_end BIBase.sep _ _ _ _ _ _ _ _ _ _) ?_
  iintro H; iexact H

end Cert.Proof.KernelIdeal
-- ==== Proof.GoalKI.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.BodyKI
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid0.Coords)

local notation "thr" => (V d (cV L) (jV L) : Thread nD τ)

variable (O : CellTallies nD τ sig (HIx 1)) (W : Waits sig (HIx 1))

/-! # What a tile leaves: the rows of the result -/

variable (I : Ins (F := F))

def tkZ (b : ℕ) : ℤ := (lAt I.tk b 0).toInt
def dN (b j : ℕ) : ℕ := (lAt I.dv b j).toNat
def sN (b j : ℕ) : ℕ := (lAt I.sv b j).toNat

/-- The images, the labels, the confidences the kernel owes. -/
def gI : (SN 12288).Idx → Elt F .f32 := pastedAt 3 (tkZ I) (dN I) (sN I) I.oi I.ai
def gL : (SN 4096).Idx → Elt F .f32 := pastedAt 1 (tkZ I) (dN I) (sN I) I.ol I.al
def gC : (SN 4096).Idx → Elt F .f32 := pastedAt 1 (tkZ I) (dN I) (sN I) I.oc I.ac

theorem listAt_tile (l : S128.Idx → BitVec 32) (j : ℕ) : listAt (lOff L) l (ix16 j) = lAt l (tN L / 4) j := by
  refine congrArg l (funext fun a => Fin.ext ?_)
  match a with
  | 0 => show (lOff L + j % 16) % 128 = (tN L / 4 * 16 + j % 16) % 128; rw [show lOff L = tN L / 4 * 16 from (tile_at L).1]

theorem at16_eq (v : IVec S16 32) (j : ℕ) : at16 v j = v (ix16 j) := by
  refine congrArg v (funext fun a => Fin.ext ?_)
  match a with
  | 0 => show j % 16 + 0 = j % 16; rfl

theorem pk_tk : (pk L I).tk = lAt I.tk (tN L / 4) 0 := by
  refine Eq.trans ?_ (listAt_tile L I.tk 0)
  refine Eq.trans ?_ (at16_eq (listAt (lOff L) I.tk) 0)
  show extractAt ![0] (k0_pay3 (F := F) (listAt (lOff L) I.tk)) inpos_S1_p0 = _
  unfold k0_pay3
  rw [shapeCast_self]
  rfl
theorem pk_D (j : ℕ) : at16 (pk L I).D j = lAt I.dv (tN L / 4) j := by
  refine Eq.trans ?_ (listAt_tile L I.dv j)
  refine (at16_eq _ j).trans ?_
  show k0_pay4 (F := F) (listAt (lOff L) I.dv) _ = _
  unfold k0_pay4
  exact congrFun (shapeCast_self _ _) _
theorem pk_S (j : ℕ) : at16 (pk L I).S j = lAt I.sv (tN L / 4) j := by
  refine Eq.trans ?_ (listAt_tile L I.sv j)
  refine (at16_eq _ j).trans ?_
  show k0_pay5 (F := F) (listAt (lOff L) I.sv) _ = _
  unfold k0_pay5
  exact congrFun (shapeCast_self _ _) _

/-- A unit's quarter after its sixteen picks, from the lists. -/
theorem Uf_eq (u : UnitD (F := F) d L) (f0 : SQ.Idx → Elt F .f32) : Uf d L (pk L I) u f0 16
    = pasted (tkZ I (tN L / 4)) (dN I (tN L / 4)) (sN I (tN L / 4)) u.nq u.A f0 16 := by
  have hD : (fun j => (at16 (pk L I).D j).toNat) = dN I (tN L / 4) := funext fun j => congrArg BitVec.toNat (pk_D L I j)
  have hS : (fun j => (at16 (pk L I).S j).toNat) = sN I (tN L / 4) := funext fun j => congrArg BitVec.toNat (pk_S L I j)
  have ht : (pk L I).tk.toInt = tkZ I (tN L / 4) := congrArg BitVec.toInt (pk_tk L I)
  unfold Uf
  rw [hD, hS, ht]

theorem uI_A (m : Fin 3) : (uI d L I.q I.ai m).A = planeAt (arowW (tW L) (BitVec.ofNat 32 m)).toNat I.ai :=
  funext fun _ => funext fun _ => congrArg I.ai (funext fun a => match a with | 0 => rfl | 1 => rfl)
theorem uL_A : (uL d L I.q I.al).A = planeAt (larowW (tW L)).toNat I.al :=
  funext fun _ => funext fun _ => congrArg I.al (funext fun a => match a with | 0 => rfl | 1 => rfl)
theorem uC_A : (uC d L I.q I.ac).A = planeAt (larowW (tW L)).toNat I.ac :=
  funext fun _ => funext fun _ => congrArg I.ac (funext fun a => match a with | 0 => rfl | 1 => rfl)

theorem UI_eq (m : Fin 3) : UI d L I m = pasted (tkZ I (tN L / 4)) (dN I (tN L / 4)) (sN I (tN L / 4)) ((tN L * 3 + m.val) % 4)
    (planeAt (arowW (tW L) (BitVec.ofNat 32 m)).toNat I.ai) (rowsAt (iR L m) I.oi) 16 := by
  rw [← uI_A d L I]; exact Uf_eq d L I (uI d L I.q I.ai m) _
theorem UL_eq : UL d L I = pasted (tkZ I (tN L / 4)) (dN I (tN L / 4)) (sN I (tN L / 4)) (tN L % 4)
    (planeAt (larowW (tW L)).toNat I.al) (rowsAt (lR L) I.ol) 16 := by
  rw [← uL_A d L I]; exact Uf_eq d L I (uL d L I.q I.al) _
theorem UC_eq : UC d L I = pasted (tkZ I (tN L / 4)) (dN I (tN L / 4)) (sN I (tN L / 4)) (tN L % 4)
    (planeAt (larowW (tW L)).toNat I.ac) (rowsAt (lR L) I.oc) 16 := by
  rw [← uC_A d L I]; exact Uf_eq d L I (uC d L I.q I.ac) _

theorem putI (m : Fin 3) (f : (SN 12288).Idx → Elt F .f32) (x : (SN 12288).Idx) :
    putRows (iR L m) (UI d L I m) f x = if (x 0).val / 128 = tN L * 3 + m.val then gI I x else f x := by
  have hm := m.isLt
  rw [UI_eq]
  exact pastedAt_unit (kk := 3) (by rw [show iR L m = _ from (unit_at L m).1]; omega) (by omega) (unit_at L m).2.1 rfl f x
theorem putL (f : (SN 4096).Idx → Elt F .f32) (x : (SN 4096).Idx) :
    putRows (lR L) (UL d L I) f x = if (x 0).val / 128 = tN L then gL I x else f x := by
  rw [UL_eq]
  exact pastedAt_unit (kk := 1) (tile_at L).2.1 (by omega) (tile_at L).2.2.1 rfl f x
theorem putC (f : (SN 4096).Idx → Elt F .f32) (x : (SN 4096).Idx) :
    putRows (lR L) (UC d L I) f x = if (x 0).val / 128 = tN L then gC I x else f x := by
  rw [UC_eq]
  exact pastedAt_unit (kk := 1) (tile_at L).2.1 (by omega) (tile_at L).2.2.1 rfl f x

theorem out_img (x : (SN 12288).Idx) (hx : x ∈ rowSet L 12288 384) :
    putRows (iR L 2) (UI d L I 2) (putRows (iR L 1) (UI d L I 1) (putRows (iR L 0) (UI d L I 0) I.fi)) x = gI I x := by
  rw [putI, putI, putI]
  have hx' : (x 0).val / 384 = tN L := (Finset.mem_filter.mp hx).2
  have e2 : ((2 : Fin 3) : ℕ) = 2 := rfl
  have e1 : ((1 : Fin 3) : ℕ) = 1 := rfl
  have e0 : ((0 : Fin 3) : ℕ) = 0 := rfl
  rw [e2, e1, e0]
  split
  · rfl
  · split
    · rfl
    · rw [if_pos (by omega)]
theorem out_lab (x : (SN 4096).Idx) (hx : x ∈ rowSet L 4096 128) : putRows (lR L) (UL d L I) I.fl x = gL I x := by
  rw [putL, if_pos (Finset.mem_filter.mp hx).2]
theorem out_conf (x : (SN 4096).Idx) (hx : x ∈ rowSet L 4096 128) : putRows (lR L) (UC d L I) I.fc x = gC I x := by
  rw [putC, if_pos (Finset.mem_filter.mp hx).2]

/-! ## A tile's part of the arrays -/

/-- The nine inputs under a share. -/
def insAt (q : PosShare TreeShare) : sProp 𝕄 :=
  iprop(((SparseCore.T d).loc main_v0 ↦{q} I.tk) ∗ ((SparseCore.T d).loc main_v1 ↦{q} I.dv) ∗ ((SparseCore.T d).loc main_v2 ↦{q} I.sv)
    ∗ ((SparseCore.T d).loc main_v3 ↦{q} I.oi) ∗ ((SparseCore.T d).loc main_v4 ↦{q} I.ai) ∗ ((SparseCore.T d).loc main_v6 ↦{q} I.ol)
    ∗ ((SparseCore.T d).loc main_v8 ↦{q} I.al) ∗ ((SparseCore.T d).loc main_v9 ↦{q} I.oc) ∗ ((SparseCore.T d).loc main_v10 ↦{q} I.ac))

/-- The rows of tile `w`, `k` of them. -/
def rowsOf (n k : ℕ) (w : Fin 32) : Finset (SN n).Idx := Finset.univ.filter fun x => (x 0).val / k = w.val

/-- Tile `w`'s rows of the three results. -/
def outsAt (w : Fin 32) (f : (SN 12288).Idx → Elt F .f32) (g h : (SN 4096).Idx → Elt F .f32) : sProp 𝕄 :=
  iprop(((SparseCore.T d).loc main_v11_0 ↦[rowsOf 12288 384 w]{fullShare} f) ∗ ((SparseCore.T d).loc main_v11_1 ↦[rowsOf 4096 128 w]{fullShare} g)
    ∗ ((SparseCore.T d).loc main_v11_2 ↦[rowsOf 4096 128 w]{fullShare} h))

/-- Tile `w`'s share of the inputs. -/
abbrev shareOf (w : Fin 32) : PosShare TreeShare := ShareLeaves.leaf 5 fullShare w

/-- What tile `w` is handed, and what it hands back. -/
def goAt (w : Fin 32) : sProp 𝕄 := iprop(insAt d I (shareOf w) ∗ outsAt d w I.fi I.fl I.fc)
def tdAt (w : Fin 32) : sProp 𝕄 := iprop(insAt d I (shareOf w) ∗ outsAt d w (gI I) (gL I) (gC I))

omit [FloatOps F] in
theorem mem_ownRefs_erase {p : Proc τ} {b b' : DevRef τ sig} {S : Finset (DevRef τ sig)} (h : b ≠ b') (hb : b ∈ S) : b ∈ S.erase b' :=
  Finset.mem_erase.mpr ⟨h, hb⟩

abbrev scr (b : Ref sig .scVector) : DevRef τ sig := (Proc.scVector (cV L) (jV L)).devRef b

omit [FloatOps F] in
theorem scr_ne {b b' : Ref sig .scVector} (h : b ≠ b') : scr L b ≠ scr L b' := fun e => h (Proc.devRef_injective _ e)

/-- The tile's other buffers. -/
def restB : sProp 𝕄 :=
  bigSep ((((((ownRefs (τ := τ) (.scVector (cV L) (jV L))).erase (scr L cc0_scratch0)).erase (scr L cc0_scratch1)).erase (scr L cc0_scratch2)).erase
    (scr L cc0_scratch3)).erase (scr L cc0_scratch4)) fun b => iprop(∃ f, ((d, b) : Loc nD τ sig) ↦{fullShare} f)

omit [FloatOps F] in
/-- The five scratch buffers are among the tile's own. -/
theorem ownBufs_V : (ownBufs thr : sProp 𝕄)
    = iprop((∃ f, (V d (cV L) (jV L)).loc cc0_scratch0 ↦{fullShare} f) ∗ (∃ f, (V d (cV L) (jV L)).loc cc0_scratch1 ↦{fullShare} f)
      ∗ (∃ f, (V d (cV L) (jV L)).loc cc0_scratch2 ↦{fullShare} f) ∗ (∃ f, (V d (cV L) (jV L)).loc cc0_scratch3 ↦{fullShare} f)
      ∗ (∃ f, (V d (cV L) (jV L)).loc cc0_scratch4 ↦{fullShare} f) ∗ restB d L) := by
  have hm (b : Ref sig .scVector) (h : (scr L b).owner = .proc (Proc.scVector (cV L) (jV L))) : scr L b ∈ ownRefs (τ := τ) (.scVector (cV L) (jV L)) :=
    SparseCore.Cfg.mem_ownRefs_of_owner h
  have er {b b' : DevRef τ sig} {S : Finset (DevRef τ sig)} (h : b ≠ b') (hb : b ∈ S) : b ∈ S.erase b' := Finset.mem_erase.mpr ⟨h, hb⟩
  unfold SparseCore.Cfg.ownBufs restB
  refine (SparseCore.bigSep_erase' (hm cc0_scratch0 rfl)).trans ?_
  rw [SparseCore.bigSep_erase' (er (scr_ne L (by decide)) (hm cc0_scratch1 rfl)),
    SparseCore.bigSep_erase' (er (scr_ne L (by decide)) (er (scr_ne L (by decide)) (hm cc0_scratch2 rfl))),
    SparseCore.bigSep_erase' (er (scr_ne L (by decide)) (er (scr_ne L (by decide)) (er (scr_ne L (by decide)) (hm cc0_scratch3 rfl)))),
    SparseCore.bigSep_erase' (er (scr_ne L (by decide)) (er (scr_ne L (by decide)) (er (scr_ne L (by decide)) (er (scr_ne L (by decide)) (hm cc0_scratch4 rfl)))))]

/-- A program run beside what it does not touch. -/
theorem run_with {α : Type} {X R : sProp 𝕄} {p : TProg F L α} {Q : α → sProp 𝕄} (h : X ⊢ wp frame (wpE (defs₀ (F := F)) 𝒱₀ thr none) Set.univ p Q) :
    iprop(X ∗ R) ⊢ wp frame (wpE (defs₀ (F := F)) 𝒱₀ thr none) Set.univ p fun a => iprop(Q a ∗ R) := by
  iintro ⟨HX, HR⟩
  iapply (wp_frame_r frame (wpE (defs₀ (F := F)) 𝒱₀ thr none) Set.univ (p := p) (Q := Q) (R := R))
  isplitl [HX]; · iapply h; iexact HX
  iexact HR

/-- The tile's inputs at its share. -/
abbrev tI (w : Fin 32) : Ins (F := F) := { I with q := shareOf w }

/-- A TILE: from its part of the arrays at their old contents to its part at the results. -/
theorem tile_body (w : Fin 32) (hw : w.val = tN L) (hF : (K (F := F)).Facts) (hO : ∀ g, O g none = 0) :
    iprop(levAts (K (F := F)).L (K (F := F)).lev ∗ emp ∗ goAt d I w
        ∗ scopedBufs thr ∗ scopedSems0 thr ∗ owes thr O W)
      ⊢ wp frame (wpE (defs₀ (F := F)) 𝒱₀ thr none) Set.univ
          (cc0__sc_assemble_body (F := F) L (Memref.whole main_v3_scv) (Memref.isWhole_whole _) (Memref.whole main_v4_scv) (Memref.isWhole_whole _) (Memref.whole main_v6_scv) (Memref.isWhole_whole _) (Memref.whole main_v8_scv) (Memref.isWhole_whole _) (Memref.whole main_v9_scv) (Memref.isWhole_whole _) (Memref.whole main_v10_scv) (Memref.isWhole_whole _) (Memref.whole main_v0_scv) (Memref.isWhole_whole _) (Memref.whole main_v1_scv) (Memref.isWhole_whole _) (Memref.whole main_v2_scv) (Memref.isWhole_whole _) (Memref.whole main_v11_0_scv) (Memref.isWhole_whole _) (Memref.whole main_v11_1_scv) (Memref.isWhole_whole _) (Memref.whole main_v11_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92)
          fun _ => iprop(tdAt d I w ∗ scopedBufs thr ∗ scopedSems0 thr
            ∗ ∃ W', ⌜∀ p ∈ W', p ∈ W ∨ p.2 = none⌝ ∗ owes thr O W') := by
  have hrow (n k : ℕ) : rowsOf n k w = rowSet L n k := by unfold rowsOf rowSet; rw [hw]
  rw [(K (F := F)).scopedBufs_V hF d (cV L) (jV L), SparseCore.Cfg.scopedSems0_V (Val := Elt F) d (cV L) (jV L), ownBufs_V]
  unfold goAt tdAt insAt outsAt
  rw [hrow, hrow]
  refine (?_ : _ ⊢ iprop(_ ∗ restB d L)).trans ((run_with d L (body_wp d L O W (tI I w))).trans (wp_mono frame _ _ fun _ => ?_))
  · unfold Idle
    iintro ⟨#Hlv, -, ⟨⟨H0, H1, H2, H3, H4, H6, H8, H9, H10⟩, Ho0, Ho1, Ho2⟩, ⟨Hb0, Hb1, Hb2, Hb3, Hb4, Hbufs⟩, Hsems, HO⟩
    isplitr [Hbufs]
    · isplitr
      · iapply (show levAts (K (F := F)).L (K (F := F)).lev ⊢ Transfers.MayWaits thr (default : HIx 1) O from
          (K (F := F)).mayWaits_none hO); iexact Hlv
      isplitl [Hb0]; · iexact Hb0
      isplitl [Hb1]; · iexact Hb1
      isplitl [Hsems]; · iexact Hsems
      isplitl [HO]
      · unfold Ow; iexists W; isplitr
        · ipureintro; exact fun p hp => .inl hp
        · iexact HO
      isplitl [H0 H1 H2 Hb2 Hb3 Hb4]
      · isplitl [H0]; · iexact H0
        isplitl [Hb2]; · iexact Hb2
        isplitl [H1]; · iexact H1
        isplitl [Hb3]; · iexact Hb3
        isplitl [H2]; · iexact H2
        iexact Hb4
      isplitl [H3 H4 Ho0]
      · isplitl [H3]; · iexact H3
        isplitl [H4]; · iexact H4
        iexact Ho0
      isplitl [H6 H8 Ho1]
      · isplitl [H6]; · iexact H6
        isplitl [H8]; · iexact H8
        iexact Ho1
      isplitl [H9]; · iexact H9
      isplitl [H10]; · iexact H10
      iexact Ho2
    · iexact Hbufs
  · unfold Idle
    iintro ⟨⟨-, Hb0, Hb1, Hsems, HO, ⟨H0, Hb2, H1, Hb3, H2, Hb4⟩, ⟨H3, H4, Ho0⟩, ⟨H6, H8, Ho1⟩, H9, H10, Ho2⟩, Hbufs⟩
    isplitl [H0 H1 H2 H3 H4 H6 H8 H9 H10 Ho0 Ho1 Ho2]
    · isplitl [H0 H1 H2 H3 H4 H6 H8 H9 H10]
      · isplitl [H0]; · iexact H0
        isplitl [H1]; · iexact H1
        isplitl [H2]; · iexact H2
        isplitl [H3]; · iexact H3
        isplitl [H4]; · iexact H4
        isplitl [H6]; · iexact H6
        isplitl [H8]; · iexact H8
        isplitl [H9]; · iexact H9
        iexact H10
      · isplitl [Ho0]; · iapply (BIBase.Entails.of_eq (pointsTo_congr (out_img d L (tI I w)))); iexact Ho0
        isplitl [Ho1]; · iapply (BIBase.Entails.of_eq (pointsTo_congr (out_lab d L (tI I w)))); iexact Ho1
        iapply (BIBase.Entails.of_eq (pointsTo_congr (out_conf d L (tI I w)))); iexact Ho2
    isplitl [Hb0 Hb1 Hb2 Hb3 Hb4 Hbufs]
    · isplitl [Hb0]; · iexact Hb0
      isplitl [Hb1]; · iexact Hb1
      isplitl [Hb2]; · iexists _; iexact Hb2
      isplitl [Hb3]; · iexists _; iexact Hb3
      isplitl [Hb4]; · iexists _; iexact Hb4
      iexact Hbufs
    isplitl [Hsems]; · iexact Hsems
    unfold Ow; iexact HO

end Cert.Proof.KernelIdeal
-- ==== Proof.LaunchKI.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.GoalKI
public import proofs.«01_k».proof.Proof.Gen.KernelIdeal
public import proofs.«01_k».proof.Proof.Gen.KernelIdeal.Skeleton

@[expose] public section

noncomputable section

/-! # The launch: the host operations, the one call on the thirty-two tiles, the host operations after it -/

namespace Cert.Proof.KernelIdeal

open Cert.KernelIdeal Cert.KernelIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after tcRefs)
open Idealize.ShloMosaic.Tactic

variable {F : FTy → Type}

local notation "𝕄" => MT nD τ sig (HIx 1) (Elt F) ℕ UU ℕ

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles of a SparseCore, and all of them -/

/-- Tile `i` of SparseCore `c`. -/
def wOf (c : Fin 2) (i : Fin 16) : Fin 32 := finProdFinEquiv (c, i)

omit [FloatOps F] in
theorem bigSep_tiles (Φ : Fin 32 → sProp 𝕄) :
    (bigSep Finset.univ fun c : Fin 2 => bigSep Finset.univ fun i : Fin 16 => Φ (wOf c i)) = bigSep Finset.univ Φ :=
  (bigSep_univ_prod (α := Fin 2) (β := Fin 16) fun p => Φ (finProdFinEquiv p)).symm.trans
    (bigSep_univ_equiv (finProdFinEquiv (m := 2) (n := 16)) Φ).symm

omit [FloatOps F] in
theorem rowsOf_disjoint (n k : ℕ) : ∀ w ∈ (Finset.univ : Finset (Fin 32)), ∀ w' ∈ (Finset.univ : Finset (Fin 32)), w ≠ w' →
    Disjoint (rowsOf n k w) (rowsOf n k w') := fun w _ w' _ h => Finset.disjoint_left.mpr fun x hx hx' =>
  h (Fin.ext ((Finset.mem_filter.mp hx).2.symm.trans (Finset.mem_filter.mp hx').2))

omit [FloatOps F] in
theorem rowsOf_cover (n k : ℕ) (h : n = 32 * k) : (Finset.univ : Finset (Fin 32)).biUnion (rowsOf n k) = Finset.univ := by
  refine Finset.eq_univ_of_forall fun x => ?_
  have hx : (x 0).val < n := (x 0).isLt
  have hk : (x 0).val / k < 32 := Nat.div_lt_of_lt_mul (by rw [Nat.mul_comm]; omega)
  exact Finset.mem_biUnion.mpr ⟨⟨_, hk⟩, Finset.mem_univ _, Finset.mem_filter.mpr ⟨Finset.mem_univ _, rfl⟩⟩

variable (d : Dev nD) (I : Ins (F := F))

/-- The three results, whole. -/
def outsAll (f : (SN 12288).Idx → Elt F .f32) (g h : (SN 4096).Idx → Elt F .f32) : sProp 𝕄 :=
  iprop(((SparseCore.T d).loc main_v11_0 ↦{fullShare} f) ∗ ((SparseCore.T d).loc main_v11_1 ↦{fullShare} g)
    ∗ ((SparseCore.T d).loc main_v11_2 ↦{fullShare} h))

omit [FloatOps F] in
theorem ins_tiles : (bigSep Finset.univ fun w : Fin 32 => insAt d I (shareOf w)) = insAt d I fullShare := by
  unfold insAt
  rw [bigSep_sep', bigSep_sep', bigSep_sep', bigSep_sep', bigSep_sep', bigSep_sep', bigSep_sep', bigSep_sep']
  simp only [ShareLeaves.pointsTo_leaves Finset.univ _ 5 fullShare]
  rfl

omit [FloatOps F] in
theorem outs_tiles (f : (SN 12288).Idx → Elt F .f32) (g h : (SN 4096).Idx → Elt F .f32) :
    (bigSep Finset.univ fun w : Fin 32 => outsAt d w f g h) = outsAll d f g h := by
  unfold outsAt outsAll
  rw [bigSep_sep', bigSep_sep',
    ← pointsTo_biUnion Finset.univ (ℓ := (SparseCore.T d).loc main_v11_0) (rowsOf 12288 384) (rowsOf_disjoint _ _),
    ← pointsTo_biUnion Finset.univ (ℓ := (SparseCore.T d).loc main_v11_1) (rowsOf 4096 128) (rowsOf_disjoint _ _),
    ← pointsTo_biUnion Finset.univ (ℓ := (SparseCore.T d).loc main_v11_2) (rowsOf 4096 128) (rowsOf_disjoint _ _),
    rowsOf_cover 12288 384 rfl, rowsOf_cover 4096 128 rfl]
  try rfl

omit [FloatOps F] in
theorem go_tiles : (bigSep Finset.univ fun c : Fin 2 => bigSep Finset.univ fun i : Fin 16 => goAt d I (wOf c i))
    = iprop(insAt d I fullShare ∗ outsAll d I.fi I.fl I.fc) := by
  rw [bigSep_tiles (fun w => goAt d I w)]
  unfold goAt
  rw [bigSep_sep', ins_tiles, outs_tiles]
theorem td_tiles : (bigSep Finset.univ fun c : Fin 2 => bigSep Finset.univ fun i : Fin 16 => tdAt d I (wOf c i))
    = iprop(insAt d I fullShare ∗ outsAll d (gI I) (gL I) (gC I)) := by
  rw [bigSep_tiles (fun w => tdAt d I w)]
  unfold tdAt
  rw [bigSep_sep', ins_tiles, outs_tiles]

/-! ## What the handshakes carry -/

section Payloads

variable (J : Dev nD → Ins (F := F))

omit [FloatOps F] in
instance insAt_storable (q : PosShare TreeShare) : BI.Storable (upEmb : UEmb _ 𝕄) (insAt d I q) := by unfold insAt; infer_instance
omit [FloatOps F] in
instance outsAt_storable (w : Fin 32) (f : (SN 12288).Idx → Elt F .f32) (g h : (SN 4096).Idx → Elt F .f32) :
    BI.Storable (upEmb : UEmb _ 𝕄) (outsAt d w f g h) := by unfold outsAt; infer_instance
omit [FloatOps F] in
instance goAt_storable (w : Fin 32) : BI.Storable (upEmb : UEmb _ 𝕄) (goAt d I w) := by unfold goAt; infer_instance
instance tdAt_storable (w : Fin 32) : BI.Storable (upEmb : UEmb _ 𝕄) (tdAt d I w) := by unfold tdAt; infer_instance

/-- The one call hands every tile its part of the arrays and takes it back at the results. -/
def P : (K (F := F)).Pay (nD := nD) (Val := Elt F) (Name := ℕ) (U := UU) where
  st := fun q d c => match q with | 0 => bigSep Finset.univ fun i : Fin 16 => goAt d (J d) (wOf c i)
  dn := fun q d c => match q with | 0 => bigSep Finset.univ fun i : Fin 16 => tdAt d (J d) (wOf c i)
  go := fun q d c i => match q with | 0 => goAt d (J d) (wOf c i)
  td := fun q d c i => match q with | 0 => tdAt d (J d) (wOf c i)
  x := fun _ _ => iprop(emp)

instance P_storable : (P J).IsStorable where
  st q d c := match q with
    | 0 => (inferInstance : BI.Storable (upEmb : UEmb _ 𝕄) (bigSep Finset.univ fun i : Fin 16 => goAt d (J d) (wOf c i)))
  dn q d c := match q with
    | 0 => (inferInstance : BI.Storable (upEmb : UEmb _ 𝕄) (bigSep Finset.univ fun i : Fin 16 => tdAt d (J d) (wOf c i)))
  go q d c i := match q with | 0 => (inferInstance : BI.Storable (upEmb : UEmb _ 𝕄) (goAt d (J d) (wOf c i)))
  td q d c i := match q with | 0 => (inferInstance : BI.Storable (upEmb : UEmb _ 𝕄) (tdAt d (J d) (wOf c i)))

theorem vecSplit : (K (F := F)).VecSplit' (P J) 0 := by
  intro d c
  show (bigSep Finset.univ fun i : Fin 16 => goAt d (J d) (wOf c i)) ⊢ |={Set.univ}=> iprop(
      (bigSep Finset.univ fun i : Fin 16 => goAt d (J d) (wOf c i))
      ∗ ((bigSep Finset.univ fun i : Fin 16 => tdAt d (J d) (wOf c i)) -∗ bigSep Finset.univ fun i : Fin 16 => tdAt d (J d) (wOf c i)))
  iintro H; imodintro
  isplitl [H]; · iexact H
  iintro H; iexact H

/-! ## A tile's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_assemble_body (F := F) (coordsV c s) (Memref.whole main_v3_scv) (Memref.isWhole_whole _) (Memref.whole main_v4_scv) (Memref.isWhole_whole _) (Memref.whole main_v6_scv) (Memref.isWhole_whole _) (Memref.whole main_v8_scv) (Memref.isWhole_whole _) (Memref.whole main_v9_scv) (Memref.isWhole_whole _) (Memref.whole main_v10_scv) (Memref.isWhole_whole _) (Memref.whole main_v0_scv) (Memref.isWhole_whole _) (Memref.whole main_v1_scv) (Memref.isWhole_whole _) (Memref.whole main_v2_scv) (Memref.isWhole_whole _) (Memref.whole main_v11_0_scv) (Memref.isWhole_whole _) (Memref.whole main_v11_1_scv) (Memref.isWhole_whole _) (Memref.whole main_v11_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 cc0_scoped66 cc0_scoped67 cc0_scoped68 cc0_scoped69 cc0_scoped70 cc0_scoped71 cc0_scoped72 cc0_scoped73 cc0_scoped74 cc0_scoped75 cc0_scoped76 cc0_scoped77 cc0_scoped78 cc0_scoped79 cc0_scoped80 cc0_scoped81 cc0_scoped82 cc0_scoped83 cc0_scoped84 cc0_scoped85 cc0_scoped86 cc0_scoped87 cc0_scoped88 cc0_scoped89 cc0_scoped90 cc0_scoped91 cc0_scoped92) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P J) v₀ 0 := by
  intro d c i O W hO _ _
  simp only [show (P J).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : (wOf c i).val = tN (coordsV ⟨_, hci.1⟩ ⟨_, hci.2⟩) := by
    show i.val + 16 * c.val = c.val * 16 + i.val
    omega
  exact (tile_body d (coordsV ⟨_, hci.1⟩ ⟨_, hci.2⟩) O W (J d) (wOf c i) hw facts hO).trans (wp_mono frame _ _ fun _ => obl_post)

/-! ## The launch element of the certificate's ghost state -/

def u₀ : UU := (initOf (K (F := F)).hsCells (K (F := F)).hsToks, 1)

omit [FloatOps F] in
theorem bigSep_none {X : Type} (s : Finset X) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P J).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun t : Thread nD τ => bigSep Finset.univ fun q : Fin 1 => (P J).x q t) = bigSep Finset.univ fun _ => iprop(emp) from
    bigSep_congr fun _ _ => bigSep_univ_of_subsingleton (0 : Fin 1), bigSep_none]
  iempintro

end Payloads

/-! ## @main on the TensorCore -/

variable (m : (ℓ : Loc nD τ sig) → Buf (Elt F) ℓ) (ρ : Dev nD → PrngReg)

/-- The host operations before the call, and after it. -/
def opsA : List (HloOp τ sig (Elt F)) :=
  [StableHlo.reshape main_arg6 main_v0 (rfl : (.i32 : EltTy) = .i32) shapeCasts_S8x1x16_S128,
   StableHlo.reshape main_arg7 main_v1 (rfl : (.i32 : EltTy) = .i32) shapeCasts_S8x1x16_S128,
   StableHlo.reshape main_arg8 main_v2 (rfl : (.i32 : EltTy) = .i32) shapeCasts_S8x1x16_S128,
   StableHlo.reshape main_arg0 main_v3 (rfl : (.f32 : EltTy) = .f32) shapeCasts_S8x3x512x512_S12288x512,
   StableHlo.reshape main_arg1 main_v4 (rfl : (.f32 : EltTy) = .f32) shapeCasts_S8x3x512x512_S12288x512,
   StableHlo.unary main_arg2 main_v5 (sitofp .f32 : (⟨S8x512x512, .i32⟩ : BufTy).Contents (Elt F) → (⟨S8x512x512, .f32⟩ : BufTy).Contents (Elt F)),
   StableHlo.reshape main_v5 main_v6 (rfl : (.f32 : EltTy) = .f32) shapeCasts_S8x512x512_S4096x512,
   StableHlo.unary main_arg3 main_v7 (sitofp .f32 : (⟨S8x512x512, .i32⟩ : BufTy).Contents (Elt F) → (⟨S8x512x512, .f32⟩ : BufTy).Contents (Elt F)),
   StableHlo.reshape main_v7 main_v8 (rfl : (.f32 : EltTy) = .f32) shapeCasts_S8x512x512_S4096x512,
   StableHlo.reshape main_arg4 main_v9 (rfl : (.f32 : EltTy) = .f32) shapeCasts_S8x512x512_S4096x512,
   StableHlo.reshape main_arg5 main_v10 (rfl : (.f32 : EltTy) = .f32) shapeCasts_S8x512x512_S4096x512]
def opsB : List (HloOp τ sig (Elt F)) :=
  [StableHlo.reshape main_v11_0 main_v12 (rfl : (.f32 : EltTy) = .f32) shapeCasts_S12288x512_S8x3x512x512,
   StableHlo.reshape main_v11_1 main_v13 (rfl : (.f32 : EltTy) = .f32) shapeCasts_S4096x512_S8x512x512,
   StableHlo.unary main_v13 main_v14 (fptosi 32 : (⟨S8x512x512, .f32⟩ : BufTy).Contents (Elt F) → (⟨S8x512x512, .i32⟩ : BufTy).Contents (Elt F)),
   StableHlo.reshape main_v11_2 main_v15 (rfl : (.f32 : EltTy) = .f32) shapeCasts_S4096x512_S8x512x512]

set_option backward.isDefEq.respectTransparency.types false in
theorem main_eq : main (F := F) d = (StableHlo.seq opsA >>= fun _ => (sc (F := F)).run d 0 >>= fun _ => StableHlo.seq opsB >>= fun _ => pure ⟨⟩) := by
  simp only [StableHlo.seq_bind_seqK]
  rfl

theorem opsA_sub : ∀ op ∈ opsA (F := F), op.bufs ⊆ Pipeline.ucRefs τ sig := by
  intro op h
  refine Pipeline.sub_ucRefs op ?_
  unfold opsA at h
  (repeat (cases h with | head => (first | exact StableHlo.reshape_bufs_sub .. | exact StableHlo.unary_bufs_sub ..) | tail _ h => ?_)); exact nomatch h
theorem opsB_sub : ∀ op ∈ opsB (F := F), op.bufs ⊆ Pipeline.ucRefs τ sig := by
  intro op h
  refine Pipeline.sub_ucRefs op ?_
  unfold opsB at h
  (repeat (cases h with | head => (first | exact StableHlo.reshape_bufs_sub .. | exact StableHlo.unary_bufs_sub ..) | tail _ h => ?_)); exact nomatch h
theorem opsA_fresh : ∀ op ∈ opsA (F := F), op.fresh = ∅ := by
  intro op h
  unfold opsA at h
  (repeat (cases h with | head => rfl | tail _ h => ?_)); exact nomatch h
theorem opsB_fresh : ∀ op ∈ opsB (F := F), op.fresh = ∅ := by
  intro op h
  unfold opsB at h
  (repeat (cases h with | head => rfl | tail _ h => ?_)); exact nomatch h

abbrev rf (b : Ref sig .tc) : DevRef τ sig := Proc.devRef .tc b

/-- The buffers when the call starts. -/
def vA (d : Dev nD) : Valuation τ sig (Elt F) := after opsA fun b => m (d, b)

/-- The destination and the source words are patch numbers. -/
def PreOK : Prop := ∀ d : Dev nD, (∀ i : S128.Idx, (vA m d (rf main_v1) i : BitVec 32).toNat < 256) ∧ ∀ i : S128.Idx, (vA m d (rf main_v2) i : BitVec 32).toNat < 256

variable (hm : PreOK m)

/-- The call's arrays. -/
def insOf (d : Dev nD) : Ins (F := F) where
  q := fullShare
  tk := vA m d (rf main_v0)
  dv := vA m d (rf main_v1)
  sv := vA m d (rf main_v2)
  oi := vA m d (rf main_v3)
  ai := vA m d (rf main_v4)
  ol := vA m d (rf main_v6)
  al := vA m d (rf main_v8)
  oc := vA m d (rf main_v9)
  ac := vA m d (rf main_v10)
  fi := vA m d (rf main_v11_0)
  fl := vA m d (rf main_v11_1)
  fc := vA m d (rf main_v11_2)
  hdv := (hm d).1
  hsv := (hm d).2

/-- The buffers when the call has ended: the three results written, the rest as they were. -/
def vB (d : Dev nD) : Valuation τ sig (Elt F) :=
  Function.update (Function.update (Function.update (vA m d) (rf main_v11_0) (gI (insOf m hm d))) (rf main_v11_1) (gL (insOf m hm d)))
    (rf main_v11_2) (gC (insOf m hm d))

/-- The buffers at the end. -/
def vC (d : Dev nD) : Valuation τ sig (Elt F) := after opsB (vB m hm d)

/-- The call's buffers. -/
def callRefs : Finset (DevRef τ sig) :=
  {rf main_v0, rf main_v1, rf main_v2, rf main_v3, rf main_v4, rf main_v6, rf main_v8, rf main_v9, rf main_v10, rf main_v11_0, rf main_v11_1, rf main_v11_2}

theorem callRefs_sub : callRefs ⊆ Pipeline.ucRefs τ sig := by
  intro b hb
  unfold callRefs at hb
  simp only [Finset.mem_insert, Finset.mem_singleton] at hb
  rcases hb with h | h | h | h | h | h | h | h | h | h | h | h <;> subst h <;>
    exact Finset.mem_filter.mpr ⟨StableHlo.devRef_mem_tcRefs _, by decide⟩

theorem held_call (W : Valuation τ sig (Elt F)) : (held (SparseCore.T d) callRefs W : sProp 𝕄)
    = iprop(((SparseCore.T d).loc main_v0 ↦{fullShare} W (rf main_v0)) ∗ ((SparseCore.T d).loc main_v1 ↦{fullShare} W (rf main_v1))
      ∗ ((SparseCore.T d).loc main_v2 ↦{fullShare} W (rf main_v2)) ∗ ((SparseCore.T d).loc main_v3 ↦{fullShare} W (rf main_v3))
      ∗ ((SparseCore.T d).loc main_v4 ↦{fullShare} W (rf main_v4)) ∗ ((SparseCore.T d).loc main_v6 ↦{fullShare} W (rf main_v6))
      ∗ ((SparseCore.T d).loc main_v8 ↦{fullShare} W (rf main_v8)) ∗ ((SparseCore.T d).loc main_v9 ↦{fullShare} W (rf main_v9))
      ∗ ((SparseCore.T d).loc main_v10 ↦{fullShare} W (rf main_v10)) ∗ ((SparseCore.T d).loc main_v11_0 ↦{fullShare} W (rf main_v11_0))
      ∗ ((SparseCore.T d).loc main_v11_1 ↦{fullShare} W (rf main_v11_1)) ∗ ((SparseCore.T d).loc main_v11_2 ↦{fullShare} W (rf main_v11_2))) := by
  unfold StableHlo.held callRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem vB_other {b : DevRef τ sig} (h0 : b ≠ rf main_v11_0) (h1 : b ≠ rf main_v11_1) (h2 : b ≠ rf main_v11_2) : vB m hm d b = vA m d b := by
  unfold vB
  rw [Function.update_of_ne h2, Function.update_of_ne h1, Function.update_of_ne h0]
theorem vB_0 : vB m hm d (rf main_v11_0) = gI (insOf m hm d) := by
  unfold vB
  rw [Function.update_of_ne (by decide), Function.update_of_ne (by decide), Function.update_self]
theorem vB_1 : vB m hm d (rf main_v11_1) = gL (insOf m hm d) := by
  unfold vB
  rw [Function.update_of_ne (by decide), Function.update_self]
theorem vB_2 : vB m hm d (rf main_v11_2) = gC (insOf m hm d) := by
  unfold vB
  rw [Function.update_self]

/-- Before the call: what it takes, beside the rest. -/
theorem held_before : (held (SparseCore.T d) (Pipeline.ucRefs τ sig) (vA m d) : sProp 𝕄)
    ⊢ iprop((insAt d (insOf m hm d) fullShare ∗ outsAll d (insOf m hm d).fi (insOf m hm d).fl (insOf m hm d).fc)
      ∗ held (SparseCore.T d) (Pipeline.ucRefs τ sig \ callRefs) (vA m d)) := by
  rw [StableHlo.held_sub_split _ callRefs_sub, held_call]
  unfold insAt outsAll
  iintro ⟨⟨H0, H1, H2, H3, H4, H6, H8, H9, H10, Ho⟩, Hr⟩
  isplitr [Hr]
  · isplitr [Ho]
    · isplitl [H0]; · iexact H0
      isplitl [H1]; · iexact H1
      isplitl [H2]; · iexact H2
      isplitl [H3]; · iexact H3
      isplitl [H4]; · iexact H4
      isplitl [H6]; · iexact H6
      isplitl [H8]; · iexact H8
      isplitl [H9]; · iexact H9
      iexact H10
    · iexact Ho
  · iexact Hr

/-- After the call: what it brings back, with the rest. -/
theorem held_after : iprop((insAt d (insOf m hm d) fullShare ∗ outsAll d (gI (insOf m hm d)) (gL (insOf m hm d)) (gC (insOf m hm d)))
      ∗ held (SparseCore.T d) (Pipeline.ucRefs τ sig \ callRefs) (vA m d))
    ⊢ (held (SparseCore.T d) (Pipeline.ucRefs τ sig) (vB m hm d) : sProp 𝕄) := by
  have hr : (held (SparseCore.T d) (Pipeline.ucRefs τ sig \ callRefs) (vA m d) : sProp 𝕄)
      = held (SparseCore.T d) (Pipeline.ucRefs τ sig \ callRefs) (vB m hm d) := StableHlo.held_congr _ fun b hb => by
    have hn : b ∉ callRefs := (Finset.mem_sdiff.mp hb).2
    refine (vB_other d m hm (fun e => hn ?_) (fun e => hn ?_) (fun e => hn ?_)).symm <;> rw [e] <;> decide
  rw [hr, StableHlo.held_sub_split _ callRefs_sub, held_call, vB_0, vB_1, vB_2,
    vB_other d m hm (by decide) (by decide) (by decide), vB_other d m hm (by decide) (by decide) (by decide), vB_other d m hm (by decide) (by decide) (by decide),
    vB_other d m hm (by decide) (by decide) (by decide), vB_other d m hm (by decide) (by decide) (by decide), vB_other d m hm (by decide) (by decide) (by decide),
    vB_other d m hm (by decide) (by decide) (by decide), vB_other d m hm (by decide) (by decide) (by decide), vB_other d m hm (by decide) (by decide) (by decide)]
  unfold insAt outsAll
  iintro ⟨⟨⟨H0, H1, H2, H3, H4, H6, H8, H9, H10⟩, Ho⟩, Hr⟩
  isplitr [Hr]
  · isplitl [H0]; · iexact H0
    isplitl [H1]; · iexact H1
    isplitl [H2]; · iexact H2
    isplitl [H3]; · iexact H3
    isplitl [H4]; · iexact H4
    isplitl [H6]; · iexact H6
    isplitl [H8]; · iexact H8
    isplitl [H9]; · iexact H9
    isplitl [H10]; · iexact H10
    iexact Ho
  · iexact Hr

theorem st0_eq : (bigSep Finset.univ fun c : Fin ((K (F := F)).nCore 0) => (P (insOf m hm)).st 0 d c)
    = iprop(insAt d (insOf m hm d) fullShare ∗ outsAll d (insOf m hm d).fi (insOf m hm d).fl (insOf m hm d).fc) := go_tiles d (insOf m hm d)
theorem dn0_eq : (bigSep Finset.univ fun c : Fin ((K (F := F)).nCore 0) => (P (insOf m hm)).dn 0 d c)
    = iprop(insAt d (insOf m hm d) fullShare ∗ outsAll d (gI (insOf m hm d)) (gL (insOf m hm d)) (gC (insOf m hm d))) := td_tiles d (insOf m hm d)

/-- What @main ends with: every buffer of the TensorCore. -/
abbrev FIN (d : Dev nD) : sProp 𝕄 := held (SparseCore.T d) (Pipeline.ucRefs τ sig) (vC m hm d)

set_option backward.isDefEq.respectTransparency.types false in
/-- @main on device `d`'s TensorCore. -/
theorem hmain (κ : GSem nD τ sig → ℕ) (d : Dev nD) :
    iprop((K (F := F)).ctx EH (P (insOf m hm)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (fun b => m (d, b)) from
    Pipeline.unscopedBufs_held d fun b => m (d, b)]
  iintro ⟨#Hctx, Hst, ⟨Hb, Hu, Hts, -⟩, -⟩
  iapply (StableHlo.wp_seq 𝒱 none Set.univ d (Pipeline.ucRefs τ sig) _ opsA opsA_sub opsA_fresh (fun b => m (d, b))) $$ [Hb Hu]
  · isplitl [Hb]; · iexact Hb
    iexact Hu
  iintro ⟨Hb, Hu⟩
  ihave Hu := (show (held (d.tc : Thread nD τ) (Pipeline.ucRefs τ sig) (after opsA fun b => m (d, b)) : sProp 𝕄) ⊢ _ from held_before d m hm) $$ Hu
  icases Hu with ⟨Hcall, Hrest⟩
  rw [wp_bind]
  iapply ((K (F := F)).wp_run (D (F := F)) 𝒱 (EH := EH) (P := P (insOf m hm)) κ d 0) $$ [Hst Hcall Hrest Hb Hts]
  isplitr; · iexact Hctx
  isplitl [Hst]; · iexact Hst
  isplitl [Hcall]
  · rw [st0_eq]; iexact Hcall
  iintro ⟨Hst, Hdn⟩
  ihave Hdn' := (BIBase.Entails.of_eq (dn0_eq d m hm)) $$ Hdn
  ihave Hu := (held_after d m hm) $$ [Hdn' Hrest]
  · isplitl [Hdn']; · iexact Hdn'
    iexact Hrest
  iapply (StableHlo.wp_seq 𝒱 none Set.univ d (Pipeline.ucRefs τ sig) _ opsB opsB_sub opsB_fresh (vB m hm d)) $$ [Hb Hu]
  · isplitl [Hb]; · iexact Hb
    iexact Hu
  iintro ⟨Hb, Hu⟩
  rw [wp_pure]; imodintro
  isplitl [Hst]; · iexact Hst
  isplitl [Hu]; · iexact Hu
  isplitl [Hb] <;> iassumption

def fq (d : Dev nD) (s' : Phys nD τ sig (Elt F)) : Prop := ∀ b ∈ Pipeline.ucRefs τ sig, s'.mem.mem (d, b) = vC m hm d b

theorem hfin (d : Dev nD) (s' : Phys nD τ sig (Elt F)) : iprop(FIN m hm d ∗ SI s') ⊢ (⌜fq m hm d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The program's run -/

def QC : PUnit × MemSt nD τ sig (Elt F) → Prop := fun r =>
  (∀ d : Dev nD, ∀ b ∈ Pipeline.ucRefs τ sig, r.2.mem (d, b) = vC m hm d b) ∧ r.2.sem = fun _ => 0

/-- The whole program: every buffer of each TensorCore at its final contents, every counter back at zero. -/
theorem run_main [∀ e, Nonempty (Elt F e)] :
    θ_run (Cert.KernelIdeal.defs (F := F)) (Cert.KernelIdeal.threads (F := F)) ⟨m, fun _ => 0, ρ⟩ (QC m hm) :=
  SparseCore.Cfg.θ_run_sc_quiescent (K := K (F := F)) (D := D (F := F)) (𝒱 := 𝒱) (EH := EH) (P := P (insOf m hm)) (A := ∅) facts v₀
    (fun q hq => match q with | 0 => nomatch hq)
    (fun q _ => match q with | 0 => tileObl (insOf m hm))
    (fun q _ => match q with | 0 => SparseCore.Cfg.VecSplit.of_plain (vecSplit (insOf m hm)))
    m ρ main (fun _ => iprop(emp)) (FIN m hm) (u₀ (F := F)) (sep_elim_left.trans (hu₀ (insOf m hm))) (hmain m ρ hm) (fq m hm) (hfin m hm) (QC m hm) (fun _ h hz => ⟨h, hz⟩)

end Cert.Proof.KernelIdeal
-- ==== Proof.FrameKI.lean ====
module

public import proofs.«01_k».proof.Proof.LaunchKI

@[expose] public section

noncomputable section

/-! # The final contents, read at the arguments and at the results -/

namespace Cert.Proof.KernelIdeal

open Cert.KernelIdeal Cert.KernelIdeal.Gen Cert.Proof.Words
open Idealize.ShloMosaic Idealize.ShloMosaic.TcCoe Idealize.ShloMosaic.StableHlo Idealize.SL.Sem

variable {F : FTy → Type} [FloatOps F] (m : (ℓ : Loc nD τ sig) → Buf (Elt F) ℓ)

/-- The patch indices are below 256. -/
def RangesOK : Prop := ∀ d : Dev nD, ∀ i : S8x1x16.Idx,
  (m ((d.tc : Thread nD τ).loc main_arg7) i : BitVec 32).toNat < 256 ∧ (m ((d.tc : Thread nD τ).loc main_arg8) i : BitVec 32).toNat < 256

theorem vA_v0 (d : Dev nD) : vA m d (rf main_v0) = shapeCast S128 (m ((d.tc : Thread nD τ).loc main_arg6)) shapeCasts_S8x1x16_S128 := by
  unfold vA opsA; after_results; rfl
theorem vA_v1 (d : Dev nD) : vA m d (rf main_v1) = shapeCast S128 (m ((d.tc : Thread nD τ).loc main_arg7)) shapeCasts_S8x1x16_S128 := by
  unfold vA opsA; after_results; rfl
theorem vA_v2 (d : Dev nD) : vA m d (rf main_v2) = shapeCast S128 (m ((d.tc : Thread nD τ).loc main_arg8)) shapeCasts_S8x1x16_S128 := by
  unfold vA opsA; after_results; rfl

theorem preOK (h : RangesOK m) : PreOK m := by
  intro d
  rw [vA_v1, vA_v2]
  exact ⟨fun i => (h d _).1, fun i => (h d _).2⟩

variable (hm : PreOK m) (d : Dev nD)

theorem vC_arg0 : vC m hm d (rf main_arg0) = m (d, rf main_arg0) := by
  unfold vC opsB; after_results; rw [vB_other d m hm (by decide) (by decide) (by decide)]; unfold vA opsA; after_results
theorem vC_arg1 : vC m hm d (rf main_arg1) = m (d, rf main_arg1) := by
  unfold vC opsB; after_results; rw [vB_other d m hm (by decide) (by decide) (by decide)]; unfold vA opsA; after_results
theorem vC_arg2 : vC m hm d (rf main_arg2) = m (d, rf main_arg2) := by
  unfold vC opsB; after_results; rw [vB_other d m hm (by decide) (by decide) (by decide)]; unfold vA opsA; after_results
theorem vC_arg3 : vC m hm d (rf main_arg3) = m (d, rf main_arg3) := by
  unfold vC opsB; after_results; rw [vB_other d m hm (by decide) (by decide) (by decide)]; unfold vA opsA; after_results
theorem vC_arg4 : vC m hm d (rf main_arg4) = m (d, rf main_arg4) := by
  unfold vC opsB; after_results; rw [vB_other d m hm (by decide) (by decide) (by decide)]; unfold vA opsA; after_results
theorem vC_arg5 : vC m hm d (rf main_arg5) = m (d, rf main_arg5) := by
  unfold vC opsB; after_results; rw [vB_other d m hm (by decide) (by decide) (by decide)]; unfold vA opsA; after_results
theorem vC_arg6 : vC m hm d (rf main_arg6) = m (d, rf main_arg6) := by
  unfold vC opsB; after_results; rw [vB_other d m hm (by decide) (by decide) (by decide)]; unfold vA opsA; after_results
theorem vC_arg7 : vC m hm d (rf main_arg7) = m (d, rf main_arg7) := by
  unfold vC opsB; after_results; rw [vB_other d m hm (by decide) (by decide) (by decide)]; unfold vA opsA; after_results
theorem vC_arg8 : vC m hm d (rf main_arg8) = m (d, rf main_arg8) := by
  unfold vC opsB; after_results; rw [vB_other d m hm (by decide) (by decide) (by decide)]; unfold vA opsA; after_results

theorem vC_v12 : vC m hm d (rf main_v12) = shapeCast S8x3x512x512 (gI (insOf m hm d)) shapeCasts_S12288x512_S8x3x512x512 := by
  unfold vC opsB; after_results; rw [vB_0]; rfl
theorem vC_v14 : vC m hm d (rf main_v14) = fptosi 32 (shapeCast S8x512x512 (gL (insOf m hm d)) shapeCasts_S4096x512_S8x512x512) := by
  unfold vC opsB; after_results; rw [vB_1]; rfl
theorem vC_v15 : vC m hm d (rf main_v15) = shapeCast S8x512x512 (gC (insOf m hm d)) shapeCasts_S4096x512_S8x512x512 := by
  unfold vC opsB; after_results; rw [vB_2]; rfl

theorem ins_oi : (insOf m hm d).oi = shapeCast S12288x512 (m ((d.tc : Thread nD τ).loc main_arg0)) shapeCasts_S8x3x512x512_S12288x512 := by
  show vA m d (rf main_v3) = _; unfold vA opsA; after_results; rfl
theorem ins_ai : (insOf m hm d).ai = shapeCast S12288x512 (m ((d.tc : Thread nD τ).loc main_arg1)) shapeCasts_S8x3x512x512_S12288x512 := by
  show vA m d (rf main_v4) = _; unfold vA opsA; after_results; rfl
theorem ins_ol : (insOf m hm d).ol = shapeCast S4096x512 (sitofp .f32 (m ((d.tc : Thread nD τ).loc main_arg2)) : FVec F S8x512x512 .f32) shapeCasts_S8x512x512_S4096x512 := by
  show vA m d (rf main_v6) = _; unfold vA opsA; after_results; rfl
theorem ins_al : (insOf m hm d).al = shapeCast S4096x512 (sitofp .f32 (m ((d.tc : Thread nD τ).loc main_arg3)) : FVec F S8x512x512 .f32) shapeCasts_S8x512x512_S4096x512 := by
  show vA m d (rf main_v8) = _; unfold vA opsA; after_results; rfl
theorem ins_oc : (insOf m hm d).oc = shapeCast S4096x512 (m ((d.tc : Thread nD τ).loc main_arg4)) shapeCasts_S8x512x512_S4096x512 := by
  show vA m d (rf main_v9) = _; unfold vA opsA; after_results; rfl
theorem ins_ac : (insOf m hm d).ac = shapeCast S4096x512 (m ((d.tc : Thread nD τ).loc main_arg5)) shapeCasts_S8x512x512_S4096x512 := by
  show vA m d (rf main_v10) = _; unfold vA opsA; after_results; rfl

theorem mem_uc (b : Ref sig .tc) (hb : b.isScoped = false := by decide) : rf b ∈ Pipeline.ucRefs τ sig := by
  refine Finset.mem_filter.mpr ⟨StableHlo.devRef_mem_tcRefs _, ?_⟩
  first | exact hb | simpa using hb

/-- The run: the results, the arguments as they were, every counter back at zero. -/
theorem run [∀ e, Nonempty (Elt F e)] (ρ : Dev nD → PrngReg) (h : RangesOK m) :
    θ_run (Cert.KernelIdeal.defs (F := F)) (Cert.KernelIdeal.threads (F := F)) ⟨m, fun _ => 0, ρ⟩ fun r => (∀ c : Dev nD,
      r.2.mem ((c.tc : Thread nD τ).loc main_v12) = vC m (preOK m h) c (rf main_v12)
      ∧ r.2.mem ((c.tc : Thread nD τ).loc main_v14) = vC m (preOK m h) c (rf main_v14)
      ∧ r.2.mem ((c.tc : Thread nD τ).loc main_v15) = vC m (preOK m h) c (rf main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0 :=
  (θ_run Cert.KernelIdeal.defs _ _).mono (fun _ q => ⟨fun c =>
    ⟨q.1 c _ (mem_uc main_v12), q.1 c _ (mem_uc main_v14), q.1 c _ (mem_uc main_v15),
      (q.1 c _ (mem_uc main_arg0)).trans (vC_arg0 m _ c), (q.1 c _ (mem_uc main_arg1)).trans (vC_arg1 m _ c), (q.1 c _ (mem_uc main_arg2)).trans (vC_arg2 m _ c),
      (q.1 c _ (mem_uc main_arg3)).trans (vC_arg3 m _ c), (q.1 c _ (mem_uc main_arg4)).trans (vC_arg4 m _ c), (q.1 c _ (mem_uc main_arg5)).trans (vC_arg5 m _ c),
      (q.1 c _ (mem_uc main_arg6)).trans (vC_arg6 m _ c), (q.1 c _ (mem_uc main_arg7)).trans (vC_arg7 m _ c), (q.1 c _ (mem_uc main_arg8)).trans (vC_arg8 m _ c)⟩, q.2⟩)
    (run_main m ρ (preOK m h))

end Cert.Proof.KernelIdeal
end
-- ==== Proof.RefShape.lean ====
module

public import proofs.«01_k».proof.Proof.Gen.ReferenceIdeal
public import proofs.«01_k».proof.Proof.Words
public import Idealize.ShloMosaic.Lib.Pointwise
public import Idealize.ShloMosaic.Lib.Routing.OpsPair
public import Idealize.ShloMosaic.Lib.Routing.OpsSet
public import Idealize.ShloMosaic.Lib.ReduceAll

@[expose] public section

/-! # The reference's re-indexings, read at an index -/

namespace Cert.Proof.Ref

open Idealize.ShloMosaic Idealize.ShloMosaic.TcCoe Cert.ReferenceIdeal Cert.ReferenceIdeal.Gen

variable {X : Type}

/-- The unfolded images: patch `p` of 256 in the last axis. -/
def fold3 (x : S8x3x512x512.Idx → X) : S8x3x32x32x256.Idx → X :=
  shapeCast _ (transpose S8x3x32x32x16x16 [0, 1, 3, 5, 2, 4] (shapeCast _ x shapeCasts_S8x3x512x512_S8x3x16x32x16x32) transposes_S8x3x16x32x16x32_S8x3x32x32x16x16_0_1_3_5_2_4) shapeCasts_S8x3x32x32x16x16_S8x3x32x32x256
/-- The images put together of their patches. -/
def unfold3 (z : S8x3x32x32x256.Idx → X) : S8x3x512x512.Idx → X :=
  shapeCast _ (transpose S8x3x16x32x16x32 [0, 1, 4, 2, 5, 3] (shapeCast _ z shapeCasts_S8x3x32x32x256_S8x3x32x32x16x16) transposes_S8x3x32x32x16x16_S8x3x16x32x16x32_0_1_4_2_5_3) shapeCasts_S8x3x16x32x16x32_S8x3x512x512
/-- The same of the one-plane arrays. -/
def fold1 (x : S8x1x512x512.Idx → X) : S8x1x32x32x256.Idx → X :=
  shapeCast _ (transpose S8x1x32x32x16x16 [0, 1, 3, 5, 2, 4] (shapeCast _ x shapeCasts_S8x1x512x512_S8x1x16x32x16x32) transposes_S8x1x16x32x16x32_S8x1x32x32x16x16_0_1_3_5_2_4) shapeCasts_S8x1x32x32x16x16_S8x1x32x32x256
/-- The one-plane arrays put together of their patches. -/
def unfold1 (z : S8x1x32x32x256.Idx → X) : S8x1x512x512.Idx → X :=
  shapeCast _ (transpose S8x1x16x32x16x32 [0, 1, 4, 2, 5, 3] (shapeCast _ z shapeCasts_S8x1x32x32x256_S8x1x32x32x16x16) transposes_S8x1x32x32x16x16_S8x1x16x32x16x32_0_1_4_2_5_3) shapeCasts_S8x1x16x32x16x32_S8x1x512x512

theorem fold3_at (x : S8x3x512x512.Idx → X) (b : Fin 8) (ch : Fin 3) (r q : Fin 32) (p : Fin 256) :
    fold3 x (ix5 b ch r q p) = x (ix4 b ch ⟨p.val / 16 * 32 + r.val, by omega⟩ ⟨p.val % 16 * 32 + q.val, by omega⟩) := by
  unfold fold3; pointwise
theorem fold1_at (x : S8x1x512x512.Idx → X) (b : Fin 8) (r q : Fin 32) (p : Fin 256) :
    fold1 x (ix5 b 0 r q p) = x (ix4 b 0 ⟨p.val / 16 * 32 + r.val, by omega⟩ ⟨p.val % 16 * 32 + q.val, by omega⟩) := by
  unfold fold1; pointwise
theorem unfold3_at (z : S8x3x32x32x256.Idx → X) (b : Fin 8) (ch : Fin 3) (y x : Fin 512) :
    unfold3 z (ix4 b ch y x) = z (ix5 b ch ⟨y.val % 32, by omega⟩ ⟨x.val % 32, by omega⟩ ⟨y.val / 32 * 16 + x.val / 32, by omega⟩) := by
  unfold unfold3; pointwise
theorem unfold1_at (z : S8x1x32x32x256.Idx → X) (b : Fin 8) (y x : Fin 512) :
    unfold1 z (ix4 b 0 y x) = z (ix5 b 0 ⟨y.val % 32, by omega⟩ ⟨x.val % 32, by omega⟩ ⟨y.val / 32 * 16 + x.val / 32, by omega⟩) := by
  unfold unfold1; pointwise

/-- Where the picks land: batch and patch, each wrapped. -/
def landIdx (dv : S8x16.Idx → BitVec 32) : S8x16x2.Idx → BitVec 32 :=
  concatenate S8x16x2 2 [⟨S8x16x1, (broadcastInDim S8x16x1 ![0, 1] bcast_S8x16_S8x16x1_0_1 (broadcastInDim S8x16 ![0, 1] bcast_S8x1_S8x16_0_1 (select (cmpi .slt (broadcastInDim S8x1 ![0] bcast_S8_S8x1_0 (iotaInDim S8 32 0)) (broadcastInDim S8x1 ![] bcast_S_S8x1 (constantI S_ 32 0#32))) (addi (broadcastInDim S8x1 ![0] bcast_S8_S8x1_0 (iotaInDim S8 32 0)) (broadcastInDim S8x1 ![] bcast_S_S8x1 (constantI S_ 32 8#32))) (broadcastInDim S8x1 ![0] bcast_S8_S8x1_0 (iotaInDim S8 32 0)))))⟩,
    ⟨S8x16x1, (broadcastInDim S8x16x1 ![0, 1] bcast_S8x16_S8x16x1_0_1 (select (cmpi .slt dv (broadcastInDim S8x16 ![] bcast_S_S8x16 (constantI S_ 32 0#32))) (addi dv (broadcastInDim S8x16 ![] bcast_S_S8x16 (constantI S_ 32 256#32))) dv))⟩] concatenates_S8x16x1_S8x16x1_S8x16x2_d2

/-- A table of 256 patches a batch, the picks' values put at their patches. -/
def atPicks (x0 : S8x256.Idx → X) (dv : S8x16.Idx → BitVec 32) (u : S8x16.Idx → X) : S8x256.Idx → X :=
  Host.scatter scatter_S8x256_S8x16x2_S8x16_n_01_01_2 (fun _ b => b) x0 (landIdx dv) u

theorem landIdx_0 (dv : S8x16.Idx → BitVec 32) (a : Fin 8) (j : Fin 16) : landIdx dv (ix3 a j 0) = BitVec.ofNat 32 a.val := by
  unfold landIdx; pointwise
  exact Routing.wrap_of_lt _ _ (by rw [BitVec.toNat_ofNat]; omega)
theorem landIdx_1 (dv : S8x16.Idx → BitVec 32) (a : Fin 8) (j : Fin 16) (h : (dv (ix2 a j)).toNat < 256) : landIdx dv (ix3 a j 1) = dv (ix2 a j) := by
  unfold landIdx; pointwise
  exact Routing.wrap_of_lt _ _ (by omega)

theorem lands_iff (dv : S8x16.Idx → BitVec 32) (h : ∀ i, (dv i).toNat < 256) (a r : Fin 8) (j : Fin 16) (p : Fin 256) :
    scatter_S8x256_S8x16x2_S8x16_n_01_01_2.resultIdx? (ix2 a j) (landIdx dv) = some (ix2 r p) ↔ a = r ∧ (dv (ix2 a j)).toNat = p.val := by
  have e := Routing.scatter_lands2 scatter_S8x256_S8x16x2_S8x16_n_01_01_2 rfl rfl rfl (landIdx dv) a j r p
  simp only [← ix2_eq_valueIdx, ← ix3_eq_valueIdx] at e
  rw [e, landIdx_0, landIdx_1 _ _ _ (h _), BitVec.toInt_eq_toNat_of_lt (by rw [BitVec.toNat_ofNat]; omega), BitVec.toInt_eq_toNat_of_lt (by have := h (ix2 a j); omega),
    BitVec.toNat_ofNat, Fin.ext_iff]
  omega

/-- The table at a pick's patch, the patches distinct. -/
theorem atPicks_hit (x0 : S8x256.Idx → X) (dv : S8x16.Idx → BitVec 32) (u : S8x16.Idx → X) (h : ∀ i, (dv i).toNat < 256) (b : Fin 8)
    (hd : ∀ j k : Fin 16, dv (ix2 b j) = dv (ix2 b k) → j = k) (j : Fin 16) (p : Fin 256) (hp : (dv (ix2 b j)).toNat = p.val) :
    atPicks x0 dv u (ix2 b p) = u (ix2 b j) := by
  refine Routing.scatter_set_hit _ _ _ _ _ _ (fun k hk => ?_) (ix2 b j) ((lands_iff dv h _ _ _ _).2 ⟨rfl, hp⟩)
  rw [eq_ix2 k] at hk ⊢
  obtain ⟨e1, e2⟩ := (lands_iff dv h _ _ _ _).1 hk
  rw [e1] at e2 ⊢
  rw [hd _ j (BitVec.eq_of_toNat_eq (e2.trans hp.symm))]
/-- The table at a patch of no pick. -/
theorem atPicks_miss (x0 : S8x256.Idx → X) (dv : S8x16.Idx → BitVec 32) (u : S8x16.Idx → X) (h : ∀ i, (dv i).toNat < 256) (b : Fin 8) (p : Fin 256)
    (hp : ∀ j : Fin 16, (dv (ix2 b j)).toNat ≠ p.val) : atPicks x0 dv u (ix2 b p) = x0 (ix2 b p) := by
  refine Routing.scatter_set_miss _ _ _ _ _ (fun k hk => ?_)
  rw [eq_ix2 k] at hk
  obtain ⟨e1, e2⟩ := (lands_iff dv h _ _ _ _).1 hk
  rw [e1] at e2
  exact hp _ e2

/-- The source patches as the gather takes them: wrapped, with a last axis of one. -/
def starts (S : S8x256.Idx → BitVec 32) : S8x256x1.Idx → BitVec 32 :=
  shapeCast _ (select (cmpi .slt (broadcastInDim S8x1x1x1x256 ![0, 4] bcast_S8x256_S8x1x1x1x256_0_4 S) (broadcastInDim S8x1x1x1x256 ![] bcast_S_S8x1x1x1x256 (constantI S_ 32 0#32))) (addi (broadcastInDim S8x1x1x1x256 ![0, 4] bcast_S8x256_S8x1x1x1x256_0_4 S) (broadcastInDim S8x1x1x1x256 ![] bcast_S_S8x1x1x1x256 (constantI S_ 32 256#32))) (broadcastInDim S8x1x1x1x256 ![0, 4] bcast_S8x256_S8x1x1x1x256_0_4 S)) shapeCasts_S8x1x1x1x256_S8x256x1

theorem starts_at (S : S8x256.Idx → BitVec 32) (b : Fin 8) (p : Fin 256) (h : (S (ix2 b p)).toNat < 256) : starts S (ix3 b p 0) = S (ix2 b p) := by
  unfold starts; pointwise
  exact Routing.wrap_of_lt _ _ (by omega)

/-- Whether every start is in range. -/
def inside (S : S8x256.Idx → BitVec 32) : S8x256.Idx → BitVec 1 :=
  Host.reduce IntOp.andi (andi (cmpi .sge (starts S) (broadcastInDim S8x256x1 ![] bcast_S_S8x256x1 (constantI S_ 32 0#32))) (cmpi .sle (starts S) (broadcastInDim S8x256x1 ![0, 1, 2] bcast_S1x1x1_S8x256x1_0_1_2 (broadcastInDim S1x1x1 ![2] bcast_S1_S1x1x1_2 (constantI S1 32 255#32))))) (constantI S_ 1 1#1) reducesTo_S8x256x1_S8x256_d2 h_S_

theorem inside_at (S : S8x256.Idx → BitVec 32) (h : ∀ i, (S i).toNat < 256) (i : S8x256.Idx) : inside S i = 1#1 := by
  refine Host.reduce_andi_one _ _ _ _ _ rfl fun k => ?_
  obtain ⟨b, p, rfl⟩ : ∃ (b : Fin 8) (p : Fin 256), k = ix3 b p 0 :=
    ⟨k 0, k 1, (eq_ix3 k).trans (congrArg (fun c : Fin 1 => ix3 (n0 := 8) (n1 := 256) (k 0) (k 1) c) (Subsingleton.elim _ _))⟩
  pointwise
  rw [starts_at S _ _ (h _)]
  have hk := h (ix2 b p)
  generalize S (ix2 b p) = x at hk
  have e := fun {b : Bool} => (show BitVec.ofBool b = 1#1 ↔ b = true by revert b; decide)
  have h1 : IntOp.cmpi .sge x 0#32 = 1#1 := by
    show BitVec.ofBool _ = 1#1
    rw [e]; simp [BitVec.sle, BitVec.toInt_eq_toNat_of_lt (show 2 * x.toNat < 2 ^ 32 by omega)]
  have h2 : IntOp.cmpi .sle x 255#32 = 1#1 := by
    show BitVec.ofBool _ = 1#1
    rw [e]; simp [BitVec.sle, BitVec.toInt_eq_toNat_of_lt (show 2 * x.toNat < 2 ^ 32 by omega)]; omega
  first | rw [h1, h2]; rfl | simp [h1, h2]

/-- The gather at an index whose start is in range. -/
theorem gather3_at (A : S8x3x32x32x256.Idx → X) (idx : S8x256x1.Idx → BitVec 32) (b : Fin 8) (ch : Fin 3) (r q : Fin 32) (p : Fin 256)
    (h : (idx (ix3 b p 0)).toNat < 256) :
    Host.gather gather_S8x3x32x32x256_S8x256x1_S8x3x32x32x256_123_4_0_0_4_2_1332321 A idx (ix5 b ch r q p) = A (ix5 b ch r q ⟨(idx (ix3 b p 0)).toNat, h⟩) := by
  unfold Host.gather
  refine congrArg A (funext fun a => Fin.ext ?_)
  show GatherDims.start _ _ _ a + GatherDims.batchCoord _ _ a + GatherDims.offCoord _ _ a = _
  match a with
  | 0 => exact Nat.zero_add _
  | 1 => exact Nat.zero_add _
  | 2 => exact Nat.zero_add _
  | 3 => exact Nat.zero_add _
  | 4 =>
    rw [GatherDims.batchCoord_eq_zero _ _ _ (by decide), GatherDims.offCoord_eq_zero _ _ _ (by decide)]
    unfold GatherDims.start
    rw [dif_pos (by decide)]
    have e : GatherDims.siIdx gather_S8x3x32x32x256_S8x256x1_S8x3x32x32x256_123_4_0_0_4_2_1332321 (ix5 b ch r q p) ⟨List.idxOf (4 : Fin 5) [4], by decide⟩ = ix3 b p 0 := by
      funext c; refine Fin.ext ?_
      match c with
      | 0 => rfl
      | 1 => rfl
      | 2 => rfl
    refine (congrArg (fun i => min (idx i).toInt.toNat 255 + 0 + 0) e).trans ?_
    show min (idx (ix3 b p 0)).toInt.toNat 255 + 0 + 0 = (idx (ix3 b p 0)).toNat
    rw [BitVec.toInt_eq_toNat_of_lt (by omega)]; omega

/-- The patches of a batch: the taken ones the source patches of `A`, the others `O`'s. -/
def picks3 (T : S8x256.Idx → BitVec 1) (S : S8x256.Idx → BitVec 32) (A O Z : S8x3x32x32x256.Idx → X) : S8x3x32x32x256.Idx → X :=
  select (broadcastInDim S8x3x32x32x256 ![0, 1, 2, 3, 4] bcast_S8x1x1x1x256_S8x3x32x32x256_0_1_2_3_4 (broadcastInDim S8x1x1x1x256 ![0, 4] bcast_S8x256_S8x1x1x1x256_0_4 T))
    (select (broadcastInDim S8x3x32x32x256 ![0, 4] bcast_S8x256_S8x3x32x32x256_0_4 (inside S))
      (Host.gather gather_S8x3x32x32x256_S8x256x1_S8x3x32x32x256_123_4_0_0_4_2_1332321 A (starts S)) Z) O

theorem picks3_at (T : S8x256.Idx → BitVec 1) (S : S8x256.Idx → BitVec 32) (A O Z : S8x3x32x32x256.Idx → X) (h : ∀ i, (S i).toNat < 256)
    (b : Fin 8) (ch : Fin 3) (r q : Fin 32) (p : Fin 256) :
    picks3 T S A O Z (ix5 b ch r q p) = if T (ix2 b p) = 1#1 then A (ix5 b ch r q ⟨(S (ix2 b p)).toNat, h _⟩) else O (ix5 b ch r q p) := by
  unfold picks3; pointwise
  rw [inside_at S h, gather3_at _ _ _ _ _ _ _ (by rw [starts_at S b p (h _)]; exact h _)]
  simp only [starts_at S b p (h _)]
  rfl

/-- The gather at an index whose start is in range. -/
theorem gather1_at (A : S8x1x32x32x256.Idx → X) (idx : S8x256x1.Idx → BitVec 32) (b : Fin 8) (r q : Fin 32) (p : Fin 256)
    (h : (idx (ix3 b p 0)).toNat < 256) :
    Host.gather gather_S8x1x32x32x256_S8x256x1_S8x1x32x32x256_123_4_0_0_4_2_1132321 A idx (ix5 b 0 r q p) = A (ix5 b 0 r q ⟨(idx (ix3 b p 0)).toNat, h⟩) := by
  unfold Host.gather
  refine congrArg A (funext fun a => Fin.ext ?_)
  show GatherDims.start _ _ _ a + GatherDims.batchCoord _ _ a + GatherDims.offCoord _ _ a = _
  match a with
  | 0 => exact Nat.zero_add _
  | 1 => exact Nat.zero_add _
  | 2 => exact Nat.zero_add _
  | 3 => exact Nat.zero_add _
  | 4 =>
    rw [GatherDims.batchCoord_eq_zero _ _ _ (by decide), GatherDims.offCoord_eq_zero _ _ _ (by decide)]
    unfold GatherDims.start
    rw [dif_pos (by decide)]
    have e : GatherDims.siIdx gather_S8x1x32x32x256_S8x256x1_S8x1x32x32x256_123_4_0_0_4_2_1132321 (ix5 b 0 r q p) ⟨List.idxOf (4 : Fin 5) [4], by decide⟩ = ix3 b p 0 := by
      funext c; refine Fin.ext ?_
      match c with
      | 0 => rfl
      | 1 => rfl
      | 2 => rfl
    refine (congrArg (fun i => min (idx i).toInt.toNat 255 + 0 + 0) e).trans ?_
    show min (idx (ix3 b p 0)).toInt.toNat 255 + 0 + 0 = (idx (ix3 b p 0)).toNat
    rw [BitVec.toInt_eq_toNat_of_lt (by omega)]; omega

/-- The patches of a batch: the taken ones the source patches of `A`, the others `O`'s. -/
def picks1 (T : S8x256.Idx → BitVec 1) (S : S8x256.Idx → BitVec 32) (A O Z : S8x1x32x32x256.Idx → X) : S8x1x32x32x256.Idx → X :=
  select (broadcastInDim S8x1x32x32x256 ![0, 1, 2, 3, 4] bcast_S8x1x1x1x256_S8x1x32x32x256_0_1_2_3_4 (broadcastInDim S8x1x1x1x256 ![0, 4] bcast_S8x256_S8x1x1x1x256_0_4 T))
    (select (broadcastInDim S8x1x32x32x256 ![0, 4] bcast_S8x256_S8x1x32x32x256_0_4 (inside S))
      (Host.gather gather_S8x1x32x32x256_S8x256x1_S8x1x32x32x256_123_4_0_0_4_2_1132321 A (starts S)) Z) O

theorem picks1_at (T : S8x256.Idx → BitVec 1) (S : S8x256.Idx → BitVec 32) (A O Z : S8x1x32x32x256.Idx → X) (h : ∀ i, (S i).toNat < 256)
    (b : Fin 8) (r q : Fin 32) (p : Fin 256) :
    picks1 T S A O Z (ix5 b 0 r q p) = if T (ix2 b p) = 1#1 then A (ix5 b 0 r q ⟨(S (ix2 b p)).toNat, h _⟩) else O (ix5 b 0 r q p) := by
  unfold picks1; pointwise
  rw [inside_at S h, gather1_at _ _ _ _ _ _ (by rw [starts_at S b p (h _)]; exact h _)]
  simp only [starts_at S b p (h _)]
  rfl

/-- A pick's flag: taken or not. -/
def flags (tk : S8x1x16.Idx → BitVec 32) : S8x16.Idx → BitVec 1 :=
  cmpi .slt (broadcastInDim S8x16 ![0, 1] bcast_S1x16_S8x16_0_1 (broadcastInDim S1x16 ![1] bcast_S16_S1x16_1 (iotaInDim S16 32 0)))
    (broadcastInDim S8x16 ![0, 1] bcast_S8x1_S8x16_0_1 (broadcastInDim S8x1 ![0] bcast_S8_S8x1_0 (shapeCast _ (extractStridedSlice S8x1x1 ![0, 0, 0] tk slices_S8x1x16_S8x1x1_0_0_0) shapeCasts_S8x1x1_S8)))

theorem flags_at (tk : S8x1x16.Idx → BitVec 32) (b : Fin 8) (j : Fin 16) : flags tk (ix2 b j) = 1#1 ↔ (j.val : Int) < (tk (ix3 b 0 0)).toInt := by
  have e : flags tk (ix2 b j) = IntOp.cmpi .slt (BitVec.ofNat 32 j.val) (tk (ix3 b 0 0)) := by
    unfold flags; pointwise
  have e2 : (BitVec.ofNat 32 j.val).toInt = (j.val : Int) := by
    rw [BitVec.toInt_eq_toNat_of_lt] <;> rw [BitVec.toNat_ofNat] <;> omega
  rw [e, ← e2]
  show BitVec.ofBool _ = 1#1 ↔ _
  rw [show ∀ c : Bool, BitVec.ofBool c = 1#1 ↔ c = true by decide]; simp [BitVec.slt]

end Cert.Proof.Ref
-- ==== Proof.PastedAt.lean ====
module

public import proofs.«01_k».proof.Proof.RefShape

@[expose] public section

/-! # The kernel's pasted arrays are the reference's

`pastedAt` is the result as the kernel leaves it, row by row; `unfold3`, `picks3`, … are the reference's operations.
Both read, at one place of one patch, the source patch of the pick there, if a pick is taken there, else the old value. -/

namespace Cert.Proof.Ref

open Idealize.ShloMosaic Idealize.ShloMosaic.TcCoe Cert.ReferenceIdeal Cert.ReferenceIdeal.Gen Cert.Proof.Words

variable {X : Type}

/-- A place that no pick covers. -/
theorem pasted_miss {tk : Int} {D Sr : Nat → Nat} {n : Nat} {A : Nat → Nat → X} {f : SQ.Idx → X} {x : SQ.Idx} (k : Nat)
    (h : ∀ j < k, ¬(((j : Int) < tk ∧ D j / 64 = n) ∧ (x 0).val / 32 = D j / 16 % 4 ∧ (x 1).val / 32 = D j % 16)) :
    pasted tk D Sr n A f k x = f x := by
  induction k with
  | zero => rfl
  | succ k ih => rw [pasted, if_neg (h k (Nat.lt_succ_self k))]; exact ih fun j hj => h j (Nat.lt_succ_of_lt hj)

/-- A place that one pick covers. -/
theorem pasted_hit {tk : Int} {D Sr : Nat → Nat} {n : Nat} {A : Nat → Nat → X} {f : SQ.Idx → X} {x : SQ.Idx} (j : Nat) (k : Nat) (hj : j < k)
    (hc : ((j : Int) < tk ∧ D j / 64 = n) ∧ (x 0).val / 32 = D j / 16 % 4 ∧ (x 1).val / 32 = D j % 16)
    (h : ∀ i < k, (((i : Int) < tk ∧ D i / 64 = n) ∧ (x 0).val / 32 = D i / 16 % 4 ∧ (x 1).val / 32 = D i % 16) → i = j) :
    pasted tk D Sr n A f k x = A (Sr j / 16 * 32 + (x 0).val % 32) (Sr j % 16 * 32 + (x 1).val % 32) := by
  induction k with
  | zero => omega
  | succ k ih =>
    rw [pasted]
    by_cases e : k = j
    · rw [e, if_pos hc]
    · rw [if_neg fun q => e (h k (Nat.lt_succ_self k) q)]
      exact ih (by omega) fun i hi => h i (Nat.lt_succ_of_lt hi)

variable {n : Nat} [NeZero n]

/-- The kernel's array at row `R` of batch `b`, plane row `y`, column `x`: `t`, `s` are whether the patch there is
    taken, and from where. -/
theorem pastedAt_read {kk : Nat} (hk : 0 < kk) {tk : Nat → Int} {D Sr : Nat → Nat → Nat} {o a : (SN n).Idx → X} (b pl : Nat) (y x : Fin 512) (hpl : pl < kk)
    (R : Fin n) (hR : R.val = (b * kk + pl) * 512 + y.val) (hD : ∀ j < 16, D b j < 256) (hi : ∀ i < 16, ∀ j < 16, D b i = D b j → i = j)
    {t : Prop} [Decidable t] {s : Nat}
    (hit : ∀ j < 16, D b j = y.val / 32 * 16 + x.val / 32 → (t ↔ (j : Int) < tk b) ∧ s = Sr b j)
    (miss : (∀ j < 16, D b j ≠ y.val / 32 * 16 + x.val / 32) → ¬t) (hs : s < 256) (R' : Fin n)
    (hR' : R'.val = (b * kk + pl) * 512 + (s / 16 * 32 + y.val % 32)) :
    pastedAt kk tk D Sr o a (ix2 (n0 := n) (n1 := 512) R x)
      = if t then a (ix2 (n0 := n) (n1 := 512) R' ⟨s % 16 * 32 + x.val % 32, by omega⟩) else o (ix2 (n0 := n) (n1 := 512) R x) := by
  have hy := y.isLt
  have hx := x.isLt
  have e1 : R.val / 128 = (b * kk + pl) * 4 + y.val / 128 := by omega
  have e2 : R.val / 128 / (4 * kk) = b := by
    rw [e1, ← Nat.div_div_eq_div_mul, show ((b * kk + pl) * 4 + y.val / 128) / 4 = pl + b * kk by omega, Nat.add_mul_div_right _ _ hk, Nat.div_eq_of_lt hpl, Nat.zero_add]
  have e3 : R.val / 128 % 4 = y.val / 128 := by rw [e1]; omega
  have e4 : R.val / 128 / 4 * 512 = (b * kk + pl) * 512 := by rw [e1]; omega
  have e5 : R.val % 128 = y.val % 128 := by omega
  have cond : ∀ j < 16, ((D b j / 64 = y.val / 128) ∧ y.val % 128 / 32 = D b j / 16 % 4 ∧ x.val / 32 = D b j % 16) ↔ D b j = y.val / 32 * 16 + x.val / 32 := by
    intro j hj
    have := hD j hj
    omega
  unfold pastedAt
  simp only [ix2_0, ix2_1]
  rw [e2, e3, e4]
  by_cases hj : ∃ j < 16, D b j = y.val / 32 * 16 + x.val / 32
  · obtain ⟨j, hj, hp⟩ := hj
    obtain ⟨ht, hsj⟩ := hit j hj hp
    have cj := (cond j hj).2 hp
    by_cases h : t
    · rw [if_pos h, pasted_hit j 16 hj]
      · unfold planeAt
        refine congrArg a (funext fun c => Fin.ext ?_)
        match c with
        | 0 =>
          show ((b * kk + pl) * 512 + (Sr b j / 16 * 32 + R.val % 128 % 32)) % n = R'.val
          rw [← hsj, e5, show y.val % 128 % 32 = y.val % 32 by omega, ← hR', Nat.mod_eq_of_lt R'.isLt]
        | 1 =>
          show (Sr b j % 16 * 32 + x.val % 32) % 512 = s % 16 * 32 + x.val % 32
          rw [← hsj]; omega
      · refine ⟨⟨ht.1 h, cj.1⟩, ?_, cj.2.2⟩
        show R.val % 128 / 32 = _
        rw [e5]; exact cj.2.1
      · rintro i hi' ⟨⟨_, q1⟩, q2, q3⟩
        refine hi i hi' j hj (((cond i hi').1 ⟨q1, ?_, q3⟩).trans hp.symm)
        rw [← e5]; exact q2
    · rw [if_neg h, pasted_miss 16]
      · unfold rowsAt
        refine congrArg o (funext fun c => Fin.ext ?_)
        match c with
        | 0 =>
          show (R.val / 128 * 128 + R.val % 128) % n = R.val
          rw [show R.val / 128 * 128 + R.val % 128 = R.val by omega, Nat.mod_eq_of_lt R.isLt]
        | 1 => rfl
      · rintro i hi' ⟨⟨q0, q1⟩, q2, q3⟩
        have : i = j := hi i hi' j hj (((cond i hi').1 ⟨q1, by rw [← e5]; exact q2, q3⟩).trans hp.symm)
        subst this
        exact h (ht.2 q0)
  · have hno : ∀ j < 16, D b j ≠ y.val / 32 * 16 + x.val / 32 := fun j hj' e => hj ⟨j, hj', e⟩
    rw [if_neg (miss hno), pasted_miss 16]
    · unfold rowsAt
      refine congrArg o (funext fun c => Fin.ext ?_)
      match c with
      | 0 =>
        show (R.val / 128 * 128 + R.val % 128) % n = R.val
        rw [show R.val / 128 * 128 + R.val % 128 = R.val by omega, Nat.mod_eq_of_lt R.isLt]
      | 1 => rfl
    · rintro i hi' ⟨⟨_, q1⟩, q2, q3⟩
      exact hno i hi' ((cond i hi').1 ⟨q1, by rw [← e5]; exact q2, q3⟩)

end Cert.Proof.Ref
-- ==== Proof.ValueEq.lean ====
module

public import proofs.«01_k».proof.Proof.PastedAt
public import proofs.«01_k».proof.Proof.Gen.KernelIdeal

@[expose] public section

/-! # The two sides, array by array -/

namespace Cert.Proof.Ref

open Idealize.ShloMosaic Idealize.ShloMosaic.TcCoe Cert.ReferenceIdeal Cert.ReferenceIdeal.Gen Cert.Proof.Words

variable {X : Type}

open Cert.KernelIdeal (S128 S12288x512 S4096x512)
open Cert.KernelIdeal.Gen (shapeCasts_S8x1x16_S128 shapeCasts_S12288x512_S8x3x512x512 shapeCasts_S8x3x512x512_S12288x512 shapeCasts_S4096x512_S8x512x512 shapeCasts_S8x512x512_S4096x512)

/-- Which patches are taken. -/
def takeT (tk dv : S8x1x16.Idx → BitVec 32) : S8x256.Idx → BitVec 1 :=
  atPicks (broadcastInDim S8x256 ![] bcast_S_S8x256 (constantI S_ 1 0#1)) (shapeCast _ dv shapeCasts_S8x1x16_S8x16) (flags tk)
/-- From where. -/
def srcT (dv sv : S8x1x16.Idx → BitVec 32) : S8x256.Idx → BitVec 32 :=
  atPicks (broadcastInDim S8x256 ![] bcast_S_S8x256 (constantI S_ 32 0#32)) (shapeCast _ dv shapeCasts_S8x1x16_S8x16) (shapeCast _ sv shapeCasts_S8x1x16_S8x16)

theorem list_at (l : S8x1x16.Idx → BitVec 32) (b : Fin 8) (j : Nat) (hj : j < 16) :
    lAt (shapeCast S128 l shapeCasts_S8x1x16_S128) b.val j = l (ix3 b 0 ⟨j, hj⟩) := by
  have e : lAt (shapeCast S128 l shapeCasts_S8x1x16_S128) b.val j = shapeCast S128 l shapeCasts_S8x1x16_S128 (ix1 (n0 := 128) ⟨b.val * 16 + j, by omega⟩) := by
    unfold lAt
    refine congrArg _ (funext fun a => Fin.ext ?_)
    match a with
    | 0 => show (b.val * 16 + j % 16) % 128 = b.val * 16 + j; omega
  rw [e]
  pointwise
  refine congrArg l (congrArg₂ (fun p q => ix3 p 0 q) (Fin.ext ?_) (Fin.ext ?_)) <;> simp <;> omega

theorem batch_at (l : S8x1x16.Idx → BitVec 32) (b : Fin 8) (j : Fin 16) : shapeCast S8x16 l shapeCasts_S8x1x16_S8x16 (ix2 b j) = l (ix3 b 0 j) := by
  pointwise

theorem to_rows3 (o : S8x3x512x512.Idx → X) (b : Fin 8) (ch : Fin 3) (y x : Fin 512) (R : Fin 12288) (hR : R.val = (b.val * 3 + ch.val) * 512 + y.val) :
    shapeCast S12288x512 o shapeCasts_S8x3x512x512_S12288x512 (ix2 R x) = o (ix4 b ch y x) := by
  rw [show R = ⟨(b.val * 3 + ch.val) * 512 + y.val, by omega⟩ from Fin.ext hR]
  pointwise
theorem to_rows1 (o : S8x512x512.Idx → X) (b : Fin 8) (y x : Fin 512) (R : Fin 4096) (hR : R.val = b.val * 512 + y.val) :
    shapeCast S4096x512 o shapeCasts_S8x512x512_S4096x512 (ix2 R x) = o (ix3 b y x) := by
  rw [show R = ⟨b.val * 512 + y.val, by omega⟩ from Fin.ext hR]
  pointwise
theorem of_rows3 (z : S12288x512.Idx → X) (b : Fin 8) (ch : Fin 3) (y x : Fin 512) :
    shapeCast S8x3x512x512 z shapeCasts_S12288x512_S8x3x512x512 (ix4 b ch y x) = z (ix2 ⟨(b.val * 3 + ch.val) * 512 + y.val, by omega⟩ x) := by
  pointwise
  refine congrArg z ?_
  rw [ix2_inj]; refine ⟨Fin.ext ?_, rfl⟩; simp; omega
theorem of_rows1 (z : S4096x512.Idx → X) (b : Fin 8) (y x : Fin 512) :
    shapeCast S8x512x512 z shapeCasts_S4096x512_S8x512x512 (ix3 b y x) = z (ix2 ⟨b.val * 512 + y.val, by omega⟩ x) := by
  pointwise

theorem below {dv sv : S8x1x16.Idx → BitVec 32} (hr : ∀ i, (dv i).toNat < 256 ∧ (sv i).toNat < 256) (i : S8x16.Idx) :
    (shapeCast S8x16 dv shapeCasts_S8x1x16_S8x16 i).toNat < 256 := (hr _).1

section
variable (tk dv sv : S8x1x16.Idx → BitVec 32) (hr : ∀ i, (dv i).toNat < 256 ∧ (sv i).toNat < 256)
  (hd : ∀ (b : Fin 8) (j k : Fin 16), dv (ix3 b 0 j) = dv (ix3 b 0 k) → j = k)
include hr hd

theorem take_hit (b : Fin 8) (j : Fin 16) (p : Fin 256) (hp : (dv (ix3 b 0 j)).toNat = p.val) :
    takeT tk dv (ix2 b p) = 1#1 ↔ (j.val : Int) < (tk (ix3 b 0 0)).toInt := by
  unfold takeT
  rw [atPicks_hit _ _ _ (below hr) b (fun j k h => hd b j k (by rwa [batch_at, batch_at] at h)) j p (by rwa [batch_at]), flags_at]
theorem src_hit (b : Fin 8) (j : Fin 16) (p : Fin 256) (hp : (dv (ix3 b 0 j)).toNat = p.val) :
    srcT dv sv (ix2 b p) = sv (ix3 b 0 j) := by
  unfold srcT
  rw [atPicks_hit _ _ _ (below hr) b (fun j k h => hd b j k (by rwa [batch_at, batch_at] at h)) j p (by rwa [batch_at]), batch_at]
omit hd in
theorem take_miss (b : Fin 8) (p : Fin 256) (hp : ∀ j : Fin 16, (dv (ix3 b 0 j)).toNat ≠ p.val) : ¬takeT tk dv (ix2 b p) = 1#1 := by
  unfold takeT
  rw [atPicks_miss _ _ _ (below hr) b p (fun j => by rw [batch_at]; exact hp j)]
  show ¬(0#1 = 1#1); decide
theorem src_lt (i : S8x256.Idx) : (srcT dv sv i).toNat < 256 := by
  obtain ⟨b, p, rfl⟩ : ∃ (b : Fin 8) (p : Fin 256), i = ix2 b p := ⟨i 0, i 1, eq_ix2 i⟩
  by_cases h : ∃ j : Fin 16, (dv (ix3 b 0 j)).toNat = p.val
  · obtain ⟨j, hj⟩ := h
    rw [src_hit dv sv hr hd b j p hj]; exact (hr _).2
  · unfold srcT
    rw [atPicks_miss _ _ _ (below hr) b p (fun j => by rw [batch_at]; exact fun e => h ⟨j, e⟩)]
    show (0#32 : BitVec 32).toNat < 256; decide

/-- What the picks of a batch do, number by number. -/
abbrev tkN : Nat → Int := fun b => (lAt (shapeCast S128 tk shapeCasts_S8x1x16_S128) b 0).toInt
abbrev lN (l : S8x1x16.Idx → BitVec 32) : Nat → Nat → Nat := fun b j => (lAt (shapeCast S128 l shapeCasts_S8x1x16_S128) b j).toNat

/-- The kernel's array, at row `y` of plane `pl` of batch `b`. -/
theorem pasted_table {n : Nat} [NeZero n] {kk : Nat} (hk : 0 < kk) (o a : (SN n).Idx → X) (b : Fin 8) (pl : Nat) (y x : Fin 512) (hpl : pl < kk) (R : Fin n)
    (hR : R.val = (b.val * kk + pl) * 512 + y.val) (p : Fin 256) (hp : p.val = y.val / 32 * 16 + x.val / 32) (R' : Fin n)
    (hR' : R'.val = (b.val * kk + pl) * 512 + ((srcT dv sv (ix2 b p)).toNat / 16 * 32 + y.val % 32)) :
    pastedAt kk (tkN tk) (lN dv) (lN sv) o a (ix2 (n0 := n) (n1 := 512) R x)
      = if takeT tk dv (ix2 b p) = 1#1 then a (ix2 (n0 := n) (n1 := 512) R' ⟨(srcT dv sv (ix2 b p)).toNat % 16 * 32 + x.val % 32, by omega⟩)
        else o (ix2 (n0 := n) (n1 := 512) R x) := by
  have eD : ∀ j (hj : j < 16), lN dv b.val j = (dv (ix3 b 0 ⟨j, hj⟩)).toNat := fun j hj => congrArg BitVec.toNat (list_at dv b j hj)
  have eS : ∀ j (hj : j < 16), lN sv b.val j = (sv (ix3 b 0 ⟨j, hj⟩)).toNat := fun j hj => congrArg BitVec.toNat (list_at sv b j hj)
  have eT : tkN tk b.val = (tk (ix3 b 0 0)).toInt := congrArg BitVec.toInt (list_at tk b 0 (by decide))
  refine pastedAt_read hk b.val pl y x hpl R hR (fun j hj => ?_) (fun i hi j hj h => ?_) (fun j hj h => ?_) (fun h => ?_) (src_lt dv sv hr hd _) R' hR'
  · rw [eD j hj]; exact (hr _).1
  · rw [eD i hi, eD j hj] at h
    exact congrArg Fin.val (hd b ⟨i, hi⟩ ⟨j, hj⟩ (BitVec.eq_of_toNat_eq h))
  · rw [eD j hj, ← hp] at h
    rw [eT, eS j hj]
    exact ⟨take_hit tk dv sv hr hd b ⟨j, hj⟩ p h, congrArg BitVec.toNat (src_hit dv sv hr hd b ⟨j, hj⟩ p h)⟩
  · refine take_miss tk dv sv hr b p fun j e => h j.val j.isLt ?_
    rw [eD j.val j.isLt, ← hp]; exact e

/-- The images. -/
theorem images_eq (o a : S8x3x512x512.Idx → X) (Z : S8x3x32x32x256.Idx → X) :
    shapeCast S8x3x512x512 (pastedAt 3 (tkN tk) (lN dv) (lN sv) (shapeCast S12288x512 o shapeCasts_S8x3x512x512_S12288x512)
        (shapeCast S12288x512 a shapeCasts_S8x3x512x512_S12288x512)) shapeCasts_S12288x512_S8x3x512x512
      = unfold3 (picks3 (takeT tk dv) (srcT dv sv) (fold3 a) (fold3 o) Z) := by
  funext i
  obtain ⟨b, ch, y, x, rfl⟩ : ∃ (b : Fin 8) (ch : Fin 3) (y x : Fin 512), i = ix4 b ch y x := ⟨i 0, i 1, i 2, i 3, eq_ix4 i⟩
  rw [of_rows3, unfold3_at, picks3_at _ _ _ _ _ (src_lt dv sv hr hd), fold3_at, fold3_at]
  generalize hp : (⟨y.val / 32 * 16 + x.val / 32, _⟩ : Fin 256) = p
  have hp := congrArg Fin.val hp.symm
  have hs := src_lt dv sv hr hd (ix2 b p)
  have hR' : (b.val * 3 + ch.val) * 512 + ((srcT dv sv (ix2 b p)).toNat / 16 * 32 + y.val % 32) < 12288 := by omega
  refine (pasted_table tk dv sv hr hd (n := 12288) (kk := 3) (by decide) _ _ b ch.val y x ch.isLt ⟨(b.val * 3 + ch.val) * 512 + y.val, by omega⟩ rfl p hp ⟨_, hR'⟩ rfl).trans ?_
  refine if_congr Iff.rfl ?_ ?_
  · exact to_rows3 a b ch ⟨(srcT dv sv (ix2 b p)).toNat / 16 * 32 + y.val % 32, by omega⟩ _ ⟨_, hR'⟩ rfl
  · refine (to_rows3 o b ch y x ⟨(b.val * 3 + ch.val) * 512 + y.val, by omega⟩ rfl).trans (congrArg o ?_)
    rw [ix4_inj]; exact ⟨rfl, rfl, Fin.ext (by dsimp only at hp ⊢; omega), Fin.ext (by dsimp only at hp ⊢; omega)⟩

/-- The one-plane arrays. -/
theorem planes_eq (o a : S8x512x512.Idx → X) (Z : S8x1x32x32x256.Idx → X) :
    shapeCast S8x512x512 (pastedAt 1 (tkN tk) (lN dv) (lN sv) (shapeCast S4096x512 o shapeCasts_S8x512x512_S4096x512)
        (shapeCast S4096x512 a shapeCasts_S8x512x512_S4096x512)) shapeCasts_S4096x512_S8x512x512
      = shapeCast S8x512x512 (unfold1 (picks1 (takeT tk dv) (srcT dv sv) (fold1 (broadcastInDim S8x1x512x512 ![0, 2, 3] bcast_S8x512x512_S8x1x512x512_0_2_3 a))
        (fold1 (broadcastInDim S8x1x512x512 ![0, 2, 3] bcast_S8x512x512_S8x1x512x512_0_2_3 o)) Z)) shapeCasts_S8x1x512x512_S8x512x512 := by
  funext i
  obtain ⟨b, y, x, rfl⟩ : ∃ (b : Fin 8) (y x : Fin 512), i = ix3 b y x := ⟨i 0, i 1, i 2, eq_ix3 i⟩
  have sq : ∀ z : S8x1x512x512.Idx → X, shapeCast S8x512x512 z shapeCasts_S8x1x512x512_S8x512x512 (ix3 b y x) = z (ix4 b 0 y x) := by intro z; pointwise
  have un : ∀ (z : S8x512x512.Idx → X) (y x : Fin 512), broadcastInDim S8x1x512x512 ![0, 2, 3] bcast_S8x512x512_S8x1x512x512_0_2_3 z (ix4 b 0 y x) = z (ix3 b y x) := by
    intro z y x; pointwise
  rw [of_rows1, sq, unfold1_at, picks1_at _ _ _ _ _ (src_lt dv sv hr hd), fold1_at, fold1_at, un, un]
  generalize hp : (⟨y.val / 32 * 16 + x.val / 32, _⟩ : Fin 256) = p
  have hp := congrArg Fin.val hp.symm
  have hs := src_lt dv sv hr hd (ix2 b p)
  have hR' : b.val * 512 + ((srcT dv sv (ix2 b p)).toNat / 16 * 32 + y.val % 32) < 4096 := by omega
  refine (pasted_table tk dv sv hr hd (n := 4096) (kk := 1) (by decide) _ _ b 0 y x (by decide) ⟨b.val * 512 + y.val, by omega⟩ (by dsimp only; omega) p hp ⟨_, hR'⟩ (by dsimp only; omega)).trans ?_
  refine if_congr Iff.rfl ?_ ?_
  · exact to_rows1 a b ⟨(srcT dv sv (ix2 b p)).toNat / 16 * 32 + y.val % 32, by omega⟩ _ ⟨_, hR'⟩ rfl
  · refine (to_rows1 o b y x ⟨b.val * 512 + y.val, by omega⟩ rfl).trans (congrArg o ?_)
    rw [ix3_inj]; exact ⟨rfl, Fin.ext (by dsimp only at hp ⊢; omega), Fin.ext (by dsimp only at hp ⊢; omega)⟩

end

end Cert.Proof.Ref
-- ==== Proof.AlgEq.lean ====
module

public import proofs.«01_k».proof.Proof.ValueEq
public import proofs.«01_k».proof.Proof.FrameKI
public import proofs.«01_k».proof.Proof.Gen.ReferenceIdeal.Run

@[expose] public section

noncomputable section

/-! # The kernel's results are the reference's -/

namespace Cert.Proof.Ref

open Idealize.ShloMosaic Idealize.ShloMosaic.TcCoe

section Reference
open Cert.ReferenceIdeal Cert.ReferenceIdeal.Gen Cert.ReferenceIdeal.Value

variable {F : FTy → Type} [FloatOps F] (m : (ℓ : Loc nD τ sig) → Buf (Elt F) ℓ) (c : Dev nD)

theorem out0_eq : res_out0 m c = unfold3 (picks3 (takeT (m ((c.tc : Thread nD τ).loc main_arg6)) (m ((c.tc : Thread nD τ).loc main_arg7)))
    (srcT (m ((c.tc : Thread nD τ).loc main_arg7)) (m ((c.tc : Thread nD τ).loc main_arg8)))
    (fold3 (m ((c.tc : Thread nD τ).loc main_arg1))) (fold3 (m ((c.tc : Thread nD τ).loc main_arg0)))
    (broadcastInDim S8x3x32x32x256 ![] bcast_S_S8x3x32x32x256 (constant S_ .f32 0x7FC00000#32))) := rfl

theorem out1_eq : res_out1 m c = fptosi 32 (shapeCast S8x512x512 (unfold1 (picks1 (takeT (m ((c.tc : Thread nD τ).loc main_arg6)) (m ((c.tc : Thread nD τ).loc main_arg7)))
    (srcT (m ((c.tc : Thread nD τ).loc main_arg7)) (m ((c.tc : Thread nD τ).loc main_arg8)))
    (fold1 (broadcastInDim S8x1x512x512 ![0, 2, 3] bcast_S8x512x512_S8x1x512x512_0_2_3 (sitofp .f32 (m ((c.tc : Thread nD τ).loc main_arg3)) : FVec F S8x512x512 .f32)))
    (fold1 (broadcastInDim S8x1x512x512 ![0, 2, 3] bcast_S8x512x512_S8x1x512x512_0_2_3 (sitofp .f32 (m ((c.tc : Thread nD τ).loc main_arg2)) : FVec F S8x512x512 .f32)))
    (broadcastInDim S8x1x32x32x256 ![] bcast_S_S8x1x32x32x256 (constant S_ .f32 0x7FC00000#32)))) shapeCasts_S8x1x512x512_S8x512x512) := rfl

theorem out2_eq : res_out2 m c = shapeCast S8x512x512 (unfold1 (picks1 (takeT (m ((c.tc : Thread nD τ).loc main_arg6)) (m ((c.tc : Thread nD τ).loc main_arg7)))
    (srcT (m ((c.tc : Thread nD τ).loc main_arg7)) (m ((c.tc : Thread nD τ).loc main_arg8)))
    (fold1 (broadcastInDim S8x1x512x512 ![0, 2, 3] bcast_S8x512x512_S8x1x512x512_0_2_3 (m ((c.tc : Thread nD τ).loc main_arg5))))
    (fold1 (broadcastInDim S8x1x512x512 ![0, 2, 3] bcast_S8x512x512_S8x1x512x512_0_2_3 (m ((c.tc : Thread nD τ).loc main_arg4))))
    (broadcastInDim S8x1x32x32x256 ![] bcast_S_S8x1x32x32x256 (constant S_ .f32 0x7FC00000#32)))) shapeCasts_S8x1x512x512_S8x512x512 := rfl

end Reference

section Kernel
open Cert.KernelIdeal Cert.KernelIdeal.Gen Cert.Proof.KernelIdeal Cert.Proof.Words

variable {F : FTy → Type} [FloatOps F] (m : (ℓ : Loc nD τ sig) → Buf (Elt F) ℓ) (hm : PreOK m) (d : Dev nD)

theorem kernel_image : vC m hm d (rf main_v12)
    = shapeCast S8x3x512x512 (pastedAt 3 (tkN (m ((d.tc : Thread nD τ).loc main_arg6))) (lN (m ((d.tc : Thread nD τ).loc main_arg7))) (lN (m ((d.tc : Thread nD τ).loc main_arg8)))
        (shapeCast S12288x512 (m ((d.tc : Thread nD τ).loc main_arg0)) shapeCasts_S8x3x512x512_S12288x512)
        (shapeCast S12288x512 (m ((d.tc : Thread nD τ).loc main_arg1)) shapeCasts_S8x3x512x512_S12288x512)) shapeCasts_S12288x512_S8x3x512x512 := by
  rw [vC_v12]
  unfold gI
  rw [ins_oi, ins_ai]
  unfold tkZ dN sN
  rw [show (insOf m hm d).tk = _ from vA_v0 m d, show (insOf m hm d).dv = _ from vA_v1 m d, show (insOf m hm d).sv = _ from vA_v2 m d]

theorem kernel_label : vC m hm d (rf main_v14)
    = fptosi 32 (shapeCast S8x512x512 (pastedAt 1 (tkN (m ((d.tc : Thread nD τ).loc main_arg6))) (lN (m ((d.tc : Thread nD τ).loc main_arg7))) (lN (m ((d.tc : Thread nD τ).loc main_arg8)))
        (shapeCast S4096x512 (sitofp .f32 (m ((d.tc : Thread nD τ).loc main_arg2)) : FVec F S8x512x512 .f32) shapeCasts_S8x512x512_S4096x512)
        (shapeCast S4096x512 (sitofp .f32 (m ((d.tc : Thread nD τ).loc main_arg3)) : FVec F S8x512x512 .f32) shapeCasts_S8x512x512_S4096x512)) shapeCasts_S4096x512_S8x512x512) := by
  rw [vC_v14]
  unfold gL
  rw [ins_ol, ins_al]
  unfold tkZ dN sN
  rw [show (insOf m hm d).tk = _ from vA_v0 m d, show (insOf m hm d).dv = _ from vA_v1 m d, show (insOf m hm d).sv = _ from vA_v2 m d]

theorem kernel_conf : vC m hm d (rf main_v15)
    = shapeCast S8x512x512 (pastedAt 1 (tkN (m ((d.tc : Thread nD τ).loc main_arg6))) (lN (m ((d.tc : Thread nD τ).loc main_arg7))) (lN (m ((d.tc : Thread nD τ).loc main_arg8)))
        (shapeCast S4096x512 (m ((d.tc : Thread nD τ).loc main_arg4)) shapeCasts_S8x512x512_S4096x512)
        (shapeCast S4096x512 (m ((d.tc : Thread nD τ).loc main_arg5)) shapeCasts_S8x512x512_S4096x512)) shapeCasts_S4096x512_S8x512x512 := by
  rw [vC_v15]
  unfold gC
  rw [ins_oc, ins_ac]
  unfold tkZ dN sN
  rw [show (insOf m hm d).tk = _ from vA_v0 m d, show (insOf m hm d).dv = _ from vA_v1 m d, show (insOf m hm d).sv = _ from vA_v2 m d]

end Kernel

end Cert.Proof.Ref
end
-- ==== Proof.StatsOrder.lean ====
module

public import Idealize.ShloMosaic.Lib.SortPrefix
public import Mathlib.Data.Fintype.Card
public import Mathlib.Order.Interval.Finset.Fin

@[expose] public section

/-! # Sorting by counting: the place of a position is the number of positions before it -/

namespace Cert.Proof.Order

open Idealize.ShloMosaic

variable {n : Nat} {B : Fin n → Fin n → Bool}

/-- How many positions are before `p`. -/
def rank (B : Fin n → Fin n → Bool) (p : Fin n) : Nat := (Finset.univ.filter fun q => B q p = true).card

/-- The sort's places are in order. -/
theorem before_iff (hB : StrictTotalBefore B) (i j : Fin n) : B (sortedFrom B i) (sortedFrom B j) = true ↔ i < j := by
  have no : ∀ i j : Fin n, i < j → B (sortedFrom B j) (sortedFrom B i) = false := fun i j h =>
    sortedFrom_noInversion B B (fun a b => hB.asymm a b) (fun _ _ h => h) hB.negTrans i j h
  constructor
  · intro h
    rcases lt_trichotomy i j with h' | h' | h'
    · exact h'
    · subst h'; rw [hB.irrefl] at h; exact absurd h (by decide)
    · rw [no j i h'] at h; exact absurd h (by decide)
  · intro h
    rcases hB.total _ _ (fun e => absurd (sortedFrom_injective B e) (ne_of_lt h)) with h' | h'
    · exact h'
    · rw [no i j h] at h'; exact absurd h' (by decide)

/-- Before the entry at place `j` there are `j` positions. -/
theorem rank_sortedFrom (hB : StrictTotalBefore B) (j : Fin n) : rank B (sortedFrom B j) = j.val := by
  have e : (Finset.univ.filter fun q => B q (sortedFrom B j) = true) = (Finset.Iio j).image (sortedFrom B) := by
    ext q
    obtain ⟨i, rfl⟩ := sortedFrom_surjective B q
    simp only [Finset.mem_filter, Finset.mem_univ, true_and, Finset.mem_image, Finset.mem_Iio]
    rw [before_iff hB]
    exact ⟨fun h => ⟨i, h, rfl⟩, fun ⟨k, hk, e⟩ => sortedFrom_injective B e ▸ hk⟩
  unfold rank
  rw [e, Finset.card_image_of_injective _ (sortedFrom_injective B), Fin.card_Iio]

/-- So the entry at place `j` is the position that has `j` before it. -/
theorem rank_eq_iff (hB : StrictTotalBefore B) (p j : Fin n) : rank B p = j.val ↔ p = sortedFrom B j := by
  obtain ⟨i, rfl⟩ := sortedFrom_surjective B p
  rw [rank_sortedFrom hB, Fin.val_inj]
  exact ⟨fun h => h ▸ rfl, fun h => sortedFrom_injective B h⟩

theorem stableSort_tie (lt tie : Fin n → Fin n → Bool) (l : List (Fin n)) (hl : l.Pairwise (· < ·)) :
    stableSort lt l = stableSort (fun a b => lt a b || (tie a b && decide (a < b))) l := by
  induction l with
  | nil => rfl
  | cons a l ih =>
    rw [List.pairwise_cons] at hl
    show insertBefore _ a (stableSort _ l) = insertBefore _ a (stableSort _ l)
    rw [← ih hl.2]
    refine insertBefore_congr _ _ a _ fun b hb => ?_
    have h := hl.1 b ((perm_stableSort lt l).mem_iff.mp hb)
    rw [decide_eq_false (not_lt.mpr h.le), Bool.and_false, Bool.or_false]

/-- A stable sort breaks ties by the position. -/
theorem sortedFrom_tie (lt tie : Fin n → Fin n → Bool) :
    sortedFrom lt = sortedFrom (fun a b => lt a b || (tie a b && decide (a < b))) := by
  funext k
  have e : sortPositions n lt = sortPositions n (fun a b => lt a b || (tie a b && decide (a < b))) :=
    stableSort_tie lt tie _ (List.pairwise_lt_finRange n)
  unfold sortedFrom
  simp only [List.get_eq_getElem, e, Fin.val_cast]

end Cert.Proof.Order
end
-- ==== Proof.StatsSpec.lean ====
module

public import proofs.«01_k».proof.Proof.StatsOrder
public import Idealize.ShloMosaic.Lib.IndicatorCount
public import Idealize.ShloMosaic.Lib.IdealHost

@[expose] public section

noncomputable section

/-! # What the statistics of one image are -/

namespace Cert.Proof.Stats

open Idealize.ShloMosaic

/-- The indicator of class `k`. -/
def hotS (L : Fin 512 → Fin 512 → BitVec 32) (k : Fin 4) (i j : Fin 512) : EReal := if L i j = BitVec.ofNat 32 k.val then 1 else 0
/-- The logit less the greatest of its place, exponentiated. -/
def expS (P : Fin 4 → Fin 512 → Fin 512 → EReal) (k : Fin 4) (i j : Fin 512) : EReal :=
  Ideal.exp (P k i j - Finset.univ.fold max (Ideal.ofBits .f32 0xFF800000#32) fun x => P x i j)
/-- Their sum over the classes. -/
def totS (P : Fin 4 → Fin 512 → Fin 512 → EReal) (i j : Fin 512) : EReal := ∑ k, expS P k i j
/-- The softmax. -/
def softS (P : Fin 4 → Fin 512 → Fin 512 → EReal) (k : Fin 4) (i j : Fin 512) : EReal := Ideal.div (expS P k i j) (totS P i j)
/-- The dice coefficient of class `k`. -/
def diceS (Q T : Fin 4 → Fin 512 → Fin 512 → EReal) (k : Fin 4) : EReal :=
  Ideal.div (Ideal.ofBits .f32 0x40000000#32 * ∑ i, ∑ j, Q k i j * T k i j) (∑ i, ∑ j, (Q k i j + T k i j) + Ideal.ofBits .f32 0x3727C5AC#32)
/-- The loss. -/
def lossS (D : Fin 4 → EReal) : EReal := 1 - Ideal.div (∑ k, D k) (Ideal.ofBits .f32 0x40800000#32)
/-- Whether it is below one. -/
def maskS (s : EReal) : BitVec 1 := Ideal.cmp .olt s 1
/-- How many entries to take. -/
def countS (s : EReal) : BitVec 32 :=
  let w : EReal := Ideal.ofBits .f32 0x41800000#32 * (Ideal.ofBits .f32 0x3F800000#32 - Ideal.div s (Ideal.ofBits .f32 0x3F800054#32))
  let t : EReal := Scalar.select (Ideal.cmp .olt w (Ideal.ofBits .f32 0x00000000#32)) (Ideal.liftRound Int.ceil w) (Ideal.liftRound Int.floor w)
  Ideal.fptosi 32 (min (Ideal.ofBits .f32 0x41800000#32) (max t (-t)))
/-- The sum of patch `p`. -/
def psumS (X : Fin 512 → Fin 512 → EReal) (p : Fin 256) : EReal :=
  ∑ u : Fin 32, ∑ v : Fin 32, X ⟨p.val / 16 * 32 + u.val, by omega⟩ ⟨p.val % 16 * 32 + v.val, by omega⟩

/-- One key against another, downwards when `d` is one. -/
def ltS (d : BitVec 1) (a b : EReal) : Bool := if d = 1#1 then decide (b < a) else decide (a < b)
/-- The keys' order, ties by the position. -/
def befS (d : BitVec 1) (key : Fin 256 → EReal) (q p : Fin 256) : Bool := ltS d (key q) (key p) || (decide (key q = key p) && decide (q < p))

theorem befS_total (d : BitVec 1) (key : Fin 256 → EReal) : StrictTotalBefore (befS d key) := by
  unfold befS
  apply StrictTotalBefore.of_key_then_position (ltS d) key
  · intro a; unfold ltS; split <;> simp
  · intro a b c; unfold ltS; split <;> simp only [decide_eq_true_eq] <;> intro h h'
    · exact lt_trans h' h
    · exact lt_trans h h'
  · intro a b; unfold ltS; split <;> simp only [decide_eq_true_eq]
    · rcases lt_trichotomy a b with h | h | h
      · exact Or.inr (Or.inr h)
      · exact Or.inr (Or.inl h)
      · exact Or.inl h
    · exact lt_trichotomy a b

/-- The place-`j` entry of the list. -/
def listS (d : BitVec 1) (key : Fin 256 → EReal) (j : Fin 16) : BitVec 32 :=
  BitVec.ofNat 32 (sortedFrom (befS d key) ⟨j.val, by omega⟩).val

/-- A word sum with one term. -/
theorem fold_one {ι : Type} [DecidableEq ι] (S : Finset ι) (f : ι → BitVec 32) (a : ι) (ha : a ∈ S) (h : ∀ x ∈ S, x ≠ a → f x = 0#32) :
    S.fold IntOp.addi 0#32 f = f a := by
  have z : ∀ T : Finset ι, (∀ x ∈ T, f x = 0#32) → T.fold IntOp.addi 0#32 f = 0#32 := by
    intro T
    induction T using Finset.induction_on with
    | empty => intro _; rfl
    | insert b T hb ih =>
      intro hT
      rw [Finset.fold_insert hb, ih fun x hx => hT x (Finset.mem_insert_of_mem hx), hT b (Finset.mem_insert_self _ _)]; rfl
  rw [← Finset.insert_erase ha, Finset.fold_insert (Finset.notMem_erase _ _), z _ fun x hx => h x (Finset.mem_of_mem_erase hx) (Finset.ne_of_mem_erase hx)]
  exact BitVec.add_zero _

theorem rank_lt (d : BitVec 1) (key : Fin 256 → EReal) (p : Fin 256) : Order.rank (befS d key) p < 256 := by
  obtain ⟨i, rfl⟩ := sortedFrom_surjective (befS d key) p
  rw [Order.rank_sortedFrom (befS_total d key)]; exact i.isLt

/-- The positions whose rank is `j`, summed. -/
theorem pick_eq (d : BitVec 1) (key : Fin 256 → EReal) (j : Fin 16) :
    (Finset.univ.fold IntOp.addi 0#32 fun x : Fin 256 =>
      Scalar.select (IntOp.cmpi .eq (BitVec.ofNat 32 (Order.rank (befS d key) x)) (BitVec.ofNat 32 j.val)) (BitVec.ofNat 32 x.val) 0#32) = listS d key j := by
  have hc : ∀ x : Fin 256, IntOp.cmpi .eq (BitVec.ofNat 32 (Order.rank (befS d key) x)) (BitVec.ofNat 32 j.val)
      = BitVec.ofBool (decide (x = sortedFrom (befS d key) ⟨j.val, by omega⟩)) := by
    intro x
    show BitVec.ofBool (BitVec.ofNat 32 _ == BitVec.ofNat 32 _) = _
    congr 1
    rw [Bool.eq_iff_iff, beq_iff_eq, decide_eq_true_eq, ← Order.rank_eq_iff (befS_total d key)]
    have := rank_lt d key x
    constructor
    · intro h
      have := congrArg BitVec.toNat h
      rw [BitVec.toNat_ofNat, BitVec.toNat_ofNat] at this
      show _ = j.val
      omega
    · intro h; rw [h]
  rw [fold_one _ _ (sortedFrom (befS d key) ⟨j.val, by omega⟩) (Finset.mem_univ _)]
  · rw [hc, decide_eq_true rfl]; rfl
  · intro x _ hx
    rw [hc, decide_eq_false hx]; rfl

theorem ofBits_1024 : Ideal.ofBits .f32 0x44800000#32 = ((1024 : ℝ) : EReal) := by
  simp [Ideal.ofBits, Ideal.ieee, -EReal.coe_mul]; norm_num

/-- Dividing by 1024 keeps the order. -/
theorem div_lt_iff (a b : EReal) : Ideal.div a (Ideal.ofBits .f32 0x44800000#32) < Ideal.div b (Ideal.ofBits .f32 0x44800000#32) ↔ a < b := by
  rw [ofBits_1024]
  have h : ((1024 : ℝ) : EReal) ≠ 0 := by
    rw [Ne, EReal.coe_eq_zero]; norm_num
  unfold Ideal.div
  rw [if_neg h, if_neg h]
  exact (EReal.strictMono_div_right_of_pos (EReal.coe_pos.mpr (by norm_num)) (EReal.coe_ne_top _)).lt_iff_lt

/-- The list, sorted by the mean upwards. -/
theorem list_up (key : Fin 256 → EReal) (j : Fin 16) : BitVec.ofNat 32 (sortedFrom (fun q p => decide (Ideal.div (key q) (Ideal.ofBits .f32 0x44800000#32) < Ideal.div (key p) (Ideal.ofBits .f32 0x44800000#32))) ⟨j.val, by omega⟩ : Fin 256).val = listS 0#1 key j := by
  rw [Order.sortedFrom_tie _ fun q p => decide (key q = key p)]
  simp only [div_lt_iff]
  rfl

/-- The list, sorted by the mean downwards. -/
theorem list_down (key : Fin 256 → EReal) (j : Fin 16) : BitVec.ofNat 32 (sortedFrom (fun q p => decide (-Ideal.div (key q) (Ideal.ofBits .f32 0x44800000#32) < -Ideal.div (key p) (Ideal.ofBits .f32 0x44800000#32))) ⟨j.val, by omega⟩ : Fin 256).val = listS 1#1 key j := by
  rw [Order.sortedFrom_tie _ fun q p => decide (key q = key p)]
  simp only [EReal.neg_lt_neg_iff, div_lt_iff]
  rfl

/-- With finite logits the softmax's divisor is not zero. -/
theorem totS_ne_zero (P : Fin 4 → Fin 512 → Fin 512 → EReal) (hP : ∀ k i j, P k i j ≠ ⊤ ∧ P k i j ≠ ⊥) (i j : Fin 512) : totS P i j ≠ 0 := by
  have nn : ∀ x : EReal, 0 ≤ Ideal.exp x := by
    intro x
    induction x with
    | bot => exact le_refl _
    | top => exact le_top
    | coe r => exact EReal.coe_nonneg.mpr (Real.exp_pos r).le
  have pos : ∀ x : EReal, x ≠ ⊥ → 0 < Ideal.exp x := by
    intro x hx
    induction x with
    | bot => exact absurd rfl hx
    | top => exact EReal.zero_lt_top
    | coe r => exact EReal.coe_pos.mpr (Real.exp_pos r)
  have h0 : 0 < expS P 0 i j := by
    apply pos
    have hm : (Finset.univ.fold max (Ideal.ofBits .f32 0xFF800000#32) fun x => P x i j) < ⊤ := by
      rw [Finset.fold_max_lt]
      refine ⟨?_, fun x _ => lt_top_iff_ne_top.mpr (hP x i j).1⟩
      simp [Ideal.ofBits, Ideal.ieee]
    rw [sub_eq_add_neg, Ne, EReal.add_eq_bot_iff, EReal.neg_eq_bot_iff]
    rintro (h | h)
    · exact (hP 0 i j).2 h
    · exact (ne_of_lt hm) h
  have h1 : expS P 0 i j ≤ totS P i j := Finset.single_le_sum (f := fun k => expS P k i j) (fun k _ => nn _) (Finset.mem_univ (0 : Fin 4))
  exact (lt_of_lt_of_le h0 h1).ne'

end Cert.Proof.Stats
end
end
-- ==== Proof.StatsKer.lean ====
module

public import proofs.«01_k».proof.Proof.Gen.StatsIdeal.Frame
public import Idealize.ShloMosaic.Lib.Pointwise
public import proofs.«01_k».proof.Proof.StatsSpec

@[expose] public section

noncomputable section

/-! # What the call leaves for one image -/

namespace Cert.Proof.StatsKer

open Idealize.ShloMosaic Idealize.ShloMosaic.TcCoe Cert.StatsIdeal Cert.StatsIdeal.Gen Cert.Proof.Stats

/-- The logits of the block's image. -/
def blkP (P : Vec Ideal S1x4x512x512 .f32) (k : Fin 4) (i j : Fin 512) : EReal := P (ix4 0 k i j)
/-- A plane of the block. -/
def blkX (X : Vec Ideal S1x512x512 .f32) (i j : Fin 512) : EReal := X (ix3 0 i j)
/-- The labels of the block. -/
def blkL (L : Vec Ideal S1x512x512 .i32) (i j : Fin 512) : BitVec 32 := L (ix3 0 i j)

/-- A flag as a number. -/
theorem num_eq (b : BitVec 1) : (FloatOps.sitofp (F := Ideal) .f32 (BitVec.setWidth 32 b) : EReal) = if b = 1#1 then 1 else 0 := by
  show (((BitVec.setWidth 32 b).toInt : ℝ) : EReal) = _
  have h : ∀ b : BitVec 1, (BitVec.setWidth 32 b).toInt = if b = 1#1 then 1 else 0 := by decide
  rw [h]; split <;> simp

theorem eq_one (x y : BitVec 32) : (IntOp.cmpi .eq x y = 1#1) ↔ x = y := by
  show BitVec.ofBool (x == y) = 1#1 ↔ _
  rw [← beq_iff_eq (a := x) (b := y)]
  cases x == y <;> decide

theorem hot_eq (x y : BitVec 32) : (FloatOps.sitofp (F := Ideal) .f32 (BitVec.setWidth 32 (IntOp.cmpi .eq x y)) : EReal) = if x = y then 1 else 0 := by
  rw [num_eq]; simp only [eq_one]

/-! ### The loss -/

theorem pay7_at (P : Vec Ideal S1x4x512x512 .f32) (k : Fin 4) (i j : Fin 512) : k0_pay7 P (ix3 k i j) = expS (blkP P) k i j := by
  unfold k0_pay7 expS blkP; pointwise

theorem pay8_at (P : Vec Ideal S1x4x512x512 .f32) (i j : Fin 512) : k0_pay8 P (ix2 i j) = Ideal.div 1 (totS (blkP P) i j) := by
  have e : k0_pay8 P (ix2 i j) = Ideal.div 1 (∑ x, k0_pay7 P (ix3 x i j)) := by
    unfold k0_pay8; pointwise
  rw [e]; simp only [pay7_at]; rfl

variable (P : Vec Ideal S1x4x512x512 .f32) (L : Vec Ideal S1x512x512 .i32) (X : Vec Ideal S1x512x512 .f32)

theorem soft_at (h : ∀ i j, totS (blkP P) i j ≠ 0) (k : Fin 4) (i j : Fin 512) :
    k0_pay7 P (ix3 k i j) * k0_pay8 P (ix2 i j) = softS (blkP P) k i j := by
  rw [pay7_at, pay8_at, Ideal.mul_one_div (h i j)]; rfl

theorem pay4_at (i j : Fin 512) : k0_pay4 (F := Ideal) L (ix2 i j) = blkL L i j := by
  unfold k0_pay4 blkL; pointwise
theorem pay5_at (i j : Fin 512) : k0_pay5 (F := Ideal) X (ix2 i j) = blkX X i j := by
  unfold k0_pay5 blkX; pointwise
theorem pay6_at (i j : Fin 512) : k0_pay6 (F := Ideal) X (ix2 i j) = blkX X i j := by
  unfold k0_pay6 blkX; pointwise

theorem pay9_at (h : ∀ i j, totS (blkP P) i j ≠ 0) (i j : Fin 512) : k0_pay9 P (ix2 i j) = softS (blkP P) 0 i j := by
  rw [← soft_at P h]; unfold k0_pay9; pointwise
theorem pay10_at (i j : Fin 512) : k0_pay10 (F := Ideal) L (ix2 i j) = hotS (blkL L) 0 i j := by
  have e : k0_pay10 (F := Ideal) L (ix2 i j) = FloatOps.sitofp (F := Ideal) .f32 (BitVec.setWidth 32 (IntOp.cmpi .eq (k0_pay4 L (ix2 i j)) 0#32)) := by
    unfold k0_pay10; pointwise
  rw [e, hot_eq, pay4_at]; rfl
theorem pay14_at (h : ∀ i j, totS (blkP P) i j ≠ 0) (i j : Fin 512) : k0_pay14 (k0_pay7 P) (k0_pay8 P) (ix2 i j) = softS (blkP P) 2 i j := by
  rw [← soft_at P h]; unfold k0_pay14; pointwise
theorem pay15_at (i j : Fin 512) : (k0_pay15 (F := Ideal) (k0_pay4 (F := Ideal) L) (ix2 i j) : EReal) = hotS (blkL L) 2 i j := by
  have e : (k0_pay15 (F := Ideal) (k0_pay4 (F := Ideal) L) (ix2 i j) : EReal) = FloatOps.sitofp (F := Ideal) .f32 (BitVec.setWidth 32 (IntOp.cmpi .eq (k0_pay4 (F := Ideal) L (ix2 i j)) 2#32)) := by
    unfold k0_pay15; pointwise
  rw [e, hot_eq, pay4_at]; rfl

/-- The sum of two planes. -/
theorem sum_two (f g : Fin 512 → Fin 512 → EReal) : ∑ i, ∑ j, f i j + ∑ i, ∑ j, g i j = ∑ i, ∑ j, (f i j + g i j) := by
  simp only [Finset.sum_add_distrib]

/-- The loss, of the block. -/
def loss : EReal := lossS (diceS (softS (blkP P)) (hotS (blkL L)))

theorem pay11_at (h : ∀ i j, totS (blkP P) i j ≠ 0) :
    (k0_pay11 P L : EReal) = ∑ i, ∑ j, (softS (blkP P) 0 i j + hotS (blkL L) 0 i j) := by
  have e : (k0_pay11 P L : EReal) = ∑ x, ∑ y, k0_pay9 P (ix2 x y) + ∑ x, ∑ y, k0_pay10 L (ix2 x y) := by
    unfold k0_pay11; pointwise
  rw [e, sum_two]; simp only [pay9_at P h, pay10_at]
theorem pay12_at (h : ∀ i j, totS (blkP P) i j ≠ 0) :
    (k0_pay12 P L : EReal) = Ideal.ofBits .f32 0x40000000#32 * ∑ i, ∑ j, softS (blkP P) 0 i j * hotS (blkL L) 0 i j := by
  have e : (k0_pay12 P L : EReal) = Ideal.ofBits .f32 0x40000000#32 * ∑ x, ∑ y, k0_pay9 P (ix2 x y) * k0_pay10 L (ix2 x y) := by
    unfold k0_pay12; pointwise
  rw [e]; simp only [pay9_at P h, pay10_at]
theorem pay16_at (h : ∀ i j, totS (blkP P) i j ≠ 0) :
    (k0_pay16 (F := Ideal) (k0_pay4 (F := Ideal) L) (k0_pay7 P) (k0_pay8 P) : EReal) = ∑ i, ∑ j, softS (blkP P) 2 i j * hotS (blkL L) 2 i j := by
  have e : (k0_pay16 (F := Ideal) (k0_pay4 (F := Ideal) L) (k0_pay7 P) (k0_pay8 P) : EReal) = ∑ x, ∑ y, k0_pay14 (k0_pay7 P) (k0_pay8 P) (ix2 x y) * k0_pay15 (F := Ideal) (k0_pay4 (F := Ideal) L) (ix2 x y) := by
    unfold k0_pay16; pointwise
  rw [e]; simp only [pay14_at P h, pay15_at]
theorem pay17_at (h : ∀ i j, totS (blkP P) i j ≠ 0) :
    (k0_pay17 (F := Ideal) (k0_pay7 P) (k0_pay8 P) : EReal) = ∑ i, ∑ j, softS (blkP P) 2 i j := by
  have e : (k0_pay17 (F := Ideal) (k0_pay7 P) (k0_pay8 P) : EReal) = ∑ x, ∑ y, k0_pay14 (k0_pay7 P) (k0_pay8 P) (ix2 x y) := by
    unfold k0_pay17; pointwise
  rw [e]; simp only [pay14_at P h]
theorem pay18_at :
    (k0_pay18 (F := Ideal) (k0_pay4 (F := Ideal) L) : EReal) = ∑ i, ∑ j, hotS (blkL L) 2 i j := by
  have e : (k0_pay18 (F := Ideal) (k0_pay4 (F := Ideal) L) : EReal) = ∑ x, ∑ y, k0_pay15 (F := Ideal) (k0_pay4 (F := Ideal) L) (ix2 x y) := by
    unfold k0_pay18; pointwise
  rw [e]; simp only [pay15_at]

/-- The dice of the first class. -/
theorem pay13_at (h : ∀ i j, totS (blkP P) i j ≠ 0) :
    (k0_pay13 (F := Ideal) (k0_pay4 (F := Ideal) L) (k0_pay7 P) (k0_pay8 P) (k0_pay11 P L) (k0_pay12 P L) : EReal)
      = diceS (softS (blkP P)) (hotS (blkL L)) 0 + diceS (softS (blkP P)) (hotS (blkL L)) 1 := by
  have e : ∀ a b : EReal, (k0_pay13 (F := Ideal) (k0_pay4 (F := Ideal) L) (k0_pay7 P) (k0_pay8 P) a b : EReal)
      = Ideal.div b (a + Ideal.ofBits .f32 0x3727C5AC#32) +
        Ideal.div (Ideal.ofBits .f32 0x40000000#32 * ∑ x, ∑ y, k0_pay7 P (ix3 1 x y) * k0_pay8 P (ix2 x y) * FloatOps.sitofp (F := Ideal) .f32 (BitVec.setWidth 32 (IntOp.cmpi .eq (k0_pay4 (F := Ideal) L (ix2 x y)) 1#32)))
          (∑ x, ∑ y, k0_pay7 P (ix3 1 x y) * k0_pay8 P (ix2 x y) + ∑ x, ∑ y, FloatOps.sitofp (F := Ideal) .f32 (BitVec.setWidth 32 (IntOp.cmpi .eq (k0_pay4 (F := Ideal) L (ix2 x y)) 1#32)) + Ideal.ofBits .f32 0x3727C5AC#32) := by
    intro a b
    unfold k0_pay13; pointwise
  rw [e, pay11_at P L h, pay12_at P L h, sum_two]
  simp only [soft_at P h, hot_eq, pay4_at]
  rfl

/-- The loss: the four coefficients' mean from one. -/
theorem pay19_at (h : ∀ i j, totS (blkP P) i j ≠ 0) :
    (k0_pay19 (F := Ideal) (k0_pay4 (F := Ideal) L) (k0_pay7 P) (k0_pay8 P)
      (k0_pay13 (F := Ideal) (k0_pay4 (F := Ideal) L) (k0_pay7 P) (k0_pay8 P) (k0_pay11 P L) (k0_pay12 P L))
      (k0_pay16 (F := Ideal) (k0_pay4 (F := Ideal) L) (k0_pay7 P) (k0_pay8 P)) (k0_pay17 (F := Ideal) (k0_pay7 P) (k0_pay8 P)) (k0_pay18 (F := Ideal) (k0_pay4 (F := Ideal) L)) : EReal)
      = loss P L := by
  have e : ∀ v65 v77 v81 v85 : EReal, (k0_pay19 (F := Ideal) (k0_pay4 (F := Ideal) L) (k0_pay7 P) (k0_pay8 P) v65 v77 v81 v85 : EReal)
      = 1 - Ideal.div (v65 + Ideal.div (Ideal.ofBits .f32 0x40000000#32 * v77) (v81 + v85 + Ideal.ofBits .f32 0x3727C5AC#32) +
        Ideal.div (Ideal.ofBits .f32 0x40000000#32 * ∑ x, ∑ y, k0_pay7 P (ix3 3 x y) * k0_pay8 P (ix2 x y) * FloatOps.sitofp (F := Ideal) .f32 (BitVec.setWidth 32 (IntOp.cmpi .eq (k0_pay4 (F := Ideal) L (ix2 x y)) 3#32)))
          (∑ x, ∑ y, k0_pay7 P (ix3 3 x y) * k0_pay8 P (ix2 x y) + ∑ x, ∑ y, FloatOps.sitofp (F := Ideal) .f32 (BitVec.setWidth 32 (IntOp.cmpi .eq (k0_pay4 (F := Ideal) L (ix2 x y)) 3#32)) + Ideal.ofBits .f32 0x3727C5AC#32)) (Ideal.ofBits .f32 0x40800000#32) := by
    intro v65 v77 v81 v85
    unfold k0_pay19; pointwise
  rw [e, pay13_at P L h, pay16_at P L h, pay17_at P h, pay18_at, sum_two, sum_two]
  simp only [soft_at P h, hot_eq, pay4_at]
  unfold loss lossS
  rw [Fin.sum_univ_four]
  rfl

/-- How many entries. -/
theorem pay20_at (v3 v12 v15) (a b c d : EReal) (s : EReal) (hs : (k0_pay19 (F := Ideal) v3 v12 v15 a b c d : EReal) = s) :
    (Scalar.fptosi 32 (k0_pay20 (F := Ideal) v3 v12 v15 a b c d) : BitVec 32) = countS s := by
  subst hs
  unfold k0_pay20 countS
  rfl

/-! ### The patch sums -/

/-- A sum over the places of a plane's side that lie in block `r`. -/
theorem sum_block (r : ℕ) (hr : r < 16) (f : Fin 512 → EReal) :
    (∑ y : Fin 512, if y.val / 32 = r then f y else 0) = ∑ u : Fin 32, f ⟨r * 32 + u.val, by omega⟩ := by
  rw [← Finset.sum_filter]
  refine Finset.sum_filter_eq_sum_of_fiber _ (fun u : Fin 32 => (⟨r * 32 + u.val, by omega⟩ : Fin 512)) ?_ ?_ f
  · intro u v huv
    have := congrArg Fin.val huv
    apply Fin.ext
    simp only at this
    omega
  · intro y
    constructor
    · intro hy
      refine ⟨⟨y.val % 32, Nat.mod_lt _ (by norm_num)⟩, Fin.ext ?_⟩
      show r * 32 + y.val % 32 = y.val
      omega
    · rintro ⟨u, rfl⟩
      show (r * 32 + u.val) / 32 = r
      omega

/-- Both selections of a patch. -/
theorem sel_sum (f : Fin 512 → Fin 512 → EReal) (p : Fin 256) :
    (∑ x : Fin 512, (∑ y : Fin 512, (if y.val / 32 = p.val / 16 then 1 else 0) * f y x) * (if x.val / 32 = p.val % 16 then 1 else 0)) = psumS f p := by
  simp only [ite_mul, one_mul, zero_mul, mul_ite, mul_one, mul_zero]
  rw [sum_block _ (by omega)]
  simp only [sum_block (p.val / 16) (by omega)]
  unfold psumS
  exact Finset.sum_comm

/-- The rows' selection, as the call writes it. -/
def rows : FVec Ideal S256x512 .f32 :=
  k0_pay24 (F := Ideal) k0_pay21 (k0_pay22 (iota .tc S256x512 32 [0] iota_S256x512_d0_w32)) (k0_pay23 (iota .tc S256x512 32 [0] iota_S256x512_d0_w32)) 1#32
/-- The columns' selection. -/
def cols : IVec S256x512 1 := k0_pay25 (iota .tc S256x512 32 [0] iota_S256x512_d0_w32) (iota .tc S256x512 32 [1] iota_S256x512_d1_w32)

/-- A quotient rounded down, as the call writes it. -/
def quo (d : BitVec 32) (n : ℕ) : BitVec 32 :=
  Scalar.select
    (IntOp.andi
      (IntOp.cmpi .ne
        (IntOp.subi (BitVec.setWidth 32 (IntOp.cmpi .sgt (BitVec.ofNat 32 n) 0#32)) (BitVec.setWidth 32 (IntOp.cmpi .slt (BitVec.ofNat 32 n) 0#32)))
        (Scalar.subi (Scalar.extui (Scalar.cmpi .sgt d 0#32)) (Scalar.extui (Scalar.cmpi .slt d 0#32))))
      (IntOp.cmpi .ne (IntOp.remsi .vector (BitVec.ofNat 32 n) d) 0#32))
    (IntOp.subi (IntOp.divsi .vector (BitVec.ofNat 32 n) d) 1#32)
    (IntOp.divsi .vector (BitVec.ofNat 32 n) d)
/-- A remainder likewise. -/
def rem16 (n : ℕ) : BitVec 32 :=
  let d : BitVec 32 := Scalar.select (Scalar.cmpi .eq 16#32 0#32) 1#32 16#32
  Scalar.select
    (IntOp.andi (IntOp.xori (IntOp.cmpi .slt (IntOp.remsi .vector (BitVec.ofNat 32 n) d) 0#32) (Scalar.cmpi .slt d 0#32))
      (IntOp.cmpi .ne (IntOp.remsi .vector (BitVec.ofNat 32 n) d) 0#32))
    (IntOp.addi (IntOp.remsi .vector (BitVec.ofNat 32 n) d) d)
    (IntOp.remsi .vector (BitVec.ofNat 32 n) d)
theorem quo32 (j : Fin 512) : quo 32#32 j.val = BitVec.ofNat 32 (j.val / 32) := by
  revert j; decide +kernel
theorem quo16 (i : Fin 256) : quo 16#32 i.val = BitVec.ofNat 32 (i.val / 16) := by
  revert i; decide +kernel
theorem rem16_eq (i : Fin 256) : rem16 i.val = BitVec.ofNat 32 (i.val % 16) := by
  revert i; decide +kernel
theorem small_inj {a b : ℕ} (ha : a < 256) (hb : b < 256) : (BitVec.ofNat 32 a = BitVec.ofNat 32 b) ↔ a = b := by
  constructor
  · intro h
    have := congrArg BitVec.toNat h
    rw [BitVec.toNat_ofNat, BitVec.toNat_ofNat] at this
    omega
  · rintro rfl; rfl

theorem rows_at (i : Fin 256) (j : Fin 512) : (rows (ix2 i j) : EReal) = if j.val / 32 = i.val / 16 then 1 else 0 := by
  have e : (rows (ix2 i j) : EReal) = FloatOps.sitofp (F := Ideal) .f32 (BitVec.setWidth 32 (IntOp.cmpi .eq (quo 32#32 j.val) (quo 16#32 i.val))) := by
    unfold rows k0_pay24 k0_pay21 k0_pay22 k0_pay23 quo
    pointwise
  rw [e, hot_eq, quo32, quo16]
  have := small_inj (a := j.val / 32) (b := i.val / 16) (by omega) (by omega)
  simp only [this]
theorem cols_at (i : Fin 256) (j : Fin 512) : (cols (ix2 i j) = 1#1) ↔ j.val / 32 = i.val % 16 := by
  have e : cols (ix2 i j) = IntOp.cmpi .eq (quo 32#32 j.val) (rem16 i.val) := by
    unfold cols k0_pay25 quo rem16
    pointwise
  rw [e, eq_one, quo32, rem16_eq, small_inj (by omega) (by omega)]
theorem pay26_at (i : Fin 256) (j : Fin 512) : (k0_pay26 (F := Ideal) cols (ix2 i j) : EReal) = if j.val / 32 = i.val % 16 then 1 else 0 := by
  have e : (k0_pay26 (F := Ideal) cols (ix2 i j) : EReal) = FloatOps.sitofp (F := Ideal) .f32 (BitVec.setWidth 32 (cols (ix2 i j))) := by
    unfold k0_pay26; pointwise
  rw [e, num_eq]; simp only [cols_at]
theorem nat_inj (i j : Fin 256) : (BitVec.ofNat 32 i.val = BitVec.ofNat 32 j.val) ↔ i = j := by
  rw [small_inj i.isLt j.isLt, Fin.ext_iff]
theorem pay28_at (i j : Fin 256) : (k0_pay28 (F := Ideal) (ix2 i j) : EReal) = if i = j then 1 else 0 := by
  have e : (k0_pay28 (F := Ideal) (ix2 i j) : EReal) = FloatOps.sitofp (F := Ideal) .f32 (BitVec.setWidth 32 (IntOp.cmpi .eq (BitVec.ofNat 32 i.val) (BitVec.ofNat 32 j.val))) := by
    unfold k0_pay28; pointwise
  rw [e, hot_eq]; simp only [nat_inj]

/-- A plane without the leading axis. -/
def pl (v : FVec Ideal S512x512 .f32) (i j : Fin 512) : EReal := v (ix2 i j)

theorem key_at (v : FVec Ideal S512x512 .f32) (i : Fin 256) :
    (∑ x : Fin 512, (∑ y : Fin 512, (rows (ix2 i y) : EReal) * v (ix2 y x)) * k0_pay26 (F := Ideal) cols (ix2 i x)) = psumS (pl v) i := by
  rw [← sel_sum]; simp only [rows_at, pay26_at]; rfl
theorem eye_sum (f : Fin 256 → EReal) (i : Fin 256) : (∑ x : Fin 256, f x * k0_pay28 (F := Ideal) (ix2 x i)) = f i := by
  simp only [pay28_at, mul_ite, mul_one, mul_zero]
  rw [Finset.sum_ite_eq' Finset.univ i]
  simp

theorem pay27_at (v : FVec Ideal S512x512 .f32) (i : Fin 256) : (k0_pay27 (F := Ideal) v rows cols (ix2 i 0) : EReal) = psumS (pl v) i := by
  rw [← key_at]; unfold k0_pay27; pointwise
theorem pay30_at (v : FVec Ideal S512x512 .f32) (i : Fin 256) : (k0_pay30 (F := Ideal) v rows cols (ix2 0 i) : EReal) = psumS (pl v) i := by
  have e : (k0_pay30 (F := Ideal) v rows cols (ix2 0 i) : EReal) = ∑ x : Fin 256, (k0_pay27 (F := Ideal) v rows cols (ix2 x 0) : EReal) * k0_pay28 (F := Ideal) (ix2 x i) := by
    unfold k0_pay30; pointwise
  rw [e, eye_sum fun x => (k0_pay27 (F := Ideal) v rows cols (ix2 x 0) : EReal), pay27_at]

theorem toInt_small (q : Fin 256) : (BitVec.ofNat 32 q.val).toInt = (q.val : Int) := by
  revert q; decide +kernel

/-- One entry of the order, as the call writes it. -/
theorem bit_eq (d : BitVec 1) (key : Fin 256 → EReal) (q p : Fin 256) :
    IntOp.ori (IntOp.ori (IntOp.andi d (BitVec.ofBool (decide (key p < key q)))) (IntOp.andi (Scalar.xori d 1#1) (BitVec.ofBool (decide (key q < key p)))))
      (IntOp.andi (BitVec.ofBool (decide (key q = key p))) (IntOp.cmpi .slt (BitVec.ofNat 32 q.val) (BitVec.ofNat 32 p.val)))
    = BitVec.ofBool (befS d key q p) := by
  have hs : IntOp.cmpi .slt (BitVec.ofNat 32 q.val) (BitVec.ofNat 32 p.val) = BitVec.ofBool (decide (q < p)) := by
    show BitVec.ofBool (BitVec.slt _ _) = _
    congr 1
    rw [BitVec.slt_eq_decide, toInt_small, toInt_small]
    simp
  rw [hs]
  unfold befS ltS
  have hd : d = 0#1 ∨ d = 1#1 := by revert d; decide
  generalize decide (key p < key q) = a
  generalize decide (key q < key p) = b
  generalize decide (key q = key p) = c
  generalize decide (q < p) = e
  rcases hd with rfl | rfl <;> revert a b c e <;> decide

theorem count_eq (d : BitVec 1) (key : Fin 256 → EReal) (p : Fin 256) :
    (Finset.univ.fold IntOp.addi 0#32 fun q : Fin 256 => BitVec.setWidth 32 (BitVec.ofBool (befS d key q p))) = BitVec.ofNat 32 (Order.rank (befS d key) p) := by
  rw [IndicatorCount.fold_addi_setWidth_eq_card (fun q => BitVec.ofBool (befS d key q p))]
  unfold Order.rank
  congr 3
  funext q
  cases befS d key q p <;> decide

theorem pay29_at (v : FVec Ideal S512x512 .f32) (d : BitVec 1) (p : Fin 256) :
    k0_pay29 (F := Ideal) v d rows cols (ix2 p 0) = BitVec.ofNat 32 (Order.rank (befS d (psumS (pl v))) p) := by
  rw [← count_eq]
  unfold k0_pay29
  pointwise
  simp only [key_at, eye_sum, bit_eq]

theorem pay2_at (R : IVec S256x1 32) (j : Fin 16) : k0_pay2 R (ix3 0 0 j) =
    Finset.univ.fold IntOp.addi 0#32 fun x : Fin 256 => Scalar.select (IntOp.cmpi .eq (R (ix2 x 0)) (BitVec.ofNat 32 j.val)) (BitVec.ofNat 32 x.val) 0#32 := by
  unfold k0_pay2; pointwise

/-- The picks of the second result. -/
theorem picks5 (v : FVec Ideal S512x512 .f32) (d : BitVec 1) (j : Fin 16) :
    k0_pay2 (k0_pay29 (F := Ideal) v d rows cols) (ix3 0 0 j) = listS d (psumS (pl v)) j := by
  rw [pay2_at, ← pick_eq]; simp only [pay29_at]

/-- The picks of the third. -/
theorem picks6 (v : FVec Ideal S512x512 .f32) (d : BitVec 1) (j : Fin 16) :
    k0_pay3 (k0_pay27 v rows cols) (iota .tc S256x256 32 [0] iota_S256x256_d0_w32) (iota .tc S256x256 32 [1] iota_S256x256_d1_w32)
      (k0_pay30 v rows cols) (k0_pay31 v d rows cols) (k0_pay32 v d rows cols) (ix3 0 0 j) = listS (Scalar.xori d 1#1) (psumS (pl v)) j := by
  rw [← pick_eq]
  simp only [← count_eq]
  have e : k0_pay3 (k0_pay27 v rows cols) (iota .tc S256x256 32 [0] iota_S256x256_d0_w32) (iota .tc S256x256 32 [1] iota_S256x256_d1_w32)
      (k0_pay30 v rows cols) (k0_pay31 v d rows cols) (k0_pay32 v d rows cols) (ix3 0 0 j) =
    Finset.univ.fold IntOp.addi 0#32 fun x : Fin 256 => Scalar.select (IntOp.cmpi .eq
      (Finset.univ.fold IntOp.addi 0#32 fun q : Fin 256 => BitVec.setWidth 32 (IntOp.ori (IntOp.ori
        (IntOp.andi (Scalar.xori d 1#1) (BitVec.ofBool (decide ((k0_pay27 (F := Ideal) v rows cols (ix2 x 0) : EReal) < k0_pay30 (F := Ideal) v rows cols (ix2 0 q)))))
        (IntOp.andi (Scalar.xori (Scalar.xori d 1#1) 1#1) (BitVec.ofBool (decide ((k0_pay30 (F := Ideal) v rows cols (ix2 0 q) : EReal) < k0_pay27 (F := Ideal) v rows cols (ix2 x 0))))))
        (IntOp.andi (BitVec.ofBool (decide ((k0_pay30 (F := Ideal) v rows cols (ix2 0 q) : EReal) = k0_pay27 (F := Ideal) v rows cols (ix2 x 0))))
          (IntOp.cmpi .slt (BitVec.ofNat 32 q.val) (BitVec.ofNat 32 x.val)))))
      (BitVec.ofNat 32 j.val)) (BitVec.ofNat 32 x.val) 0#32 := by
    unfold k0_pay3 k0_pay31 k0_pay32
    pointwise
  rw [e]
  simp only [pay27_at, pay30_at, bit_eq]

end Cert.Proof.StatsKer
end
end
-- ==== Proof.StatsRef.lean ====
module

public import proofs.«01_k».proof.Proof.Gen.StatsReferenceIdeal.Run
public import Idealize.ShloMosaic.Lib.Pointwise
public import proofs.«01_k».proof.Proof.StatsSpec
public import Idealize.ShloMosaic.Lib.SortFacts

@[expose] public section

noncomputable section

/-! # The statistics' reference, read at an index -/

namespace Cert.Proof.StatsRef

open Idealize.ShloMosaic Idealize.ShloMosaic.TcCoe Cert.Proof.Stats Cert.StatsReferenceIdeal Cert.StatsReferenceIdeal.Gen Cert.StatsReferenceIdeal.Value

variable {F : FTy → Type} [FloatOps F]

def hot (L : IVec S8x512x512 32) : FVec F S8x4x512x512 .f32 :=
  transpose S8x4x512x512 [0, 3, 1, 2] (uitofp .f32 (cmpi .eq (broadcastInDim S8x512x512x4 ![0, 1, 2, 3] bcast_S8x512x512x1_S8x512x512x4_0_1_2_3 (broadcastInDim S8x512x512x1 ![0, 1, 2] bcast_S8x512x512_S8x512x512x1_0_1_2 L)) (broadcastInDim S8x512x512x4 ![0, 1, 2, 3] bcast_S1x1x1x4_S8x512x512x4_0_1_2_3 (iotaInDim S1x1x1x4 32 3))) : FVec F S8x512x512x4 .f32) transposes_S8x512x512x4_S8x4x512x512_0_3_1_2

def most (P : FVec F S8x4x512x512 .f32) : FVec F S8x512x512 .f32 :=
  Host.reduce FloatOps.maximumf P (constant S_ .f32 0xFF800000#32) reducesTo_S8x4x512x512_S8x512x512_d1 h_S_

def top (M : FVec F S8x512x512 .f32) : FVec F S8x512x512 .f32 :=
  maximumf (broadcastInDim S8x512x512 ![] bcast_S_S8x512x512 (constant S_ .f32 0xFF800000#32)) M

def spread (M : FVec F S8x512x512 .f32) : FVec F S8x4x512x512 .f32 :=
  broadcastInDim S8x4x512x512 ![0, 1, 2, 3] bcast_S8x1x512x512_S8x4x512x512_0_1_2_3 (broadcastInDim S8x1x512x512 ![0, 2, 3] bcast_S8x512x512_S8x1x512x512_0_2_3 M)

def expo (P : FVec F S8x4x512x512 .f32) : FVec F S8x4x512x512 .f32 := Host.exp (subf P (spread (top (most P))))

def tot (E : FVec F S8x4x512x512 .f32) : FVec F S8x512x512 .f32 :=
  Host.reduceAdd E (constant S_ .f32 0x00000000#32) reducesTo_S8x4x512x512_S8x512x512_d1 h_S_

def soft (P : FVec F S8x4x512x512 .f32) : FVec F S8x4x512x512 .f32 := Host.divf (expo P) (spread (tot (expo P)))

def sum2 (X : FVec F S8x4x512x512 .f32) : FVec F S8x4 .f32 :=
  Host.reduceAdd X (constant S_ .f32 0x00000000#32) reducesTo_S8x4x512x512_S8x4_d2_3 h_S_

def dice (Q T : FVec F S8x4x512x512 .f32) : FVec F S8x4 .f32 :=
  Host.divf (mulf (broadcastInDim S8x4 ![] bcast_S_S8x4 (constant S_ .f32 0x40000000#32)) (sum2 (mulf Q T)))
    (addf (sum2 (addf Q T)) (broadcastInDim S8x4 ![] bcast_S_S8x4 (constant S_ .f32 0x3727C5AC#32)))

def loss (D : FVec F S8x4 .f32) : FVec F S8 .f32 :=
  subf (broadcastInDim S8 ![] bcast_S_S8 (constant S_ .f32 0x3F800000#32))
    (Host.divf (Host.reduceAdd D (constant S_ .f32 0x00000000#32) reducesTo_S8x4_S8_d1 h_S_) (broadcastInDim S8 ![] bcast_S_S8 (constant S_ .f32 0x40800000#32)))

def lossR (L : IVec S8x512x512 32) (P : FVec F S8x4x512x512 .f32) : FVec F S8 .f32 := loss (dice (soft P) (hot L))

def lt1 (S : FVec F S8 .f32) : IVec S8 1 := cmpf .olt S (broadcastInDim S8 ![] bcast_S_S8 (constant S_ .f32 0x3F800000#32))

def w16 (S : FVec F S8 .f32) : FVec F S8 .f32 :=
  mulf (broadcastInDim S8 ![] bcast_S_S8 (constant S_ .f32 0x41800000#32)) (subf (broadcastInDim S8 ![] bcast_S_S8 (constant S_ .f32 0x3F800000#32))
    (Host.divf S (broadcastInDim S8 ![] bcast_S_S8 (constant S_ .f32 0x3F800054#32))))

def count (W : FVec F S8 .f32) : IVec S8 32 :=
  fptosi 32 (minimumf (broadcastInDim S8 ![] bcast_S_S8 (constant S_ .f32 0x41800000#32)) (Host.absf (select (cmpf .olt W (broadcastInDim S8 ![] bcast_S_S8 (constant S_ .f32 0x00000000#32))) (Host.ceil W) (Host.floor W))))

def wide (K : IVec S8 32) : IVec S8x1x16 32 :=
  broadcastInDim S8x1x16 ![0, 1, 2] bcast_S8x1x1_S8x1x16_0_1_2 (broadcastInDim S8x1x1 ![0] bcast_S8_S8x1x1_0 K)

def patches (X : FVec F S8x512x512 .f32) : FVec F S8x1x32x32x256 .f32 :=
  shapeCast S8x1x32x32x256 (transpose S8x1x32x32x16x16 [0, 1, 3, 5, 2, 4] (shapeCast S8x1x16x32x16x32 (broadcastInDim S8x1x512x512 ![0, 2, 3] bcast_S8x512x512_S8x1x512x512_0_2_3 X) shapeCasts_S8x1x512x512_S8x1x16x32x16x32) transposes_S8x1x16x32x16x32_S8x1x32x32x16x16_0_1_3_5_2_4) shapeCasts_S8x1x32x32x16x16_S8x1x32x32x256

def psum (U : FVec F S8x1x32x32x256 .f32) : FVec F S8x256 .f32 :=
  Host.reduceAdd U (constant S_ .f32 0x00000000#32) reducesTo_S8x1x32x32x256_S8x256_d1_2_3 h_S_

def mean (X : FVec F S8x512x512 .f32) : FVec F S8x256 .f32 :=
  Host.divf (psum (patches X)) (broadcastInDim S8x256 ![] bcast_S_S8x256 (constant S_ .f32 0x44800000#32))

def order (K : FVec F S8x256 .f32) : IVec S8x256 32 := (Host.sort2 S8x256 1 comparator_f32_i32_d1 K (iotaInDim S8x256 32 1)).2

def pick (M : IVec S8 1) (A B : IVec S8x256 32) : IVec S8x256 32 :=
  select (broadcastInDim S8x256 ![0, 1] bcast_S8x1_S8x256_0_1 (broadcastInDim S8x1 ![0] bcast_S8_S8x1_0 M)) A B

def first (A : IVec S8x256 32) : IVec S8x1x16 32 :=
  broadcastInDim S8x1x16 ![0, 2] bcast_S8x16_S8x1x16_0_2 (extractStridedSlice S8x16 ![0, 0] A slices_S8x256_S8x16_0_0)

variable (m : (ℓ : Loc nD τ sig) → Buf (Elt F) ℓ) (c : Dev nD)

theorem out0_eq : res_out0 m c = wide (count (w16 (lossR (m ((c.tc : Thread nD τ).loc main_arg0)) (m ((c.tc : Thread nD τ).loc main_arg3))))) := rfl

theorem out1_eq : res_out1 m c = first (pick (lt1 (lossR (m ((c.tc : Thread nD τ).loc main_arg0)) (m ((c.tc : Thread nD τ).loc main_arg3))))
    (order (Host.negf (mean (m ((c.tc : Thread nD τ).loc main_arg1))))) (order (mean (m ((c.tc : Thread nD τ).loc main_arg1))))) := rfl

theorem out2_eq : res_out2 m c = first (pick (lt1 (lossR (m ((c.tc : Thread nD τ).loc main_arg0)) (m ((c.tc : Thread nD τ).loc main_arg3))))
    (order (mean (m ((c.tc : Thread nD τ).loc main_arg2)))) (order (Host.negf (mean (m ((c.tc : Thread nD τ).loc main_arg2)))))) := rfl

section AtIdeal

/-- Image `b`'s logits. -/
def imgP (P : S8x4x512x512.Idx → EReal) (b : Fin 8) (k : Fin 4) (i j : Fin 512) : EReal := P (ix4 b k i j)
/-- Image `b`'s plane. -/
def imgX {α : Type} (X : S8x512x512.Idx → α) (b : Fin 8) (i j : Fin 512) : α := X (ix3 b i j)

theorem uitofp_eq (x y : BitVec 32) : (FloatOps.uitofp .f32 (IntOp.cmpi .eq x y) : Ideal .f32) = if x = y then (1 : EReal) else 0 := by
  show (((BitVec.ofBool (x == y)).toNat : ℝ) : EReal) = _
  by_cases h : x = y
  · rw [if_pos h, h]; simp
  · rw [if_neg h, beq_false_of_ne h]; simp

theorem hot_at (L : IVec S8x512x512 32) (b : Fin 8) (k : Fin 4) (i j : Fin 512) : (hot L : FVec Ideal S8x4x512x512 .f32) (ix4 b k i j) = hotS (imgX L b) k i j := by
  unfold hot hotS imgX; pointwise; exact uitofp_eq _ _
theorem most_at (P : FVec Ideal S8x4x512x512 .f32) (b : Fin 8) (i j : Fin 512) :
    most P (ix3 b i j) = Finset.univ.fold max (Ideal.ofBits .f32 0xFF800000#32) fun x => P (ix4 b x i j) := by
  unfold most; pointwise
theorem top_at (M : FVec Ideal S8x512x512 .f32) (b : Fin 8) (i j : Fin 512) : top M (ix3 b i j) = max (Ideal.ofBits .f32 0xFF800000#32) (M (ix3 b i j)) := by
  unfold top; pointwise
theorem spread_at (M : FVec Ideal S8x512x512 .f32) (b : Fin 8) (k : Fin 4) (i j : Fin 512) : spread M (ix4 b k i j) = M (ix3 b i j) := by
  unfold spread; pointwise
theorem expo_at (P : FVec Ideal S8x4x512x512 .f32) (b : Fin 8) (k : Fin 4) (i j : Fin 512) : expo P (ix4 b k i j) = expS (imgP P b) k i j := by
  have e : expo P (ix4 b k i j) = Ideal.exp (P (ix4 b k i j) - spread (top (most P)) (ix4 b k i j)) := by
    unfold expo; pointwise
  rw [e, spread_at, top_at, most_at, max_eq_right (Finset.le_fold_max _ |>.mpr (Or.inl (le_refl _)))]
  rfl
theorem tot_at (E : FVec Ideal S8x4x512x512 .f32) (b : Fin 8) (i j : Fin 512) : tot E (ix3 b i j) = ∑ k, E (ix4 b k i j) := by
  unfold tot; pointwise
theorem soft_at (P : FVec Ideal S8x4x512x512 .f32) (b : Fin 8) (k : Fin 4) (i j : Fin 512) : soft P (ix4 b k i j) = softS (imgP P b) k i j := by
  have e : soft P (ix4 b k i j) = Ideal.div (expo P (ix4 b k i j)) (spread (tot (expo P)) (ix4 b k i j)) := by
    unfold soft; pointwise
  rw [e, spread_at, tot_at]
  simp only [expo_at]
  rfl
theorem sum2_at (X : FVec Ideal S8x4x512x512 .f32) (b : Fin 8) (k : Fin 4) : sum2 X (ix2 b k) = ∑ i, ∑ j, X (ix4 b k i j) := by
  unfold sum2; pointwise
theorem dice_at (Q T : FVec Ideal S8x4x512x512 .f32) (b : Fin 8) (k : Fin 4) : dice Q T (ix2 b k) = diceS (imgP Q b) (imgP T b) k := by
  have e : dice Q T (ix2 b k) = Ideal.div (Ideal.ofBits .f32 0x40000000#32 * sum2 (mulf Q T) (ix2 b k)) (sum2 (addf Q T) (ix2 b k) + Ideal.ofBits .f32 0x3727C5AC#32) := by
    unfold dice; pointwise
  rw [e, sum2_at, sum2_at]
  rfl
theorem loss_at (D : FVec Ideal S8x4 .f32) (b : Fin 8) : loss D (ix1 b) = lossS fun k => D (ix2 b k) := by
  unfold loss lossS; pointwise
theorem lossR_at (L : IVec S8x512x512 32) (P : FVec Ideal S8x4x512x512 .f32) (b : Fin 8) :
    lossR L P (ix1 b) = lossS (diceS (softS (imgP P b)) (hotS (imgX L b))) := by
  unfold lossR
  rw [loss_at]
  congr 1
  funext k
  rw [dice_at]
  congr 1
  · funext k i j; exact soft_at P b k i j
  · funext k i j; exact hot_at L b k i j
theorem lt1_at (S : FVec Ideal S8 .f32) (b : Fin 8) : lt1 S (ix1 b) = maskS (S (ix1 b)) := by
  have e : lt1 S (ix1 b) = Ideal.cmp .olt (S (ix1 b)) (Ideal.ofBits .f32 0x3F800000#32) := rfl
  rw [e, Ideal.ofBits_one_f32]; rfl
theorem count_at (S : FVec Ideal S8 .f32) (b : Fin 8) : count (w16 S) (ix1 b) = countS (S (ix1 b)) := by
  unfold count w16 countS; rfl
theorem patches_at (X : FVec Ideal S8x512x512 .f32) (b : Fin 8) (u v : Fin 32) (p : Fin 256) :
    patches X (ix5 b 0 u v p) = imgX X b ⟨p.val / 16 * 32 + u.val, by omega⟩ ⟨p.val % 16 * 32 + v.val, by omega⟩ := by
  unfold patches imgX; pointwise

theorem fiber (b : Fin 8) (p : Fin 256) (i : S8x1x32x32x256.Idx) :
    reducesTo_S8x1x32x32x256_S8x256_d1_2_3.drop i = ix2 b p ↔ ∃ k : Fin 1 × Fin 32 × Fin 32, ix5 b k.1 k.2.1 k.2.2 p = i := by
  constructor
  · intro e
    refine ⟨(i 1, i 2, i 3), ?_⟩
    funext a; apply Fin.ext
    match a with
    | ⟨0, _⟩ => exact (congrArg Fin.val (congrFun e 0)).symm
    | ⟨1, _⟩ => rfl
    | ⟨2, _⟩ => rfl
    | ⟨3, _⟩ => rfl
    | ⟨4, _⟩ => exact (congrArg Fin.val (congrFun e 1)).symm
  · rintro ⟨k, rfl⟩
    funext a
    apply Fin.ext
    match a with
    | ⟨0, _⟩ => rfl
    | ⟨1, _⟩ => rfl

theorem psum_at (U : FVec Ideal S8x1x32x32x256 .f32) (b : Fin 8) (p : Fin 256) : psum U (ix2 b p) = ∑ u, ∑ v, U (ix5 b 0 u v p) := by
  have e : psum U (ix2 b p) = Ideal.hostReduceAdd reducesTo_S8x1x32x32x256_S8x256_d1_2_3 U 0 (ix2 b p) := by
    unfold psum; pointwise
  rw [e]
  unfold Ideal.hostReduceAdd
  rw [zero_add]
  refine (Finset.sum_filter_eq_sum_of_fiber _ (fun k : Fin 1 × Fin 32 × Fin 32 => (ix5 b k.1 k.2.1 k.2.2 p : S8x1x32x32x256.Idx))
    (fun _ _ e => Prod.ext (congrFun e 1) (Prod.ext (congrFun e 2) (congrFun e 3))) (fiber b p) U).trans ?_
  simp only [Fintype.sum_prod_type, Finset.univ_unique, Finset.sum_singleton]
  rfl

theorem mean_at (X : FVec Ideal S8x512x512 .f32) (b : Fin 8) (p : Fin 256) :
    mean X (ix2 b p) = Ideal.div (psumS (imgX X b) p) (Ideal.ofBits .f32 0x44800000#32) := by
  have e : mean X (ix2 b p) = Ideal.div (psum (patches X) (ix2 b p)) (Ideal.ofBits .f32 0x44800000#32) := by
    unfold mean; pointwise
  rw [e, psum_at]
  simp only [patches_at]
  rfl

theorem comparator_eq (x y : EReal) (i j : BitVec 32) : (comparator_f32_i32_d1 (F := Ideal) (x, i) (y, j) == 1#1) = decide (x < y) := by
  have c : ∀ z : EReal, Scalar.select (Ideal.cmp .une z z) (Ideal.ofBits .f32 0x7FC00000#32)
      (Scalar.select (Ideal.cmp .oeq z (Ideal.ofBits .f32 0x00000000#32)) (Ideal.ofBits .f32 0x00000000#32) z) = z := by
    intro z
    rw [show Ideal.cmp .une z z = 0#1 by unfold Ideal.cmp; simp]
    by_cases h : z = Ideal.ofBits .f32 0x00000000#32
    · rw [show Ideal.cmp .oeq z (Ideal.ofBits .f32 0x00000000#32) = 1#1 by unfold Ideal.cmp; simp [h]]
      exact h.symm
    · rw [show Ideal.cmp .oeq z (Ideal.ofBits .f32 0x00000000#32) = 0#1 by
        show BitVec.ofBool (decide _) = _
        rw [decide_eq_false h]; rfl]
      rfl
  have e : comparator_f32_i32_d1 (F := Ideal) (x, i) (y, j) = Ideal.cmp .olt x y :=
    congrArg₂ (Ideal.cmp .olt) (c x) (c y)
  rw [e]
  show (BitVec.ofBool (decide (x < y)) == 1#1) = _
  cases decide (x < y) <;> rfl

theorem axis_lt : 1 < S8x256.rank := by decide

theorem along_eq (b : Fin 8) (p : Fin 256) (k : Fin (S8x256.size ⟨1, axis_lt⟩)) :
    Shape.Idx.along (s := S8x256) (ix2 b p) ⟨1, axis_lt⟩ k = ix2 b (k : Fin 256) := by
  funext a
  match a with
  | ⟨0, _⟩ => rfl
  | ⟨1, _⟩ => rfl

theorem sort2_at {α β : Type} (cmp : α × β → α × β → BitVec 1) (x : S8x256.Idx → α) (y : S8x256.Idx → β) (b : Fin 8) (p : Fin 256) :
    (Host.sort2 S8x256 1 cmp x y).2 (ix2 b p)
      = y (ix2 b (sortedFrom (fun q p' : Fin 256 => cmp (x (ix2 b q), y (ix2 b q)) (x (ix2 b p'), y (ix2 b p')) == 1#1) p)) := by
  unfold Host.sort2
  rw [dif_pos axis_lt]
  simp only [along_eq]
  exact congrArg (fun k : Fin 256 => y (ix2 b k)) rfl

theorem order_at (K : FVec Ideal S8x256 .f32) (b : Fin 8) (p : Fin 256) :
    order K (ix2 b p) = BitVec.ofNat 32 (sortedFrom (fun q p => decide (K (ix2 b q) < K (ix2 b p))) p).val := by
  unfold order
  rw [sort2_at]
  simp only [comparator_eq]
  rfl

theorem pick_at (M A B) (b : Fin 8) (p : Fin 256) : pick M A B (ix2 b p) = Scalar.select (M (ix1 b)) (A (ix2 b p)) (B (ix2 b p)) := by
  unfold pick; pointwise
theorem first_at (A) (b : Fin 8) (p : Fin 16) : first A (ix3 b 0 p) = A (ix2 b ⟨p.1, by omega⟩) := by
  unfold first; pointwise
theorem wide_at (A) (b : Fin 8) (p : Fin 16) : wide A (ix3 b 0 p) = A (ix1 b) := by
  unfold wide; pointwise

theorem up_at (X : FVec Ideal S8x512x512 .f32) (b : Fin 8) (j : Fin 16) : order (mean X) (ix2 b ⟨j.val, by omega⟩) = listS 0#1 (psumS (imgX X b)) j := by
  rw [order_at]
  simp only [mean_at]
  exact list_up _ j
theorem down_at (X : FVec Ideal S8x512x512 .f32) (b : Fin 8) (j : Fin 16) : order (Host.negf (mean X)) (ix2 b ⟨j.val, by omega⟩) = listS 1#1 (psumS (imgX X b)) j := by
  rw [order_at]
  have e : ∀ p : Fin 256, (Host.negf (mean X) : FVec Ideal S8x256 .f32) (ix2 b p) = -mean X (ix2 b p) := fun _ => rfl
  simp only [e, mean_at]
  exact list_down _ j

end AtIdeal

end Cert.Proof.StatsRef
end
end
-- ==== Proof.StatsEq.lean ====
module

public import proofs.«01_k».proof.Proof.Gen.StatsIdeal.Value
public import proofs.«01_k».proof.Proof.StatsKer
public import proofs.«01_k».proof.Proof.StatsRef
public import Idealize.ShloMosaic.Lib.Pipeline.ValueKit.Point

@[expose] public section

noncomputable section

/-! # The call's three results are the reference's -/

namespace Cert.Proof.StatsEq

open Idealize.ShloMosaic Idealize.ShloMosaic.TcCoe Cert.StatsIdeal Cert.StatsIdeal.Gen Cert.Proof.Stats Cert.Proof.StatsKer

section Block
variable (x0 : Vec Ideal S1x4x512x512 .f32) (x1 : Vec Ideal S1x512x512 .i32) (x2 x3 : Vec Ideal S1x512x512 .f32)

theorem ld0 : View.ld x0 r0_0 = x0 := View.ld_unit_lit _ _ (by decide)
theorem ld1 {e : EltTy} (x : Vec Ideal S1x512x512 e) : View.ld x r0_1 = x := View.ld_unit_lit _ _ (by decide)

theorem out4_at (h : ∀ i j, totS (blkP x0) i j ≠ 0) (j : Fin 16) : out0_4 x0 x1 x2 x3 (ix3 0 0 j) = countS (StatsKer.loss x0 x1) := by
  unfold out0_4 k0_pay33 k0_pay35 k0_pay36
  rw [View.canon_cons_unit_lit _ _ _ (by decide)]
  simp only [ld0, ld1]
  have e : ∀ b : BitVec 32, k0_pay1 b (ix3 0 0 j) = b := by
    intro b; unfold k0_pay1; pointwise
  rw [e]
  exact pay20_at _ _ _ _ _ _ _ _ (pay19_at x0 x1 h)

theorem mask_eq (s : EReal) : Scalar.cmpf (F := Ideal) (φ := .f32) .olt s (FloatOps.ofBits .f32 0x3F800000#32) = maskS s := by
  unfold maskS
  rw [← Ideal.ofBits_one_f32]; rfl

theorem pl5 : pl (k0_pay5 (F := Ideal) x2) = blkX x2 := by
  funext i j; exact pay5_at x2 i j
theorem pl6 : pl (k0_pay6 (F := Ideal) x3) = blkX x3 := by
  funext i j; exact pay6_at x3 i j

theorem out5_at (h : ∀ i j, totS (blkP x0) i j ≠ 0) (j : Fin 16) :
    out0_5 x0 x1 x2 x3 (ix3 0 0 j) = listS (maskS (StatsKer.loss x0 x1)) (psumS (blkX x2)) j := by
  unfold out0_5 k0_pay33 k0_pay35 k0_pay36
  rw [View.canon_cons_unit_lit _ _ _ (by decide)]
  simp only [ld0, ld1]
  rw [pay19_at x0 x1 h, mask_eq, ← pl5]
  exact picks5 _ _ j

theorem out6_at (h : ∀ i j, totS (blkP x0) i j ≠ 0) (j : Fin 16) :
    out0_6 x0 x1 x2 x3 (ix3 0 0 j) = listS (Scalar.xori (maskS (StatsKer.loss x0 x1)) 1#1) (psumS (blkX x3)) j := by
  unfold out0_6 k0_pay33 k0_pay34 k0_pay35 k0_pay36
  rw [View.canon_cons_unit_lit _ _ _ (by decide)]
  simp only [ld0, ld1]
  rw [pay19_at x0 x1 h, mask_eq, ← pl6]
  exact picks6 _ _ j

end Block

/-! ### The blocks and the arrays -/

variable (m : (ℓ : Loc nD τ sig) → Buf (Elt Ideal) ℓ) (c : Dev nD)

theorem ix0 : ∀ t : Fin cfg0.N, win0_0.index t = ![t.val, 0, 0, 0] :=
  (by decide +kernel : ∀ t : Fin grid0.N, win0_0.index t = ![t.val, 0, 0, 0])
theorem ix1' : ∀ t : Fin cfg0.N, win0_1.index t = ![t.val, 0, 0] :=
  (by decide +kernel : ∀ t : Fin grid0.N, win0_1.index t = ![t.val, 0, 0])
theorem ix2' : ∀ t : Fin cfg0.N, win0_2.index t = ![t.val, 0, 0] :=
  (by decide +kernel : ∀ t : Fin grid0.N, win0_2.index t = ![t.val, 0, 0])
theorem ix3' : ∀ t : Fin cfg0.N, win0_3.index t = ![t.val, 0, 0] :=
  (by decide +kernel : ∀ t : Fin grid0.N, win0_3.index t = ![t.val, 0, 0])
theorem ix4' : ∀ t : Fin cfg0.N, win0_4.index t = ![t.val, 0, 0] :=
  (by decide +kernel : ∀ t : Fin grid0.N, win0_4.index t = ![t.val, 0, 0])
theorem ix5' : ∀ t : Fin cfg0.N, win0_5.index t = ![t.val, 0, 0] :=
  (by decide +kernel : ∀ t : Fin grid0.N, win0_5.index t = ![t.val, 0, 0])
theorem ix6' : ∀ t : Fin cfg0.N, win0_6.index t = ![t.val, 0, 0] :=
  (by decide +kernel : ∀ t : Fin grid0.N, win0_6.index t = ![t.val, 0, 0])

/-- The point as an image's number. -/
def img (t : Fin cfg0.N) : Fin 8 := ⟨t.val, t.isLt⟩

theorem blk0 (t : Fin cfg0.N) (k : Fin 4) (i j : Fin 512) : iblk m c 0 t (ix4 0 k i j) = m ((c : Thread nD τ).loc main_arg3) (ix4 (img t) k i j) := by
  blk_ext! [iblk, V, ix0 t, img]
theorem blk1 (t : Fin cfg0.N) (i j : Fin 512) : iblk m c 1 t (ix3 0 i j) = m ((c : Thread nD τ).loc main_arg0) (ix3 (img t) i j) := by
  blk_ext! [iblk, V, ix1' t, img]
theorem blk2 (t : Fin cfg0.N) (i j : Fin 512) : iblk m c 2 t (ix3 0 i j) = m ((c : Thread nD τ).loc main_arg1) (ix3 (img t) i j) := by
  blk_ext! [iblk, V, ix2' t, img]
theorem blk3 (t : Fin cfg0.N) (i j : Fin 512) : iblk m c 3 t (ix3 0 i j) = m ((c : Thread nD τ).loc main_arg2) (ix3 (img t) i j) := by
  blk_ext! [iblk, V, ix3' t, img]

theorem emb4 (t : Fin cfg0.N) (j : Fin 16) : ((cfg0.win 4).blk t).view.emb (ix3 0 0 j) = ix3 (img t) 0 j := by
  blk_ext [ix4' t, img]
theorem emb5 (t : Fin cfg0.N) (j : Fin 16) : ((cfg0.win 5).blk t).view.emb (ix3 0 0 j) = ix3 (img t) 0 j := by
  blk_ext [ix5' t, img]
theorem emb6 (t : Fin cfg0.N) (j : Fin 16) : ((cfg0.win 6).blk t).view.emb (ix3 0 0 j) = ix3 (img t) 0 j := by
  blk_ext [ix6' t, img]

/-- An index of a one-row block. -/
theorem row (y : S1x1x16.Idx) : ∃ j : Fin 16, y = ix3 0 0 j := by
  refine ⟨y 2, ?_⟩
  funext a
  match a with
  | ⟨0, _⟩ => exact Fin.ext (Nat.lt_one_iff.mp (y 0).isLt)
  | ⟨1, _⟩ => exact Fin.ext (Nat.lt_one_iff.mp (y 1).isLt)
  | ⟨2, _⟩ => rfl

variable (hf : ∀ b i j, totS (StatsRef.imgP (m ((c : Thread nD τ).loc main_arg3)) b) i j ≠ 0)

theorem P_eq (t : Fin cfg0.N) : blkP (iblk m c 0 t) = StatsRef.imgP (m ((c : Thread nD τ).loc main_arg3)) (img t) := by
  funext k i j; exact blk0 m c t k i j
theorem L_eq (t : Fin cfg0.N) : blkL (iblk m c 1 t) = StatsRef.imgX (m ((c : Thread nD τ).loc main_arg0)) (img t) := by
  funext i j; exact blk1 m c t i j
theorem X2_eq (t : Fin cfg0.N) : blkX (iblk m c 2 t) = StatsRef.imgX (m ((c : Thread nD τ).loc main_arg1)) (img t) := by
  funext i j; exact blk2 m c t i j
theorem X3_eq (t : Fin cfg0.N) : blkX (iblk m c 3 t) = StatsRef.imgX (m ((c : Thread nD τ).loc main_arg2)) (img t) := by
  funext i j; exact blk3 m c t i j

theorem loss_eq (t : Fin cfg0.N) : StatsKer.loss (iblk m c 0 t) (iblk m c 1 t)
    = StatsRef.lossR (F := Ideal) (m ((c : Thread nD τ).loc main_arg0)) (m ((c : Thread nD τ).loc main_arg3)) (ix1 (img t)) := by
  rw [StatsRef.lossR_at, ← P_eq, ← L_eq]; rfl

/-- The reference's results, of the call's arrays. -/
def ref4 : S8x1x16.Idx → BitVec 32 :=
  StatsRef.wide (StatsRef.count (F := Ideal) (StatsRef.w16 (StatsRef.lossR (m ((c : Thread nD τ).loc main_arg0)) (m ((c : Thread nD τ).loc main_arg3)))))
def ref5 : S8x1x16.Idx → BitVec 32 :=
  StatsRef.first (StatsRef.pick (StatsRef.lt1 (F := Ideal) (StatsRef.lossR (m ((c : Thread nD τ).loc main_arg0)) (m ((c : Thread nD τ).loc main_arg3))))
    (StatsRef.order (F := Ideal) (Host.negf (StatsRef.mean (m ((c : Thread nD τ).loc main_arg1))))) (StatsRef.order (F := Ideal) (StatsRef.mean (m ((c : Thread nD τ).loc main_arg1)))))
def ref6 : S8x1x16.Idx → BitVec 32 :=
  StatsRef.first (StatsRef.pick (StatsRef.lt1 (F := Ideal) (StatsRef.lossR (m ((c : Thread nD τ).loc main_arg0)) (m ((c : Thread nD τ).loc main_arg3))))
    (StatsRef.order (F := Ideal) (StatsRef.mean (m ((c : Thread nD τ).loc main_arg2)))) (StatsRef.order (F := Ideal) (Host.negf (StatsRef.mean (m ((c : Thread nD τ).loc main_arg2))))))

theorem one_or (d : BitVec 1) : d = 0#1 ∨ d = 1#1 := by
  revert d; decide

include hf

theorem final4 : (dats m 0 c).arrAt 4 cfg0.N = ref4 m c := by
  refine (dats m 0 c).arrAt_eq_of_covers 4 _ (by decide +kernel) fun t _ y => ?_
  blk_simp
  rw [after0_4]
  obtain ⟨j, rfl⟩ := row y
  rw [out4_at _ _ _ _ (fun i k => by rw [P_eq]; exact hf _ i k), loss_eq]
  refine Eq.trans ?_ (congrArg (ref4 m c) (emb4 t j)).symm
  unfold ref4
  rw [StatsRef.wide_at, StatsRef.count_at]

theorem final5 : (dats m 0 c).arrAt 5 cfg0.N = ref5 m c := by
  refine (dats m 0 c).arrAt_eq_of_covers 5 _ (by decide +kernel) fun t _ y => ?_
  blk_simp
  rw [after0_5]
  obtain ⟨j, rfl⟩ := row y
  rw [out5_at _ _ _ _ (fun i k => by rw [P_eq]; exact hf _ i k), loss_eq, X2_eq]
  refine Eq.trans ?_ (congrArg (ref5 m c) (emb5 t j)).symm
  unfold ref5
  rw [StatsRef.first_at, StatsRef.pick_at, StatsRef.lt1_at, StatsRef.up_at, StatsRef.down_at]
  rcases one_or (maskS (StatsRef.lossR (F := Ideal) (m ((c : Thread nD τ).loc main_arg0)) (m ((c : Thread nD τ).loc main_arg3)) (ix1 (img t)))) with e | e <;> rw [e] <;> rfl

theorem final6 : (dats m 0 c).arrAt 6 cfg0.N = ref6 m c := by
  refine (dats m 0 c).arrAt_eq_of_covers 6 _ (by decide +kernel) fun t _ y => ?_
  blk_simp
  rw [after0_6]
  obtain ⟨j, rfl⟩ := row y
  rw [out6_at _ _ _ _ (fun i k => by rw [P_eq]; exact hf _ i k), loss_eq, X3_eq]
  refine Eq.trans ?_ (congrArg (ref6 m c) (emb6 t j)).symm
  unfold ref6
  rw [StatsRef.first_at, StatsRef.pick_at, StatsRef.lt1_at, StatsRef.up_at, StatsRef.down_at]
  rcases one_or (maskS (StatsRef.lossR (F := Ideal) (m ((c : Thread nD τ).loc main_arg0)) (m ((c : Thread nD τ).loc main_arg3)) (ix1 (img t)))) with e | e <;> rw [e] <;> rfl

end Cert.Proof.StatsEq
end
end
-- ==== Proof.TileW.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Words
public import proofs.«01_k».proof.Proof.Gen.WholeIdeal
public import proofs.«01_k».proof.Proof.Gen.WholeIdeal.Skeleton

@[expose] public section

noncomputable section

/-! # One tile's steps: a copy and its wait, a patch moved, a pick's branch -/

namespace Cert.Proof.WholeIdeal

open Cert.WholeIdeal Cert.WholeIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

abbrev cV (L : grid1.Coords) : Fin τ.nSC := (L 0).castLE hcore1
abbrev jV (L : grid1.Coords) : Fin τ.nSub := (L 1).castLE hsub1

/-- A tile's program. -/
abbrev TProg (F : FTy → Type) (L : grid1.Coords) (α : Type) : Type 1 := Prog (TpuEff nD τ sig (Elt F) Λ₀ (.scVector (cV L) (jV L))) α

/-- The tile's two buffers: its quarter of a plane, a band of the source. -/
abbrev pV : Memref sig .scVector .vmem S128x512 .f32 := Memref.whole cc1_scratch0
abbrev aV : Memref sig .scVector .vmem S32x512 .f32 := Memref.whole cc1_scratch1

variable [FloatOps F] (d : Dev nD) (L : grid1.Coords)

local notation "thr" => (V d (cV L) (jV L) : Thread nD τ)

/-! ## What a tile holds between its steps -/

/-- What the tile owes, its waits so far recorded. -/
def Ow (O : CellTallies nD τ sig (HIx 1)) (W : Waits sig (HIx 1)) : sProp 𝕄 :=
  iprop(∃ W', ⌜∀ p ∈ W', p ∈ W ∨ p.2 = none⌝ ∗ owes thr O W')

omit [FloatOps F] in
/-- Every one of a tile's transfer semaphores is among its own cells, at zero: taken out and put back. -/
theorem sem_out (s : DmaSem sig) :
    (ownSems0 thr : sProp 𝕄) ⊢ iprop(semVal (thr, .dma s) 0 ∗ (semVal (thr, .dma s) 0 -∗ ownSems0 thr)) := by
  have hs : ∀ s : DmaSem sig, (SemLoc.dma s : SemLoc sig).isScoped .scVector = true := by decide
  have hm : ((thr, .dma s) : GSem nD τ sig) ∈ ownCells thr := mem_ownCells.mpr ⟨rfl, hs s⟩
  unfold SparseCore.Cfg.ownSems0
  rw [SparseCore.bigSep_erase' hm]
  iintro ⟨Hv, Hr⟩
  isplitl [Hv]; · iexact Hv
  iintro Hv
  isplitl [Hv] <;> iassumption

/-- A COPY AND ITS WAIT: the destination written with what the source reads. -/
theorem copy_wp {α : Type} {sp sp' : Space} {s : Shape} {e : EltTy} (O : CellTallies nD τ sig (HIx 1)) (W : Waits sig (HIx 1))
    (src : Memref sig .scVector sp s e) (dst : Memref sig .scVector sp' s e) (sem : DmaSem sig)
    {h1 : src.view.WordExact} {h2 : dst.view.WordExact} {h3 : DmaTarget.Typed (nD := nD) (p := .scVector (cV L) (jV L)) sp (.dma sem) (.here dst)}
    {h4 : src.view.WordExact} {h5 : dst.view.WordExact} (k : TProg F L α) {Q : α → sProp 𝕄}
    {q : PosShare TreeShare} {fs : Buf (Elt F) (src.view.loc thr)} {Sd : Finset (Idx (dst.view.loc thr))} {fd : Buf (Elt F) (dst.view.loc thr)}
    (hSd : dst.view.set ⊆ Sd) (hN : 0 < dst.view.dmaCredit) :
    iprop(Transfers.MayWaits thr (default : HIx 1) O ∗ (src.view.loc thr ↦[src.view.set]{q} fs) ∗ (dst.view.loc thr ↦[Sd]{fullShare} fd)
        ∗ ownSems0 thr ∗ Ow d L O W)
      ⊢ iprop((iprop((src.view.loc thr ↦[src.view.set]{q} fs)
              ∗ (dst.view.loc thr ↦[Sd]{fullShare} dst.view.write (Elt F) fd (src.view.read (Elt F) fs) Finset.univ) ∗ ownSems0 thr ∗ Ow d L O W)
            -∗ wp frame (wpE (defs₀ (F := F)) 𝒱₀ thr none) Set.univ k Q)
          -∗ wp frame (wpE (defs₀ (F := F)) 𝒱₀ thr none) Set.univ
            ((Prog.lift (.enqueueDma src (.here dst) (.dma sem) h1 h2 h3) >>= fun _ => Prog.lift (.waitDma2 sem src dst h4 h5) >>= fun _ => k : TProg F L α)) Q) := by
  show _ ⊢ iprop(_ -∗ wp frame (wpE (defs₀ (F := F)) 𝒱₀ thr none) Set.univ
    (.op (.enqueueDma src (.here dst) (.dma sem) h1 h2 h3) fun _ => .op (.waitDma2 sem src dst h4 h5) fun _ => k) Q)
  iintro ⟨#Hmw, Hs, Hd, Hsems, HO⟩ Hk
  ihave Hv := (sem_out (F := F) d L sem) $$ Hsems
  icases Hv with ⟨Hv, Hback⟩
  iapply (Transfers.wp_dmaLocal countersEmb 𝒱₀ thr none (via := .same) (q := q) (fs := fs) (default : HIx 1) dst.view.dmaCredit rfl hN hSd) $$ [Hs Hd Hv]
  · isplitl [Hs]; · iexact Hs
    isplitl [Hd] <;> iassumption
  iintro Hf
  unfold Ow
  icases HO with ⟨%W', %hW', HO⟩
  iapply (Transfers.wp_waitLocalO countersEmb 𝒱₀ thr none (default : HIx 1) (rfl : dst.view.dmaCredit = _)) $$ [Hf HO]
  · isplitl [Hf]; · iexact Hf
    isplitl [HO]; · iexact HO
    iapply (Transfers.MayWaits.elim (SemLoc.dma sem)) $$ Hmw
  iintro ⟨⟨Hd, Hs⟩, Hv, HO⟩
  iapply Hk
  isplitl [Hs]; · iexact Hs
  isplitl [Hd]; · iexact Hd
  isplitl [Hv Hback]
  · iapply Hback; iexact Hv
  iexists _; isplitr
  swap; · iexact HO
  ipureintro; intro p hp
  rcases Finset.mem_insert.mp hp with hp | hp; · exact .inr (hp ▸ rfl)
  exact hW' p hp

/-! ## One trip: a row of the patch, in two halves -/

section Trip

variable (oL1 oS1 oL2 oS2 : Fin 2 → ℕ)
variable (iL1 : ∀ a, oL1 a + S1x16.size a ≤ S32x512.size a) (iS1 : ∀ a, oS1 a + S1x16.size a ≤ S128x512.size a)
variable (iL2 : ∀ a, oL2 a + S1x16.size a ≤ S32x512.size a) (iS2 : ∀ a, oS2 a + S1x16.size a ≤ S128x512.size a)

/-- The trip's program. -/
def tripG : TProg F L (BitVec 32) := do
  let v3818 : Vec F S1x16 .f32 ← Prog.lift (.load aV (Rect.unit (s := S32x512) oL1 S1x16.size iL1).toLoadRect (View.loadsAt_vmem h_S1x16))
  let _v3822 : Vec F S1x16 .f32 ← Prog.lift (.load pV (Rect.unit (s := S128x512) oS1 S1x16.size iS1).toLoadRect (View.loadsAt_vmem h_S1x16))
  Prog.lift (.store pV (Rect.unit (s := S128x512) oS1 S1x16.size iS1) (k1_pay8 v3818) Finset.univ (View.stores_vmem_bits_univ h_S1x16 rfl) (.inl rfl))
  let v3828 : Vec F S1x16 .f32 ← Prog.lift (.load aV (Rect.unit (s := S32x512) oL2 S1x16.size iL2).toLoadRect (View.loadsAt_vmem h_S1x16))
  let _v3833 : Vec F S1x16 .f32 ← Prog.lift (.load pV (Rect.unit (s := S128x512) oS2 S1x16.size iS2).toLoadRect (View.loadsAt_vmem h_S1x16))
  Prog.lift (.store pV (Rect.unit (s := S128x512) oS2 S1x16.size iS2) (k1_pay9 v3828) Finset.univ (View.stores_vmem_bits_univ h_S1x16 rfl) (.inl rfl))
  pure 0#32

/-- What the buffer holds after it. -/
def tripF (g : SB.Idx → Elt F .f32) (f : SQ.Idx → Elt F .f32) : SQ.Idx → Elt F .f32 :=
  updateSlice (updateSlice f (k1_pay8 fun x => g ((Rect.unit (s := S32x512) oL1 S1x16.size iL1).toLoadRect.idx x)) oS1 ⟨rfl, iS1⟩)
    (k1_pay9 fun x => g ((Rect.unit (s := S32x512) oL2 S1x16.size iL2).toLoadRect.idx x)) oS2 ⟨rfl, iS2⟩

theorem trip_wp (g : SB.Idx → Elt F .f32) (f : SQ.Idx → Elt F .f32) :
    (iprop(((pV).view.loc thr ↦{fullShare} f) ∗ ((aV).view.loc thr ↦{fullShare} g)) : sProp 𝕄)
      ⊢ wp frame (wpE (defs₀ (F := F)) 𝒱₀ thr none) Set.univ (tripG (F := F) L oL1 oS1 oL2 oS2 iL1 iS1 iL2 iS2)
          fun _ => iprop(((pV).view.loc thr ↦{fullShare} tripF oL1 oS1 oL2 oS2 iL1 iS1 iL2 iS2 g f) ∗ ((aV).view.loc thr ↦{fullShare} g)) := by
  unfold tripG
  show _ ⊢ wp frame (wpE (defs₀ (F := F)) 𝒱₀ thr none) Set.univ (.op _ fun _ => .op _ fun _ => .op _ fun _ => .op _ fun _ => .op _ fun _ => .op _ fun _ => .ret _) _
  iintro ⟨Hp, Ha⟩
  iapply (wp_load 𝒱₀ thr none Set.univ (Finset.subset_univ _)) $$ Ha
  iintro Ha
  iapply (wp_load 𝒱₀ thr none Set.univ (Finset.subset_univ _)) $$ Hp
  iintro Hp
  iapply (wp_store 𝒱₀ thr none Set.univ (m := pV) (r := Rect.unit (s := S128x512) oS1 S1x16.size iS1) (Mk := Finset.univ) (Finset.subset_univ _)) $$ Hp
  iintro Hp
  iapply (wp_load 𝒱₀ thr none Set.univ (Finset.subset_univ _)) $$ Ha
  iintro Ha
  iapply (wp_load 𝒱₀ thr none Set.univ (Finset.subset_univ _)) $$ Hp
  iintro Hp
  iapply (wp_store 𝒱₀ thr none Set.univ (m := pV) (r := Rect.unit (s := S128x512) oS2 S1x16.size iS2) (Mk := Finset.univ) (Finset.subset_univ _)) $$ Hp
  iintro Hp
  rw [wp_ret]; imodintro
  isplitl [Hp]
  · have e1 := View.write_whole_slice_unit (Val := Elt F) cc1_scratch0 oS1 S1x16.size iS1 f
      (k1_pay8 fun x => g ((Rect.unit (s := S32x512) oL1 S1x16.size iL1).toLoadRect.idx x))
    have e2 := View.write_whole_slice_unit (Val := Elt F) cc1_scratch0 oS2 S1x16.size iS2
      (updateSlice f (k1_pay8 fun x => g ((Rect.unit (s := S32x512) oL1 S1x16.size iL1).toLoadRect.idx x)) oS1 ⟨rfl, iS1⟩)
      (k1_pay9 fun x => g ((Rect.unit (s := S32x512) oL2 S1x16.size iL2).toLoadRect.idx x))
    rw [← e1] at e2
    unfold tripF
    rw [← e1]
    refine (Entails.of_eq (congrArg (fun h => ((pV).view.loc thr ↦{fullShare} h : sProp 𝕄)) ?_) : _ ⊢ _)
    exact e2
  · iexact Ha

end Trip

omit [FloatOps F] in
/-- A trip moves row `t` of the patch. -/
theorem tripF_merged {dd ss t : ℕ} (ht : t < 32) {oL1 oS1 oL2 oS2 : Fin 2 → ℕ}
    {iL1 : ∀ a, oL1 a + S1x16.size a ≤ S32x512.size a} {iS1 : ∀ a, oS1 a + S1x16.size a ≤ S128x512.size a}
    {iL2 : ∀ a, oL2 a + S1x16.size a ≤ S32x512.size a} {iS2 : ∀ a, oS2 a + S1x16.size a ≤ S128x512.size a}
    (h1 : oL1 = ![t, ss % 16 * 32]) (h2 : oS1 = ![dd / 16 % 4 * 32 + t, dd % 16 * 32])
    (h3 : oL2 = ![t, ss % 16 * 32 + 16]) (h4 : oS2 = ![dd / 16 % 4 * 32 + t, dd % 16 * 32 + 16])
    (g : SB.Idx → Elt F .f32) (f : SQ.Idx → Elt F .f32) :
    tripF oL1 oS1 oL2 oS2 iL1 iS1 iL2 iS2 g (merged dd ss g f t) = merged dd ss g f (t + 1) := by
  subst h1 h2 h3 h4
  have hp8 : ∀ (w : Vec F S1x16 .f32), k1_pay8 (F := F) w = w := fun w => shapeCast_shapeCast (s := S1x16) (t := S16) w _ _
  have hp9 : ∀ (w : Vec F S1x16 .f32), k1_pay9 (F := F) w = w := fun w => shapeCast_shapeCast (s := S1x16) (t := S16) w _ _
  funext x
  have hx0 : (x 0).val < 128 := (x 0).isLt
  have hx1 : (x 1).val < 512 := (x 1).isLt
  unfold tripF
  rw [hp8, hp9]
  unfold updateSlice
  have key : ∀ (o : Fin 2 → ℕ) (io : ∀ a, o a + S1x16.size a ≤ S32x512.size a) (y : S1x16.Idx) (z : SB.Idx), (z 0).val = o 0 + (y 0).val → (z 1).val = o 1 + (y 1).val →
      g ((Rect.unit (s := S32x512) o S1x16.size io).toLoadRect.idx y) = g z := by
    intro o io y z h0 h1
    refine congrArg g (funext fun a => Fin.ext ?_)
    match a with
    | 0 => show o 0 + 1 * (y 0).val = _; rw [h0, one_mul]
    | 1 => show o 1 + 1 * (y 1).val = _; rw [h1, one_mul]
  split
  · next h =>
    have h0 := h 0; have h1 := h 1
    change dd / 16 % 4 * 32 + t ≤ (x 0).val ∧ (x 0).val < dd / 16 % 4 * 32 + t + 1 at h0
    change dd % 16 * 32 + 16 ≤ (x 1).val ∧ (x 1).val < dd % 16 * 32 + 16 + 16 at h1
    unfold merged
    rw [if_pos (by omega)]
    refine key _ _ _ _ ?_ ?_
    · show (x 0).val % 32 = t + ((x 0).val - (dd / 16 % 4 * 32 + t)); omega
    · show ss % 16 * 32 + (x 1).val % 32 = ss % 16 * 32 + 16 + ((x 1).val - (dd % 16 * 32 + 16)); omega
  · next hn =>
    have hn' : ¬((dd / 16 % 4 * 32 + t ≤ (x 0).val ∧ (x 0).val < dd / 16 % 4 * 32 + t + 1)
        ∧ (dd % 16 * 32 + 16 ≤ (x 1).val ∧ (x 1).val < dd % 16 * 32 + 16 + 16)) := fun hc => hn fun a => by
      match a with
      | 0 => exact hc.1
      | 1 => exact hc.2
    split
    · next h =>
      have h0 := h 0; have h1 := h 1
      change dd / 16 % 4 * 32 + t ≤ (x 0).val ∧ (x 0).val < dd / 16 % 4 * 32 + t + 1 at h0
      change dd % 16 * 32 ≤ (x 1).val ∧ (x 1).val < dd % 16 * 32 + 16 at h1
      unfold merged
      rw [if_pos (by omega)]
      refine key _ _ _ _ ?_ ?_
      · show (x 0).val % 32 = t + ((x 0).val - (dd / 16 % 4 * 32 + t)); omega
      · show ss % 16 * 32 + (x 1).val % 32 = ss % 16 * 32 + ((x 1).val - dd % 16 * 32); omega
    · next hm =>
      have hm' : ¬((dd / 16 % 4 * 32 + t ≤ (x 0).val ∧ (x 0).val < dd / 16 % 4 * 32 + t + 1)
          ∧ (dd % 16 * 32 ≤ (x 1).val ∧ (x 1).val < dd % 16 * 32 + 16)) := fun hc => hm fun a => by
        match a with
        | 0 => exact hc.1
        | 1 => exact hc.2
      unfold merged
      by_cases hc : ((x 0).val / 32 = dd / 16 % 4 ∧ (x 1).val / 32 = dd % 16) ∧ (x 0).val % 32 < t
      · rw [if_pos hc, if_pos (by omega)]
      · rw [if_neg hc, if_neg (by omega)]

/-! ## A pick's branch -/

/-- A unit of a tile's work: the source array, its first row and quarter. -/
structure UnitD where
  n : ℕ
  asrc : Memref sig .scVector .hbm ⟨2, ![n, 512]⟩ .f32
  q : PosShare TreeShare
  fs : Buf (Elt F) (asrc.view.loc thr)
  aw : BitVec 32
  qw : BitVec 32
  nq : ℕ
  haw : aw.toNat + 512 ≤ n
  hn : n ≤ 12288
  hqw : qw = BitVec.ofNat 32 nq
  hnq : nq < 4

variable {d L} in
/-- The unit's source plane. -/
def UnitD.A (u : UnitD (F := F) d L) (r c : ℕ) : Elt F .f32 :=
  u.asrc.view.read (Elt F) u.fs (fun | 0 => ⟨(u.aw.toNat + r) % u.n, Nat.mod_lt _ (by have := u.haw; omega)⟩ | 1 => ⟨c % 512, Nat.mod_lt _ (by decide)⟩)

/-- The picks as the tile reads them. -/
structure Picks where
  tk : BitVec 32
  D : IVec S16 32
  S : IVec S16 32
  hD : ∀ j, (D j).toNat < 256
  hS : ∀ j, (S j).toNat < 256

theorem slices_at (j : ℕ) : S16.Slices ![j % 16] S1 := ⟨rfl, fun a => match a with
  | 0 => by show j % 16 + 1 ≤ 16; omega⟩

/-- Position `j` of a list. -/
def at16 (v : IVec S16 32) (j : ℕ) : BitVec 32 := extractAt ![0] (extractStridedSlice S1 ![j % 16] v (slices_at j)) inpos_S1_p0

theorem at16_lt {v : IVec S16 32} (hv : ∀ j, (v j).toNat < 256) (j : ℕ) : (at16 v j).toNat < 256 := hv _

variable (O : CellTallies nD τ sig (HIx 1)) (W : Waits sig (HIx 1))

/-- The quarter after `j` picks. -/
def Uf (pk : Picks) (u : UnitD (F := F) d L) (f0 : SQ.Idx → Elt F .f32) (j : ℕ) : SQ.Idx → Elt F .f32 :=
  pasted pk.tk.toInt (fun j => (at16 pk.D j).toNat) (fun j => (at16 pk.S j).toNat) u.nq u.A f0 j

/-- Between two picks of a unit. -/
def St (pk : Picks) (u : UnitD (F := F) d L) (f0 : SQ.Idx → Elt F .f32) (j : ℕ) (Rest : sProp 𝕄) : sProp 𝕄 :=
  iprop(Transfers.MayWaits thr (default : HIx 1) O ∗ ((pV).view.loc thr ↦{fullShare} Uf d L pk u f0 j) ∗ (∃ g, (aV).view.loc thr ↦{fullShare} g)
    ∗ (u.asrc.view.loc thr ↦{u.q} u.fs) ∗ ownSems0 thr ∗ Ow d L O W ∗ Rest)

/-- A pick's branch: the band fetched and its patch moved, where the condition holds. -/
def branchG {α σ : Type} {n : ℕ} (asrc : Memref sig .scVector .hbm ⟨2, ![n, 512]⟩ .f32) (sem : DmaSem sig) (cond : BitVec 1) (offA : Fin 2 → ℕ)
    (inbA : cond = 1#1 → ∀ a, offA a + S32x512.size a ≤ (⟨2, ![n, 512]⟩ : Shape).size a) (oL1 oS1 oL2 oS2 : Fin k1_t1_loop.trips → Fin 2 → ℕ)
    (iL1 : cond = 1#1 → ∀ t, ∀ a, oL1 t a + S1x16.size a ≤ S32x512.size a) (iS1 : cond = 1#1 → ∀ t, ∀ a, oS1 t a + S1x16.size a ≤ S128x512.size a)
    (iL2 : cond = 1#1 → ∀ t, ∀ a, oL2 t a + S1x16.size a ≤ S32x512.size a) (iS2 : cond = 1#1 → ∀ t, ∀ a, oS2 t a + S1x16.size a ≤ S128x512.size a)
    (r : σ) (J : TProg F L α) : TProg F L α :=
  if h : cond = 1#1 then
    (Prog.lift (.enqueueDma (asrc.slice (Rect.unit (s := ⟨2, ![n, 512]⟩) offA S32x512.size (inbA h)) (fun _ => rfl)) (.here (p := .scVector (cV L) (jV L)) aV) (.dma sem)
        (View.wordExact_bits rfl) (View.wordExact_bits rfl) ⟨Or.inl rfl, trivial⟩) >>= fun _ =>
      Prog.lift (.waitDma2 sem (asrc.slice (Rect.unit (s := ⟨2, ![n, 512]⟩) offA S32x512.size (inbA h)) (fun _ => rfl)) aV (View.wordExact_bits rfl) (View.wordExact_bits rfl)) >>= fun _ =>
      (pure r : TProg F L σ)) >>= fun _ =>
    Scf.Loop.for k1_t1_loop k1_t1_ok 0#32 (fun t _ => tripG L (oL1 t) (oS1 t) (oL2 t) (oS2 t) (iL1 h t) (iS1 h t) (iL2 h t) (iS2 h t)) >>= fun _ => J
  else J

theorem branch_wp {α σ : Type} (pk : Picks) (u : UnitD (F := F) d L) (f0 : SQ.Idx → Elt F .f32) (j : ℕ) (Rest : sProp 𝕄)
    (p : TProg F L α) {sem : DmaSem sig} {cond : BitVec 1} {offA : Fin 2 → ℕ}
    {inbA : cond = 1#1 → ∀ a, offA a + S32x512.size a ≤ (⟨2, ![u.n, 512]⟩ : Shape).size a} {oL1 oS1 oL2 oS2 : Fin k1_t1_loop.trips → Fin 2 → ℕ}
    {iL1 : cond = 1#1 → ∀ t, ∀ a, oL1 t a + S1x16.size a ≤ S32x512.size a} {iS1 : cond = 1#1 → ∀ t, ∀ a, oS1 t a + S1x16.size a ≤ S128x512.size a}
    {iL2 : cond = 1#1 → ∀ t, ∀ a, oL2 t a + S1x16.size a ≤ S32x512.size a} {iS2 : cond = 1#1 → ∀ t, ∀ a, oS2 t a + S1x16.size a ≤ S128x512.size a}
    {r : σ} {J : TProg F L α} {Q : α → sProp 𝕄}
    (hp : p = branchG L u.asrc sem cond offA inbA oL1 oS1 oL2 oS2 iL1 iS1 iL2 iS2 r J) (hj : j < 16)
    (hc : cond = condW pk.tk (BitVec.ofNat 32 j) (at16 pk.D j) u.qw) (hA : offA = ![(bandW u.aw (at16 pk.S j)).toNat, 0])
    (h1 : oL1 = fun t : Fin k1_t1_loop.trips => ![(Scf.iv 0#32 1#32 t).toNat, (colW (at16 pk.S j)).toNat])
    (h2 : oS1 = fun t : Fin k1_t1_loop.trips => ![(prowW (at16 pk.D j) t).toNat, (colW (at16 pk.D j)).toNat])
    (h3 : oL2 = fun t : Fin k1_t1_loop.trips => ![(Scf.iv 0#32 1#32 t).toNat, (Scalar.addi (colW (at16 pk.S j)) 16#32).toNat])
    (h4 : oS2 = fun t : Fin k1_t1_loop.trips => ![(prowW (at16 pk.D j) t).toNat, (Scalar.addi (colW (at16 pk.D j)) 16#32).toNat])
    (h : St d L O W pk u f0 (j + 1) Rest ⊢ wp frame (wpE (defs₀ (F := F)) 𝒱₀ thr none) Set.univ J Q) :
    St d L O W pk u f0 j Rest ⊢ wp frame (wpE (defs₀ (F := F)) 𝒱₀ thr none) Set.univ p Q := by
  subst hp
  unfold branchG
  have hiff := condW_eq (tk := pk.tk) hj (at16_lt pk.hD j) u.hnq u.hqw
  by_cases hcond : cond = 1#1
  swap
  · rw [dif_neg hcond]
    have : ¬((j : Int) < pk.tk.toInt ∧ (at16 pk.D j).toNat / 64 = u.nq) := fun hh => hcond (hc.trans (hiff.mpr hh))
    have e : Uf d L pk u f0 (j + 1) = Uf d L pk u f0 j := pasted_skip this
    unfold St at h ⊢
    rw [e] at h
    exact h
  rw [dif_pos hcond]
  have hcc : (j : Int) < pk.tk.toInt ∧ (at16 pk.D j).toNat / 64 = u.nq := hiff.mp (hc.symm.trans hcond)
  have hd : (at16 pk.D j).toNat < 256 := at16_lt pk.hD j
  have hs : (at16 pk.S j).toNat < 256 := at16_lt pk.hS j
  have hb : (bandW u.aw (at16 pk.S j)).toNat = u.aw.toNat + (at16 pk.S j).toNat / 16 * 32 :=
    bandW_eq (by have := u.haw; have := u.hn; omega) hs
  show _ ⊢ wp frame (wpE (defs₀ (F := F)) 𝒱₀ thr none) Set.univ ((Prog.lift (.enqueueDma _ (.here (p := .scVector (cV L) (jV L)) aV) (.dma sem)
        (View.wordExact_bits rfl) (View.wordExact_bits rfl) ⟨Or.inl rfl, trivial⟩) >>= fun _ =>
      Prog.lift (.waitDma2 sem _ aV (View.wordExact_bits rfl) (View.wordExact_bits rfl)) >>= fun _ =>
    Scf.Loop.for k1_t1_loop k1_t1_ok 0#32 (fun t _ => tripG L (oL1 t) (oS1 t) (oL2 t) (oS2 t) (iL1 hcond t) (iS1 hcond t) (iL2 hcond t) (iS2 hcond t)) >>= fun _ => J : TProg F L α)) Q
  unfold St
  iintro ⟨#Hmw, Hp, ⟨%g0, Ha⟩, Hs, Hsems, HO, HR⟩
  ihave Hs' := (pointsTo_split_subset (q := u.q) (f := u.fs) (S := Finset.univ)
    (Finset.subset_univ (u.asrc.slice (Rect.unit (s := ⟨2, ![u.n, 512]⟩) offA S32x512.size (inbA hcond)) (fun _ => rfl)).view.set)).1 $$ Hs
  icases Hs' with ⟨Hs, Hsr⟩
  iapply (copy_wp d L O W (u.asrc.slice (Rect.unit (s := ⟨2, ![u.n, 512]⟩) offA S32x512.size (inbA hcond)) (fun _ => rfl)) aV sem
    (q := u.q) (fs := u.fs) (fd := g0) (Sd := Finset.univ) _ (Finset.subset_univ _) (show 0 < (aV).view.dmaCredit by decide)) $$ [Hs Ha Hsems HO]
  · isplitr; · iexact Hmw
    isplitl [Hs]; · iexact Hs
    isplitl [Ha]; · iexact Ha
    isplitl [Hsems] <;> iassumption
  iintro ⟨Hs, Ha, Hsems, HO⟩
  ihave Hs' := (pointsTo_split_subset (q := u.q) (f := u.fs) (S := Finset.univ)
    (Finset.subset_univ (u.asrc.slice (Rect.unit (s := ⟨2, ![u.n, 512]⟩) offA S32x512.size (inbA hcond)) (fun _ => rfl)).view.set)).2 $$ [Hs Hsr]
  · isplitl [Hs] <;> iassumption
  set g1 : SB.Idx → Elt F .f32 := (aV).view.write (Elt F) g0
    ((u.asrc.slice (Rect.unit (s := ⟨2, ![u.n, 512]⟩) offA S32x512.size (inbA hcond)) (fun _ => rfl)).view.read (Elt F) u.fs) Finset.univ with hg1
  have hg : ∀ y : SB.Idx, g1 y = u.A ((at16 pk.S j).toNat / 16 * 32 + (y 0).val) (y 1).val := by
    intro y
    have h0 : (y 0).val < 32 := (y 0).isLt
    have h1 : (y 1).val < 512 := (y 1).isLt
    have e : g1 = (u.asrc.slice (Rect.unit (s := ⟨2, ![u.n, 512]⟩) offA S32x512.size (inbA hcond)) (fun _ => rfl)).view.read (Elt F) u.fs :=
      View.write_whole_univ cc1_scratch1 _ _
    rw [e]
    refine congrArg (u.asrc.view.read (Elt F) u.fs) (funext fun a => Fin.ext ?_)
    subst hA
    have := u.haw
    match a with
    | 0 =>
      show (bandW u.aw (at16 pk.S j)).toNat + 1 * (y 0).val = (u.aw.toNat + ((at16 pk.S j).toNat / 16 * 32 + (y 0).val)) % u.n
      rw [hb, Nat.mod_eq_of_lt] <;> omega
    | 1 =>
      show 0 + 1 * (y 1).val = (y 1).val % 512
      omega
  clear_value g1
  have htr : k1_t1_loop.trips = 32 := by decide
  iapply (Scf.wp_for_bind frame (wpE (defs₀ (F := F)) 𝒱₀ thr none) Set.univ k1_t1_loop.lb k1_t1_loop.ub k1_t1_loop.st k1_t1_ok 0#32
    (fun t _ => tripG L (oL1 t) (oS1 t) (oL2 t) (oS2 t) (iL1 hcond t) (iS1 hcond t) (iL2 hcond t) (iS2 hcond t))
    (fun t _ => iprop(((pV).view.loc thr ↦{fullShare} merged (at16 pk.D j).toNat (at16 pk.S j).toNat g1 (Uf d L pk u f0 j) t)
      ∗ ((aV).view.loc thr ↦{fullShare} g1))) (fun t _ => by
        have ht : t.val < 32 := Nat.lt_of_lt_of_eq t.isLt htr
        refine (trip_wp d L _ _ _ _ _ _ _ _ g1 _).trans (wp_mono frame _ _ fun _ => ?_)
        rw [tripF_merged (t := t.val) ht]
        · rw [h1]; simp only [iv_toNat ht, colW_eq hs]
        · rw [h2]; simp only [prowW_eq hd ht, colW_eq hd]
        · rw [h3]; simp only [iv_toNat ht, colW'_eq hs]
        · rw [h4]; simp only [prowW_eq hd ht, colW'_eq hd])) $$ [Hp Ha]
  · isplitl [Hp]
    · rw [merged_zero]; iexact Hp
    · iexact Ha
  iintro %acc ⟨Hp, Ha⟩
  iapply h
  unfold St
  isplitr; · iexact Hmw
  isplitl [Hp]
  · have e : merged (at16 pk.D j).toNat (at16 pk.S j).toNat g1 (Uf d L pk u f0 j) k1_t1_loop.trips = Uf d L pk u f0 (j + 1) := by
      rw [htr]
      exact merged_full (tk := pk.tk.toInt) (D := fun j => (at16 pk.D j).toNat) (Sr := fun j => (at16 pk.S j).toNat) (n := u.nq) (A := u.A) (f := f0) (j := j) hg hcc
    rw [← e]; iexact Hp
  isplitl [Ha]; · iexists _; iexact Ha
  isplitl [Hs']; · iexact Hs'
  isplitl [Hsems]; · iexact Hsems
  isplitl [HO] <;> iassumption

end Cert.Proof.WholeIdeal
-- ==== Proof.StepsW.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.TileW
public import proofs.«01_k».proof.Proof.Gen.WholeIdeal
public import proofs.«01_k».proof.Proof.Gen.WholeIdeal.Skeleton

@[expose] public section

noncomputable section

/-! # The steps of a walk over a tile's program -/

namespace Cert.Proof.WholeIdeal

open Cert.WholeIdeal Cert.WholeIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

local notation "thr" => (V d (cV L) (jV L) : Thread nD τ)

variable (O : CellTallies nD τ sig (HIx 1)) (W : Waits sig (HIx 1))

/-! ## Steps of the walk -/

/-- Where the unit's source is: whole, under a share. -/
theorem copy_sub_wp {α : Type} {sp sp' : Space} {s : Shape} {e : EltTy} (O : CellTallies nD τ sig (HIx 1)) (W : Waits sig (HIx 1))
    (src : Memref sig .scVector sp s e) (dst : Memref sig .scVector sp' s e) (sem : DmaSem sig)
    {h1 : src.view.WordExact} {h2 : dst.view.WordExact} {h3 : DmaTarget.Typed (nD := nD) (p := .scVector (cV L) (jV L)) sp (.dma sem) (.here dst)}
    {h4 : src.view.WordExact} {h5 : dst.view.WordExact} (k : TProg F L α) {Q : α → sProp 𝕄}
    {q : PosShare TreeShare} {fs : Buf (Elt F) (src.view.loc thr)} {Sd : Finset (Idx (dst.view.loc thr))} {fd : Buf (Elt F) (dst.view.loc thr)}
    (hSd : dst.view.set ⊆ Sd) (hN : 0 < dst.view.dmaCredit) :
    iprop(Transfers.MayWaits thr (default : HIx 1) O ∗ (src.view.loc thr ↦{q} fs) ∗ (dst.view.loc thr ↦[Sd]{fullShare} fd)
        ∗ ownSems0 thr ∗ Ow d L O W)
      ⊢ iprop((iprop((src.view.loc thr ↦{q} fs)
              ∗ (dst.view.loc thr ↦[Sd]{fullShare} dst.view.write (Elt F) fd (src.view.read (Elt F) fs) Finset.univ) ∗ ownSems0 thr ∗ Ow d L O W)
            -∗ wp frame (wpE (defs₀ (F := F)) 𝒱₀ thr none) Set.univ k Q)
          -∗ wp frame (wpE (defs₀ (F := F)) 𝒱₀ thr none) Set.univ
            ((Prog.lift (.enqueueDma src (.here dst) (.dma sem) h1 h2 h3) >>= fun _ => Prog.lift (.waitDma2 sem src dst h4 h5) >>= fun _ => k : TProg F L α)) Q) := by
  iintro ⟨#Hmw, Hs, Hd, Hsems, HO⟩ Hk
  ihave Hs' := (pointsTo_split_subset (q := q) (f := fs) (S := Finset.univ) (Finset.subset_univ src.view.set)).1 $$ Hs
  icases Hs' with ⟨Hs, Hsr⟩
  iapply (copy_wp d L O W src dst sem k hSd hN) $$ [Hs Hd Hsems HO]
  · isplitr; · iexact Hmw
    isplitl [Hs]; · iexact Hs
    isplitl [Hd]; · iexact Hd
    isplitl [Hsems] <;> iassumption
  iintro ⟨Hs, Hd, Hsems, HO⟩
  iapply Hk
  isplitl [Hs Hsr]
  · iapply (pointsTo_split_subset (q := q) (f := fs) (S := Finset.univ) (Finset.subset_univ src.view.set)).2
    isplitl [Hs] <;> iassumption
  isplitl [Hd]; · iexact Hd
  isplitl [Hsems] <;> iassumption

/-- Between two units. -/
def Idle (R : sProp 𝕄) : sProp 𝕄 :=
  iprop(Transfers.MayWaits thr (default : HIx 1) O ∗ (∃ f, (pV).view.loc thr ↦{fullShare} f) ∗ (∃ g, (aV).view.loc thr ↦{fullShare} g)
    ∗ ownSems0 thr ∗ Ow d L O W ∗ R)

/-- A copy and its wait, the rest to follow. -/
def copyG {α : Type} {sp sp' : Space} {s : Shape} {e : EltTy} (src : Memref sig .scVector sp s e) (dst : Memref sig .scVector sp' s e) (sem : DmaSem sig)
    (h1 : src.view.WordExact) (h2 : dst.view.WordExact) (h3 : DmaTarget.Typed (nD := nD) (p := .scVector (cV L) (jV L)) sp (.dma sem) (.here dst))
    (h4 : src.view.WordExact) (h5 : dst.view.WordExact) (k : TProg F L α) : TProg F L α :=
  Prog.lift (.enqueueDma src (.here dst) (.dma sem) h1 h2 h3) >>= fun _ => Prog.lift (.waitDma2 sem src dst h4 h5) >>= fun _ => k

/-- A UNIT BEGINS: its quarter fetched. -/
theorem unit_in {α : Type} (pk : Picks) (u : UnitD (F := F) d L) (osrc : Memref sig .scVector .hbm ⟨2, ![u.n, 512]⟩ .f32) (qo : PosShare TreeShare)
    (fo : Buf (Elt F) (osrc.view.loc thr)) (Rest : sProp 𝕄) (p : TProg F L α) {sem : DmaSem sig} {off : Fin 2 → ℕ}
    {inb : ∀ a, off a + S128x512.size a ≤ (⟨2, ![u.n, 512]⟩ : Shape).size a}
    {h1 : (osrc.slice (Rect.unit (s := ⟨2, ![u.n, 512]⟩) off S128x512.size inb) (fun _ => rfl)).view.WordExact} {h2 : (pV).view.WordExact}
    {h3 : DmaTarget.Typed (nD := nD) (p := .scVector (cV L) (jV L)) .hbm (.dma sem) (.here pV)}
    {h4 : (osrc.slice (Rect.unit (s := ⟨2, ![u.n, 512]⟩) off S128x512.size inb) (fun _ => rfl)).view.WordExact} {h5 : (pV).view.WordExact}
    {k : TProg F L α} {Q : α → sProp 𝕄} (f0 : SQ.Idx → Elt F .f32)
    (hp : p = copyG L (osrc.slice (Rect.unit (s := ⟨2, ![u.n, 512]⟩) off S128x512.size inb) (fun _ => rfl)) pV sem h1 h2 h3 h4 h5 k)
    (hf : (osrc.slice (Rect.unit (s := ⟨2, ![u.n, 512]⟩) off S128x512.size inb) (fun _ => rfl)).view.read (Elt F) fo = f0)
    (h : St d L O W pk u f0 0 iprop((osrc.view.loc thr ↦{qo} fo) ∗ Rest) ⊢ wp frame (wpE (defs₀ (F := F)) 𝒱₀ thr none) Set.univ k Q) :
    Idle d L O W iprop((osrc.view.loc thr ↦{qo} fo) ∗ (u.asrc.view.loc thr ↦{u.q} u.fs) ∗ Rest)
      ⊢ wp frame (wpE (defs₀ (F := F)) 𝒱₀ thr none) Set.univ p Q := by
  subst hp
  unfold Idle copyG
  iintro ⟨#Hmw, ⟨%f, Hp⟩, Ha, Hsems, HO, Ho, Hs, HR⟩
  iapply (copy_sub_wp d L O W (osrc.slice (Rect.unit (s := ⟨2, ![u.n, 512]⟩) off S128x512.size inb) (fun _ => rfl)) pV sem
    (q := qo) (fs := fo) (fd := f) (Sd := Finset.univ) k (Finset.subset_univ _) (show 0 < (pV).view.dmaCredit by decide)) $$ [Ho Hp Hsems HO]
  · isplitr; · iexact Hmw
    isplitl [Ho]; · iexact Ho
    isplitl [Hp]; · iexact Hp
    isplitl [Hsems] <;> iassumption
  iintro ⟨Ho, Hp, Hsems, HO⟩
  iapply h
  unfold St
  isplitr; · iexact Hmw
  isplitl [Hp]
  · have e : (pV).view.write (Elt F) f ((osrc.slice (Rect.unit (s := ⟨2, ![u.n, 512]⟩) off S128x512.size inb) (fun _ => rfl)).view.read (Elt F) fo) Finset.univ
        = Uf d L pk u f0 0 := (View.write_whole_univ cc1_scratch0 _ _).trans hf
    rw [← e]; iexact Hp
  isplitl [Ha]; · iexact Ha
  isplitl [Hs]; · iexact Hs
  isplitl [Hsems]; · iexact Hsems
  isplitl [HO]; · iexact HO
  isplitl [Ho] <;> iassumption

/-- A UNIT ENDS: its quarter written out. -/
theorem unit_out {α : Type} (pk : Picks) (u : UnitD (F := F) d L) (f0 : SQ.Idx → Elt F .f32) {n : ℕ} (out : Memref sig .scVector .hbm ⟨2, ![n, 512]⟩ .f32)
    (Sd : Finset (Idx (out.view.loc thr))) (fo : Buf (Elt F) (out.view.loc thr)) (X Rest : sProp 𝕄) (p : TProg F L α) {sem : DmaSem sig} {off : Fin 2 → ℕ}
    {inb : ∀ a, off a + S128x512.size a ≤ (⟨2, ![n, 512]⟩ : Shape).size a}
    {h2 : (out.slice (Rect.unit (s := ⟨2, ![n, 512]⟩) off S128x512.size inb) (fun _ => rfl)).view.WordExact} {h1 : (pV).view.WordExact}
    {h3 : DmaTarget.Typed (nD := nD) (p := .scVector (cV L) (jV L)) .vmem (.dma sem) (.here (out.slice (Rect.unit (s := ⟨2, ![n, 512]⟩) off S128x512.size inb) (fun _ => rfl)))}
    {h5 : (out.slice (Rect.unit (s := ⟨2, ![n, 512]⟩) off S128x512.size inb) (fun _ => rfl)).view.WordExact} {h4 : (pV).view.WordExact}
    {k : TProg F L α} {Q : α → sProp 𝕄}
    (hp : p = copyG L pV (out.slice (Rect.unit (s := ⟨2, ![n, 512]⟩) off S128x512.size inb) (fun _ => rfl)) sem h1 h2 h3 h4 h5 k)
    (f' : Buf (Elt F) (out.view.loc thr))
    (hw : (out.slice (Rect.unit (s := ⟨2, ![n, 512]⟩) off S128x512.size inb) (fun _ => rfl)).view.write (Elt F) fo (Uf d L pk u f0 16) Finset.univ = f')
    (hS : (out.slice (Rect.unit (s := ⟨2, ![n, 512]⟩) off S128x512.size inb) (fun _ => rfl)).view.set ⊆ Sd)
    (h : Idle d L O W iprop(X ∗ (u.asrc.view.loc thr ↦{u.q} u.fs)
        ∗ (out.view.loc thr ↦[Sd]{fullShare} f') ∗ Rest) ⊢ wp frame (wpE (defs₀ (F := F)) 𝒱₀ thr none) Set.univ k Q) :
    St d L O W pk u f0 16 iprop(X ∗ (out.view.loc thr ↦[Sd]{fullShare} fo) ∗ Rest)
      ⊢ wp frame (wpE (defs₀ (F := F)) 𝒱₀ thr none) Set.univ p Q := by
  subst hp hw
  unfold St copyG
  iintro ⟨#Hmw, Hp, Ha, Hs, Hsems, HO, HX, Ho, HR⟩
  iapply (copy_sub_wp d L O W pV (out.slice (Rect.unit (s := ⟨2, ![n, 512]⟩) off S128x512.size inb) (fun _ => rfl)) sem
    (q := fullShare) (fs := Uf d L pk u f0 16) (fd := fo) (Sd := Sd) k hS (show 0 < (pV).view.dmaCredit by decide)) $$ [Ho Hp Hsems HO]
  · isplitr; · iexact Hmw
    isplitl [Hp]; · iexact Hp
    isplitl [Ho]; · iexact Ho
    isplitl [Hsems] <;> iassumption
  iintro ⟨Hp, Ho, Hsems, HO⟩
  iapply h
  unfold Idle
  isplitr; · iexact Hmw
  isplitl [Hp]; · iexists _; iexact Hp
  isplitl [Ha]; · iexact Ha
  isplitl [Hsems]; · iexact Hsems
  isplitl [HO]; · iexact HO
  isplitl [HX]; · iexact HX
  isplitl [Hs]; · iexact Hs
  isplitl [Ho]; · iexact Ho
  iexact HR

theorem walk_bind {α β : Type} {X : sProp 𝕄} {p : TProg F L β} {k : β → TProg F L α} {Q : α → sProp 𝕄}
    (h : X ⊢ wp frame (wpE (defs₀ (F := F)) 𝒱₀ thr none) Set.univ p fun r => wp frame (wpE (defs₀ (F := F)) 𝒱₀ thr none) Set.univ (k r) Q) :
    X ⊢ wp frame (wpE (defs₀ (F := F)) 𝒱₀ thr none) Set.univ (p >>= k) Q := by
  rw [wp_bind]; exact h

theorem walk_pure {α : Type} {X : sProp 𝕄} {r : α} {Q : α → sProp 𝕄} (h : X ⊢ Q r) :
    X ⊢ wp frame (wpE (defs₀ (F := F)) 𝒱₀ thr none) Set.univ (pure r : TProg F L α) Q := by
  rw [wp_pure]
  iintro H; imodintro; iapply h; iexact H

theorem walk_assume {α : Type} {X : sProp 𝕄} {P : Prop} {dec : Decidable P} {k : PLift P → TProg F L α} {Q : α → sProp 𝕄} (hP : P)
    (h : X ⊢ wp frame (wpE (defs₀ (F := F)) 𝒱₀ thr none) Set.univ (k ⟨hP⟩) Q) :
    X ⊢ wp frame (wpE (defs₀ (F := F)) 𝒱₀ thr none) Set.univ (Prog.lift (.assume P dec) >>= k) Q := by
  show X ⊢ wp frame (wpE (defs₀ (F := F)) 𝒱₀ thr none) Set.univ (.op (.assume P dec) k) Q
  iintro H; iapply (wp_assume 𝒱₀ thr none Set.univ hP); iapply h; iexact H

/-- A destination pick's patch lies in its quarter. -/
theorem chkD {P : Prop} {x : BitVec 32} (hx : x.toNat < 256) :
    (∀ t : Fin k1_t1_loop.trips, ∀ _ : P, ∀ a, (![(prowW x t).toNat, (colW x).toNat] : Fin 2 → ℕ) a + S1x16.size a ≤ S128x512.size a)
    ∧ (∀ t : Fin k1_t1_loop.trips, ∀ _ : P, ∀ a, (![(prowW x t).toNat, (Scalar.addi (colW x) 16#32).toNat] : Fin 2 → ℕ) a + S1x16.size a ≤ S128x512.size a) := by
  have htr : k1_t1_loop.trips = 32 := by decide
  refine ⟨fun t _ a => ?_, fun t _ a => ?_⟩ <;> have ht : t.val < 32 := Nat.lt_of_lt_of_eq t.isLt htr
  · match a with
    | 0 => show (prowW x t).toNat + 1 ≤ 128; rw [prowW_eq hx ht]; omega
    | 1 => show (colW x).toNat + 16 ≤ 512; rw [colW_eq hx]; omega
  · match a with
    | 0 => show (prowW x t).toNat + 1 ≤ 128; rw [prowW_eq hx ht]; omega
    | 1 => show (Scalar.addi (colW x) 16#32).toNat + 16 ≤ 512; rw [colW'_eq hx]; omega

/-- A source pick's band lies in its array, its patch in the band. -/
theorem chkS {P : Prop} {n : ℕ} {aw x : BitVec 32} (haw : aw.toNat + 512 ≤ n) (hn : n ≤ 12288) (hx : x.toNat < 256) :
    (∀ _ : P, ∀ a, (![(bandW aw x).toNat, 0] : Fin 2 → ℕ) a + S32x512.size a ≤ (⟨2, ![n, 512]⟩ : Shape).size a)
    ∧ (∀ t : Fin k1_t1_loop.trips, ∀ _ : P, ∀ a, (![(Scf.iv 0#32 1#32 t).toNat, (colW x).toNat] : Fin 2 → ℕ) a + S1x16.size a ≤ S32x512.size a)
    ∧ (∀ t : Fin k1_t1_loop.trips, ∀ _ : P, ∀ a, (![(Scf.iv 0#32 1#32 t).toNat, (Scalar.addi (colW x) 16#32).toNat] : Fin 2 → ℕ) a + S1x16.size a ≤ S32x512.size a) := by
  have htr : k1_t1_loop.trips = 32 := by decide
  refine ⟨fun _ a => ?_, fun t _ a => ?_, fun t _ a => ?_⟩
  · match a with
    | 0 => show (bandW aw x).toNat + 32 ≤ n; rw [bandW_eq (by omega) hx]; omega
    | 1 => show 0 + 512 ≤ 512; omega
  all_goals have ht : t.val < 32 := Nat.lt_of_lt_of_eq t.isLt htr
  · match a with
    | 0 => show (Scf.iv 0#32 1#32 t).toNat + 1 ≤ 32; rw [iv_toNat ht]; omega
    | 1 => show (colW x).toNat + 16 ≤ 512; rw [colW_eq hx]; omega
  · match a with
    | 0 => show (Scf.iv 0#32 1#32 t).toNat + 1 ≤ 32; rw [iv_toNat ht]; omega
    | 1 => show (Scalar.addi (colW x) 16#32).toNat + 16 ≤ 512; rw [colW'_eq hx]; omega

/-- A destination pick checked. -/
theorem walk_D {α : Type} (pk : Picks) (u : UnitD (F := F) d L) (f0 : SQ.Idx → Elt F .f32) (j : ℕ) (Rest : sProp 𝕄) {P C : Prop} {dec : Decidable P}
    {k : PLift P → TProg F L α} {Q : α → sProp 𝕄}
    (hP : (∀ t : Fin k1_t1_loop.trips, ∀ _ : C, ∀ a, (![(prowW (at16 pk.D j) t).toNat, (colW (at16 pk.D j)).toNat] : Fin 2 → ℕ) a + S1x16.size a ≤ S128x512.size a)
      ∧ (∀ t : Fin k1_t1_loop.trips, ∀ _ : C, ∀ a, (![(prowW (at16 pk.D j) t).toNat, (Scalar.addi (colW (at16 pk.D j)) 16#32).toNat] : Fin 2 → ℕ) a + S1x16.size a ≤ S128x512.size a) → P)
    (h : St d L O W pk u f0 j Rest ⊢ wp frame (wpE (defs₀ (F := F)) 𝒱₀ thr none) Set.univ (k ⟨hP (chkD (at16_lt pk.hD j))⟩) Q) :
    St d L O W pk u f0 j Rest ⊢ wp frame (wpE (defs₀ (F := F)) 𝒱₀ thr none) Set.univ (Prog.lift (.assume P dec) >>= k) Q :=
  walk_assume d L _ h

/-- A source pick checked. -/
theorem walk_S {α : Type} (pk : Picks) (u : UnitD (F := F) d L) (f0 : SQ.Idx → Elt F .f32) (j : ℕ) (Rest : sProp 𝕄) {P C : Prop} {dec : Decidable P}
    {k : PLift P → TProg F L α} {Q : α → sProp 𝕄}
    (hP : (∀ _ : C, ∀ a, (![(bandW u.aw (at16 pk.S j)).toNat, 0] : Fin 2 → ℕ) a + S32x512.size a ≤ (⟨2, ![u.n, 512]⟩ : Shape).size a)
      ∧ (∀ t : Fin k1_t1_loop.trips, ∀ _ : C, ∀ a, (![(Scf.iv 0#32 1#32 t).toNat, (colW (at16 pk.S j)).toNat] : Fin 2 → ℕ) a + S1x16.size a ≤ S32x512.size a)
      ∧ (∀ t : Fin k1_t1_loop.trips, ∀ _ : C, ∀ a, (![(Scf.iv 0#32 1#32 t).toNat, (Scalar.addi (colW (at16 pk.S j)) 16#32).toNat] : Fin 2 → ℕ) a + S1x16.size a ≤ S32x512.size a) → P)
    (h : St d L O W pk u f0 j Rest ⊢ wp frame (wpE (defs₀ (F := F)) 𝒱₀ thr none) Set.univ (k ⟨hP (chkS u.haw u.hn (at16_lt pk.hS j))⟩) Q) :
    St d L O W pk u f0 j Rest ⊢ wp frame (wpE (defs₀ (F := F)) 𝒱₀ thr none) Set.univ (Prog.lift (.assume P dec) >>= k) Q :=
  walk_assume d L _ h

theorem idle_perm {R R' X : sProp 𝕄} (e : R = R') (h : Idle d L O W R' ⊢ X) : Idle d L O W R ⊢ X := e ▸ h

/-- A LIST FETCHED: sixteen words of it. -/
theorem list_in {α : Type} (src : Memref sig .scVector .hbm S128 .i32) (dst : Memref sig .scVector .vmem S16 .i32) (q : PosShare TreeShare)
    (fs : Buf (Elt F) (src.view.loc thr)) (Rest : sProp 𝕄) (p : TProg F L α) {sem : DmaSem sig} {off : Fin 1 → ℕ} {inb : ∀ a, off a + S16.size a ≤ S128.size a}
    {h1 : (src.slice (Rect.unit (s := S128) off S16.size inb) (fun _ => rfl)).view.WordExact} {h2 : dst.view.WordExact}
    {h3 : DmaTarget.Typed (nD := nD) (p := .scVector (cV L) (jV L)) .hbm (.dma sem) (.here dst)}
    {h4 : (src.slice (Rect.unit (s := S128) off S16.size inb) (fun _ => rfl)).view.WordExact} {h5 : dst.view.WordExact}
    {k : TProg F L α} {Q : α → sProp 𝕄} (v : Buf (Elt F) (dst.view.loc thr))
    (hp : p = copyG L (src.slice (Rect.unit (s := S128) off S16.size inb) (fun _ => rfl)) dst sem h1 h2 h3 h4 h5 k)
    (hv : ∀ f, dst.view.write (Elt F) f ((src.slice (Rect.unit (s := S128) off S16.size inb) (fun _ => rfl)).view.read (Elt F) fs) Finset.univ = v)
    (hN : 0 < dst.view.dmaCredit)
    (h : Idle d L O W iprop((src.view.loc thr ↦{q} fs) ∗ (dst.view.loc thr ↦{fullShare} v) ∗ Rest) ⊢ wp frame (wpE (defs₀ (F := F)) 𝒱₀ thr none) Set.univ k Q) :
    Idle d L O W iprop((src.view.loc thr ↦{q} fs) ∗ (∃ f, dst.view.loc thr ↦{fullShare} f) ∗ Rest)
      ⊢ wp frame (wpE (defs₀ (F := F)) 𝒱₀ thr none) Set.univ p Q := by
  subst hp
  unfold Idle copyG
  iintro ⟨#Hmw, Hp, Ha, Hsems, HO, Hs, ⟨%f, Hd⟩, HR⟩
  iapply (copy_sub_wp d L O W (src.slice (Rect.unit (s := S128) off S16.size inb) (fun _ => rfl)) dst sem
    (q := q) (fs := fs) (fd := f) (Sd := Finset.univ) k (Finset.subset_univ _) hN) $$ [Hs Hd Hsems HO]
  · isplitr; · iexact Hmw
    isplitl [Hs]; · iexact Hs
    isplitl [Hd]; · iexact Hd
    isplitl [Hsems] <;> iassumption
  iintro ⟨Hs, Hd, Hsems, HO⟩
  rw [hv f]
  iapply h
  unfold Idle
  isplitr; · iexact Hmw
  isplitl [Hp]; · iexact Hp
  isplitl [Ha]; · iexact Ha
  isplitl [Hsems]; · iexact Hsems
  isplitl [HO]; · iexact HO
  isplitl [Hs]; · iexact Hs
  isplitl [Hd]; · iexact Hd
  iexact HR

/-- A list read. -/
theorem list_load {α : Type} (dst : Memref sig .scVector .vmem S16 .i32) (v : Buf (Elt F) (dst.view.loc thr)) (A Rest : sProp 𝕄)
    {r : LoadRect S16} {hl : dst.view.LoadsAt r} {k : (r.shape.Idx → Elt F .i32) → TProg F L α} {Q : α → sProp 𝕄} (w : r.shape.Idx → Elt F .i32)
    (hw : dst.view.readAt (Elt F) r v = w)
    (h : Idle d L O W iprop(A ∗ (dst.view.loc thr ↦{fullShare} v) ∗ Rest) ⊢ wp frame (wpE (defs₀ (F := F)) 𝒱₀ thr none) Set.univ (k w) Q) :
    Idle d L O W iprop(A ∗ (dst.view.loc thr ↦{fullShare} v) ∗ Rest)
      ⊢ wp frame (wpE (defs₀ (F := F)) 𝒱₀ thr none) Set.univ (Prog.lift (.load dst r hl) >>= k) Q := by
  subst hw
  show _ ⊢ wp frame (wpE (defs₀ (F := F)) 𝒱₀ thr none) Set.univ (.op (.load dst r hl) k) Q
  unfold Idle at h ⊢
  iintro ⟨#Hmw, Hp, Ha, Hsems, HO, HA, Hd, HR⟩
  iapply (wp_load 𝒱₀ thr none Set.univ (m := dst) (r := r) (Finset.subset_univ _)) $$ Hd
  iintro Hd
  iapply h
  isplitr; · iexact Hmw
  isplitl [Hp]; · iexact Hp
  isplitl [Ha]; · iexact Ha
  isplitl [Hsems]; · iexact Hsems
  isplitl [HO]; · iexact HO
  isplitl [HA]; · iexact HA
  isplitl [Hd]; · iexact Hd
  iexact HR

end Cert.Proof.WholeIdeal
-- ==== Proof.BodyW.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.StepsW
public import proofs.«01_k».proof.Proof.Gen.WholeIdeal
public import proofs.«01_k».proof.Proof.Gen.WholeIdeal.Skeleton

@[expose] public section

noncomputable section

/-! # A tile's program walked -/

namespace Cert.Proof.WholeIdeal

open Cert.WholeIdeal Cert.WholeIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

local notation "thr" => (V d (cV L) (jV L) : Thread nD τ)

variable (O : CellTallies nD τ sig (HIx 1)) (W : Waits sig (HIx 1))

/-! ## The tile's units -/

/-- The tile's number. -/
abbrev tN : ℕ := (L 0).val * 16 + (L 1).val
/-- The tile's number, a word. -/
abbrev tW : BitVec 32 := tileW (L 0).val (L 1).val

theorem tN_lt : tN L < 32 := by
  have h0 : (L 0).val < 2 := (L 0).isLt
  have h1 : (L 1).val < 16 := (L 1).isLt
  show (L 0).val * 16 + (L 1).val < 32
  omega

theorem tile_at : ((Scalar.muli (fdiv (tW L) 4#32) 16#32).toNat = tN L / 4 * 16)
    ∧ ((lrowW (tW L)).toNat = tN L * 128 ∧ (larowW (tW L)).toNat = tN L / 4 * 512 ∧ qW (lrowW (tW L)) = BitVec.ofNat 32 (tN L % 4)) :=
  ⟨(tile_nums (L 0) (L 1)).1.2, (tile_nums (L 0) (L 1)).2⟩

theorem unit_at (m : Fin 3) : (rowW (tW L) (BitVec.ofNat 32 m)).toNat = tN L * 384 + m.val * 128
    ∧ (arowW (tW L) (BitVec.ofNat 32 m)).toNat = (tN L * 3 + m.val) / 4 * 512
    ∧ qW (rowW (tW L) (BitVec.ofNat 32 m)) = BitVec.ofNat 32 ((tN L * 3 + m.val) % 4) := unit_nums (L 0) (L 1) m

/-- An image unit. -/
abbrev uI (q : PosShare TreeShare) (fs : Buf (Elt F) ((Memref.whole main_v5_scv : Memref sig .scVector .hbm S12288x512 .f32).view.loc thr)) (m : Fin 3) : UnitD (F := F) d L where
  n := 12288
  asrc := Memref.whole main_v5_scv
  q := q
  fs := fs
  aw := arowW (tW L) (BitVec.ofNat 32 m)
  qw := qW (rowW (tW L) (BitVec.ofNat 32 m))
  nq := (tN L * 3 + m.val) % 4
  haw := by rw [(unit_at L m).2.1]; have := tN_lt L; have := m.isLt; omega
  hn := le_refl _
  hqw := (unit_at L m).2.2
  hnq := Nat.mod_lt _ (by decide)

/-- The label's unit. -/
abbrev uL (q : PosShare TreeShare) (fs : Buf (Elt F) ((Memref.whole main_v9_scv : Memref sig .scVector .hbm S4096x512 .f32).view.loc thr)) : UnitD (F := F) d L where
  n := 4096
  asrc := Memref.whole main_v9_scv
  q := q
  fs := fs
  aw := larowW (tW L)
  qw := qW (lrowW (tW L))
  nq := tN L % 4
  haw := by rw [(tile_at L).2.2.1]; have := tN_lt L; omega
  hn := by decide
  hqw := (tile_at L).2.2.2
  hnq := Nat.mod_lt _ (by decide)

/-- The confidences' unit. -/
abbrev uC (q : PosShare TreeShare) (fs : Buf (Elt F) ((Memref.whole main_v11_scv : Memref sig .scVector .hbm S4096x512 .f32).view.loc thr)) : UnitD (F := F) d L where
  n := 4096
  asrc := Memref.whole main_v11_scv
  q := q
  fs := fs
  aw := larowW (tW L)
  qw := qW (lrowW (tW L))
  nq := tN L % 4
  haw := by rw [(tile_at L).2.2.1]; have := tN_lt L; omega
  hn := by decide
  hqw := (tile_at L).2.2.2
  hnq := Nat.mod_lt _ (by decide)

/-! ## The rows each copy moves -/

omit [FloatOps F] in
theorem rows_inb {n r : ℕ} (h : r + 128 ≤ n) : ∀ a, (![r, 0] : Fin 2 → ℕ) a + S128x512.size a ≤ (SN n).size a := fun a => match a with
  | 0 => h
  | 1 => by show 0 + 512 ≤ 512; omega

omit [FloatOps F] in
theorem idx_rows {n r : ℕ} [NeZero n] (inb : ∀ a, (![r, 0] : Fin 2 → ℕ) a + S128x512.size a ≤ (SN n).size a) (f : (SN n).Idx → Elt F .f32) :
    (fun y => f ((Rect.unit (s := SN n) ![r, 0] S128x512.size inb).toLoadRect.idx y)) = rowsAt r f := by
  funext y
  have hr : r + 128 ≤ n := inb 0
  have h0 : (y 0).val < 128 := (y 0).isLt
  refine congrArg f (funext fun a => Fin.ext ?_)
  match a with
  | 0 => show r + 1 * (y 0).val = (r + (y 0).val) % n; rw [Nat.mod_eq_of_lt] <;> omega
  | 1 => show 0 + 1 * (y 1).val = (y 1).val; omega

omit [FloatOps F] in
theorem idx_list {r : ℕ} (inb : ∀ a, (![r] : Fin 1 → ℕ) a + S16.size a ≤ S128.size a) (f : S128.Idx → Elt F .i32) :
    (fun y => f ((Rect.unit (s := S128) ![r] S16.size inb).toLoadRect.idx y)) = listAt r f := by
  funext y
  have hr : r + 16 ≤ 128 := inb 0
  have h0 : (y 0).val < 16 := (y 0).isLt
  refine congrArg f (funext fun a => Fin.ext ?_)
  match a with
  | 0 => show r + 1 * (y 0).val = (r + (y 0).val) % 128; omega

omit [FloatOps F] in
theorem read_list (f : S16.Idx → Elt F .i32) : (fun y => f ((Rect.unit (s := S16) ![0] S16.size inb_S16_S16_0).toLoadRect.idx y)) = f := by
  funext y
  refine congrArg f (funext fun a => Fin.ext ?_)
  match a with
  | 0 => show 0 + 1 * (y 0).val = (y 0).val; omega

/-- The rows of `k` to a tile. -/
abbrev rowSet (n k : ℕ) : Finset (SN n).Idx := Finset.univ.filter fun x => (x 0).val / k = tN L

omit [FloatOps F] in
theorem rows_sub {n k r : ℕ} (inb : ∀ a, (![r, 0] : Fin 2 → ℕ) a + S128x512.size a ≤ (SN n).size a) (h : r / k = tN L ∧ (r + 127) / k = tN L) :
    (Rect.unit (s := SN n) ![r, 0] S128x512.size inb).set ⊆ rowSet L n k := by
  intro x hx
  rw [Rect.mem_set_unit] at hx
  have h0 := hx 0
  change r ≤ (x 0).val ∧ (x 0).val < r + 128 at h0
  simp only [Finset.mem_filter, Finset.mem_univ, true_and]
  refine le_antisymm ?_ ?_
  · rw [← h.2]; exact Nat.div_le_div_right (by omega)
  · rw [← h.1]; exact Nat.div_le_div_right h0.1

/-! ## The walk -/

/-- The tile's inputs: the lists, the planes, each under a share, and the result's old contents. -/
structure Ins where
  q : PosShare TreeShare
  tk : S128.Idx → BitVec 32
  dv : S128.Idx → BitVec 32
  sv : S128.Idx → BitVec 32
  oi : (SN 12288).Idx → Elt F .f32
  ai : (SN 12288).Idx → Elt F .f32
  ol : (SN 4096).Idx → Elt F .f32
  al : (SN 4096).Idx → Elt F .f32
  oc : (SN 4096).Idx → Elt F .f32
  ac : (SN 4096).Idx → Elt F .f32
  fi : (SN 12288).Idx → Elt F .f32
  fl : (SN 4096).Idx → Elt F .f32
  fc : (SN 4096).Idx → Elt F .f32
  hdv : ∀ i, (dv i).toNat < 256
  hsv : ∀ i, (sv i).toNat < 256

variable (I : Ins (F := F))

/-- The first word of the tile's batch in a list. -/
abbrev lOff : ℕ := (Scalar.muli (fdiv (tW L) 4#32) 16#32).toNat

/-- The tile's picks. -/
def pk : Picks where
  tk := extractAt ![0] (k1_pay3 (F := F) (listAt (lOff L) I.tk)) inpos_S1_p0
  D := k1_pay4 (F := F) (listAt (lOff L) I.dv)
  S := k1_pay5 (F := F) (listAt (lOff L) I.sv)
  hD := fun _ => I.hdv _
  hS := fun _ => I.hsv _

abbrev iR (m : Fin 3) : ℕ := (rowW (tW L) (BitVec.ofNat 32 m)).toNat
abbrev lR : ℕ := (lrowW (tW L)).toNat

/-- What an image unit leaves of its quarter; the label's; the confidences'. -/
abbrev UI (m : Fin 3) : SQ.Idx → Elt F .f32 := Uf d L (pk L I) (uI d L I.q I.ai m) (rowsAt (iR L m) I.oi) 16
abbrev UL : SQ.Idx → Elt F .f32 := Uf d L (pk L I) (uL d L I.q I.al) (rowsAt (lR L) I.ol) 16
abbrev UC : SQ.Idx → Elt F .f32 := Uf d L (pk L I) (uC d L I.q I.ac) (rowsAt (lR L) I.oc) 16

/-- The lists and where the tile keeps its part of them. -/
abbrev rL (b0 b1 b2 : sProp 𝕄) : sProp 𝕄 :=
  iprop(((Memref.whole main_v1_scv : Memref sig .scVector .hbm S128 .i32).view.loc thr ↦{I.q} I.tk) ∗ b0
    ∗ ((Memref.whole main_v2_scv : Memref sig .scVector .hbm S128 .i32).view.loc thr ↦{I.q} I.dv) ∗ b1
    ∗ ((Memref.whole main_v3_scv : Memref sig .scVector .hbm S128 .i32).view.loc thr ↦{I.q} I.sv) ∗ b2)
abbrev b0 (f : S16.Idx → BitVec 32) : sProp 𝕄 := (Memref.whole cc1_scratch2 : Memref sig .scVector .vmem S16 .i32).view.loc thr ↦{fullShare} f
abbrev b1 (f : S16.Idx → BitVec 32) : sProp 𝕄 := (Memref.whole cc1_scratch3 : Memref sig .scVector .vmem S16 .i32).view.loc thr ↦{fullShare} f
abbrev b2 (f : S16.Idx → BitVec 32) : sProp 𝕄 := (Memref.whole cc1_scratch4 : Memref sig .scVector .vmem S16 .i32).view.loc thr ↦{fullShare} f
abbrev rI (f : (SN 12288).Idx → Elt F .f32) : sProp 𝕄 :=
  iprop(((Memref.whole main_v4_scv : Memref sig .scVector .hbm S12288x512 .f32).view.loc thr ↦{I.q} I.oi)
    ∗ ((Memref.whole main_v5_scv : Memref sig .scVector .hbm S12288x512 .f32).view.loc thr ↦{I.q} I.ai)
    ∗ ((Memref.whole main_v12_0_scv : Memref sig .scVector .hbm S12288x512 .f32).view.loc thr ↦[rowSet L 12288 384]{fullShare} f))
abbrev rLab (f : (SN 4096).Idx → Elt F .f32) : sProp 𝕄 :=
  iprop(((Memref.whole main_v7_scv : Memref sig .scVector .hbm S4096x512 .f32).view.loc thr ↦{I.q} I.ol)
    ∗ ((Memref.whole main_v9_scv : Memref sig .scVector .hbm S4096x512 .f32).view.loc thr ↦{I.q} I.al)
    ∗ ((Memref.whole main_v12_1_scv : Memref sig .scVector .hbm S4096x512 .f32).view.loc thr ↦[rowSet L 4096 128]{fullShare} f))
abbrev rC (f : (SN 4096).Idx → Elt F .f32) : sProp 𝕄 :=
  iprop(((Memref.whole main_v10_scv : Memref sig .scVector .hbm S4096x512 .f32).view.loc thr ↦{I.q} I.oc)
    ∗ ((Memref.whole main_v11_scv : Memref sig .scVector .hbm S4096x512 .f32).view.loc thr ↦{I.q} I.ac)
    ∗ ((Memref.whole main_v12_2_scv : Memref sig .scVector .hbm S4096x512 .f32).view.loc thr ↦[rowSet L 4096 128]{fullShare} f))

omit [FloatOps F] in
theorem iR_div (m : Fin 3) : iR L m / 384 = tN L ∧ (iR L m + 127) / 384 = tN L := by
  have := m.isLt
  unfold iR; rw [(unit_at L m).1]; omega
omit [FloatOps F] in
theorem lR_div : lR L / 128 = tN L ∧ (lR L + 127) / 128 = tN L := by
  unfold lR; rw [(tile_at L).2.1]; omega

omit [FloatOps F] in
theorem iR_le (m : Fin 3) : iR L m + 128 ≤ 12288 := by
  have := iR_div L m; have := tN_lt L; omega
omit [FloatOps F] in
theorem lR_le : lR L + 128 ≤ 4096 := by
  have := lR_div L; have := tN_lt L; omega

section Perm
variable {M : Type*} (op : M → M → M) [Std.Commutative op] [Std.Associative op] (a b c x y z u v w l r : M)
theorem perm_lists : op (op a (op b (op c (op x (op y z))))) r = op a (op b (op c (op x (op y (op z r))))) := by ac_rfl
theorem perm_rot : op a (op b (op c (op x (op y (op z r))))) = op c (op x (op y (op z (op a (op b r))))) := by ac_rfl
theorem perm_image : op y (op z (op a (op b (op c (op x (op (op u (op v w)) r)))))) = op u (op v (op w (op (op a (op b (op c (op x (op y z))))) r))) := by ac_rfl
theorem perm_label : op a (op b (op c (op l (op (op x (op y z)) r)))) = op x (op y (op z (op l (op (op a (op b c)) r)))) := by ac_rfl
theorem perm_conf : op x (op y (op z (op l (op (op a (op b c)) (op u (op v w)))))) = op u (op v (op w (op l (op (op a (op b c)) (op x (op y z)))))) := by ac_rfl
theorem perm_end : op u (op v (op w (op l (op (op a (op b c)) (op x (op y z)))))) = op l (op (op a (op b c)) (op (op x (op y z)) (op u (op v w)))) := by ac_rfl
end Perm

omit [FloatOps F] in
theorem sep_com : Std.Commutative (α := sProp 𝕄) BIBase.sep := ⟨fun _ _ => BI.Entails.antisymm BI.sep_comm BI.sep_comm⟩
omit [FloatOps F] in
theorem sep_ass : Std.Associative (α := sProp 𝕄) BIBase.sep := ⟨fun _ _ _ => BI.Entails.antisymm BI.sep_assoc BI.sep_assoc'⟩
attribute [local instance] sep_com sep_ass

set_option maxHeartbeats 40000000 in
set_option maxRecDepth 65536 in
theorem body_wp :
    Idle d L O W iprop(rL d L I iprop(∃ f, b0 d L f) iprop(∃ f, b1 d L f) iprop(∃ f, b2 d L f) ∗ rI d L I I.fi ∗ rLab d L I I.fl ∗ rC d L I I.fc)
      ⊢ wp frame (wpE (defs₀ (F := F)) 𝒱₀ thr none) Set.univ (cc1__sc_assemble_body (F := F) L (Memref.whole main_v4_scv) (Memref.isWhole_whole _) (Memref.whole main_v5_scv) (Memref.isWhole_whole _) (Memref.whole main_v7_scv) (Memref.isWhole_whole _) (Memref.whole main_v9_scv) (Memref.isWhole_whole _) (Memref.whole main_v10_scv) (Memref.isWhole_whole _) (Memref.whole main_v11_scv) (Memref.isWhole_whole _) (Memref.whole main_v1_scv) (Memref.isWhole_whole _) (Memref.whole main_v2_scv) (Memref.isWhole_whole _) (Memref.whole main_v3_scv) (Memref.isWhole_whole _) (Memref.whole main_v12_0_scv) (Memref.isWhole_whole _) (Memref.whole main_v12_1_scv) (Memref.isWhole_whole _) (Memref.whole main_v12_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92)
        fun _ => Idle d L O W iprop(rL d L I (b0 d L (listAt (lOff L) I.tk)) (b1 d L (listAt (lOff L) I.dv)) (b2 d L (listAt (lOff L) I.sv))
          ∗ rI d L I (putRows (iR L 2) (UI d L I 2) (putRows (iR L 1) (UI d L I 1) (putRows (iR L 0) (UI d L I 0) I.fi)))
          ∗ rLab d L I (putRows (lR L) (UL d L I) I.fl) ∗ rC d L I (putRows (lR L) (UC d L I) I.fc)) := by
  refine walk_bind d L ?_
  refine walk_bind d L ?_
  refine idle_perm d L O W (perm_lists BIBase.sep _ _ _ _ _ _ _) ?_
  refine list_in d L O W (Memref.whole main_v1_scv) (Memref.whole cc1_scratch2) I.q I.tk _ _ (listAt (lOff L) I.tk) rfl
    (fun f => (View.write_whole_univ cc1_scratch2 _ _).trans (idx_list _ _)) (by decide) ?_
  refine idle_perm d L O W (perm_rot BIBase.sep _ _ _ _ _ _ _) ?_
  refine list_in d L O W (Memref.whole main_v2_scv) (Memref.whole cc1_scratch3) I.q I.dv _ _ (listAt (lOff L) I.dv) rfl
    (fun f => (View.write_whole_univ cc1_scratch3 _ _).trans (idx_list _ _)) (by decide) ?_
  refine idle_perm d L O W (perm_rot BIBase.sep _ _ _ _ _ _ _) ?_
  refine list_in d L O W (Memref.whole main_v3_scv) (Memref.whole cc1_scratch4) I.q I.sv _ _ (listAt (lOff L) I.sv) rfl
    (fun f => (View.write_whole_univ cc1_scratch4 _ _).trans (idx_list _ _)) (by decide) ?_
  refine idle_perm d L O W (perm_rot BIBase.sep _ _ _ _ _ _ _) ?_
  refine list_load d L O W (Memref.whole cc1_scratch2) _ _ _ (listAt (lOff L) I.tk) (read_list _) ?_
  refine idle_perm d L O W (perm_rot BIBase.sep _ _ _ _ _ _ _) ?_
  refine list_load d L O W (Memref.whole cc1_scratch3) _ _ _ (listAt (lOff L) I.dv) (read_list _) ?_
  refine walk_pure d L ?_
  refine walk_bind d L ?_
  refine idle_perm d L O W (perm_rot BIBase.sep _ _ _ _ _ _ _) ?_
  refine list_load d L O W (Memref.whole cc1_scratch4) _ _ _ (listAt (lOff L) I.sv) (read_list _) ?_
  refine walk_pure d L ?_
  refine walk_bind d L ?_
  refine idle_perm d L O W (perm_image BIBase.sep _ _ _ _ _ _ _ _ _ _) ?_
  -- the image, quarter 0
  refine unit_in d L O W (pk L I) (uI d L I.q I.ai 0) (Memref.whole main_v4_scv) I.q I.oi _ _ (rowsAt (iR L 0) I.oi) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 15
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine unit_out d L O W _ _ _ (Memref.whole main_v12_0_scv) (rowSet L 12288 384) _ _ _ _ rfl (putRows (iR L 0) (UI d L I 0) I.fi)
    ((View.write_whole_slice_unit main_v12_0_scv _ _ _ _ _).trans (updateSlice_rows (rows_inb (iR_le L 0)) _ _)) ?_ ?_
  · exact (View.set_slice _ _).trans_subset (Finset.map_refl.trans_subset (rows_sub L (k := 384) _ (iR_div L 0)))
  refine walk_pure d L ?_
  refine walk_bind d L ?_
  refine walk_pure d L ?_
  refine walk_bind d L ?_
  -- quarter 1
  refine unit_in d L O W (pk L I) (uI d L I.q I.ai 1) (Memref.whole main_v4_scv) I.q I.oi _ _ (rowsAt (iR L 1) I.oi) rfl (idx_rows _ _) ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 11
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine unit_out d L O W _ _ _ (Memref.whole main_v12_0_scv) (rowSet L 12288 384) _ _ _ _ rfl (putRows (iR L 1) (UI d L I 1) (putRows (iR L 0) (UI d L I 0) I.fi))
    ((View.write_whole_slice_unit main_v12_0_scv _ _ _ _ _).trans (updateSlice_rows (rows_inb (iR_le L 1)) _ _)) ?_ ?_
  · exact (View.set_slice _ _).trans_subset (Finset.map_refl.trans_subset (rows_sub L (k := 384) _ (iR_div L 1)))
  refine walk_pure d L ?_
  refine walk_bind d L ?_
  -- quarter 2
  refine unit_in d L O W (pk L I) (uI d L I.q I.ai 2) (Memref.whole main_v4_scv) I.q I.oi _ _ (rowsAt (iR L 2) I.oi) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 8
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 4
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine unit_out d L O W _ _ _ (Memref.whole main_v12_0_scv) (rowSet L 12288 384) _ _ _ _ rfl (putRows (iR L 2) (UI d L I 2) (putRows (iR L 1) (UI d L I 1) (putRows (iR L 0) (UI d L I 0) I.fi)))
    ((View.write_whole_slice_unit main_v12_0_scv _ _ _ _ _).trans (updateSlice_rows (rows_inb (iR_le L 2)) _ _)) ?_ ?_
  · exact (View.set_slice _ _).trans_subset (Finset.map_refl.trans_subset (rows_sub L (k := 384) _ (iR_div L 2)))
  -- the label
  refine idle_perm d L O W (perm_label BIBase.sep _ _ _ _ _ _ _ _) ?_
  refine unit_in d L O W (pk L I) (uL d L I.q I.al) (Memref.whole main_v7_scv) I.q I.ol _ _ (rowsAt (lR L) I.ol) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_pure d L ?_
  refine walk_bind d L ?_
  refine walk_bind d L ?_
  iterate 10
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine walk_D d L O W _ _ _ _ _ (fun h => h) ?_
  refine walk_pure d L ?_
  refine walk_bind d L ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine branch_wp d L O W _ _ _ _ _ _ rfl (by decide) rfl rfl rfl rfl rfl rfl ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_bind d L ?_
  refine branch_wp d L O W _ _ _ _ _ _ rfl (by decide) rfl rfl rfl rfl rfl rfl ?_
  refine unit_out d L O W _ _ _ (Memref.whole main_v12_1_scv) (rowSet L 4096 128) _ _ _ _ rfl (putRows (lR L) (UL d L I) I.fl)
    ((View.write_whole_slice_unit main_v12_1_scv _ _ _ _ _).trans (updateSlice_rows (rows_inb (lR_le L)) _ _)) ?_ ?_
  · exact (View.set_slice _ _).trans_subset (Finset.map_refl.trans_subset (rows_sub L (k := 128) _ (lR_div L)))
  -- the confidences
  refine idle_perm d L O W (perm_conf BIBase.sep _ _ _ _ _ _ _ _ _ _) ?_
  refine unit_in d L O W (pk L I) (uC d L I.q I.ac) (Memref.whole main_v10_scv) I.q I.oc _ _ (rowsAt (lR L) I.oc) rfl (idx_rows _ _) ?_
  refine walk_pure d L ?_
  refine walk_bind d L ?_
  refine walk_D d L O W _ _ _ _ _ (fun h => h) ?_
  refine walk_S d L O W _ _ _ _ _ (fun h => h) ?_
  refine walk_pure d L ?_
  refine walk_bind d L ?_
  iterate 14
    refine branch_wp d L O W _ _ _ _ _ _ rfl (by decide) rfl rfl rfl rfl rfl rfl ?_
    refine walk_D d L O W _ _ _ _ _ (fun h => h) ?_
    refine walk_S d L O W _ _ _ _ _ (fun h => h) ?_
    refine walk_pure d L ?_
    refine walk_bind d L ?_
  refine branch_wp d L O W _ _ _ _ _ _ rfl (by decide) rfl rfl rfl rfl rfl rfl ?_
  refine walk_D d L O W _ _ _ _ _ (fun h => h) ?_
  refine walk_S d L O W _ _ _ _ _ (fun h => h) ?_
  refine walk_pure d L ?_
  refine walk_pure d L ?_
  refine branch_wp d L O W _ _ _ _ _ _ rfl (by decide) rfl rfl rfl rfl rfl rfl ?_
  refine unit_out d L O W _ _ _ (Memref.whole main_v12_2_scv) (rowSet L 4096 128) _ _ _ _ rfl (putRows (lR L) (UC d L I) I.fc)
    ((View.write_whole_slice_unit main_v12_2_scv _ _ _ _ _).trans (updateSlice_rows (rows_inb (lR_le L)) _ _)) ?_ ?_
  · exact (View.set_slice _ _).trans_subset (Finset.map_refl.trans_subset (rows_sub L (k := 128) _ (lR_div L)))
  refine walk_pure d L ?_
  refine idle_perm d L O W (perm_end BIBase.sep _ _ _ _ _ _ _ _ _ _) ?_
  iintro H; iexact H

end Cert.Proof.WholeIdeal
-- ==== Proof.GoalW.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.BodyW
public import proofs.«01_k».proof.Proof.Gen.WholeIdeal
public import proofs.«01_k».proof.Proof.Gen.WholeIdeal.Skeleton

@[expose] public section

noncomputable section

namespace Cert.Proof.WholeIdeal

open Cert.WholeIdeal Cert.WholeIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (L : grid1.Coords)

local notation "thr" => (V d (cV L) (jV L) : Thread nD τ)

variable (O : CellTallies nD τ sig (HIx 1)) (W : Waits sig (HIx 1))

/-! # What a tile leaves: the rows of the result -/

variable (I : Ins (F := F))

def tkZ (b : ℕ) : ℤ := (lAt I.tk b 0).toInt
def dN (b j : ℕ) : ℕ := (lAt I.dv b j).toNat
def sN (b j : ℕ) : ℕ := (lAt I.sv b j).toNat

/-- The images, the labels, the confidences the kernel owes. -/
def gI : (SN 12288).Idx → Elt F .f32 := pastedAt 3 (tkZ I) (dN I) (sN I) I.oi I.ai
def gL : (SN 4096).Idx → Elt F .f32 := pastedAt 1 (tkZ I) (dN I) (sN I) I.ol I.al
def gC : (SN 4096).Idx → Elt F .f32 := pastedAt 1 (tkZ I) (dN I) (sN I) I.oc I.ac

theorem listAt_tile (l : S128.Idx → BitVec 32) (j : ℕ) : listAt (lOff L) l (ix16 j) = lAt l (tN L / 4) j := by
  refine congrArg l (funext fun a => Fin.ext ?_)
  match a with
  | 0 => show (lOff L + j % 16) % 128 = (tN L / 4 * 16 + j % 16) % 128; rw [show lOff L = tN L / 4 * 16 from (tile_at L).1]

theorem at16_eq (v : IVec S16 32) (j : ℕ) : at16 v j = v (ix16 j) := by
  refine congrArg v (funext fun a => Fin.ext ?_)
  match a with
  | 0 => show j % 16 + 0 = j % 16; rfl

theorem pk_tk : (pk L I).tk = lAt I.tk (tN L / 4) 0 := by
  refine Eq.trans ?_ (listAt_tile L I.tk 0)
  refine Eq.trans ?_ (at16_eq (listAt (lOff L) I.tk) 0)
  show extractAt ![0] (k1_pay3 (F := F) (listAt (lOff L) I.tk)) inpos_S1_p0 = _
  unfold k1_pay3
  rw [shapeCast_self]
  rfl
theorem pk_D (j : ℕ) : at16 (pk L I).D j = lAt I.dv (tN L / 4) j := by
  refine Eq.trans ?_ (listAt_tile L I.dv j)
  refine (at16_eq _ j).trans ?_
  show k1_pay4 (F := F) (listAt (lOff L) I.dv) _ = _
  unfold k1_pay4
  exact congrFun (shapeCast_self _ _) _
theorem pk_S (j : ℕ) : at16 (pk L I).S j = lAt I.sv (tN L / 4) j := by
  refine Eq.trans ?_ (listAt_tile L I.sv j)
  refine (at16_eq _ j).trans ?_
  show k1_pay5 (F := F) (listAt (lOff L) I.sv) _ = _
  unfold k1_pay5
  exact congrFun (shapeCast_self _ _) _

/-- A unit's quarter after its sixteen picks, from the lists. -/
theorem Uf_eq (u : UnitD (F := F) d L) (f0 : SQ.Idx → Elt F .f32) : Uf d L (pk L I) u f0 16
    = pasted (tkZ I (tN L / 4)) (dN I (tN L / 4)) (sN I (tN L / 4)) u.nq u.A f0 16 := by
  have hD : (fun j => (at16 (pk L I).D j).toNat) = dN I (tN L / 4) := funext fun j => congrArg BitVec.toNat (pk_D L I j)
  have hS : (fun j => (at16 (pk L I).S j).toNat) = sN I (tN L / 4) := funext fun j => congrArg BitVec.toNat (pk_S L I j)
  have ht : (pk L I).tk.toInt = tkZ I (tN L / 4) := congrArg BitVec.toInt (pk_tk L I)
  unfold Uf
  rw [hD, hS, ht]

theorem uI_A (m : Fin 3) : (uI d L I.q I.ai m).A = planeAt (arowW (tW L) (BitVec.ofNat 32 m)).toNat I.ai :=
  funext fun _ => funext fun _ => congrArg I.ai (funext fun a => match a with | 0 => rfl | 1 => rfl)
theorem uL_A : (uL d L I.q I.al).A = planeAt (larowW (tW L)).toNat I.al :=
  funext fun _ => funext fun _ => congrArg I.al (funext fun a => match a with | 0 => rfl | 1 => rfl)
theorem uC_A : (uC d L I.q I.ac).A = planeAt (larowW (tW L)).toNat I.ac :=
  funext fun _ => funext fun _ => congrArg I.ac (funext fun a => match a with | 0 => rfl | 1 => rfl)

theorem UI_eq (m : Fin 3) : UI d L I m = pasted (tkZ I (tN L / 4)) (dN I (tN L / 4)) (sN I (tN L / 4)) ((tN L * 3 + m.val) % 4)
    (planeAt (arowW (tW L) (BitVec.ofNat 32 m)).toNat I.ai) (rowsAt (iR L m) I.oi) 16 := by
  rw [← uI_A d L I]; exact Uf_eq d L I (uI d L I.q I.ai m) _
theorem UL_eq : UL d L I = pasted (tkZ I (tN L / 4)) (dN I (tN L / 4)) (sN I (tN L / 4)) (tN L % 4)
    (planeAt (larowW (tW L)).toNat I.al) (rowsAt (lR L) I.ol) 16 := by
  rw [← uL_A d L I]; exact Uf_eq d L I (uL d L I.q I.al) _
theorem UC_eq : UC d L I = pasted (tkZ I (tN L / 4)) (dN I (tN L / 4)) (sN I (tN L / 4)) (tN L % 4)
    (planeAt (larowW (tW L)).toNat I.ac) (rowsAt (lR L) I.oc) 16 := by
  rw [← uC_A d L I]; exact Uf_eq d L I (uC d L I.q I.ac) _

theorem putI (m : Fin 3) (f : (SN 12288).Idx → Elt F .f32) (x : (SN 12288).Idx) :
    putRows (iR L m) (UI d L I m) f x = if (x 0).val / 128 = tN L * 3 + m.val then gI I x else f x := by
  have hm := m.isLt
  rw [UI_eq]
  exact pastedAt_unit (kk := 3) (by rw [show iR L m = _ from (unit_at L m).1]; omega) (by omega) (unit_at L m).2.1 rfl f x
theorem putL (f : (SN 4096).Idx → Elt F .f32) (x : (SN 4096).Idx) :
    putRows (lR L) (UL d L I) f x = if (x 0).val / 128 = tN L then gL I x else f x := by
  rw [UL_eq]
  exact pastedAt_unit (kk := 1) (tile_at L).2.1 (by omega) (tile_at L).2.2.1 rfl f x
theorem putC (f : (SN 4096).Idx → Elt F .f32) (x : (SN 4096).Idx) :
    putRows (lR L) (UC d L I) f x = if (x 0).val / 128 = tN L then gC I x else f x := by
  rw [UC_eq]
  exact pastedAt_unit (kk := 1) (tile_at L).2.1 (by omega) (tile_at L).2.2.1 rfl f x

theorem out_img (x : (SN 12288).Idx) (hx : x ∈ rowSet L 12288 384) :
    putRows (iR L 2) (UI d L I 2) (putRows (iR L 1) (UI d L I 1) (putRows (iR L 0) (UI d L I 0) I.fi)) x = gI I x := by
  rw [putI, putI, putI]
  have hx' : (x 0).val / 384 = tN L := (Finset.mem_filter.mp hx).2
  have e2 : ((2 : Fin 3) : ℕ) = 2 := rfl
  have e1 : ((1 : Fin 3) : ℕ) = 1 := rfl
  have e0 : ((0 : Fin 3) : ℕ) = 0 := rfl
  rw [e2, e1, e0]
  split
  · rfl
  · split
    · rfl
    · rw [if_pos (by omega)]
theorem out_lab (x : (SN 4096).Idx) (hx : x ∈ rowSet L 4096 128) : putRows (lR L) (UL d L I) I.fl x = gL I x := by
  rw [putL, if_pos (Finset.mem_filter.mp hx).2]
theorem out_conf (x : (SN 4096).Idx) (hx : x ∈ rowSet L 4096 128) : putRows (lR L) (UC d L I) I.fc x = gC I x := by
  rw [putC, if_pos (Finset.mem_filter.mp hx).2]

/-! ## A tile's part of the arrays -/

/-- The nine inputs under a share. -/
def insAt (q : PosShare TreeShare) : sProp 𝕄 :=
  iprop(((SparseCore.T d).loc main_v1 ↦{q} I.tk) ∗ ((SparseCore.T d).loc main_v2 ↦{q} I.dv) ∗ ((SparseCore.T d).loc main_v3 ↦{q} I.sv)
    ∗ ((SparseCore.T d).loc main_v4 ↦{q} I.oi) ∗ ((SparseCore.T d).loc main_v5 ↦{q} I.ai) ∗ ((SparseCore.T d).loc main_v7 ↦{q} I.ol)
    ∗ ((SparseCore.T d).loc main_v9 ↦{q} I.al) ∗ ((SparseCore.T d).loc main_v10 ↦{q} I.oc) ∗ ((SparseCore.T d).loc main_v11 ↦{q} I.ac))

/-- The rows of tile `w`, `k` of them. -/
def rowsOf (n k : ℕ) (w : Fin 32) : Finset (SN n).Idx := Finset.univ.filter fun x => (x 0).val / k = w.val

/-- Tile `w`'s rows of the three results. -/
def outsAt (w : Fin 32) (f : (SN 12288).Idx → Elt F .f32) (g h : (SN 4096).Idx → Elt F .f32) : sProp 𝕄 :=
  iprop(((SparseCore.T d).loc main_v12_0 ↦[rowsOf 12288 384 w]{fullShare} f) ∗ ((SparseCore.T d).loc main_v12_1 ↦[rowsOf 4096 128 w]{fullShare} g)
    ∗ ((SparseCore.T d).loc main_v12_2 ↦[rowsOf 4096 128 w]{fullShare} h))

/-- Tile `w`'s share of the inputs. -/
abbrev shareOf (w : Fin 32) : PosShare TreeShare := ShareLeaves.leaf 5 fullShare w

/-- What tile `w` is handed, and what it hands back. -/
def goAt (w : Fin 32) : sProp 𝕄 := iprop(insAt d I (shareOf w) ∗ outsAt d w I.fi I.fl I.fc)
def tdAt (w : Fin 32) : sProp 𝕄 := iprop(insAt d I (shareOf w) ∗ outsAt d w (gI I) (gL I) (gC I))

omit [FloatOps F] in
theorem mem_ownRefs_erase {p : Proc τ} {b b' : DevRef τ sig} {S : Finset (DevRef τ sig)} (h : b ≠ b') (hb : b ∈ S) : b ∈ S.erase b' :=
  Finset.mem_erase.mpr ⟨h, hb⟩

abbrev scr (b : Ref sig .scVector) : DevRef τ sig := (Proc.scVector (cV L) (jV L)).devRef b

omit [FloatOps F] in
theorem scr_ne {b b' : Ref sig .scVector} (h : b ≠ b') : scr L b ≠ scr L b' := fun e => h (Proc.devRef_injective _ e)

/-- The tile's other buffers. -/
def restB : sProp 𝕄 :=
  bigSep ((((((ownRefs (τ := τ) (.scVector (cV L) (jV L))).erase (scr L cc1_scratch0)).erase (scr L cc1_scratch1)).erase (scr L cc1_scratch2)).erase
    (scr L cc1_scratch3)).erase (scr L cc1_scratch4)) fun b => iprop(∃ f, ((d, b) : Loc nD τ sig) ↦{fullShare} f)

omit [FloatOps F] in
/-- The five scratch buffers are among the tile's own. -/
theorem ownBufs_V : (ownBufs thr : sProp 𝕄)
    = iprop((∃ f, (V d (cV L) (jV L)).loc cc1_scratch0 ↦{fullShare} f) ∗ (∃ f, (V d (cV L) (jV L)).loc cc1_scratch1 ↦{fullShare} f)
      ∗ (∃ f, (V d (cV L) (jV L)).loc cc1_scratch2 ↦{fullShare} f) ∗ (∃ f, (V d (cV L) (jV L)).loc cc1_scratch3 ↦{fullShare} f)
      ∗ (∃ f, (V d (cV L) (jV L)).loc cc1_scratch4 ↦{fullShare} f) ∗ restB d L) := by
  have hm (b : Ref sig .scVector) (h : (scr L b).owner = .proc (Proc.scVector (cV L) (jV L))) : scr L b ∈ ownRefs (τ := τ) (.scVector (cV L) (jV L)) :=
    SparseCore.Cfg.mem_ownRefs_of_owner h
  have er {b b' : DevRef τ sig} {S : Finset (DevRef τ sig)} (h : b ≠ b') (hb : b ∈ S) : b ∈ S.erase b' := Finset.mem_erase.mpr ⟨h, hb⟩
  unfold SparseCore.Cfg.ownBufs restB
  refine (SparseCore.bigSep_erase' (hm cc1_scratch0 rfl)).trans ?_
  rw [SparseCore.bigSep_erase' (er (scr_ne L (by decide)) (hm cc1_scratch1 rfl)),
    SparseCore.bigSep_erase' (er (scr_ne L (by decide)) (er (scr_ne L (by decide)) (hm cc1_scratch2 rfl))),
    SparseCore.bigSep_erase' (er (scr_ne L (by decide)) (er (scr_ne L (by decide)) (er (scr_ne L (by decide)) (hm cc1_scratch3 rfl)))),
    SparseCore.bigSep_erase' (er (scr_ne L (by decide)) (er (scr_ne L (by decide)) (er (scr_ne L (by decide)) (er (scr_ne L (by decide)) (hm cc1_scratch4 rfl)))))]

/-- A program run beside what it does not touch. -/
theorem run_with {α : Type} {X R : sProp 𝕄} {p : TProg F L α} {Q : α → sProp 𝕄} (h : X ⊢ wp frame (wpE (defs₀ (F := F)) 𝒱₀ thr none) Set.univ p Q) :
    iprop(X ∗ R) ⊢ wp frame (wpE (defs₀ (F := F)) 𝒱₀ thr none) Set.univ p fun a => iprop(Q a ∗ R) := by
  iintro ⟨HX, HR⟩
  iapply (wp_frame_r frame (wpE (defs₀ (F := F)) 𝒱₀ thr none) Set.univ (p := p) (Q := Q) (R := R))
  isplitl [HX]; · iapply h; iexact HX
  iexact HR

/-- The tile's inputs at its share. -/
abbrev tI (w : Fin 32) : Ins (F := F) := { I with q := shareOf w }

/-- A TILE: from its part of the arrays at their old contents to its part at the results. -/
theorem tile_body (w : Fin 32) (hw : w.val = tN L) (hF : (K (F := F)).Facts) (hO : ∀ g, O g none = 0) :
    iprop(levAts (K (F := F)).L (K (F := F)).lev ∗ emp ∗ goAt d I w
        ∗ scopedBufs thr ∗ scopedSems0 thr ∗ owes thr O W)
      ⊢ wp frame (wpE (defs₀ (F := F)) 𝒱₀ thr none) Set.univ
          (cc1__sc_assemble_body (F := F) L (Memref.whole main_v4_scv) (Memref.isWhole_whole _) (Memref.whole main_v5_scv) (Memref.isWhole_whole _) (Memref.whole main_v7_scv) (Memref.isWhole_whole _) (Memref.whole main_v9_scv) (Memref.isWhole_whole _) (Memref.whole main_v10_scv) (Memref.isWhole_whole _) (Memref.whole main_v11_scv) (Memref.isWhole_whole _) (Memref.whole main_v1_scv) (Memref.isWhole_whole _) (Memref.whole main_v2_scv) (Memref.isWhole_whole _) (Memref.whole main_v3_scv) (Memref.isWhole_whole _) (Memref.whole main_v12_0_scv) (Memref.isWhole_whole _) (Memref.whole main_v12_1_scv) (Memref.isWhole_whole _) (Memref.whole main_v12_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92)
          fun _ => iprop(tdAt d I w ∗ scopedBufs thr ∗ scopedSems0 thr
            ∗ ∃ W', ⌜∀ p ∈ W', p ∈ W ∨ p.2 = none⌝ ∗ owes thr O W') := by
  have hrow (n k : ℕ) : rowsOf n k w = rowSet L n k := by unfold rowsOf rowSet; rw [hw]
  rw [(K (F := F)).scopedBufs_V hF d (cV L) (jV L), SparseCore.Cfg.scopedSems0_V (Val := Elt F) d (cV L) (jV L), ownBufs_V]
  unfold goAt tdAt insAt outsAt
  rw [hrow, hrow]
  refine (?_ : _ ⊢ iprop(_ ∗ restB d L)).trans ((run_with d L (body_wp d L O W (tI I w))).trans (wp_mono frame _ _ fun _ => ?_))
  · unfold Idle
    iintro ⟨#Hlv, -, ⟨⟨H0, H1, H2, H3, H4, H6, H8, H9, H10⟩, Ho0, Ho1, Ho2⟩, ⟨Hb0, Hb1, Hb2, Hb3, Hb4, Hbufs⟩, Hsems, HO⟩
    isplitr [Hbufs]
    · isplitr
      · iapply (show levAts (K (F := F)).L (K (F := F)).lev ⊢ Transfers.MayWaits thr (default : HIx 1) O from
          (K (F := F)).mayWaits_none hO); iexact Hlv
      isplitl [Hb0]; · iexact Hb0
      isplitl [Hb1]; · iexact Hb1
      isplitl [Hsems]; · iexact Hsems
      isplitl [HO]
      · unfold Ow; iexists W; isplitr
        · ipureintro; exact fun p hp => .inl hp
        · iexact HO
      isplitl [H0 H1 H2 Hb2 Hb3 Hb4]
      · isplitl [H0]; · iexact H0
        isplitl [Hb2]; · iexact Hb2
        isplitl [H1]; · iexact H1
        isplitl [Hb3]; · iexact Hb3
        isplitl [H2]; · iexact H2
        iexact Hb4
      isplitl [H3 H4 Ho0]
      · isplitl [H3]; · iexact H3
        isplitl [H4]; · iexact H4
        iexact Ho0
      isplitl [H6 H8 Ho1]
      · isplitl [H6]; · iexact H6
        isplitl [H8]; · iexact H8
        iexact Ho1
      isplitl [H9]; · iexact H9
      isplitl [H10]; · iexact H10
      iexact Ho2
    · iexact Hbufs
  · unfold Idle
    iintro ⟨⟨-, Hb0, Hb1, Hsems, HO, ⟨H0, Hb2, H1, Hb3, H2, Hb4⟩, ⟨H3, H4, Ho0⟩, ⟨H6, H8, Ho1⟩, H9, H10, Ho2⟩, Hbufs⟩
    isplitl [H0 H1 H2 H3 H4 H6 H8 H9 H10 Ho0 Ho1 Ho2]
    · isplitl [H0 H1 H2 H3 H4 H6 H8 H9 H10]
      · isplitl [H0]; · iexact H0
        isplitl [H1]; · iexact H1
        isplitl [H2]; · iexact H2
        isplitl [H3]; · iexact H3
        isplitl [H4]; · iexact H4
        isplitl [H6]; · iexact H6
        isplitl [H8]; · iexact H8
        isplitl [H9]; · iexact H9
        iexact H10
      · isplitl [Ho0]; · iapply (BIBase.Entails.of_eq (pointsTo_congr (out_img d L (tI I w)))); iexact Ho0
        isplitl [Ho1]; · iapply (BIBase.Entails.of_eq (pointsTo_congr (out_lab d L (tI I w)))); iexact Ho1
        iapply (BIBase.Entails.of_eq (pointsTo_congr (out_conf d L (tI I w)))); iexact Ho2
    isplitl [Hb0 Hb1 Hb2 Hb3 Hb4 Hbufs]
    · isplitl [Hb0]; · iexact Hb0
      isplitl [Hb1]; · iexact Hb1
      isplitl [Hb2]; · iexists _; iexact Hb2
      isplitl [Hb3]; · iexists _; iexact Hb3
      isplitl [Hb4]; · iexists _; iexact Hb4
      iexact Hbufs
    isplitl [Hsems]; · iexact Hsems
    unfold Ow; iexact HO

end Cert.Proof.WholeIdeal
-- ==== Proof.OwnW.lean ====
module

public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.WholeIdeal.Own.K0

open Cert.WholeIdeal Cert.WholeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- The region's invariant on core `c`: the library's `Pipeline.ΦA spec0 c` at any index and level type. -/
def ΦK (c : Dev nD) : sProp 𝕄 :=
  iprop(Pipeline.scopedRest (Ix := Ix) (Name := ℕ) (U := U) (Lvl := Lvl) (Val := Elt F) spec0 c ∗ ∃ r, prngReg c r)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Ix ℕ U Lvl cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Ix ℕ U Lvl cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Ix ℕ U Lvl cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Ix ℕ U Lvl cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- One staging buffer of output window 4, through which its contents are stated (`View.read_writes_of_cover`: the
    choice does not matter). -/
abbrev VO0_4 : View sig .tc .vmem S1x1x16 .i32 := (Memref.whole cc0_stg4_0 : Memref sig .tc .vmem S1x1x16 .i32).view
/-- One staging buffer of output window 5, through which its contents are stated (`View.read_writes_of_cover`: the
    choice does not matter). -/
abbrev VO0_5 : View sig .tc .vmem S1x1x16 .i32 := (Memref.whole cc0_stg5_0 : Memref sig .tc .vmem S1x1x16 .i32).view
/-- One staging buffer of output window 6, through which its contents are stated (`View.read_writes_of_cover`: the
    choice does not matter). -/
abbrev VO0_6 : View sig .tc .vmem S1x1x16 .i32 := (Memref.whole cc0_stg6_0 : Memref sig .tc .vmem S1x1x16 .i32).view
/-- Each window's current staging memref at point `t`, spelled as the pipeline passes it (`bodyAt0`), and its wholeness. -/
abbrev ms0_0 (t : Fin cfg0.N) : Memref sig .tc .vmem S1x4x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x16 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x16 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x16 .i32 := win0_6.stage (cfg0.slots t 6)
abbrev hs0_6 (t : Fin cfg0.N) : (ms0_6 t).IsWhole := hstage0_6 ((cfg0.slots t 6).cast nbuf0_6)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) :
    Σ' (L4 : List (View.Piece (Elt F) S1x1x16 .i32)), Σ' (L5 : List (View.Piece (Elt F) S1x1x16 .i32)), { L6 : List (View.Piece (Elt F) S1x1x16 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) 𝒱₀ c none) E (cc0__stats_kernel i arg1 harg1 arg2 harg2 arg3 harg3 arg4 harg4 arg5 harg5 arg6 harg6 arg7 harg7) K } := by
  refine ⟨?_, ?_, ?_, fun E K => ?run⟩
  case run =>
    simp only [cc0__stats_kernel_eq_skeleton]; unfold cc0__stats_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

/-- The run's pieces for output 4 tile its block (1 store of `S1x1x16`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) (y : S1x1x16.Idx) :
    ∃ pc ∈ (kernelRun0_A (Ix := Ix) (U := U) (Lvl := Lvl) 𝒱₀ c i arg1 harg1 arg2 harg2 arg3 harg3 arg4 harg4 arg5 harg5 arg6 harg6 arg7 harg7 x0 x1 x2 x3).1, y ∈ pc.1.set :=
  View.cover_of_tiledL (kernelRun0_A (Ix := Ix) (U := U) (Lvl := Lvl) 𝒱₀ c i arg1 harg1 arg2 harg2 arg3 harg3 arg4 harg4 arg5 harg5 arg6 harg6 arg7 harg7 x0 x1 x2 x3).1 S1x1x16.size (by sl_kernel_rfl) y

/-- What the run leaves in output 4's staging buffer: its pieces read back over junk. -/
def out0_A_4 (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) : Vec F S1x1x16 .i32 :=
  VO0_4.read (Elt F) (VO0_4.writes (Elt F) VO0_4.junk (kernelRun0_A (Ix := Ix) (U := U) (Lvl := Lvl) 𝒱₀ c i arg1 harg1 arg2 harg2 arg3 harg3 arg4 harg4 arg5 harg5 arg6 harg6 arg7 harg7 x0 x1 x2 x3).1)

/-- The run's pieces for output 5 tile its block (1 store of `S1x1x16`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) (y : S1x1x16.Idx) :
    ∃ pc ∈ (kernelRun0_A (Ix := Ix) (U := U) (Lvl := Lvl) 𝒱₀ c i arg1 harg1 arg2 harg2 arg3 harg3 arg4 harg4 arg5 harg5 arg6 harg6 arg7 harg7 x0 x1 x2 x3).2.1, y ∈ pc.1.set :=
  View.cover_of_tiledL (kernelRun0_A (Ix := Ix) (U := U) (Lvl := Lvl) 𝒱₀ c i arg1 harg1 arg2 harg2 arg3 harg3 arg4 harg4 arg5 harg5 arg6 harg6 arg7 harg7 x0 x1 x2 x3).2.1 S1x1x16.size (by sl_kernel_rfl) y

/-- What the run leaves in output 5's staging buffer: its pieces read back over junk. -/
def out0_A_5 (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) : Vec F S1x1x16 .i32 :=
  VO0_5.read (Elt F) (VO0_5.writes (Elt F) VO0_5.junk (kernelRun0_A (Ix := Ix) (U := U) (Lvl := Lvl) 𝒱₀ c i arg1 harg1 arg2 harg2 arg3 harg3 arg4 harg4 arg5 harg5 arg6 harg6 arg7 harg7 x0 x1 x2 x3).2.1)

/-- The run's pieces for output 6 tile its block (1 store of `S1x1x16`, checked by the kernel's evaluation: Lib/Ring.lean `Piece.tiledL`, linear in the pieces, through a loop's `@[irreducible]` trip theorem too), so they cover it. -/
theorem cover0_A_6 (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) (y : S1x1x16.Idx) :
    ∃ pc ∈ (kernelRun0_A (Ix := Ix) (U := U) (Lvl := Lvl) 𝒱₀ c i arg1 harg1 arg2 harg2 arg3 harg3 arg4 harg4 arg5 harg5 arg6 harg6 arg7 harg7 x0 x1 x2 x3).2.2.1, y ∈ pc.1.set :=
  View.cover_of_tiledL (kernelRun0_A (Ix := Ix) (U := U) (Lvl := Lvl) 𝒱₀ c i arg1 harg1 arg2 harg2 arg3 harg3 arg4 harg4 arg5 harg5 arg6 harg6 arg7 harg7 x0 x1 x2 x3).2.2.1 S1x1x16.size (by sl_kernel_rfl) y

/-- What the run leaves in output 6's staging buffer: its pieces read back over junk. -/
def out0_A_6 (c : Dev nD) (i : grid0.Coords) (arg1 : Memref sig .tc .vmem S1x4x512x512 .f32) (harg1 : arg1.IsWhole) (arg2 : Memref sig .tc .vmem S1x512x512 .i32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x1x16 .i32) (harg5 : arg5.IsWhole) (arg6 : Memref sig .tc .vmem S1x1x16 .i32) (harg6 : arg6.IsWhole) (arg7 : Memref sig .tc .vmem S1x1x16 .i32) (harg7 : arg7.IsWhole)
    (x0 : Vec F S1x4x512x512 .f32) (x1 : Vec F S1x512x512 .i32) (x2 : Vec F S1x512x512 .f32) (x3 : Vec F S1x512x512 .f32) : Vec F S1x1x16 .i32 :=
  VO0_6.read (Elt F) (VO0_6.writes (Elt F) VO0_6.junk (kernelRun0_A (Ix := Ix) (U := U) (Lvl := Lvl) 𝒱₀ c i arg1 harg1 arg2 harg2 arg3 harg3 arg4 harg4 arg5 harg5 arg6 harg6 arg7 harg7 x0 x1 x2 x3).2.2.1)

/-! ## What the outputs hold after each point -/

/-- What the outputs' staging buffers hold after the body at point `t` (as a tuple, in window order): the run's contents at
    the point's memrefs and input blocks. -/
def outsAt0 (c : Dev nD) (t : Fin cfg0.N) : Vec F S1x1x16 .i32 × Vec F S1x1x16 .i32 × Vec F S1x1x16 .i32 :=
  (out0_A_4 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) (iblk V c 2 t) (iblk V c 3 t), out0_A_5 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) (iblk V c 2 t) (iblk V c 3 t), out0_A_6 (Ix := Ix) (U := U) (Lvl := Lvl) 𝒱₀ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk V c 0 t) (iblk V c 1 t) (iblk V c 2 t) (iblk V c 3 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); the core owing `D c` throughout; full shares. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 (Ix := Ix) (U := U) (Lvl := Lvl) 𝒱₀ V c t).1
    | ⟨5, _⟩ => (outsAt0 (Ix := Ix) (U := U) (Lvl := Lvl) 𝒱₀ V c t).2.1
    | ⟨6, _⟩ => (outsAt0 (Ix := Ix) (U := U) (Lvl := Lvl) 𝒱₀ V c t).2.2
  Φ _ := ΦK (F := F) (Ix := Ix) (U := U) (Lvl := Lvl) c
  q _ := fullShare
  owed _ := D c

variable (ι : Ix)

local notation "𝕕" => dat (Ix := Ix) (U := U) (Lvl := Lvl) 𝒱₀ V D

/-- The proof data's arrays are the region-entry contents `V`: the proof data's definition projected (`dsimp`). -/
theorem A_eq (c : Dev nD) (w : Fin cfg0.W) : (𝕕 c).A w = V c (Pipeline.arrRef spec0 w) := by
  dsimp only [dat]

/-- What the body leaves, window by window (the proof data's `match` reduced by `dsimp`). -/
theorem after0_0 (c : Dev nD) (t : Fin cfg0.N) : (𝕕 c).after 0 t = iblk V c 0 t := by dsimp only [dat]
theorem after0_1 (c : Dev nD) (t : Fin cfg0.N) : (𝕕 c).after 1 t = iblk V c 1 t := by dsimp only [dat]
theorem after0_2 (c : Dev nD) (t : Fin cfg0.N) : (𝕕 c).after 2 t = iblk V c 2 t := by dsimp only [dat]
theorem after0_3 (c : Dev nD) (t : Fin cfg0.N) : (𝕕 c).after 3 t = iblk V c 3 t := by dsimp only [dat]
theorem after0_4 (c : Dev nD) (t : Fin cfg0.N) : (𝕕 c).after 4 t = (outsAt0 (Ix := Ix) (U := U) (Lvl := Lvl) 𝒱₀ V c t).1 := by dsimp only [dat]
theorem after0_5 (c : Dev nD) (t : Fin cfg0.N) : (𝕕 c).after 5 t = (outsAt0 (Ix := Ix) (U := U) (Lvl := Lvl) 𝒱₀ V c t).2.1 := by dsimp only [dat]
theorem after0_6 (c : Dev nD) (t : Fin cfg0.N) : (𝕕 c).after 6 t = (outsAt0 (Ix := Ix) (U := U) (Lvl := Lvl) 𝒱₀ V c t).2.2 := by dsimp only [dat]

/-- Each input's current staging buffer holds its block at every point, fetched there or not (`beforeK_W_of`). -/
theorem before0_0 (c : Dev nD) (t : Fin cfg0.N) (d) : (𝕕 c).before 0 t d = iblk V c 0 t :=
  before0_0_of V (𝕕 c) (A_eq 𝒱₀ V D c 0) (after0_0 𝒱₀ V D c) t d
theorem before0_1 (c : Dev nD) (t : Fin cfg0.N) (d) : (𝕕 c).before 1 t d = iblk V c 1 t :=
  before0_1_of V (𝕕 c) (A_eq 𝒱₀ V D c 1) (after0_1 𝒱₀ V D c) t d
theorem before0_2 (c : Dev nD) (t : Fin cfg0.N) (d) : (𝕕 c).before 2 t d = iblk V c 2 t :=
  before0_2_of V (𝕕 c) (A_eq 𝒱₀ V D c 2) (after0_2 𝒱₀ V D c) t d
theorem before0_3 (c : Dev nD) (t : Fin cfg0.N) (d) : (𝕕 c).before 3 t d = iblk V c 3 t :=
  before0_3_of V (𝕕 c) (A_eq 𝒱₀ V D c 3) (after0_3 𝒱₀ V D c) t d

/-! ## The body obligation, at a generic point -/

/-- What the body is called with at point `t` (Lib/Pipeline.lean `BodyObligation`'s precondition, the windows one by one), -/
def bodyPre (c : Dev nD) (t : Fin cfg0.N) : sProp 𝕄 :=
  iprop((𝕕 c).Φ t.castSucc ∗ (𝕕 c).owesAt ι t.castSucc
    ∗ (∃ d, owns (c : Thread nD τ) (ms0_0 t) fullShare ((𝕕 c).before 0 t d))
    ∗ (∃ d, owns (c : Thread nD τ) (ms0_1 t) fullShare ((𝕕 c).before 1 t d))
    ∗ (∃ d, owns (c : Thread nD τ) (ms0_2 t) fullShare ((𝕕 c).before 2 t d))
    ∗ (∃ d, owns (c : Thread nD τ) (ms0_3 t) fullShare ((𝕕 c).before 3 t d))
    ∗ (∃ d, owns (c : Thread nD τ) (ms0_4 t) fullShare ((𝕕 c).before 4 t d))
    ∗ (∃ d, owns (c : Thread nD τ) (ms0_5 t) fullShare ((𝕕 c).before 5 t d))
    ∗ (∃ d, owns (c : Thread nD τ) (ms0_6 t) fullShare ((𝕕 c).before 6 t d)))

/-- and what it returns. -/
def bodyPost (c : Dev nD) (t : Fin cfg0.N) : sProp 𝕄 :=
  iprop((𝕕 c).Φ t.succ ∗ (𝕕 c).owesAt ι t.succ
    ∗ owns (c : Thread nD τ) (ms0_0 t) fullShare ((𝕕 c).after 0 t)
    ∗ owns (c : Thread nD τ) (ms0_1 t) fullShare ((𝕕 c).after 1 t)
    ∗ owns (c : Thread nD τ) (ms0_2 t) fullShare ((𝕕 c).after 2 t)
    ∗ owns (c : Thread nD τ) (ms0_3 t) fullShare ((𝕕 c).after 3 t)
    ∗ owns (c : Thread nD τ) (ms0_4 t) fullShare ((𝕕 c).after 4 t)
    ∗ owns (c : Thread nD τ) (ms0_5 t) fullShare ((𝕕 c).after 5 t)
    ∗ owns (c : Thread nD τ) (ms0_6 t) fullShare ((𝕕 c).after 6 t))

/-- The body at any point: the inputs' memrefs hold their blocks (`before0_W`); so the
    run applies; the invariant passes through unread; the core owes `D c` throughout. -/
theorem sound_body (c : Dev nD) (t : Fin cfg0.N) :
    bodyPre (U := U) (Lvl := Lvl) 𝒱₀ V D ι c t ⊢ wp frame (wpE (defs₀ (F := F)) 𝒱₀ c none) Set.univ (bodyAt0 t) (fun _ => bodyPost (U := U) (Lvl := Lvl) 𝒱₀ V D ι c t) := by
  unfold bodyPre bodyPost bodyAt0
  simp only [before0_0, before0_1, before0_2, before0_3]
  rw [show (𝕕 c).Φ t.succ = (𝕕 c).Φ t.castSucc from rfl,
    show (𝕕 c).owesAt ι t.succ = (𝕕 c).owesAt ι t.castSucc from rfl,
    after0_0, after0_1, after0_2, after0_3, after0_4, after0_5, after0_6]
  unfold outsAt0
  unfold out0_A_4 out0_A_5 out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun0_A (Ix := Ix) (U := U) (Lvl := Lvl) 𝒱₀ c (grid0.coords t) _ _ _ _ _ _ _ _ _ _ _ _ _ _ (iblk V c 0 t) (iblk V c 1 t) (iblk V c 2 t) (iblk V c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 (Ix := Ix) (U := U) (Lvl := Lvl) 𝒱₀ c _ _ _ _ _ _ _ _ _ _ _ _ _ _ _ _ _ _ _)
  isplitl [H5]
  · unfold owns; iexists _; isplitr
    swap; · iexact H5
    ipureintro; exact View.read_writes_of_cover _ _ _ _ _ (cover0_A_5 (Ix := Ix) (U := U) (Lvl := Lvl) 𝒱₀ c _ _ _ _ _ _ _ _ _ _ _ _ _ _ _ _ _ _ _)
  unfold owns; iexists _; isplitr
  swap; · iexact H6
  ipureintro; exact View.read_writes_of_cover _ _ _ _ _ (cover0_A_6 (Ix := Ix) (U := U) (Lvl := Lvl) 𝒱₀ c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := rfl

end Cert.WholeIdeal.Own.K0

end
-- ==== Proof.RegionW.lean ====
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.RegionArrays
public import Idealize.ShloMosaic.Lib.Tactic
public import proofs.«01_k».proof.Proof.TileW
public import proofs.«01_k».proof.Proof.OwnW

@[expose] public section

noncomputable section

/-! # The whole program's first call: the statistics call, run while the TensorCore still owes the second call its signals -/

namespace Cert.Proof.WholeIdeal

open Cert.WholeIdeal Cert.WholeIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation arrRefs)
open Idealize.ShloMosaic.StableHlo (held)
open Idealize.ShloMosaic.Tactic

variable {F : FTy → Type} [FloatOps F]

local notation "𝕄" => MT nD τ sig (HIx 1) (Elt F) ℕ UU ℕ

/-- The statistics call's ghost state, beside the second call's. -/
abbrev EP : Emb UP (MT nD τ sig (HIx 1) (Elt F) ℕ UU ℕ) := (Emb.inl : Emb UP (UP × Counters)).trans embR

omit [FloatOps F] in
instance EP_landsIn : (EP (F := F)).LandsIn (upEmb : UEmb _ (MT nD τ sig (HIx 1) (Elt F) ℕ UU ℕ)) := by
  unfold EP embR; infer_instance

abbrev adm : (p : Fin 1) → (pcfgs (F := F) p).Adm := fun p => (cfgs p).toPCfg_adm

/-- What the TensorCore owes throughout: the second call's start signals. -/
abbrev O0 (c : Dev nD) : CellTallies nD τ sig (HIx 1) := (K (F := F)).Otc c 0

variable (W : Dev nD → Valuation τ sig (Elt F)) (n : ℕ)

/-- The entry contents, buffer by buffer. -/
abbrev VW (c : Dev nD) (b : Ref sig .tc) : Buf (Elt F) ((c.tc : Thread nD τ).loc b) := W c (Proc.devRef .tc b)

/-- The call's proof data, every recorded wait at level `n` at most. -/
def datW (c : Dev nD) : Dat τ (Elt F) (HIx 1) ℕ UU ℕ cfg0 c :=
  { Own.K0.dat (Ix := HIx 1) (U := UU) (Lvl := ℕ) 𝒱₀ (VW W) (O0 (F := F)) c with
    recorded := fun _ => {p | (K (F := F)).lev ((c.tc : Thread nD τ), p.1) p.2 ≤ n} }

local notation "𝕕" => datW W n

theorem dW_before0 (c : Dev nD) (t : Fin cfg0.N) (d) : (𝕕 c).before 0 t d = Own.K0.iblk (VW W) c 0 t := Own.K0.before0_0 (Ix := HIx 1) (U := UU) (Lvl := ℕ) 𝒱₀ (VW W) (O0 (F := F)) c t d
theorem dW_before1 (c : Dev nD) (t : Fin cfg0.N) (d) : (𝕕 c).before 1 t d = Own.K0.iblk (VW W) c 1 t := Own.K0.before0_1 (Ix := HIx 1) (U := UU) (Lvl := ℕ) 𝒱₀ (VW W) (O0 (F := F)) c t d
theorem dW_before2 (c : Dev nD) (t : Fin cfg0.N) (d) : (𝕕 c).before 2 t d = Own.K0.iblk (VW W) c 2 t := Own.K0.before0_2 (Ix := HIx 1) (U := UU) (Lvl := ℕ) 𝒱₀ (VW W) (O0 (F := F)) c t d
theorem dW_before3 (c : Dev nD) (t : Fin cfg0.N) (d) : (𝕕 c).before 3 t d = Own.K0.iblk (VW W) c 3 t := Own.K0.before0_3 (Ix := HIx 1) (U := UU) (Lvl := ℕ) 𝒱₀ (VW W) (O0 (F := F)) c t d

/-- What the body is called with at point `t`, -/
def bodyPreW (c : Dev nD) (t : Fin cfg0.N) : sProp 𝕄 :=
  iprop((𝕕 c).Φ t.castSucc ∗ (𝕕 c).owesAt none t.castSucc
    ∗ (∃ d, owns (c.tc : Thread nD τ) (Own.K0.ms0_0 t) fullShare ((𝕕 c).before 0 t d))
    ∗ (∃ d, owns (c.tc : Thread nD τ) (Own.K0.ms0_1 t) fullShare ((𝕕 c).before 1 t d))
    ∗ (∃ d, owns (c.tc : Thread nD τ) (Own.K0.ms0_2 t) fullShare ((𝕕 c).before 2 t d))
    ∗ (∃ d, owns (c.tc : Thread nD τ) (Own.K0.ms0_3 t) fullShare ((𝕕 c).before 3 t d))
    ∗ (∃ d, owns (c.tc : Thread nD τ) (Own.K0.ms0_4 t) fullShare ((𝕕 c).before 4 t d))
    ∗ (∃ d, owns (c.tc : Thread nD τ) (Own.K0.ms0_5 t) fullShare ((𝕕 c).before 5 t d))
    ∗ (∃ d, owns (c.tc : Thread nD τ) (Own.K0.ms0_6 t) fullShare ((𝕕 c).before 6 t d)))

/-- and what it returns. -/
def bodyPostW (c : Dev nD) (t : Fin cfg0.N) : sProp 𝕄 :=
  iprop((𝕕 c).Φ t.succ ∗ (𝕕 c).owesAt none t.succ
    ∗ owns (c.tc : Thread nD τ) (Own.K0.ms0_0 t) fullShare ((𝕕 c).after 0 t)
    ∗ owns (c.tc : Thread nD τ) (Own.K0.ms0_1 t) fullShare ((𝕕 c).after 1 t)
    ∗ owns (c.tc : Thread nD τ) (Own.K0.ms0_2 t) fullShare ((𝕕 c).after 2 t)
    ∗ owns (c.tc : Thread nD τ) (Own.K0.ms0_3 t) fullShare ((𝕕 c).after 3 t)
    ∗ owns (c.tc : Thread nD τ) (Own.K0.ms0_4 t) fullShare ((𝕕 c).after 4 t)
    ∗ owns (c.tc : Thread nD τ) (Own.K0.ms0_5 t) fullShare ((𝕕 c).after 5 t)
    ∗ owns (c.tc : Thread nD τ) (Own.K0.ms0_6 t) fullShare ((𝕕 c).after 6 t))

/-- The body at a point: its run leaves what the core owes and has recorded as they were. -/
theorem sound_bodyW (c : Dev nD) (t : Fin cfg0.N) :
    bodyPreW W n c t ⊢ wp frame (wpE (defs₀ (F := F)) 𝒱₀ (c.tc : Thread nD τ) none) Set.univ (bodyAt0 t) (fun _ => bodyPostW W n c t) := by
  unfold bodyPreW bodyPostW bodyAt0
  simp only [dW_before0, dW_before1, dW_before2, dW_before3]
  rw [show (𝕕 c).Φ t.succ = (𝕕 c).Φ t.castSucc from rfl,
    show (𝕕 c).owesAt none t.succ = (𝕕 c).owesAt none t.castSucc from rfl,
    show (𝕕 c).after 0 t = Own.K0.iblk (VW W) c 0 t from rfl, show (𝕕 c).after 1 t = Own.K0.iblk (VW W) c 1 t from rfl,
    show (𝕕 c).after 2 t = Own.K0.iblk (VW W) c 2 t from rfl, show (𝕕 c).after 3 t = Own.K0.iblk (VW W) c 3 t from rfl,
    show (𝕕 c).after 4 t = (Own.K0.outsAt0 (Ix := HIx 1) (U := UU) (Lvl := ℕ) 𝒱₀ (VW W) c t).1 from rfl,
    show (𝕕 c).after 5 t = (Own.K0.outsAt0 (Ix := HIx 1) (U := UU) (Lvl := ℕ) 𝒱₀ (VW W) c t).2.1 from rfl,
    show (𝕕 c).after 6 t = (Own.K0.outsAt0 (Ix := HIx 1) (U := UU) (Lvl := ℕ) 𝒱₀ (VW W) c t).2.2 from rfl]
  unfold Own.K0.outsAt0
  unfold Own.K0.out0_A_4 Own.K0.out0_A_5 Own.K0.out0_A_6; (try dsimp only)
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((Own.K0.kernelRun0_A (Ix := HIx 1) (U := UU) (Lvl := ℕ) 𝒱₀ c (grid0.coords t) _ _ _ _ _ _ _ _ _ _ _ _ _ _ (Own.K0.iblk (VW W) c 0 t) (Own.K0.iblk (VW W) c 1 t) (Own.K0.iblk (VW W) c 2 t) (Own.K0.iblk (VW W) c 3 t)).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, ⟨%e4, H4⟩, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (Own.K0.cover0_A_4 (Ix := HIx 1) (U := UU) (Lvl := ℕ) 𝒱₀ c _ _ _ _ _ _ _ _ _ _ _ _ _ _ _ _ _ _ _)
  isplitl [H5]
  · unfold owns; iexists _; isplitr
    swap; · iexact H5
    ipureintro; exact View.read_writes_of_cover _ _ _ _ _ (Own.K0.cover0_A_5 (Ix := HIx 1) (U := UU) (Lvl := ℕ) 𝒱₀ c _ _ _ _ _ _ _ _ _ _ _ _ _ _ _ _ _ _ _)
  unfold owns; iexists _; isplitr
  swap; · iexact H6
  ipureintro; exact View.read_writes_of_cover _ _ _ _ _ (Own.K0.cover0_A_6 (Ix := HIx 1) (U := UU) (Lvl := ℕ) 𝒱₀ c _ _ _ _ _ _ _ _ _ _ _ _ _ _ _ _ _ _ _)

theorem body_obligationW (c : Dev nD) : BodyObligation (𝕕 c) (defs₀ (F := F)) 𝒱₀ none Set.univ := fun t => by
  rw [bigSep_W0, bigSep_W0, Own.K0.defs₀_row]
  exact triple_restated (sound_bodyW W n c t) rfl .rfl fun _ => .rfl

/-- The program's only pipeline's proof data. -/
def datsW : (p : Fin 1) → (c : Dev nD) → Dat τ (Elt F) (HIx 1) ℕ UU ℕ (Pipeline.pin (pcfgs (F := F)) adm p) c
  | ⟨0, _⟩ => fun c => datW W n c

/-- The lists the call writes, over the contents it starts from. -/
def out4 (c : Dev nD) : S8x1x16.Idx → Elt F .i32 := (datW W n c).arrAt 4 cfg0.N
def out5 (c : Dev nD) : S8x1x16.Idx → Elt F .i32 := (datW W n c).arrAt 5 cfg0.N
def out6 (c : Dev nD) : S8x1x16.Idx → Elt F .i32 := (datW W n c).arrAt 6 cfg0.N

/-- The buffers after the call: its three results written, the rest as they were. -/
def vR (c : Dev nD) : Valuation τ sig (Elt F) :=
  Function.update (Function.update (Function.update (W c) (Proc.devRef .tc main_v0_0) (out4 W n c)) (Proc.devRef .tc main_v0_1) (out5 W n c))
    (Proc.devRef .tc main_v0_2) (out6 W n c)

theorem vR_other (c : Dev nD) {b : DevRef τ sig} (h0 : b ≠ Proc.devRef .tc main_v0_0) (h1 : b ≠ Proc.devRef .tc main_v0_1)
    (h2 : b ≠ Proc.devRef .tc main_v0_2) : vR W n c b = W c b := by
  unfold vR
  rw [Function.update_of_ne h2, Function.update_of_ne h1, Function.update_of_ne h0]
theorem vR_0 (c : Dev nD) : vR W n c (Proc.devRef .tc main_v0_0) = out4 W n c := by
  unfold vR
  rw [Function.update_of_ne (by decide), Function.update_of_ne (by decide), Function.update_self]
theorem vR_1 (c : Dev nD) : vR W n c (Proc.devRef .tc main_v0_1) = out5 W n c := by
  unfold vR
  rw [Function.update_of_ne (by decide), Function.update_self]
theorem vR_2 (c : Dev nD) : vR W n c (Proc.devRef .tc main_v0_2) = out6 W n c := by
  unfold vR
  rw [Function.update_self]

theorem arr_entry (c : Dev nD) (w : Fin 7) : (datW W n c).arrAt w 0 = W c (Proc.devRef .tc (Pipeline.arrRef spec0 w)) := rfl

theorem arr_exit (c : Dev nD) : ∀ w : Fin 7, (datW W n c).arrAt w cfg0.N = vR W n c (Proc.devRef .tc (Pipeline.arrRef spec0 w))
  | 0 => ((datW W n c).arrAt_in 0 rfl _).trans (vR_other W n c (b := Proc.devRef .tc main_arg6) (by decide) (by decide) (by decide)).symm
  | 1 => ((datW W n c).arrAt_in 1 rfl _).trans (vR_other W n c (b := Proc.devRef .tc main_arg2) (by decide) (by decide) (by decide)).symm
  | 2 => ((datW W n c).arrAt_in 2 rfl _).trans (vR_other W n c (b := Proc.devRef .tc main_arg4) (by decide) (by decide) (by decide)).symm
  | 3 => ((datW W n c).arrAt_in 3 rfl _).trans (vR_other W n c (b := Proc.devRef .tc main_arg5) (by decide) (by decide) (by decide)).symm
  | 4 => (vR_0 W n c).symm
  | 5 => (vR_1 W n c).symm
  | 6 => (vR_2 W n c).symm
  | ⟨_ + 7, h⟩ => absurd h (Nat.not_lt.2 (Nat.le_add_left _ _))

/-- Every array is held whole. -/
theorem share_full (c : Dev nD) (w : Fin (Pipeline.pin (pcfgs (F := F)) adm 0).W) : (datsW W n 0 c).share w = fullShare := by
  show (if ((Pipeline.pin (pcfgs (F := F)) adm 0).win w).isOut then fullShare else fullShare) = fullShare
  exact ite_self _

/-- What the core owes, every wait it has recorded at level `n` at most. -/
def owesB (c : Dev nD) : sProp 𝕄 :=
  iprop(∃ Wd, ⌜(K (F := F)).WBelow (T c) Wd n⌝ ∗ owes (T c) (O0 (F := F) c) Wd)

/-- The call as a region of the program, from its arrays held at `W` to the same held at `vR`. -/
def regW : Pipeline.RegionSeg (pcfgs (F := F)) adm (datsW W n) none (defs₀ (F := F)) 𝒱₀ (K (F := F)).L (K (F := F)).lev 0 where
  win := (Pipeline.LaunchFacts.toP (Val := Elt F) launch0).to₀.win
  block_pos := (Pipeline.LaunchFacts.toP (Val := Elt F) launch0).to₀.block_pos
  stage_whole := (Pipeline.LaunchFacts.toP (Val := Elt F) launch0).to₀.stage_whole
  K := PEmpty
  osem k := k.elim
  ho := Pipeline.OwnSemFacts.none _
  hbody c := (body_obligationW W n c).loose
  hwaits c := Pipeline.cellsWaits_of_cut (Pipeline.pin pcfgs adm) (datsW W n) none 0 c 0 (O0 (F := F) c) (fun _ => rfl)
    (fun _ _ => Finset.mem_univ _) (fun _ _ => le_rfl)
    (fun g i h => ⟨Finset.mem_univ _, lt_of_lt_of_le (Nat.succ_pos _) (SparseCore.Cfg.lev_of_Otc_pos h)⟩)
  pre c := iprop(held (c.tc : Thread nD τ) (arrRefs spec0) (W c) ∗ (∃ r, prngReg c r) ∗ owesB n c)
  post c := iprop(held (c.tc : Thread nD τ) (arrRefs spec0) (vR W n c) ∗ (∃ r, prngReg c r) ∗ owesB n c)
  X c := iprop(∃ r, prngReg c r)
  Y c := iprop(∃ r, prngReg c r)
  Z _ := iprop(emp)
  hentry c := by
    rw [Pipeline.ownSems0_none, Pipeline.prefHeld_of_none _ rfl,
      ← Pipeline.arrays_held (pcfgs (F := F)) adm (datsW W n) 0 launch0.toP c (share_full W n c) ((datsW W n 0 c).arrAt · 0) (W c) (arr_entry W n c)]
    iintro ⟨⟨Ha, HX, HO⟩, -, -⟩
    imodintro
    isplitl [Ha]; · iexact Ha
    isplitr; · iempintro
    isplitl [HO]
    · unfold owesB Pipeline.Dat.owesAt Pipeline.owesWithin Pipeline.Dat.bound
      icases HO with ⟨%Wd, %hW, HO⟩; iexists Wd; isplitr
      · ipureintro; exact fun p hp => Or.inl (hW p hp)
      iexact HO
    isplitl [HX]; · iexact HX
    iempintro
  hin c := (show _ ⊢ iprop(Pipeline.scopedRest spec0 c ∗ ∃ r, prngReg c r) from by
    iintro ⟨HX, -, Hr⟩
    isplitl [Hr]; · iexact Hr
    iexact HX).trans .rfl
  hout c := (show iprop(Pipeline.scopedRest spec0 c ∗ ∃ r, prngReg c r) ⊢ _ from by
    rw [Pipeline.ownSems0_none]
    iintro ⟨Hr, HY⟩
    isplitl [HY]; · iexact HY
    isplitr; · iempintro
    iexact Hr)
  hexit c := by
    rw [Pipeline.arrays_held (pcfgs (F := F)) adm (datsW W n) 0 launch0.toP c (share_full W n c) ((datsW W n 0 c).arrAt · cfg0.N) (vR W n c) (arr_exit W n c)]
    iintro ⟨Ha, HO, HY, -⟩
    imodintro
    isplitl [Ha]; · iexact Ha
    isplitl [HY]; · iexact HY
    unfold owesB Pipeline.Dat.owesAt Pipeline.owesWithin Pipeline.Dat.bound
    icases HO with ⟨%Wd, %hW, HO⟩; iexists Wd; isplitr
    · ipureintro
      intro p hp
      rcases hW hp with h | ⟨w, s, h⟩
      · exact h
      · rw [h]; exact Nat.zero_le _
    iexact HO

/-- The ghost state of the call on core `d`. -/
def ghostW (d : Dev nD) : sProp 𝕄 :=
  iprop(Pipeline.cellsGhost (Pipeline.pin (pcfgs (F := F)) adm) EP 0 d ∗ Pipeline.toksInit (Pipeline.pin (pcfgs (F := F)) adm) EP 0 d)

/-- The first statement of @main: every buffer held at `W` before it, at `vR` after it. -/
theorem wp_stats (d : Dev nD) [∀ e, Nonempty (Elt F e)]
    {k : PUnit → Prog (TpuEff nD τ sig (Elt F) (SparseCore.Sig (ΛP (F := F)) 1) .tc) PUnit} {Q : PUnit → sProp 𝕄} :
    iprop(levAts (K (F := F)).L (K (F := F)).lev ∗ boundary (T d) ∗ held (T d) (Pipeline.ucRefs τ sig) (W d) ∗ (∃ r, prngReg d r) ∗ owesB n d ∗ ghostW d
        ∗ ((boundary (T d) ∗ held (T d) (Pipeline.ucRefs τ sig) (vR W n d) ∗ (∃ r, prngReg d r) ∗ owesB n d)
            -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 0)) ()) >>= k) Q := by
  have hsub : arrRefs (τ := τ) spec0 ⊆ Pipeline.ucRefs τ sig := Pipeline.arrRefs_sub_ucRefs spec0 launch0.win.arr_unscoped
  have hrest : (held (T d) (Pipeline.ucRefs τ sig \ arrRefs spec0) (W d) : sProp 𝕄) = held (T d) (Pipeline.ucRefs τ sig \ arrRefs spec0) (vR W n d) :=
    StableHlo.held_congr _ fun b hb => by
      have hn : b ∉ arrRefs spec0 := (Finset.mem_sdiff.mp hb).2
      refine (vR_other W n d (fun e => hn ?_) (fun e => hn ?_) (fun e => hn ?_)).symm <;> rw [e] <;> decide
  rw [wp_bind, StableHlo.held_sub_split (T d) hsub (W d), StableHlo.held_sub_split (T d) hsub (vR W n d), ← hrest]
  have hstep := Pipeline.RegionSeg.wp (pcfgs (F := F)) adm (datsW W n) none cellOf_inj EP (defs₀ (F := F)) 𝒱₀ (K (F := F)).L (K (F := F)).lev (regW W n) d none
    (fun _ h => nomatch h) (fun _ => pure (PUnit.unit : PUnit))
    (fun _ => iprop(boundary (T d) ∗ held (T d) (arrRefs spec0) (vR W n d) ∗ (∃ r, prngReg d r) ∗ owesB n d))
  rw [show (regW W n).pre d = iprop(held (d.tc : Thread nD τ) (arrRefs spec0) (W d) ∗ (∃ r, prngReg d r) ∗ owesB n d) from rfl,
    show (regW W n).post d = iprop(held (d.tc : Thread nD τ) (arrRefs spec0) (vR W n d) ∗ (∃ r, prngReg d r) ∗ owesB n d) from rfl] at hstep
  have hlift := (K (F := F)).wp_liftProg (D (F := F)) 𝒱 (T d) Set.univ none
    (.op (.customCall (Pipeline.entry 0) ()) fun _ => pure ⟨⟩)
    (fun _ : PUnit => iprop(boundary (T d) ∗ held (T d) (arrRefs spec0) (vR W n d) ∗ (∃ r, prngReg d r) ∗ owesB n d))
  unfold ghostW
  iintro ⟨#Hl, Hb, ⟨Ha, Hr⟩, Hp, Ho, ⟨Hg, Ht⟩, Hk⟩
  iapply (wp_wand_r frame _ Set.univ)
  isplitl [Hb Ha Hp Ho Hg Ht]
  · iapply hlift
    iapply hstep
    isplitr
    · iintro ⟨Hb, Hpost⟩
      rw [wp_pure]; imodintro
      isplitl [Hb]; · iexact Hb
      iexact Hpost
    isplitl [Hb]; · iexact Hb
    isplitl [Ha Hp Ho]
    · isplitl [Ha]; · iexact Ha
      isplitl [Hp]; · iexact Hp
      iexact Ho
    isplitr; · iexact Hl
    isplitl [Hg]; · iexact Hg
    iexact Ht
  · iintro %_ ⟨Hb, Ha, Hp, Ho⟩
    iapply Hk
    isplitl [Hb]; · iexact Hb
    isplitl [Ha Hr]
    · isplitl [Ha]; · iexact Ha
      iexact Hr
    isplitl [Hp]; · iexact Hp
    iexact Ho

end Cert.Proof.WholeIdeal
-- ==== Proof.LaunchW.lean ====
module

public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Pipeline.Frame
public import Idealize.ShloMosaic.Lib.Tactic
public import proofs.«01_k».proof.Proof.GoalW
public import proofs.«01_k».proof.Proof.RegionW
public import proofs.«01_k».proof.Proof.Gen.WholeIdeal
public import proofs.«01_k».proof.Proof.Gen.WholeIdeal.Skeleton

@[expose] public section

noncomputable section

/-! # The launch: the host operations, the one call on the thirty-two tiles, the host operations after it -/

namespace Cert.Proof.WholeIdeal

open Cert.WholeIdeal Cert.WholeIdeal.Gen Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after tcRefs)
open Idealize.ShloMosaic.Tactic

variable {F : FTy → Type}

local notation "𝕄" => MT nD τ sig (HIx 1) (Elt F) ℕ UU ℕ

variable [FloatOps F]

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The tiles of a SparseCore, and all of them -/

/-- Tile `i` of SparseCore `c`. -/
def wOf (c : Fin 2) (i : Fin 16) : Fin 32 := finProdFinEquiv (c, i)

omit [FloatOps F] in
theorem bigSep_tiles (Φ : Fin 32 → sProp 𝕄) :
    (bigSep Finset.univ fun c : Fin 2 => bigSep Finset.univ fun i : Fin 16 => Φ (wOf c i)) = bigSep Finset.univ Φ :=
  (bigSep_univ_prod (α := Fin 2) (β := Fin 16) fun p => Φ (finProdFinEquiv p)).symm.trans
    (bigSep_univ_equiv (finProdFinEquiv (m := 2) (n := 16)) Φ).symm

omit [FloatOps F] in
theorem rowsOf_disjoint (n k : ℕ) : ∀ w ∈ (Finset.univ : Finset (Fin 32)), ∀ w' ∈ (Finset.univ : Finset (Fin 32)), w ≠ w' →
    Disjoint (rowsOf n k w) (rowsOf n k w') := fun w _ w' _ h => Finset.disjoint_left.mpr fun x hx hx' =>
  h (Fin.ext ((Finset.mem_filter.mp hx).2.symm.trans (Finset.mem_filter.mp hx').2))

omit [FloatOps F] in
theorem rowsOf_cover (n k : ℕ) (h : n = 32 * k) : (Finset.univ : Finset (Fin 32)).biUnion (rowsOf n k) = Finset.univ := by
  refine Finset.eq_univ_of_forall fun x => ?_
  have hx : (x 0).val < n := (x 0).isLt
  have hk : (x 0).val / k < 32 := Nat.div_lt_of_lt_mul (by rw [Nat.mul_comm]; omega)
  exact Finset.mem_biUnion.mpr ⟨⟨_, hk⟩, Finset.mem_univ _, Finset.mem_filter.mpr ⟨Finset.mem_univ _, rfl⟩⟩

variable (d : Dev nD) (I : Ins (F := F))

/-- The three results, whole. -/
def outsAll (f : (SN 12288).Idx → Elt F .f32) (g h : (SN 4096).Idx → Elt F .f32) : sProp 𝕄 :=
  iprop(((SparseCore.T d).loc main_v12_0 ↦{fullShare} f) ∗ ((SparseCore.T d).loc main_v12_1 ↦{fullShare} g)
    ∗ ((SparseCore.T d).loc main_v12_2 ↦{fullShare} h))

omit [FloatOps F] in
theorem ins_tiles : (bigSep Finset.univ fun w : Fin 32 => insAt d I (shareOf w)) = insAt d I fullShare := by
  unfold insAt
  rw [bigSep_sep', bigSep_sep', bigSep_sep', bigSep_sep', bigSep_sep', bigSep_sep', bigSep_sep', bigSep_sep']
  simp only [ShareLeaves.pointsTo_leaves Finset.univ _ 5 fullShare]
  rfl

omit [FloatOps F] in
theorem outs_tiles (f : (SN 12288).Idx → Elt F .f32) (g h : (SN 4096).Idx → Elt F .f32) :
    (bigSep Finset.univ fun w : Fin 32 => outsAt d w f g h) = outsAll d f g h := by
  unfold outsAt outsAll
  rw [bigSep_sep', bigSep_sep',
    ← pointsTo_biUnion Finset.univ (ℓ := (SparseCore.T d).loc main_v12_0) (rowsOf 12288 384) (rowsOf_disjoint _ _),
    ← pointsTo_biUnion Finset.univ (ℓ := (SparseCore.T d).loc main_v12_1) (rowsOf 4096 128) (rowsOf_disjoint _ _),
    ← pointsTo_biUnion Finset.univ (ℓ := (SparseCore.T d).loc main_v12_2) (rowsOf 4096 128) (rowsOf_disjoint _ _),
    rowsOf_cover 12288 384 rfl, rowsOf_cover 4096 128 rfl]
  try rfl

omit [FloatOps F] in
theorem go_tiles : (bigSep Finset.univ fun c : Fin 2 => bigSep Finset.univ fun i : Fin 16 => goAt d I (wOf c i))
    = iprop(insAt d I fullShare ∗ outsAll d I.fi I.fl I.fc) := by
  rw [bigSep_tiles (fun w => goAt d I w)]
  unfold goAt
  rw [bigSep_sep', ins_tiles, outs_tiles]
theorem td_tiles : (bigSep Finset.univ fun c : Fin 2 => bigSep Finset.univ fun i : Fin 16 => tdAt d I (wOf c i))
    = iprop(insAt d I fullShare ∗ outsAll d (gI I) (gL I) (gC I)) := by
  rw [bigSep_tiles (fun w => tdAt d I w)]
  unfold tdAt
  rw [bigSep_sep', ins_tiles, outs_tiles]

/-! ## What the handshakes carry -/

section Payloads

variable (J : Dev nD → Ins (F := F))

omit [FloatOps F] in
instance insAt_storable (q : PosShare TreeShare) : BI.Storable (upEmb : UEmb _ 𝕄) (insAt d I q) := by unfold insAt; infer_instance
omit [FloatOps F] in
instance outsAt_storable (w : Fin 32) (f : (SN 12288).Idx → Elt F .f32) (g h : (SN 4096).Idx → Elt F .f32) :
    BI.Storable (upEmb : UEmb _ 𝕄) (outsAt d w f g h) := by unfold outsAt; infer_instance
omit [FloatOps F] in
instance goAt_storable (w : Fin 32) : BI.Storable (upEmb : UEmb _ 𝕄) (goAt d I w) := by unfold goAt; infer_instance
instance tdAt_storable (w : Fin 32) : BI.Storable (upEmb : UEmb _ 𝕄) (tdAt d I w) := by unfold tdAt; infer_instance

/-- The one call hands every tile its part of the arrays and takes it back at the results. -/
def P : (K (F := F)).Pay (nD := nD) (Val := Elt F) (Name := ℕ) (U := UU) where
  st := fun q d c => match q with | 0 => bigSep Finset.univ fun i : Fin 16 => goAt d (J d) (wOf c i)
  dn := fun q d c => match q with | 0 => bigSep Finset.univ fun i : Fin 16 => tdAt d (J d) (wOf c i)
  go := fun q d c i => match q with | 0 => goAt d (J d) (wOf c i)
  td := fun q d c i => match q with | 0 => tdAt d (J d) (wOf c i)
  x := fun _ _ => iprop(emp)

instance P_storable : (P J).IsStorable where
  st q d c := match q with
    | 0 => (inferInstance : BI.Storable (upEmb : UEmb _ 𝕄) (bigSep Finset.univ fun i : Fin 16 => goAt d (J d) (wOf c i)))
  dn q d c := match q with
    | 0 => (inferInstance : BI.Storable (upEmb : UEmb _ 𝕄) (bigSep Finset.univ fun i : Fin 16 => tdAt d (J d) (wOf c i)))
  go q d c i := match q with | 0 => (inferInstance : BI.Storable (upEmb : UEmb _ 𝕄) (goAt d (J d) (wOf c i)))
  td q d c i := match q with | 0 => (inferInstance : BI.Storable (upEmb : UEmb _ 𝕄) (tdAt d (J d) (wOf c i)))

theorem vecSplit : (K (F := F)).VecSplit' (P J) 0 := by
  intro d c
  show (bigSep Finset.univ fun i : Fin 16 => goAt d (J d) (wOf c i)) ⊢ |={Set.univ}=> iprop(
      (bigSep Finset.univ fun i : Fin 16 => goAt d (J d) (wOf c i))
      ∗ ((bigSep Finset.univ fun i : Fin 16 => tdAt d (J d) (wOf c i)) -∗ bigSep Finset.univ fun i : Fin 16 => tdAt d (J d) (wOf c i)))
  iintro H; imodintro
  isplitl [H]; · iexact H
  iintro H; iexact H

/-! ## A tile's task -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_assemble_body (F := F) (coordsV c s) (Memref.whole main_v4_scv) (Memref.isWhole_whole _) (Memref.whole main_v5_scv) (Memref.isWhole_whole _) (Memref.whole main_v7_scv) (Memref.isWhole_whole _) (Memref.whole main_v9_scv) (Memref.isWhole_whole _) (Memref.whole main_v10_scv) (Memref.isWhole_whole _) (Memref.whole main_v11_scv) (Memref.isWhole_whole _) (Memref.whole main_v1_scv) (Memref.isWhole_whole _) (Memref.whole main_v2_scv) (Memref.isWhole_whole _) (Memref.whole main_v3_scv) (Memref.isWhole_whole _) (Memref.whole main_v12_0_scv) (Memref.isWhole_whole _) (Memref.whole main_v12_1_scv) (Memref.isWhole_whole _) (Memref.whole main_v12_2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 cc1_scoped17 cc1_scoped18 cc1_scoped19 cc1_scoped20 cc1_scoped21 cc1_scoped22 cc1_scoped23 cc1_scoped24 cc1_scoped25 cc1_scoped26 cc1_scoped27 cc1_scoped28 cc1_scoped29 cc1_scoped30 cc1_scoped31 cc1_scoped32 cc1_scoped33 cc1_scoped34 cc1_scoped35 cc1_scoped36 cc1_scoped37 cc1_scoped38 cc1_scoped39 cc1_scoped40 cc1_scoped41 cc1_scoped42 cc1_scoped43 cc1_scoped44 cc1_scoped45 cc1_scoped46 cc1_scoped47 cc1_scoped48 cc1_scoped49 cc1_scoped50 cc1_scoped51 cc1_scoped52 cc1_scoped53 cc1_scoped54 cc1_scoped55 cc1_scoped56 cc1_scoped57 cc1_scoped58 cc1_scoped59 cc1_scoped60 cc1_scoped61 cc1_scoped62 cc1_scoped63 cc1_scoped64 cc1_scoped65 cc1_scoped66 cc1_scoped67 cc1_scoped68 cc1_scoped69 cc1_scoped70 cc1_scoped71 cc1_scoped72 cc1_scoped73 cc1_scoped74 cc1_scoped75 cc1_scoped76 cc1_scoped77 cc1_scoped78 cc1_scoped79 cc1_scoped80 cc1_scoped81 cc1_scoped82 cc1_scoped83 cc1_scoped84 cc1_scoped85 cc1_scoped86 cc1_scoped87 cc1_scoped88 cc1_scoped89 cc1_scoped90 cc1_scoped91 cc1_scoped92) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P J) v₀ 0 := by
  intro d c i O W hO _ _
  simp only [show (P J).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hw : (wOf c i).val = tN (coordsV ⟨_, hci.1⟩ ⟨_, hci.2⟩) := by
    show i.val + 16 * c.val = c.val * 16 + i.val
    omega
  exact (tile_body d (coordsV ⟨_, hci.1⟩ ⟨_, hci.2⟩) O W (J d) (wOf c i) hw facts hO).trans (wp_mono frame _ _ fun _ => obl_post)

/-! ## The launch element of the certificate's ghost state -/

/-- The statistics call's part of it. -/
def uP : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

theorem fund_ghostW : (BI.own (EP (F := F) (uP (F := F))) : sProp 𝕄) ⊢ iprop(|==> bigSep Finset.univ fun d : Dev nD => ghostW (F := F) d) := by
  unfold uP
  iintro Hu
  imod (Pipeline.fund_ghost (Pipeline.pin (pcfgs (F := F)) adm) EP cellOf_inj) $$ Hu with ⟨Hg, Ht⟩
  imodintro
  unfold ghostW
  rw [bigSep_sep']
  isplitl [Hg]
  · rw [show (bigSep Finset.univ fun c : Dev nD => bigSep Finset.univ fun p => (Pipeline.cellsGhost (Pipeline.pin (pcfgs (F := F)) adm) EP p c : sProp 𝕄))
      = bigSep Finset.univ fun c : Dev nD => Pipeline.cellsGhost (Pipeline.pin (pcfgs (F := F)) adm) EP 0 c from
      bigSep_congr fun _ _ => bigSep_univ_of_subsingleton (0 : Fin 1)]
    exact (.rfl : (_ : sProp 𝕄) ⊢ _)
  · rw [show (bigSep Finset.univ fun c : Dev nD => bigSep Finset.univ fun p => (Pipeline.toksInit (Pipeline.pin (pcfgs (F := F)) adm) EP p c : sProp 𝕄))
      = bigSep Finset.univ fun c : Dev nD => Pipeline.toksInit (Pipeline.pin (pcfgs (F := F)) adm) EP 0 c from
      bigSep_congr fun _ _ => bigSep_univ_of_subsingleton (0 : Fin 1)]
    exact (.rfl : (_ : sProp 𝕄) ⊢ _)

omit [FloatOps F] in
theorem bigSep_none {X : Type} (s : Finset X) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => ghostW (F := F) d)
        ∗ bigSep Finset.univ fun t : Thread nD τ => bigSep Finset.univ fun q : Fin 1 => (P J).x q t) := by
  unfold u₀
  iintro Hu
  ihave H := (ownU_pair (initOf (K (F := F)).hsCells (K (F := F)).hsToks) ((uP (F := F), 1) : UP × Counters)) $$ Hu
  icases H with ⟨HH, HP⟩
  ihave HP := (own_pair_emb embR (uP (F := F)) (1 : Counters)) $$ HP
  icases HP with ⟨HP, -⟩
  imod (fund_ghostW (F := F)) $$ HP with HG
  imodintro
  isplitl [HH]; · iexact HH
  isplitl [HG]; · iexact HG
  rw [show (bigSep Finset.univ fun t : Thread nD τ => bigSep Finset.univ fun q : Fin 1 => (P J).x q t) = bigSep Finset.univ fun _ => iprop(emp) from
    bigSep_congr fun _ _ => bigSep_univ_of_subsingleton (0 : Fin 1), bigSep_none]
  iempintro

end Payloads

/-! ## @main on the TensorCore -/

variable (m : (ℓ : Loc nD τ sig) → Buf (Elt F) ℓ) (ρ : Dev nD → PrngReg)

/-- The host operations before the call, and after it. -/
def opsA : List (HloOp τ sig (Elt F)) :=
  [StableHlo.reshape main_v0_0 main_v1 (rfl : (.i32 : EltTy) = .i32) shapeCasts_S8x1x16_S128,
   StableHlo.reshape main_v0_1 main_v2 (rfl : (.i32 : EltTy) = .i32) shapeCasts_S8x1x16_S128,
   StableHlo.reshape main_v0_2 main_v3 (rfl : (.i32 : EltTy) = .i32) shapeCasts_S8x1x16_S128,
   StableHlo.reshape main_arg0 main_v4 (rfl : (.f32 : EltTy) = .f32) shapeCasts_S8x3x512x512_S12288x512,
   StableHlo.reshape main_arg1 main_v5 (rfl : (.f32 : EltTy) = .f32) shapeCasts_S8x3x512x512_S12288x512,
   StableHlo.unary main_arg2 main_v6 (sitofp .f32 : (⟨S8x512x512, .i32⟩ : BufTy).Contents (Elt F) → (⟨S8x512x512, .f32⟩ : BufTy).Contents (Elt F)),
   StableHlo.reshape main_v6 main_v7 (rfl : (.f32 : EltTy) = .f32) shapeCasts_S8x512x512_S4096x512,
   StableHlo.unary main_arg3 main_v8 (sitofp .f32 : (⟨S8x512x512, .i32⟩ : BufTy).Contents (Elt F) → (⟨S8x512x512, .f32⟩ : BufTy).Contents (Elt F)),
   StableHlo.reshape main_v8 main_v9 (rfl : (.f32 : EltTy) = .f32) shapeCasts_S8x512x512_S4096x512,
   StableHlo.reshape main_arg4 main_v10 (rfl : (.f32 : EltTy) = .f32) shapeCasts_S8x512x512_S4096x512,
   StableHlo.reshape main_arg5 main_v11 (rfl : (.f32 : EltTy) = .f32) shapeCasts_S8x512x512_S4096x512]
def opsB : List (HloOp τ sig (Elt F)) :=
  [StableHlo.reshape main_v12_0 main_v13 (rfl : (.f32 : EltTy) = .f32) shapeCasts_S12288x512_S8x3x512x512,
   StableHlo.reshape main_v12_1 main_v14 (rfl : (.f32 : EltTy) = .f32) shapeCasts_S4096x512_S8x512x512,
   StableHlo.unary main_v14 main_v15 (fptosi 32 : (⟨S8x512x512, .f32⟩ : BufTy).Contents (Elt F) → (⟨S8x512x512, .i32⟩ : BufTy).Contents (Elt F)),
   StableHlo.reshape main_v12_2 main_v16 (rfl : (.f32 : EltTy) = .f32) shapeCasts_S4096x512_S8x512x512]

set_option backward.isDefEq.respectTransparency.types false in
theorem main_eq : main (F := F) d = (Prog.lift (.customCall (SparseCore.inner (Pipeline.entry 0)) ()) >>= fun _ => StableHlo.seq opsA >>= fun _ => (sc (F := F)).run d 0 >>= fun _ => StableHlo.seq opsB >>= fun _ => pure ⟨⟩) := by
  simp only [StableHlo.seq_bind_seqK]
  rfl

theorem opsA_sub : ∀ op ∈ opsA (F := F), op.bufs ⊆ Pipeline.ucRefs τ sig := by
  intro op h
  refine Pipeline.sub_ucRefs op ?_
  unfold opsA at h
  (repeat (cases h with | head => (first | exact StableHlo.reshape_bufs_sub .. | exact StableHlo.unary_bufs_sub ..) | tail _ h => ?_)); exact nomatch h
theorem opsB_sub : ∀ op ∈ opsB (F := F), op.bufs ⊆ Pipeline.ucRefs τ sig := by
  intro op h
  refine Pipeline.sub_ucRefs op ?_
  unfold opsB at h
  (repeat (cases h with | head => (first | exact StableHlo.reshape_bufs_sub .. | exact StableHlo.unary_bufs_sub ..) | tail _ h => ?_)); exact nomatch h
theorem opsA_fresh : ∀ op ∈ opsA (F := F), op.fresh = ∅ := by
  intro op h
  unfold opsA at h
  (repeat (cases h with | head => rfl | tail _ h => ?_)); exact nomatch h
theorem opsB_fresh : ∀ op ∈ opsB (F := F), op.fresh = ∅ := by
  intro op h
  unfold opsB at h
  (repeat (cases h with | head => rfl | tail _ h => ?_)); exact nomatch h

abbrev rf (b : Ref sig .tc) : DevRef τ sig := Proc.devRef .tc b

/-- The buffers when the call starts. -/
def vA (d : Dev nD) : Valuation τ sig (Elt F) := after opsA (vR (fun d b => m (d, b)) 0 d)

/-- The destination and the source words are patch numbers. -/
def PreOK : Prop := ∀ d : Dev nD, (∀ i : S128.Idx, (vA m d (rf main_v2) i : BitVec 32).toNat < 256) ∧ ∀ i : S128.Idx, (vA m d (rf main_v3) i : BitVec 32).toNat < 256

variable (hm : PreOK m)

/-- The call's arrays. -/
def insOf (d : Dev nD) : Ins (F := F) where
  q := fullShare
  tk := vA m d (rf main_v1)
  dv := vA m d (rf main_v2)
  sv := vA m d (rf main_v3)
  oi := vA m d (rf main_v4)
  ai := vA m d (rf main_v5)
  ol := vA m d (rf main_v7)
  al := vA m d (rf main_v9)
  oc := vA m d (rf main_v10)
  ac := vA m d (rf main_v11)
  fi := vA m d (rf main_v12_0)
  fl := vA m d (rf main_v12_1)
  fc := vA m d (rf main_v12_2)
  hdv := (hm d).1
  hsv := (hm d).2

/-- The buffers when the call has ended: the three results written, the rest as they were. -/
def vB (d : Dev nD) : Valuation τ sig (Elt F) :=
  Function.update (Function.update (Function.update (vA m d) (rf main_v12_0) (gI (insOf m hm d))) (rf main_v12_1) (gL (insOf m hm d)))
    (rf main_v12_2) (gC (insOf m hm d))

/-- The buffers at the end. -/
def vC (d : Dev nD) : Valuation τ sig (Elt F) := after opsB (vB m hm d)

/-- The call's buffers. -/
def callRefs : Finset (DevRef τ sig) :=
  {rf main_v1, rf main_v2, rf main_v3, rf main_v4, rf main_v5, rf main_v7, rf main_v9, rf main_v10, rf main_v11, rf main_v12_0, rf main_v12_1, rf main_v12_2}

theorem callRefs_sub : callRefs ⊆ Pipeline.ucRefs τ sig := by
  intro b hb
  unfold callRefs at hb
  simp only [Finset.mem_insert, Finset.mem_singleton] at hb
  rcases hb with h | h | h | h | h | h | h | h | h | h | h | h <;> subst h <;>
    exact Finset.mem_filter.mpr ⟨StableHlo.devRef_mem_tcRefs _, by decide⟩

theorem held_call (W : Valuation τ sig (Elt F)) : (held (SparseCore.T d) callRefs W : sProp 𝕄)
    = iprop(((SparseCore.T d).loc main_v1 ↦{fullShare} W (rf main_v1)) ∗ ((SparseCore.T d).loc main_v2 ↦{fullShare} W (rf main_v2))
      ∗ ((SparseCore.T d).loc main_v3 ↦{fullShare} W (rf main_v3)) ∗ ((SparseCore.T d).loc main_v4 ↦{fullShare} W (rf main_v4))
      ∗ ((SparseCore.T d).loc main_v5 ↦{fullShare} W (rf main_v5)) ∗ ((SparseCore.T d).loc main_v7 ↦{fullShare} W (rf main_v7))
      ∗ ((SparseCore.T d).loc main_v9 ↦{fullShare} W (rf main_v9)) ∗ ((SparseCore.T d).loc main_v10 ↦{fullShare} W (rf main_v10))
      ∗ ((SparseCore.T d).loc main_v11 ↦{fullShare} W (rf main_v11)) ∗ ((SparseCore.T d).loc main_v12_0 ↦{fullShare} W (rf main_v12_0))
      ∗ ((SparseCore.T d).loc main_v12_1 ↦{fullShare} W (rf main_v12_1)) ∗ ((SparseCore.T d).loc main_v12_2 ↦{fullShare} W (rf main_v12_2))) := by
  unfold StableHlo.held callRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem vB_other {b : DevRef τ sig} (h0 : b ≠ rf main_v12_0) (h1 : b ≠ rf main_v12_1) (h2 : b ≠ rf main_v12_2) : vB m hm d b = vA m d b := by
  unfold vB
  rw [Function.update_of_ne h2, Function.update_of_ne h1, Function.update_of_ne h0]
theorem vB_0 : vB m hm d (rf main_v12_0) = gI (insOf m hm d) := by
  unfold vB
  rw [Function.update_of_ne (by decide), Function.update_of_ne (by decide), Function.update_self]
theorem vB_1 : vB m hm d (rf main_v12_1) = gL (insOf m hm d) := by
  unfold vB
  rw [Function.update_of_ne (by decide), Function.update_self]
theorem vB_2 : vB m hm d (rf main_v12_2) = gC (insOf m hm d) := by
  unfold vB
  rw [Function.update_self]

/-- Before the call: what it takes, beside the rest. -/
theorem held_before : (held (SparseCore.T d) (Pipeline.ucRefs τ sig) (vA m d) : sProp 𝕄)
    ⊢ iprop((insAt d (insOf m hm d) fullShare ∗ outsAll d (insOf m hm d).fi (insOf m hm d).fl (insOf m hm d).fc)
      ∗ held (SparseCore.T d) (Pipeline.ucRefs τ sig \ callRefs) (vA m d)) := by
  rw [StableHlo.held_sub_split _ callRefs_sub, held_call]
  unfold insAt outsAll
  iintro ⟨⟨H0, H1, H2, H3, H4, H6, H8, H9, H10, Ho⟩, Hr⟩
  isplitr [Hr]
  · isplitr [Ho]
    · isplitl [H0]; · iexact H0
      isplitl [H1]; · iexact H1
      isplitl [H2]; · iexact H2
      isplitl [H3]; · iexact H3
      isplitl [H4]; · iexact H4
      isplitl [H6]; · iexact H6
      isplitl [H8]; · iexact H8
      isplitl [H9]; · iexact H9
      iexact H10
    · iexact Ho
  · iexact Hr

/-- After the call: what it brings back, with the rest. -/
theorem held_after : iprop((insAt d (insOf m hm d) fullShare ∗ outsAll d (gI (insOf m hm d)) (gL (insOf m hm d)) (gC (insOf m hm d)))
      ∗ held (SparseCore.T d) (Pipeline.ucRefs τ sig \ callRefs) (vA m d))
    ⊢ (held (SparseCore.T d) (Pipeline.ucRefs τ sig) (vB m hm d) : sProp 𝕄) := by
  have hr : (held (SparseCore.T d) (Pipeline.ucRefs τ sig \ callRefs) (vA m d) : sProp 𝕄)
      = held (SparseCore.T d) (Pipeline.ucRefs τ sig \ callRefs) (vB m hm d) := StableHlo.held_congr _ fun b hb => by
    have hn : b ∉ callRefs := (Finset.mem_sdiff.mp hb).2
    refine (vB_other d m hm (fun e => hn ?_) (fun e => hn ?_) (fun e => hn ?_)).symm <;> rw [e] <;> decide
  rw [hr, StableHlo.held_sub_split _ callRefs_sub, held_call, vB_0, vB_1, vB_2,
    vB_other d m hm (by decide) (by decide) (by decide), vB_other d m hm (by decide) (by decide) (by decide), vB_other d m hm (by decide) (by decide) (by decide),
    vB_other d m hm (by decide) (by decide) (by decide), vB_other d m hm (by decide) (by decide) (by decide), vB_other d m hm (by decide) (by decide) (by decide),
    vB_other d m hm (by decide) (by decide) (by decide), vB_other d m hm (by decide) (by decide) (by decide), vB_other d m hm (by decide) (by decide) (by decide)]
  unfold insAt outsAll
  iintro ⟨⟨⟨H0, H1, H2, H3, H4, H6, H8, H9, H10⟩, Ho⟩, Hr⟩
  isplitr [Hr]
  · isplitl [H0]; · iexact H0
    isplitl [H1]; · iexact H1
    isplitl [H2]; · iexact H2
    isplitl [H3]; · iexact H3
    isplitl [H4]; · iexact H4
    isplitl [H6]; · iexact H6
    isplitl [H8]; · iexact H8
    isplitl [H9]; · iexact H9
    isplitl [H10]; · iexact H10
    iexact Ho
  · iexact Hr

theorem st0_eq : (bigSep Finset.univ fun c : Fin ((K (F := F)).nCore 0) => (P (insOf m hm)).st 0 d c)
    = iprop(insAt d (insOf m hm d) fullShare ∗ outsAll d (insOf m hm d).fi (insOf m hm d).fl (insOf m hm d).fc) := go_tiles d (insOf m hm d)
theorem dn0_eq : (bigSep Finset.univ fun c : Fin ((K (F := F)).nCore 0) => (P (insOf m hm)).dn 0 d c)
    = iprop(insAt d (insOf m hm d) fullShare ∗ outsAll d (gI (insOf m hm d)) (gL (insOf m hm d)) (gC (insOf m hm d))) := td_tiles d (insOf m hm d)

/-- What @main ends with: every buffer of the TensorCore. -/
abbrev FIN (d : Dev nD) : sProp 𝕄 := held (SparseCore.T d) (Pipeline.ucRefs τ sig) (vC m hm d)

/-- What the TensorCore holds of the launch before the call, beside what it owes. -/
def restSt (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) : ((K (F := F)).tcSt EH d 0 : sProp 𝕄) = iprop(owesB 0 d ∗ restSt d) := rfl

set_option backward.isDefEq.respectTransparency.types false in
/-- @main on device `d`'s TensorCore. -/
theorem hmain [∀ e, Nonempty (Elt F e)] (κ : GSem nD τ sig → ℕ) (d : Dev nD) :
    iprop((K (F := F)).ctx EH (P (insOf m hm)) κ ∗ (K (F := F)).tcSt EH d 0 ∗ (K (F := F)).tcRes m ρ d ∗ ghostW d)
      ⊢ wp frame (wpE ((K (F := F)).defs (D (F := F))) 𝒱 (SparseCore.T d) none) Set.univ (main d)
          fun _ => iprop((K (F := F)).tcSt EH d 1 ∗ FIN m hm d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (fun b => m (d, b)) from
    Pipeline.unscopedBufs_held d fun b => m (d, b)]
  iintro ⟨#Hctx, Hst, ⟨Hb, Hu, Hts, Hp⟩, Hg⟩
  ihave Hst := (BIBase.Entails.of_eq (tcSt_split d)) $$ Hst
  icases Hst with ⟨Ho, Hst⟩
  iapply (wp_stats (fun d b => m (d, b)) 0 d)
  isplitr; · iapply (SparseCore.Cfg.ctx_levAts κ); iexact Hctx
  isplitl [Hb]; · iexact Hb
  isplitl [Hu]; · iexact Hu
  isplitl [Hp]; · iexists _; iexact Hp
  isplitl [Ho]; · iexact Ho
  isplitl [Hg]; · iexact Hg
  iintro ⟨Hb, Hu, -, Ho⟩
  ihave Hst := (BIBase.Entails.of_eq (tcSt_split d).symm) $$ [Ho Hst]
  · isplitl [Ho]; · iexact Ho
    iexact Hst
  iapply (StableHlo.wp_seq 𝒱 none Set.univ d (Pipeline.ucRefs τ sig) _ opsA opsA_sub opsA_fresh (vR (fun d b => m (d, b)) 0 d)) $$ [Hb Hu]
  · isplitl [Hb]; · iexact Hb
    iexact Hu
  iintro ⟨Hb, Hu⟩
  ihave Hu := (show (held (d.tc : Thread nD τ) (Pipeline.ucRefs τ sig) (after opsA (vR (fun d b => m (d, b)) 0 d)) : sProp 𝕄) ⊢ _ from held_before d m hm) $$ Hu
  icases Hu with ⟨Hcall, Hrest⟩
  rw [wp_bind]
  iapply ((K (F := F)).wp_run (D (F := F)) 𝒱 (EH := EH) (P := P (insOf m hm)) κ d 0) $$ [Hst Hcall Hrest Hb Hts]
  isplitr; · iexact Hctx
  isplitl [Hst]; · iexact Hst
  isplitl [Hcall]
  · rw [st0_eq]; iexact Hcall
  iintro ⟨Hst, Hdn⟩
  ihave Hdn' := (BIBase.Entails.of_eq (dn0_eq d m hm)) $$ Hdn
  ihave Hu := (held_after d m hm) $$ [Hdn' Hrest]
  · isplitl [Hdn']; · iexact Hdn'
    iexact Hrest
  iapply (StableHlo.wp_seq 𝒱 none Set.univ d (Pipeline.ucRefs τ sig) _ opsB opsB_sub opsB_fresh (vB m hm d)) $$ [Hb Hu]
  · isplitl [Hb]; · iexact Hb
    iexact Hu
  iintro ⟨Hb, Hu⟩
  rw [wp_pure]; imodintro
  isplitl [Hst]; · iexact Hst
  isplitl [Hu]; · iexact Hu
  isplitl [Hb] <;> iassumption

def fq (d : Dev nD) (s' : Phys nD τ sig (Elt F)) : Prop := ∀ b ∈ Pipeline.ucRefs τ sig, s'.mem.mem (d, b) = vC m hm d b

theorem hfin (d : Dev nD) (s' : Phys nD τ sig (Elt F)) : iprop(FIN m hm d ∗ SI s') ⊢ (⌜fq m hm d s'⌝ : sProp 𝕄) := by
  unfold FIN StableHlo.held
  iintro ⟨H, HSI⟩
  ihave %h := (SI_pointsTo_bufs_agree (qs := fun _ => fullShare) (Pipeline.ucRefs τ sig)) $$ [HSI H]
  · isplitl [HSI]; · iexact HSI
    iexact H
  ipureintro
  exact h

/-! ## The program's run -/

def QC : PUnit × MemSt nD τ sig (Elt F) → Prop := fun r =>
  (∀ d : Dev nD, ∀ b ∈ Pipeline.ucRefs τ sig, r.2.mem (d, b) = vC m hm d b) ∧ r.2.sem = fun _ => 0

/-- The whole program: every buffer of each TensorCore at its final contents, every counter back at zero. -/
theorem run_main [∀ e, Nonempty (Elt F e)] :
    θ_run (Cert.WholeIdeal.defs (F := F)) (Cert.WholeIdeal.threads (F := F)) ⟨m, fun _ => 0, ρ⟩ (QC m hm) :=
  SparseCore.Cfg.θ_run_sc_quiescent (K := K (F := F)) (D := D (F := F)) (𝒱 := 𝒱) (EH := EH) (P := P (insOf m hm)) (A := ∅) facts v₀
    (fun q hq => match q with | 0 => nomatch hq)
    (fun q _ => match q with | 0 => tileObl (insOf m hm))
    (fun q _ => match q with | 0 => SparseCore.Cfg.VecSplit.of_plain (vecSplit (insOf m hm)))
    m ρ main (fun d => ghostW d) (FIN m hm) (u₀ (F := F)) (sep_elim_left.trans (hu₀ (insOf m hm))) (hmain m ρ hm) (fq m hm) (hfin m hm) (QC m hm) (fun _ h hz => ⟨h, hz⟩)

end Cert.Proof.WholeIdeal
-- ==== Proof.FrameW.lean ====
module

public import proofs.«01_k».proof.Proof.LaunchW

@[expose] public section

noncomputable section

/-! # The final contents, read at the arguments and at the results -/

namespace Cert.Proof.WholeIdeal

open Cert.WholeIdeal Cert.WholeIdeal.Gen Cert.Proof.Words
open Idealize.ShloMosaic Idealize.ShloMosaic.TcCoe Idealize.ShloMosaic.StableHlo Idealize.SL.Sem

variable {F : FTy → Type} [FloatOps F] (m : (ℓ : Loc nD τ sig) → Buf (Elt F) ℓ)

/-- The statistics call's lists, over the starting memory. -/
abbrev tkL (d : Dev nD) : S8x1x16.Idx → Elt F .i32 := out4 (fun d b => m (d, b)) 0 d
abbrev dvL (d : Dev nD) : S8x1x16.Idx → Elt F .i32 := out5 (fun d b => m (d, b)) 0 d
abbrev svL (d : Dev nD) : S8x1x16.Idx → Elt F .i32 := out6 (fun d b => m (d, b)) 0 d

/-- The patch indices the statistics call writes are below 256. -/
def RangesOK : Prop := ∀ d : Dev nD, ∀ i : S8x1x16.Idx, (dvL m d i : BitVec 32).toNat < 256 ∧ (svL m d i : BitVec 32).toNat < 256

theorem vA_v0 (d : Dev nD) : vA m d (rf main_v1) = shapeCast S128 (tkL m d) shapeCasts_S8x1x16_S128 := by
  unfold vA opsA; after_results; rw [vR_0]; rfl
theorem vA_v1 (d : Dev nD) : vA m d (rf main_v2) = shapeCast S128 (dvL m d) shapeCasts_S8x1x16_S128 := by
  unfold vA opsA; after_results; rw [vR_1]; rfl
theorem vA_v2 (d : Dev nD) : vA m d (rf main_v3) = shapeCast S128 (svL m d) shapeCasts_S8x1x16_S128 := by
  unfold vA opsA; after_results; rw [vR_2]; rfl

theorem preOK (h : RangesOK m) : PreOK m := by
  intro d
  rw [vA_v1, vA_v2]
  exact ⟨fun i => (h d _).1, fun i => (h d _).2⟩

variable (hm : PreOK m) (d : Dev nD)

theorem vC_arg0 : vC m hm d (rf main_arg0) = m (d, rf main_arg0) := by
  unfold vC opsB; after_results; rw [vB_other d m hm (by decide) (by decide) (by decide)]; unfold vA opsA; after_results; rw [vR_other _ 0 d (by decide) (by decide) (by decide)]
theorem vC_arg1 : vC m hm d (rf main_arg1) = m (d, rf main_arg1) := by
  unfold vC opsB; after_results; rw [vB_other d m hm (by decide) (by decide) (by decide)]; unfold vA opsA; after_results; rw [vR_other _ 0 d (by decide) (by decide) (by decide)]
theorem vC_arg2 : vC m hm d (rf main_arg2) = m (d, rf main_arg2) := by
  unfold vC opsB; after_results; rw [vB_other d m hm (by decide) (by decide) (by decide)]; unfold vA opsA; after_results; rw [vR_other _ 0 d (by decide) (by decide) (by decide)]
theorem vC_arg3 : vC m hm d (rf main_arg3) = m (d, rf main_arg3) := by
  unfold vC opsB; after_results; rw [vB_other d m hm (by decide) (by decide) (by decide)]; unfold vA opsA; after_results; rw [vR_other _ 0 d (by decide) (by decide) (by decide)]
theorem vC_arg4 : vC m hm d (rf main_arg4) = m (d, rf main_arg4) := by
  unfold vC opsB; after_results; rw [vB_other d m hm (by decide) (by decide) (by decide)]; unfold vA opsA; after_results; rw [vR_other _ 0 d (by decide) (by decide) (by decide)]
theorem vC_arg5 : vC m hm d (rf main_arg5) = m (d, rf main_arg5) := by
  unfold vC opsB; after_results; rw [vB_other d m hm (by decide) (by decide) (by decide)]; unfold vA opsA; after_results; rw [vR_other _ 0 d (by decide) (by decide) (by decide)]
theorem vC_arg6 : vC m hm d (rf main_arg6) = m (d, rf main_arg6) := by
  unfold vC opsB; after_results; rw [vB_other d m hm (by decide) (by decide) (by decide)]; unfold vA opsA; after_results; rw [vR_other _ 0 d (by decide) (by decide) (by decide)]

theorem vC_v12 : vC m hm d (rf main_v13) = shapeCast S8x3x512x512 (gI (insOf m hm d)) shapeCasts_S12288x512_S8x3x512x512 := by
  unfold vC opsB; after_results; rw [vB_0]; rfl
theorem vC_v14 : vC m hm d (rf main_v15) = fptosi 32 (shapeCast S8x512x512 (gL (insOf m hm d)) shapeCasts_S4096x512_S8x512x512) := by
  unfold vC opsB; after_results; rw [vB_1]; rfl
theorem vC_v15 : vC m hm d (rf main_v16) = shapeCast S8x512x512 (gC (insOf m hm d)) shapeCasts_S4096x512_S8x512x512 := by
  unfold vC opsB; after_results; rw [vB_2]; rfl

theorem ins_oi : (insOf m hm d).oi = shapeCast S12288x512 (m ((d.tc : Thread nD τ).loc main_arg0)) shapeCasts_S8x3x512x512_S12288x512 := by
  show vA m d (rf main_v4) = _; unfold vA opsA; after_results; rw [vR_other _ 0 d (by decide) (by decide) (by decide)]; rfl
theorem ins_ai : (insOf m hm d).ai = shapeCast S12288x512 (m ((d.tc : Thread nD τ).loc main_arg1)) shapeCasts_S8x3x512x512_S12288x512 := by
  show vA m d (rf main_v5) = _; unfold vA opsA; after_results; rw [vR_other _ 0 d (by decide) (by decide) (by decide)]; rfl
theorem ins_ol : (insOf m hm d).ol = shapeCast S4096x512 (sitofp .f32 (m ((d.tc : Thread nD τ).loc main_arg2)) : FVec F S8x512x512 .f32) shapeCasts_S8x512x512_S4096x512 := by
  show vA m d (rf main_v7) = _; unfold vA opsA; after_results; rw [vR_other _ 0 d (by decide) (by decide) (by decide)]; rfl
theorem ins_al : (insOf m hm d).al = shapeCast S4096x512 (sitofp .f32 (m ((d.tc : Thread nD τ).loc main_arg3)) : FVec F S8x512x512 .f32) shapeCasts_S8x512x512_S4096x512 := by
  show vA m d (rf main_v9) = _; unfold vA opsA; after_results; rw [vR_other _ 0 d (by decide) (by decide) (by decide)]; rfl
theorem ins_oc : (insOf m hm d).oc = shapeCast S4096x512 (m ((d.tc : Thread nD τ).loc main_arg4)) shapeCasts_S8x512x512_S4096x512 := by
  show vA m d (rf main_v10) = _; unfold vA opsA; after_results; rw [vR_other _ 0 d (by decide) (by decide) (by decide)]; rfl
theorem ins_ac : (insOf m hm d).ac = shapeCast S4096x512 (m ((d.tc : Thread nD τ).loc main_arg5)) shapeCasts_S8x512x512_S4096x512 := by
  show vA m d (rf main_v11) = _; unfold vA opsA; after_results; rw [vR_other _ 0 d (by decide) (by decide) (by decide)]; rfl

theorem mem_uc (b : Ref sig .tc) (hb : b.isScoped = false := by decide) : rf b ∈ Pipeline.ucRefs τ sig := by
  refine Finset.mem_filter.mpr ⟨StableHlo.devRef_mem_tcRefs _, ?_⟩
  first | exact hb | simpa using hb

/-- The run: the results, the arguments as they were, every counter back at zero. -/
theorem run [∀ e, Nonempty (Elt F e)] (ρ : Dev nD → PrngReg) (h : RangesOK m) :
    θ_run (Cert.WholeIdeal.defs (F := F)) (Cert.WholeIdeal.threads (F := F)) ⟨m, fun _ => 0, ρ⟩ fun r => (∀ c : Dev nD,
      r.2.mem ((c.tc : Thread nD τ).loc main_v13) = vC m (preOK m h) c (rf main_v13)
      ∧ r.2.mem ((c.tc : Thread nD τ).loc main_v15) = vC m (preOK m h) c (rf main_v15)
      ∧ r.2.mem ((c.tc : Thread nD τ).loc main_v16) = vC m (preOK m h) c (rf main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run Cert.WholeIdeal.defs _ _).mono (fun _ q => ⟨fun c =>
    ⟨q.1 c _ (mem_uc main_v13), q.1 c _ (mem_uc main_v15), q.1 c _ (mem_uc main_v16),
      (q.1 c _ (mem_uc main_arg0)).trans (vC_arg0 m _ c), (q.1 c _ (mem_uc main_arg1)).trans (vC_arg1 m _ c), (q.1 c _ (mem_uc main_arg2)).trans (vC_arg2 m _ c),
      (q.1 c _ (mem_uc main_arg3)).trans (vC_arg3 m _ c), (q.1 c _ (mem_uc main_arg4)).trans (vC_arg4 m _ c), (q.1 c _ (mem_uc main_arg5)).trans (vC_arg5 m _ c),
      (q.1 c _ (mem_uc main_arg6)).trans (vC_arg6 m _ c)⟩, q.2⟩)
    (run_main m ρ (preOK m h))

end Cert.Proof.WholeIdeal
end
-- ==== Proof.BlockW.lean ====
module

public import proofs.«01_k».proof.Proof.OwnW
public import proofs.«01_k».proof.Proof.Gen.StatsIdeal.Frame

@[expose] public section

noncomputable section

/-! # What the whole program's first call leaves in a block: what the statistics' call alone leaves there -/

namespace Cert.Proof.WholeIdeal

open Cert.WholeIdeal Cert.WholeIdeal.Gen
open Idealize.ShloMosaic Idealize.ShloMosaic.TcCoe Idealize.SL Idealize.SL.RA

variable {F : FTy → Type} [FloatOps F] {Ix : Type} [DecidableEq Ix] {U : Type} [URA U] {Lvl : Type} [Preorder Lvl]
variable (𝒱₀ : Variants) (V : (c : Dev nD) → (b : Ref sig .tc) → Buf (Elt F) ((c : Thread nD τ).loc b)) (c : Dev nD) (t : Fin cfg0.N)

theorem outs4 : (Own.K0.outsAt0 (Ix := Ix) (U := U) (Lvl := Lvl) 𝒱₀ V c t).1 =
    Cert.StatsIdeal.Gen.out0_4 (F := F) (Own.K0.iblk V c 0 t) (Own.K0.iblk V c 1 t) (Own.K0.iblk V c 2 t) (Own.K0.iblk V c 3 t) := by
  unfold Own.K0.outsAt0 Own.K0.out0_A_4
  dsimp only [Own.K0.kernelRun0_A]
  refine (View.read_writes_eq_canon _ _ _ (Cert.StatsIdeal.Gen.cover0_4 _)).trans ?_
  conv_rhs => rw [← (Own.K0.hs0_0 t).read_unread (Own.K0.iblk V c 0 t), ← (Own.K0.hs0_1 t).read_unread (Own.K0.iblk V c 1 t)]
  rfl

theorem outs5 : (Own.K0.outsAt0 (Ix := Ix) (U := U) (Lvl := Lvl) 𝒱₀ V c t).2.1 =
    Cert.StatsIdeal.Gen.out0_5 (F := F) (Own.K0.iblk V c 0 t) (Own.K0.iblk V c 1 t) (Own.K0.iblk V c 2 t) (Own.K0.iblk V c 3 t) := by
  unfold Own.K0.outsAt0 Own.K0.out0_A_5
  dsimp only [Own.K0.kernelRun0_A]
  refine (View.read_writes_eq_canon _ _ _ (Cert.StatsIdeal.Gen.cover0_5 _)).trans ?_
  conv_rhs => rw [← (Own.K0.hs0_0 t).read_unread (Own.K0.iblk V c 0 t), ← (Own.K0.hs0_1 t).read_unread (Own.K0.iblk V c 1 t),
    ← (Own.K0.hs0_2 t).read_unread (Own.K0.iblk V c 2 t)]
  rfl

theorem outs6 : (Own.K0.outsAt0 (Ix := Ix) (U := U) (Lvl := Lvl) 𝒱₀ V c t).2.2 =
    Cert.StatsIdeal.Gen.out0_6 (F := F) (Own.K0.iblk V c 0 t) (Own.K0.iblk V c 1 t) (Own.K0.iblk V c 2 t) (Own.K0.iblk V c 3 t) := by
  unfold Own.K0.outsAt0 Own.K0.out0_A_6
  dsimp only [Own.K0.kernelRun0_A]
  refine (View.read_writes_eq_canon _ _ _ (Cert.StatsIdeal.Gen.cover0_6 _)).trans ?_
  conv_rhs => rw [← (Own.K0.hs0_0 t).read_unread (Own.K0.iblk V c 0 t), ← (Own.K0.hs0_1 t).read_unread (Own.K0.iblk V c 1 t),
    ← (Own.K0.hs0_3 t).read_unread (Own.K0.iblk V c 3 t)]
  rfl

end Cert.Proof.WholeIdeal
end
-- ==== Proof.RefW.lean ====
module

public import proofs.«01_k».proof.Proof.Gen.WholeReferenceIdeal.Run
public import proofs.«01_k».proof.Proof.ValueEq
public import proofs.«01_k».proof.Proof.StatsRef

@[expose] public section

noncomputable section

/-! # The whole program's reference: the paste of the lists that the statistics' reference makes -/

namespace Cert.Proof.RefW

open Idealize.ShloMosaic Idealize.ShloMosaic.TcCoe Idealize.ShloMosaic.StableHlo Idealize.SL.Sem Cert.Proof.Ref

variable {F : FTy → Type} [FloatOps F]

section Lists
open Cert.StatsReferenceIdeal

/-- How many entries to take, as a row of sixteen. -/
def tkR (L : IVec S8x512x512 32) (P : FVec F S8x4x512x512 .f32) : IVec S8x1x16 32 := StatsRef.wide (StatsRef.count (StatsRef.w16 (StatsRef.lossR L P)))
/-- The target patches. -/
def dvR (L : IVec S8x512x512 32) (P : FVec F S8x4x512x512 .f32) (X : FVec F S8x512x512 .f32) : IVec S8x1x16 32 :=
  StatsRef.first (StatsRef.pick (StatsRef.lt1 (StatsRef.lossR L P)) (StatsRef.order (Host.negf (StatsRef.mean X))) (StatsRef.order (StatsRef.mean X)))
/-- The source patches. -/
def svR (L : IVec S8x512x512 32) (P : FVec F S8x4x512x512 .f32) (X : FVec F S8x512x512 .f32) : IVec S8x1x16 32 :=
  StatsRef.first (StatsRef.pick (StatsRef.lt1 (StatsRef.lossR L P)) (StatsRef.order (StatsRef.mean X)) (StatsRef.order (Host.negf (StatsRef.mean X))))

end Lists

section Steps
open Cert.WholeReferenceIdeal Cert.WholeReferenceIdeal.Gen Cert.WholeReferenceIdeal.Value

variable (V0 : Valuation τ sig (Elt F))

abbrev a (b : Ref sig .tc) : (Proc.devRef .tc b : DevRef τ sig).ty.Contents (Elt F) := V0 (Proc.devRef .tc b)

theorem loss_eq : res_main_v26 V0 = StatsRef.lossR (a V0 main_arg2) (a V0 main_arg6) := rfl
theorem mean4_eq : res_main_v40 V0 = StatsRef.mean (a V0 main_arg4) := rfl
theorem mean5_eq : res_main_v47 V0 = StatsRef.mean (a V0 main_arg5) := rfl
theorem v71_eq : res_main_v71 V0 = shapeCast _ (dvR (F := F) (a V0 main_arg2) (a V0 main_arg6) (a V0 main_arg4)) Cert.ReferenceIdeal.Gen.shapeCasts_S8x1x16_S8x16 := rfl
theorem take_eq : res_main_v96 V0 = takeT (tkR (F := F) (a V0 main_arg2) (a V0 main_arg6)) (dvR (F := F) (a V0 main_arg2) (a V0 main_arg6) (a V0 main_arg4)) := rfl
theorem src_eq : res_main_v112 V0 = srcT (dvR (F := F) (a V0 main_arg2) (a V0 main_arg6) (a V0 main_arg4)) (svR (F := F) (a V0 main_arg2) (a V0 main_arg6) (a V0 main_arg5)) := rfl
theorem starts8_eq : res_main_call8_v5 V0 = starts (res_main_v112 V0) := rfl
theorem starts10_eq : res_main_call10_v5 V0 = starts (res_main_v112 V0) := rfl
theorem starts12_eq : res_main_call12_v5 V0 = starts (res_main_v112 V0) := rfl

end Steps

section Run
open Cert.WholeReferenceIdeal Cert.WholeReferenceIdeal.Gen Cert.WholeReferenceIdeal.Value

variable (m : (ℓ : Loc nD τ sig) → Buf (Elt F) ℓ) (c : Dev nD)

abbrev at_ (b : Ref sig .tc) : Buf (Elt F) ((c.tc : Thread nD τ).loc b) := m ((c.tc : Thread nD τ).loc b)

def takeR : Cert.ReferenceIdeal.S8x256.Idx → BitVec 1 :=
  takeT (tkR (F := F) (at_ m c main_arg2) (at_ m c main_arg6)) (dvR (F := F) (at_ m c main_arg2) (at_ m c main_arg6) (at_ m c main_arg4))
def srcR : Cert.ReferenceIdeal.S8x256.Idx → BitVec 32 :=
  srcT (dvR (F := F) (at_ m c main_arg2) (at_ m c main_arg6) (at_ m c main_arg4)) (svR (F := F) (at_ m c main_arg2) (at_ m c main_arg6) (at_ m c main_arg5))

open Cert.ReferenceIdeal.Gen in
def out0 : Cert.ReferenceIdeal.S8x3x512x512.Idx → Elt F .f32 :=
  unfold3 (picks3 (takeR m c) (srcR m c) (fold3 (at_ m c main_arg1)) (fold3 (at_ m c main_arg0))
    (broadcastInDim Cert.ReferenceIdeal.S8x3x32x32x256 ![] Cert.ReferenceIdeal.Gen.bcast_S_S8x3x32x32x256 (constant Cert.ReferenceIdeal.S_ .f32 0x7FC00000#32)))

def out1 : Cert.ReferenceIdeal.S8x512x512.Idx → Elt F .i32 :=
  fptosi 32 (shapeCast Cert.ReferenceIdeal.S8x512x512 (unfold1 (picks1 (takeR m c) (srcR m c)
    (fold1 (broadcastInDim Cert.ReferenceIdeal.S8x1x512x512 ![0, 2, 3] Cert.ReferenceIdeal.Gen.bcast_S8x512x512_S8x1x512x512_0_2_3 (sitofp .f32 (at_ m c main_arg3) : FVec F S8x512x512 .f32)))
    (fold1 (broadcastInDim Cert.ReferenceIdeal.S8x1x512x512 ![0, 2, 3] Cert.ReferenceIdeal.Gen.bcast_S8x512x512_S8x1x512x512_0_2_3 (sitofp .f32 (at_ m c main_arg2) : FVec F S8x512x512 .f32)))
    (broadcastInDim Cert.ReferenceIdeal.S8x1x32x32x256 ![] Cert.ReferenceIdeal.Gen.bcast_S_S8x1x32x32x256 (constant Cert.ReferenceIdeal.S_ .f32 0x7FC00000#32)))) Cert.ReferenceIdeal.Gen.shapeCasts_S8x1x512x512_S8x512x512)

def out2 : Cert.ReferenceIdeal.S8x512x512.Idx → Elt F .f32 :=
  shapeCast Cert.ReferenceIdeal.S8x512x512 (unfold1 (picks1 (takeR m c) (srcR m c)
    (fold1 (broadcastInDim Cert.ReferenceIdeal.S8x1x512x512 ![0, 2, 3] Cert.ReferenceIdeal.Gen.bcast_S8x512x512_S8x1x512x512_0_2_3 (at_ m c main_arg5)))
    (fold1 (broadcastInDim Cert.ReferenceIdeal.S8x1x512x512 ![0, 2, 3] Cert.ReferenceIdeal.Gen.bcast_S8x512x512_S8x1x512x512_0_2_3 (at_ m c main_arg4)))
    (broadcastInDim Cert.ReferenceIdeal.S8x1x32x32x256 ![] Cert.ReferenceIdeal.Gen.bcast_S_S8x1x32x32x256 (constant Cert.ReferenceIdeal.S_ .f32 0x7FC00000#32)))) Cert.ReferenceIdeal.Gen.shapeCasts_S8x1x512x512_S8x512x512

/-- The reference's run: its three results, of the lists that the statistics' reference makes. -/
theorem run (ρ : Dev nD → PrngReg) :
    θ_run defs (onTc (τ := τ) (main (F := F))) ⟨m, fun _ => 0, ρ⟩ fun r => ∀ c : Dev nD,
      r.2.mem ((c.tc : Thread nD τ).loc main_v125) = out0 m c
      ∧ r.2.mem ((c.tc : Thread nD τ).loc main_v160) = out1 m c
      ∧ r.2.mem ((c.tc : Thread nD τ).loc main_v159) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ?_) (Cert.WholeReferenceIdeal.Value.run (F := F) m ρ)
  obtain ⟨h0, h1, h2, ht⟩ := h c
  rw [take_eq, starts8_eq, src_eq] at h0
  rw [take_eq, starts10_eq, src_eq] at h1
  rw [take_eq, starts12_eq, src_eq] at h2
  exact ⟨h0, h1, h2, ht⟩

end Run

end Cert.Proof.RefW
end
-- ==== Proof.ListsW.lean ====
module

public import proofs.«01_k».proof.Proof.RegionW
public import proofs.«01_k».proof.Proof.BlockW
public import proofs.«01_k».proof.Proof.StatsEq
public import proofs.«01_k».proof.Proof.RefW

@[expose] public section

noncomputable section

/-! # The lists the whole program's first call writes -/

namespace Cert.Proof.WholeIdeal

open Cert.WholeIdeal Cert.WholeIdeal.Gen
open Idealize.ShloMosaic Idealize.ShloMosaic.TcCoe Cert.Proof.Stats Cert.Proof.StatsKer

section Block
open Cert.StatsIdeal.Gen
variable (x0 : Vec Ideal S1x4x512x512 .f32) (x1 : Vec Ideal S1x512x512 .i32) (x2 x3 : Vec Ideal S1x512x512 .f32)

/-- The target patches of an image are the first sixteen of some order of the patches, whatever the logits. -/
theorem out5_list : ∃ d, ∀ j : Fin 16, out0_5 x0 x1 x2 x3 (ix3 0 0 j) = listS d (psumS (blkX x2)) j := by
  apply Exists.intro
  intro j
  unfold out0_5
  rw [View.canon_cons_unit_lit _ _ _ (by decide)]
  simp only [StatsEq.ld1]
  rw [← StatsEq.pl5]
  exact picks5 _ _ j

/-- So are the source patches. -/
theorem out6_list : ∃ d, ∀ j : Fin 16, out0_6 x0 x1 x2 x3 (ix3 0 0 j) = listS d (psumS (blkX x3)) j := by
  apply Exists.intro
  intro j
  unfold out0_6 k0_pay33 k0_pay34 k0_pay35 k0_pay36
  rw [View.canon_cons_unit_lit _ _ _ (by decide)]
  simp only [StatsEq.ld1]
  rw [← StatsEq.pl6]
  exact picks6 _ _ j

end Block

theorem listS_lt (d : BitVec 1) (key : Fin 256 → EReal) (j : Fin 16) : (listS d key j).toNat < 256 := by
  unfold listS
  generalize (sortedFrom (befS d key) ⟨j.val, _⟩ : Fin 256) = p
  rw [BitVec.toNat_ofNat]
  have := p.isLt
  omega

theorem listS_inj (d : BitVec 1) (key : Fin 256 → EReal) (j k : Fin 16) (h : listS d key j = listS d key k) : j = k := by
  unfold listS at h
  have h := congrArg BitVec.toNat h
  rw [BitVec.toNat_ofNat, BitVec.toNat_ofNat] at h
  have e := sortedFrom_injective (befS d key) (Fin.ext (a := sortedFrom (befS d key) ⟨j.val, by omega⟩) (b := sortedFrom (befS d key) ⟨k.val, by omega⟩) (by omega))
  exact Fin.ext (Fin.mk.inj e)

/-! ### The blocks and the arrays -/

variable (W : Dev nD → Valuation τ sig (Elt Ideal)) (n : ℕ) (c : Dev nD)

theorem ix0 : ∀ t : Fin cfg0.N, win0_0.index t = ![t.val, 0, 0, 0] :=
  (by decide +kernel : ∀ t : Fin grid0.N, win0_0.index t = ![t.val, 0, 0, 0])
theorem ix1' : ∀ t : Fin cfg0.N, win0_1.index t = ![t.val, 0, 0] :=
  (by decide +kernel : ∀ t : Fin grid0.N, win0_1.index t = ![t.val, 0, 0])
theorem ix2' : ∀ t : Fin cfg0.N, win0_2.index t = ![t.val, 0, 0] :=
  (by decide +kernel : ∀ t : Fin grid0.N, win0_2.index t = ![t.val, 0, 0])
theorem ix3' : ∀ t : Fin cfg0.N, win0_3.index t = ![t.val, 0, 0] :=
  (by decide +kernel : ∀ t : Fin grid0.N, win0_3.index t = ![t.val, 0, 0])
theorem ix4' : ∀ t : Fin cfg0.N, win0_4.index t = ![t.val, 0, 0] :=
  (by decide +kernel : ∀ t : Fin grid0.N, win0_4.index t = ![t.val, 0, 0])
theorem ix5' : ∀ t : Fin cfg0.N, win0_5.index t = ![t.val, 0, 0] :=
  (by decide +kernel : ∀ t : Fin grid0.N, win0_5.index t = ![t.val, 0, 0])
theorem ix6' : ∀ t : Fin cfg0.N, win0_6.index t = ![t.val, 0, 0] :=
  (by decide +kernel : ∀ t : Fin grid0.N, win0_6.index t = ![t.val, 0, 0])

/-- The point as an image's number. -/
def img (t : Fin cfg0.N) : Fin 8 := ⟨t.val, t.isLt⟩

/-- The call's arrays. -/
abbrev logits : S8x4x512x512.Idx → EReal := W c (Proc.devRef .tc main_arg6)
abbrev labels : S8x512x512.Idx → BitVec 32 := W c (Proc.devRef .tc main_arg2)
abbrev conf1 : S8x512x512.Idx → EReal := W c (Proc.devRef .tc main_arg4)
abbrev conf2 : S8x512x512.Idx → EReal := W c (Proc.devRef .tc main_arg5)

theorem blk0 (t : Fin cfg0.N) (k : Fin 4) (i j : Fin 512) : Own.K0.iblk (VW W) c 0 t (ix4 0 k i j) = logits W c (ix4 (img t) k i j) := by
  blk_ext! [Own.K0.iblk, VW, ix0 t, img]
theorem blk1 (t : Fin cfg0.N) (i j : Fin 512) : Own.K0.iblk (VW W) c 1 t (ix3 0 i j) = labels W c (ix3 (img t) i j) := by
  blk_ext! [Own.K0.iblk, VW, ix1' t, img]
theorem blk2 (t : Fin cfg0.N) (i j : Fin 512) : Own.K0.iblk (VW W) c 2 t (ix3 0 i j) = conf1 W c (ix3 (img t) i j) := by
  blk_ext! [Own.K0.iblk, VW, ix2' t, img]
theorem blk3 (t : Fin cfg0.N) (i j : Fin 512) : Own.K0.iblk (VW W) c 3 t (ix3 0 i j) = conf2 W c (ix3 (img t) i j) := by
  blk_ext! [Own.K0.iblk, VW, ix3' t, img]

theorem emb4 (t : Fin cfg0.N) (j : Fin 16) : ((cfg0.win 4).blk t).view.emb (ix3 0 0 j) = ix3 (img t) 0 j := by
  blk_ext [ix4' t, img]
theorem emb5 (t : Fin cfg0.N) (j : Fin 16) : ((cfg0.win 5).blk t).view.emb (ix3 0 0 j) = ix3 (img t) 0 j := by
  blk_ext [ix5' t, img]
theorem emb6 (t : Fin cfg0.N) (j : Fin 16) : ((cfg0.win 6).blk t).view.emb (ix3 0 0 j) = ix3 (img t) 0 j := by
  blk_ext [ix6' t, img]

theorem P_eq (t : Fin cfg0.N) : blkP (Own.K0.iblk (VW W) c 0 t) = StatsRef.imgP (logits W c) (img t) := by
  funext k i j; exact blk0 W c t k i j
theorem L_eq (t : Fin cfg0.N) : blkL (Own.K0.iblk (VW W) c 1 t) = StatsRef.imgX (labels W c) (img t) := by
  funext i j; exact blk1 W c t i j
theorem X2_eq (t : Fin cfg0.N) : blkX (Own.K0.iblk (VW W) c 2 t) = StatsRef.imgX (conf1 W c) (img t) := by
  funext i j; exact blk2 W c t i j
theorem X3_eq (t : Fin cfg0.N) : blkX (Own.K0.iblk (VW W) c 3 t) = StatsRef.imgX (conf2 W c) (img t) := by
  funext i j; exact blk3 W c t i j

/-- What a point leaves in a result's block. -/
def at4 (t : Fin cfg0.N) (y : S1x1x16.Idx) : BitVec 32 := Cert.StatsIdeal.Gen.out0_4 (F := Ideal) (Own.K0.iblk (VW W) c 0 t) (Own.K0.iblk (VW W) c 1 t) (Own.K0.iblk (VW W) c 2 t) (Own.K0.iblk (VW W) c 3 t) y
def at5 (t : Fin cfg0.N) (y : S1x1x16.Idx) : BitVec 32 := Cert.StatsIdeal.Gen.out0_5 (F := Ideal) (Own.K0.iblk (VW W) c 0 t) (Own.K0.iblk (VW W) c 1 t) (Own.K0.iblk (VW W) c 2 t) (Own.K0.iblk (VW W) c 3 t) y
def at6 (t : Fin cfg0.N) (y : S1x1x16.Idx) : BitVec 32 := Cert.StatsIdeal.Gen.out0_6 (F := Ideal) (Own.K0.iblk (VW W) c 0 t) (Own.K0.iblk (VW W) c 1 t) (Own.K0.iblk (VW W) c 2 t) (Own.K0.iblk (VW W) c 3 t) y

theorem after4 (t : Fin cfg0.N) : (datW W n c).after 4 t = at4 W c t := outs4 (Ix := SparseCore.Cfg.HIx 1) (U := UU) (Lvl := ℕ) 𝒱₀ (VW W) c t
theorem after5 (t : Fin cfg0.N) : (datW W n c).after 5 t = at5 W c t := outs5 (Ix := SparseCore.Cfg.HIx 1) (U := UU) (Lvl := ℕ) 𝒱₀ (VW W) c t
theorem after6 (t : Fin cfg0.N) : (datW W n c).after 6 t = at6 W c t := outs6 (Ix := SparseCore.Cfg.HIx 1) (U := UU) (Lvl := ℕ) 𝒱₀ (VW W) c t

/-- An image's number as a point. -/
def pt (b : Fin 8) : Fin cfg0.N := ⟨b.val, b.isLt⟩

theorem out4_blocks : out4 W n c = fun i => at4 W c (pt (i 0)) (ix3 0 0 (i 2)) := by
  refine (datW W n c).arrAt_eq_of_covers 4 _ (by decide +kernel) fun t _ y => ?_
  blk_simp
  rw [after4]
  obtain ⟨j, rfl⟩ := StatsEq.row y
  exact (congrArg (fun i : S8x1x16.Idx => at4 W c (pt (i 0)) (ix3 0 0 (i 2))) (emb4 t j)).symm
theorem out5_blocks : out5 W n c = fun i => at5 W c (pt (i 0)) (ix3 0 0 (i 2)) := by
  refine (datW W n c).arrAt_eq_of_covers 5 _ (by decide +kernel) fun t _ y => ?_
  blk_simp
  rw [after5]
  obtain ⟨j, rfl⟩ := StatsEq.row y
  exact (congrArg (fun i : S8x1x16.Idx => at5 W c (pt (i 0)) (ix3 0 0 (i 2))) (emb5 t j)).symm
theorem out6_blocks : out6 W n c = fun i => at6 W c (pt (i 0)) (ix3 0 0 (i 2)) := by
  refine (datW W n c).arrAt_eq_of_covers 6 _ (by decide +kernel) fun t _ y => ?_
  blk_simp
  rw [after6]
  obtain ⟨j, rfl⟩ := StatsEq.row y
  exact (congrArg (fun i : S8x1x16.Idx => at6 W c (pt (i 0)) (ix3 0 0 (i 2))) (emb6 t j)).symm

/-! ### Whatever the logits: the patch indices are in range, the target patches are distinct -/

theorem out5_lt (i : S8x1x16.Idx) : (out5 W n c i : BitVec 32).toNat < 256 := by
  rw [out5_blocks]
  obtain ⟨d, h⟩ := out5_list (Own.K0.iblk (VW W) c 0 (pt (i 0))) (Own.K0.iblk (VW W) c 1 (pt (i 0))) (Own.K0.iblk (VW W) c 2 (pt (i 0))) (Own.K0.iblk (VW W) c 3 (pt (i 0)))
  show (at5 W c (pt (i 0)) (ix3 0 0 (i 2))).toNat < 256
  unfold at5
  exact lt_of_eq_of_lt (congrArg BitVec.toNat (h (i 2))) (listS_lt _ _ _)

theorem out6_lt (i : S8x1x16.Idx) : (out6 W n c i : BitVec 32).toNat < 256 := by
  rw [out6_blocks]
  obtain ⟨d, h⟩ := out6_list (Own.K0.iblk (VW W) c 0 (pt (i 0))) (Own.K0.iblk (VW W) c 1 (pt (i 0))) (Own.K0.iblk (VW W) c 2 (pt (i 0))) (Own.K0.iblk (VW W) c 3 (pt (i 0)))
  show (at6 W c (pt (i 0)) (ix3 0 0 (i 2))).toNat < 256
  unfold at6
  exact lt_of_eq_of_lt (congrArg BitVec.toNat (h (i 2))) (listS_lt _ _ _)

theorem out5_distinct (b : Fin 8) (j k : Fin 16) (e : (out5 W n c (ix3 b 0 j) : BitVec 32) = out5 W n c (ix3 b 0 k)) : j = k := by
  rw [out5_blocks] at e
  obtain ⟨d, h⟩ := out5_list (Own.K0.iblk (VW W) c 0 (pt b)) (Own.K0.iblk (VW W) c 1 (pt b)) (Own.K0.iblk (VW W) c 2 (pt b)) (Own.K0.iblk (VW W) c 3 (pt b))
  exact listS_inj _ _ _ _ ((h j).symm.trans (Eq.trans e (h k)))

/-! ### The lists, of finite logits -/

variable (hf : ∀ b i j, totS (StatsRef.imgP (logits W c) b) i j ≠ 0)

theorem loss_eq (t : Fin cfg0.N) : StatsKer.loss (Own.K0.iblk (VW W) c 0 t) (Own.K0.iblk (VW W) c 1 t)
    = StatsRef.lossR (F := Ideal) (labels W c) (logits W c) (ix1 (img t)) := by
  rw [StatsRef.lossR_at, ← P_eq, ← L_eq]; rfl

include hf

theorem final4 : out4 W n c = RefW.tkR (F := Ideal) (labels W c) (logits W c) := by
  refine (datW W n c).arrAt_eq_of_covers 4 _ (by decide +kernel) fun t _ y => ?_
  blk_simp
  rw [after4]
  obtain ⟨j, rfl⟩ := StatsEq.row y
  unfold at4
  rw [StatsEq.out4_at _ _ _ _ (fun i k => by rw [P_eq]; exact hf _ i k), loss_eq]
  refine Eq.trans ?_ (congrArg (RefW.tkR (F := Ideal) (labels W c) (logits W c)) (emb4 t j)).symm
  unfold RefW.tkR
  rw [StatsRef.wide_at, StatsRef.count_at]

theorem final5 : out5 W n c = RefW.dvR (F := Ideal) (labels W c) (logits W c) (conf1 W c) := by
  refine (datW W n c).arrAt_eq_of_covers 5 _ (by decide +kernel) fun t _ y => ?_
  blk_simp
  rw [after5]
  obtain ⟨j, rfl⟩ := StatsEq.row y
  unfold at5
  rw [StatsEq.out5_at _ _ _ _ (fun i k => by rw [P_eq]; exact hf _ i k), loss_eq, X2_eq]
  refine Eq.trans ?_ (congrArg (RefW.dvR (F := Ideal) (labels W c) (logits W c) (conf1 W c)) (emb5 t j)).symm
  unfold RefW.dvR
  rw [StatsRef.first_at, StatsRef.pick_at, StatsRef.lt1_at, StatsRef.up_at, StatsRef.down_at]
  rcases StatsEq.one_or (maskS (StatsRef.lossR (F := Ideal) (labels W c) (logits W c) (ix1 (img t)))) with e | e <;> rw [e] <;> rfl

theorem final6 : out6 W n c = RefW.svR (F := Ideal) (labels W c) (logits W c) (conf2 W c) := by
  refine (datW W n c).arrAt_eq_of_covers 6 _ (by decide +kernel) fun t _ y => ?_
  blk_simp
  rw [after6]
  obtain ⟨j, rfl⟩ := StatsEq.row y
  unfold at6
  rw [StatsEq.out6_at _ _ _ _ (fun i k => by rw [P_eq]; exact hf _ i k), loss_eq, X3_eq]
  refine Eq.trans ?_ (congrArg (RefW.svR (F := Ideal) (labels W c) (logits W c) (conf2 W c)) (emb6 t j)).symm
  unfold RefW.svR
  rw [StatsRef.first_at, StatsRef.pick_at, StatsRef.lt1_at, StatsRef.up_at, StatsRef.down_at]
  rcases StatsEq.one_or (maskS (StatsRef.lossR (F := Ideal) (labels W c) (logits W c) (ix1 (img t)))) with e | e <;> rw [e] <;> rfl

end Cert.Proof.WholeIdeal
end
-- ==== Proof.AlgW.lean ====
module

public import proofs.«01_k».proof.Proof.ValueEq
public import proofs.«01_k».proof.Proof.FrameW
public import proofs.«01_k».proof.Proof.ListsW

@[expose] public section

noncomputable section

/-! # The whole program's results, of the lists its first call writes -/

namespace Cert.Proof.WholeIdeal

open Idealize.ShloMosaic Idealize.ShloMosaic.TcCoe
open Cert.WholeIdeal Cert.WholeIdeal.Gen Cert.Proof.Words Cert.Proof.Ref

section Kernel
variable {F : FTy → Type} [FloatOps F] (m : (ℓ : Loc nD τ sig) → Buf (Elt F) ℓ) (hm : PreOK m) (d : Dev nD)

theorem kernel_image : vC m hm d (rf main_v13)
    = shapeCast S8x3x512x512 (pastedAt 3 (tkN (tkL m d)) (lN (dvL m d)) (lN (svL m d))
        (shapeCast S12288x512 (m ((d.tc : Thread nD τ).loc main_arg0)) shapeCasts_S8x3x512x512_S12288x512)
        (shapeCast S12288x512 (m ((d.tc : Thread nD τ).loc main_arg1)) shapeCasts_S8x3x512x512_S12288x512)) shapeCasts_S12288x512_S8x3x512x512 := by
  rw [vC_v12]
  unfold gI
  rw [ins_oi, ins_ai]
  unfold tkZ dN sN
  rw [show (insOf m hm d).tk = _ from vA_v0 m d, show (insOf m hm d).dv = _ from vA_v1 m d, show (insOf m hm d).sv = _ from vA_v2 m d]

theorem kernel_label : vC m hm d (rf main_v15)
    = fptosi 32 (shapeCast S8x512x512 (pastedAt 1 (tkN (tkL m d)) (lN (dvL m d)) (lN (svL m d))
        (shapeCast S4096x512 (sitofp .f32 (m ((d.tc : Thread nD τ).loc main_arg2)) : FVec F S8x512x512 .f32) shapeCasts_S8x512x512_S4096x512)
        (shapeCast S4096x512 (sitofp .f32 (m ((d.tc : Thread nD τ).loc main_arg3)) : FVec F S8x512x512 .f32) shapeCasts_S8x512x512_S4096x512)) shapeCasts_S4096x512_S8x512x512) := by
  rw [vC_v14]
  unfold gL
  rw [ins_ol, ins_al]
  unfold tkZ dN sN
  rw [show (insOf m hm d).tk = _ from vA_v0 m d, show (insOf m hm d).dv = _ from vA_v1 m d, show (insOf m hm d).sv = _ from vA_v2 m d]

theorem kernel_conf : vC m hm d (rf main_v16)
    = shapeCast S8x512x512 (pastedAt 1 (tkN (tkL m d)) (lN (dvL m d)) (lN (svL m d))
        (shapeCast S4096x512 (m ((d.tc : Thread nD τ).loc main_arg4)) shapeCasts_S8x512x512_S4096x512)
        (shapeCast S4096x512 (m ((d.tc : Thread nD τ).loc main_arg5)) shapeCasts_S8x512x512_S4096x512)) shapeCasts_S4096x512_S8x512x512 := by
  rw [vC_v15]
  unfold gC
  rw [ins_oc, ins_ac]
  unfold tkZ dN sN
  rw [show (insOf m hm d).tk = _ from vA_v0 m d, show (insOf m hm d).dv = _ from vA_v1 m d, show (insOf m hm d).sv = _ from vA_v2 m d]

end Kernel

variable (m : (ℓ : Loc nD τ sig) → Buf (Elt Ideal) ℓ)

/-- Over the extended reals the lists are in range, whatever the arguments. -/
theorem ranges : RangesOK m := fun d i => ⟨out5_lt _ 0 d i, out6_lt _ 0 d i⟩

variable (d : Dev nD)

theorem distinct (b : Fin 8) (j k : Fin 16) (e : (dvL m d (ix3 b 0 j) : BitVec 32) = dvL m d (ix3 b 0 k)) : j = k := out5_distinct _ 0 d b j k e

variable (hf : ∀ b i j, Stats.totS (StatsRef.imgP (m ((d.tc : Thread nD τ).loc main_arg6)) b) i j ≠ 0)
include hf

theorem tk_eq : tkL m d = RefW.tkR (F := Ideal) (m ((d.tc : Thread nD τ).loc main_arg2)) (m ((d.tc : Thread nD τ).loc main_arg6)) := final4 _ 0 d hf
theorem dv_eq : dvL m d = RefW.dvR (F := Ideal) (m ((d.tc : Thread nD τ).loc main_arg2)) (m ((d.tc : Thread nD τ).loc main_arg6)) (m ((d.tc : Thread nD τ).loc main_arg4)) := final5 _ 0 d hf
theorem sv_eq : svL m d = RefW.svR (F := Ideal) (m ((d.tc : Thread nD τ).loc main_arg2)) (m ((d.tc : Thread nD τ).loc main_arg6)) (m ((d.tc : Thread nD τ).loc main_arg5)) := final6 _ 0 d hf

end Cert.Proof.WholeIdeal
end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_picks_in_range
public import proofs.«01_k».proof.Proof.Gen.Stats
public import proofs.«01_k».proof.Proof.Gen.Stats.Frame
public import proofs.«01_k».proof.Proof.Gen.StatsIdeal
public import proofs.«01_k».proof.Proof.Gen.StatsIdeal.Value
public import proofs.«01_k».proof.Proof.Gen.StatsReferenceIdeal
public import proofs.«01_k».proof.Proof.Gen.StatsReferenceIdeal.Run
public import proofs.«01_k».proof.Proof.Gen.Pre_finite_prediction
public import proofs.«01_k».proof.Proof.Gen.WholeIdeal
public import proofs.«01_k».proof.Proof.Gen.WholeIdeal.Skeleton
public import proofs.«01_k».proof.Proof.Gen.WholeIdeal.Launch
public import proofs.«01_k».proof.Proof.Gen.WholeIdeal.Points
public import proofs.«01_k».proof.Proof.Gen.WholeReferenceIdeal
public import proofs.«01_k».proof.Proof.Gen.WholeReferenceIdeal.Run
public import proofs.«01_k».proof.Proof.Gen.Pre_finite_logits
public import proofs.«01_k».proof.Proof.PreRead
public import proofs.«01_k».proof.Proof.FrameK
public import proofs.«01_k».proof.Proof.FrameKI
public import proofs.«01_k».proof.Proof.AlgEq
public import proofs.«01_k».proof.Proof.StatsEq
public import proofs.«01_k».proof.Proof.AlgW
public import proofs.«01_k».proof.Proof.RefW
public import Idealize.ShloMosaic.Adequacy
public import Idealize.ShloMosaic.Init

@[expose] public section

noncomputable section

namespace Cert.Proof

open Idealize.ShloMosaic Idealize.ShloMosaic.TcCoe Idealize.SL.Sem

theorem frame_p : Cert.quiescent_Kernel := by
  intro m ρ hp
  refine (θ_run Cert.Kernel.defs _ _).mono (fun _ h => ⟨fun c => (h.1 c).2.2.2, h.2⟩) (Kernel.run (F := Bits) m ρ ?_)
  exact fun d => PreRead.ranges (F := Bits) _ _ _ _ _ _ _ _ _ (hp d).1

theorem rangesOK (m) (hp : Cert.Pre_KernelIdeal m) : KernelIdeal.RangesOK m :=
  fun d => PreRead.ranges (F := Ideal) _ _ _ _ _ _ _ _ _ (hp d).1

theorem frame_pi : Cert.quiescent_KernelIdeal := by
  intro m ρ hp
  exact (θ_run Cert.KernelIdeal.defs _ _).mono (fun _ h => ⟨fun c => (h.1 c).2.2.2, h.2⟩) (KernelIdeal.run (F := Ideal) m ρ (rangesOK m hp))

theorem frame_ri : Cert.quiescent_ReferenceIdeal := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

theorem algebraic : Cert.algebraic_KernelIdeal_ReferenceIdeal := by
  intro m ρ m' ρ' hp ha
  have hr := rangesOK m hp
  refine ⟨fun c => KernelIdeal.vC m (KernelIdeal.preOK m hr) c (KernelIdeal.rf Cert.KernelIdeal.main_v12),
    fun c => KernelIdeal.vC m (KernelIdeal.preOK m hr) c (KernelIdeal.rf Cert.KernelIdeal.main_v14),
    fun c => KernelIdeal.vC m (KernelIdeal.preOK m hr) c (KernelIdeal.rf Cert.KernelIdeal.main_v15),
    (θ_run Cert.KernelIdeal.defs _ _).mono (fun _ h => h.1) (KernelIdeal.run (F := Ideal) m ρ hr), ?_⟩
  refine (θ_run Cert.ReferenceIdeal.defs _ _).mono (fun _ h c => ?_) (Cert.ReferenceIdeal.Value.run (F := Ideal) m' ρ')
  obtain ⟨a0, a1, a2, a3, a4, a5, a6, a7, a8⟩ := ha c
  obtain ⟨h0, h1, h2, ht⟩ := h c
  have hd := PreRead.distinct (F := Ideal) _ _ _ _ _ _ _ _ _ (hp c).2
  refine ⟨h0.trans ?_, h1.trans ?_, h2.trans ?_, ht⟩
  · refine (Ref.out0_eq m' c).trans (Eq.trans ?_ (Ref.kernel_image m (KernelIdeal.preOK m hr) c).symm)
    rw [a0, a1, a6, a7, a8]
    exact (Ref.images_eq _ _ _ (hr c) hd _ _ _).symm
  · refine (Ref.out1_eq m' c).trans (Eq.trans ?_ (Ref.kernel_label m (KernelIdeal.preOK m hr) c).symm)
    rw [a2, a3, a6, a7, a8]
    exact congrArg (fptosi 32) (Ref.planes_eq _ _ _ (hr c) hd _ _ _).symm
  · refine (Ref.out2_eq m' c).trans (Eq.trans ?_ (Ref.kernel_conf m (KernelIdeal.preOK m hr) c).symm)
    rw [a4, a5, a6, a7, a8]
    exact (Ref.planes_eq _ _ _ (hr c) hd _ _ _).symm

/-! ## The statistics' call -/

theorem frame_ti : Cert.quiescent_StatsReferenceIdeal := by
  intro m ρ _
  exact (θ_run Cert.StatsReferenceIdeal.defs _ _).mono (fun r h => ⟨fun c => (h c).2.2.2, sem_eq_zero_of_no_sems (by decide) r.2⟩)
    (Cert.StatsReferenceIdeal.Value.run (F := Ideal) m ρ)

theorem ne_infinite (x : EReal) (hx : max x (-x) < Ideal.ofBits .f32 0x7F800000#32) : x ≠ ⊤ ∧ x ≠ ⊥ := by
  constructor
  · rintro rfl
    rw [EReal.neg_top] at hx
    exact absurd (lt_of_le_of_lt (le_max_left ⊤ ⊥) hx) not_top_lt
  · rintro rfl
    rw [EReal.neg_bot] at hx
    exact absurd (lt_of_le_of_lt (le_max_right ⊥ ⊤) hx) not_top_lt

/-- The precondition, read: the logits are finite. -/
theorem finite (m) (hp : Cert.Pre_StatsIdeal_finite_prediction m) (c : Dev Cert.StatsIdeal.nD) (i : Cert.StatsIdeal.S8x4x512x512.Idx) :
    @Ne EReal (m ((c : Thread Cert.StatsIdeal.nD Cert.StatsIdeal.τ).loc Cert.StatsIdeal.main_arg3) i) ⊤
      ∧ @Ne EReal (m ((c : Thread Cert.StatsIdeal.nD Cert.StatsIdeal.τ).loc Cert.StatsIdeal.main_arg3) i) ⊥ := by
  have e := congrFun (hp c) i
  dsimp only [Cert.Pre_finite_prediction.fn] at e
  exact ne_infinite _ (of_decide_eq_true (PreRead.ofBool_one.1 e))

theorem algebraic_stats : Cert.algebraic_StatsIdeal_StatsReferenceIdeal_pre_finite_prediction := by
  intro m ρ m' ρ' hp ha
  have hf : ∀ (c : Dev Cert.StatsIdeal.nD) b i j, Stats.totS (StatsRef.imgP (m ((c : Thread Cert.StatsIdeal.nD Cert.StatsIdeal.τ).loc Cert.StatsIdeal.main_arg3)) b) i j ≠ 0 :=
    fun c b i j => Stats.totS_ne_zero _ (fun k i j => finite m hp c (ix4 b k i j)) i j
  refine ⟨fun c => StatsEq.ref4 m c, fun c => StatsEq.ref5 m c, fun c => StatsEq.ref6 m c, ?_, ?_⟩
  · refine (θ_run Cert.StatsIdeal.defs _ _).mono (fun _ h c => ?_) (Cert.StatsIdeal.Value.run_blocks (F := Ideal) m ρ)
    obtain ⟨h4, h5, h6, ht⟩ := h c
    exact ⟨h4.trans (StatsEq.final4 m c (hf c)), h5.trans (StatsEq.final5 m c (hf c)), h6.trans (StatsEq.final6 m c (hf c)), ht⟩
  · refine (θ_run Cert.StatsReferenceIdeal.defs _ _).mono (fun _ h c => ?_) (Cert.StatsReferenceIdeal.Value.run (F := Ideal) m' ρ')
    obtain ⟨a0, a1, a2, a3⟩ := ha c
    obtain ⟨h0, h1, h2, ht⟩ := h c
    refine ⟨h0.trans ((StatsRef.out0_eq m' c).trans ?_), h1.trans ((StatsRef.out1_eq m' c).trans ?_), h2.trans ((StatsRef.out2_eq m' c).trans ?_), ht⟩
    · rw [a0, a3]; rfl
    · rw [a0, a1, a3]; rfl
    · rw [a0, a2, a3]; rfl

/-! ## The whole program -/

theorem frame_wi : Cert.quiescent_WholeIdeal := by
  intro m ρ _
  exact (θ_run Cert.WholeIdeal.defs _ _).mono (fun _ h => ⟨fun c => (h.1 c).2.2.2, h.2⟩) (WholeIdeal.run (F := Ideal) m ρ (WholeIdeal.ranges m))

theorem frame_vi : Cert.quiescent_WholeReferenceIdeal := by
  intro m ρ _
  exact (θ_run Cert.WholeReferenceIdeal.defs _ _).mono (fun r h => ⟨fun c => (h c).2.2.2, sem_eq_zero_of_no_sems (by decide) r.2⟩)
    (RefW.run (F := Ideal) m ρ)

/-- The precondition, read: the logits are finite. -/
theorem finite_whole (m) (hp : Cert.Pre_WholeIdeal_finite_logits m) (c : Dev Cert.WholeIdeal.nD) (i : Cert.WholeIdeal.S8x4x512x512.Idx) :
    @Ne EReal (m ((c.tc : Thread Cert.WholeIdeal.nD Cert.WholeIdeal.τ).loc Cert.WholeIdeal.main_arg6) i) ⊤
      ∧ @Ne EReal (m ((c.tc : Thread Cert.WholeIdeal.nD Cert.WholeIdeal.τ).loc Cert.WholeIdeal.main_arg6) i) ⊥ := by
  have e := congrFun (hp c) i
  dsimp only [Cert.Pre_finite_logits.fn] at e
  exact ne_infinite _ (of_decide_eq_true (PreRead.ofBool_one.1 e))

theorem algebraic_whole : Cert.algebraic_WholeIdeal_WholeReferenceIdeal_pre_finite_logits := by
  intro m ρ m' ρ' hp ha
  have hf : ∀ (c : Dev Cert.WholeIdeal.nD) b i j, Stats.totS (StatsRef.imgP (m ((c.tc : Thread Cert.WholeIdeal.nD Cert.WholeIdeal.τ).loc Cert.WholeIdeal.main_arg6)) b) i j ≠ 0 :=
    fun c b i j => Stats.totS_ne_zero _ (fun k i j => finite_whole m hp c (ix4 b k i j)) i j
  have hr := WholeIdeal.ranges m
  refine ⟨fun c => WholeIdeal.vC m (WholeIdeal.preOK m hr) c (WholeIdeal.rf Cert.WholeIdeal.main_v13),
    fun c => WholeIdeal.vC m (WholeIdeal.preOK m hr) c (WholeIdeal.rf Cert.WholeIdeal.main_v15),
    fun c => WholeIdeal.vC m (WholeIdeal.preOK m hr) c (WholeIdeal.rf Cert.WholeIdeal.main_v16),
    (θ_run Cert.WholeIdeal.defs _ _).mono (fun _ h => h.1) (WholeIdeal.run (F := Ideal) m ρ hr), ?_⟩
  refine (θ_run Cert.WholeReferenceIdeal.defs _ _).mono (fun _ h c => ?_) (RefW.run (F := Ideal) m' ρ')
  obtain ⟨a0, a1, a2, a3, a4, a5, a6⟩ := ha c
  obtain ⟨h0, h1, h2, ht⟩ := h c
  have hd := WholeIdeal.distinct m c
  have tk := WholeIdeal.tk_eq m c (hf c)
  have dv := WholeIdeal.dv_eq m c (hf c)
  have sv := WholeIdeal.sv_eq m c (hf c)
  have take : RefW.takeR m' c = Ref.takeT (WholeIdeal.tkL m c) (WholeIdeal.dvL m c) := by
    unfold RefW.takeR RefW.at_
    rw [a2, a4, a6, tk, dv]
  have src : RefW.srcR m' c = Ref.srcT (WholeIdeal.dvL m c) (WholeIdeal.svL m c) := by
    unfold RefW.srcR RefW.at_
    rw [a2, a4, a5, a6, dv, sv]
  refine ⟨h0.trans ?_, h1.trans ?_, h2.trans ?_, ht⟩
  · refine Eq.trans ?_ (WholeIdeal.kernel_image m (WholeIdeal.preOK m hr) c).symm
    unfold RefW.out0 RefW.at_
    rw [take, src, a0, a1]
    exact (Ref.images_eq _ _ _ (hr c) hd _ _ _).symm
  · refine Eq.trans ?_ (WholeIdeal.kernel_label m (WholeIdeal.preOK m hr) c).symm
    unfold RefW.out1 RefW.at_
    rw [take, src, a2, a3]
    exact congrArg (fptosi 32) (Ref.planes_eq _ _ _ (hr c) hd _ _ _).symm
  · refine Eq.trans ?_ (WholeIdeal.kernel_conf m (WholeIdeal.preOK m hr) c).symm
    unfold RefW.out2 RefW.at_
    rw [take, src, a4, a5]
    exact (Ref.planes_eq _ _ _ (hr c) hd _ _ _).symm

theorem claim : Cert.Claim :=
  ⟨Cert.Kernel.Gen.facts, Cert.KernelIdeal.Gen.facts, Cert.ReferenceIdeal.Gen.facts, Cert.Stats.Gen.facts, Cert.StatsIdeal.Gen.facts,
    Cert.StatsReferenceIdeal.Gen.facts, Cert.WholeIdeal.Gen.facts, Cert.WholeReferenceIdeal.Gen.facts,
    Cert.Pre_picks_in_range.Gen.facts, Cert.Pre_finite_prediction.Gen.facts, Cert.Pre_finite_logits.Gen.facts,
    frame_p, frame_pi, frame_ri, fun m ρ _ => frame_ri m ρ trivial,
    fun m ρ _ => Cert.Stats.Gen.frame m ρ, fun m ρ _ => Cert.StatsIdeal.Gen.frame m ρ, fun m ρ _ => Cert.StatsIdeal.Gen.frame m ρ,
    frame_ti, fun m ρ _ => frame_ti m ρ trivial,
    frame_wi, fun m ρ _ => frame_wi m ρ trivial, frame_vi, fun m ρ _ => frame_vi m ρ trivial,
    trivial, algebraic, trivial, algebraic_stats, algebraic_whole⟩

end Cert.Proof

end
